-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x384x32x32 : Shape := ⟨4, ![8, 384, 32, 32]⟩
abbrev S32x128 : Shape := ⟨2, ![32, 128]⟩
abbrev S_ : Shape := ⟨0, ![]⟩
abbrev S8x384x32x128 : Shape := ⟨4, ![8, 384, 32, 128]⟩
abbrev S8x384x96x128 : Shape := ⟨4, ![8, 384, 96, 128]⟩
abbrev S2x4x32x32 : Shape := ⟨4, ![2, 4, 32, 32]⟩
abbrev S2x4x94x96 : Shape := ⟨4, ![2, 4, 94, 96]⟩
abbrev S16 : Shape := ⟨1, ![16]⟩
abbrev S1x4x32x32 : Shape := ⟨4, ![1, 4, 32, 32]⟩
abbrev S4x32x32 : Shape := ⟨3, ![4, 32, 32]⟩
abbrev S1x4x94x96 : Shape := ⟨4, ![1, 4, 94, 96]⟩
abbrev S4x94x96 : Shape := ⟨3, ![4, 94, 96]⟩
abbrev S8x384x94x94 : Shape := ⟨4, ![8, 384, 94, 94]⟩

abbrev nBuf : Table → Nat
  | .hbm => 11
  | .local .scVector .vmem => 2
  | _ => 0

abbrev bufTy : (tb : Table) → Fin (nBuf tb) → BufTy
  | .hbm, ⟨0, _⟩ => ⟨S8x384x32x32, .f32⟩
  | .hbm, ⟨1, _⟩ => ⟨S32x128, .i32⟩
  | .hbm, ⟨2, _⟩ => ⟨S32x128, .i32⟩
  | .hbm, ⟨3, _⟩ => ⟨S_, .i32⟩
  | .hbm, ⟨4, _⟩ => ⟨S32x128, .i32⟩
  | .hbm, ⟨5, _⟩ => ⟨S32x128, .i32⟩
  | .hbm, ⟨6, _⟩ => ⟨S32x128, .i1⟩
  | .hbm, ⟨7, _⟩ => ⟨S32x128, .f32⟩
  | .hbm, ⟨8, _⟩ => ⟨S8x384x32x128, .f32⟩
  | .hbm, ⟨9, _⟩ => ⟨S8x384x96x128, .f32⟩
  | .hbm, ⟨10, _⟩ => ⟨S8x384x94x94, .f32⟩
  | .local .scVector .vmem, ⟨0, _⟩ => ⟨S2x4x32x32, .f32⟩
  | .local .scVector .vmem, ⟨1, _⟩ => ⟨S2x4x94x96, .f32⟩
  | _, _ => ⟨S8x384x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v6_scv : Ref sig .scVector := ⟨.hbm, 8, rfl⟩
abbrev main_v7_scv : Ref sig .scVector := ⟨.hbm, 9, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let v36 : BitVec 32 := Scalar.addi v29 c0_i32_10
  let c0_i32_15 : BitVec 32 := 0#32
  let c0_i32_16 : BitVec 32 := 0#32
  ![v18.toNat, v36.toNat, 0, 0]
@[reducible] def k0_t1_loop : Scf.Loop 32 :=
  let c0_i32_35 : BitVec 32 := 0#32
  let c94_i32 : BitVec 32 := 94#32
  let v54 : BitVec 32 := Scalar.addi c0_i32_35 c94_i32
  let c1_i32_36 : BitVec 32 := 1#32
  ⟨c0_i32_35, v54, c1_i32_36⟩

def k0_chk1 (v3266 : IVec S16 32) (v3267 : IVec S16 32) (v3268 : IVec S16 32) (v3270 : IVec S16 32) : Prop :=
  (∀ a x, ((![v3267, v3268, v3266, v3270] : Fin 4 → IVec S16 32) a x).toNat < S2x4x94x96.size a)
theorem k0_idx1_inb : ∀ (v3266 : IVec S16 32) (v3267 : IVec S16 32) (v3268 : IVec S16 32) (v3270 : IVec S16 32) (k0_hw1 : k0_chk1 v3266 v3267 v3268 v3270), ∀ a x, ((![v3267, v3268, v3266, v3270] : Fin 4 → IVec S16 32) a x).toNat < S2x4x94x96.size a := fun v3266 v3267 v3268 v3270 k0_hw1 => k0_hw1

def k0_chk2 (v3266 : IVec S16 32) (v3271 : IVec S16 32) (v3272 : IVec S16 32) (v3274 : IVec S16 32) : Prop :=
  (∀ a x, ((![v3271, v3272, v3266, v3274] : Fin 4 → IVec S16 32) a x).toNat < S2x4x94x96.size a)
theorem k0_idx2_inb : ∀ (v3266 : IVec S16 32) (v3271 : IVec S16 32) (v3272 : IVec S16 32) (v3274 : IVec S16 32) (k0_hw2 : k0_chk2 v3266 v3271 v3272 v3274), ∀ a x, ((![v3271, v3272, v3266, v3274] : Fin 4 → IVec S16 32) a x).toNat < S2x4x94x96.size a := fun v3266 v3271 v3272 v3274 k0_hw2 => k0_hw2

def k0_chk3 (v3266 : IVec S16 32) (v3275 : IVec S16 32) (v3276 : IVec S16 32) (v3278 : IVec S16 32) : Prop :=
  (∀ a x, ((![v3275, v3276, v3266, v3278] : Fin 4 → IVec S16 32) a x).toNat < S2x4x94x96.size a)
theorem k0_idx3_inb : ∀ (v3266 : IVec S16 32) (v3275 : IVec S16 32) (v3276 : IVec S16 32) (v3278 : IVec S16 32) (k0_hw3 : k0_chk3 v3266 v3275 v3276 v3278), ∀ a x, ((![v3275, v3276, v3266, v3278] : Fin 4 → IVec S16 32) a x).toNat < S2x4x94x96.size a := fun v3266 v3275 v3276 v3278 k0_hw3 => k0_hw3

def k0_chk4 (v3266 : IVec S16 32) (v3279 : IVec S16 32) (v3280 : IVec S16 32) (v3282 : IVec S16 32) : Prop :=
  (∀ a x, ((![v3279, v3280, v3266, v3282] : Fin 4 → IVec S16 32) a x).toNat < S2x4x94x96.size a)
theorem k0_idx4_inb : ∀ (v3266 : IVec S16 32) (v3279 : IVec S16 32) (v3280 : IVec S16 32) (v3282 : IVec S16 32) (k0_hw4 : k0_chk4 v3266 v3279 v3280 v3282), ∀ a x, ((![v3279, v3280, v3266, v3282] : Fin 4 → IVec S16 32) a x).toNat < S2x4x94x96.size a := fun v3266 v3279 v3280 v3282 k0_hw4 => k0_hw4

def k0_chk5 (v3266 : IVec S16 32) (v3283 : IVec S16 32) (v3284 : IVec S16 32) (v3286 : IVec S16 32) : Prop :=
  (∀ a x, ((![v3283, v3284, v3266, v3286] : Fin 4 → IVec S16 32) a x).toNat < S2x4x94x96.size a)
theorem k0_idx5_inb : ∀ (v3266 : IVec S16 32) (v3283 : IVec S16 32) (v3284 : IVec S16 32) (v3286 : IVec S16 32) (k0_hw5 : k0_chk5 v3266 v3283 v3284 v3286), ∀ a x, ((![v3283, v3284, v3266, v3286] : Fin 4 → IVec S16 32) a x).toNat < S2x4x94x96.size a := fun v3266 v3283 v3284 v3286 k0_hw5 => k0_hw5

def k0_chk6 (v3266 : IVec S16 32) (v3287 : IVec S16 32) (v3288 : IVec S16 32) (v3290 : IVec S16 32) : Prop :=
  (∀ a x, ((![v3287, v3288, v3266, v3290] : Fin 4 → IVec S16 32) a x).toNat < S2x4x94x96.size a)
theorem k0_idx6_inb : ∀ (v3266 : IVec S16 32) (v3287 : IVec S16 32) (v3288 : IVec S16 32) (v3290 : IVec S16 32) (k0_hw6 : k0_chk6 v3266 v3287 v3288 v3290), ∀ a x, ((![v3287, v3288, v3266, v3290] : Fin 4 → IVec S16 32) a x).toNat < S2x4x94x96.size a := fun v3266 v3287 v3288 v3290 k0_hw6 => k0_hw6

def k0_chk7 (v3266 : IVec S16 32) (v3291 : IVec S16 32) (v3292 : IVec S16 32) (v3294 : IVec S16 32) : Prop :=
  (∀ a x, ((![v3291, v3292, v3266, v3294] : Fin 4 → IVec S16 32) a x).toNat < S2x4x94x96.size a)
theorem k0_idx7_inb : ∀ (v3266 : IVec S16 32) (v3291 : IVec S16 32) (v3292 : IVec S16 32) (v3294 : IVec S16 32) (k0_hw7 : k0_chk7 v3266 v3291 v3292 v3294), ∀ a x, ((![v3291, v3292, v3266, v3294] : Fin 4 → IVec S16 32) a x).toNat < S2x4x94x96.size a := fun v3266 v3291 v3292 v3294 k0_hw7 => k0_hw7

def k0_chk8 (v3266 : IVec S16 32) (v3295 : IVec S16 32) (v3296 : IVec S16 32) (v3298 : IVec S16 32) : Prop :=
  (∀ a x, ((![v3295, v3296, v3266, v3298] : Fin 4 → IVec S16 32) a x).toNat < S2x4x94x96.size a)
theorem k0_idx8_inb : ∀ (v3266 : IVec S16 32) (v3295 : IVec S16 32) (v3296 : IVec S16 32) (v3298 : IVec S16 32) (k0_hw8 : k0_chk8 v3266 v3295 v3296 v3298), ∀ a x, ((![v3295, v3296, v3266, v3298] : Fin 4 → IVec S16 32) a x).toNat < S2x4x94x96.size a := fun v3266 v3295 v3296 v3298 k0_hw8 => k0_hw8

def k0_chk9 (v3266 : IVec S16 32) (v3299 : IVec S16 32) (v3300 : IVec S16 32) (v3302 : IVec S16 32) : Prop :=
  (∀ a x, ((![v3299, v3300, v3266, v3302] : Fin 4 → IVec S16 32) a x).toNat < S2x4x94x96.size a)
theorem k0_idx9_inb : ∀ (v3266 : IVec S16 32) (v3299 : IVec S16 32) (v3300 : IVec S16 32) (v3302 : IVec S16 32) (k0_hw9 : k0_chk9 v3266 v3299 v3300 v3302), ∀ a x, ((![v3299, v3300, v3266, v3302] : Fin 4 → IVec S16 32) a x).toNat < S2x4x94x96.size a := fun v3266 v3299 v3300 v3302 k0_hw9 => k0_hw9

def k0_chk10 (v3266 : IVec S16 32) (v3303 : IVec S16 32) (v3304 : IVec S16 32) (v3306 : IVec S16 32) : Prop :=
  (∀ a x, ((![v3303, v3304, v3266, v3306] : Fin 4 → IVec S16 32) a x).toNat < S2x4x94x96.size a)
theorem k0_idx10_inb : ∀ (v3266 : IVec S16 32) (v3303 : IVec S16 32) (v3304 : IVec S16 32) (v3306 : IVec S16 32) (k0_hw10 : k0_chk10 v3266 v3303 v3304 v3306), ∀ a x, ((![v3303, v3304, v3266, v3306] : Fin 4 → IVec S16 32) a x).toNat < S2x4x94x96.size a := fun v3266 v3303 v3304 v3306 k0_hw10 => k0_hw10

def k0_chk11 (v3266 : IVec S16 32) (v3307 : IVec S16 32) (v3308 : IVec S16 32) (v3310 : IVec S16 32) : Prop :=
  (∀ a x, ((![v3307, v3308, v3266, v3310] : Fin 4 → IVec S16 32) a x).toNat < S2x4x94x96.size a)
theorem k0_idx11_inb : ∀ (v3266 : IVec S16 32) (v3307 : IVec S16 32) (v3308 : IVec S16 32) (v3310 : IVec S16 32) (k0_hw11 : k0_chk11 v3266 v3307 v3308 v3310), ∀ a x, ((![v3307, v3308, v3266, v3310] : Fin 4 → IVec S16 32) a x).toNat < S2x4x94x96.size a := fun v3266 v3307 v3308 v3310 k0_hw11 => k0_hw11

def k0_chk12 (v3266 : IVec S16 32) (v3311 : IVec S16 32) (v3312 : IVec S16 32) (v3314 : IVec S16 32) : Prop :=
  (∀ a x, ((![v3311, v3312, v3266, v3314] : Fin 4 → IVec S16 32) a x).toNat < S2x4x94x96.size a)
theorem k0_idx12_inb : ∀ (v3266 : IVec S16 32) (v3311 : IVec S16 32) (v3312 : IVec S16 32) (v3314 : IVec S16 32) (k0_hw12 : k0_chk12 v3266 v3311 v3312 v3314), ∀ a x, ((![v3311, v3312, v3266, v3314] : Fin 4 → IVec S16 32) a x).toNat < S2x4x94x96.size a := fun v3266 v3311 v3312 v3314 k0_hw12 => k0_hw12

def k0_chk13 (v3266 : IVec S16 32) (v3315 : IVec S16 32) (v3316 : IVec S16 32) (v3318 : IVec S16 32) : Prop :=
  (∀ a x, ((![v3315, v3316, v3266, v3318] : Fin 4 → IVec S16 32) a x).toNat < S2x4x94x96.size a)
theorem k0_idx13_inb : ∀ (v3266 : IVec S16 32) (v3315 : IVec S16 32) (v3316 : IVec S16 32) (v3318 : IVec S16 32) (k0_hw13 : k0_chk13 v3266 v3315 v3316 v3318), ∀ a x, ((![v3315, v3316, v3266, v3318] : Fin 4 → IVec S16 32) a x).toNat < S2x4x94x96.size a := fun v3266 v3315 v3316 v3318 k0_hw13 => k0_hw13

def k0_chk14 (v3266 : IVec S16 32) (v3319 : IVec S16 32) (v3320 : IVec S16 32) (v3322 : IVec S16 32) : Prop :=
  (∀ a x, ((![v3319, v3320, v3266, v3322] : Fin 4 → IVec S16 32) a x).toNat < S2x4x94x96.size a)
theorem k0_idx14_inb : ∀ (v3266 : IVec S16 32) (v3319 : IVec S16 32) (v3320 : IVec S16 32) (v3322 : IVec S16 32) (k0_hw14 : k0_chk14 v3266 v3319 v3320 v3322), ∀ a x, ((![v3319, v3320, v3266, v3322] : Fin 4 → IVec S16 32) a x).toNat < S2x4x94x96.size a := fun v3266 v3319 v3320 v3322 k0_hw14 => k0_hw14

def k0_chk15 (v3266 : IVec S16 32) (v3323 : IVec S16 32) (v3324 : IVec S16 32) (v3326 : IVec S16 32) : Prop :=
  (∀ a x, ((![v3323, v3324, v3266, v3326] : Fin 4 → IVec S16 32) a x).toNat < S2x4x94x96.size a)
theorem k0_idx15_inb : ∀ (v3266 : IVec S16 32) (v3323 : IVec S16 32) (v3324 : IVec S16 32) (v3326 : IVec S16 32) (k0_hw15 : k0_chk15 v3266 v3323 v3324 v3326), ∀ a x, ((![v3323, v3324, v3266, v3326] : Fin 4 → IVec S16 32) a x).toNat < S2x4x94x96.size a := fun v3266 v3323 v3324 v3326 k0_hw15 => k0_hw15

def k0_chk16 (v3266 : IVec S16 32) (v3327 : IVec S16 32) (v3328 : IVec S16 32) (v3330 : IVec S16 32) : Prop :=
  (∀ a x, ((![v3327, v3328, v3266, v3330] : Fin 4 → IVec S16 32) a x).toNat < S2x4x94x96.size a)
theorem k0_idx16_inb : ∀ (v3266 : IVec S16 32) (v3327 : IVec S16 32) (v3328 : IVec S16 32) (v3330 : IVec S16 32) (k0_hw16 : k0_chk16 v3266 v3327 v3328 v3330), ∀ a x, ((![v3327, v3328, v3266, v3330] : Fin 4 → IVec S16 32) a x).toNat < S2x4x94x96.size a := fun v3266 v3327 v3328 v3330 k0_hw16 => k0_hw16

def k0_chk17 (v3266 : IVec S16 32) (v3331 : IVec S16 32) (v3332 : IVec S16 32) (v3334 : IVec S16 32) : Prop :=
  (∀ a x, ((![v3331, v3332, v3266, v3334] : Fin 4 → IVec S16 32) a x).toNat < S2x4x94x96.size a)
theorem k0_idx17_inb : ∀ (v3266 : IVec S16 32) (v3331 : IVec S16 32) (v3332 : IVec S16 32) (v3334 : IVec S16 32) (k0_hw17 : k0_chk17 v3266 v3331 v3332 v3334), ∀ a x, ((![v3331, v3332, v3266, v3334] : Fin 4 → IVec S16 32) a x).toNat < S2x4x94x96.size a := fun v3266 v3331 v3332 v3334 k0_hw17 => k0_hw17

def k0_chk18 (v3266 : IVec S16 32) (v3335 : IVec S16 32) (v3336 : IVec S16 32) (v3338 : IVec S16 32) : Prop :=
  (∀ a x, ((![v3335, v3336, v3266, v3338] : Fin 4 → IVec S16 32) a x).toNat < S2x4x94x96.size a)
theorem k0_idx18_inb : ∀ (v3266 : IVec S16 32) (v3335 : IVec S16 32) (v3336 : IVec S16 32) (v3338 : IVec S16 32) (k0_hw18 : k0_chk18 v3266 v3335 v3336 v3338), ∀ a x, ((![v3335, v3336, v3266, v3338] : Fin 4 → IVec S16 32) a x).toNat < S2x4x94x96.size a := fun v3266 v3335 v3336 v3338 k0_hw18 => k0_hw18

def k0_chk19 (v3266 : IVec S16 32) (v3339 : IVec S16 32) (v3340 : IVec S16 32) (v3342 : IVec S16 32) : Prop :=
  (∀ a x, ((![v3339, v3340, v3266, v3342] : Fin 4 → IVec S16 32) a x).toNat < S2x4x94x96.size a)
theorem k0_idx19_inb : ∀ (v3266 : IVec S16 32) (v3339 : IVec S16 32) (v3340 : IVec S16 32) (v3342 : IVec S16 32) (k0_hw19 : k0_chk19 v3266 v3339 v3340 v3342), ∀ a x, ((![v3339, v3340, v3266, v3342] : Fin 4 → IVec S16 32) a x).toNat < S2x4x94x96.size a := fun v3266 v3339 v3340 v3342 k0_hw19 => k0_hw19

def k0_chk20 (v3266 : IVec S16 32) (v3343 : IVec S16 32) (v3344 : IVec S16 32) (v3346 : IVec S16 32) : Prop :=
  (∀ a x, ((![v3343, v3344, v3266, v3346] : Fin 4 → IVec S16 32) a x).toNat < S2x4x94x96.size a)
theorem k0_idx20_inb : ∀ (v3266 : IVec S16 32) (v3343 : IVec S16 32) (v3344 : IVec S16 32) (v3346 : IVec S16 32) (k0_hw20 : k0_chk20 v3266 v3343 v3344 v3346), ∀ a x, ((![v3343, v3344, v3266, v3346] : Fin 4 → IVec S16 32) a x).toNat < S2x4x94x96.size a := fun v3266 v3343 v3344 v3346 k0_hw20 => k0_hw20

def k0_chk21 (v3266 : IVec S16 32) (v3347 : IVec S16 32) (v3348 : IVec S16 32) (v3350 : IVec S16 32) : Prop :=
  (∀ a x, ((![v3347, v3348, v3266, v3350] : Fin 4 → IVec S16 32) a x).toNat < S2x4x94x96.size a)
theorem k0_idx21_inb : ∀ (v3266 : IVec S16 32) (v3347 : IVec S16 32) (v3348 : IVec S16 32) (v3350 : IVec S16 32) (k0_hw21 : k0_chk21 v3266 v3347 v3348 v3350), ∀ a x, ((![v3347, v3348, v3266, v3350] : Fin 4 → IVec S16 32) a x).toNat < S2x4x94x96.size a := fun v3266 v3347 v3348 v3350 k0_hw21 => k0_hw21

def k0_chk22 (v3266 : IVec S16 32) (v3351 : IVec S16 32) (v3352 : IVec S16 32) (v3354 : IVec S16 32) : Prop :=
  (∀ a x, ((![v3351, v3352, v3266, v3354] : Fin 4 → IVec S16 32) a x).toNat < S2x4x94x96.size a)
theorem k0_idx22_inb : ∀ (v3266 : IVec S16 32) (v3351 : IVec S16 32) (v3352 : IVec S16 32) (v3354 : IVec S16 32) (k0_hw22 : k0_chk22 v3266 v3351 v3352 v3354), ∀ a x, ((![v3351, v3352, v3266, v3354] : Fin 4 → IVec S16 32) a x).toNat < S2x4x94x96.size a := fun v3266 v3351 v3352 v3354 k0_hw22 => k0_hw22

def k0_chk23 (v3266 : IVec S16 32) (v3355 : IVec S16 32) (v3356 : IVec S16 32) (v3358 : IVec S16 32) : Prop :=
  (∀ a x, ((![v3355, v3356, v3266, v3358] : Fin 4 → IVec S16 32) a x).toNat < S2x4x94x96.size a)
theorem k0_idx23_inb : ∀ (v3266 : IVec S16 32) (v3355 : IVec S16 32) (v3356 : IVec S16 32) (v3358 : IVec S16 32) (k0_hw23 : k0_chk23 v3266 v3355 v3356 v3358), ∀ a x, ((![v3355, v3356, v3266, v3358] : Fin 4 → IVec S16 32) a x).toNat < S2x4x94x96.size a := fun v3266 v3355 v3356 v3358 k0_hw23 => k0_hw23

def k0_chk24 (v3266 : IVec S16 32) (v3359 : IVec S16 32) (v3360 : IVec S16 32) (v3362 : IVec S16 32) : Prop :=
  (∀ a x, ((![v3359, v3360, v3266, v3362] : Fin 4 → IVec S16 32) a x).toNat < S2x4x94x96.size a)
theorem k0_idx24_inb : ∀ (v3266 : IVec S16 32) (v3359 : IVec S16 32) (v3360 : IVec S16 32) (v3362 : IVec S16 32) (k0_hw24 : k0_chk24 v3266 v3359 v3360 v3362), ∀ a x, ((![v3359, v3360, v3266, v3362] : Fin 4 → IVec S16 32) a x).toNat < S2x4x94x96.size a := fun v3266 v3359 v3360 v3362 k0_hw24 => k0_hw24

def k0_chk25 (v3266 : IVec S16 32) (v3363 : IVec S16 32) (v3364 : IVec S16 32) (v3366 : IVec S16 32) : Prop :=
  (∀ a x, ((![v3363, v3364, v3266, v3366] : Fin 4 → IVec S16 32) a x).toNat < S2x4x94x96.size a)
theorem k0_idx25_inb : ∀ (v3266 : IVec S16 32) (v3363 : IVec S16 32) (v3364 : IVec S16 32) (v3366 : IVec S16 32) (k0_hw25 : k0_chk25 v3266 v3363 v3364 v3366), ∀ a x, ((![v3363, v3364, v3266, v3366] : Fin 4 → IVec S16 32) a x).toNat < S2x4x94x96.size a := fun v3266 v3363 v3364 v3366 k0_hw25 => k0_hw25

def k0_chk26 (v3266 : IVec S16 32) (v3367 : IVec S16 32) (v3368 : IVec S16 32) (v3370 : IVec S16 32) : Prop :=
  (∀ a x, ((![v3367, v3368, v3266, v3370] : Fin 4 → IVec S16 32) a x).toNat < S2x4x94x96.size a)
theorem k0_idx26_inb : ∀ (v3266 : IVec S16 32) (v3367 : IVec S16 32) (v3368 : IVec S16 32) (v3370 : IVec S16 32) (k0_hw26 : k0_chk26 v3266 v3367 v3368 v3370), ∀ a x, ((![v3367, v3368, v3266, v3370] : Fin 4 → IVec S16 32) a x).toNat < S2x4x94x96.size a := fun v3266 v3367 v3368 v3370 k0_hw26 => k0_hw26

def k0_chk27 (v3266 : IVec S16 32) (v3371 : IVec S16 32) (v3372 : IVec S16 32) (v3374 : IVec S16 32) : Prop :=
  (∀ a x, ((![v3371, v3372, v3266, v3374] : Fin 4 → IVec S16 32) a x).toNat < S2x4x94x96.size a)
theorem k0_idx27_inb : ∀ (v3266 : IVec S16 32) (v3371 : IVec S16 32) (v3372 : IVec S16 32) (v3374 : IVec S16 32) (k0_hw27 : k0_chk27 v3266 v3371 v3372 v3374), ∀ a x, ((![v3371, v3372, v3266, v3374] : Fin 4 → IVec S16 32) a x).toNat < S2x4x94x96.size a := fun v3266 v3371 v3372 v3374 k0_hw27 => k0_hw27

def k0_chk28 (v3266 : IVec S16 32) (v3375 : IVec S16 32) (v3376 : IVec S16 32) (v3378 : IVec S16 32) : Prop :=
  (∀ a x, ((![v3375, v3376, v3266, v3378] : Fin 4 → IVec S16 32) a x).toNat < S2x4x94x96.size a)
theorem k0_idx28_inb : ∀ (v3266 : IVec S16 32) (v3375 : IVec S16 32) (v3376 : IVec S16 32) (v3378 : IVec S16 32) (k0_hw28 : k0_chk28 v3266 v3375 v3376 v3378), ∀ a x, ((![v3375, v3376, v3266, v3378] : Fin 4 → IVec S16 32) a x).toNat < S2x4x94x96.size a := fun v3266 v3375 v3376 v3378 k0_hw28 => k0_hw28

def k0_chk29 (v3266 : IVec S16 32) (v3379 : IVec S16 32) (v3380 : IVec S16 32) (v3382 : IVec S16 32) : Prop :=
  (∀ a x, ((![v3379, v3380, v3266, v3382] : Fin 4 → IVec S16 32) a x).toNat < S2x4x94x96.size a)
theorem k0_idx29_inb : ∀ (v3266 : IVec S16 32) (v3379 : IVec S16 32) (v3380 : IVec S16 32) (v3382 : IVec S16 32) (k0_hw29 : k0_chk29 v3266 v3379 v3380 v3382), ∀ a x, ((![v3379, v3380, v3266, v3382] : Fin 4 → IVec S16 32) a x).toNat < S2x4x94x96.size a := fun v3266 v3379 v3380 v3382 k0_hw29 => k0_hw29

def k0_chk30 (v3266 : IVec S16 32) (v3383 : IVec S16 32) (v3384 : IVec S16 32) (v3386 : IVec S16 32) : Prop :=
  (∀ a x, ((![v3383, v3384, v3266, v3386] : Fin 4 → IVec S16 32) a x).toNat < S2x4x94x96.size a)
theorem k0_idx30_inb : ∀ (v3266 : IVec S16 32) (v3383 : IVec S16 32) (v3384 : IVec S16 32) (v3386 : IVec S16 32) (k0_hw30 : k0_chk30 v3266 v3383 v3384 v3386), ∀ a x, ((![v3383, v3384, v3266, v3386] : Fin 4 → IVec S16 32) a x).toNat < S2x4x94x96.size a := fun v3266 v3383 v3384 v3386 k0_hw30 => k0_hw30

def k0_chk31 (v3266 : IVec S16 32) (v3387 : IVec S16 32) (v3388 : IVec S16 32) (v3390 : IVec S16 32) : Prop :=
  (∀ a x, ((![v3387, v3388, v3266, v3390] : Fin 4 → IVec S16 32) a x).toNat < S2x4x94x96.size a)
theorem k0_idx31_inb : ∀ (v3266 : IVec S16 32) (v3387 : IVec S16 32) (v3388 : IVec S16 32) (v3390 : IVec S16 32) (k0_hw31 : k0_chk31 v3266 v3387 v3388 v3390), ∀ a x, ((![v3387, v3388, v3266, v3390] : Fin 4 → IVec S16 32) a x).toNat < S2x4x94x96.size a := fun v3266 v3387 v3388 v3390 k0_hw31 => k0_hw31

def k0_chk32 (v3266 : IVec S16 32) (v3391 : IVec S16 32) (v3392 : IVec S16 32) (v3394 : IVec S16 32) : Prop :=
  (∀ a x, ((![v3391, v3392, v3266, v3394] : Fin 4 → IVec S16 32) a x).toNat < S2x4x94x96.size a)
theorem k0_idx32_inb : ∀ (v3266 : IVec S16 32) (v3391 : IVec S16 32) (v3392 : IVec S16 32) (v3394 : IVec S16 32) (k0_hw32 : k0_chk32 v3266 v3391 v3392 v3394), ∀ a x, ((![v3391, v3392, v3266, v3394] : Fin 4 → IVec S16 32) a x).toNat < S2x4x94x96.size a := fun v3266 v3391 v3392 v3394 k0_hw32 => k0_hw32

def k0_chk33 (v3266 : IVec S16 32) (v3395 : IVec S16 32) (v3396 : IVec S16 32) (v3398 : IVec S16 32) : Prop :=
  (∀ a x, ((![v3395, v3396, v3266, v3398] : Fin 4 → IVec S16 32) a x).toNat < S2x4x94x96.size a)
theorem k0_idx33_inb : ∀ (v3266 : IVec S16 32) (v3395 : IVec S16 32) (v3396 : IVec S16 32) (v3398 : IVec S16 32) (k0_hw33 : k0_chk33 v3266 v3395 v3396 v3398), ∀ a x, ((![v3395, v3396, v3266, v3398] : Fin 4 → IVec S16 32) a x).toNat < S2x4x94x96.size a := fun v3266 v3395 v3396 v3398 k0_hw33 => k0_hw33

def k0_chk34 (v3266 : IVec S16 32) (v3399 : IVec S16 32) (v3400 : IVec S16 32) (v3402 : IVec S16 32) : Prop :=
  (∀ a x, ((![v3399, v3400, v3266, v3402] : Fin 4 → IVec S16 32) a x).toNat < S2x4x94x96.size a)
theorem k0_idx34_inb : ∀ (v3266 : IVec S16 32) (v3399 : IVec S16 32) (v3400 : IVec S16 32) (v3402 : IVec S16 32) (k0_hw34 : k0_chk34 v3266 v3399 v3400 v3402), ∀ a x, ((![v3399, v3400, v3266, v3402] : Fin 4 → IVec S16 32) a x).toNat < S2x4x94x96.size a := fun v3266 v3399 v3400 v3402 k0_hw34 => k0_hw34

def k0_chk35 (v3266 : IVec S16 32) (v3403 : IVec S16 32) (v3404 : IVec S16 32) (v3406 : IVec S16 32) : Prop :=
  (∀ a x, ((![v3403, v3404, v3266, v3406] : Fin 4 → IVec S16 32) a x).toNat < S2x4x94x96.size a)
theorem k0_idx35_inb : ∀ (v3266 : IVec S16 32) (v3403 : IVec S16 32) (v3404 : IVec S16 32) (v3406 : IVec S16 32) (k0_hw35 : k0_chk35 v3266 v3403 v3404 v3406), ∀ a x, ((![v3403, v3404, v3266, v3406] : Fin 4 → IVec S16 32) a x).toNat < S2x4x94x96.size a := fun v3266 v3403 v3404 v3406 k0_hw35 => k0_hw35

def k0_chk36 (v3266 : IVec S16 32) (v3407 : IVec S16 32) (v3408 : IVec S16 32) (v3410 : IVec S16 32) : Prop :=
  (∀ a x, ((![v3407, v3408, v3266, v3410] : Fin 4 → IVec S16 32) a x).toNat < S2x4x94x96.size a)
theorem k0_idx36_inb : ∀ (v3266 : IVec S16 32) (v3407 : IVec S16 32) (v3408 : IVec S16 32) (v3410 : IVec S16 32) (k0_hw36 : k0_chk36 v3266 v3407 v3408 v3410), ∀ a x, ((![v3407, v3408, v3266, v3410] : Fin 4 → IVec S16 32) a x).toNat < S2x4x94x96.size a := fun v3266 v3407 v3408 v3410 k0_hw36 => k0_hw36

def k0_chk37 (v3266 : IVec S16 32) (v3411 : IVec S16 32) (v3412 : IVec S16 32) (v3414 : IVec S16 32) : Prop :=
  (∀ a x, ((![v3411, v3412, v3266, v3414] : Fin 4 → IVec S16 32) a x).toNat < S2x4x94x96.size a)
theorem k0_idx37_inb : ∀ (v3266 : IVec S16 32) (v3411 : IVec S16 32) (v3412 : IVec S16 32) (v3414 : IVec S16 32) (k0_hw37 : k0_chk37 v3266 v3411 v3412 v3414), ∀ a x, ((![v3411, v3412, v3266, v3414] : Fin 4 → IVec S16 32) a x).toNat < S2x4x94x96.size a := fun v3266 v3411 v3412 v3414 k0_hw37 => k0_hw37

def k0_chk38 (v3266 : IVec S16 32) (v3415 : IVec S16 32) (v3416 : IVec S16 32) (v3418 : IVec S16 32) : Prop :=
  (∀ a x, ((![v3415, v3416, v3266, v3418] : Fin 4 → IVec S16 32) a x).toNat < S2x4x94x96.size a)
theorem k0_idx38_inb : ∀ (v3266 : IVec S16 32) (v3415 : IVec S16 32) (v3416 : IVec S16 32) (v3418 : IVec S16 32) (k0_hw38 : k0_chk38 v3266 v3415 v3416 v3418), ∀ a x, ((![v3415, v3416, v3266, v3418] : Fin 4 → IVec S16 32) a x).toNat < S2x4x94x96.size a := fun v3266 v3415 v3416 v3418 k0_hw38 => k0_hw38

def k0_chk39 (v3266 : IVec S16 32) (v3419 : IVec S16 32) (v3420 : IVec S16 32) (v3422 : IVec S16 32) : Prop :=
  (∀ a x, ((![v3419, v3420, v3266, v3422] : Fin 4 → IVec S16 32) a x).toNat < S2x4x94x96.size a)
theorem k0_idx39_inb : ∀ (v3266 : IVec S16 32) (v3419 : IVec S16 32) (v3420 : IVec S16 32) (v3422 : IVec S16 32) (k0_hw39 : k0_chk39 v3266 v3419 v3420 v3422), ∀ a x, ((![v3419, v3420, v3266, v3422] : Fin 4 → IVec S16 32) a x).toNat < S2x4x94x96.size a := fun v3266 v3419 v3420 v3422 k0_hw39 => k0_hw39

def k0_chk40 (v3266 : IVec S16 32) (v3423 : IVec S16 32) (v3424 : IVec S16 32) (v3426 : IVec S16 32) : Prop :=
  (∀ a x, ((![v3423, v3424, v3266, v3426] : Fin 4 → IVec S16 32) a x).toNat < S2x4x94x96.size a)
theorem k0_idx40_inb : ∀ (v3266 : IVec S16 32) (v3423 : IVec S16 32) (v3424 : IVec S16 32) (v3426 : IVec S16 32) (k0_hw40 : k0_chk40 v3266 v3423 v3424 v3426), ∀ a x, ((![v3423, v3424, v3266, v3426] : Fin 4 → IVec S16 32) a x).toNat < S2x4x94x96.size a := fun v3266 v3423 v3424 v3426 k0_hw40 => k0_hw40

def k0_chk41 (v3266 : IVec S16 32) (v3427 : IVec S16 32) (v3428 : IVec S16 32) (v3430 : IVec S16 32) : Prop :=
  (∀ a x, ((![v3427, v3428, v3266, v3430] : Fin 4 → IVec S16 32) a x).toNat < S2x4x94x96.size a)
theorem k0_idx41_inb : ∀ (v3266 : IVec S16 32) (v3427 : IVec S16 32) (v3428 : IVec S16 32) (v3430 : IVec S16 32) (k0_hw41 : k0_chk41 v3266 v3427 v3428 v3430), ∀ a x, ((![v3427, v3428, v3266, v3430] : Fin 4 → IVec S16 32) a x).toNat < S2x4x94x96.size a := fun v3266 v3427 v3428 v3430 k0_hw41 => k0_hw41

def k0_chk42 (v3266 : IVec S16 32) (v3431 : IVec S16 32) (v3432 : IVec S16 32) (v3434 : IVec S16 32) : Prop :=
  (∀ a x, ((![v3431, v3432, v3266, v3434] : Fin 4 → IVec S16 32) a x).toNat < S2x4x94x96.size a)
theorem k0_idx42_inb : ∀ (v3266 : IVec S16 32) (v3431 : IVec S16 32) (v3432 : IVec S16 32) (v3434 : IVec S16 32) (k0_hw42 : k0_chk42 v3266 v3431 v3432 v3434), ∀ a x, ((![v3431, v3432, v3266, v3434] : Fin 4 → IVec S16 32) a x).toNat < S2x4x94x96.size a := fun v3266 v3431 v3432 v3434 k0_hw42 => k0_hw42

def k0_chk43 (v3266 : IVec S16 32) (v3435 : IVec S16 32) (v3436 : IVec S16 32) (v3438 : IVec S16 32) : Prop :=
  (∀ a x, ((![v3435, v3436, v3266, v3438] : Fin 4 → IVec S16 32) a x).toNat < S2x4x94x96.size a)
theorem k0_idx43_inb : ∀ (v3266 : IVec S16 32) (v3435 : IVec S16 32) (v3436 : IVec S16 32) (v3438 : IVec S16 32) (k0_hw43 : k0_chk43 v3266 v3435 v3436 v3438), ∀ a x, ((![v3435, v3436, v3266, v3438] : Fin 4 → IVec S16 32) a x).toNat < S2x4x94x96.size a := fun v3266 v3435 v3436 v3438 k0_hw43 => k0_hw43

def k0_chk44 (v3266 : IVec S16 32) (v3439 : IVec S16 32) (v3440 : IVec S16 32) (v3442 : IVec S16 32) : Prop :=
  (∀ a x, ((![v3439, v3440, v3266, v3442] : Fin 4 → IVec S16 32) a x).toNat < S2x4x94x96.size a)
theorem k0_idx44_inb : ∀ (v3266 : IVec S16 32) (v3439 : IVec S16 32) (v3440 : IVec S16 32) (v3442 : IVec S16 32) (k0_hw44 : k0_chk44 v3266 v3439 v3440 v3442), ∀ a x, ((![v3439, v3440, v3266, v3442] : Fin 4 → IVec S16 32) a x).toNat < S2x4x94x96.size a := fun v3266 v3439 v3440 v3442 k0_hw44 => k0_hw44

def k0_chk45 (v3266 : IVec S16 32) (v3443 : IVec S16 32) (v3444 : IVec S16 32) (v3446 : IVec S16 32) : Prop :=
  (∀ a x, ((![v3443, v3444, v3266, v3446] : Fin 4 → IVec S16 32) a x).toNat < S2x4x94x96.size a)
theorem k0_idx45_inb : ∀ (v3266 : IVec S16 32) (v3443 : IVec S16 32) (v3444 : IVec S16 32) (v3446 : IVec S16 32) (k0_hw45 : k0_chk45 v3266 v3443 v3444 v3446), ∀ a x, ((![v3443, v3444, v3266, v3446] : Fin 4 → IVec S16 32) a x).toNat < S2x4x94x96.size a := fun v3266 v3443 v3444 v3446 k0_hw45 => k0_hw45

def k0_chk46 (v3266 : IVec S16 32) (v3447 : IVec S16 32) (v3448 : IVec S16 32) (v3450 : IVec S16 32) : Prop :=
  (∀ a x, ((![v3447, v3448, v3266, v3450] : Fin 4 → IVec S16 32) a x).toNat < S2x4x94x96.size a)
theorem k0_idx46_inb : ∀ (v3266 : IVec S16 32) (v3447 : IVec S16 32) (v3448 : IVec S16 32) (v3450 : IVec S16 32) (k0_hw46 : k0_chk46 v3266 v3447 v3448 v3450), ∀ a x, ((![v3447, v3448, v3266, v3450] : Fin 4 → IVec S16 32) a x).toNat < S2x4x94x96.size a := fun v3266 v3447 v3448 v3450 k0_hw46 => k0_hw46

def k0_chk47 (v3266 : IVec S16 32) (v3451 : IVec S16 32) (v3452 : IVec S16 32) (v3454 : IVec S16 32) : Prop :=
  (∀ a x, ((![v3451, v3452, v3266, v3454] : Fin 4 → IVec S16 32) a x).toNat < S2x4x94x96.size a)
theorem k0_idx47_inb : ∀ (v3266 : IVec S16 32) (v3451 : IVec S16 32) (v3452 : IVec S16 32) (v3454 : IVec S16 32) (k0_hw47 : k0_chk47 v3266 v3451 v3452 v3454), ∀ a x, ((![v3451, v3452, v3266, v3454] : Fin 4 → IVec S16 32) a x).toNat < S2x4x94x96.size a := fun v3266 v3451 v3452 v3454 k0_hw47 => k0_hw47

def k0_chk48 (v3266 : IVec S16 32) (v3455 : IVec S16 32) (v3456 : IVec S16 32) (v3458 : IVec S16 32) : Prop :=
  (∀ a x, ((![v3455, v3456, v3266, v3458] : Fin 4 → IVec S16 32) a x).toNat < S2x4x94x96.size a)
theorem k0_idx48_inb : ∀ (v3266 : IVec S16 32) (v3455 : IVec S16 32) (v3456 : IVec S16 32) (v3458 : IVec S16 32) (k0_hw48 : k0_chk48 v3266 v3455 v3456 v3458), ∀ a x, ((![v3455, v3456, v3266, v3458] : Fin 4 → IVec S16 32) a x).toNat < S2x4x94x96.size a := fun v3266 v3455 v3456 v3458 k0_hw48 => k0_hw48

def k0_chk49 (v30 : IVec S16 32) (v63 : IVec S16 32) (v64 : IVec S16 32) (v65 : IVec S16 32) : Prop :=
  (∀ a x, ((![v63, v64, v65, v30] : Fin 4 → IVec S16 32) a x).toNat < S2x4x32x32.size a)
theorem k0_idx49_inb : ∀ (v30 : IVec S16 32) (v63 : IVec S16 32) (v64 : IVec S16 32) (v65 : IVec S16 32) (k0_hw49 : k0_chk49 v30 v63 v64 v65), ∀ a x, ((![v63, v64, v65, v30] : Fin 4 → IVec S16 32) a x).toNat < S2x4x32x32.size a := fun v30 v63 v64 v65 k0_hw49 => k0_hw49

def k0_chk50 (v63 : IVec S16 32) (v64 : IVec S16 32) (v65 : IVec S16 32) (v68 : IVec S16 32) : Prop :=
  (∀ a x, ((![v63, v64, v65, v68] : Fin 4 → IVec S16 32) a x).toNat < S2x4x32x32.size a)
theorem k0_idx50_inb : ∀ (v63 : IVec S16 32) (v64 : IVec S16 32) (v65 : IVec S16 32) (v68 : IVec S16 32) (k0_hw50 : k0_chk50 v63 v64 v65 v68), ∀ a x, ((![v63, v64, v65, v68] : Fin 4 → IVec S16 32) a x).toNat < S2x4x32x32.size a := fun v63 v64 v65 v68 k0_hw50 => k0_hw50

def k0_chk51 (v33 : IVec S16 32) (v35 : IVec S16 32) (v63 : IVec S16 32) (v64 : IVec S16 32) (v70 : IVec S16 32) : Prop :=
  (∀ a x, ((![v63, v64, v70, v33] : Fin 4 → IVec S16 32) a x).toNat < S2x4x94x96.size a) ∧
  (∀ a x, ((![v63, v64, v70, v35] : Fin 4 → IVec S16 32) a x).toNat < S2x4x94x96.size a)
theorem k0_idx51_inb : ∀ (v33 : IVec S16 32) (v35 : IVec S16 32) (v63 : IVec S16 32) (v64 : IVec S16 32) (v70 : IVec S16 32) (k0_hw51 : k0_chk51 v33 v35 v63 v64 v70), ∀ a x, ((![v63, v64, v70, v33] : Fin 4 → IVec S16 32) a x).toNat < S2x4x94x96.size a := fun v33 v35 v63 v64 v70 k0_hw51 => k0_hw51.1
theorem k0_idx52_inb : ∀ (v33 : IVec S16 32) (v35 : IVec S16 32) (v63 : IVec S16 32) (v64 : IVec S16 32) (v70 : IVec S16 32) (k0_hw51 : k0_chk51 v33 v35 v63 v64 v70), ∀ a x, ((![v63, v64, v70, v35] : Fin 4 → IVec S16 32) a x).toNat < S2x4x94x96.size a := fun v33 v35 v63 v64 v70 k0_hw51 => k0_hw51.2

def k0_chk52 (v30 : IVec S16 32) (v63 : IVec S16 32) (v64 : IVec S16 32) (v71 : IVec S16 32) : Prop :=
  (∀ a x, ((![v63, v64, v71, v30] : Fin 4 → IVec S16 32) a x).toNat < S2x4x32x32.size a)
theorem k0_idx53_inb : ∀ (v30 : IVec S16 32) (v63 : IVec S16 32) (v64 : IVec S16 32) (v71 : IVec S16 32) (k0_hw52 : k0_chk52 v30 v63 v64 v71), ∀ a x, ((![v63, v64, v71, v30] : Fin 4 → IVec S16 32) a x).toNat < S2x4x32x32.size a := fun v30 v63 v64 v71 k0_hw52 => k0_hw52

def k0_chk53 (v63 : IVec S16 32) (v64 : IVec S16 32) (v71 : IVec S16 32) (v74 : IVec S16 32) : Prop :=
  (∀ a x, ((![v63, v64, v71, v74] : Fin 4 → IVec S16 32) a x).toNat < S2x4x32x32.size a)
theorem k0_idx54_inb : ∀ (v63 : IVec S16 32) (v64 : IVec S16 32) (v71 : IVec S16 32) (v74 : IVec S16 32) (k0_hw53 : k0_chk53 v63 v64 v71 v74), ∀ a x, ((![v63, v64, v71, v74] : Fin 4 → IVec S16 32) a x).toNat < S2x4x32x32.size a := fun v63 v64 v71 v74 k0_hw53 => k0_hw53

def k0_chk54 (v33 : IVec S16 32) (v35 : IVec S16 32) (v63 : IVec S16 32) (v64 : IVec S16 32) (v76 : IVec S16 32) : Prop :=
  (∀ a x, ((![v63, v64, v76, v33] : Fin 4 → IVec S16 32) a x).toNat < S2x4x94x96.size a) ∧
  (∀ a x, ((![v63, v64, v76, v35] : Fin 4 → IVec S16 32) a x).toNat < S2x4x94x96.size a)
theorem k0_idx55_inb : ∀ (v33 : IVec S16 32) (v35 : IVec S16 32) (v63 : IVec S16 32) (v64 : IVec S16 32) (v76 : IVec S16 32) (k0_hw54 : k0_chk54 v33 v35 v63 v64 v76), ∀ a x, ((![v63, v64, v76, v33] : Fin 4 → IVec S16 32) a x).toNat < S2x4x94x96.size a := fun v33 v35 v63 v64 v76 k0_hw54 => k0_hw54.1
theorem k0_idx56_inb : ∀ (v33 : IVec S16 32) (v35 : IVec S16 32) (v63 : IVec S16 32) (v64 : IVec S16 32) (v76 : IVec S16 32) (k0_hw54 : k0_chk54 v33 v35 v63 v64 v76), ∀ a x, ((![v63, v64, v76, v35] : Fin 4 → IVec S16 32) a x).toNat < S2x4x94x96.size a := fun v33 v35 v63 v64 v76 k0_hw54 => k0_hw54.2

def k0_chk55 (v30 : IVec S16 32) (v63 : IVec S16 32) (v64 : IVec S16 32) (v77 : IVec S16 32) : Prop :=
  (∀ a x, ((![v63, v64, v77, v30] : Fin 4 → IVec S16 32) a x).toNat < S2x4x32x32.size a)
theorem k0_idx57_inb : ∀ (v30 : IVec S16 32) (v63 : IVec S16 32) (v64 : IVec S16 32) (v77 : IVec S16 32) (k0_hw55 : k0_chk55 v30 v63 v64 v77), ∀ a x, ((![v63, v64, v77, v30] : Fin 4 → IVec S16 32) a x).toNat < S2x4x32x32.size a := fun v30 v63 v64 v77 k0_hw55 => k0_hw55

def k0_chk56 (v63 : IVec S16 32) (v64 : IVec S16 32) (v77 : IVec S16 32) (v80 : IVec S16 32) : Prop :=
  (∀ a x, ((![v63, v64, v77, v80] : Fin 4 → IVec S16 32) a x).toNat < S2x4x32x32.size a)
theorem k0_idx58_inb : ∀ (v63 : IVec S16 32) (v64 : IVec S16 32) (v77 : IVec S16 32) (v80 : IVec S16 32) (k0_hw56 : k0_chk56 v63 v64 v77 v80), ∀ a x, ((![v63, v64, v77, v80] : Fin 4 → IVec S16 32) a x).toNat < S2x4x32x32.size a := fun v63 v64 v77 v80 k0_hw56 => k0_hw56

def k0_chk57 (v33 : IVec S16 32) (v35 : IVec S16 32) (v63 : IVec S16 32) (v64 : IVec S16 32) (v82 : IVec S16 32) : Prop :=
  (∀ a x, ((![v63, v64, v82, v33] : Fin 4 → IVec S16 32) a x).toNat < S2x4x94x96.size a) ∧
  (∀ a x, ((![v63, v64, v82, v35] : Fin 4 → IVec S16 32) a x).toNat < S2x4x94x96.size a)
theorem k0_idx59_inb : ∀ (v33 : IVec S16 32) (v35 : IVec S16 32) (v63 : IVec S16 32) (v64 : IVec S16 32) (v82 : IVec S16 32) (k0_hw57 : k0_chk57 v33 v35 v63 v64 v82), ∀ a x, ((![v63, v64, v82, v33] : Fin 4 → IVec S16 32) a x).toNat < S2x4x94x96.size a := fun v33 v35 v63 v64 v82 k0_hw57 => k0_hw57.1
theorem k0_idx60_inb : ∀ (v33 : IVec S16 32) (v35 : IVec S16 32) (v63 : IVec S16 32) (v64 : IVec S16 32) (v82 : IVec S16 32) (k0_hw57 : k0_chk57 v33 v35 v63 v64 v82), ∀ a x, ((![v63, v64, v82, v35] : Fin 4 → IVec S16 32) a x).toNat < S2x4x94x96.size a := fun v33 v35 v63 v64 v82 k0_hw57 => k0_hw57.2

def k0_chk58 (v30 : IVec S16 32) (v63 : IVec S16 32) (v64 : IVec S16 32) (v83 : IVec S16 32) : Prop :=
  (∀ a x, ((![v63, v64, v83, v30] : Fin 4 → IVec S16 32) a x).toNat < S2x4x32x32.size a)
theorem k0_idx61_inb : ∀ (v30 : IVec S16 32) (v63 : IVec S16 32) (v64 : IVec S16 32) (v83 : IVec S16 32) (k0_hw58 : k0_chk58 v30 v63 v64 v83), ∀ a x, ((![v63, v64, v83, v30] : Fin 4 → IVec S16 32) a x).toNat < S2x4x32x32.size a := fun v30 v63 v64 v83 k0_hw58 => k0_hw58

def k0_chk59 (v63 : IVec S16 32) (v64 : IVec S16 32) (v83 : IVec S16 32) (v86 : IVec S16 32) : Prop :=
  (∀ a x, ((![v63, v64, v83, v86] : Fin 4 → IVec S16 32) a x).toNat < S2x4x32x32.size a)
theorem k0_idx62_inb : ∀ (v63 : IVec S16 32) (v64 : IVec S16 32) (v83 : IVec S16 32) (v86 : IVec S16 32) (k0_hw59 : k0_chk59 v63 v64 v83 v86), ∀ a x, ((![v63, v64, v83, v86] : Fin 4 → IVec S16 32) a x).toNat < S2x4x32x32.size a := fun v63 v64 v83 v86 k0_hw59 => k0_hw59

def k0_chk60 (v33 : IVec S16 32) (v35 : IVec S16 32) (v63 : IVec S16 32) (v64 : IVec S16 32) (v88 : IVec S16 32) : Prop :=
  (∀ a x, ((![v63, v64, v88, v33] : Fin 4 → IVec S16 32) a x).toNat < S2x4x94x96.size a) ∧
  (∀ a x, ((![v63, v64, v88, v35] : Fin 4 → IVec S16 32) a x).toNat < S2x4x94x96.size a)
theorem k0_idx63_inb : ∀ (v33 : IVec S16 32) (v35 : IVec S16 32) (v63 : IVec S16 32) (v64 : IVec S16 32) (v88 : IVec S16 32) (k0_hw60 : k0_chk60 v33 v35 v63 v64 v88), ∀ a x, ((![v63, v64, v88, v33] : Fin 4 → IVec S16 32) a x).toNat < S2x4x94x96.size a := fun v33 v35 v63 v64 v88 k0_hw60 => k0_hw60.1
theorem k0_idx64_inb : ∀ (v33 : IVec S16 32) (v35 : IVec S16 32) (v63 : IVec S16 32) (v64 : IVec S16 32) (v88 : IVec S16 32) (k0_hw60 : k0_chk60 v33 v35 v63 v64 v88), ∀ a x, ((![v63, v64, v88, v35] : Fin 4 → IVec S16 32) a x).toNat < S2x4x94x96.size a := fun v33 v35 v63 v64 v88 k0_hw60 => k0_hw60.2

def k0_chk61 (v30 : IVec S16 32) (v63 : IVec S16 32) (v64 : IVec S16 32) (v89 : IVec S16 32) : Prop :=
  (∀ a x, ((![v63, v64, v89, v30] : Fin 4 → IVec S16 32) a x).toNat < S2x4x32x32.size a)
theorem k0_idx65_inb : ∀ (v30 : IVec S16 32) (v63 : IVec S16 32) (v64 : IVec S16 32) (v89 : IVec S16 32) (k0_hw61 : k0_chk61 v30 v63 v64 v89), ∀ a x, ((![v63, v64, v89, v30] : Fin 4 → IVec S16 32) a x).toNat < S2x4x32x32.size a := fun v30 v63 v64 v89 k0_hw61 => k0_hw61

def k0_chk62 (v63 : IVec S16 32) (v64 : IVec S16 32) (v89 : IVec S16 32) (v92 : IVec S16 32) : Prop :=
  (∀ a x, ((![v63, v64, v89, v92] : Fin 4 → IVec S16 32) a x).toNat < S2x4x32x32.size a)
theorem k0_idx66_inb : ∀ (v63 : IVec S16 32) (v64 : IVec S16 32) (v89 : IVec S16 32) (v92 : IVec S16 32) (k0_hw62 : k0_chk62 v63 v64 v89 v92), ∀ a x, ((![v63, v64, v89, v92] : Fin 4 → IVec S16 32) a x).toNat < S2x4x32x32.size a := fun v63 v64 v89 v92 k0_hw62 => k0_hw62

def k0_chk63 (v33 : IVec S16 32) (v35 : IVec S16 32) (v63 : IVec S16 32) (v64 : IVec S16 32) (v94 : IVec S16 32) : Prop :=
  (∀ a x, ((![v63, v64, v94, v33] : Fin 4 → IVec S16 32) a x).toNat < S2x4x94x96.size a) ∧
  (∀ a x, ((![v63, v64, v94, v35] : Fin 4 → IVec S16 32) a x).toNat < S2x4x94x96.size a)
theorem k0_idx67_inb : ∀ (v33 : IVec S16 32) (v35 : IVec S16 32) (v63 : IVec S16 32) (v64 : IVec S16 32) (v94 : IVec S16 32) (k0_hw63 : k0_chk63 v33 v35 v63 v64 v94), ∀ a x, ((![v63, v64, v94, v33] : Fin 4 → IVec S16 32) a x).toNat < S2x4x94x96.size a := fun v33 v35 v63 v64 v94 k0_hw63 => k0_hw63.1
theorem k0_idx68_inb : ∀ (v33 : IVec S16 32) (v35 : IVec S16 32) (v63 : IVec S16 32) (v64 : IVec S16 32) (v94 : IVec S16 32) (k0_hw63 : k0_chk63 v33 v35 v63 v64 v94), ∀ a x, ((![v63, v64, v94, v35] : Fin 4 → IVec S16 32) a x).toNat < S2x4x94x96.size a := fun v33 v35 v63 v64 v94 k0_hw63 => k0_hw63.2

def k0_chk64 (v30 : IVec S16 32) (v63 : IVec S16 32) (v64 : IVec S16 32) (v95 : IVec S16 32) : Prop :=
  (∀ a x, ((![v63, v64, v95, v30] : Fin 4 → IVec S16 32) a x).toNat < S2x4x32x32.size a)
theorem k0_idx69_inb : ∀ (v30 : IVec S16 32) (v63 : IVec S16 32) (v64 : IVec S16 32) (v95 : IVec S16 32) (k0_hw64 : k0_chk64 v30 v63 v64 v95), ∀ a x, ((![v63, v64, v95, v30] : Fin 4 → IVec S16 32) a x).toNat < S2x4x32x32.size a := fun v30 v63 v64 v95 k0_hw64 => k0_hw64

def k0_chk65 (v63 : IVec S16 32) (v64 : IVec S16 32) (v95 : IVec S16 32) (v98 : IVec S16 32) : Prop :=
  (∀ a x, ((![v63, v64, v95, v98] : Fin 4 → IVec S16 32) a x).toNat < S2x4x32x32.size a)
theorem k0_idx70_inb : ∀ (v63 : IVec S16 32) (v64 : IVec S16 32) (v95 : IVec S16 32) (v98 : IVec S16 32) (k0_hw65 : k0_chk65 v63 v64 v95 v98), ∀ a x, ((![v63, v64, v95, v98] : Fin 4 → IVec S16 32) a x).toNat < S2x4x32x32.size a := fun v63 v64 v95 v98 k0_hw65 => k0_hw65

def k0_chk66 (v33 : IVec S16 32) (v35 : IVec S16 32) (v63 : IVec S16 32) (v64 : IVec S16 32) (v100 : IVec S16 32) : Prop :=
  (∀ a x, ((![v63, v64, v100, v33] : Fin 4 → IVec S16 32) a x).toNat < S2x4x94x96.size a) ∧
  (∀ a x, ((![v63, v64, v100, v35] : Fin 4 → IVec S16 32) a x).toNat < S2x4x94x96.size a)
theorem k0_idx71_inb : ∀ (v33 : IVec S16 32) (v35 : IVec S16 32) (v63 : IVec S16 32) (v64 : IVec S16 32) (v100 : IVec S16 32) (k0_hw66 : k0_chk66 v33 v35 v63 v64 v100), ∀ a x, ((![v63, v64, v100, v33] : Fin 4 → IVec S16 32) a x).toNat < S2x4x94x96.size a := fun v33 v35 v63 v64 v100 k0_hw66 => k0_hw66.1
theorem k0_idx72_inb : ∀ (v33 : IVec S16 32) (v35 : IVec S16 32) (v63 : IVec S16 32) (v64 : IVec S16 32) (v100 : IVec S16 32) (k0_hw66 : k0_chk66 v33 v35 v63 v64 v100), ∀ a x, ((![v63, v64, v100, v35] : Fin 4 → IVec S16 32) a x).toNat < S2x4x94x96.size a := fun v33 v35 v63 v64 v100 k0_hw66 => k0_hw66.2

def k0_chk67 (v30 : IVec S16 32) (v63 : IVec S16 32) (v64 : IVec S16 32) (v101 : IVec S16 32) : Prop :=
  (∀ a x, ((![v63, v64, v101, v30] : Fin 4 → IVec S16 32) a x).toNat < S2x4x32x32.size a)
theorem k0_idx73_inb : ∀ (v30 : IVec S16 32) (v63 : IVec S16 32) (v64 : IVec S16 32) (v101 : IVec S16 32) (k0_hw67 : k0_chk67 v30 v63 v64 v101), ∀ a x, ((![v63, v64, v101, v30] : Fin 4 → IVec S16 32) a x).toNat < S2x4x32x32.size a := fun v30 v63 v64 v101 k0_hw67 => k0_hw67

def k0_chk68 (v63 : IVec S16 32) (v64 : IVec S16 32) (v101 : IVec S16 32) (v104 : IVec S16 32) : Prop :=
  (∀ a x, ((![v63, v64, v101, v104] : Fin 4 → IVec S16 32) a x).toNat < S2x4x32x32.size a)
theorem k0_idx74_inb : ∀ (v63 : IVec S16 32) (v64 : IVec S16 32) (v101 : IVec S16 32) (v104 : IVec S16 32) (k0_hw68 : k0_chk68 v63 v64 v101 v104), ∀ a x, ((![v63, v64, v101, v104] : Fin 4 → IVec S16 32) a x).toNat < S2x4x32x32.size a := fun v63 v64 v101 v104 k0_hw68 => k0_hw68

def k0_chk69 (v33 : IVec S16 32) (v35 : IVec S16 32) (v63 : IVec S16 32) (v64 : IVec S16 32) (v106 : IVec S16 32) : Prop :=
  (∀ a x, ((![v63, v64, v106, v33] : Fin 4 → IVec S16 32) a x).toNat < S2x4x94x96.size a) ∧
  (∀ a x, ((![v63, v64, v106, v35] : Fin 4 → IVec S16 32) a x).toNat < S2x4x94x96.size a)
theorem k0_idx75_inb : ∀ (v33 : IVec S16 32) (v35 : IVec S16 32) (v63 : IVec S16 32) (v64 : IVec S16 32) (v106 : IVec S16 32) (k0_hw69 : k0_chk69 v33 v35 v63 v64 v106), ∀ a x, ((![v63, v64, v106, v33] : Fin 4 → IVec S16 32) a x).toNat < S2x4x94x96.size a := fun v33 v35 v63 v64 v106 k0_hw69 => k0_hw69.1
theorem k0_idx76_inb : ∀ (v33 : IVec S16 32) (v35 : IVec S16 32) (v63 : IVec S16 32) (v64 : IVec S16 32) (v106 : IVec S16 32) (k0_hw69 : k0_chk69 v33 v35 v63 v64 v106), ∀ a x, ((![v63, v64, v106, v35] : Fin 4 → IVec S16 32) a x).toNat < S2x4x94x96.size a := fun v33 v35 v63 v64 v106 k0_hw69 => k0_hw69.2

def k0_chk70 (v30 : IVec S16 32) (v63 : IVec S16 32) (v64 : IVec S16 32) (v107 : IVec S16 32) : Prop :=
  (∀ a x, ((![v63, v64, v107, v30] : Fin 4 → IVec S16 32) a x).toNat < S2x4x32x32.size a)
theorem k0_idx77_inb : ∀ (v30 : IVec S16 32) (v63 : IVec S16 32) (v64 : IVec S16 32) (v107 : IVec S16 32) (k0_hw70 : k0_chk70 v30 v63 v64 v107), ∀ a x, ((![v63, v64, v107, v30] : Fin 4 → IVec S16 32) a x).toNat < S2x4x32x32.size a := fun v30 v63 v64 v107 k0_hw70 => k0_hw70

def k0_chk71 (v63 : IVec S16 32) (v64 : IVec S16 32) (v107 : IVec S16 32) (v110 : IVec S16 32) : Prop :=
  (∀ a x, ((![v63, v64, v107, v110] : Fin 4 → IVec S16 32) a x).toNat < S2x4x32x32.size a)
theorem k0_idx78_inb : ∀ (v63 : IVec S16 32) (v64 : IVec S16 32) (v107 : IVec S16 32) (v110 : IVec S16 32) (k0_hw71 : k0_chk71 v63 v64 v107 v110), ∀ a x, ((![v63, v64, v107, v110] : Fin 4 → IVec S16 32) a x).toNat < S2x4x32x32.size a := fun v63 v64 v107 v110 k0_hw71 => k0_hw71

def k0_chk72 (v33 : IVec S16 32) (v35 : IVec S16 32) (v63 : IVec S16 32) (v64 : IVec S16 32) (v112 : IVec S16 32) : Prop :=
  (∀ a x, ((![v63, v64, v112, v33] : Fin 4 → IVec S16 32) a x).toNat < S2x4x94x96.size a) ∧
  (∀ a x, ((![v63, v64, v112, v35] : Fin 4 → IVec S16 32) a x).toNat < S2x4x94x96.size a)
theorem k0_idx79_inb : ∀ (v33 : IVec S16 32) (v35 : IVec S16 32) (v63 : IVec S16 32) (v64 : IVec S16 32) (v112 : IVec S16 32) (k0_hw72 : k0_chk72 v33 v35 v63 v64 v112), ∀ a x, ((![v63, v64, v112, v33] : Fin 4 → IVec S16 32) a x).toNat < S2x4x94x96.size a := fun v33 v35 v63 v64 v112 k0_hw72 => k0_hw72.1
theorem k0_idx80_inb : ∀ (v33 : IVec S16 32) (v35 : IVec S16 32) (v63 : IVec S16 32) (v64 : IVec S16 32) (v112 : IVec S16 32) (k0_hw72 : k0_chk72 v33 v35 v63 v64 v112), ∀ a x, ((![v63, v64, v112, v35] : Fin 4 → IVec S16 32) a x).toNat < S2x4x94x96.size a := fun v33 v35 v63 v64 v112 k0_hw72 => k0_hw72.2

def k0_chk73 (v30 : IVec S16 32) (v63 : IVec S16 32) (v64 : IVec S16 32) (v113 : IVec S16 32) : Prop :=
  (∀ a x, ((![v63, v64, v113, v30] : Fin 4 → IVec S16 32) a x).toNat < S2x4x32x32.size a)
theorem k0_idx81_inb : ∀ (v30 : IVec S16 32) (v63 : IVec S16 32) (v64 : IVec S16 32) (v113 : IVec S16 32) (k0_hw73 : k0_chk73 v30 v63 v64 v113), ∀ a x, ((![v63, v64, v113, v30] : Fin 4 → IVec S16 32) a x).toNat < S2x4x32x32.size a := fun v30 v63 v64 v113 k0_hw73 => k0_hw73

def k0_chk74 (v63 : IVec S16 32) (v64 : IVec S16 32) (v113 : IVec S16 32) (v116 : IVec S16 32) : Prop :=
  (∀ a x, ((![v63, v64, v113, v116] : Fin 4 → IVec S16 32) a x).toNat < S2x4x32x32.size a)
theorem k0_idx82_inb : ∀ (v63 : IVec S16 32) (v64 : IVec S16 32) (v113 : IVec S16 32) (v116 : IVec S16 32) (k0_hw74 : k0_chk74 v63 v64 v113 v116), ∀ a x, ((![v63, v64, v113, v116] : Fin 4 → IVec S16 32) a x).toNat < S2x4x32x32.size a := fun v63 v64 v113 v116 k0_hw74 => k0_hw74

def k0_chk75 (v33 : IVec S16 32) (v35 : IVec S16 32) (v63 : IVec S16 32) (v64 : IVec S16 32) (v118 : IVec S16 32) : Prop :=
  (∀ a x, ((![v63, v64, v118, v33] : Fin 4 → IVec S16 32) a x).toNat < S2x4x94x96.size a) ∧
  (∀ a x, ((![v63, v64, v118, v35] : Fin 4 → IVec S16 32) a x).toNat < S2x4x94x96.size a)
theorem k0_idx83_inb : ∀ (v33 : IVec S16 32) (v35 : IVec S16 32) (v63 : IVec S16 32) (v64 : IVec S16 32) (v118 : IVec S16 32) (k0_hw75 : k0_chk75 v33 v35 v63 v64 v118), ∀ a x, ((![v63, v64, v118, v33] : Fin 4 → IVec S16 32) a x).toNat < S2x4x94x96.size a := fun v33 v35 v63 v64 v118 k0_hw75 => k0_hw75.1
theorem k0_idx84_inb : ∀ (v33 : IVec S16 32) (v35 : IVec S16 32) (v63 : IVec S16 32) (v64 : IVec S16 32) (v118 : IVec S16 32) (k0_hw75 : k0_chk75 v33 v35 v63 v64 v118), ∀ a x, ((![v63, v64, v118, v35] : Fin 4 → IVec S16 32) a x).toNat < S2x4x94x96.size a := fun v33 v35 v63 v64 v118 k0_hw75 => k0_hw75.2

def k0_chk76 (v30 : IVec S16 32) (v63 : IVec S16 32) (v64 : IVec S16 32) (v119 : IVec S16 32) : Prop :=
  (∀ a x, ((![v63, v64, v119, v30] : Fin 4 → IVec S16 32) a x).toNat < S2x4x32x32.size a)
theorem k0_idx85_inb : ∀ (v30 : IVec S16 32) (v63 : IVec S16 32) (v64 : IVec S16 32) (v119 : IVec S16 32) (k0_hw76 : k0_chk76 v30 v63 v64 v119), ∀ a x, ((![v63, v64, v119, v30] : Fin 4 → IVec S16 32) a x).toNat < S2x4x32x32.size a := fun v30 v63 v64 v119 k0_hw76 => k0_hw76

def k0_chk77 (v63 : IVec S16 32) (v64 : IVec S16 32) (v119 : IVec S16 32) (v122 : IVec S16 32) : Prop :=
  (∀ a x, ((![v63, v64, v119, v122] : Fin 4 → IVec S16 32) a x).toNat < S2x4x32x32.size a)
theorem k0_idx86_inb : ∀ (v63 : IVec S16 32) (v64 : IVec S16 32) (v119 : IVec S16 32) (v122 : IVec S16 32) (k0_hw77 : k0_chk77 v63 v64 v119 v122), ∀ a x, ((![v63, v64, v119, v122] : Fin 4 → IVec S16 32) a x).toNat < S2x4x32x32.size a := fun v63 v64 v119 v122 k0_hw77 => k0_hw77

def k0_chk78 (v33 : IVec S16 32) (v35 : IVec S16 32) (v63 : IVec S16 32) (v64 : IVec S16 32) (v124 : IVec S16 32) : Prop :=
  (∀ a x, ((![v63, v64, v124, v33] : Fin 4 → IVec S16 32) a x).toNat < S2x4x94x96.size a) ∧
  (∀ a x, ((![v63, v64, v124, v35] : Fin 4 → IVec S16 32) a x).toNat < S2x4x94x96.size a)
theorem k0_idx87_inb : ∀ (v33 : IVec S16 32) (v35 : IVec S16 32) (v63 : IVec S16 32) (v64 : IVec S16 32) (v124 : IVec S16 32) (k0_hw78 : k0_chk78 v33 v35 v63 v64 v124), ∀ a x, ((![v63, v64, v124, v33] : Fin 4 → IVec S16 32) a x).toNat < S2x4x94x96.size a := fun v33 v35 v63 v64 v124 k0_hw78 => k0_hw78.1
theorem k0_idx88_inb : ∀ (v33 : IVec S16 32) (v35 : IVec S16 32) (v63 : IVec S16 32) (v64 : IVec S16 32) (v124 : IVec S16 32) (k0_hw78 : k0_chk78 v33 v35 v63 v64 v124), ∀ a x, ((![v63, v64, v124, v35] : Fin 4 → IVec S16 32) a x).toNat < S2x4x94x96.size a := fun v33 v35 v63 v64 v124 k0_hw78 => k0_hw78.2

def k0_chk79 (v30 : IVec S16 32) (v63 : IVec S16 32) (v64 : IVec S16 32) (v125 : IVec S16 32) : Prop :=
  (∀ a x, ((![v63, v64, v125, v30] : Fin 4 → IVec S16 32) a x).toNat < S2x4x32x32.size a)
theorem k0_idx89_inb : ∀ (v30 : IVec S16 32) (v63 : IVec S16 32) (v64 : IVec S16 32) (v125 : IVec S16 32) (k0_hw79 : k0_chk79 v30 v63 v64 v125), ∀ a x, ((![v63, v64, v125, v30] : Fin 4 → IVec S16 32) a x).toNat < S2x4x32x32.size a := fun v30 v63 v64 v125 k0_hw79 => k0_hw79

def k0_chk80 (v63 : IVec S16 32) (v64 : IVec S16 32) (v125 : IVec S16 32) (v128 : IVec S16 32) : Prop :=
  (∀ a x, ((![v63, v64, v125, v128] : Fin 4 → IVec S16 32) a x).toNat < S2x4x32x32.size a)
theorem k0_idx90_inb : ∀ (v63 : IVec S16 32) (v64 : IVec S16 32) (v125 : IVec S16 32) (v128 : IVec S16 32) (k0_hw80 : k0_chk80 v63 v64 v125 v128), ∀ a x, ((![v63, v64, v125, v128] : Fin 4 → IVec S16 32) a x).toNat < S2x4x32x32.size a := fun v63 v64 v125 v128 k0_hw80 => k0_hw80

def k0_chk81 (v33 : IVec S16 32) (v35 : IVec S16 32) (v63 : IVec S16 32) (v64 : IVec S16 32) (v130 : IVec S16 32) : Prop :=
  (∀ a x, ((![v63, v64, v130, v33] : Fin 4 → IVec S16 32) a x).toNat < S2x4x94x96.size a) ∧
  (∀ a x, ((![v63, v64, v130, v35] : Fin 4 → IVec S16 32) a x).toNat < S2x4x94x96.size a)
theorem k0_idx91_inb : ∀ (v33 : IVec S16 32) (v35 : IVec S16 32) (v63 : IVec S16 32) (v64 : IVec S16 32) (v130 : IVec S16 32) (k0_hw81 : k0_chk81 v33 v35 v63 v64 v130), ∀ a x, ((![v63, v64, v130, v33] : Fin 4 → IVec S16 32) a x).toNat < S2x4x94x96.size a := fun v33 v35 v63 v64 v130 k0_hw81 => k0_hw81.1
theorem k0_idx92_inb : ∀ (v33 : IVec S16 32) (v35 : IVec S16 32) (v63 : IVec S16 32) (v64 : IVec S16 32) (v130 : IVec S16 32) (k0_hw81 : k0_chk81 v33 v35 v63 v64 v130), ∀ a x, ((![v63, v64, v130, v35] : Fin 4 → IVec S16 32) a x).toNat < S2x4x94x96.size a := fun v33 v35 v63 v64 v130 k0_hw81 => k0_hw81.2

def k0_chk82 (v30 : IVec S16 32) (v63 : IVec S16 32) (v64 : IVec S16 32) (v131 : IVec S16 32) : Prop :=
  (∀ a x, ((![v63, v64, v131, v30] : Fin 4 → IVec S16 32) a x).toNat < S2x4x32x32.size a)
theorem k0_idx93_inb : ∀ (v30 : IVec S16 32) (v63 : IVec S16 32) (v64 : IVec S16 32) (v131 : IVec S16 32) (k0_hw82 : k0_chk82 v30 v63 v64 v131), ∀ a x, ((![v63, v64, v131, v30] : Fin 4 → IVec S16 32) a x).toNat < S2x4x32x32.size a := fun v30 v63 v64 v131 k0_hw82 => k0_hw82

def k0_chk83 (v63 : IVec S16 32) (v64 : IVec S16 32) (v131 : IVec S16 32) (v134 : IVec S16 32) : Prop :=
  (∀ a x, ((![v63, v64, v131, v134] : Fin 4 → IVec S16 32) a x).toNat < S2x4x32x32.size a)
theorem k0_idx94_inb : ∀ (v63 : IVec S16 32) (v64 : IVec S16 32) (v131 : IVec S16 32) (v134 : IVec S16 32) (k0_hw83 : k0_chk83 v63 v64 v131 v134), ∀ a x, ((![v63, v64, v131, v134] : Fin 4 → IVec S16 32) a x).toNat < S2x4x32x32.size a := fun v63 v64 v131 v134 k0_hw83 => k0_hw83

def k0_chk84 (v33 : IVec S16 32) (v35 : IVec S16 32) (v63 : IVec S16 32) (v64 : IVec S16 32) (v136 : IVec S16 32) : Prop :=
  (∀ a x, ((![v63, v64, v136, v33] : Fin 4 → IVec S16 32) a x).toNat < S2x4x94x96.size a) ∧
  (∀ a x, ((![v63, v64, v136, v35] : Fin 4 → IVec S16 32) a x).toNat < S2x4x94x96.size a)
theorem k0_idx95_inb : ∀ (v33 : IVec S16 32) (v35 : IVec S16 32) (v63 : IVec S16 32) (v64 : IVec S16 32) (v136 : IVec S16 32) (k0_hw84 : k0_chk84 v33 v35 v63 v64 v136), ∀ a x, ((![v63, v64, v136, v33] : Fin 4 → IVec S16 32) a x).toNat < S2x4x94x96.size a := fun v33 v35 v63 v64 v136 k0_hw84 => k0_hw84.1
theorem k0_idx96_inb : ∀ (v33 : IVec S16 32) (v35 : IVec S16 32) (v63 : IVec S16 32) (v64 : IVec S16 32) (v136 : IVec S16 32) (k0_hw84 : k0_chk84 v33 v35 v63 v64 v136), ∀ a x, ((![v63, v64, v136, v35] : Fin 4 → IVec S16 32) a x).toNat < S2x4x94x96.size a := fun v33 v35 v63 v64 v136 k0_hw84 => k0_hw84.2

def k0_chk85 (v30 : IVec S16 32) (v63 : IVec S16 32) (v64 : IVec S16 32) (v137 : IVec S16 32) : Prop :=
  (∀ a x, ((![v63, v64, v137, v30] : Fin 4 → IVec S16 32) a x).toNat < S2x4x32x32.size a)
theorem k0_idx97_inb : ∀ (v30 : IVec S16 32) (v63 : IVec S16 32) (v64 : IVec S16 32) (v137 : IVec S16 32) (k0_hw85 : k0_chk85 v30 v63 v64 v137), ∀ a x, ((![v63, v64, v137, v30] : Fin 4 → IVec S16 32) a x).toNat < S2x4x32x32.size a := fun v30 v63 v64 v137 k0_hw85 => k0_hw85

def k0_chk86 (v63 : IVec S16 32) (v64 : IVec S16 32) (v137 : IVec S16 32) (v140 : IVec S16 32) : Prop :=
  (∀ a x, ((![v63, v64, v137, v140] : Fin 4 → IVec S16 32) a x).toNat < S2x4x32x32.size a)
theorem k0_idx98_inb : ∀ (v63 : IVec S16 32) (v64 : IVec S16 32) (v137 : IVec S16 32) (v140 : IVec S16 32) (k0_hw86 : k0_chk86 v63 v64 v137 v140), ∀ a x, ((![v63, v64, v137, v140] : Fin 4 → IVec S16 32) a x).toNat < S2x4x32x32.size a := fun v63 v64 v137 v140 k0_hw86 => k0_hw86

def k0_chk87 (v33 : IVec S16 32) (v35 : IVec S16 32) (v63 : IVec S16 32) (v64 : IVec S16 32) (v142 : IVec S16 32) : Prop :=
  (∀ a x, ((![v63, v64, v142, v33] : Fin 4 → IVec S16 32) a x).toNat < S2x4x94x96.size a) ∧
  (∀ a x, ((![v63, v64, v142, v35] : Fin 4 → IVec S16 32) a x).toNat < S2x4x94x96.size a)
theorem k0_idx99_inb : ∀ (v33 : IVec S16 32) (v35 : IVec S16 32) (v63 : IVec S16 32) (v64 : IVec S16 32) (v142 : IVec S16 32) (k0_hw87 : k0_chk87 v33 v35 v63 v64 v142), ∀ a x, ((![v63, v64, v142, v33] : Fin 4 → IVec S16 32) a x).toNat < S2x4x94x96.size a := fun v33 v35 v63 v64 v142 k0_hw87 => k0_hw87.1
theorem k0_idx100_inb : ∀ (v33 : IVec S16 32) (v35 : IVec S16 32) (v63 : IVec S16 32) (v64 : IVec S16 32) (v142 : IVec S16 32) (k0_hw87 : k0_chk87 v33 v35 v63 v64 v142), ∀ a x, ((![v63, v64, v142, v35] : Fin 4 → IVec S16 32) a x).toNat < S2x4x94x96.size a := fun v33 v35 v63 v64 v142 k0_hw87 => k0_hw87.2

def k0_chk88 (v30 : IVec S16 32) (v63 : IVec S16 32) (v64 : IVec S16 32) (v143 : IVec S16 32) : Prop :=
  (∀ a x, ((![v63, v64, v143, v30] : Fin 4 → IVec S16 32) a x).toNat < S2x4x32x32.size a)
theorem k0_idx101_inb : ∀ (v30 : IVec S16 32) (v63 : IVec S16 32) (v64 : IVec S16 32) (v143 : IVec S16 32) (k0_hw88 : k0_chk88 v30 v63 v64 v143), ∀ a x, ((![v63, v64, v143, v30] : Fin 4 → IVec S16 32) a x).toNat < S2x4x32x32.size a := fun v30 v63 v64 v143 k0_hw88 => k0_hw88

def k0_chk89 (v63 : IVec S16 32) (v64 : IVec S16 32) (v143 : IVec S16 32) (v146 : IVec S16 32) : Prop :=
  (∀ a x, ((![v63, v64, v143, v146] : Fin 4 → IVec S16 32) a x).toNat < S2x4x32x32.size a)
theorem k0_idx102_inb : ∀ (v63 : IVec S16 32) (v64 : IVec S16 32) (v143 : IVec S16 32) (v146 : IVec S16 32) (k0_hw89 : k0_chk89 v63 v64 v143 v146), ∀ a x, ((![v63, v64, v143, v146] : Fin 4 → IVec S16 32) a x).toNat < S2x4x32x32.size a := fun v63 v64 v143 v146 k0_hw89 => k0_hw89

def k0_chk90 (v33 : IVec S16 32) (v35 : IVec S16 32) (v63 : IVec S16 32) (v64 : IVec S16 32) (v148 : IVec S16 32) : Prop :=
  (∀ a x, ((![v63, v64, v148, v33] : Fin 4 → IVec S16 32) a x).toNat < S2x4x94x96.size a) ∧
  (∀ a x, ((![v63, v64, v148, v35] : Fin 4 → IVec S16 32) a x).toNat < S2x4x94x96.size a)
theorem k0_idx103_inb : ∀ (v33 : IVec S16 32) (v35 : IVec S16 32) (v63 : IVec S16 32) (v64 : IVec S16 32) (v148 : IVec S16 32) (k0_hw90 : k0_chk90 v33 v35 v63 v64 v148), ∀ a x, ((![v63, v64, v148, v33] : Fin 4 → IVec S16 32) a x).toNat < S2x4x94x96.size a := fun v33 v35 v63 v64 v148 k0_hw90 => k0_hw90.1
theorem k0_idx104_inb : ∀ (v33 : IVec S16 32) (v35 : IVec S16 32) (v63 : IVec S16 32) (v64 : IVec S16 32) (v148 : IVec S16 32) (k0_hw90 : k0_chk90 v33 v35 v63 v64 v148), ∀ a x, ((![v63, v64, v148, v35] : Fin 4 → IVec S16 32) a x).toNat < S2x4x94x96.size a := fun v33 v35 v63 v64 v148 k0_hw90 => k0_hw90.2

def k0_chk91 (v30 : IVec S16 32) (v63 : IVec S16 32) (v64 : IVec S16 32) (v149 : IVec S16 32) : Prop :=
  (∀ a x, ((![v63, v64, v149, v30] : Fin 4 → IVec S16 32) a x).toNat < S2x4x32x32.size a)
theorem k0_idx105_inb : ∀ (v30 : IVec S16 32) (v63 : IVec S16 32) (v64 : IVec S16 32) (v149 : IVec S16 32) (k0_hw91 : k0_chk91 v30 v63 v64 v149), ∀ a x, ((![v63, v64, v149, v30] : Fin 4 → IVec S16 32) a x).toNat < S2x4x32x32.size a := fun v30 v63 v64 v149 k0_hw91 => k0_hw91

def k0_chk92 (v63 : IVec S16 32) (v64 : IVec S16 32) (v149 : IVec S16 32) (v152 : IVec S16 32) : Prop :=
  (∀ a x, ((![v63, v64, v149, v152] : Fin 4 → IVec S16 32) a x).toNat < S2x4x32x32.size a)
theorem k0_idx106_inb : ∀ (v63 : IVec S16 32) (v64 : IVec S16 32) (v149 : IVec S16 32) (v152 : IVec S16 32) (k0_hw92 : k0_chk92 v63 v64 v149 v152), ∀ a x, ((![v63, v64, v149, v152] : Fin 4 → IVec S16 32) a x).toNat < S2x4x32x32.size a := fun v63 v64 v149 v152 k0_hw92 => k0_hw92

def k0_chk93 (v33 : IVec S16 32) (v35 : IVec S16 32) (v63 : IVec S16 32) (v64 : IVec S16 32) (v154 : IVec S16 32) : Prop :=
  (∀ a x, ((![v63, v64, v154, v33] : Fin 4 → IVec S16 32) a x).toNat < S2x4x94x96.size a) ∧
  (∀ a x, ((![v63, v64, v154, v35] : Fin 4 → IVec S16 32) a x).toNat < S2x4x94x96.size a)
theorem k0_idx107_inb : ∀ (v33 : IVec S16 32) (v35 : IVec S16 32) (v63 : IVec S16 32) (v64 : IVec S16 32) (v154 : IVec S16 32) (k0_hw93 : k0_chk93 v33 v35 v63 v64 v154), ∀ a x, ((![v63, v64, v154, v33] : Fin 4 → IVec S16 32) a x).toNat < S2x4x94x96.size a := fun v33 v35 v63 v64 v154 k0_hw93 => k0_hw93.1
theorem k0_idx108_inb : ∀ (v33 : IVec S16 32) (v35 : IVec S16 32) (v63 : IVec S16 32) (v64 : IVec S16 32) (v154 : IVec S16 32) (k0_hw93 : k0_chk93 v33 v35 v63 v64 v154), ∀ a x, ((![v63, v64, v154, v35] : Fin 4 → IVec S16 32) a x).toNat < S2x4x94x96.size a := fun v33 v35 v63 v64 v154 k0_hw93 => k0_hw93.2

def k0_chk94 (v30 : IVec S16 32) (v63 : IVec S16 32) (v64 : IVec S16 32) (v155 : IVec S16 32) : Prop :=
  (∀ a x, ((![v63, v64, v155, v30] : Fin 4 → IVec S16 32) a x).toNat < S2x4x32x32.size a)
theorem k0_idx109_inb : ∀ (v30 : IVec S16 32) (v63 : IVec S16 32) (v64 : IVec S16 32) (v155 : IVec S16 32) (k0_hw94 : k0_chk94 v30 v63 v64 v155), ∀ a x, ((![v63, v64, v155, v30] : Fin 4 → IVec S16 32) a x).toNat < S2x4x32x32.size a := fun v30 v63 v64 v155 k0_hw94 => k0_hw94

def k0_chk95 (v63 : IVec S16 32) (v64 : IVec S16 32) (v155 : IVec S16 32) (v158 : IVec S16 32) : Prop :=
  (∀ a x, ((![v63, v64, v155, v158] : Fin 4 → IVec S16 32) a x).toNat < S2x4x32x32.size a)
theorem k0_idx110_inb : ∀ (v63 : IVec S16 32) (v64 : IVec S16 32) (v155 : IVec S16 32) (v158 : IVec S16 32) (k0_hw95 : k0_chk95 v63 v64 v155 v158), ∀ a x, ((![v63, v64, v155, v158] : Fin 4 → IVec S16 32) a x).toNat < S2x4x32x32.size a := fun v63 v64 v155 v158 k0_hw95 => k0_hw95

def k0_chk96 (v33 : IVec S16 32) (v35 : IVec S16 32) (v63 : IVec S16 32) (v64 : IVec S16 32) (v160 : IVec S16 32) : Prop :=
  (∀ a x, ((![v63, v64, v160, v33] : Fin 4 → IVec S16 32) a x).toNat < S2x4x94x96.size a) ∧
  (∀ a x, ((![v63, v64, v160, v35] : Fin 4 → IVec S16 32) a x).toNat < S2x4x94x96.size a)
theorem k0_idx111_inb : ∀ (v33 : IVec S16 32) (v35 : IVec S16 32) (v63 : IVec S16 32) (v64 : IVec S16 32) (v160 : IVec S16 32) (k0_hw96 : k0_chk96 v33 v35 v63 v64 v160), ∀ a x, ((![v63, v64, v160, v33] : Fin 4 → IVec S16 32) a x).toNat < S2x4x94x96.size a := fun v33 v35 v63 v64 v160 k0_hw96 => k0_hw96.1
theorem k0_idx112_inb : ∀ (v33 : IVec S16 32) (v35 : IVec S16 32) (v63 : IVec S16 32) (v64 : IVec S16 32) (v160 : IVec S16 32) (k0_hw96 : k0_chk96 v33 v35 v63 v64 v160), ∀ a x, ((![v63, v64, v160, v35] : Fin 4 → IVec S16 32) a x).toNat < S2x4x94x96.size a := fun v33 v35 v63 v64 v160 k0_hw96 => k0_hw96.2

def k0_chk97 (v30 : IVec S16 32) (v63 : IVec S16 32) (v64 : IVec S16 32) (v161 : IVec S16 32) : Prop :=
  (∀ a x, ((![v63, v64, v161, v30] : Fin 4 → IVec S16 32) a x).toNat < S2x4x32x32.size a)
theorem k0_idx113_inb : ∀ (v30 : IVec S16 32) (v63 : IVec S16 32) (v64 : IVec S16 32) (v161 : IVec S16 32) (k0_hw97 : k0_chk97 v30 v63 v64 v161), ∀ a x, ((![v63, v64, v161, v30] : Fin 4 → IVec S16 32) a x).toNat < S2x4x32x32.size a := fun v30 v63 v64 v161 k0_hw97 => k0_hw97

def k0_chk98 (v63 : IVec S16 32) (v64 : IVec S16 32) (v161 : IVec S16 32) (v164 : IVec S16 32) : Prop :=
  (∀ a x, ((![v63, v64, v161, v164] : Fin 4 → IVec S16 32) a x).toNat < S2x4x32x32.size a)
theorem k0_idx114_inb : ∀ (v63 : IVec S16 32) (v64 : IVec S16 32) (v161 : IVec S16 32) (v164 : IVec S16 32) (k0_hw98 : k0_chk98 v63 v64 v161 v164), ∀ a x, ((![v63, v64, v161, v164] : Fin 4 → IVec S16 32) a x).toNat < S2x4x32x32.size a := fun v63 v64 v161 v164 k0_hw98 => k0_hw98

def k0_chk99 (v33 : IVec S16 32) (v35 : IVec S16 32) (v63 : IVec S16 32) (v64 : IVec S16 32) (v166 : IVec S16 32) : Prop :=
  (∀ a x, ((![v63, v64, v166, v33] : Fin 4 → IVec S16 32) a x).toNat < S2x4x94x96.size a) ∧
  (∀ a x, ((![v63, v64, v166, v35] : Fin 4 → IVec S16 32) a x).toNat < S2x4x94x96.size a)
theorem k0_idx115_inb : ∀ (v33 : IVec S16 32) (v35 : IVec S16 32) (v63 : IVec S16 32) (v64 : IVec S16 32) (v166 : IVec S16 32) (k0_hw99 : k0_chk99 v33 v35 v63 v64 v166), ∀ a x, ((![v63, v64, v166, v33] : Fin 4 → IVec S16 32) a x).toNat < S2x4x94x96.size a := fun v33 v35 v63 v64 v166 k0_hw99 => k0_hw99.1
theorem k0_idx116_inb : ∀ (v33 : IVec S16 32) (v35 : IVec S16 32) (v63 : IVec S16 32) (v64 : IVec S16 32) (v166 : IVec S16 32) (k0_hw99 : k0_chk99 v33 v35 v63 v64 v166), ∀ a x, ((![v63, v64, v166, v35] : Fin 4 → IVec S16 32) a x).toNat < S2x4x94x96.size a := fun v33 v35 v63 v64 v166 k0_hw99 => k0_hw99.2

def k0_chk100 (v30 : IVec S16 32) (v63 : IVec S16 32) (v64 : IVec S16 32) (v167 : IVec S16 32) : Prop :=
  (∀ a x, ((![v63, v64, v167, v30] : Fin 4 → IVec S16 32) a x).toNat < S2x4x32x32.size a)
theorem k0_idx117_inb : ∀ (v30 : IVec S16 32) (v63 : IVec S16 32) (v64 : IVec S16 32) (v167 : IVec S16 32) (k0_hw100 : k0_chk100 v30 v63 v64 v167), ∀ a x, ((![v63, v64, v167, v30] : Fin 4 → IVec S16 32) a x).toNat < S2x4x32x32.size a := fun v30 v63 v64 v167 k0_hw100 => k0_hw100

def k0_chk101 (v63 : IVec S16 32) (v64 : IVec S16 32) (v167 : IVec S16 32) (v170 : IVec S16 32) : Prop :=
  (∀ a x, ((![v63, v64, v167, v170] : Fin 4 → IVec S16 32) a x).toNat < S2x4x32x32.size a)
theorem k0_idx118_inb : ∀ (v63 : IVec S16 32) (v64 : IVec S16 32) (v167 : IVec S16 32) (v170 : IVec S16 32) (k0_hw101 : k0_chk101 v63 v64 v167 v170), ∀ a x, ((![v63, v64, v167, v170] : Fin 4 → IVec S16 32) a x).toNat < S2x4x32x32.size a := fun v63 v64 v167 v170 k0_hw101 => k0_hw101

def k0_chk102 (v33 : IVec S16 32) (v35 : IVec S16 32) (v63 : IVec S16 32) (v64 : IVec S16 32) (v172 : IVec S16 32) : Prop :=
  (∀ a x, ((![v63, v64, v172, v33] : Fin 4 → IVec S16 32) a x).toNat < S2x4x94x96.size a) ∧
  (∀ a x, ((![v63, v64, v172, v35] : Fin 4 → IVec S16 32) a x).toNat < S2x4x94x96.size a)
theorem k0_idx119_inb : ∀ (v33 : IVec S16 32) (v35 : IVec S16 32) (v63 : IVec S16 32) (v64 : IVec S16 32) (v172 : IVec S16 32) (k0_hw102 : k0_chk102 v33 v35 v63 v64 v172), ∀ a x, ((![v63, v64, v172, v33] : Fin 4 → IVec S16 32) a x).toNat < S2x4x94x96.size a := fun v33 v35 v63 v64 v172 k0_hw102 => k0_hw102.1
theorem k0_idx120_inb : ∀ (v33 : IVec S16 32) (v35 : IVec S16 32) (v63 : IVec S16 32) (v64 : IVec S16 32) (v172 : IVec S16 32) (k0_hw102 : k0_chk102 v33 v35 v63 v64 v172), ∀ a x, ((![v63, v64, v172, v35] : Fin 4 → IVec S16 32) a x).toNat < S2x4x94x96.size a := fun v33 v35 v63 v64 v172 k0_hw102 => k0_hw102.2

def k0_chk103 (v30 : IVec S16 32) (v63 : IVec S16 32) (v64 : IVec S16 32) (v173 : IVec S16 32) : Prop :=
  (∀ a x, ((![v63, v64, v173, v30] : Fin 4 → IVec S16 32) a x).toNat < S2x4x32x32.size a)
theorem k0_idx121_inb : ∀ (v30 : IVec S16 32) (v63 : IVec S16 32) (v64 : IVec S16 32) (v173 : IVec S16 32) (k0_hw103 : k0_chk103 v30 v63 v64 v173), ∀ a x, ((![v63, v64, v173, v30] : Fin 4 → IVec S16 32) a x).toNat < S2x4x32x32.size a := fun v30 v63 v64 v173 k0_hw103 => k0_hw103

def k0_chk104 (v63 : IVec S16 32) (v64 : IVec S16 32) (v173 : IVec S16 32) (v176 : IVec S16 32) : Prop :=
  (∀ a x, ((![v63, v64, v173, v176] : Fin 4 → IVec S16 32) a x).toNat < S2x4x32x32.size a)
theorem k0_idx122_inb : ∀ (v63 : IVec S16 32) (v64 : IVec S16 32) (v173 : IVec S16 32) (v176 : IVec S16 32) (k0_hw104 : k0_chk104 v63 v64 v173 v176), ∀ a x, ((![v63, v64, v173, v176] : Fin 4 → IVec S16 32) a x).toNat < S2x4x32x32.size a := fun v63 v64 v173 v176 k0_hw104 => k0_hw104

def k0_chk105 (v33 : IVec S16 32) (v35 : IVec S16 32) (v63 : IVec S16 32) (v64 : IVec S16 32) (v178 : IVec S16 32) : Prop :=
  (∀ a x, ((![v63, v64, v178, v33] : Fin 4 → IVec S16 32) a x).toNat < S2x4x94x96.size a) ∧
  (∀ a x, ((![v63, v64, v178, v35] : Fin 4 → IVec S16 32) a x).toNat < S2x4x94x96.size a)
theorem k0_idx123_inb : ∀ (v33 : IVec S16 32) (v35 : IVec S16 32) (v63 : IVec S16 32) (v64 : IVec S16 32) (v178 : IVec S16 32) (k0_hw105 : k0_chk105 v33 v35 v63 v64 v178), ∀ a x, ((![v63, v64, v178, v33] : Fin 4 → IVec S16 32) a x).toNat < S2x4x94x96.size a := fun v33 v35 v63 v64 v178 k0_hw105 => k0_hw105.1
theorem k0_idx124_inb : ∀ (v33 : IVec S16 32) (v35 : IVec S16 32) (v63 : IVec S16 32) (v64 : IVec S16 32) (v178 : IVec S16 32) (k0_hw105 : k0_chk105 v33 v35 v63 v64 v178), ∀ a x, ((![v63, v64, v178, v35] : Fin 4 → IVec S16 32) a x).toNat < S2x4x94x96.size a := fun v33 v35 v63 v64 v178 k0_hw105 => k0_hw105.2

def k0_chk106 (v30 : IVec S16 32) (v63 : IVec S16 32) (v64 : IVec S16 32) (v179 : IVec S16 32) : Prop :=
  (∀ a x, ((![v63, v64, v179, v30] : Fin 4 → IVec S16 32) a x).toNat < S2x4x32x32.size a)
theorem k0_idx125_inb : ∀ (v30 : IVec S16 32) (v63 : IVec S16 32) (v64 : IVec S16 32) (v179 : IVec S16 32) (k0_hw106 : k0_chk106 v30 v63 v64 v179), ∀ a x, ((![v63, v64, v179, v30] : Fin 4 → IVec S16 32) a x).toNat < S2x4x32x32.size a := fun v30 v63 v64 v179 k0_hw106 => k0_hw106

def k0_chk107 (v63 : IVec S16 32) (v64 : IVec S16 32) (v179 : IVec S16 32) (v182 : IVec S16 32) : Prop :=
  (∀ a x, ((![v63, v64, v179, v182] : Fin 4 → IVec S16 32) a x).toNat < S2x4x32x32.size a)
theorem k0_idx126_inb : ∀ (v63 : IVec S16 32) (v64 : IVec S16 32) (v179 : IVec S16 32) (v182 : IVec S16 32) (k0_hw107 : k0_chk107 v63 v64 v179 v182), ∀ a x, ((![v63, v64, v179, v182] : Fin 4 → IVec S16 32) a x).toNat < S2x4x32x32.size a := fun v63 v64 v179 v182 k0_hw107 => k0_hw107

def k0_chk108 (v33 : IVec S16 32) (v35 : IVec S16 32) (v63 : IVec S16 32) (v64 : IVec S16 32) (v184 : IVec S16 32) : Prop :=
  (∀ a x, ((![v63, v64, v184, v33] : Fin 4 → IVec S16 32) a x).toNat < S2x4x94x96.size a) ∧
  (∀ a x, ((![v63, v64, v184, v35] : Fin 4 → IVec S16 32) a x).toNat < S2x4x94x96.size a)
theorem k0_idx127_inb : ∀ (v33 : IVec S16 32) (v35 : IVec S16 32) (v63 : IVec S16 32) (v64 : IVec S16 32) (v184 : IVec S16 32) (k0_hw108 : k0_chk108 v33 v35 v63 v64 v184), ∀ a x, ((![v63, v64, v184, v33] : Fin 4 → IVec S16 32) a x).toNat < S2x4x94x96.size a := fun v33 v35 v63 v64 v184 k0_hw108 => k0_hw108.1
theorem k0_idx128_inb : ∀ (v33 : IVec S16 32) (v35 : IVec S16 32) (v63 : IVec S16 32) (v64 : IVec S16 32) (v184 : IVec S16 32) (k0_hw108 : k0_chk108 v33 v35 v63 v64 v184), ∀ a x, ((![v63, v64, v184, v35] : Fin 4 → IVec S16 32) a x).toNat < S2x4x94x96.size a := fun v33 v35 v63 v64 v184 k0_hw108 => k0_hw108.2

def k0_chk109 (v30 : IVec S16 32) (v63 : IVec S16 32) (v64 : IVec S16 32) (v185 : IVec S16 32) : Prop :=
  (∀ a x, ((![v63, v64, v185, v30] : Fin 4 → IVec S16 32) a x).toNat < S2x4x32x32.size a)
theorem k0_idx129_inb : ∀ (v30 : IVec S16 32) (v63 : IVec S16 32) (v64 : IVec S16 32) (v185 : IVec S16 32) (k0_hw109 : k0_chk109 v30 v63 v64 v185), ∀ a x, ((![v63, v64, v185, v30] : Fin 4 → IVec S16 32) a x).toNat < S2x4x32x32.size a := fun v30 v63 v64 v185 k0_hw109 => k0_hw109

def k0_chk110 (v63 : IVec S16 32) (v64 : IVec S16 32) (v185 : IVec S16 32) (v188 : IVec S16 32) : Prop :=
  (∀ a x, ((![v63, v64, v185, v188] : Fin 4 → IVec S16 32) a x).toNat < S2x4x32x32.size a)
theorem k0_idx130_inb : ∀ (v63 : IVec S16 32) (v64 : IVec S16 32) (v185 : IVec S16 32) (v188 : IVec S16 32) (k0_hw110 : k0_chk110 v63 v64 v185 v188), ∀ a x, ((![v63, v64, v185, v188] : Fin 4 → IVec S16 32) a x).toNat < S2x4x32x32.size a := fun v63 v64 v185 v188 k0_hw110 => k0_hw110

def k0_chk111 (v33 : IVec S16 32) (v35 : IVec S16 32) (v63 : IVec S16 32) (v64 : IVec S16 32) (v190 : IVec S16 32) : Prop :=
  (∀ a x, ((![v63, v64, v190, v33] : Fin 4 → IVec S16 32) a x).toNat < S2x4x94x96.size a) ∧
  (∀ a x, ((![v63, v64, v190, v35] : Fin 4 → IVec S16 32) a x).toNat < S2x4x94x96.size a)
theorem k0_idx131_inb : ∀ (v33 : IVec S16 32) (v35 : IVec S16 32) (v63 : IVec S16 32) (v64 : IVec S16 32) (v190 : IVec S16 32) (k0_hw111 : k0_chk111 v33 v35 v63 v64 v190), ∀ a x, ((![v63, v64, v190, v33] : Fin 4 → IVec S16 32) a x).toNat < S2x4x94x96.size a := fun v33 v35 v63 v64 v190 k0_hw111 => k0_hw111.1
theorem k0_idx132_inb : ∀ (v33 : IVec S16 32) (v35 : IVec S16 32) (v63 : IVec S16 32) (v64 : IVec S16 32) (v190 : IVec S16 32) (k0_hw111 : k0_chk111 v33 v35 v63 v64 v190), ∀ a x, ((![v63, v64, v190, v35] : Fin 4 → IVec S16 32) a x).toNat < S2x4x94x96.size a := fun v33 v35 v63 v64 v190 k0_hw111 => k0_hw111.2

def k0_chk112 (v30 : IVec S16 32) (v63 : IVec S16 32) (v64 : IVec S16 32) (v191 : IVec S16 32) : Prop :=
  (∀ a x, ((![v63, v64, v191, v30] : Fin 4 → IVec S16 32) a x).toNat < S2x4x32x32.size a)
theorem k0_idx133_inb : ∀ (v30 : IVec S16 32) (v63 : IVec S16 32) (v64 : IVec S16 32) (v191 : IVec S16 32) (k0_hw112 : k0_chk112 v30 v63 v64 v191), ∀ a x, ((![v63, v64, v191, v30] : Fin 4 → IVec S16 32) a x).toNat < S2x4x32x32.size a := fun v30 v63 v64 v191 k0_hw112 => k0_hw112

def k0_chk113 (v63 : IVec S16 32) (v64 : IVec S16 32) (v191 : IVec S16 32) (v194 : IVec S16 32) : Prop :=
  (∀ a x, ((![v63, v64, v191, v194] : Fin 4 → IVec S16 32) a x).toNat < S2x4x32x32.size a)
theorem k0_idx134_inb : ∀ (v63 : IVec S16 32) (v64 : IVec S16 32) (v191 : IVec S16 32) (v194 : IVec S16 32) (k0_hw113 : k0_chk113 v63 v64 v191 v194), ∀ a x, ((![v63, v64, v191, v194] : Fin 4 → IVec S16 32) a x).toNat < S2x4x32x32.size a := fun v63 v64 v191 v194 k0_hw113 => k0_hw113

def k0_chk114 (v33 : IVec S16 32) (v35 : IVec S16 32) (v63 : IVec S16 32) (v64 : IVec S16 32) (v196 : IVec S16 32) : Prop :=
  (∀ a x, ((![v63, v64, v196, v33] : Fin 4 → IVec S16 32) a x).toNat < S2x4x94x96.size a) ∧
  (∀ a x, ((![v63, v64, v196, v35] : Fin 4 → IVec S16 32) a x).toNat < S2x4x94x96.size a)
theorem k0_idx135_inb : ∀ (v33 : IVec S16 32) (v35 : IVec S16 32) (v63 : IVec S16 32) (v64 : IVec S16 32) (v196 : IVec S16 32) (k0_hw114 : k0_chk114 v33 v35 v63 v64 v196), ∀ a x, ((![v63, v64, v196, v33] : Fin 4 → IVec S16 32) a x).toNat < S2x4x94x96.size a := fun v33 v35 v63 v64 v196 k0_hw114 => k0_hw114.1
theorem k0_idx136_inb : ∀ (v33 : IVec S16 32) (v35 : IVec S16 32) (v63 : IVec S16 32) (v64 : IVec S16 32) (v196 : IVec S16 32) (k0_hw114 : k0_chk114 v33 v35 v63 v64 v196), ∀ a x, ((![v63, v64, v196, v35] : Fin 4 → IVec S16 32) a x).toNat < S2x4x94x96.size a := fun v33 v35 v63 v64 v196 k0_hw114 => k0_hw114.2

def k0_chk115 (v30 : IVec S16 32) (v63 : IVec S16 32) (v64 : IVec S16 32) (v197 : IVec S16 32) : Prop :=
  (∀ a x, ((![v63, v64, v197, v30] : Fin 4 → IVec S16 32) a x).toNat < S2x4x32x32.size a)
theorem k0_idx137_inb : ∀ (v30 : IVec S16 32) (v63 : IVec S16 32) (v64 : IVec S16 32) (v197 : IVec S16 32) (k0_hw115 : k0_chk115 v30 v63 v64 v197), ∀ a x, ((![v63, v64, v197, v30] : Fin 4 → IVec S16 32) a x).toNat < S2x4x32x32.size a := fun v30 v63 v64 v197 k0_hw115 => k0_hw115

def k0_chk116 (v63 : IVec S16 32) (v64 : IVec S16 32) (v197 : IVec S16 32) (v200 : IVec S16 32) : Prop :=
  (∀ a x, ((![v63, v64, v197, v200] : Fin 4 → IVec S16 32) a x).toNat < S2x4x32x32.size a)
theorem k0_idx138_inb : ∀ (v63 : IVec S16 32) (v64 : IVec S16 32) (v197 : IVec S16 32) (v200 : IVec S16 32) (k0_hw116 : k0_chk116 v63 v64 v197 v200), ∀ a x, ((![v63, v64, v197, v200] : Fin 4 → IVec S16 32) a x).toNat < S2x4x32x32.size a := fun v63 v64 v197 v200 k0_hw116 => k0_hw116

def k0_chk117 (v33 : IVec S16 32) (v35 : IVec S16 32) (v63 : IVec S16 32) (v64 : IVec S16 32) (v202 : IVec S16 32) : Prop :=
  (∀ a x, ((![v63, v64, v202, v33] : Fin 4 → IVec S16 32) a x).toNat < S2x4x94x96.size a) ∧
  (∀ a x, ((![v63, v64, v202, v35] : Fin 4 → IVec S16 32) a x).toNat < S2x4x94x96.size a)
theorem k0_idx139_inb : ∀ (v33 : IVec S16 32) (v35 : IVec S16 32) (v63 : IVec S16 32) (v64 : IVec S16 32) (v202 : IVec S16 32) (k0_hw117 : k0_chk117 v33 v35 v63 v64 v202), ∀ a x, ((![v63, v64, v202, v33] : Fin 4 → IVec S16 32) a x).toNat < S2x4x94x96.size a := fun v33 v35 v63 v64 v202 k0_hw117 => k0_hw117.1
theorem k0_idx140_inb : ∀ (v33 : IVec S16 32) (v35 : IVec S16 32) (v63 : IVec S16 32) (v64 : IVec S16 32) (v202 : IVec S16 32) (k0_hw117 : k0_chk117 v33 v35 v63 v64 v202), ∀ a x, ((![v63, v64, v202, v35] : Fin 4 → IVec S16 32) a x).toNat < S2x4x94x96.size a := fun v33 v35 v63 v64 v202 k0_hw117 => k0_hw117.2

def k0_chk118 (v30 : IVec S16 32) (v63 : IVec S16 32) (v64 : IVec S16 32) (v203 : IVec S16 32) : Prop :=
  (∀ a x, ((![v63, v64, v203, v30] : Fin 4 → IVec S16 32) a x).toNat < S2x4x32x32.size a)
theorem k0_idx141_inb : ∀ (v30 : IVec S16 32) (v63 : IVec S16 32) (v64 : IVec S16 32) (v203 : IVec S16 32) (k0_hw118 : k0_chk118 v30 v63 v64 v203), ∀ a x, ((![v63, v64, v203, v30] : Fin 4 → IVec S16 32) a x).toNat < S2x4x32x32.size a := fun v30 v63 v64 v203 k0_hw118 => k0_hw118

def k0_chk119 (v63 : IVec S16 32) (v64 : IVec S16 32) (v203 : IVec S16 32) (v206 : IVec S16 32) : Prop :=
  (∀ a x, ((![v63, v64, v203, v206] : Fin 4 → IVec S16 32) a x).toNat < S2x4x32x32.size a)
theorem k0_idx142_inb : ∀ (v63 : IVec S16 32) (v64 : IVec S16 32) (v203 : IVec S16 32) (v206 : IVec S16 32) (k0_hw119 : k0_chk119 v63 v64 v203 v206), ∀ a x, ((![v63, v64, v203, v206] : Fin 4 → IVec S16 32) a x).toNat < S2x4x32x32.size a := fun v63 v64 v203 v206 k0_hw119 => k0_hw119

def k0_chk120 (v33 : IVec S16 32) (v35 : IVec S16 32) (v63 : IVec S16 32) (v64 : IVec S16 32) (v208 : IVec S16 32) : Prop :=
  (∀ a x, ((![v63, v64, v208, v33] : Fin 4 → IVec S16 32) a x).toNat < S2x4x94x96.size a) ∧
  (∀ a x, ((![v63, v64, v208, v35] : Fin 4 → IVec S16 32) a x).toNat < S2x4x94x96.size a)
theorem k0_idx143_inb : ∀ (v33 : IVec S16 32) (v35 : IVec S16 32) (v63 : IVec S16 32) (v64 : IVec S16 32) (v208 : IVec S16 32) (k0_hw120 : k0_chk120 v33 v35 v63 v64 v208), ∀ a x, ((![v63, v64, v208, v33] : Fin 4 → IVec S16 32) a x).toNat < S2x4x94x96.size a := fun v33 v35 v63 v64 v208 k0_hw120 => k0_hw120.1
theorem k0_idx144_inb : ∀ (v33 : IVec S16 32) (v35 : IVec S16 32) (v63 : IVec S16 32) (v64 : IVec S16 32) (v208 : IVec S16 32) (k0_hw120 : k0_chk120 v33 v35 v63 v64 v208), ∀ a x, ((![v63, v64, v208, v35] : Fin 4 → IVec S16 32) a x).toNat < S2x4x94x96.size a := fun v33 v35 v63 v64 v208 k0_hw120 => k0_hw120.2

def k0_chk121 (v30 : IVec S16 32) (v63 : IVec S16 32) (v64 : IVec S16 32) (v209 : IVec S16 32) : Prop :=
  (∀ a x, ((![v63, v64, v209, v30] : Fin 4 → IVec S16 32) a x).toNat < S2x4x32x32.size a)
theorem k0_idx145_inb : ∀ (v30 : IVec S16 32) (v63 : IVec S16 32) (v64 : IVec S16 32) (v209 : IVec S16 32) (k0_hw121 : k0_chk121 v30 v63 v64 v209), ∀ a x, ((![v63, v64, v209, v30] : Fin 4 → IVec S16 32) a x).toNat < S2x4x32x32.size a := fun v30 v63 v64 v209 k0_hw121 => k0_hw121

def k0_chk122 (v63 : IVec S16 32) (v64 : IVec S16 32) (v209 : IVec S16 32) (v212 : IVec S16 32) : Prop :=
  (∀ a x, ((![v63, v64, v209, v212] : Fin 4 → IVec S16 32) a x).toNat < S2x4x32x32.size a)
theorem k0_idx146_inb : ∀ (v63 : IVec S16 32) (v64 : IVec S16 32) (v209 : IVec S16 32) (v212 : IVec S16 32) (k0_hw122 : k0_chk122 v63 v64 v209 v212), ∀ a x, ((![v63, v64, v209, v212] : Fin 4 → IVec S16 32) a x).toNat < S2x4x32x32.size a := fun v63 v64 v209 v212 k0_hw122 => k0_hw122

def k0_chk123 (v33 : IVec S16 32) (v35 : IVec S16 32) (v63 : IVec S16 32) (v64 : IVec S16 32) (v214 : IVec S16 32) : Prop :=
  (∀ a x, ((![v63, v64, v214, v33] : Fin 4 → IVec S16 32) a x).toNat < S2x4x94x96.size a) ∧
  (∀ a x, ((![v63, v64, v214, v35] : Fin 4 → IVec S16 32) a x).toNat < S2x4x94x96.size a)
theorem k0_idx147_inb : ∀ (v33 : IVec S16 32) (v35 : IVec S16 32) (v63 : IVec S16 32) (v64 : IVec S16 32) (v214 : IVec S16 32) (k0_hw123 : k0_chk123 v33 v35 v63 v64 v214), ∀ a x, ((![v63, v64, v214, v33] : Fin 4 → IVec S16 32) a x).toNat < S2x4x94x96.size a := fun v33 v35 v63 v64 v214 k0_hw123 => k0_hw123.1
theorem k0_idx148_inb : ∀ (v33 : IVec S16 32) (v35 : IVec S16 32) (v63 : IVec S16 32) (v64 : IVec S16 32) (v214 : IVec S16 32) (k0_hw123 : k0_chk123 v33 v35 v63 v64 v214), ∀ a x, ((![v63, v64, v214, v35] : Fin 4 → IVec S16 32) a x).toNat < S2x4x94x96.size a := fun v33 v35 v63 v64 v214 k0_hw123 => k0_hw123.2

def k0_chk124 (v30 : IVec S16 32) (v63 : IVec S16 32) (v64 : IVec S16 32) (v215 : IVec S16 32) : Prop :=
  (∀ a x, ((![v63, v64, v215, v30] : Fin 4 → IVec S16 32) a x).toNat < S2x4x32x32.size a)
theorem k0_idx149_inb : ∀ (v30 : IVec S16 32) (v63 : IVec S16 32) (v64 : IVec S16 32) (v215 : IVec S16 32) (k0_hw124 : k0_chk124 v30 v63 v64 v215), ∀ a x, ((![v63, v64, v215, v30] : Fin 4 → IVec S16 32) a x).toNat < S2x4x32x32.size a := fun v30 v63 v64 v215 k0_hw124 => k0_hw124

def k0_chk125 (v63 : IVec S16 32) (v64 : IVec S16 32) (v215 : IVec S16 32) (v218 : IVec S16 32) : Prop :=
  (∀ a x, ((![v63, v64, v215, v218] : Fin 4 → IVec S16 32) a x).toNat < S2x4x32x32.size a)
theorem k0_idx150_inb : ∀ (v63 : IVec S16 32) (v64 : IVec S16 32) (v215 : IVec S16 32) (v218 : IVec S16 32) (k0_hw125 : k0_chk125 v63 v64 v215 v218), ∀ a x, ((![v63, v64, v215, v218] : Fin 4 → IVec S16 32) a x).toNat < S2x4x32x32.size a := fun v63 v64 v215 v218 k0_hw125 => k0_hw125

def k0_chk126 (v33 : IVec S16 32) (v35 : IVec S16 32) (v63 : IVec S16 32) (v64 : IVec S16 32) (v220 : IVec S16 32) : Prop :=
  (∀ a x, ((![v63, v64, v220, v33] : Fin 4 → IVec S16 32) a x).toNat < S2x4x94x96.size a) ∧
  (∀ a x, ((![v63, v64, v220, v35] : Fin 4 → IVec S16 32) a x).toNat < S2x4x94x96.size a)
theorem k0_idx151_inb : ∀ (v33 : IVec S16 32) (v35 : IVec S16 32) (v63 : IVec S16 32) (v64 : IVec S16 32) (v220 : IVec S16 32) (k0_hw126 : k0_chk126 v33 v35 v63 v64 v220), ∀ a x, ((![v63, v64, v220, v33] : Fin 4 → IVec S16 32) a x).toNat < S2x4x94x96.size a := fun v33 v35 v63 v64 v220 k0_hw126 => k0_hw126.1
theorem k0_idx152_inb : ∀ (v33 : IVec S16 32) (v35 : IVec S16 32) (v63 : IVec S16 32) (v64 : IVec S16 32) (v220 : IVec S16 32) (k0_hw126 : k0_chk126 v33 v35 v63 v64 v220), ∀ a x, ((![v63, v64, v220, v35] : Fin 4 → IVec S16 32) a x).toNat < S2x4x94x96.size a := fun v33 v35 v63 v64 v220 k0_hw126 => k0_hw126.2

def k0_chk127 (v30 : IVec S16 32) (v63 : IVec S16 32) (v64 : IVec S16 32) (v221 : IVec S16 32) : Prop :=
  (∀ a x, ((![v63, v64, v221, v30] : Fin 4 → IVec S16 32) a x).toNat < S2x4x32x32.size a)
theorem k0_idx153_inb : ∀ (v30 : IVec S16 32) (v63 : IVec S16 32) (v64 : IVec S16 32) (v221 : IVec S16 32) (k0_hw127 : k0_chk127 v30 v63 v64 v221), ∀ a x, ((![v63, v64, v221, v30] : Fin 4 → IVec S16 32) a x).toNat < S2x4x32x32.size a := fun v30 v63 v64 v221 k0_hw127 => k0_hw127

def k0_chk128 (v63 : IVec S16 32) (v64 : IVec S16 32) (v221 : IVec S16 32) (v224 : IVec S16 32) : Prop :=
  (∀ a x, ((![v63, v64, v221, v224] : Fin 4 → IVec S16 32) a x).toNat < S2x4x32x32.size a)
theorem k0_idx154_inb : ∀ (v63 : IVec S16 32) (v64 : IVec S16 32) (v221 : IVec S16 32) (v224 : IVec S16 32) (k0_hw128 : k0_chk128 v63 v64 v221 v224), ∀ a x, ((![v63, v64, v221, v224] : Fin 4 → IVec S16 32) a x).toNat < S2x4x32x32.size a := fun v63 v64 v221 v224 k0_hw128 => k0_hw128

def k0_chk129 (v33 : IVec S16 32) (v35 : IVec S16 32) (v63 : IVec S16 32) (v64 : IVec S16 32) (v226 : IVec S16 32) : Prop :=
  (∀ a x, ((![v63, v64, v226, v33] : Fin 4 → IVec S16 32) a x).toNat < S2x4x94x96.size a) ∧
  (∀ a x, ((![v63, v64, v226, v35] : Fin 4 → IVec S16 32) a x).toNat < S2x4x94x96.size a)
theorem k0_idx155_inb : ∀ (v33 : IVec S16 32) (v35 : IVec S16 32) (v63 : IVec S16 32) (v64 : IVec S16 32) (v226 : IVec S16 32) (k0_hw129 : k0_chk129 v33 v35 v63 v64 v226), ∀ a x, ((![v63, v64, v226, v33] : Fin 4 → IVec S16 32) a x).toNat < S2x4x94x96.size a := fun v33 v35 v63 v64 v226 k0_hw129 => k0_hw129.1
theorem k0_idx156_inb : ∀ (v33 : IVec S16 32) (v35 : IVec S16 32) (v63 : IVec S16 32) (v64 : IVec S16 32) (v226 : IVec S16 32) (k0_hw129 : k0_chk129 v33 v35 v63 v64 v226), ∀ a x, ((![v63, v64, v226, v35] : Fin 4 → IVec S16 32) a x).toNat < S2x4x94x96.size a := fun v33 v35 v63 v64 v226 k0_hw129 => k0_hw129.2

def k0_chk130 (v30 : IVec S16 32) (v63 : IVec S16 32) (v64 : IVec S16 32) (v227 : IVec S16 32) : Prop :=
  (∀ a x, ((![v63, v64, v227, v30] : Fin 4 → IVec S16 32) a x).toNat < S2x4x32x32.size a)
theorem k0_idx157_inb : ∀ (v30 : IVec S16 32) (v63 : IVec S16 32) (v64 : IVec S16 32) (v227 : IVec S16 32) (k0_hw130 : k0_chk130 v30 v63 v64 v227), ∀ a x, ((![v63, v64, v227, v30] : Fin 4 → IVec S16 32) a x).toNat < S2x4x32x32.size a := fun v30 v63 v64 v227 k0_hw130 => k0_hw130

def k0_chk131 (v63 : IVec S16 32) (v64 : IVec S16 32) (v227 : IVec S16 32) (v230 : IVec S16 32) : Prop :=
  (∀ a x, ((![v63, v64, v227, v230] : Fin 4 → IVec S16 32) a x).toNat < S2x4x32x32.size a)
theorem k0_idx158_inb : ∀ (v63 : IVec S16 32) (v64 : IVec S16 32) (v227 : IVec S16 32) (v230 : IVec S16 32) (k0_hw131 : k0_chk131 v63 v64 v227 v230), ∀ a x, ((![v63, v64, v227, v230] : Fin 4 → IVec S16 32) a x).toNat < S2x4x32x32.size a := fun v63 v64 v227 v230 k0_hw131 => k0_hw131

def k0_chk132 (v33 : IVec S16 32) (v35 : IVec S16 32) (v63 : IVec S16 32) (v64 : IVec S16 32) (v232 : IVec S16 32) : Prop :=
  (∀ a x, ((![v63, v64, v232, v33] : Fin 4 → IVec S16 32) a x).toNat < S2x4x94x96.size a) ∧
  (∀ a x, ((![v63, v64, v232, v35] : Fin 4 → IVec S16 32) a x).toNat < S2x4x94x96.size a)
theorem k0_idx159_inb : ∀ (v33 : IVec S16 32) (v35 : IVec S16 32) (v63 : IVec S16 32) (v64 : IVec S16 32) (v232 : IVec S16 32) (k0_hw132 : k0_chk132 v33 v35 v63 v64 v232), ∀ a x, ((![v63, v64, v232, v33] : Fin 4 → IVec S16 32) a x).toNat < S2x4x94x96.size a := fun v33 v35 v63 v64 v232 k0_hw132 => k0_hw132.1
theorem k0_idx160_inb : ∀ (v33 : IVec S16 32) (v35 : IVec S16 32) (v63 : IVec S16 32) (v64 : IVec S16 32) (v232 : IVec S16 32) (k0_hw132 : k0_chk132 v33 v35 v63 v64 v232), ∀ a x, ((![v63, v64, v232, v35] : Fin 4 → IVec S16 32) a x).toNat < S2x4x94x96.size a := fun v33 v35 v63 v64 v232 k0_hw132 => k0_hw132.2

def k0_chk133 (v30 : IVec S16 32) (v63 : IVec S16 32) (v64 : IVec S16 32) (v233 : IVec S16 32) : Prop :=
  (∀ a x, ((![v63, v64, v233, v30] : Fin 4 → IVec S16 32) a x).toNat < S2x4x32x32.size a)
theorem k0_idx161_inb : ∀ (v30 : IVec S16 32) (v63 : IVec S16 32) (v64 : IVec S16 32) (v233 : IVec S16 32) (k0_hw133 : k0_chk133 v30 v63 v64 v233), ∀ a x, ((![v63, v64, v233, v30] : Fin 4 → IVec S16 32) a x).toNat < S2x4x32x32.size a := fun v30 v63 v64 v233 k0_hw133 => k0_hw133

def k0_chk134 (v63 : IVec S16 32) (v64 : IVec S16 32) (v233 : IVec S16 32) (v236 : IVec S16 32) : Prop :=
  (∀ a x, ((![v63, v64, v233, v236] : Fin 4 → IVec S16 32) a x).toNat < S2x4x32x32.size a)
theorem k0_idx162_inb : ∀ (v63 : IVec S16 32) (v64 : IVec S16 32) (v233 : IVec S16 32) (v236 : IVec S16 32) (k0_hw134 : k0_chk134 v63 v64 v233 v236), ∀ a x, ((![v63, v64, v233, v236] : Fin 4 → IVec S16 32) a x).toNat < S2x4x32x32.size a := fun v63 v64 v233 v236 k0_hw134 => k0_hw134

def k0_chk135 (v33 : IVec S16 32) (v35 : IVec S16 32) (v63 : IVec S16 32) (v64 : IVec S16 32) (v238 : IVec S16 32) : Prop :=
  (∀ a x, ((![v63, v64, v238, v33] : Fin 4 → IVec S16 32) a x).toNat < S2x4x94x96.size a) ∧
  (∀ a x, ((![v63, v64, v238, v35] : Fin 4 → IVec S16 32) a x).toNat < S2x4x94x96.size a)
theorem k0_idx163_inb : ∀ (v33 : IVec S16 32) (v35 : IVec S16 32) (v63 : IVec S16 32) (v64 : IVec S16 32) (v238 : IVec S16 32) (k0_hw135 : k0_chk135 v33 v35 v63 v64 v238), ∀ a x, ((![v63, v64, v238, v33] : Fin 4 → IVec S16 32) a x).toNat < S2x4x94x96.size a := fun v33 v35 v63 v64 v238 k0_hw135 => k0_hw135.1
theorem k0_idx164_inb : ∀ (v33 : IVec S16 32) (v35 : IVec S16 32) (v63 : IVec S16 32) (v64 : IVec S16 32) (v238 : IVec S16 32) (k0_hw135 : k0_chk135 v33 v35 v63 v64 v238), ∀ a x, ((![v63, v64, v238, v35] : Fin 4 → IVec S16 32) a x).toNat < S2x4x94x96.size a := fun v33 v35 v63 v64 v238 k0_hw135 => k0_hw135.2

def k0_chk136 (v30 : IVec S16 32) (v63 : IVec S16 32) (v64 : IVec S16 32) (v239 : IVec S16 32) : Prop :=
  (∀ a x, ((![v63, v64, v239, v30] : Fin 4 → IVec S16 32) a x).toNat < S2x4x32x32.size a)
theorem k0_idx165_inb : ∀ (v30 : IVec S16 32) (v63 : IVec S16 32) (v64 : IVec S16 32) (v239 : IVec S16 32) (k0_hw136 : k0_chk136 v30 v63 v64 v239), ∀ a x, ((![v63, v64, v239, v30] : Fin 4 → IVec S16 32) a x).toNat < S2x4x32x32.size a := fun v30 v63 v64 v239 k0_hw136 => k0_hw136

def k0_chk137 (v63 : IVec S16 32) (v64 : IVec S16 32) (v239 : IVec S16 32) (v242 : IVec S16 32) : Prop :=
  (∀ a x, ((![v63, v64, v239, v242] : Fin 4 → IVec S16 32) a x).toNat < S2x4x32x32.size a)
theorem k0_idx166_inb : ∀ (v63 : IVec S16 32) (v64 : IVec S16 32) (v239 : IVec S16 32) (v242 : IVec S16 32) (k0_hw137 : k0_chk137 v63 v64 v239 v242), ∀ a x, ((![v63, v64, v239, v242] : Fin 4 → IVec S16 32) a x).toNat < S2x4x32x32.size a := fun v63 v64 v239 v242 k0_hw137 => k0_hw137

def k0_chk138 (v33 : IVec S16 32) (v35 : IVec S16 32) (v63 : IVec S16 32) (v64 : IVec S16 32) (v244 : IVec S16 32) : Prop :=
  (∀ a x, ((![v63, v64, v244, v33] : Fin 4 → IVec S16 32) a x).toNat < S2x4x94x96.size a) ∧
  (∀ a x, ((![v63, v64, v244, v35] : Fin 4 → IVec S16 32) a x).toNat < S2x4x94x96.size a)
theorem k0_idx167_inb : ∀ (v33 : IVec S16 32) (v35 : IVec S16 32) (v63 : IVec S16 32) (v64 : IVec S16 32) (v244 : IVec S16 32) (k0_hw138 : k0_chk138 v33 v35 v63 v64 v244), ∀ a x, ((![v63, v64, v244, v33] : Fin 4 → IVec S16 32) a x).toNat < S2x4x94x96.size a := fun v33 v35 v63 v64 v244 k0_hw138 => k0_hw138.1
theorem k0_idx168_inb : ∀ (v33 : IVec S16 32) (v35 : IVec S16 32) (v63 : IVec S16 32) (v64 : IVec S16 32) (v244 : IVec S16 32) (k0_hw138 : k0_chk138 v33 v35 v63 v64 v244), ∀ a x, ((![v63, v64, v244, v35] : Fin 4 → IVec S16 32) a x).toNat < S2x4x94x96.size a := fun v33 v35 v63 v64 v244 k0_hw138 => k0_hw138.2

def k0_chk139 (v30 : IVec S16 32) (v63 : IVec S16 32) (v64 : IVec S16 32) (v245 : IVec S16 32) : Prop :=
  (∀ a x, ((![v63, v64, v245, v30] : Fin 4 → IVec S16 32) a x).toNat < S2x4x32x32.size a)
theorem k0_idx169_inb : ∀ (v30 : IVec S16 32) (v63 : IVec S16 32) (v64 : IVec S16 32) (v245 : IVec S16 32) (k0_hw139 : k0_chk139 v30 v63 v64 v245), ∀ a x, ((![v63, v64, v245, v30] : Fin 4 → IVec S16 32) a x).toNat < S2x4x32x32.size a := fun v30 v63 v64 v245 k0_hw139 => k0_hw139

def k0_chk140 (v63 : IVec S16 32) (v64 : IVec S16 32) (v245 : IVec S16 32) (v248 : IVec S16 32) : Prop :=
  (∀ a x, ((![v63, v64, v245, v248] : Fin 4 → IVec S16 32) a x).toNat < S2x4x32x32.size a)
theorem k0_idx170_inb : ∀ (v63 : IVec S16 32) (v64 : IVec S16 32) (v245 : IVec S16 32) (v248 : IVec S16 32) (k0_hw140 : k0_chk140 v63 v64 v245 v248), ∀ a x, ((![v63, v64, v245, v248] : Fin 4 → IVec S16 32) a x).toNat < S2x4x32x32.size a := fun v63 v64 v245 v248 k0_hw140 => k0_hw140

def k0_chk141 (v33 : IVec S16 32) (v35 : IVec S16 32) (v63 : IVec S16 32) (v64 : IVec S16 32) (v250 : IVec S16 32) : Prop :=
  (∀ a x, ((![v63, v64, v250, v33] : Fin 4 → IVec S16 32) a x).toNat < S2x4x94x96.size a) ∧
  (∀ a x, ((![v63, v64, v250, v35] : Fin 4 → IVec S16 32) a x).toNat < S2x4x94x96.size a)
theorem k0_idx171_inb : ∀ (v33 : IVec S16 32) (v35 : IVec S16 32) (v63 : IVec S16 32) (v64 : IVec S16 32) (v250 : IVec S16 32) (k0_hw141 : k0_chk141 v33 v35 v63 v64 v250), ∀ a x, ((![v63, v64, v250, v33] : Fin 4 → IVec S16 32) a x).toNat < S2x4x94x96.size a := fun v33 v35 v63 v64 v250 k0_hw141 => k0_hw141.1
theorem k0_idx172_inb : ∀ (v33 : IVec S16 32) (v35 : IVec S16 32) (v63 : IVec S16 32) (v64 : IVec S16 32) (v250 : IVec S16 32) (k0_hw141 : k0_chk141 v33 v35 v63 v64 v250), ∀ a x, ((![v63, v64, v250, v35] : Fin 4 → IVec S16 32) a x).toNat < S2x4x94x96.size a := fun v33 v35 v63 v64 v250 k0_hw141 => k0_hw141.2

def k0_chk142 (v30 : IVec S16 32) (v63 : IVec S16 32) (v64 : IVec S16 32) (v251 : IVec S16 32) : Prop :=
  (∀ a x, ((![v63, v64, v251, v30] : Fin 4 → IVec S16 32) a x).toNat < S2x4x32x32.size a)
theorem k0_idx173_inb : ∀ (v30 : IVec S16 32) (v63 : IVec S16 32) (v64 : IVec S16 32) (v251 : IVec S16 32) (k0_hw142 : k0_chk142 v30 v63 v64 v251), ∀ a x, ((![v63, v64, v251, v30] : Fin 4 → IVec S16 32) a x).toNat < S2x4x32x32.size a := fun v30 v63 v64 v251 k0_hw142 => k0_hw142

def k0_chk143 (v63 : IVec S16 32) (v64 : IVec S16 32) (v251 : IVec S16 32) (v254 : IVec S16 32) : Prop :=
  (∀ a x, ((![v63, v64, v251, v254] : Fin 4 → IVec S16 32) a x).toNat < S2x4x32x32.size a)
theorem k0_idx174_inb : ∀ (v63 : IVec S16 32) (v64 : IVec S16 32) (v251 : IVec S16 32) (v254 : IVec S16 32) (k0_hw143 : k0_chk143 v63 v64 v251 v254), ∀ a x, ((![v63, v64, v251, v254] : Fin 4 → IVec S16 32) a x).toNat < S2x4x32x32.size a := fun v63 v64 v251 v254 k0_hw143 => k0_hw143

def k0_chk144 (v33 : IVec S16 32) (v35 : IVec S16 32) (v63 : IVec S16 32) (v64 : IVec S16 32) (v256 : IVec S16 32) : Prop :=
  (∀ a x, ((![v63, v64, v256, v33] : Fin 4 → IVec S16 32) a x).toNat < S2x4x94x96.size a) ∧
  (∀ a x, ((![v63, v64, v256, v35] : Fin 4 → IVec S16 32) a x).toNat < S2x4x94x96.size a)
theorem k0_idx175_inb : ∀ (v33 : IVec S16 32) (v35 : IVec S16 32) (v63 : IVec S16 32) (v64 : IVec S16 32) (v256 : IVec S16 32) (k0_hw144 : k0_chk144 v33 v35 v63 v64 v256), ∀ a x, ((![v63, v64, v256, v33] : Fin 4 → IVec S16 32) a x).toNat < S2x4x94x96.size a := fun v33 v35 v63 v64 v256 k0_hw144 => k0_hw144.1
theorem k0_idx176_inb : ∀ (v33 : IVec S16 32) (v35 : IVec S16 32) (v63 : IVec S16 32) (v64 : IVec S16 32) (v256 : IVec S16 32) (k0_hw144 : k0_chk144 v33 v35 v63 v64 v256), ∀ a x, ((![v63, v64, v256, v35] : Fin 4 → IVec S16 32) a x).toNat < S2x4x94x96.size a := fun v33 v35 v63 v64 v256 k0_hw144 => k0_hw144.2

def k0_chk145 (v30 : IVec S16 32) (v63 : IVec S16 32) (v257 : IVec S16 32) (v258 : IVec S16 32) : Prop :=
  (∀ a x, ((![v63, v257, v258, v30] : Fin 4 → IVec S16 32) a x).toNat < S2x4x32x32.size a)
theorem k0_idx177_inb : ∀ (v30 : IVec S16 32) (v63 : IVec S16 32) (v257 : IVec S16 32) (v258 : IVec S16 32) (k0_hw145 : k0_chk145 v30 v63 v257 v258), ∀ a x, ((![v63, v257, v258, v30] : Fin 4 → IVec S16 32) a x).toNat < S2x4x32x32.size a := fun v30 v63 v257 v258 k0_hw145 => k0_hw145

def k0_chk146 (v63 : IVec S16 32) (v257 : IVec S16 32) (v258 : IVec S16 32) (v261 : IVec S16 32) : Prop :=
  (∀ a x, ((![v63, v257, v258, v261] : Fin 4 → IVec S16 32) a x).toNat < S2x4x32x32.size a)
theorem k0_idx178_inb : ∀ (v63 : IVec S16 32) (v257 : IVec S16 32) (v258 : IVec S16 32) (v261 : IVec S16 32) (k0_hw146 : k0_chk146 v63 v257 v258 v261), ∀ a x, ((![v63, v257, v258, v261] : Fin 4 → IVec S16 32) a x).toNat < S2x4x32x32.size a := fun v63 v257 v258 v261 k0_hw146 => k0_hw146

def k0_chk147 (v33 : IVec S16 32) (v35 : IVec S16 32) (v63 : IVec S16 32) (v257 : IVec S16 32) (v263 : IVec S16 32) : Prop :=
  (∀ a x, ((![v63, v257, v263, v33] : Fin 4 → IVec S16 32) a x).toNat < S2x4x94x96.size a) ∧
  (∀ a x, ((![v63, v257, v263, v35] : Fin 4 → IVec S16 32) a x).toNat < S2x4x94x96.size a)
theorem k0_idx179_inb : ∀ (v33 : IVec S16 32) (v35 : IVec S16 32) (v63 : IVec S16 32) (v257 : IVec S16 32) (v263 : IVec S16 32) (k0_hw147 : k0_chk147 v33 v35 v63 v257 v263), ∀ a x, ((![v63, v257, v263, v33] : Fin 4 → IVec S16 32) a x).toNat < S2x4x94x96.size a := fun v33 v35 v63 v257 v263 k0_hw147 => k0_hw147.1
theorem k0_idx180_inb : ∀ (v33 : IVec S16 32) (v35 : IVec S16 32) (v63 : IVec S16 32) (v257 : IVec S16 32) (v263 : IVec S16 32) (k0_hw147 : k0_chk147 v33 v35 v63 v257 v263), ∀ a x, ((![v63, v257, v263, v35] : Fin 4 → IVec S16 32) a x).toNat < S2x4x94x96.size a := fun v33 v35 v63 v257 v263 k0_hw147 => k0_hw147.2

def k0_chk148 (v30 : IVec S16 32) (v63 : IVec S16 32) (v257 : IVec S16 32) (v264 : IVec S16 32) : Prop :=
  (∀ a x, ((![v63, v257, v264, v30] : Fin 4 → IVec S16 32) a x).toNat < S2x4x32x32.size a)
theorem k0_idx181_inb : ∀ (v30 : IVec S16 32) (v63 : IVec S16 32) (v257 : IVec S16 32) (v264 : IVec S16 32) (k0_hw148 : k0_chk148 v30 v63 v257 v264), ∀ a x, ((![v63, v257, v264, v30] : Fin 4 → IVec S16 32) a x).toNat < S2x4x32x32.size a := fun v30 v63 v257 v264 k0_hw148 => k0_hw148

def k0_chk149 (v63 : IVec S16 32) (v257 : IVec S16 32) (v264 : IVec S16 32) (v267 : IVec S16 32) : Prop :=
  (∀ a x, ((![v63, v257, v264, v267] : Fin 4 → IVec S16 32) a x).toNat < S2x4x32x32.size a)
theorem k0_idx182_inb : ∀ (v63 : IVec S16 32) (v257 : IVec S16 32) (v264 : IVec S16 32) (v267 : IVec S16 32) (k0_hw149 : k0_chk149 v63 v257 v264 v267), ∀ a x, ((![v63, v257, v264, v267] : Fin 4 → IVec S16 32) a x).toNat < S2x4x32x32.size a := fun v63 v257 v264 v267 k0_hw149 => k0_hw149

def k0_chk150 (v33 : IVec S16 32) (v35 : IVec S16 32) (v63 : IVec S16 32) (v257 : IVec S16 32) (v269 : IVec S16 32) : Prop :=
  (∀ a x, ((![v63, v257, v269, v33] : Fin 4 → IVec S16 32) a x).toNat < S2x4x94x96.size a) ∧
  (∀ a x, ((![v63, v257, v269, v35] : Fin 4 → IVec S16 32) a x).toNat < S2x4x94x96.size a)
theorem k0_idx183_inb : ∀ (v33 : IVec S16 32) (v35 : IVec S16 32) (v63 : IVec S16 32) (v257 : IVec S16 32) (v269 : IVec S16 32) (k0_hw150 : k0_chk150 v33 v35 v63 v257 v269), ∀ a x, ((![v63, v257, v269, v33] : Fin 4 → IVec S16 32) a x).toNat < S2x4x94x96.size a := fun v33 v35 v63 v257 v269 k0_hw150 => k0_hw150.1
theorem k0_idx184_inb : ∀ (v33 : IVec S16 32) (v35 : IVec S16 32) (v63 : IVec S16 32) (v257 : IVec S16 32) (v269 : IVec S16 32) (k0_hw150 : k0_chk150 v33 v35 v63 v257 v269), ∀ a x, ((![v63, v257, v269, v35] : Fin 4 → IVec S16 32) a x).toNat < S2x4x94x96.size a := fun v33 v35 v63 v257 v269 k0_hw150 => k0_hw150.2

def k0_chk151 (v30 : IVec S16 32) (v63 : IVec S16 32) (v257 : IVec S16 32) (v270 : IVec S16 32) : Prop :=
  (∀ a x, ((![v63, v257, v270, v30] : Fin 4 → IVec S16 32) a x).toNat < S2x4x32x32.size a)
theorem k0_idx185_inb : ∀ (v30 : IVec S16 32) (v63 : IVec S16 32) (v257 : IVec S16 32) (v270 : IVec S16 32) (k0_hw151 : k0_chk151 v30 v63 v257 v270), ∀ a x, ((![v63, v257, v270, v30] : Fin 4 → IVec S16 32) a x).toNat < S2x4x32x32.size a := fun v30 v63 v257 v270 k0_hw151 => k0_hw151

def k0_chk152 (v63 : IVec S16 32) (v257 : IVec S16 32) (v270 : IVec S16 32) (v273 : IVec S16 32) : Prop :=
  (∀ a x, ((![v63, v257, v270, v273] : Fin 4 → IVec S16 32) a x).toNat < S2x4x32x32.size a)
theorem k0_idx186_inb : ∀ (v63 : IVec S16 32) (v257 : IVec S16 32) (v270 : IVec S16 32) (v273 : IVec S16 32) (k0_hw152 : k0_chk152 v63 v257 v270 v273), ∀ a x, ((![v63, v257, v270, v273] : Fin 4 → IVec S16 32) a x).toNat < S2x4x32x32.size a := fun v63 v257 v270 v273 k0_hw152 => k0_hw152

def k0_chk153 (v33 : IVec S16 32) (v35 : IVec S16 32) (v63 : IVec S16 32) (v257 : IVec S16 32) (v275 : IVec S16 32) : Prop :=
  (∀ a x, ((![v63, v257, v275, v33] : Fin 4 → IVec S16 32) a x).toNat < S2x4x94x96.size a) ∧
  (∀ a x, ((![v63, v257, v275, v35] : Fin 4 → IVec S16 32) a x).toNat < S2x4x94x96.size a)
theorem k0_idx187_inb : ∀ (v33 : IVec S16 32) (v35 : IVec S16 32) (v63 : IVec S16 32) (v257 : IVec S16 32) (v275 : IVec S16 32) (k0_hw153 : k0_chk153 v33 v35 v63 v257 v275), ∀ a x, ((![v63, v257, v275, v33] : Fin 4 → IVec S16 32) a x).toNat < S2x4x94x96.size a := fun v33 v35 v63 v257 v275 k0_hw153 => k0_hw153.1
theorem k0_idx188_inb : ∀ (v33 : IVec S16 32) (v35 : IVec S16 32) (v63 : IVec S16 32) (v257 : IVec S16 32) (v275 : IVec S16 32) (k0_hw153 : k0_chk153 v33 v35 v63 v257 v275), ∀ a x, ((![v63, v257, v275, v35] : Fin 4 → IVec S16 32) a x).toNat < S2x4x94x96.size a := fun v33 v35 v63 v257 v275 k0_hw153 => k0_hw153.2

def k0_chk154 (v30 : IVec S16 32) (v63 : IVec S16 32) (v257 : IVec S16 32) (v276 : IVec S16 32) : Prop :=
  (∀ a x, ((![v63, v257, v276, v30] : Fin 4 → IVec S16 32) a x).toNat < S2x4x32x32.size a)
theorem k0_idx189_inb : ∀ (v30 : IVec S16 32) (v63 : IVec S16 32) (v257 : IVec S16 32) (v276 : IVec S16 32) (k0_hw154 : k0_chk154 v30 v63 v257 v276), ∀ a x, ((![v63, v257, v276, v30] : Fin 4 → IVec S16 32) a x).toNat < S2x4x32x32.size a := fun v30 v63 v257 v276 k0_hw154 => k0_hw154

def k0_chk155 (v63 : IVec S16 32) (v257 : IVec S16 32) (v276 : IVec S16 32) (v279 : IVec S16 32) : Prop :=
  (∀ a x, ((![v63, v257, v276, v279] : Fin 4 → IVec S16 32) a x).toNat < S2x4x32x32.size a)
theorem k0_idx190_inb : ∀ (v63 : IVec S16 32) (v257 : IVec S16 32) (v276 : IVec S16 32) (v279 : IVec S16 32) (k0_hw155 : k0_chk155 v63 v257 v276 v279), ∀ a x, ((![v63, v257, v276, v279] : Fin 4 → IVec S16 32) a x).toNat < S2x4x32x32.size a := fun v63 v257 v276 v279 k0_hw155 => k0_hw155

def k0_chk156 (v33 : IVec S16 32) (v35 : IVec S16 32) (v63 : IVec S16 32) (v257 : IVec S16 32) (v281 : IVec S16 32) : Prop :=
  (∀ a x, ((![v63, v257, v281, v33] : Fin 4 → IVec S16 32) a x).toNat < S2x4x94x96.size a) ∧
  (∀ a x, ((![v63, v257, v281, v35] : Fin 4 → IVec S16 32) a x).toNat < S2x4x94x96.size a)
theorem k0_idx191_inb : ∀ (v33 : IVec S16 32) (v35 : IVec S16 32) (v63 : IVec S16 32) (v257 : IVec S16 32) (v281 : IVec S16 32) (k0_hw156 : k0_chk156 v33 v35 v63 v257 v281), ∀ a x, ((![v63, v257, v281, v33] : Fin 4 → IVec S16 32) a x).toNat < S2x4x94x96.size a := fun v33 v35 v63 v257 v281 k0_hw156 => k0_hw156.1
theorem k0_idx192_inb : ∀ (v33 : IVec S16 32) (v35 : IVec S16 32) (v63 : IVec S16 32) (v257 : IVec S16 32) (v281 : IVec S16 32) (k0_hw156 : k0_chk156 v33 v35 v63 v257 v281), ∀ a x, ((![v63, v257, v281, v35] : Fin 4 → IVec S16 32) a x).toNat < S2x4x94x96.size a := fun v33 v35 v63 v257 v281 k0_hw156 => k0_hw156.2

def k0_chk157 (v30 : IVec S16 32) (v63 : IVec S16 32) (v257 : IVec S16 32) (v282 : IVec S16 32) : Prop :=
  (∀ a x, ((![v63, v257, v282, v30] : Fin 4 → IVec S16 32) a x).toNat < S2x4x32x32.size a)
theorem k0_idx193_inb : ∀ (v30 : IVec S16 32) (v63 : IVec S16 32) (v257 : IVec S16 32) (v282 : IVec S16 32) (k0_hw157 : k0_chk157 v30 v63 v257 v282), ∀ a x, ((![v63, v257, v282, v30] : Fin 4 → IVec S16 32) a x).toNat < S2x4x32x32.size a := fun v30 v63 v257 v282 k0_hw157 => k0_hw157

def k0_chk158 (v63 : IVec S16 32) (v257 : IVec S16 32) (v282 : IVec S16 32) (v285 : IVec S16 32) : Prop :=
  (∀ a x, ((![v63, v257, v282, v285] : Fin 4 → IVec S16 32) a x).toNat < S2x4x32x32.size a)
theorem k0_idx194_inb : ∀ (v63 : IVec S16 32) (v257 : IVec S16 32) (v282 : IVec S16 32) (v285 : IVec S16 32) (k0_hw158 : k0_chk158 v63 v257 v282 v285), ∀ a x, ((![v63, v257, v282, v285] : Fin 4 → IVec S16 32) a x).toNat < S2x4x32x32.size a := fun v63 v257 v282 v285 k0_hw158 => k0_hw158

def k0_chk159 (v33 : IVec S16 32) (v35 : IVec S16 32) (v63 : IVec S16 32) (v257 : IVec S16 32) (v287 : IVec S16 32) : Prop :=
  (∀ a x, ((![v63, v257, v287, v33] : Fin 4 → IVec S16 32) a x).toNat < S2x4x94x96.size a) ∧
  (∀ a x, ((![v63, v257, v287, v35] : Fin 4 → IVec S16 32) a x).toNat < S2x4x94x96.size a)
theorem k0_idx195_inb : ∀ (v33 : IVec S16 32) (v35 : IVec S16 32) (v63 : IVec S16 32) (v257 : IVec S16 32) (v287 : IVec S16 32) (k0_hw159 : k0_chk159 v33 v35 v63 v257 v287), ∀ a x, ((![v63, v257, v287, v33] : Fin 4 → IVec S16 32) a x).toNat < S2x4x94x96.size a := fun v33 v35 v63 v257 v287 k0_hw159 => k0_hw159.1
theorem k0_idx196_inb : ∀ (v33 : IVec S16 32) (v35 : IVec S16 32) (v63 : IVec S16 32) (v257 : IVec S16 32) (v287 : IVec S16 32) (k0_hw159 : k0_chk159 v33 v35 v63 v257 v287), ∀ a x, ((![v63, v257, v287, v35] : Fin 4 → IVec S16 32) a x).toNat < S2x4x94x96.size a := fun v33 v35 v63 v257 v287 k0_hw159 => k0_hw159.2

def k0_chk160 (v30 : IVec S16 32) (v63 : IVec S16 32) (v257 : IVec S16 32) (v288 : IVec S16 32) : Prop :=
  (∀ a x, ((![v63, v257, v288, v30] : Fin 4 → IVec S16 32) a x).toNat < S2x4x32x32.size a)
theorem k0_idx197_inb : ∀ (v30 : IVec S16 32) (v63 : IVec S16 32) (v257 : IVec S16 32) (v288 : IVec S16 32) (k0_hw160 : k0_chk160 v30 v63 v257 v288), ∀ a x, ((![v63, v257, v288, v30] : Fin 4 → IVec S16 32) a x).toNat < S2x4x32x32.size a := fun v30 v63 v257 v288 k0_hw160 => k0_hw160

def k0_chk161 (v63 : IVec S16 32) (v257 : IVec S16 32) (v288 : IVec S16 32) (v291 : IVec S16 32) : Prop :=
  (∀ a x, ((![v63, v257, v288, v291] : Fin 4 → IVec S16 32) a x).toNat < S2x4x32x32.size a)
theorem k0_idx198_inb : ∀ (v63 : IVec S16 32) (v257 : IVec S16 32) (v288 : IVec S16 32) (v291 : IVec S16 32) (k0_hw161 : k0_chk161 v63 v257 v288 v291), ∀ a x, ((![v63, v257, v288, v291] : Fin 4 → IVec S16 32) a x).toNat < S2x4x32x32.size a := fun v63 v257 v288 v291 k0_hw161 => k0_hw161

def k0_chk162 (v33 : IVec S16 32) (v35 : IVec S16 32) (v63 : IVec S16 32) (v257 : IVec S16 32) (v293 : IVec S16 32) : Prop :=
  (∀ a x, ((![v63, v257, v293, v33] : Fin 4 → IVec S16 32) a x).toNat < S2x4x94x96.size a) ∧
  (∀ a x, ((![v63, v257, v293, v35] : Fin 4 → IVec S16 32) a x).toNat < S2x4x94x96.size a)
theorem k0_idx199_inb : ∀ (v33 : IVec S16 32) (v35 : IVec S16 32) (v63 : IVec S16 32) (v257 : IVec S16 32) (v293 : IVec S16 32) (k0_hw162 : k0_chk162 v33 v35 v63 v257 v293), ∀ a x, ((![v63, v257, v293, v33] : Fin 4 → IVec S16 32) a x).toNat < S2x4x94x96.size a := fun v33 v35 v63 v257 v293 k0_hw162 => k0_hw162.1
theorem k0_idx200_inb : ∀ (v33 : IVec S16 32) (v35 : IVec S16 32) (v63 : IVec S16 32) (v257 : IVec S16 32) (v293 : IVec S16 32) (k0_hw162 : k0_chk162 v33 v35 v63 v257 v293), ∀ a x, ((![v63, v257, v293, v35] : Fin 4 → IVec S16 32) a x).toNat < S2x4x94x96.size a := fun v33 v35 v63 v257 v293 k0_hw162 => k0_hw162.2

def k0_chk163 (v30 : IVec S16 32) (v63 : IVec S16 32) (v257 : IVec S16 32) (v294 : IVec S16 32) : Prop :=
  (∀ a x, ((![v63, v257, v294, v30] : Fin 4 → IVec S16 32) a x).toNat < S2x4x32x32.size a)
theorem k0_idx201_inb : ∀ (v30 : IVec S16 32) (v63 : IVec S16 32) (v257 : IVec S16 32) (v294 : IVec S16 32) (k0_hw163 : k0_chk163 v30 v63 v257 v294), ∀ a x, ((![v63, v257, v294, v30] : Fin 4 → IVec S16 32) a x).toNat < S2x4x32x32.size a := fun v30 v63 v257 v294 k0_hw163 => k0_hw163

def k0_chk164 (v63 : IVec S16 32) (v257 : IVec S16 32) (v294 : IVec S16 32) (v297 : IVec S16 32) : Prop :=
  (∀ a x, ((![v63, v257, v294, v297] : Fin 4 → IVec S16 32) a x).toNat < S2x4x32x32.size a)
theorem k0_idx202_inb : ∀ (v63 : IVec S16 32) (v257 : IVec S16 32) (v294 : IVec S16 32) (v297 : IVec S16 32) (k0_hw164 : k0_chk164 v63 v257 v294 v297), ∀ a x, ((![v63, v257, v294, v297] : Fin 4 → IVec S16 32) a x).toNat < S2x4x32x32.size a := fun v63 v257 v294 v297 k0_hw164 => k0_hw164

def k0_chk165 (v33 : IVec S16 32) (v35 : IVec S16 32) (v63 : IVec S16 32) (v257 : IVec S16 32) (v299 : IVec S16 32) : Prop :=
  (∀ a x, ((![v63, v257, v299, v33] : Fin 4 → IVec S16 32) a x).toNat < S2x4x94x96.size a) ∧
  (∀ a x, ((![v63, v257, v299, v35] : Fin 4 → IVec S16 32) a x).toNat < S2x4x94x96.size a)
theorem k0_idx203_inb : ∀ (v33 : IVec S16 32) (v35 : IVec S16 32) (v63 : IVec S16 32) (v257 : IVec S16 32) (v299 : IVec S16 32) (k0_hw165 : k0_chk165 v33 v35 v63 v257 v299), ∀ a x, ((![v63, v257, v299, v33] : Fin 4 → IVec S16 32) a x).toNat < S2x4x94x96.size a := fun v33 v35 v63 v257 v299 k0_hw165 => k0_hw165.1
theorem k0_idx204_inb : ∀ (v33 : IVec S16 32) (v35 : IVec S16 32) (v63 : IVec S16 32) (v257 : IVec S16 32) (v299 : IVec S16 32) (k0_hw165 : k0_chk165 v33 v35 v63 v257 v299), ∀ a x, ((![v63, v257, v299, v35] : Fin 4 → IVec S16 32) a x).toNat < S2x4x94x96.size a := fun v33 v35 v63 v257 v299 k0_hw165 => k0_hw165.2

def k0_chk166 (v30 : IVec S16 32) (v63 : IVec S16 32) (v257 : IVec S16 32) (v300 : IVec S16 32) : Prop :=
  (∀ a x, ((![v63, v257, v300, v30] : Fin 4 → IVec S16 32) a x).toNat < S2x4x32x32.size a)
theorem k0_idx205_inb : ∀ (v30 : IVec S16 32) (v63 : IVec S16 32) (v257 : IVec S16 32) (v300 : IVec S16 32) (k0_hw166 : k0_chk166 v30 v63 v257 v300), ∀ a x, ((![v63, v257, v300, v30] : Fin 4 → IVec S16 32) a x).toNat < S2x4x32x32.size a := fun v30 v63 v257 v300 k0_hw166 => k0_hw166

def k0_chk167 (v63 : IVec S16 32) (v257 : IVec S16 32) (v300 : IVec S16 32) (v303 : IVec S16 32) : Prop :=
  (∀ a x, ((![v63, v257, v300, v303] : Fin 4 → IVec S16 32) a x).toNat < S2x4x32x32.size a)
theorem k0_idx206_inb : ∀ (v63 : IVec S16 32) (v257 : IVec S16 32) (v300 : IVec S16 32) (v303 : IVec S16 32) (k0_hw167 : k0_chk167 v63 v257 v300 v303), ∀ a x, ((![v63, v257, v300, v303] : Fin 4 → IVec S16 32) a x).toNat < S2x4x32x32.size a := fun v63 v257 v300 v303 k0_hw167 => k0_hw167

def k0_chk168 (v33 : IVec S16 32) (v35 : IVec S16 32) (v63 : IVec S16 32) (v257 : IVec S16 32) (v305 : IVec S16 32) : Prop :=
  (∀ a x, ((![v63, v257, v305, v33] : Fin 4 → IVec S16 32) a x).toNat < S2x4x94x96.size a) ∧
  (∀ a x, ((![v63, v257, v305, v35] : Fin 4 → IVec S16 32) a x).toNat < S2x4x94x96.size a)
theorem k0_idx207_inb : ∀ (v33 : IVec S16 32) (v35 : IVec S16 32) (v63 : IVec S16 32) (v257 : IVec S16 32) (v305 : IVec S16 32) (k0_hw168 : k0_chk168 v33 v35 v63 v257 v305), ∀ a x, ((![v63, v257, v305, v33] : Fin 4 → IVec S16 32) a x).toNat < S2x4x94x96.size a := fun v33 v35 v63 v257 v305 k0_hw168 => k0_hw168.1
theorem k0_idx208_inb : ∀ (v33 : IVec S16 32) (v35 : IVec S16 32) (v63 : IVec S16 32) (v257 : IVec S16 32) (v305 : IVec S16 32) (k0_hw168 : k0_chk168 v33 v35 v63 v257 v305), ∀ a x, ((![v63, v257, v305, v35] : Fin 4 → IVec S16 32) a x).toNat < S2x4x94x96.size a := fun v33 v35 v63 v257 v305 k0_hw168 => k0_hw168.2

def k0_chk169 (v30 : IVec S16 32) (v63 : IVec S16 32) (v257 : IVec S16 32) (v306 : IVec S16 32) : Prop :=
  (∀ a x, ((![v63, v257, v306, v30] : Fin 4 → IVec S16 32) a x).toNat < S2x4x32x32.size a)
theorem k0_idx209_inb : ∀ (v30 : IVec S16 32) (v63 : IVec S16 32) (v257 : IVec S16 32) (v306 : IVec S16 32) (k0_hw169 : k0_chk169 v30 v63 v257 v306), ∀ a x, ((![v63, v257, v306, v30] : Fin 4 → IVec S16 32) a x).toNat < S2x4x32x32.size a := fun v30 v63 v257 v306 k0_hw169 => k0_hw169

def k0_chk170 (v63 : IVec S16 32) (v257 : IVec S16 32) (v306 : IVec S16 32) (v309 : IVec S16 32) : Prop :=
  (∀ a x, ((![v63, v257, v306, v309] : Fin 4 → IVec S16 32) a x).toNat < S2x4x32x32.size a)
theorem k0_idx210_inb : ∀ (v63 : IVec S16 32) (v257 : IVec S16 32) (v306 : IVec S16 32) (v309 : IVec S16 32) (k0_hw170 : k0_chk170 v63 v257 v306 v309), ∀ a x, ((![v63, v257, v306, v309] : Fin 4 → IVec S16 32) a x).toNat < S2x4x32x32.size a := fun v63 v257 v306 v309 k0_hw170 => k0_hw170

def k0_chk171 (v33 : IVec S16 32) (v35 : IVec S16 32) (v63 : IVec S16 32) (v257 : IVec S16 32) (v311 : IVec S16 32) : Prop :=
  (∀ a x, ((![v63, v257, v311, v33] : Fin 4 → IVec S16 32) a x).toNat < S2x4x94x96.size a) ∧
  (∀ a x, ((![v63, v257, v311, v35] : Fin 4 → IVec S16 32) a x).toNat < S2x4x94x96.size a)
theorem k0_idx211_inb : ∀ (v33 : IVec S16 32) (v35 : IVec S16 32) (v63 : IVec S16 32) (v257 : IVec S16 32) (v311 : IVec S16 32) (k0_hw171 : k0_chk171 v33 v35 v63 v257 v311), ∀ a x, ((![v63, v257, v311, v33] : Fin 4 → IVec S16 32) a x).toNat < S2x4x94x96.size a := fun v33 v35 v63 v257 v311 k0_hw171 => k0_hw171.1
theorem k0_idx212_inb : ∀ (v33 : IVec S16 32) (v35 : IVec S16 32) (v63 : IVec S16 32) (v257 : IVec S16 32) (v311 : IVec S16 32) (k0_hw171 : k0_chk171 v33 v35 v63 v257 v311), ∀ a x, ((![v63, v257, v311, v35] : Fin 4 → IVec S16 32) a x).toNat < S2x4x94x96.size a := fun v33 v35 v63 v257 v311 k0_hw171 => k0_hw171.2

def k0_chk172 (v30 : IVec S16 32) (v63 : IVec S16 32) (v257 : IVec S16 32) (v312 : IVec S16 32) : Prop :=
  (∀ a x, ((![v63, v257, v312, v30] : Fin 4 → IVec S16 32) a x).toNat < S2x4x32x32.size a)
theorem k0_idx213_inb : ∀ (v30 : IVec S16 32) (v63 : IVec S16 32) (v257 : IVec S16 32) (v312 : IVec S16 32) (k0_hw172 : k0_chk172 v30 v63 v257 v312), ∀ a x, ((![v63, v257, v312, v30] : Fin 4 → IVec S16 32) a x).toNat < S2x4x32x32.size a := fun v30 v63 v257 v312 k0_hw172 => k0_hw172

def k0_chk173 (v63 : IVec S16 32) (v257 : IVec S16 32) (v312 : IVec S16 32) (v315 : IVec S16 32) : Prop :=
  (∀ a x, ((![v63, v257, v312, v315] : Fin 4 → IVec S16 32) a x).toNat < S2x4x32x32.size a)
theorem k0_idx214_inb : ∀ (v63 : IVec S16 32) (v257 : IVec S16 32) (v312 : IVec S16 32) (v315 : IVec S16 32) (k0_hw173 : k0_chk173 v63 v257 v312 v315), ∀ a x, ((![v63, v257, v312, v315] : Fin 4 → IVec S16 32) a x).toNat < S2x4x32x32.size a := fun v63 v257 v312 v315 k0_hw173 => k0_hw173

def k0_chk174 (v33 : IVec S16 32) (v35 : IVec S16 32) (v63 : IVec S16 32) (v257 : IVec S16 32) (v317 : IVec S16 32) : Prop :=
  (∀ a x, ((![v63, v257, v317, v33] : Fin 4 → IVec S16 32) a x).toNat < S2x4x94x96.size a) ∧
  (∀ a x, ((![v63, v257, v317, v35] : Fin 4 → IVec S16 32) a x).toNat < S2x4x94x96.size a)
theorem k0_idx215_inb : ∀ (v33 : IVec S16 32) (v35 : IVec S16 32) (v63 : IVec S16 32) (v257 : IVec S16 32) (v317 : IVec S16 32) (k0_hw174 : k0_chk174 v33 v35 v63 v257 v317), ∀ a x, ((![v63, v257, v317, v33] : Fin 4 → IVec S16 32) a x).toNat < S2x4x94x96.size a := fun v33 v35 v63 v257 v317 k0_hw174 => k0_hw174.1
theorem k0_idx216_inb : ∀ (v33 : IVec S16 32) (v35 : IVec S16 32) (v63 : IVec S16 32) (v257 : IVec S16 32) (v317 : IVec S16 32) (k0_hw174 : k0_chk174 v33 v35 v63 v257 v317), ∀ a x, ((![v63, v257, v317, v35] : Fin 4 → IVec S16 32) a x).toNat < S2x4x94x96.size a := fun v33 v35 v63 v257 v317 k0_hw174 => k0_hw174.2

def k0_chk175 (v30 : IVec S16 32) (v63 : IVec S16 32) (v257 : IVec S16 32) (v318 : IVec S16 32) : Prop :=
  (∀ a x, ((![v63, v257, v318, v30] : Fin 4 → IVec S16 32) a x).toNat < S2x4x32x32.size a)
theorem k0_idx217_inb : ∀ (v30 : IVec S16 32) (v63 : IVec S16 32) (v257 : IVec S16 32) (v318 : IVec S16 32) (k0_hw175 : k0_chk175 v30 v63 v257 v318), ∀ a x, ((![v63, v257, v318, v30] : Fin 4 → IVec S16 32) a x).toNat < S2x4x32x32.size a := fun v30 v63 v257 v318 k0_hw175 => k0_hw175

def k0_chk176 (v63 : IVec S16 32) (v257 : IVec S16 32) (v318 : IVec S16 32) (v321 : IVec S16 32) : Prop :=
  (∀ a x, ((![v63, v257, v318, v321] : Fin 4 → IVec S16 32) a x).toNat < S2x4x32x32.size a)
theorem k0_idx218_inb : ∀ (v63 : IVec S16 32) (v257 : IVec S16 32) (v318 : IVec S16 32) (v321 : IVec S16 32) (k0_hw176 : k0_chk176 v63 v257 v318 v321), ∀ a x, ((![v63, v257, v318, v321] : Fin 4 → IVec S16 32) a x).toNat < S2x4x32x32.size a := fun v63 v257 v318 v321 k0_hw176 => k0_hw176

def k0_chk177 (v33 : IVec S16 32) (v35 : IVec S16 32) (v63 : IVec S16 32) (v257 : IVec S16 32) (v323 : IVec S16 32) : Prop :=
  (∀ a x, ((![v63, v257, v323, v33] : Fin 4 → IVec S16 32) a x).toNat < S2x4x94x96.size a) ∧
  (∀ a x, ((![v63, v257, v323, v35] : Fin 4 → IVec S16 32) a x).toNat < S2x4x94x96.size a)
theorem k0_idx219_inb : ∀ (v33 : IVec S16 32) (v35 : IVec S16 32) (v63 : IVec S16 32) (v257 : IVec S16 32) (v323 : IVec S16 32) (k0_hw177 : k0_chk177 v33 v35 v63 v257 v323), ∀ a x, ((![v63, v257, v323, v33] : Fin 4 → IVec S16 32) a x).toNat < S2x4x94x96.size a := fun v33 v35 v63 v257 v323 k0_hw177 => k0_hw177.1
theorem k0_idx220_inb : ∀ (v33 : IVec S16 32) (v35 : IVec S16 32) (v63 : IVec S16 32) (v257 : IVec S16 32) (v323 : IVec S16 32) (k0_hw177 : k0_chk177 v33 v35 v63 v257 v323), ∀ a x, ((![v63, v257, v323, v35] : Fin 4 → IVec S16 32) a x).toNat < S2x4x94x96.size a := fun v33 v35 v63 v257 v323 k0_hw177 => k0_hw177.2

def k0_chk178 (v30 : IVec S16 32) (v63 : IVec S16 32) (v257 : IVec S16 32) (v324 : IVec S16 32) : Prop :=
  (∀ a x, ((![v63, v257, v324, v30] : Fin 4 → IVec S16 32) a x).toNat < S2x4x32x32.size a)
theorem k0_idx221_inb : ∀ (v30 : IVec S16 32) (v63 : IVec S16 32) (v257 : IVec S16 32) (v324 : IVec S16 32) (k0_hw178 : k0_chk178 v30 v63 v257 v324), ∀ a x, ((![v63, v257, v324, v30] : Fin 4 → IVec S16 32) a x).toNat < S2x4x32x32.size a := fun v30 v63 v257 v324 k0_hw178 => k0_hw178

def k0_chk179 (v63 : IVec S16 32) (v257 : IVec S16 32) (v324 : IVec S16 32) (v327 : IVec S16 32) : Prop :=
  (∀ a x, ((![v63, v257, v324, v327] : Fin 4 → IVec S16 32) a x).toNat < S2x4x32x32.size a)
theorem k0_idx222_inb : ∀ (v63 : IVec S16 32) (v257 : IVec S16 32) (v324 : IVec S16 32) (v327 : IVec S16 32) (k0_hw179 : k0_chk179 v63 v257 v324 v327), ∀ a x, ((![v63, v257, v324, v327] : Fin 4 → IVec S16 32) a x).toNat < S2x4x32x32.size a := fun v63 v257 v324 v327 k0_hw179 => k0_hw179

def k0_chk180 (v33 : IVec S16 32) (v35 : IVec S16 32) (v63 : IVec S16 32) (v257 : IVec S16 32) (v329 : IVec S16 32) : Prop :=
  (∀ a x, ((![v63, v257, v329, v33] : Fin 4 → IVec S16 32) a x).toNat < S2x4x94x96.size a) ∧
  (∀ a x, ((![v63, v257, v329, v35] : Fin 4 → IVec S16 32) a x).toNat < S2x4x94x96.size a)
theorem k0_idx223_inb : ∀ (v33 : IVec S16 32) (v35 : IVec S16 32) (v63 : IVec S16 32) (v257 : IVec S16 32) (v329 : IVec S16 32) (k0_hw180 : k0_chk180 v33 v35 v63 v257 v329), ∀ a x, ((![v63, v257, v329, v33] : Fin 4 → IVec S16 32) a x).toNat < S2x4x94x96.size a := fun v33 v35 v63 v257 v329 k0_hw180 => k0_hw180.1
theorem k0_idx224_inb : ∀ (v33 : IVec S16 32) (v35 : IVec S16 32) (v63 : IVec S16 32) (v257 : IVec S16 32) (v329 : IVec S16 32) (k0_hw180 : k0_chk180 v33 v35 v63 v257 v329), ∀ a x, ((![v63, v257, v329, v35] : Fin 4 → IVec S16 32) a x).toNat < S2x4x94x96.size a := fun v33 v35 v63 v257 v329 k0_hw180 => k0_hw180.2

def k0_chk181 (v30 : IVec S16 32) (v63 : IVec S16 32) (v257 : IVec S16 32) (v330 : IVec S16 32) : Prop :=
  (∀ a x, ((![v63, v257, v330, v30] : Fin 4 → IVec S16 32) a x).toNat < S2x4x32x32.size a)
theorem k0_idx225_inb : ∀ (v30 : IVec S16 32) (v63 : IVec S16 32) (v257 : IVec S16 32) (v330 : IVec S16 32) (k0_hw181 : k0_chk181 v30 v63 v257 v330), ∀ a x, ((![v63, v257, v330, v30] : Fin 4 → IVec S16 32) a x).toNat < S2x4x32x32.size a := fun v30 v63 v257 v330 k0_hw181 => k0_hw181

def k0_chk182 (v63 : IVec S16 32) (v257 : IVec S16 32) (v330 : IVec S16 32) (v333 : IVec S16 32) : Prop :=
  (∀ a x, ((![v63, v257, v330, v333] : Fin 4 → IVec S16 32) a x).toNat < S2x4x32x32.size a)
theorem k0_idx226_inb : ∀ (v63 : IVec S16 32) (v257 : IVec S16 32) (v330 : IVec S16 32) (v333 : IVec S16 32) (k0_hw182 : k0_chk182 v63 v257 v330 v333), ∀ a x, ((![v63, v257, v330, v333] : Fin 4 → IVec S16 32) a x).toNat < S2x4x32x32.size a := fun v63 v257 v330 v333 k0_hw182 => k0_hw182

def k0_chk183 (v33 : IVec S16 32) (v35 : IVec S16 32) (v63 : IVec S16 32) (v257 : IVec S16 32) (v335 : IVec S16 32) : Prop :=
  (∀ a x, ((![v63, v257, v335, v33] : Fin 4 → IVec S16 32) a x).toNat < S2x4x94x96.size a) ∧
  (∀ a x, ((![v63, v257, v335, v35] : Fin 4 → IVec S16 32) a x).toNat < S2x4x94x96.size a)
theorem k0_idx227_inb : ∀ (v33 : IVec S16 32) (v35 : IVec S16 32) (v63 : IVec S16 32) (v257 : IVec S16 32) (v335 : IVec S16 32) (k0_hw183 : k0_chk183 v33 v35 v63 v257 v335), ∀ a x, ((![v63, v257, v335, v33] : Fin 4 → IVec S16 32) a x).toNat < S2x4x94x96.size a := fun v33 v35 v63 v257 v335 k0_hw183 => k0_hw183.1
theorem k0_idx228_inb : ∀ (v33 : IVec S16 32) (v35 : IVec S16 32) (v63 : IVec S16 32) (v257 : IVec S16 32) (v335 : IVec S16 32) (k0_hw183 : k0_chk183 v33 v35 v63 v257 v335), ∀ a x, ((![v63, v257, v335, v35] : Fin 4 → IVec S16 32) a x).toNat < S2x4x94x96.size a := fun v33 v35 v63 v257 v335 k0_hw183 => k0_hw183.2

def k0_chk184 (v30 : IVec S16 32) (v63 : IVec S16 32) (v257 : IVec S16 32) (v336 : IVec S16 32) : Prop :=
  (∀ a x, ((![v63, v257, v336, v30] : Fin 4 → IVec S16 32) a x).toNat < S2x4x32x32.size a)
theorem k0_idx229_inb : ∀ (v30 : IVec S16 32) (v63 : IVec S16 32) (v257 : IVec S16 32) (v336 : IVec S16 32) (k0_hw184 : k0_chk184 v30 v63 v257 v336), ∀ a x, ((![v63, v257, v336, v30] : Fin 4 → IVec S16 32) a x).toNat < S2x4x32x32.size a := fun v30 v63 v257 v336 k0_hw184 => k0_hw184

def k0_chk185 (v63 : IVec S16 32) (v257 : IVec S16 32) (v336 : IVec S16 32) (v339 : IVec S16 32) : Prop :=
  (∀ a x, ((![v63, v257, v336, v339] : Fin 4 → IVec S16 32) a x).toNat < S2x4x32x32.size a)
theorem k0_idx230_inb : ∀ (v63 : IVec S16 32) (v257 : IVec S16 32) (v336 : IVec S16 32) (v339 : IVec S16 32) (k0_hw185 : k0_chk185 v63 v257 v336 v339), ∀ a x, ((![v63, v257, v336, v339] : Fin 4 → IVec S16 32) a x).toNat < S2x4x32x32.size a := fun v63 v257 v336 v339 k0_hw185 => k0_hw185

def k0_chk186 (v33 : IVec S16 32) (v35 : IVec S16 32) (v63 : IVec S16 32) (v257 : IVec S16 32) (v341 : IVec S16 32) : Prop :=
  (∀ a x, ((![v63, v257, v341, v33] : Fin 4 → IVec S16 32) a x).toNat < S2x4x94x96.size a) ∧
  (∀ a x, ((![v63, v257, v341, v35] : Fin 4 → IVec S16 32) a x).toNat < S2x4x94x96.size a)
theorem k0_idx231_inb : ∀ (v33 : IVec S16 32) (v35 : IVec S16 32) (v63 : IVec S16 32) (v257 : IVec S16 32) (v341 : IVec S16 32) (k0_hw186 : k0_chk186 v33 v35 v63 v257 v341), ∀ a x, ((![v63, v257, v341, v33] : Fin 4 → IVec S16 32) a x).toNat < S2x4x94x96.size a := fun v33 v35 v63 v257 v341 k0_hw186 => k0_hw186.1
theorem k0_idx232_inb : ∀ (v33 : IVec S16 32) (v35 : IVec S16 32) (v63 : IVec S16 32) (v257 : IVec S16 32) (v341 : IVec S16 32) (k0_hw186 : k0_chk186 v33 v35 v63 v257 v341), ∀ a x, ((![v63, v257, v341, v35] : Fin 4 → IVec S16 32) a x).toNat < S2x4x94x96.size a := fun v33 v35 v63 v257 v341 k0_hw186 => k0_hw186.2

def k0_chk187 (v30 : IVec S16 32) (v63 : IVec S16 32) (v257 : IVec S16 32) (v342 : IVec S16 32) : Prop :=
  (∀ a x, ((![v63, v257, v342, v30] : Fin 4 → IVec S16 32) a x).toNat < S2x4x32x32.size a)
theorem k0_idx233_inb : ∀ (v30 : IVec S16 32) (v63 : IVec S16 32) (v257 : IVec S16 32) (v342 : IVec S16 32) (k0_hw187 : k0_chk187 v30 v63 v257 v342), ∀ a x, ((![v63, v257, v342, v30] : Fin 4 → IVec S16 32) a x).toNat < S2x4x32x32.size a := fun v30 v63 v257 v342 k0_hw187 => k0_hw187

def k0_chk188 (v63 : IVec S16 32) (v257 : IVec S16 32) (v342 : IVec S16 32) (v345 : IVec S16 32) : Prop :=
  (∀ a x, ((![v63, v257, v342, v345] : Fin 4 → IVec S16 32) a x).toNat < S2x4x32x32.size a)
theorem k0_idx234_inb : ∀ (v63 : IVec S16 32) (v257 : IVec S16 32) (v342 : IVec S16 32) (v345 : IVec S16 32) (k0_hw188 : k0_chk188 v63 v257 v342 v345), ∀ a x, ((![v63, v257, v342, v345] : Fin 4 → IVec S16 32) a x).toNat < S2x4x32x32.size a := fun v63 v257 v342 v345 k0_hw188 => k0_hw188

def k0_chk189 (v33 : IVec S16 32) (v35 : IVec S16 32) (v63 : IVec S16 32) (v257 : IVec S16 32) (v347 : IVec S16 32) : Prop :=
  (∀ a x, ((![v63, v257, v347, v33] : Fin 4 → IVec S16 32) a x).toNat < S2x4x94x96.size a) ∧
  (∀ a x, ((![v63, v257, v347, v35] : Fin 4 → IVec S16 32) a x).toNat < S2x4x94x96.size a)
theorem k0_idx235_inb : ∀ (v33 : IVec S16 32) (v35 : IVec S16 32) (v63 : IVec S16 32) (v257 : IVec S16 32) (v347 : IVec S16 32) (k0_hw189 : k0_chk189 v33 v35 v63 v257 v347), ∀ a x, ((![v63, v257, v347, v33] : Fin 4 → IVec S16 32) a x).toNat < S2x4x94x96.size a := fun v33 v35 v63 v257 v347 k0_hw189 => k0_hw189.1
theorem k0_idx236_inb : ∀ (v33 : IVec S16 32) (v35 : IVec S16 32) (v63 : IVec S16 32) (v257 : IVec S16 32) (v347 : IVec S16 32) (k0_hw189 : k0_chk189 v33 v35 v63 v257 v347), ∀ a x, ((![v63, v257, v347, v35] : Fin 4 → IVec S16 32) a x).toNat < S2x4x94x96.size a := fun v33 v35 v63 v257 v347 k0_hw189 => k0_hw189.2

def k0_chk190 (v30 : IVec S16 32) (v63 : IVec S16 32) (v257 : IVec S16 32) (v348 : IVec S16 32) : Prop :=
  (∀ a x, ((![v63, v257, v348, v30] : Fin 4 → IVec S16 32) a x).toNat < S2x4x32x32.size a)
theorem k0_idx237_inb : ∀ (v30 : IVec S16 32) (v63 : IVec S16 32) (v257 : IVec S16 32) (v348 : IVec S16 32) (k0_hw190 : k0_chk190 v30 v63 v257 v348), ∀ a x, ((![v63, v257, v348, v30] : Fin 4 → IVec S16 32) a x).toNat < S2x4x32x32.size a := fun v30 v63 v257 v348 k0_hw190 => k0_hw190

def k0_chk191 (v63 : IVec S16 32) (v257 : IVec S16 32) (v348 : IVec S16 32) (v351 : IVec S16 32) : Prop :=
  (∀ a x, ((![v63, v257, v348, v351] : Fin 4 → IVec S16 32) a x).toNat < S2x4x32x32.size a)
theorem k0_idx238_inb : ∀ (v63 : IVec S16 32) (v257 : IVec S16 32) (v348 : IVec S16 32) (v351 : IVec S16 32) (k0_hw191 : k0_chk191 v63 v257 v348 v351), ∀ a x, ((![v63, v257, v348, v351] : Fin 4 → IVec S16 32) a x).toNat < S2x4x32x32.size a := fun v63 v257 v348 v351 k0_hw191 => k0_hw191

def k0_chk192 (v33 : IVec S16 32) (v35 : IVec S16 32) (v63 : IVec S16 32) (v257 : IVec S16 32) (v353 : IVec S16 32) : Prop :=
  (∀ a x, ((![v63, v257, v353, v33] : Fin 4 → IVec S16 32) a x).toNat < S2x4x94x96.size a) ∧
  (∀ a x, ((![v63, v257, v353, v35] : Fin 4 → IVec S16 32) a x).toNat < S2x4x94x96.size a)
theorem k0_idx239_inb : ∀ (v33 : IVec S16 32) (v35 : IVec S16 32) (v63 : IVec S16 32) (v257 : IVec S16 32) (v353 : IVec S16 32) (k0_hw192 : k0_chk192 v33 v35 v63 v257 v353), ∀ a x, ((![v63, v257, v353, v33] : Fin 4 → IVec S16 32) a x).toNat < S2x4x94x96.size a := fun v33 v35 v63 v257 v353 k0_hw192 => k0_hw192.1
theorem k0_idx240_inb : ∀ (v33 : IVec S16 32) (v35 : IVec S16 32) (v63 : IVec S16 32) (v257 : IVec S16 32) (v353 : IVec S16 32) (k0_hw192 : k0_chk192 v33 v35 v63 v257 v353), ∀ a x, ((![v63, v257, v353, v35] : Fin 4 → IVec S16 32) a x).toNat < S2x4x94x96.size a := fun v33 v35 v63 v257 v353 k0_hw192 => k0_hw192.2

def k0_chk193 (v30 : IVec S16 32) (v63 : IVec S16 32) (v257 : IVec S16 32) (v354 : IVec S16 32) : Prop :=
  (∀ a x, ((![v63, v257, v354, v30] : Fin 4 → IVec S16 32) a x).toNat < S2x4x32x32.size a)
theorem k0_idx241_inb : ∀ (v30 : IVec S16 32) (v63 : IVec S16 32) (v257 : IVec S16 32) (v354 : IVec S16 32) (k0_hw193 : k0_chk193 v30 v63 v257 v354), ∀ a x, ((![v63, v257, v354, v30] : Fin 4 → IVec S16 32) a x).toNat < S2x4x32x32.size a := fun v30 v63 v257 v354 k0_hw193 => k0_hw193

def k0_chk194 (v63 : IVec S16 32) (v257 : IVec S16 32) (v354 : IVec S16 32) (v357 : IVec S16 32) : Prop :=
  (∀ a x, ((![v63, v257, v354, v357] : Fin 4 → IVec S16 32) a x).toNat < S2x4x32x32.size a)
theorem k0_idx242_inb : ∀ (v63 : IVec S16 32) (v257 : IVec S16 32) (v354 : IVec S16 32) (v357 : IVec S16 32) (k0_hw194 : k0_chk194 v63 v257 v354 v357), ∀ a x, ((![v63, v257, v354, v357] : Fin 4 → IVec S16 32) a x).toNat < S2x4x32x32.size a := fun v63 v257 v354 v357 k0_hw194 => k0_hw194

def k0_chk195 (v33 : IVec S16 32) (v35 : IVec S16 32) (v63 : IVec S16 32) (v257 : IVec S16 32) (v359 : IVec S16 32) : Prop :=
  (∀ a x, ((![v63, v257, v359, v33] : Fin 4 → IVec S16 32) a x).toNat < S2x4x94x96.size a) ∧
  (∀ a x, ((![v63, v257, v359, v35] : Fin 4 → IVec S16 32) a x).toNat < S2x4x94x96.size a)
theorem k0_idx243_inb : ∀ (v33 : IVec S16 32) (v35 : IVec S16 32) (v63 : IVec S16 32) (v257 : IVec S16 32) (v359 : IVec S16 32) (k0_hw195 : k0_chk195 v33 v35 v63 v257 v359), ∀ a x, ((![v63, v257, v359, v33] : Fin 4 → IVec S16 32) a x).toNat < S2x4x94x96.size a := fun v33 v35 v63 v257 v359 k0_hw195 => k0_hw195.1
theorem k0_idx244_inb : ∀ (v33 : IVec S16 32) (v35 : IVec S16 32) (v63 : IVec S16 32) (v257 : IVec S16 32) (v359 : IVec S16 32) (k0_hw195 : k0_chk195 v33 v35 v63 v257 v359), ∀ a x, ((![v63, v257, v359, v35] : Fin 4 → IVec S16 32) a x).toNat < S2x4x94x96.size a := fun v33 v35 v63 v257 v359 k0_hw195 => k0_hw195.2

def k0_chk196 (v30 : IVec S16 32) (v63 : IVec S16 32) (v257 : IVec S16 32) (v360 : IVec S16 32) : Prop :=
  (∀ a x, ((![v63, v257, v360, v30] : Fin 4 → IVec S16 32) a x).toNat < S2x4x32x32.size a)
theorem k0_idx245_inb : ∀ (v30 : IVec S16 32) (v63 : IVec S16 32) (v257 : IVec S16 32) (v360 : IVec S16 32) (k0_hw196 : k0_chk196 v30 v63 v257 v360), ∀ a x, ((![v63, v257, v360, v30] : Fin 4 → IVec S16 32) a x).toNat < S2x4x32x32.size a := fun v30 v63 v257 v360 k0_hw196 => k0_hw196

def k0_chk197 (v63 : IVec S16 32) (v257 : IVec S16 32) (v360 : IVec S16 32) (v363 : IVec S16 32) : Prop :=
  (∀ a x, ((![v63, v257, v360, v363] : Fin 4 → IVec S16 32) a x).toNat < S2x4x32x32.size a)
theorem k0_idx246_inb : ∀ (v63 : IVec S16 32) (v257 : IVec S16 32) (v360 : IVec S16 32) (v363 : IVec S16 32) (k0_hw197 : k0_chk197 v63 v257 v360 v363), ∀ a x, ((![v63, v257, v360, v363] : Fin 4 → IVec S16 32) a x).toNat < S2x4x32x32.size a := fun v63 v257 v360 v363 k0_hw197 => k0_hw197

def k0_chk198 (v33 : IVec S16 32) (v35 : IVec S16 32) (v63 : IVec S16 32) (v257 : IVec S16 32) (v365 : IVec S16 32) : Prop :=
  (∀ a x, ((![v63, v257, v365, v33] : Fin 4 → IVec S16 32) a x).toNat < S2x4x94x96.size a) ∧
  (∀ a x, ((![v63, v257, v365, v35] : Fin 4 → IVec S16 32) a x).toNat < S2x4x94x96.size a)
theorem k0_idx247_inb : ∀ (v33 : IVec S16 32) (v35 : IVec S16 32) (v63 : IVec S16 32) (v257 : IVec S16 32) (v365 : IVec S16 32) (k0_hw198 : k0_chk198 v33 v35 v63 v257 v365), ∀ a x, ((![v63, v257, v365, v33] : Fin 4 → IVec S16 32) a x).toNat < S2x4x94x96.size a := fun v33 v35 v63 v257 v365 k0_hw198 => k0_hw198.1
theorem k0_idx248_inb : ∀ (v33 : IVec S16 32) (v35 : IVec S16 32) (v63 : IVec S16 32) (v257 : IVec S16 32) (v365 : IVec S16 32) (k0_hw198 : k0_chk198 v33 v35 v63 v257 v365), ∀ a x, ((![v63, v257, v365, v35] : Fin 4 → IVec S16 32) a x).toNat < S2x4x94x96.size a := fun v33 v35 v63 v257 v365 k0_hw198 => k0_hw198.2

def k0_chk199 (v30 : IVec S16 32) (v63 : IVec S16 32) (v257 : IVec S16 32) (v366 : IVec S16 32) : Prop :=
  (∀ a x, ((![v63, v257, v366, v30] : Fin 4 → IVec S16 32) a x).toNat < S2x4x32x32.size a)
theorem k0_idx249_inb : ∀ (v30 : IVec S16 32) (v63 : IVec S16 32) (v257 : IVec S16 32) (v366 : IVec S16 32) (k0_hw199 : k0_chk199 v30 v63 v257 v366), ∀ a x, ((![v63, v257, v366, v30] : Fin 4 → IVec S16 32) a x).toNat < S2x4x32x32.size a := fun v30 v63 v257 v366 k0_hw199 => k0_hw199

def k0_chk200 (v63 : IVec S16 32) (v257 : IVec S16 32) (v366 : IVec S16 32) (v369 : IVec S16 32) : Prop :=
  (∀ a x, ((![v63, v257, v366, v369] : Fin 4 → IVec S16 32) a x).toNat < S2x4x32x32.size a)
theorem k0_idx250_inb : ∀ (v63 : IVec S16 32) (v257 : IVec S16 32) (v366 : IVec S16 32) (v369 : IVec S16 32) (k0_hw200 : k0_chk200 v63 v257 v366 v369), ∀ a x, ((![v63, v257, v366, v369] : Fin 4 → IVec S16 32) a x).toNat < S2x4x32x32.size a := fun v63 v257 v366 v369 k0_hw200 => k0_hw200

def k0_chk201 (v33 : IVec S16 32) (v35 : IVec S16 32) (v63 : IVec S16 32) (v257 : IVec S16 32) (v371 : IVec S16 32) : Prop :=
  (∀ a x, ((![v63, v257, v371, v33] : Fin 4 → IVec S16 32) a x).toNat < S2x4x94x96.size a) ∧
  (∀ a x, ((![v63, v257, v371, v35] : Fin 4 → IVec S16 32) a x).toNat < S2x4x94x96.size a)
theorem k0_idx251_inb : ∀ (v33 : IVec S16 32) (v35 : IVec S16 32) (v63 : IVec S16 32) (v257 : IVec S16 32) (v371 : IVec S16 32) (k0_hw201 : k0_chk201 v33 v35 v63 v257 v371), ∀ a x, ((![v63, v257, v371, v33] : Fin 4 → IVec S16 32) a x).toNat < S2x4x94x96.size a := fun v33 v35 v63 v257 v371 k0_hw201 => k0_hw201.1
theorem k0_idx252_inb : ∀ (v33 : IVec S16 32) (v35 : IVec S16 32) (v63 : IVec S16 32) (v257 : IVec S16 32) (v371 : IVec S16 32) (k0_hw201 : k0_chk201 v33 v35 v63 v257 v371), ∀ a x, ((![v63, v257, v371, v35] : Fin 4 → IVec S16 32) a x).toNat < S2x4x94x96.size a := fun v33 v35 v63 v257 v371 k0_hw201 => k0_hw201.2

def k0_chk202 (v30 : IVec S16 32) (v63 : IVec S16 32) (v257 : IVec S16 32) (v372 : IVec S16 32) : Prop :=
  (∀ a x, ((![v63, v257, v372, v30] : Fin 4 → IVec S16 32) a x).toNat < S2x4x32x32.size a)
theorem k0_idx253_inb : ∀ (v30 : IVec S16 32) (v63 : IVec S16 32) (v257 : IVec S16 32) (v372 : IVec S16 32) (k0_hw202 : k0_chk202 v30 v63 v257 v372), ∀ a x, ((![v63, v257, v372, v30] : Fin 4 → IVec S16 32) a x).toNat < S2x4x32x32.size a := fun v30 v63 v257 v372 k0_hw202 => k0_hw202

def k0_chk203 (v63 : IVec S16 32) (v257 : IVec S16 32) (v372 : IVec S16 32) (v375 : IVec S16 32) : Prop :=
  (∀ a x, ((![v63, v257, v372, v375] : Fin 4 → IVec S16 32) a x).toNat < S2x4x32x32.size a)
theorem k0_idx254_inb : ∀ (v63 : IVec S16 32) (v257 : IVec S16 32) (v372 : IVec S16 32) (v375 : IVec S16 32) (k0_hw203 : k0_chk203 v63 v257 v372 v375), ∀ a x, ((![v63, v257, v372, v375] : Fin 4 → IVec S16 32) a x).toNat < S2x4x32x32.size a := fun v63 v257 v372 v375 k0_hw203 => k0_hw203

def k0_chk204 (v33 : IVec S16 32) (v35 : IVec S16 32) (v63 : IVec S16 32) (v257 : IVec S16 32) (v377 : IVec S16 32) : Prop :=
  (∀ a x, ((![v63, v257, v377, v33] : Fin 4 → IVec S16 32) a x).toNat < S2x4x94x96.size a) ∧
  (∀ a x, ((![v63, v257, v377, v35] : Fin 4 → IVec S16 32) a x).toNat < S2x4x94x96.size a)
theorem k0_idx255_inb : ∀ (v33 : IVec S16 32) (v35 : IVec S16 32) (v63 : IVec S16 32) (v257 : IVec S16 32) (v377 : IVec S16 32) (k0_hw204 : k0_chk204 v33 v35 v63 v257 v377), ∀ a x, ((![v63, v257, v377, v33] : Fin 4 → IVec S16 32) a x).toNat < S2x4x94x96.size a := fun v33 v35 v63 v257 v377 k0_hw204 => k0_hw204.1
theorem k0_idx256_inb : ∀ (v33 : IVec S16 32) (v35 : IVec S16 32) (v63 : IVec S16 32) (v257 : IVec S16 32) (v377 : IVec S16 32) (k0_hw204 : k0_chk204 v33 v35 v63 v257 v377), ∀ a x, ((![v63, v257, v377, v35] : Fin 4 → IVec S16 32) a x).toNat < S2x4x94x96.size a := fun v33 v35 v63 v257 v377 k0_hw204 => k0_hw204.2

def k0_chk205 (v30 : IVec S16 32) (v63 : IVec S16 32) (v257 : IVec S16 32) (v378 : IVec S16 32) : Prop :=
  (∀ a x, ((![v63, v257, v378, v30] : Fin 4 → IVec S16 32) a x).toNat < S2x4x32x32.size a)
theorem k0_idx257_inb : ∀ (v30 : IVec S16 32) (v63 : IVec S16 32) (v257 : IVec S16 32) (v378 : IVec S16 32) (k0_hw205 : k0_chk205 v30 v63 v257 v378), ∀ a x, ((![v63, v257, v378, v30] : Fin 4 → IVec S16 32) a x).toNat < S2x4x32x32.size a := fun v30 v63 v257 v378 k0_hw205 => k0_hw205

def k0_chk206 (v63 : IVec S16 32) (v257 : IVec S16 32) (v378 : IVec S16 32) (v381 : IVec S16 32) : Prop :=
  (∀ a x, ((![v63, v257, v378, v381] : Fin 4 → IVec S16 32) a x).toNat < S2x4x32x32.size a)
theorem k0_idx258_inb : ∀ (v63 : IVec S16 32) (v257 : IVec S16 32) (v378 : IVec S16 32) (v381 : IVec S16 32) (k0_hw206 : k0_chk206 v63 v257 v378 v381), ∀ a x, ((![v63, v257, v378, v381] : Fin 4 → IVec S16 32) a x).toNat < S2x4x32x32.size a := fun v63 v257 v378 v381 k0_hw206 => k0_hw206

def k0_chk207 (v33 : IVec S16 32) (v35 : IVec S16 32) (v63 : IVec S16 32) (v257 : IVec S16 32) (v383 : IVec S16 32) : Prop :=
  (∀ a x, ((![v63, v257, v383, v33] : Fin 4 → IVec S16 32) a x).toNat < S2x4x94x96.size a) ∧
  (∀ a x, ((![v63, v257, v383, v35] : Fin 4 → IVec S16 32) a x).toNat < S2x4x94x96.size a)
theorem k0_idx259_inb : ∀ (v33 : IVec S16 32) (v35 : IVec S16 32) (v63 : IVec S16 32) (v257 : IVec S16 32) (v383 : IVec S16 32) (k0_hw207 : k0_chk207 v33 v35 v63 v257 v383), ∀ a x, ((![v63, v257, v383, v33] : Fin 4 → IVec S16 32) a x).toNat < S2x4x94x96.size a := fun v33 v35 v63 v257 v383 k0_hw207 => k0_hw207.1
theorem k0_idx260_inb : ∀ (v33 : IVec S16 32) (v35 : IVec S16 32) (v63 : IVec S16 32) (v257 : IVec S16 32) (v383 : IVec S16 32) (k0_hw207 : k0_chk207 v33 v35 v63 v257 v383), ∀ a x, ((![v63, v257, v383, v35] : Fin 4 → IVec S16 32) a x).toNat < S2x4x94x96.size a := fun v33 v35 v63 v257 v383 k0_hw207 => k0_hw207.2

def k0_chk208 (v30 : IVec S16 32) (v63 : IVec S16 32) (v257 : IVec S16 32) (v384 : IVec S16 32) : Prop :=
  (∀ a x, ((![v63, v257, v384, v30] : Fin 4 → IVec S16 32) a x).toNat < S2x4x32x32.size a)
theorem k0_idx261_inb : ∀ (v30 : IVec S16 32) (v63 : IVec S16 32) (v257 : IVec S16 32) (v384 : IVec S16 32) (k0_hw208 : k0_chk208 v30 v63 v257 v384), ∀ a x, ((![v63, v257, v384, v30] : Fin 4 → IVec S16 32) a x).toNat < S2x4x32x32.size a := fun v30 v63 v257 v384 k0_hw208 => k0_hw208

def k0_chk209 (v63 : IVec S16 32) (v257 : IVec S16 32) (v384 : IVec S16 32) (v387 : IVec S16 32) : Prop :=
  (∀ a x, ((![v63, v257, v384, v387] : Fin 4 → IVec S16 32) a x).toNat < S2x4x32x32.size a)
theorem k0_idx262_inb : ∀ (v63 : IVec S16 32) (v257 : IVec S16 32) (v384 : IVec S16 32) (v387 : IVec S16 32) (k0_hw209 : k0_chk209 v63 v257 v384 v387), ∀ a x, ((![v63, v257, v384, v387] : Fin 4 → IVec S16 32) a x).toNat < S2x4x32x32.size a := fun v63 v257 v384 v387 k0_hw209 => k0_hw209

def k0_chk210 (v33 : IVec S16 32) (v35 : IVec S16 32) (v63 : IVec S16 32) (v257 : IVec S16 32) (v389 : IVec S16 32) : Prop :=
  (∀ a x, ((![v63, v257, v389, v33] : Fin 4 → IVec S16 32) a x).toNat < S2x4x94x96.size a) ∧
  (∀ a x, ((![v63, v257, v389, v35] : Fin 4 → IVec S16 32) a x).toNat < S2x4x94x96.size a)
theorem k0_idx263_inb : ∀ (v33 : IVec S16 32) (v35 : IVec S16 32) (v63 : IVec S16 32) (v257 : IVec S16 32) (v389 : IVec S16 32) (k0_hw210 : k0_chk210 v33 v35 v63 v257 v389), ∀ a x, ((![v63, v257, v389, v33] : Fin 4 → IVec S16 32) a x).toNat < S2x4x94x96.size a := fun v33 v35 v63 v257 v389 k0_hw210 => k0_hw210.1
theorem k0_idx264_inb : ∀ (v33 : IVec S16 32) (v35 : IVec S16 32) (v63 : IVec S16 32) (v257 : IVec S16 32) (v389 : IVec S16 32) (k0_hw210 : k0_chk210 v33 v35 v63 v257 v389), ∀ a x, ((![v63, v257, v389, v35] : Fin 4 → IVec S16 32) a x).toNat < S2x4x94x96.size a := fun v33 v35 v63 v257 v389 k0_hw210 => k0_hw210.2

def k0_chk211 (v30 : IVec S16 32) (v63 : IVec S16 32) (v257 : IVec S16 32) (v390 : IVec S16 32) : Prop :=
  (∀ a x, ((![v63, v257, v390, v30] : Fin 4 → IVec S16 32) a x).toNat < S2x4x32x32.size a)
theorem k0_idx265_inb : ∀ (v30 : IVec S16 32) (v63 : IVec S16 32) (v257 : IVec S16 32) (v390 : IVec S16 32) (k0_hw211 : k0_chk211 v30 v63 v257 v390), ∀ a x, ((![v63, v257, v390, v30] : Fin 4 → IVec S16 32) a x).toNat < S2x4x32x32.size a := fun v30 v63 v257 v390 k0_hw211 => k0_hw211

def k0_chk212 (v63 : IVec S16 32) (v257 : IVec S16 32) (v390 : IVec S16 32) (v393 : IVec S16 32) : Prop :=
  (∀ a x, ((![v63, v257, v390, v393] : Fin 4 → IVec S16 32) a x).toNat < S2x4x32x32.size a)
theorem k0_idx266_inb : ∀ (v63 : IVec S16 32) (v257 : IVec S16 32) (v390 : IVec S16 32) (v393 : IVec S16 32) (k0_hw212 : k0_chk212 v63 v257 v390 v393), ∀ a x, ((![v63, v257, v390, v393] : Fin 4 → IVec S16 32) a x).toNat < S2x4x32x32.size a := fun v63 v257 v390 v393 k0_hw212 => k0_hw212

def k0_chk213 (v33 : IVec S16 32) (v35 : IVec S16 32) (v63 : IVec S16 32) (v257 : IVec S16 32) (v395 : IVec S16 32) : Prop :=
  (∀ a x, ((![v63, v257, v395, v33] : Fin 4 → IVec S16 32) a x).toNat < S2x4x94x96.size a) ∧
  (∀ a x, ((![v63, v257, v395, v35] : Fin 4 → IVec S16 32) a x).toNat < S2x4x94x96.size a)
theorem k0_idx267_inb : ∀ (v33 : IVec S16 32) (v35 : IVec S16 32) (v63 : IVec S16 32) (v257 : IVec S16 32) (v395 : IVec S16 32) (k0_hw213 : k0_chk213 v33 v35 v63 v257 v395), ∀ a x, ((![v63, v257, v395, v33] : Fin 4 → IVec S16 32) a x).toNat < S2x4x94x96.size a := fun v33 v35 v63 v257 v395 k0_hw213 => k0_hw213.1
theorem k0_idx268_inb : ∀ (v33 : IVec S16 32) (v35 : IVec S16 32) (v63 : IVec S16 32) (v257 : IVec S16 32) (v395 : IVec S16 32) (k0_hw213 : k0_chk213 v33 v35 v63 v257 v395), ∀ a x, ((![v63, v257, v395, v35] : Fin 4 → IVec S16 32) a x).toNat < S2x4x94x96.size a := fun v33 v35 v63 v257 v395 k0_hw213 => k0_hw213.2

def k0_chk214 (v30 : IVec S16 32) (v63 : IVec S16 32) (v257 : IVec S16 32) (v396 : IVec S16 32) : Prop :=
  (∀ a x, ((![v63, v257, v396, v30] : Fin 4 → IVec S16 32) a x).toNat < S2x4x32x32.size a)
theorem k0_idx269_inb : ∀ (v30 : IVec S16 32) (v63 : IVec S16 32) (v257 : IVec S16 32) (v396 : IVec S16 32) (k0_hw214 : k0_chk214 v30 v63 v257 v396), ∀ a x, ((![v63, v257, v396, v30] : Fin 4 → IVec S16 32) a x).toNat < S2x4x32x32.size a := fun v30 v63 v257 v396 k0_hw214 => k0_hw214

def k0_chk215 (v63 : IVec S16 32) (v257 : IVec S16 32) (v396 : IVec S16 32) (v399 : IVec S16 32) : Prop :=
  (∀ a x, ((![v63, v257, v396, v399] : Fin 4 → IVec S16 32) a x).toNat < S2x4x32x32.size a)
theorem k0_idx270_inb : ∀ (v63 : IVec S16 32) (v257 : IVec S16 32) (v396 : IVec S16 32) (v399 : IVec S16 32) (k0_hw215 : k0_chk215 v63 v257 v396 v399), ∀ a x, ((![v63, v257, v396, v399] : Fin 4 → IVec S16 32) a x).toNat < S2x4x32x32.size a := fun v63 v257 v396 v399 k0_hw215 => k0_hw215

def k0_chk216 (v33 : IVec S16 32) (v35 : IVec S16 32) (v63 : IVec S16 32) (v257 : IVec S16 32) (v401 : IVec S16 32) : Prop :=
  (∀ a x, ((![v63, v257, v401, v33] : Fin 4 → IVec S16 32) a x).toNat < S2x4x94x96.size a) ∧
  (∀ a x, ((![v63, v257, v401, v35] : Fin 4 → IVec S16 32) a x).toNat < S2x4x94x96.size a)
theorem k0_idx271_inb : ∀ (v33 : IVec S16 32) (v35 : IVec S16 32) (v63 : IVec S16 32) (v257 : IVec S16 32) (v401 : IVec S16 32) (k0_hw216 : k0_chk216 v33 v35 v63 v257 v401), ∀ a x, ((![v63, v257, v401, v33] : Fin 4 → IVec S16 32) a x).toNat < S2x4x94x96.size a := fun v33 v35 v63 v257 v401 k0_hw216 => k0_hw216.1
theorem k0_idx272_inb : ∀ (v33 : IVec S16 32) (v35 : IVec S16 32) (v63 : IVec S16 32) (v257 : IVec S16 32) (v401 : IVec S16 32) (k0_hw216 : k0_chk216 v33 v35 v63 v257 v401), ∀ a x, ((![v63, v257, v401, v35] : Fin 4 → IVec S16 32) a x).toNat < S2x4x94x96.size a := fun v33 v35 v63 v257 v401 k0_hw216 => k0_hw216.2

def k0_chk217 (v30 : IVec S16 32) (v63 : IVec S16 32) (v257 : IVec S16 32) (v402 : IVec S16 32) : Prop :=
  (∀ a x, ((![v63, v257, v402, v30] : Fin 4 → IVec S16 32) a x).toNat < S2x4x32x32.size a)
theorem k0_idx273_inb : ∀ (v30 : IVec S16 32) (v63 : IVec S16 32) (v257 : IVec S16 32) (v402 : IVec S16 32) (k0_hw217 : k0_chk217 v30 v63 v257 v402), ∀ a x, ((![v63, v257, v402, v30] : Fin 4 → IVec S16 32) a x).toNat < S2x4x32x32.size a := fun v30 v63 v257 v402 k0_hw217 => k0_hw217

def k0_chk218 (v63 : IVec S16 32) (v257 : IVec S16 32) (v402 : IVec S16 32) (v405 : IVec S16 32) : Prop :=
  (∀ a x, ((![v63, v257, v402, v405] : Fin 4 → IVec S16 32) a x).toNat < S2x4x32x32.size a)
theorem k0_idx274_inb : ∀ (v63 : IVec S16 32) (v257 : IVec S16 32) (v402 : IVec S16 32) (v405 : IVec S16 32) (k0_hw218 : k0_chk218 v63 v257 v402 v405), ∀ a x, ((![v63, v257, v402, v405] : Fin 4 → IVec S16 32) a x).toNat < S2x4x32x32.size a := fun v63 v257 v402 v405 k0_hw218 => k0_hw218

def k0_chk219 (v33 : IVec S16 32) (v35 : IVec S16 32) (v63 : IVec S16 32) (v257 : IVec S16 32) (v407 : IVec S16 32) : Prop :=
  (∀ a x, ((![v63, v257, v407, v33] : Fin 4 → IVec S16 32) a x).toNat < S2x4x94x96.size a) ∧
  (∀ a x, ((![v63, v257, v407, v35] : Fin 4 → IVec S16 32) a x).toNat < S2x4x94x96.size a)
theorem k0_idx275_inb : ∀ (v33 : IVec S16 32) (v35 : IVec S16 32) (v63 : IVec S16 32) (v257 : IVec S16 32) (v407 : IVec S16 32) (k0_hw219 : k0_chk219 v33 v35 v63 v257 v407), ∀ a x, ((![v63, v257, v407, v33] : Fin 4 → IVec S16 32) a x).toNat < S2x4x94x96.size a := fun v33 v35 v63 v257 v407 k0_hw219 => k0_hw219.1
theorem k0_idx276_inb : ∀ (v33 : IVec S16 32) (v35 : IVec S16 32) (v63 : IVec S16 32) (v257 : IVec S16 32) (v407 : IVec S16 32) (k0_hw219 : k0_chk219 v33 v35 v63 v257 v407), ∀ a x, ((![v63, v257, v407, v35] : Fin 4 → IVec S16 32) a x).toNat < S2x4x94x96.size a := fun v33 v35 v63 v257 v407 k0_hw219 => k0_hw219.2

def k0_chk220 (v30 : IVec S16 32) (v63 : IVec S16 32) (v257 : IVec S16 32) (v408 : IVec S16 32) : Prop :=
  (∀ a x, ((![v63, v257, v408, v30] : Fin 4 → IVec S16 32) a x).toNat < S2x4x32x32.size a)
theorem k0_idx277_inb : ∀ (v30 : IVec S16 32) (v63 : IVec S16 32) (v257 : IVec S16 32) (v408 : IVec S16 32) (k0_hw220 : k0_chk220 v30 v63 v257 v408), ∀ a x, ((![v63, v257, v408, v30] : Fin 4 → IVec S16 32) a x).toNat < S2x4x32x32.size a := fun v30 v63 v257 v408 k0_hw220 => k0_hw220

def k0_chk221 (v63 : IVec S16 32) (v257 : IVec S16 32) (v408 : IVec S16 32) (v411 : IVec S16 32) : Prop :=
  (∀ a x, ((![v63, v257, v408, v411] : Fin 4 → IVec S16 32) a x).toNat < S2x4x32x32.size a)
theorem k0_idx278_inb : ∀ (v63 : IVec S16 32) (v257 : IVec S16 32) (v408 : IVec S16 32) (v411 : IVec S16 32) (k0_hw221 : k0_chk221 v63 v257 v408 v411), ∀ a x, ((![v63, v257, v408, v411] : Fin 4 → IVec S16 32) a x).toNat < S2x4x32x32.size a := fun v63 v257 v408 v411 k0_hw221 => k0_hw221

def k0_chk222 (v33 : IVec S16 32) (v35 : IVec S16 32) (v63 : IVec S16 32) (v257 : IVec S16 32) (v413 : IVec S16 32) : Prop :=
  (∀ a x, ((![v63, v257, v413, v33] : Fin 4 → IVec S16 32) a x).toNat < S2x4x94x96.size a) ∧
  (∀ a x, ((![v63, v257, v413, v35] : Fin 4 → IVec S16 32) a x).toNat < S2x4x94x96.size a)
theorem k0_idx279_inb : ∀ (v33 : IVec S16 32) (v35 : IVec S16 32) (v63 : IVec S16 32) (v257 : IVec S16 32) (v413 : IVec S16 32) (k0_hw222 : k0_chk222 v33 v35 v63 v257 v413), ∀ a x, ((![v63, v257, v413, v33] : Fin 4 → IVec S16 32) a x).toNat < S2x4x94x96.size a := fun v33 v35 v63 v257 v413 k0_hw222 => k0_hw222.1
theorem k0_idx280_inb : ∀ (v33 : IVec S16 32) (v35 : IVec S16 32) (v63 : IVec S16 32) (v257 : IVec S16 32) (v413 : IVec S16 32) (k0_hw222 : k0_chk222 v33 v35 v63 v257 v413), ∀ a x, ((![v63, v257, v413, v35] : Fin 4 → IVec S16 32) a x).toNat < S2x4x94x96.size a := fun v33 v35 v63 v257 v413 k0_hw222 => k0_hw222.2

def k0_chk223 (v30 : IVec S16 32) (v63 : IVec S16 32) (v257 : IVec S16 32) (v414 : IVec S16 32) : Prop :=
  (∀ a x, ((![v63, v257, v414, v30] : Fin 4 → IVec S16 32) a x).toNat < S2x4x32x32.size a)
theorem k0_idx281_inb : ∀ (v30 : IVec S16 32) (v63 : IVec S16 32) (v257 : IVec S16 32) (v414 : IVec S16 32) (k0_hw223 : k0_chk223 v30 v63 v257 v414), ∀ a x, ((![v63, v257, v414, v30] : Fin 4 → IVec S16 32) a x).toNat < S2x4x32x32.size a := fun v30 v63 v257 v414 k0_hw223 => k0_hw223

def k0_chk224 (v63 : IVec S16 32) (v257 : IVec S16 32) (v414 : IVec S16 32) (v417 : IVec S16 32) : Prop :=
  (∀ a x, ((![v63, v257, v414, v417] : Fin 4 → IVec S16 32) a x).toNat < S2x4x32x32.size a)
theorem k0_idx282_inb : ∀ (v63 : IVec S16 32) (v257 : IVec S16 32) (v414 : IVec S16 32) (v417 : IVec S16 32) (k0_hw224 : k0_chk224 v63 v257 v414 v417), ∀ a x, ((![v63, v257, v414, v417] : Fin 4 → IVec S16 32) a x).toNat < S2x4x32x32.size a := fun v63 v257 v414 v417 k0_hw224 => k0_hw224

def k0_chk225 (v33 : IVec S16 32) (v35 : IVec S16 32) (v63 : IVec S16 32) (v257 : IVec S16 32) (v419 : IVec S16 32) : Prop :=
  (∀ a x, ((![v63, v257, v419, v33] : Fin 4 → IVec S16 32) a x).toNat < S2x4x94x96.size a) ∧
  (∀ a x, ((![v63, v257, v419, v35] : Fin 4 → IVec S16 32) a x).toNat < S2x4x94x96.size a)
theorem k0_idx283_inb : ∀ (v33 : IVec S16 32) (v35 : IVec S16 32) (v63 : IVec S16 32) (v257 : IVec S16 32) (v419 : IVec S16 32) (k0_hw225 : k0_chk225 v33 v35 v63 v257 v419), ∀ a x, ((![v63, v257, v419, v33] : Fin 4 → IVec S16 32) a x).toNat < S2x4x94x96.size a := fun v33 v35 v63 v257 v419 k0_hw225 => k0_hw225.1
theorem k0_idx284_inb : ∀ (v33 : IVec S16 32) (v35 : IVec S16 32) (v63 : IVec S16 32) (v257 : IVec S16 32) (v419 : IVec S16 32) (k0_hw225 : k0_chk225 v33 v35 v63 v257 v419), ∀ a x, ((![v63, v257, v419, v35] : Fin 4 → IVec S16 32) a x).toNat < S2x4x94x96.size a := fun v33 v35 v63 v257 v419 k0_hw225 => k0_hw225.2

def k0_chk226 (v30 : IVec S16 32) (v63 : IVec S16 32) (v257 : IVec S16 32) (v420 : IVec S16 32) : Prop :=
  (∀ a x, ((![v63, v257, v420, v30] : Fin 4 → IVec S16 32) a x).toNat < S2x4x32x32.size a)
theorem k0_idx285_inb : ∀ (v30 : IVec S16 32) (v63 : IVec S16 32) (v257 : IVec S16 32) (v420 : IVec S16 32) (k0_hw226 : k0_chk226 v30 v63 v257 v420), ∀ a x, ((![v63, v257, v420, v30] : Fin 4 → IVec S16 32) a x).toNat < S2x4x32x32.size a := fun v30 v63 v257 v420 k0_hw226 => k0_hw226

def k0_chk227 (v63 : IVec S16 32) (v257 : IVec S16 32) (v420 : IVec S16 32) (v423 : IVec S16 32) : Prop :=
  (∀ a x, ((![v63, v257, v420, v423] : Fin 4 → IVec S16 32) a x).toNat < S2x4x32x32.size a)
theorem k0_idx286_inb : ∀ (v63 : IVec S16 32) (v257 : IVec S16 32) (v420 : IVec S16 32) (v423 : IVec S16 32) (k0_hw227 : k0_chk227 v63 v257 v420 v423), ∀ a x, ((![v63, v257, v420, v423] : Fin 4 → IVec S16 32) a x).toNat < S2x4x32x32.size a := fun v63 v257 v420 v423 k0_hw227 => k0_hw227

def k0_chk228 (v33 : IVec S16 32) (v35 : IVec S16 32) (v63 : IVec S16 32) (v257 : IVec S16 32) (v425 : IVec S16 32) : Prop :=
  (∀ a x, ((![v63, v257, v425, v33] : Fin 4 → IVec S16 32) a x).toNat < S2x4x94x96.size a) ∧
  (∀ a x, ((![v63, v257, v425, v35] : Fin 4 → IVec S16 32) a x).toNat < S2x4x94x96.size a)
theorem k0_idx287_inb : ∀ (v33 : IVec S16 32) (v35 : IVec S16 32) (v63 : IVec S16 32) (v257 : IVec S16 32) (v425 : IVec S16 32) (k0_hw228 : k0_chk228 v33 v35 v63 v257 v425), ∀ a x, ((![v63, v257, v425, v33] : Fin 4 → IVec S16 32) a x).toNat < S2x4x94x96.size a := fun v33 v35 v63 v257 v425 k0_hw228 => k0_hw228.1
theorem k0_idx288_inb : ∀ (v33 : IVec S16 32) (v35 : IVec S16 32) (v63 : IVec S16 32) (v257 : IVec S16 32) (v425 : IVec S16 32) (k0_hw228 : k0_chk228 v33 v35 v63 v257 v425), ∀ a x, ((![v63, v257, v425, v35] : Fin 4 → IVec S16 32) a x).toNat < S2x4x94x96.size a := fun v33 v35 v63 v257 v425 k0_hw228 => k0_hw228.2

def k0_chk229 (v30 : IVec S16 32) (v63 : IVec S16 32) (v257 : IVec S16 32) (v426 : IVec S16 32) : Prop :=
  (∀ a x, ((![v63, v257, v426, v30] : Fin 4 → IVec S16 32) a x).toNat < S2x4x32x32.size a)
theorem k0_idx289_inb : ∀ (v30 : IVec S16 32) (v63 : IVec S16 32) (v257 : IVec S16 32) (v426 : IVec S16 32) (k0_hw229 : k0_chk229 v30 v63 v257 v426), ∀ a x, ((![v63, v257, v426, v30] : Fin 4 → IVec S16 32) a x).toNat < S2x4x32x32.size a := fun v30 v63 v257 v426 k0_hw229 => k0_hw229

def k0_chk230 (v63 : IVec S16 32) (v257 : IVec S16 32) (v426 : IVec S16 32) (v429 : IVec S16 32) : Prop :=
  (∀ a x, ((![v63, v257, v426, v429] : Fin 4 → IVec S16 32) a x).toNat < S2x4x32x32.size a)
theorem k0_idx290_inb : ∀ (v63 : IVec S16 32) (v257 : IVec S16 32) (v426 : IVec S16 32) (v429 : IVec S16 32) (k0_hw230 : k0_chk230 v63 v257 v426 v429), ∀ a x, ((![v63, v257, v426, v429] : Fin 4 → IVec S16 32) a x).toNat < S2x4x32x32.size a := fun v63 v257 v426 v429 k0_hw230 => k0_hw230

def k0_chk231 (v33 : IVec S16 32) (v35 : IVec S16 32) (v63 : IVec S16 32) (v257 : IVec S16 32) (v431 : IVec S16 32) : Prop :=
  (∀ a x, ((![v63, v257, v431, v33] : Fin 4 → IVec S16 32) a x).toNat < S2x4x94x96.size a) ∧
  (∀ a x, ((![v63, v257, v431, v35] : Fin 4 → IVec S16 32) a x).toNat < S2x4x94x96.size a)
theorem k0_idx291_inb : ∀ (v33 : IVec S16 32) (v35 : IVec S16 32) (v63 : IVec S16 32) (v257 : IVec S16 32) (v431 : IVec S16 32) (k0_hw231 : k0_chk231 v33 v35 v63 v257 v431), ∀ a x, ((![v63, v257, v431, v33] : Fin 4 → IVec S16 32) a x).toNat < S2x4x94x96.size a := fun v33 v35 v63 v257 v431 k0_hw231 => k0_hw231.1
theorem k0_idx292_inb : ∀ (v33 : IVec S16 32) (v35 : IVec S16 32) (v63 : IVec S16 32) (v257 : IVec S16 32) (v431 : IVec S16 32) (k0_hw231 : k0_chk231 v33 v35 v63 v257 v431), ∀ a x, ((![v63, v257, v431, v35] : Fin 4 → IVec S16 32) a x).toNat < S2x4x94x96.size a := fun v33 v35 v63 v257 v431 k0_hw231 => k0_hw231.2

def k0_chk232 (v30 : IVec S16 32) (v63 : IVec S16 32) (v257 : IVec S16 32) (v432 : IVec S16 32) : Prop :=
  (∀ a x, ((![v63, v257, v432, v30] : Fin 4 → IVec S16 32) a x).toNat < S2x4x32x32.size a)
theorem k0_idx293_inb : ∀ (v30 : IVec S16 32) (v63 : IVec S16 32) (v257 : IVec S16 32) (v432 : IVec S16 32) (k0_hw232 : k0_chk232 v30 v63 v257 v432), ∀ a x, ((![v63, v257, v432, v30] : Fin 4 → IVec S16 32) a x).toNat < S2x4x32x32.size a := fun v30 v63 v257 v432 k0_hw232 => k0_hw232

def k0_chk233 (v63 : IVec S16 32) (v257 : IVec S16 32) (v432 : IVec S16 32) (v435 : IVec S16 32) : Prop :=
  (∀ a x, ((![v63, v257, v432, v435] : Fin 4 → IVec S16 32) a x).toNat < S2x4x32x32.size a)
theorem k0_idx294_inb : ∀ (v63 : IVec S16 32) (v257 : IVec S16 32) (v432 : IVec S16 32) (v435 : IVec S16 32) (k0_hw233 : k0_chk233 v63 v257 v432 v435), ∀ a x, ((![v63, v257, v432, v435] : Fin 4 → IVec S16 32) a x).toNat < S2x4x32x32.size a := fun v63 v257 v432 v435 k0_hw233 => k0_hw233

def k0_chk234 (v33 : IVec S16 32) (v35 : IVec S16 32) (v63 : IVec S16 32) (v257 : IVec S16 32) (v437 : IVec S16 32) : Prop :=
  (∀ a x, ((![v63, v257, v437, v33] : Fin 4 → IVec S16 32) a x).toNat < S2x4x94x96.size a) ∧
  (∀ a x, ((![v63, v257, v437, v35] : Fin 4 → IVec S16 32) a x).toNat < S2x4x94x96.size a)
theorem k0_idx295_inb : ∀ (v33 : IVec S16 32) (v35 : IVec S16 32) (v63 : IVec S16 32) (v257 : IVec S16 32) (v437 : IVec S16 32) (k0_hw234 : k0_chk234 v33 v35 v63 v257 v437), ∀ a x, ((![v63, v257, v437, v33] : Fin 4 → IVec S16 32) a x).toNat < S2x4x94x96.size a := fun v33 v35 v63 v257 v437 k0_hw234 => k0_hw234.1
theorem k0_idx296_inb : ∀ (v33 : IVec S16 32) (v35 : IVec S16 32) (v63 : IVec S16 32) (v257 : IVec S16 32) (v437 : IVec S16 32) (k0_hw234 : k0_chk234 v33 v35 v63 v257 v437), ∀ a x, ((![v63, v257, v437, v35] : Fin 4 → IVec S16 32) a x).toNat < S2x4x94x96.size a := fun v33 v35 v63 v257 v437 k0_hw234 => k0_hw234.2

def k0_chk235 (v30 : IVec S16 32) (v63 : IVec S16 32) (v257 : IVec S16 32) (v438 : IVec S16 32) : Prop :=
  (∀ a x, ((![v63, v257, v438, v30] : Fin 4 → IVec S16 32) a x).toNat < S2x4x32x32.size a)
theorem k0_idx297_inb : ∀ (v30 : IVec S16 32) (v63 : IVec S16 32) (v257 : IVec S16 32) (v438 : IVec S16 32) (k0_hw235 : k0_chk235 v30 v63 v257 v438), ∀ a x, ((![v63, v257, v438, v30] : Fin 4 → IVec S16 32) a x).toNat < S2x4x32x32.size a := fun v30 v63 v257 v438 k0_hw235 => k0_hw235

def k0_chk236 (v63 : IVec S16 32) (v257 : IVec S16 32) (v438 : IVec S16 32) (v441 : IVec S16 32) : Prop :=
  (∀ a x, ((![v63, v257, v438, v441] : Fin 4 → IVec S16 32) a x).toNat < S2x4x32x32.size a)
theorem k0_idx298_inb : ∀ (v63 : IVec S16 32) (v257 : IVec S16 32) (v438 : IVec S16 32) (v441 : IVec S16 32) (k0_hw236 : k0_chk236 v63 v257 v438 v441), ∀ a x, ((![v63, v257, v438, v441] : Fin 4 → IVec S16 32) a x).toNat < S2x4x32x32.size a := fun v63 v257 v438 v441 k0_hw236 => k0_hw236

def k0_chk237 (v33 : IVec S16 32) (v35 : IVec S16 32) (v63 : IVec S16 32) (v257 : IVec S16 32) (v443 : IVec S16 32) : Prop :=
  (∀ a x, ((![v63, v257, v443, v33] : Fin 4 → IVec S16 32) a x).toNat < S2x4x94x96.size a) ∧
  (∀ a x, ((![v63, v257, v443, v35] : Fin 4 → IVec S16 32) a x).toNat < S2x4x94x96.size a)
theorem k0_idx299_inb : ∀ (v33 : IVec S16 32) (v35 : IVec S16 32) (v63 : IVec S16 32) (v257 : IVec S16 32) (v443 : IVec S16 32) (k0_hw237 : k0_chk237 v33 v35 v63 v257 v443), ∀ a x, ((![v63, v257, v443, v33] : Fin 4 → IVec S16 32) a x).toNat < S2x4x94x96.size a := fun v33 v35 v63 v257 v443 k0_hw237 => k0_hw237.1
theorem k0_idx300_inb : ∀ (v33 : IVec S16 32) (v35 : IVec S16 32) (v63 : IVec S16 32) (v257 : IVec S16 32) (v443 : IVec S16 32) (k0_hw237 : k0_chk237 v33 v35 v63 v257 v443), ∀ a x, ((![v63, v257, v443, v35] : Fin 4 → IVec S16 32) a x).toNat < S2x4x94x96.size a := fun v33 v35 v63 v257 v443 k0_hw237 => k0_hw237.2

def k0_chk238 (v30 : IVec S16 32) (v63 : IVec S16 32) (v257 : IVec S16 32) (v444 : IVec S16 32) : Prop :=
  (∀ a x, ((![v63, v257, v444, v30] : Fin 4 → IVec S16 32) a x).toNat < S2x4x32x32.size a)
theorem k0_idx301_inb : ∀ (v30 : IVec S16 32) (v63 : IVec S16 32) (v257 : IVec S16 32) (v444 : IVec S16 32) (k0_hw238 : k0_chk238 v30 v63 v257 v444), ∀ a x, ((![v63, v257, v444, v30] : Fin 4 → IVec S16 32) a x).toNat < S2x4x32x32.size a := fun v30 v63 v257 v444 k0_hw238 => k0_hw238

def k0_chk239 (v63 : IVec S16 32) (v257 : IVec S16 32) (v444 : IVec S16 32) (v447 : IVec S16 32) : Prop :=
  (∀ a x, ((![v63, v257, v444, v447] : Fin 4 → IVec S16 32) a x).toNat < S2x4x32x32.size a)
theorem k0_idx302_inb : ∀ (v63 : IVec S16 32) (v257 : IVec S16 32) (v444 : IVec S16 32) (v447 : IVec S16 32) (k0_hw239 : k0_chk239 v63 v257 v444 v447), ∀ a x, ((![v63, v257, v444, v447] : Fin 4 → IVec S16 32) a x).toNat < S2x4x32x32.size a := fun v63 v257 v444 v447 k0_hw239 => k0_hw239

def k0_chk240 (v33 : IVec S16 32) (v35 : IVec S16 32) (v63 : IVec S16 32) (v257 : IVec S16 32) (v449 : IVec S16 32) : Prop :=
  (∀ a x, ((![v63, v257, v449, v33] : Fin 4 → IVec S16 32) a x).toNat < S2x4x94x96.size a) ∧
  (∀ a x, ((![v63, v257, v449, v35] : Fin 4 → IVec S16 32) a x).toNat < S2x4x94x96.size a)
theorem k0_idx303_inb : ∀ (v33 : IVec S16 32) (v35 : IVec S16 32) (v63 : IVec S16 32) (v257 : IVec S16 32) (v449 : IVec S16 32) (k0_hw240 : k0_chk240 v33 v35 v63 v257 v449), ∀ a x, ((![v63, v257, v449, v33] : Fin 4 → IVec S16 32) a x).toNat < S2x4x94x96.size a := fun v33 v35 v63 v257 v449 k0_hw240 => k0_hw240.1
theorem k0_idx304_inb : ∀ (v33 : IVec S16 32) (v35 : IVec S16 32) (v63 : IVec S16 32) (v257 : IVec S16 32) (v449 : IVec S16 32) (k0_hw240 : k0_chk240 v33 v35 v63 v257 v449), ∀ a x, ((![v63, v257, v449, v35] : Fin 4 → IVec S16 32) a x).toNat < S2x4x94x96.size a := fun v33 v35 v63 v257 v449 k0_hw240 => k0_hw240.2

def k0_chk241 (v30 : IVec S16 32) (v63 : IVec S16 32) (v450 : IVec S16 32) (v451 : IVec S16 32) : Prop :=
  (∀ a x, ((![v63, v450, v451, v30] : Fin 4 → IVec S16 32) a x).toNat < S2x4x32x32.size a)
theorem k0_idx305_inb : ∀ (v30 : IVec S16 32) (v63 : IVec S16 32) (v450 : IVec S16 32) (v451 : IVec S16 32) (k0_hw241 : k0_chk241 v30 v63 v450 v451), ∀ a x, ((![v63, v450, v451, v30] : Fin 4 → IVec S16 32) a x).toNat < S2x4x32x32.size a := fun v30 v63 v450 v451 k0_hw241 => k0_hw241

def k0_chk242 (v63 : IVec S16 32) (v450 : IVec S16 32) (v451 : IVec S16 32) (v454 : IVec S16 32) : Prop :=
  (∀ a x, ((![v63, v450, v451, v454] : Fin 4 → IVec S16 32) a x).toNat < S2x4x32x32.size a)
theorem k0_idx306_inb : ∀ (v63 : IVec S16 32) (v450 : IVec S16 32) (v451 : IVec S16 32) (v454 : IVec S16 32) (k0_hw242 : k0_chk242 v63 v450 v451 v454), ∀ a x, ((![v63, v450, v451, v454] : Fin 4 → IVec S16 32) a x).toNat < S2x4x32x32.size a := fun v63 v450 v451 v454 k0_hw242 => k0_hw242

def k0_chk243 (v33 : IVec S16 32) (v35 : IVec S16 32) (v63 : IVec S16 32) (v450 : IVec S16 32) (v456 : IVec S16 32) : Prop :=
  (∀ a x, ((![v63, v450, v456, v33] : Fin 4 → IVec S16 32) a x).toNat < S2x4x94x96.size a) ∧
  (∀ a x, ((![v63, v450, v456, v35] : Fin 4 → IVec S16 32) a x).toNat < S2x4x94x96.size a)
theorem k0_idx307_inb : ∀ (v33 : IVec S16 32) (v35 : IVec S16 32) (v63 : IVec S16 32) (v450 : IVec S16 32) (v456 : IVec S16 32) (k0_hw243 : k0_chk243 v33 v35 v63 v450 v456), ∀ a x, ((![v63, v450, v456, v33] : Fin 4 → IVec S16 32) a x).toNat < S2x4x94x96.size a := fun v33 v35 v63 v450 v456 k0_hw243 => k0_hw243.1
theorem k0_idx308_inb : ∀ (v33 : IVec S16 32) (v35 : IVec S16 32) (v63 : IVec S16 32) (v450 : IVec S16 32) (v456 : IVec S16 32) (k0_hw243 : k0_chk243 v33 v35 v63 v450 v456), ∀ a x, ((![v63, v450, v456, v35] : Fin 4 → IVec S16 32) a x).toNat < S2x4x94x96.size a := fun v33 v35 v63 v450 v456 k0_hw243 => k0_hw243.2

def k0_chk244 (v30 : IVec S16 32) (v63 : IVec S16 32) (v450 : IVec S16 32) (v457 : IVec S16 32) : Prop :=
  (∀ a x, ((![v63, v450, v457, v30] : Fin 4 → IVec S16 32) a x).toNat < S2x4x32x32.size a)
theorem k0_idx309_inb : ∀ (v30 : IVec S16 32) (v63 : IVec S16 32) (v450 : IVec S16 32) (v457 : IVec S16 32) (k0_hw244 : k0_chk244 v30 v63 v450 v457), ∀ a x, ((![v63, v450, v457, v30] : Fin 4 → IVec S16 32) a x).toNat < S2x4x32x32.size a := fun v30 v63 v450 v457 k0_hw244 => k0_hw244

def k0_chk245 (v63 : IVec S16 32) (v450 : IVec S16 32) (v457 : IVec S16 32) (v460 : IVec S16 32) : Prop :=
  (∀ a x, ((![v63, v450, v457, v460] : Fin 4 → IVec S16 32) a x).toNat < S2x4x32x32.size a)
theorem k0_idx310_inb : ∀ (v63 : IVec S16 32) (v450 : IVec S16 32) (v457 : IVec S16 32) (v460 : IVec S16 32) (k0_hw245 : k0_chk245 v63 v450 v457 v460), ∀ a x, ((![v63, v450, v457, v460] : Fin 4 → IVec S16 32) a x).toNat < S2x4x32x32.size a := fun v63 v450 v457 v460 k0_hw245 => k0_hw245

def k0_chk246 (v33 : IVec S16 32) (v35 : IVec S16 32) (v63 : IVec S16 32) (v450 : IVec S16 32) (v462 : IVec S16 32) : Prop :=
  (∀ a x, ((![v63, v450, v462, v33] : Fin 4 → IVec S16 32) a x).toNat < S2x4x94x96.size a) ∧
  (∀ a x, ((![v63, v450, v462, v35] : Fin 4 → IVec S16 32) a x).toNat < S2x4x94x96.size a)
theorem k0_idx311_inb : ∀ (v33 : IVec S16 32) (v35 : IVec S16 32) (v63 : IVec S16 32) (v450 : IVec S16 32) (v462 : IVec S16 32) (k0_hw246 : k0_chk246 v33 v35 v63 v450 v462), ∀ a x, ((![v63, v450, v462, v33] : Fin 4 → IVec S16 32) a x).toNat < S2x4x94x96.size a := fun v33 v35 v63 v450 v462 k0_hw246 => k0_hw246.1
theorem k0_idx312_inb : ∀ (v33 : IVec S16 32) (v35 : IVec S16 32) (v63 : IVec S16 32) (v450 : IVec S16 32) (v462 : IVec S16 32) (k0_hw246 : k0_chk246 v33 v35 v63 v450 v462), ∀ a x, ((![v63, v450, v462, v35] : Fin 4 → IVec S16 32) a x).toNat < S2x4x94x96.size a := fun v33 v35 v63 v450 v462 k0_hw246 => k0_hw246.2

def k0_chk247 (v30 : IVec S16 32) (v63 : IVec S16 32) (v450 : IVec S16 32) (v463 : IVec S16 32) : Prop :=
  (∀ a x, ((![v63, v450, v463, v30] : Fin 4 → IVec S16 32) a x).toNat < S2x4x32x32.size a)
theorem k0_idx313_inb : ∀ (v30 : IVec S16 32) (v63 : IVec S16 32) (v450 : IVec S16 32) (v463 : IVec S16 32) (k0_hw247 : k0_chk247 v30 v63 v450 v463), ∀ a x, ((![v63, v450, v463, v30] : Fin 4 → IVec S16 32) a x).toNat < S2x4x32x32.size a := fun v30 v63 v450 v463 k0_hw247 => k0_hw247

def k0_chk248 (v63 : IVec S16 32) (v450 : IVec S16 32) (v463 : IVec S16 32) (v466 : IVec S16 32) : Prop :=
  (∀ a x, ((![v63, v450, v463, v466] : Fin 4 → IVec S16 32) a x).toNat < S2x4x32x32.size a)
theorem k0_idx314_inb : ∀ (v63 : IVec S16 32) (v450 : IVec S16 32) (v463 : IVec S16 32) (v466 : IVec S16 32) (k0_hw248 : k0_chk248 v63 v450 v463 v466), ∀ a x, ((![v63, v450, v463, v466] : Fin 4 → IVec S16 32) a x).toNat < S2x4x32x32.size a := fun v63 v450 v463 v466 k0_hw248 => k0_hw248

def k0_chk249 (v33 : IVec S16 32) (v35 : IVec S16 32) (v63 : IVec S16 32) (v450 : IVec S16 32) (v468 : IVec S16 32) : Prop :=
  (∀ a x, ((![v63, v450, v468, v33] : Fin 4 → IVec S16 32) a x).toNat < S2x4x94x96.size a) ∧
  (∀ a x, ((![v63, v450, v468, v35] : Fin 4 → IVec S16 32) a x).toNat < S2x4x94x96.size a)
theorem k0_idx315_inb : ∀ (v33 : IVec S16 32) (v35 : IVec S16 32) (v63 : IVec S16 32) (v450 : IVec S16 32) (v468 : IVec S16 32) (k0_hw249 : k0_chk249 v33 v35 v63 v450 v468), ∀ a x, ((![v63, v450, v468, v33] : Fin 4 → IVec S16 32) a x).toNat < S2x4x94x96.size a := fun v33 v35 v63 v450 v468 k0_hw249 => k0_hw249.1
theorem k0_idx316_inb : ∀ (v33 : IVec S16 32) (v35 : IVec S16 32) (v63 : IVec S16 32) (v450 : IVec S16 32) (v468 : IVec S16 32) (k0_hw249 : k0_chk249 v33 v35 v63 v450 v468), ∀ a x, ((![v63, v450, v468, v35] : Fin 4 → IVec S16 32) a x).toNat < S2x4x94x96.size a := fun v33 v35 v63 v450 v468 k0_hw249 => k0_hw249.2

def k0_chk250 (v30 : IVec S16 32) (v63 : IVec S16 32) (v450 : IVec S16 32) (v469 : IVec S16 32) : Prop :=
  (∀ a x, ((![v63, v450, v469, v30] : Fin 4 → IVec S16 32) a x).toNat < S2x4x32x32.size a)
theorem k0_idx317_inb : ∀ (v30 : IVec S16 32) (v63 : IVec S16 32) (v450 : IVec S16 32) (v469 : IVec S16 32) (k0_hw250 : k0_chk250 v30 v63 v450 v469), ∀ a x, ((![v63, v450, v469, v30] : Fin 4 → IVec S16 32) a x).toNat < S2x4x32x32.size a := fun v30 v63 v450 v469 k0_hw250 => k0_hw250

def k0_chk251 (v63 : IVec S16 32) (v450 : IVec S16 32) (v469 : IVec S16 32) (v472 : IVec S16 32) : Prop :=
  (∀ a x, ((![v63, v450, v469, v472] : Fin 4 → IVec S16 32) a x).toNat < S2x4x32x32.size a)
theorem k0_idx318_inb : ∀ (v63 : IVec S16 32) (v450 : IVec S16 32) (v469 : IVec S16 32) (v472 : IVec S16 32) (k0_hw251 : k0_chk251 v63 v450 v469 v472), ∀ a x, ((![v63, v450, v469, v472] : Fin 4 → IVec S16 32) a x).toNat < S2x4x32x32.size a := fun v63 v450 v469 v472 k0_hw251 => k0_hw251

def k0_chk252 (v33 : IVec S16 32) (v35 : IVec S16 32) (v63 : IVec S16 32) (v450 : IVec S16 32) (v474 : IVec S16 32) : Prop :=
  (∀ a x, ((![v63, v450, v474, v33] : Fin 4 → IVec S16 32) a x).toNat < S2x4x94x96.size a) ∧
  (∀ a x, ((![v63, v450, v474, v35] : Fin 4 → IVec S16 32) a x).toNat < S2x4x94x96.size a)
theorem k0_idx319_inb : ∀ (v33 : IVec S16 32) (v35 : IVec S16 32) (v63 : IVec S16 32) (v450 : IVec S16 32) (v474 : IVec S16 32) (k0_hw252 : k0_chk252 v33 v35 v63 v450 v474), ∀ a x, ((![v63, v450, v474, v33] : Fin 4 → IVec S16 32) a x).toNat < S2x4x94x96.size a := fun v33 v35 v63 v450 v474 k0_hw252 => k0_hw252.1
theorem k0_idx320_inb : ∀ (v33 : IVec S16 32) (v35 : IVec S16 32) (v63 : IVec S16 32) (v450 : IVec S16 32) (v474 : IVec S16 32) (k0_hw252 : k0_chk252 v33 v35 v63 v450 v474), ∀ a x, ((![v63, v450, v474, v35] : Fin 4 → IVec S16 32) a x).toNat < S2x4x94x96.size a := fun v33 v35 v63 v450 v474 k0_hw252 => k0_hw252.2

def k0_chk253 (v30 : IVec S16 32) (v63 : IVec S16 32) (v450 : IVec S16 32) (v475 : IVec S16 32) : Prop :=
  (∀ a x, ((![v63, v450, v475, v30] : Fin 4 → IVec S16 32) a x).toNat < S2x4x32x32.size a)
theorem k0_idx321_inb : ∀ (v30 : IVec S16 32) (v63 : IVec S16 32) (v450 : IVec S16 32) (v475 : IVec S16 32) (k0_hw253 : k0_chk253 v30 v63 v450 v475), ∀ a x, ((![v63, v450, v475, v30] : Fin 4 → IVec S16 32) a x).toNat < S2x4x32x32.size a := fun v30 v63 v450 v475 k0_hw253 => k0_hw253

def k0_chk254 (v63 : IVec S16 32) (v450 : IVec S16 32) (v475 : IVec S16 32) (v478 : IVec S16 32) : Prop :=
  (∀ a x, ((![v63, v450, v475, v478] : Fin 4 → IVec S16 32) a x).toNat < S2x4x32x32.size a)
theorem k0_idx322_inb : ∀ (v63 : IVec S16 32) (v450 : IVec S16 32) (v475 : IVec S16 32) (v478 : IVec S16 32) (k0_hw254 : k0_chk254 v63 v450 v475 v478), ∀ a x, ((![v63, v450, v475, v478] : Fin 4 → IVec S16 32) a x).toNat < S2x4x32x32.size a := fun v63 v450 v475 v478 k0_hw254 => k0_hw254

def k0_chk255 (v33 : IVec S16 32) (v35 : IVec S16 32) (v63 : IVec S16 32) (v450 : IVec S16 32) (v480 : IVec S16 32) : Prop :=
  (∀ a x, ((![v63, v450, v480, v33] : Fin 4 → IVec S16 32) a x).toNat < S2x4x94x96.size a) ∧
  (∀ a x, ((![v63, v450, v480, v35] : Fin 4 → IVec S16 32) a x).toNat < S2x4x94x96.size a)
theorem k0_idx323_inb : ∀ (v33 : IVec S16 32) (v35 : IVec S16 32) (v63 : IVec S16 32) (v450 : IVec S16 32) (v480 : IVec S16 32) (k0_hw255 : k0_chk255 v33 v35 v63 v450 v480), ∀ a x, ((![v63, v450, v480, v33] : Fin 4 → IVec S16 32) a x).toNat < S2x4x94x96.size a := fun v33 v35 v63 v450 v480 k0_hw255 => k0_hw255.1
theorem k0_idx324_inb : ∀ (v33 : IVec S16 32) (v35 : IVec S16 32) (v63 : IVec S16 32) (v450 : IVec S16 32) (v480 : IVec S16 32) (k0_hw255 : k0_chk255 v33 v35 v63 v450 v480), ∀ a x, ((![v63, v450, v480, v35] : Fin 4 → IVec S16 32) a x).toNat < S2x4x94x96.size a := fun v33 v35 v63 v450 v480 k0_hw255 => k0_hw255.2

def k0_chk256 (v30 : IVec S16 32) (v63 : IVec S16 32) (v450 : IVec S16 32) (v481 : IVec S16 32) : Prop :=
  (∀ a x, ((![v63, v450, v481, v30] : Fin 4 → IVec S16 32) a x).toNat < S2x4x32x32.size a)
theorem k0_idx325_inb : ∀ (v30 : IVec S16 32) (v63 : IVec S16 32) (v450 : IVec S16 32) (v481 : IVec S16 32) (k0_hw256 : k0_chk256 v30 v63 v450 v481), ∀ a x, ((![v63, v450, v481, v30] : Fin 4 → IVec S16 32) a x).toNat < S2x4x32x32.size a := fun v30 v63 v450 v481 k0_hw256 => k0_hw256

def k0_chk257 (v63 : IVec S16 32) (v450 : IVec S16 32) (v481 : IVec S16 32) (v484 : IVec S16 32) : Prop :=
  (∀ a x, ((![v63, v450, v481, v484] : Fin 4 → IVec S16 32) a x).toNat < S2x4x32x32.size a)
theorem k0_idx326_inb : ∀ (v63 : IVec S16 32) (v450 : IVec S16 32) (v481 : IVec S16 32) (v484 : IVec S16 32) (k0_hw257 : k0_chk257 v63 v450 v481 v484), ∀ a x, ((![v63, v450, v481, v484] : Fin 4 → IVec S16 32) a x).toNat < S2x4x32x32.size a := fun v63 v450 v481 v484 k0_hw257 => k0_hw257

def k0_chk258 (v33 : IVec S16 32) (v35 : IVec S16 32) (v63 : IVec S16 32) (v450 : IVec S16 32) (v486 : IVec S16 32) : Prop :=
  (∀ a x, ((![v63, v450, v486, v33] : Fin 4 → IVec S16 32) a x).toNat < S2x4x94x96.size a) ∧
  (∀ a x, ((![v63, v450, v486, v35] : Fin 4 → IVec S16 32) a x).toNat < S2x4x94x96.size a)
theorem k0_idx327_inb : ∀ (v33 : IVec S16 32) (v35 : IVec S16 32) (v63 : IVec S16 32) (v450 : IVec S16 32) (v486 : IVec S16 32) (k0_hw258 : k0_chk258 v33 v35 v63 v450 v486), ∀ a x, ((![v63, v450, v486, v33] : Fin 4 → IVec S16 32) a x).toNat < S2x4x94x96.size a := fun v33 v35 v63 v450 v486 k0_hw258 => k0_hw258.1
theorem k0_idx328_inb : ∀ (v33 : IVec S16 32) (v35 : IVec S16 32) (v63 : IVec S16 32) (v450 : IVec S16 32) (v486 : IVec S16 32) (k0_hw258 : k0_chk258 v33 v35 v63 v450 v486), ∀ a x, ((![v63, v450, v486, v35] : Fin 4 → IVec S16 32) a x).toNat < S2x4x94x96.size a := fun v33 v35 v63 v450 v486 k0_hw258 => k0_hw258.2

def k0_chk259 (v30 : IVec S16 32) (v63 : IVec S16 32) (v450 : IVec S16 32) (v487 : IVec S16 32) : Prop :=
  (∀ a x, ((![v63, v450, v487, v30] : Fin 4 → IVec S16 32) a x).toNat < S2x4x32x32.size a)
theorem k0_idx329_inb : ∀ (v30 : IVec S16 32) (v63 : IVec S16 32) (v450 : IVec S16 32) (v487 : IVec S16 32) (k0_hw259 : k0_chk259 v30 v63 v450 v487), ∀ a x, ((![v63, v450, v487, v30] : Fin 4 → IVec S16 32) a x).toNat < S2x4x32x32.size a := fun v30 v63 v450 v487 k0_hw259 => k0_hw259

def k0_chk260 (v63 : IVec S16 32) (v450 : IVec S16 32) (v487 : IVec S16 32) (v490 : IVec S16 32) : Prop :=
  (∀ a x, ((![v63, v450, v487, v490] : Fin 4 → IVec S16 32) a x).toNat < S2x4x32x32.size a)
theorem k0_idx330_inb : ∀ (v63 : IVec S16 32) (v450 : IVec S16 32) (v487 : IVec S16 32) (v490 : IVec S16 32) (k0_hw260 : k0_chk260 v63 v450 v487 v490), ∀ a x, ((![v63, v450, v487, v490] : Fin 4 → IVec S16 32) a x).toNat < S2x4x32x32.size a := fun v63 v450 v487 v490 k0_hw260 => k0_hw260

def k0_chk261 (v33 : IVec S16 32) (v35 : IVec S16 32) (v63 : IVec S16 32) (v450 : IVec S16 32) (v492 : IVec S16 32) : Prop :=
  (∀ a x, ((![v63, v450, v492, v33] : Fin 4 → IVec S16 32) a x).toNat < S2x4x94x96.size a) ∧
  (∀ a x, ((![v63, v450, v492, v35] : Fin 4 → IVec S16 32) a x).toNat < S2x4x94x96.size a)
theorem k0_idx331_inb : ∀ (v33 : IVec S16 32) (v35 : IVec S16 32) (v63 : IVec S16 32) (v450 : IVec S16 32) (v492 : IVec S16 32) (k0_hw261 : k0_chk261 v33 v35 v63 v450 v492), ∀ a x, ((![v63, v450, v492, v33] : Fin 4 → IVec S16 32) a x).toNat < S2x4x94x96.size a := fun v33 v35 v63 v450 v492 k0_hw261 => k0_hw261.1
theorem k0_idx332_inb : ∀ (v33 : IVec S16 32) (v35 : IVec S16 32) (v63 : IVec S16 32) (v450 : IVec S16 32) (v492 : IVec S16 32) (k0_hw261 : k0_chk261 v33 v35 v63 v450 v492), ∀ a x, ((![v63, v450, v492, v35] : Fin 4 → IVec S16 32) a x).toNat < S2x4x94x96.size a := fun v33 v35 v63 v450 v492 k0_hw261 => k0_hw261.2

def k0_chk262 (v30 : IVec S16 32) (v63 : IVec S16 32) (v450 : IVec S16 32) (v493 : IVec S16 32) : Prop :=
  (∀ a x, ((![v63, v450, v493, v30] : Fin 4 → IVec S16 32) a x).toNat < S2x4x32x32.size a)
theorem k0_idx333_inb : ∀ (v30 : IVec S16 32) (v63 : IVec S16 32) (v450 : IVec S16 32) (v493 : IVec S16 32) (k0_hw262 : k0_chk262 v30 v63 v450 v493), ∀ a x, ((![v63, v450, v493, v30] : Fin 4 → IVec S16 32) a x).toNat < S2x4x32x32.size a := fun v30 v63 v450 v493 k0_hw262 => k0_hw262

def k0_chk263 (v63 : IVec S16 32) (v450 : IVec S16 32) (v493 : IVec S16 32) (v496 : IVec S16 32) : Prop :=
  (∀ a x, ((![v63, v450, v493, v496] : Fin 4 → IVec S16 32) a x).toNat < S2x4x32x32.size a)
theorem k0_idx334_inb : ∀ (v63 : IVec S16 32) (v450 : IVec S16 32) (v493 : IVec S16 32) (v496 : IVec S16 32) (k0_hw263 : k0_chk263 v63 v450 v493 v496), ∀ a x, ((![v63, v450, v493, v496] : Fin 4 → IVec S16 32) a x).toNat < S2x4x32x32.size a := fun v63 v450 v493 v496 k0_hw263 => k0_hw263

def k0_chk264 (v33 : IVec S16 32) (v35 : IVec S16 32) (v63 : IVec S16 32) (v450 : IVec S16 32) (v498 : IVec S16 32) : Prop :=
  (∀ a x, ((![v63, v450, v498, v33] : Fin 4 → IVec S16 32) a x).toNat < S2x4x94x96.size a) ∧
  (∀ a x, ((![v63, v450, v498, v35] : Fin 4 → IVec S16 32) a x).toNat < S2x4x94x96.size a)
theorem k0_idx335_inb : ∀ (v33 : IVec S16 32) (v35 : IVec S16 32) (v63 : IVec S16 32) (v450 : IVec S16 32) (v498 : IVec S16 32) (k0_hw264 : k0_chk264 v33 v35 v63 v450 v498), ∀ a x, ((![v63, v450, v498, v33] : Fin 4 → IVec S16 32) a x).toNat < S2x4x94x96.size a := fun v33 v35 v63 v450 v498 k0_hw264 => k0_hw264.1
theorem k0_idx336_inb : ∀ (v33 : IVec S16 32) (v35 : IVec S16 32) (v63 : IVec S16 32) (v450 : IVec S16 32) (v498 : IVec S16 32) (k0_hw264 : k0_chk264 v33 v35 v63 v450 v498), ∀ a x, ((![v63, v450, v498, v35] : Fin 4 → IVec S16 32) a x).toNat < S2x4x94x96.size a := fun v33 v35 v63 v450 v498 k0_hw264 => k0_hw264.2

def k0_chk265 (v30 : IVec S16 32) (v63 : IVec S16 32) (v450 : IVec S16 32) (v499 : IVec S16 32) : Prop :=
  (∀ a x, ((![v63, v450, v499, v30] : Fin 4 → IVec S16 32) a x).toNat < S2x4x32x32.size a)
theorem k0_idx337_inb : ∀ (v30 : IVec S16 32) (v63 : IVec S16 32) (v450 : IVec S16 32) (v499 : IVec S16 32) (k0_hw265 : k0_chk265 v30 v63 v450 v499), ∀ a x, ((![v63, v450, v499, v30] : Fin 4 → IVec S16 32) a x).toNat < S2x4x32x32.size a := fun v30 v63 v450 v499 k0_hw265 => k0_hw265

def k0_chk266 (v63 : IVec S16 32) (v450 : IVec S16 32) (v499 : IVec S16 32) (v502 : IVec S16 32) : Prop :=
  (∀ a x, ((![v63, v450, v499, v502] : Fin 4 → IVec S16 32) a x).toNat < S2x4x32x32.size a)
theorem k0_idx338_inb : ∀ (v63 : IVec S16 32) (v450 : IVec S16 32) (v499 : IVec S16 32) (v502 : IVec S16 32) (k0_hw266 : k0_chk266 v63 v450 v499 v502), ∀ a x, ((![v63, v450, v499, v502] : Fin 4 → IVec S16 32) a x).toNat < S2x4x32x32.size a := fun v63 v450 v499 v502 k0_hw266 => k0_hw266

def k0_chk267 (v33 : IVec S16 32) (v35 : IVec S16 32) (v63 : IVec S16 32) (v450 : IVec S16 32) (v504 : IVec S16 32) : Prop :=
  (∀ a x, ((![v63, v450, v504, v33] : Fin 4 → IVec S16 32) a x).toNat < S2x4x94x96.size a) ∧
  (∀ a x, ((![v63, v450, v504, v35] : Fin 4 → IVec S16 32) a x).toNat < S2x4x94x96.size a)
theorem k0_idx339_inb : ∀ (v33 : IVec S16 32) (v35 : IVec S16 32) (v63 : IVec S16 32) (v450 : IVec S16 32) (v504 : IVec S16 32) (k0_hw267 : k0_chk267 v33 v35 v63 v450 v504), ∀ a x, ((![v63, v450, v504, v33] : Fin 4 → IVec S16 32) a x).toNat < S2x4x94x96.size a := fun v33 v35 v63 v450 v504 k0_hw267 => k0_hw267.1
theorem k0_idx340_inb : ∀ (v33 : IVec S16 32) (v35 : IVec S16 32) (v63 : IVec S16 32) (v450 : IVec S16 32) (v504 : IVec S16 32) (k0_hw267 : k0_chk267 v33 v35 v63 v450 v504), ∀ a x, ((![v63, v450, v504, v35] : Fin 4 → IVec S16 32) a x).toNat < S2x4x94x96.size a := fun v33 v35 v63 v450 v504 k0_hw267 => k0_hw267.2

def k0_chk268 (v30 : IVec S16 32) (v63 : IVec S16 32) (v450 : IVec S16 32) (v505 : IVec S16 32) : Prop :=
  (∀ a x, ((![v63, v450, v505, v30] : Fin 4 → IVec S16 32) a x).toNat < S2x4x32x32.size a)
theorem k0_idx341_inb : ∀ (v30 : IVec S16 32) (v63 : IVec S16 32) (v450 : IVec S16 32) (v505 : IVec S16 32) (k0_hw268 : k0_chk268 v30 v63 v450 v505), ∀ a x, ((![v63, v450, v505, v30] : Fin 4 → IVec S16 32) a x).toNat < S2x4x32x32.size a := fun v30 v63 v450 v505 k0_hw268 => k0_hw268

def k0_chk269 (v63 : IVec S16 32) (v450 : IVec S16 32) (v505 : IVec S16 32) (v508 : IVec S16 32) : Prop :=
  (∀ a x, ((![v63, v450, v505, v508] : Fin 4 → IVec S16 32) a x).toNat < S2x4x32x32.size a)
theorem k0_idx342_inb : ∀ (v63 : IVec S16 32) (v450 : IVec S16 32) (v505 : IVec S16 32) (v508 : IVec S16 32) (k0_hw269 : k0_chk269 v63 v450 v505 v508), ∀ a x, ((![v63, v450, v505, v508] : Fin 4 → IVec S16 32) a x).toNat < S2x4x32x32.size a := fun v63 v450 v505 v508 k0_hw269 => k0_hw269

def k0_chk270 (v33 : IVec S16 32) (v35 : IVec S16 32) (v63 : IVec S16 32) (v450 : IVec S16 32) (v510 : IVec S16 32) : Prop :=
  (∀ a x, ((![v63, v450, v510, v33] : Fin 4 → IVec S16 32) a x).toNat < S2x4x94x96.size a) ∧
  (∀ a x, ((![v63, v450, v510, v35] : Fin 4 → IVec S16 32) a x).toNat < S2x4x94x96.size a)
theorem k0_idx343_inb : ∀ (v33 : IVec S16 32) (v35 : IVec S16 32) (v63 : IVec S16 32) (v450 : IVec S16 32) (v510 : IVec S16 32) (k0_hw270 : k0_chk270 v33 v35 v63 v450 v510), ∀ a x, ((![v63, v450, v510, v33] : Fin 4 → IVec S16 32) a x).toNat < S2x4x94x96.size a := fun v33 v35 v63 v450 v510 k0_hw270 => k0_hw270.1
theorem k0_idx344_inb : ∀ (v33 : IVec S16 32) (v35 : IVec S16 32) (v63 : IVec S16 32) (v450 : IVec S16 32) (v510 : IVec S16 32) (k0_hw270 : k0_chk270 v33 v35 v63 v450 v510), ∀ a x, ((![v63, v450, v510, v35] : Fin 4 → IVec S16 32) a x).toNat < S2x4x94x96.size a := fun v33 v35 v63 v450 v510 k0_hw270 => k0_hw270.2

def k0_chk271 (v30 : IVec S16 32) (v63 : IVec S16 32) (v450 : IVec S16 32) (v511 : IVec S16 32) : Prop :=
  (∀ a x, ((![v63, v450, v511, v30] : Fin 4 → IVec S16 32) a x).toNat < S2x4x32x32.size a)
theorem k0_idx345_inb : ∀ (v30 : IVec S16 32) (v63 : IVec S16 32) (v450 : IVec S16 32) (v511 : IVec S16 32) (k0_hw271 : k0_chk271 v30 v63 v450 v511), ∀ a x, ((![v63, v450, v511, v30] : Fin 4 → IVec S16 32) a x).toNat < S2x4x32x32.size a := fun v30 v63 v450 v511 k0_hw271 => k0_hw271

def k0_chk272 (v63 : IVec S16 32) (v450 : IVec S16 32) (v511 : IVec S16 32) (v514 : IVec S16 32) : Prop :=
  (∀ a x, ((![v63, v450, v511, v514] : Fin 4 → IVec S16 32) a x).toNat < S2x4x32x32.size a)
theorem k0_idx346_inb : ∀ (v63 : IVec S16 32) (v450 : IVec S16 32) (v511 : IVec S16 32) (v514 : IVec S16 32) (k0_hw272 : k0_chk272 v63 v450 v511 v514), ∀ a x, ((![v63, v450, v511, v514] : Fin 4 → IVec S16 32) a x).toNat < S2x4x32x32.size a := fun v63 v450 v511 v514 k0_hw272 => k0_hw272

def k0_chk273 (v33 : IVec S16 32) (v35 : IVec S16 32) (v63 : IVec S16 32) (v450 : IVec S16 32) (v516 : IVec S16 32) : Prop :=
  (∀ a x, ((![v63, v450, v516, v33] : Fin 4 → IVec S16 32) a x).toNat < S2x4x94x96.size a) ∧
  (∀ a x, ((![v63, v450, v516, v35] : Fin 4 → IVec S16 32) a x).toNat < S2x4x94x96.size a)
theorem k0_idx347_inb : ∀ (v33 : IVec S16 32) (v35 : IVec S16 32) (v63 : IVec S16 32) (v450 : IVec S16 32) (v516 : IVec S16 32) (k0_hw273 : k0_chk273 v33 v35 v63 v450 v516), ∀ a x, ((![v63, v450, v516, v33] : Fin 4 → IVec S16 32) a x).toNat < S2x4x94x96.size a := fun v33 v35 v63 v450 v516 k0_hw273 => k0_hw273.1
theorem k0_idx348_inb : ∀ (v33 : IVec S16 32) (v35 : IVec S16 32) (v63 : IVec S16 32) (v450 : IVec S16 32) (v516 : IVec S16 32) (k0_hw273 : k0_chk273 v33 v35 v63 v450 v516), ∀ a x, ((![v63, v450, v516, v35] : Fin 4 → IVec S16 32) a x).toNat < S2x4x94x96.size a := fun v33 v35 v63 v450 v516 k0_hw273 => k0_hw273.2

def k0_chk274 (v30 : IVec S16 32) (v63 : IVec S16 32) (v450 : IVec S16 32) (v517 : IVec S16 32) : Prop :=
  (∀ a x, ((![v63, v450, v517, v30] : Fin 4 → IVec S16 32) a x).toNat < S2x4x32x32.size a)
theorem k0_idx349_inb : ∀ (v30 : IVec S16 32) (v63 : IVec S16 32) (v450 : IVec S16 32) (v517 : IVec S16 32) (k0_hw274 : k0_chk274 v30 v63 v450 v517), ∀ a x, ((![v63, v450, v517, v30] : Fin 4 → IVec S16 32) a x).toNat < S2x4x32x32.size a := fun v30 v63 v450 v517 k0_hw274 => k0_hw274

def k0_chk275 (v63 : IVec S16 32) (v450 : IVec S16 32) (v517 : IVec S16 32) (v520 : IVec S16 32) : Prop :=
  (∀ a x, ((![v63, v450, v517, v520] : Fin 4 → IVec S16 32) a x).toNat < S2x4x32x32.size a)
theorem k0_idx350_inb : ∀ (v63 : IVec S16 32) (v450 : IVec S16 32) (v517 : IVec S16 32) (v520 : IVec S16 32) (k0_hw275 : k0_chk275 v63 v450 v517 v520), ∀ a x, ((![v63, v450, v517, v520] : Fin 4 → IVec S16 32) a x).toNat < S2x4x32x32.size a := fun v63 v450 v517 v520 k0_hw275 => k0_hw275

def k0_chk276 (v33 : IVec S16 32) (v35 : IVec S16 32) (v63 : IVec S16 32) (v450 : IVec S16 32) (v522 : IVec S16 32) : Prop :=
  (∀ a x, ((![v63, v450, v522, v33] : Fin 4 → IVec S16 32) a x).toNat < S2x4x94x96.size a) ∧
  (∀ a x, ((![v63, v450, v522, v35] : Fin 4 → IVec S16 32) a x).toNat < S2x4x94x96.size a)
theorem k0_idx351_inb : ∀ (v33 : IVec S16 32) (v35 : IVec S16 32) (v63 : IVec S16 32) (v450 : IVec S16 32) (v522 : IVec S16 32) (k0_hw276 : k0_chk276 v33 v35 v63 v450 v522), ∀ a x, ((![v63, v450, v522, v33] : Fin 4 → IVec S16 32) a x).toNat < S2x4x94x96.size a := fun v33 v35 v63 v450 v522 k0_hw276 => k0_hw276.1
theorem k0_idx352_inb : ∀ (v33 : IVec S16 32) (v35 : IVec S16 32) (v63 : IVec S16 32) (v450 : IVec S16 32) (v522 : IVec S16 32) (k0_hw276 : k0_chk276 v33 v35 v63 v450 v522), ∀ a x, ((![v63, v450, v522, v35] : Fin 4 → IVec S16 32) a x).toNat < S2x4x94x96.size a := fun v33 v35 v63 v450 v522 k0_hw276 => k0_hw276.2

def k0_chk277 (v30 : IVec S16 32) (v63 : IVec S16 32) (v450 : IVec S16 32) (v523 : IVec S16 32) : Prop :=
  (∀ a x, ((![v63, v450, v523, v30] : Fin 4 → IVec S16 32) a x).toNat < S2x4x32x32.size a)
theorem k0_idx353_inb : ∀ (v30 : IVec S16 32) (v63 : IVec S16 32) (v450 : IVec S16 32) (v523 : IVec S16 32) (k0_hw277 : k0_chk277 v30 v63 v450 v523), ∀ a x, ((![v63, v450, v523, v30] : Fin 4 → IVec S16 32) a x).toNat < S2x4x32x32.size a := fun v30 v63 v450 v523 k0_hw277 => k0_hw277

def k0_chk278 (v63 : IVec S16 32) (v450 : IVec S16 32) (v523 : IVec S16 32) (v526 : IVec S16 32) : Prop :=
  (∀ a x, ((![v63, v450, v523, v526] : Fin 4 → IVec S16 32) a x).toNat < S2x4x32x32.size a)
theorem k0_idx354_inb : ∀ (v63 : IVec S16 32) (v450 : IVec S16 32) (v523 : IVec S16 32) (v526 : IVec S16 32) (k0_hw278 : k0_chk278 v63 v450 v523 v526), ∀ a x, ((![v63, v450, v523, v526] : Fin 4 → IVec S16 32) a x).toNat < S2x4x32x32.size a := fun v63 v450 v523 v526 k0_hw278 => k0_hw278

def k0_chk279 (v33 : IVec S16 32) (v35 : IVec S16 32) (v63 : IVec S16 32) (v450 : IVec S16 32) (v528 : IVec S16 32) : Prop :=
  (∀ a x, ((![v63, v450, v528, v33] : Fin 4 → IVec S16 32) a x).toNat < S2x4x94x96.size a) ∧
  (∀ a x, ((![v63, v450, v528, v35] : Fin 4 → IVec S16 32) a x).toNat < S2x4x94x96.size a)
theorem k0_idx355_inb : ∀ (v33 : IVec S16 32) (v35 : IVec S16 32) (v63 : IVec S16 32) (v450 : IVec S16 32) (v528 : IVec S16 32) (k0_hw279 : k0_chk279 v33 v35 v63 v450 v528), ∀ a x, ((![v63, v450, v528, v33] : Fin 4 → IVec S16 32) a x).toNat < S2x4x94x96.size a := fun v33 v35 v63 v450 v528 k0_hw279 => k0_hw279.1
theorem k0_idx356_inb : ∀ (v33 : IVec S16 32) (v35 : IVec S16 32) (v63 : IVec S16 32) (v450 : IVec S16 32) (v528 : IVec S16 32) (k0_hw279 : k0_chk279 v33 v35 v63 v450 v528), ∀ a x, ((![v63, v450, v528, v35] : Fin 4 → IVec S16 32) a x).toNat < S2x4x94x96.size a := fun v33 v35 v63 v450 v528 k0_hw279 => k0_hw279.2

def k0_chk280 (v30 : IVec S16 32) (v63 : IVec S16 32) (v450 : IVec S16 32) (v529 : IVec S16 32) : Prop :=
  (∀ a x, ((![v63, v450, v529, v30] : Fin 4 → IVec S16 32) a x).toNat < S2x4x32x32.size a)
theorem k0_idx357_inb : ∀ (v30 : IVec S16 32) (v63 : IVec S16 32) (v450 : IVec S16 32) (v529 : IVec S16 32) (k0_hw280 : k0_chk280 v30 v63 v450 v529), ∀ a x, ((![v63, v450, v529, v30] : Fin 4 → IVec S16 32) a x).toNat < S2x4x32x32.size a := fun v30 v63 v450 v529 k0_hw280 => k0_hw280

def k0_chk281 (v63 : IVec S16 32) (v450 : IVec S16 32) (v529 : IVec S16 32) (v532 : IVec S16 32) : Prop :=
  (∀ a x, ((![v63, v450, v529, v532] : Fin 4 → IVec S16 32) a x).toNat < S2x4x32x32.size a)
theorem k0_idx358_inb : ∀ (v63 : IVec S16 32) (v450 : IVec S16 32) (v529 : IVec S16 32) (v532 : IVec S16 32) (k0_hw281 : k0_chk281 v63 v450 v529 v532), ∀ a x, ((![v63, v450, v529, v532] : Fin 4 → IVec S16 32) a x).toNat < S2x4x32x32.size a := fun v63 v450 v529 v532 k0_hw281 => k0_hw281

def k0_chk282 (v33 : IVec S16 32) (v35 : IVec S16 32) (v63 : IVec S16 32) (v450 : IVec S16 32) (v534 : IVec S16 32) : Prop :=
  (∀ a x, ((![v63, v450, v534, v33] : Fin 4 → IVec S16 32) a x).toNat < S2x4x94x96.size a) ∧
  (∀ a x, ((![v63, v450, v534, v35] : Fin 4 → IVec S16 32) a x).toNat < S2x4x94x96.size a)
theorem k0_idx359_inb : ∀ (v33 : IVec S16 32) (v35 : IVec S16 32) (v63 : IVec S16 32) (v450 : IVec S16 32) (v534 : IVec S16 32) (k0_hw282 : k0_chk282 v33 v35 v63 v450 v534), ∀ a x, ((![v63, v450, v534, v33] : Fin 4 → IVec S16 32) a x).toNat < S2x4x94x96.size a := fun v33 v35 v63 v450 v534 k0_hw282 => k0_hw282.1
theorem k0_idx360_inb : ∀ (v33 : IVec S16 32) (v35 : IVec S16 32) (v63 : IVec S16 32) (v450 : IVec S16 32) (v534 : IVec S16 32) (k0_hw282 : k0_chk282 v33 v35 v63 v450 v534), ∀ a x, ((![v63, v450, v534, v35] : Fin 4 → IVec S16 32) a x).toNat < S2x4x94x96.size a := fun v33 v35 v63 v450 v534 k0_hw282 => k0_hw282.2

def k0_chk283 (v30 : IVec S16 32) (v63 : IVec S16 32) (v450 : IVec S16 32) (v535 : IVec S16 32) : Prop :=
  (∀ a x, ((![v63, v450, v535, v30] : Fin 4 → IVec S16 32) a x).toNat < S2x4x32x32.size a)
theorem k0_idx361_inb : ∀ (v30 : IVec S16 32) (v63 : IVec S16 32) (v450 : IVec S16 32) (v535 : IVec S16 32) (k0_hw283 : k0_chk283 v30 v63 v450 v535), ∀ a x, ((![v63, v450, v535, v30] : Fin 4 → IVec S16 32) a x).toNat < S2x4x32x32.size a := fun v30 v63 v450 v535 k0_hw283 => k0_hw283

def k0_chk284 (v63 : IVec S16 32) (v450 : IVec S16 32) (v535 : IVec S16 32) (v538 : IVec S16 32) : Prop :=
  (∀ a x, ((![v63, v450, v535, v538] : Fin 4 → IVec S16 32) a x).toNat < S2x4x32x32.size a)
theorem k0_idx362_inb : ∀ (v63 : IVec S16 32) (v450 : IVec S16 32) (v535 : IVec S16 32) (v538 : IVec S16 32) (k0_hw284 : k0_chk284 v63 v450 v535 v538), ∀ a x, ((![v63, v450, v535, v538] : Fin 4 → IVec S16 32) a x).toNat < S2x4x32x32.size a := fun v63 v450 v535 v538 k0_hw284 => k0_hw284

def k0_chk285 (v33 : IVec S16 32) (v35 : IVec S16 32) (v63 : IVec S16 32) (v450 : IVec S16 32) (v540 : IVec S16 32) : Prop :=
  (∀ a x, ((![v63, v450, v540, v33] : Fin 4 → IVec S16 32) a x).toNat < S2x4x94x96.size a) ∧
  (∀ a x, ((![v63, v450, v540, v35] : Fin 4 → IVec S16 32) a x).toNat < S2x4x94x96.size a)
theorem k0_idx363_inb : ∀ (v33 : IVec S16 32) (v35 : IVec S16 32) (v63 : IVec S16 32) (v450 : IVec S16 32) (v540 : IVec S16 32) (k0_hw285 : k0_chk285 v33 v35 v63 v450 v540), ∀ a x, ((![v63, v450, v540, v33] : Fin 4 → IVec S16 32) a x).toNat < S2x4x94x96.size a := fun v33 v35 v63 v450 v540 k0_hw285 => k0_hw285.1
theorem k0_idx364_inb : ∀ (v33 : IVec S16 32) (v35 : IVec S16 32) (v63 : IVec S16 32) (v450 : IVec S16 32) (v540 : IVec S16 32) (k0_hw285 : k0_chk285 v33 v35 v63 v450 v540), ∀ a x, ((![v63, v450, v540, v35] : Fin 4 → IVec S16 32) a x).toNat < S2x4x94x96.size a := fun v33 v35 v63 v450 v540 k0_hw285 => k0_hw285.2

def k0_chk286 (v30 : IVec S16 32) (v63 : IVec S16 32) (v450 : IVec S16 32) (v541 : IVec S16 32) : Prop :=
  (∀ a x, ((![v63, v450, v541, v30] : Fin 4 → IVec S16 32) a x).toNat < S2x4x32x32.size a)
theorem k0_idx365_inb : ∀ (v30 : IVec S16 32) (v63 : IVec S16 32) (v450 : IVec S16 32) (v541 : IVec S16 32) (k0_hw286 : k0_chk286 v30 v63 v450 v541), ∀ a x, ((![v63, v450, v541, v30] : Fin 4 → IVec S16 32) a x).toNat < S2x4x32x32.size a := fun v30 v63 v450 v541 k0_hw286 => k0_hw286

def k0_chk287 (v63 : IVec S16 32) (v450 : IVec S16 32) (v541 : IVec S16 32) (v544 : IVec S16 32) : Prop :=
  (∀ a x, ((![v63, v450, v541, v544] : Fin 4 → IVec S16 32) a x).toNat < S2x4x32x32.size a)
theorem k0_idx366_inb : ∀ (v63 : IVec S16 32) (v450 : IVec S16 32) (v541 : IVec S16 32) (v544 : IVec S16 32) (k0_hw287 : k0_chk287 v63 v450 v541 v544), ∀ a x, ((![v63, v450, v541, v544] : Fin 4 → IVec S16 32) a x).toNat < S2x4x32x32.size a := fun v63 v450 v541 v544 k0_hw287 => k0_hw287

def k0_chk288 (v33 : IVec S16 32) (v35 : IVec S16 32) (v63 : IVec S16 32) (v450 : IVec S16 32) (v546 : IVec S16 32) : Prop :=
  (∀ a x, ((![v63, v450, v546, v33] : Fin 4 → IVec S16 32) a x).toNat < S2x4x94x96.size a) ∧
  (∀ a x, ((![v63, v450, v546, v35] : Fin 4 → IVec S16 32) a x).toNat < S2x4x94x96.size a)
theorem k0_idx367_inb : ∀ (v33 : IVec S16 32) (v35 : IVec S16 32) (v63 : IVec S16 32) (v450 : IVec S16 32) (v546 : IVec S16 32) (k0_hw288 : k0_chk288 v33 v35 v63 v450 v546), ∀ a x, ((![v63, v450, v546, v33] : Fin 4 → IVec S16 32) a x).toNat < S2x4x94x96.size a := fun v33 v35 v63 v450 v546 k0_hw288 => k0_hw288.1
theorem k0_idx368_inb : ∀ (v33 : IVec S16 32) (v35 : IVec S16 32) (v63 : IVec S16 32) (v450 : IVec S16 32) (v546 : IVec S16 32) (k0_hw288 : k0_chk288 v33 v35 v63 v450 v546), ∀ a x, ((![v63, v450, v546, v35] : Fin 4 → IVec S16 32) a x).toNat < S2x4x94x96.size a := fun v33 v35 v63 v450 v546 k0_hw288 => k0_hw288.2

def k0_chk289 (v30 : IVec S16 32) (v63 : IVec S16 32) (v450 : IVec S16 32) (v547 : IVec S16 32) : Prop :=
  (∀ a x, ((![v63, v450, v547, v30] : Fin 4 → IVec S16 32) a x).toNat < S2x4x32x32.size a)
theorem k0_idx369_inb : ∀ (v30 : IVec S16 32) (v63 : IVec S16 32) (v450 : IVec S16 32) (v547 : IVec S16 32) (k0_hw289 : k0_chk289 v30 v63 v450 v547), ∀ a x, ((![v63, v450, v547, v30] : Fin 4 → IVec S16 32) a x).toNat < S2x4x32x32.size a := fun v30 v63 v450 v547 k0_hw289 => k0_hw289

def k0_chk290 (v63 : IVec S16 32) (v450 : IVec S16 32) (v547 : IVec S16 32) (v550 : IVec S16 32) : Prop :=
  (∀ a x, ((![v63, v450, v547, v550] : Fin 4 → IVec S16 32) a x).toNat < S2x4x32x32.size a)
theorem k0_idx370_inb : ∀ (v63 : IVec S16 32) (v450 : IVec S16 32) (v547 : IVec S16 32) (v550 : IVec S16 32) (k0_hw290 : k0_chk290 v63 v450 v547 v550), ∀ a x, ((![v63, v450, v547, v550] : Fin 4 → IVec S16 32) a x).toNat < S2x4x32x32.size a := fun v63 v450 v547 v550 k0_hw290 => k0_hw290

def k0_chk291 (v33 : IVec S16 32) (v35 : IVec S16 32) (v63 : IVec S16 32) (v450 : IVec S16 32) (v552 : IVec S16 32) : Prop :=
  (∀ a x, ((![v63, v450, v552, v33] : Fin 4 → IVec S16 32) a x).toNat < S2x4x94x96.size a) ∧
  (∀ a x, ((![v63, v450, v552, v35] : Fin 4 → IVec S16 32) a x).toNat < S2x4x94x96.size a)
theorem k0_idx371_inb : ∀ (v33 : IVec S16 32) (v35 : IVec S16 32) (v63 : IVec S16 32) (v450 : IVec S16 32) (v552 : IVec S16 32) (k0_hw291 : k0_chk291 v33 v35 v63 v450 v552), ∀ a x, ((![v63, v450, v552, v33] : Fin 4 → IVec S16 32) a x).toNat < S2x4x94x96.size a := fun v33 v35 v63 v450 v552 k0_hw291 => k0_hw291.1
theorem k0_idx372_inb : ∀ (v33 : IVec S16 32) (v35 : IVec S16 32) (v63 : IVec S16 32) (v450 : IVec S16 32) (v552 : IVec S16 32) (k0_hw291 : k0_chk291 v33 v35 v63 v450 v552), ∀ a x, ((![v63, v450, v552, v35] : Fin 4 → IVec S16 32) a x).toNat < S2x4x94x96.size a := fun v33 v35 v63 v450 v552 k0_hw291 => k0_hw291.2

def k0_chk292 (v30 : IVec S16 32) (v63 : IVec S16 32) (v450 : IVec S16 32) (v553 : IVec S16 32) : Prop :=
  (∀ a x, ((![v63, v450, v553, v30] : Fin 4 → IVec S16 32) a x).toNat < S2x4x32x32.size a)
theorem k0_idx373_inb : ∀ (v30 : IVec S16 32) (v63 : IVec S16 32) (v450 : IVec S16 32) (v553 : IVec S16 32) (k0_hw292 : k0_chk292 v30 v63 v450 v553), ∀ a x, ((![v63, v450, v553, v30] : Fin 4 → IVec S16 32) a x).toNat < S2x4x32x32.size a := fun v30 v63 v450 v553 k0_hw292 => k0_hw292

def k0_chk293 (v63 : IVec S16 32) (v450 : IVec S16 32) (v553 : IVec S16 32) (v556 : IVec S16 32) : Prop :=
  (∀ a x, ((![v63, v450, v553, v556] : Fin 4 → IVec S16 32) a x).toNat < S2x4x32x32.size a)
theorem k0_idx374_inb : ∀ (v63 : IVec S16 32) (v450 : IVec S16 32) (v553 : IVec S16 32) (v556 : IVec S16 32) (k0_hw293 : k0_chk293 v63 v450 v553 v556), ∀ a x, ((![v63, v450, v553, v556] : Fin 4 → IVec S16 32) a x).toNat < S2x4x32x32.size a := fun v63 v450 v553 v556 k0_hw293 => k0_hw293

def k0_chk294 (v33 : IVec S16 32) (v35 : IVec S16 32) (v63 : IVec S16 32) (v450 : IVec S16 32) (v558 : IVec S16 32) : Prop :=
  (∀ a x, ((![v63, v450, v558, v33] : Fin 4 → IVec S16 32) a x).toNat < S2x4x94x96.size a) ∧
  (∀ a x, ((![v63, v450, v558, v35] : Fin 4 → IVec S16 32) a x).toNat < S2x4x94x96.size a)
theorem k0_idx375_inb : ∀ (v33 : IVec S16 32) (v35 : IVec S16 32) (v63 : IVec S16 32) (v450 : IVec S16 32) (v558 : IVec S16 32) (k0_hw294 : k0_chk294 v33 v35 v63 v450 v558), ∀ a x, ((![v63, v450, v558, v33] : Fin 4 → IVec S16 32) a x).toNat < S2x4x94x96.size a := fun v33 v35 v63 v450 v558 k0_hw294 => k0_hw294.1
theorem k0_idx376_inb : ∀ (v33 : IVec S16 32) (v35 : IVec S16 32) (v63 : IVec S16 32) (v450 : IVec S16 32) (v558 : IVec S16 32) (k0_hw294 : k0_chk294 v33 v35 v63 v450 v558), ∀ a x, ((![v63, v450, v558, v35] : Fin 4 → IVec S16 32) a x).toNat < S2x4x94x96.size a := fun v33 v35 v63 v450 v558 k0_hw294 => k0_hw294.2

def k0_chk295 (v30 : IVec S16 32) (v63 : IVec S16 32) (v450 : IVec S16 32) (v559 : IVec S16 32) : Prop :=
  (∀ a x, ((![v63, v450, v559, v30] : Fin 4 → IVec S16 32) a x).toNat < S2x4x32x32.size a)
theorem k0_idx377_inb : ∀ (v30 : IVec S16 32) (v63 : IVec S16 32) (v450 : IVec S16 32) (v559 : IVec S16 32) (k0_hw295 : k0_chk295 v30 v63 v450 v559), ∀ a x, ((![v63, v450, v559, v30] : Fin 4 → IVec S16 32) a x).toNat < S2x4x32x32.size a := fun v30 v63 v450 v559 k0_hw295 => k0_hw295

def k0_chk296 (v63 : IVec S16 32) (v450 : IVec S16 32) (v559 : IVec S16 32) (v562 : IVec S16 32) : Prop :=
  (∀ a x, ((![v63, v450, v559, v562] : Fin 4 → IVec S16 32) a x).toNat < S2x4x32x32.size a)
theorem k0_idx378_inb : ∀ (v63 : IVec S16 32) (v450 : IVec S16 32) (v559 : IVec S16 32) (v562 : IVec S16 32) (k0_hw296 : k0_chk296 v63 v450 v559 v562), ∀ a x, ((![v63, v450, v559, v562] : Fin 4 → IVec S16 32) a x).toNat < S2x4x32x32.size a := fun v63 v450 v559 v562 k0_hw296 => k0_hw296

def k0_chk297 (v33 : IVec S16 32) (v35 : IVec S16 32) (v63 : IVec S16 32) (v450 : IVec S16 32) (v564 : IVec S16 32) : Prop :=
  (∀ a x, ((![v63, v450, v564, v33] : Fin 4 → IVec S16 32) a x).toNat < S2x4x94x96.size a) ∧
  (∀ a x, ((![v63, v450, v564, v35] : Fin 4 → IVec S16 32) a x).toNat < S2x4x94x96.size a)
theorem k0_idx379_inb : ∀ (v33 : IVec S16 32) (v35 : IVec S16 32) (v63 : IVec S16 32) (v450 : IVec S16 32) (v564 : IVec S16 32) (k0_hw297 : k0_chk297 v33 v35 v63 v450 v564), ∀ a x, ((![v63, v450, v564, v33] : Fin 4 → IVec S16 32) a x).toNat < S2x4x94x96.size a := fun v33 v35 v63 v450 v564 k0_hw297 => k0_hw297.1
theorem k0_idx380_inb : ∀ (v33 : IVec S16 32) (v35 : IVec S16 32) (v63 : IVec S16 32) (v450 : IVec S16 32) (v564 : IVec S16 32) (k0_hw297 : k0_chk297 v33 v35 v63 v450 v564), ∀ a x, ((![v63, v450, v564, v35] : Fin 4 → IVec S16 32) a x).toNat < S2x4x94x96.size a := fun v33 v35 v63 v450 v564 k0_hw297 => k0_hw297.2

def k0_chk298 (v30 : IVec S16 32) (v63 : IVec S16 32) (v450 : IVec S16 32) (v565 : IVec S16 32) : Prop :=
  (∀ a x, ((![v63, v450, v565, v30] : Fin 4 → IVec S16 32) a x).toNat < S2x4x32x32.size a)
theorem k0_idx381_inb : ∀ (v30 : IVec S16 32) (v63 : IVec S16 32) (v450 : IVec S16 32) (v565 : IVec S16 32) (k0_hw298 : k0_chk298 v30 v63 v450 v565), ∀ a x, ((![v63, v450, v565, v30] : Fin 4 → IVec S16 32) a x).toNat < S2x4x32x32.size a := fun v30 v63 v450 v565 k0_hw298 => k0_hw298

def k0_chk299 (v63 : IVec S16 32) (v450 : IVec S16 32) (v565 : IVec S16 32) (v568 : IVec S16 32) : Prop :=
  (∀ a x, ((![v63, v450, v565, v568] : Fin 4 → IVec S16 32) a x).toNat < S2x4x32x32.size a)
theorem k0_idx382_inb : ∀ (v63 : IVec S16 32) (v450 : IVec S16 32) (v565 : IVec S16 32) (v568 : IVec S16 32) (k0_hw299 : k0_chk299 v63 v450 v565 v568), ∀ a x, ((![v63, v450, v565, v568] : Fin 4 → IVec S16 32) a x).toNat < S2x4x32x32.size a := fun v63 v450 v565 v568 k0_hw299 => k0_hw299

def k0_chk300 (v33 : IVec S16 32) (v35 : IVec S16 32) (v63 : IVec S16 32) (v450 : IVec S16 32) (v570 : IVec S16 32) : Prop :=
  (∀ a x, ((![v63, v450, v570, v33] : Fin 4 → IVec S16 32) a x).toNat < S2x4x94x96.size a) ∧
  (∀ a x, ((![v63, v450, v570, v35] : Fin 4 → IVec S16 32) a x).toNat < S2x4x94x96.size a)
theorem k0_idx383_inb : ∀ (v33 : IVec S16 32) (v35 : IVec S16 32) (v63 : IVec S16 32) (v450 : IVec S16 32) (v570 : IVec S16 32) (k0_hw300 : k0_chk300 v33 v35 v63 v450 v570), ∀ a x, ((![v63, v450, v570, v33] : Fin 4 → IVec S16 32) a x).toNat < S2x4x94x96.size a := fun v33 v35 v63 v450 v570 k0_hw300 => k0_hw300.1
theorem k0_idx384_inb : ∀ (v33 : IVec S16 32) (v35 : IVec S16 32) (v63 : IVec S16 32) (v450 : IVec S16 32) (v570 : IVec S16 32) (k0_hw300 : k0_chk300 v33 v35 v63 v450 v570), ∀ a x, ((![v63, v450, v570, v35] : Fin 4 → IVec S16 32) a x).toNat < S2x4x94x96.size a := fun v33 v35 v63 v450 v570 k0_hw300 => k0_hw300.2

def k0_chk301 (v30 : IVec S16 32) (v63 : IVec S16 32) (v450 : IVec S16 32) (v571 : IVec S16 32) : Prop :=
  (∀ a x, ((![v63, v450, v571, v30] : Fin 4 → IVec S16 32) a x).toNat < S2x4x32x32.size a)
theorem k0_idx385_inb : ∀ (v30 : IVec S16 32) (v63 : IVec S16 32) (v450 : IVec S16 32) (v571 : IVec S16 32) (k0_hw301 : k0_chk301 v30 v63 v450 v571), ∀ a x, ((![v63, v450, v571, v30] : Fin 4 → IVec S16 32) a x).toNat < S2x4x32x32.size a := fun v30 v63 v450 v571 k0_hw301 => k0_hw301

def k0_chk302 (v63 : IVec S16 32) (v450 : IVec S16 32) (v571 : IVec S16 32) (v574 : IVec S16 32) : Prop :=
  (∀ a x, ((![v63, v450, v571, v574] : Fin 4 → IVec S16 32) a x).toNat < S2x4x32x32.size a)
theorem k0_idx386_inb : ∀ (v63 : IVec S16 32) (v450 : IVec S16 32) (v571 : IVec S16 32) (v574 : IVec S16 32) (k0_hw302 : k0_chk302 v63 v450 v571 v574), ∀ a x, ((![v63, v450, v571, v574] : Fin 4 → IVec S16 32) a x).toNat < S2x4x32x32.size a := fun v63 v450 v571 v574 k0_hw302 => k0_hw302

def k0_chk303 (v33 : IVec S16 32) (v35 : IVec S16 32) (v63 : IVec S16 32) (v450 : IVec S16 32) (v576 : IVec S16 32) : Prop :=
  (∀ a x, ((![v63, v450, v576, v33] : Fin 4 → IVec S16 32) a x).toNat < S2x4x94x96.size a) ∧
  (∀ a x, ((![v63, v450, v576, v35] : Fin 4 → IVec S16 32) a x).toNat < S2x4x94x96.size a)
theorem k0_idx387_inb : ∀ (v33 : IVec S16 32) (v35 : IVec S16 32) (v63 : IVec S16 32) (v450 : IVec S16 32) (v576 : IVec S16 32) (k0_hw303 : k0_chk303 v33 v35 v63 v450 v576), ∀ a x, ((![v63, v450, v576, v33] : Fin 4 → IVec S16 32) a x).toNat < S2x4x94x96.size a := fun v33 v35 v63 v450 v576 k0_hw303 => k0_hw303.1
theorem k0_idx388_inb : ∀ (v33 : IVec S16 32) (v35 : IVec S16 32) (v63 : IVec S16 32) (v450 : IVec S16 32) (v576 : IVec S16 32) (k0_hw303 : k0_chk303 v33 v35 v63 v450 v576), ∀ a x, ((![v63, v450, v576, v35] : Fin 4 → IVec S16 32) a x).toNat < S2x4x94x96.size a := fun v33 v35 v63 v450 v576 k0_hw303 => k0_hw303.2

def k0_chk304 (v30 : IVec S16 32) (v63 : IVec S16 32) (v450 : IVec S16 32) (v577 : IVec S16 32) : Prop :=
  (∀ a x, ((![v63, v450, v577, v30] : Fin 4 → IVec S16 32) a x).toNat < S2x4x32x32.size a)
theorem k0_idx389_inb : ∀ (v30 : IVec S16 32) (v63 : IVec S16 32) (v450 : IVec S16 32) (v577 : IVec S16 32) (k0_hw304 : k0_chk304 v30 v63 v450 v577), ∀ a x, ((![v63, v450, v577, v30] : Fin 4 → IVec S16 32) a x).toNat < S2x4x32x32.size a := fun v30 v63 v450 v577 k0_hw304 => k0_hw304

def k0_chk305 (v63 : IVec S16 32) (v450 : IVec S16 32) (v577 : IVec S16 32) (v580 : IVec S16 32) : Prop :=
  (∀ a x, ((![v63, v450, v577, v580] : Fin 4 → IVec S16 32) a x).toNat < S2x4x32x32.size a)
theorem k0_idx390_inb : ∀ (v63 : IVec S16 32) (v450 : IVec S16 32) (v577 : IVec S16 32) (v580 : IVec S16 32) (k0_hw305 : k0_chk305 v63 v450 v577 v580), ∀ a x, ((![v63, v450, v577, v580] : Fin 4 → IVec S16 32) a x).toNat < S2x4x32x32.size a := fun v63 v450 v577 v580 k0_hw305 => k0_hw305

def k0_chk306 (v33 : IVec S16 32) (v35 : IVec S16 32) (v63 : IVec S16 32) (v450 : IVec S16 32) (v582 : IVec S16 32) : Prop :=
  (∀ a x, ((![v63, v450, v582, v33] : Fin 4 → IVec S16 32) a x).toNat < S2x4x94x96.size a) ∧
  (∀ a x, ((![v63, v450, v582, v35] : Fin 4 → IVec S16 32) a x).toNat < S2x4x94x96.size a)
theorem k0_idx391_inb : ∀ (v33 : IVec S16 32) (v35 : IVec S16 32) (v63 : IVec S16 32) (v450 : IVec S16 32) (v582 : IVec S16 32) (k0_hw306 : k0_chk306 v33 v35 v63 v450 v582), ∀ a x, ((![v63, v450, v582, v33] : Fin 4 → IVec S16 32) a x).toNat < S2x4x94x96.size a := fun v33 v35 v63 v450 v582 k0_hw306 => k0_hw306.1
theorem k0_idx392_inb : ∀ (v33 : IVec S16 32) (v35 : IVec S16 32) (v63 : IVec S16 32) (v450 : IVec S16 32) (v582 : IVec S16 32) (k0_hw306 : k0_chk306 v33 v35 v63 v450 v582), ∀ a x, ((![v63, v450, v582, v35] : Fin 4 → IVec S16 32) a x).toNat < S2x4x94x96.size a := fun v33 v35 v63 v450 v582 k0_hw306 => k0_hw306.2

def k0_chk307 (v30 : IVec S16 32) (v63 : IVec S16 32) (v450 : IVec S16 32) (v583 : IVec S16 32) : Prop :=
  (∀ a x, ((![v63, v450, v583, v30] : Fin 4 → IVec S16 32) a x).toNat < S2x4x32x32.size a)
theorem k0_idx393_inb : ∀ (v30 : IVec S16 32) (v63 : IVec S16 32) (v450 : IVec S16 32) (v583 : IVec S16 32) (k0_hw307 : k0_chk307 v30 v63 v450 v583), ∀ a x, ((![v63, v450, v583, v30] : Fin 4 → IVec S16 32) a x).toNat < S2x4x32x32.size a := fun v30 v63 v450 v583 k0_hw307 => k0_hw307

def k0_chk308 (v63 : IVec S16 32) (v450 : IVec S16 32) (v583 : IVec S16 32) (v586 : IVec S16 32) : Prop :=
  (∀ a x, ((![v63, v450, v583, v586] : Fin 4 → IVec S16 32) a x).toNat < S2x4x32x32.size a)
theorem k0_idx394_inb : ∀ (v63 : IVec S16 32) (v450 : IVec S16 32) (v583 : IVec S16 32) (v586 : IVec S16 32) (k0_hw308 : k0_chk308 v63 v450 v583 v586), ∀ a x, ((![v63, v450, v583, v586] : Fin 4 → IVec S16 32) a x).toNat < S2x4x32x32.size a := fun v63 v450 v583 v586 k0_hw308 => k0_hw308

def k0_chk309 (v33 : IVec S16 32) (v35 : IVec S16 32) (v63 : IVec S16 32) (v450 : IVec S16 32) (v588 : IVec S16 32) : Prop :=
  (∀ a x, ((![v63, v450, v588, v33] : Fin 4 → IVec S16 32) a x).toNat < S2x4x94x96.size a) ∧
  (∀ a x, ((![v63, v450, v588, v35] : Fin 4 → IVec S16 32) a x).toNat < S2x4x94x96.size a)
theorem k0_idx395_inb : ∀ (v33 : IVec S16 32) (v35 : IVec S16 32) (v63 : IVec S16 32) (v450 : IVec S16 32) (v588 : IVec S16 32) (k0_hw309 : k0_chk309 v33 v35 v63 v450 v588), ∀ a x, ((![v63, v450, v588, v33] : Fin 4 → IVec S16 32) a x).toNat < S2x4x94x96.size a := fun v33 v35 v63 v450 v588 k0_hw309 => k0_hw309.1
theorem k0_idx396_inb : ∀ (v33 : IVec S16 32) (v35 : IVec S16 32) (v63 : IVec S16 32) (v450 : IVec S16 32) (v588 : IVec S16 32) (k0_hw309 : k0_chk309 v33 v35 v63 v450 v588), ∀ a x, ((![v63, v450, v588, v35] : Fin 4 → IVec S16 32) a x).toNat < S2x4x94x96.size a := fun v33 v35 v63 v450 v588 k0_hw309 => k0_hw309.2

def k0_chk310 (v30 : IVec S16 32) (v63 : IVec S16 32) (v450 : IVec S16 32) (v589 : IVec S16 32) : Prop :=
  (∀ a x, ((![v63, v450, v589, v30] : Fin 4 → IVec S16 32) a x).toNat < S2x4x32x32.size a)
theorem k0_idx397_inb : ∀ (v30 : IVec S16 32) (v63 : IVec S16 32) (v450 : IVec S16 32) (v589 : IVec S16 32) (k0_hw310 : k0_chk310 v30 v63 v450 v589), ∀ a x, ((![v63, v450, v589, v30] : Fin 4 → IVec S16 32) a x).toNat < S2x4x32x32.size a := fun v30 v63 v450 v589 k0_hw310 => k0_hw310

def k0_chk311 (v63 : IVec S16 32) (v450 : IVec S16 32) (v589 : IVec S16 32) (v592 : IVec S16 32) : Prop :=
  (∀ a x, ((![v63, v450, v589, v592] : Fin 4 → IVec S16 32) a x).toNat < S2x4x32x32.size a)
theorem k0_idx398_inb : ∀ (v63 : IVec S16 32) (v450 : IVec S16 32) (v589 : IVec S16 32) (v592 : IVec S16 32) (k0_hw311 : k0_chk311 v63 v450 v589 v592), ∀ a x, ((![v63, v450, v589, v592] : Fin 4 → IVec S16 32) a x).toNat < S2x4x32x32.size a := fun v63 v450 v589 v592 k0_hw311 => k0_hw311

def k0_chk312 (v33 : IVec S16 32) (v35 : IVec S16 32) (v63 : IVec S16 32) (v450 : IVec S16 32) (v594 : IVec S16 32) : Prop :=
  (∀ a x, ((![v63, v450, v594, v33] : Fin 4 → IVec S16 32) a x).toNat < S2x4x94x96.size a) ∧
  (∀ a x, ((![v63, v450, v594, v35] : Fin 4 → IVec S16 32) a x).toNat < S2x4x94x96.size a)
theorem k0_idx399_inb : ∀ (v33 : IVec S16 32) (v35 : IVec S16 32) (v63 : IVec S16 32) (v450 : IVec S16 32) (v594 : IVec S16 32) (k0_hw312 : k0_chk312 v33 v35 v63 v450 v594), ∀ a x, ((![v63, v450, v594, v33] : Fin 4 → IVec S16 32) a x).toNat < S2x4x94x96.size a := fun v33 v35 v63 v450 v594 k0_hw312 => k0_hw312.1
theorem k0_idx400_inb : ∀ (v33 : IVec S16 32) (v35 : IVec S16 32) (v63 : IVec S16 32) (v450 : IVec S16 32) (v594 : IVec S16 32) (k0_hw312 : k0_chk312 v33 v35 v63 v450 v594), ∀ a x, ((![v63, v450, v594, v35] : Fin 4 → IVec S16 32) a x).toNat < S2x4x94x96.size a := fun v33 v35 v63 v450 v594 k0_hw312 => k0_hw312.2

def k0_chk313 (v30 : IVec S16 32) (v63 : IVec S16 32) (v450 : IVec S16 32) (v595 : IVec S16 32) : Prop :=
  (∀ a x, ((![v63, v450, v595, v30] : Fin 4 → IVec S16 32) a x).toNat < S2x4x32x32.size a)
theorem k0_idx401_inb : ∀ (v30 : IVec S16 32) (v63 : IVec S16 32) (v450 : IVec S16 32) (v595 : IVec S16 32) (k0_hw313 : k0_chk313 v30 v63 v450 v595), ∀ a x, ((![v63, v450, v595, v30] : Fin 4 → IVec S16 32) a x).toNat < S2x4x32x32.size a := fun v30 v63 v450 v595 k0_hw313 => k0_hw313

def k0_chk314 (v63 : IVec S16 32) (v450 : IVec S16 32) (v595 : IVec S16 32) (v598 : IVec S16 32) : Prop :=
  (∀ a x, ((![v63, v450, v595, v598] : Fin 4 → IVec S16 32) a x).toNat < S2x4x32x32.size a)
theorem k0_idx402_inb : ∀ (v63 : IVec S16 32) (v450 : IVec S16 32) (v595 : IVec S16 32) (v598 : IVec S16 32) (k0_hw314 : k0_chk314 v63 v450 v595 v598), ∀ a x, ((![v63, v450, v595, v598] : Fin 4 → IVec S16 32) a x).toNat < S2x4x32x32.size a := fun v63 v450 v595 v598 k0_hw314 => k0_hw314

def k0_chk315 (v33 : IVec S16 32) (v35 : IVec S16 32) (v63 : IVec S16 32) (v450 : IVec S16 32) (v600 : IVec S16 32) : Prop :=
  (∀ a x, ((![v63, v450, v600, v33] : Fin 4 → IVec S16 32) a x).toNat < S2x4x94x96.size a) ∧
  (∀ a x, ((![v63, v450, v600, v35] : Fin 4 → IVec S16 32) a x).toNat < S2x4x94x96.size a)
theorem k0_idx403_inb : ∀ (v33 : IVec S16 32) (v35 : IVec S16 32) (v63 : IVec S16 32) (v450 : IVec S16 32) (v600 : IVec S16 32) (k0_hw315 : k0_chk315 v33 v35 v63 v450 v600), ∀ a x, ((![v63, v450, v600, v33] : Fin 4 → IVec S16 32) a x).toNat < S2x4x94x96.size a := fun v33 v35 v63 v450 v600 k0_hw315 => k0_hw315.1
theorem k0_idx404_inb : ∀ (v33 : IVec S16 32) (v35 : IVec S16 32) (v63 : IVec S16 32) (v450 : IVec S16 32) (v600 : IVec S16 32) (k0_hw315 : k0_chk315 v33 v35 v63 v450 v600), ∀ a x, ((![v63, v450, v600, v35] : Fin 4 → IVec S16 32) a x).toNat < S2x4x94x96.size a := fun v33 v35 v63 v450 v600 k0_hw315 => k0_hw315.2

def k0_chk316 (v30 : IVec S16 32) (v63 : IVec S16 32) (v450 : IVec S16 32) (v601 : IVec S16 32) : Prop :=
  (∀ a x, ((![v63, v450, v601, v30] : Fin 4 → IVec S16 32) a x).toNat < S2x4x32x32.size a)
theorem k0_idx405_inb : ∀ (v30 : IVec S16 32) (v63 : IVec S16 32) (v450 : IVec S16 32) (v601 : IVec S16 32) (k0_hw316 : k0_chk316 v30 v63 v450 v601), ∀ a x, ((![v63, v450, v601, v30] : Fin 4 → IVec S16 32) a x).toNat < S2x4x32x32.size a := fun v30 v63 v450 v601 k0_hw316 => k0_hw316

def k0_chk317 (v63 : IVec S16 32) (v450 : IVec S16 32) (v601 : IVec S16 32) (v604 : IVec S16 32) : Prop :=
  (∀ a x, ((![v63, v450, v601, v604] : Fin 4 → IVec S16 32) a x).toNat < S2x4x32x32.size a)
theorem k0_idx406_inb : ∀ (v63 : IVec S16 32) (v450 : IVec S16 32) (v601 : IVec S16 32) (v604 : IVec S16 32) (k0_hw317 : k0_chk317 v63 v450 v601 v604), ∀ a x, ((![v63, v450, v601, v604] : Fin 4 → IVec S16 32) a x).toNat < S2x4x32x32.size a := fun v63 v450 v601 v604 k0_hw317 => k0_hw317

def k0_chk318 (v33 : IVec S16 32) (v35 : IVec S16 32) (v63 : IVec S16 32) (v450 : IVec S16 32) (v606 : IVec S16 32) : Prop :=
  (∀ a x, ((![v63, v450, v606, v33] : Fin 4 → IVec S16 32) a x).toNat < S2x4x94x96.size a) ∧
  (∀ a x, ((![v63, v450, v606, v35] : Fin 4 → IVec S16 32) a x).toNat < S2x4x94x96.size a)
theorem k0_idx407_inb : ∀ (v33 : IVec S16 32) (v35 : IVec S16 32) (v63 : IVec S16 32) (v450 : IVec S16 32) (v606 : IVec S16 32) (k0_hw318 : k0_chk318 v33 v35 v63 v450 v606), ∀ a x, ((![v63, v450, v606, v33] : Fin 4 → IVec S16 32) a x).toNat < S2x4x94x96.size a := fun v33 v35 v63 v450 v606 k0_hw318 => k0_hw318.1
theorem k0_idx408_inb : ∀ (v33 : IVec S16 32) (v35 : IVec S16 32) (v63 : IVec S16 32) (v450 : IVec S16 32) (v606 : IVec S16 32) (k0_hw318 : k0_chk318 v33 v35 v63 v450 v606), ∀ a x, ((![v63, v450, v606, v35] : Fin 4 → IVec S16 32) a x).toNat < S2x4x94x96.size a := fun v33 v35 v63 v450 v606 k0_hw318 => k0_hw318.2

def k0_chk319 (v30 : IVec S16 32) (v63 : IVec S16 32) (v450 : IVec S16 32) (v607 : IVec S16 32) : Prop :=
  (∀ a x, ((![v63, v450, v607, v30] : Fin 4 → IVec S16 32) a x).toNat < S2x4x32x32.size a)
theorem k0_idx409_inb : ∀ (v30 : IVec S16 32) (v63 : IVec S16 32) (v450 : IVec S16 32) (v607 : IVec S16 32) (k0_hw319 : k0_chk319 v30 v63 v450 v607), ∀ a x, ((![v63, v450, v607, v30] : Fin 4 → IVec S16 32) a x).toNat < S2x4x32x32.size a := fun v30 v63 v450 v607 k0_hw319 => k0_hw319

def k0_chk320 (v63 : IVec S16 32) (v450 : IVec S16 32) (v607 : IVec S16 32) (v610 : IVec S16 32) : Prop :=
  (∀ a x, ((![v63, v450, v607, v610] : Fin 4 → IVec S16 32) a x).toNat < S2x4x32x32.size a)
theorem k0_idx410_inb : ∀ (v63 : IVec S16 32) (v450 : IVec S16 32) (v607 : IVec S16 32) (v610 : IVec S16 32) (k0_hw320 : k0_chk320 v63 v450 v607 v610), ∀ a x, ((![v63, v450, v607, v610] : Fin 4 → IVec S16 32) a x).toNat < S2x4x32x32.size a := fun v63 v450 v607 v610 k0_hw320 => k0_hw320

def k0_chk321 (v33 : IVec S16 32) (v35 : IVec S16 32) (v63 : IVec S16 32) (v450 : IVec S16 32) (v612 : IVec S16 32) : Prop :=
  (∀ a x, ((![v63, v450, v612, v33] : Fin 4 → IVec S16 32) a x).toNat < S2x4x94x96.size a) ∧
  (∀ a x, ((![v63, v450, v612, v35] : Fin 4 → IVec S16 32) a x).toNat < S2x4x94x96.size a)
theorem k0_idx411_inb : ∀ (v33 : IVec S16 32) (v35 : IVec S16 32) (v63 : IVec S16 32) (v450 : IVec S16 32) (v612 : IVec S16 32) (k0_hw321 : k0_chk321 v33 v35 v63 v450 v612), ∀ a x, ((![v63, v450, v612, v33] : Fin 4 → IVec S16 32) a x).toNat < S2x4x94x96.size a := fun v33 v35 v63 v450 v612 k0_hw321 => k0_hw321.1
theorem k0_idx412_inb : ∀ (v33 : IVec S16 32) (v35 : IVec S16 32) (v63 : IVec S16 32) (v450 : IVec S16 32) (v612 : IVec S16 32) (k0_hw321 : k0_chk321 v33 v35 v63 v450 v612), ∀ a x, ((![v63, v450, v612, v35] : Fin 4 → IVec S16 32) a x).toNat < S2x4x94x96.size a := fun v33 v35 v63 v450 v612 k0_hw321 => k0_hw321.2

def k0_chk322 (v30 : IVec S16 32) (v63 : IVec S16 32) (v450 : IVec S16 32) (v613 : IVec S16 32) : Prop :=
  (∀ a x, ((![v63, v450, v613, v30] : Fin 4 → IVec S16 32) a x).toNat < S2x4x32x32.size a)
theorem k0_idx413_inb : ∀ (v30 : IVec S16 32) (v63 : IVec S16 32) (v450 : IVec S16 32) (v613 : IVec S16 32) (k0_hw322 : k0_chk322 v30 v63 v450 v613), ∀ a x, ((![v63, v450, v613, v30] : Fin 4 → IVec S16 32) a x).toNat < S2x4x32x32.size a := fun v30 v63 v450 v613 k0_hw322 => k0_hw322

def k0_chk323 (v63 : IVec S16 32) (v450 : IVec S16 32) (v613 : IVec S16 32) (v616 : IVec S16 32) : Prop :=
  (∀ a x, ((![v63, v450, v613, v616] : Fin 4 → IVec S16 32) a x).toNat < S2x4x32x32.size a)
theorem k0_idx414_inb : ∀ (v63 : IVec S16 32) (v450 : IVec S16 32) (v613 : IVec S16 32) (v616 : IVec S16 32) (k0_hw323 : k0_chk323 v63 v450 v613 v616), ∀ a x, ((![v63, v450, v613, v616] : Fin 4 → IVec S16 32) a x).toNat < S2x4x32x32.size a := fun v63 v450 v613 v616 k0_hw323 => k0_hw323

def k0_chk324 (v33 : IVec S16 32) (v35 : IVec S16 32) (v63 : IVec S16 32) (v450 : IVec S16 32) (v618 : IVec S16 32) : Prop :=
  (∀ a x, ((![v63, v450, v618, v33] : Fin 4 → IVec S16 32) a x).toNat < S2x4x94x96.size a) ∧
  (∀ a x, ((![v63, v450, v618, v35] : Fin 4 → IVec S16 32) a x).toNat < S2x4x94x96.size a)
theorem k0_idx415_inb : ∀ (v33 : IVec S16 32) (v35 : IVec S16 32) (v63 : IVec S16 32) (v450 : IVec S16 32) (v618 : IVec S16 32) (k0_hw324 : k0_chk324 v33 v35 v63 v450 v618), ∀ a x, ((![v63, v450, v618, v33] : Fin 4 → IVec S16 32) a x).toNat < S2x4x94x96.size a := fun v33 v35 v63 v450 v618 k0_hw324 => k0_hw324.1
theorem k0_idx416_inb : ∀ (v33 : IVec S16 32) (v35 : IVec S16 32) (v63 : IVec S16 32) (v450 : IVec S16 32) (v618 : IVec S16 32) (k0_hw324 : k0_chk324 v33 v35 v63 v450 v618), ∀ a x, ((![v63, v450, v618, v35] : Fin 4 → IVec S16 32) a x).toNat < S2x4x94x96.size a := fun v33 v35 v63 v450 v618 k0_hw324 => k0_hw324.2

def k0_chk325 (v30 : IVec S16 32) (v63 : IVec S16 32) (v450 : IVec S16 32) (v619 : IVec S16 32) : Prop :=
  (∀ a x, ((![v63, v450, v619, v30] : Fin 4 → IVec S16 32) a x).toNat < S2x4x32x32.size a)
theorem k0_idx417_inb : ∀ (v30 : IVec S16 32) (v63 : IVec S16 32) (v450 : IVec S16 32) (v619 : IVec S16 32) (k0_hw325 : k0_chk325 v30 v63 v450 v619), ∀ a x, ((![v63, v450, v619, v30] : Fin 4 → IVec S16 32) a x).toNat < S2x4x32x32.size a := fun v30 v63 v450 v619 k0_hw325 => k0_hw325

def k0_chk326 (v63 : IVec S16 32) (v450 : IVec S16 32) (v619 : IVec S16 32) (v622 : IVec S16 32) : Prop :=
  (∀ a x, ((![v63, v450, v619, v622] : Fin 4 → IVec S16 32) a x).toNat < S2x4x32x32.size a)
theorem k0_idx418_inb : ∀ (v63 : IVec S16 32) (v450 : IVec S16 32) (v619 : IVec S16 32) (v622 : IVec S16 32) (k0_hw326 : k0_chk326 v63 v450 v619 v622), ∀ a x, ((![v63, v450, v619, v622] : Fin 4 → IVec S16 32) a x).toNat < S2x4x32x32.size a := fun v63 v450 v619 v622 k0_hw326 => k0_hw326

def k0_chk327 (v33 : IVec S16 32) (v35 : IVec S16 32) (v63 : IVec S16 32) (v450 : IVec S16 32) (v624 : IVec S16 32) : Prop :=
  (∀ a x, ((![v63, v450, v624, v33] : Fin 4 → IVec S16 32) a x).toNat < S2x4x94x96.size a) ∧
  (∀ a x, ((![v63, v450, v624, v35] : Fin 4 → IVec S16 32) a x).toNat < S2x4x94x96.size a)
theorem k0_idx419_inb : ∀ (v33 : IVec S16 32) (v35 : IVec S16 32) (v63 : IVec S16 32) (v450 : IVec S16 32) (v624 : IVec S16 32) (k0_hw327 : k0_chk327 v33 v35 v63 v450 v624), ∀ a x, ((![v63, v450, v624, v33] : Fin 4 → IVec S16 32) a x).toNat < S2x4x94x96.size a := fun v33 v35 v63 v450 v624 k0_hw327 => k0_hw327.1
theorem k0_idx420_inb : ∀ (v33 : IVec S16 32) (v35 : IVec S16 32) (v63 : IVec S16 32) (v450 : IVec S16 32) (v624 : IVec S16 32) (k0_hw327 : k0_chk327 v33 v35 v63 v450 v624), ∀ a x, ((![v63, v450, v624, v35] : Fin 4 → IVec S16 32) a x).toNat < S2x4x94x96.size a := fun v33 v35 v63 v450 v624 k0_hw327 => k0_hw327.2

def k0_chk328 (v30 : IVec S16 32) (v63 : IVec S16 32) (v450 : IVec S16 32) (v625 : IVec S16 32) : Prop :=
  (∀ a x, ((![v63, v450, v625, v30] : Fin 4 → IVec S16 32) a x).toNat < S2x4x32x32.size a)
theorem k0_idx421_inb : ∀ (v30 : IVec S16 32) (v63 : IVec S16 32) (v450 : IVec S16 32) (v625 : IVec S16 32) (k0_hw328 : k0_chk328 v30 v63 v450 v625), ∀ a x, ((![v63, v450, v625, v30] : Fin 4 → IVec S16 32) a x).toNat < S2x4x32x32.size a := fun v30 v63 v450 v625 k0_hw328 => k0_hw328

def k0_chk329 (v63 : IVec S16 32) (v450 : IVec S16 32) (v625 : IVec S16 32) (v628 : IVec S16 32) : Prop :=
  (∀ a x, ((![v63, v450, v625, v628] : Fin 4 → IVec S16 32) a x).toNat < S2x4x32x32.size a)
theorem k0_idx422_inb : ∀ (v63 : IVec S16 32) (v450 : IVec S16 32) (v625 : IVec S16 32) (v628 : IVec S16 32) (k0_hw329 : k0_chk329 v63 v450 v625 v628), ∀ a x, ((![v63, v450, v625, v628] : Fin 4 → IVec S16 32) a x).toNat < S2x4x32x32.size a := fun v63 v450 v625 v628 k0_hw329 => k0_hw329

def k0_chk330 (v33 : IVec S16 32) (v35 : IVec S16 32) (v63 : IVec S16 32) (v450 : IVec S16 32) (v630 : IVec S16 32) : Prop :=
  (∀ a x, ((![v63, v450, v630, v33] : Fin 4 → IVec S16 32) a x).toNat < S2x4x94x96.size a) ∧
  (∀ a x, ((![v63, v450, v630, v35] : Fin 4 → IVec S16 32) a x).toNat < S2x4x94x96.size a)
theorem k0_idx423_inb : ∀ (v33 : IVec S16 32) (v35 : IVec S16 32) (v63 : IVec S16 32) (v450 : IVec S16 32) (v630 : IVec S16 32) (k0_hw330 : k0_chk330 v33 v35 v63 v450 v630), ∀ a x, ((![v63, v450, v630, v33] : Fin 4 → IVec S16 32) a x).toNat < S2x4x94x96.size a := fun v33 v35 v63 v450 v630 k0_hw330 => k0_hw330.1
theorem k0_idx424_inb : ∀ (v33 : IVec S16 32) (v35 : IVec S16 32) (v63 : IVec S16 32) (v450 : IVec S16 32) (v630 : IVec S16 32) (k0_hw330 : k0_chk330 v33 v35 v63 v450 v630), ∀ a x, ((![v63, v450, v630, v35] : Fin 4 → IVec S16 32) a x).toNat < S2x4x94x96.size a := fun v33 v35 v63 v450 v630 k0_hw330 => k0_hw330.2

def k0_chk331 (v30 : IVec S16 32) (v63 : IVec S16 32) (v450 : IVec S16 32) (v631 : IVec S16 32) : Prop :=
  (∀ a x, ((![v63, v450, v631, v30] : Fin 4 → IVec S16 32) a x).toNat < S2x4x32x32.size a)
theorem k0_idx425_inb : ∀ (v30 : IVec S16 32) (v63 : IVec S16 32) (v450 : IVec S16 32) (v631 : IVec S16 32) (k0_hw331 : k0_chk331 v30 v63 v450 v631), ∀ a x, ((![v63, v450, v631, v30] : Fin 4 → IVec S16 32) a x).toNat < S2x4x32x32.size a := fun v30 v63 v450 v631 k0_hw331 => k0_hw331

def k0_chk332 (v63 : IVec S16 32) (v450 : IVec S16 32) (v631 : IVec S16 32) (v634 : IVec S16 32) : Prop :=
  (∀ a x, ((![v63, v450, v631, v634] : Fin 4 → IVec S16 32) a x).toNat < S2x4x32x32.size a)
theorem k0_idx426_inb : ∀ (v63 : IVec S16 32) (v450 : IVec S16 32) (v631 : IVec S16 32) (v634 : IVec S16 32) (k0_hw332 : k0_chk332 v63 v450 v631 v634), ∀ a x, ((![v63, v450, v631, v634] : Fin 4 → IVec S16 32) a x).toNat < S2x4x32x32.size a := fun v63 v450 v631 v634 k0_hw332 => k0_hw332

def k0_chk333 (v33 : IVec S16 32) (v35 : IVec S16 32) (v63 : IVec S16 32) (v450 : IVec S16 32) (v636 : IVec S16 32) : Prop :=
  (∀ a x, ((![v63, v450, v636, v33] : Fin 4 → IVec S16 32) a x).toNat < S2x4x94x96.size a) ∧
  (∀ a x, ((![v63, v450, v636, v35] : Fin 4 → IVec S16 32) a x).toNat < S2x4x94x96.size a)
theorem k0_idx427_inb : ∀ (v33 : IVec S16 32) (v35 : IVec S16 32) (v63 : IVec S16 32) (v450 : IVec S16 32) (v636 : IVec S16 32) (k0_hw333 : k0_chk333 v33 v35 v63 v450 v636), ∀ a x, ((![v63, v450, v636, v33] : Fin 4 → IVec S16 32) a x).toNat < S2x4x94x96.size a := fun v33 v35 v63 v450 v636 k0_hw333 => k0_hw333.1
theorem k0_idx428_inb : ∀ (v33 : IVec S16 32) (v35 : IVec S16 32) (v63 : IVec S16 32) (v450 : IVec S16 32) (v636 : IVec S16 32) (k0_hw333 : k0_chk333 v33 v35 v63 v450 v636), ∀ a x, ((![v63, v450, v636, v35] : Fin 4 → IVec S16 32) a x).toNat < S2x4x94x96.size a := fun v33 v35 v63 v450 v636 k0_hw333 => k0_hw333.2

def k0_chk334 (v30 : IVec S16 32) (v63 : IVec S16 32) (v450 : IVec S16 32) (v637 : IVec S16 32) : Prop :=
  (∀ a x, ((![v63, v450, v637, v30] : Fin 4 → IVec S16 32) a x).toNat < S2x4x32x32.size a)
theorem k0_idx429_inb : ∀ (v30 : IVec S16 32) (v63 : IVec S16 32) (v450 : IVec S16 32) (v637 : IVec S16 32) (k0_hw334 : k0_chk334 v30 v63 v450 v637), ∀ a x, ((![v63, v450, v637, v30] : Fin 4 → IVec S16 32) a x).toNat < S2x4x32x32.size a := fun v30 v63 v450 v637 k0_hw334 => k0_hw334

def k0_chk335 (v63 : IVec S16 32) (v450 : IVec S16 32) (v637 : IVec S16 32) (v640 : IVec S16 32) : Prop :=
  (∀ a x, ((![v63, v450, v637, v640] : Fin 4 → IVec S16 32) a x).toNat < S2x4x32x32.size a)
theorem k0_idx430_inb : ∀ (v63 : IVec S16 32) (v450 : IVec S16 32) (v637 : IVec S16 32) (v640 : IVec S16 32) (k0_hw335 : k0_chk335 v63 v450 v637 v640), ∀ a x, ((![v63, v450, v637, v640] : Fin 4 → IVec S16 32) a x).toNat < S2x4x32x32.size a := fun v63 v450 v637 v640 k0_hw335 => k0_hw335

def k0_chk336 (v33 : IVec S16 32) (v35 : IVec S16 32) (v63 : IVec S16 32) (v450 : IVec S16 32) (v642 : IVec S16 32) : Prop :=
  (∀ a x, ((![v63, v450, v642, v33] : Fin 4 → IVec S16 32) a x).toNat < S2x4x94x96.size a) ∧
  (∀ a x, ((![v63, v450, v642, v35] : Fin 4 → IVec S16 32) a x).toNat < S2x4x94x96.size a)
theorem k0_idx431_inb : ∀ (v33 : IVec S16 32) (v35 : IVec S16 32) (v63 : IVec S16 32) (v450 : IVec S16 32) (v642 : IVec S16 32) (k0_hw336 : k0_chk336 v33 v35 v63 v450 v642), ∀ a x, ((![v63, v450, v642, v33] : Fin 4 → IVec S16 32) a x).toNat < S2x4x94x96.size a := fun v33 v35 v63 v450 v642 k0_hw336 => k0_hw336.1
theorem k0_idx432_inb : ∀ (v33 : IVec S16 32) (v35 : IVec S16 32) (v63 : IVec S16 32) (v450 : IVec S16 32) (v642 : IVec S16 32) (k0_hw336 : k0_chk336 v33 v35 v63 v450 v642), ∀ a x, ((![v63, v450, v642, v35] : Fin 4 → IVec S16 32) a x).toNat < S2x4x94x96.size a := fun v33 v35 v63 v450 v642 k0_hw336 => k0_hw336.2

def k0_chk337 (v30 : IVec S16 32) (v63 : IVec S16 32) (v643 : IVec S16 32) (v644 : IVec S16 32) : Prop :=
  (∀ a x, ((![v63, v643, v644, v30] : Fin 4 → IVec S16 32) a x).toNat < S2x4x32x32.size a)
theorem k0_idx433_inb : ∀ (v30 : IVec S16 32) (v63 : IVec S16 32) (v643 : IVec S16 32) (v644 : IVec S16 32) (k0_hw337 : k0_chk337 v30 v63 v643 v644), ∀ a x, ((![v63, v643, v644, v30] : Fin 4 → IVec S16 32) a x).toNat < S2x4x32x32.size a := fun v30 v63 v643 v644 k0_hw337 => k0_hw337

def k0_chk338 (v63 : IVec S16 32) (v643 : IVec S16 32) (v644 : IVec S16 32) (v647 : IVec S16 32) : Prop :=
  (∀ a x, ((![v63, v643, v644, v647] : Fin 4 → IVec S16 32) a x).toNat < S2x4x32x32.size a)
theorem k0_idx434_inb : ∀ (v63 : IVec S16 32) (v643 : IVec S16 32) (v644 : IVec S16 32) (v647 : IVec S16 32) (k0_hw338 : k0_chk338 v63 v643 v644 v647), ∀ a x, ((![v63, v643, v644, v647] : Fin 4 → IVec S16 32) a x).toNat < S2x4x32x32.size a := fun v63 v643 v644 v647 k0_hw338 => k0_hw338

def k0_chk339 (v33 : IVec S16 32) (v35 : IVec S16 32) (v63 : IVec S16 32) (v643 : IVec S16 32) (v649 : IVec S16 32) : Prop :=
  (∀ a x, ((![v63, v643, v649, v33] : Fin 4 → IVec S16 32) a x).toNat < S2x4x94x96.size a) ∧
  (∀ a x, ((![v63, v643, v649, v35] : Fin 4 → IVec S16 32) a x).toNat < S2x4x94x96.size a)
theorem k0_idx435_inb : ∀ (v33 : IVec S16 32) (v35 : IVec S16 32) (v63 : IVec S16 32) (v643 : IVec S16 32) (v649 : IVec S16 32) (k0_hw339 : k0_chk339 v33 v35 v63 v643 v649), ∀ a x, ((![v63, v643, v649, v33] : Fin 4 → IVec S16 32) a x).toNat < S2x4x94x96.size a := fun v33 v35 v63 v643 v649 k0_hw339 => k0_hw339.1
theorem k0_idx436_inb : ∀ (v33 : IVec S16 32) (v35 : IVec S16 32) (v63 : IVec S16 32) (v643 : IVec S16 32) (v649 : IVec S16 32) (k0_hw339 : k0_chk339 v33 v35 v63 v643 v649), ∀ a x, ((![v63, v643, v649, v35] : Fin 4 → IVec S16 32) a x).toNat < S2x4x94x96.size a := fun v33 v35 v63 v643 v649 k0_hw339 => k0_hw339.2

def k0_chk340 (v30 : IVec S16 32) (v63 : IVec S16 32) (v643 : IVec S16 32) (v650 : IVec S16 32) : Prop :=
  (∀ a x, ((![v63, v643, v650, v30] : Fin 4 → IVec S16 32) a x).toNat < S2x4x32x32.size a)
theorem k0_idx437_inb : ∀ (v30 : IVec S16 32) (v63 : IVec S16 32) (v643 : IVec S16 32) (v650 : IVec S16 32) (k0_hw340 : k0_chk340 v30 v63 v643 v650), ∀ a x, ((![v63, v643, v650, v30] : Fin 4 → IVec S16 32) a x).toNat < S2x4x32x32.size a := fun v30 v63 v643 v650 k0_hw340 => k0_hw340

def k0_chk341 (v63 : IVec S16 32) (v643 : IVec S16 32) (v650 : IVec S16 32) (v653 : IVec S16 32) : Prop :=
  (∀ a x, ((![v63, v643, v650, v653] : Fin 4 → IVec S16 32) a x).toNat < S2x4x32x32.size a)
theorem k0_idx438_inb : ∀ (v63 : IVec S16 32) (v643 : IVec S16 32) (v650 : IVec S16 32) (v653 : IVec S16 32) (k0_hw341 : k0_chk341 v63 v643 v650 v653), ∀ a x, ((![v63, v643, v650, v653] : Fin 4 → IVec S16 32) a x).toNat < S2x4x32x32.size a := fun v63 v643 v650 v653 k0_hw341 => k0_hw341

def k0_chk342 (v33 : IVec S16 32) (v35 : IVec S16 32) (v63 : IVec S16 32) (v643 : IVec S16 32) (v655 : IVec S16 32) : Prop :=
  (∀ a x, ((![v63, v643, v655, v33] : Fin 4 → IVec S16 32) a x).toNat < S2x4x94x96.size a) ∧
  (∀ a x, ((![v63, v643, v655, v35] : Fin 4 → IVec S16 32) a x).toNat < S2x4x94x96.size a)
theorem k0_idx439_inb : ∀ (v33 : IVec S16 32) (v35 : IVec S16 32) (v63 : IVec S16 32) (v643 : IVec S16 32) (v655 : IVec S16 32) (k0_hw342 : k0_chk342 v33 v35 v63 v643 v655), ∀ a x, ((![v63, v643, v655, v33] : Fin 4 → IVec S16 32) a x).toNat < S2x4x94x96.size a := fun v33 v35 v63 v643 v655 k0_hw342 => k0_hw342.1
theorem k0_idx440_inb : ∀ (v33 : IVec S16 32) (v35 : IVec S16 32) (v63 : IVec S16 32) (v643 : IVec S16 32) (v655 : IVec S16 32) (k0_hw342 : k0_chk342 v33 v35 v63 v643 v655), ∀ a x, ((![v63, v643, v655, v35] : Fin 4 → IVec S16 32) a x).toNat < S2x4x94x96.size a := fun v33 v35 v63 v643 v655 k0_hw342 => k0_hw342.2

def k0_chk343 (v30 : IVec S16 32) (v63 : IVec S16 32) (v643 : IVec S16 32) (v656 : IVec S16 32) : Prop :=
  (∀ a x, ((![v63, v643, v656, v30] : Fin 4 → IVec S16 32) a x).toNat < S2x4x32x32.size a)
theorem k0_idx441_inb : ∀ (v30 : IVec S16 32) (v63 : IVec S16 32) (v643 : IVec S16 32) (v656 : IVec S16 32) (k0_hw343 : k0_chk343 v30 v63 v643 v656), ∀ a x, ((![v63, v643, v656, v30] : Fin 4 → IVec S16 32) a x).toNat < S2x4x32x32.size a := fun v30 v63 v643 v656 k0_hw343 => k0_hw343

def k0_chk344 (v63 : IVec S16 32) (v643 : IVec S16 32) (v656 : IVec S16 32) (v659 : IVec S16 32) : Prop :=
  (∀ a x, ((![v63, v643, v656, v659] : Fin 4 → IVec S16 32) a x).toNat < S2x4x32x32.size a)
theorem k0_idx442_inb : ∀ (v63 : IVec S16 32) (v643 : IVec S16 32) (v656 : IVec S16 32) (v659 : IVec S16 32) (k0_hw344 : k0_chk344 v63 v643 v656 v659), ∀ a x, ((![v63, v643, v656, v659] : Fin 4 → IVec S16 32) a x).toNat < S2x4x32x32.size a := fun v63 v643 v656 v659 k0_hw344 => k0_hw344

def k0_chk345 (v33 : IVec S16 32) (v35 : IVec S16 32) (v63 : IVec S16 32) (v643 : IVec S16 32) (v661 : IVec S16 32) : Prop :=
  (∀ a x, ((![v63, v643, v661, v33] : Fin 4 → IVec S16 32) a x).toNat < S2x4x94x96.size a) ∧
  (∀ a x, ((![v63, v643, v661, v35] : Fin 4 → IVec S16 32) a x).toNat < S2x4x94x96.size a)
theorem k0_idx443_inb : ∀ (v33 : IVec S16 32) (v35 : IVec S16 32) (v63 : IVec S16 32) (v643 : IVec S16 32) (v661 : IVec S16 32) (k0_hw345 : k0_chk345 v33 v35 v63 v643 v661), ∀ a x, ((![v63, v643, v661, v33] : Fin 4 → IVec S16 32) a x).toNat < S2x4x94x96.size a := fun v33 v35 v63 v643 v661 k0_hw345 => k0_hw345.1
theorem k0_idx444_inb : ∀ (v33 : IVec S16 32) (v35 : IVec S16 32) (v63 : IVec S16 32) (v643 : IVec S16 32) (v661 : IVec S16 32) (k0_hw345 : k0_chk345 v33 v35 v63 v643 v661), ∀ a x, ((![v63, v643, v661, v35] : Fin 4 → IVec S16 32) a x).toNat < S2x4x94x96.size a := fun v33 v35 v63 v643 v661 k0_hw345 => k0_hw345.2

def k0_chk346 (v30 : IVec S16 32) (v63 : IVec S16 32) (v643 : IVec S16 32) (v662 : IVec S16 32) : Prop :=
  (∀ a x, ((![v63, v643, v662, v30] : Fin 4 → IVec S16 32) a x).toNat < S2x4x32x32.size a)
theorem k0_idx445_inb : ∀ (v30 : IVec S16 32) (v63 : IVec S16 32) (v643 : IVec S16 32) (v662 : IVec S16 32) (k0_hw346 : k0_chk346 v30 v63 v643 v662), ∀ a x, ((![v63, v643, v662, v30] : Fin 4 → IVec S16 32) a x).toNat < S2x4x32x32.size a := fun v30 v63 v643 v662 k0_hw346 => k0_hw346

def k0_chk347 (v63 : IVec S16 32) (v643 : IVec S16 32) (v662 : IVec S16 32) (v665 : IVec S16 32) : Prop :=
  (∀ a x, ((![v63, v643, v662, v665] : Fin 4 → IVec S16 32) a x).toNat < S2x4x32x32.size a)
theorem k0_idx446_inb : ∀ (v63 : IVec S16 32) (v643 : IVec S16 32) (v662 : IVec S16 32) (v665 : IVec S16 32) (k0_hw347 : k0_chk347 v63 v643 v662 v665), ∀ a x, ((![v63, v643, v662, v665] : Fin 4 → IVec S16 32) a x).toNat < S2x4x32x32.size a := fun v63 v643 v662 v665 k0_hw347 => k0_hw347

def k0_chk348 (v33 : IVec S16 32) (v35 : IVec S16 32) (v63 : IVec S16 32) (v643 : IVec S16 32) (v667 : IVec S16 32) : Prop :=
  (∀ a x, ((![v63, v643, v667, v33] : Fin 4 → IVec S16 32) a x).toNat < S2x4x94x96.size a) ∧
  (∀ a x, ((![v63, v643, v667, v35] : Fin 4 → IVec S16 32) a x).toNat < S2x4x94x96.size a)
theorem k0_idx447_inb : ∀ (v33 : IVec S16 32) (v35 : IVec S16 32) (v63 : IVec S16 32) (v643 : IVec S16 32) (v667 : IVec S16 32) (k0_hw348 : k0_chk348 v33 v35 v63 v643 v667), ∀ a x, ((![v63, v643, v667, v33] : Fin 4 → IVec S16 32) a x).toNat < S2x4x94x96.size a := fun v33 v35 v63 v643 v667 k0_hw348 => k0_hw348.1
theorem k0_idx448_inb : ∀ (v33 : IVec S16 32) (v35 : IVec S16 32) (v63 : IVec S16 32) (v643 : IVec S16 32) (v667 : IVec S16 32) (k0_hw348 : k0_chk348 v33 v35 v63 v643 v667), ∀ a x, ((![v63, v643, v667, v35] : Fin 4 → IVec S16 32) a x).toNat < S2x4x94x96.size a := fun v33 v35 v63 v643 v667 k0_hw348 => k0_hw348.2

def k0_chk349 (v30 : IVec S16 32) (v63 : IVec S16 32) (v643 : IVec S16 32) (v668 : IVec S16 32) : Prop :=
  (∀ a x, ((![v63, v643, v668, v30] : Fin 4 → IVec S16 32) a x).toNat < S2x4x32x32.size a)
theorem k0_idx449_inb : ∀ (v30 : IVec S16 32) (v63 : IVec S16 32) (v643 : IVec S16 32) (v668 : IVec S16 32) (k0_hw349 : k0_chk349 v30 v63 v643 v668), ∀ a x, ((![v63, v643, v668, v30] : Fin 4 → IVec S16 32) a x).toNat < S2x4x32x32.size a := fun v30 v63 v643 v668 k0_hw349 => k0_hw349

def k0_chk350 (v63 : IVec S16 32) (v643 : IVec S16 32) (v668 : IVec S16 32) (v671 : IVec S16 32) : Prop :=
  (∀ a x, ((![v63, v643, v668, v671] : Fin 4 → IVec S16 32) a x).toNat < S2x4x32x32.size a)
theorem k0_idx450_inb : ∀ (v63 : IVec S16 32) (v643 : IVec S16 32) (v668 : IVec S16 32) (v671 : IVec S16 32) (k0_hw350 : k0_chk350 v63 v643 v668 v671), ∀ a x, ((![v63, v643, v668, v671] : Fin 4 → IVec S16 32) a x).toNat < S2x4x32x32.size a := fun v63 v643 v668 v671 k0_hw350 => k0_hw350

def k0_chk351 (v33 : IVec S16 32) (v35 : IVec S16 32) (v63 : IVec S16 32) (v643 : IVec S16 32) (v673 : IVec S16 32) : Prop :=
  (∀ a x, ((![v63, v643, v673, v33] : Fin 4 → IVec S16 32) a x).toNat < S2x4x94x96.size a) ∧
  (∀ a x, ((![v63, v643, v673, v35] : Fin 4 → IVec S16 32) a x).toNat < S2x4x94x96.size a)
theorem k0_idx451_inb : ∀ (v33 : IVec S16 32) (v35 : IVec S16 32) (v63 : IVec S16 32) (v643 : IVec S16 32) (v673 : IVec S16 32) (k0_hw351 : k0_chk351 v33 v35 v63 v643 v673), ∀ a x, ((![v63, v643, v673, v33] : Fin 4 → IVec S16 32) a x).toNat < S2x4x94x96.size a := fun v33 v35 v63 v643 v673 k0_hw351 => k0_hw351.1
theorem k0_idx452_inb : ∀ (v33 : IVec S16 32) (v35 : IVec S16 32) (v63 : IVec S16 32) (v643 : IVec S16 32) (v673 : IVec S16 32) (k0_hw351 : k0_chk351 v33 v35 v63 v643 v673), ∀ a x, ((![v63, v643, v673, v35] : Fin 4 → IVec S16 32) a x).toNat < S2x4x94x96.size a := fun v33 v35 v63 v643 v673 k0_hw351 => k0_hw351.2

def k0_chk352 (v30 : IVec S16 32) (v63 : IVec S16 32) (v643 : IVec S16 32) (v674 : IVec S16 32) : Prop :=
  (∀ a x, ((![v63, v643, v674, v30] : Fin 4 → IVec S16 32) a x).toNat < S2x4x32x32.size a)
theorem k0_idx453_inb : ∀ (v30 : IVec S16 32) (v63 : IVec S16 32) (v643 : IVec S16 32) (v674 : IVec S16 32) (k0_hw352 : k0_chk352 v30 v63 v643 v674), ∀ a x, ((![v63, v643, v674, v30] : Fin 4 → IVec S16 32) a x).toNat < S2x4x32x32.size a := fun v30 v63 v643 v674 k0_hw352 => k0_hw352

def k0_chk353 (v63 : IVec S16 32) (v643 : IVec S16 32) (v674 : IVec S16 32) (v677 : IVec S16 32) : Prop :=
  (∀ a x, ((![v63, v643, v674, v677] : Fin 4 → IVec S16 32) a x).toNat < S2x4x32x32.size a)
theorem k0_idx454_inb : ∀ (v63 : IVec S16 32) (v643 : IVec S16 32) (v674 : IVec S16 32) (v677 : IVec S16 32) (k0_hw353 : k0_chk353 v63 v643 v674 v677), ∀ a x, ((![v63, v643, v674, v677] : Fin 4 → IVec S16 32) a x).toNat < S2x4x32x32.size a := fun v63 v643 v674 v677 k0_hw353 => k0_hw353

def k0_chk354 (v33 : IVec S16 32) (v35 : IVec S16 32) (v63 : IVec S16 32) (v643 : IVec S16 32) (v679 : IVec S16 32) : Prop :=
  (∀ a x, ((![v63, v643, v679, v33] : Fin 4 → IVec S16 32) a x).toNat < S2x4x94x96.size a) ∧
  (∀ a x, ((![v63, v643, v679, v35] : Fin 4 → IVec S16 32) a x).toNat < S2x4x94x96.size a)
theorem k0_idx455_inb : ∀ (v33 : IVec S16 32) (v35 : IVec S16 32) (v63 : IVec S16 32) (v643 : IVec S16 32) (v679 : IVec S16 32) (k0_hw354 : k0_chk354 v33 v35 v63 v643 v679), ∀ a x, ((![v63, v643, v679, v33] : Fin 4 → IVec S16 32) a x).toNat < S2x4x94x96.size a := fun v33 v35 v63 v643 v679 k0_hw354 => k0_hw354.1
theorem k0_idx456_inb : ∀ (v33 : IVec S16 32) (v35 : IVec S16 32) (v63 : IVec S16 32) (v643 : IVec S16 32) (v679 : IVec S16 32) (k0_hw354 : k0_chk354 v33 v35 v63 v643 v679), ∀ a x, ((![v63, v643, v679, v35] : Fin 4 → IVec S16 32) a x).toNat < S2x4x94x96.size a := fun v33 v35 v63 v643 v679 k0_hw354 => k0_hw354.2

def k0_chk355 (v30 : IVec S16 32) (v63 : IVec S16 32) (v643 : IVec S16 32) (v680 : IVec S16 32) : Prop :=
  (∀ a x, ((![v63, v643, v680, v30] : Fin 4 → IVec S16 32) a x).toNat < S2x4x32x32.size a)
theorem k0_idx457_inb : ∀ (v30 : IVec S16 32) (v63 : IVec S16 32) (v643 : IVec S16 32) (v680 : IVec S16 32) (k0_hw355 : k0_chk355 v30 v63 v643 v680), ∀ a x, ((![v63, v643, v680, v30] : Fin 4 → IVec S16 32) a x).toNat < S2x4x32x32.size a := fun v30 v63 v643 v680 k0_hw355 => k0_hw355

def k0_chk356 (v63 : IVec S16 32) (v643 : IVec S16 32) (v680 : IVec S16 32) (v683 : IVec S16 32) : Prop :=
  (∀ a x, ((![v63, v643, v680, v683] : Fin 4 → IVec S16 32) a x).toNat < S2x4x32x32.size a)
theorem k0_idx458_inb : ∀ (v63 : IVec S16 32) (v643 : IVec S16 32) (v680 : IVec S16 32) (v683 : IVec S16 32) (k0_hw356 : k0_chk356 v63 v643 v680 v683), ∀ a x, ((![v63, v643, v680, v683] : Fin 4 → IVec S16 32) a x).toNat < S2x4x32x32.size a := fun v63 v643 v680 v683 k0_hw356 => k0_hw356

def k0_chk357 (v33 : IVec S16 32) (v35 : IVec S16 32) (v63 : IVec S16 32) (v643 : IVec S16 32) (v685 : IVec S16 32) : Prop :=
  (∀ a x, ((![v63, v643, v685, v33] : Fin 4 → IVec S16 32) a x).toNat < S2x4x94x96.size a) ∧
  (∀ a x, ((![v63, v643, v685, v35] : Fin 4 → IVec S16 32) a x).toNat < S2x4x94x96.size a)
theorem k0_idx459_inb : ∀ (v33 : IVec S16 32) (v35 : IVec S16 32) (v63 : IVec S16 32) (v643 : IVec S16 32) (v685 : IVec S16 32) (k0_hw357 : k0_chk357 v33 v35 v63 v643 v685), ∀ a x, ((![v63, v643, v685, v33] : Fin 4 → IVec S16 32) a x).toNat < S2x4x94x96.size a := fun v33 v35 v63 v643 v685 k0_hw357 => k0_hw357.1
theorem k0_idx460_inb : ∀ (v33 : IVec S16 32) (v35 : IVec S16 32) (v63 : IVec S16 32) (v643 : IVec S16 32) (v685 : IVec S16 32) (k0_hw357 : k0_chk357 v33 v35 v63 v643 v685), ∀ a x, ((![v63, v643, v685, v35] : Fin 4 → IVec S16 32) a x).toNat < S2x4x94x96.size a := fun v33 v35 v63 v643 v685 k0_hw357 => k0_hw357.2

def k0_chk358 (v30 : IVec S16 32) (v63 : IVec S16 32) (v643 : IVec S16 32) (v686 : IVec S16 32) : Prop :=
  (∀ a x, ((![v63, v643, v686, v30] : Fin 4 → IVec S16 32) a x).toNat < S2x4x32x32.size a)
theorem k0_idx461_inb : ∀ (v30 : IVec S16 32) (v63 : IVec S16 32) (v643 : IVec S16 32) (v686 : IVec S16 32) (k0_hw358 : k0_chk358 v30 v63 v643 v686), ∀ a x, ((![v63, v643, v686, v30] : Fin 4 → IVec S16 32) a x).toNat < S2x4x32x32.size a := fun v30 v63 v643 v686 k0_hw358 => k0_hw358

def k0_chk359 (v63 : IVec S16 32) (v643 : IVec S16 32) (v686 : IVec S16 32) (v689 : IVec S16 32) : Prop :=
  (∀ a x, ((![v63, v643, v686, v689] : Fin 4 → IVec S16 32) a x).toNat < S2x4x32x32.size a)
theorem k0_idx462_inb : ∀ (v63 : IVec S16 32) (v643 : IVec S16 32) (v686 : IVec S16 32) (v689 : IVec S16 32) (k0_hw359 : k0_chk359 v63 v643 v686 v689), ∀ a x, ((![v63, v643, v686, v689] : Fin 4 → IVec S16 32) a x).toNat < S2x4x32x32.size a := fun v63 v643 v686 v689 k0_hw359 => k0_hw359

def k0_chk360 (v33 : IVec S16 32) (v35 : IVec S16 32) (v63 : IVec S16 32) (v643 : IVec S16 32) (v691 : IVec S16 32) : Prop :=
  (∀ a x, ((![v63, v643, v691, v33] : Fin 4 → IVec S16 32) a x).toNat < S2x4x94x96.size a) ∧
  (∀ a x, ((![v63, v643, v691, v35] : Fin 4 → IVec S16 32) a x).toNat < S2x4x94x96.size a)
theorem k0_idx463_inb : ∀ (v33 : IVec S16 32) (v35 : IVec S16 32) (v63 : IVec S16 32) (v643 : IVec S16 32) (v691 : IVec S16 32) (k0_hw360 : k0_chk360 v33 v35 v63 v643 v691), ∀ a x, ((![v63, v643, v691, v33] : Fin 4 → IVec S16 32) a x).toNat < S2x4x94x96.size a := fun v33 v35 v63 v643 v691 k0_hw360 => k0_hw360.1
theorem k0_idx464_inb : ∀ (v33 : IVec S16 32) (v35 : IVec S16 32) (v63 : IVec S16 32) (v643 : IVec S16 32) (v691 : IVec S16 32) (k0_hw360 : k0_chk360 v33 v35 v63 v643 v691), ∀ a x, ((![v63, v643, v691, v35] : Fin 4 → IVec S16 32) a x).toNat < S2x4x94x96.size a := fun v33 v35 v63 v643 v691 k0_hw360 => k0_hw360.2

def k0_chk361 (v30 : IVec S16 32) (v63 : IVec S16 32) (v643 : IVec S16 32) (v692 : IVec S16 32) : Prop :=
  (∀ a x, ((![v63, v643, v692, v30] : Fin 4 → IVec S16 32) a x).toNat < S2x4x32x32.size a)
theorem k0_idx465_inb : ∀ (v30 : IVec S16 32) (v63 : IVec S16 32) (v643 : IVec S16 32) (v692 : IVec S16 32) (k0_hw361 : k0_chk361 v30 v63 v643 v692), ∀ a x, ((![v63, v643, v692, v30] : Fin 4 → IVec S16 32) a x).toNat < S2x4x32x32.size a := fun v30 v63 v643 v692 k0_hw361 => k0_hw361

def k0_chk362 (v63 : IVec S16 32) (v643 : IVec S16 32) (v692 : IVec S16 32) (v695 : IVec S16 32) : Prop :=
  (∀ a x, ((![v63, v643, v692, v695] : Fin 4 → IVec S16 32) a x).toNat < S2x4x32x32.size a)
theorem k0_idx466_inb : ∀ (v63 : IVec S16 32) (v643 : IVec S16 32) (v692 : IVec S16 32) (v695 : IVec S16 32) (k0_hw362 : k0_chk362 v63 v643 v692 v695), ∀ a x, ((![v63, v643, v692, v695] : Fin 4 → IVec S16 32) a x).toNat < S2x4x32x32.size a := fun v63 v643 v692 v695 k0_hw362 => k0_hw362

def k0_chk363 (v33 : IVec S16 32) (v35 : IVec S16 32) (v63 : IVec S16 32) (v643 : IVec S16 32) (v697 : IVec S16 32) : Prop :=
  (∀ a x, ((![v63, v643, v697, v33] : Fin 4 → IVec S16 32) a x).toNat < S2x4x94x96.size a) ∧
  (∀ a x, ((![v63, v643, v697, v35] : Fin 4 → IVec S16 32) a x).toNat < S2x4x94x96.size a)
theorem k0_idx467_inb : ∀ (v33 : IVec S16 32) (v35 : IVec S16 32) (v63 : IVec S16 32) (v643 : IVec S16 32) (v697 : IVec S16 32) (k0_hw363 : k0_chk363 v33 v35 v63 v643 v697), ∀ a x, ((![v63, v643, v697, v33] : Fin 4 → IVec S16 32) a x).toNat < S2x4x94x96.size a := fun v33 v35 v63 v643 v697 k0_hw363 => k0_hw363.1
theorem k0_idx468_inb : ∀ (v33 : IVec S16 32) (v35 : IVec S16 32) (v63 : IVec S16 32) (v643 : IVec S16 32) (v697 : IVec S16 32) (k0_hw363 : k0_chk363 v33 v35 v63 v643 v697), ∀ a x, ((![v63, v643, v697, v35] : Fin 4 → IVec S16 32) a x).toNat < S2x4x94x96.size a := fun v33 v35 v63 v643 v697 k0_hw363 => k0_hw363.2

def k0_chk364 (v30 : IVec S16 32) (v63 : IVec S16 32) (v643 : IVec S16 32) (v698 : IVec S16 32) : Prop :=
  (∀ a x, ((![v63, v643, v698, v30] : Fin 4 → IVec S16 32) a x).toNat < S2x4x32x32.size a)
theorem k0_idx469_inb : ∀ (v30 : IVec S16 32) (v63 : IVec S16 32) (v643 : IVec S16 32) (v698 : IVec S16 32) (k0_hw364 : k0_chk364 v30 v63 v643 v698), ∀ a x, ((![v63, v643, v698, v30] : Fin 4 → IVec S16 32) a x).toNat < S2x4x32x32.size a := fun v30 v63 v643 v698 k0_hw364 => k0_hw364

def k0_chk365 (v63 : IVec S16 32) (v643 : IVec S16 32) (v698 : IVec S16 32) (v701 : IVec S16 32) : Prop :=
  (∀ a x, ((![v63, v643, v698, v701] : Fin 4 → IVec S16 32) a x).toNat < S2x4x32x32.size a)
theorem k0_idx470_inb : ∀ (v63 : IVec S16 32) (v643 : IVec S16 32) (v698 : IVec S16 32) (v701 : IVec S16 32) (k0_hw365 : k0_chk365 v63 v643 v698 v701), ∀ a x, ((![v63, v643, v698, v701] : Fin 4 → IVec S16 32) a x).toNat < S2x4x32x32.size a := fun v63 v643 v698 v701 k0_hw365 => k0_hw365

def k0_chk366 (v33 : IVec S16 32) (v35 : IVec S16 32) (v63 : IVec S16 32) (v643 : IVec S16 32) (v703 : IVec S16 32) : Prop :=
  (∀ a x, ((![v63, v643, v703, v33] : Fin 4 → IVec S16 32) a x).toNat < S2x4x94x96.size a) ∧
  (∀ a x, ((![v63, v643, v703, v35] : Fin 4 → IVec S16 32) a x).toNat < S2x4x94x96.size a)
theorem k0_idx471_inb : ∀ (v33 : IVec S16 32) (v35 : IVec S16 32) (v63 : IVec S16 32) (v643 : IVec S16 32) (v703 : IVec S16 32) (k0_hw366 : k0_chk366 v33 v35 v63 v643 v703), ∀ a x, ((![v63, v643, v703, v33] : Fin 4 → IVec S16 32) a x).toNat < S2x4x94x96.size a := fun v33 v35 v63 v643 v703 k0_hw366 => k0_hw366.1
theorem k0_idx472_inb : ∀ (v33 : IVec S16 32) (v35 : IVec S16 32) (v63 : IVec S16 32) (v643 : IVec S16 32) (v703 : IVec S16 32) (k0_hw366 : k0_chk366 v33 v35 v63 v643 v703), ∀ a x, ((![v63, v643, v703, v35] : Fin 4 → IVec S16 32) a x).toNat < S2x4x94x96.size a := fun v33 v35 v63 v643 v703 k0_hw366 => k0_hw366.2

def k0_chk367 (v30 : IVec S16 32) (v63 : IVec S16 32) (v643 : IVec S16 32) (v704 : IVec S16 32) : Prop :=
  (∀ a x, ((![v63, v643, v704, v30] : Fin 4 → IVec S16 32) a x).toNat < S2x4x32x32.size a)
theorem k0_idx473_inb : ∀ (v30 : IVec S16 32) (v63 : IVec S16 32) (v643 : IVec S16 32) (v704 : IVec S16 32) (k0_hw367 : k0_chk367 v30 v63 v643 v704), ∀ a x, ((![v63, v643, v704, v30] : Fin 4 → IVec S16 32) a x).toNat < S2x4x32x32.size a := fun v30 v63 v643 v704 k0_hw367 => k0_hw367

def k0_chk368 (v63 : IVec S16 32) (v643 : IVec S16 32) (v704 : IVec S16 32) (v707 : IVec S16 32) : Prop :=
  (∀ a x, ((![v63, v643, v704, v707] : Fin 4 → IVec S16 32) a x).toNat < S2x4x32x32.size a)
theorem k0_idx474_inb : ∀ (v63 : IVec S16 32) (v643 : IVec S16 32) (v704 : IVec S16 32) (v707 : IVec S16 32) (k0_hw368 : k0_chk368 v63 v643 v704 v707), ∀ a x, ((![v63, v643, v704, v707] : Fin 4 → IVec S16 32) a x).toNat < S2x4x32x32.size a := fun v63 v643 v704 v707 k0_hw368 => k0_hw368

def k0_chk369 (v33 : IVec S16 32) (v35 : IVec S16 32) (v63 : IVec S16 32) (v643 : IVec S16 32) (v709 : IVec S16 32) : Prop :=
  (∀ a x, ((![v63, v643, v709, v33] : Fin 4 → IVec S16 32) a x).toNat < S2x4x94x96.size a) ∧
  (∀ a x, ((![v63, v643, v709, v35] : Fin 4 → IVec S16 32) a x).toNat < S2x4x94x96.size a)
theorem k0_idx475_inb : ∀ (v33 : IVec S16 32) (v35 : IVec S16 32) (v63 : IVec S16 32) (v643 : IVec S16 32) (v709 : IVec S16 32) (k0_hw369 : k0_chk369 v33 v35 v63 v643 v709), ∀ a x, ((![v63, v643, v709, v33] : Fin 4 → IVec S16 32) a x).toNat < S2x4x94x96.size a := fun v33 v35 v63 v643 v709 k0_hw369 => k0_hw369.1
theorem k0_idx476_inb : ∀ (v33 : IVec S16 32) (v35 : IVec S16 32) (v63 : IVec S16 32) (v643 : IVec S16 32) (v709 : IVec S16 32) (k0_hw369 : k0_chk369 v33 v35 v63 v643 v709), ∀ a x, ((![v63, v643, v709, v35] : Fin 4 → IVec S16 32) a x).toNat < S2x4x94x96.size a := fun v33 v35 v63 v643 v709 k0_hw369 => k0_hw369.2

def k0_chk370 (v30 : IVec S16 32) (v63 : IVec S16 32) (v643 : IVec S16 32) (v710 : IVec S16 32) : Prop :=
  (∀ a x, ((![v63, v643, v710, v30] : Fin 4 → IVec S16 32) a x).toNat < S2x4x32x32.size a)
theorem k0_idx477_inb : ∀ (v30 : IVec S16 32) (v63 : IVec S16 32) (v643 : IVec S16 32) (v710 : IVec S16 32) (k0_hw370 : k0_chk370 v30 v63 v643 v710), ∀ a x, ((![v63, v643, v710, v30] : Fin 4 → IVec S16 32) a x).toNat < S2x4x32x32.size a := fun v30 v63 v643 v710 k0_hw370 => k0_hw370

def k0_chk371 (v63 : IVec S16 32) (v643 : IVec S16 32) (v710 : IVec S16 32) (v713 : IVec S16 32) : Prop :=
  (∀ a x, ((![v63, v643, v710, v713] : Fin 4 → IVec S16 32) a x).toNat < S2x4x32x32.size a)
theorem k0_idx478_inb : ∀ (v63 : IVec S16 32) (v643 : IVec S16 32) (v710 : IVec S16 32) (v713 : IVec S16 32) (k0_hw371 : k0_chk371 v63 v643 v710 v713), ∀ a x, ((![v63, v643, v710, v713] : Fin 4 → IVec S16 32) a x).toNat < S2x4x32x32.size a := fun v63 v643 v710 v713 k0_hw371 => k0_hw371

def k0_chk372 (v33 : IVec S16 32) (v35 : IVec S16 32) (v63 : IVec S16 32) (v643 : IVec S16 32) (v715 : IVec S16 32) : Prop :=
  (∀ a x, ((![v63, v643, v715, v33] : Fin 4 → IVec S16 32) a x).toNat < S2x4x94x96.size a) ∧
  (∀ a x, ((![v63, v643, v715, v35] : Fin 4 → IVec S16 32) a x).toNat < S2x4x94x96.size a)
theorem k0_idx479_inb : ∀ (v33 : IVec S16 32) (v35 : IVec S16 32) (v63 : IVec S16 32) (v643 : IVec S16 32) (v715 : IVec S16 32) (k0_hw372 : k0_chk372 v33 v35 v63 v643 v715), ∀ a x, ((![v63, v643, v715, v33] : Fin 4 → IVec S16 32) a x).toNat < S2x4x94x96.size a := fun v33 v35 v63 v643 v715 k0_hw372 => k0_hw372.1
theorem k0_idx480_inb : ∀ (v33 : IVec S16 32) (v35 : IVec S16 32) (v63 : IVec S16 32) (v643 : IVec S16 32) (v715 : IVec S16 32) (k0_hw372 : k0_chk372 v33 v35 v63 v643 v715), ∀ a x, ((![v63, v643, v715, v35] : Fin 4 → IVec S16 32) a x).toNat < S2x4x94x96.size a := fun v33 v35 v63 v643 v715 k0_hw372 => k0_hw372.2

def k0_chk373 (v30 : IVec S16 32) (v63 : IVec S16 32) (v643 : IVec S16 32) (v716 : IVec S16 32) : Prop :=
  (∀ a x, ((![v63, v643, v716, v30] : Fin 4 → IVec S16 32) a x).toNat < S2x4x32x32.size a)
theorem k0_idx481_inb : ∀ (v30 : IVec S16 32) (v63 : IVec S16 32) (v643 : IVec S16 32) (v716 : IVec S16 32) (k0_hw373 : k0_chk373 v30 v63 v643 v716), ∀ a x, ((![v63, v643, v716, v30] : Fin 4 → IVec S16 32) a x).toNat < S2x4x32x32.size a := fun v30 v63 v643 v716 k0_hw373 => k0_hw373

def k0_chk374 (v63 : IVec S16 32) (v643 : IVec S16 32) (v716 : IVec S16 32) (v719 : IVec S16 32) : Prop :=
  (∀ a x, ((![v63, v643, v716, v719] : Fin 4 → IVec S16 32) a x).toNat < S2x4x32x32.size a)
theorem k0_idx482_inb : ∀ (v63 : IVec S16 32) (v643 : IVec S16 32) (v716 : IVec S16 32) (v719 : IVec S16 32) (k0_hw374 : k0_chk374 v63 v643 v716 v719), ∀ a x, ((![v63, v643, v716, v719] : Fin 4 → IVec S16 32) a x).toNat < S2x4x32x32.size a := fun v63 v643 v716 v719 k0_hw374 => k0_hw374

def k0_chk375 (v33 : IVec S16 32) (v35 : IVec S16 32) (v63 : IVec S16 32) (v643 : IVec S16 32) (v721 : IVec S16 32) : Prop :=
  (∀ a x, ((![v63, v643, v721, v33] : Fin 4 → IVec S16 32) a x).toNat < S2x4x94x96.size a) ∧
  (∀ a x, ((![v63, v643, v721, v35] : Fin 4 → IVec S16 32) a x).toNat < S2x4x94x96.size a)
theorem k0_idx483_inb : ∀ (v33 : IVec S16 32) (v35 : IVec S16 32) (v63 : IVec S16 32) (v643 : IVec S16 32) (v721 : IVec S16 32) (k0_hw375 : k0_chk375 v33 v35 v63 v643 v721), ∀ a x, ((![v63, v643, v721, v33] : Fin 4 → IVec S16 32) a x).toNat < S2x4x94x96.size a := fun v33 v35 v63 v643 v721 k0_hw375 => k0_hw375.1
theorem k0_idx484_inb : ∀ (v33 : IVec S16 32) (v35 : IVec S16 32) (v63 : IVec S16 32) (v643 : IVec S16 32) (v721 : IVec S16 32) (k0_hw375 : k0_chk375 v33 v35 v63 v643 v721), ∀ a x, ((![v63, v643, v721, v35] : Fin 4 → IVec S16 32) a x).toNat < S2x4x94x96.size a := fun v33 v35 v63 v643 v721 k0_hw375 => k0_hw375.2

def k0_chk376 (v30 : IVec S16 32) (v63 : IVec S16 32) (v643 : IVec S16 32) (v722 : IVec S16 32) : Prop :=
  (∀ a x, ((![v63, v643, v722, v30] : Fin 4 → IVec S16 32) a x).toNat < S2x4x32x32.size a)
theorem k0_idx485_inb : ∀ (v30 : IVec S16 32) (v63 : IVec S16 32) (v643 : IVec S16 32) (v722 : IVec S16 32) (k0_hw376 : k0_chk376 v30 v63 v643 v722), ∀ a x, ((![v63, v643, v722, v30] : Fin 4 → IVec S16 32) a x).toNat < S2x4x32x32.size a := fun v30 v63 v643 v722 k0_hw376 => k0_hw376

def k0_chk377 (v63 : IVec S16 32) (v643 : IVec S16 32) (v722 : IVec S16 32) (v725 : IVec S16 32) : Prop :=
  (∀ a x, ((![v63, v643, v722, v725] : Fin 4 → IVec S16 32) a x).toNat < S2x4x32x32.size a)
theorem k0_idx486_inb : ∀ (v63 : IVec S16 32) (v643 : IVec S16 32) (v722 : IVec S16 32) (v725 : IVec S16 32) (k0_hw377 : k0_chk377 v63 v643 v722 v725), ∀ a x, ((![v63, v643, v722, v725] : Fin 4 → IVec S16 32) a x).toNat < S2x4x32x32.size a := fun v63 v643 v722 v725 k0_hw377 => k0_hw377

def k0_chk378 (v33 : IVec S16 32) (v35 : IVec S16 32) (v63 : IVec S16 32) (v643 : IVec S16 32) (v727 : IVec S16 32) : Prop :=
  (∀ a x, ((![v63, v643, v727, v33] : Fin 4 → IVec S16 32) a x).toNat < S2x4x94x96.size a) ∧
  (∀ a x, ((![v63, v643, v727, v35] : Fin 4 → IVec S16 32) a x).toNat < S2x4x94x96.size a)
theorem k0_idx487_inb : ∀ (v33 : IVec S16 32) (v35 : IVec S16 32) (v63 : IVec S16 32) (v643 : IVec S16 32) (v727 : IVec S16 32) (k0_hw378 : k0_chk378 v33 v35 v63 v643 v727), ∀ a x, ((![v63, v643, v727, v33] : Fin 4 → IVec S16 32) a x).toNat < S2x4x94x96.size a := fun v33 v35 v63 v643 v727 k0_hw378 => k0_hw378.1
theorem k0_idx488_inb : ∀ (v33 : IVec S16 32) (v35 : IVec S16 32) (v63 : IVec S16 32) (v643 : IVec S16 32) (v727 : IVec S16 32) (k0_hw378 : k0_chk378 v33 v35 v63 v643 v727), ∀ a x, ((![v63, v643, v727, v35] : Fin 4 → IVec S16 32) a x).toNat < S2x4x94x96.size a := fun v33 v35 v63 v643 v727 k0_hw378 => k0_hw378.2

def k0_chk379 (v30 : IVec S16 32) (v63 : IVec S16 32) (v643 : IVec S16 32) (v728 : IVec S16 32) : Prop :=
  (∀ a x, ((![v63, v643, v728, v30] : Fin 4 → IVec S16 32) a x).toNat < S2x4x32x32.size a)
theorem k0_idx489_inb : ∀ (v30 : IVec S16 32) (v63 : IVec S16 32) (v643 : IVec S16 32) (v728 : IVec S16 32) (k0_hw379 : k0_chk379 v30 v63 v643 v728), ∀ a x, ((![v63, v643, v728, v30] : Fin 4 → IVec S16 32) a x).toNat < S2x4x32x32.size a := fun v30 v63 v643 v728 k0_hw379 => k0_hw379

def k0_chk380 (v63 : IVec S16 32) (v643 : IVec S16 32) (v728 : IVec S16 32) (v731 : IVec S16 32) : Prop :=
  (∀ a x, ((![v63, v643, v728, v731] : Fin 4 → IVec S16 32) a x).toNat < S2x4x32x32.size a)
theorem k0_idx490_inb : ∀ (v63 : IVec S16 32) (v643 : IVec S16 32) (v728 : IVec S16 32) (v731 : IVec S16 32) (k0_hw380 : k0_chk380 v63 v643 v728 v731), ∀ a x, ((![v63, v643, v728, v731] : Fin 4 → IVec S16 32) a x).toNat < S2x4x32x32.size a := fun v63 v643 v728 v731 k0_hw380 => k0_hw380

def k0_chk381 (v33 : IVec S16 32) (v35 : IVec S16 32) (v63 : IVec S16 32) (v643 : IVec S16 32) (v733 : IVec S16 32) : Prop :=
  (∀ a x, ((![v63, v643, v733, v33] : Fin 4 → IVec S16 32) a x).toNat < S2x4x94x96.size a) ∧
  (∀ a x, ((![v63, v643, v733, v35] : Fin 4 → IVec S16 32) a x).toNat < S2x4x94x96.size a)
theorem k0_idx491_inb : ∀ (v33 : IVec S16 32) (v35 : IVec S16 32) (v63 : IVec S16 32) (v643 : IVec S16 32) (v733 : IVec S16 32) (k0_hw381 : k0_chk381 v33 v35 v63 v643 v733), ∀ a x, ((![v63, v643, v733, v33] : Fin 4 → IVec S16 32) a x).toNat < S2x4x94x96.size a := fun v33 v35 v63 v643 v733 k0_hw381 => k0_hw381.1
theorem k0_idx492_inb : ∀ (v33 : IVec S16 32) (v35 : IVec S16 32) (v63 : IVec S16 32) (v643 : IVec S16 32) (v733 : IVec S16 32) (k0_hw381 : k0_chk381 v33 v35 v63 v643 v733), ∀ a x, ((![v63, v643, v733, v35] : Fin 4 → IVec S16 32) a x).toNat < S2x4x94x96.size a := fun v33 v35 v63 v643 v733 k0_hw381 => k0_hw381.2

def k0_chk382 (v30 : IVec S16 32) (v63 : IVec S16 32) (v643 : IVec S16 32) (v734 : IVec S16 32) : Prop :=
  (∀ a x, ((![v63, v643, v734, v30] : Fin 4 → IVec S16 32) a x).toNat < S2x4x32x32.size a)
theorem k0_idx493_inb : ∀ (v30 : IVec S16 32) (v63 : IVec S16 32) (v643 : IVec S16 32) (v734 : IVec S16 32) (k0_hw382 : k0_chk382 v30 v63 v643 v734), ∀ a x, ((![v63, v643, v734, v30] : Fin 4 → IVec S16 32) a x).toNat < S2x4x32x32.size a := fun v30 v63 v643 v734 k0_hw382 => k0_hw382

def k0_chk383 (v63 : IVec S16 32) (v643 : IVec S16 32) (v734 : IVec S16 32) (v737 : IVec S16 32) : Prop :=
  (∀ a x, ((![v63, v643, v734, v737] : Fin 4 → IVec S16 32) a x).toNat < S2x4x32x32.size a)
theorem k0_idx494_inb : ∀ (v63 : IVec S16 32) (v643 : IVec S16 32) (v734 : IVec S16 32) (v737 : IVec S16 32) (k0_hw383 : k0_chk383 v63 v643 v734 v737), ∀ a x, ((![v63, v643, v734, v737] : Fin 4 → IVec S16 32) a x).toNat < S2x4x32x32.size a := fun v63 v643 v734 v737 k0_hw383 => k0_hw383

def k0_chk384 (v33 : IVec S16 32) (v35 : IVec S16 32) (v63 : IVec S16 32) (v643 : IVec S16 32) (v739 : IVec S16 32) : Prop :=
  (∀ a x, ((![v63, v643, v739, v33] : Fin 4 → IVec S16 32) a x).toNat < S2x4x94x96.size a) ∧
  (∀ a x, ((![v63, v643, v739, v35] : Fin 4 → IVec S16 32) a x).toNat < S2x4x94x96.size a)
theorem k0_idx495_inb : ∀ (v33 : IVec S16 32) (v35 : IVec S16 32) (v63 : IVec S16 32) (v643 : IVec S16 32) (v739 : IVec S16 32) (k0_hw384 : k0_chk384 v33 v35 v63 v643 v739), ∀ a x, ((![v63, v643, v739, v33] : Fin 4 → IVec S16 32) a x).toNat < S2x4x94x96.size a := fun v33 v35 v63 v643 v739 k0_hw384 => k0_hw384.1
theorem k0_idx496_inb : ∀ (v33 : IVec S16 32) (v35 : IVec S16 32) (v63 : IVec S16 32) (v643 : IVec S16 32) (v739 : IVec S16 32) (k0_hw384 : k0_chk384 v33 v35 v63 v643 v739), ∀ a x, ((![v63, v643, v739, v35] : Fin 4 → IVec S16 32) a x).toNat < S2x4x94x96.size a := fun v33 v35 v63 v643 v739 k0_hw384 => k0_hw384.2

def k0_chk385 (v30 : IVec S16 32) (v63 : IVec S16 32) (v643 : IVec S16 32) (v740 : IVec S16 32) : Prop :=
  (∀ a x, ((![v63, v643, v740, v30] : Fin 4 → IVec S16 32) a x).toNat < S2x4x32x32.size a)
theorem k0_idx497_inb : ∀ (v30 : IVec S16 32) (v63 : IVec S16 32) (v643 : IVec S16 32) (v740 : IVec S16 32) (k0_hw385 : k0_chk385 v30 v63 v643 v740), ∀ a x, ((![v63, v643, v740, v30] : Fin 4 → IVec S16 32) a x).toNat < S2x4x32x32.size a := fun v30 v63 v643 v740 k0_hw385 => k0_hw385

def k0_chk386 (v63 : IVec S16 32) (v643 : IVec S16 32) (v740 : IVec S16 32) (v743 : IVec S16 32) : Prop :=
  (∀ a x, ((![v63, v643, v740, v743] : Fin 4 → IVec S16 32) a x).toNat < S2x4x32x32.size a)
theorem k0_idx498_inb : ∀ (v63 : IVec S16 32) (v643 : IVec S16 32) (v740 : IVec S16 32) (v743 : IVec S16 32) (k0_hw386 : k0_chk386 v63 v643 v740 v743), ∀ a x, ((![v63, v643, v740, v743] : Fin 4 → IVec S16 32) a x).toNat < S2x4x32x32.size a := fun v63 v643 v740 v743 k0_hw386 => k0_hw386

def k0_chk387 (v33 : IVec S16 32) (v35 : IVec S16 32) (v63 : IVec S16 32) (v643 : IVec S16 32) (v745 : IVec S16 32) : Prop :=
  (∀ a x, ((![v63, v643, v745, v33] : Fin 4 → IVec S16 32) a x).toNat < S2x4x94x96.size a) ∧
  (∀ a x, ((![v63, v643, v745, v35] : Fin 4 → IVec S16 32) a x).toNat < S2x4x94x96.size a)
theorem k0_idx499_inb : ∀ (v33 : IVec S16 32) (v35 : IVec S16 32) (v63 : IVec S16 32) (v643 : IVec S16 32) (v745 : IVec S16 32) (k0_hw387 : k0_chk387 v33 v35 v63 v643 v745), ∀ a x, ((![v63, v643, v745, v33] : Fin 4 → IVec S16 32) a x).toNat < S2x4x94x96.size a := fun v33 v35 v63 v643 v745 k0_hw387 => k0_hw387.1
theorem k0_idx500_inb : ∀ (v33 : IVec S16 32) (v35 : IVec S16 32) (v63 : IVec S16 32) (v643 : IVec S16 32) (v745 : IVec S16 32) (k0_hw387 : k0_chk387 v33 v35 v63 v643 v745), ∀ a x, ((![v63, v643, v745, v35] : Fin 4 → IVec S16 32) a x).toNat < S2x4x94x96.size a := fun v33 v35 v63 v643 v745 k0_hw387 => k0_hw387.2

def k0_chk388 (v30 : IVec S16 32) (v63 : IVec S16 32) (v643 : IVec S16 32) (v746 : IVec S16 32) : Prop :=
  (∀ a x, ((![v63, v643, v746, v30] : Fin 4 → IVec S16 32) a x).toNat < S2x4x32x32.size a)
theorem k0_idx501_inb : ∀ (v30 : IVec S16 32) (v63 : IVec S16 32) (v643 : IVec S16 32) (v746 : IVec S16 32) (k0_hw388 : k0_chk388 v30 v63 v643 v746), ∀ a x, ((![v63, v643, v746, v30] : Fin 4 → IVec S16 32) a x).toNat < S2x4x32x32.size a := fun v30 v63 v643 v746 k0_hw388 => k0_hw388

def k0_chk389 (v63 : IVec S16 32) (v643 : IVec S16 32) (v746 : IVec S16 32) (v749 : IVec S16 32) : Prop :=
  (∀ a x, ((![v63, v643, v746, v749] : Fin 4 → IVec S16 32) a x).toNat < S2x4x32x32.size a)
theorem k0_idx502_inb : ∀ (v63 : IVec S16 32) (v643 : IVec S16 32) (v746 : IVec S16 32) (v749 : IVec S16 32) (k0_hw389 : k0_chk389 v63 v643 v746 v749), ∀ a x, ((![v63, v643, v746, v749] : Fin 4 → IVec S16 32) a x).toNat < S2x4x32x32.size a := fun v63 v643 v746 v749 k0_hw389 => k0_hw389

def k0_chk390 (v33 : IVec S16 32) (v35 : IVec S16 32) (v63 : IVec S16 32) (v643 : IVec S16 32) (v751 : IVec S16 32) : Prop :=
  (∀ a x, ((![v63, v643, v751, v33] : Fin 4 → IVec S16 32) a x).toNat < S2x4x94x96.size a) ∧
  (∀ a x, ((![v63, v643, v751, v35] : Fin 4 → IVec S16 32) a x).toNat < S2x4x94x96.size a)
theorem k0_idx503_inb : ∀ (v33 : IVec S16 32) (v35 : IVec S16 32) (v63 : IVec S16 32) (v643 : IVec S16 32) (v751 : IVec S16 32) (k0_hw390 : k0_chk390 v33 v35 v63 v643 v751), ∀ a x, ((![v63, v643, v751, v33] : Fin 4 → IVec S16 32) a x).toNat < S2x4x94x96.size a := fun v33 v35 v63 v643 v751 k0_hw390 => k0_hw390.1
theorem k0_idx504_inb : ∀ (v33 : IVec S16 32) (v35 : IVec S16 32) (v63 : IVec S16 32) (v643 : IVec S16 32) (v751 : IVec S16 32) (k0_hw390 : k0_chk390 v33 v35 v63 v643 v751), ∀ a x, ((![v63, v643, v751, v35] : Fin 4 → IVec S16 32) a x).toNat < S2x4x94x96.size a := fun v33 v35 v63 v643 v751 k0_hw390 => k0_hw390.2

def k0_chk391 (v30 : IVec S16 32) (v63 : IVec S16 32) (v643 : IVec S16 32) (v752 : IVec S16 32) : Prop :=
  (∀ a x, ((![v63, v643, v752, v30] : Fin 4 → IVec S16 32) a x).toNat < S2x4x32x32.size a)
theorem k0_idx505_inb : ∀ (v30 : IVec S16 32) (v63 : IVec S16 32) (v643 : IVec S16 32) (v752 : IVec S16 32) (k0_hw391 : k0_chk391 v30 v63 v643 v752), ∀ a x, ((![v63, v643, v752, v30] : Fin 4 → IVec S16 32) a x).toNat < S2x4x32x32.size a := fun v30 v63 v643 v752 k0_hw391 => k0_hw391

def k0_chk392 (v63 : IVec S16 32) (v643 : IVec S16 32) (v752 : IVec S16 32) (v755 : IVec S16 32) : Prop :=
  (∀ a x, ((![v63, v643, v752, v755] : Fin 4 → IVec S16 32) a x).toNat < S2x4x32x32.size a)
theorem k0_idx506_inb : ∀ (v63 : IVec S16 32) (v643 : IVec S16 32) (v752 : IVec S16 32) (v755 : IVec S16 32) (k0_hw392 : k0_chk392 v63 v643 v752 v755), ∀ a x, ((![v63, v643, v752, v755] : Fin 4 → IVec S16 32) a x).toNat < S2x4x32x32.size a := fun v63 v643 v752 v755 k0_hw392 => k0_hw392

def k0_chk393 (v33 : IVec S16 32) (v35 : IVec S16 32) (v63 : IVec S16 32) (v643 : IVec S16 32) (v757 : IVec S16 32) : Prop :=
  (∀ a x, ((![v63, v643, v757, v33] : Fin 4 → IVec S16 32) a x).toNat < S2x4x94x96.size a) ∧
  (∀ a x, ((![v63, v643, v757, v35] : Fin 4 → IVec S16 32) a x).toNat < S2x4x94x96.size a)
theorem k0_idx507_inb : ∀ (v33 : IVec S16 32) (v35 : IVec S16 32) (v63 : IVec S16 32) (v643 : IVec S16 32) (v757 : IVec S16 32) (k0_hw393 : k0_chk393 v33 v35 v63 v643 v757), ∀ a x, ((![v63, v643, v757, v33] : Fin 4 → IVec S16 32) a x).toNat < S2x4x94x96.size a := fun v33 v35 v63 v643 v757 k0_hw393 => k0_hw393.1
theorem k0_idx508_inb : ∀ (v33 : IVec S16 32) (v35 : IVec S16 32) (v63 : IVec S16 32) (v643 : IVec S16 32) (v757 : IVec S16 32) (k0_hw393 : k0_chk393 v33 v35 v63 v643 v757), ∀ a x, ((![v63, v643, v757, v35] : Fin 4 → IVec S16 32) a x).toNat < S2x4x94x96.size a := fun v33 v35 v63 v643 v757 k0_hw393 => k0_hw393.2

def k0_chk394 (v30 : IVec S16 32) (v63 : IVec S16 32) (v643 : IVec S16 32) (v758 : IVec S16 32) : Prop :=
  (∀ a x, ((![v63, v643, v758, v30] : Fin 4 → IVec S16 32) a x).toNat < S2x4x32x32.size a)
theorem k0_idx509_inb : ∀ (v30 : IVec S16 32) (v63 : IVec S16 32) (v643 : IVec S16 32) (v758 : IVec S16 32) (k0_hw394 : k0_chk394 v30 v63 v643 v758), ∀ a x, ((![v63, v643, v758, v30] : Fin 4 → IVec S16 32) a x).toNat < S2x4x32x32.size a := fun v30 v63 v643 v758 k0_hw394 => k0_hw394

def k0_chk395 (v63 : IVec S16 32) (v643 : IVec S16 32) (v758 : IVec S16 32) (v761 : IVec S16 32) : Prop :=
  (∀ a x, ((![v63, v643, v758, v761] : Fin 4 → IVec S16 32) a x).toNat < S2x4x32x32.size a)
theorem k0_idx510_inb : ∀ (v63 : IVec S16 32) (v643 : IVec S16 32) (v758 : IVec S16 32) (v761 : IVec S16 32) (k0_hw395 : k0_chk395 v63 v643 v758 v761), ∀ a x, ((![v63, v643, v758, v761] : Fin 4 → IVec S16 32) a x).toNat < S2x4x32x32.size a := fun v63 v643 v758 v761 k0_hw395 => k0_hw395

def k0_chk396 (v33 : IVec S16 32) (v35 : IVec S16 32) (v63 : IVec S16 32) (v643 : IVec S16 32) (v763 : IVec S16 32) : Prop :=
  (∀ a x, ((![v63, v643, v763, v33] : Fin 4 → IVec S16 32) a x).toNat < S2x4x94x96.size a) ∧
  (∀ a x, ((![v63, v643, v763, v35] : Fin 4 → IVec S16 32) a x).toNat < S2x4x94x96.size a)
theorem k0_idx511_inb : ∀ (v33 : IVec S16 32) (v35 : IVec S16 32) (v63 : IVec S16 32) (v643 : IVec S16 32) (v763 : IVec S16 32) (k0_hw396 : k0_chk396 v33 v35 v63 v643 v763), ∀ a x, ((![v63, v643, v763, v33] : Fin 4 → IVec S16 32) a x).toNat < S2x4x94x96.size a := fun v33 v35 v63 v643 v763 k0_hw396 => k0_hw396.1
theorem k0_idx512_inb : ∀ (v33 : IVec S16 32) (v35 : IVec S16 32) (v63 : IVec S16 32) (v643 : IVec S16 32) (v763 : IVec S16 32) (k0_hw396 : k0_chk396 v33 v35 v63 v643 v763), ∀ a x, ((![v63, v643, v763, v35] : Fin 4 → IVec S16 32) a x).toNat < S2x4x94x96.size a := fun v33 v35 v63 v643 v763 k0_hw396 => k0_hw396.2

def k0_chk397 (v30 : IVec S16 32) (v63 : IVec S16 32) (v643 : IVec S16 32) (v764 : IVec S16 32) : Prop :=
  (∀ a x, ((![v63, v643, v764, v30] : Fin 4 → IVec S16 32) a x).toNat < S2x4x32x32.size a)
theorem k0_idx513_inb : ∀ (v30 : IVec S16 32) (v63 : IVec S16 32) (v643 : IVec S16 32) (v764 : IVec S16 32) (k0_hw397 : k0_chk397 v30 v63 v643 v764), ∀ a x, ((![v63, v643, v764, v30] : Fin 4 → IVec S16 32) a x).toNat < S2x4x32x32.size a := fun v30 v63 v643 v764 k0_hw397 => k0_hw397

def k0_chk398 (v63 : IVec S16 32) (v643 : IVec S16 32) (v764 : IVec S16 32) (v767 : IVec S16 32) : Prop :=
  (∀ a x, ((![v63, v643, v764, v767] : Fin 4 → IVec S16 32) a x).toNat < S2x4x32x32.size a)
theorem k0_idx514_inb : ∀ (v63 : IVec S16 32) (v643 : IVec S16 32) (v764 : IVec S16 32) (v767 : IVec S16 32) (k0_hw398 : k0_chk398 v63 v643 v764 v767), ∀ a x, ((![v63, v643, v764, v767] : Fin 4 → IVec S16 32) a x).toNat < S2x4x32x32.size a := fun v63 v643 v764 v767 k0_hw398 => k0_hw398

def k0_chk399 (v33 : IVec S16 32) (v35 : IVec S16 32) (v63 : IVec S16 32) (v643 : IVec S16 32) (v769 : IVec S16 32) : Prop :=
  (∀ a x, ((![v63, v643, v769, v33] : Fin 4 → IVec S16 32) a x).toNat < S2x4x94x96.size a) ∧
  (∀ a x, ((![v63, v643, v769, v35] : Fin 4 → IVec S16 32) a x).toNat < S2x4x94x96.size a)
theorem k0_idx515_inb : ∀ (v33 : IVec S16 32) (v35 : IVec S16 32) (v63 : IVec S16 32) (v643 : IVec S16 32) (v769 : IVec S16 32) (k0_hw399 : k0_chk399 v33 v35 v63 v643 v769), ∀ a x, ((![v63, v643, v769, v33] : Fin 4 → IVec S16 32) a x).toNat < S2x4x94x96.size a := fun v33 v35 v63 v643 v769 k0_hw399 => k0_hw399.1
theorem k0_idx516_inb : ∀ (v33 : IVec S16 32) (v35 : IVec S16 32) (v63 : IVec S16 32) (v643 : IVec S16 32) (v769 : IVec S16 32) (k0_hw399 : k0_chk399 v33 v35 v63 v643 v769), ∀ a x, ((![v63, v643, v769, v35] : Fin 4 → IVec S16 32) a x).toNat < S2x4x94x96.size a := fun v33 v35 v63 v643 v769 k0_hw399 => k0_hw399.2

def k0_chk400 (v30 : IVec S16 32) (v63 : IVec S16 32) (v643 : IVec S16 32) (v770 : IVec S16 32) : Prop :=
  (∀ a x, ((![v63, v643, v770, v30] : Fin 4 → IVec S16 32) a x).toNat < S2x4x32x32.size a)
theorem k0_idx517_inb : ∀ (v30 : IVec S16 32) (v63 : IVec S16 32) (v643 : IVec S16 32) (v770 : IVec S16 32) (k0_hw400 : k0_chk400 v30 v63 v643 v770), ∀ a x, ((![v63, v643, v770, v30] : Fin 4 → IVec S16 32) a x).toNat < S2x4x32x32.size a := fun v30 v63 v643 v770 k0_hw400 => k0_hw400

def k0_chk401 (v63 : IVec S16 32) (v643 : IVec S16 32) (v770 : IVec S16 32) (v773 : IVec S16 32) : Prop :=
  (∀ a x, ((![v63, v643, v770, v773] : Fin 4 → IVec S16 32) a x).toNat < S2x4x32x32.size a)
theorem k0_idx518_inb : ∀ (v63 : IVec S16 32) (v643 : IVec S16 32) (v770 : IVec S16 32) (v773 : IVec S16 32) (k0_hw401 : k0_chk401 v63 v643 v770 v773), ∀ a x, ((![v63, v643, v770, v773] : Fin 4 → IVec S16 32) a x).toNat < S2x4x32x32.size a := fun v63 v643 v770 v773 k0_hw401 => k0_hw401

def k0_chk402 (v33 : IVec S16 32) (v35 : IVec S16 32) (v63 : IVec S16 32) (v643 : IVec S16 32) (v775 : IVec S16 32) : Prop :=
  (∀ a x, ((![v63, v643, v775, v33] : Fin 4 → IVec S16 32) a x).toNat < S2x4x94x96.size a) ∧
  (∀ a x, ((![v63, v643, v775, v35] : Fin 4 → IVec S16 32) a x).toNat < S2x4x94x96.size a)
theorem k0_idx519_inb : ∀ (v33 : IVec S16 32) (v35 : IVec S16 32) (v63 : IVec S16 32) (v643 : IVec S16 32) (v775 : IVec S16 32) (k0_hw402 : k0_chk402 v33 v35 v63 v643 v775), ∀ a x, ((![v63, v643, v775, v33] : Fin 4 → IVec S16 32) a x).toNat < S2x4x94x96.size a := fun v33 v35 v63 v643 v775 k0_hw402 => k0_hw402.1
theorem k0_idx520_inb : ∀ (v33 : IVec S16 32) (v35 : IVec S16 32) (v63 : IVec S16 32) (v643 : IVec S16 32) (v775 : IVec S16 32) (k0_hw402 : k0_chk402 v33 v35 v63 v643 v775), ∀ a x, ((![v63, v643, v775, v35] : Fin 4 → IVec S16 32) a x).toNat < S2x4x94x96.size a := fun v33 v35 v63 v643 v775 k0_hw402 => k0_hw402.2

def k0_chk403 (v30 : IVec S16 32) (v63 : IVec S16 32) (v643 : IVec S16 32) (v776 : IVec S16 32) : Prop :=
  (∀ a x, ((![v63, v643, v776, v30] : Fin 4 → IVec S16 32) a x).toNat < S2x4x32x32.size a)
theorem k0_idx521_inb : ∀ (v30 : IVec S16 32) (v63 : IVec S16 32) (v643 : IVec S16 32) (v776 : IVec S16 32) (k0_hw403 : k0_chk403 v30 v63 v643 v776), ∀ a x, ((![v63, v643, v776, v30] : Fin 4 → IVec S16 32) a x).toNat < S2x4x32x32.size a := fun v30 v63 v643 v776 k0_hw403 => k0_hw403

def k0_chk404 (v63 : IVec S16 32) (v643 : IVec S16 32) (v776 : IVec S16 32) (v779 : IVec S16 32) : Prop :=
  (∀ a x, ((![v63, v643, v776, v779] : Fin 4 → IVec S16 32) a x).toNat < S2x4x32x32.size a)
theorem k0_idx522_inb : ∀ (v63 : IVec S16 32) (v643 : IVec S16 32) (v776 : IVec S16 32) (v779 : IVec S16 32) (k0_hw404 : k0_chk404 v63 v643 v776 v779), ∀ a x, ((![v63, v643, v776, v779] : Fin 4 → IVec S16 32) a x).toNat < S2x4x32x32.size a := fun v63 v643 v776 v779 k0_hw404 => k0_hw404

def k0_chk405 (v33 : IVec S16 32) (v35 : IVec S16 32) (v63 : IVec S16 32) (v643 : IVec S16 32) (v781 : IVec S16 32) : Prop :=
  (∀ a x, ((![v63, v643, v781, v33] : Fin 4 → IVec S16 32) a x).toNat < S2x4x94x96.size a) ∧
  (∀ a x, ((![v63, v643, v781, v35] : Fin 4 → IVec S16 32) a x).toNat < S2x4x94x96.size a)
theorem k0_idx523_inb : ∀ (v33 : IVec S16 32) (v35 : IVec S16 32) (v63 : IVec S16 32) (v643 : IVec S16 32) (v781 : IVec S16 32) (k0_hw405 : k0_chk405 v33 v35 v63 v643 v781), ∀ a x, ((![v63, v643, v781, v33] : Fin 4 → IVec S16 32) a x).toNat < S2x4x94x96.size a := fun v33 v35 v63 v643 v781 k0_hw405 => k0_hw405.1
theorem k0_idx524_inb : ∀ (v33 : IVec S16 32) (v35 : IVec S16 32) (v63 : IVec S16 32) (v643 : IVec S16 32) (v781 : IVec S16 32) (k0_hw405 : k0_chk405 v33 v35 v63 v643 v781), ∀ a x, ((![v63, v643, v781, v35] : Fin 4 → IVec S16 32) a x).toNat < S2x4x94x96.size a := fun v33 v35 v63 v643 v781 k0_hw405 => k0_hw405.2

def k0_chk406 (v30 : IVec S16 32) (v63 : IVec S16 32) (v643 : IVec S16 32) (v782 : IVec S16 32) : Prop :=
  (∀ a x, ((![v63, v643, v782, v30] : Fin 4 → IVec S16 32) a x).toNat < S2x4x32x32.size a)
theorem k0_idx525_inb : ∀ (v30 : IVec S16 32) (v63 : IVec S16 32) (v643 : IVec S16 32) (v782 : IVec S16 32) (k0_hw406 : k0_chk406 v30 v63 v643 v782), ∀ a x, ((![v63, v643, v782, v30] : Fin 4 → IVec S16 32) a x).toNat < S2x4x32x32.size a := fun v30 v63 v643 v782 k0_hw406 => k0_hw406

def k0_chk407 (v63 : IVec S16 32) (v643 : IVec S16 32) (v782 : IVec S16 32) (v785 : IVec S16 32) : Prop :=
  (∀ a x, ((![v63, v643, v782, v785] : Fin 4 → IVec S16 32) a x).toNat < S2x4x32x32.size a)
theorem k0_idx526_inb : ∀ (v63 : IVec S16 32) (v643 : IVec S16 32) (v782 : IVec S16 32) (v785 : IVec S16 32) (k0_hw407 : k0_chk407 v63 v643 v782 v785), ∀ a x, ((![v63, v643, v782, v785] : Fin 4 → IVec S16 32) a x).toNat < S2x4x32x32.size a := fun v63 v643 v782 v785 k0_hw407 => k0_hw407

def k0_chk408 (v33 : IVec S16 32) (v35 : IVec S16 32) (v63 : IVec S16 32) (v643 : IVec S16 32) (v787 : IVec S16 32) : Prop :=
  (∀ a x, ((![v63, v643, v787, v33] : Fin 4 → IVec S16 32) a x).toNat < S2x4x94x96.size a) ∧
  (∀ a x, ((![v63, v643, v787, v35] : Fin 4 → IVec S16 32) a x).toNat < S2x4x94x96.size a)
theorem k0_idx527_inb : ∀ (v33 : IVec S16 32) (v35 : IVec S16 32) (v63 : IVec S16 32) (v643 : IVec S16 32) (v787 : IVec S16 32) (k0_hw408 : k0_chk408 v33 v35 v63 v643 v787), ∀ a x, ((![v63, v643, v787, v33] : Fin 4 → IVec S16 32) a x).toNat < S2x4x94x96.size a := fun v33 v35 v63 v643 v787 k0_hw408 => k0_hw408.1
theorem k0_idx528_inb : ∀ (v33 : IVec S16 32) (v35 : IVec S16 32) (v63 : IVec S16 32) (v643 : IVec S16 32) (v787 : IVec S16 32) (k0_hw408 : k0_chk408 v33 v35 v63 v643 v787), ∀ a x, ((![v63, v643, v787, v35] : Fin 4 → IVec S16 32) a x).toNat < S2x4x94x96.size a := fun v33 v35 v63 v643 v787 k0_hw408 => k0_hw408.2

def k0_chk409 (v30 : IVec S16 32) (v63 : IVec S16 32) (v643 : IVec S16 32) (v788 : IVec S16 32) : Prop :=
  (∀ a x, ((![v63, v643, v788, v30] : Fin 4 → IVec S16 32) a x).toNat < S2x4x32x32.size a)
theorem k0_idx529_inb : ∀ (v30 : IVec S16 32) (v63 : IVec S16 32) (v643 : IVec S16 32) (v788 : IVec S16 32) (k0_hw409 : k0_chk409 v30 v63 v643 v788), ∀ a x, ((![v63, v643, v788, v30] : Fin 4 → IVec S16 32) a x).toNat < S2x4x32x32.size a := fun v30 v63 v643 v788 k0_hw409 => k0_hw409

def k0_chk410 (v63 : IVec S16 32) (v643 : IVec S16 32) (v788 : IVec S16 32) (v791 : IVec S16 32) : Prop :=
  (∀ a x, ((![v63, v643, v788, v791] : Fin 4 → IVec S16 32) a x).toNat < S2x4x32x32.size a)
theorem k0_idx530_inb : ∀ (v63 : IVec S16 32) (v643 : IVec S16 32) (v788 : IVec S16 32) (v791 : IVec S16 32) (k0_hw410 : k0_chk410 v63 v643 v788 v791), ∀ a x, ((![v63, v643, v788, v791] : Fin 4 → IVec S16 32) a x).toNat < S2x4x32x32.size a := fun v63 v643 v788 v791 k0_hw410 => k0_hw410

def k0_chk411 (v33 : IVec S16 32) (v35 : IVec S16 32) (v63 : IVec S16 32) (v643 : IVec S16 32) (v793 : IVec S16 32) : Prop :=
  (∀ a x, ((![v63, v643, v793, v33] : Fin 4 → IVec S16 32) a x).toNat < S2x4x94x96.size a) ∧
  (∀ a x, ((![v63, v643, v793, v35] : Fin 4 → IVec S16 32) a x).toNat < S2x4x94x96.size a)
theorem k0_idx531_inb : ∀ (v33 : IVec S16 32) (v35 : IVec S16 32) (v63 : IVec S16 32) (v643 : IVec S16 32) (v793 : IVec S16 32) (k0_hw411 : k0_chk411 v33 v35 v63 v643 v793), ∀ a x, ((![v63, v643, v793, v33] : Fin 4 → IVec S16 32) a x).toNat < S2x4x94x96.size a := fun v33 v35 v63 v643 v793 k0_hw411 => k0_hw411.1
theorem k0_idx532_inb : ∀ (v33 : IVec S16 32) (v35 : IVec S16 32) (v63 : IVec S16 32) (v643 : IVec S16 32) (v793 : IVec S16 32) (k0_hw411 : k0_chk411 v33 v35 v63 v643 v793), ∀ a x, ((![v63, v643, v793, v35] : Fin 4 → IVec S16 32) a x).toNat < S2x4x94x96.size a := fun v33 v35 v63 v643 v793 k0_hw411 => k0_hw411.2

def k0_chk412 (v30 : IVec S16 32) (v63 : IVec S16 32) (v643 : IVec S16 32) (v794 : IVec S16 32) : Prop :=
  (∀ a x, ((![v63, v643, v794, v30] : Fin 4 → IVec S16 32) a x).toNat < S2x4x32x32.size a)
theorem k0_idx533_inb : ∀ (v30 : IVec S16 32) (v63 : IVec S16 32) (v643 : IVec S16 32) (v794 : IVec S16 32) (k0_hw412 : k0_chk412 v30 v63 v643 v794), ∀ a x, ((![v63, v643, v794, v30] : Fin 4 → IVec S16 32) a x).toNat < S2x4x32x32.size a := fun v30 v63 v643 v794 k0_hw412 => k0_hw412

def k0_chk413 (v63 : IVec S16 32) (v643 : IVec S16 32) (v794 : IVec S16 32) (v797 : IVec S16 32) : Prop :=
  (∀ a x, ((![v63, v643, v794, v797] : Fin 4 → IVec S16 32) a x).toNat < S2x4x32x32.size a)
theorem k0_idx534_inb : ∀ (v63 : IVec S16 32) (v643 : IVec S16 32) (v794 : IVec S16 32) (v797 : IVec S16 32) (k0_hw413 : k0_chk413 v63 v643 v794 v797), ∀ a x, ((![v63, v643, v794, v797] : Fin 4 → IVec S16 32) a x).toNat < S2x4x32x32.size a := fun v63 v643 v794 v797 k0_hw413 => k0_hw413

def k0_chk414 (v33 : IVec S16 32) (v35 : IVec S16 32) (v63 : IVec S16 32) (v643 : IVec S16 32) (v799 : IVec S16 32) : Prop :=
  (∀ a x, ((![v63, v643, v799, v33] : Fin 4 → IVec S16 32) a x).toNat < S2x4x94x96.size a) ∧
  (∀ a x, ((![v63, v643, v799, v35] : Fin 4 → IVec S16 32) a x).toNat < S2x4x94x96.size a)
theorem k0_idx535_inb : ∀ (v33 : IVec S16 32) (v35 : IVec S16 32) (v63 : IVec S16 32) (v643 : IVec S16 32) (v799 : IVec S16 32) (k0_hw414 : k0_chk414 v33 v35 v63 v643 v799), ∀ a x, ((![v63, v643, v799, v33] : Fin 4 → IVec S16 32) a x).toNat < S2x4x94x96.size a := fun v33 v35 v63 v643 v799 k0_hw414 => k0_hw414.1
theorem k0_idx536_inb : ∀ (v33 : IVec S16 32) (v35 : IVec S16 32) (v63 : IVec S16 32) (v643 : IVec S16 32) (v799 : IVec S16 32) (k0_hw414 : k0_chk414 v33 v35 v63 v643 v799), ∀ a x, ((![v63, v643, v799, v35] : Fin 4 → IVec S16 32) a x).toNat < S2x4x94x96.size a := fun v33 v35 v63 v643 v799 k0_hw414 => k0_hw414.2

def k0_chk415 (v30 : IVec S16 32) (v63 : IVec S16 32) (v643 : IVec S16 32) (v800 : IVec S16 32) : Prop :=
  (∀ a x, ((![v63, v643, v800, v30] : Fin 4 → IVec S16 32) a x).toNat < S2x4x32x32.size a)
theorem k0_idx537_inb : ∀ (v30 : IVec S16 32) (v63 : IVec S16 32) (v643 : IVec S16 32) (v800 : IVec S16 32) (k0_hw415 : k0_chk415 v30 v63 v643 v800), ∀ a x, ((![v63, v643, v800, v30] : Fin 4 → IVec S16 32) a x).toNat < S2x4x32x32.size a := fun v30 v63 v643 v800 k0_hw415 => k0_hw415

def k0_chk416 (v63 : IVec S16 32) (v643 : IVec S16 32) (v800 : IVec S16 32) (v803 : IVec S16 32) : Prop :=
  (∀ a x, ((![v63, v643, v800, v803] : Fin 4 → IVec S16 32) a x).toNat < S2x4x32x32.size a)
theorem k0_idx538_inb : ∀ (v63 : IVec S16 32) (v643 : IVec S16 32) (v800 : IVec S16 32) (v803 : IVec S16 32) (k0_hw416 : k0_chk416 v63 v643 v800 v803), ∀ a x, ((![v63, v643, v800, v803] : Fin 4 → IVec S16 32) a x).toNat < S2x4x32x32.size a := fun v63 v643 v800 v803 k0_hw416 => k0_hw416

def k0_chk417 (v33 : IVec S16 32) (v35 : IVec S16 32) (v63 : IVec S16 32) (v643 : IVec S16 32) (v805 : IVec S16 32) : Prop :=
  (∀ a x, ((![v63, v643, v805, v33] : Fin 4 → IVec S16 32) a x).toNat < S2x4x94x96.size a) ∧
  (∀ a x, ((![v63, v643, v805, v35] : Fin 4 → IVec S16 32) a x).toNat < S2x4x94x96.size a)
theorem k0_idx539_inb : ∀ (v33 : IVec S16 32) (v35 : IVec S16 32) (v63 : IVec S16 32) (v643 : IVec S16 32) (v805 : IVec S16 32) (k0_hw417 : k0_chk417 v33 v35 v63 v643 v805), ∀ a x, ((![v63, v643, v805, v33] : Fin 4 → IVec S16 32) a x).toNat < S2x4x94x96.size a := fun v33 v35 v63 v643 v805 k0_hw417 => k0_hw417.1
theorem k0_idx540_inb : ∀ (v33 : IVec S16 32) (v35 : IVec S16 32) (v63 : IVec S16 32) (v643 : IVec S16 32) (v805 : IVec S16 32) (k0_hw417 : k0_chk417 v33 v35 v63 v643 v805), ∀ a x, ((![v63, v643, v805, v35] : Fin 4 → IVec S16 32) a x).toNat < S2x4x94x96.size a := fun v33 v35 v63 v643 v805 k0_hw417 => k0_hw417.2

def k0_chk418 (v30 : IVec S16 32) (v63 : IVec S16 32) (v643 : IVec S16 32) (v806 : IVec S16 32) : Prop :=
  (∀ a x, ((![v63, v643, v806, v30] : Fin 4 → IVec S16 32) a x).toNat < S2x4x32x32.size a)
theorem k0_idx541_inb : ∀ (v30 : IVec S16 32) (v63 : IVec S16 32) (v643 : IVec S16 32) (v806 : IVec S16 32) (k0_hw418 : k0_chk418 v30 v63 v643 v806), ∀ a x, ((![v63, v643, v806, v30] : Fin 4 → IVec S16 32) a x).toNat < S2x4x32x32.size a := fun v30 v63 v643 v806 k0_hw418 => k0_hw418

def k0_chk419 (v63 : IVec S16 32) (v643 : IVec S16 32) (v806 : IVec S16 32) (v809 : IVec S16 32) : Prop :=
  (∀ a x, ((![v63, v643, v806, v809] : Fin 4 → IVec S16 32) a x).toNat < S2x4x32x32.size a)
theorem k0_idx542_inb : ∀ (v63 : IVec S16 32) (v643 : IVec S16 32) (v806 : IVec S16 32) (v809 : IVec S16 32) (k0_hw419 : k0_chk419 v63 v643 v806 v809), ∀ a x, ((![v63, v643, v806, v809] : Fin 4 → IVec S16 32) a x).toNat < S2x4x32x32.size a := fun v63 v643 v806 v809 k0_hw419 => k0_hw419

def k0_chk420 (v33 : IVec S16 32) (v35 : IVec S16 32) (v63 : IVec S16 32) (v643 : IVec S16 32) (v811 : IVec S16 32) : Prop :=
  (∀ a x, ((![v63, v643, v811, v33] : Fin 4 → IVec S16 32) a x).toNat < S2x4x94x96.size a) ∧
  (∀ a x, ((![v63, v643, v811, v35] : Fin 4 → IVec S16 32) a x).toNat < S2x4x94x96.size a)
theorem k0_idx543_inb : ∀ (v33 : IVec S16 32) (v35 : IVec S16 32) (v63 : IVec S16 32) (v643 : IVec S16 32) (v811 : IVec S16 32) (k0_hw420 : k0_chk420 v33 v35 v63 v643 v811), ∀ a x, ((![v63, v643, v811, v33] : Fin 4 → IVec S16 32) a x).toNat < S2x4x94x96.size a := fun v33 v35 v63 v643 v811 k0_hw420 => k0_hw420.1
theorem k0_idx544_inb : ∀ (v33 : IVec S16 32) (v35 : IVec S16 32) (v63 : IVec S16 32) (v643 : IVec S16 32) (v811 : IVec S16 32) (k0_hw420 : k0_chk420 v33 v35 v63 v643 v811), ∀ a x, ((![v63, v643, v811, v35] : Fin 4 → IVec S16 32) a x).toNat < S2x4x94x96.size a := fun v33 v35 v63 v643 v811 k0_hw420 => k0_hw420.2

def k0_chk421 (v30 : IVec S16 32) (v63 : IVec S16 32) (v643 : IVec S16 32) (v812 : IVec S16 32) : Prop :=
  (∀ a x, ((![v63, v643, v812, v30] : Fin 4 → IVec S16 32) a x).toNat < S2x4x32x32.size a)
theorem k0_idx545_inb : ∀ (v30 : IVec S16 32) (v63 : IVec S16 32) (v643 : IVec S16 32) (v812 : IVec S16 32) (k0_hw421 : k0_chk421 v30 v63 v643 v812), ∀ a x, ((![v63, v643, v812, v30] : Fin 4 → IVec S16 32) a x).toNat < S2x4x32x32.size a := fun v30 v63 v643 v812 k0_hw421 => k0_hw421

def k0_chk422 (v63 : IVec S16 32) (v643 : IVec S16 32) (v812 : IVec S16 32) (v815 : IVec S16 32) : Prop :=
  (∀ a x, ((![v63, v643, v812, v815] : Fin 4 → IVec S16 32) a x).toNat < S2x4x32x32.size a)
theorem k0_idx546_inb : ∀ (v63 : IVec S16 32) (v643 : IVec S16 32) (v812 : IVec S16 32) (v815 : IVec S16 32) (k0_hw422 : k0_chk422 v63 v643 v812 v815), ∀ a x, ((![v63, v643, v812, v815] : Fin 4 → IVec S16 32) a x).toNat < S2x4x32x32.size a := fun v63 v643 v812 v815 k0_hw422 => k0_hw422

def k0_chk423 (v33 : IVec S16 32) (v35 : IVec S16 32) (v63 : IVec S16 32) (v643 : IVec S16 32) (v817 : IVec S16 32) : Prop :=
  (∀ a x, ((![v63, v643, v817, v33] : Fin 4 → IVec S16 32) a x).toNat < S2x4x94x96.size a) ∧
  (∀ a x, ((![v63, v643, v817, v35] : Fin 4 → IVec S16 32) a x).toNat < S2x4x94x96.size a)
theorem k0_idx547_inb : ∀ (v33 : IVec S16 32) (v35 : IVec S16 32) (v63 : IVec S16 32) (v643 : IVec S16 32) (v817 : IVec S16 32) (k0_hw423 : k0_chk423 v33 v35 v63 v643 v817), ∀ a x, ((![v63, v643, v817, v33] : Fin 4 → IVec S16 32) a x).toNat < S2x4x94x96.size a := fun v33 v35 v63 v643 v817 k0_hw423 => k0_hw423.1
theorem k0_idx548_inb : ∀ (v33 : IVec S16 32) (v35 : IVec S16 32) (v63 : IVec S16 32) (v643 : IVec S16 32) (v817 : IVec S16 32) (k0_hw423 : k0_chk423 v33 v35 v63 v643 v817), ∀ a x, ((![v63, v643, v817, v35] : Fin 4 → IVec S16 32) a x).toNat < S2x4x94x96.size a := fun v33 v35 v63 v643 v817 k0_hw423 => k0_hw423.2

def k0_chk424 (v30 : IVec S16 32) (v63 : IVec S16 32) (v643 : IVec S16 32) (v818 : IVec S16 32) : Prop :=
  (∀ a x, ((![v63, v643, v818, v30] : Fin 4 → IVec S16 32) a x).toNat < S2x4x32x32.size a)
theorem k0_idx549_inb : ∀ (v30 : IVec S16 32) (v63 : IVec S16 32) (v643 : IVec S16 32) (v818 : IVec S16 32) (k0_hw424 : k0_chk424 v30 v63 v643 v818), ∀ a x, ((![v63, v643, v818, v30] : Fin 4 → IVec S16 32) a x).toNat < S2x4x32x32.size a := fun v30 v63 v643 v818 k0_hw424 => k0_hw424

def k0_chk425 (v63 : IVec S16 32) (v643 : IVec S16 32) (v818 : IVec S16 32) (v821 : IVec S16 32) : Prop :=
  (∀ a x, ((![v63, v643, v818, v821] : Fin 4 → IVec S16 32) a x).toNat < S2x4x32x32.size a)
theorem k0_idx550_inb : ∀ (v63 : IVec S16 32) (v643 : IVec S16 32) (v818 : IVec S16 32) (v821 : IVec S16 32) (k0_hw425 : k0_chk425 v63 v643 v818 v821), ∀ a x, ((![v63, v643, v818, v821] : Fin 4 → IVec S16 32) a x).toNat < S2x4x32x32.size a := fun v63 v643 v818 v821 k0_hw425 => k0_hw425

def k0_chk426 (v33 : IVec S16 32) (v35 : IVec S16 32) (v63 : IVec S16 32) (v643 : IVec S16 32) (v823 : IVec S16 32) : Prop :=
  (∀ a x, ((![v63, v643, v823, v33] : Fin 4 → IVec S16 32) a x).toNat < S2x4x94x96.size a) ∧
  (∀ a x, ((![v63, v643, v823, v35] : Fin 4 → IVec S16 32) a x).toNat < S2x4x94x96.size a)
theorem k0_idx551_inb : ∀ (v33 : IVec S16 32) (v35 : IVec S16 32) (v63 : IVec S16 32) (v643 : IVec S16 32) (v823 : IVec S16 32) (k0_hw426 : k0_chk426 v33 v35 v63 v643 v823), ∀ a x, ((![v63, v643, v823, v33] : Fin 4 → IVec S16 32) a x).toNat < S2x4x94x96.size a := fun v33 v35 v63 v643 v823 k0_hw426 => k0_hw426.1
theorem k0_idx552_inb : ∀ (v33 : IVec S16 32) (v35 : IVec S16 32) (v63 : IVec S16 32) (v643 : IVec S16 32) (v823 : IVec S16 32) (k0_hw426 : k0_chk426 v33 v35 v63 v643 v823), ∀ a x, ((![v63, v643, v823, v35] : Fin 4 → IVec S16 32) a x).toNat < S2x4x94x96.size a := fun v33 v35 v63 v643 v823 k0_hw426 => k0_hw426.2

def k0_chk427 (v30 : IVec S16 32) (v63 : IVec S16 32) (v643 : IVec S16 32) (v824 : IVec S16 32) : Prop :=
  (∀ a x, ((![v63, v643, v824, v30] : Fin 4 → IVec S16 32) a x).toNat < S2x4x32x32.size a)
theorem k0_idx553_inb : ∀ (v30 : IVec S16 32) (v63 : IVec S16 32) (v643 : IVec S16 32) (v824 : IVec S16 32) (k0_hw427 : k0_chk427 v30 v63 v643 v824), ∀ a x, ((![v63, v643, v824, v30] : Fin 4 → IVec S16 32) a x).toNat < S2x4x32x32.size a := fun v30 v63 v643 v824 k0_hw427 => k0_hw427

def k0_chk428 (v63 : IVec S16 32) (v643 : IVec S16 32) (v824 : IVec S16 32) (v827 : IVec S16 32) : Prop :=
  (∀ a x, ((![v63, v643, v824, v827] : Fin 4 → IVec S16 32) a x).toNat < S2x4x32x32.size a)
theorem k0_idx554_inb : ∀ (v63 : IVec S16 32) (v643 : IVec S16 32) (v824 : IVec S16 32) (v827 : IVec S16 32) (k0_hw428 : k0_chk428 v63 v643 v824 v827), ∀ a x, ((![v63, v643, v824, v827] : Fin 4 → IVec S16 32) a x).toNat < S2x4x32x32.size a := fun v63 v643 v824 v827 k0_hw428 => k0_hw428

def k0_chk429 (v33 : IVec S16 32) (v35 : IVec S16 32) (v63 : IVec S16 32) (v643 : IVec S16 32) (v829 : IVec S16 32) : Prop :=
  (∀ a x, ((![v63, v643, v829, v33] : Fin 4 → IVec S16 32) a x).toNat < S2x4x94x96.size a) ∧
  (∀ a x, ((![v63, v643, v829, v35] : Fin 4 → IVec S16 32) a x).toNat < S2x4x94x96.size a)
theorem k0_idx555_inb : ∀ (v33 : IVec S16 32) (v35 : IVec S16 32) (v63 : IVec S16 32) (v643 : IVec S16 32) (v829 : IVec S16 32) (k0_hw429 : k0_chk429 v33 v35 v63 v643 v829), ∀ a x, ((![v63, v643, v829, v33] : Fin 4 → IVec S16 32) a x).toNat < S2x4x94x96.size a := fun v33 v35 v63 v643 v829 k0_hw429 => k0_hw429.1
theorem k0_idx556_inb : ∀ (v33 : IVec S16 32) (v35 : IVec S16 32) (v63 : IVec S16 32) (v643 : IVec S16 32) (v829 : IVec S16 32) (k0_hw429 : k0_chk429 v33 v35 v63 v643 v829), ∀ a x, ((![v63, v643, v829, v35] : Fin 4 → IVec S16 32) a x).toNat < S2x4x94x96.size a := fun v33 v35 v63 v643 v829 k0_hw429 => k0_hw429.2

def k0_chk430 (v30 : IVec S16 32) (v63 : IVec S16 32) (v643 : IVec S16 32) (v830 : IVec S16 32) : Prop :=
  (∀ a x, ((![v63, v643, v830, v30] : Fin 4 → IVec S16 32) a x).toNat < S2x4x32x32.size a)
theorem k0_idx557_inb : ∀ (v30 : IVec S16 32) (v63 : IVec S16 32) (v643 : IVec S16 32) (v830 : IVec S16 32) (k0_hw430 : k0_chk430 v30 v63 v643 v830), ∀ a x, ((![v63, v643, v830, v30] : Fin 4 → IVec S16 32) a x).toNat < S2x4x32x32.size a := fun v30 v63 v643 v830 k0_hw430 => k0_hw430

def k0_chk431 (v63 : IVec S16 32) (v643 : IVec S16 32) (v830 : IVec S16 32) (v833 : IVec S16 32) : Prop :=
  (∀ a x, ((![v63, v643, v830, v833] : Fin 4 → IVec S16 32) a x).toNat < S2x4x32x32.size a)
theorem k0_idx558_inb : ∀ (v63 : IVec S16 32) (v643 : IVec S16 32) (v830 : IVec S16 32) (v833 : IVec S16 32) (k0_hw431 : k0_chk431 v63 v643 v830 v833), ∀ a x, ((![v63, v643, v830, v833] : Fin 4 → IVec S16 32) a x).toNat < S2x4x32x32.size a := fun v63 v643 v830 v833 k0_hw431 => k0_hw431

def k0_chk432 (v33 : IVec S16 32) (v35 : IVec S16 32) (v63 : IVec S16 32) (v643 : IVec S16 32) (v835 : IVec S16 32) : Prop :=
  (∀ a x, ((![v63, v643, v835, v33] : Fin 4 → IVec S16 32) a x).toNat < S2x4x94x96.size a) ∧
  (∀ a x, ((![v63, v643, v835, v35] : Fin 4 → IVec S16 32) a x).toNat < S2x4x94x96.size a)
theorem k0_idx559_inb : ∀ (v33 : IVec S16 32) (v35 : IVec S16 32) (v63 : IVec S16 32) (v643 : IVec S16 32) (v835 : IVec S16 32) (k0_hw432 : k0_chk432 v33 v35 v63 v643 v835), ∀ a x, ((![v63, v643, v835, v33] : Fin 4 → IVec S16 32) a x).toNat < S2x4x94x96.size a := fun v33 v35 v63 v643 v835 k0_hw432 => k0_hw432.1
theorem k0_idx560_inb : ∀ (v33 : IVec S16 32) (v35 : IVec S16 32) (v63 : IVec S16 32) (v643 : IVec S16 32) (v835 : IVec S16 32) (k0_hw432 : k0_chk432 v33 v35 v63 v643 v835), ∀ a x, ((![v63, v643, v835, v35] : Fin 4 → IVec S16 32) a x).toNat < S2x4x94x96.size a := fun v33 v35 v63 v643 v835 k0_hw432 => k0_hw432.2
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c0_i32_394 : BitVec 32 := 0#32
  let v836 : BitVec 32 := Scalar.addi v29 c0_i32_394
  let c0_i32_399 : BitVec 32 := 0#32
  let c0_i32_400 : BitVec 32 := 0#32
  ![v18.toNat, v836.toNat, 0, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c8_i32_406 : BitVec 32 := 8#32
  let v845 : BitVec 32 := Scalar.addi v29 c8_i32_406
  let c0_i32_411 : BitVec 32 := 0#32
  let c0_i32_412 : BitVec 32 := 0#32
  ![v18.toNat, v845.toNat, 0, 0]

def k0_chk433 (v30 : IVec S16 32) (v862 : IVec S16 32) (v863 : IVec S16 32) (v864 : IVec S16 32) : Prop :=
  (∀ a x, ((![v862, v863, v864, v30] : Fin 4 → IVec S16 32) a x).toNat < S2x4x32x32.size a)
theorem k0_idx561_inb : ∀ (v30 : IVec S16 32) (v862 : IVec S16 32) (v863 : IVec S16 32) (v864 : IVec S16 32) (k0_hw433 : k0_chk433 v30 v862 v863 v864), ∀ a x, ((![v862, v863, v864, v30] : Fin 4 → IVec S16 32) a x).toNat < S2x4x32x32.size a := fun v30 v862 v863 v864 k0_hw433 => k0_hw433

def k0_chk434 (v862 : IVec S16 32) (v863 : IVec S16 32) (v864 : IVec S16 32) (v867 : IVec S16 32) : Prop :=
  (∀ a x, ((![v862, v863, v864, v867] : Fin 4 → IVec S16 32) a x).toNat < S2x4x32x32.size a)
theorem k0_idx562_inb : ∀ (v862 : IVec S16 32) (v863 : IVec S16 32) (v864 : IVec S16 32) (v867 : IVec S16 32) (k0_hw434 : k0_chk434 v862 v863 v864 v867), ∀ a x, ((![v862, v863, v864, v867] : Fin 4 → IVec S16 32) a x).toNat < S2x4x32x32.size a := fun v862 v863 v864 v867 k0_hw434 => k0_hw434

def k0_chk435 (v33 : IVec S16 32) (v35 : IVec S16 32) (v862 : IVec S16 32) (v863 : IVec S16 32) (v869 : IVec S16 32) : Prop :=
  (∀ a x, ((![v862, v863, v869, v33] : Fin 4 → IVec S16 32) a x).toNat < S2x4x94x96.size a) ∧
  (∀ a x, ((![v862, v863, v869, v35] : Fin 4 → IVec S16 32) a x).toNat < S2x4x94x96.size a)
theorem k0_idx563_inb : ∀ (v33 : IVec S16 32) (v35 : IVec S16 32) (v862 : IVec S16 32) (v863 : IVec S16 32) (v869 : IVec S16 32) (k0_hw435 : k0_chk435 v33 v35 v862 v863 v869), ∀ a x, ((![v862, v863, v869, v33] : Fin 4 → IVec S16 32) a x).toNat < S2x4x94x96.size a := fun v33 v35 v862 v863 v869 k0_hw435 => k0_hw435.1
theorem k0_idx564_inb : ∀ (v33 : IVec S16 32) (v35 : IVec S16 32) (v862 : IVec S16 32) (v863 : IVec S16 32) (v869 : IVec S16 32) (k0_hw435 : k0_chk435 v33 v35 v862 v863 v869), ∀ a x, ((![v862, v863, v869, v35] : Fin 4 → IVec S16 32) a x).toNat < S2x4x94x96.size a := fun v33 v35 v862 v863 v869 k0_hw435 => k0_hw435.2

def k0_chk436 (v30 : IVec S16 32) (v862 : IVec S16 32) (v863 : IVec S16 32) (v870 : IVec S16 32) : Prop :=
  (∀ a x, ((![v862, v863, v870, v30] : Fin 4 → IVec S16 32) a x).toNat < S2x4x32x32.size a)
theorem k0_idx565_inb : ∀ (v30 : IVec S16 32) (v862 : IVec S16 32) (v863 : IVec S16 32) (v870 : IVec S16 32) (k0_hw436 : k0_chk436 v30 v862 v863 v870), ∀ a x, ((![v862, v863, v870, v30] : Fin 4 → IVec S16 32) a x).toNat < S2x4x32x32.size a := fun v30 v862 v863 v870 k0_hw436 => k0_hw436

def k0_chk437 (v862 : IVec S16 32) (v863 : IVec S16 32) (v870 : IVec S16 32) (v873 : IVec S16 32) : Prop :=
  (∀ a x, ((![v862, v863, v870, v873] : Fin 4 → IVec S16 32) a x).toNat < S2x4x32x32.size a)
theorem k0_idx566_inb : ∀ (v862 : IVec S16 32) (v863 : IVec S16 32) (v870 : IVec S16 32) (v873 : IVec S16 32) (k0_hw437 : k0_chk437 v862 v863 v870 v873), ∀ a x, ((![v862, v863, v870, v873] : Fin 4 → IVec S16 32) a x).toNat < S2x4x32x32.size a := fun v862 v863 v870 v873 k0_hw437 => k0_hw437

def k0_chk438 (v33 : IVec S16 32) (v35 : IVec S16 32) (v862 : IVec S16 32) (v863 : IVec S16 32) (v875 : IVec S16 32) : Prop :=
  (∀ a x, ((![v862, v863, v875, v33] : Fin 4 → IVec S16 32) a x).toNat < S2x4x94x96.size a) ∧
  (∀ a x, ((![v862, v863, v875, v35] : Fin 4 → IVec S16 32) a x).toNat < S2x4x94x96.size a)
theorem k0_idx567_inb : ∀ (v33 : IVec S16 32) (v35 : IVec S16 32) (v862 : IVec S16 32) (v863 : IVec S16 32) (v875 : IVec S16 32) (k0_hw438 : k0_chk438 v33 v35 v862 v863 v875), ∀ a x, ((![v862, v863, v875, v33] : Fin 4 → IVec S16 32) a x).toNat < S2x4x94x96.size a := fun v33 v35 v862 v863 v875 k0_hw438 => k0_hw438.1
theorem k0_idx568_inb : ∀ (v33 : IVec S16 32) (v35 : IVec S16 32) (v862 : IVec S16 32) (v863 : IVec S16 32) (v875 : IVec S16 32) (k0_hw438 : k0_chk438 v33 v35 v862 v863 v875), ∀ a x, ((![v862, v863, v875, v35] : Fin 4 → IVec S16 32) a x).toNat < S2x4x94x96.size a := fun v33 v35 v862 v863 v875 k0_hw438 => k0_hw438.2

def k0_chk439 (v30 : IVec S16 32) (v862 : IVec S16 32) (v863 : IVec S16 32) (v876 : IVec S16 32) : Prop :=
  (∀ a x, ((![v862, v863, v876, v30] : Fin 4 → IVec S16 32) a x).toNat < S2x4x32x32.size a)
theorem k0_idx569_inb : ∀ (v30 : IVec S16 32) (v862 : IVec S16 32) (v863 : IVec S16 32) (v876 : IVec S16 32) (k0_hw439 : k0_chk439 v30 v862 v863 v876), ∀ a x, ((![v862, v863, v876, v30] : Fin 4 → IVec S16 32) a x).toNat < S2x4x32x32.size a := fun v30 v862 v863 v876 k0_hw439 => k0_hw439

def k0_chk440 (v862 : IVec S16 32) (v863 : IVec S16 32) (v876 : IVec S16 32) (v879 : IVec S16 32) : Prop :=
  (∀ a x, ((![v862, v863, v876, v879] : Fin 4 → IVec S16 32) a x).toNat < S2x4x32x32.size a)
theorem k0_idx570_inb : ∀ (v862 : IVec S16 32) (v863 : IVec S16 32) (v876 : IVec S16 32) (v879 : IVec S16 32) (k0_hw440 : k0_chk440 v862 v863 v876 v879), ∀ a x, ((![v862, v863, v876, v879] : Fin 4 → IVec S16 32) a x).toNat < S2x4x32x32.size a := fun v862 v863 v876 v879 k0_hw440 => k0_hw440

def k0_chk441 (v33 : IVec S16 32) (v35 : IVec S16 32) (v862 : IVec S16 32) (v863 : IVec S16 32) (v881 : IVec S16 32) : Prop :=
  (∀ a x, ((![v862, v863, v881, v33] : Fin 4 → IVec S16 32) a x).toNat < S2x4x94x96.size a) ∧
  (∀ a x, ((![v862, v863, v881, v35] : Fin 4 → IVec S16 32) a x).toNat < S2x4x94x96.size a)
theorem k0_idx571_inb : ∀ (v33 : IVec S16 32) (v35 : IVec S16 32) (v862 : IVec S16 32) (v863 : IVec S16 32) (v881 : IVec S16 32) (k0_hw441 : k0_chk441 v33 v35 v862 v863 v881), ∀ a x, ((![v862, v863, v881, v33] : Fin 4 → IVec S16 32) a x).toNat < S2x4x94x96.size a := fun v33 v35 v862 v863 v881 k0_hw441 => k0_hw441.1
theorem k0_idx572_inb : ∀ (v33 : IVec S16 32) (v35 : IVec S16 32) (v862 : IVec S16 32) (v863 : IVec S16 32) (v881 : IVec S16 32) (k0_hw441 : k0_chk441 v33 v35 v862 v863 v881), ∀ a x, ((![v862, v863, v881, v35] : Fin 4 → IVec S16 32) a x).toNat < S2x4x94x96.size a := fun v33 v35 v862 v863 v881 k0_hw441 => k0_hw441.2

def k0_chk442 (v30 : IVec S16 32) (v862 : IVec S16 32) (v863 : IVec S16 32) (v882 : IVec S16 32) : Prop :=
  (∀ a x, ((![v862, v863, v882, v30] : Fin 4 → IVec S16 32) a x).toNat < S2x4x32x32.size a)
theorem k0_idx573_inb : ∀ (v30 : IVec S16 32) (v862 : IVec S16 32) (v863 : IVec S16 32) (v882 : IVec S16 32) (k0_hw442 : k0_chk442 v30 v862 v863 v882), ∀ a x, ((![v862, v863, v882, v30] : Fin 4 → IVec S16 32) a x).toNat < S2x4x32x32.size a := fun v30 v862 v863 v882 k0_hw442 => k0_hw442

def k0_chk443 (v862 : IVec S16 32) (v863 : IVec S16 32) (v882 : IVec S16 32) (v885 : IVec S16 32) : Prop :=
  (∀ a x, ((![v862, v863, v882, v885] : Fin 4 → IVec S16 32) a x).toNat < S2x4x32x32.size a)
theorem k0_idx574_inb : ∀ (v862 : IVec S16 32) (v863 : IVec S16 32) (v882 : IVec S16 32) (v885 : IVec S16 32) (k0_hw443 : k0_chk443 v862 v863 v882 v885), ∀ a x, ((![v862, v863, v882, v885] : Fin 4 → IVec S16 32) a x).toNat < S2x4x32x32.size a := fun v862 v863 v882 v885 k0_hw443 => k0_hw443

def k0_chk444 (v33 : IVec S16 32) (v35 : IVec S16 32) (v862 : IVec S16 32) (v863 : IVec S16 32) (v887 : IVec S16 32) : Prop :=
  (∀ a x, ((![v862, v863, v887, v33] : Fin 4 → IVec S16 32) a x).toNat < S2x4x94x96.size a) ∧
  (∀ a x, ((![v862, v863, v887, v35] : Fin 4 → IVec S16 32) a x).toNat < S2x4x94x96.size a)
theorem k0_idx575_inb : ∀ (v33 : IVec S16 32) (v35 : IVec S16 32) (v862 : IVec S16 32) (v863 : IVec S16 32) (v887 : IVec S16 32) (k0_hw444 : k0_chk444 v33 v35 v862 v863 v887), ∀ a x, ((![v862, v863, v887, v33] : Fin 4 → IVec S16 32) a x).toNat < S2x4x94x96.size a := fun v33 v35 v862 v863 v887 k0_hw444 => k0_hw444.1
theorem k0_idx576_inb : ∀ (v33 : IVec S16 32) (v35 : IVec S16 32) (v862 : IVec S16 32) (v863 : IVec S16 32) (v887 : IVec S16 32) (k0_hw444 : k0_chk444 v33 v35 v862 v863 v887), ∀ a x, ((![v862, v863, v887, v35] : Fin 4 → IVec S16 32) a x).toNat < S2x4x94x96.size a := fun v33 v35 v862 v863 v887 k0_hw444 => k0_hw444.2

def k0_chk445 (v30 : IVec S16 32) (v862 : IVec S16 32) (v863 : IVec S16 32) (v888 : IVec S16 32) : Prop :=
  (∀ a x, ((![v862, v863, v888, v30] : Fin 4 → IVec S16 32) a x).toNat < S2x4x32x32.size a)
theorem k0_idx577_inb : ∀ (v30 : IVec S16 32) (v862 : IVec S16 32) (v863 : IVec S16 32) (v888 : IVec S16 32) (k0_hw445 : k0_chk445 v30 v862 v863 v888), ∀ a x, ((![v862, v863, v888, v30] : Fin 4 → IVec S16 32) a x).toNat < S2x4x32x32.size a := fun v30 v862 v863 v888 k0_hw445 => k0_hw445

def k0_chk446 (v862 : IVec S16 32) (v863 : IVec S16 32) (v888 : IVec S16 32) (v891 : IVec S16 32) : Prop :=
  (∀ a x, ((![v862, v863, v888, v891] : Fin 4 → IVec S16 32) a x).toNat < S2x4x32x32.size a)
theorem k0_idx578_inb : ∀ (v862 : IVec S16 32) (v863 : IVec S16 32) (v888 : IVec S16 32) (v891 : IVec S16 32) (k0_hw446 : k0_chk446 v862 v863 v888 v891), ∀ a x, ((![v862, v863, v888, v891] : Fin 4 → IVec S16 32) a x).toNat < S2x4x32x32.size a := fun v862 v863 v888 v891 k0_hw446 => k0_hw446

def k0_chk447 (v33 : IVec S16 32) (v35 : IVec S16 32) (v862 : IVec S16 32) (v863 : IVec S16 32) (v893 : IVec S16 32) : Prop :=
  (∀ a x, ((![v862, v863, v893, v33] : Fin 4 → IVec S16 32) a x).toNat < S2x4x94x96.size a) ∧
  (∀ a x, ((![v862, v863, v893, v35] : Fin 4 → IVec S16 32) a x).toNat < S2x4x94x96.size a)
theorem k0_idx579_inb : ∀ (v33 : IVec S16 32) (v35 : IVec S16 32) (v862 : IVec S16 32) (v863 : IVec S16 32) (v893 : IVec S16 32) (k0_hw447 : k0_chk447 v33 v35 v862 v863 v893), ∀ a x, ((![v862, v863, v893, v33] : Fin 4 → IVec S16 32) a x).toNat < S2x4x94x96.size a := fun v33 v35 v862 v863 v893 k0_hw447 => k0_hw447.1
theorem k0_idx580_inb : ∀ (v33 : IVec S16 32) (v35 : IVec S16 32) (v862 : IVec S16 32) (v863 : IVec S16 32) (v893 : IVec S16 32) (k0_hw447 : k0_chk447 v33 v35 v862 v863 v893), ∀ a x, ((![v862, v863, v893, v35] : Fin 4 → IVec S16 32) a x).toNat < S2x4x94x96.size a := fun v33 v35 v862 v863 v893 k0_hw447 => k0_hw447.2

def k0_chk448 (v30 : IVec S16 32) (v862 : IVec S16 32) (v863 : IVec S16 32) (v894 : IVec S16 32) : Prop :=
  (∀ a x, ((![v862, v863, v894, v30] : Fin 4 → IVec S16 32) a x).toNat < S2x4x32x32.size a)
theorem k0_idx581_inb : ∀ (v30 : IVec S16 32) (v862 : IVec S16 32) (v863 : IVec S16 32) (v894 : IVec S16 32) (k0_hw448 : k0_chk448 v30 v862 v863 v894), ∀ a x, ((![v862, v863, v894, v30] : Fin 4 → IVec S16 32) a x).toNat < S2x4x32x32.size a := fun v30 v862 v863 v894 k0_hw448 => k0_hw448

def k0_chk449 (v862 : IVec S16 32) (v863 : IVec S16 32) (v894 : IVec S16 32) (v897 : IVec S16 32) : Prop :=
  (∀ a x, ((![v862, v863, v894, v897] : Fin 4 → IVec S16 32) a x).toNat < S2x4x32x32.size a)
theorem k0_idx582_inb : ∀ (v862 : IVec S16 32) (v863 : IVec S16 32) (v894 : IVec S16 32) (v897 : IVec S16 32) (k0_hw449 : k0_chk449 v862 v863 v894 v897), ∀ a x, ((![v862, v863, v894, v897] : Fin 4 → IVec S16 32) a x).toNat < S2x4x32x32.size a := fun v862 v863 v894 v897 k0_hw449 => k0_hw449

def k0_chk450 (v33 : IVec S16 32) (v35 : IVec S16 32) (v862 : IVec S16 32) (v863 : IVec S16 32) (v899 : IVec S16 32) : Prop :=
  (∀ a x, ((![v862, v863, v899, v33] : Fin 4 → IVec S16 32) a x).toNat < S2x4x94x96.size a) ∧
  (∀ a x, ((![v862, v863, v899, v35] : Fin 4 → IVec S16 32) a x).toNat < S2x4x94x96.size a)
theorem k0_idx583_inb : ∀ (v33 : IVec S16 32) (v35 : IVec S16 32) (v862 : IVec S16 32) (v863 : IVec S16 32) (v899 : IVec S16 32) (k0_hw450 : k0_chk450 v33 v35 v862 v863 v899), ∀ a x, ((![v862, v863, v899, v33] : Fin 4 → IVec S16 32) a x).toNat < S2x4x94x96.size a := fun v33 v35 v862 v863 v899 k0_hw450 => k0_hw450.1
theorem k0_idx584_inb : ∀ (v33 : IVec S16 32) (v35 : IVec S16 32) (v862 : IVec S16 32) (v863 : IVec S16 32) (v899 : IVec S16 32) (k0_hw450 : k0_chk450 v33 v35 v862 v863 v899), ∀ a x, ((![v862, v863, v899, v35] : Fin 4 → IVec S16 32) a x).toNat < S2x4x94x96.size a := fun v33 v35 v862 v863 v899 k0_hw450 => k0_hw450.2

def k0_chk451 (v30 : IVec S16 32) (v862 : IVec S16 32) (v863 : IVec S16 32) (v900 : IVec S16 32) : Prop :=
  (∀ a x, ((![v862, v863, v900, v30] : Fin 4 → IVec S16 32) a x).toNat < S2x4x32x32.size a)
theorem k0_idx585_inb : ∀ (v30 : IVec S16 32) (v862 : IVec S16 32) (v863 : IVec S16 32) (v900 : IVec S16 32) (k0_hw451 : k0_chk451 v30 v862 v863 v900), ∀ a x, ((![v862, v863, v900, v30] : Fin 4 → IVec S16 32) a x).toNat < S2x4x32x32.size a := fun v30 v862 v863 v900 k0_hw451 => k0_hw451

def k0_chk452 (v862 : IVec S16 32) (v863 : IVec S16 32) (v900 : IVec S16 32) (v903 : IVec S16 32) : Prop :=
  (∀ a x, ((![v862, v863, v900, v903] : Fin 4 → IVec S16 32) a x).toNat < S2x4x32x32.size a)
theorem k0_idx586_inb : ∀ (v862 : IVec S16 32) (v863 : IVec S16 32) (v900 : IVec S16 32) (v903 : IVec S16 32) (k0_hw452 : k0_chk452 v862 v863 v900 v903), ∀ a x, ((![v862, v863, v900, v903] : Fin 4 → IVec S16 32) a x).toNat < S2x4x32x32.size a := fun v862 v863 v900 v903 k0_hw452 => k0_hw452

def k0_chk453 (v33 : IVec S16 32) (v35 : IVec S16 32) (v862 : IVec S16 32) (v863 : IVec S16 32) (v905 : IVec S16 32) : Prop :=
  (∀ a x, ((![v862, v863, v905, v33] : Fin 4 → IVec S16 32) a x).toNat < S2x4x94x96.size a) ∧
  (∀ a x, ((![v862, v863, v905, v35] : Fin 4 → IVec S16 32) a x).toNat < S2x4x94x96.size a)
theorem k0_idx587_inb : ∀ (v33 : IVec S16 32) (v35 : IVec S16 32) (v862 : IVec S16 32) (v863 : IVec S16 32) (v905 : IVec S16 32) (k0_hw453 : k0_chk453 v33 v35 v862 v863 v905), ∀ a x, ((![v862, v863, v905, v33] : Fin 4 → IVec S16 32) a x).toNat < S2x4x94x96.size a := fun v33 v35 v862 v863 v905 k0_hw453 => k0_hw453.1
theorem k0_idx588_inb : ∀ (v33 : IVec S16 32) (v35 : IVec S16 32) (v862 : IVec S16 32) (v863 : IVec S16 32) (v905 : IVec S16 32) (k0_hw453 : k0_chk453 v33 v35 v862 v863 v905), ∀ a x, ((![v862, v863, v905, v35] : Fin 4 → IVec S16 32) a x).toNat < S2x4x94x96.size a := fun v33 v35 v862 v863 v905 k0_hw453 => k0_hw453.2

def k0_chk454 (v30 : IVec S16 32) (v862 : IVec S16 32) (v863 : IVec S16 32) (v906 : IVec S16 32) : Prop :=
  (∀ a x, ((![v862, v863, v906, v30] : Fin 4 → IVec S16 32) a x).toNat < S2x4x32x32.size a)
theorem k0_idx589_inb : ∀ (v30 : IVec S16 32) (v862 : IVec S16 32) (v863 : IVec S16 32) (v906 : IVec S16 32) (k0_hw454 : k0_chk454 v30 v862 v863 v906), ∀ a x, ((![v862, v863, v906, v30] : Fin 4 → IVec S16 32) a x).toNat < S2x4x32x32.size a := fun v30 v862 v863 v906 k0_hw454 => k0_hw454

def k0_chk455 (v862 : IVec S16 32) (v863 : IVec S16 32) (v906 : IVec S16 32) (v909 : IVec S16 32) : Prop :=
  (∀ a x, ((![v862, v863, v906, v909] : Fin 4 → IVec S16 32) a x).toNat < S2x4x32x32.size a)
theorem k0_idx590_inb : ∀ (v862 : IVec S16 32) (v863 : IVec S16 32) (v906 : IVec S16 32) (v909 : IVec S16 32) (k0_hw455 : k0_chk455 v862 v863 v906 v909), ∀ a x, ((![v862, v863, v906, v909] : Fin 4 → IVec S16 32) a x).toNat < S2x4x32x32.size a := fun v862 v863 v906 v909 k0_hw455 => k0_hw455

def k0_chk456 (v33 : IVec S16 32) (v35 : IVec S16 32) (v862 : IVec S16 32) (v863 : IVec S16 32) (v911 : IVec S16 32) : Prop :=
  (∀ a x, ((![v862, v863, v911, v33] : Fin 4 → IVec S16 32) a x).toNat < S2x4x94x96.size a) ∧
  (∀ a x, ((![v862, v863, v911, v35] : Fin 4 → IVec S16 32) a x).toNat < S2x4x94x96.size a)
theorem k0_idx591_inb : ∀ (v33 : IVec S16 32) (v35 : IVec S16 32) (v862 : IVec S16 32) (v863 : IVec S16 32) (v911 : IVec S16 32) (k0_hw456 : k0_chk456 v33 v35 v862 v863 v911), ∀ a x, ((![v862, v863, v911, v33] : Fin 4 → IVec S16 32) a x).toNat < S2x4x94x96.size a := fun v33 v35 v862 v863 v911 k0_hw456 => k0_hw456.1
theorem k0_idx592_inb : ∀ (v33 : IVec S16 32) (v35 : IVec S16 32) (v862 : IVec S16 32) (v863 : IVec S16 32) (v911 : IVec S16 32) (k0_hw456 : k0_chk456 v33 v35 v862 v863 v911), ∀ a x, ((![v862, v863, v911, v35] : Fin 4 → IVec S16 32) a x).toNat < S2x4x94x96.size a := fun v33 v35 v862 v863 v911 k0_hw456 => k0_hw456.2

def k0_chk457 (v30 : IVec S16 32) (v862 : IVec S16 32) (v863 : IVec S16 32) (v912 : IVec S16 32) : Prop :=
  (∀ a x, ((![v862, v863, v912, v30] : Fin 4 → IVec S16 32) a x).toNat < S2x4x32x32.size a)
theorem k0_idx593_inb : ∀ (v30 : IVec S16 32) (v862 : IVec S16 32) (v863 : IVec S16 32) (v912 : IVec S16 32) (k0_hw457 : k0_chk457 v30 v862 v863 v912), ∀ a x, ((![v862, v863, v912, v30] : Fin 4 → IVec S16 32) a x).toNat < S2x4x32x32.size a := fun v30 v862 v863 v912 k0_hw457 => k0_hw457

def k0_chk458 (v862 : IVec S16 32) (v863 : IVec S16 32) (v912 : IVec S16 32) (v915 : IVec S16 32) : Prop :=
  (∀ a x, ((![v862, v863, v912, v915] : Fin 4 → IVec S16 32) a x).toNat < S2x4x32x32.size a)
theorem k0_idx594_inb : ∀ (v862 : IVec S16 32) (v863 : IVec S16 32) (v912 : IVec S16 32) (v915 : IVec S16 32) (k0_hw458 : k0_chk458 v862 v863 v912 v915), ∀ a x, ((![v862, v863, v912, v915] : Fin 4 → IVec S16 32) a x).toNat < S2x4x32x32.size a := fun v862 v863 v912 v915 k0_hw458 => k0_hw458

def k0_chk459 (v33 : IVec S16 32) (v35 : IVec S16 32) (v862 : IVec S16 32) (v863 : IVec S16 32) (v917 : IVec S16 32) : Prop :=
  (∀ a x, ((![v862, v863, v917, v33] : Fin 4 → IVec S16 32) a x).toNat < S2x4x94x96.size a) ∧
  (∀ a x, ((![v862, v863, v917, v35] : Fin 4 → IVec S16 32) a x).toNat < S2x4x94x96.size a)
theorem k0_idx595_inb : ∀ (v33 : IVec S16 32) (v35 : IVec S16 32) (v862 : IVec S16 32) (v863 : IVec S16 32) (v917 : IVec S16 32) (k0_hw459 : k0_chk459 v33 v35 v862 v863 v917), ∀ a x, ((![v862, v863, v917, v33] : Fin 4 → IVec S16 32) a x).toNat < S2x4x94x96.size a := fun v33 v35 v862 v863 v917 k0_hw459 => k0_hw459.1
theorem k0_idx596_inb : ∀ (v33 : IVec S16 32) (v35 : IVec S16 32) (v862 : IVec S16 32) (v863 : IVec S16 32) (v917 : IVec S16 32) (k0_hw459 : k0_chk459 v33 v35 v862 v863 v917), ∀ a x, ((![v862, v863, v917, v35] : Fin 4 → IVec S16 32) a x).toNat < S2x4x94x96.size a := fun v33 v35 v862 v863 v917 k0_hw459 => k0_hw459.2

def k0_chk460 (v30 : IVec S16 32) (v862 : IVec S16 32) (v863 : IVec S16 32) (v918 : IVec S16 32) : Prop :=
  (∀ a x, ((![v862, v863, v918, v30] : Fin 4 → IVec S16 32) a x).toNat < S2x4x32x32.size a)
theorem k0_idx597_inb : ∀ (v30 : IVec S16 32) (v862 : IVec S16 32) (v863 : IVec S16 32) (v918 : IVec S16 32) (k0_hw460 : k0_chk460 v30 v862 v863 v918), ∀ a x, ((![v862, v863, v918, v30] : Fin 4 → IVec S16 32) a x).toNat < S2x4x32x32.size a := fun v30 v862 v863 v918 k0_hw460 => k0_hw460

def k0_chk461 (v862 : IVec S16 32) (v863 : IVec S16 32) (v918 : IVec S16 32) (v921 : IVec S16 32) : Prop :=
  (∀ a x, ((![v862, v863, v918, v921] : Fin 4 → IVec S16 32) a x).toNat < S2x4x32x32.size a)
theorem k0_idx598_inb : ∀ (v862 : IVec S16 32) (v863 : IVec S16 32) (v918 : IVec S16 32) (v921 : IVec S16 32) (k0_hw461 : k0_chk461 v862 v863 v918 v921), ∀ a x, ((![v862, v863, v918, v921] : Fin 4 → IVec S16 32) a x).toNat < S2x4x32x32.size a := fun v862 v863 v918 v921 k0_hw461 => k0_hw461

def k0_chk462 (v33 : IVec S16 32) (v35 : IVec S16 32) (v862 : IVec S16 32) (v863 : IVec S16 32) (v923 : IVec S16 32) : Prop :=
  (∀ a x, ((![v862, v863, v923, v33] : Fin 4 → IVec S16 32) a x).toNat < S2x4x94x96.size a) ∧
  (∀ a x, ((![v862, v863, v923, v35] : Fin 4 → IVec S16 32) a x).toNat < S2x4x94x96.size a)
theorem k0_idx599_inb : ∀ (v33 : IVec S16 32) (v35 : IVec S16 32) (v862 : IVec S16 32) (v863 : IVec S16 32) (v923 : IVec S16 32) (k0_hw462 : k0_chk462 v33 v35 v862 v863 v923), ∀ a x, ((![v862, v863, v923, v33] : Fin 4 → IVec S16 32) a x).toNat < S2x4x94x96.size a := fun v33 v35 v862 v863 v923 k0_hw462 => k0_hw462.1
theorem k0_idx600_inb : ∀ (v33 : IVec S16 32) (v35 : IVec S16 32) (v862 : IVec S16 32) (v863 : IVec S16 32) (v923 : IVec S16 32) (k0_hw462 : k0_chk462 v33 v35 v862 v863 v923), ∀ a x, ((![v862, v863, v923, v35] : Fin 4 → IVec S16 32) a x).toNat < S2x4x94x96.size a := fun v33 v35 v862 v863 v923 k0_hw462 => k0_hw462.2

def k0_chk463 (v30 : IVec S16 32) (v862 : IVec S16 32) (v863 : IVec S16 32) (v924 : IVec S16 32) : Prop :=
  (∀ a x, ((![v862, v863, v924, v30] : Fin 4 → IVec S16 32) a x).toNat < S2x4x32x32.size a)
theorem k0_idx601_inb : ∀ (v30 : IVec S16 32) (v862 : IVec S16 32) (v863 : IVec S16 32) (v924 : IVec S16 32) (k0_hw463 : k0_chk463 v30 v862 v863 v924), ∀ a x, ((![v862, v863, v924, v30] : Fin 4 → IVec S16 32) a x).toNat < S2x4x32x32.size a := fun v30 v862 v863 v924 k0_hw463 => k0_hw463

def k0_chk464 (v862 : IVec S16 32) (v863 : IVec S16 32) (v924 : IVec S16 32) (v927 : IVec S16 32) : Prop :=
  (∀ a x, ((![v862, v863, v924, v927] : Fin 4 → IVec S16 32) a x).toNat < S2x4x32x32.size a)
theorem k0_idx602_inb : ∀ (v862 : IVec S16 32) (v863 : IVec S16 32) (v924 : IVec S16 32) (v927 : IVec S16 32) (k0_hw464 : k0_chk464 v862 v863 v924 v927), ∀ a x, ((![v862, v863, v924, v927] : Fin 4 → IVec S16 32) a x).toNat < S2x4x32x32.size a := fun v862 v863 v924 v927 k0_hw464 => k0_hw464

def k0_chk465 (v33 : IVec S16 32) (v35 : IVec S16 32) (v862 : IVec S16 32) (v863 : IVec S16 32) (v929 : IVec S16 32) : Prop :=
  (∀ a x, ((![v862, v863, v929, v33] : Fin 4 → IVec S16 32) a x).toNat < S2x4x94x96.size a) ∧
  (∀ a x, ((![v862, v863, v929, v35] : Fin 4 → IVec S16 32) a x).toNat < S2x4x94x96.size a)
theorem k0_idx603_inb : ∀ (v33 : IVec S16 32) (v35 : IVec S16 32) (v862 : IVec S16 32) (v863 : IVec S16 32) (v929 : IVec S16 32) (k0_hw465 : k0_chk465 v33 v35 v862 v863 v929), ∀ a x, ((![v862, v863, v929, v33] : Fin 4 → IVec S16 32) a x).toNat < S2x4x94x96.size a := fun v33 v35 v862 v863 v929 k0_hw465 => k0_hw465.1
theorem k0_idx604_inb : ∀ (v33 : IVec S16 32) (v35 : IVec S16 32) (v862 : IVec S16 32) (v863 : IVec S16 32) (v929 : IVec S16 32) (k0_hw465 : k0_chk465 v33 v35 v862 v863 v929), ∀ a x, ((![v862, v863, v929, v35] : Fin 4 → IVec S16 32) a x).toNat < S2x4x94x96.size a := fun v33 v35 v862 v863 v929 k0_hw465 => k0_hw465.2

def k0_chk466 (v30 : IVec S16 32) (v862 : IVec S16 32) (v863 : IVec S16 32) (v930 : IVec S16 32) : Prop :=
  (∀ a x, ((![v862, v863, v930, v30] : Fin 4 → IVec S16 32) a x).toNat < S2x4x32x32.size a)
theorem k0_idx605_inb : ∀ (v30 : IVec S16 32) (v862 : IVec S16 32) (v863 : IVec S16 32) (v930 : IVec S16 32) (k0_hw466 : k0_chk466 v30 v862 v863 v930), ∀ a x, ((![v862, v863, v930, v30] : Fin 4 → IVec S16 32) a x).toNat < S2x4x32x32.size a := fun v30 v862 v863 v930 k0_hw466 => k0_hw466

def k0_chk467 (v862 : IVec S16 32) (v863 : IVec S16 32) (v930 : IVec S16 32) (v933 : IVec S16 32) : Prop :=
  (∀ a x, ((![v862, v863, v930, v933] : Fin 4 → IVec S16 32) a x).toNat < S2x4x32x32.size a)
theorem k0_idx606_inb : ∀ (v862 : IVec S16 32) (v863 : IVec S16 32) (v930 : IVec S16 32) (v933 : IVec S16 32) (k0_hw467 : k0_chk467 v862 v863 v930 v933), ∀ a x, ((![v862, v863, v930, v933] : Fin 4 → IVec S16 32) a x).toNat < S2x4x32x32.size a := fun v862 v863 v930 v933 k0_hw467 => k0_hw467

def k0_chk468 (v33 : IVec S16 32) (v35 : IVec S16 32) (v862 : IVec S16 32) (v863 : IVec S16 32) (v935 : IVec S16 32) : Prop :=
  (∀ a x, ((![v862, v863, v935, v33] : Fin 4 → IVec S16 32) a x).toNat < S2x4x94x96.size a) ∧
  (∀ a x, ((![v862, v863, v935, v35] : Fin 4 → IVec S16 32) a x).toNat < S2x4x94x96.size a)
theorem k0_idx607_inb : ∀ (v33 : IVec S16 32) (v35 : IVec S16 32) (v862 : IVec S16 32) (v863 : IVec S16 32) (v935 : IVec S16 32) (k0_hw468 : k0_chk468 v33 v35 v862 v863 v935), ∀ a x, ((![v862, v863, v935, v33] : Fin 4 → IVec S16 32) a x).toNat < S2x4x94x96.size a := fun v33 v35 v862 v863 v935 k0_hw468 => k0_hw468.1
theorem k0_idx608_inb : ∀ (v33 : IVec S16 32) (v35 : IVec S16 32) (v862 : IVec S16 32) (v863 : IVec S16 32) (v935 : IVec S16 32) (k0_hw468 : k0_chk468 v33 v35 v862 v863 v935), ∀ a x, ((![v862, v863, v935, v35] : Fin 4 → IVec S16 32) a x).toNat < S2x4x94x96.size a := fun v33 v35 v862 v863 v935 k0_hw468 => k0_hw468.2

def k0_chk469 (v30 : IVec S16 32) (v862 : IVec S16 32) (v863 : IVec S16 32) (v936 : IVec S16 32) : Prop :=
  (∀ a x, ((![v862, v863, v936, v30] : Fin 4 → IVec S16 32) a x).toNat < S2x4x32x32.size a)
theorem k0_idx609_inb : ∀ (v30 : IVec S16 32) (v862 : IVec S16 32) (v863 : IVec S16 32) (v936 : IVec S16 32) (k0_hw469 : k0_chk469 v30 v862 v863 v936), ∀ a x, ((![v862, v863, v936, v30] : Fin 4 → IVec S16 32) a x).toNat < S2x4x32x32.size a := fun v30 v862 v863 v936 k0_hw469 => k0_hw469

def k0_chk470 (v862 : IVec S16 32) (v863 : IVec S16 32) (v936 : IVec S16 32) (v939 : IVec S16 32) : Prop :=
  (∀ a x, ((![v862, v863, v936, v939] : Fin 4 → IVec S16 32) a x).toNat < S2x4x32x32.size a)
theorem k0_idx610_inb : ∀ (v862 : IVec S16 32) (v863 : IVec S16 32) (v936 : IVec S16 32) (v939 : IVec S16 32) (k0_hw470 : k0_chk470 v862 v863 v936 v939), ∀ a x, ((![v862, v863, v936, v939] : Fin 4 → IVec S16 32) a x).toNat < S2x4x32x32.size a := fun v862 v863 v936 v939 k0_hw470 => k0_hw470

def k0_chk471 (v33 : IVec S16 32) (v35 : IVec S16 32) (v862 : IVec S16 32) (v863 : IVec S16 32) (v941 : IVec S16 32) : Prop :=
  (∀ a x, ((![v862, v863, v941, v33] : Fin 4 → IVec S16 32) a x).toNat < S2x4x94x96.size a) ∧
  (∀ a x, ((![v862, v863, v941, v35] : Fin 4 → IVec S16 32) a x).toNat < S2x4x94x96.size a)
theorem k0_idx611_inb : ∀ (v33 : IVec S16 32) (v35 : IVec S16 32) (v862 : IVec S16 32) (v863 : IVec S16 32) (v941 : IVec S16 32) (k0_hw471 : k0_chk471 v33 v35 v862 v863 v941), ∀ a x, ((![v862, v863, v941, v33] : Fin 4 → IVec S16 32) a x).toNat < S2x4x94x96.size a := fun v33 v35 v862 v863 v941 k0_hw471 => k0_hw471.1
theorem k0_idx612_inb : ∀ (v33 : IVec S16 32) (v35 : IVec S16 32) (v862 : IVec S16 32) (v863 : IVec S16 32) (v941 : IVec S16 32) (k0_hw471 : k0_chk471 v33 v35 v862 v863 v941), ∀ a x, ((![v862, v863, v941, v35] : Fin 4 → IVec S16 32) a x).toNat < S2x4x94x96.size a := fun v33 v35 v862 v863 v941 k0_hw471 => k0_hw471.2

def k0_chk472 (v30 : IVec S16 32) (v862 : IVec S16 32) (v863 : IVec S16 32) (v942 : IVec S16 32) : Prop :=
  (∀ a x, ((![v862, v863, v942, v30] : Fin 4 → IVec S16 32) a x).toNat < S2x4x32x32.size a)
theorem k0_idx613_inb : ∀ (v30 : IVec S16 32) (v862 : IVec S16 32) (v863 : IVec S16 32) (v942 : IVec S16 32) (k0_hw472 : k0_chk472 v30 v862 v863 v942), ∀ a x, ((![v862, v863, v942, v30] : Fin 4 → IVec S16 32) a x).toNat < S2x4x32x32.size a := fun v30 v862 v863 v942 k0_hw472 => k0_hw472

def k0_chk473 (v862 : IVec S16 32) (v863 : IVec S16 32) (v942 : IVec S16 32) (v945 : IVec S16 32) : Prop :=
  (∀ a x, ((![v862, v863, v942, v945] : Fin 4 → IVec S16 32) a x).toNat < S2x4x32x32.size a)
theorem k0_idx614_inb : ∀ (v862 : IVec S16 32) (v863 : IVec S16 32) (v942 : IVec S16 32) (v945 : IVec S16 32) (k0_hw473 : k0_chk473 v862 v863 v942 v945), ∀ a x, ((![v862, v863, v942, v945] : Fin 4 → IVec S16 32) a x).toNat < S2x4x32x32.size a := fun v862 v863 v942 v945 k0_hw473 => k0_hw473

def k0_chk474 (v33 : IVec S16 32) (v35 : IVec S16 32) (v862 : IVec S16 32) (v863 : IVec S16 32) (v947 : IVec S16 32) : Prop :=
  (∀ a x, ((![v862, v863, v947, v33] : Fin 4 → IVec S16 32) a x).toNat < S2x4x94x96.size a) ∧
  (∀ a x, ((![v862, v863, v947, v35] : Fin 4 → IVec S16 32) a x).toNat < S2x4x94x96.size a)
theorem k0_idx615_inb : ∀ (v33 : IVec S16 32) (v35 : IVec S16 32) (v862 : IVec S16 32) (v863 : IVec S16 32) (v947 : IVec S16 32) (k0_hw474 : k0_chk474 v33 v35 v862 v863 v947), ∀ a x, ((![v862, v863, v947, v33] : Fin 4 → IVec S16 32) a x).toNat < S2x4x94x96.size a := fun v33 v35 v862 v863 v947 k0_hw474 => k0_hw474.1
theorem k0_idx616_inb : ∀ (v33 : IVec S16 32) (v35 : IVec S16 32) (v862 : IVec S16 32) (v863 : IVec S16 32) (v947 : IVec S16 32) (k0_hw474 : k0_chk474 v33 v35 v862 v863 v947), ∀ a x, ((![v862, v863, v947, v35] : Fin 4 → IVec S16 32) a x).toNat < S2x4x94x96.size a := fun v33 v35 v862 v863 v947 k0_hw474 => k0_hw474.2

def k0_chk475 (v30 : IVec S16 32) (v862 : IVec S16 32) (v863 : IVec S16 32) (v948 : IVec S16 32) : Prop :=
  (∀ a x, ((![v862, v863, v948, v30] : Fin 4 → IVec S16 32) a x).toNat < S2x4x32x32.size a)
theorem k0_idx617_inb : ∀ (v30 : IVec S16 32) (v862 : IVec S16 32) (v863 : IVec S16 32) (v948 : IVec S16 32) (k0_hw475 : k0_chk475 v30 v862 v863 v948), ∀ a x, ((![v862, v863, v948, v30] : Fin 4 → IVec S16 32) a x).toNat < S2x4x32x32.size a := fun v30 v862 v863 v948 k0_hw475 => k0_hw475

def k0_chk476 (v862 : IVec S16 32) (v863 : IVec S16 32) (v948 : IVec S16 32) (v951 : IVec S16 32) : Prop :=
  (∀ a x, ((![v862, v863, v948, v951] : Fin 4 → IVec S16 32) a x).toNat < S2x4x32x32.size a)
theorem k0_idx618_inb : ∀ (v862 : IVec S16 32) (v863 : IVec S16 32) (v948 : IVec S16 32) (v951 : IVec S16 32) (k0_hw476 : k0_chk476 v862 v863 v948 v951), ∀ a x, ((![v862, v863, v948, v951] : Fin 4 → IVec S16 32) a x).toNat < S2x4x32x32.size a := fun v862 v863 v948 v951 k0_hw476 => k0_hw476

def k0_chk477 (v33 : IVec S16 32) (v35 : IVec S16 32) (v862 : IVec S16 32) (v863 : IVec S16 32) (v953 : IVec S16 32) : Prop :=
  (∀ a x, ((![v862, v863, v953, v33] : Fin 4 → IVec S16 32) a x).toNat < S2x4x94x96.size a) ∧
  (∀ a x, ((![v862, v863, v953, v35] : Fin 4 → IVec S16 32) a x).toNat < S2x4x94x96.size a)
theorem k0_idx619_inb : ∀ (v33 : IVec S16 32) (v35 : IVec S16 32) (v862 : IVec S16 32) (v863 : IVec S16 32) (v953 : IVec S16 32) (k0_hw477 : k0_chk477 v33 v35 v862 v863 v953), ∀ a x, ((![v862, v863, v953, v33] : Fin 4 → IVec S16 32) a x).toNat < S2x4x94x96.size a := fun v33 v35 v862 v863 v953 k0_hw477 => k0_hw477.1
theorem k0_idx620_inb : ∀ (v33 : IVec S16 32) (v35 : IVec S16 32) (v862 : IVec S16 32) (v863 : IVec S16 32) (v953 : IVec S16 32) (k0_hw477 : k0_chk477 v33 v35 v862 v863 v953), ∀ a x, ((![v862, v863, v953, v35] : Fin 4 → IVec S16 32) a x).toNat < S2x4x94x96.size a := fun v33 v35 v862 v863 v953 k0_hw477 => k0_hw477.2

def k0_chk478 (v30 : IVec S16 32) (v862 : IVec S16 32) (v863 : IVec S16 32) (v954 : IVec S16 32) : Prop :=
  (∀ a x, ((![v862, v863, v954, v30] : Fin 4 → IVec S16 32) a x).toNat < S2x4x32x32.size a)
theorem k0_idx621_inb : ∀ (v30 : IVec S16 32) (v862 : IVec S16 32) (v863 : IVec S16 32) (v954 : IVec S16 32) (k0_hw478 : k0_chk478 v30 v862 v863 v954), ∀ a x, ((![v862, v863, v954, v30] : Fin 4 → IVec S16 32) a x).toNat < S2x4x32x32.size a := fun v30 v862 v863 v954 k0_hw478 => k0_hw478

def k0_chk479 (v862 : IVec S16 32) (v863 : IVec S16 32) (v954 : IVec S16 32) (v957 : IVec S16 32) : Prop :=
  (∀ a x, ((![v862, v863, v954, v957] : Fin 4 → IVec S16 32) a x).toNat < S2x4x32x32.size a)
theorem k0_idx622_inb : ∀ (v862 : IVec S16 32) (v863 : IVec S16 32) (v954 : IVec S16 32) (v957 : IVec S16 32) (k0_hw479 : k0_chk479 v862 v863 v954 v957), ∀ a x, ((![v862, v863, v954, v957] : Fin 4 → IVec S16 32) a x).toNat < S2x4x32x32.size a := fun v862 v863 v954 v957 k0_hw479 => k0_hw479

def k0_chk480 (v33 : IVec S16 32) (v35 : IVec S16 32) (v862 : IVec S16 32) (v863 : IVec S16 32) (v959 : IVec S16 32) : Prop :=
  (∀ a x, ((![v862, v863, v959, v33] : Fin 4 → IVec S16 32) a x).toNat < S2x4x94x96.size a) ∧
  (∀ a x, ((![v862, v863, v959, v35] : Fin 4 → IVec S16 32) a x).toNat < S2x4x94x96.size a)
theorem k0_idx623_inb : ∀ (v33 : IVec S16 32) (v35 : IVec S16 32) (v862 : IVec S16 32) (v863 : IVec S16 32) (v959 : IVec S16 32) (k0_hw480 : k0_chk480 v33 v35 v862 v863 v959), ∀ a x, ((![v862, v863, v959, v33] : Fin 4 → IVec S16 32) a x).toNat < S2x4x94x96.size a := fun v33 v35 v862 v863 v959 k0_hw480 => k0_hw480.1
theorem k0_idx624_inb : ∀ (v33 : IVec S16 32) (v35 : IVec S16 32) (v862 : IVec S16 32) (v863 : IVec S16 32) (v959 : IVec S16 32) (k0_hw480 : k0_chk480 v33 v35 v862 v863 v959), ∀ a x, ((![v862, v863, v959, v35] : Fin 4 → IVec S16 32) a x).toNat < S2x4x94x96.size a := fun v33 v35 v862 v863 v959 k0_hw480 => k0_hw480.2

def k0_chk481 (v30 : IVec S16 32) (v862 : IVec S16 32) (v863 : IVec S16 32) (v960 : IVec S16 32) : Prop :=
  (∀ a x, ((![v862, v863, v960, v30] : Fin 4 → IVec S16 32) a x).toNat < S2x4x32x32.size a)
theorem k0_idx625_inb : ∀ (v30 : IVec S16 32) (v862 : IVec S16 32) (v863 : IVec S16 32) (v960 : IVec S16 32) (k0_hw481 : k0_chk481 v30 v862 v863 v960), ∀ a x, ((![v862, v863, v960, v30] : Fin 4 → IVec S16 32) a x).toNat < S2x4x32x32.size a := fun v30 v862 v863 v960 k0_hw481 => k0_hw481

def k0_chk482 (v862 : IVec S16 32) (v863 : IVec S16 32) (v960 : IVec S16 32) (v963 : IVec S16 32) : Prop :=
  (∀ a x, ((![v862, v863, v960, v963] : Fin 4 → IVec S16 32) a x).toNat < S2x4x32x32.size a)
theorem k0_idx626_inb : ∀ (v862 : IVec S16 32) (v863 : IVec S16 32) (v960 : IVec S16 32) (v963 : IVec S16 32) (k0_hw482 : k0_chk482 v862 v863 v960 v963), ∀ a x, ((![v862, v863, v960, v963] : Fin 4 → IVec S16 32) a x).toNat < S2x4x32x32.size a := fun v862 v863 v960 v963 k0_hw482 => k0_hw482

def k0_chk483 (v33 : IVec S16 32) (v35 : IVec S16 32) (v862 : IVec S16 32) (v863 : IVec S16 32) (v965 : IVec S16 32) : Prop :=
  (∀ a x, ((![v862, v863, v965, v33] : Fin 4 → IVec S16 32) a x).toNat < S2x4x94x96.size a) ∧
  (∀ a x, ((![v862, v863, v965, v35] : Fin 4 → IVec S16 32) a x).toNat < S2x4x94x96.size a)
theorem k0_idx627_inb : ∀ (v33 : IVec S16 32) (v35 : IVec S16 32) (v862 : IVec S16 32) (v863 : IVec S16 32) (v965 : IVec S16 32) (k0_hw483 : k0_chk483 v33 v35 v862 v863 v965), ∀ a x, ((![v862, v863, v965, v33] : Fin 4 → IVec S16 32) a x).toNat < S2x4x94x96.size a := fun v33 v35 v862 v863 v965 k0_hw483 => k0_hw483.1
theorem k0_idx628_inb : ∀ (v33 : IVec S16 32) (v35 : IVec S16 32) (v862 : IVec S16 32) (v863 : IVec S16 32) (v965 : IVec S16 32) (k0_hw483 : k0_chk483 v33 v35 v862 v863 v965), ∀ a x, ((![v862, v863, v965, v35] : Fin 4 → IVec S16 32) a x).toNat < S2x4x94x96.size a := fun v33 v35 v862 v863 v965 k0_hw483 => k0_hw483.2

def k0_chk484 (v30 : IVec S16 32) (v862 : IVec S16 32) (v863 : IVec S16 32) (v966 : IVec S16 32) : Prop :=
  (∀ a x, ((![v862, v863, v966, v30] : Fin 4 → IVec S16 32) a x).toNat < S2x4x32x32.size a)
theorem k0_idx629_inb : ∀ (v30 : IVec S16 32) (v862 : IVec S16 32) (v863 : IVec S16 32) (v966 : IVec S16 32) (k0_hw484 : k0_chk484 v30 v862 v863 v966), ∀ a x, ((![v862, v863, v966, v30] : Fin 4 → IVec S16 32) a x).toNat < S2x4x32x32.size a := fun v30 v862 v863 v966 k0_hw484 => k0_hw484

def k0_chk485 (v862 : IVec S16 32) (v863 : IVec S16 32) (v966 : IVec S16 32) (v969 : IVec S16 32) : Prop :=
  (∀ a x, ((![v862, v863, v966, v969] : Fin 4 → IVec S16 32) a x).toNat < S2x4x32x32.size a)
theorem k0_idx630_inb : ∀ (v862 : IVec S16 32) (v863 : IVec S16 32) (v966 : IVec S16 32) (v969 : IVec S16 32) (k0_hw485 : k0_chk485 v862 v863 v966 v969), ∀ a x, ((![v862, v863, v966, v969] : Fin 4 → IVec S16 32) a x).toNat < S2x4x32x32.size a := fun v862 v863 v966 v969 k0_hw485 => k0_hw485

def k0_chk486 (v33 : IVec S16 32) (v35 : IVec S16 32) (v862 : IVec S16 32) (v863 : IVec S16 32) (v971 : IVec S16 32) : Prop :=
  (∀ a x, ((![v862, v863, v971, v33] : Fin 4 → IVec S16 32) a x).toNat < S2x4x94x96.size a) ∧
  (∀ a x, ((![v862, v863, v971, v35] : Fin 4 → IVec S16 32) a x).toNat < S2x4x94x96.size a)
theorem k0_idx631_inb : ∀ (v33 : IVec S16 32) (v35 : IVec S16 32) (v862 : IVec S16 32) (v863 : IVec S16 32) (v971 : IVec S16 32) (k0_hw486 : k0_chk486 v33 v35 v862 v863 v971), ∀ a x, ((![v862, v863, v971, v33] : Fin 4 → IVec S16 32) a x).toNat < S2x4x94x96.size a := fun v33 v35 v862 v863 v971 k0_hw486 => k0_hw486.1
theorem k0_idx632_inb : ∀ (v33 : IVec S16 32) (v35 : IVec S16 32) (v862 : IVec S16 32) (v863 : IVec S16 32) (v971 : IVec S16 32) (k0_hw486 : k0_chk486 v33 v35 v862 v863 v971), ∀ a x, ((![v862, v863, v971, v35] : Fin 4 → IVec S16 32) a x).toNat < S2x4x94x96.size a := fun v33 v35 v862 v863 v971 k0_hw486 => k0_hw486.2

def k0_chk487 (v30 : IVec S16 32) (v862 : IVec S16 32) (v863 : IVec S16 32) (v972 : IVec S16 32) : Prop :=
  (∀ a x, ((![v862, v863, v972, v30] : Fin 4 → IVec S16 32) a x).toNat < S2x4x32x32.size a)
theorem k0_idx633_inb : ∀ (v30 : IVec S16 32) (v862 : IVec S16 32) (v863 : IVec S16 32) (v972 : IVec S16 32) (k0_hw487 : k0_chk487 v30 v862 v863 v972), ∀ a x, ((![v862, v863, v972, v30] : Fin 4 → IVec S16 32) a x).toNat < S2x4x32x32.size a := fun v30 v862 v863 v972 k0_hw487 => k0_hw487

def k0_chk488 (v862 : IVec S16 32) (v863 : IVec S16 32) (v972 : IVec S16 32) (v975 : IVec S16 32) : Prop :=
  (∀ a x, ((![v862, v863, v972, v975] : Fin 4 → IVec S16 32) a x).toNat < S2x4x32x32.size a)
theorem k0_idx634_inb : ∀ (v862 : IVec S16 32) (v863 : IVec S16 32) (v972 : IVec S16 32) (v975 : IVec S16 32) (k0_hw488 : k0_chk488 v862 v863 v972 v975), ∀ a x, ((![v862, v863, v972, v975] : Fin 4 → IVec S16 32) a x).toNat < S2x4x32x32.size a := fun v862 v863 v972 v975 k0_hw488 => k0_hw488

def k0_chk489 (v33 : IVec S16 32) (v35 : IVec S16 32) (v862 : IVec S16 32) (v863 : IVec S16 32) (v977 : IVec S16 32) : Prop :=
  (∀ a x, ((![v862, v863, v977, v33] : Fin 4 → IVec S16 32) a x).toNat < S2x4x94x96.size a) ∧
  (∀ a x, ((![v862, v863, v977, v35] : Fin 4 → IVec S16 32) a x).toNat < S2x4x94x96.size a)
theorem k0_idx635_inb : ∀ (v33 : IVec S16 32) (v35 : IVec S16 32) (v862 : IVec S16 32) (v863 : IVec S16 32) (v977 : IVec S16 32) (k0_hw489 : k0_chk489 v33 v35 v862 v863 v977), ∀ a x, ((![v862, v863, v977, v33] : Fin 4 → IVec S16 32) a x).toNat < S2x4x94x96.size a := fun v33 v35 v862 v863 v977 k0_hw489 => k0_hw489.1
theorem k0_idx636_inb : ∀ (v33 : IVec S16 32) (v35 : IVec S16 32) (v862 : IVec S16 32) (v863 : IVec S16 32) (v977 : IVec S16 32) (k0_hw489 : k0_chk489 v33 v35 v862 v863 v977), ∀ a x, ((![v862, v863, v977, v35] : Fin 4 → IVec S16 32) a x).toNat < S2x4x94x96.size a := fun v33 v35 v862 v863 v977 k0_hw489 => k0_hw489.2

def k0_chk490 (v30 : IVec S16 32) (v862 : IVec S16 32) (v863 : IVec S16 32) (v978 : IVec S16 32) : Prop :=
  (∀ a x, ((![v862, v863, v978, v30] : Fin 4 → IVec S16 32) a x).toNat < S2x4x32x32.size a)
theorem k0_idx637_inb : ∀ (v30 : IVec S16 32) (v862 : IVec S16 32) (v863 : IVec S16 32) (v978 : IVec S16 32) (k0_hw490 : k0_chk490 v30 v862 v863 v978), ∀ a x, ((![v862, v863, v978, v30] : Fin 4 → IVec S16 32) a x).toNat < S2x4x32x32.size a := fun v30 v862 v863 v978 k0_hw490 => k0_hw490

def k0_chk491 (v862 : IVec S16 32) (v863 : IVec S16 32) (v978 : IVec S16 32) (v981 : IVec S16 32) : Prop :=
  (∀ a x, ((![v862, v863, v978, v981] : Fin 4 → IVec S16 32) a x).toNat < S2x4x32x32.size a)
theorem k0_idx638_inb : ∀ (v862 : IVec S16 32) (v863 : IVec S16 32) (v978 : IVec S16 32) (v981 : IVec S16 32) (k0_hw491 : k0_chk491 v862 v863 v978 v981), ∀ a x, ((![v862, v863, v978, v981] : Fin 4 → IVec S16 32) a x).toNat < S2x4x32x32.size a := fun v862 v863 v978 v981 k0_hw491 => k0_hw491

def k0_chk492 (v33 : IVec S16 32) (v35 : IVec S16 32) (v862 : IVec S16 32) (v863 : IVec S16 32) (v983 : IVec S16 32) : Prop :=
  (∀ a x, ((![v862, v863, v983, v33] : Fin 4 → IVec S16 32) a x).toNat < S2x4x94x96.size a) ∧
  (∀ a x, ((![v862, v863, v983, v35] : Fin 4 → IVec S16 32) a x).toNat < S2x4x94x96.size a)
theorem k0_idx639_inb : ∀ (v33 : IVec S16 32) (v35 : IVec S16 32) (v862 : IVec S16 32) (v863 : IVec S16 32) (v983 : IVec S16 32) (k0_hw492 : k0_chk492 v33 v35 v862 v863 v983), ∀ a x, ((![v862, v863, v983, v33] : Fin 4 → IVec S16 32) a x).toNat < S2x4x94x96.size a := fun v33 v35 v862 v863 v983 k0_hw492 => k0_hw492.1
theorem k0_idx640_inb : ∀ (v33 : IVec S16 32) (v35 : IVec S16 32) (v862 : IVec S16 32) (v863 : IVec S16 32) (v983 : IVec S16 32) (k0_hw492 : k0_chk492 v33 v35 v862 v863 v983), ∀ a x, ((![v862, v863, v983, v35] : Fin 4 → IVec S16 32) a x).toNat < S2x4x94x96.size a := fun v33 v35 v862 v863 v983 k0_hw492 => k0_hw492.2

def k0_chk493 (v30 : IVec S16 32) (v862 : IVec S16 32) (v863 : IVec S16 32) (v984 : IVec S16 32) : Prop :=
  (∀ a x, ((![v862, v863, v984, v30] : Fin 4 → IVec S16 32) a x).toNat < S2x4x32x32.size a)
theorem k0_idx641_inb : ∀ (v30 : IVec S16 32) (v862 : IVec S16 32) (v863 : IVec S16 32) (v984 : IVec S16 32) (k0_hw493 : k0_chk493 v30 v862 v863 v984), ∀ a x, ((![v862, v863, v984, v30] : Fin 4 → IVec S16 32) a x).toNat < S2x4x32x32.size a := fun v30 v862 v863 v984 k0_hw493 => k0_hw493

def k0_chk494 (v862 : IVec S16 32) (v863 : IVec S16 32) (v984 : IVec S16 32) (v987 : IVec S16 32) : Prop :=
  (∀ a x, ((![v862, v863, v984, v987] : Fin 4 → IVec S16 32) a x).toNat < S2x4x32x32.size a)
theorem k0_idx642_inb : ∀ (v862 : IVec S16 32) (v863 : IVec S16 32) (v984 : IVec S16 32) (v987 : IVec S16 32) (k0_hw494 : k0_chk494 v862 v863 v984 v987), ∀ a x, ((![v862, v863, v984, v987] : Fin 4 → IVec S16 32) a x).toNat < S2x4x32x32.size a := fun v862 v863 v984 v987 k0_hw494 => k0_hw494

def k0_chk495 (v33 : IVec S16 32) (v35 : IVec S16 32) (v862 : IVec S16 32) (v863 : IVec S16 32) (v989 : IVec S16 32) : Prop :=
  (∀ a x, ((![v862, v863, v989, v33] : Fin 4 → IVec S16 32) a x).toNat < S2x4x94x96.size a) ∧
  (∀ a x, ((![v862, v863, v989, v35] : Fin 4 → IVec S16 32) a x).toNat < S2x4x94x96.size a)
theorem k0_idx643_inb : ∀ (v33 : IVec S16 32) (v35 : IVec S16 32) (v862 : IVec S16 32) (v863 : IVec S16 32) (v989 : IVec S16 32) (k0_hw495 : k0_chk495 v33 v35 v862 v863 v989), ∀ a x, ((![v862, v863, v989, v33] : Fin 4 → IVec S16 32) a x).toNat < S2x4x94x96.size a := fun v33 v35 v862 v863 v989 k0_hw495 => k0_hw495.1
theorem k0_idx644_inb : ∀ (v33 : IVec S16 32) (v35 : IVec S16 32) (v862 : IVec S16 32) (v863 : IVec S16 32) (v989 : IVec S16 32) (k0_hw495 : k0_chk495 v33 v35 v862 v863 v989), ∀ a x, ((![v862, v863, v989, v35] : Fin 4 → IVec S16 32) a x).toNat < S2x4x94x96.size a := fun v33 v35 v862 v863 v989 k0_hw495 => k0_hw495.2

def k0_chk496 (v30 : IVec S16 32) (v862 : IVec S16 32) (v863 : IVec S16 32) (v990 : IVec S16 32) : Prop :=
  (∀ a x, ((![v862, v863, v990, v30] : Fin 4 → IVec S16 32) a x).toNat < S2x4x32x32.size a)
theorem k0_idx645_inb : ∀ (v30 : IVec S16 32) (v862 : IVec S16 32) (v863 : IVec S16 32) (v990 : IVec S16 32) (k0_hw496 : k0_chk496 v30 v862 v863 v990), ∀ a x, ((![v862, v863, v990, v30] : Fin 4 → IVec S16 32) a x).toNat < S2x4x32x32.size a := fun v30 v862 v863 v990 k0_hw496 => k0_hw496

def k0_chk497 (v862 : IVec S16 32) (v863 : IVec S16 32) (v990 : IVec S16 32) (v993 : IVec S16 32) : Prop :=
  (∀ a x, ((![v862, v863, v990, v993] : Fin 4 → IVec S16 32) a x).toNat < S2x4x32x32.size a)
theorem k0_idx646_inb : ∀ (v862 : IVec S16 32) (v863 : IVec S16 32) (v990 : IVec S16 32) (v993 : IVec S16 32) (k0_hw497 : k0_chk497 v862 v863 v990 v993), ∀ a x, ((![v862, v863, v990, v993] : Fin 4 → IVec S16 32) a x).toNat < S2x4x32x32.size a := fun v862 v863 v990 v993 k0_hw497 => k0_hw497

def k0_chk498 (v33 : IVec S16 32) (v35 : IVec S16 32) (v862 : IVec S16 32) (v863 : IVec S16 32) (v995 : IVec S16 32) : Prop :=
  (∀ a x, ((![v862, v863, v995, v33] : Fin 4 → IVec S16 32) a x).toNat < S2x4x94x96.size a) ∧
  (∀ a x, ((![v862, v863, v995, v35] : Fin 4 → IVec S16 32) a x).toNat < S2x4x94x96.size a)
theorem k0_idx647_inb : ∀ (v33 : IVec S16 32) (v35 : IVec S16 32) (v862 : IVec S16 32) (v863 : IVec S16 32) (v995 : IVec S16 32) (k0_hw498 : k0_chk498 v33 v35 v862 v863 v995), ∀ a x, ((![v862, v863, v995, v33] : Fin 4 → IVec S16 32) a x).toNat < S2x4x94x96.size a := fun v33 v35 v862 v863 v995 k0_hw498 => k0_hw498.1
theorem k0_idx648_inb : ∀ (v33 : IVec S16 32) (v35 : IVec S16 32) (v862 : IVec S16 32) (v863 : IVec S16 32) (v995 : IVec S16 32) (k0_hw498 : k0_chk498 v33 v35 v862 v863 v995), ∀ a x, ((![v862, v863, v995, v35] : Fin 4 → IVec S16 32) a x).toNat < S2x4x94x96.size a := fun v33 v35 v862 v863 v995 k0_hw498 => k0_hw498.2

def k0_chk499 (v30 : IVec S16 32) (v862 : IVec S16 32) (v863 : IVec S16 32) (v996 : IVec S16 32) : Prop :=
  (∀ a x, ((![v862, v863, v996, v30] : Fin 4 → IVec S16 32) a x).toNat < S2x4x32x32.size a)
theorem k0_idx649_inb : ∀ (v30 : IVec S16 32) (v862 : IVec S16 32) (v863 : IVec S16 32) (v996 : IVec S16 32) (k0_hw499 : k0_chk499 v30 v862 v863 v996), ∀ a x, ((![v862, v863, v996, v30] : Fin 4 → IVec S16 32) a x).toNat < S2x4x32x32.size a := fun v30 v862 v863 v996 k0_hw499 => k0_hw499

def k0_chk500 (v862 : IVec S16 32) (v863 : IVec S16 32) (v996 : IVec S16 32) (v999 : IVec S16 32) : Prop :=
  (∀ a x, ((![v862, v863, v996, v999] : Fin 4 → IVec S16 32) a x).toNat < S2x4x32x32.size a)
theorem k0_idx650_inb : ∀ (v862 : IVec S16 32) (v863 : IVec S16 32) (v996 : IVec S16 32) (v999 : IVec S16 32) (k0_hw500 : k0_chk500 v862 v863 v996 v999), ∀ a x, ((![v862, v863, v996, v999] : Fin 4 → IVec S16 32) a x).toNat < S2x4x32x32.size a := fun v862 v863 v996 v999 k0_hw500 => k0_hw500

def k0_chk501 (v33 : IVec S16 32) (v35 : IVec S16 32) (v862 : IVec S16 32) (v863 : IVec S16 32) (v1001 : IVec S16 32) : Prop :=
  (∀ a x, ((![v862, v863, v1001, v33] : Fin 4 → IVec S16 32) a x).toNat < S2x4x94x96.size a) ∧
  (∀ a x, ((![v862, v863, v1001, v35] : Fin 4 → IVec S16 32) a x).toNat < S2x4x94x96.size a)
theorem k0_idx651_inb : ∀ (v33 : IVec S16 32) (v35 : IVec S16 32) (v862 : IVec S16 32) (v863 : IVec S16 32) (v1001 : IVec S16 32) (k0_hw501 : k0_chk501 v33 v35 v862 v863 v1001), ∀ a x, ((![v862, v863, v1001, v33] : Fin 4 → IVec S16 32) a x).toNat < S2x4x94x96.size a := fun v33 v35 v862 v863 v1001 k0_hw501 => k0_hw501.1
theorem k0_idx652_inb : ∀ (v33 : IVec S16 32) (v35 : IVec S16 32) (v862 : IVec S16 32) (v863 : IVec S16 32) (v1001 : IVec S16 32) (k0_hw501 : k0_chk501 v33 v35 v862 v863 v1001), ∀ a x, ((![v862, v863, v1001, v35] : Fin 4 → IVec S16 32) a x).toNat < S2x4x94x96.size a := fun v33 v35 v862 v863 v1001 k0_hw501 => k0_hw501.2

def k0_chk502 (v30 : IVec S16 32) (v862 : IVec S16 32) (v863 : IVec S16 32) (v1002 : IVec S16 32) : Prop :=
  (∀ a x, ((![v862, v863, v1002, v30] : Fin 4 → IVec S16 32) a x).toNat < S2x4x32x32.size a)
theorem k0_idx653_inb : ∀ (v30 : IVec S16 32) (v862 : IVec S16 32) (v863 : IVec S16 32) (v1002 : IVec S16 32) (k0_hw502 : k0_chk502 v30 v862 v863 v1002), ∀ a x, ((![v862, v863, v1002, v30] : Fin 4 → IVec S16 32) a x).toNat < S2x4x32x32.size a := fun v30 v862 v863 v1002 k0_hw502 => k0_hw502

def k0_chk503 (v862 : IVec S16 32) (v863 : IVec S16 32) (v1002 : IVec S16 32) (v1005 : IVec S16 32) : Prop :=
  (∀ a x, ((![v862, v863, v1002, v1005] : Fin 4 → IVec S16 32) a x).toNat < S2x4x32x32.size a)
theorem k0_idx654_inb : ∀ (v862 : IVec S16 32) (v863 : IVec S16 32) (v1002 : IVec S16 32) (v1005 : IVec S16 32) (k0_hw503 : k0_chk503 v862 v863 v1002 v1005), ∀ a x, ((![v862, v863, v1002, v1005] : Fin 4 → IVec S16 32) a x).toNat < S2x4x32x32.size a := fun v862 v863 v1002 v1005 k0_hw503 => k0_hw503

def k0_chk504 (v33 : IVec S16 32) (v35 : IVec S16 32) (v862 : IVec S16 32) (v863 : IVec S16 32) (v1007 : IVec S16 32) : Prop :=
  (∀ a x, ((![v862, v863, v1007, v33] : Fin 4 → IVec S16 32) a x).toNat < S2x4x94x96.size a) ∧
  (∀ a x, ((![v862, v863, v1007, v35] : Fin 4 → IVec S16 32) a x).toNat < S2x4x94x96.size a)
theorem k0_idx655_inb : ∀ (v33 : IVec S16 32) (v35 : IVec S16 32) (v862 : IVec S16 32) (v863 : IVec S16 32) (v1007 : IVec S16 32) (k0_hw504 : k0_chk504 v33 v35 v862 v863 v1007), ∀ a x, ((![v862, v863, v1007, v33] : Fin 4 → IVec S16 32) a x).toNat < S2x4x94x96.size a := fun v33 v35 v862 v863 v1007 k0_hw504 => k0_hw504.1
theorem k0_idx656_inb : ∀ (v33 : IVec S16 32) (v35 : IVec S16 32) (v862 : IVec S16 32) (v863 : IVec S16 32) (v1007 : IVec S16 32) (k0_hw504 : k0_chk504 v33 v35 v862 v863 v1007), ∀ a x, ((![v862, v863, v1007, v35] : Fin 4 → IVec S16 32) a x).toNat < S2x4x94x96.size a := fun v33 v35 v862 v863 v1007 k0_hw504 => k0_hw504.2

def k0_chk505 (v30 : IVec S16 32) (v862 : IVec S16 32) (v863 : IVec S16 32) (v1008 : IVec S16 32) : Prop :=
  (∀ a x, ((![v862, v863, v1008, v30] : Fin 4 → IVec S16 32) a x).toNat < S2x4x32x32.size a)
theorem k0_idx657_inb : ∀ (v30 : IVec S16 32) (v862 : IVec S16 32) (v863 : IVec S16 32) (v1008 : IVec S16 32) (k0_hw505 : k0_chk505 v30 v862 v863 v1008), ∀ a x, ((![v862, v863, v1008, v30] : Fin 4 → IVec S16 32) a x).toNat < S2x4x32x32.size a := fun v30 v862 v863 v1008 k0_hw505 => k0_hw505

def k0_chk506 (v862 : IVec S16 32) (v863 : IVec S16 32) (v1008 : IVec S16 32) (v1011 : IVec S16 32) : Prop :=
  (∀ a x, ((![v862, v863, v1008, v1011] : Fin 4 → IVec S16 32) a x).toNat < S2x4x32x32.size a)
theorem k0_idx658_inb : ∀ (v862 : IVec S16 32) (v863 : IVec S16 32) (v1008 : IVec S16 32) (v1011 : IVec S16 32) (k0_hw506 : k0_chk506 v862 v863 v1008 v1011), ∀ a x, ((![v862, v863, v1008, v1011] : Fin 4 → IVec S16 32) a x).toNat < S2x4x32x32.size a := fun v862 v863 v1008 v1011 k0_hw506 => k0_hw506

def k0_chk507 (v33 : IVec S16 32) (v35 : IVec S16 32) (v862 : IVec S16 32) (v863 : IVec S16 32) (v1013 : IVec S16 32) : Prop :=
  (∀ a x, ((![v862, v863, v1013, v33] : Fin 4 → IVec S16 32) a x).toNat < S2x4x94x96.size a) ∧
  (∀ a x, ((![v862, v863, v1013, v35] : Fin 4 → IVec S16 32) a x).toNat < S2x4x94x96.size a)
theorem k0_idx659_inb : ∀ (v33 : IVec S16 32) (v35 : IVec S16 32) (v862 : IVec S16 32) (v863 : IVec S16 32) (v1013 : IVec S16 32) (k0_hw507 : k0_chk507 v33 v35 v862 v863 v1013), ∀ a x, ((![v862, v863, v1013, v33] : Fin 4 → IVec S16 32) a x).toNat < S2x4x94x96.size a := fun v33 v35 v862 v863 v1013 k0_hw507 => k0_hw507.1
theorem k0_idx660_inb : ∀ (v33 : IVec S16 32) (v35 : IVec S16 32) (v862 : IVec S16 32) (v863 : IVec S16 32) (v1013 : IVec S16 32) (k0_hw507 : k0_chk507 v33 v35 v862 v863 v1013), ∀ a x, ((![v862, v863, v1013, v35] : Fin 4 → IVec S16 32) a x).toNat < S2x4x94x96.size a := fun v33 v35 v862 v863 v1013 k0_hw507 => k0_hw507.2

def k0_chk508 (v30 : IVec S16 32) (v862 : IVec S16 32) (v863 : IVec S16 32) (v1014 : IVec S16 32) : Prop :=
  (∀ a x, ((![v862, v863, v1014, v30] : Fin 4 → IVec S16 32) a x).toNat < S2x4x32x32.size a)
theorem k0_idx661_inb : ∀ (v30 : IVec S16 32) (v862 : IVec S16 32) (v863 : IVec S16 32) (v1014 : IVec S16 32) (k0_hw508 : k0_chk508 v30 v862 v863 v1014), ∀ a x, ((![v862, v863, v1014, v30] : Fin 4 → IVec S16 32) a x).toNat < S2x4x32x32.size a := fun v30 v862 v863 v1014 k0_hw508 => k0_hw508

def k0_chk509 (v862 : IVec S16 32) (v863 : IVec S16 32) (v1014 : IVec S16 32) (v1017 : IVec S16 32) : Prop :=
  (∀ a x, ((![v862, v863, v1014, v1017] : Fin 4 → IVec S16 32) a x).toNat < S2x4x32x32.size a)
theorem k0_idx662_inb : ∀ (v862 : IVec S16 32) (v863 : IVec S16 32) (v1014 : IVec S16 32) (v1017 : IVec S16 32) (k0_hw509 : k0_chk509 v862 v863 v1014 v1017), ∀ a x, ((![v862, v863, v1014, v1017] : Fin 4 → IVec S16 32) a x).toNat < S2x4x32x32.size a := fun v862 v863 v1014 v1017 k0_hw509 => k0_hw509

def k0_chk510 (v33 : IVec S16 32) (v35 : IVec S16 32) (v862 : IVec S16 32) (v863 : IVec S16 32) (v1019 : IVec S16 32) : Prop :=
  (∀ a x, ((![v862, v863, v1019, v33] : Fin 4 → IVec S16 32) a x).toNat < S2x4x94x96.size a) ∧
  (∀ a x, ((![v862, v863, v1019, v35] : Fin 4 → IVec S16 32) a x).toNat < S2x4x94x96.size a)
theorem k0_idx663_inb : ∀ (v33 : IVec S16 32) (v35 : IVec S16 32) (v862 : IVec S16 32) (v863 : IVec S16 32) (v1019 : IVec S16 32) (k0_hw510 : k0_chk510 v33 v35 v862 v863 v1019), ∀ a x, ((![v862, v863, v1019, v33] : Fin 4 → IVec S16 32) a x).toNat < S2x4x94x96.size a := fun v33 v35 v862 v863 v1019 k0_hw510 => k0_hw510.1
theorem k0_idx664_inb : ∀ (v33 : IVec S16 32) (v35 : IVec S16 32) (v862 : IVec S16 32) (v863 : IVec S16 32) (v1019 : IVec S16 32) (k0_hw510 : k0_chk510 v33 v35 v862 v863 v1019), ∀ a x, ((![v862, v863, v1019, v35] : Fin 4 → IVec S16 32) a x).toNat < S2x4x94x96.size a := fun v33 v35 v862 v863 v1019 k0_hw510 => k0_hw510.2

def k0_chk511 (v30 : IVec S16 32) (v862 : IVec S16 32) (v863 : IVec S16 32) (v1020 : IVec S16 32) : Prop :=
  (∀ a x, ((![v862, v863, v1020, v30] : Fin 4 → IVec S16 32) a x).toNat < S2x4x32x32.size a)
theorem k0_idx665_inb : ∀ (v30 : IVec S16 32) (v862 : IVec S16 32) (v863 : IVec S16 32) (v1020 : IVec S16 32) (k0_hw511 : k0_chk511 v30 v862 v863 v1020), ∀ a x, ((![v862, v863, v1020, v30] : Fin 4 → IVec S16 32) a x).toNat < S2x4x32x32.size a := fun v30 v862 v863 v1020 k0_hw511 => k0_hw511

def k0_chk512 (v862 : IVec S16 32) (v863 : IVec S16 32) (v1020 : IVec S16 32) (v1023 : IVec S16 32) : Prop :=
  (∀ a x, ((![v862, v863, v1020, v1023] : Fin 4 → IVec S16 32) a x).toNat < S2x4x32x32.size a)
theorem k0_idx666_inb : ∀ (v862 : IVec S16 32) (v863 : IVec S16 32) (v1020 : IVec S16 32) (v1023 : IVec S16 32) (k0_hw512 : k0_chk512 v862 v863 v1020 v1023), ∀ a x, ((![v862, v863, v1020, v1023] : Fin 4 → IVec S16 32) a x).toNat < S2x4x32x32.size a := fun v862 v863 v1020 v1023 k0_hw512 => k0_hw512

def k0_chk513 (v33 : IVec S16 32) (v35 : IVec S16 32) (v862 : IVec S16 32) (v863 : IVec S16 32) (v1025 : IVec S16 32) : Prop :=
  (∀ a x, ((![v862, v863, v1025, v33] : Fin 4 → IVec S16 32) a x).toNat < S2x4x94x96.size a) ∧
  (∀ a x, ((![v862, v863, v1025, v35] : Fin 4 → IVec S16 32) a x).toNat < S2x4x94x96.size a)
theorem k0_idx667_inb : ∀ (v33 : IVec S16 32) (v35 : IVec S16 32) (v862 : IVec S16 32) (v863 : IVec S16 32) (v1025 : IVec S16 32) (k0_hw513 : k0_chk513 v33 v35 v862 v863 v1025), ∀ a x, ((![v862, v863, v1025, v33] : Fin 4 → IVec S16 32) a x).toNat < S2x4x94x96.size a := fun v33 v35 v862 v863 v1025 k0_hw513 => k0_hw513.1
theorem k0_idx668_inb : ∀ (v33 : IVec S16 32) (v35 : IVec S16 32) (v862 : IVec S16 32) (v863 : IVec S16 32) (v1025 : IVec S16 32) (k0_hw513 : k0_chk513 v33 v35 v862 v863 v1025), ∀ a x, ((![v862, v863, v1025, v35] : Fin 4 → IVec S16 32) a x).toNat < S2x4x94x96.size a := fun v33 v35 v862 v863 v1025 k0_hw513 => k0_hw513.2

def k0_chk514 (v30 : IVec S16 32) (v862 : IVec S16 32) (v863 : IVec S16 32) (v1026 : IVec S16 32) : Prop :=
  (∀ a x, ((![v862, v863, v1026, v30] : Fin 4 → IVec S16 32) a x).toNat < S2x4x32x32.size a)
theorem k0_idx669_inb : ∀ (v30 : IVec S16 32) (v862 : IVec S16 32) (v863 : IVec S16 32) (v1026 : IVec S16 32) (k0_hw514 : k0_chk514 v30 v862 v863 v1026), ∀ a x, ((![v862, v863, v1026, v30] : Fin 4 → IVec S16 32) a x).toNat < S2x4x32x32.size a := fun v30 v862 v863 v1026 k0_hw514 => k0_hw514

def k0_chk515 (v862 : IVec S16 32) (v863 : IVec S16 32) (v1026 : IVec S16 32) (v1029 : IVec S16 32) : Prop :=
  (∀ a x, ((![v862, v863, v1026, v1029] : Fin 4 → IVec S16 32) a x).toNat < S2x4x32x32.size a)
theorem k0_idx670_inb : ∀ (v862 : IVec S16 32) (v863 : IVec S16 32) (v1026 : IVec S16 32) (v1029 : IVec S16 32) (k0_hw515 : k0_chk515 v862 v863 v1026 v1029), ∀ a x, ((![v862, v863, v1026, v1029] : Fin 4 → IVec S16 32) a x).toNat < S2x4x32x32.size a := fun v862 v863 v1026 v1029 k0_hw515 => k0_hw515

def k0_chk516 (v33 : IVec S16 32) (v35 : IVec S16 32) (v862 : IVec S16 32) (v863 : IVec S16 32) (v1031 : IVec S16 32) : Prop :=
  (∀ a x, ((![v862, v863, v1031, v33] : Fin 4 → IVec S16 32) a x).toNat < S2x4x94x96.size a) ∧
  (∀ a x, ((![v862, v863, v1031, v35] : Fin 4 → IVec S16 32) a x).toNat < S2x4x94x96.size a)
theorem k0_idx671_inb : ∀ (v33 : IVec S16 32) (v35 : IVec S16 32) (v862 : IVec S16 32) (v863 : IVec S16 32) (v1031 : IVec S16 32) (k0_hw516 : k0_chk516 v33 v35 v862 v863 v1031), ∀ a x, ((![v862, v863, v1031, v33] : Fin 4 → IVec S16 32) a x).toNat < S2x4x94x96.size a := fun v33 v35 v862 v863 v1031 k0_hw516 => k0_hw516.1
theorem k0_idx672_inb : ∀ (v33 : IVec S16 32) (v35 : IVec S16 32) (v862 : IVec S16 32) (v863 : IVec S16 32) (v1031 : IVec S16 32) (k0_hw516 : k0_chk516 v33 v35 v862 v863 v1031), ∀ a x, ((![v862, v863, v1031, v35] : Fin 4 → IVec S16 32) a x).toNat < S2x4x94x96.size a := fun v33 v35 v862 v863 v1031 k0_hw516 => k0_hw516.2

def k0_chk517 (v30 : IVec S16 32) (v862 : IVec S16 32) (v863 : IVec S16 32) (v1032 : IVec S16 32) : Prop :=
  (∀ a x, ((![v862, v863, v1032, v30] : Fin 4 → IVec S16 32) a x).toNat < S2x4x32x32.size a)
theorem k0_idx673_inb : ∀ (v30 : IVec S16 32) (v862 : IVec S16 32) (v863 : IVec S16 32) (v1032 : IVec S16 32) (k0_hw517 : k0_chk517 v30 v862 v863 v1032), ∀ a x, ((![v862, v863, v1032, v30] : Fin 4 → IVec S16 32) a x).toNat < S2x4x32x32.size a := fun v30 v862 v863 v1032 k0_hw517 => k0_hw517

def k0_chk518 (v862 : IVec S16 32) (v863 : IVec S16 32) (v1032 : IVec S16 32) (v1035 : IVec S16 32) : Prop :=
  (∀ a x, ((![v862, v863, v1032, v1035] : Fin 4 → IVec S16 32) a x).toNat < S2x4x32x32.size a)
theorem k0_idx674_inb : ∀ (v862 : IVec S16 32) (v863 : IVec S16 32) (v1032 : IVec S16 32) (v1035 : IVec S16 32) (k0_hw518 : k0_chk518 v862 v863 v1032 v1035), ∀ a x, ((![v862, v863, v1032, v1035] : Fin 4 → IVec S16 32) a x).toNat < S2x4x32x32.size a := fun v862 v863 v1032 v1035 k0_hw518 => k0_hw518

def k0_chk519 (v33 : IVec S16 32) (v35 : IVec S16 32) (v862 : IVec S16 32) (v863 : IVec S16 32) (v1037 : IVec S16 32) : Prop :=
  (∀ a x, ((![v862, v863, v1037, v33] : Fin 4 → IVec S16 32) a x).toNat < S2x4x94x96.size a) ∧
  (∀ a x, ((![v862, v863, v1037, v35] : Fin 4 → IVec S16 32) a x).toNat < S2x4x94x96.size a)
theorem k0_idx675_inb : ∀ (v33 : IVec S16 32) (v35 : IVec S16 32) (v862 : IVec S16 32) (v863 : IVec S16 32) (v1037 : IVec S16 32) (k0_hw519 : k0_chk519 v33 v35 v862 v863 v1037), ∀ a x, ((![v862, v863, v1037, v33] : Fin 4 → IVec S16 32) a x).toNat < S2x4x94x96.size a := fun v33 v35 v862 v863 v1037 k0_hw519 => k0_hw519.1
theorem k0_idx676_inb : ∀ (v33 : IVec S16 32) (v35 : IVec S16 32) (v862 : IVec S16 32) (v863 : IVec S16 32) (v1037 : IVec S16 32) (k0_hw519 : k0_chk519 v33 v35 v862 v863 v1037), ∀ a x, ((![v862, v863, v1037, v35] : Fin 4 → IVec S16 32) a x).toNat < S2x4x94x96.size a := fun v33 v35 v862 v863 v1037 k0_hw519 => k0_hw519.2

def k0_chk520 (v30 : IVec S16 32) (v862 : IVec S16 32) (v863 : IVec S16 32) (v1038 : IVec S16 32) : Prop :=
  (∀ a x, ((![v862, v863, v1038, v30] : Fin 4 → IVec S16 32) a x).toNat < S2x4x32x32.size a)
theorem k0_idx677_inb : ∀ (v30 : IVec S16 32) (v862 : IVec S16 32) (v863 : IVec S16 32) (v1038 : IVec S16 32) (k0_hw520 : k0_chk520 v30 v862 v863 v1038), ∀ a x, ((![v862, v863, v1038, v30] : Fin 4 → IVec S16 32) a x).toNat < S2x4x32x32.size a := fun v30 v862 v863 v1038 k0_hw520 => k0_hw520

def k0_chk521 (v862 : IVec S16 32) (v863 : IVec S16 32) (v1038 : IVec S16 32) (v1041 : IVec S16 32) : Prop :=
  (∀ a x, ((![v862, v863, v1038, v1041] : Fin 4 → IVec S16 32) a x).toNat < S2x4x32x32.size a)
theorem k0_idx678_inb : ∀ (v862 : IVec S16 32) (v863 : IVec S16 32) (v1038 : IVec S16 32) (v1041 : IVec S16 32) (k0_hw521 : k0_chk521 v862 v863 v1038 v1041), ∀ a x, ((![v862, v863, v1038, v1041] : Fin 4 → IVec S16 32) a x).toNat < S2x4x32x32.size a := fun v862 v863 v1038 v1041 k0_hw521 => k0_hw521

def k0_chk522 (v33 : IVec S16 32) (v35 : IVec S16 32) (v862 : IVec S16 32) (v863 : IVec S16 32) (v1043 : IVec S16 32) : Prop :=
  (∀ a x, ((![v862, v863, v1043, v33] : Fin 4 → IVec S16 32) a x).toNat < S2x4x94x96.size a) ∧
  (∀ a x, ((![v862, v863, v1043, v35] : Fin 4 → IVec S16 32) a x).toNat < S2x4x94x96.size a)
theorem k0_idx679_inb : ∀ (v33 : IVec S16 32) (v35 : IVec S16 32) (v862 : IVec S16 32) (v863 : IVec S16 32) (v1043 : IVec S16 32) (k0_hw522 : k0_chk522 v33 v35 v862 v863 v1043), ∀ a x, ((![v862, v863, v1043, v33] : Fin 4 → IVec S16 32) a x).toNat < S2x4x94x96.size a := fun v33 v35 v862 v863 v1043 k0_hw522 => k0_hw522.1
theorem k0_idx680_inb : ∀ (v33 : IVec S16 32) (v35 : IVec S16 32) (v862 : IVec S16 32) (v863 : IVec S16 32) (v1043 : IVec S16 32) (k0_hw522 : k0_chk522 v33 v35 v862 v863 v1043), ∀ a x, ((![v862, v863, v1043, v35] : Fin 4 → IVec S16 32) a x).toNat < S2x4x94x96.size a := fun v33 v35 v862 v863 v1043 k0_hw522 => k0_hw522.2

def k0_chk523 (v30 : IVec S16 32) (v862 : IVec S16 32) (v863 : IVec S16 32) (v1044 : IVec S16 32) : Prop :=
  (∀ a x, ((![v862, v863, v1044, v30] : Fin 4 → IVec S16 32) a x).toNat < S2x4x32x32.size a)
theorem k0_idx681_inb : ∀ (v30 : IVec S16 32) (v862 : IVec S16 32) (v863 : IVec S16 32) (v1044 : IVec S16 32) (k0_hw523 : k0_chk523 v30 v862 v863 v1044), ∀ a x, ((![v862, v863, v1044, v30] : Fin 4 → IVec S16 32) a x).toNat < S2x4x32x32.size a := fun v30 v862 v863 v1044 k0_hw523 => k0_hw523

def k0_chk524 (v862 : IVec S16 32) (v863 : IVec S16 32) (v1044 : IVec S16 32) (v1047 : IVec S16 32) : Prop :=
  (∀ a x, ((![v862, v863, v1044, v1047] : Fin 4 → IVec S16 32) a x).toNat < S2x4x32x32.size a)
theorem k0_idx682_inb : ∀ (v862 : IVec S16 32) (v863 : IVec S16 32) (v1044 : IVec S16 32) (v1047 : IVec S16 32) (k0_hw524 : k0_chk524 v862 v863 v1044 v1047), ∀ a x, ((![v862, v863, v1044, v1047] : Fin 4 → IVec S16 32) a x).toNat < S2x4x32x32.size a := fun v862 v863 v1044 v1047 k0_hw524 => k0_hw524

def k0_chk525 (v33 : IVec S16 32) (v35 : IVec S16 32) (v862 : IVec S16 32) (v863 : IVec S16 32) (v1049 : IVec S16 32) : Prop :=
  (∀ a x, ((![v862, v863, v1049, v33] : Fin 4 → IVec S16 32) a x).toNat < S2x4x94x96.size a) ∧
  (∀ a x, ((![v862, v863, v1049, v35] : Fin 4 → IVec S16 32) a x).toNat < S2x4x94x96.size a)
theorem k0_idx683_inb : ∀ (v33 : IVec S16 32) (v35 : IVec S16 32) (v862 : IVec S16 32) (v863 : IVec S16 32) (v1049 : IVec S16 32) (k0_hw525 : k0_chk525 v33 v35 v862 v863 v1049), ∀ a x, ((![v862, v863, v1049, v33] : Fin 4 → IVec S16 32) a x).toNat < S2x4x94x96.size a := fun v33 v35 v862 v863 v1049 k0_hw525 => k0_hw525.1
theorem k0_idx684_inb : ∀ (v33 : IVec S16 32) (v35 : IVec S16 32) (v862 : IVec S16 32) (v863 : IVec S16 32) (v1049 : IVec S16 32) (k0_hw525 : k0_chk525 v33 v35 v862 v863 v1049), ∀ a x, ((![v862, v863, v1049, v35] : Fin 4 → IVec S16 32) a x).toNat < S2x4x94x96.size a := fun v33 v35 v862 v863 v1049 k0_hw525 => k0_hw525.2

def k0_chk526 (v30 : IVec S16 32) (v862 : IVec S16 32) (v863 : IVec S16 32) (v1050 : IVec S16 32) : Prop :=
  (∀ a x, ((![v862, v863, v1050, v30] : Fin 4 → IVec S16 32) a x).toNat < S2x4x32x32.size a)
theorem k0_idx685_inb : ∀ (v30 : IVec S16 32) (v862 : IVec S16 32) (v863 : IVec S16 32) (v1050 : IVec S16 32) (k0_hw526 : k0_chk526 v30 v862 v863 v1050), ∀ a x, ((![v862, v863, v1050, v30] : Fin 4 → IVec S16 32) a x).toNat < S2x4x32x32.size a := fun v30 v862 v863 v1050 k0_hw526 => k0_hw526

def k0_chk527 (v862 : IVec S16 32) (v863 : IVec S16 32) (v1050 : IVec S16 32) (v1053 : IVec S16 32) : Prop :=
  (∀ a x, ((![v862, v863, v1050, v1053] : Fin 4 → IVec S16 32) a x).toNat < S2x4x32x32.size a)
theorem k0_idx686_inb : ∀ (v862 : IVec S16 32) (v863 : IVec S16 32) (v1050 : IVec S16 32) (v1053 : IVec S16 32) (k0_hw527 : k0_chk527 v862 v863 v1050 v1053), ∀ a x, ((![v862, v863, v1050, v1053] : Fin 4 → IVec S16 32) a x).toNat < S2x4x32x32.size a := fun v862 v863 v1050 v1053 k0_hw527 => k0_hw527

def k0_chk528 (v33 : IVec S16 32) (v35 : IVec S16 32) (v862 : IVec S16 32) (v863 : IVec S16 32) (v1055 : IVec S16 32) : Prop :=
  (∀ a x, ((![v862, v863, v1055, v33] : Fin 4 → IVec S16 32) a x).toNat < S2x4x94x96.size a) ∧
  (∀ a x, ((![v862, v863, v1055, v35] : Fin 4 → IVec S16 32) a x).toNat < S2x4x94x96.size a)
theorem k0_idx687_inb : ∀ (v33 : IVec S16 32) (v35 : IVec S16 32) (v862 : IVec S16 32) (v863 : IVec S16 32) (v1055 : IVec S16 32) (k0_hw528 : k0_chk528 v33 v35 v862 v863 v1055), ∀ a x, ((![v862, v863, v1055, v33] : Fin 4 → IVec S16 32) a x).toNat < S2x4x94x96.size a := fun v33 v35 v862 v863 v1055 k0_hw528 => k0_hw528.1
theorem k0_idx688_inb : ∀ (v33 : IVec S16 32) (v35 : IVec S16 32) (v862 : IVec S16 32) (v863 : IVec S16 32) (v1055 : IVec S16 32) (k0_hw528 : k0_chk528 v33 v35 v862 v863 v1055), ∀ a x, ((![v862, v863, v1055, v35] : Fin 4 → IVec S16 32) a x).toNat < S2x4x94x96.size a := fun v33 v35 v862 v863 v1055 k0_hw528 => k0_hw528.2

def k0_chk529 (v30 : IVec S16 32) (v862 : IVec S16 32) (v1056 : IVec S16 32) (v1057 : IVec S16 32) : Prop :=
  (∀ a x, ((![v862, v1056, v1057, v30] : Fin 4 → IVec S16 32) a x).toNat < S2x4x32x32.size a)
theorem k0_idx689_inb : ∀ (v30 : IVec S16 32) (v862 : IVec S16 32) (v1056 : IVec S16 32) (v1057 : IVec S16 32) (k0_hw529 : k0_chk529 v30 v862 v1056 v1057), ∀ a x, ((![v862, v1056, v1057, v30] : Fin 4 → IVec S16 32) a x).toNat < S2x4x32x32.size a := fun v30 v862 v1056 v1057 k0_hw529 => k0_hw529

def k0_chk530 (v862 : IVec S16 32) (v1056 : IVec S16 32) (v1057 : IVec S16 32) (v1060 : IVec S16 32) : Prop :=
  (∀ a x, ((![v862, v1056, v1057, v1060] : Fin 4 → IVec S16 32) a x).toNat < S2x4x32x32.size a)
theorem k0_idx690_inb : ∀ (v862 : IVec S16 32) (v1056 : IVec S16 32) (v1057 : IVec S16 32) (v1060 : IVec S16 32) (k0_hw530 : k0_chk530 v862 v1056 v1057 v1060), ∀ a x, ((![v862, v1056, v1057, v1060] : Fin 4 → IVec S16 32) a x).toNat < S2x4x32x32.size a := fun v862 v1056 v1057 v1060 k0_hw530 => k0_hw530

def k0_chk531 (v33 : IVec S16 32) (v35 : IVec S16 32) (v862 : IVec S16 32) (v1056 : IVec S16 32) (v1062 : IVec S16 32) : Prop :=
  (∀ a x, ((![v862, v1056, v1062, v33] : Fin 4 → IVec S16 32) a x).toNat < S2x4x94x96.size a) ∧
  (∀ a x, ((![v862, v1056, v1062, v35] : Fin 4 → IVec S16 32) a x).toNat < S2x4x94x96.size a)
theorem k0_idx691_inb : ∀ (v33 : IVec S16 32) (v35 : IVec S16 32) (v862 : IVec S16 32) (v1056 : IVec S16 32) (v1062 : IVec S16 32) (k0_hw531 : k0_chk531 v33 v35 v862 v1056 v1062), ∀ a x, ((![v862, v1056, v1062, v33] : Fin 4 → IVec S16 32) a x).toNat < S2x4x94x96.size a := fun v33 v35 v862 v1056 v1062 k0_hw531 => k0_hw531.1
theorem k0_idx692_inb : ∀ (v33 : IVec S16 32) (v35 : IVec S16 32) (v862 : IVec S16 32) (v1056 : IVec S16 32) (v1062 : IVec S16 32) (k0_hw531 : k0_chk531 v33 v35 v862 v1056 v1062), ∀ a x, ((![v862, v1056, v1062, v35] : Fin 4 → IVec S16 32) a x).toNat < S2x4x94x96.size a := fun v33 v35 v862 v1056 v1062 k0_hw531 => k0_hw531.2

def k0_chk532 (v30 : IVec S16 32) (v862 : IVec S16 32) (v1056 : IVec S16 32) (v1063 : IVec S16 32) : Prop :=
  (∀ a x, ((![v862, v1056, v1063, v30] : Fin 4 → IVec S16 32) a x).toNat < S2x4x32x32.size a)
theorem k0_idx693_inb : ∀ (v30 : IVec S16 32) (v862 : IVec S16 32) (v1056 : IVec S16 32) (v1063 : IVec S16 32) (k0_hw532 : k0_chk532 v30 v862 v1056 v1063), ∀ a x, ((![v862, v1056, v1063, v30] : Fin 4 → IVec S16 32) a x).toNat < S2x4x32x32.size a := fun v30 v862 v1056 v1063 k0_hw532 => k0_hw532

def k0_chk533 (v862 : IVec S16 32) (v1056 : IVec S16 32) (v1063 : IVec S16 32) (v1066 : IVec S16 32) : Prop :=
  (∀ a x, ((![v862, v1056, v1063, v1066] : Fin 4 → IVec S16 32) a x).toNat < S2x4x32x32.size a)
theorem k0_idx694_inb : ∀ (v862 : IVec S16 32) (v1056 : IVec S16 32) (v1063 : IVec S16 32) (v1066 : IVec S16 32) (k0_hw533 : k0_chk533 v862 v1056 v1063 v1066), ∀ a x, ((![v862, v1056, v1063, v1066] : Fin 4 → IVec S16 32) a x).toNat < S2x4x32x32.size a := fun v862 v1056 v1063 v1066 k0_hw533 => k0_hw533

def k0_chk534 (v33 : IVec S16 32) (v35 : IVec S16 32) (v862 : IVec S16 32) (v1056 : IVec S16 32) (v1068 : IVec S16 32) : Prop :=
  (∀ a x, ((![v862, v1056, v1068, v33] : Fin 4 → IVec S16 32) a x).toNat < S2x4x94x96.size a) ∧
  (∀ a x, ((![v862, v1056, v1068, v35] : Fin 4 → IVec S16 32) a x).toNat < S2x4x94x96.size a)
theorem k0_idx695_inb : ∀ (v33 : IVec S16 32) (v35 : IVec S16 32) (v862 : IVec S16 32) (v1056 : IVec S16 32) (v1068 : IVec S16 32) (k0_hw534 : k0_chk534 v33 v35 v862 v1056 v1068), ∀ a x, ((![v862, v1056, v1068, v33] : Fin 4 → IVec S16 32) a x).toNat < S2x4x94x96.size a := fun v33 v35 v862 v1056 v1068 k0_hw534 => k0_hw534.1
theorem k0_idx696_inb : ∀ (v33 : IVec S16 32) (v35 : IVec S16 32) (v862 : IVec S16 32) (v1056 : IVec S16 32) (v1068 : IVec S16 32) (k0_hw534 : k0_chk534 v33 v35 v862 v1056 v1068), ∀ a x, ((![v862, v1056, v1068, v35] : Fin 4 → IVec S16 32) a x).toNat < S2x4x94x96.size a := fun v33 v35 v862 v1056 v1068 k0_hw534 => k0_hw534.2

def k0_chk535 (v30 : IVec S16 32) (v862 : IVec S16 32) (v1056 : IVec S16 32) (v1069 : IVec S16 32) : Prop :=
  (∀ a x, ((![v862, v1056, v1069, v30] : Fin 4 → IVec S16 32) a x).toNat < S2x4x32x32.size a)
theorem k0_idx697_inb : ∀ (v30 : IVec S16 32) (v862 : IVec S16 32) (v1056 : IVec S16 32) (v1069 : IVec S16 32) (k0_hw535 : k0_chk535 v30 v862 v1056 v1069), ∀ a x, ((![v862, v1056, v1069, v30] : Fin 4 → IVec S16 32) a x).toNat < S2x4x32x32.size a := fun v30 v862 v1056 v1069 k0_hw535 => k0_hw535

def k0_chk536 (v862 : IVec S16 32) (v1056 : IVec S16 32) (v1069 : IVec S16 32) (v1072 : IVec S16 32) : Prop :=
  (∀ a x, ((![v862, v1056, v1069, v1072] : Fin 4 → IVec S16 32) a x).toNat < S2x4x32x32.size a)
theorem k0_idx698_inb : ∀ (v862 : IVec S16 32) (v1056 : IVec S16 32) (v1069 : IVec S16 32) (v1072 : IVec S16 32) (k0_hw536 : k0_chk536 v862 v1056 v1069 v1072), ∀ a x, ((![v862, v1056, v1069, v1072] : Fin 4 → IVec S16 32) a x).toNat < S2x4x32x32.size a := fun v862 v1056 v1069 v1072 k0_hw536 => k0_hw536

def k0_chk537 (v33 : IVec S16 32) (v35 : IVec S16 32) (v862 : IVec S16 32) (v1056 : IVec S16 32) (v1074 : IVec S16 32) : Prop :=
  (∀ a x, ((![v862, v1056, v1074, v33] : Fin 4 → IVec S16 32) a x).toNat < S2x4x94x96.size a) ∧
  (∀ a x, ((![v862, v1056, v1074, v35] : Fin 4 → IVec S16 32) a x).toNat < S2x4x94x96.size a)
theorem k0_idx699_inb : ∀ (v33 : IVec S16 32) (v35 : IVec S16 32) (v862 : IVec S16 32) (v1056 : IVec S16 32) (v1074 : IVec S16 32) (k0_hw537 : k0_chk537 v33 v35 v862 v1056 v1074), ∀ a x, ((![v862, v1056, v1074, v33] : Fin 4 → IVec S16 32) a x).toNat < S2x4x94x96.size a := fun v33 v35 v862 v1056 v1074 k0_hw537 => k0_hw537.1
theorem k0_idx700_inb : ∀ (v33 : IVec S16 32) (v35 : IVec S16 32) (v862 : IVec S16 32) (v1056 : IVec S16 32) (v1074 : IVec S16 32) (k0_hw537 : k0_chk537 v33 v35 v862 v1056 v1074), ∀ a x, ((![v862, v1056, v1074, v35] : Fin 4 → IVec S16 32) a x).toNat < S2x4x94x96.size a := fun v33 v35 v862 v1056 v1074 k0_hw537 => k0_hw537.2

def k0_chk538 (v30 : IVec S16 32) (v862 : IVec S16 32) (v1056 : IVec S16 32) (v1075 : IVec S16 32) : Prop :=
  (∀ a x, ((![v862, v1056, v1075, v30] : Fin 4 → IVec S16 32) a x).toNat < S2x4x32x32.size a)
theorem k0_idx701_inb : ∀ (v30 : IVec S16 32) (v862 : IVec S16 32) (v1056 : IVec S16 32) (v1075 : IVec S16 32) (k0_hw538 : k0_chk538 v30 v862 v1056 v1075), ∀ a x, ((![v862, v1056, v1075, v30] : Fin 4 → IVec S16 32) a x).toNat < S2x4x32x32.size a := fun v30 v862 v1056 v1075 k0_hw538 => k0_hw538

def k0_chk539 (v862 : IVec S16 32) (v1056 : IVec S16 32) (v1075 : IVec S16 32) (v1078 : IVec S16 32) : Prop :=
  (∀ a x, ((![v862, v1056, v1075, v1078] : Fin 4 → IVec S16 32) a x).toNat < S2x4x32x32.size a)
theorem k0_idx702_inb : ∀ (v862 : IVec S16 32) (v1056 : IVec S16 32) (v1075 : IVec S16 32) (v1078 : IVec S16 32) (k0_hw539 : k0_chk539 v862 v1056 v1075 v1078), ∀ a x, ((![v862, v1056, v1075, v1078] : Fin 4 → IVec S16 32) a x).toNat < S2x4x32x32.size a := fun v862 v1056 v1075 v1078 k0_hw539 => k0_hw539

def k0_chk540 (v33 : IVec S16 32) (v35 : IVec S16 32) (v862 : IVec S16 32) (v1056 : IVec S16 32) (v1080 : IVec S16 32) : Prop :=
  (∀ a x, ((![v862, v1056, v1080, v33] : Fin 4 → IVec S16 32) a x).toNat < S2x4x94x96.size a) ∧
  (∀ a x, ((![v862, v1056, v1080, v35] : Fin 4 → IVec S16 32) a x).toNat < S2x4x94x96.size a)
theorem k0_idx703_inb : ∀ (v33 : IVec S16 32) (v35 : IVec S16 32) (v862 : IVec S16 32) (v1056 : IVec S16 32) (v1080 : IVec S16 32) (k0_hw540 : k0_chk540 v33 v35 v862 v1056 v1080), ∀ a x, ((![v862, v1056, v1080, v33] : Fin 4 → IVec S16 32) a x).toNat < S2x4x94x96.size a := fun v33 v35 v862 v1056 v1080 k0_hw540 => k0_hw540.1
theorem k0_idx704_inb : ∀ (v33 : IVec S16 32) (v35 : IVec S16 32) (v862 : IVec S16 32) (v1056 : IVec S16 32) (v1080 : IVec S16 32) (k0_hw540 : k0_chk540 v33 v35 v862 v1056 v1080), ∀ a x, ((![v862, v1056, v1080, v35] : Fin 4 → IVec S16 32) a x).toNat < S2x4x94x96.size a := fun v33 v35 v862 v1056 v1080 k0_hw540 => k0_hw540.2

def k0_chk541 (v30 : IVec S16 32) (v862 : IVec S16 32) (v1056 : IVec S16 32) (v1081 : IVec S16 32) : Prop :=
  (∀ a x, ((![v862, v1056, v1081, v30] : Fin 4 → IVec S16 32) a x).toNat < S2x4x32x32.size a)
theorem k0_idx705_inb : ∀ (v30 : IVec S16 32) (v862 : IVec S16 32) (v1056 : IVec S16 32) (v1081 : IVec S16 32) (k0_hw541 : k0_chk541 v30 v862 v1056 v1081), ∀ a x, ((![v862, v1056, v1081, v30] : Fin 4 → IVec S16 32) a x).toNat < S2x4x32x32.size a := fun v30 v862 v1056 v1081 k0_hw541 => k0_hw541

def k0_chk542 (v862 : IVec S16 32) (v1056 : IVec S16 32) (v1081 : IVec S16 32) (v1084 : IVec S16 32) : Prop :=
  (∀ a x, ((![v862, v1056, v1081, v1084] : Fin 4 → IVec S16 32) a x).toNat < S2x4x32x32.size a)
theorem k0_idx706_inb : ∀ (v862 : IVec S16 32) (v1056 : IVec S16 32) (v1081 : IVec S16 32) (v1084 : IVec S16 32) (k0_hw542 : k0_chk542 v862 v1056 v1081 v1084), ∀ a x, ((![v862, v1056, v1081, v1084] : Fin 4 → IVec S16 32) a x).toNat < S2x4x32x32.size a := fun v862 v1056 v1081 v1084 k0_hw542 => k0_hw542

def k0_chk543 (v33 : IVec S16 32) (v35 : IVec S16 32) (v862 : IVec S16 32) (v1056 : IVec S16 32) (v1086 : IVec S16 32) : Prop :=
  (∀ a x, ((![v862, v1056, v1086, v33] : Fin 4 → IVec S16 32) a x).toNat < S2x4x94x96.size a) ∧
  (∀ a x, ((![v862, v1056, v1086, v35] : Fin 4 → IVec S16 32) a x).toNat < S2x4x94x96.size a)
theorem k0_idx707_inb : ∀ (v33 : IVec S16 32) (v35 : IVec S16 32) (v862 : IVec S16 32) (v1056 : IVec S16 32) (v1086 : IVec S16 32) (k0_hw543 : k0_chk543 v33 v35 v862 v1056 v1086), ∀ a x, ((![v862, v1056, v1086, v33] : Fin 4 → IVec S16 32) a x).toNat < S2x4x94x96.size a := fun v33 v35 v862 v1056 v1086 k0_hw543 => k0_hw543.1
theorem k0_idx708_inb : ∀ (v33 : IVec S16 32) (v35 : IVec S16 32) (v862 : IVec S16 32) (v1056 : IVec S16 32) (v1086 : IVec S16 32) (k0_hw543 : k0_chk543 v33 v35 v862 v1056 v1086), ∀ a x, ((![v862, v1056, v1086, v35] : Fin 4 → IVec S16 32) a x).toNat < S2x4x94x96.size a := fun v33 v35 v862 v1056 v1086 k0_hw543 => k0_hw543.2

def k0_chk544 (v30 : IVec S16 32) (v862 : IVec S16 32) (v1056 : IVec S16 32) (v1087 : IVec S16 32) : Prop :=
  (∀ a x, ((![v862, v1056, v1087, v30] : Fin 4 → IVec S16 32) a x).toNat < S2x4x32x32.size a)
theorem k0_idx709_inb : ∀ (v30 : IVec S16 32) (v862 : IVec S16 32) (v1056 : IVec S16 32) (v1087 : IVec S16 32) (k0_hw544 : k0_chk544 v30 v862 v1056 v1087), ∀ a x, ((![v862, v1056, v1087, v30] : Fin 4 → IVec S16 32) a x).toNat < S2x4x32x32.size a := fun v30 v862 v1056 v1087 k0_hw544 => k0_hw544

def k0_chk545 (v862 : IVec S16 32) (v1056 : IVec S16 32) (v1087 : IVec S16 32) (v1090 : IVec S16 32) : Prop :=
  (∀ a x, ((![v862, v1056, v1087, v1090] : Fin 4 → IVec S16 32) a x).toNat < S2x4x32x32.size a)
theorem k0_idx710_inb : ∀ (v862 : IVec S16 32) (v1056 : IVec S16 32) (v1087 : IVec S16 32) (v1090 : IVec S16 32) (k0_hw545 : k0_chk545 v862 v1056 v1087 v1090), ∀ a x, ((![v862, v1056, v1087, v1090] : Fin 4 → IVec S16 32) a x).toNat < S2x4x32x32.size a := fun v862 v1056 v1087 v1090 k0_hw545 => k0_hw545

def k0_chk546 (v33 : IVec S16 32) (v35 : IVec S16 32) (v862 : IVec S16 32) (v1056 : IVec S16 32) (v1092 : IVec S16 32) : Prop :=
  (∀ a x, ((![v862, v1056, v1092, v33] : Fin 4 → IVec S16 32) a x).toNat < S2x4x94x96.size a) ∧
  (∀ a x, ((![v862, v1056, v1092, v35] : Fin 4 → IVec S16 32) a x).toNat < S2x4x94x96.size a)
theorem k0_idx711_inb : ∀ (v33 : IVec S16 32) (v35 : IVec S16 32) (v862 : IVec S16 32) (v1056 : IVec S16 32) (v1092 : IVec S16 32) (k0_hw546 : k0_chk546 v33 v35 v862 v1056 v1092), ∀ a x, ((![v862, v1056, v1092, v33] : Fin 4 → IVec S16 32) a x).toNat < S2x4x94x96.size a := fun v33 v35 v862 v1056 v1092 k0_hw546 => k0_hw546.1
theorem k0_idx712_inb : ∀ (v33 : IVec S16 32) (v35 : IVec S16 32) (v862 : IVec S16 32) (v1056 : IVec S16 32) (v1092 : IVec S16 32) (k0_hw546 : k0_chk546 v33 v35 v862 v1056 v1092), ∀ a x, ((![v862, v1056, v1092, v35] : Fin 4 → IVec S16 32) a x).toNat < S2x4x94x96.size a := fun v33 v35 v862 v1056 v1092 k0_hw546 => k0_hw546.2

def k0_chk547 (v30 : IVec S16 32) (v862 : IVec S16 32) (v1056 : IVec S16 32) (v1093 : IVec S16 32) : Prop :=
  (∀ a x, ((![v862, v1056, v1093, v30] : Fin 4 → IVec S16 32) a x).toNat < S2x4x32x32.size a)
theorem k0_idx713_inb : ∀ (v30 : IVec S16 32) (v862 : IVec S16 32) (v1056 : IVec S16 32) (v1093 : IVec S16 32) (k0_hw547 : k0_chk547 v30 v862 v1056 v1093), ∀ a x, ((![v862, v1056, v1093, v30] : Fin 4 → IVec S16 32) a x).toNat < S2x4x32x32.size a := fun v30 v862 v1056 v1093 k0_hw547 => k0_hw547

def k0_chk548 (v862 : IVec S16 32) (v1056 : IVec S16 32) (v1093 : IVec S16 32) (v1096 : IVec S16 32) : Prop :=
  (∀ a x, ((![v862, v1056, v1093, v1096] : Fin 4 → IVec S16 32) a x).toNat < S2x4x32x32.size a)
theorem k0_idx714_inb : ∀ (v862 : IVec S16 32) (v1056 : IVec S16 32) (v1093 : IVec S16 32) (v1096 : IVec S16 32) (k0_hw548 : k0_chk548 v862 v1056 v1093 v1096), ∀ a x, ((![v862, v1056, v1093, v1096] : Fin 4 → IVec S16 32) a x).toNat < S2x4x32x32.size a := fun v862 v1056 v1093 v1096 k0_hw548 => k0_hw548

def k0_chk549 (v33 : IVec S16 32) (v35 : IVec S16 32) (v862 : IVec S16 32) (v1056 : IVec S16 32) (v1098 : IVec S16 32) : Prop :=
  (∀ a x, ((![v862, v1056, v1098, v33] : Fin 4 → IVec S16 32) a x).toNat < S2x4x94x96.size a) ∧
  (∀ a x, ((![v862, v1056, v1098, v35] : Fin 4 → IVec S16 32) a x).toNat < S2x4x94x96.size a)
theorem k0_idx715_inb : ∀ (v33 : IVec S16 32) (v35 : IVec S16 32) (v862 : IVec S16 32) (v1056 : IVec S16 32) (v1098 : IVec S16 32) (k0_hw549 : k0_chk549 v33 v35 v862 v1056 v1098), ∀ a x, ((![v862, v1056, v1098, v33] : Fin 4 → IVec S16 32) a x).toNat < S2x4x94x96.size a := fun v33 v35 v862 v1056 v1098 k0_hw549 => k0_hw549.1
theorem k0_idx716_inb : ∀ (v33 : IVec S16 32) (v35 : IVec S16 32) (v862 : IVec S16 32) (v1056 : IVec S16 32) (v1098 : IVec S16 32) (k0_hw549 : k0_chk549 v33 v35 v862 v1056 v1098), ∀ a x, ((![v862, v1056, v1098, v35] : Fin 4 → IVec S16 32) a x).toNat < S2x4x94x96.size a := fun v33 v35 v862 v1056 v1098 k0_hw549 => k0_hw549.2

def k0_chk550 (v30 : IVec S16 32) (v862 : IVec S16 32) (v1056 : IVec S16 32) (v1099 : IVec S16 32) : Prop :=
  (∀ a x, ((![v862, v1056, v1099, v30] : Fin 4 → IVec S16 32) a x).toNat < S2x4x32x32.size a)
theorem k0_idx717_inb : ∀ (v30 : IVec S16 32) (v862 : IVec S16 32) (v1056 : IVec S16 32) (v1099 : IVec S16 32) (k0_hw550 : k0_chk550 v30 v862 v1056 v1099), ∀ a x, ((![v862, v1056, v1099, v30] : Fin 4 → IVec S16 32) a x).toNat < S2x4x32x32.size a := fun v30 v862 v1056 v1099 k0_hw550 => k0_hw550

def k0_chk551 (v862 : IVec S16 32) (v1056 : IVec S16 32) (v1099 : IVec S16 32) (v1102 : IVec S16 32) : Prop :=
  (∀ a x, ((![v862, v1056, v1099, v1102] : Fin 4 → IVec S16 32) a x).toNat < S2x4x32x32.size a)
theorem k0_idx718_inb : ∀ (v862 : IVec S16 32) (v1056 : IVec S16 32) (v1099 : IVec S16 32) (v1102 : IVec S16 32) (k0_hw551 : k0_chk551 v862 v1056 v1099 v1102), ∀ a x, ((![v862, v1056, v1099, v1102] : Fin 4 → IVec S16 32) a x).toNat < S2x4x32x32.size a := fun v862 v1056 v1099 v1102 k0_hw551 => k0_hw551

def k0_chk552 (v33 : IVec S16 32) (v35 : IVec S16 32) (v862 : IVec S16 32) (v1056 : IVec S16 32) (v1104 : IVec S16 32) : Prop :=
  (∀ a x, ((![v862, v1056, v1104, v33] : Fin 4 → IVec S16 32) a x).toNat < S2x4x94x96.size a) ∧
  (∀ a x, ((![v862, v1056, v1104, v35] : Fin 4 → IVec S16 32) a x).toNat < S2x4x94x96.size a)
theorem k0_idx719_inb : ∀ (v33 : IVec S16 32) (v35 : IVec S16 32) (v862 : IVec S16 32) (v1056 : IVec S16 32) (v1104 : IVec S16 32) (k0_hw552 : k0_chk552 v33 v35 v862 v1056 v1104), ∀ a x, ((![v862, v1056, v1104, v33] : Fin 4 → IVec S16 32) a x).toNat < S2x4x94x96.size a := fun v33 v35 v862 v1056 v1104 k0_hw552 => k0_hw552.1
theorem k0_idx720_inb : ∀ (v33 : IVec S16 32) (v35 : IVec S16 32) (v862 : IVec S16 32) (v1056 : IVec S16 32) (v1104 : IVec S16 32) (k0_hw552 : k0_chk552 v33 v35 v862 v1056 v1104), ∀ a x, ((![v862, v1056, v1104, v35] : Fin 4 → IVec S16 32) a x).toNat < S2x4x94x96.size a := fun v33 v35 v862 v1056 v1104 k0_hw552 => k0_hw552.2

def k0_chk553 (v30 : IVec S16 32) (v862 : IVec S16 32) (v1056 : IVec S16 32) (v1105 : IVec S16 32) : Prop :=
  (∀ a x, ((![v862, v1056, v1105, v30] : Fin 4 → IVec S16 32) a x).toNat < S2x4x32x32.size a)
theorem k0_idx721_inb : ∀ (v30 : IVec S16 32) (v862 : IVec S16 32) (v1056 : IVec S16 32) (v1105 : IVec S16 32) (k0_hw553 : k0_chk553 v30 v862 v1056 v1105), ∀ a x, ((![v862, v1056, v1105, v30] : Fin 4 → IVec S16 32) a x).toNat < S2x4x32x32.size a := fun v30 v862 v1056 v1105 k0_hw553 => k0_hw553

def k0_chk554 (v862 : IVec S16 32) (v1056 : IVec S16 32) (v1105 : IVec S16 32) (v1108 : IVec S16 32) : Prop :=
  (∀ a x, ((![v862, v1056, v1105, v1108] : Fin 4 → IVec S16 32) a x).toNat < S2x4x32x32.size a)
theorem k0_idx722_inb : ∀ (v862 : IVec S16 32) (v1056 : IVec S16 32) (v1105 : IVec S16 32) (v1108 : IVec S16 32) (k0_hw554 : k0_chk554 v862 v1056 v1105 v1108), ∀ a x, ((![v862, v1056, v1105, v1108] : Fin 4 → IVec S16 32) a x).toNat < S2x4x32x32.size a := fun v862 v1056 v1105 v1108 k0_hw554 => k0_hw554

def k0_chk555 (v33 : IVec S16 32) (v35 : IVec S16 32) (v862 : IVec S16 32) (v1056 : IVec S16 32) (v1110 : IVec S16 32) : Prop :=
  (∀ a x, ((![v862, v1056, v1110, v33] : Fin 4 → IVec S16 32) a x).toNat < S2x4x94x96.size a) ∧
  (∀ a x, ((![v862, v1056, v1110, v35] : Fin 4 → IVec S16 32) a x).toNat < S2x4x94x96.size a)
theorem k0_idx723_inb : ∀ (v33 : IVec S16 32) (v35 : IVec S16 32) (v862 : IVec S16 32) (v1056 : IVec S16 32) (v1110 : IVec S16 32) (k0_hw555 : k0_chk555 v33 v35 v862 v1056 v1110), ∀ a x, ((![v862, v1056, v1110, v33] : Fin 4 → IVec S16 32) a x).toNat < S2x4x94x96.size a := fun v33 v35 v862 v1056 v1110 k0_hw555 => k0_hw555.1
theorem k0_idx724_inb : ∀ (v33 : IVec S16 32) (v35 : IVec S16 32) (v862 : IVec S16 32) (v1056 : IVec S16 32) (v1110 : IVec S16 32) (k0_hw555 : k0_chk555 v33 v35 v862 v1056 v1110), ∀ a x, ((![v862, v1056, v1110, v35] : Fin 4 → IVec S16 32) a x).toNat < S2x4x94x96.size a := fun v33 v35 v862 v1056 v1110 k0_hw555 => k0_hw555.2

def k0_chk556 (v30 : IVec S16 32) (v862 : IVec S16 32) (v1056 : IVec S16 32) (v1111 : IVec S16 32) : Prop :=
  (∀ a x, ((![v862, v1056, v1111, v30] : Fin 4 → IVec S16 32) a x).toNat < S2x4x32x32.size a)
theorem k0_idx725_inb : ∀ (v30 : IVec S16 32) (v862 : IVec S16 32) (v1056 : IVec S16 32) (v1111 : IVec S16 32) (k0_hw556 : k0_chk556 v30 v862 v1056 v1111), ∀ a x, ((![v862, v1056, v1111, v30] : Fin 4 → IVec S16 32) a x).toNat < S2x4x32x32.size a := fun v30 v862 v1056 v1111 k0_hw556 => k0_hw556

def k0_chk557 (v862 : IVec S16 32) (v1056 : IVec S16 32) (v1111 : IVec S16 32) (v1114 : IVec S16 32) : Prop :=
  (∀ a x, ((![v862, v1056, v1111, v1114] : Fin 4 → IVec S16 32) a x).toNat < S2x4x32x32.size a)
theorem k0_idx726_inb : ∀ (v862 : IVec S16 32) (v1056 : IVec S16 32) (v1111 : IVec S16 32) (v1114 : IVec S16 32) (k0_hw557 : k0_chk557 v862 v1056 v1111 v1114), ∀ a x, ((![v862, v1056, v1111, v1114] : Fin 4 → IVec S16 32) a x).toNat < S2x4x32x32.size a := fun v862 v1056 v1111 v1114 k0_hw557 => k0_hw557

def k0_chk558 (v33 : IVec S16 32) (v35 : IVec S16 32) (v862 : IVec S16 32) (v1056 : IVec S16 32) (v1116 : IVec S16 32) : Prop :=
  (∀ a x, ((![v862, v1056, v1116, v33] : Fin 4 → IVec S16 32) a x).toNat < S2x4x94x96.size a) ∧
  (∀ a x, ((![v862, v1056, v1116, v35] : Fin 4 → IVec S16 32) a x).toNat < S2x4x94x96.size a)
theorem k0_idx727_inb : ∀ (v33 : IVec S16 32) (v35 : IVec S16 32) (v862 : IVec S16 32) (v1056 : IVec S16 32) (v1116 : IVec S16 32) (k0_hw558 : k0_chk558 v33 v35 v862 v1056 v1116), ∀ a x, ((![v862, v1056, v1116, v33] : Fin 4 → IVec S16 32) a x).toNat < S2x4x94x96.size a := fun v33 v35 v862 v1056 v1116 k0_hw558 => k0_hw558.1
theorem k0_idx728_inb : ∀ (v33 : IVec S16 32) (v35 : IVec S16 32) (v862 : IVec S16 32) (v1056 : IVec S16 32) (v1116 : IVec S16 32) (k0_hw558 : k0_chk558 v33 v35 v862 v1056 v1116), ∀ a x, ((![v862, v1056, v1116, v35] : Fin 4 → IVec S16 32) a x).toNat < S2x4x94x96.size a := fun v33 v35 v862 v1056 v1116 k0_hw558 => k0_hw558.2

def k0_chk559 (v30 : IVec S16 32) (v862 : IVec S16 32) (v1056 : IVec S16 32) (v1117 : IVec S16 32) : Prop :=
  (∀ a x, ((![v862, v1056, v1117, v30] : Fin 4 → IVec S16 32) a x).toNat < S2x4x32x32.size a)
theorem k0_idx729_inb : ∀ (v30 : IVec S16 32) (v862 : IVec S16 32) (v1056 : IVec S16 32) (v1117 : IVec S16 32) (k0_hw559 : k0_chk559 v30 v862 v1056 v1117), ∀ a x, ((![v862, v1056, v1117, v30] : Fin 4 → IVec S16 32) a x).toNat < S2x4x32x32.size a := fun v30 v862 v1056 v1117 k0_hw559 => k0_hw559

def k0_chk560 (v862 : IVec S16 32) (v1056 : IVec S16 32) (v1117 : IVec S16 32) (v1120 : IVec S16 32) : Prop :=
  (∀ a x, ((![v862, v1056, v1117, v1120] : Fin 4 → IVec S16 32) a x).toNat < S2x4x32x32.size a)
theorem k0_idx730_inb : ∀ (v862 : IVec S16 32) (v1056 : IVec S16 32) (v1117 : IVec S16 32) (v1120 : IVec S16 32) (k0_hw560 : k0_chk560 v862 v1056 v1117 v1120), ∀ a x, ((![v862, v1056, v1117, v1120] : Fin 4 → IVec S16 32) a x).toNat < S2x4x32x32.size a := fun v862 v1056 v1117 v1120 k0_hw560 => k0_hw560

def k0_chk561 (v33 : IVec S16 32) (v35 : IVec S16 32) (v862 : IVec S16 32) (v1056 : IVec S16 32) (v1122 : IVec S16 32) : Prop :=
  (∀ a x, ((![v862, v1056, v1122, v33] : Fin 4 → IVec S16 32) a x).toNat < S2x4x94x96.size a) ∧
  (∀ a x, ((![v862, v1056, v1122, v35] : Fin 4 → IVec S16 32) a x).toNat < S2x4x94x96.size a)
theorem k0_idx731_inb : ∀ (v33 : IVec S16 32) (v35 : IVec S16 32) (v862 : IVec S16 32) (v1056 : IVec S16 32) (v1122 : IVec S16 32) (k0_hw561 : k0_chk561 v33 v35 v862 v1056 v1122), ∀ a x, ((![v862, v1056, v1122, v33] : Fin 4 → IVec S16 32) a x).toNat < S2x4x94x96.size a := fun v33 v35 v862 v1056 v1122 k0_hw561 => k0_hw561.1
theorem k0_idx732_inb : ∀ (v33 : IVec S16 32) (v35 : IVec S16 32) (v862 : IVec S16 32) (v1056 : IVec S16 32) (v1122 : IVec S16 32) (k0_hw561 : k0_chk561 v33 v35 v862 v1056 v1122), ∀ a x, ((![v862, v1056, v1122, v35] : Fin 4 → IVec S16 32) a x).toNat < S2x4x94x96.size a := fun v33 v35 v862 v1056 v1122 k0_hw561 => k0_hw561.2

def k0_chk562 (v30 : IVec S16 32) (v862 : IVec S16 32) (v1056 : IVec S16 32) (v1123 : IVec S16 32) : Prop :=
  (∀ a x, ((![v862, v1056, v1123, v30] : Fin 4 → IVec S16 32) a x).toNat < S2x4x32x32.size a)
theorem k0_idx733_inb : ∀ (v30 : IVec S16 32) (v862 : IVec S16 32) (v1056 : IVec S16 32) (v1123 : IVec S16 32) (k0_hw562 : k0_chk562 v30 v862 v1056 v1123), ∀ a x, ((![v862, v1056, v1123, v30] : Fin 4 → IVec S16 32) a x).toNat < S2x4x32x32.size a := fun v30 v862 v1056 v1123 k0_hw562 => k0_hw562

def k0_chk563 (v862 : IVec S16 32) (v1056 : IVec S16 32) (v1123 : IVec S16 32) (v1126 : IVec S16 32) : Prop :=
  (∀ a x, ((![v862, v1056, v1123, v1126] : Fin 4 → IVec S16 32) a x).toNat < S2x4x32x32.size a)
theorem k0_idx734_inb : ∀ (v862 : IVec S16 32) (v1056 : IVec S16 32) (v1123 : IVec S16 32) (v1126 : IVec S16 32) (k0_hw563 : k0_chk563 v862 v1056 v1123 v1126), ∀ a x, ((![v862, v1056, v1123, v1126] : Fin 4 → IVec S16 32) a x).toNat < S2x4x32x32.size a := fun v862 v1056 v1123 v1126 k0_hw563 => k0_hw563

def k0_chk564 (v33 : IVec S16 32) (v35 : IVec S16 32) (v862 : IVec S16 32) (v1056 : IVec S16 32) (v1128 : IVec S16 32) : Prop :=
  (∀ a x, ((![v862, v1056, v1128, v33] : Fin 4 → IVec S16 32) a x).toNat < S2x4x94x96.size a) ∧
  (∀ a x, ((![v862, v1056, v1128, v35] : Fin 4 → IVec S16 32) a x).toNat < S2x4x94x96.size a)
theorem k0_idx735_inb : ∀ (v33 : IVec S16 32) (v35 : IVec S16 32) (v862 : IVec S16 32) (v1056 : IVec S16 32) (v1128 : IVec S16 32) (k0_hw564 : k0_chk564 v33 v35 v862 v1056 v1128), ∀ a x, ((![v862, v1056, v1128, v33] : Fin 4 → IVec S16 32) a x).toNat < S2x4x94x96.size a := fun v33 v35 v862 v1056 v1128 k0_hw564 => k0_hw564.1
theorem k0_idx736_inb : ∀ (v33 : IVec S16 32) (v35 : IVec S16 32) (v862 : IVec S16 32) (v1056 : IVec S16 32) (v1128 : IVec S16 32) (k0_hw564 : k0_chk564 v33 v35 v862 v1056 v1128), ∀ a x, ((![v862, v1056, v1128, v35] : Fin 4 → IVec S16 32) a x).toNat < S2x4x94x96.size a := fun v33 v35 v862 v1056 v1128 k0_hw564 => k0_hw564.2

def k0_chk565 (v30 : IVec S16 32) (v862 : IVec S16 32) (v1056 : IVec S16 32) (v1129 : IVec S16 32) : Prop :=
  (∀ a x, ((![v862, v1056, v1129, v30] : Fin 4 → IVec S16 32) a x).toNat < S2x4x32x32.size a)
theorem k0_idx737_inb : ∀ (v30 : IVec S16 32) (v862 : IVec S16 32) (v1056 : IVec S16 32) (v1129 : IVec S16 32) (k0_hw565 : k0_chk565 v30 v862 v1056 v1129), ∀ a x, ((![v862, v1056, v1129, v30] : Fin 4 → IVec S16 32) a x).toNat < S2x4x32x32.size a := fun v30 v862 v1056 v1129 k0_hw565 => k0_hw565

def k0_chk566 (v862 : IVec S16 32) (v1056 : IVec S16 32) (v1129 : IVec S16 32) (v1132 : IVec S16 32) : Prop :=
  (∀ a x, ((![v862, v1056, v1129, v1132] : Fin 4 → IVec S16 32) a x).toNat < S2x4x32x32.size a)
theorem k0_idx738_inb : ∀ (v862 : IVec S16 32) (v1056 : IVec S16 32) (v1129 : IVec S16 32) (v1132 : IVec S16 32) (k0_hw566 : k0_chk566 v862 v1056 v1129 v1132), ∀ a x, ((![v862, v1056, v1129, v1132] : Fin 4 → IVec S16 32) a x).toNat < S2x4x32x32.size a := fun v862 v1056 v1129 v1132 k0_hw566 => k0_hw566

def k0_chk567 (v33 : IVec S16 32) (v35 : IVec S16 32) (v862 : IVec S16 32) (v1056 : IVec S16 32) (v1134 : IVec S16 32) : Prop :=
  (∀ a x, ((![v862, v1056, v1134, v33] : Fin 4 → IVec S16 32) a x).toNat < S2x4x94x96.size a) ∧
  (∀ a x, ((![v862, v1056, v1134, v35] : Fin 4 → IVec S16 32) a x).toNat < S2x4x94x96.size a)
theorem k0_idx739_inb : ∀ (v33 : IVec S16 32) (v35 : IVec S16 32) (v862 : IVec S16 32) (v1056 : IVec S16 32) (v1134 : IVec S16 32) (k0_hw567 : k0_chk567 v33 v35 v862 v1056 v1134), ∀ a x, ((![v862, v1056, v1134, v33] : Fin 4 → IVec S16 32) a x).toNat < S2x4x94x96.size a := fun v33 v35 v862 v1056 v1134 k0_hw567 => k0_hw567.1
theorem k0_idx740_inb : ∀ (v33 : IVec S16 32) (v35 : IVec S16 32) (v862 : IVec S16 32) (v1056 : IVec S16 32) (v1134 : IVec S16 32) (k0_hw567 : k0_chk567 v33 v35 v862 v1056 v1134), ∀ a x, ((![v862, v1056, v1134, v35] : Fin 4 → IVec S16 32) a x).toNat < S2x4x94x96.size a := fun v33 v35 v862 v1056 v1134 k0_hw567 => k0_hw567.2

def k0_chk568 (v30 : IVec S16 32) (v862 : IVec S16 32) (v1056 : IVec S16 32) (v1135 : IVec S16 32) : Prop :=
  (∀ a x, ((![v862, v1056, v1135, v30] : Fin 4 → IVec S16 32) a x).toNat < S2x4x32x32.size a)
theorem k0_idx741_inb : ∀ (v30 : IVec S16 32) (v862 : IVec S16 32) (v1056 : IVec S16 32) (v1135 : IVec S16 32) (k0_hw568 : k0_chk568 v30 v862 v1056 v1135), ∀ a x, ((![v862, v1056, v1135, v30] : Fin 4 → IVec S16 32) a x).toNat < S2x4x32x32.size a := fun v30 v862 v1056 v1135 k0_hw568 => k0_hw568

def k0_chk569 (v862 : IVec S16 32) (v1056 : IVec S16 32) (v1135 : IVec S16 32) (v1138 : IVec S16 32) : Prop :=
  (∀ a x, ((![v862, v1056, v1135, v1138] : Fin 4 → IVec S16 32) a x).toNat < S2x4x32x32.size a)
theorem k0_idx742_inb : ∀ (v862 : IVec S16 32) (v1056 : IVec S16 32) (v1135 : IVec S16 32) (v1138 : IVec S16 32) (k0_hw569 : k0_chk569 v862 v1056 v1135 v1138), ∀ a x, ((![v862, v1056, v1135, v1138] : Fin 4 → IVec S16 32) a x).toNat < S2x4x32x32.size a := fun v862 v1056 v1135 v1138 k0_hw569 => k0_hw569

def k0_chk570 (v33 : IVec S16 32) (v35 : IVec S16 32) (v862 : IVec S16 32) (v1056 : IVec S16 32) (v1140 : IVec S16 32) : Prop :=
  (∀ a x, ((![v862, v1056, v1140, v33] : Fin 4 → IVec S16 32) a x).toNat < S2x4x94x96.size a) ∧
  (∀ a x, ((![v862, v1056, v1140, v35] : Fin 4 → IVec S16 32) a x).toNat < S2x4x94x96.size a)
theorem k0_idx743_inb : ∀ (v33 : IVec S16 32) (v35 : IVec S16 32) (v862 : IVec S16 32) (v1056 : IVec S16 32) (v1140 : IVec S16 32) (k0_hw570 : k0_chk570 v33 v35 v862 v1056 v1140), ∀ a x, ((![v862, v1056, v1140, v33] : Fin 4 → IVec S16 32) a x).toNat < S2x4x94x96.size a := fun v33 v35 v862 v1056 v1140 k0_hw570 => k0_hw570.1
theorem k0_idx744_inb : ∀ (v33 : IVec S16 32) (v35 : IVec S16 32) (v862 : IVec S16 32) (v1056 : IVec S16 32) (v1140 : IVec S16 32) (k0_hw570 : k0_chk570 v33 v35 v862 v1056 v1140), ∀ a x, ((![v862, v1056, v1140, v35] : Fin 4 → IVec S16 32) a x).toNat < S2x4x94x96.size a := fun v33 v35 v862 v1056 v1140 k0_hw570 => k0_hw570.2

def k0_chk571 (v30 : IVec S16 32) (v862 : IVec S16 32) (v1056 : IVec S16 32) (v1141 : IVec S16 32) : Prop :=
  (∀ a x, ((![v862, v1056, v1141, v30] : Fin 4 → IVec S16 32) a x).toNat < S2x4x32x32.size a)
theorem k0_idx745_inb : ∀ (v30 : IVec S16 32) (v862 : IVec S16 32) (v1056 : IVec S16 32) (v1141 : IVec S16 32) (k0_hw571 : k0_chk571 v30 v862 v1056 v1141), ∀ a x, ((![v862, v1056, v1141, v30] : Fin 4 → IVec S16 32) a x).toNat < S2x4x32x32.size a := fun v30 v862 v1056 v1141 k0_hw571 => k0_hw571

def k0_chk572 (v862 : IVec S16 32) (v1056 : IVec S16 32) (v1141 : IVec S16 32) (v1144 : IVec S16 32) : Prop :=
  (∀ a x, ((![v862, v1056, v1141, v1144] : Fin 4 → IVec S16 32) a x).toNat < S2x4x32x32.size a)
theorem k0_idx746_inb : ∀ (v862 : IVec S16 32) (v1056 : IVec S16 32) (v1141 : IVec S16 32) (v1144 : IVec S16 32) (k0_hw572 : k0_chk572 v862 v1056 v1141 v1144), ∀ a x, ((![v862, v1056, v1141, v1144] : Fin 4 → IVec S16 32) a x).toNat < S2x4x32x32.size a := fun v862 v1056 v1141 v1144 k0_hw572 => k0_hw572

def k0_chk573 (v33 : IVec S16 32) (v35 : IVec S16 32) (v862 : IVec S16 32) (v1056 : IVec S16 32) (v1146 : IVec S16 32) : Prop :=
  (∀ a x, ((![v862, v1056, v1146, v33] : Fin 4 → IVec S16 32) a x).toNat < S2x4x94x96.size a) ∧
  (∀ a x, ((![v862, v1056, v1146, v35] : Fin 4 → IVec S16 32) a x).toNat < S2x4x94x96.size a)
theorem k0_idx747_inb : ∀ (v33 : IVec S16 32) (v35 : IVec S16 32) (v862 : IVec S16 32) (v1056 : IVec S16 32) (v1146 : IVec S16 32) (k0_hw573 : k0_chk573 v33 v35 v862 v1056 v1146), ∀ a x, ((![v862, v1056, v1146, v33] : Fin 4 → IVec S16 32) a x).toNat < S2x4x94x96.size a := fun v33 v35 v862 v1056 v1146 k0_hw573 => k0_hw573.1
theorem k0_idx748_inb : ∀ (v33 : IVec S16 32) (v35 : IVec S16 32) (v862 : IVec S16 32) (v1056 : IVec S16 32) (v1146 : IVec S16 32) (k0_hw573 : k0_chk573 v33 v35 v862 v1056 v1146), ∀ a x, ((![v862, v1056, v1146, v35] : Fin 4 → IVec S16 32) a x).toNat < S2x4x94x96.size a := fun v33 v35 v862 v1056 v1146 k0_hw573 => k0_hw573.2

def k0_chk574 (v30 : IVec S16 32) (v862 : IVec S16 32) (v1056 : IVec S16 32) (v1147 : IVec S16 32) : Prop :=
  (∀ a x, ((![v862, v1056, v1147, v30] : Fin 4 → IVec S16 32) a x).toNat < S2x4x32x32.size a)
theorem k0_idx749_inb : ∀ (v30 : IVec S16 32) (v862 : IVec S16 32) (v1056 : IVec S16 32) (v1147 : IVec S16 32) (k0_hw574 : k0_chk574 v30 v862 v1056 v1147), ∀ a x, ((![v862, v1056, v1147, v30] : Fin 4 → IVec S16 32) a x).toNat < S2x4x32x32.size a := fun v30 v862 v1056 v1147 k0_hw574 => k0_hw574

def k0_chk575 (v862 : IVec S16 32) (v1056 : IVec S16 32) (v1147 : IVec S16 32) (v1150 : IVec S16 32) : Prop :=
  (∀ a x, ((![v862, v1056, v1147, v1150] : Fin 4 → IVec S16 32) a x).toNat < S2x4x32x32.size a)
theorem k0_idx750_inb : ∀ (v862 : IVec S16 32) (v1056 : IVec S16 32) (v1147 : IVec S16 32) (v1150 : IVec S16 32) (k0_hw575 : k0_chk575 v862 v1056 v1147 v1150), ∀ a x, ((![v862, v1056, v1147, v1150] : Fin 4 → IVec S16 32) a x).toNat < S2x4x32x32.size a := fun v862 v1056 v1147 v1150 k0_hw575 => k0_hw575

def k0_chk576 (v33 : IVec S16 32) (v35 : IVec S16 32) (v862 : IVec S16 32) (v1056 : IVec S16 32) (v1152 : IVec S16 32) : Prop :=
  (∀ a x, ((![v862, v1056, v1152, v33] : Fin 4 → IVec S16 32) a x).toNat < S2x4x94x96.size a) ∧
  (∀ a x, ((![v862, v1056, v1152, v35] : Fin 4 → IVec S16 32) a x).toNat < S2x4x94x96.size a)
theorem k0_idx751_inb : ∀ (v33 : IVec S16 32) (v35 : IVec S16 32) (v862 : IVec S16 32) (v1056 : IVec S16 32) (v1152 : IVec S16 32) (k0_hw576 : k0_chk576 v33 v35 v862 v1056 v1152), ∀ a x, ((![v862, v1056, v1152, v33] : Fin 4 → IVec S16 32) a x).toNat < S2x4x94x96.size a := fun v33 v35 v862 v1056 v1152 k0_hw576 => k0_hw576.1
theorem k0_idx752_inb : ∀ (v33 : IVec S16 32) (v35 : IVec S16 32) (v862 : IVec S16 32) (v1056 : IVec S16 32) (v1152 : IVec S16 32) (k0_hw576 : k0_chk576 v33 v35 v862 v1056 v1152), ∀ a x, ((![v862, v1056, v1152, v35] : Fin 4 → IVec S16 32) a x).toNat < S2x4x94x96.size a := fun v33 v35 v862 v1056 v1152 k0_hw576 => k0_hw576.2

def k0_chk577 (v30 : IVec S16 32) (v862 : IVec S16 32) (v1056 : IVec S16 32) (v1153 : IVec S16 32) : Prop :=
  (∀ a x, ((![v862, v1056, v1153, v30] : Fin 4 → IVec S16 32) a x).toNat < S2x4x32x32.size a)
theorem k0_idx753_inb : ∀ (v30 : IVec S16 32) (v862 : IVec S16 32) (v1056 : IVec S16 32) (v1153 : IVec S16 32) (k0_hw577 : k0_chk577 v30 v862 v1056 v1153), ∀ a x, ((![v862, v1056, v1153, v30] : Fin 4 → IVec S16 32) a x).toNat < S2x4x32x32.size a := fun v30 v862 v1056 v1153 k0_hw577 => k0_hw577

def k0_chk578 (v862 : IVec S16 32) (v1056 : IVec S16 32) (v1153 : IVec S16 32) (v1156 : IVec S16 32) : Prop :=
  (∀ a x, ((![v862, v1056, v1153, v1156] : Fin 4 → IVec S16 32) a x).toNat < S2x4x32x32.size a)
theorem k0_idx754_inb : ∀ (v862 : IVec S16 32) (v1056 : IVec S16 32) (v1153 : IVec S16 32) (v1156 : IVec S16 32) (k0_hw578 : k0_chk578 v862 v1056 v1153 v1156), ∀ a x, ((![v862, v1056, v1153, v1156] : Fin 4 → IVec S16 32) a x).toNat < S2x4x32x32.size a := fun v862 v1056 v1153 v1156 k0_hw578 => k0_hw578

def k0_chk579 (v33 : IVec S16 32) (v35 : IVec S16 32) (v862 : IVec S16 32) (v1056 : IVec S16 32) (v1158 : IVec S16 32) : Prop :=
  (∀ a x, ((![v862, v1056, v1158, v33] : Fin 4 → IVec S16 32) a x).toNat < S2x4x94x96.size a) ∧
  (∀ a x, ((![v862, v1056, v1158, v35] : Fin 4 → IVec S16 32) a x).toNat < S2x4x94x96.size a)
theorem k0_idx755_inb : ∀ (v33 : IVec S16 32) (v35 : IVec S16 32) (v862 : IVec S16 32) (v1056 : IVec S16 32) (v1158 : IVec S16 32) (k0_hw579 : k0_chk579 v33 v35 v862 v1056 v1158), ∀ a x, ((![v862, v1056, v1158, v33] : Fin 4 → IVec S16 32) a x).toNat < S2x4x94x96.size a := fun v33 v35 v862 v1056 v1158 k0_hw579 => k0_hw579.1
theorem k0_idx756_inb : ∀ (v33 : IVec S16 32) (v35 : IVec S16 32) (v862 : IVec S16 32) (v1056 : IVec S16 32) (v1158 : IVec S16 32) (k0_hw579 : k0_chk579 v33 v35 v862 v1056 v1158), ∀ a x, ((![v862, v1056, v1158, v35] : Fin 4 → IVec S16 32) a x).toNat < S2x4x94x96.size a := fun v33 v35 v862 v1056 v1158 k0_hw579 => k0_hw579.2

def k0_chk580 (v30 : IVec S16 32) (v862 : IVec S16 32) (v1056 : IVec S16 32) (v1159 : IVec S16 32) : Prop :=
  (∀ a x, ((![v862, v1056, v1159, v30] : Fin 4 → IVec S16 32) a x).toNat < S2x4x32x32.size a)
theorem k0_idx757_inb : ∀ (v30 : IVec S16 32) (v862 : IVec S16 32) (v1056 : IVec S16 32) (v1159 : IVec S16 32) (k0_hw580 : k0_chk580 v30 v862 v1056 v1159), ∀ a x, ((![v862, v1056, v1159, v30] : Fin 4 → IVec S16 32) a x).toNat < S2x4x32x32.size a := fun v30 v862 v1056 v1159 k0_hw580 => k0_hw580

def k0_chk581 (v862 : IVec S16 32) (v1056 : IVec S16 32) (v1159 : IVec S16 32) (v1162 : IVec S16 32) : Prop :=
  (∀ a x, ((![v862, v1056, v1159, v1162] : Fin 4 → IVec S16 32) a x).toNat < S2x4x32x32.size a)
theorem k0_idx758_inb : ∀ (v862 : IVec S16 32) (v1056 : IVec S16 32) (v1159 : IVec S16 32) (v1162 : IVec S16 32) (k0_hw581 : k0_chk581 v862 v1056 v1159 v1162), ∀ a x, ((![v862, v1056, v1159, v1162] : Fin 4 → IVec S16 32) a x).toNat < S2x4x32x32.size a := fun v862 v1056 v1159 v1162 k0_hw581 => k0_hw581

def k0_chk582 (v33 : IVec S16 32) (v35 : IVec S16 32) (v862 : IVec S16 32) (v1056 : IVec S16 32) (v1164 : IVec S16 32) : Prop :=
  (∀ a x, ((![v862, v1056, v1164, v33] : Fin 4 → IVec S16 32) a x).toNat < S2x4x94x96.size a) ∧
  (∀ a x, ((![v862, v1056, v1164, v35] : Fin 4 → IVec S16 32) a x).toNat < S2x4x94x96.size a)
theorem k0_idx759_inb : ∀ (v33 : IVec S16 32) (v35 : IVec S16 32) (v862 : IVec S16 32) (v1056 : IVec S16 32) (v1164 : IVec S16 32) (k0_hw582 : k0_chk582 v33 v35 v862 v1056 v1164), ∀ a x, ((![v862, v1056, v1164, v33] : Fin 4 → IVec S16 32) a x).toNat < S2x4x94x96.size a := fun v33 v35 v862 v1056 v1164 k0_hw582 => k0_hw582.1
theorem k0_idx760_inb : ∀ (v33 : IVec S16 32) (v35 : IVec S16 32) (v862 : IVec S16 32) (v1056 : IVec S16 32) (v1164 : IVec S16 32) (k0_hw582 : k0_chk582 v33 v35 v862 v1056 v1164), ∀ a x, ((![v862, v1056, v1164, v35] : Fin 4 → IVec S16 32) a x).toNat < S2x4x94x96.size a := fun v33 v35 v862 v1056 v1164 k0_hw582 => k0_hw582.2

def k0_chk583 (v30 : IVec S16 32) (v862 : IVec S16 32) (v1056 : IVec S16 32) (v1165 : IVec S16 32) : Prop :=
  (∀ a x, ((![v862, v1056, v1165, v30] : Fin 4 → IVec S16 32) a x).toNat < S2x4x32x32.size a)
theorem k0_idx761_inb : ∀ (v30 : IVec S16 32) (v862 : IVec S16 32) (v1056 : IVec S16 32) (v1165 : IVec S16 32) (k0_hw583 : k0_chk583 v30 v862 v1056 v1165), ∀ a x, ((![v862, v1056, v1165, v30] : Fin 4 → IVec S16 32) a x).toNat < S2x4x32x32.size a := fun v30 v862 v1056 v1165 k0_hw583 => k0_hw583

def k0_chk584 (v862 : IVec S16 32) (v1056 : IVec S16 32) (v1165 : IVec S16 32) (v1168 : IVec S16 32) : Prop :=
  (∀ a x, ((![v862, v1056, v1165, v1168] : Fin 4 → IVec S16 32) a x).toNat < S2x4x32x32.size a)
theorem k0_idx762_inb : ∀ (v862 : IVec S16 32) (v1056 : IVec S16 32) (v1165 : IVec S16 32) (v1168 : IVec S16 32) (k0_hw584 : k0_chk584 v862 v1056 v1165 v1168), ∀ a x, ((![v862, v1056, v1165, v1168] : Fin 4 → IVec S16 32) a x).toNat < S2x4x32x32.size a := fun v862 v1056 v1165 v1168 k0_hw584 => k0_hw584

def k0_chk585 (v33 : IVec S16 32) (v35 : IVec S16 32) (v862 : IVec S16 32) (v1056 : IVec S16 32) (v1170 : IVec S16 32) : Prop :=
  (∀ a x, ((![v862, v1056, v1170, v33] : Fin 4 → IVec S16 32) a x).toNat < S2x4x94x96.size a) ∧
  (∀ a x, ((![v862, v1056, v1170, v35] : Fin 4 → IVec S16 32) a x).toNat < S2x4x94x96.size a)
theorem k0_idx763_inb : ∀ (v33 : IVec S16 32) (v35 : IVec S16 32) (v862 : IVec S16 32) (v1056 : IVec S16 32) (v1170 : IVec S16 32) (k0_hw585 : k0_chk585 v33 v35 v862 v1056 v1170), ∀ a x, ((![v862, v1056, v1170, v33] : Fin 4 → IVec S16 32) a x).toNat < S2x4x94x96.size a := fun v33 v35 v862 v1056 v1170 k0_hw585 => k0_hw585.1
theorem k0_idx764_inb : ∀ (v33 : IVec S16 32) (v35 : IVec S16 32) (v862 : IVec S16 32) (v1056 : IVec S16 32) (v1170 : IVec S16 32) (k0_hw585 : k0_chk585 v33 v35 v862 v1056 v1170), ∀ a x, ((![v862, v1056, v1170, v35] : Fin 4 → IVec S16 32) a x).toNat < S2x4x94x96.size a := fun v33 v35 v862 v1056 v1170 k0_hw585 => k0_hw585.2

def k0_chk586 (v30 : IVec S16 32) (v862 : IVec S16 32) (v1056 : IVec S16 32) (v1171 : IVec S16 32) : Prop :=
  (∀ a x, ((![v862, v1056, v1171, v30] : Fin 4 → IVec S16 32) a x).toNat < S2x4x32x32.size a)
theorem k0_idx765_inb : ∀ (v30 : IVec S16 32) (v862 : IVec S16 32) (v1056 : IVec S16 32) (v1171 : IVec S16 32) (k0_hw586 : k0_chk586 v30 v862 v1056 v1171), ∀ a x, ((![v862, v1056, v1171, v30] : Fin 4 → IVec S16 32) a x).toNat < S2x4x32x32.size a := fun v30 v862 v1056 v1171 k0_hw586 => k0_hw586

def k0_chk587 (v862 : IVec S16 32) (v1056 : IVec S16 32) (v1171 : IVec S16 32) (v1174 : IVec S16 32) : Prop :=
  (∀ a x, ((![v862, v1056, v1171, v1174] : Fin 4 → IVec S16 32) a x).toNat < S2x4x32x32.size a)
theorem k0_idx766_inb : ∀ (v862 : IVec S16 32) (v1056 : IVec S16 32) (v1171 : IVec S16 32) (v1174 : IVec S16 32) (k0_hw587 : k0_chk587 v862 v1056 v1171 v1174), ∀ a x, ((![v862, v1056, v1171, v1174] : Fin 4 → IVec S16 32) a x).toNat < S2x4x32x32.size a := fun v862 v1056 v1171 v1174 k0_hw587 => k0_hw587

def k0_chk588 (v33 : IVec S16 32) (v35 : IVec S16 32) (v862 : IVec S16 32) (v1056 : IVec S16 32) (v1176 : IVec S16 32) : Prop :=
  (∀ a x, ((![v862, v1056, v1176, v33] : Fin 4 → IVec S16 32) a x).toNat < S2x4x94x96.size a) ∧
  (∀ a x, ((![v862, v1056, v1176, v35] : Fin 4 → IVec S16 32) a x).toNat < S2x4x94x96.size a)
theorem k0_idx767_inb : ∀ (v33 : IVec S16 32) (v35 : IVec S16 32) (v862 : IVec S16 32) (v1056 : IVec S16 32) (v1176 : IVec S16 32) (k0_hw588 : k0_chk588 v33 v35 v862 v1056 v1176), ∀ a x, ((![v862, v1056, v1176, v33] : Fin 4 → IVec S16 32) a x).toNat < S2x4x94x96.size a := fun v33 v35 v862 v1056 v1176 k0_hw588 => k0_hw588.1
theorem k0_idx768_inb : ∀ (v33 : IVec S16 32) (v35 : IVec S16 32) (v862 : IVec S16 32) (v1056 : IVec S16 32) (v1176 : IVec S16 32) (k0_hw588 : k0_chk588 v33 v35 v862 v1056 v1176), ∀ a x, ((![v862, v1056, v1176, v35] : Fin 4 → IVec S16 32) a x).toNat < S2x4x94x96.size a := fun v33 v35 v862 v1056 v1176 k0_hw588 => k0_hw588.2

def k0_chk589 (v30 : IVec S16 32) (v862 : IVec S16 32) (v1056 : IVec S16 32) (v1177 : IVec S16 32) : Prop :=
  (∀ a x, ((![v862, v1056, v1177, v30] : Fin 4 → IVec S16 32) a x).toNat < S2x4x32x32.size a)
theorem k0_idx769_inb : ∀ (v30 : IVec S16 32) (v862 : IVec S16 32) (v1056 : IVec S16 32) (v1177 : IVec S16 32) (k0_hw589 : k0_chk589 v30 v862 v1056 v1177), ∀ a x, ((![v862, v1056, v1177, v30] : Fin 4 → IVec S16 32) a x).toNat < S2x4x32x32.size a := fun v30 v862 v1056 v1177 k0_hw589 => k0_hw589

def k0_chk590 (v862 : IVec S16 32) (v1056 : IVec S16 32) (v1177 : IVec S16 32) (v1180 : IVec S16 32) : Prop :=
  (∀ a x, ((![v862, v1056, v1177, v1180] : Fin 4 → IVec S16 32) a x).toNat < S2x4x32x32.size a)
theorem k0_idx770_inb : ∀ (v862 : IVec S16 32) (v1056 : IVec S16 32) (v1177 : IVec S16 32) (v1180 : IVec S16 32) (k0_hw590 : k0_chk590 v862 v1056 v1177 v1180), ∀ a x, ((![v862, v1056, v1177, v1180] : Fin 4 → IVec S16 32) a x).toNat < S2x4x32x32.size a := fun v862 v1056 v1177 v1180 k0_hw590 => k0_hw590

def k0_chk591 (v33 : IVec S16 32) (v35 : IVec S16 32) (v862 : IVec S16 32) (v1056 : IVec S16 32) (v1182 : IVec S16 32) : Prop :=
  (∀ a x, ((![v862, v1056, v1182, v33] : Fin 4 → IVec S16 32) a x).toNat < S2x4x94x96.size a) ∧
  (∀ a x, ((![v862, v1056, v1182, v35] : Fin 4 → IVec S16 32) a x).toNat < S2x4x94x96.size a)
theorem k0_idx771_inb : ∀ (v33 : IVec S16 32) (v35 : IVec S16 32) (v862 : IVec S16 32) (v1056 : IVec S16 32) (v1182 : IVec S16 32) (k0_hw591 : k0_chk591 v33 v35 v862 v1056 v1182), ∀ a x, ((![v862, v1056, v1182, v33] : Fin 4 → IVec S16 32) a x).toNat < S2x4x94x96.size a := fun v33 v35 v862 v1056 v1182 k0_hw591 => k0_hw591.1
theorem k0_idx772_inb : ∀ (v33 : IVec S16 32) (v35 : IVec S16 32) (v862 : IVec S16 32) (v1056 : IVec S16 32) (v1182 : IVec S16 32) (k0_hw591 : k0_chk591 v33 v35 v862 v1056 v1182), ∀ a x, ((![v862, v1056, v1182, v35] : Fin 4 → IVec S16 32) a x).toNat < S2x4x94x96.size a := fun v33 v35 v862 v1056 v1182 k0_hw591 => k0_hw591.2

def k0_chk592 (v30 : IVec S16 32) (v862 : IVec S16 32) (v1056 : IVec S16 32) (v1183 : IVec S16 32) : Prop :=
  (∀ a x, ((![v862, v1056, v1183, v30] : Fin 4 → IVec S16 32) a x).toNat < S2x4x32x32.size a)
theorem k0_idx773_inb : ∀ (v30 : IVec S16 32) (v862 : IVec S16 32) (v1056 : IVec S16 32) (v1183 : IVec S16 32) (k0_hw592 : k0_chk592 v30 v862 v1056 v1183), ∀ a x, ((![v862, v1056, v1183, v30] : Fin 4 → IVec S16 32) a x).toNat < S2x4x32x32.size a := fun v30 v862 v1056 v1183 k0_hw592 => k0_hw592

def k0_chk593 (v862 : IVec S16 32) (v1056 : IVec S16 32) (v1183 : IVec S16 32) (v1186 : IVec S16 32) : Prop :=
  (∀ a x, ((![v862, v1056, v1183, v1186] : Fin 4 → IVec S16 32) a x).toNat < S2x4x32x32.size a)
theorem k0_idx774_inb : ∀ (v862 : IVec S16 32) (v1056 : IVec S16 32) (v1183 : IVec S16 32) (v1186 : IVec S16 32) (k0_hw593 : k0_chk593 v862 v1056 v1183 v1186), ∀ a x, ((![v862, v1056, v1183, v1186] : Fin 4 → IVec S16 32) a x).toNat < S2x4x32x32.size a := fun v862 v1056 v1183 v1186 k0_hw593 => k0_hw593

def k0_chk594 (v33 : IVec S16 32) (v35 : IVec S16 32) (v862 : IVec S16 32) (v1056 : IVec S16 32) (v1188 : IVec S16 32) : Prop :=
  (∀ a x, ((![v862, v1056, v1188, v33] : Fin 4 → IVec S16 32) a x).toNat < S2x4x94x96.size a) ∧
  (∀ a x, ((![v862, v1056, v1188, v35] : Fin 4 → IVec S16 32) a x).toNat < S2x4x94x96.size a)
theorem k0_idx775_inb : ∀ (v33 : IVec S16 32) (v35 : IVec S16 32) (v862 : IVec S16 32) (v1056 : IVec S16 32) (v1188 : IVec S16 32) (k0_hw594 : k0_chk594 v33 v35 v862 v1056 v1188), ∀ a x, ((![v862, v1056, v1188, v33] : Fin 4 → IVec S16 32) a x).toNat < S2x4x94x96.size a := fun v33 v35 v862 v1056 v1188 k0_hw594 => k0_hw594.1
theorem k0_idx776_inb : ∀ (v33 : IVec S16 32) (v35 : IVec S16 32) (v862 : IVec S16 32) (v1056 : IVec S16 32) (v1188 : IVec S16 32) (k0_hw594 : k0_chk594 v33 v35 v862 v1056 v1188), ∀ a x, ((![v862, v1056, v1188, v35] : Fin 4 → IVec S16 32) a x).toNat < S2x4x94x96.size a := fun v33 v35 v862 v1056 v1188 k0_hw594 => k0_hw594.2

def k0_chk595 (v30 : IVec S16 32) (v862 : IVec S16 32) (v1056 : IVec S16 32) (v1189 : IVec S16 32) : Prop :=
  (∀ a x, ((![v862, v1056, v1189, v30] : Fin 4 → IVec S16 32) a x).toNat < S2x4x32x32.size a)
theorem k0_idx777_inb : ∀ (v30 : IVec S16 32) (v862 : IVec S16 32) (v1056 : IVec S16 32) (v1189 : IVec S16 32) (k0_hw595 : k0_chk595 v30 v862 v1056 v1189), ∀ a x, ((![v862, v1056, v1189, v30] : Fin 4 → IVec S16 32) a x).toNat < S2x4x32x32.size a := fun v30 v862 v1056 v1189 k0_hw595 => k0_hw595

def k0_chk596 (v862 : IVec S16 32) (v1056 : IVec S16 32) (v1189 : IVec S16 32) (v1192 : IVec S16 32) : Prop :=
  (∀ a x, ((![v862, v1056, v1189, v1192] : Fin 4 → IVec S16 32) a x).toNat < S2x4x32x32.size a)
theorem k0_idx778_inb : ∀ (v862 : IVec S16 32) (v1056 : IVec S16 32) (v1189 : IVec S16 32) (v1192 : IVec S16 32) (k0_hw596 : k0_chk596 v862 v1056 v1189 v1192), ∀ a x, ((![v862, v1056, v1189, v1192] : Fin 4 → IVec S16 32) a x).toNat < S2x4x32x32.size a := fun v862 v1056 v1189 v1192 k0_hw596 => k0_hw596

def k0_chk597 (v33 : IVec S16 32) (v35 : IVec S16 32) (v862 : IVec S16 32) (v1056 : IVec S16 32) (v1194 : IVec S16 32) : Prop :=
  (∀ a x, ((![v862, v1056, v1194, v33] : Fin 4 → IVec S16 32) a x).toNat < S2x4x94x96.size a) ∧
  (∀ a x, ((![v862, v1056, v1194, v35] : Fin 4 → IVec S16 32) a x).toNat < S2x4x94x96.size a)
theorem k0_idx779_inb : ∀ (v33 : IVec S16 32) (v35 : IVec S16 32) (v862 : IVec S16 32) (v1056 : IVec S16 32) (v1194 : IVec S16 32) (k0_hw597 : k0_chk597 v33 v35 v862 v1056 v1194), ∀ a x, ((![v862, v1056, v1194, v33] : Fin 4 → IVec S16 32) a x).toNat < S2x4x94x96.size a := fun v33 v35 v862 v1056 v1194 k0_hw597 => k0_hw597.1
theorem k0_idx780_inb : ∀ (v33 : IVec S16 32) (v35 : IVec S16 32) (v862 : IVec S16 32) (v1056 : IVec S16 32) (v1194 : IVec S16 32) (k0_hw597 : k0_chk597 v33 v35 v862 v1056 v1194), ∀ a x, ((![v862, v1056, v1194, v35] : Fin 4 → IVec S16 32) a x).toNat < S2x4x94x96.size a := fun v33 v35 v862 v1056 v1194 k0_hw597 => k0_hw597.2

def k0_chk598 (v30 : IVec S16 32) (v862 : IVec S16 32) (v1056 : IVec S16 32) (v1195 : IVec S16 32) : Prop :=
  (∀ a x, ((![v862, v1056, v1195, v30] : Fin 4 → IVec S16 32) a x).toNat < S2x4x32x32.size a)
theorem k0_idx781_inb : ∀ (v30 : IVec S16 32) (v862 : IVec S16 32) (v1056 : IVec S16 32) (v1195 : IVec S16 32) (k0_hw598 : k0_chk598 v30 v862 v1056 v1195), ∀ a x, ((![v862, v1056, v1195, v30] : Fin 4 → IVec S16 32) a x).toNat < S2x4x32x32.size a := fun v30 v862 v1056 v1195 k0_hw598 => k0_hw598

def k0_chk599 (v862 : IVec S16 32) (v1056 : IVec S16 32) (v1195 : IVec S16 32) (v1198 : IVec S16 32) : Prop :=
  (∀ a x, ((![v862, v1056, v1195, v1198] : Fin 4 → IVec S16 32) a x).toNat < S2x4x32x32.size a)
theorem k0_idx782_inb : ∀ (v862 : IVec S16 32) (v1056 : IVec S16 32) (v1195 : IVec S16 32) (v1198 : IVec S16 32) (k0_hw599 : k0_chk599 v862 v1056 v1195 v1198), ∀ a x, ((![v862, v1056, v1195, v1198] : Fin 4 → IVec S16 32) a x).toNat < S2x4x32x32.size a := fun v862 v1056 v1195 v1198 k0_hw599 => k0_hw599

def k0_chk600 (v33 : IVec S16 32) (v35 : IVec S16 32) (v862 : IVec S16 32) (v1056 : IVec S16 32) (v1200 : IVec S16 32) : Prop :=
  (∀ a x, ((![v862, v1056, v1200, v33] : Fin 4 → IVec S16 32) a x).toNat < S2x4x94x96.size a) ∧
  (∀ a x, ((![v862, v1056, v1200, v35] : Fin 4 → IVec S16 32) a x).toNat < S2x4x94x96.size a)
theorem k0_idx783_inb : ∀ (v33 : IVec S16 32) (v35 : IVec S16 32) (v862 : IVec S16 32) (v1056 : IVec S16 32) (v1200 : IVec S16 32) (k0_hw600 : k0_chk600 v33 v35 v862 v1056 v1200), ∀ a x, ((![v862, v1056, v1200, v33] : Fin 4 → IVec S16 32) a x).toNat < S2x4x94x96.size a := fun v33 v35 v862 v1056 v1200 k0_hw600 => k0_hw600.1
theorem k0_idx784_inb : ∀ (v33 : IVec S16 32) (v35 : IVec S16 32) (v862 : IVec S16 32) (v1056 : IVec S16 32) (v1200 : IVec S16 32) (k0_hw600 : k0_chk600 v33 v35 v862 v1056 v1200), ∀ a x, ((![v862, v1056, v1200, v35] : Fin 4 → IVec S16 32) a x).toNat < S2x4x94x96.size a := fun v33 v35 v862 v1056 v1200 k0_hw600 => k0_hw600.2

def k0_chk601 (v30 : IVec S16 32) (v862 : IVec S16 32) (v1056 : IVec S16 32) (v1201 : IVec S16 32) : Prop :=
  (∀ a x, ((![v862, v1056, v1201, v30] : Fin 4 → IVec S16 32) a x).toNat < S2x4x32x32.size a)
theorem k0_idx785_inb : ∀ (v30 : IVec S16 32) (v862 : IVec S16 32) (v1056 : IVec S16 32) (v1201 : IVec S16 32) (k0_hw601 : k0_chk601 v30 v862 v1056 v1201), ∀ a x, ((![v862, v1056, v1201, v30] : Fin 4 → IVec S16 32) a x).toNat < S2x4x32x32.size a := fun v30 v862 v1056 v1201 k0_hw601 => k0_hw601

def k0_chk602 (v862 : IVec S16 32) (v1056 : IVec S16 32) (v1201 : IVec S16 32) (v1204 : IVec S16 32) : Prop :=
  (∀ a x, ((![v862, v1056, v1201, v1204] : Fin 4 → IVec S16 32) a x).toNat < S2x4x32x32.size a)
theorem k0_idx786_inb : ∀ (v862 : IVec S16 32) (v1056 : IVec S16 32) (v1201 : IVec S16 32) (v1204 : IVec S16 32) (k0_hw602 : k0_chk602 v862 v1056 v1201 v1204), ∀ a x, ((![v862, v1056, v1201, v1204] : Fin 4 → IVec S16 32) a x).toNat < S2x4x32x32.size a := fun v862 v1056 v1201 v1204 k0_hw602 => k0_hw602

def k0_chk603 (v33 : IVec S16 32) (v35 : IVec S16 32) (v862 : IVec S16 32) (v1056 : IVec S16 32) (v1206 : IVec S16 32) : Prop :=
  (∀ a x, ((![v862, v1056, v1206, v33] : Fin 4 → IVec S16 32) a x).toNat < S2x4x94x96.size a) ∧
  (∀ a x, ((![v862, v1056, v1206, v35] : Fin 4 → IVec S16 32) a x).toNat < S2x4x94x96.size a)
theorem k0_idx787_inb : ∀ (v33 : IVec S16 32) (v35 : IVec S16 32) (v862 : IVec S16 32) (v1056 : IVec S16 32) (v1206 : IVec S16 32) (k0_hw603 : k0_chk603 v33 v35 v862 v1056 v1206), ∀ a x, ((![v862, v1056, v1206, v33] : Fin 4 → IVec S16 32) a x).toNat < S2x4x94x96.size a := fun v33 v35 v862 v1056 v1206 k0_hw603 => k0_hw603.1
theorem k0_idx788_inb : ∀ (v33 : IVec S16 32) (v35 : IVec S16 32) (v862 : IVec S16 32) (v1056 : IVec S16 32) (v1206 : IVec S16 32) (k0_hw603 : k0_chk603 v33 v35 v862 v1056 v1206), ∀ a x, ((![v862, v1056, v1206, v35] : Fin 4 → IVec S16 32) a x).toNat < S2x4x94x96.size a := fun v33 v35 v862 v1056 v1206 k0_hw603 => k0_hw603.2

def k0_chk604 (v30 : IVec S16 32) (v862 : IVec S16 32) (v1056 : IVec S16 32) (v1207 : IVec S16 32) : Prop :=
  (∀ a x, ((![v862, v1056, v1207, v30] : Fin 4 → IVec S16 32) a x).toNat < S2x4x32x32.size a)
theorem k0_idx789_inb : ∀ (v30 : IVec S16 32) (v862 : IVec S16 32) (v1056 : IVec S16 32) (v1207 : IVec S16 32) (k0_hw604 : k0_chk604 v30 v862 v1056 v1207), ∀ a x, ((![v862, v1056, v1207, v30] : Fin 4 → IVec S16 32) a x).toNat < S2x4x32x32.size a := fun v30 v862 v1056 v1207 k0_hw604 => k0_hw604

def k0_chk605 (v862 : IVec S16 32) (v1056 : IVec S16 32) (v1207 : IVec S16 32) (v1210 : IVec S16 32) : Prop :=
  (∀ a x, ((![v862, v1056, v1207, v1210] : Fin 4 → IVec S16 32) a x).toNat < S2x4x32x32.size a)
theorem k0_idx790_inb : ∀ (v862 : IVec S16 32) (v1056 : IVec S16 32) (v1207 : IVec S16 32) (v1210 : IVec S16 32) (k0_hw605 : k0_chk605 v862 v1056 v1207 v1210), ∀ a x, ((![v862, v1056, v1207, v1210] : Fin 4 → IVec S16 32) a x).toNat < S2x4x32x32.size a := fun v862 v1056 v1207 v1210 k0_hw605 => k0_hw605

def k0_chk606 (v33 : IVec S16 32) (v35 : IVec S16 32) (v862 : IVec S16 32) (v1056 : IVec S16 32) (v1212 : IVec S16 32) : Prop :=
  (∀ a x, ((![v862, v1056, v1212, v33] : Fin 4 → IVec S16 32) a x).toNat < S2x4x94x96.size a) ∧
  (∀ a x, ((![v862, v1056, v1212, v35] : Fin 4 → IVec S16 32) a x).toNat < S2x4x94x96.size a)
theorem k0_idx791_inb : ∀ (v33 : IVec S16 32) (v35 : IVec S16 32) (v862 : IVec S16 32) (v1056 : IVec S16 32) (v1212 : IVec S16 32) (k0_hw606 : k0_chk606 v33 v35 v862 v1056 v1212), ∀ a x, ((![v862, v1056, v1212, v33] : Fin 4 → IVec S16 32) a x).toNat < S2x4x94x96.size a := fun v33 v35 v862 v1056 v1212 k0_hw606 => k0_hw606.1
theorem k0_idx792_inb : ∀ (v33 : IVec S16 32) (v35 : IVec S16 32) (v862 : IVec S16 32) (v1056 : IVec S16 32) (v1212 : IVec S16 32) (k0_hw606 : k0_chk606 v33 v35 v862 v1056 v1212), ∀ a x, ((![v862, v1056, v1212, v35] : Fin 4 → IVec S16 32) a x).toNat < S2x4x94x96.size a := fun v33 v35 v862 v1056 v1212 k0_hw606 => k0_hw606.2

def k0_chk607 (v30 : IVec S16 32) (v862 : IVec S16 32) (v1056 : IVec S16 32) (v1213 : IVec S16 32) : Prop :=
  (∀ a x, ((![v862, v1056, v1213, v30] : Fin 4 → IVec S16 32) a x).toNat < S2x4x32x32.size a)
theorem k0_idx793_inb : ∀ (v30 : IVec S16 32) (v862 : IVec S16 32) (v1056 : IVec S16 32) (v1213 : IVec S16 32) (k0_hw607 : k0_chk607 v30 v862 v1056 v1213), ∀ a x, ((![v862, v1056, v1213, v30] : Fin 4 → IVec S16 32) a x).toNat < S2x4x32x32.size a := fun v30 v862 v1056 v1213 k0_hw607 => k0_hw607

def k0_chk608 (v862 : IVec S16 32) (v1056 : IVec S16 32) (v1213 : IVec S16 32) (v1216 : IVec S16 32) : Prop :=
  (∀ a x, ((![v862, v1056, v1213, v1216] : Fin 4 → IVec S16 32) a x).toNat < S2x4x32x32.size a)
theorem k0_idx794_inb : ∀ (v862 : IVec S16 32) (v1056 : IVec S16 32) (v1213 : IVec S16 32) (v1216 : IVec S16 32) (k0_hw608 : k0_chk608 v862 v1056 v1213 v1216), ∀ a x, ((![v862, v1056, v1213, v1216] : Fin 4 → IVec S16 32) a x).toNat < S2x4x32x32.size a := fun v862 v1056 v1213 v1216 k0_hw608 => k0_hw608

def k0_chk609 (v33 : IVec S16 32) (v35 : IVec S16 32) (v862 : IVec S16 32) (v1056 : IVec S16 32) (v1218 : IVec S16 32) : Prop :=
  (∀ a x, ((![v862, v1056, v1218, v33] : Fin 4 → IVec S16 32) a x).toNat < S2x4x94x96.size a) ∧
  (∀ a x, ((![v862, v1056, v1218, v35] : Fin 4 → IVec S16 32) a x).toNat < S2x4x94x96.size a)
theorem k0_idx795_inb : ∀ (v33 : IVec S16 32) (v35 : IVec S16 32) (v862 : IVec S16 32) (v1056 : IVec S16 32) (v1218 : IVec S16 32) (k0_hw609 : k0_chk609 v33 v35 v862 v1056 v1218), ∀ a x, ((![v862, v1056, v1218, v33] : Fin 4 → IVec S16 32) a x).toNat < S2x4x94x96.size a := fun v33 v35 v862 v1056 v1218 k0_hw609 => k0_hw609.1
theorem k0_idx796_inb : ∀ (v33 : IVec S16 32) (v35 : IVec S16 32) (v862 : IVec S16 32) (v1056 : IVec S16 32) (v1218 : IVec S16 32) (k0_hw609 : k0_chk609 v33 v35 v862 v1056 v1218), ∀ a x, ((![v862, v1056, v1218, v35] : Fin 4 → IVec S16 32) a x).toNat < S2x4x94x96.size a := fun v33 v35 v862 v1056 v1218 k0_hw609 => k0_hw609.2

def k0_chk610 (v30 : IVec S16 32) (v862 : IVec S16 32) (v1056 : IVec S16 32) (v1219 : IVec S16 32) : Prop :=
  (∀ a x, ((![v862, v1056, v1219, v30] : Fin 4 → IVec S16 32) a x).toNat < S2x4x32x32.size a)
theorem k0_idx797_inb : ∀ (v30 : IVec S16 32) (v862 : IVec S16 32) (v1056 : IVec S16 32) (v1219 : IVec S16 32) (k0_hw610 : k0_chk610 v30 v862 v1056 v1219), ∀ a x, ((![v862, v1056, v1219, v30] : Fin 4 → IVec S16 32) a x).toNat < S2x4x32x32.size a := fun v30 v862 v1056 v1219 k0_hw610 => k0_hw610

def k0_chk611 (v862 : IVec S16 32) (v1056 : IVec S16 32) (v1219 : IVec S16 32) (v1222 : IVec S16 32) : Prop :=
  (∀ a x, ((![v862, v1056, v1219, v1222] : Fin 4 → IVec S16 32) a x).toNat < S2x4x32x32.size a)
theorem k0_idx798_inb : ∀ (v862 : IVec S16 32) (v1056 : IVec S16 32) (v1219 : IVec S16 32) (v1222 : IVec S16 32) (k0_hw611 : k0_chk611 v862 v1056 v1219 v1222), ∀ a x, ((![v862, v1056, v1219, v1222] : Fin 4 → IVec S16 32) a x).toNat < S2x4x32x32.size a := fun v862 v1056 v1219 v1222 k0_hw611 => k0_hw611

def k0_chk612 (v33 : IVec S16 32) (v35 : IVec S16 32) (v862 : IVec S16 32) (v1056 : IVec S16 32) (v1224 : IVec S16 32) : Prop :=
  (∀ a x, ((![v862, v1056, v1224, v33] : Fin 4 → IVec S16 32) a x).toNat < S2x4x94x96.size a) ∧
  (∀ a x, ((![v862, v1056, v1224, v35] : Fin 4 → IVec S16 32) a x).toNat < S2x4x94x96.size a)
theorem k0_idx799_inb : ∀ (v33 : IVec S16 32) (v35 : IVec S16 32) (v862 : IVec S16 32) (v1056 : IVec S16 32) (v1224 : IVec S16 32) (k0_hw612 : k0_chk612 v33 v35 v862 v1056 v1224), ∀ a x, ((![v862, v1056, v1224, v33] : Fin 4 → IVec S16 32) a x).toNat < S2x4x94x96.size a := fun v33 v35 v862 v1056 v1224 k0_hw612 => k0_hw612.1
theorem k0_idx800_inb : ∀ (v33 : IVec S16 32) (v35 : IVec S16 32) (v862 : IVec S16 32) (v1056 : IVec S16 32) (v1224 : IVec S16 32) (k0_hw612 : k0_chk612 v33 v35 v862 v1056 v1224), ∀ a x, ((![v862, v1056, v1224, v35] : Fin 4 → IVec S16 32) a x).toNat < S2x4x94x96.size a := fun v33 v35 v862 v1056 v1224 k0_hw612 => k0_hw612.2

def k0_chk613 (v30 : IVec S16 32) (v862 : IVec S16 32) (v1056 : IVec S16 32) (v1225 : IVec S16 32) : Prop :=
  (∀ a x, ((![v862, v1056, v1225, v30] : Fin 4 → IVec S16 32) a x).toNat < S2x4x32x32.size a)
theorem k0_idx801_inb : ∀ (v30 : IVec S16 32) (v862 : IVec S16 32) (v1056 : IVec S16 32) (v1225 : IVec S16 32) (k0_hw613 : k0_chk613 v30 v862 v1056 v1225), ∀ a x, ((![v862, v1056, v1225, v30] : Fin 4 → IVec S16 32) a x).toNat < S2x4x32x32.size a := fun v30 v862 v1056 v1225 k0_hw613 => k0_hw613

def k0_chk614 (v862 : IVec S16 32) (v1056 : IVec S16 32) (v1225 : IVec S16 32) (v1228 : IVec S16 32) : Prop :=
  (∀ a x, ((![v862, v1056, v1225, v1228] : Fin 4 → IVec S16 32) a x).toNat < S2x4x32x32.size a)
theorem k0_idx802_inb : ∀ (v862 : IVec S16 32) (v1056 : IVec S16 32) (v1225 : IVec S16 32) (v1228 : IVec S16 32) (k0_hw614 : k0_chk614 v862 v1056 v1225 v1228), ∀ a x, ((![v862, v1056, v1225, v1228] : Fin 4 → IVec S16 32) a x).toNat < S2x4x32x32.size a := fun v862 v1056 v1225 v1228 k0_hw614 => k0_hw614

def k0_chk615 (v33 : IVec S16 32) (v35 : IVec S16 32) (v862 : IVec S16 32) (v1056 : IVec S16 32) (v1230 : IVec S16 32) : Prop :=
  (∀ a x, ((![v862, v1056, v1230, v33] : Fin 4 → IVec S16 32) a x).toNat < S2x4x94x96.size a) ∧
  (∀ a x, ((![v862, v1056, v1230, v35] : Fin 4 → IVec S16 32) a x).toNat < S2x4x94x96.size a)
theorem k0_idx803_inb : ∀ (v33 : IVec S16 32) (v35 : IVec S16 32) (v862 : IVec S16 32) (v1056 : IVec S16 32) (v1230 : IVec S16 32) (k0_hw615 : k0_chk615 v33 v35 v862 v1056 v1230), ∀ a x, ((![v862, v1056, v1230, v33] : Fin 4 → IVec S16 32) a x).toNat < S2x4x94x96.size a := fun v33 v35 v862 v1056 v1230 k0_hw615 => k0_hw615.1
theorem k0_idx804_inb : ∀ (v33 : IVec S16 32) (v35 : IVec S16 32) (v862 : IVec S16 32) (v1056 : IVec S16 32) (v1230 : IVec S16 32) (k0_hw615 : k0_chk615 v33 v35 v862 v1056 v1230), ∀ a x, ((![v862, v1056, v1230, v35] : Fin 4 → IVec S16 32) a x).toNat < S2x4x94x96.size a := fun v33 v35 v862 v1056 v1230 k0_hw615 => k0_hw615.2

def k0_chk616 (v30 : IVec S16 32) (v862 : IVec S16 32) (v1056 : IVec S16 32) (v1231 : IVec S16 32) : Prop :=
  (∀ a x, ((![v862, v1056, v1231, v30] : Fin 4 → IVec S16 32) a x).toNat < S2x4x32x32.size a)
theorem k0_idx805_inb : ∀ (v30 : IVec S16 32) (v862 : IVec S16 32) (v1056 : IVec S16 32) (v1231 : IVec S16 32) (k0_hw616 : k0_chk616 v30 v862 v1056 v1231), ∀ a x, ((![v862, v1056, v1231, v30] : Fin 4 → IVec S16 32) a x).toNat < S2x4x32x32.size a := fun v30 v862 v1056 v1231 k0_hw616 => k0_hw616

def k0_chk617 (v862 : IVec S16 32) (v1056 : IVec S16 32) (v1231 : IVec S16 32) (v1234 : IVec S16 32) : Prop :=
  (∀ a x, ((![v862, v1056, v1231, v1234] : Fin 4 → IVec S16 32) a x).toNat < S2x4x32x32.size a)
theorem k0_idx806_inb : ∀ (v862 : IVec S16 32) (v1056 : IVec S16 32) (v1231 : IVec S16 32) (v1234 : IVec S16 32) (k0_hw617 : k0_chk617 v862 v1056 v1231 v1234), ∀ a x, ((![v862, v1056, v1231, v1234] : Fin 4 → IVec S16 32) a x).toNat < S2x4x32x32.size a := fun v862 v1056 v1231 v1234 k0_hw617 => k0_hw617

def k0_chk618 (v33 : IVec S16 32) (v35 : IVec S16 32) (v862 : IVec S16 32) (v1056 : IVec S16 32) (v1236 : IVec S16 32) : Prop :=
  (∀ a x, ((![v862, v1056, v1236, v33] : Fin 4 → IVec S16 32) a x).toNat < S2x4x94x96.size a) ∧
  (∀ a x, ((![v862, v1056, v1236, v35] : Fin 4 → IVec S16 32) a x).toNat < S2x4x94x96.size a)
theorem k0_idx807_inb : ∀ (v33 : IVec S16 32) (v35 : IVec S16 32) (v862 : IVec S16 32) (v1056 : IVec S16 32) (v1236 : IVec S16 32) (k0_hw618 : k0_chk618 v33 v35 v862 v1056 v1236), ∀ a x, ((![v862, v1056, v1236, v33] : Fin 4 → IVec S16 32) a x).toNat < S2x4x94x96.size a := fun v33 v35 v862 v1056 v1236 k0_hw618 => k0_hw618.1
theorem k0_idx808_inb : ∀ (v33 : IVec S16 32) (v35 : IVec S16 32) (v862 : IVec S16 32) (v1056 : IVec S16 32) (v1236 : IVec S16 32) (k0_hw618 : k0_chk618 v33 v35 v862 v1056 v1236), ∀ a x, ((![v862, v1056, v1236, v35] : Fin 4 → IVec S16 32) a x).toNat < S2x4x94x96.size a := fun v33 v35 v862 v1056 v1236 k0_hw618 => k0_hw618.2

def k0_chk619 (v30 : IVec S16 32) (v862 : IVec S16 32) (v1056 : IVec S16 32) (v1237 : IVec S16 32) : Prop :=
  (∀ a x, ((![v862, v1056, v1237, v30] : Fin 4 → IVec S16 32) a x).toNat < S2x4x32x32.size a)
theorem k0_idx809_inb : ∀ (v30 : IVec S16 32) (v862 : IVec S16 32) (v1056 : IVec S16 32) (v1237 : IVec S16 32) (k0_hw619 : k0_chk619 v30 v862 v1056 v1237), ∀ a x, ((![v862, v1056, v1237, v30] : Fin 4 → IVec S16 32) a x).toNat < S2x4x32x32.size a := fun v30 v862 v1056 v1237 k0_hw619 => k0_hw619

def k0_chk620 (v862 : IVec S16 32) (v1056 : IVec S16 32) (v1237 : IVec S16 32) (v1240 : IVec S16 32) : Prop :=
  (∀ a x, ((![v862, v1056, v1237, v1240] : Fin 4 → IVec S16 32) a x).toNat < S2x4x32x32.size a)
theorem k0_idx810_inb : ∀ (v862 : IVec S16 32) (v1056 : IVec S16 32) (v1237 : IVec S16 32) (v1240 : IVec S16 32) (k0_hw620 : k0_chk620 v862 v1056 v1237 v1240), ∀ a x, ((![v862, v1056, v1237, v1240] : Fin 4 → IVec S16 32) a x).toNat < S2x4x32x32.size a := fun v862 v1056 v1237 v1240 k0_hw620 => k0_hw620

def k0_chk621 (v33 : IVec S16 32) (v35 : IVec S16 32) (v862 : IVec S16 32) (v1056 : IVec S16 32) (v1242 : IVec S16 32) : Prop :=
  (∀ a x, ((![v862, v1056, v1242, v33] : Fin 4 → IVec S16 32) a x).toNat < S2x4x94x96.size a) ∧
  (∀ a x, ((![v862, v1056, v1242, v35] : Fin 4 → IVec S16 32) a x).toNat < S2x4x94x96.size a)
theorem k0_idx811_inb : ∀ (v33 : IVec S16 32) (v35 : IVec S16 32) (v862 : IVec S16 32) (v1056 : IVec S16 32) (v1242 : IVec S16 32) (k0_hw621 : k0_chk621 v33 v35 v862 v1056 v1242), ∀ a x, ((![v862, v1056, v1242, v33] : Fin 4 → IVec S16 32) a x).toNat < S2x4x94x96.size a := fun v33 v35 v862 v1056 v1242 k0_hw621 => k0_hw621.1
theorem k0_idx812_inb : ∀ (v33 : IVec S16 32) (v35 : IVec S16 32) (v862 : IVec S16 32) (v1056 : IVec S16 32) (v1242 : IVec S16 32) (k0_hw621 : k0_chk621 v33 v35 v862 v1056 v1242), ∀ a x, ((![v862, v1056, v1242, v35] : Fin 4 → IVec S16 32) a x).toNat < S2x4x94x96.size a := fun v33 v35 v862 v1056 v1242 k0_hw621 => k0_hw621.2

def k0_chk622 (v30 : IVec S16 32) (v862 : IVec S16 32) (v1056 : IVec S16 32) (v1243 : IVec S16 32) : Prop :=
  (∀ a x, ((![v862, v1056, v1243, v30] : Fin 4 → IVec S16 32) a x).toNat < S2x4x32x32.size a)
theorem k0_idx813_inb : ∀ (v30 : IVec S16 32) (v862 : IVec S16 32) (v1056 : IVec S16 32) (v1243 : IVec S16 32) (k0_hw622 : k0_chk622 v30 v862 v1056 v1243), ∀ a x, ((![v862, v1056, v1243, v30] : Fin 4 → IVec S16 32) a x).toNat < S2x4x32x32.size a := fun v30 v862 v1056 v1243 k0_hw622 => k0_hw622

def k0_chk623 (v862 : IVec S16 32) (v1056 : IVec S16 32) (v1243 : IVec S16 32) (v1246 : IVec S16 32) : Prop :=
  (∀ a x, ((![v862, v1056, v1243, v1246] : Fin 4 → IVec S16 32) a x).toNat < S2x4x32x32.size a)
theorem k0_idx814_inb : ∀ (v862 : IVec S16 32) (v1056 : IVec S16 32) (v1243 : IVec S16 32) (v1246 : IVec S16 32) (k0_hw623 : k0_chk623 v862 v1056 v1243 v1246), ∀ a x, ((![v862, v1056, v1243, v1246] : Fin 4 → IVec S16 32) a x).toNat < S2x4x32x32.size a := fun v862 v1056 v1243 v1246 k0_hw623 => k0_hw623

def k0_chk624 (v33 : IVec S16 32) (v35 : IVec S16 32) (v862 : IVec S16 32) (v1056 : IVec S16 32) (v1248 : IVec S16 32) : Prop :=
  (∀ a x, ((![v862, v1056, v1248, v33] : Fin 4 → IVec S16 32) a x).toNat < S2x4x94x96.size a) ∧
  (∀ a x, ((![v862, v1056, v1248, v35] : Fin 4 → IVec S16 32) a x).toNat < S2x4x94x96.size a)
theorem k0_idx815_inb : ∀ (v33 : IVec S16 32) (v35 : IVec S16 32) (v862 : IVec S16 32) (v1056 : IVec S16 32) (v1248 : IVec S16 32) (k0_hw624 : k0_chk624 v33 v35 v862 v1056 v1248), ∀ a x, ((![v862, v1056, v1248, v33] : Fin 4 → IVec S16 32) a x).toNat < S2x4x94x96.size a := fun v33 v35 v862 v1056 v1248 k0_hw624 => k0_hw624.1
theorem k0_idx816_inb : ∀ (v33 : IVec S16 32) (v35 : IVec S16 32) (v862 : IVec S16 32) (v1056 : IVec S16 32) (v1248 : IVec S16 32) (k0_hw624 : k0_chk624 v33 v35 v862 v1056 v1248), ∀ a x, ((![v862, v1056, v1248, v35] : Fin 4 → IVec S16 32) a x).toNat < S2x4x94x96.size a := fun v33 v35 v862 v1056 v1248 k0_hw624 => k0_hw624.2

def k0_chk625 (v30 : IVec S16 32) (v862 : IVec S16 32) (v1249 : IVec S16 32) (v1250 : IVec S16 32) : Prop :=
  (∀ a x, ((![v862, v1249, v1250, v30] : Fin 4 → IVec S16 32) a x).toNat < S2x4x32x32.size a)
theorem k0_idx817_inb : ∀ (v30 : IVec S16 32) (v862 : IVec S16 32) (v1249 : IVec S16 32) (v1250 : IVec S16 32) (k0_hw625 : k0_chk625 v30 v862 v1249 v1250), ∀ a x, ((![v862, v1249, v1250, v30] : Fin 4 → IVec S16 32) a x).toNat < S2x4x32x32.size a := fun v30 v862 v1249 v1250 k0_hw625 => k0_hw625

def k0_chk626 (v862 : IVec S16 32) (v1249 : IVec S16 32) (v1250 : IVec S16 32) (v1253 : IVec S16 32) : Prop :=
  (∀ a x, ((![v862, v1249, v1250, v1253] : Fin 4 → IVec S16 32) a x).toNat < S2x4x32x32.size a)
theorem k0_idx818_inb : ∀ (v862 : IVec S16 32) (v1249 : IVec S16 32) (v1250 : IVec S16 32) (v1253 : IVec S16 32) (k0_hw626 : k0_chk626 v862 v1249 v1250 v1253), ∀ a x, ((![v862, v1249, v1250, v1253] : Fin 4 → IVec S16 32) a x).toNat < S2x4x32x32.size a := fun v862 v1249 v1250 v1253 k0_hw626 => k0_hw626

def k0_chk627 (v33 : IVec S16 32) (v35 : IVec S16 32) (v862 : IVec S16 32) (v1249 : IVec S16 32) (v1255 : IVec S16 32) : Prop :=
  (∀ a x, ((![v862, v1249, v1255, v33] : Fin 4 → IVec S16 32) a x).toNat < S2x4x94x96.size a) ∧
  (∀ a x, ((![v862, v1249, v1255, v35] : Fin 4 → IVec S16 32) a x).toNat < S2x4x94x96.size a)
theorem k0_idx819_inb : ∀ (v33 : IVec S16 32) (v35 : IVec S16 32) (v862 : IVec S16 32) (v1249 : IVec S16 32) (v1255 : IVec S16 32) (k0_hw627 : k0_chk627 v33 v35 v862 v1249 v1255), ∀ a x, ((![v862, v1249, v1255, v33] : Fin 4 → IVec S16 32) a x).toNat < S2x4x94x96.size a := fun v33 v35 v862 v1249 v1255 k0_hw627 => k0_hw627.1
theorem k0_idx820_inb : ∀ (v33 : IVec S16 32) (v35 : IVec S16 32) (v862 : IVec S16 32) (v1249 : IVec S16 32) (v1255 : IVec S16 32) (k0_hw627 : k0_chk627 v33 v35 v862 v1249 v1255), ∀ a x, ((![v862, v1249, v1255, v35] : Fin 4 → IVec S16 32) a x).toNat < S2x4x94x96.size a := fun v33 v35 v862 v1249 v1255 k0_hw627 => k0_hw627.2

def k0_chk628 (v30 : IVec S16 32) (v862 : IVec S16 32) (v1249 : IVec S16 32) (v1256 : IVec S16 32) : Prop :=
  (∀ a x, ((![v862, v1249, v1256, v30] : Fin 4 → IVec S16 32) a x).toNat < S2x4x32x32.size a)
theorem k0_idx821_inb : ∀ (v30 : IVec S16 32) (v862 : IVec S16 32) (v1249 : IVec S16 32) (v1256 : IVec S16 32) (k0_hw628 : k0_chk628 v30 v862 v1249 v1256), ∀ a x, ((![v862, v1249, v1256, v30] : Fin 4 → IVec S16 32) a x).toNat < S2x4x32x32.size a := fun v30 v862 v1249 v1256 k0_hw628 => k0_hw628

def k0_chk629 (v862 : IVec S16 32) (v1249 : IVec S16 32) (v1256 : IVec S16 32) (v1259 : IVec S16 32) : Prop :=
  (∀ a x, ((![v862, v1249, v1256, v1259] : Fin 4 → IVec S16 32) a x).toNat < S2x4x32x32.size a)
theorem k0_idx822_inb : ∀ (v862 : IVec S16 32) (v1249 : IVec S16 32) (v1256 : IVec S16 32) (v1259 : IVec S16 32) (k0_hw629 : k0_chk629 v862 v1249 v1256 v1259), ∀ a x, ((![v862, v1249, v1256, v1259] : Fin 4 → IVec S16 32) a x).toNat < S2x4x32x32.size a := fun v862 v1249 v1256 v1259 k0_hw629 => k0_hw629

def k0_chk630 (v33 : IVec S16 32) (v35 : IVec S16 32) (v862 : IVec S16 32) (v1249 : IVec S16 32) (v1261 : IVec S16 32) : Prop :=
  (∀ a x, ((![v862, v1249, v1261, v33] : Fin 4 → IVec S16 32) a x).toNat < S2x4x94x96.size a) ∧
  (∀ a x, ((![v862, v1249, v1261, v35] : Fin 4 → IVec S16 32) a x).toNat < S2x4x94x96.size a)
theorem k0_idx823_inb : ∀ (v33 : IVec S16 32) (v35 : IVec S16 32) (v862 : IVec S16 32) (v1249 : IVec S16 32) (v1261 : IVec S16 32) (k0_hw630 : k0_chk630 v33 v35 v862 v1249 v1261), ∀ a x, ((![v862, v1249, v1261, v33] : Fin 4 → IVec S16 32) a x).toNat < S2x4x94x96.size a := fun v33 v35 v862 v1249 v1261 k0_hw630 => k0_hw630.1
theorem k0_idx824_inb : ∀ (v33 : IVec S16 32) (v35 : IVec S16 32) (v862 : IVec S16 32) (v1249 : IVec S16 32) (v1261 : IVec S16 32) (k0_hw630 : k0_chk630 v33 v35 v862 v1249 v1261), ∀ a x, ((![v862, v1249, v1261, v35] : Fin 4 → IVec S16 32) a x).toNat < S2x4x94x96.size a := fun v33 v35 v862 v1249 v1261 k0_hw630 => k0_hw630.2

def k0_chk631 (v30 : IVec S16 32) (v862 : IVec S16 32) (v1249 : IVec S16 32) (v1262 : IVec S16 32) : Prop :=
  (∀ a x, ((![v862, v1249, v1262, v30] : Fin 4 → IVec S16 32) a x).toNat < S2x4x32x32.size a)
theorem k0_idx825_inb : ∀ (v30 : IVec S16 32) (v862 : IVec S16 32) (v1249 : IVec S16 32) (v1262 : IVec S16 32) (k0_hw631 : k0_chk631 v30 v862 v1249 v1262), ∀ a x, ((![v862, v1249, v1262, v30] : Fin 4 → IVec S16 32) a x).toNat < S2x4x32x32.size a := fun v30 v862 v1249 v1262 k0_hw631 => k0_hw631

def k0_chk632 (v862 : IVec S16 32) (v1249 : IVec S16 32) (v1262 : IVec S16 32) (v1265 : IVec S16 32) : Prop :=
  (∀ a x, ((![v862, v1249, v1262, v1265] : Fin 4 → IVec S16 32) a x).toNat < S2x4x32x32.size a)
theorem k0_idx826_inb : ∀ (v862 : IVec S16 32) (v1249 : IVec S16 32) (v1262 : IVec S16 32) (v1265 : IVec S16 32) (k0_hw632 : k0_chk632 v862 v1249 v1262 v1265), ∀ a x, ((![v862, v1249, v1262, v1265] : Fin 4 → IVec S16 32) a x).toNat < S2x4x32x32.size a := fun v862 v1249 v1262 v1265 k0_hw632 => k0_hw632

def k0_chk633 (v33 : IVec S16 32) (v35 : IVec S16 32) (v862 : IVec S16 32) (v1249 : IVec S16 32) (v1267 : IVec S16 32) : Prop :=
  (∀ a x, ((![v862, v1249, v1267, v33] : Fin 4 → IVec S16 32) a x).toNat < S2x4x94x96.size a) ∧
  (∀ a x, ((![v862, v1249, v1267, v35] : Fin 4 → IVec S16 32) a x).toNat < S2x4x94x96.size a)
theorem k0_idx827_inb : ∀ (v33 : IVec S16 32) (v35 : IVec S16 32) (v862 : IVec S16 32) (v1249 : IVec S16 32) (v1267 : IVec S16 32) (k0_hw633 : k0_chk633 v33 v35 v862 v1249 v1267), ∀ a x, ((![v862, v1249, v1267, v33] : Fin 4 → IVec S16 32) a x).toNat < S2x4x94x96.size a := fun v33 v35 v862 v1249 v1267 k0_hw633 => k0_hw633.1
theorem k0_idx828_inb : ∀ (v33 : IVec S16 32) (v35 : IVec S16 32) (v862 : IVec S16 32) (v1249 : IVec S16 32) (v1267 : IVec S16 32) (k0_hw633 : k0_chk633 v33 v35 v862 v1249 v1267), ∀ a x, ((![v862, v1249, v1267, v35] : Fin 4 → IVec S16 32) a x).toNat < S2x4x94x96.size a := fun v33 v35 v862 v1249 v1267 k0_hw633 => k0_hw633.2

def k0_chk634 (v30 : IVec S16 32) (v862 : IVec S16 32) (v1249 : IVec S16 32) (v1268 : IVec S16 32) : Prop :=
  (∀ a x, ((![v862, v1249, v1268, v30] : Fin 4 → IVec S16 32) a x).toNat < S2x4x32x32.size a)
theorem k0_idx829_inb : ∀ (v30 : IVec S16 32) (v862 : IVec S16 32) (v1249 : IVec S16 32) (v1268 : IVec S16 32) (k0_hw634 : k0_chk634 v30 v862 v1249 v1268), ∀ a x, ((![v862, v1249, v1268, v30] : Fin 4 → IVec S16 32) a x).toNat < S2x4x32x32.size a := fun v30 v862 v1249 v1268 k0_hw634 => k0_hw634

def k0_chk635 (v862 : IVec S16 32) (v1249 : IVec S16 32) (v1268 : IVec S16 32) (v1271 : IVec S16 32) : Prop :=
  (∀ a x, ((![v862, v1249, v1268, v1271] : Fin 4 → IVec S16 32) a x).toNat < S2x4x32x32.size a)
theorem k0_idx830_inb : ∀ (v862 : IVec S16 32) (v1249 : IVec S16 32) (v1268 : IVec S16 32) (v1271 : IVec S16 32) (k0_hw635 : k0_chk635 v862 v1249 v1268 v1271), ∀ a x, ((![v862, v1249, v1268, v1271] : Fin 4 → IVec S16 32) a x).toNat < S2x4x32x32.size a := fun v862 v1249 v1268 v1271 k0_hw635 => k0_hw635

def k0_chk636 (v33 : IVec S16 32) (v35 : IVec S16 32) (v862 : IVec S16 32) (v1249 : IVec S16 32) (v1273 : IVec S16 32) : Prop :=
  (∀ a x, ((![v862, v1249, v1273, v33] : Fin 4 → IVec S16 32) a x).toNat < S2x4x94x96.size a) ∧
  (∀ a x, ((![v862, v1249, v1273, v35] : Fin 4 → IVec S16 32) a x).toNat < S2x4x94x96.size a)
theorem k0_idx831_inb : ∀ (v33 : IVec S16 32) (v35 : IVec S16 32) (v862 : IVec S16 32) (v1249 : IVec S16 32) (v1273 : IVec S16 32) (k0_hw636 : k0_chk636 v33 v35 v862 v1249 v1273), ∀ a x, ((![v862, v1249, v1273, v33] : Fin 4 → IVec S16 32) a x).toNat < S2x4x94x96.size a := fun v33 v35 v862 v1249 v1273 k0_hw636 => k0_hw636.1
theorem k0_idx832_inb : ∀ (v33 : IVec S16 32) (v35 : IVec S16 32) (v862 : IVec S16 32) (v1249 : IVec S16 32) (v1273 : IVec S16 32) (k0_hw636 : k0_chk636 v33 v35 v862 v1249 v1273), ∀ a x, ((![v862, v1249, v1273, v35] : Fin 4 → IVec S16 32) a x).toNat < S2x4x94x96.size a := fun v33 v35 v862 v1249 v1273 k0_hw636 => k0_hw636.2

def k0_chk637 (v30 : IVec S16 32) (v862 : IVec S16 32) (v1249 : IVec S16 32) (v1274 : IVec S16 32) : Prop :=
  (∀ a x, ((![v862, v1249, v1274, v30] : Fin 4 → IVec S16 32) a x).toNat < S2x4x32x32.size a)
theorem k0_idx833_inb : ∀ (v30 : IVec S16 32) (v862 : IVec S16 32) (v1249 : IVec S16 32) (v1274 : IVec S16 32) (k0_hw637 : k0_chk637 v30 v862 v1249 v1274), ∀ a x, ((![v862, v1249, v1274, v30] : Fin 4 → IVec S16 32) a x).toNat < S2x4x32x32.size a := fun v30 v862 v1249 v1274 k0_hw637 => k0_hw637

def k0_chk638 (v862 : IVec S16 32) (v1249 : IVec S16 32) (v1274 : IVec S16 32) (v1277 : IVec S16 32) : Prop :=
  (∀ a x, ((![v862, v1249, v1274, v1277] : Fin 4 → IVec S16 32) a x).toNat < S2x4x32x32.size a)
theorem k0_idx834_inb : ∀ (v862 : IVec S16 32) (v1249 : IVec S16 32) (v1274 : IVec S16 32) (v1277 : IVec S16 32) (k0_hw638 : k0_chk638 v862 v1249 v1274 v1277), ∀ a x, ((![v862, v1249, v1274, v1277] : Fin 4 → IVec S16 32) a x).toNat < S2x4x32x32.size a := fun v862 v1249 v1274 v1277 k0_hw638 => k0_hw638

def k0_chk639 (v33 : IVec S16 32) (v35 : IVec S16 32) (v862 : IVec S16 32) (v1249 : IVec S16 32) (v1279 : IVec S16 32) : Prop :=
  (∀ a x, ((![v862, v1249, v1279, v33] : Fin 4 → IVec S16 32) a x).toNat < S2x4x94x96.size a) ∧
  (∀ a x, ((![v862, v1249, v1279, v35] : Fin 4 → IVec S16 32) a x).toNat < S2x4x94x96.size a)
theorem k0_idx835_inb : ∀ (v33 : IVec S16 32) (v35 : IVec S16 32) (v862 : IVec S16 32) (v1249 : IVec S16 32) (v1279 : IVec S16 32) (k0_hw639 : k0_chk639 v33 v35 v862 v1249 v1279), ∀ a x, ((![v862, v1249, v1279, v33] : Fin 4 → IVec S16 32) a x).toNat < S2x4x94x96.size a := fun v33 v35 v862 v1249 v1279 k0_hw639 => k0_hw639.1
theorem k0_idx836_inb : ∀ (v33 : IVec S16 32) (v35 : IVec S16 32) (v862 : IVec S16 32) (v1249 : IVec S16 32) (v1279 : IVec S16 32) (k0_hw639 : k0_chk639 v33 v35 v862 v1249 v1279), ∀ a x, ((![v862, v1249, v1279, v35] : Fin 4 → IVec S16 32) a x).toNat < S2x4x94x96.size a := fun v33 v35 v862 v1249 v1279 k0_hw639 => k0_hw639.2

def k0_chk640 (v30 : IVec S16 32) (v862 : IVec S16 32) (v1249 : IVec S16 32) (v1280 : IVec S16 32) : Prop :=
  (∀ a x, ((![v862, v1249, v1280, v30] : Fin 4 → IVec S16 32) a x).toNat < S2x4x32x32.size a)
theorem k0_idx837_inb : ∀ (v30 : IVec S16 32) (v862 : IVec S16 32) (v1249 : IVec S16 32) (v1280 : IVec S16 32) (k0_hw640 : k0_chk640 v30 v862 v1249 v1280), ∀ a x, ((![v862, v1249, v1280, v30] : Fin 4 → IVec S16 32) a x).toNat < S2x4x32x32.size a := fun v30 v862 v1249 v1280 k0_hw640 => k0_hw640

def k0_chk641 (v862 : IVec S16 32) (v1249 : IVec S16 32) (v1280 : IVec S16 32) (v1283 : IVec S16 32) : Prop :=
  (∀ a x, ((![v862, v1249, v1280, v1283] : Fin 4 → IVec S16 32) a x).toNat < S2x4x32x32.size a)
theorem k0_idx838_inb : ∀ (v862 : IVec S16 32) (v1249 : IVec S16 32) (v1280 : IVec S16 32) (v1283 : IVec S16 32) (k0_hw641 : k0_chk641 v862 v1249 v1280 v1283), ∀ a x, ((![v862, v1249, v1280, v1283] : Fin 4 → IVec S16 32) a x).toNat < S2x4x32x32.size a := fun v862 v1249 v1280 v1283 k0_hw641 => k0_hw641

def k0_chk642 (v33 : IVec S16 32) (v35 : IVec S16 32) (v862 : IVec S16 32) (v1249 : IVec S16 32) (v1285 : IVec S16 32) : Prop :=
  (∀ a x, ((![v862, v1249, v1285, v33] : Fin 4 → IVec S16 32) a x).toNat < S2x4x94x96.size a) ∧
  (∀ a x, ((![v862, v1249, v1285, v35] : Fin 4 → IVec S16 32) a x).toNat < S2x4x94x96.size a)
theorem k0_idx839_inb : ∀ (v33 : IVec S16 32) (v35 : IVec S16 32) (v862 : IVec S16 32) (v1249 : IVec S16 32) (v1285 : IVec S16 32) (k0_hw642 : k0_chk642 v33 v35 v862 v1249 v1285), ∀ a x, ((![v862, v1249, v1285, v33] : Fin 4 → IVec S16 32) a x).toNat < S2x4x94x96.size a := fun v33 v35 v862 v1249 v1285 k0_hw642 => k0_hw642.1
theorem k0_idx840_inb : ∀ (v33 : IVec S16 32) (v35 : IVec S16 32) (v862 : IVec S16 32) (v1249 : IVec S16 32) (v1285 : IVec S16 32) (k0_hw642 : k0_chk642 v33 v35 v862 v1249 v1285), ∀ a x, ((![v862, v1249, v1285, v35] : Fin 4 → IVec S16 32) a x).toNat < S2x4x94x96.size a := fun v33 v35 v862 v1249 v1285 k0_hw642 => k0_hw642.2

def k0_chk643 (v30 : IVec S16 32) (v862 : IVec S16 32) (v1249 : IVec S16 32) (v1286 : IVec S16 32) : Prop :=
  (∀ a x, ((![v862, v1249, v1286, v30] : Fin 4 → IVec S16 32) a x).toNat < S2x4x32x32.size a)
theorem k0_idx841_inb : ∀ (v30 : IVec S16 32) (v862 : IVec S16 32) (v1249 : IVec S16 32) (v1286 : IVec S16 32) (k0_hw643 : k0_chk643 v30 v862 v1249 v1286), ∀ a x, ((![v862, v1249, v1286, v30] : Fin 4 → IVec S16 32) a x).toNat < S2x4x32x32.size a := fun v30 v862 v1249 v1286 k0_hw643 => k0_hw643

def k0_chk644 (v862 : IVec S16 32) (v1249 : IVec S16 32) (v1286 : IVec S16 32) (v1289 : IVec S16 32) : Prop :=
  (∀ a x, ((![v862, v1249, v1286, v1289] : Fin 4 → IVec S16 32) a x).toNat < S2x4x32x32.size a)
theorem k0_idx842_inb : ∀ (v862 : IVec S16 32) (v1249 : IVec S16 32) (v1286 : IVec S16 32) (v1289 : IVec S16 32) (k0_hw644 : k0_chk644 v862 v1249 v1286 v1289), ∀ a x, ((![v862, v1249, v1286, v1289] : Fin 4 → IVec S16 32) a x).toNat < S2x4x32x32.size a := fun v862 v1249 v1286 v1289 k0_hw644 => k0_hw644

def k0_chk645 (v33 : IVec S16 32) (v35 : IVec S16 32) (v862 : IVec S16 32) (v1249 : IVec S16 32) (v1291 : IVec S16 32) : Prop :=
  (∀ a x, ((![v862, v1249, v1291, v33] : Fin 4 → IVec S16 32) a x).toNat < S2x4x94x96.size a) ∧
  (∀ a x, ((![v862, v1249, v1291, v35] : Fin 4 → IVec S16 32) a x).toNat < S2x4x94x96.size a)
theorem k0_idx843_inb : ∀ (v33 : IVec S16 32) (v35 : IVec S16 32) (v862 : IVec S16 32) (v1249 : IVec S16 32) (v1291 : IVec S16 32) (k0_hw645 : k0_chk645 v33 v35 v862 v1249 v1291), ∀ a x, ((![v862, v1249, v1291, v33] : Fin 4 → IVec S16 32) a x).toNat < S2x4x94x96.size a := fun v33 v35 v862 v1249 v1291 k0_hw645 => k0_hw645.1
theorem k0_idx844_inb : ∀ (v33 : IVec S16 32) (v35 : IVec S16 32) (v862 : IVec S16 32) (v1249 : IVec S16 32) (v1291 : IVec S16 32) (k0_hw645 : k0_chk645 v33 v35 v862 v1249 v1291), ∀ a x, ((![v862, v1249, v1291, v35] : Fin 4 → IVec S16 32) a x).toNat < S2x4x94x96.size a := fun v33 v35 v862 v1249 v1291 k0_hw645 => k0_hw645.2

def k0_chk646 (v30 : IVec S16 32) (v862 : IVec S16 32) (v1249 : IVec S16 32) (v1292 : IVec S16 32) : Prop :=
  (∀ a x, ((![v862, v1249, v1292, v30] : Fin 4 → IVec S16 32) a x).toNat < S2x4x32x32.size a)
theorem k0_idx845_inb : ∀ (v30 : IVec S16 32) (v862 : IVec S16 32) (v1249 : IVec S16 32) (v1292 : IVec S16 32) (k0_hw646 : k0_chk646 v30 v862 v1249 v1292), ∀ a x, ((![v862, v1249, v1292, v30] : Fin 4 → IVec S16 32) a x).toNat < S2x4x32x32.size a := fun v30 v862 v1249 v1292 k0_hw646 => k0_hw646

def k0_chk647 (v862 : IVec S16 32) (v1249 : IVec S16 32) (v1292 : IVec S16 32) (v1295 : IVec S16 32) : Prop :=
  (∀ a x, ((![v862, v1249, v1292, v1295] : Fin 4 → IVec S16 32) a x).toNat < S2x4x32x32.size a)
theorem k0_idx846_inb : ∀ (v862 : IVec S16 32) (v1249 : IVec S16 32) (v1292 : IVec S16 32) (v1295 : IVec S16 32) (k0_hw647 : k0_chk647 v862 v1249 v1292 v1295), ∀ a x, ((![v862, v1249, v1292, v1295] : Fin 4 → IVec S16 32) a x).toNat < S2x4x32x32.size a := fun v862 v1249 v1292 v1295 k0_hw647 => k0_hw647

def k0_chk648 (v33 : IVec S16 32) (v35 : IVec S16 32) (v862 : IVec S16 32) (v1249 : IVec S16 32) (v1297 : IVec S16 32) : Prop :=
  (∀ a x, ((![v862, v1249, v1297, v33] : Fin 4 → IVec S16 32) a x).toNat < S2x4x94x96.size a) ∧
  (∀ a x, ((![v862, v1249, v1297, v35] : Fin 4 → IVec S16 32) a x).toNat < S2x4x94x96.size a)
theorem k0_idx847_inb : ∀ (v33 : IVec S16 32) (v35 : IVec S16 32) (v862 : IVec S16 32) (v1249 : IVec S16 32) (v1297 : IVec S16 32) (k0_hw648 : k0_chk648 v33 v35 v862 v1249 v1297), ∀ a x, ((![v862, v1249, v1297, v33] : Fin 4 → IVec S16 32) a x).toNat < S2x4x94x96.size a := fun v33 v35 v862 v1249 v1297 k0_hw648 => k0_hw648.1
theorem k0_idx848_inb : ∀ (v33 : IVec S16 32) (v35 : IVec S16 32) (v862 : IVec S16 32) (v1249 : IVec S16 32) (v1297 : IVec S16 32) (k0_hw648 : k0_chk648 v33 v35 v862 v1249 v1297), ∀ a x, ((![v862, v1249, v1297, v35] : Fin 4 → IVec S16 32) a x).toNat < S2x4x94x96.size a := fun v33 v35 v862 v1249 v1297 k0_hw648 => k0_hw648.2

def k0_chk649 (v30 : IVec S16 32) (v862 : IVec S16 32) (v1249 : IVec S16 32) (v1298 : IVec S16 32) : Prop :=
  (∀ a x, ((![v862, v1249, v1298, v30] : Fin 4 → IVec S16 32) a x).toNat < S2x4x32x32.size a)
theorem k0_idx849_inb : ∀ (v30 : IVec S16 32) (v862 : IVec S16 32) (v1249 : IVec S16 32) (v1298 : IVec S16 32) (k0_hw649 : k0_chk649 v30 v862 v1249 v1298), ∀ a x, ((![v862, v1249, v1298, v30] : Fin 4 → IVec S16 32) a x).toNat < S2x4x32x32.size a := fun v30 v862 v1249 v1298 k0_hw649 => k0_hw649

def k0_chk650 (v862 : IVec S16 32) (v1249 : IVec S16 32) (v1298 : IVec S16 32) (v1301 : IVec S16 32) : Prop :=
  (∀ a x, ((![v862, v1249, v1298, v1301] : Fin 4 → IVec S16 32) a x).toNat < S2x4x32x32.size a)
theorem k0_idx850_inb : ∀ (v862 : IVec S16 32) (v1249 : IVec S16 32) (v1298 : IVec S16 32) (v1301 : IVec S16 32) (k0_hw650 : k0_chk650 v862 v1249 v1298 v1301), ∀ a x, ((![v862, v1249, v1298, v1301] : Fin 4 → IVec S16 32) a x).toNat < S2x4x32x32.size a := fun v862 v1249 v1298 v1301 k0_hw650 => k0_hw650

def k0_chk651 (v33 : IVec S16 32) (v35 : IVec S16 32) (v862 : IVec S16 32) (v1249 : IVec S16 32) (v1303 : IVec S16 32) : Prop :=
  (∀ a x, ((![v862, v1249, v1303, v33] : Fin 4 → IVec S16 32) a x).toNat < S2x4x94x96.size a) ∧
  (∀ a x, ((![v862, v1249, v1303, v35] : Fin 4 → IVec S16 32) a x).toNat < S2x4x94x96.size a)
theorem k0_idx851_inb : ∀ (v33 : IVec S16 32) (v35 : IVec S16 32) (v862 : IVec S16 32) (v1249 : IVec S16 32) (v1303 : IVec S16 32) (k0_hw651 : k0_chk651 v33 v35 v862 v1249 v1303), ∀ a x, ((![v862, v1249, v1303, v33] : Fin 4 → IVec S16 32) a x).toNat < S2x4x94x96.size a := fun v33 v35 v862 v1249 v1303 k0_hw651 => k0_hw651.1
theorem k0_idx852_inb : ∀ (v33 : IVec S16 32) (v35 : IVec S16 32) (v862 : IVec S16 32) (v1249 : IVec S16 32) (v1303 : IVec S16 32) (k0_hw651 : k0_chk651 v33 v35 v862 v1249 v1303), ∀ a x, ((![v862, v1249, v1303, v35] : Fin 4 → IVec S16 32) a x).toNat < S2x4x94x96.size a := fun v33 v35 v862 v1249 v1303 k0_hw651 => k0_hw651.2

def k0_chk652 (v30 : IVec S16 32) (v862 : IVec S16 32) (v1249 : IVec S16 32) (v1304 : IVec S16 32) : Prop :=
  (∀ a x, ((![v862, v1249, v1304, v30] : Fin 4 → IVec S16 32) a x).toNat < S2x4x32x32.size a)
theorem k0_idx853_inb : ∀ (v30 : IVec S16 32) (v862 : IVec S16 32) (v1249 : IVec S16 32) (v1304 : IVec S16 32) (k0_hw652 : k0_chk652 v30 v862 v1249 v1304), ∀ a x, ((![v862, v1249, v1304, v30] : Fin 4 → IVec S16 32) a x).toNat < S2x4x32x32.size a := fun v30 v862 v1249 v1304 k0_hw652 => k0_hw652

def k0_chk653 (v862 : IVec S16 32) (v1249 : IVec S16 32) (v1304 : IVec S16 32) (v1307 : IVec S16 32) : Prop :=
  (∀ a x, ((![v862, v1249, v1304, v1307] : Fin 4 → IVec S16 32) a x).toNat < S2x4x32x32.size a)
theorem k0_idx854_inb : ∀ (v862 : IVec S16 32) (v1249 : IVec S16 32) (v1304 : IVec S16 32) (v1307 : IVec S16 32) (k0_hw653 : k0_chk653 v862 v1249 v1304 v1307), ∀ a x, ((![v862, v1249, v1304, v1307] : Fin 4 → IVec S16 32) a x).toNat < S2x4x32x32.size a := fun v862 v1249 v1304 v1307 k0_hw653 => k0_hw653

def k0_chk654 (v33 : IVec S16 32) (v35 : IVec S16 32) (v862 : IVec S16 32) (v1249 : IVec S16 32) (v1309 : IVec S16 32) : Prop :=
  (∀ a x, ((![v862, v1249, v1309, v33] : Fin 4 → IVec S16 32) a x).toNat < S2x4x94x96.size a) ∧
  (∀ a x, ((![v862, v1249, v1309, v35] : Fin 4 → IVec S16 32) a x).toNat < S2x4x94x96.size a)
theorem k0_idx855_inb : ∀ (v33 : IVec S16 32) (v35 : IVec S16 32) (v862 : IVec S16 32) (v1249 : IVec S16 32) (v1309 : IVec S16 32) (k0_hw654 : k0_chk654 v33 v35 v862 v1249 v1309), ∀ a x, ((![v862, v1249, v1309, v33] : Fin 4 → IVec S16 32) a x).toNat < S2x4x94x96.size a := fun v33 v35 v862 v1249 v1309 k0_hw654 => k0_hw654.1
theorem k0_idx856_inb : ∀ (v33 : IVec S16 32) (v35 : IVec S16 32) (v862 : IVec S16 32) (v1249 : IVec S16 32) (v1309 : IVec S16 32) (k0_hw654 : k0_chk654 v33 v35 v862 v1249 v1309), ∀ a x, ((![v862, v1249, v1309, v35] : Fin 4 → IVec S16 32) a x).toNat < S2x4x94x96.size a := fun v33 v35 v862 v1249 v1309 k0_hw654 => k0_hw654.2

def k0_chk655 (v30 : IVec S16 32) (v862 : IVec S16 32) (v1249 : IVec S16 32) (v1310 : IVec S16 32) : Prop :=
  (∀ a x, ((![v862, v1249, v1310, v30] : Fin 4 → IVec S16 32) a x).toNat < S2x4x32x32.size a)
theorem k0_idx857_inb : ∀ (v30 : IVec S16 32) (v862 : IVec S16 32) (v1249 : IVec S16 32) (v1310 : IVec S16 32) (k0_hw655 : k0_chk655 v30 v862 v1249 v1310), ∀ a x, ((![v862, v1249, v1310, v30] : Fin 4 → IVec S16 32) a x).toNat < S2x4x32x32.size a := fun v30 v862 v1249 v1310 k0_hw655 => k0_hw655

def k0_chk656 (v862 : IVec S16 32) (v1249 : IVec S16 32) (v1310 : IVec S16 32) (v1313 : IVec S16 32) : Prop :=
  (∀ a x, ((![v862, v1249, v1310, v1313] : Fin 4 → IVec S16 32) a x).toNat < S2x4x32x32.size a)
theorem k0_idx858_inb : ∀ (v862 : IVec S16 32) (v1249 : IVec S16 32) (v1310 : IVec S16 32) (v1313 : IVec S16 32) (k0_hw656 : k0_chk656 v862 v1249 v1310 v1313), ∀ a x, ((![v862, v1249, v1310, v1313] : Fin 4 → IVec S16 32) a x).toNat < S2x4x32x32.size a := fun v862 v1249 v1310 v1313 k0_hw656 => k0_hw656

def k0_chk657 (v33 : IVec S16 32) (v35 : IVec S16 32) (v862 : IVec S16 32) (v1249 : IVec S16 32) (v1315 : IVec S16 32) : Prop :=
  (∀ a x, ((![v862, v1249, v1315, v33] : Fin 4 → IVec S16 32) a x).toNat < S2x4x94x96.size a) ∧
  (∀ a x, ((![v862, v1249, v1315, v35] : Fin 4 → IVec S16 32) a x).toNat < S2x4x94x96.size a)
theorem k0_idx859_inb : ∀ (v33 : IVec S16 32) (v35 : IVec S16 32) (v862 : IVec S16 32) (v1249 : IVec S16 32) (v1315 : IVec S16 32) (k0_hw657 : k0_chk657 v33 v35 v862 v1249 v1315), ∀ a x, ((![v862, v1249, v1315, v33] : Fin 4 → IVec S16 32) a x).toNat < S2x4x94x96.size a := fun v33 v35 v862 v1249 v1315 k0_hw657 => k0_hw657.1
theorem k0_idx860_inb : ∀ (v33 : IVec S16 32) (v35 : IVec S16 32) (v862 : IVec S16 32) (v1249 : IVec S16 32) (v1315 : IVec S16 32) (k0_hw657 : k0_chk657 v33 v35 v862 v1249 v1315), ∀ a x, ((![v862, v1249, v1315, v35] : Fin 4 → IVec S16 32) a x).toNat < S2x4x94x96.size a := fun v33 v35 v862 v1249 v1315 k0_hw657 => k0_hw657.2

def k0_chk658 (v30 : IVec S16 32) (v862 : IVec S16 32) (v1249 : IVec S16 32) (v1316 : IVec S16 32) : Prop :=
  (∀ a x, ((![v862, v1249, v1316, v30] : Fin 4 → IVec S16 32) a x).toNat < S2x4x32x32.size a)
theorem k0_idx861_inb : ∀ (v30 : IVec S16 32) (v862 : IVec S16 32) (v1249 : IVec S16 32) (v1316 : IVec S16 32) (k0_hw658 : k0_chk658 v30 v862 v1249 v1316), ∀ a x, ((![v862, v1249, v1316, v30] : Fin 4 → IVec S16 32) a x).toNat < S2x4x32x32.size a := fun v30 v862 v1249 v1316 k0_hw658 => k0_hw658

def k0_chk659 (v862 : IVec S16 32) (v1249 : IVec S16 32) (v1316 : IVec S16 32) (v1319 : IVec S16 32) : Prop :=
  (∀ a x, ((![v862, v1249, v1316, v1319] : Fin 4 → IVec S16 32) a x).toNat < S2x4x32x32.size a)
theorem k0_idx862_inb : ∀ (v862 : IVec S16 32) (v1249 : IVec S16 32) (v1316 : IVec S16 32) (v1319 : IVec S16 32) (k0_hw659 : k0_chk659 v862 v1249 v1316 v1319), ∀ a x, ((![v862, v1249, v1316, v1319] : Fin 4 → IVec S16 32) a x).toNat < S2x4x32x32.size a := fun v862 v1249 v1316 v1319 k0_hw659 => k0_hw659

def k0_chk660 (v33 : IVec S16 32) (v35 : IVec S16 32) (v862 : IVec S16 32) (v1249 : IVec S16 32) (v1321 : IVec S16 32) : Prop :=
  (∀ a x, ((![v862, v1249, v1321, v33] : Fin 4 → IVec S16 32) a x).toNat < S2x4x94x96.size a) ∧
  (∀ a x, ((![v862, v1249, v1321, v35] : Fin 4 → IVec S16 32) a x).toNat < S2x4x94x96.size a)
theorem k0_idx863_inb : ∀ (v33 : IVec S16 32) (v35 : IVec S16 32) (v862 : IVec S16 32) (v1249 : IVec S16 32) (v1321 : IVec S16 32) (k0_hw660 : k0_chk660 v33 v35 v862 v1249 v1321), ∀ a x, ((![v862, v1249, v1321, v33] : Fin 4 → IVec S16 32) a x).toNat < S2x4x94x96.size a := fun v33 v35 v862 v1249 v1321 k0_hw660 => k0_hw660.1
theorem k0_idx864_inb : ∀ (v33 : IVec S16 32) (v35 : IVec S16 32) (v862 : IVec S16 32) (v1249 : IVec S16 32) (v1321 : IVec S16 32) (k0_hw660 : k0_chk660 v33 v35 v862 v1249 v1321), ∀ a x, ((![v862, v1249, v1321, v35] : Fin 4 → IVec S16 32) a x).toNat < S2x4x94x96.size a := fun v33 v35 v862 v1249 v1321 k0_hw660 => k0_hw660.2

def k0_chk661 (v30 : IVec S16 32) (v862 : IVec S16 32) (v1249 : IVec S16 32) (v1322 : IVec S16 32) : Prop :=
  (∀ a x, ((![v862, v1249, v1322, v30] : Fin 4 → IVec S16 32) a x).toNat < S2x4x32x32.size a)
theorem k0_idx865_inb : ∀ (v30 : IVec S16 32) (v862 : IVec S16 32) (v1249 : IVec S16 32) (v1322 : IVec S16 32) (k0_hw661 : k0_chk661 v30 v862 v1249 v1322), ∀ a x, ((![v862, v1249, v1322, v30] : Fin 4 → IVec S16 32) a x).toNat < S2x4x32x32.size a := fun v30 v862 v1249 v1322 k0_hw661 => k0_hw661

def k0_chk662 (v862 : IVec S16 32) (v1249 : IVec S16 32) (v1322 : IVec S16 32) (v1325 : IVec S16 32) : Prop :=
  (∀ a x, ((![v862, v1249, v1322, v1325] : Fin 4 → IVec S16 32) a x).toNat < S2x4x32x32.size a)
theorem k0_idx866_inb : ∀ (v862 : IVec S16 32) (v1249 : IVec S16 32) (v1322 : IVec S16 32) (v1325 : IVec S16 32) (k0_hw662 : k0_chk662 v862 v1249 v1322 v1325), ∀ a x, ((![v862, v1249, v1322, v1325] : Fin 4 → IVec S16 32) a x).toNat < S2x4x32x32.size a := fun v862 v1249 v1322 v1325 k0_hw662 => k0_hw662

def k0_chk663 (v33 : IVec S16 32) (v35 : IVec S16 32) (v862 : IVec S16 32) (v1249 : IVec S16 32) (v1327 : IVec S16 32) : Prop :=
  (∀ a x, ((![v862, v1249, v1327, v33] : Fin 4 → IVec S16 32) a x).toNat < S2x4x94x96.size a) ∧
  (∀ a x, ((![v862, v1249, v1327, v35] : Fin 4 → IVec S16 32) a x).toNat < S2x4x94x96.size a)
theorem k0_idx867_inb : ∀ (v33 : IVec S16 32) (v35 : IVec S16 32) (v862 : IVec S16 32) (v1249 : IVec S16 32) (v1327 : IVec S16 32) (k0_hw663 : k0_chk663 v33 v35 v862 v1249 v1327), ∀ a x, ((![v862, v1249, v1327, v33] : Fin 4 → IVec S16 32) a x).toNat < S2x4x94x96.size a := fun v33 v35 v862 v1249 v1327 k0_hw663 => k0_hw663.1
theorem k0_idx868_inb : ∀ (v33 : IVec S16 32) (v35 : IVec S16 32) (v862 : IVec S16 32) (v1249 : IVec S16 32) (v1327 : IVec S16 32) (k0_hw663 : k0_chk663 v33 v35 v862 v1249 v1327), ∀ a x, ((![v862, v1249, v1327, v35] : Fin 4 → IVec S16 32) a x).toNat < S2x4x94x96.size a := fun v33 v35 v862 v1249 v1327 k0_hw663 => k0_hw663.2

def k0_chk664 (v30 : IVec S16 32) (v862 : IVec S16 32) (v1249 : IVec S16 32) (v1328 : IVec S16 32) : Prop :=
  (∀ a x, ((![v862, v1249, v1328, v30] : Fin 4 → IVec S16 32) a x).toNat < S2x4x32x32.size a)
theorem k0_idx869_inb : ∀ (v30 : IVec S16 32) (v862 : IVec S16 32) (v1249 : IVec S16 32) (v1328 : IVec S16 32) (k0_hw664 : k0_chk664 v30 v862 v1249 v1328), ∀ a x, ((![v862, v1249, v1328, v30] : Fin 4 → IVec S16 32) a x).toNat < S2x4x32x32.size a := fun v30 v862 v1249 v1328 k0_hw664 => k0_hw664

def k0_chk665 (v862 : IVec S16 32) (v1249 : IVec S16 32) (v1328 : IVec S16 32) (v1331 : IVec S16 32) : Prop :=
  (∀ a x, ((![v862, v1249, v1328, v1331] : Fin 4 → IVec S16 32) a x).toNat < S2x4x32x32.size a)
theorem k0_idx870_inb : ∀ (v862 : IVec S16 32) (v1249 : IVec S16 32) (v1328 : IVec S16 32) (v1331 : IVec S16 32) (k0_hw665 : k0_chk665 v862 v1249 v1328 v1331), ∀ a x, ((![v862, v1249, v1328, v1331] : Fin 4 → IVec S16 32) a x).toNat < S2x4x32x32.size a := fun v862 v1249 v1328 v1331 k0_hw665 => k0_hw665

def k0_chk666 (v33 : IVec S16 32) (v35 : IVec S16 32) (v862 : IVec S16 32) (v1249 : IVec S16 32) (v1333 : IVec S16 32) : Prop :=
  (∀ a x, ((![v862, v1249, v1333, v33] : Fin 4 → IVec S16 32) a x).toNat < S2x4x94x96.size a) ∧
  (∀ a x, ((![v862, v1249, v1333, v35] : Fin 4 → IVec S16 32) a x).toNat < S2x4x94x96.size a)
theorem k0_idx871_inb : ∀ (v33 : IVec S16 32) (v35 : IVec S16 32) (v862 : IVec S16 32) (v1249 : IVec S16 32) (v1333 : IVec S16 32) (k0_hw666 : k0_chk666 v33 v35 v862 v1249 v1333), ∀ a x, ((![v862, v1249, v1333, v33] : Fin 4 → IVec S16 32) a x).toNat < S2x4x94x96.size a := fun v33 v35 v862 v1249 v1333 k0_hw666 => k0_hw666.1
theorem k0_idx872_inb : ∀ (v33 : IVec S16 32) (v35 : IVec S16 32) (v862 : IVec S16 32) (v1249 : IVec S16 32) (v1333 : IVec S16 32) (k0_hw666 : k0_chk666 v33 v35 v862 v1249 v1333), ∀ a x, ((![v862, v1249, v1333, v35] : Fin 4 → IVec S16 32) a x).toNat < S2x4x94x96.size a := fun v33 v35 v862 v1249 v1333 k0_hw666 => k0_hw666.2

def k0_chk667 (v30 : IVec S16 32) (v862 : IVec S16 32) (v1249 : IVec S16 32) (v1334 : IVec S16 32) : Prop :=
  (∀ a x, ((![v862, v1249, v1334, v30] : Fin 4 → IVec S16 32) a x).toNat < S2x4x32x32.size a)
theorem k0_idx873_inb : ∀ (v30 : IVec S16 32) (v862 : IVec S16 32) (v1249 : IVec S16 32) (v1334 : IVec S16 32) (k0_hw667 : k0_chk667 v30 v862 v1249 v1334), ∀ a x, ((![v862, v1249, v1334, v30] : Fin 4 → IVec S16 32) a x).toNat < S2x4x32x32.size a := fun v30 v862 v1249 v1334 k0_hw667 => k0_hw667

def k0_chk668 (v862 : IVec S16 32) (v1249 : IVec S16 32) (v1334 : IVec S16 32) (v1337 : IVec S16 32) : Prop :=
  (∀ a x, ((![v862, v1249, v1334, v1337] : Fin 4 → IVec S16 32) a x).toNat < S2x4x32x32.size a)
theorem k0_idx874_inb : ∀ (v862 : IVec S16 32) (v1249 : IVec S16 32) (v1334 : IVec S16 32) (v1337 : IVec S16 32) (k0_hw668 : k0_chk668 v862 v1249 v1334 v1337), ∀ a x, ((![v862, v1249, v1334, v1337] : Fin 4 → IVec S16 32) a x).toNat < S2x4x32x32.size a := fun v862 v1249 v1334 v1337 k0_hw668 => k0_hw668

def k0_chk669 (v33 : IVec S16 32) (v35 : IVec S16 32) (v862 : IVec S16 32) (v1249 : IVec S16 32) (v1339 : IVec S16 32) : Prop :=
  (∀ a x, ((![v862, v1249, v1339, v33] : Fin 4 → IVec S16 32) a x).toNat < S2x4x94x96.size a) ∧
  (∀ a x, ((![v862, v1249, v1339, v35] : Fin 4 → IVec S16 32) a x).toNat < S2x4x94x96.size a)
theorem k0_idx875_inb : ∀ (v33 : IVec S16 32) (v35 : IVec S16 32) (v862 : IVec S16 32) (v1249 : IVec S16 32) (v1339 : IVec S16 32) (k0_hw669 : k0_chk669 v33 v35 v862 v1249 v1339), ∀ a x, ((![v862, v1249, v1339, v33] : Fin 4 → IVec S16 32) a x).toNat < S2x4x94x96.size a := fun v33 v35 v862 v1249 v1339 k0_hw669 => k0_hw669.1
theorem k0_idx876_inb : ∀ (v33 : IVec S16 32) (v35 : IVec S16 32) (v862 : IVec S16 32) (v1249 : IVec S16 32) (v1339 : IVec S16 32) (k0_hw669 : k0_chk669 v33 v35 v862 v1249 v1339), ∀ a x, ((![v862, v1249, v1339, v35] : Fin 4 → IVec S16 32) a x).toNat < S2x4x94x96.size a := fun v33 v35 v862 v1249 v1339 k0_hw669 => k0_hw669.2

def k0_chk670 (v30 : IVec S16 32) (v862 : IVec S16 32) (v1249 : IVec S16 32) (v1340 : IVec S16 32) : Prop :=
  (∀ a x, ((![v862, v1249, v1340, v30] : Fin 4 → IVec S16 32) a x).toNat < S2x4x32x32.size a)
theorem k0_idx877_inb : ∀ (v30 : IVec S16 32) (v862 : IVec S16 32) (v1249 : IVec S16 32) (v1340 : IVec S16 32) (k0_hw670 : k0_chk670 v30 v862 v1249 v1340), ∀ a x, ((![v862, v1249, v1340, v30] : Fin 4 → IVec S16 32) a x).toNat < S2x4x32x32.size a := fun v30 v862 v1249 v1340 k0_hw670 => k0_hw670

def k0_chk671 (v862 : IVec S16 32) (v1249 : IVec S16 32) (v1340 : IVec S16 32) (v1343 : IVec S16 32) : Prop :=
  (∀ a x, ((![v862, v1249, v1340, v1343] : Fin 4 → IVec S16 32) a x).toNat < S2x4x32x32.size a)
theorem k0_idx878_inb : ∀ (v862 : IVec S16 32) (v1249 : IVec S16 32) (v1340 : IVec S16 32) (v1343 : IVec S16 32) (k0_hw671 : k0_chk671 v862 v1249 v1340 v1343), ∀ a x, ((![v862, v1249, v1340, v1343] : Fin 4 → IVec S16 32) a x).toNat < S2x4x32x32.size a := fun v862 v1249 v1340 v1343 k0_hw671 => k0_hw671

def k0_chk672 (v33 : IVec S16 32) (v35 : IVec S16 32) (v862 : IVec S16 32) (v1249 : IVec S16 32) (v1345 : IVec S16 32) : Prop :=
  (∀ a x, ((![v862, v1249, v1345, v33] : Fin 4 → IVec S16 32) a x).toNat < S2x4x94x96.size a) ∧
  (∀ a x, ((![v862, v1249, v1345, v35] : Fin 4 → IVec S16 32) a x).toNat < S2x4x94x96.size a)
theorem k0_idx879_inb : ∀ (v33 : IVec S16 32) (v35 : IVec S16 32) (v862 : IVec S16 32) (v1249 : IVec S16 32) (v1345 : IVec S16 32) (k0_hw672 : k0_chk672 v33 v35 v862 v1249 v1345), ∀ a x, ((![v862, v1249, v1345, v33] : Fin 4 → IVec S16 32) a x).toNat < S2x4x94x96.size a := fun v33 v35 v862 v1249 v1345 k0_hw672 => k0_hw672.1
theorem k0_idx880_inb : ∀ (v33 : IVec S16 32) (v35 : IVec S16 32) (v862 : IVec S16 32) (v1249 : IVec S16 32) (v1345 : IVec S16 32) (k0_hw672 : k0_chk672 v33 v35 v862 v1249 v1345), ∀ a x, ((![v862, v1249, v1345, v35] : Fin 4 → IVec S16 32) a x).toNat < S2x4x94x96.size a := fun v33 v35 v862 v1249 v1345 k0_hw672 => k0_hw672.2

def k0_chk673 (v30 : IVec S16 32) (v862 : IVec S16 32) (v1249 : IVec S16 32) (v1346 : IVec S16 32) : Prop :=
  (∀ a x, ((![v862, v1249, v1346, v30] : Fin 4 → IVec S16 32) a x).toNat < S2x4x32x32.size a)
theorem k0_idx881_inb : ∀ (v30 : IVec S16 32) (v862 : IVec S16 32) (v1249 : IVec S16 32) (v1346 : IVec S16 32) (k0_hw673 : k0_chk673 v30 v862 v1249 v1346), ∀ a x, ((![v862, v1249, v1346, v30] : Fin 4 → IVec S16 32) a x).toNat < S2x4x32x32.size a := fun v30 v862 v1249 v1346 k0_hw673 => k0_hw673

def k0_chk674 (v862 : IVec S16 32) (v1249 : IVec S16 32) (v1346 : IVec S16 32) (v1349 : IVec S16 32) : Prop :=
  (∀ a x, ((![v862, v1249, v1346, v1349] : Fin 4 → IVec S16 32) a x).toNat < S2x4x32x32.size a)
theorem k0_idx882_inb : ∀ (v862 : IVec S16 32) (v1249 : IVec S16 32) (v1346 : IVec S16 32) (v1349 : IVec S16 32) (k0_hw674 : k0_chk674 v862 v1249 v1346 v1349), ∀ a x, ((![v862, v1249, v1346, v1349] : Fin 4 → IVec S16 32) a x).toNat < S2x4x32x32.size a := fun v862 v1249 v1346 v1349 k0_hw674 => k0_hw674

def k0_chk675 (v33 : IVec S16 32) (v35 : IVec S16 32) (v862 : IVec S16 32) (v1249 : IVec S16 32) (v1351 : IVec S16 32) : Prop :=
  (∀ a x, ((![v862, v1249, v1351, v33] : Fin 4 → IVec S16 32) a x).toNat < S2x4x94x96.size a) ∧
  (∀ a x, ((![v862, v1249, v1351, v35] : Fin 4 → IVec S16 32) a x).toNat < S2x4x94x96.size a)
theorem k0_idx883_inb : ∀ (v33 : IVec S16 32) (v35 : IVec S16 32) (v862 : IVec S16 32) (v1249 : IVec S16 32) (v1351 : IVec S16 32) (k0_hw675 : k0_chk675 v33 v35 v862 v1249 v1351), ∀ a x, ((![v862, v1249, v1351, v33] : Fin 4 → IVec S16 32) a x).toNat < S2x4x94x96.size a := fun v33 v35 v862 v1249 v1351 k0_hw675 => k0_hw675.1
theorem k0_idx884_inb : ∀ (v33 : IVec S16 32) (v35 : IVec S16 32) (v862 : IVec S16 32) (v1249 : IVec S16 32) (v1351 : IVec S16 32) (k0_hw675 : k0_chk675 v33 v35 v862 v1249 v1351), ∀ a x, ((![v862, v1249, v1351, v35] : Fin 4 → IVec S16 32) a x).toNat < S2x4x94x96.size a := fun v33 v35 v862 v1249 v1351 k0_hw675 => k0_hw675.2

def k0_chk676 (v30 : IVec S16 32) (v862 : IVec S16 32) (v1249 : IVec S16 32) (v1352 : IVec S16 32) : Prop :=
  (∀ a x, ((![v862, v1249, v1352, v30] : Fin 4 → IVec S16 32) a x).toNat < S2x4x32x32.size a)
theorem k0_idx885_inb : ∀ (v30 : IVec S16 32) (v862 : IVec S16 32) (v1249 : IVec S16 32) (v1352 : IVec S16 32) (k0_hw676 : k0_chk676 v30 v862 v1249 v1352), ∀ a x, ((![v862, v1249, v1352, v30] : Fin 4 → IVec S16 32) a x).toNat < S2x4x32x32.size a := fun v30 v862 v1249 v1352 k0_hw676 => k0_hw676

def k0_chk677 (v862 : IVec S16 32) (v1249 : IVec S16 32) (v1352 : IVec S16 32) (v1355 : IVec S16 32) : Prop :=
  (∀ a x, ((![v862, v1249, v1352, v1355] : Fin 4 → IVec S16 32) a x).toNat < S2x4x32x32.size a)
theorem k0_idx886_inb : ∀ (v862 : IVec S16 32) (v1249 : IVec S16 32) (v1352 : IVec S16 32) (v1355 : IVec S16 32) (k0_hw677 : k0_chk677 v862 v1249 v1352 v1355), ∀ a x, ((![v862, v1249, v1352, v1355] : Fin 4 → IVec S16 32) a x).toNat < S2x4x32x32.size a := fun v862 v1249 v1352 v1355 k0_hw677 => k0_hw677

def k0_chk678 (v33 : IVec S16 32) (v35 : IVec S16 32) (v862 : IVec S16 32) (v1249 : IVec S16 32) (v1357 : IVec S16 32) : Prop :=
  (∀ a x, ((![v862, v1249, v1357, v33] : Fin 4 → IVec S16 32) a x).toNat < S2x4x94x96.size a) ∧
  (∀ a x, ((![v862, v1249, v1357, v35] : Fin 4 → IVec S16 32) a x).toNat < S2x4x94x96.size a)
theorem k0_idx887_inb : ∀ (v33 : IVec S16 32) (v35 : IVec S16 32) (v862 : IVec S16 32) (v1249 : IVec S16 32) (v1357 : IVec S16 32) (k0_hw678 : k0_chk678 v33 v35 v862 v1249 v1357), ∀ a x, ((![v862, v1249, v1357, v33] : Fin 4 → IVec S16 32) a x).toNat < S2x4x94x96.size a := fun v33 v35 v862 v1249 v1357 k0_hw678 => k0_hw678.1
theorem k0_idx888_inb : ∀ (v33 : IVec S16 32) (v35 : IVec S16 32) (v862 : IVec S16 32) (v1249 : IVec S16 32) (v1357 : IVec S16 32) (k0_hw678 : k0_chk678 v33 v35 v862 v1249 v1357), ∀ a x, ((![v862, v1249, v1357, v35] : Fin 4 → IVec S16 32) a x).toNat < S2x4x94x96.size a := fun v33 v35 v862 v1249 v1357 k0_hw678 => k0_hw678.2

def k0_chk679 (v30 : IVec S16 32) (v862 : IVec S16 32) (v1249 : IVec S16 32) (v1358 : IVec S16 32) : Prop :=
  (∀ a x, ((![v862, v1249, v1358, v30] : Fin 4 → IVec S16 32) a x).toNat < S2x4x32x32.size a)
theorem k0_idx889_inb : ∀ (v30 : IVec S16 32) (v862 : IVec S16 32) (v1249 : IVec S16 32) (v1358 : IVec S16 32) (k0_hw679 : k0_chk679 v30 v862 v1249 v1358), ∀ a x, ((![v862, v1249, v1358, v30] : Fin 4 → IVec S16 32) a x).toNat < S2x4x32x32.size a := fun v30 v862 v1249 v1358 k0_hw679 => k0_hw679

def k0_chk680 (v862 : IVec S16 32) (v1249 : IVec S16 32) (v1358 : IVec S16 32) (v1361 : IVec S16 32) : Prop :=
  (∀ a x, ((![v862, v1249, v1358, v1361] : Fin 4 → IVec S16 32) a x).toNat < S2x4x32x32.size a)
theorem k0_idx890_inb : ∀ (v862 : IVec S16 32) (v1249 : IVec S16 32) (v1358 : IVec S16 32) (v1361 : IVec S16 32) (k0_hw680 : k0_chk680 v862 v1249 v1358 v1361), ∀ a x, ((![v862, v1249, v1358, v1361] : Fin 4 → IVec S16 32) a x).toNat < S2x4x32x32.size a := fun v862 v1249 v1358 v1361 k0_hw680 => k0_hw680

def k0_chk681 (v33 : IVec S16 32) (v35 : IVec S16 32) (v862 : IVec S16 32) (v1249 : IVec S16 32) (v1363 : IVec S16 32) : Prop :=
  (∀ a x, ((![v862, v1249, v1363, v33] : Fin 4 → IVec S16 32) a x).toNat < S2x4x94x96.size a) ∧
  (∀ a x, ((![v862, v1249, v1363, v35] : Fin 4 → IVec S16 32) a x).toNat < S2x4x94x96.size a)
theorem k0_idx891_inb : ∀ (v33 : IVec S16 32) (v35 : IVec S16 32) (v862 : IVec S16 32) (v1249 : IVec S16 32) (v1363 : IVec S16 32) (k0_hw681 : k0_chk681 v33 v35 v862 v1249 v1363), ∀ a x, ((![v862, v1249, v1363, v33] : Fin 4 → IVec S16 32) a x).toNat < S2x4x94x96.size a := fun v33 v35 v862 v1249 v1363 k0_hw681 => k0_hw681.1
theorem k0_idx892_inb : ∀ (v33 : IVec S16 32) (v35 : IVec S16 32) (v862 : IVec S16 32) (v1249 : IVec S16 32) (v1363 : IVec S16 32) (k0_hw681 : k0_chk681 v33 v35 v862 v1249 v1363), ∀ a x, ((![v862, v1249, v1363, v35] : Fin 4 → IVec S16 32) a x).toNat < S2x4x94x96.size a := fun v33 v35 v862 v1249 v1363 k0_hw681 => k0_hw681.2

def k0_chk682 (v30 : IVec S16 32) (v862 : IVec S16 32) (v1249 : IVec S16 32) (v1364 : IVec S16 32) : Prop :=
  (∀ a x, ((![v862, v1249, v1364, v30] : Fin 4 → IVec S16 32) a x).toNat < S2x4x32x32.size a)
theorem k0_idx893_inb : ∀ (v30 : IVec S16 32) (v862 : IVec S16 32) (v1249 : IVec S16 32) (v1364 : IVec S16 32) (k0_hw682 : k0_chk682 v30 v862 v1249 v1364), ∀ a x, ((![v862, v1249, v1364, v30] : Fin 4 → IVec S16 32) a x).toNat < S2x4x32x32.size a := fun v30 v862 v1249 v1364 k0_hw682 => k0_hw682

def k0_chk683 (v862 : IVec S16 32) (v1249 : IVec S16 32) (v1364 : IVec S16 32) (v1367 : IVec S16 32) : Prop :=
  (∀ a x, ((![v862, v1249, v1364, v1367] : Fin 4 → IVec S16 32) a x).toNat < S2x4x32x32.size a)
theorem k0_idx894_inb : ∀ (v862 : IVec S16 32) (v1249 : IVec S16 32) (v1364 : IVec S16 32) (v1367 : IVec S16 32) (k0_hw683 : k0_chk683 v862 v1249 v1364 v1367), ∀ a x, ((![v862, v1249, v1364, v1367] : Fin 4 → IVec S16 32) a x).toNat < S2x4x32x32.size a := fun v862 v1249 v1364 v1367 k0_hw683 => k0_hw683

def k0_chk684 (v33 : IVec S16 32) (v35 : IVec S16 32) (v862 : IVec S16 32) (v1249 : IVec S16 32) (v1369 : IVec S16 32) : Prop :=
  (∀ a x, ((![v862, v1249, v1369, v33] : Fin 4 → IVec S16 32) a x).toNat < S2x4x94x96.size a) ∧
  (∀ a x, ((![v862, v1249, v1369, v35] : Fin 4 → IVec S16 32) a x).toNat < S2x4x94x96.size a)
theorem k0_idx895_inb : ∀ (v33 : IVec S16 32) (v35 : IVec S16 32) (v862 : IVec S16 32) (v1249 : IVec S16 32) (v1369 : IVec S16 32) (k0_hw684 : k0_chk684 v33 v35 v862 v1249 v1369), ∀ a x, ((![v862, v1249, v1369, v33] : Fin 4 → IVec S16 32) a x).toNat < S2x4x94x96.size a := fun v33 v35 v862 v1249 v1369 k0_hw684 => k0_hw684.1
theorem k0_idx896_inb : ∀ (v33 : IVec S16 32) (v35 : IVec S16 32) (v862 : IVec S16 32) (v1249 : IVec S16 32) (v1369 : IVec S16 32) (k0_hw684 : k0_chk684 v33 v35 v862 v1249 v1369), ∀ a x, ((![v862, v1249, v1369, v35] : Fin 4 → IVec S16 32) a x).toNat < S2x4x94x96.size a := fun v33 v35 v862 v1249 v1369 k0_hw684 => k0_hw684.2

def k0_chk685 (v30 : IVec S16 32) (v862 : IVec S16 32) (v1249 : IVec S16 32) (v1370 : IVec S16 32) : Prop :=
  (∀ a x, ((![v862, v1249, v1370, v30] : Fin 4 → IVec S16 32) a x).toNat < S2x4x32x32.size a)
theorem k0_idx897_inb : ∀ (v30 : IVec S16 32) (v862 : IVec S16 32) (v1249 : IVec S16 32) (v1370 : IVec S16 32) (k0_hw685 : k0_chk685 v30 v862 v1249 v1370), ∀ a x, ((![v862, v1249, v1370, v30] : Fin 4 → IVec S16 32) a x).toNat < S2x4x32x32.size a := fun v30 v862 v1249 v1370 k0_hw685 => k0_hw685

def k0_chk686 (v862 : IVec S16 32) (v1249 : IVec S16 32) (v1370 : IVec S16 32) (v1373 : IVec S16 32) : Prop :=
  (∀ a x, ((![v862, v1249, v1370, v1373] : Fin 4 → IVec S16 32) a x).toNat < S2x4x32x32.size a)
theorem k0_idx898_inb : ∀ (v862 : IVec S16 32) (v1249 : IVec S16 32) (v1370 : IVec S16 32) (v1373 : IVec S16 32) (k0_hw686 : k0_chk686 v862 v1249 v1370 v1373), ∀ a x, ((![v862, v1249, v1370, v1373] : Fin 4 → IVec S16 32) a x).toNat < S2x4x32x32.size a := fun v862 v1249 v1370 v1373 k0_hw686 => k0_hw686

def k0_chk687 (v33 : IVec S16 32) (v35 : IVec S16 32) (v862 : IVec S16 32) (v1249 : IVec S16 32) (v1375 : IVec S16 32) : Prop :=
  (∀ a x, ((![v862, v1249, v1375, v33] : Fin 4 → IVec S16 32) a x).toNat < S2x4x94x96.size a) ∧
  (∀ a x, ((![v862, v1249, v1375, v35] : Fin 4 → IVec S16 32) a x).toNat < S2x4x94x96.size a)
theorem k0_idx899_inb : ∀ (v33 : IVec S16 32) (v35 : IVec S16 32) (v862 : IVec S16 32) (v1249 : IVec S16 32) (v1375 : IVec S16 32) (k0_hw687 : k0_chk687 v33 v35 v862 v1249 v1375), ∀ a x, ((![v862, v1249, v1375, v33] : Fin 4 → IVec S16 32) a x).toNat < S2x4x94x96.size a := fun v33 v35 v862 v1249 v1375 k0_hw687 => k0_hw687.1
theorem k0_idx900_inb : ∀ (v33 : IVec S16 32) (v35 : IVec S16 32) (v862 : IVec S16 32) (v1249 : IVec S16 32) (v1375 : IVec S16 32) (k0_hw687 : k0_chk687 v33 v35 v862 v1249 v1375), ∀ a x, ((![v862, v1249, v1375, v35] : Fin 4 → IVec S16 32) a x).toNat < S2x4x94x96.size a := fun v33 v35 v862 v1249 v1375 k0_hw687 => k0_hw687.2

def k0_chk688 (v30 : IVec S16 32) (v862 : IVec S16 32) (v1249 : IVec S16 32) (v1376 : IVec S16 32) : Prop :=
  (∀ a x, ((![v862, v1249, v1376, v30] : Fin 4 → IVec S16 32) a x).toNat < S2x4x32x32.size a)
theorem k0_idx901_inb : ∀ (v30 : IVec S16 32) (v862 : IVec S16 32) (v1249 : IVec S16 32) (v1376 : IVec S16 32) (k0_hw688 : k0_chk688 v30 v862 v1249 v1376), ∀ a x, ((![v862, v1249, v1376, v30] : Fin 4 → IVec S16 32) a x).toNat < S2x4x32x32.size a := fun v30 v862 v1249 v1376 k0_hw688 => k0_hw688

def k0_chk689 (v862 : IVec S16 32) (v1249 : IVec S16 32) (v1376 : IVec S16 32) (v1379 : IVec S16 32) : Prop :=
  (∀ a x, ((![v862, v1249, v1376, v1379] : Fin 4 → IVec S16 32) a x).toNat < S2x4x32x32.size a)
theorem k0_idx902_inb : ∀ (v862 : IVec S16 32) (v1249 : IVec S16 32) (v1376 : IVec S16 32) (v1379 : IVec S16 32) (k0_hw689 : k0_chk689 v862 v1249 v1376 v1379), ∀ a x, ((![v862, v1249, v1376, v1379] : Fin 4 → IVec S16 32) a x).toNat < S2x4x32x32.size a := fun v862 v1249 v1376 v1379 k0_hw689 => k0_hw689

def k0_chk690 (v33 : IVec S16 32) (v35 : IVec S16 32) (v862 : IVec S16 32) (v1249 : IVec S16 32) (v1381 : IVec S16 32) : Prop :=
  (∀ a x, ((![v862, v1249, v1381, v33] : Fin 4 → IVec S16 32) a x).toNat < S2x4x94x96.size a) ∧
  (∀ a x, ((![v862, v1249, v1381, v35] : Fin 4 → IVec S16 32) a x).toNat < S2x4x94x96.size a)
theorem k0_idx903_inb : ∀ (v33 : IVec S16 32) (v35 : IVec S16 32) (v862 : IVec S16 32) (v1249 : IVec S16 32) (v1381 : IVec S16 32) (k0_hw690 : k0_chk690 v33 v35 v862 v1249 v1381), ∀ a x, ((![v862, v1249, v1381, v33] : Fin 4 → IVec S16 32) a x).toNat < S2x4x94x96.size a := fun v33 v35 v862 v1249 v1381 k0_hw690 => k0_hw690.1
theorem k0_idx904_inb : ∀ (v33 : IVec S16 32) (v35 : IVec S16 32) (v862 : IVec S16 32) (v1249 : IVec S16 32) (v1381 : IVec S16 32) (k0_hw690 : k0_chk690 v33 v35 v862 v1249 v1381), ∀ a x, ((![v862, v1249, v1381, v35] : Fin 4 → IVec S16 32) a x).toNat < S2x4x94x96.size a := fun v33 v35 v862 v1249 v1381 k0_hw690 => k0_hw690.2

def k0_chk691 (v30 : IVec S16 32) (v862 : IVec S16 32) (v1249 : IVec S16 32) (v1382 : IVec S16 32) : Prop :=
  (∀ a x, ((![v862, v1249, v1382, v30] : Fin 4 → IVec S16 32) a x).toNat < S2x4x32x32.size a)
theorem k0_idx905_inb : ∀ (v30 : IVec S16 32) (v862 : IVec S16 32) (v1249 : IVec S16 32) (v1382 : IVec S16 32) (k0_hw691 : k0_chk691 v30 v862 v1249 v1382), ∀ a x, ((![v862, v1249, v1382, v30] : Fin 4 → IVec S16 32) a x).toNat < S2x4x32x32.size a := fun v30 v862 v1249 v1382 k0_hw691 => k0_hw691

def k0_chk692 (v862 : IVec S16 32) (v1249 : IVec S16 32) (v1382 : IVec S16 32) (v1385 : IVec S16 32) : Prop :=
  (∀ a x, ((![v862, v1249, v1382, v1385] : Fin 4 → IVec S16 32) a x).toNat < S2x4x32x32.size a)
theorem k0_idx906_inb : ∀ (v862 : IVec S16 32) (v1249 : IVec S16 32) (v1382 : IVec S16 32) (v1385 : IVec S16 32) (k0_hw692 : k0_chk692 v862 v1249 v1382 v1385), ∀ a x, ((![v862, v1249, v1382, v1385] : Fin 4 → IVec S16 32) a x).toNat < S2x4x32x32.size a := fun v862 v1249 v1382 v1385 k0_hw692 => k0_hw692

def k0_chk693 (v33 : IVec S16 32) (v35 : IVec S16 32) (v862 : IVec S16 32) (v1249 : IVec S16 32) (v1387 : IVec S16 32) : Prop :=
  (∀ a x, ((![v862, v1249, v1387, v33] : Fin 4 → IVec S16 32) a x).toNat < S2x4x94x96.size a) ∧
  (∀ a x, ((![v862, v1249, v1387, v35] : Fin 4 → IVec S16 32) a x).toNat < S2x4x94x96.size a)
theorem k0_idx907_inb : ∀ (v33 : IVec S16 32) (v35 : IVec S16 32) (v862 : IVec S16 32) (v1249 : IVec S16 32) (v1387 : IVec S16 32) (k0_hw693 : k0_chk693 v33 v35 v862 v1249 v1387), ∀ a x, ((![v862, v1249, v1387, v33] : Fin 4 → IVec S16 32) a x).toNat < S2x4x94x96.size a := fun v33 v35 v862 v1249 v1387 k0_hw693 => k0_hw693.1
theorem k0_idx908_inb : ∀ (v33 : IVec S16 32) (v35 : IVec S16 32) (v862 : IVec S16 32) (v1249 : IVec S16 32) (v1387 : IVec S16 32) (k0_hw693 : k0_chk693 v33 v35 v862 v1249 v1387), ∀ a x, ((![v862, v1249, v1387, v35] : Fin 4 → IVec S16 32) a x).toNat < S2x4x94x96.size a := fun v33 v35 v862 v1249 v1387 k0_hw693 => k0_hw693.2

def k0_chk694 (v30 : IVec S16 32) (v862 : IVec S16 32) (v1249 : IVec S16 32) (v1388 : IVec S16 32) : Prop :=
  (∀ a x, ((![v862, v1249, v1388, v30] : Fin 4 → IVec S16 32) a x).toNat < S2x4x32x32.size a)
theorem k0_idx909_inb : ∀ (v30 : IVec S16 32) (v862 : IVec S16 32) (v1249 : IVec S16 32) (v1388 : IVec S16 32) (k0_hw694 : k0_chk694 v30 v862 v1249 v1388), ∀ a x, ((![v862, v1249, v1388, v30] : Fin 4 → IVec S16 32) a x).toNat < S2x4x32x32.size a := fun v30 v862 v1249 v1388 k0_hw694 => k0_hw694

def k0_chk695 (v862 : IVec S16 32) (v1249 : IVec S16 32) (v1388 : IVec S16 32) (v1391 : IVec S16 32) : Prop :=
  (∀ a x, ((![v862, v1249, v1388, v1391] : Fin 4 → IVec S16 32) a x).toNat < S2x4x32x32.size a)
theorem k0_idx910_inb : ∀ (v862 : IVec S16 32) (v1249 : IVec S16 32) (v1388 : IVec S16 32) (v1391 : IVec S16 32) (k0_hw695 : k0_chk695 v862 v1249 v1388 v1391), ∀ a x, ((![v862, v1249, v1388, v1391] : Fin 4 → IVec S16 32) a x).toNat < S2x4x32x32.size a := fun v862 v1249 v1388 v1391 k0_hw695 => k0_hw695

def k0_chk696 (v33 : IVec S16 32) (v35 : IVec S16 32) (v862 : IVec S16 32) (v1249 : IVec S16 32) (v1393 : IVec S16 32) : Prop :=
  (∀ a x, ((![v862, v1249, v1393, v33] : Fin 4 → IVec S16 32) a x).toNat < S2x4x94x96.size a) ∧
  (∀ a x, ((![v862, v1249, v1393, v35] : Fin 4 → IVec S16 32) a x).toNat < S2x4x94x96.size a)
theorem k0_idx911_inb : ∀ (v33 : IVec S16 32) (v35 : IVec S16 32) (v862 : IVec S16 32) (v1249 : IVec S16 32) (v1393 : IVec S16 32) (k0_hw696 : k0_chk696 v33 v35 v862 v1249 v1393), ∀ a x, ((![v862, v1249, v1393, v33] : Fin 4 → IVec S16 32) a x).toNat < S2x4x94x96.size a := fun v33 v35 v862 v1249 v1393 k0_hw696 => k0_hw696.1
theorem k0_idx912_inb : ∀ (v33 : IVec S16 32) (v35 : IVec S16 32) (v862 : IVec S16 32) (v1249 : IVec S16 32) (v1393 : IVec S16 32) (k0_hw696 : k0_chk696 v33 v35 v862 v1249 v1393), ∀ a x, ((![v862, v1249, v1393, v35] : Fin 4 → IVec S16 32) a x).toNat < S2x4x94x96.size a := fun v33 v35 v862 v1249 v1393 k0_hw696 => k0_hw696.2

def k0_chk697 (v30 : IVec S16 32) (v862 : IVec S16 32) (v1249 : IVec S16 32) (v1394 : IVec S16 32) : Prop :=
  (∀ a x, ((![v862, v1249, v1394, v30] : Fin 4 → IVec S16 32) a x).toNat < S2x4x32x32.size a)
theorem k0_idx913_inb : ∀ (v30 : IVec S16 32) (v862 : IVec S16 32) (v1249 : IVec S16 32) (v1394 : IVec S16 32) (k0_hw697 : k0_chk697 v30 v862 v1249 v1394), ∀ a x, ((![v862, v1249, v1394, v30] : Fin 4 → IVec S16 32) a x).toNat < S2x4x32x32.size a := fun v30 v862 v1249 v1394 k0_hw697 => k0_hw697

def k0_chk698 (v862 : IVec S16 32) (v1249 : IVec S16 32) (v1394 : IVec S16 32) (v1397 : IVec S16 32) : Prop :=
  (∀ a x, ((![v862, v1249, v1394, v1397] : Fin 4 → IVec S16 32) a x).toNat < S2x4x32x32.size a)
theorem k0_idx914_inb : ∀ (v862 : IVec S16 32) (v1249 : IVec S16 32) (v1394 : IVec S16 32) (v1397 : IVec S16 32) (k0_hw698 : k0_chk698 v862 v1249 v1394 v1397), ∀ a x, ((![v862, v1249, v1394, v1397] : Fin 4 → IVec S16 32) a x).toNat < S2x4x32x32.size a := fun v862 v1249 v1394 v1397 k0_hw698 => k0_hw698

def k0_chk699 (v33 : IVec S16 32) (v35 : IVec S16 32) (v862 : IVec S16 32) (v1249 : IVec S16 32) (v1399 : IVec S16 32) : Prop :=
  (∀ a x, ((![v862, v1249, v1399, v33] : Fin 4 → IVec S16 32) a x).toNat < S2x4x94x96.size a) ∧
  (∀ a x, ((![v862, v1249, v1399, v35] : Fin 4 → IVec S16 32) a x).toNat < S2x4x94x96.size a)
theorem k0_idx915_inb : ∀ (v33 : IVec S16 32) (v35 : IVec S16 32) (v862 : IVec S16 32) (v1249 : IVec S16 32) (v1399 : IVec S16 32) (k0_hw699 : k0_chk699 v33 v35 v862 v1249 v1399), ∀ a x, ((![v862, v1249, v1399, v33] : Fin 4 → IVec S16 32) a x).toNat < S2x4x94x96.size a := fun v33 v35 v862 v1249 v1399 k0_hw699 => k0_hw699.1
theorem k0_idx916_inb : ∀ (v33 : IVec S16 32) (v35 : IVec S16 32) (v862 : IVec S16 32) (v1249 : IVec S16 32) (v1399 : IVec S16 32) (k0_hw699 : k0_chk699 v33 v35 v862 v1249 v1399), ∀ a x, ((![v862, v1249, v1399, v35] : Fin 4 → IVec S16 32) a x).toNat < S2x4x94x96.size a := fun v33 v35 v862 v1249 v1399 k0_hw699 => k0_hw699.2

def k0_chk700 (v30 : IVec S16 32) (v862 : IVec S16 32) (v1249 : IVec S16 32) (v1400 : IVec S16 32) : Prop :=
  (∀ a x, ((![v862, v1249, v1400, v30] : Fin 4 → IVec S16 32) a x).toNat < S2x4x32x32.size a)
theorem k0_idx917_inb : ∀ (v30 : IVec S16 32) (v862 : IVec S16 32) (v1249 : IVec S16 32) (v1400 : IVec S16 32) (k0_hw700 : k0_chk700 v30 v862 v1249 v1400), ∀ a x, ((![v862, v1249, v1400, v30] : Fin 4 → IVec S16 32) a x).toNat < S2x4x32x32.size a := fun v30 v862 v1249 v1400 k0_hw700 => k0_hw700

def k0_chk701 (v862 : IVec S16 32) (v1249 : IVec S16 32) (v1400 : IVec S16 32) (v1403 : IVec S16 32) : Prop :=
  (∀ a x, ((![v862, v1249, v1400, v1403] : Fin 4 → IVec S16 32) a x).toNat < S2x4x32x32.size a)
theorem k0_idx918_inb : ∀ (v862 : IVec S16 32) (v1249 : IVec S16 32) (v1400 : IVec S16 32) (v1403 : IVec S16 32) (k0_hw701 : k0_chk701 v862 v1249 v1400 v1403), ∀ a x, ((![v862, v1249, v1400, v1403] : Fin 4 → IVec S16 32) a x).toNat < S2x4x32x32.size a := fun v862 v1249 v1400 v1403 k0_hw701 => k0_hw701

def k0_chk702 (v33 : IVec S16 32) (v35 : IVec S16 32) (v862 : IVec S16 32) (v1249 : IVec S16 32) (v1405 : IVec S16 32) : Prop :=
  (∀ a x, ((![v862, v1249, v1405, v33] : Fin 4 → IVec S16 32) a x).toNat < S2x4x94x96.size a) ∧
  (∀ a x, ((![v862, v1249, v1405, v35] : Fin 4 → IVec S16 32) a x).toNat < S2x4x94x96.size a)
theorem k0_idx919_inb : ∀ (v33 : IVec S16 32) (v35 : IVec S16 32) (v862 : IVec S16 32) (v1249 : IVec S16 32) (v1405 : IVec S16 32) (k0_hw702 : k0_chk702 v33 v35 v862 v1249 v1405), ∀ a x, ((![v862, v1249, v1405, v33] : Fin 4 → IVec S16 32) a x).toNat < S2x4x94x96.size a := fun v33 v35 v862 v1249 v1405 k0_hw702 => k0_hw702.1
theorem k0_idx920_inb : ∀ (v33 : IVec S16 32) (v35 : IVec S16 32) (v862 : IVec S16 32) (v1249 : IVec S16 32) (v1405 : IVec S16 32) (k0_hw702 : k0_chk702 v33 v35 v862 v1249 v1405), ∀ a x, ((![v862, v1249, v1405, v35] : Fin 4 → IVec S16 32) a x).toNat < S2x4x94x96.size a := fun v33 v35 v862 v1249 v1405 k0_hw702 => k0_hw702.2

def k0_chk703 (v30 : IVec S16 32) (v862 : IVec S16 32) (v1249 : IVec S16 32) (v1406 : IVec S16 32) : Prop :=
  (∀ a x, ((![v862, v1249, v1406, v30] : Fin 4 → IVec S16 32) a x).toNat < S2x4x32x32.size a)
theorem k0_idx921_inb : ∀ (v30 : IVec S16 32) (v862 : IVec S16 32) (v1249 : IVec S16 32) (v1406 : IVec S16 32) (k0_hw703 : k0_chk703 v30 v862 v1249 v1406), ∀ a x, ((![v862, v1249, v1406, v30] : Fin 4 → IVec S16 32) a x).toNat < S2x4x32x32.size a := fun v30 v862 v1249 v1406 k0_hw703 => k0_hw703

def k0_chk704 (v862 : IVec S16 32) (v1249 : IVec S16 32) (v1406 : IVec S16 32) (v1409 : IVec S16 32) : Prop :=
  (∀ a x, ((![v862, v1249, v1406, v1409] : Fin 4 → IVec S16 32) a x).toNat < S2x4x32x32.size a)
theorem k0_idx922_inb : ∀ (v862 : IVec S16 32) (v1249 : IVec S16 32) (v1406 : IVec S16 32) (v1409 : IVec S16 32) (k0_hw704 : k0_chk704 v862 v1249 v1406 v1409), ∀ a x, ((![v862, v1249, v1406, v1409] : Fin 4 → IVec S16 32) a x).toNat < S2x4x32x32.size a := fun v862 v1249 v1406 v1409 k0_hw704 => k0_hw704

def k0_chk705 (v33 : IVec S16 32) (v35 : IVec S16 32) (v862 : IVec S16 32) (v1249 : IVec S16 32) (v1411 : IVec S16 32) : Prop :=
  (∀ a x, ((![v862, v1249, v1411, v33] : Fin 4 → IVec S16 32) a x).toNat < S2x4x94x96.size a) ∧
  (∀ a x, ((![v862, v1249, v1411, v35] : Fin 4 → IVec S16 32) a x).toNat < S2x4x94x96.size a)
theorem k0_idx923_inb : ∀ (v33 : IVec S16 32) (v35 : IVec S16 32) (v862 : IVec S16 32) (v1249 : IVec S16 32) (v1411 : IVec S16 32) (k0_hw705 : k0_chk705 v33 v35 v862 v1249 v1411), ∀ a x, ((![v862, v1249, v1411, v33] : Fin 4 → IVec S16 32) a x).toNat < S2x4x94x96.size a := fun v33 v35 v862 v1249 v1411 k0_hw705 => k0_hw705.1
theorem k0_idx924_inb : ∀ (v33 : IVec S16 32) (v35 : IVec S16 32) (v862 : IVec S16 32) (v1249 : IVec S16 32) (v1411 : IVec S16 32) (k0_hw705 : k0_chk705 v33 v35 v862 v1249 v1411), ∀ a x, ((![v862, v1249, v1411, v35] : Fin 4 → IVec S16 32) a x).toNat < S2x4x94x96.size a := fun v33 v35 v862 v1249 v1411 k0_hw705 => k0_hw705.2

def k0_chk706 (v30 : IVec S16 32) (v862 : IVec S16 32) (v1249 : IVec S16 32) (v1412 : IVec S16 32) : Prop :=
  (∀ a x, ((![v862, v1249, v1412, v30] : Fin 4 → IVec S16 32) a x).toNat < S2x4x32x32.size a)
theorem k0_idx925_inb : ∀ (v30 : IVec S16 32) (v862 : IVec S16 32) (v1249 : IVec S16 32) (v1412 : IVec S16 32) (k0_hw706 : k0_chk706 v30 v862 v1249 v1412), ∀ a x, ((![v862, v1249, v1412, v30] : Fin 4 → IVec S16 32) a x).toNat < S2x4x32x32.size a := fun v30 v862 v1249 v1412 k0_hw706 => k0_hw706

def k0_chk707 (v862 : IVec S16 32) (v1249 : IVec S16 32) (v1412 : IVec S16 32) (v1415 : IVec S16 32) : Prop :=
  (∀ a x, ((![v862, v1249, v1412, v1415] : Fin 4 → IVec S16 32) a x).toNat < S2x4x32x32.size a)
theorem k0_idx926_inb : ∀ (v862 : IVec S16 32) (v1249 : IVec S16 32) (v1412 : IVec S16 32) (v1415 : IVec S16 32) (k0_hw707 : k0_chk707 v862 v1249 v1412 v1415), ∀ a x, ((![v862, v1249, v1412, v1415] : Fin 4 → IVec S16 32) a x).toNat < S2x4x32x32.size a := fun v862 v1249 v1412 v1415 k0_hw707 => k0_hw707

def k0_chk708 (v33 : IVec S16 32) (v35 : IVec S16 32) (v862 : IVec S16 32) (v1249 : IVec S16 32) (v1417 : IVec S16 32) : Prop :=
  (∀ a x, ((![v862, v1249, v1417, v33] : Fin 4 → IVec S16 32) a x).toNat < S2x4x94x96.size a) ∧
  (∀ a x, ((![v862, v1249, v1417, v35] : Fin 4 → IVec S16 32) a x).toNat < S2x4x94x96.size a)
theorem k0_idx927_inb : ∀ (v33 : IVec S16 32) (v35 : IVec S16 32) (v862 : IVec S16 32) (v1249 : IVec S16 32) (v1417 : IVec S16 32) (k0_hw708 : k0_chk708 v33 v35 v862 v1249 v1417), ∀ a x, ((![v862, v1249, v1417, v33] : Fin 4 → IVec S16 32) a x).toNat < S2x4x94x96.size a := fun v33 v35 v862 v1249 v1417 k0_hw708 => k0_hw708.1
theorem k0_idx928_inb : ∀ (v33 : IVec S16 32) (v35 : IVec S16 32) (v862 : IVec S16 32) (v1249 : IVec S16 32) (v1417 : IVec S16 32) (k0_hw708 : k0_chk708 v33 v35 v862 v1249 v1417), ∀ a x, ((![v862, v1249, v1417, v35] : Fin 4 → IVec S16 32) a x).toNat < S2x4x94x96.size a := fun v33 v35 v862 v1249 v1417 k0_hw708 => k0_hw708.2

def k0_chk709 (v30 : IVec S16 32) (v862 : IVec S16 32) (v1249 : IVec S16 32) (v1418 : IVec S16 32) : Prop :=
  (∀ a x, ((![v862, v1249, v1418, v30] : Fin 4 → IVec S16 32) a x).toNat < S2x4x32x32.size a)
theorem k0_idx929_inb : ∀ (v30 : IVec S16 32) (v862 : IVec S16 32) (v1249 : IVec S16 32) (v1418 : IVec S16 32) (k0_hw709 : k0_chk709 v30 v862 v1249 v1418), ∀ a x, ((![v862, v1249, v1418, v30] : Fin 4 → IVec S16 32) a x).toNat < S2x4x32x32.size a := fun v30 v862 v1249 v1418 k0_hw709 => k0_hw709

def k0_chk710 (v862 : IVec S16 32) (v1249 : IVec S16 32) (v1418 : IVec S16 32) (v1421 : IVec S16 32) : Prop :=
  (∀ a x, ((![v862, v1249, v1418, v1421] : Fin 4 → IVec S16 32) a x).toNat < S2x4x32x32.size a)
theorem k0_idx930_inb : ∀ (v862 : IVec S16 32) (v1249 : IVec S16 32) (v1418 : IVec S16 32) (v1421 : IVec S16 32) (k0_hw710 : k0_chk710 v862 v1249 v1418 v1421), ∀ a x, ((![v862, v1249, v1418, v1421] : Fin 4 → IVec S16 32) a x).toNat < S2x4x32x32.size a := fun v862 v1249 v1418 v1421 k0_hw710 => k0_hw710

def k0_chk711 (v33 : IVec S16 32) (v35 : IVec S16 32) (v862 : IVec S16 32) (v1249 : IVec S16 32) (v1423 : IVec S16 32) : Prop :=
  (∀ a x, ((![v862, v1249, v1423, v33] : Fin 4 → IVec S16 32) a x).toNat < S2x4x94x96.size a) ∧
  (∀ a x, ((![v862, v1249, v1423, v35] : Fin 4 → IVec S16 32) a x).toNat < S2x4x94x96.size a)
theorem k0_idx931_inb : ∀ (v33 : IVec S16 32) (v35 : IVec S16 32) (v862 : IVec S16 32) (v1249 : IVec S16 32) (v1423 : IVec S16 32) (k0_hw711 : k0_chk711 v33 v35 v862 v1249 v1423), ∀ a x, ((![v862, v1249, v1423, v33] : Fin 4 → IVec S16 32) a x).toNat < S2x4x94x96.size a := fun v33 v35 v862 v1249 v1423 k0_hw711 => k0_hw711.1
theorem k0_idx932_inb : ∀ (v33 : IVec S16 32) (v35 : IVec S16 32) (v862 : IVec S16 32) (v1249 : IVec S16 32) (v1423 : IVec S16 32) (k0_hw711 : k0_chk711 v33 v35 v862 v1249 v1423), ∀ a x, ((![v862, v1249, v1423, v35] : Fin 4 → IVec S16 32) a x).toNat < S2x4x94x96.size a := fun v33 v35 v862 v1249 v1423 k0_hw711 => k0_hw711.2

def k0_chk712 (v30 : IVec S16 32) (v862 : IVec S16 32) (v1249 : IVec S16 32) (v1424 : IVec S16 32) : Prop :=
  (∀ a x, ((![v862, v1249, v1424, v30] : Fin 4 → IVec S16 32) a x).toNat < S2x4x32x32.size a)
theorem k0_idx933_inb : ∀ (v30 : IVec S16 32) (v862 : IVec S16 32) (v1249 : IVec S16 32) (v1424 : IVec S16 32) (k0_hw712 : k0_chk712 v30 v862 v1249 v1424), ∀ a x, ((![v862, v1249, v1424, v30] : Fin 4 → IVec S16 32) a x).toNat < S2x4x32x32.size a := fun v30 v862 v1249 v1424 k0_hw712 => k0_hw712

def k0_chk713 (v862 : IVec S16 32) (v1249 : IVec S16 32) (v1424 : IVec S16 32) (v1427 : IVec S16 32) : Prop :=
  (∀ a x, ((![v862, v1249, v1424, v1427] : Fin 4 → IVec S16 32) a x).toNat < S2x4x32x32.size a)
theorem k0_idx934_inb : ∀ (v862 : IVec S16 32) (v1249 : IVec S16 32) (v1424 : IVec S16 32) (v1427 : IVec S16 32) (k0_hw713 : k0_chk713 v862 v1249 v1424 v1427), ∀ a x, ((![v862, v1249, v1424, v1427] : Fin 4 → IVec S16 32) a x).toNat < S2x4x32x32.size a := fun v862 v1249 v1424 v1427 k0_hw713 => k0_hw713

def k0_chk714 (v33 : IVec S16 32) (v35 : IVec S16 32) (v862 : IVec S16 32) (v1249 : IVec S16 32) (v1429 : IVec S16 32) : Prop :=
  (∀ a x, ((![v862, v1249, v1429, v33] : Fin 4 → IVec S16 32) a x).toNat < S2x4x94x96.size a) ∧
  (∀ a x, ((![v862, v1249, v1429, v35] : Fin 4 → IVec S16 32) a x).toNat < S2x4x94x96.size a)
theorem k0_idx935_inb : ∀ (v33 : IVec S16 32) (v35 : IVec S16 32) (v862 : IVec S16 32) (v1249 : IVec S16 32) (v1429 : IVec S16 32) (k0_hw714 : k0_chk714 v33 v35 v862 v1249 v1429), ∀ a x, ((![v862, v1249, v1429, v33] : Fin 4 → IVec S16 32) a x).toNat < S2x4x94x96.size a := fun v33 v35 v862 v1249 v1429 k0_hw714 => k0_hw714.1
theorem k0_idx936_inb : ∀ (v33 : IVec S16 32) (v35 : IVec S16 32) (v862 : IVec S16 32) (v1249 : IVec S16 32) (v1429 : IVec S16 32) (k0_hw714 : k0_chk714 v33 v35 v862 v1249 v1429), ∀ a x, ((![v862, v1249, v1429, v35] : Fin 4 → IVec S16 32) a x).toNat < S2x4x94x96.size a := fun v33 v35 v862 v1249 v1429 k0_hw714 => k0_hw714.2

def k0_chk715 (v30 : IVec S16 32) (v862 : IVec S16 32) (v1249 : IVec S16 32) (v1430 : IVec S16 32) : Prop :=
  (∀ a x, ((![v862, v1249, v1430, v30] : Fin 4 → IVec S16 32) a x).toNat < S2x4x32x32.size a)
theorem k0_idx937_inb : ∀ (v30 : IVec S16 32) (v862 : IVec S16 32) (v1249 : IVec S16 32) (v1430 : IVec S16 32) (k0_hw715 : k0_chk715 v30 v862 v1249 v1430), ∀ a x, ((![v862, v1249, v1430, v30] : Fin 4 → IVec S16 32) a x).toNat < S2x4x32x32.size a := fun v30 v862 v1249 v1430 k0_hw715 => k0_hw715

def k0_chk716 (v862 : IVec S16 32) (v1249 : IVec S16 32) (v1430 : IVec S16 32) (v1433 : IVec S16 32) : Prop :=
  (∀ a x, ((![v862, v1249, v1430, v1433] : Fin 4 → IVec S16 32) a x).toNat < S2x4x32x32.size a)
theorem k0_idx938_inb : ∀ (v862 : IVec S16 32) (v1249 : IVec S16 32) (v1430 : IVec S16 32) (v1433 : IVec S16 32) (k0_hw716 : k0_chk716 v862 v1249 v1430 v1433), ∀ a x, ((![v862, v1249, v1430, v1433] : Fin 4 → IVec S16 32) a x).toNat < S2x4x32x32.size a := fun v862 v1249 v1430 v1433 k0_hw716 => k0_hw716

def k0_chk717 (v33 : IVec S16 32) (v35 : IVec S16 32) (v862 : IVec S16 32) (v1249 : IVec S16 32) (v1435 : IVec S16 32) : Prop :=
  (∀ a x, ((![v862, v1249, v1435, v33] : Fin 4 → IVec S16 32) a x).toNat < S2x4x94x96.size a) ∧
  (∀ a x, ((![v862, v1249, v1435, v35] : Fin 4 → IVec S16 32) a x).toNat < S2x4x94x96.size a)
theorem k0_idx939_inb : ∀ (v33 : IVec S16 32) (v35 : IVec S16 32) (v862 : IVec S16 32) (v1249 : IVec S16 32) (v1435 : IVec S16 32) (k0_hw717 : k0_chk717 v33 v35 v862 v1249 v1435), ∀ a x, ((![v862, v1249, v1435, v33] : Fin 4 → IVec S16 32) a x).toNat < S2x4x94x96.size a := fun v33 v35 v862 v1249 v1435 k0_hw717 => k0_hw717.1
theorem k0_idx940_inb : ∀ (v33 : IVec S16 32) (v35 : IVec S16 32) (v862 : IVec S16 32) (v1249 : IVec S16 32) (v1435 : IVec S16 32) (k0_hw717 : k0_chk717 v33 v35 v862 v1249 v1435), ∀ a x, ((![v862, v1249, v1435, v35] : Fin 4 → IVec S16 32) a x).toNat < S2x4x94x96.size a := fun v33 v35 v862 v1249 v1435 k0_hw717 => k0_hw717.2

def k0_chk718 (v30 : IVec S16 32) (v862 : IVec S16 32) (v1249 : IVec S16 32) (v1436 : IVec S16 32) : Prop :=
  (∀ a x, ((![v862, v1249, v1436, v30] : Fin 4 → IVec S16 32) a x).toNat < S2x4x32x32.size a)
theorem k0_idx941_inb : ∀ (v30 : IVec S16 32) (v862 : IVec S16 32) (v1249 : IVec S16 32) (v1436 : IVec S16 32) (k0_hw718 : k0_chk718 v30 v862 v1249 v1436), ∀ a x, ((![v862, v1249, v1436, v30] : Fin 4 → IVec S16 32) a x).toNat < S2x4x32x32.size a := fun v30 v862 v1249 v1436 k0_hw718 => k0_hw718

def k0_chk719 (v862 : IVec S16 32) (v1249 : IVec S16 32) (v1436 : IVec S16 32) (v1439 : IVec S16 32) : Prop :=
  (∀ a x, ((![v862, v1249, v1436, v1439] : Fin 4 → IVec S16 32) a x).toNat < S2x4x32x32.size a)
theorem k0_idx942_inb : ∀ (v862 : IVec S16 32) (v1249 : IVec S16 32) (v1436 : IVec S16 32) (v1439 : IVec S16 32) (k0_hw719 : k0_chk719 v862 v1249 v1436 v1439), ∀ a x, ((![v862, v1249, v1436, v1439] : Fin 4 → IVec S16 32) a x).toNat < S2x4x32x32.size a := fun v862 v1249 v1436 v1439 k0_hw719 => k0_hw719

def k0_chk720 (v33 : IVec S16 32) (v35 : IVec S16 32) (v862 : IVec S16 32) (v1249 : IVec S16 32) (v1441 : IVec S16 32) : Prop :=
  (∀ a x, ((![v862, v1249, v1441, v33] : Fin 4 → IVec S16 32) a x).toNat < S2x4x94x96.size a) ∧
  (∀ a x, ((![v862, v1249, v1441, v35] : Fin 4 → IVec S16 32) a x).toNat < S2x4x94x96.size a)
theorem k0_idx943_inb : ∀ (v33 : IVec S16 32) (v35 : IVec S16 32) (v862 : IVec S16 32) (v1249 : IVec S16 32) (v1441 : IVec S16 32) (k0_hw720 : k0_chk720 v33 v35 v862 v1249 v1441), ∀ a x, ((![v862, v1249, v1441, v33] : Fin 4 → IVec S16 32) a x).toNat < S2x4x94x96.size a := fun v33 v35 v862 v1249 v1441 k0_hw720 => k0_hw720.1
theorem k0_idx944_inb : ∀ (v33 : IVec S16 32) (v35 : IVec S16 32) (v862 : IVec S16 32) (v1249 : IVec S16 32) (v1441 : IVec S16 32) (k0_hw720 : k0_chk720 v33 v35 v862 v1249 v1441), ∀ a x, ((![v862, v1249, v1441, v35] : Fin 4 → IVec S16 32) a x).toNat < S2x4x94x96.size a := fun v33 v35 v862 v1249 v1441 k0_hw720 => k0_hw720.2

def k0_chk721 (v30 : IVec S16 32) (v862 : IVec S16 32) (v1442 : IVec S16 32) (v1443 : IVec S16 32) : Prop :=
  (∀ a x, ((![v862, v1442, v1443, v30] : Fin 4 → IVec S16 32) a x).toNat < S2x4x32x32.size a)
theorem k0_idx945_inb : ∀ (v30 : IVec S16 32) (v862 : IVec S16 32) (v1442 : IVec S16 32) (v1443 : IVec S16 32) (k0_hw721 : k0_chk721 v30 v862 v1442 v1443), ∀ a x, ((![v862, v1442, v1443, v30] : Fin 4 → IVec S16 32) a x).toNat < S2x4x32x32.size a := fun v30 v862 v1442 v1443 k0_hw721 => k0_hw721

def k0_chk722 (v862 : IVec S16 32) (v1442 : IVec S16 32) (v1443 : IVec S16 32) (v1446 : IVec S16 32) : Prop :=
  (∀ a x, ((![v862, v1442, v1443, v1446] : Fin 4 → IVec S16 32) a x).toNat < S2x4x32x32.size a)
theorem k0_idx946_inb : ∀ (v862 : IVec S16 32) (v1442 : IVec S16 32) (v1443 : IVec S16 32) (v1446 : IVec S16 32) (k0_hw722 : k0_chk722 v862 v1442 v1443 v1446), ∀ a x, ((![v862, v1442, v1443, v1446] : Fin 4 → IVec S16 32) a x).toNat < S2x4x32x32.size a := fun v862 v1442 v1443 v1446 k0_hw722 => k0_hw722

def k0_chk723 (v33 : IVec S16 32) (v35 : IVec S16 32) (v862 : IVec S16 32) (v1442 : IVec S16 32) (v1448 : IVec S16 32) : Prop :=
  (∀ a x, ((![v862, v1442, v1448, v33] : Fin 4 → IVec S16 32) a x).toNat < S2x4x94x96.size a) ∧
  (∀ a x, ((![v862, v1442, v1448, v35] : Fin 4 → IVec S16 32) a x).toNat < S2x4x94x96.size a)
theorem k0_idx947_inb : ∀ (v33 : IVec S16 32) (v35 : IVec S16 32) (v862 : IVec S16 32) (v1442 : IVec S16 32) (v1448 : IVec S16 32) (k0_hw723 : k0_chk723 v33 v35 v862 v1442 v1448), ∀ a x, ((![v862, v1442, v1448, v33] : Fin 4 → IVec S16 32) a x).toNat < S2x4x94x96.size a := fun v33 v35 v862 v1442 v1448 k0_hw723 => k0_hw723.1
theorem k0_idx948_inb : ∀ (v33 : IVec S16 32) (v35 : IVec S16 32) (v862 : IVec S16 32) (v1442 : IVec S16 32) (v1448 : IVec S16 32) (k0_hw723 : k0_chk723 v33 v35 v862 v1442 v1448), ∀ a x, ((![v862, v1442, v1448, v35] : Fin 4 → IVec S16 32) a x).toNat < S2x4x94x96.size a := fun v33 v35 v862 v1442 v1448 k0_hw723 => k0_hw723.2

def k0_chk724 (v30 : IVec S16 32) (v862 : IVec S16 32) (v1442 : IVec S16 32) (v1449 : IVec S16 32) : Prop :=
  (∀ a x, ((![v862, v1442, v1449, v30] : Fin 4 → IVec S16 32) a x).toNat < S2x4x32x32.size a)
theorem k0_idx949_inb : ∀ (v30 : IVec S16 32) (v862 : IVec S16 32) (v1442 : IVec S16 32) (v1449 : IVec S16 32) (k0_hw724 : k0_chk724 v30 v862 v1442 v1449), ∀ a x, ((![v862, v1442, v1449, v30] : Fin 4 → IVec S16 32) a x).toNat < S2x4x32x32.size a := fun v30 v862 v1442 v1449 k0_hw724 => k0_hw724

def k0_chk725 (v862 : IVec S16 32) (v1442 : IVec S16 32) (v1449 : IVec S16 32) (v1452 : IVec S16 32) : Prop :=
  (∀ a x, ((![v862, v1442, v1449, v1452] : Fin 4 → IVec S16 32) a x).toNat < S2x4x32x32.size a)
theorem k0_idx950_inb : ∀ (v862 : IVec S16 32) (v1442 : IVec S16 32) (v1449 : IVec S16 32) (v1452 : IVec S16 32) (k0_hw725 : k0_chk725 v862 v1442 v1449 v1452), ∀ a x, ((![v862, v1442, v1449, v1452] : Fin 4 → IVec S16 32) a x).toNat < S2x4x32x32.size a := fun v862 v1442 v1449 v1452 k0_hw725 => k0_hw725

def k0_chk726 (v33 : IVec S16 32) (v35 : IVec S16 32) (v862 : IVec S16 32) (v1442 : IVec S16 32) (v1454 : IVec S16 32) : Prop :=
  (∀ a x, ((![v862, v1442, v1454, v33] : Fin 4 → IVec S16 32) a x).toNat < S2x4x94x96.size a) ∧
  (∀ a x, ((![v862, v1442, v1454, v35] : Fin 4 → IVec S16 32) a x).toNat < S2x4x94x96.size a)
theorem k0_idx951_inb : ∀ (v33 : IVec S16 32) (v35 : IVec S16 32) (v862 : IVec S16 32) (v1442 : IVec S16 32) (v1454 : IVec S16 32) (k0_hw726 : k0_chk726 v33 v35 v862 v1442 v1454), ∀ a x, ((![v862, v1442, v1454, v33] : Fin 4 → IVec S16 32) a x).toNat < S2x4x94x96.size a := fun v33 v35 v862 v1442 v1454 k0_hw726 => k0_hw726.1
theorem k0_idx952_inb : ∀ (v33 : IVec S16 32) (v35 : IVec S16 32) (v862 : IVec S16 32) (v1442 : IVec S16 32) (v1454 : IVec S16 32) (k0_hw726 : k0_chk726 v33 v35 v862 v1442 v1454), ∀ a x, ((![v862, v1442, v1454, v35] : Fin 4 → IVec S16 32) a x).toNat < S2x4x94x96.size a := fun v33 v35 v862 v1442 v1454 k0_hw726 => k0_hw726.2

def k0_chk727 (v30 : IVec S16 32) (v862 : IVec S16 32) (v1442 : IVec S16 32) (v1455 : IVec S16 32) : Prop :=
  (∀ a x, ((![v862, v1442, v1455, v30] : Fin 4 → IVec S16 32) a x).toNat < S2x4x32x32.size a)
theorem k0_idx953_inb : ∀ (v30 : IVec S16 32) (v862 : IVec S16 32) (v1442 : IVec S16 32) (v1455 : IVec S16 32) (k0_hw727 : k0_chk727 v30 v862 v1442 v1455), ∀ a x, ((![v862, v1442, v1455, v30] : Fin 4 → IVec S16 32) a x).toNat < S2x4x32x32.size a := fun v30 v862 v1442 v1455 k0_hw727 => k0_hw727

def k0_chk728 (v862 : IVec S16 32) (v1442 : IVec S16 32) (v1455 : IVec S16 32) (v1458 : IVec S16 32) : Prop :=
  (∀ a x, ((![v862, v1442, v1455, v1458] : Fin 4 → IVec S16 32) a x).toNat < S2x4x32x32.size a)
theorem k0_idx954_inb : ∀ (v862 : IVec S16 32) (v1442 : IVec S16 32) (v1455 : IVec S16 32) (v1458 : IVec S16 32) (k0_hw728 : k0_chk728 v862 v1442 v1455 v1458), ∀ a x, ((![v862, v1442, v1455, v1458] : Fin 4 → IVec S16 32) a x).toNat < S2x4x32x32.size a := fun v862 v1442 v1455 v1458 k0_hw728 => k0_hw728

def k0_chk729 (v33 : IVec S16 32) (v35 : IVec S16 32) (v862 : IVec S16 32) (v1442 : IVec S16 32) (v1460 : IVec S16 32) : Prop :=
  (∀ a x, ((![v862, v1442, v1460, v33] : Fin 4 → IVec S16 32) a x).toNat < S2x4x94x96.size a) ∧
  (∀ a x, ((![v862, v1442, v1460, v35] : Fin 4 → IVec S16 32) a x).toNat < S2x4x94x96.size a)
theorem k0_idx955_inb : ∀ (v33 : IVec S16 32) (v35 : IVec S16 32) (v862 : IVec S16 32) (v1442 : IVec S16 32) (v1460 : IVec S16 32) (k0_hw729 : k0_chk729 v33 v35 v862 v1442 v1460), ∀ a x, ((![v862, v1442, v1460, v33] : Fin 4 → IVec S16 32) a x).toNat < S2x4x94x96.size a := fun v33 v35 v862 v1442 v1460 k0_hw729 => k0_hw729.1
theorem k0_idx956_inb : ∀ (v33 : IVec S16 32) (v35 : IVec S16 32) (v862 : IVec S16 32) (v1442 : IVec S16 32) (v1460 : IVec S16 32) (k0_hw729 : k0_chk729 v33 v35 v862 v1442 v1460), ∀ a x, ((![v862, v1442, v1460, v35] : Fin 4 → IVec S16 32) a x).toNat < S2x4x94x96.size a := fun v33 v35 v862 v1442 v1460 k0_hw729 => k0_hw729.2

def k0_chk730 (v30 : IVec S16 32) (v862 : IVec S16 32) (v1442 : IVec S16 32) (v1461 : IVec S16 32) : Prop :=
  (∀ a x, ((![v862, v1442, v1461, v30] : Fin 4 → IVec S16 32) a x).toNat < S2x4x32x32.size a)
theorem k0_idx957_inb : ∀ (v30 : IVec S16 32) (v862 : IVec S16 32) (v1442 : IVec S16 32) (v1461 : IVec S16 32) (k0_hw730 : k0_chk730 v30 v862 v1442 v1461), ∀ a x, ((![v862, v1442, v1461, v30] : Fin 4 → IVec S16 32) a x).toNat < S2x4x32x32.size a := fun v30 v862 v1442 v1461 k0_hw730 => k0_hw730

def k0_chk731 (v862 : IVec S16 32) (v1442 : IVec S16 32) (v1461 : IVec S16 32) (v1464 : IVec S16 32) : Prop :=
  (∀ a x, ((![v862, v1442, v1461, v1464] : Fin 4 → IVec S16 32) a x).toNat < S2x4x32x32.size a)
theorem k0_idx958_inb : ∀ (v862 : IVec S16 32) (v1442 : IVec S16 32) (v1461 : IVec S16 32) (v1464 : IVec S16 32) (k0_hw731 : k0_chk731 v862 v1442 v1461 v1464), ∀ a x, ((![v862, v1442, v1461, v1464] : Fin 4 → IVec S16 32) a x).toNat < S2x4x32x32.size a := fun v862 v1442 v1461 v1464 k0_hw731 => k0_hw731

def k0_chk732 (v33 : IVec S16 32) (v35 : IVec S16 32) (v862 : IVec S16 32) (v1442 : IVec S16 32) (v1466 : IVec S16 32) : Prop :=
  (∀ a x, ((![v862, v1442, v1466, v33] : Fin 4 → IVec S16 32) a x).toNat < S2x4x94x96.size a) ∧
  (∀ a x, ((![v862, v1442, v1466, v35] : Fin 4 → IVec S16 32) a x).toNat < S2x4x94x96.size a)
theorem k0_idx959_inb : ∀ (v33 : IVec S16 32) (v35 : IVec S16 32) (v862 : IVec S16 32) (v1442 : IVec S16 32) (v1466 : IVec S16 32) (k0_hw732 : k0_chk732 v33 v35 v862 v1442 v1466), ∀ a x, ((![v862, v1442, v1466, v33] : Fin 4 → IVec S16 32) a x).toNat < S2x4x94x96.size a := fun v33 v35 v862 v1442 v1466 k0_hw732 => k0_hw732.1
theorem k0_idx960_inb : ∀ (v33 : IVec S16 32) (v35 : IVec S16 32) (v862 : IVec S16 32) (v1442 : IVec S16 32) (v1466 : IVec S16 32) (k0_hw732 : k0_chk732 v33 v35 v862 v1442 v1466), ∀ a x, ((![v862, v1442, v1466, v35] : Fin 4 → IVec S16 32) a x).toNat < S2x4x94x96.size a := fun v33 v35 v862 v1442 v1466 k0_hw732 => k0_hw732.2

def k0_chk733 (v30 : IVec S16 32) (v862 : IVec S16 32) (v1442 : IVec S16 32) (v1467 : IVec S16 32) : Prop :=
  (∀ a x, ((![v862, v1442, v1467, v30] : Fin 4 → IVec S16 32) a x).toNat < S2x4x32x32.size a)
theorem k0_idx961_inb : ∀ (v30 : IVec S16 32) (v862 : IVec S16 32) (v1442 : IVec S16 32) (v1467 : IVec S16 32) (k0_hw733 : k0_chk733 v30 v862 v1442 v1467), ∀ a x, ((![v862, v1442, v1467, v30] : Fin 4 → IVec S16 32) a x).toNat < S2x4x32x32.size a := fun v30 v862 v1442 v1467 k0_hw733 => k0_hw733

def k0_chk734 (v862 : IVec S16 32) (v1442 : IVec S16 32) (v1467 : IVec S16 32) (v1470 : IVec S16 32) : Prop :=
  (∀ a x, ((![v862, v1442, v1467, v1470] : Fin 4 → IVec S16 32) a x).toNat < S2x4x32x32.size a)
theorem k0_idx962_inb : ∀ (v862 : IVec S16 32) (v1442 : IVec S16 32) (v1467 : IVec S16 32) (v1470 : IVec S16 32) (k0_hw734 : k0_chk734 v862 v1442 v1467 v1470), ∀ a x, ((![v862, v1442, v1467, v1470] : Fin 4 → IVec S16 32) a x).toNat < S2x4x32x32.size a := fun v862 v1442 v1467 v1470 k0_hw734 => k0_hw734

def k0_chk735 (v33 : IVec S16 32) (v35 : IVec S16 32) (v862 : IVec S16 32) (v1442 : IVec S16 32) (v1472 : IVec S16 32) : Prop :=
  (∀ a x, ((![v862, v1442, v1472, v33] : Fin 4 → IVec S16 32) a x).toNat < S2x4x94x96.size a) ∧
  (∀ a x, ((![v862, v1442, v1472, v35] : Fin 4 → IVec S16 32) a x).toNat < S2x4x94x96.size a)
theorem k0_idx963_inb : ∀ (v33 : IVec S16 32) (v35 : IVec S16 32) (v862 : IVec S16 32) (v1442 : IVec S16 32) (v1472 : IVec S16 32) (k0_hw735 : k0_chk735 v33 v35 v862 v1442 v1472), ∀ a x, ((![v862, v1442, v1472, v33] : Fin 4 → IVec S16 32) a x).toNat < S2x4x94x96.size a := fun v33 v35 v862 v1442 v1472 k0_hw735 => k0_hw735.1
theorem k0_idx964_inb : ∀ (v33 : IVec S16 32) (v35 : IVec S16 32) (v862 : IVec S16 32) (v1442 : IVec S16 32) (v1472 : IVec S16 32) (k0_hw735 : k0_chk735 v33 v35 v862 v1442 v1472), ∀ a x, ((![v862, v1442, v1472, v35] : Fin 4 → IVec S16 32) a x).toNat < S2x4x94x96.size a := fun v33 v35 v862 v1442 v1472 k0_hw735 => k0_hw735.2

def k0_chk736 (v30 : IVec S16 32) (v862 : IVec S16 32) (v1442 : IVec S16 32) (v1473 : IVec S16 32) : Prop :=
  (∀ a x, ((![v862, v1442, v1473, v30] : Fin 4 → IVec S16 32) a x).toNat < S2x4x32x32.size a)
theorem k0_idx965_inb : ∀ (v30 : IVec S16 32) (v862 : IVec S16 32) (v1442 : IVec S16 32) (v1473 : IVec S16 32) (k0_hw736 : k0_chk736 v30 v862 v1442 v1473), ∀ a x, ((![v862, v1442, v1473, v30] : Fin 4 → IVec S16 32) a x).toNat < S2x4x32x32.size a := fun v30 v862 v1442 v1473 k0_hw736 => k0_hw736

def k0_chk737 (v862 : IVec S16 32) (v1442 : IVec S16 32) (v1473 : IVec S16 32) (v1476 : IVec S16 32) : Prop :=
  (∀ a x, ((![v862, v1442, v1473, v1476] : Fin 4 → IVec S16 32) a x).toNat < S2x4x32x32.size a)
theorem k0_idx966_inb : ∀ (v862 : IVec S16 32) (v1442 : IVec S16 32) (v1473 : IVec S16 32) (v1476 : IVec S16 32) (k0_hw737 : k0_chk737 v862 v1442 v1473 v1476), ∀ a x, ((![v862, v1442, v1473, v1476] : Fin 4 → IVec S16 32) a x).toNat < S2x4x32x32.size a := fun v862 v1442 v1473 v1476 k0_hw737 => k0_hw737

def k0_chk738 (v33 : IVec S16 32) (v35 : IVec S16 32) (v862 : IVec S16 32) (v1442 : IVec S16 32) (v1478 : IVec S16 32) : Prop :=
  (∀ a x, ((![v862, v1442, v1478, v33] : Fin 4 → IVec S16 32) a x).toNat < S2x4x94x96.size a) ∧
  (∀ a x, ((![v862, v1442, v1478, v35] : Fin 4 → IVec S16 32) a x).toNat < S2x4x94x96.size a)
theorem k0_idx967_inb : ∀ (v33 : IVec S16 32) (v35 : IVec S16 32) (v862 : IVec S16 32) (v1442 : IVec S16 32) (v1478 : IVec S16 32) (k0_hw738 : k0_chk738 v33 v35 v862 v1442 v1478), ∀ a x, ((![v862, v1442, v1478, v33] : Fin 4 → IVec S16 32) a x).toNat < S2x4x94x96.size a := fun v33 v35 v862 v1442 v1478 k0_hw738 => k0_hw738.1
theorem k0_idx968_inb : ∀ (v33 : IVec S16 32) (v35 : IVec S16 32) (v862 : IVec S16 32) (v1442 : IVec S16 32) (v1478 : IVec S16 32) (k0_hw738 : k0_chk738 v33 v35 v862 v1442 v1478), ∀ a x, ((![v862, v1442, v1478, v35] : Fin 4 → IVec S16 32) a x).toNat < S2x4x94x96.size a := fun v33 v35 v862 v1442 v1478 k0_hw738 => k0_hw738.2

def k0_chk739 (v30 : IVec S16 32) (v862 : IVec S16 32) (v1442 : IVec S16 32) (v1479 : IVec S16 32) : Prop :=
  (∀ a x, ((![v862, v1442, v1479, v30] : Fin 4 → IVec S16 32) a x).toNat < S2x4x32x32.size a)
theorem k0_idx969_inb : ∀ (v30 : IVec S16 32) (v862 : IVec S16 32) (v1442 : IVec S16 32) (v1479 : IVec S16 32) (k0_hw739 : k0_chk739 v30 v862 v1442 v1479), ∀ a x, ((![v862, v1442, v1479, v30] : Fin 4 → IVec S16 32) a x).toNat < S2x4x32x32.size a := fun v30 v862 v1442 v1479 k0_hw739 => k0_hw739

def k0_chk740 (v862 : IVec S16 32) (v1442 : IVec S16 32) (v1479 : IVec S16 32) (v1482 : IVec S16 32) : Prop :=
  (∀ a x, ((![v862, v1442, v1479, v1482] : Fin 4 → IVec S16 32) a x).toNat < S2x4x32x32.size a)
theorem k0_idx970_inb : ∀ (v862 : IVec S16 32) (v1442 : IVec S16 32) (v1479 : IVec S16 32) (v1482 : IVec S16 32) (k0_hw740 : k0_chk740 v862 v1442 v1479 v1482), ∀ a x, ((![v862, v1442, v1479, v1482] : Fin 4 → IVec S16 32) a x).toNat < S2x4x32x32.size a := fun v862 v1442 v1479 v1482 k0_hw740 => k0_hw740

def k0_chk741 (v33 : IVec S16 32) (v35 : IVec S16 32) (v862 : IVec S16 32) (v1442 : IVec S16 32) (v1484 : IVec S16 32) : Prop :=
  (∀ a x, ((![v862, v1442, v1484, v33] : Fin 4 → IVec S16 32) a x).toNat < S2x4x94x96.size a) ∧
  (∀ a x, ((![v862, v1442, v1484, v35] : Fin 4 → IVec S16 32) a x).toNat < S2x4x94x96.size a)
theorem k0_idx971_inb : ∀ (v33 : IVec S16 32) (v35 : IVec S16 32) (v862 : IVec S16 32) (v1442 : IVec S16 32) (v1484 : IVec S16 32) (k0_hw741 : k0_chk741 v33 v35 v862 v1442 v1484), ∀ a x, ((![v862, v1442, v1484, v33] : Fin 4 → IVec S16 32) a x).toNat < S2x4x94x96.size a := fun v33 v35 v862 v1442 v1484 k0_hw741 => k0_hw741.1
theorem k0_idx972_inb : ∀ (v33 : IVec S16 32) (v35 : IVec S16 32) (v862 : IVec S16 32) (v1442 : IVec S16 32) (v1484 : IVec S16 32) (k0_hw741 : k0_chk741 v33 v35 v862 v1442 v1484), ∀ a x, ((![v862, v1442, v1484, v35] : Fin 4 → IVec S16 32) a x).toNat < S2x4x94x96.size a := fun v33 v35 v862 v1442 v1484 k0_hw741 => k0_hw741.2

def k0_chk742 (v30 : IVec S16 32) (v862 : IVec S16 32) (v1442 : IVec S16 32) (v1485 : IVec S16 32) : Prop :=
  (∀ a x, ((![v862, v1442, v1485, v30] : Fin 4 → IVec S16 32) a x).toNat < S2x4x32x32.size a)
theorem k0_idx973_inb : ∀ (v30 : IVec S16 32) (v862 : IVec S16 32) (v1442 : IVec S16 32) (v1485 : IVec S16 32) (k0_hw742 : k0_chk742 v30 v862 v1442 v1485), ∀ a x, ((![v862, v1442, v1485, v30] : Fin 4 → IVec S16 32) a x).toNat < S2x4x32x32.size a := fun v30 v862 v1442 v1485 k0_hw742 => k0_hw742

def k0_chk743 (v862 : IVec S16 32) (v1442 : IVec S16 32) (v1485 : IVec S16 32) (v1488 : IVec S16 32) : Prop :=
  (∀ a x, ((![v862, v1442, v1485, v1488] : Fin 4 → IVec S16 32) a x).toNat < S2x4x32x32.size a)
theorem k0_idx974_inb : ∀ (v862 : IVec S16 32) (v1442 : IVec S16 32) (v1485 : IVec S16 32) (v1488 : IVec S16 32) (k0_hw743 : k0_chk743 v862 v1442 v1485 v1488), ∀ a x, ((![v862, v1442, v1485, v1488] : Fin 4 → IVec S16 32) a x).toNat < S2x4x32x32.size a := fun v862 v1442 v1485 v1488 k0_hw743 => k0_hw743

def k0_chk744 (v33 : IVec S16 32) (v35 : IVec S16 32) (v862 : IVec S16 32) (v1442 : IVec S16 32) (v1490 : IVec S16 32) : Prop :=
  (∀ a x, ((![v862, v1442, v1490, v33] : Fin 4 → IVec S16 32) a x).toNat < S2x4x94x96.size a) ∧
  (∀ a x, ((![v862, v1442, v1490, v35] : Fin 4 → IVec S16 32) a x).toNat < S2x4x94x96.size a)
theorem k0_idx975_inb : ∀ (v33 : IVec S16 32) (v35 : IVec S16 32) (v862 : IVec S16 32) (v1442 : IVec S16 32) (v1490 : IVec S16 32) (k0_hw744 : k0_chk744 v33 v35 v862 v1442 v1490), ∀ a x, ((![v862, v1442, v1490, v33] : Fin 4 → IVec S16 32) a x).toNat < S2x4x94x96.size a := fun v33 v35 v862 v1442 v1490 k0_hw744 => k0_hw744.1
theorem k0_idx976_inb : ∀ (v33 : IVec S16 32) (v35 : IVec S16 32) (v862 : IVec S16 32) (v1442 : IVec S16 32) (v1490 : IVec S16 32) (k0_hw744 : k0_chk744 v33 v35 v862 v1442 v1490), ∀ a x, ((![v862, v1442, v1490, v35] : Fin 4 → IVec S16 32) a x).toNat < S2x4x94x96.size a := fun v33 v35 v862 v1442 v1490 k0_hw744 => k0_hw744.2

def k0_chk745 (v30 : IVec S16 32) (v862 : IVec S16 32) (v1442 : IVec S16 32) (v1491 : IVec S16 32) : Prop :=
  (∀ a x, ((![v862, v1442, v1491, v30] : Fin 4 → IVec S16 32) a x).toNat < S2x4x32x32.size a)
theorem k0_idx977_inb : ∀ (v30 : IVec S16 32) (v862 : IVec S16 32) (v1442 : IVec S16 32) (v1491 : IVec S16 32) (k0_hw745 : k0_chk745 v30 v862 v1442 v1491), ∀ a x, ((![v862, v1442, v1491, v30] : Fin 4 → IVec S16 32) a x).toNat < S2x4x32x32.size a := fun v30 v862 v1442 v1491 k0_hw745 => k0_hw745

def k0_chk746 (v862 : IVec S16 32) (v1442 : IVec S16 32) (v1491 : IVec S16 32) (v1494 : IVec S16 32) : Prop :=
  (∀ a x, ((![v862, v1442, v1491, v1494] : Fin 4 → IVec S16 32) a x).toNat < S2x4x32x32.size a)
theorem k0_idx978_inb : ∀ (v862 : IVec S16 32) (v1442 : IVec S16 32) (v1491 : IVec S16 32) (v1494 : IVec S16 32) (k0_hw746 : k0_chk746 v862 v1442 v1491 v1494), ∀ a x, ((![v862, v1442, v1491, v1494] : Fin 4 → IVec S16 32) a x).toNat < S2x4x32x32.size a := fun v862 v1442 v1491 v1494 k0_hw746 => k0_hw746

def k0_chk747 (v33 : IVec S16 32) (v35 : IVec S16 32) (v862 : IVec S16 32) (v1442 : IVec S16 32) (v1496 : IVec S16 32) : Prop :=
  (∀ a x, ((![v862, v1442, v1496, v33] : Fin 4 → IVec S16 32) a x).toNat < S2x4x94x96.size a) ∧
  (∀ a x, ((![v862, v1442, v1496, v35] : Fin 4 → IVec S16 32) a x).toNat < S2x4x94x96.size a)
theorem k0_idx979_inb : ∀ (v33 : IVec S16 32) (v35 : IVec S16 32) (v862 : IVec S16 32) (v1442 : IVec S16 32) (v1496 : IVec S16 32) (k0_hw747 : k0_chk747 v33 v35 v862 v1442 v1496), ∀ a x, ((![v862, v1442, v1496, v33] : Fin 4 → IVec S16 32) a x).toNat < S2x4x94x96.size a := fun v33 v35 v862 v1442 v1496 k0_hw747 => k0_hw747.1
theorem k0_idx980_inb : ∀ (v33 : IVec S16 32) (v35 : IVec S16 32) (v862 : IVec S16 32) (v1442 : IVec S16 32) (v1496 : IVec S16 32) (k0_hw747 : k0_chk747 v33 v35 v862 v1442 v1496), ∀ a x, ((![v862, v1442, v1496, v35] : Fin 4 → IVec S16 32) a x).toNat < S2x4x94x96.size a := fun v33 v35 v862 v1442 v1496 k0_hw747 => k0_hw747.2

def k0_chk748 (v30 : IVec S16 32) (v862 : IVec S16 32) (v1442 : IVec S16 32) (v1497 : IVec S16 32) : Prop :=
  (∀ a x, ((![v862, v1442, v1497, v30] : Fin 4 → IVec S16 32) a x).toNat < S2x4x32x32.size a)
theorem k0_idx981_inb : ∀ (v30 : IVec S16 32) (v862 : IVec S16 32) (v1442 : IVec S16 32) (v1497 : IVec S16 32) (k0_hw748 : k0_chk748 v30 v862 v1442 v1497), ∀ a x, ((![v862, v1442, v1497, v30] : Fin 4 → IVec S16 32) a x).toNat < S2x4x32x32.size a := fun v30 v862 v1442 v1497 k0_hw748 => k0_hw748

def k0_chk749 (v862 : IVec S16 32) (v1442 : IVec S16 32) (v1497 : IVec S16 32) (v1500 : IVec S16 32) : Prop :=
  (∀ a x, ((![v862, v1442, v1497, v1500] : Fin 4 → IVec S16 32) a x).toNat < S2x4x32x32.size a)
theorem k0_idx982_inb : ∀ (v862 : IVec S16 32) (v1442 : IVec S16 32) (v1497 : IVec S16 32) (v1500 : IVec S16 32) (k0_hw749 : k0_chk749 v862 v1442 v1497 v1500), ∀ a x, ((![v862, v1442, v1497, v1500] : Fin 4 → IVec S16 32) a x).toNat < S2x4x32x32.size a := fun v862 v1442 v1497 v1500 k0_hw749 => k0_hw749

def k0_chk750 (v33 : IVec S16 32) (v35 : IVec S16 32) (v862 : IVec S16 32) (v1442 : IVec S16 32) (v1502 : IVec S16 32) : Prop :=
  (∀ a x, ((![v862, v1442, v1502, v33] : Fin 4 → IVec S16 32) a x).toNat < S2x4x94x96.size a) ∧
  (∀ a x, ((![v862, v1442, v1502, v35] : Fin 4 → IVec S16 32) a x).toNat < S2x4x94x96.size a)
theorem k0_idx983_inb : ∀ (v33 : IVec S16 32) (v35 : IVec S16 32) (v862 : IVec S16 32) (v1442 : IVec S16 32) (v1502 : IVec S16 32) (k0_hw750 : k0_chk750 v33 v35 v862 v1442 v1502), ∀ a x, ((![v862, v1442, v1502, v33] : Fin 4 → IVec S16 32) a x).toNat < S2x4x94x96.size a := fun v33 v35 v862 v1442 v1502 k0_hw750 => k0_hw750.1
theorem k0_idx984_inb : ∀ (v33 : IVec S16 32) (v35 : IVec S16 32) (v862 : IVec S16 32) (v1442 : IVec S16 32) (v1502 : IVec S16 32) (k0_hw750 : k0_chk750 v33 v35 v862 v1442 v1502), ∀ a x, ((![v862, v1442, v1502, v35] : Fin 4 → IVec S16 32) a x).toNat < S2x4x94x96.size a := fun v33 v35 v862 v1442 v1502 k0_hw750 => k0_hw750.2

def k0_chk751 (v30 : IVec S16 32) (v862 : IVec S16 32) (v1442 : IVec S16 32) (v1503 : IVec S16 32) : Prop :=
  (∀ a x, ((![v862, v1442, v1503, v30] : Fin 4 → IVec S16 32) a x).toNat < S2x4x32x32.size a)
theorem k0_idx985_inb : ∀ (v30 : IVec S16 32) (v862 : IVec S16 32) (v1442 : IVec S16 32) (v1503 : IVec S16 32) (k0_hw751 : k0_chk751 v30 v862 v1442 v1503), ∀ a x, ((![v862, v1442, v1503, v30] : Fin 4 → IVec S16 32) a x).toNat < S2x4x32x32.size a := fun v30 v862 v1442 v1503 k0_hw751 => k0_hw751

def k0_chk752 (v862 : IVec S16 32) (v1442 : IVec S16 32) (v1503 : IVec S16 32) (v1506 : IVec S16 32) : Prop :=
  (∀ a x, ((![v862, v1442, v1503, v1506] : Fin 4 → IVec S16 32) a x).toNat < S2x4x32x32.size a)
theorem k0_idx986_inb : ∀ (v862 : IVec S16 32) (v1442 : IVec S16 32) (v1503 : IVec S16 32) (v1506 : IVec S16 32) (k0_hw752 : k0_chk752 v862 v1442 v1503 v1506), ∀ a x, ((![v862, v1442, v1503, v1506] : Fin 4 → IVec S16 32) a x).toNat < S2x4x32x32.size a := fun v862 v1442 v1503 v1506 k0_hw752 => k0_hw752

def k0_chk753 (v33 : IVec S16 32) (v35 : IVec S16 32) (v862 : IVec S16 32) (v1442 : IVec S16 32) (v1508 : IVec S16 32) : Prop :=
  (∀ a x, ((![v862, v1442, v1508, v33] : Fin 4 → IVec S16 32) a x).toNat < S2x4x94x96.size a) ∧
  (∀ a x, ((![v862, v1442, v1508, v35] : Fin 4 → IVec S16 32) a x).toNat < S2x4x94x96.size a)
theorem k0_idx987_inb : ∀ (v33 : IVec S16 32) (v35 : IVec S16 32) (v862 : IVec S16 32) (v1442 : IVec S16 32) (v1508 : IVec S16 32) (k0_hw753 : k0_chk753 v33 v35 v862 v1442 v1508), ∀ a x, ((![v862, v1442, v1508, v33] : Fin 4 → IVec S16 32) a x).toNat < S2x4x94x96.size a := fun v33 v35 v862 v1442 v1508 k0_hw753 => k0_hw753.1
theorem k0_idx988_inb : ∀ (v33 : IVec S16 32) (v35 : IVec S16 32) (v862 : IVec S16 32) (v1442 : IVec S16 32) (v1508 : IVec S16 32) (k0_hw753 : k0_chk753 v33 v35 v862 v1442 v1508), ∀ a x, ((![v862, v1442, v1508, v35] : Fin 4 → IVec S16 32) a x).toNat < S2x4x94x96.size a := fun v33 v35 v862 v1442 v1508 k0_hw753 => k0_hw753.2

def k0_chk754 (v30 : IVec S16 32) (v862 : IVec S16 32) (v1442 : IVec S16 32) (v1509 : IVec S16 32) : Prop :=
  (∀ a x, ((![v862, v1442, v1509, v30] : Fin 4 → IVec S16 32) a x).toNat < S2x4x32x32.size a)
theorem k0_idx989_inb : ∀ (v30 : IVec S16 32) (v862 : IVec S16 32) (v1442 : IVec S16 32) (v1509 : IVec S16 32) (k0_hw754 : k0_chk754 v30 v862 v1442 v1509), ∀ a x, ((![v862, v1442, v1509, v30] : Fin 4 → IVec S16 32) a x).toNat < S2x4x32x32.size a := fun v30 v862 v1442 v1509 k0_hw754 => k0_hw754

def k0_chk755 (v862 : IVec S16 32) (v1442 : IVec S16 32) (v1509 : IVec S16 32) (v1512 : IVec S16 32) : Prop :=
  (∀ a x, ((![v862, v1442, v1509, v1512] : Fin 4 → IVec S16 32) a x).toNat < S2x4x32x32.size a)
theorem k0_idx990_inb : ∀ (v862 : IVec S16 32) (v1442 : IVec S16 32) (v1509 : IVec S16 32) (v1512 : IVec S16 32) (k0_hw755 : k0_chk755 v862 v1442 v1509 v1512), ∀ a x, ((![v862, v1442, v1509, v1512] : Fin 4 → IVec S16 32) a x).toNat < S2x4x32x32.size a := fun v862 v1442 v1509 v1512 k0_hw755 => k0_hw755

def k0_chk756 (v33 : IVec S16 32) (v35 : IVec S16 32) (v862 : IVec S16 32) (v1442 : IVec S16 32) (v1514 : IVec S16 32) : Prop :=
  (∀ a x, ((![v862, v1442, v1514, v33] : Fin 4 → IVec S16 32) a x).toNat < S2x4x94x96.size a) ∧
  (∀ a x, ((![v862, v1442, v1514, v35] : Fin 4 → IVec S16 32) a x).toNat < S2x4x94x96.size a)
theorem k0_idx991_inb : ∀ (v33 : IVec S16 32) (v35 : IVec S16 32) (v862 : IVec S16 32) (v1442 : IVec S16 32) (v1514 : IVec S16 32) (k0_hw756 : k0_chk756 v33 v35 v862 v1442 v1514), ∀ a x, ((![v862, v1442, v1514, v33] : Fin 4 → IVec S16 32) a x).toNat < S2x4x94x96.size a := fun v33 v35 v862 v1442 v1514 k0_hw756 => k0_hw756.1
theorem k0_idx992_inb : ∀ (v33 : IVec S16 32) (v35 : IVec S16 32) (v862 : IVec S16 32) (v1442 : IVec S16 32) (v1514 : IVec S16 32) (k0_hw756 : k0_chk756 v33 v35 v862 v1442 v1514), ∀ a x, ((![v862, v1442, v1514, v35] : Fin 4 → IVec S16 32) a x).toNat < S2x4x94x96.size a := fun v33 v35 v862 v1442 v1514 k0_hw756 => k0_hw756.2

def k0_chk757 (v30 : IVec S16 32) (v862 : IVec S16 32) (v1442 : IVec S16 32) (v1515 : IVec S16 32) : Prop :=
  (∀ a x, ((![v862, v1442, v1515, v30] : Fin 4 → IVec S16 32) a x).toNat < S2x4x32x32.size a)
theorem k0_idx993_inb : ∀ (v30 : IVec S16 32) (v862 : IVec S16 32) (v1442 : IVec S16 32) (v1515 : IVec S16 32) (k0_hw757 : k0_chk757 v30 v862 v1442 v1515), ∀ a x, ((![v862, v1442, v1515, v30] : Fin 4 → IVec S16 32) a x).toNat < S2x4x32x32.size a := fun v30 v862 v1442 v1515 k0_hw757 => k0_hw757

def k0_chk758 (v862 : IVec S16 32) (v1442 : IVec S16 32) (v1515 : IVec S16 32) (v1518 : IVec S16 32) : Prop :=
  (∀ a x, ((![v862, v1442, v1515, v1518] : Fin 4 → IVec S16 32) a x).toNat < S2x4x32x32.size a)
theorem k0_idx994_inb : ∀ (v862 : IVec S16 32) (v1442 : IVec S16 32) (v1515 : IVec S16 32) (v1518 : IVec S16 32) (k0_hw758 : k0_chk758 v862 v1442 v1515 v1518), ∀ a x, ((![v862, v1442, v1515, v1518] : Fin 4 → IVec S16 32) a x).toNat < S2x4x32x32.size a := fun v862 v1442 v1515 v1518 k0_hw758 => k0_hw758

def k0_chk759 (v33 : IVec S16 32) (v35 : IVec S16 32) (v862 : IVec S16 32) (v1442 : IVec S16 32) (v1520 : IVec S16 32) : Prop :=
  (∀ a x, ((![v862, v1442, v1520, v33] : Fin 4 → IVec S16 32) a x).toNat < S2x4x94x96.size a) ∧
  (∀ a x, ((![v862, v1442, v1520, v35] : Fin 4 → IVec S16 32) a x).toNat < S2x4x94x96.size a)
theorem k0_idx995_inb : ∀ (v33 : IVec S16 32) (v35 : IVec S16 32) (v862 : IVec S16 32) (v1442 : IVec S16 32) (v1520 : IVec S16 32) (k0_hw759 : k0_chk759 v33 v35 v862 v1442 v1520), ∀ a x, ((![v862, v1442, v1520, v33] : Fin 4 → IVec S16 32) a x).toNat < S2x4x94x96.size a := fun v33 v35 v862 v1442 v1520 k0_hw759 => k0_hw759.1
theorem k0_idx996_inb : ∀ (v33 : IVec S16 32) (v35 : IVec S16 32) (v862 : IVec S16 32) (v1442 : IVec S16 32) (v1520 : IVec S16 32) (k0_hw759 : k0_chk759 v33 v35 v862 v1442 v1520), ∀ a x, ((![v862, v1442, v1520, v35] : Fin 4 → IVec S16 32) a x).toNat < S2x4x94x96.size a := fun v33 v35 v862 v1442 v1520 k0_hw759 => k0_hw759.2

def k0_chk760 (v30 : IVec S16 32) (v862 : IVec S16 32) (v1442 : IVec S16 32) (v1521 : IVec S16 32) : Prop :=
  (∀ a x, ((![v862, v1442, v1521, v30] : Fin 4 → IVec S16 32) a x).toNat < S2x4x32x32.size a)
theorem k0_idx997_inb : ∀ (v30 : IVec S16 32) (v862 : IVec S16 32) (v1442 : IVec S16 32) (v1521 : IVec S16 32) (k0_hw760 : k0_chk760 v30 v862 v1442 v1521), ∀ a x, ((![v862, v1442, v1521, v30] : Fin 4 → IVec S16 32) a x).toNat < S2x4x32x32.size a := fun v30 v862 v1442 v1521 k0_hw760 => k0_hw760

def k0_chk761 (v862 : IVec S16 32) (v1442 : IVec S16 32) (v1521 : IVec S16 32) (v1524 : IVec S16 32) : Prop :=
  (∀ a x, ((![v862, v1442, v1521, v1524] : Fin 4 → IVec S16 32) a x).toNat < S2x4x32x32.size a)
theorem k0_idx998_inb : ∀ (v862 : IVec S16 32) (v1442 : IVec S16 32) (v1521 : IVec S16 32) (v1524 : IVec S16 32) (k0_hw761 : k0_chk761 v862 v1442 v1521 v1524), ∀ a x, ((![v862, v1442, v1521, v1524] : Fin 4 → IVec S16 32) a x).toNat < S2x4x32x32.size a := fun v862 v1442 v1521 v1524 k0_hw761 => k0_hw761

def k0_chk762 (v33 : IVec S16 32) (v35 : IVec S16 32) (v862 : IVec S16 32) (v1442 : IVec S16 32) (v1526 : IVec S16 32) : Prop :=
  (∀ a x, ((![v862, v1442, v1526, v33] : Fin 4 → IVec S16 32) a x).toNat < S2x4x94x96.size a) ∧
  (∀ a x, ((![v862, v1442, v1526, v35] : Fin 4 → IVec S16 32) a x).toNat < S2x4x94x96.size a)
theorem k0_idx999_inb : ∀ (v33 : IVec S16 32) (v35 : IVec S16 32) (v862 : IVec S16 32) (v1442 : IVec S16 32) (v1526 : IVec S16 32) (k0_hw762 : k0_chk762 v33 v35 v862 v1442 v1526), ∀ a x, ((![v862, v1442, v1526, v33] : Fin 4 → IVec S16 32) a x).toNat < S2x4x94x96.size a := fun v33 v35 v862 v1442 v1526 k0_hw762 => k0_hw762.1
theorem k0_idx1000_inb : ∀ (v33 : IVec S16 32) (v35 : IVec S16 32) (v862 : IVec S16 32) (v1442 : IVec S16 32) (v1526 : IVec S16 32) (k0_hw762 : k0_chk762 v33 v35 v862 v1442 v1526), ∀ a x, ((![v862, v1442, v1526, v35] : Fin 4 → IVec S16 32) a x).toNat < S2x4x94x96.size a := fun v33 v35 v862 v1442 v1526 k0_hw762 => k0_hw762.2

def k0_chk763 (v30 : IVec S16 32) (v862 : IVec S16 32) (v1442 : IVec S16 32) (v1527 : IVec S16 32) : Prop :=
  (∀ a x, ((![v862, v1442, v1527, v30] : Fin 4 → IVec S16 32) a x).toNat < S2x4x32x32.size a)
theorem k0_idx1001_inb : ∀ (v30 : IVec S16 32) (v862 : IVec S16 32) (v1442 : IVec S16 32) (v1527 : IVec S16 32) (k0_hw763 : k0_chk763 v30 v862 v1442 v1527), ∀ a x, ((![v862, v1442, v1527, v30] : Fin 4 → IVec S16 32) a x).toNat < S2x4x32x32.size a := fun v30 v862 v1442 v1527 k0_hw763 => k0_hw763

def k0_chk764 (v862 : IVec S16 32) (v1442 : IVec S16 32) (v1527 : IVec S16 32) (v1530 : IVec S16 32) : Prop :=
  (∀ a x, ((![v862, v1442, v1527, v1530] : Fin 4 → IVec S16 32) a x).toNat < S2x4x32x32.size a)
theorem k0_idx1002_inb : ∀ (v862 : IVec S16 32) (v1442 : IVec S16 32) (v1527 : IVec S16 32) (v1530 : IVec S16 32) (k0_hw764 : k0_chk764 v862 v1442 v1527 v1530), ∀ a x, ((![v862, v1442, v1527, v1530] : Fin 4 → IVec S16 32) a x).toNat < S2x4x32x32.size a := fun v862 v1442 v1527 v1530 k0_hw764 => k0_hw764

def k0_chk765 (v33 : IVec S16 32) (v35 : IVec S16 32) (v862 : IVec S16 32) (v1442 : IVec S16 32) (v1532 : IVec S16 32) : Prop :=
  (∀ a x, ((![v862, v1442, v1532, v33] : Fin 4 → IVec S16 32) a x).toNat < S2x4x94x96.size a) ∧
  (∀ a x, ((![v862, v1442, v1532, v35] : Fin 4 → IVec S16 32) a x).toNat < S2x4x94x96.size a)
theorem k0_idx1003_inb : ∀ (v33 : IVec S16 32) (v35 : IVec S16 32) (v862 : IVec S16 32) (v1442 : IVec S16 32) (v1532 : IVec S16 32) (k0_hw765 : k0_chk765 v33 v35 v862 v1442 v1532), ∀ a x, ((![v862, v1442, v1532, v33] : Fin 4 → IVec S16 32) a x).toNat < S2x4x94x96.size a := fun v33 v35 v862 v1442 v1532 k0_hw765 => k0_hw765.1
theorem k0_idx1004_inb : ∀ (v33 : IVec S16 32) (v35 : IVec S16 32) (v862 : IVec S16 32) (v1442 : IVec S16 32) (v1532 : IVec S16 32) (k0_hw765 : k0_chk765 v33 v35 v862 v1442 v1532), ∀ a x, ((![v862, v1442, v1532, v35] : Fin 4 → IVec S16 32) a x).toNat < S2x4x94x96.size a := fun v33 v35 v862 v1442 v1532 k0_hw765 => k0_hw765.2

def k0_chk766 (v30 : IVec S16 32) (v862 : IVec S16 32) (v1442 : IVec S16 32) (v1533 : IVec S16 32) : Prop :=
  (∀ a x, ((![v862, v1442, v1533, v30] : Fin 4 → IVec S16 32) a x).toNat < S2x4x32x32.size a)
theorem k0_idx1005_inb : ∀ (v30 : IVec S16 32) (v862 : IVec S16 32) (v1442 : IVec S16 32) (v1533 : IVec S16 32) (k0_hw766 : k0_chk766 v30 v862 v1442 v1533), ∀ a x, ((![v862, v1442, v1533, v30] : Fin 4 → IVec S16 32) a x).toNat < S2x4x32x32.size a := fun v30 v862 v1442 v1533 k0_hw766 => k0_hw766

def k0_chk767 (v862 : IVec S16 32) (v1442 : IVec S16 32) (v1533 : IVec S16 32) (v1536 : IVec S16 32) : Prop :=
  (∀ a x, ((![v862, v1442, v1533, v1536] : Fin 4 → IVec S16 32) a x).toNat < S2x4x32x32.size a)
theorem k0_idx1006_inb : ∀ (v862 : IVec S16 32) (v1442 : IVec S16 32) (v1533 : IVec S16 32) (v1536 : IVec S16 32) (k0_hw767 : k0_chk767 v862 v1442 v1533 v1536), ∀ a x, ((![v862, v1442, v1533, v1536] : Fin 4 → IVec S16 32) a x).toNat < S2x4x32x32.size a := fun v862 v1442 v1533 v1536 k0_hw767 => k0_hw767

def k0_chk768 (v33 : IVec S16 32) (v35 : IVec S16 32) (v862 : IVec S16 32) (v1442 : IVec S16 32) (v1538 : IVec S16 32) : Prop :=
  (∀ a x, ((![v862, v1442, v1538, v33] : Fin 4 → IVec S16 32) a x).toNat < S2x4x94x96.size a) ∧
  (∀ a x, ((![v862, v1442, v1538, v35] : Fin 4 → IVec S16 32) a x).toNat < S2x4x94x96.size a)
theorem k0_idx1007_inb : ∀ (v33 : IVec S16 32) (v35 : IVec S16 32) (v862 : IVec S16 32) (v1442 : IVec S16 32) (v1538 : IVec S16 32) (k0_hw768 : k0_chk768 v33 v35 v862 v1442 v1538), ∀ a x, ((![v862, v1442, v1538, v33] : Fin 4 → IVec S16 32) a x).toNat < S2x4x94x96.size a := fun v33 v35 v862 v1442 v1538 k0_hw768 => k0_hw768.1
theorem k0_idx1008_inb : ∀ (v33 : IVec S16 32) (v35 : IVec S16 32) (v862 : IVec S16 32) (v1442 : IVec S16 32) (v1538 : IVec S16 32) (k0_hw768 : k0_chk768 v33 v35 v862 v1442 v1538), ∀ a x, ((![v862, v1442, v1538, v35] : Fin 4 → IVec S16 32) a x).toNat < S2x4x94x96.size a := fun v33 v35 v862 v1442 v1538 k0_hw768 => k0_hw768.2

def k0_chk769 (v30 : IVec S16 32) (v862 : IVec S16 32) (v1442 : IVec S16 32) (v1539 : IVec S16 32) : Prop :=
  (∀ a x, ((![v862, v1442, v1539, v30] : Fin 4 → IVec S16 32) a x).toNat < S2x4x32x32.size a)
theorem k0_idx1009_inb : ∀ (v30 : IVec S16 32) (v862 : IVec S16 32) (v1442 : IVec S16 32) (v1539 : IVec S16 32) (k0_hw769 : k0_chk769 v30 v862 v1442 v1539), ∀ a x, ((![v862, v1442, v1539, v30] : Fin 4 → IVec S16 32) a x).toNat < S2x4x32x32.size a := fun v30 v862 v1442 v1539 k0_hw769 => k0_hw769

def k0_chk770 (v862 : IVec S16 32) (v1442 : IVec S16 32) (v1539 : IVec S16 32) (v1542 : IVec S16 32) : Prop :=
  (∀ a x, ((![v862, v1442, v1539, v1542] : Fin 4 → IVec S16 32) a x).toNat < S2x4x32x32.size a)
theorem k0_idx1010_inb : ∀ (v862 : IVec S16 32) (v1442 : IVec S16 32) (v1539 : IVec S16 32) (v1542 : IVec S16 32) (k0_hw770 : k0_chk770 v862 v1442 v1539 v1542), ∀ a x, ((![v862, v1442, v1539, v1542] : Fin 4 → IVec S16 32) a x).toNat < S2x4x32x32.size a := fun v862 v1442 v1539 v1542 k0_hw770 => k0_hw770

def k0_chk771 (v33 : IVec S16 32) (v35 : IVec S16 32) (v862 : IVec S16 32) (v1442 : IVec S16 32) (v1544 : IVec S16 32) : Prop :=
  (∀ a x, ((![v862, v1442, v1544, v33] : Fin 4 → IVec S16 32) a x).toNat < S2x4x94x96.size a) ∧
  (∀ a x, ((![v862, v1442, v1544, v35] : Fin 4 → IVec S16 32) a x).toNat < S2x4x94x96.size a)
theorem k0_idx1011_inb : ∀ (v33 : IVec S16 32) (v35 : IVec S16 32) (v862 : IVec S16 32) (v1442 : IVec S16 32) (v1544 : IVec S16 32) (k0_hw771 : k0_chk771 v33 v35 v862 v1442 v1544), ∀ a x, ((![v862, v1442, v1544, v33] : Fin 4 → IVec S16 32) a x).toNat < S2x4x94x96.size a := fun v33 v35 v862 v1442 v1544 k0_hw771 => k0_hw771.1
theorem k0_idx1012_inb : ∀ (v33 : IVec S16 32) (v35 : IVec S16 32) (v862 : IVec S16 32) (v1442 : IVec S16 32) (v1544 : IVec S16 32) (k0_hw771 : k0_chk771 v33 v35 v862 v1442 v1544), ∀ a x, ((![v862, v1442, v1544, v35] : Fin 4 → IVec S16 32) a x).toNat < S2x4x94x96.size a := fun v33 v35 v862 v1442 v1544 k0_hw771 => k0_hw771.2

def k0_chk772 (v30 : IVec S16 32) (v862 : IVec S16 32) (v1442 : IVec S16 32) (v1545 : IVec S16 32) : Prop :=
  (∀ a x, ((![v862, v1442, v1545, v30] : Fin 4 → IVec S16 32) a x).toNat < S2x4x32x32.size a)
theorem k0_idx1013_inb : ∀ (v30 : IVec S16 32) (v862 : IVec S16 32) (v1442 : IVec S16 32) (v1545 : IVec S16 32) (k0_hw772 : k0_chk772 v30 v862 v1442 v1545), ∀ a x, ((![v862, v1442, v1545, v30] : Fin 4 → IVec S16 32) a x).toNat < S2x4x32x32.size a := fun v30 v862 v1442 v1545 k0_hw772 => k0_hw772

def k0_chk773 (v862 : IVec S16 32) (v1442 : IVec S16 32) (v1545 : IVec S16 32) (v1548 : IVec S16 32) : Prop :=
  (∀ a x, ((![v862, v1442, v1545, v1548] : Fin 4 → IVec S16 32) a x).toNat < S2x4x32x32.size a)
theorem k0_idx1014_inb : ∀ (v862 : IVec S16 32) (v1442 : IVec S16 32) (v1545 : IVec S16 32) (v1548 : IVec S16 32) (k0_hw773 : k0_chk773 v862 v1442 v1545 v1548), ∀ a x, ((![v862, v1442, v1545, v1548] : Fin 4 → IVec S16 32) a x).toNat < S2x4x32x32.size a := fun v862 v1442 v1545 v1548 k0_hw773 => k0_hw773

def k0_chk774 (v33 : IVec S16 32) (v35 : IVec S16 32) (v862 : IVec S16 32) (v1442 : IVec S16 32) (v1550 : IVec S16 32) : Prop :=
  (∀ a x, ((![v862, v1442, v1550, v33] : Fin 4 → IVec S16 32) a x).toNat < S2x4x94x96.size a) ∧
  (∀ a x, ((![v862, v1442, v1550, v35] : Fin 4 → IVec S16 32) a x).toNat < S2x4x94x96.size a)
theorem k0_idx1015_inb : ∀ (v33 : IVec S16 32) (v35 : IVec S16 32) (v862 : IVec S16 32) (v1442 : IVec S16 32) (v1550 : IVec S16 32) (k0_hw774 : k0_chk774 v33 v35 v862 v1442 v1550), ∀ a x, ((![v862, v1442, v1550, v33] : Fin 4 → IVec S16 32) a x).toNat < S2x4x94x96.size a := fun v33 v35 v862 v1442 v1550 k0_hw774 => k0_hw774.1
theorem k0_idx1016_inb : ∀ (v33 : IVec S16 32) (v35 : IVec S16 32) (v862 : IVec S16 32) (v1442 : IVec S16 32) (v1550 : IVec S16 32) (k0_hw774 : k0_chk774 v33 v35 v862 v1442 v1550), ∀ a x, ((![v862, v1442, v1550, v35] : Fin 4 → IVec S16 32) a x).toNat < S2x4x94x96.size a := fun v33 v35 v862 v1442 v1550 k0_hw774 => k0_hw774.2

def k0_chk775 (v30 : IVec S16 32) (v862 : IVec S16 32) (v1442 : IVec S16 32) (v1551 : IVec S16 32) : Prop :=
  (∀ a x, ((![v862, v1442, v1551, v30] : Fin 4 → IVec S16 32) a x).toNat < S2x4x32x32.size a)
theorem k0_idx1017_inb : ∀ (v30 : IVec S16 32) (v862 : IVec S16 32) (v1442 : IVec S16 32) (v1551 : IVec S16 32) (k0_hw775 : k0_chk775 v30 v862 v1442 v1551), ∀ a x, ((![v862, v1442, v1551, v30] : Fin 4 → IVec S16 32) a x).toNat < S2x4x32x32.size a := fun v30 v862 v1442 v1551 k0_hw775 => k0_hw775

def k0_chk776 (v862 : IVec S16 32) (v1442 : IVec S16 32) (v1551 : IVec S16 32) (v1554 : IVec S16 32) : Prop :=
  (∀ a x, ((![v862, v1442, v1551, v1554] : Fin 4 → IVec S16 32) a x).toNat < S2x4x32x32.size a)
theorem k0_idx1018_inb : ∀ (v862 : IVec S16 32) (v1442 : IVec S16 32) (v1551 : IVec S16 32) (v1554 : IVec S16 32) (k0_hw776 : k0_chk776 v862 v1442 v1551 v1554), ∀ a x, ((![v862, v1442, v1551, v1554] : Fin 4 → IVec S16 32) a x).toNat < S2x4x32x32.size a := fun v862 v1442 v1551 v1554 k0_hw776 => k0_hw776

def k0_chk777 (v33 : IVec S16 32) (v35 : IVec S16 32) (v862 : IVec S16 32) (v1442 : IVec S16 32) (v1556 : IVec S16 32) : Prop :=
  (∀ a x, ((![v862, v1442, v1556, v33] : Fin 4 → IVec S16 32) a x).toNat < S2x4x94x96.size a) ∧
  (∀ a x, ((![v862, v1442, v1556, v35] : Fin 4 → IVec S16 32) a x).toNat < S2x4x94x96.size a)
theorem k0_idx1019_inb : ∀ (v33 : IVec S16 32) (v35 : IVec S16 32) (v862 : IVec S16 32) (v1442 : IVec S16 32) (v1556 : IVec S16 32) (k0_hw777 : k0_chk777 v33 v35 v862 v1442 v1556), ∀ a x, ((![v862, v1442, v1556, v33] : Fin 4 → IVec S16 32) a x).toNat < S2x4x94x96.size a := fun v33 v35 v862 v1442 v1556 k0_hw777 => k0_hw777.1
theorem k0_idx1020_inb : ∀ (v33 : IVec S16 32) (v35 : IVec S16 32) (v862 : IVec S16 32) (v1442 : IVec S16 32) (v1556 : IVec S16 32) (k0_hw777 : k0_chk777 v33 v35 v862 v1442 v1556), ∀ a x, ((![v862, v1442, v1556, v35] : Fin 4 → IVec S16 32) a x).toNat < S2x4x94x96.size a := fun v33 v35 v862 v1442 v1556 k0_hw777 => k0_hw777.2

def k0_chk778 (v30 : IVec S16 32) (v862 : IVec S16 32) (v1442 : IVec S16 32) (v1557 : IVec S16 32) : Prop :=
  (∀ a x, ((![v862, v1442, v1557, v30] : Fin 4 → IVec S16 32) a x).toNat < S2x4x32x32.size a)
theorem k0_idx1021_inb : ∀ (v30 : IVec S16 32) (v862 : IVec S16 32) (v1442 : IVec S16 32) (v1557 : IVec S16 32) (k0_hw778 : k0_chk778 v30 v862 v1442 v1557), ∀ a x, ((![v862, v1442, v1557, v30] : Fin 4 → IVec S16 32) a x).toNat < S2x4x32x32.size a := fun v30 v862 v1442 v1557 k0_hw778 => k0_hw778

def k0_chk779 (v862 : IVec S16 32) (v1442 : IVec S16 32) (v1557 : IVec S16 32) (v1560 : IVec S16 32) : Prop :=
  (∀ a x, ((![v862, v1442, v1557, v1560] : Fin 4 → IVec S16 32) a x).toNat < S2x4x32x32.size a)
theorem k0_idx1022_inb : ∀ (v862 : IVec S16 32) (v1442 : IVec S16 32) (v1557 : IVec S16 32) (v1560 : IVec S16 32) (k0_hw779 : k0_chk779 v862 v1442 v1557 v1560), ∀ a x, ((![v862, v1442, v1557, v1560] : Fin 4 → IVec S16 32) a x).toNat < S2x4x32x32.size a := fun v862 v1442 v1557 v1560 k0_hw779 => k0_hw779

def k0_chk780 (v33 : IVec S16 32) (v35 : IVec S16 32) (v862 : IVec S16 32) (v1442 : IVec S16 32) (v1562 : IVec S16 32) : Prop :=
  (∀ a x, ((![v862, v1442, v1562, v33] : Fin 4 → IVec S16 32) a x).toNat < S2x4x94x96.size a) ∧
  (∀ a x, ((![v862, v1442, v1562, v35] : Fin 4 → IVec S16 32) a x).toNat < S2x4x94x96.size a)
theorem k0_idx1023_inb : ∀ (v33 : IVec S16 32) (v35 : IVec S16 32) (v862 : IVec S16 32) (v1442 : IVec S16 32) (v1562 : IVec S16 32) (k0_hw780 : k0_chk780 v33 v35 v862 v1442 v1562), ∀ a x, ((![v862, v1442, v1562, v33] : Fin 4 → IVec S16 32) a x).toNat < S2x4x94x96.size a := fun v33 v35 v862 v1442 v1562 k0_hw780 => k0_hw780.1
theorem k0_idx1024_inb : ∀ (v33 : IVec S16 32) (v35 : IVec S16 32) (v862 : IVec S16 32) (v1442 : IVec S16 32) (v1562 : IVec S16 32) (k0_hw780 : k0_chk780 v33 v35 v862 v1442 v1562), ∀ a x, ((![v862, v1442, v1562, v35] : Fin 4 → IVec S16 32) a x).toNat < S2x4x94x96.size a := fun v33 v35 v862 v1442 v1562 k0_hw780 => k0_hw780.2

def k0_chk781 (v30 : IVec S16 32) (v862 : IVec S16 32) (v1442 : IVec S16 32) (v1563 : IVec S16 32) : Prop :=
  (∀ a x, ((![v862, v1442, v1563, v30] : Fin 4 → IVec S16 32) a x).toNat < S2x4x32x32.size a)
theorem k0_idx1025_inb : ∀ (v30 : IVec S16 32) (v862 : IVec S16 32) (v1442 : IVec S16 32) (v1563 : IVec S16 32) (k0_hw781 : k0_chk781 v30 v862 v1442 v1563), ∀ a x, ((![v862, v1442, v1563, v30] : Fin 4 → IVec S16 32) a x).toNat < S2x4x32x32.size a := fun v30 v862 v1442 v1563 k0_hw781 => k0_hw781

def k0_chk782 (v862 : IVec S16 32) (v1442 : IVec S16 32) (v1563 : IVec S16 32) (v1566 : IVec S16 32) : Prop :=
  (∀ a x, ((![v862, v1442, v1563, v1566] : Fin 4 → IVec S16 32) a x).toNat < S2x4x32x32.size a)
theorem k0_idx1026_inb : ∀ (v862 : IVec S16 32) (v1442 : IVec S16 32) (v1563 : IVec S16 32) (v1566 : IVec S16 32) (k0_hw782 : k0_chk782 v862 v1442 v1563 v1566), ∀ a x, ((![v862, v1442, v1563, v1566] : Fin 4 → IVec S16 32) a x).toNat < S2x4x32x32.size a := fun v862 v1442 v1563 v1566 k0_hw782 => k0_hw782

def k0_chk783 (v33 : IVec S16 32) (v35 : IVec S16 32) (v862 : IVec S16 32) (v1442 : IVec S16 32) (v1568 : IVec S16 32) : Prop :=
  (∀ a x, ((![v862, v1442, v1568, v33] : Fin 4 → IVec S16 32) a x).toNat < S2x4x94x96.size a) ∧
  (∀ a x, ((![v862, v1442, v1568, v35] : Fin 4 → IVec S16 32) a x).toNat < S2x4x94x96.size a)
theorem k0_idx1027_inb : ∀ (v33 : IVec S16 32) (v35 : IVec S16 32) (v862 : IVec S16 32) (v1442 : IVec S16 32) (v1568 : IVec S16 32) (k0_hw783 : k0_chk783 v33 v35 v862 v1442 v1568), ∀ a x, ((![v862, v1442, v1568, v33] : Fin 4 → IVec S16 32) a x).toNat < S2x4x94x96.size a := fun v33 v35 v862 v1442 v1568 k0_hw783 => k0_hw783.1
theorem k0_idx1028_inb : ∀ (v33 : IVec S16 32) (v35 : IVec S16 32) (v862 : IVec S16 32) (v1442 : IVec S16 32) (v1568 : IVec S16 32) (k0_hw783 : k0_chk783 v33 v35 v862 v1442 v1568), ∀ a x, ((![v862, v1442, v1568, v35] : Fin 4 → IVec S16 32) a x).toNat < S2x4x94x96.size a := fun v33 v35 v862 v1442 v1568 k0_hw783 => k0_hw783.2

def k0_chk784 (v30 : IVec S16 32) (v862 : IVec S16 32) (v1442 : IVec S16 32) (v1569 : IVec S16 32) : Prop :=
  (∀ a x, ((![v862, v1442, v1569, v30] : Fin 4 → IVec S16 32) a x).toNat < S2x4x32x32.size a)
theorem k0_idx1029_inb : ∀ (v30 : IVec S16 32) (v862 : IVec S16 32) (v1442 : IVec S16 32) (v1569 : IVec S16 32) (k0_hw784 : k0_chk784 v30 v862 v1442 v1569), ∀ a x, ((![v862, v1442, v1569, v30] : Fin 4 → IVec S16 32) a x).toNat < S2x4x32x32.size a := fun v30 v862 v1442 v1569 k0_hw784 => k0_hw784

def k0_chk785 (v862 : IVec S16 32) (v1442 : IVec S16 32) (v1569 : IVec S16 32) (v1572 : IVec S16 32) : Prop :=
  (∀ a x, ((![v862, v1442, v1569, v1572] : Fin 4 → IVec S16 32) a x).toNat < S2x4x32x32.size a)
theorem k0_idx1030_inb : ∀ (v862 : IVec S16 32) (v1442 : IVec S16 32) (v1569 : IVec S16 32) (v1572 : IVec S16 32) (k0_hw785 : k0_chk785 v862 v1442 v1569 v1572), ∀ a x, ((![v862, v1442, v1569, v1572] : Fin 4 → IVec S16 32) a x).toNat < S2x4x32x32.size a := fun v862 v1442 v1569 v1572 k0_hw785 => k0_hw785

def k0_chk786 (v33 : IVec S16 32) (v35 : IVec S16 32) (v862 : IVec S16 32) (v1442 : IVec S16 32) (v1574 : IVec S16 32) : Prop :=
  (∀ a x, ((![v862, v1442, v1574, v33] : Fin 4 → IVec S16 32) a x).toNat < S2x4x94x96.size a) ∧
  (∀ a x, ((![v862, v1442, v1574, v35] : Fin 4 → IVec S16 32) a x).toNat < S2x4x94x96.size a)
theorem k0_idx1031_inb : ∀ (v33 : IVec S16 32) (v35 : IVec S16 32) (v862 : IVec S16 32) (v1442 : IVec S16 32) (v1574 : IVec S16 32) (k0_hw786 : k0_chk786 v33 v35 v862 v1442 v1574), ∀ a x, ((![v862, v1442, v1574, v33] : Fin 4 → IVec S16 32) a x).toNat < S2x4x94x96.size a := fun v33 v35 v862 v1442 v1574 k0_hw786 => k0_hw786.1
theorem k0_idx1032_inb : ∀ (v33 : IVec S16 32) (v35 : IVec S16 32) (v862 : IVec S16 32) (v1442 : IVec S16 32) (v1574 : IVec S16 32) (k0_hw786 : k0_chk786 v33 v35 v862 v1442 v1574), ∀ a x, ((![v862, v1442, v1574, v35] : Fin 4 → IVec S16 32) a x).toNat < S2x4x94x96.size a := fun v33 v35 v862 v1442 v1574 k0_hw786 => k0_hw786.2

def k0_chk787 (v30 : IVec S16 32) (v862 : IVec S16 32) (v1442 : IVec S16 32) (v1575 : IVec S16 32) : Prop :=
  (∀ a x, ((![v862, v1442, v1575, v30] : Fin 4 → IVec S16 32) a x).toNat < S2x4x32x32.size a)
theorem k0_idx1033_inb : ∀ (v30 : IVec S16 32) (v862 : IVec S16 32) (v1442 : IVec S16 32) (v1575 : IVec S16 32) (k0_hw787 : k0_chk787 v30 v862 v1442 v1575), ∀ a x, ((![v862, v1442, v1575, v30] : Fin 4 → IVec S16 32) a x).toNat < S2x4x32x32.size a := fun v30 v862 v1442 v1575 k0_hw787 => k0_hw787

def k0_chk788 (v862 : IVec S16 32) (v1442 : IVec S16 32) (v1575 : IVec S16 32) (v1578 : IVec S16 32) : Prop :=
  (∀ a x, ((![v862, v1442, v1575, v1578] : Fin 4 → IVec S16 32) a x).toNat < S2x4x32x32.size a)
theorem k0_idx1034_inb : ∀ (v862 : IVec S16 32) (v1442 : IVec S16 32) (v1575 : IVec S16 32) (v1578 : IVec S16 32) (k0_hw788 : k0_chk788 v862 v1442 v1575 v1578), ∀ a x, ((![v862, v1442, v1575, v1578] : Fin 4 → IVec S16 32) a x).toNat < S2x4x32x32.size a := fun v862 v1442 v1575 v1578 k0_hw788 => k0_hw788

def k0_chk789 (v33 : IVec S16 32) (v35 : IVec S16 32) (v862 : IVec S16 32) (v1442 : IVec S16 32) (v1580 : IVec S16 32) : Prop :=
  (∀ a x, ((![v862, v1442, v1580, v33] : Fin 4 → IVec S16 32) a x).toNat < S2x4x94x96.size a) ∧
  (∀ a x, ((![v862, v1442, v1580, v35] : Fin 4 → IVec S16 32) a x).toNat < S2x4x94x96.size a)
theorem k0_idx1035_inb : ∀ (v33 : IVec S16 32) (v35 : IVec S16 32) (v862 : IVec S16 32) (v1442 : IVec S16 32) (v1580 : IVec S16 32) (k0_hw789 : k0_chk789 v33 v35 v862 v1442 v1580), ∀ a x, ((![v862, v1442, v1580, v33] : Fin 4 → IVec S16 32) a x).toNat < S2x4x94x96.size a := fun v33 v35 v862 v1442 v1580 k0_hw789 => k0_hw789.1
theorem k0_idx1036_inb : ∀ (v33 : IVec S16 32) (v35 : IVec S16 32) (v862 : IVec S16 32) (v1442 : IVec S16 32) (v1580 : IVec S16 32) (k0_hw789 : k0_chk789 v33 v35 v862 v1442 v1580), ∀ a x, ((![v862, v1442, v1580, v35] : Fin 4 → IVec S16 32) a x).toNat < S2x4x94x96.size a := fun v33 v35 v862 v1442 v1580 k0_hw789 => k0_hw789.2

def k0_chk790 (v30 : IVec S16 32) (v862 : IVec S16 32) (v1442 : IVec S16 32) (v1581 : IVec S16 32) : Prop :=
  (∀ a x, ((![v862, v1442, v1581, v30] : Fin 4 → IVec S16 32) a x).toNat < S2x4x32x32.size a)
theorem k0_idx1037_inb : ∀ (v30 : IVec S16 32) (v862 : IVec S16 32) (v1442 : IVec S16 32) (v1581 : IVec S16 32) (k0_hw790 : k0_chk790 v30 v862 v1442 v1581), ∀ a x, ((![v862, v1442, v1581, v30] : Fin 4 → IVec S16 32) a x).toNat < S2x4x32x32.size a := fun v30 v862 v1442 v1581 k0_hw790 => k0_hw790

def k0_chk791 (v862 : IVec S16 32) (v1442 : IVec S16 32) (v1581 : IVec S16 32) (v1584 : IVec S16 32) : Prop :=
  (∀ a x, ((![v862, v1442, v1581, v1584] : Fin 4 → IVec S16 32) a x).toNat < S2x4x32x32.size a)
theorem k0_idx1038_inb : ∀ (v862 : IVec S16 32) (v1442 : IVec S16 32) (v1581 : IVec S16 32) (v1584 : IVec S16 32) (k0_hw791 : k0_chk791 v862 v1442 v1581 v1584), ∀ a x, ((![v862, v1442, v1581, v1584] : Fin 4 → IVec S16 32) a x).toNat < S2x4x32x32.size a := fun v862 v1442 v1581 v1584 k0_hw791 => k0_hw791

def k0_chk792 (v33 : IVec S16 32) (v35 : IVec S16 32) (v862 : IVec S16 32) (v1442 : IVec S16 32) (v1586 : IVec S16 32) : Prop :=
  (∀ a x, ((![v862, v1442, v1586, v33] : Fin 4 → IVec S16 32) a x).toNat < S2x4x94x96.size a) ∧
  (∀ a x, ((![v862, v1442, v1586, v35] : Fin 4 → IVec S16 32) a x).toNat < S2x4x94x96.size a)
theorem k0_idx1039_inb : ∀ (v33 : IVec S16 32) (v35 : IVec S16 32) (v862 : IVec S16 32) (v1442 : IVec S16 32) (v1586 : IVec S16 32) (k0_hw792 : k0_chk792 v33 v35 v862 v1442 v1586), ∀ a x, ((![v862, v1442, v1586, v33] : Fin 4 → IVec S16 32) a x).toNat < S2x4x94x96.size a := fun v33 v35 v862 v1442 v1586 k0_hw792 => k0_hw792.1
theorem k0_idx1040_inb : ∀ (v33 : IVec S16 32) (v35 : IVec S16 32) (v862 : IVec S16 32) (v1442 : IVec S16 32) (v1586 : IVec S16 32) (k0_hw792 : k0_chk792 v33 v35 v862 v1442 v1586), ∀ a x, ((![v862, v1442, v1586, v35] : Fin 4 → IVec S16 32) a x).toNat < S2x4x94x96.size a := fun v33 v35 v862 v1442 v1586 k0_hw792 => k0_hw792.2

def k0_chk793 (v30 : IVec S16 32) (v862 : IVec S16 32) (v1442 : IVec S16 32) (v1587 : IVec S16 32) : Prop :=
  (∀ a x, ((![v862, v1442, v1587, v30] : Fin 4 → IVec S16 32) a x).toNat < S2x4x32x32.size a)
theorem k0_idx1041_inb : ∀ (v30 : IVec S16 32) (v862 : IVec S16 32) (v1442 : IVec S16 32) (v1587 : IVec S16 32) (k0_hw793 : k0_chk793 v30 v862 v1442 v1587), ∀ a x, ((![v862, v1442, v1587, v30] : Fin 4 → IVec S16 32) a x).toNat < S2x4x32x32.size a := fun v30 v862 v1442 v1587 k0_hw793 => k0_hw793

def k0_chk794 (v862 : IVec S16 32) (v1442 : IVec S16 32) (v1587 : IVec S16 32) (v1590 : IVec S16 32) : Prop :=
  (∀ a x, ((![v862, v1442, v1587, v1590] : Fin 4 → IVec S16 32) a x).toNat < S2x4x32x32.size a)
theorem k0_idx1042_inb : ∀ (v862 : IVec S16 32) (v1442 : IVec S16 32) (v1587 : IVec S16 32) (v1590 : IVec S16 32) (k0_hw794 : k0_chk794 v862 v1442 v1587 v1590), ∀ a x, ((![v862, v1442, v1587, v1590] : Fin 4 → IVec S16 32) a x).toNat < S2x4x32x32.size a := fun v862 v1442 v1587 v1590 k0_hw794 => k0_hw794

def k0_chk795 (v33 : IVec S16 32) (v35 : IVec S16 32) (v862 : IVec S16 32) (v1442 : IVec S16 32) (v1592 : IVec S16 32) : Prop :=
  (∀ a x, ((![v862, v1442, v1592, v33] : Fin 4 → IVec S16 32) a x).toNat < S2x4x94x96.size a) ∧
  (∀ a x, ((![v862, v1442, v1592, v35] : Fin 4 → IVec S16 32) a x).toNat < S2x4x94x96.size a)
theorem k0_idx1043_inb : ∀ (v33 : IVec S16 32) (v35 : IVec S16 32) (v862 : IVec S16 32) (v1442 : IVec S16 32) (v1592 : IVec S16 32) (k0_hw795 : k0_chk795 v33 v35 v862 v1442 v1592), ∀ a x, ((![v862, v1442, v1592, v33] : Fin 4 → IVec S16 32) a x).toNat < S2x4x94x96.size a := fun v33 v35 v862 v1442 v1592 k0_hw795 => k0_hw795.1
theorem k0_idx1044_inb : ∀ (v33 : IVec S16 32) (v35 : IVec S16 32) (v862 : IVec S16 32) (v1442 : IVec S16 32) (v1592 : IVec S16 32) (k0_hw795 : k0_chk795 v33 v35 v862 v1442 v1592), ∀ a x, ((![v862, v1442, v1592, v35] : Fin 4 → IVec S16 32) a x).toNat < S2x4x94x96.size a := fun v33 v35 v862 v1442 v1592 k0_hw795 => k0_hw795.2

def k0_chk796 (v30 : IVec S16 32) (v862 : IVec S16 32) (v1442 : IVec S16 32) (v1593 : IVec S16 32) : Prop :=
  (∀ a x, ((![v862, v1442, v1593, v30] : Fin 4 → IVec S16 32) a x).toNat < S2x4x32x32.size a)
theorem k0_idx1045_inb : ∀ (v30 : IVec S16 32) (v862 : IVec S16 32) (v1442 : IVec S16 32) (v1593 : IVec S16 32) (k0_hw796 : k0_chk796 v30 v862 v1442 v1593), ∀ a x, ((![v862, v1442, v1593, v30] : Fin 4 → IVec S16 32) a x).toNat < S2x4x32x32.size a := fun v30 v862 v1442 v1593 k0_hw796 => k0_hw796

def k0_chk797 (v862 : IVec S16 32) (v1442 : IVec S16 32) (v1593 : IVec S16 32) (v1596 : IVec S16 32) : Prop :=
  (∀ a x, ((![v862, v1442, v1593, v1596] : Fin 4 → IVec S16 32) a x).toNat < S2x4x32x32.size a)
theorem k0_idx1046_inb : ∀ (v862 : IVec S16 32) (v1442 : IVec S16 32) (v1593 : IVec S16 32) (v1596 : IVec S16 32) (k0_hw797 : k0_chk797 v862 v1442 v1593 v1596), ∀ a x, ((![v862, v1442, v1593, v1596] : Fin 4 → IVec S16 32) a x).toNat < S2x4x32x32.size a := fun v862 v1442 v1593 v1596 k0_hw797 => k0_hw797

def k0_chk798 (v33 : IVec S16 32) (v35 : IVec S16 32) (v862 : IVec S16 32) (v1442 : IVec S16 32) (v1598 : IVec S16 32) : Prop :=
  (∀ a x, ((![v862, v1442, v1598, v33] : Fin 4 → IVec S16 32) a x).toNat < S2x4x94x96.size a) ∧
  (∀ a x, ((![v862, v1442, v1598, v35] : Fin 4 → IVec S16 32) a x).toNat < S2x4x94x96.size a)
theorem k0_idx1047_inb : ∀ (v33 : IVec S16 32) (v35 : IVec S16 32) (v862 : IVec S16 32) (v1442 : IVec S16 32) (v1598 : IVec S16 32) (k0_hw798 : k0_chk798 v33 v35 v862 v1442 v1598), ∀ a x, ((![v862, v1442, v1598, v33] : Fin 4 → IVec S16 32) a x).toNat < S2x4x94x96.size a := fun v33 v35 v862 v1442 v1598 k0_hw798 => k0_hw798.1
theorem k0_idx1048_inb : ∀ (v33 : IVec S16 32) (v35 : IVec S16 32) (v862 : IVec S16 32) (v1442 : IVec S16 32) (v1598 : IVec S16 32) (k0_hw798 : k0_chk798 v33 v35 v862 v1442 v1598), ∀ a x, ((![v862, v1442, v1598, v35] : Fin 4 → IVec S16 32) a x).toNat < S2x4x94x96.size a := fun v33 v35 v862 v1442 v1598 k0_hw798 => k0_hw798.2

def k0_chk799 (v30 : IVec S16 32) (v862 : IVec S16 32) (v1442 : IVec S16 32) (v1599 : IVec S16 32) : Prop :=
  (∀ a x, ((![v862, v1442, v1599, v30] : Fin 4 → IVec S16 32) a x).toNat < S2x4x32x32.size a)
theorem k0_idx1049_inb : ∀ (v30 : IVec S16 32) (v862 : IVec S16 32) (v1442 : IVec S16 32) (v1599 : IVec S16 32) (k0_hw799 : k0_chk799 v30 v862 v1442 v1599), ∀ a x, ((![v862, v1442, v1599, v30] : Fin 4 → IVec S16 32) a x).toNat < S2x4x32x32.size a := fun v30 v862 v1442 v1599 k0_hw799 => k0_hw799

def k0_chk800 (v862 : IVec S16 32) (v1442 : IVec S16 32) (v1599 : IVec S16 32) (v1602 : IVec S16 32) : Prop :=
  (∀ a x, ((![v862, v1442, v1599, v1602] : Fin 4 → IVec S16 32) a x).toNat < S2x4x32x32.size a)
theorem k0_idx1050_inb : ∀ (v862 : IVec S16 32) (v1442 : IVec S16 32) (v1599 : IVec S16 32) (v1602 : IVec S16 32) (k0_hw800 : k0_chk800 v862 v1442 v1599 v1602), ∀ a x, ((![v862, v1442, v1599, v1602] : Fin 4 → IVec S16 32) a x).toNat < S2x4x32x32.size a := fun v862 v1442 v1599 v1602 k0_hw800 => k0_hw800

def k0_chk801 (v33 : IVec S16 32) (v35 : IVec S16 32) (v862 : IVec S16 32) (v1442 : IVec S16 32) (v1604 : IVec S16 32) : Prop :=
  (∀ a x, ((![v862, v1442, v1604, v33] : Fin 4 → IVec S16 32) a x).toNat < S2x4x94x96.size a) ∧
  (∀ a x, ((![v862, v1442, v1604, v35] : Fin 4 → IVec S16 32) a x).toNat < S2x4x94x96.size a)
theorem k0_idx1051_inb : ∀ (v33 : IVec S16 32) (v35 : IVec S16 32) (v862 : IVec S16 32) (v1442 : IVec S16 32) (v1604 : IVec S16 32) (k0_hw801 : k0_chk801 v33 v35 v862 v1442 v1604), ∀ a x, ((![v862, v1442, v1604, v33] : Fin 4 → IVec S16 32) a x).toNat < S2x4x94x96.size a := fun v33 v35 v862 v1442 v1604 k0_hw801 => k0_hw801.1
theorem k0_idx1052_inb : ∀ (v33 : IVec S16 32) (v35 : IVec S16 32) (v862 : IVec S16 32) (v1442 : IVec S16 32) (v1604 : IVec S16 32) (k0_hw801 : k0_chk801 v33 v35 v862 v1442 v1604), ∀ a x, ((![v862, v1442, v1604, v35] : Fin 4 → IVec S16 32) a x).toNat < S2x4x94x96.size a := fun v33 v35 v862 v1442 v1604 k0_hw801 => k0_hw801.2

def k0_chk802 (v30 : IVec S16 32) (v862 : IVec S16 32) (v1442 : IVec S16 32) (v1605 : IVec S16 32) : Prop :=
  (∀ a x, ((![v862, v1442, v1605, v30] : Fin 4 → IVec S16 32) a x).toNat < S2x4x32x32.size a)
theorem k0_idx1053_inb : ∀ (v30 : IVec S16 32) (v862 : IVec S16 32) (v1442 : IVec S16 32) (v1605 : IVec S16 32) (k0_hw802 : k0_chk802 v30 v862 v1442 v1605), ∀ a x, ((![v862, v1442, v1605, v30] : Fin 4 → IVec S16 32) a x).toNat < S2x4x32x32.size a := fun v30 v862 v1442 v1605 k0_hw802 => k0_hw802

def k0_chk803 (v862 : IVec S16 32) (v1442 : IVec S16 32) (v1605 : IVec S16 32) (v1608 : IVec S16 32) : Prop :=
  (∀ a x, ((![v862, v1442, v1605, v1608] : Fin 4 → IVec S16 32) a x).toNat < S2x4x32x32.size a)
theorem k0_idx1054_inb : ∀ (v862 : IVec S16 32) (v1442 : IVec S16 32) (v1605 : IVec S16 32) (v1608 : IVec S16 32) (k0_hw803 : k0_chk803 v862 v1442 v1605 v1608), ∀ a x, ((![v862, v1442, v1605, v1608] : Fin 4 → IVec S16 32) a x).toNat < S2x4x32x32.size a := fun v862 v1442 v1605 v1608 k0_hw803 => k0_hw803

def k0_chk804 (v33 : IVec S16 32) (v35 : IVec S16 32) (v862 : IVec S16 32) (v1442 : IVec S16 32) (v1610 : IVec S16 32) : Prop :=
  (∀ a x, ((![v862, v1442, v1610, v33] : Fin 4 → IVec S16 32) a x).toNat < S2x4x94x96.size a) ∧
  (∀ a x, ((![v862, v1442, v1610, v35] : Fin 4 → IVec S16 32) a x).toNat < S2x4x94x96.size a)
theorem k0_idx1055_inb : ∀ (v33 : IVec S16 32) (v35 : IVec S16 32) (v862 : IVec S16 32) (v1442 : IVec S16 32) (v1610 : IVec S16 32) (k0_hw804 : k0_chk804 v33 v35 v862 v1442 v1610), ∀ a x, ((![v862, v1442, v1610, v33] : Fin 4 → IVec S16 32) a x).toNat < S2x4x94x96.size a := fun v33 v35 v862 v1442 v1610 k0_hw804 => k0_hw804.1
theorem k0_idx1056_inb : ∀ (v33 : IVec S16 32) (v35 : IVec S16 32) (v862 : IVec S16 32) (v1442 : IVec S16 32) (v1610 : IVec S16 32) (k0_hw804 : k0_chk804 v33 v35 v862 v1442 v1610), ∀ a x, ((![v862, v1442, v1610, v35] : Fin 4 → IVec S16 32) a x).toNat < S2x4x94x96.size a := fun v33 v35 v862 v1442 v1610 k0_hw804 => k0_hw804.2

def k0_chk805 (v30 : IVec S16 32) (v862 : IVec S16 32) (v1442 : IVec S16 32) (v1611 : IVec S16 32) : Prop :=
  (∀ a x, ((![v862, v1442, v1611, v30] : Fin 4 → IVec S16 32) a x).toNat < S2x4x32x32.size a)
theorem k0_idx1057_inb : ∀ (v30 : IVec S16 32) (v862 : IVec S16 32) (v1442 : IVec S16 32) (v1611 : IVec S16 32) (k0_hw805 : k0_chk805 v30 v862 v1442 v1611), ∀ a x, ((![v862, v1442, v1611, v30] : Fin 4 → IVec S16 32) a x).toNat < S2x4x32x32.size a := fun v30 v862 v1442 v1611 k0_hw805 => k0_hw805

def k0_chk806 (v862 : IVec S16 32) (v1442 : IVec S16 32) (v1611 : IVec S16 32) (v1614 : IVec S16 32) : Prop :=
  (∀ a x, ((![v862, v1442, v1611, v1614] : Fin 4 → IVec S16 32) a x).toNat < S2x4x32x32.size a)
theorem k0_idx1058_inb : ∀ (v862 : IVec S16 32) (v1442 : IVec S16 32) (v1611 : IVec S16 32) (v1614 : IVec S16 32) (k0_hw806 : k0_chk806 v862 v1442 v1611 v1614), ∀ a x, ((![v862, v1442, v1611, v1614] : Fin 4 → IVec S16 32) a x).toNat < S2x4x32x32.size a := fun v862 v1442 v1611 v1614 k0_hw806 => k0_hw806

def k0_chk807 (v33 : IVec S16 32) (v35 : IVec S16 32) (v862 : IVec S16 32) (v1442 : IVec S16 32) (v1616 : IVec S16 32) : Prop :=
  (∀ a x, ((![v862, v1442, v1616, v33] : Fin 4 → IVec S16 32) a x).toNat < S2x4x94x96.size a) ∧
  (∀ a x, ((![v862, v1442, v1616, v35] : Fin 4 → IVec S16 32) a x).toNat < S2x4x94x96.size a)
theorem k0_idx1059_inb : ∀ (v33 : IVec S16 32) (v35 : IVec S16 32) (v862 : IVec S16 32) (v1442 : IVec S16 32) (v1616 : IVec S16 32) (k0_hw807 : k0_chk807 v33 v35 v862 v1442 v1616), ∀ a x, ((![v862, v1442, v1616, v33] : Fin 4 → IVec S16 32) a x).toNat < S2x4x94x96.size a := fun v33 v35 v862 v1442 v1616 k0_hw807 => k0_hw807.1
theorem k0_idx1060_inb : ∀ (v33 : IVec S16 32) (v35 : IVec S16 32) (v862 : IVec S16 32) (v1442 : IVec S16 32) (v1616 : IVec S16 32) (k0_hw807 : k0_chk807 v33 v35 v862 v1442 v1616), ∀ a x, ((![v862, v1442, v1616, v35] : Fin 4 → IVec S16 32) a x).toNat < S2x4x94x96.size a := fun v33 v35 v862 v1442 v1616 k0_hw807 => k0_hw807.2

def k0_chk808 (v30 : IVec S16 32) (v862 : IVec S16 32) (v1442 : IVec S16 32) (v1617 : IVec S16 32) : Prop :=
  (∀ a x, ((![v862, v1442, v1617, v30] : Fin 4 → IVec S16 32) a x).toNat < S2x4x32x32.size a)
theorem k0_idx1061_inb : ∀ (v30 : IVec S16 32) (v862 : IVec S16 32) (v1442 : IVec S16 32) (v1617 : IVec S16 32) (k0_hw808 : k0_chk808 v30 v862 v1442 v1617), ∀ a x, ((![v862, v1442, v1617, v30] : Fin 4 → IVec S16 32) a x).toNat < S2x4x32x32.size a := fun v30 v862 v1442 v1617 k0_hw808 => k0_hw808

def k0_chk809 (v862 : IVec S16 32) (v1442 : IVec S16 32) (v1617 : IVec S16 32) (v1620 : IVec S16 32) : Prop :=
  (∀ a x, ((![v862, v1442, v1617, v1620] : Fin 4 → IVec S16 32) a x).toNat < S2x4x32x32.size a)
theorem k0_idx1062_inb : ∀ (v862 : IVec S16 32) (v1442 : IVec S16 32) (v1617 : IVec S16 32) (v1620 : IVec S16 32) (k0_hw809 : k0_chk809 v862 v1442 v1617 v1620), ∀ a x, ((![v862, v1442, v1617, v1620] : Fin 4 → IVec S16 32) a x).toNat < S2x4x32x32.size a := fun v862 v1442 v1617 v1620 k0_hw809 => k0_hw809

def k0_chk810 (v33 : IVec S16 32) (v35 : IVec S16 32) (v862 : IVec S16 32) (v1442 : IVec S16 32) (v1622 : IVec S16 32) : Prop :=
  (∀ a x, ((![v862, v1442, v1622, v33] : Fin 4 → IVec S16 32) a x).toNat < S2x4x94x96.size a) ∧
  (∀ a x, ((![v862, v1442, v1622, v35] : Fin 4 → IVec S16 32) a x).toNat < S2x4x94x96.size a)
theorem k0_idx1063_inb : ∀ (v33 : IVec S16 32) (v35 : IVec S16 32) (v862 : IVec S16 32) (v1442 : IVec S16 32) (v1622 : IVec S16 32) (k0_hw810 : k0_chk810 v33 v35 v862 v1442 v1622), ∀ a x, ((![v862, v1442, v1622, v33] : Fin 4 → IVec S16 32) a x).toNat < S2x4x94x96.size a := fun v33 v35 v862 v1442 v1622 k0_hw810 => k0_hw810.1
theorem k0_idx1064_inb : ∀ (v33 : IVec S16 32) (v35 : IVec S16 32) (v862 : IVec S16 32) (v1442 : IVec S16 32) (v1622 : IVec S16 32) (k0_hw810 : k0_chk810 v33 v35 v862 v1442 v1622), ∀ a x, ((![v862, v1442, v1622, v35] : Fin 4 → IVec S16 32) a x).toNat < S2x4x94x96.size a := fun v33 v35 v862 v1442 v1622 k0_hw810 => k0_hw810.2

def k0_chk811 (v30 : IVec S16 32) (v862 : IVec S16 32) (v1442 : IVec S16 32) (v1623 : IVec S16 32) : Prop :=
  (∀ a x, ((![v862, v1442, v1623, v30] : Fin 4 → IVec S16 32) a x).toNat < S2x4x32x32.size a)
theorem k0_idx1065_inb : ∀ (v30 : IVec S16 32) (v862 : IVec S16 32) (v1442 : IVec S16 32) (v1623 : IVec S16 32) (k0_hw811 : k0_chk811 v30 v862 v1442 v1623), ∀ a x, ((![v862, v1442, v1623, v30] : Fin 4 → IVec S16 32) a x).toNat < S2x4x32x32.size a := fun v30 v862 v1442 v1623 k0_hw811 => k0_hw811

def k0_chk812 (v862 : IVec S16 32) (v1442 : IVec S16 32) (v1623 : IVec S16 32) (v1626 : IVec S16 32) : Prop :=
  (∀ a x, ((![v862, v1442, v1623, v1626] : Fin 4 → IVec S16 32) a x).toNat < S2x4x32x32.size a)
theorem k0_idx1066_inb : ∀ (v862 : IVec S16 32) (v1442 : IVec S16 32) (v1623 : IVec S16 32) (v1626 : IVec S16 32) (k0_hw812 : k0_chk812 v862 v1442 v1623 v1626), ∀ a x, ((![v862, v1442, v1623, v1626] : Fin 4 → IVec S16 32) a x).toNat < S2x4x32x32.size a := fun v862 v1442 v1623 v1626 k0_hw812 => k0_hw812

def k0_chk813 (v33 : IVec S16 32) (v35 : IVec S16 32) (v862 : IVec S16 32) (v1442 : IVec S16 32) (v1628 : IVec S16 32) : Prop :=
  (∀ a x, ((![v862, v1442, v1628, v33] : Fin 4 → IVec S16 32) a x).toNat < S2x4x94x96.size a) ∧
  (∀ a x, ((![v862, v1442, v1628, v35] : Fin 4 → IVec S16 32) a x).toNat < S2x4x94x96.size a)
theorem k0_idx1067_inb : ∀ (v33 : IVec S16 32) (v35 : IVec S16 32) (v862 : IVec S16 32) (v1442 : IVec S16 32) (v1628 : IVec S16 32) (k0_hw813 : k0_chk813 v33 v35 v862 v1442 v1628), ∀ a x, ((![v862, v1442, v1628, v33] : Fin 4 → IVec S16 32) a x).toNat < S2x4x94x96.size a := fun v33 v35 v862 v1442 v1628 k0_hw813 => k0_hw813.1
theorem k0_idx1068_inb : ∀ (v33 : IVec S16 32) (v35 : IVec S16 32) (v862 : IVec S16 32) (v1442 : IVec S16 32) (v1628 : IVec S16 32) (k0_hw813 : k0_chk813 v33 v35 v862 v1442 v1628), ∀ a x, ((![v862, v1442, v1628, v35] : Fin 4 → IVec S16 32) a x).toNat < S2x4x94x96.size a := fun v33 v35 v862 v1442 v1628 k0_hw813 => k0_hw813.2

def k0_chk814 (v30 : IVec S16 32) (v862 : IVec S16 32) (v1442 : IVec S16 32) (v1629 : IVec S16 32) : Prop :=
  (∀ a x, ((![v862, v1442, v1629, v30] : Fin 4 → IVec S16 32) a x).toNat < S2x4x32x32.size a)
theorem k0_idx1069_inb : ∀ (v30 : IVec S16 32) (v862 : IVec S16 32) (v1442 : IVec S16 32) (v1629 : IVec S16 32) (k0_hw814 : k0_chk814 v30 v862 v1442 v1629), ∀ a x, ((![v862, v1442, v1629, v30] : Fin 4 → IVec S16 32) a x).toNat < S2x4x32x32.size a := fun v30 v862 v1442 v1629 k0_hw814 => k0_hw814

def k0_chk815 (v862 : IVec S16 32) (v1442 : IVec S16 32) (v1629 : IVec S16 32) (v1632 : IVec S16 32) : Prop :=
  (∀ a x, ((![v862, v1442, v1629, v1632] : Fin 4 → IVec S16 32) a x).toNat < S2x4x32x32.size a)
theorem k0_idx1070_inb : ∀ (v862 : IVec S16 32) (v1442 : IVec S16 32) (v1629 : IVec S16 32) (v1632 : IVec S16 32) (k0_hw815 : k0_chk815 v862 v1442 v1629 v1632), ∀ a x, ((![v862, v1442, v1629, v1632] : Fin 4 → IVec S16 32) a x).toNat < S2x4x32x32.size a := fun v862 v1442 v1629 v1632 k0_hw815 => k0_hw815

def k0_chk816 (v33 : IVec S16 32) (v35 : IVec S16 32) (v862 : IVec S16 32) (v1442 : IVec S16 32) (v1634 : IVec S16 32) : Prop :=
  (∀ a x, ((![v862, v1442, v1634, v33] : Fin 4 → IVec S16 32) a x).toNat < S2x4x94x96.size a) ∧
  (∀ a x, ((![v862, v1442, v1634, v35] : Fin 4 → IVec S16 32) a x).toNat < S2x4x94x96.size a)
theorem k0_idx1071_inb : ∀ (v33 : IVec S16 32) (v35 : IVec S16 32) (v862 : IVec S16 32) (v1442 : IVec S16 32) (v1634 : IVec S16 32) (k0_hw816 : k0_chk816 v33 v35 v862 v1442 v1634), ∀ a x, ((![v862, v1442, v1634, v33] : Fin 4 → IVec S16 32) a x).toNat < S2x4x94x96.size a := fun v33 v35 v862 v1442 v1634 k0_hw816 => k0_hw816.1
theorem k0_idx1072_inb : ∀ (v33 : IVec S16 32) (v35 : IVec S16 32) (v862 : IVec S16 32) (v1442 : IVec S16 32) (v1634 : IVec S16 32) (k0_hw816 : k0_chk816 v33 v35 v862 v1442 v1634), ∀ a x, ((![v862, v1442, v1634, v35] : Fin 4 → IVec S16 32) a x).toNat < S2x4x94x96.size a := fun v33 v35 v862 v1442 v1634 k0_hw816 => k0_hw816.2
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c4_i32_821 : BitVec 32 := 4#32
  let v1635 : BitVec 32 := Scalar.addi v29 c4_i32_821
  let c0_i32_826 : BitVec 32 := 0#32
  let c0_i32_827 : BitVec 32 := 0#32
  ![v18.toNat, v1635.toNat, 0, 0]
def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c12_i32_833 : BitVec 32 := 12#32
  let v1644 : BitVec 32 := Scalar.addi v29 c12_i32_833
  let c0_i32_838 : BitVec 32 := 0#32
  let c0_i32_839 : BitVec 32 := 0#32
  ![v18.toNat, v1644.toNat, 0, 0]
@[reducible] def k0_t2_loop : Scf.Loop 32 :=
  let c1_i32_846 : BitVec 32 := 1#32
  let c10_i32_847 : BitVec 32 := 10#32
  let v1653 : BitVec 32 := Scalar.addi c1_i32_846 c10_i32_847
  let c1_i32_848 : BitVec 32 := 1#32
  ⟨c1_i32_846, v1653, c1_i32_848⟩

def k0_chk817 (v30 : IVec S16 32) (v3284 : IVec S16 32) (v3285 : IVec S16 32) (v3286 : IVec S16 32) : Prop :=
  (∀ a x, ((![v3284, v3285, v3286, v30] : Fin 4 → IVec S16 32) a x).toNat < S2x4x32x32.size a)
theorem k0_idx1073_inb : ∀ (v30 : IVec S16 32) (v3284 : IVec S16 32) (v3285 : IVec S16 32) (v3286 : IVec S16 32) (k0_hw817 : k0_chk817 v30 v3284 v3285 v3286), ∀ a x, ((![v3284, v3285, v3286, v30] : Fin 4 → IVec S16 32) a x).toNat < S2x4x32x32.size a := fun v30 v3284 v3285 v3286 k0_hw817 => k0_hw817

def k0_chk818 (v3284 : IVec S16 32) (v3285 : IVec S16 32) (v3286 : IVec S16 32) (v3289 : IVec S16 32) : Prop :=
  (∀ a x, ((![v3284, v3285, v3286, v3289] : Fin 4 → IVec S16 32) a x).toNat < S2x4x32x32.size a)
theorem k0_idx1074_inb : ∀ (v3284 : IVec S16 32) (v3285 : IVec S16 32) (v3286 : IVec S16 32) (v3289 : IVec S16 32) (k0_hw818 : k0_chk818 v3284 v3285 v3286 v3289), ∀ a x, ((![v3284, v3285, v3286, v3289] : Fin 4 → IVec S16 32) a x).toNat < S2x4x32x32.size a := fun v3284 v3285 v3286 v3289 k0_hw818 => k0_hw818

def k0_chk819 (v33 : IVec S16 32) (v35 : IVec S16 32) (v3284 : IVec S16 32) (v3285 : IVec S16 32) (v3291 : IVec S16 32) : Prop :=
  (∀ a x, ((![v3284, v3285, v3291, v33] : Fin 4 → IVec S16 32) a x).toNat < S2x4x94x96.size a) ∧
  (∀ a x, ((![v3284, v3285, v3291, v35] : Fin 4 → IVec S16 32) a x).toNat < S2x4x94x96.size a)
theorem k0_idx1075_inb : ∀ (v33 : IVec S16 32) (v35 : IVec S16 32) (v3284 : IVec S16 32) (v3285 : IVec S16 32) (v3291 : IVec S16 32) (k0_hw819 : k0_chk819 v33 v35 v3284 v3285 v3291), ∀ a x, ((![v3284, v3285, v3291, v33] : Fin 4 → IVec S16 32) a x).toNat < S2x4x94x96.size a := fun v33 v35 v3284 v3285 v3291 k0_hw819 => k0_hw819.1
theorem k0_idx1076_inb : ∀ (v33 : IVec S16 32) (v35 : IVec S16 32) (v3284 : IVec S16 32) (v3285 : IVec S16 32) (v3291 : IVec S16 32) (k0_hw819 : k0_chk819 v33 v35 v3284 v3285 v3291), ∀ a x, ((![v3284, v3285, v3291, v35] : Fin 4 → IVec S16 32) a x).toNat < S2x4x94x96.size a := fun v33 v35 v3284 v3285 v3291 k0_hw819 => k0_hw819.2

def k0_chk820 (v30 : IVec S16 32) (v3284 : IVec S16 32) (v3285 : IVec S16 32) (v3292 : IVec S16 32) : Prop :=
  (∀ a x, ((![v3284, v3285, v3292, v30] : Fin 4 → IVec S16 32) a x).toNat < S2x4x32x32.size a)
theorem k0_idx1077_inb : ∀ (v30 : IVec S16 32) (v3284 : IVec S16 32) (v3285 : IVec S16 32) (v3292 : IVec S16 32) (k0_hw820 : k0_chk820 v30 v3284 v3285 v3292), ∀ a x, ((![v3284, v3285, v3292, v30] : Fin 4 → IVec S16 32) a x).toNat < S2x4x32x32.size a := fun v30 v3284 v3285 v3292 k0_hw820 => k0_hw820

def k0_chk821 (v3284 : IVec S16 32) (v3285 : IVec S16 32) (v3292 : IVec S16 32) (v3295 : IVec S16 32) : Prop :=
  (∀ a x, ((![v3284, v3285, v3292, v3295] : Fin 4 → IVec S16 32) a x).toNat < S2x4x32x32.size a)
theorem k0_idx1078_inb : ∀ (v3284 : IVec S16 32) (v3285 : IVec S16 32) (v3292 : IVec S16 32) (v3295 : IVec S16 32) (k0_hw821 : k0_chk821 v3284 v3285 v3292 v3295), ∀ a x, ((![v3284, v3285, v3292, v3295] : Fin 4 → IVec S16 32) a x).toNat < S2x4x32x32.size a := fun v3284 v3285 v3292 v3295 k0_hw821 => k0_hw821

def k0_chk822 (v33 : IVec S16 32) (v35 : IVec S16 32) (v3284 : IVec S16 32) (v3285 : IVec S16 32) (v3297 : IVec S16 32) : Prop :=
  (∀ a x, ((![v3284, v3285, v3297, v33] : Fin 4 → IVec S16 32) a x).toNat < S2x4x94x96.size a) ∧
  (∀ a x, ((![v3284, v3285, v3297, v35] : Fin 4 → IVec S16 32) a x).toNat < S2x4x94x96.size a)
theorem k0_idx1079_inb : ∀ (v33 : IVec S16 32) (v35 : IVec S16 32) (v3284 : IVec S16 32) (v3285 : IVec S16 32) (v3297 : IVec S16 32) (k0_hw822 : k0_chk822 v33 v35 v3284 v3285 v3297), ∀ a x, ((![v3284, v3285, v3297, v33] : Fin 4 → IVec S16 32) a x).toNat < S2x4x94x96.size a := fun v33 v35 v3284 v3285 v3297 k0_hw822 => k0_hw822.1
theorem k0_idx1080_inb : ∀ (v33 : IVec S16 32) (v35 : IVec S16 32) (v3284 : IVec S16 32) (v3285 : IVec S16 32) (v3297 : IVec S16 32) (k0_hw822 : k0_chk822 v33 v35 v3284 v3285 v3297), ∀ a x, ((![v3284, v3285, v3297, v35] : Fin 4 → IVec S16 32) a x).toNat < S2x4x94x96.size a := fun v33 v35 v3284 v3285 v3297 k0_hw822 => k0_hw822.2

def k0_chk823 (v30 : IVec S16 32) (v3284 : IVec S16 32) (v3285 : IVec S16 32) (v3298 : IVec S16 32) : Prop :=
  (∀ a x, ((![v3284, v3285, v3298, v30] : Fin 4 → IVec S16 32) a x).toNat < S2x4x32x32.size a)
theorem k0_idx1081_inb : ∀ (v30 : IVec S16 32) (v3284 : IVec S16 32) (v3285 : IVec S16 32) (v3298 : IVec S16 32) (k0_hw823 : k0_chk823 v30 v3284 v3285 v3298), ∀ a x, ((![v3284, v3285, v3298, v30] : Fin 4 → IVec S16 32) a x).toNat < S2x4x32x32.size a := fun v30 v3284 v3285 v3298 k0_hw823 => k0_hw823

def k0_chk824 (v3284 : IVec S16 32) (v3285 : IVec S16 32) (v3298 : IVec S16 32) (v3301 : IVec S16 32) : Prop :=
  (∀ a x, ((![v3284, v3285, v3298, v3301] : Fin 4 → IVec S16 32) a x).toNat < S2x4x32x32.size a)
theorem k0_idx1082_inb : ∀ (v3284 : IVec S16 32) (v3285 : IVec S16 32) (v3298 : IVec S16 32) (v3301 : IVec S16 32) (k0_hw824 : k0_chk824 v3284 v3285 v3298 v3301), ∀ a x, ((![v3284, v3285, v3298, v3301] : Fin 4 → IVec S16 32) a x).toNat < S2x4x32x32.size a := fun v3284 v3285 v3298 v3301 k0_hw824 => k0_hw824

def k0_chk825 (v33 : IVec S16 32) (v35 : IVec S16 32) (v3284 : IVec S16 32) (v3285 : IVec S16 32) (v3303 : IVec S16 32) : Prop :=
  (∀ a x, ((![v3284, v3285, v3303, v33] : Fin 4 → IVec S16 32) a x).toNat < S2x4x94x96.size a) ∧
  (∀ a x, ((![v3284, v3285, v3303, v35] : Fin 4 → IVec S16 32) a x).toNat < S2x4x94x96.size a)
theorem k0_idx1083_inb : ∀ (v33 : IVec S16 32) (v35 : IVec S16 32) (v3284 : IVec S16 32) (v3285 : IVec S16 32) (v3303 : IVec S16 32) (k0_hw825 : k0_chk825 v33 v35 v3284 v3285 v3303), ∀ a x, ((![v3284, v3285, v3303, v33] : Fin 4 → IVec S16 32) a x).toNat < S2x4x94x96.size a := fun v33 v35 v3284 v3285 v3303 k0_hw825 => k0_hw825.1
theorem k0_idx1084_inb : ∀ (v33 : IVec S16 32) (v35 : IVec S16 32) (v3284 : IVec S16 32) (v3285 : IVec S16 32) (v3303 : IVec S16 32) (k0_hw825 : k0_chk825 v33 v35 v3284 v3285 v3303), ∀ a x, ((![v3284, v3285, v3303, v35] : Fin 4 → IVec S16 32) a x).toNat < S2x4x94x96.size a := fun v33 v35 v3284 v3285 v3303 k0_hw825 => k0_hw825.2

def k0_chk826 (v30 : IVec S16 32) (v3284 : IVec S16 32) (v3285 : IVec S16 32) (v3304 : IVec S16 32) : Prop :=
  (∀ a x, ((![v3284, v3285, v3304, v30] : Fin 4 → IVec S16 32) a x).toNat < S2x4x32x32.size a)
theorem k0_idx1085_inb : ∀ (v30 : IVec S16 32) (v3284 : IVec S16 32) (v3285 : IVec S16 32) (v3304 : IVec S16 32) (k0_hw826 : k0_chk826 v30 v3284 v3285 v3304), ∀ a x, ((![v3284, v3285, v3304, v30] : Fin 4 → IVec S16 32) a x).toNat < S2x4x32x32.size a := fun v30 v3284 v3285 v3304 k0_hw826 => k0_hw826

def k0_chk827 (v3284 : IVec S16 32) (v3285 : IVec S16 32) (v3304 : IVec S16 32) (v3307 : IVec S16 32) : Prop :=
  (∀ a x, ((![v3284, v3285, v3304, v3307] : Fin 4 → IVec S16 32) a x).toNat < S2x4x32x32.size a)
theorem k0_idx1086_inb : ∀ (v3284 : IVec S16 32) (v3285 : IVec S16 32) (v3304 : IVec S16 32) (v3307 : IVec S16 32) (k0_hw827 : k0_chk827 v3284 v3285 v3304 v3307), ∀ a x, ((![v3284, v3285, v3304, v3307] : Fin 4 → IVec S16 32) a x).toNat < S2x4x32x32.size a := fun v3284 v3285 v3304 v3307 k0_hw827 => k0_hw827

def k0_chk828 (v33 : IVec S16 32) (v35 : IVec S16 32) (v3284 : IVec S16 32) (v3285 : IVec S16 32) (v3309 : IVec S16 32) : Prop :=
  (∀ a x, ((![v3284, v3285, v3309, v33] : Fin 4 → IVec S16 32) a x).toNat < S2x4x94x96.size a) ∧
  (∀ a x, ((![v3284, v3285, v3309, v35] : Fin 4 → IVec S16 32) a x).toNat < S2x4x94x96.size a)
theorem k0_idx1087_inb : ∀ (v33 : IVec S16 32) (v35 : IVec S16 32) (v3284 : IVec S16 32) (v3285 : IVec S16 32) (v3309 : IVec S16 32) (k0_hw828 : k0_chk828 v33 v35 v3284 v3285 v3309), ∀ a x, ((![v3284, v3285, v3309, v33] : Fin 4 → IVec S16 32) a x).toNat < S2x4x94x96.size a := fun v33 v35 v3284 v3285 v3309 k0_hw828 => k0_hw828.1
theorem k0_idx1088_inb : ∀ (v33 : IVec S16 32) (v35 : IVec S16 32) (v3284 : IVec S16 32) (v3285 : IVec S16 32) (v3309 : IVec S16 32) (k0_hw828 : k0_chk828 v33 v35 v3284 v3285 v3309), ∀ a x, ((![v3284, v3285, v3309, v35] : Fin 4 → IVec S16 32) a x).toNat < S2x4x94x96.size a := fun v33 v35 v3284 v3285 v3309 k0_hw828 => k0_hw828.2

def k0_chk829 (v30 : IVec S16 32) (v3284 : IVec S16 32) (v3285 : IVec S16 32) (v3310 : IVec S16 32) : Prop :=
  (∀ a x, ((![v3284, v3285, v3310, v30] : Fin 4 → IVec S16 32) a x).toNat < S2x4x32x32.size a)
theorem k0_idx1089_inb : ∀ (v30 : IVec S16 32) (v3284 : IVec S16 32) (v3285 : IVec S16 32) (v3310 : IVec S16 32) (k0_hw829 : k0_chk829 v30 v3284 v3285 v3310), ∀ a x, ((![v3284, v3285, v3310, v30] : Fin 4 → IVec S16 32) a x).toNat < S2x4x32x32.size a := fun v30 v3284 v3285 v3310 k0_hw829 => k0_hw829

def k0_chk830 (v3284 : IVec S16 32) (v3285 : IVec S16 32) (v3310 : IVec S16 32) (v3313 : IVec S16 32) : Prop :=
  (∀ a x, ((![v3284, v3285, v3310, v3313] : Fin 4 → IVec S16 32) a x).toNat < S2x4x32x32.size a)
theorem k0_idx1090_inb : ∀ (v3284 : IVec S16 32) (v3285 : IVec S16 32) (v3310 : IVec S16 32) (v3313 : IVec S16 32) (k0_hw830 : k0_chk830 v3284 v3285 v3310 v3313), ∀ a x, ((![v3284, v3285, v3310, v3313] : Fin 4 → IVec S16 32) a x).toNat < S2x4x32x32.size a := fun v3284 v3285 v3310 v3313 k0_hw830 => k0_hw830

def k0_chk831 (v33 : IVec S16 32) (v35 : IVec S16 32) (v3284 : IVec S16 32) (v3285 : IVec S16 32) (v3315 : IVec S16 32) : Prop :=
  (∀ a x, ((![v3284, v3285, v3315, v33] : Fin 4 → IVec S16 32) a x).toNat < S2x4x94x96.size a) ∧
  (∀ a x, ((![v3284, v3285, v3315, v35] : Fin 4 → IVec S16 32) a x).toNat < S2x4x94x96.size a)
theorem k0_idx1091_inb : ∀ (v33 : IVec S16 32) (v35 : IVec S16 32) (v3284 : IVec S16 32) (v3285 : IVec S16 32) (v3315 : IVec S16 32) (k0_hw831 : k0_chk831 v33 v35 v3284 v3285 v3315), ∀ a x, ((![v3284, v3285, v3315, v33] : Fin 4 → IVec S16 32) a x).toNat < S2x4x94x96.size a := fun v33 v35 v3284 v3285 v3315 k0_hw831 => k0_hw831.1
theorem k0_idx1092_inb : ∀ (v33 : IVec S16 32) (v35 : IVec S16 32) (v3284 : IVec S16 32) (v3285 : IVec S16 32) (v3315 : IVec S16 32) (k0_hw831 : k0_chk831 v33 v35 v3284 v3285 v3315), ∀ a x, ((![v3284, v3285, v3315, v35] : Fin 4 → IVec S16 32) a x).toNat < S2x4x94x96.size a := fun v33 v35 v3284 v3285 v3315 k0_hw831 => k0_hw831.2

def k0_chk832 (v30 : IVec S16 32) (v3284 : IVec S16 32) (v3285 : IVec S16 32) (v3316 : IVec S16 32) : Prop :=
  (∀ a x, ((![v3284, v3285, v3316, v30] : Fin 4 → IVec S16 32) a x).toNat < S2x4x32x32.size a)
theorem k0_idx1093_inb : ∀ (v30 : IVec S16 32) (v3284 : IVec S16 32) (v3285 : IVec S16 32) (v3316 : IVec S16 32) (k0_hw832 : k0_chk832 v30 v3284 v3285 v3316), ∀ a x, ((![v3284, v3285, v3316, v30] : Fin 4 → IVec S16 32) a x).toNat < S2x4x32x32.size a := fun v30 v3284 v3285 v3316 k0_hw832 => k0_hw832

def k0_chk833 (v3284 : IVec S16 32) (v3285 : IVec S16 32) (v3316 : IVec S16 32) (v3319 : IVec S16 32) : Prop :=
  (∀ a x, ((![v3284, v3285, v3316, v3319] : Fin 4 → IVec S16 32) a x).toNat < S2x4x32x32.size a)
theorem k0_idx1094_inb : ∀ (v3284 : IVec S16 32) (v3285 : IVec S16 32) (v3316 : IVec S16 32) (v3319 : IVec S16 32) (k0_hw833 : k0_chk833 v3284 v3285 v3316 v3319), ∀ a x, ((![v3284, v3285, v3316, v3319] : Fin 4 → IVec S16 32) a x).toNat < S2x4x32x32.size a := fun v3284 v3285 v3316 v3319 k0_hw833 => k0_hw833

def k0_chk834 (v33 : IVec S16 32) (v35 : IVec S16 32) (v3284 : IVec S16 32) (v3285 : IVec S16 32) (v3321 : IVec S16 32) : Prop :=
  (∀ a x, ((![v3284, v3285, v3321, v33] : Fin 4 → IVec S16 32) a x).toNat < S2x4x94x96.size a) ∧
  (∀ a x, ((![v3284, v3285, v3321, v35] : Fin 4 → IVec S16 32) a x).toNat < S2x4x94x96.size a)
theorem k0_idx1095_inb : ∀ (v33 : IVec S16 32) (v35 : IVec S16 32) (v3284 : IVec S16 32) (v3285 : IVec S16 32) (v3321 : IVec S16 32) (k0_hw834 : k0_chk834 v33 v35 v3284 v3285 v3321), ∀ a x, ((![v3284, v3285, v3321, v33] : Fin 4 → IVec S16 32) a x).toNat < S2x4x94x96.size a := fun v33 v35 v3284 v3285 v3321 k0_hw834 => k0_hw834.1
theorem k0_idx1096_inb : ∀ (v33 : IVec S16 32) (v35 : IVec S16 32) (v3284 : IVec S16 32) (v3285 : IVec S16 32) (v3321 : IVec S16 32) (k0_hw834 : k0_chk834 v33 v35 v3284 v3285 v3321), ∀ a x, ((![v3284, v3285, v3321, v35] : Fin 4 → IVec S16 32) a x).toNat < S2x4x94x96.size a := fun v33 v35 v3284 v3285 v3321 k0_hw834 => k0_hw834.2

def k0_chk835 (v30 : IVec S16 32) (v3284 : IVec S16 32) (v3285 : IVec S16 32) (v3322 : IVec S16 32) : Prop :=
  (∀ a x, ((![v3284, v3285, v3322, v30] : Fin 4 → IVec S16 32) a x).toNat < S2x4x32x32.size a)
theorem k0_idx1097_inb : ∀ (v30 : IVec S16 32) (v3284 : IVec S16 32) (v3285 : IVec S16 32) (v3322 : IVec S16 32) (k0_hw835 : k0_chk835 v30 v3284 v3285 v3322), ∀ a x, ((![v3284, v3285, v3322, v30] : Fin 4 → IVec S16 32) a x).toNat < S2x4x32x32.size a := fun v30 v3284 v3285 v3322 k0_hw835 => k0_hw835

def k0_chk836 (v3284 : IVec S16 32) (v3285 : IVec S16 32) (v3322 : IVec S16 32) (v3325 : IVec S16 32) : Prop :=
  (∀ a x, ((![v3284, v3285, v3322, v3325] : Fin 4 → IVec S16 32) a x).toNat < S2x4x32x32.size a)
theorem k0_idx1098_inb : ∀ (v3284 : IVec S16 32) (v3285 : IVec S16 32) (v3322 : IVec S16 32) (v3325 : IVec S16 32) (k0_hw836 : k0_chk836 v3284 v3285 v3322 v3325), ∀ a x, ((![v3284, v3285, v3322, v3325] : Fin 4 → IVec S16 32) a x).toNat < S2x4x32x32.size a := fun v3284 v3285 v3322 v3325 k0_hw836 => k0_hw836

def k0_chk837 (v33 : IVec S16 32) (v35 : IVec S16 32) (v3284 : IVec S16 32) (v3285 : IVec S16 32) (v3327 : IVec S16 32) : Prop :=
  (∀ a x, ((![v3284, v3285, v3327, v33] : Fin 4 → IVec S16 32) a x).toNat < S2x4x94x96.size a) ∧
  (∀ a x, ((![v3284, v3285, v3327, v35] : Fin 4 → IVec S16 32) a x).toNat < S2x4x94x96.size a)
theorem k0_idx1099_inb : ∀ (v33 : IVec S16 32) (v35 : IVec S16 32) (v3284 : IVec S16 32) (v3285 : IVec S16 32) (v3327 : IVec S16 32) (k0_hw837 : k0_chk837 v33 v35 v3284 v3285 v3327), ∀ a x, ((![v3284, v3285, v3327, v33] : Fin 4 → IVec S16 32) a x).toNat < S2x4x94x96.size a := fun v33 v35 v3284 v3285 v3327 k0_hw837 => k0_hw837.1
theorem k0_idx1100_inb : ∀ (v33 : IVec S16 32) (v35 : IVec S16 32) (v3284 : IVec S16 32) (v3285 : IVec S16 32) (v3327 : IVec S16 32) (k0_hw837 : k0_chk837 v33 v35 v3284 v3285 v3327), ∀ a x, ((![v3284, v3285, v3327, v35] : Fin 4 → IVec S16 32) a x).toNat < S2x4x94x96.size a := fun v33 v35 v3284 v3285 v3327 k0_hw837 => k0_hw837.2

def k0_chk838 (v30 : IVec S16 32) (v3284 : IVec S16 32) (v3285 : IVec S16 32) (v3328 : IVec S16 32) : Prop :=
  (∀ a x, ((![v3284, v3285, v3328, v30] : Fin 4 → IVec S16 32) a x).toNat < S2x4x32x32.size a)
theorem k0_idx1101_inb : ∀ (v30 : IVec S16 32) (v3284 : IVec S16 32) (v3285 : IVec S16 32) (v3328 : IVec S16 32) (k0_hw838 : k0_chk838 v30 v3284 v3285 v3328), ∀ a x, ((![v3284, v3285, v3328, v30] : Fin 4 → IVec S16 32) a x).toNat < S2x4x32x32.size a := fun v30 v3284 v3285 v3328 k0_hw838 => k0_hw838

def k0_chk839 (v3284 : IVec S16 32) (v3285 : IVec S16 32) (v3328 : IVec S16 32) (v3331 : IVec S16 32) : Prop :=
  (∀ a x, ((![v3284, v3285, v3328, v3331] : Fin 4 → IVec S16 32) a x).toNat < S2x4x32x32.size a)
theorem k0_idx1102_inb : ∀ (v3284 : IVec S16 32) (v3285 : IVec S16 32) (v3328 : IVec S16 32) (v3331 : IVec S16 32) (k0_hw839 : k0_chk839 v3284 v3285 v3328 v3331), ∀ a x, ((![v3284, v3285, v3328, v3331] : Fin 4 → IVec S16 32) a x).toNat < S2x4x32x32.size a := fun v3284 v3285 v3328 v3331 k0_hw839 => k0_hw839

def k0_chk840 (v33 : IVec S16 32) (v35 : IVec S16 32) (v3284 : IVec S16 32) (v3285 : IVec S16 32) (v3333 : IVec S16 32) : Prop :=
  (∀ a x, ((![v3284, v3285, v3333, v33] : Fin 4 → IVec S16 32) a x).toNat < S2x4x94x96.size a) ∧
  (∀ a x, ((![v3284, v3285, v3333, v35] : Fin 4 → IVec S16 32) a x).toNat < S2x4x94x96.size a)
theorem k0_idx1103_inb : ∀ (v33 : IVec S16 32) (v35 : IVec S16 32) (v3284 : IVec S16 32) (v3285 : IVec S16 32) (v3333 : IVec S16 32) (k0_hw840 : k0_chk840 v33 v35 v3284 v3285 v3333), ∀ a x, ((![v3284, v3285, v3333, v33] : Fin 4 → IVec S16 32) a x).toNat < S2x4x94x96.size a := fun v33 v35 v3284 v3285 v3333 k0_hw840 => k0_hw840.1
theorem k0_idx1104_inb : ∀ (v33 : IVec S16 32) (v35 : IVec S16 32) (v3284 : IVec S16 32) (v3285 : IVec S16 32) (v3333 : IVec S16 32) (k0_hw840 : k0_chk840 v33 v35 v3284 v3285 v3333), ∀ a x, ((![v3284, v3285, v3333, v35] : Fin 4 → IVec S16 32) a x).toNat < S2x4x94x96.size a := fun v33 v35 v3284 v3285 v3333 k0_hw840 => k0_hw840.2

def k0_chk841 (v30 : IVec S16 32) (v3284 : IVec S16 32) (v3285 : IVec S16 32) (v3334 : IVec S16 32) : Prop :=
  (∀ a x, ((![v3284, v3285, v3334, v30] : Fin 4 → IVec S16 32) a x).toNat < S2x4x32x32.size a)
theorem k0_idx1105_inb : ∀ (v30 : IVec S16 32) (v3284 : IVec S16 32) (v3285 : IVec S16 32) (v3334 : IVec S16 32) (k0_hw841 : k0_chk841 v30 v3284 v3285 v3334), ∀ a x, ((![v3284, v3285, v3334, v30] : Fin 4 → IVec S16 32) a x).toNat < S2x4x32x32.size a := fun v30 v3284 v3285 v3334 k0_hw841 => k0_hw841

def k0_chk842 (v3284 : IVec S16 32) (v3285 : IVec S16 32) (v3334 : IVec S16 32) (v3337 : IVec S16 32) : Prop :=
  (∀ a x, ((![v3284, v3285, v3334, v3337] : Fin 4 → IVec S16 32) a x).toNat < S2x4x32x32.size a)
theorem k0_idx1106_inb : ∀ (v3284 : IVec S16 32) (v3285 : IVec S16 32) (v3334 : IVec S16 32) (v3337 : IVec S16 32) (k0_hw842 : k0_chk842 v3284 v3285 v3334 v3337), ∀ a x, ((![v3284, v3285, v3334, v3337] : Fin 4 → IVec S16 32) a x).toNat < S2x4x32x32.size a := fun v3284 v3285 v3334 v3337 k0_hw842 => k0_hw842

def k0_chk843 (v33 : IVec S16 32) (v35 : IVec S16 32) (v3284 : IVec S16 32) (v3285 : IVec S16 32) (v3339 : IVec S16 32) : Prop :=
  (∀ a x, ((![v3284, v3285, v3339, v33] : Fin 4 → IVec S16 32) a x).toNat < S2x4x94x96.size a) ∧
  (∀ a x, ((![v3284, v3285, v3339, v35] : Fin 4 → IVec S16 32) a x).toNat < S2x4x94x96.size a)
theorem k0_idx1107_inb : ∀ (v33 : IVec S16 32) (v35 : IVec S16 32) (v3284 : IVec S16 32) (v3285 : IVec S16 32) (v3339 : IVec S16 32) (k0_hw843 : k0_chk843 v33 v35 v3284 v3285 v3339), ∀ a x, ((![v3284, v3285, v3339, v33] : Fin 4 → IVec S16 32) a x).toNat < S2x4x94x96.size a := fun v33 v35 v3284 v3285 v3339 k0_hw843 => k0_hw843.1
theorem k0_idx1108_inb : ∀ (v33 : IVec S16 32) (v35 : IVec S16 32) (v3284 : IVec S16 32) (v3285 : IVec S16 32) (v3339 : IVec S16 32) (k0_hw843 : k0_chk843 v33 v35 v3284 v3285 v3339), ∀ a x, ((![v3284, v3285, v3339, v35] : Fin 4 → IVec S16 32) a x).toNat < S2x4x94x96.size a := fun v33 v35 v3284 v3285 v3339 k0_hw843 => k0_hw843.2

def k0_chk844 (v30 : IVec S16 32) (v3284 : IVec S16 32) (v3285 : IVec S16 32) (v3340 : IVec S16 32) : Prop :=
  (∀ a x, ((![v3284, v3285, v3340, v30] : Fin 4 → IVec S16 32) a x).toNat < S2x4x32x32.size a)
theorem k0_idx1109_inb : ∀ (v30 : IVec S16 32) (v3284 : IVec S16 32) (v3285 : IVec S16 32) (v3340 : IVec S16 32) (k0_hw844 : k0_chk844 v30 v3284 v3285 v3340), ∀ a x, ((![v3284, v3285, v3340, v30] : Fin 4 → IVec S16 32) a x).toNat < S2x4x32x32.size a := fun v30 v3284 v3285 v3340 k0_hw844 => k0_hw844

def k0_chk845 (v3284 : IVec S16 32) (v3285 : IVec S16 32) (v3340 : IVec S16 32) (v3343 : IVec S16 32) : Prop :=
  (∀ a x, ((![v3284, v3285, v3340, v3343] : Fin 4 → IVec S16 32) a x).toNat < S2x4x32x32.size a)
theorem k0_idx1110_inb : ∀ (v3284 : IVec S16 32) (v3285 : IVec S16 32) (v3340 : IVec S16 32) (v3343 : IVec S16 32) (k0_hw845 : k0_chk845 v3284 v3285 v3340 v3343), ∀ a x, ((![v3284, v3285, v3340, v3343] : Fin 4 → IVec S16 32) a x).toNat < S2x4x32x32.size a := fun v3284 v3285 v3340 v3343 k0_hw845 => k0_hw845

def k0_chk846 (v33 : IVec S16 32) (v35 : IVec S16 32) (v3284 : IVec S16 32) (v3285 : IVec S16 32) (v3345 : IVec S16 32) : Prop :=
  (∀ a x, ((![v3284, v3285, v3345, v33] : Fin 4 → IVec S16 32) a x).toNat < S2x4x94x96.size a) ∧
  (∀ a x, ((![v3284, v3285, v3345, v35] : Fin 4 → IVec S16 32) a x).toNat < S2x4x94x96.size a)
theorem k0_idx1111_inb : ∀ (v33 : IVec S16 32) (v35 : IVec S16 32) (v3284 : IVec S16 32) (v3285 : IVec S16 32) (v3345 : IVec S16 32) (k0_hw846 : k0_chk846 v33 v35 v3284 v3285 v3345), ∀ a x, ((![v3284, v3285, v3345, v33] : Fin 4 → IVec S16 32) a x).toNat < S2x4x94x96.size a := fun v33 v35 v3284 v3285 v3345 k0_hw846 => k0_hw846.1
theorem k0_idx1112_inb : ∀ (v33 : IVec S16 32) (v35 : IVec S16 32) (v3284 : IVec S16 32) (v3285 : IVec S16 32) (v3345 : IVec S16 32) (k0_hw846 : k0_chk846 v33 v35 v3284 v3285 v3345), ∀ a x, ((![v3284, v3285, v3345, v35] : Fin 4 → IVec S16 32) a x).toNat < S2x4x94x96.size a := fun v33 v35 v3284 v3285 v3345 k0_hw846 => k0_hw846.2

def k0_chk847 (v30 : IVec S16 32) (v3284 : IVec S16 32) (v3285 : IVec S16 32) (v3346 : IVec S16 32) : Prop :=
  (∀ a x, ((![v3284, v3285, v3346, v30] : Fin 4 → IVec S16 32) a x).toNat < S2x4x32x32.size a)
theorem k0_idx1113_inb : ∀ (v30 : IVec S16 32) (v3284 : IVec S16 32) (v3285 : IVec S16 32) (v3346 : IVec S16 32) (k0_hw847 : k0_chk847 v30 v3284 v3285 v3346), ∀ a x, ((![v3284, v3285, v3346, v30] : Fin 4 → IVec S16 32) a x).toNat < S2x4x32x32.size a := fun v30 v3284 v3285 v3346 k0_hw847 => k0_hw847

def k0_chk848 (v3284 : IVec S16 32) (v3285 : IVec S16 32) (v3346 : IVec S16 32) (v3349 : IVec S16 32) : Prop :=
  (∀ a x, ((![v3284, v3285, v3346, v3349] : Fin 4 → IVec S16 32) a x).toNat < S2x4x32x32.size a)
theorem k0_idx1114_inb : ∀ (v3284 : IVec S16 32) (v3285 : IVec S16 32) (v3346 : IVec S16 32) (v3349 : IVec S16 32) (k0_hw848 : k0_chk848 v3284 v3285 v3346 v3349), ∀ a x, ((![v3284, v3285, v3346, v3349] : Fin 4 → IVec S16 32) a x).toNat < S2x4x32x32.size a := fun v3284 v3285 v3346 v3349 k0_hw848 => k0_hw848

def k0_chk849 (v33 : IVec S16 32) (v35 : IVec S16 32) (v3284 : IVec S16 32) (v3285 : IVec S16 32) (v3351 : IVec S16 32) : Prop :=
  (∀ a x, ((![v3284, v3285, v3351, v33] : Fin 4 → IVec S16 32) a x).toNat < S2x4x94x96.size a) ∧
  (∀ a x, ((![v3284, v3285, v3351, v35] : Fin 4 → IVec S16 32) a x).toNat < S2x4x94x96.size a)
theorem k0_idx1115_inb : ∀ (v33 : IVec S16 32) (v35 : IVec S16 32) (v3284 : IVec S16 32) (v3285 : IVec S16 32) (v3351 : IVec S16 32) (k0_hw849 : k0_chk849 v33 v35 v3284 v3285 v3351), ∀ a x, ((![v3284, v3285, v3351, v33] : Fin 4 → IVec S16 32) a x).toNat < S2x4x94x96.size a := fun v33 v35 v3284 v3285 v3351 k0_hw849 => k0_hw849.1
theorem k0_idx1116_inb : ∀ (v33 : IVec S16 32) (v35 : IVec S16 32) (v3284 : IVec S16 32) (v3285 : IVec S16 32) (v3351 : IVec S16 32) (k0_hw849 : k0_chk849 v33 v35 v3284 v3285 v3351), ∀ a x, ((![v3284, v3285, v3351, v35] : Fin 4 → IVec S16 32) a x).toNat < S2x4x94x96.size a := fun v33 v35 v3284 v3285 v3351 k0_hw849 => k0_hw849.2

def k0_chk850 (v30 : IVec S16 32) (v3284 : IVec S16 32) (v3285 : IVec S16 32) (v3352 : IVec S16 32) : Prop :=
  (∀ a x, ((![v3284, v3285, v3352, v30] : Fin 4 → IVec S16 32) a x).toNat < S2x4x32x32.size a)
theorem k0_idx1117_inb : ∀ (v30 : IVec S16 32) (v3284 : IVec S16 32) (v3285 : IVec S16 32) (v3352 : IVec S16 32) (k0_hw850 : k0_chk850 v30 v3284 v3285 v3352), ∀ a x, ((![v3284, v3285, v3352, v30] : Fin 4 → IVec S16 32) a x).toNat < S2x4x32x32.size a := fun v30 v3284 v3285 v3352 k0_hw850 => k0_hw850

def k0_chk851 (v3284 : IVec S16 32) (v3285 : IVec S16 32) (v3352 : IVec S16 32) (v3355 : IVec S16 32) : Prop :=
  (∀ a x, ((![v3284, v3285, v3352, v3355] : Fin 4 → IVec S16 32) a x).toNat < S2x4x32x32.size a)
theorem k0_idx1118_inb : ∀ (v3284 : IVec S16 32) (v3285 : IVec S16 32) (v3352 : IVec S16 32) (v3355 : IVec S16 32) (k0_hw851 : k0_chk851 v3284 v3285 v3352 v3355), ∀ a x, ((![v3284, v3285, v3352, v3355] : Fin 4 → IVec S16 32) a x).toNat < S2x4x32x32.size a := fun v3284 v3285 v3352 v3355 k0_hw851 => k0_hw851

def k0_chk852 (v33 : IVec S16 32) (v35 : IVec S16 32) (v3284 : IVec S16 32) (v3285 : IVec S16 32) (v3357 : IVec S16 32) : Prop :=
  (∀ a x, ((![v3284, v3285, v3357, v33] : Fin 4 → IVec S16 32) a x).toNat < S2x4x94x96.size a) ∧
  (∀ a x, ((![v3284, v3285, v3357, v35] : Fin 4 → IVec S16 32) a x).toNat < S2x4x94x96.size a)
theorem k0_idx1119_inb : ∀ (v33 : IVec S16 32) (v35 : IVec S16 32) (v3284 : IVec S16 32) (v3285 : IVec S16 32) (v3357 : IVec S16 32) (k0_hw852 : k0_chk852 v33 v35 v3284 v3285 v3357), ∀ a x, ((![v3284, v3285, v3357, v33] : Fin 4 → IVec S16 32) a x).toNat < S2x4x94x96.size a := fun v33 v35 v3284 v3285 v3357 k0_hw852 => k0_hw852.1
theorem k0_idx1120_inb : ∀ (v33 : IVec S16 32) (v35 : IVec S16 32) (v3284 : IVec S16 32) (v3285 : IVec S16 32) (v3357 : IVec S16 32) (k0_hw852 : k0_chk852 v33 v35 v3284 v3285 v3357), ∀ a x, ((![v3284, v3285, v3357, v35] : Fin 4 → IVec S16 32) a x).toNat < S2x4x94x96.size a := fun v33 v35 v3284 v3285 v3357 k0_hw852 => k0_hw852.2

def k0_chk853 (v30 : IVec S16 32) (v3284 : IVec S16 32) (v3285 : IVec S16 32) (v3358 : IVec S16 32) : Prop :=
  (∀ a x, ((![v3284, v3285, v3358, v30] : Fin 4 → IVec S16 32) a x).toNat < S2x4x32x32.size a)
theorem k0_idx1121_inb : ∀ (v30 : IVec S16 32) (v3284 : IVec S16 32) (v3285 : IVec S16 32) (v3358 : IVec S16 32) (k0_hw853 : k0_chk853 v30 v3284 v3285 v3358), ∀ a x, ((![v3284, v3285, v3358, v30] : Fin 4 → IVec S16 32) a x).toNat < S2x4x32x32.size a := fun v30 v3284 v3285 v3358 k0_hw853 => k0_hw853

def k0_chk854 (v3284 : IVec S16 32) (v3285 : IVec S16 32) (v3358 : IVec S16 32) (v3361 : IVec S16 32) : Prop :=
  (∀ a x, ((![v3284, v3285, v3358, v3361] : Fin 4 → IVec S16 32) a x).toNat < S2x4x32x32.size a)
theorem k0_idx1122_inb : ∀ (v3284 : IVec S16 32) (v3285 : IVec S16 32) (v3358 : IVec S16 32) (v3361 : IVec S16 32) (k0_hw854 : k0_chk854 v3284 v3285 v3358 v3361), ∀ a x, ((![v3284, v3285, v3358, v3361] : Fin 4 → IVec S16 32) a x).toNat < S2x4x32x32.size a := fun v3284 v3285 v3358 v3361 k0_hw854 => k0_hw854

def k0_chk855 (v33 : IVec S16 32) (v35 : IVec S16 32) (v3284 : IVec S16 32) (v3285 : IVec S16 32) (v3363 : IVec S16 32) : Prop :=
  (∀ a x, ((![v3284, v3285, v3363, v33] : Fin 4 → IVec S16 32) a x).toNat < S2x4x94x96.size a) ∧
  (∀ a x, ((![v3284, v3285, v3363, v35] : Fin 4 → IVec S16 32) a x).toNat < S2x4x94x96.size a)
theorem k0_idx1123_inb : ∀ (v33 : IVec S16 32) (v35 : IVec S16 32) (v3284 : IVec S16 32) (v3285 : IVec S16 32) (v3363 : IVec S16 32) (k0_hw855 : k0_chk855 v33 v35 v3284 v3285 v3363), ∀ a x, ((![v3284, v3285, v3363, v33] : Fin 4 → IVec S16 32) a x).toNat < S2x4x94x96.size a := fun v33 v35 v3284 v3285 v3363 k0_hw855 => k0_hw855.1
theorem k0_idx1124_inb : ∀ (v33 : IVec S16 32) (v35 : IVec S16 32) (v3284 : IVec S16 32) (v3285 : IVec S16 32) (v3363 : IVec S16 32) (k0_hw855 : k0_chk855 v33 v35 v3284 v3285 v3363), ∀ a x, ((![v3284, v3285, v3363, v35] : Fin 4 → IVec S16 32) a x).toNat < S2x4x94x96.size a := fun v33 v35 v3284 v3285 v3363 k0_hw855 => k0_hw855.2

def k0_chk856 (v30 : IVec S16 32) (v3284 : IVec S16 32) (v3285 : IVec S16 32) (v3364 : IVec S16 32) : Prop :=
  (∀ a x, ((![v3284, v3285, v3364, v30] : Fin 4 → IVec S16 32) a x).toNat < S2x4x32x32.size a)
theorem k0_idx1125_inb : ∀ (v30 : IVec S16 32) (v3284 : IVec S16 32) (v3285 : IVec S16 32) (v3364 : IVec S16 32) (k0_hw856 : k0_chk856 v30 v3284 v3285 v3364), ∀ a x, ((![v3284, v3285, v3364, v30] : Fin 4 → IVec S16 32) a x).toNat < S2x4x32x32.size a := fun v30 v3284 v3285 v3364 k0_hw856 => k0_hw856

def k0_chk857 (v3284 : IVec S16 32) (v3285 : IVec S16 32) (v3364 : IVec S16 32) (v3367 : IVec S16 32) : Prop :=
  (∀ a x, ((![v3284, v3285, v3364, v3367] : Fin 4 → IVec S16 32) a x).toNat < S2x4x32x32.size a)
theorem k0_idx1126_inb : ∀ (v3284 : IVec S16 32) (v3285 : IVec S16 32) (v3364 : IVec S16 32) (v3367 : IVec S16 32) (k0_hw857 : k0_chk857 v3284 v3285 v3364 v3367), ∀ a x, ((![v3284, v3285, v3364, v3367] : Fin 4 → IVec S16 32) a x).toNat < S2x4x32x32.size a := fun v3284 v3285 v3364 v3367 k0_hw857 => k0_hw857

def k0_chk858 (v33 : IVec S16 32) (v35 : IVec S16 32) (v3284 : IVec S16 32) (v3285 : IVec S16 32) (v3369 : IVec S16 32) : Prop :=
  (∀ a x, ((![v3284, v3285, v3369, v33] : Fin 4 → IVec S16 32) a x).toNat < S2x4x94x96.size a) ∧
  (∀ a x, ((![v3284, v3285, v3369, v35] : Fin 4 → IVec S16 32) a x).toNat < S2x4x94x96.size a)
theorem k0_idx1127_inb : ∀ (v33 : IVec S16 32) (v35 : IVec S16 32) (v3284 : IVec S16 32) (v3285 : IVec S16 32) (v3369 : IVec S16 32) (k0_hw858 : k0_chk858 v33 v35 v3284 v3285 v3369), ∀ a x, ((![v3284, v3285, v3369, v33] : Fin 4 → IVec S16 32) a x).toNat < S2x4x94x96.size a := fun v33 v35 v3284 v3285 v3369 k0_hw858 => k0_hw858.1
theorem k0_idx1128_inb : ∀ (v33 : IVec S16 32) (v35 : IVec S16 32) (v3284 : IVec S16 32) (v3285 : IVec S16 32) (v3369 : IVec S16 32) (k0_hw858 : k0_chk858 v33 v35 v3284 v3285 v3369), ∀ a x, ((![v3284, v3285, v3369, v35] : Fin 4 → IVec S16 32) a x).toNat < S2x4x94x96.size a := fun v33 v35 v3284 v3285 v3369 k0_hw858 => k0_hw858.2

def k0_chk859 (v30 : IVec S16 32) (v3284 : IVec S16 32) (v3285 : IVec S16 32) (v3370 : IVec S16 32) : Prop :=
  (∀ a x, ((![v3284, v3285, v3370, v30] : Fin 4 → IVec S16 32) a x).toNat < S2x4x32x32.size a)
theorem k0_idx1129_inb : ∀ (v30 : IVec S16 32) (v3284 : IVec S16 32) (v3285 : IVec S16 32) (v3370 : IVec S16 32) (k0_hw859 : k0_chk859 v30 v3284 v3285 v3370), ∀ a x, ((![v3284, v3285, v3370, v30] : Fin 4 → IVec S16 32) a x).toNat < S2x4x32x32.size a := fun v30 v3284 v3285 v3370 k0_hw859 => k0_hw859

def k0_chk860 (v3284 : IVec S16 32) (v3285 : IVec S16 32) (v3370 : IVec S16 32) (v3373 : IVec S16 32) : Prop :=
  (∀ a x, ((![v3284, v3285, v3370, v3373] : Fin 4 → IVec S16 32) a x).toNat < S2x4x32x32.size a)
theorem k0_idx1130_inb : ∀ (v3284 : IVec S16 32) (v3285 : IVec S16 32) (v3370 : IVec S16 32) (v3373 : IVec S16 32) (k0_hw860 : k0_chk860 v3284 v3285 v3370 v3373), ∀ a x, ((![v3284, v3285, v3370, v3373] : Fin 4 → IVec S16 32) a x).toNat < S2x4x32x32.size a := fun v3284 v3285 v3370 v3373 k0_hw860 => k0_hw860

def k0_chk861 (v33 : IVec S16 32) (v35 : IVec S16 32) (v3284 : IVec S16 32) (v3285 : IVec S16 32) (v3375 : IVec S16 32) : Prop :=
  (∀ a x, ((![v3284, v3285, v3375, v33] : Fin 4 → IVec S16 32) a x).toNat < S2x4x94x96.size a) ∧
  (∀ a x, ((![v3284, v3285, v3375, v35] : Fin 4 → IVec S16 32) a x).toNat < S2x4x94x96.size a)
theorem k0_idx1131_inb : ∀ (v33 : IVec S16 32) (v35 : IVec S16 32) (v3284 : IVec S16 32) (v3285 : IVec S16 32) (v3375 : IVec S16 32) (k0_hw861 : k0_chk861 v33 v35 v3284 v3285 v3375), ∀ a x, ((![v3284, v3285, v3375, v33] : Fin 4 → IVec S16 32) a x).toNat < S2x4x94x96.size a := fun v33 v35 v3284 v3285 v3375 k0_hw861 => k0_hw861.1
theorem k0_idx1132_inb : ∀ (v33 : IVec S16 32) (v35 : IVec S16 32) (v3284 : IVec S16 32) (v3285 : IVec S16 32) (v3375 : IVec S16 32) (k0_hw861 : k0_chk861 v33 v35 v3284 v3285 v3375), ∀ a x, ((![v3284, v3285, v3375, v35] : Fin 4 → IVec S16 32) a x).toNat < S2x4x94x96.size a := fun v33 v35 v3284 v3285 v3375 k0_hw861 => k0_hw861.2

def k0_chk862 (v30 : IVec S16 32) (v3284 : IVec S16 32) (v3285 : IVec S16 32) (v3376 : IVec S16 32) : Prop :=
  (∀ a x, ((![v3284, v3285, v3376, v30] : Fin 4 → IVec S16 32) a x).toNat < S2x4x32x32.size a)
theorem k0_idx1133_inb : ∀ (v30 : IVec S16 32) (v3284 : IVec S16 32) (v3285 : IVec S16 32) (v3376 : IVec S16 32) (k0_hw862 : k0_chk862 v30 v3284 v3285 v3376), ∀ a x, ((![v3284, v3285, v3376, v30] : Fin 4 → IVec S16 32) a x).toNat < S2x4x32x32.size a := fun v30 v3284 v3285 v3376 k0_hw862 => k0_hw862

def k0_chk863 (v3284 : IVec S16 32) (v3285 : IVec S16 32) (v3376 : IVec S16 32) (v3379 : IVec S16 32) : Prop :=
  (∀ a x, ((![v3284, v3285, v3376, v3379] : Fin 4 → IVec S16 32) a x).toNat < S2x4x32x32.size a)
theorem k0_idx1134_inb : ∀ (v3284 : IVec S16 32) (v3285 : IVec S16 32) (v3376 : IVec S16 32) (v3379 : IVec S16 32) (k0_hw863 : k0_chk863 v3284 v3285 v3376 v3379), ∀ a x, ((![v3284, v3285, v3376, v3379] : Fin 4 → IVec S16 32) a x).toNat < S2x4x32x32.size a := fun v3284 v3285 v3376 v3379 k0_hw863 => k0_hw863

def k0_chk864 (v33 : IVec S16 32) (v35 : IVec S16 32) (v3284 : IVec S16 32) (v3285 : IVec S16 32) (v3381 : IVec S16 32) : Prop :=
  (∀ a x, ((![v3284, v3285, v3381, v33] : Fin 4 → IVec S16 32) a x).toNat < S2x4x94x96.size a) ∧
  (∀ a x, ((![v3284, v3285, v3381, v35] : Fin 4 → IVec S16 32) a x).toNat < S2x4x94x96.size a)
theorem k0_idx1135_inb : ∀ (v33 : IVec S16 32) (v35 : IVec S16 32) (v3284 : IVec S16 32) (v3285 : IVec S16 32) (v3381 : IVec S16 32) (k0_hw864 : k0_chk864 v33 v35 v3284 v3285 v3381), ∀ a x, ((![v3284, v3285, v3381, v33] : Fin 4 → IVec S16 32) a x).toNat < S2x4x94x96.size a := fun v33 v35 v3284 v3285 v3381 k0_hw864 => k0_hw864.1
theorem k0_idx1136_inb : ∀ (v33 : IVec S16 32) (v35 : IVec S16 32) (v3284 : IVec S16 32) (v3285 : IVec S16 32) (v3381 : IVec S16 32) (k0_hw864 : k0_chk864 v33 v35 v3284 v3285 v3381), ∀ a x, ((![v3284, v3285, v3381, v35] : Fin 4 → IVec S16 32) a x).toNat < S2x4x94x96.size a := fun v33 v35 v3284 v3285 v3381 k0_hw864 => k0_hw864.2

def k0_chk865 (v30 : IVec S16 32) (v3284 : IVec S16 32) (v3285 : IVec S16 32) (v3382 : IVec S16 32) : Prop :=
  (∀ a x, ((![v3284, v3285, v3382, v30] : Fin 4 → IVec S16 32) a x).toNat < S2x4x32x32.size a)
theorem k0_idx1137_inb : ∀ (v30 : IVec S16 32) (v3284 : IVec S16 32) (v3285 : IVec S16 32) (v3382 : IVec S16 32) (k0_hw865 : k0_chk865 v30 v3284 v3285 v3382), ∀ a x, ((![v3284, v3285, v3382, v30] : Fin 4 → IVec S16 32) a x).toNat < S2x4x32x32.size a := fun v30 v3284 v3285 v3382 k0_hw865 => k0_hw865

def k0_chk866 (v3284 : IVec S16 32) (v3285 : IVec S16 32) (v3382 : IVec S16 32) (v3385 : IVec S16 32) : Prop :=
  (∀ a x, ((![v3284, v3285, v3382, v3385] : Fin 4 → IVec S16 32) a x).toNat < S2x4x32x32.size a)
theorem k0_idx1138_inb : ∀ (v3284 : IVec S16 32) (v3285 : IVec S16 32) (v3382 : IVec S16 32) (v3385 : IVec S16 32) (k0_hw866 : k0_chk866 v3284 v3285 v3382 v3385), ∀ a x, ((![v3284, v3285, v3382, v3385] : Fin 4 → IVec S16 32) a x).toNat < S2x4x32x32.size a := fun v3284 v3285 v3382 v3385 k0_hw866 => k0_hw866

def k0_chk867 (v33 : IVec S16 32) (v35 : IVec S16 32) (v3284 : IVec S16 32) (v3285 : IVec S16 32) (v3387 : IVec S16 32) : Prop :=
  (∀ a x, ((![v3284, v3285, v3387, v33] : Fin 4 → IVec S16 32) a x).toNat < S2x4x94x96.size a) ∧
  (∀ a x, ((![v3284, v3285, v3387, v35] : Fin 4 → IVec S16 32) a x).toNat < S2x4x94x96.size a)
theorem k0_idx1139_inb : ∀ (v33 : IVec S16 32) (v35 : IVec S16 32) (v3284 : IVec S16 32) (v3285 : IVec S16 32) (v3387 : IVec S16 32) (k0_hw867 : k0_chk867 v33 v35 v3284 v3285 v3387), ∀ a x, ((![v3284, v3285, v3387, v33] : Fin 4 → IVec S16 32) a x).toNat < S2x4x94x96.size a := fun v33 v35 v3284 v3285 v3387 k0_hw867 => k0_hw867.1
theorem k0_idx1140_inb : ∀ (v33 : IVec S16 32) (v35 : IVec S16 32) (v3284 : IVec S16 32) (v3285 : IVec S16 32) (v3387 : IVec S16 32) (k0_hw867 : k0_chk867 v33 v35 v3284 v3285 v3387), ∀ a x, ((![v3284, v3285, v3387, v35] : Fin 4 → IVec S16 32) a x).toNat < S2x4x94x96.size a := fun v33 v35 v3284 v3285 v3387 k0_hw867 => k0_hw867.2

def k0_chk868 (v30 : IVec S16 32) (v3284 : IVec S16 32) (v3285 : IVec S16 32) (v3388 : IVec S16 32) : Prop :=
  (∀ a x, ((![v3284, v3285, v3388, v30] : Fin 4 → IVec S16 32) a x).toNat < S2x4x32x32.size a)
theorem k0_idx1141_inb : ∀ (v30 : IVec S16 32) (v3284 : IVec S16 32) (v3285 : IVec S16 32) (v3388 : IVec S16 32) (k0_hw868 : k0_chk868 v30 v3284 v3285 v3388), ∀ a x, ((![v3284, v3285, v3388, v30] : Fin 4 → IVec S16 32) a x).toNat < S2x4x32x32.size a := fun v30 v3284 v3285 v3388 k0_hw868 => k0_hw868

def k0_chk869 (v3284 : IVec S16 32) (v3285 : IVec S16 32) (v3388 : IVec S16 32) (v3391 : IVec S16 32) : Prop :=
  (∀ a x, ((![v3284, v3285, v3388, v3391] : Fin 4 → IVec S16 32) a x).toNat < S2x4x32x32.size a)
theorem k0_idx1142_inb : ∀ (v3284 : IVec S16 32) (v3285 : IVec S16 32) (v3388 : IVec S16 32) (v3391 : IVec S16 32) (k0_hw869 : k0_chk869 v3284 v3285 v3388 v3391), ∀ a x, ((![v3284, v3285, v3388, v3391] : Fin 4 → IVec S16 32) a x).toNat < S2x4x32x32.size a := fun v3284 v3285 v3388 v3391 k0_hw869 => k0_hw869

def k0_chk870 (v33 : IVec S16 32) (v35 : IVec S16 32) (v3284 : IVec S16 32) (v3285 : IVec S16 32) (v3393 : IVec S16 32) : Prop :=
  (∀ a x, ((![v3284, v3285, v3393, v33] : Fin 4 → IVec S16 32) a x).toNat < S2x4x94x96.size a) ∧
  (∀ a x, ((![v3284, v3285, v3393, v35] : Fin 4 → IVec S16 32) a x).toNat < S2x4x94x96.size a)
theorem k0_idx1143_inb : ∀ (v33 : IVec S16 32) (v35 : IVec S16 32) (v3284 : IVec S16 32) (v3285 : IVec S16 32) (v3393 : IVec S16 32) (k0_hw870 : k0_chk870 v33 v35 v3284 v3285 v3393), ∀ a x, ((![v3284, v3285, v3393, v33] : Fin 4 → IVec S16 32) a x).toNat < S2x4x94x96.size a := fun v33 v35 v3284 v3285 v3393 k0_hw870 => k0_hw870.1
theorem k0_idx1144_inb : ∀ (v33 : IVec S16 32) (v35 : IVec S16 32) (v3284 : IVec S16 32) (v3285 : IVec S16 32) (v3393 : IVec S16 32) (k0_hw870 : k0_chk870 v33 v35 v3284 v3285 v3393), ∀ a x, ((![v3284, v3285, v3393, v35] : Fin 4 → IVec S16 32) a x).toNat < S2x4x94x96.size a := fun v33 v35 v3284 v3285 v3393 k0_hw870 => k0_hw870.2

def k0_chk871 (v30 : IVec S16 32) (v3284 : IVec S16 32) (v3285 : IVec S16 32) (v3394 : IVec S16 32) : Prop :=
  (∀ a x, ((![v3284, v3285, v3394, v30] : Fin 4 → IVec S16 32) a x).toNat < S2x4x32x32.size a)
theorem k0_idx1145_inb : ∀ (v30 : IVec S16 32) (v3284 : IVec S16 32) (v3285 : IVec S16 32) (v3394 : IVec S16 32) (k0_hw871 : k0_chk871 v30 v3284 v3285 v3394), ∀ a x, ((![v3284, v3285, v3394, v30] : Fin 4 → IVec S16 32) a x).toNat < S2x4x32x32.size a := fun v30 v3284 v3285 v3394 k0_hw871 => k0_hw871

def k0_chk872 (v3284 : IVec S16 32) (v3285 : IVec S16 32) (v3394 : IVec S16 32) (v3397 : IVec S16 32) : Prop :=
  (∀ a x, ((![v3284, v3285, v3394, v3397] : Fin 4 → IVec S16 32) a x).toNat < S2x4x32x32.size a)
theorem k0_idx1146_inb : ∀ (v3284 : IVec S16 32) (v3285 : IVec S16 32) (v3394 : IVec S16 32) (v3397 : IVec S16 32) (k0_hw872 : k0_chk872 v3284 v3285 v3394 v3397), ∀ a x, ((![v3284, v3285, v3394, v3397] : Fin 4 → IVec S16 32) a x).toNat < S2x4x32x32.size a := fun v3284 v3285 v3394 v3397 k0_hw872 => k0_hw872

def k0_chk873 (v33 : IVec S16 32) (v35 : IVec S16 32) (v3284 : IVec S16 32) (v3285 : IVec S16 32) (v3399 : IVec S16 32) : Prop :=
  (∀ a x, ((![v3284, v3285, v3399, v33] : Fin 4 → IVec S16 32) a x).toNat < S2x4x94x96.size a) ∧
  (∀ a x, ((![v3284, v3285, v3399, v35] : Fin 4 → IVec S16 32) a x).toNat < S2x4x94x96.size a)
theorem k0_idx1147_inb : ∀ (v33 : IVec S16 32) (v35 : IVec S16 32) (v3284 : IVec S16 32) (v3285 : IVec S16 32) (v3399 : IVec S16 32) (k0_hw873 : k0_chk873 v33 v35 v3284 v3285 v3399), ∀ a x, ((![v3284, v3285, v3399, v33] : Fin 4 → IVec S16 32) a x).toNat < S2x4x94x96.size a := fun v33 v35 v3284 v3285 v3399 k0_hw873 => k0_hw873.1
theorem k0_idx1148_inb : ∀ (v33 : IVec S16 32) (v35 : IVec S16 32) (v3284 : IVec S16 32) (v3285 : IVec S16 32) (v3399 : IVec S16 32) (k0_hw873 : k0_chk873 v33 v35 v3284 v3285 v3399), ∀ a x, ((![v3284, v3285, v3399, v35] : Fin 4 → IVec S16 32) a x).toNat < S2x4x94x96.size a := fun v33 v35 v3284 v3285 v3399 k0_hw873 => k0_hw873.2

def k0_chk874 (v30 : IVec S16 32) (v3284 : IVec S16 32) (v3285 : IVec S16 32) (v3400 : IVec S16 32) : Prop :=
  (∀ a x, ((![v3284, v3285, v3400, v30] : Fin 4 → IVec S16 32) a x).toNat < S2x4x32x32.size a)
theorem k0_idx1149_inb : ∀ (v30 : IVec S16 32) (v3284 : IVec S16 32) (v3285 : IVec S16 32) (v3400 : IVec S16 32) (k0_hw874 : k0_chk874 v30 v3284 v3285 v3400), ∀ a x, ((![v3284, v3285, v3400, v30] : Fin 4 → IVec S16 32) a x).toNat < S2x4x32x32.size a := fun v30 v3284 v3285 v3400 k0_hw874 => k0_hw874

def k0_chk875 (v3284 : IVec S16 32) (v3285 : IVec S16 32) (v3400 : IVec S16 32) (v3403 : IVec S16 32) : Prop :=
  (∀ a x, ((![v3284, v3285, v3400, v3403] : Fin 4 → IVec S16 32) a x).toNat < S2x4x32x32.size a)
theorem k0_idx1150_inb : ∀ (v3284 : IVec S16 32) (v3285 : IVec S16 32) (v3400 : IVec S16 32) (v3403 : IVec S16 32) (k0_hw875 : k0_chk875 v3284 v3285 v3400 v3403), ∀ a x, ((![v3284, v3285, v3400, v3403] : Fin 4 → IVec S16 32) a x).toNat < S2x4x32x32.size a := fun v3284 v3285 v3400 v3403 k0_hw875 => k0_hw875

def k0_chk876 (v33 : IVec S16 32) (v35 : IVec S16 32) (v3284 : IVec S16 32) (v3285 : IVec S16 32) (v3405 : IVec S16 32) : Prop :=
  (∀ a x, ((![v3284, v3285, v3405, v33] : Fin 4 → IVec S16 32) a x).toNat < S2x4x94x96.size a) ∧
  (∀ a x, ((![v3284, v3285, v3405, v35] : Fin 4 → IVec S16 32) a x).toNat < S2x4x94x96.size a)
theorem k0_idx1151_inb : ∀ (v33 : IVec S16 32) (v35 : IVec S16 32) (v3284 : IVec S16 32) (v3285 : IVec S16 32) (v3405 : IVec S16 32) (k0_hw876 : k0_chk876 v33 v35 v3284 v3285 v3405), ∀ a x, ((![v3284, v3285, v3405, v33] : Fin 4 → IVec S16 32) a x).toNat < S2x4x94x96.size a := fun v33 v35 v3284 v3285 v3405 k0_hw876 => k0_hw876.1
theorem k0_idx1152_inb : ∀ (v33 : IVec S16 32) (v35 : IVec S16 32) (v3284 : IVec S16 32) (v3285 : IVec S16 32) (v3405 : IVec S16 32) (k0_hw876 : k0_chk876 v33 v35 v3284 v3285 v3405), ∀ a x, ((![v3284, v3285, v3405, v35] : Fin 4 → IVec S16 32) a x).toNat < S2x4x94x96.size a := fun v33 v35 v3284 v3285 v3405 k0_hw876 => k0_hw876.2

def k0_chk877 (v30 : IVec S16 32) (v3284 : IVec S16 32) (v3285 : IVec S16 32) (v3406 : IVec S16 32) : Prop :=
  (∀ a x, ((![v3284, v3285, v3406, v30] : Fin 4 → IVec S16 32) a x).toNat < S2x4x32x32.size a)
theorem k0_idx1153_inb : ∀ (v30 : IVec S16 32) (v3284 : IVec S16 32) (v3285 : IVec S16 32) (v3406 : IVec S16 32) (k0_hw877 : k0_chk877 v30 v3284 v3285 v3406), ∀ a x, ((![v3284, v3285, v3406, v30] : Fin 4 → IVec S16 32) a x).toNat < S2x4x32x32.size a := fun v30 v3284 v3285 v3406 k0_hw877 => k0_hw877

def k0_chk878 (v3284 : IVec S16 32) (v3285 : IVec S16 32) (v3406 : IVec S16 32) (v3409 : IVec S16 32) : Prop :=
  (∀ a x, ((![v3284, v3285, v3406, v3409] : Fin 4 → IVec S16 32) a x).toNat < S2x4x32x32.size a)
theorem k0_idx1154_inb : ∀ (v3284 : IVec S16 32) (v3285 : IVec S16 32) (v3406 : IVec S16 32) (v3409 : IVec S16 32) (k0_hw878 : k0_chk878 v3284 v3285 v3406 v3409), ∀ a x, ((![v3284, v3285, v3406, v3409] : Fin 4 → IVec S16 32) a x).toNat < S2x4x32x32.size a := fun v3284 v3285 v3406 v3409 k0_hw878 => k0_hw878

def k0_chk879 (v33 : IVec S16 32) (v35 : IVec S16 32) (v3284 : IVec S16 32) (v3285 : IVec S16 32) (v3411 : IVec S16 32) : Prop :=
  (∀ a x, ((![v3284, v3285, v3411, v33] : Fin 4 → IVec S16 32) a x).toNat < S2x4x94x96.size a) ∧
  (∀ a x, ((![v3284, v3285, v3411, v35] : Fin 4 → IVec S16 32) a x).toNat < S2x4x94x96.size a)
theorem k0_idx1155_inb : ∀ (v33 : IVec S16 32) (v35 : IVec S16 32) (v3284 : IVec S16 32) (v3285 : IVec S16 32) (v3411 : IVec S16 32) (k0_hw879 : k0_chk879 v33 v35 v3284 v3285 v3411), ∀ a x, ((![v3284, v3285, v3411, v33] : Fin 4 → IVec S16 32) a x).toNat < S2x4x94x96.size a := fun v33 v35 v3284 v3285 v3411 k0_hw879 => k0_hw879.1
theorem k0_idx1156_inb : ∀ (v33 : IVec S16 32) (v35 : IVec S16 32) (v3284 : IVec S16 32) (v3285 : IVec S16 32) (v3411 : IVec S16 32) (k0_hw879 : k0_chk879 v33 v35 v3284 v3285 v3411), ∀ a x, ((![v3284, v3285, v3411, v35] : Fin 4 → IVec S16 32) a x).toNat < S2x4x94x96.size a := fun v33 v35 v3284 v3285 v3411 k0_hw879 => k0_hw879.2

def k0_chk880 (v30 : IVec S16 32) (v3284 : IVec S16 32) (v3285 : IVec S16 32) (v3412 : IVec S16 32) : Prop :=
  (∀ a x, ((![v3284, v3285, v3412, v30] : Fin 4 → IVec S16 32) a x).toNat < S2x4x32x32.size a)
theorem k0_idx1157_inb : ∀ (v30 : IVec S16 32) (v3284 : IVec S16 32) (v3285 : IVec S16 32) (v3412 : IVec S16 32) (k0_hw880 : k0_chk880 v30 v3284 v3285 v3412), ∀ a x, ((![v3284, v3285, v3412, v30] : Fin 4 → IVec S16 32) a x).toNat < S2x4x32x32.size a := fun v30 v3284 v3285 v3412 k0_hw880 => k0_hw880

def k0_chk881 (v3284 : IVec S16 32) (v3285 : IVec S16 32) (v3412 : IVec S16 32) (v3415 : IVec S16 32) : Prop :=
  (∀ a x, ((![v3284, v3285, v3412, v3415] : Fin 4 → IVec S16 32) a x).toNat < S2x4x32x32.size a)
theorem k0_idx1158_inb : ∀ (v3284 : IVec S16 32) (v3285 : IVec S16 32) (v3412 : IVec S16 32) (v3415 : IVec S16 32) (k0_hw881 : k0_chk881 v3284 v3285 v3412 v3415), ∀ a x, ((![v3284, v3285, v3412, v3415] : Fin 4 → IVec S16 32) a x).toNat < S2x4x32x32.size a := fun v3284 v3285 v3412 v3415 k0_hw881 => k0_hw881

def k0_chk882 (v33 : IVec S16 32) (v35 : IVec S16 32) (v3284 : IVec S16 32) (v3285 : IVec S16 32) (v3417 : IVec S16 32) : Prop :=
  (∀ a x, ((![v3284, v3285, v3417, v33] : Fin 4 → IVec S16 32) a x).toNat < S2x4x94x96.size a) ∧
  (∀ a x, ((![v3284, v3285, v3417, v35] : Fin 4 → IVec S16 32) a x).toNat < S2x4x94x96.size a)
theorem k0_idx1159_inb : ∀ (v33 : IVec S16 32) (v35 : IVec S16 32) (v3284 : IVec S16 32) (v3285 : IVec S16 32) (v3417 : IVec S16 32) (k0_hw882 : k0_chk882 v33 v35 v3284 v3285 v3417), ∀ a x, ((![v3284, v3285, v3417, v33] : Fin 4 → IVec S16 32) a x).toNat < S2x4x94x96.size a := fun v33 v35 v3284 v3285 v3417 k0_hw882 => k0_hw882.1
theorem k0_idx1160_inb : ∀ (v33 : IVec S16 32) (v35 : IVec S16 32) (v3284 : IVec S16 32) (v3285 : IVec S16 32) (v3417 : IVec S16 32) (k0_hw882 : k0_chk882 v33 v35 v3284 v3285 v3417), ∀ a x, ((![v3284, v3285, v3417, v35] : Fin 4 → IVec S16 32) a x).toNat < S2x4x94x96.size a := fun v33 v35 v3284 v3285 v3417 k0_hw882 => k0_hw882.2

def k0_chk883 (v30 : IVec S16 32) (v3284 : IVec S16 32) (v3285 : IVec S16 32) (v3418 : IVec S16 32) : Prop :=
  (∀ a x, ((![v3284, v3285, v3418, v30] : Fin 4 → IVec S16 32) a x).toNat < S2x4x32x32.size a)
theorem k0_idx1161_inb : ∀ (v30 : IVec S16 32) (v3284 : IVec S16 32) (v3285 : IVec S16 32) (v3418 : IVec S16 32) (k0_hw883 : k0_chk883 v30 v3284 v3285 v3418), ∀ a x, ((![v3284, v3285, v3418, v30] : Fin 4 → IVec S16 32) a x).toNat < S2x4x32x32.size a := fun v30 v3284 v3285 v3418 k0_hw883 => k0_hw883

def k0_chk884 (v3284 : IVec S16 32) (v3285 : IVec S16 32) (v3418 : IVec S16 32) (v3421 : IVec S16 32) : Prop :=
  (∀ a x, ((![v3284, v3285, v3418, v3421] : Fin 4 → IVec S16 32) a x).toNat < S2x4x32x32.size a)
theorem k0_idx1162_inb : ∀ (v3284 : IVec S16 32) (v3285 : IVec S16 32) (v3418 : IVec S16 32) (v3421 : IVec S16 32) (k0_hw884 : k0_chk884 v3284 v3285 v3418 v3421), ∀ a x, ((![v3284, v3285, v3418, v3421] : Fin 4 → IVec S16 32) a x).toNat < S2x4x32x32.size a := fun v3284 v3285 v3418 v3421 k0_hw884 => k0_hw884

def k0_chk885 (v33 : IVec S16 32) (v35 : IVec S16 32) (v3284 : IVec S16 32) (v3285 : IVec S16 32) (v3423 : IVec S16 32) : Prop :=
  (∀ a x, ((![v3284, v3285, v3423, v33] : Fin 4 → IVec S16 32) a x).toNat < S2x4x94x96.size a) ∧
  (∀ a x, ((![v3284, v3285, v3423, v35] : Fin 4 → IVec S16 32) a x).toNat < S2x4x94x96.size a)
theorem k0_idx1163_inb : ∀ (v33 : IVec S16 32) (v35 : IVec S16 32) (v3284 : IVec S16 32) (v3285 : IVec S16 32) (v3423 : IVec S16 32) (k0_hw885 : k0_chk885 v33 v35 v3284 v3285 v3423), ∀ a x, ((![v3284, v3285, v3423, v33] : Fin 4 → IVec S16 32) a x).toNat < S2x4x94x96.size a := fun v33 v35 v3284 v3285 v3423 k0_hw885 => k0_hw885.1
theorem k0_idx1164_inb : ∀ (v33 : IVec S16 32) (v35 : IVec S16 32) (v3284 : IVec S16 32) (v3285 : IVec S16 32) (v3423 : IVec S16 32) (k0_hw885 : k0_chk885 v33 v35 v3284 v3285 v3423), ∀ a x, ((![v3284, v3285, v3423, v35] : Fin 4 → IVec S16 32) a x).toNat < S2x4x94x96.size a := fun v33 v35 v3284 v3285 v3423 k0_hw885 => k0_hw885.2

def k0_chk886 (v30 : IVec S16 32) (v3284 : IVec S16 32) (v3285 : IVec S16 32) (v3424 : IVec S16 32) : Prop :=
  (∀ a x, ((![v3284, v3285, v3424, v30] : Fin 4 → IVec S16 32) a x).toNat < S2x4x32x32.size a)
theorem k0_idx1165_inb : ∀ (v30 : IVec S16 32) (v3284 : IVec S16 32) (v3285 : IVec S16 32) (v3424 : IVec S16 32) (k0_hw886 : k0_chk886 v30 v3284 v3285 v3424), ∀ a x, ((![v3284, v3285, v3424, v30] : Fin 4 → IVec S16 32) a x).toNat < S2x4x32x32.size a := fun v30 v3284 v3285 v3424 k0_hw886 => k0_hw886

def k0_chk887 (v3284 : IVec S16 32) (v3285 : IVec S16 32) (v3424 : IVec S16 32) (v3427 : IVec S16 32) : Prop :=
  (∀ a x, ((![v3284, v3285, v3424, v3427] : Fin 4 → IVec S16 32) a x).toNat < S2x4x32x32.size a)
theorem k0_idx1166_inb : ∀ (v3284 : IVec S16 32) (v3285 : IVec S16 32) (v3424 : IVec S16 32) (v3427 : IVec S16 32) (k0_hw887 : k0_chk887 v3284 v3285 v3424 v3427), ∀ a x, ((![v3284, v3285, v3424, v3427] : Fin 4 → IVec S16 32) a x).toNat < S2x4x32x32.size a := fun v3284 v3285 v3424 v3427 k0_hw887 => k0_hw887

def k0_chk888 (v33 : IVec S16 32) (v35 : IVec S16 32) (v3284 : IVec S16 32) (v3285 : IVec S16 32) (v3429 : IVec S16 32) : Prop :=
  (∀ a x, ((![v3284, v3285, v3429, v33] : Fin 4 → IVec S16 32) a x).toNat < S2x4x94x96.size a) ∧
  (∀ a x, ((![v3284, v3285, v3429, v35] : Fin 4 → IVec S16 32) a x).toNat < S2x4x94x96.size a)
theorem k0_idx1167_inb : ∀ (v33 : IVec S16 32) (v35 : IVec S16 32) (v3284 : IVec S16 32) (v3285 : IVec S16 32) (v3429 : IVec S16 32) (k0_hw888 : k0_chk888 v33 v35 v3284 v3285 v3429), ∀ a x, ((![v3284, v3285, v3429, v33] : Fin 4 → IVec S16 32) a x).toNat < S2x4x94x96.size a := fun v33 v35 v3284 v3285 v3429 k0_hw888 => k0_hw888.1
theorem k0_idx1168_inb : ∀ (v33 : IVec S16 32) (v35 : IVec S16 32) (v3284 : IVec S16 32) (v3285 : IVec S16 32) (v3429 : IVec S16 32) (k0_hw888 : k0_chk888 v33 v35 v3284 v3285 v3429), ∀ a x, ((![v3284, v3285, v3429, v35] : Fin 4 → IVec S16 32) a x).toNat < S2x4x94x96.size a := fun v33 v35 v3284 v3285 v3429 k0_hw888 => k0_hw888.2

def k0_chk889 (v30 : IVec S16 32) (v3284 : IVec S16 32) (v3285 : IVec S16 32) (v3430 : IVec S16 32) : Prop :=
  (∀ a x, ((![v3284, v3285, v3430, v30] : Fin 4 → IVec S16 32) a x).toNat < S2x4x32x32.size a)
theorem k0_idx1169_inb : ∀ (v30 : IVec S16 32) (v3284 : IVec S16 32) (v3285 : IVec S16 32) (v3430 : IVec S16 32) (k0_hw889 : k0_chk889 v30 v3284 v3285 v3430), ∀ a x, ((![v3284, v3285, v3430, v30] : Fin 4 → IVec S16 32) a x).toNat < S2x4x32x32.size a := fun v30 v3284 v3285 v3430 k0_hw889 => k0_hw889

def k0_chk890 (v3284 : IVec S16 32) (v3285 : IVec S16 32) (v3430 : IVec S16 32) (v3433 : IVec S16 32) : Prop :=
  (∀ a x, ((![v3284, v3285, v3430, v3433] : Fin 4 → IVec S16 32) a x).toNat < S2x4x32x32.size a)
theorem k0_idx1170_inb : ∀ (v3284 : IVec S16 32) (v3285 : IVec S16 32) (v3430 : IVec S16 32) (v3433 : IVec S16 32) (k0_hw890 : k0_chk890 v3284 v3285 v3430 v3433), ∀ a x, ((![v3284, v3285, v3430, v3433] : Fin 4 → IVec S16 32) a x).toNat < S2x4x32x32.size a := fun v3284 v3285 v3430 v3433 k0_hw890 => k0_hw890

def k0_chk891 (v33 : IVec S16 32) (v35 : IVec S16 32) (v3284 : IVec S16 32) (v3285 : IVec S16 32) (v3435 : IVec S16 32) : Prop :=
  (∀ a x, ((![v3284, v3285, v3435, v33] : Fin 4 → IVec S16 32) a x).toNat < S2x4x94x96.size a) ∧
  (∀ a x, ((![v3284, v3285, v3435, v35] : Fin 4 → IVec S16 32) a x).toNat < S2x4x94x96.size a)
theorem k0_idx1171_inb : ∀ (v33 : IVec S16 32) (v35 : IVec S16 32) (v3284 : IVec S16 32) (v3285 : IVec S16 32) (v3435 : IVec S16 32) (k0_hw891 : k0_chk891 v33 v35 v3284 v3285 v3435), ∀ a x, ((![v3284, v3285, v3435, v33] : Fin 4 → IVec S16 32) a x).toNat < S2x4x94x96.size a := fun v33 v35 v3284 v3285 v3435 k0_hw891 => k0_hw891.1
theorem k0_idx1172_inb : ∀ (v33 : IVec S16 32) (v35 : IVec S16 32) (v3284 : IVec S16 32) (v3285 : IVec S16 32) (v3435 : IVec S16 32) (k0_hw891 : k0_chk891 v33 v35 v3284 v3285 v3435), ∀ a x, ((![v3284, v3285, v3435, v35] : Fin 4 → IVec S16 32) a x).toNat < S2x4x94x96.size a := fun v33 v35 v3284 v3285 v3435 k0_hw891 => k0_hw891.2

def k0_chk892 (v30 : IVec S16 32) (v3284 : IVec S16 32) (v3285 : IVec S16 32) (v3436 : IVec S16 32) : Prop :=
  (∀ a x, ((![v3284, v3285, v3436, v30] : Fin 4 → IVec S16 32) a x).toNat < S2x4x32x32.size a)
theorem k0_idx1173_inb : ∀ (v30 : IVec S16 32) (v3284 : IVec S16 32) (v3285 : IVec S16 32) (v3436 : IVec S16 32) (k0_hw892 : k0_chk892 v30 v3284 v3285 v3436), ∀ a x, ((![v3284, v3285, v3436, v30] : Fin 4 → IVec S16 32) a x).toNat < S2x4x32x32.size a := fun v30 v3284 v3285 v3436 k0_hw892 => k0_hw892

def k0_chk893 (v3284 : IVec S16 32) (v3285 : IVec S16 32) (v3436 : IVec S16 32) (v3439 : IVec S16 32) : Prop :=
  (∀ a x, ((![v3284, v3285, v3436, v3439] : Fin 4 → IVec S16 32) a x).toNat < S2x4x32x32.size a)
theorem k0_idx1174_inb : ∀ (v3284 : IVec S16 32) (v3285 : IVec S16 32) (v3436 : IVec S16 32) (v3439 : IVec S16 32) (k0_hw893 : k0_chk893 v3284 v3285 v3436 v3439), ∀ a x, ((![v3284, v3285, v3436, v3439] : Fin 4 → IVec S16 32) a x).toNat < S2x4x32x32.size a := fun v3284 v3285 v3436 v3439 k0_hw893 => k0_hw893

def k0_chk894 (v33 : IVec S16 32) (v35 : IVec S16 32) (v3284 : IVec S16 32) (v3285 : IVec S16 32) (v3441 : IVec S16 32) : Prop :=
  (∀ a x, ((![v3284, v3285, v3441, v33] : Fin 4 → IVec S16 32) a x).toNat < S2x4x94x96.size a) ∧
  (∀ a x, ((![v3284, v3285, v3441, v35] : Fin 4 → IVec S16 32) a x).toNat < S2x4x94x96.size a)
theorem k0_idx1175_inb : ∀ (v33 : IVec S16 32) (v35 : IVec S16 32) (v3284 : IVec S16 32) (v3285 : IVec S16 32) (v3441 : IVec S16 32) (k0_hw894 : k0_chk894 v33 v35 v3284 v3285 v3441), ∀ a x, ((![v3284, v3285, v3441, v33] : Fin 4 → IVec S16 32) a x).toNat < S2x4x94x96.size a := fun v33 v35 v3284 v3285 v3441 k0_hw894 => k0_hw894.1
theorem k0_idx1176_inb : ∀ (v33 : IVec S16 32) (v35 : IVec S16 32) (v3284 : IVec S16 32) (v3285 : IVec S16 32) (v3441 : IVec S16 32) (k0_hw894 : k0_chk894 v33 v35 v3284 v3285 v3441), ∀ a x, ((![v3284, v3285, v3441, v35] : Fin 4 → IVec S16 32) a x).toNat < S2x4x94x96.size a := fun v33 v35 v3284 v3285 v3441 k0_hw894 => k0_hw894.2

def k0_chk895 (v30 : IVec S16 32) (v3284 : IVec S16 32) (v3285 : IVec S16 32) (v3442 : IVec S16 32) : Prop :=
  (∀ a x, ((![v3284, v3285, v3442, v30] : Fin 4 → IVec S16 32) a x).toNat < S2x4x32x32.size a)
theorem k0_idx1177_inb : ∀ (v30 : IVec S16 32) (v3284 : IVec S16 32) (v3285 : IVec S16 32) (v3442 : IVec S16 32) (k0_hw895 : k0_chk895 v30 v3284 v3285 v3442), ∀ a x, ((![v3284, v3285, v3442, v30] : Fin 4 → IVec S16 32) a x).toNat < S2x4x32x32.size a := fun v30 v3284 v3285 v3442 k0_hw895 => k0_hw895

def k0_chk896 (v3284 : IVec S16 32) (v3285 : IVec S16 32) (v3442 : IVec S16 32) (v3445 : IVec S16 32) : Prop :=
  (∀ a x, ((![v3284, v3285, v3442, v3445] : Fin 4 → IVec S16 32) a x).toNat < S2x4x32x32.size a)
theorem k0_idx1178_inb : ∀ (v3284 : IVec S16 32) (v3285 : IVec S16 32) (v3442 : IVec S16 32) (v3445 : IVec S16 32) (k0_hw896 : k0_chk896 v3284 v3285 v3442 v3445), ∀ a x, ((![v3284, v3285, v3442, v3445] : Fin 4 → IVec S16 32) a x).toNat < S2x4x32x32.size a := fun v3284 v3285 v3442 v3445 k0_hw896 => k0_hw896

def k0_chk897 (v33 : IVec S16 32) (v35 : IVec S16 32) (v3284 : IVec S16 32) (v3285 : IVec S16 32) (v3447 : IVec S16 32) : Prop :=
  (∀ a x, ((![v3284, v3285, v3447, v33] : Fin 4 → IVec S16 32) a x).toNat < S2x4x94x96.size a) ∧
  (∀ a x, ((![v3284, v3285, v3447, v35] : Fin 4 → IVec S16 32) a x).toNat < S2x4x94x96.size a)
theorem k0_idx1179_inb : ∀ (v33 : IVec S16 32) (v35 : IVec S16 32) (v3284 : IVec S16 32) (v3285 : IVec S16 32) (v3447 : IVec S16 32) (k0_hw897 : k0_chk897 v33 v35 v3284 v3285 v3447), ∀ a x, ((![v3284, v3285, v3447, v33] : Fin 4 → IVec S16 32) a x).toNat < S2x4x94x96.size a := fun v33 v35 v3284 v3285 v3447 k0_hw897 => k0_hw897.1
theorem k0_idx1180_inb : ∀ (v33 : IVec S16 32) (v35 : IVec S16 32) (v3284 : IVec S16 32) (v3285 : IVec S16 32) (v3447 : IVec S16 32) (k0_hw897 : k0_chk897 v33 v35 v3284 v3285 v3447), ∀ a x, ((![v3284, v3285, v3447, v35] : Fin 4 → IVec S16 32) a x).toNat < S2x4x94x96.size a := fun v33 v35 v3284 v3285 v3447 k0_hw897 => k0_hw897.2

def k0_chk898 (v30 : IVec S16 32) (v3284 : IVec S16 32) (v3285 : IVec S16 32) (v3448 : IVec S16 32) : Prop :=
  (∀ a x, ((![v3284, v3285, v3448, v30] : Fin 4 → IVec S16 32) a x).toNat < S2x4x32x32.size a)
theorem k0_idx1181_inb : ∀ (v30 : IVec S16 32) (v3284 : IVec S16 32) (v3285 : IVec S16 32) (v3448 : IVec S16 32) (k0_hw898 : k0_chk898 v30 v3284 v3285 v3448), ∀ a x, ((![v3284, v3285, v3448, v30] : Fin 4 → IVec S16 32) a x).toNat < S2x4x32x32.size a := fun v30 v3284 v3285 v3448 k0_hw898 => k0_hw898

def k0_chk899 (v3284 : IVec S16 32) (v3285 : IVec S16 32) (v3448 : IVec S16 32) (v3451 : IVec S16 32) : Prop :=
  (∀ a x, ((![v3284, v3285, v3448, v3451] : Fin 4 → IVec S16 32) a x).toNat < S2x4x32x32.size a)
theorem k0_idx1182_inb : ∀ (v3284 : IVec S16 32) (v3285 : IVec S16 32) (v3448 : IVec S16 32) (v3451 : IVec S16 32) (k0_hw899 : k0_chk899 v3284 v3285 v3448 v3451), ∀ a x, ((![v3284, v3285, v3448, v3451] : Fin 4 → IVec S16 32) a x).toNat < S2x4x32x32.size a := fun v3284 v3285 v3448 v3451 k0_hw899 => k0_hw899

def k0_chk900 (v33 : IVec S16 32) (v35 : IVec S16 32) (v3284 : IVec S16 32) (v3285 : IVec S16 32) (v3453 : IVec S16 32) : Prop :=
  (∀ a x, ((![v3284, v3285, v3453, v33] : Fin 4 → IVec S16 32) a x).toNat < S2x4x94x96.size a) ∧
  (∀ a x, ((![v3284, v3285, v3453, v35] : Fin 4 → IVec S16 32) a x).toNat < S2x4x94x96.size a)
theorem k0_idx1183_inb : ∀ (v33 : IVec S16 32) (v35 : IVec S16 32) (v3284 : IVec S16 32) (v3285 : IVec S16 32) (v3453 : IVec S16 32) (k0_hw900 : k0_chk900 v33 v35 v3284 v3285 v3453), ∀ a x, ((![v3284, v3285, v3453, v33] : Fin 4 → IVec S16 32) a x).toNat < S2x4x94x96.size a := fun v33 v35 v3284 v3285 v3453 k0_hw900 => k0_hw900.1
theorem k0_idx1184_inb : ∀ (v33 : IVec S16 32) (v35 : IVec S16 32) (v3284 : IVec S16 32) (v3285 : IVec S16 32) (v3453 : IVec S16 32) (k0_hw900 : k0_chk900 v33 v35 v3284 v3285 v3453), ∀ a x, ((![v3284, v3285, v3453, v35] : Fin 4 → IVec S16 32) a x).toNat < S2x4x94x96.size a := fun v33 v35 v3284 v3285 v3453 k0_hw900 => k0_hw900.2

def k0_chk901 (v30 : IVec S16 32) (v3284 : IVec S16 32) (v3285 : IVec S16 32) (v3454 : IVec S16 32) : Prop :=
  (∀ a x, ((![v3284, v3285, v3454, v30] : Fin 4 → IVec S16 32) a x).toNat < S2x4x32x32.size a)
theorem k0_idx1185_inb : ∀ (v30 : IVec S16 32) (v3284 : IVec S16 32) (v3285 : IVec S16 32) (v3454 : IVec S16 32) (k0_hw901 : k0_chk901 v30 v3284 v3285 v3454), ∀ a x, ((![v3284, v3285, v3454, v30] : Fin 4 → IVec S16 32) a x).toNat < S2x4x32x32.size a := fun v30 v3284 v3285 v3454 k0_hw901 => k0_hw901

def k0_chk902 (v3284 : IVec S16 32) (v3285 : IVec S16 32) (v3454 : IVec S16 32) (v3457 : IVec S16 32) : Prop :=
  (∀ a x, ((![v3284, v3285, v3454, v3457] : Fin 4 → IVec S16 32) a x).toNat < S2x4x32x32.size a)
theorem k0_idx1186_inb : ∀ (v3284 : IVec S16 32) (v3285 : IVec S16 32) (v3454 : IVec S16 32) (v3457 : IVec S16 32) (k0_hw902 : k0_chk902 v3284 v3285 v3454 v3457), ∀ a x, ((![v3284, v3285, v3454, v3457] : Fin 4 → IVec S16 32) a x).toNat < S2x4x32x32.size a := fun v3284 v3285 v3454 v3457 k0_hw902 => k0_hw902

def k0_chk903 (v33 : IVec S16 32) (v35 : IVec S16 32) (v3284 : IVec S16 32) (v3285 : IVec S16 32) (v3459 : IVec S16 32) : Prop :=
  (∀ a x, ((![v3284, v3285, v3459, v33] : Fin 4 → IVec S16 32) a x).toNat < S2x4x94x96.size a) ∧
  (∀ a x, ((![v3284, v3285, v3459, v35] : Fin 4 → IVec S16 32) a x).toNat < S2x4x94x96.size a)
theorem k0_idx1187_inb : ∀ (v33 : IVec S16 32) (v35 : IVec S16 32) (v3284 : IVec S16 32) (v3285 : IVec S16 32) (v3459 : IVec S16 32) (k0_hw903 : k0_chk903 v33 v35 v3284 v3285 v3459), ∀ a x, ((![v3284, v3285, v3459, v33] : Fin 4 → IVec S16 32) a x).toNat < S2x4x94x96.size a := fun v33 v35 v3284 v3285 v3459 k0_hw903 => k0_hw903.1
theorem k0_idx1188_inb : ∀ (v33 : IVec S16 32) (v35 : IVec S16 32) (v3284 : IVec S16 32) (v3285 : IVec S16 32) (v3459 : IVec S16 32) (k0_hw903 : k0_chk903 v33 v35 v3284 v3285 v3459), ∀ a x, ((![v3284, v3285, v3459, v35] : Fin 4 → IVec S16 32) a x).toNat < S2x4x94x96.size a := fun v33 v35 v3284 v3285 v3459 k0_hw903 => k0_hw903.2

def k0_chk904 (v30 : IVec S16 32) (v3284 : IVec S16 32) (v3285 : IVec S16 32) (v3460 : IVec S16 32) : Prop :=
  (∀ a x, ((![v3284, v3285, v3460, v30] : Fin 4 → IVec S16 32) a x).toNat < S2x4x32x32.size a)
theorem k0_idx1189_inb : ∀ (v30 : IVec S16 32) (v3284 : IVec S16 32) (v3285 : IVec S16 32) (v3460 : IVec S16 32) (k0_hw904 : k0_chk904 v30 v3284 v3285 v3460), ∀ a x, ((![v3284, v3285, v3460, v30] : Fin 4 → IVec S16 32) a x).toNat < S2x4x32x32.size a := fun v30 v3284 v3285 v3460 k0_hw904 => k0_hw904

def k0_chk905 (v3284 : IVec S16 32) (v3285 : IVec S16 32) (v3460 : IVec S16 32) (v3463 : IVec S16 32) : Prop :=
  (∀ a x, ((![v3284, v3285, v3460, v3463] : Fin 4 → IVec S16 32) a x).toNat < S2x4x32x32.size a)
theorem k0_idx1190_inb : ∀ (v3284 : IVec S16 32) (v3285 : IVec S16 32) (v3460 : IVec S16 32) (v3463 : IVec S16 32) (k0_hw905 : k0_chk905 v3284 v3285 v3460 v3463), ∀ a x, ((![v3284, v3285, v3460, v3463] : Fin 4 → IVec S16 32) a x).toNat < S2x4x32x32.size a := fun v3284 v3285 v3460 v3463 k0_hw905 => k0_hw905

def k0_chk906 (v33 : IVec S16 32) (v35 : IVec S16 32) (v3284 : IVec S16 32) (v3285 : IVec S16 32) (v3465 : IVec S16 32) : Prop :=
  (∀ a x, ((![v3284, v3285, v3465, v33] : Fin 4 → IVec S16 32) a x).toNat < S2x4x94x96.size a) ∧
  (∀ a x, ((![v3284, v3285, v3465, v35] : Fin 4 → IVec S16 32) a x).toNat < S2x4x94x96.size a)
theorem k0_idx1191_inb : ∀ (v33 : IVec S16 32) (v35 : IVec S16 32) (v3284 : IVec S16 32) (v3285 : IVec S16 32) (v3465 : IVec S16 32) (k0_hw906 : k0_chk906 v33 v35 v3284 v3285 v3465), ∀ a x, ((![v3284, v3285, v3465, v33] : Fin 4 → IVec S16 32) a x).toNat < S2x4x94x96.size a := fun v33 v35 v3284 v3285 v3465 k0_hw906 => k0_hw906.1
theorem k0_idx1192_inb : ∀ (v33 : IVec S16 32) (v35 : IVec S16 32) (v3284 : IVec S16 32) (v3285 : IVec S16 32) (v3465 : IVec S16 32) (k0_hw906 : k0_chk906 v33 v35 v3284 v3285 v3465), ∀ a x, ((![v3284, v3285, v3465, v35] : Fin 4 → IVec S16 32) a x).toNat < S2x4x94x96.size a := fun v33 v35 v3284 v3285 v3465 k0_hw906 => k0_hw906.2

def k0_chk907 (v30 : IVec S16 32) (v3284 : IVec S16 32) (v3285 : IVec S16 32) (v3466 : IVec S16 32) : Prop :=
  (∀ a x, ((![v3284, v3285, v3466, v30] : Fin 4 → IVec S16 32) a x).toNat < S2x4x32x32.size a)
theorem k0_idx1193_inb : ∀ (v30 : IVec S16 32) (v3284 : IVec S16 32) (v3285 : IVec S16 32) (v3466 : IVec S16 32) (k0_hw907 : k0_chk907 v30 v3284 v3285 v3466), ∀ a x, ((![v3284, v3285, v3466, v30] : Fin 4 → IVec S16 32) a x).toNat < S2x4x32x32.size a := fun v30 v3284 v3285 v3466 k0_hw907 => k0_hw907

def k0_chk908 (v3284 : IVec S16 32) (v3285 : IVec S16 32) (v3466 : IVec S16 32) (v3469 : IVec S16 32) : Prop :=
  (∀ a x, ((![v3284, v3285, v3466, v3469] : Fin 4 → IVec S16 32) a x).toNat < S2x4x32x32.size a)
theorem k0_idx1194_inb : ∀ (v3284 : IVec S16 32) (v3285 : IVec S16 32) (v3466 : IVec S16 32) (v3469 : IVec S16 32) (k0_hw908 : k0_chk908 v3284 v3285 v3466 v3469), ∀ a x, ((![v3284, v3285, v3466, v3469] : Fin 4 → IVec S16 32) a x).toNat < S2x4x32x32.size a := fun v3284 v3285 v3466 v3469 k0_hw908 => k0_hw908

def k0_chk909 (v33 : IVec S16 32) (v35 : IVec S16 32) (v3284 : IVec S16 32) (v3285 : IVec S16 32) (v3471 : IVec S16 32) : Prop :=
  (∀ a x, ((![v3284, v3285, v3471, v33] : Fin 4 → IVec S16 32) a x).toNat < S2x4x94x96.size a) ∧
  (∀ a x, ((![v3284, v3285, v3471, v35] : Fin 4 → IVec S16 32) a x).toNat < S2x4x94x96.size a)
theorem k0_idx1195_inb : ∀ (v33 : IVec S16 32) (v35 : IVec S16 32) (v3284 : IVec S16 32) (v3285 : IVec S16 32) (v3471 : IVec S16 32) (k0_hw909 : k0_chk909 v33 v35 v3284 v3285 v3471), ∀ a x, ((![v3284, v3285, v3471, v33] : Fin 4 → IVec S16 32) a x).toNat < S2x4x94x96.size a := fun v33 v35 v3284 v3285 v3471 k0_hw909 => k0_hw909.1
theorem k0_idx1196_inb : ∀ (v33 : IVec S16 32) (v35 : IVec S16 32) (v3284 : IVec S16 32) (v3285 : IVec S16 32) (v3471 : IVec S16 32) (k0_hw909 : k0_chk909 v33 v35 v3284 v3285 v3471), ∀ a x, ((![v3284, v3285, v3471, v35] : Fin 4 → IVec S16 32) a x).toNat < S2x4x94x96.size a := fun v33 v35 v3284 v3285 v3471 k0_hw909 => k0_hw909.2

def k0_chk910 (v30 : IVec S16 32) (v3284 : IVec S16 32) (v3285 : IVec S16 32) (v3472 : IVec S16 32) : Prop :=
  (∀ a x, ((![v3284, v3285, v3472, v30] : Fin 4 → IVec S16 32) a x).toNat < S2x4x32x32.size a)
theorem k0_idx1197_inb : ∀ (v30 : IVec S16 32) (v3284 : IVec S16 32) (v3285 : IVec S16 32) (v3472 : IVec S16 32) (k0_hw910 : k0_chk910 v30 v3284 v3285 v3472), ∀ a x, ((![v3284, v3285, v3472, v30] : Fin 4 → IVec S16 32) a x).toNat < S2x4x32x32.size a := fun v30 v3284 v3285 v3472 k0_hw910 => k0_hw910

def k0_chk911 (v3284 : IVec S16 32) (v3285 : IVec S16 32) (v3472 : IVec S16 32) (v3475 : IVec S16 32) : Prop :=
  (∀ a x, ((![v3284, v3285, v3472, v3475] : Fin 4 → IVec S16 32) a x).toNat < S2x4x32x32.size a)
theorem k0_idx1198_inb : ∀ (v3284 : IVec S16 32) (v3285 : IVec S16 32) (v3472 : IVec S16 32) (v3475 : IVec S16 32) (k0_hw911 : k0_chk911 v3284 v3285 v3472 v3475), ∀ a x, ((![v3284, v3285, v3472, v3475] : Fin 4 → IVec S16 32) a x).toNat < S2x4x32x32.size a := fun v3284 v3285 v3472 v3475 k0_hw911 => k0_hw911

def k0_chk912 (v33 : IVec S16 32) (v35 : IVec S16 32) (v3284 : IVec S16 32) (v3285 : IVec S16 32) (v3477 : IVec S16 32) : Prop :=
  (∀ a x, ((![v3284, v3285, v3477, v33] : Fin 4 → IVec S16 32) a x).toNat < S2x4x94x96.size a) ∧
  (∀ a x, ((![v3284, v3285, v3477, v35] : Fin 4 → IVec S16 32) a x).toNat < S2x4x94x96.size a)
theorem k0_idx1199_inb : ∀ (v33 : IVec S16 32) (v35 : IVec S16 32) (v3284 : IVec S16 32) (v3285 : IVec S16 32) (v3477 : IVec S16 32) (k0_hw912 : k0_chk912 v33 v35 v3284 v3285 v3477), ∀ a x, ((![v3284, v3285, v3477, v33] : Fin 4 → IVec S16 32) a x).toNat < S2x4x94x96.size a := fun v33 v35 v3284 v3285 v3477 k0_hw912 => k0_hw912.1
theorem k0_idx1200_inb : ∀ (v33 : IVec S16 32) (v35 : IVec S16 32) (v3284 : IVec S16 32) (v3285 : IVec S16 32) (v3477 : IVec S16 32) (k0_hw912 : k0_chk912 v33 v35 v3284 v3285 v3477), ∀ a x, ((![v3284, v3285, v3477, v35] : Fin 4 → IVec S16 32) a x).toNat < S2x4x94x96.size a := fun v33 v35 v3284 v3285 v3477 k0_hw912 => k0_hw912.2

def k0_chk913 (v30 : IVec S16 32) (v3284 : IVec S16 32) (v3478 : IVec S16 32) (v3479 : IVec S16 32) : Prop :=
  (∀ a x, ((![v3284, v3478, v3479, v30] : Fin 4 → IVec S16 32) a x).toNat < S2x4x32x32.size a)
theorem k0_idx1201_inb : ∀ (v30 : IVec S16 32) (v3284 : IVec S16 32) (v3478 : IVec S16 32) (v3479 : IVec S16 32) (k0_hw913 : k0_chk913 v30 v3284 v3478 v3479), ∀ a x, ((![v3284, v3478, v3479, v30] : Fin 4 → IVec S16 32) a x).toNat < S2x4x32x32.size a := fun v30 v3284 v3478 v3479 k0_hw913 => k0_hw913

def k0_chk914 (v3284 : IVec S16 32) (v3478 : IVec S16 32) (v3479 : IVec S16 32) (v3482 : IVec S16 32) : Prop :=
  (∀ a x, ((![v3284, v3478, v3479, v3482] : Fin 4 → IVec S16 32) a x).toNat < S2x4x32x32.size a)
theorem k0_idx1202_inb : ∀ (v3284 : IVec S16 32) (v3478 : IVec S16 32) (v3479 : IVec S16 32) (v3482 : IVec S16 32) (k0_hw914 : k0_chk914 v3284 v3478 v3479 v3482), ∀ a x, ((![v3284, v3478, v3479, v3482] : Fin 4 → IVec S16 32) a x).toNat < S2x4x32x32.size a := fun v3284 v3478 v3479 v3482 k0_hw914 => k0_hw914

def k0_chk915 (v33 : IVec S16 32) (v35 : IVec S16 32) (v3284 : IVec S16 32) (v3478 : IVec S16 32) (v3484 : IVec S16 32) : Prop :=
  (∀ a x, ((![v3284, v3478, v3484, v33] : Fin 4 → IVec S16 32) a x).toNat < S2x4x94x96.size a) ∧
  (∀ a x, ((![v3284, v3478, v3484, v35] : Fin 4 → IVec S16 32) a x).toNat < S2x4x94x96.size a)
theorem k0_idx1203_inb : ∀ (v33 : IVec S16 32) (v35 : IVec S16 32) (v3284 : IVec S16 32) (v3478 : IVec S16 32) (v3484 : IVec S16 32) (k0_hw915 : k0_chk915 v33 v35 v3284 v3478 v3484), ∀ a x, ((![v3284, v3478, v3484, v33] : Fin 4 → IVec S16 32) a x).toNat < S2x4x94x96.size a := fun v33 v35 v3284 v3478 v3484 k0_hw915 => k0_hw915.1
theorem k0_idx1204_inb : ∀ (v33 : IVec S16 32) (v35 : IVec S16 32) (v3284 : IVec S16 32) (v3478 : IVec S16 32) (v3484 : IVec S16 32) (k0_hw915 : k0_chk915 v33 v35 v3284 v3478 v3484), ∀ a x, ((![v3284, v3478, v3484, v35] : Fin 4 → IVec S16 32) a x).toNat < S2x4x94x96.size a := fun v33 v35 v3284 v3478 v3484 k0_hw915 => k0_hw915.2

def k0_chk916 (v30 : IVec S16 32) (v3284 : IVec S16 32) (v3478 : IVec S16 32) (v3485 : IVec S16 32) : Prop :=
  (∀ a x, ((![v3284, v3478, v3485, v30] : Fin 4 → IVec S16 32) a x).toNat < S2x4x32x32.size a)
theorem k0_idx1205_inb : ∀ (v30 : IVec S16 32) (v3284 : IVec S16 32) (v3478 : IVec S16 32) (v3485 : IVec S16 32) (k0_hw916 : k0_chk916 v30 v3284 v3478 v3485), ∀ a x, ((![v3284, v3478, v3485, v30] : Fin 4 → IVec S16 32) a x).toNat < S2x4x32x32.size a := fun v30 v3284 v3478 v3485 k0_hw916 => k0_hw916

def k0_chk917 (v3284 : IVec S16 32) (v3478 : IVec S16 32) (v3485 : IVec S16 32) (v3488 : IVec S16 32) : Prop :=
  (∀ a x, ((![v3284, v3478, v3485, v3488] : Fin 4 → IVec S16 32) a x).toNat < S2x4x32x32.size a)
theorem k0_idx1206_inb : ∀ (v3284 : IVec S16 32) (v3478 : IVec S16 32) (v3485 : IVec S16 32) (v3488 : IVec S16 32) (k0_hw917 : k0_chk917 v3284 v3478 v3485 v3488), ∀ a x, ((![v3284, v3478, v3485, v3488] : Fin 4 → IVec S16 32) a x).toNat < S2x4x32x32.size a := fun v3284 v3478 v3485 v3488 k0_hw917 => k0_hw917

def k0_chk918 (v33 : IVec S16 32) (v35 : IVec S16 32) (v3284 : IVec S16 32) (v3478 : IVec S16 32) (v3490 : IVec S16 32) : Prop :=
  (∀ a x, ((![v3284, v3478, v3490, v33] : Fin 4 → IVec S16 32) a x).toNat < S2x4x94x96.size a) ∧
  (∀ a x, ((![v3284, v3478, v3490, v35] : Fin 4 → IVec S16 32) a x).toNat < S2x4x94x96.size a)
theorem k0_idx1207_inb : ∀ (v33 : IVec S16 32) (v35 : IVec S16 32) (v3284 : IVec S16 32) (v3478 : IVec S16 32) (v3490 : IVec S16 32) (k0_hw918 : k0_chk918 v33 v35 v3284 v3478 v3490), ∀ a x, ((![v3284, v3478, v3490, v33] : Fin 4 → IVec S16 32) a x).toNat < S2x4x94x96.size a := fun v33 v35 v3284 v3478 v3490 k0_hw918 => k0_hw918.1
theorem k0_idx1208_inb : ∀ (v33 : IVec S16 32) (v35 : IVec S16 32) (v3284 : IVec S16 32) (v3478 : IVec S16 32) (v3490 : IVec S16 32) (k0_hw918 : k0_chk918 v33 v35 v3284 v3478 v3490), ∀ a x, ((![v3284, v3478, v3490, v35] : Fin 4 → IVec S16 32) a x).toNat < S2x4x94x96.size a := fun v33 v35 v3284 v3478 v3490 k0_hw918 => k0_hw918.2

def k0_chk919 (v30 : IVec S16 32) (v3284 : IVec S16 32) (v3478 : IVec S16 32) (v3491 : IVec S16 32) : Prop :=
  (∀ a x, ((![v3284, v3478, v3491, v30] : Fin 4 → IVec S16 32) a x).toNat < S2x4x32x32.size a)
theorem k0_idx1209_inb : ∀ (v30 : IVec S16 32) (v3284 : IVec S16 32) (v3478 : IVec S16 32) (v3491 : IVec S16 32) (k0_hw919 : k0_chk919 v30 v3284 v3478 v3491), ∀ a x, ((![v3284, v3478, v3491, v30] : Fin 4 → IVec S16 32) a x).toNat < S2x4x32x32.size a := fun v30 v3284 v3478 v3491 k0_hw919 => k0_hw919

def k0_chk920 (v3284 : IVec S16 32) (v3478 : IVec S16 32) (v3491 : IVec S16 32) (v3494 : IVec S16 32) : Prop :=
  (∀ a x, ((![v3284, v3478, v3491, v3494] : Fin 4 → IVec S16 32) a x).toNat < S2x4x32x32.size a)
theorem k0_idx1210_inb : ∀ (v3284 : IVec S16 32) (v3478 : IVec S16 32) (v3491 : IVec S16 32) (v3494 : IVec S16 32) (k0_hw920 : k0_chk920 v3284 v3478 v3491 v3494), ∀ a x, ((![v3284, v3478, v3491, v3494] : Fin 4 → IVec S16 32) a x).toNat < S2x4x32x32.size a := fun v3284 v3478 v3491 v3494 k0_hw920 => k0_hw920

def k0_chk921 (v33 : IVec S16 32) (v35 : IVec S16 32) (v3284 : IVec S16 32) (v3478 : IVec S16 32) (v3496 : IVec S16 32) : Prop :=
  (∀ a x, ((![v3284, v3478, v3496, v33] : Fin 4 → IVec S16 32) a x).toNat < S2x4x94x96.size a) ∧
  (∀ a x, ((![v3284, v3478, v3496, v35] : Fin 4 → IVec S16 32) a x).toNat < S2x4x94x96.size a)
theorem k0_idx1211_inb : ∀ (v33 : IVec S16 32) (v35 : IVec S16 32) (v3284 : IVec S16 32) (v3478 : IVec S16 32) (v3496 : IVec S16 32) (k0_hw921 : k0_chk921 v33 v35 v3284 v3478 v3496), ∀ a x, ((![v3284, v3478, v3496, v33] : Fin 4 → IVec S16 32) a x).toNat < S2x4x94x96.size a := fun v33 v35 v3284 v3478 v3496 k0_hw921 => k0_hw921.1
theorem k0_idx1212_inb : ∀ (v33 : IVec S16 32) (v35 : IVec S16 32) (v3284 : IVec S16 32) (v3478 : IVec S16 32) (v3496 : IVec S16 32) (k0_hw921 : k0_chk921 v33 v35 v3284 v3478 v3496), ∀ a x, ((![v3284, v3478, v3496, v35] : Fin 4 → IVec S16 32) a x).toNat < S2x4x94x96.size a := fun v33 v35 v3284 v3478 v3496 k0_hw921 => k0_hw921.2

def k0_chk922 (v30 : IVec S16 32) (v3284 : IVec S16 32) (v3478 : IVec S16 32) (v3497 : IVec S16 32) : Prop :=
  (∀ a x, ((![v3284, v3478, v3497, v30] : Fin 4 → IVec S16 32) a x).toNat < S2x4x32x32.size a)
theorem k0_idx1213_inb : ∀ (v30 : IVec S16 32) (v3284 : IVec S16 32) (v3478 : IVec S16 32) (v3497 : IVec S16 32) (k0_hw922 : k0_chk922 v30 v3284 v3478 v3497), ∀ a x, ((![v3284, v3478, v3497, v30] : Fin 4 → IVec S16 32) a x).toNat < S2x4x32x32.size a := fun v30 v3284 v3478 v3497 k0_hw922 => k0_hw922

def k0_chk923 (v3284 : IVec S16 32) (v3478 : IVec S16 32) (v3497 : IVec S16 32) (v3500 : IVec S16 32) : Prop :=
  (∀ a x, ((![v3284, v3478, v3497, v3500] : Fin 4 → IVec S16 32) a x).toNat < S2x4x32x32.size a)
theorem k0_idx1214_inb : ∀ (v3284 : IVec S16 32) (v3478 : IVec S16 32) (v3497 : IVec S16 32) (v3500 : IVec S16 32) (k0_hw923 : k0_chk923 v3284 v3478 v3497 v3500), ∀ a x, ((![v3284, v3478, v3497, v3500] : Fin 4 → IVec S16 32) a x).toNat < S2x4x32x32.size a := fun v3284 v3478 v3497 v3500 k0_hw923 => k0_hw923

def k0_chk924 (v33 : IVec S16 32) (v35 : IVec S16 32) (v3284 : IVec S16 32) (v3478 : IVec S16 32) (v3502 : IVec S16 32) : Prop :=
  (∀ a x, ((![v3284, v3478, v3502, v33] : Fin 4 → IVec S16 32) a x).toNat < S2x4x94x96.size a) ∧
  (∀ a x, ((![v3284, v3478, v3502, v35] : Fin 4 → IVec S16 32) a x).toNat < S2x4x94x96.size a)
theorem k0_idx1215_inb : ∀ (v33 : IVec S16 32) (v35 : IVec S16 32) (v3284 : IVec S16 32) (v3478 : IVec S16 32) (v3502 : IVec S16 32) (k0_hw924 : k0_chk924 v33 v35 v3284 v3478 v3502), ∀ a x, ((![v3284, v3478, v3502, v33] : Fin 4 → IVec S16 32) a x).toNat < S2x4x94x96.size a := fun v33 v35 v3284 v3478 v3502 k0_hw924 => k0_hw924.1
theorem k0_idx1216_inb : ∀ (v33 : IVec S16 32) (v35 : IVec S16 32) (v3284 : IVec S16 32) (v3478 : IVec S16 32) (v3502 : IVec S16 32) (k0_hw924 : k0_chk924 v33 v35 v3284 v3478 v3502), ∀ a x, ((![v3284, v3478, v3502, v35] : Fin 4 → IVec S16 32) a x).toNat < S2x4x94x96.size a := fun v33 v35 v3284 v3478 v3502 k0_hw924 => k0_hw924.2

def k0_chk925 (v30 : IVec S16 32) (v3284 : IVec S16 32) (v3478 : IVec S16 32) (v3503 : IVec S16 32) : Prop :=
  (∀ a x, ((![v3284, v3478, v3503, v30] : Fin 4 → IVec S16 32) a x).toNat < S2x4x32x32.size a)
theorem k0_idx1217_inb : ∀ (v30 : IVec S16 32) (v3284 : IVec S16 32) (v3478 : IVec S16 32) (v3503 : IVec S16 32) (k0_hw925 : k0_chk925 v30 v3284 v3478 v3503), ∀ a x, ((![v3284, v3478, v3503, v30] : Fin 4 → IVec S16 32) a x).toNat < S2x4x32x32.size a := fun v30 v3284 v3478 v3503 k0_hw925 => k0_hw925

def k0_chk926 (v3284 : IVec S16 32) (v3478 : IVec S16 32) (v3503 : IVec S16 32) (v3506 : IVec S16 32) : Prop :=
  (∀ a x, ((![v3284, v3478, v3503, v3506] : Fin 4 → IVec S16 32) a x).toNat < S2x4x32x32.size a)
theorem k0_idx1218_inb : ∀ (v3284 : IVec S16 32) (v3478 : IVec S16 32) (v3503 : IVec S16 32) (v3506 : IVec S16 32) (k0_hw926 : k0_chk926 v3284 v3478 v3503 v3506), ∀ a x, ((![v3284, v3478, v3503, v3506] : Fin 4 → IVec S16 32) a x).toNat < S2x4x32x32.size a := fun v3284 v3478 v3503 v3506 k0_hw926 => k0_hw926

def k0_chk927 (v33 : IVec S16 32) (v35 : IVec S16 32) (v3284 : IVec S16 32) (v3478 : IVec S16 32) (v3508 : IVec S16 32) : Prop :=
  (∀ a x, ((![v3284, v3478, v3508, v33] : Fin 4 → IVec S16 32) a x).toNat < S2x4x94x96.size a) ∧
  (∀ a x, ((![v3284, v3478, v3508, v35] : Fin 4 → IVec S16 32) a x).toNat < S2x4x94x96.size a)
theorem k0_idx1219_inb : ∀ (v33 : IVec S16 32) (v35 : IVec S16 32) (v3284 : IVec S16 32) (v3478 : IVec S16 32) (v3508 : IVec S16 32) (k0_hw927 : k0_chk927 v33 v35 v3284 v3478 v3508), ∀ a x, ((![v3284, v3478, v3508, v33] : Fin 4 → IVec S16 32) a x).toNat < S2x4x94x96.size a := fun v33 v35 v3284 v3478 v3508 k0_hw927 => k0_hw927.1
theorem k0_idx1220_inb : ∀ (v33 : IVec S16 32) (v35 : IVec S16 32) (v3284 : IVec S16 32) (v3478 : IVec S16 32) (v3508 : IVec S16 32) (k0_hw927 : k0_chk927 v33 v35 v3284 v3478 v3508), ∀ a x, ((![v3284, v3478, v3508, v35] : Fin 4 → IVec S16 32) a x).toNat < S2x4x94x96.size a := fun v33 v35 v3284 v3478 v3508 k0_hw927 => k0_hw927.2

def k0_chk928 (v30 : IVec S16 32) (v3284 : IVec S16 32) (v3478 : IVec S16 32) (v3509 : IVec S16 32) : Prop :=
  (∀ a x, ((![v3284, v3478, v3509, v30] : Fin 4 → IVec S16 32) a x).toNat < S2x4x32x32.size a)
theorem k0_idx1221_inb : ∀ (v30 : IVec S16 32) (v3284 : IVec S16 32) (v3478 : IVec S16 32) (v3509 : IVec S16 32) (k0_hw928 : k0_chk928 v30 v3284 v3478 v3509), ∀ a x, ((![v3284, v3478, v3509, v30] : Fin 4 → IVec S16 32) a x).toNat < S2x4x32x32.size a := fun v30 v3284 v3478 v3509 k0_hw928 => k0_hw928

def k0_chk929 (v3284 : IVec S16 32) (v3478 : IVec S16 32) (v3509 : IVec S16 32) (v3512 : IVec S16 32) : Prop :=
  (∀ a x, ((![v3284, v3478, v3509, v3512] : Fin 4 → IVec S16 32) a x).toNat < S2x4x32x32.size a)
theorem k0_idx1222_inb : ∀ (v3284 : IVec S16 32) (v3478 : IVec S16 32) (v3509 : IVec S16 32) (v3512 : IVec S16 32) (k0_hw929 : k0_chk929 v3284 v3478 v3509 v3512), ∀ a x, ((![v3284, v3478, v3509, v3512] : Fin 4 → IVec S16 32) a x).toNat < S2x4x32x32.size a := fun v3284 v3478 v3509 v3512 k0_hw929 => k0_hw929

def k0_chk930 (v33 : IVec S16 32) (v35 : IVec S16 32) (v3284 : IVec S16 32) (v3478 : IVec S16 32) (v3514 : IVec S16 32) : Prop :=
  (∀ a x, ((![v3284, v3478, v3514, v33] : Fin 4 → IVec S16 32) a x).toNat < S2x4x94x96.size a) ∧
  (∀ a x, ((![v3284, v3478, v3514, v35] : Fin 4 → IVec S16 32) a x).toNat < S2x4x94x96.size a)
theorem k0_idx1223_inb : ∀ (v33 : IVec S16 32) (v35 : IVec S16 32) (v3284 : IVec S16 32) (v3478 : IVec S16 32) (v3514 : IVec S16 32) (k0_hw930 : k0_chk930 v33 v35 v3284 v3478 v3514), ∀ a x, ((![v3284, v3478, v3514, v33] : Fin 4 → IVec S16 32) a x).toNat < S2x4x94x96.size a := fun v33 v35 v3284 v3478 v3514 k0_hw930 => k0_hw930.1
theorem k0_idx1224_inb : ∀ (v33 : IVec S16 32) (v35 : IVec S16 32) (v3284 : IVec S16 32) (v3478 : IVec S16 32) (v3514 : IVec S16 32) (k0_hw930 : k0_chk930 v33 v35 v3284 v3478 v3514), ∀ a x, ((![v3284, v3478, v3514, v35] : Fin 4 → IVec S16 32) a x).toNat < S2x4x94x96.size a := fun v33 v35 v3284 v3478 v3514 k0_hw930 => k0_hw930.2

def k0_chk931 (v30 : IVec S16 32) (v3284 : IVec S16 32) (v3478 : IVec S16 32) (v3515 : IVec S16 32) : Prop :=
  (∀ a x, ((![v3284, v3478, v3515, v30] : Fin 4 → IVec S16 32) a x).toNat < S2x4x32x32.size a)
theorem k0_idx1225_inb : ∀ (v30 : IVec S16 32) (v3284 : IVec S16 32) (v3478 : IVec S16 32) (v3515 : IVec S16 32) (k0_hw931 : k0_chk931 v30 v3284 v3478 v3515), ∀ a x, ((![v3284, v3478, v3515, v30] : Fin 4 → IVec S16 32) a x).toNat < S2x4x32x32.size a := fun v30 v3284 v3478 v3515 k0_hw931 => k0_hw931

def k0_chk932 (v3284 : IVec S16 32) (v3478 : IVec S16 32) (v3515 : IVec S16 32) (v3518 : IVec S16 32) : Prop :=
  (∀ a x, ((![v3284, v3478, v3515, v3518] : Fin 4 → IVec S16 32) a x).toNat < S2x4x32x32.size a)
theorem k0_idx1226_inb : ∀ (v3284 : IVec S16 32) (v3478 : IVec S16 32) (v3515 : IVec S16 32) (v3518 : IVec S16 32) (k0_hw932 : k0_chk932 v3284 v3478 v3515 v3518), ∀ a x, ((![v3284, v3478, v3515, v3518] : Fin 4 → IVec S16 32) a x).toNat < S2x4x32x32.size a := fun v3284 v3478 v3515 v3518 k0_hw932 => k0_hw932

def k0_chk933 (v33 : IVec S16 32) (v35 : IVec S16 32) (v3284 : IVec S16 32) (v3478 : IVec S16 32) (v3520 : IVec S16 32) : Prop :=
  (∀ a x, ((![v3284, v3478, v3520, v33] : Fin 4 → IVec S16 32) a x).toNat < S2x4x94x96.size a) ∧
  (∀ a x, ((![v3284, v3478, v3520, v35] : Fin 4 → IVec S16 32) a x).toNat < S2x4x94x96.size a)
theorem k0_idx1227_inb : ∀ (v33 : IVec S16 32) (v35 : IVec S16 32) (v3284 : IVec S16 32) (v3478 : IVec S16 32) (v3520 : IVec S16 32) (k0_hw933 : k0_chk933 v33 v35 v3284 v3478 v3520), ∀ a x, ((![v3284, v3478, v3520, v33] : Fin 4 → IVec S16 32) a x).toNat < S2x4x94x96.size a := fun v33 v35 v3284 v3478 v3520 k0_hw933 => k0_hw933.1
theorem k0_idx1228_inb : ∀ (v33 : IVec S16 32) (v35 : IVec S16 32) (v3284 : IVec S16 32) (v3478 : IVec S16 32) (v3520 : IVec S16 32) (k0_hw933 : k0_chk933 v33 v35 v3284 v3478 v3520), ∀ a x, ((![v3284, v3478, v3520, v35] : Fin 4 → IVec S16 32) a x).toNat < S2x4x94x96.size a := fun v33 v35 v3284 v3478 v3520 k0_hw933 => k0_hw933.2

def k0_chk934 (v30 : IVec S16 32) (v3284 : IVec S16 32) (v3478 : IVec S16 32) (v3521 : IVec S16 32) : Prop :=
  (∀ a x, ((![v3284, v3478, v3521, v30] : Fin 4 → IVec S16 32) a x).toNat < S2x4x32x32.size a)
theorem k0_idx1229_inb : ∀ (v30 : IVec S16 32) (v3284 : IVec S16 32) (v3478 : IVec S16 32) (v3521 : IVec S16 32) (k0_hw934 : k0_chk934 v30 v3284 v3478 v3521), ∀ a x, ((![v3284, v3478, v3521, v30] : Fin 4 → IVec S16 32) a x).toNat < S2x4x32x32.size a := fun v30 v3284 v3478 v3521 k0_hw934 => k0_hw934

def k0_chk935 (v3284 : IVec S16 32) (v3478 : IVec S16 32) (v3521 : IVec S16 32) (v3524 : IVec S16 32) : Prop :=
  (∀ a x, ((![v3284, v3478, v3521, v3524] : Fin 4 → IVec S16 32) a x).toNat < S2x4x32x32.size a)
theorem k0_idx1230_inb : ∀ (v3284 : IVec S16 32) (v3478 : IVec S16 32) (v3521 : IVec S16 32) (v3524 : IVec S16 32) (k0_hw935 : k0_chk935 v3284 v3478 v3521 v3524), ∀ a x, ((![v3284, v3478, v3521, v3524] : Fin 4 → IVec S16 32) a x).toNat < S2x4x32x32.size a := fun v3284 v3478 v3521 v3524 k0_hw935 => k0_hw935

def k0_chk936 (v33 : IVec S16 32) (v35 : IVec S16 32) (v3284 : IVec S16 32) (v3478 : IVec S16 32) (v3526 : IVec S16 32) : Prop :=
  (∀ a x, ((![v3284, v3478, v3526, v33] : Fin 4 → IVec S16 32) a x).toNat < S2x4x94x96.size a) ∧
  (∀ a x, ((![v3284, v3478, v3526, v35] : Fin 4 → IVec S16 32) a x).toNat < S2x4x94x96.size a)
theorem k0_idx1231_inb : ∀ (v33 : IVec S16 32) (v35 : IVec S16 32) (v3284 : IVec S16 32) (v3478 : IVec S16 32) (v3526 : IVec S16 32) (k0_hw936 : k0_chk936 v33 v35 v3284 v3478 v3526), ∀ a x, ((![v3284, v3478, v3526, v33] : Fin 4 → IVec S16 32) a x).toNat < S2x4x94x96.size a := fun v33 v35 v3284 v3478 v3526 k0_hw936 => k0_hw936.1
theorem k0_idx1232_inb : ∀ (v33 : IVec S16 32) (v35 : IVec S16 32) (v3284 : IVec S16 32) (v3478 : IVec S16 32) (v3526 : IVec S16 32) (k0_hw936 : k0_chk936 v33 v35 v3284 v3478 v3526), ∀ a x, ((![v3284, v3478, v3526, v35] : Fin 4 → IVec S16 32) a x).toNat < S2x4x94x96.size a := fun v33 v35 v3284 v3478 v3526 k0_hw936 => k0_hw936.2

def k0_chk937 (v30 : IVec S16 32) (v3284 : IVec S16 32) (v3478 : IVec S16 32) (v3527 : IVec S16 32) : Prop :=
  (∀ a x, ((![v3284, v3478, v3527, v30] : Fin 4 → IVec S16 32) a x).toNat < S2x4x32x32.size a)
theorem k0_idx1233_inb : ∀ (v30 : IVec S16 32) (v3284 : IVec S16 32) (v3478 : IVec S16 32) (v3527 : IVec S16 32) (k0_hw937 : k0_chk937 v30 v3284 v3478 v3527), ∀ a x, ((![v3284, v3478, v3527, v30] : Fin 4 → IVec S16 32) a x).toNat < S2x4x32x32.size a := fun v30 v3284 v3478 v3527 k0_hw937 => k0_hw937

def k0_chk938 (v3284 : IVec S16 32) (v3478 : IVec S16 32) (v3527 : IVec S16 32) (v3530 : IVec S16 32) : Prop :=
  (∀ a x, ((![v3284, v3478, v3527, v3530] : Fin 4 → IVec S16 32) a x).toNat < S2x4x32x32.size a)
theorem k0_idx1234_inb : ∀ (v3284 : IVec S16 32) (v3478 : IVec S16 32) (v3527 : IVec S16 32) (v3530 : IVec S16 32) (k0_hw938 : k0_chk938 v3284 v3478 v3527 v3530), ∀ a x, ((![v3284, v3478, v3527, v3530] : Fin 4 → IVec S16 32) a x).toNat < S2x4x32x32.size a := fun v3284 v3478 v3527 v3530 k0_hw938 => k0_hw938

def k0_chk939 (v33 : IVec S16 32) (v35 : IVec S16 32) (v3284 : IVec S16 32) (v3478 : IVec S16 32) (v3532 : IVec S16 32) : Prop :=
  (∀ a x, ((![v3284, v3478, v3532, v33] : Fin 4 → IVec S16 32) a x).toNat < S2x4x94x96.size a) ∧
  (∀ a x, ((![v3284, v3478, v3532, v35] : Fin 4 → IVec S16 32) a x).toNat < S2x4x94x96.size a)
theorem k0_idx1235_inb : ∀ (v33 : IVec S16 32) (v35 : IVec S16 32) (v3284 : IVec S16 32) (v3478 : IVec S16 32) (v3532 : IVec S16 32) (k0_hw939 : k0_chk939 v33 v35 v3284 v3478 v3532), ∀ a x, ((![v3284, v3478, v3532, v33] : Fin 4 → IVec S16 32) a x).toNat < S2x4x94x96.size a := fun v33 v35 v3284 v3478 v3532 k0_hw939 => k0_hw939.1
theorem k0_idx1236_inb : ∀ (v33 : IVec S16 32) (v35 : IVec S16 32) (v3284 : IVec S16 32) (v3478 : IVec S16 32) (v3532 : IVec S16 32) (k0_hw939 : k0_chk939 v33 v35 v3284 v3478 v3532), ∀ a x, ((![v3284, v3478, v3532, v35] : Fin 4 → IVec S16 32) a x).toNat < S2x4x94x96.size a := fun v33 v35 v3284 v3478 v3532 k0_hw939 => k0_hw939.2

def k0_chk940 (v30 : IVec S16 32) (v3284 : IVec S16 32) (v3478 : IVec S16 32) (v3533 : IVec S16 32) : Prop :=
  (∀ a x, ((![v3284, v3478, v3533, v30] : Fin 4 → IVec S16 32) a x).toNat < S2x4x32x32.size a)
theorem k0_idx1237_inb : ∀ (v30 : IVec S16 32) (v3284 : IVec S16 32) (v3478 : IVec S16 32) (v3533 : IVec S16 32) (k0_hw940 : k0_chk940 v30 v3284 v3478 v3533), ∀ a x, ((![v3284, v3478, v3533, v30] : Fin 4 → IVec S16 32) a x).toNat < S2x4x32x32.size a := fun v30 v3284 v3478 v3533 k0_hw940 => k0_hw940

def k0_chk941 (v3284 : IVec S16 32) (v3478 : IVec S16 32) (v3533 : IVec S16 32) (v3536 : IVec S16 32) : Prop :=
  (∀ a x, ((![v3284, v3478, v3533, v3536] : Fin 4 → IVec S16 32) a x).toNat < S2x4x32x32.size a)
theorem k0_idx1238_inb : ∀ (v3284 : IVec S16 32) (v3478 : IVec S16 32) (v3533 : IVec S16 32) (v3536 : IVec S16 32) (k0_hw941 : k0_chk941 v3284 v3478 v3533 v3536), ∀ a x, ((![v3284, v3478, v3533, v3536] : Fin 4 → IVec S16 32) a x).toNat < S2x4x32x32.size a := fun v3284 v3478 v3533 v3536 k0_hw941 => k0_hw941

def k0_chk942 (v33 : IVec S16 32) (v35 : IVec S16 32) (v3284 : IVec S16 32) (v3478 : IVec S16 32) (v3538 : IVec S16 32) : Prop :=
  (∀ a x, ((![v3284, v3478, v3538, v33] : Fin 4 → IVec S16 32) a x).toNat < S2x4x94x96.size a) ∧
  (∀ a x, ((![v3284, v3478, v3538, v35] : Fin 4 → IVec S16 32) a x).toNat < S2x4x94x96.size a)
theorem k0_idx1239_inb : ∀ (v33 : IVec S16 32) (v35 : IVec S16 32) (v3284 : IVec S16 32) (v3478 : IVec S16 32) (v3538 : IVec S16 32) (k0_hw942 : k0_chk942 v33 v35 v3284 v3478 v3538), ∀ a x, ((![v3284, v3478, v3538, v33] : Fin 4 → IVec S16 32) a x).toNat < S2x4x94x96.size a := fun v33 v35 v3284 v3478 v3538 k0_hw942 => k0_hw942.1
theorem k0_idx1240_inb : ∀ (v33 : IVec S16 32) (v35 : IVec S16 32) (v3284 : IVec S16 32) (v3478 : IVec S16 32) (v3538 : IVec S16 32) (k0_hw942 : k0_chk942 v33 v35 v3284 v3478 v3538), ∀ a x, ((![v3284, v3478, v3538, v35] : Fin 4 → IVec S16 32) a x).toNat < S2x4x94x96.size a := fun v33 v35 v3284 v3478 v3538 k0_hw942 => k0_hw942.2

def k0_chk943 (v30 : IVec S16 32) (v3284 : IVec S16 32) (v3478 : IVec S16 32) (v3539 : IVec S16 32) : Prop :=
  (∀ a x, ((![v3284, v3478, v3539, v30] : Fin 4 → IVec S16 32) a x).toNat < S2x4x32x32.size a)
theorem k0_idx1241_inb : ∀ (v30 : IVec S16 32) (v3284 : IVec S16 32) (v3478 : IVec S16 32) (v3539 : IVec S16 32) (k0_hw943 : k0_chk943 v30 v3284 v3478 v3539), ∀ a x, ((![v3284, v3478, v3539, v30] : Fin 4 → IVec S16 32) a x).toNat < S2x4x32x32.size a := fun v30 v3284 v3478 v3539 k0_hw943 => k0_hw943

def k0_chk944 (v3284 : IVec S16 32) (v3478 : IVec S16 32) (v3539 : IVec S16 32) (v3542 : IVec S16 32) : Prop :=
  (∀ a x, ((![v3284, v3478, v3539, v3542] : Fin 4 → IVec S16 32) a x).toNat < S2x4x32x32.size a)
theorem k0_idx1242_inb : ∀ (v3284 : IVec S16 32) (v3478 : IVec S16 32) (v3539 : IVec S16 32) (v3542 : IVec S16 32) (k0_hw944 : k0_chk944 v3284 v3478 v3539 v3542), ∀ a x, ((![v3284, v3478, v3539, v3542] : Fin 4 → IVec S16 32) a x).toNat < S2x4x32x32.size a := fun v3284 v3478 v3539 v3542 k0_hw944 => k0_hw944

def k0_chk945 (v33 : IVec S16 32) (v35 : IVec S16 32) (v3284 : IVec S16 32) (v3478 : IVec S16 32) (v3544 : IVec S16 32) : Prop :=
  (∀ a x, ((![v3284, v3478, v3544, v33] : Fin 4 → IVec S16 32) a x).toNat < S2x4x94x96.size a) ∧
  (∀ a x, ((![v3284, v3478, v3544, v35] : Fin 4 → IVec S16 32) a x).toNat < S2x4x94x96.size a)
theorem k0_idx1243_inb : ∀ (v33 : IVec S16 32) (v35 : IVec S16 32) (v3284 : IVec S16 32) (v3478 : IVec S16 32) (v3544 : IVec S16 32) (k0_hw945 : k0_chk945 v33 v35 v3284 v3478 v3544), ∀ a x, ((![v3284, v3478, v3544, v33] : Fin 4 → IVec S16 32) a x).toNat < S2x4x94x96.size a := fun v33 v35 v3284 v3478 v3544 k0_hw945 => k0_hw945.1
theorem k0_idx1244_inb : ∀ (v33 : IVec S16 32) (v35 : IVec S16 32) (v3284 : IVec S16 32) (v3478 : IVec S16 32) (v3544 : IVec S16 32) (k0_hw945 : k0_chk945 v33 v35 v3284 v3478 v3544), ∀ a x, ((![v3284, v3478, v3544, v35] : Fin 4 → IVec S16 32) a x).toNat < S2x4x94x96.size a := fun v33 v35 v3284 v3478 v3544 k0_hw945 => k0_hw945.2

def k0_chk946 (v30 : IVec S16 32) (v3284 : IVec S16 32) (v3478 : IVec S16 32) (v3545 : IVec S16 32) : Prop :=
  (∀ a x, ((![v3284, v3478, v3545, v30] : Fin 4 → IVec S16 32) a x).toNat < S2x4x32x32.size a)
theorem k0_idx1245_inb : ∀ (v30 : IVec S16 32) (v3284 : IVec S16 32) (v3478 : IVec S16 32) (v3545 : IVec S16 32) (k0_hw946 : k0_chk946 v30 v3284 v3478 v3545), ∀ a x, ((![v3284, v3478, v3545, v30] : Fin 4 → IVec S16 32) a x).toNat < S2x4x32x32.size a := fun v30 v3284 v3478 v3545 k0_hw946 => k0_hw946

def k0_chk947 (v3284 : IVec S16 32) (v3478 : IVec S16 32) (v3545 : IVec S16 32) (v3548 : IVec S16 32) : Prop :=
  (∀ a x, ((![v3284, v3478, v3545, v3548] : Fin 4 → IVec S16 32) a x).toNat < S2x4x32x32.size a)
theorem k0_idx1246_inb : ∀ (v3284 : IVec S16 32) (v3478 : IVec S16 32) (v3545 : IVec S16 32) (v3548 : IVec S16 32) (k0_hw947 : k0_chk947 v3284 v3478 v3545 v3548), ∀ a x, ((![v3284, v3478, v3545, v3548] : Fin 4 → IVec S16 32) a x).toNat < S2x4x32x32.size a := fun v3284 v3478 v3545 v3548 k0_hw947 => k0_hw947

def k0_chk948 (v33 : IVec S16 32) (v35 : IVec S16 32) (v3284 : IVec S16 32) (v3478 : IVec S16 32) (v3550 : IVec S16 32) : Prop :=
  (∀ a x, ((![v3284, v3478, v3550, v33] : Fin 4 → IVec S16 32) a x).toNat < S2x4x94x96.size a) ∧
  (∀ a x, ((![v3284, v3478, v3550, v35] : Fin 4 → IVec S16 32) a x).toNat < S2x4x94x96.size a)
theorem k0_idx1247_inb : ∀ (v33 : IVec S16 32) (v35 : IVec S16 32) (v3284 : IVec S16 32) (v3478 : IVec S16 32) (v3550 : IVec S16 32) (k0_hw948 : k0_chk948 v33 v35 v3284 v3478 v3550), ∀ a x, ((![v3284, v3478, v3550, v33] : Fin 4 → IVec S16 32) a x).toNat < S2x4x94x96.size a := fun v33 v35 v3284 v3478 v3550 k0_hw948 => k0_hw948.1
theorem k0_idx1248_inb : ∀ (v33 : IVec S16 32) (v35 : IVec S16 32) (v3284 : IVec S16 32) (v3478 : IVec S16 32) (v3550 : IVec S16 32) (k0_hw948 : k0_chk948 v33 v35 v3284 v3478 v3550), ∀ a x, ((![v3284, v3478, v3550, v35] : Fin 4 → IVec S16 32) a x).toNat < S2x4x94x96.size a := fun v33 v35 v3284 v3478 v3550 k0_hw948 => k0_hw948.2

def k0_chk949 (v30 : IVec S16 32) (v3284 : IVec S16 32) (v3478 : IVec S16 32) (v3551 : IVec S16 32) : Prop :=
  (∀ a x, ((![v3284, v3478, v3551, v30] : Fin 4 → IVec S16 32) a x).toNat < S2x4x32x32.size a)
theorem k0_idx1249_inb : ∀ (v30 : IVec S16 32) (v3284 : IVec S16 32) (v3478 : IVec S16 32) (v3551 : IVec S16 32) (k0_hw949 : k0_chk949 v30 v3284 v3478 v3551), ∀ a x, ((![v3284, v3478, v3551, v30] : Fin 4 → IVec S16 32) a x).toNat < S2x4x32x32.size a := fun v30 v3284 v3478 v3551 k0_hw949 => k0_hw949

def k0_chk950 (v3284 : IVec S16 32) (v3478 : IVec S16 32) (v3551 : IVec S16 32) (v3554 : IVec S16 32) : Prop :=
  (∀ a x, ((![v3284, v3478, v3551, v3554] : Fin 4 → IVec S16 32) a x).toNat < S2x4x32x32.size a)
theorem k0_idx1250_inb : ∀ (v3284 : IVec S16 32) (v3478 : IVec S16 32) (v3551 : IVec S16 32) (v3554 : IVec S16 32) (k0_hw950 : k0_chk950 v3284 v3478 v3551 v3554), ∀ a x, ((![v3284, v3478, v3551, v3554] : Fin 4 → IVec S16 32) a x).toNat < S2x4x32x32.size a := fun v3284 v3478 v3551 v3554 k0_hw950 => k0_hw950

def k0_chk951 (v33 : IVec S16 32) (v35 : IVec S16 32) (v3284 : IVec S16 32) (v3478 : IVec S16 32) (v3556 : IVec S16 32) : Prop :=
  (∀ a x, ((![v3284, v3478, v3556, v33] : Fin 4 → IVec S16 32) a x).toNat < S2x4x94x96.size a) ∧
  (∀ a x, ((![v3284, v3478, v3556, v35] : Fin 4 → IVec S16 32) a x).toNat < S2x4x94x96.size a)
theorem k0_idx1251_inb : ∀ (v33 : IVec S16 32) (v35 : IVec S16 32) (v3284 : IVec S16 32) (v3478 : IVec S16 32) (v3556 : IVec S16 32) (k0_hw951 : k0_chk951 v33 v35 v3284 v3478 v3556), ∀ a x, ((![v3284, v3478, v3556, v33] : Fin 4 → IVec S16 32) a x).toNat < S2x4x94x96.size a := fun v33 v35 v3284 v3478 v3556 k0_hw951 => k0_hw951.1
theorem k0_idx1252_inb : ∀ (v33 : IVec S16 32) (v35 : IVec S16 32) (v3284 : IVec S16 32) (v3478 : IVec S16 32) (v3556 : IVec S16 32) (k0_hw951 : k0_chk951 v33 v35 v3284 v3478 v3556), ∀ a x, ((![v3284, v3478, v3556, v35] : Fin 4 → IVec S16 32) a x).toNat < S2x4x94x96.size a := fun v33 v35 v3284 v3478 v3556 k0_hw951 => k0_hw951.2

def k0_chk952 (v30 : IVec S16 32) (v3284 : IVec S16 32) (v3478 : IVec S16 32) (v3557 : IVec S16 32) : Prop :=
  (∀ a x, ((![v3284, v3478, v3557, v30] : Fin 4 → IVec S16 32) a x).toNat < S2x4x32x32.size a)
theorem k0_idx1253_inb : ∀ (v30 : IVec S16 32) (v3284 : IVec S16 32) (v3478 : IVec S16 32) (v3557 : IVec S16 32) (k0_hw952 : k0_chk952 v30 v3284 v3478 v3557), ∀ a x, ((![v3284, v3478, v3557, v30] : Fin 4 → IVec S16 32) a x).toNat < S2x4x32x32.size a := fun v30 v3284 v3478 v3557 k0_hw952 => k0_hw952

def k0_chk953 (v3284 : IVec S16 32) (v3478 : IVec S16 32) (v3557 : IVec S16 32) (v3560 : IVec S16 32) : Prop :=
  (∀ a x, ((![v3284, v3478, v3557, v3560] : Fin 4 → IVec S16 32) a x).toNat < S2x4x32x32.size a)
theorem k0_idx1254_inb : ∀ (v3284 : IVec S16 32) (v3478 : IVec S16 32) (v3557 : IVec S16 32) (v3560 : IVec S16 32) (k0_hw953 : k0_chk953 v3284 v3478 v3557 v3560), ∀ a x, ((![v3284, v3478, v3557, v3560] : Fin 4 → IVec S16 32) a x).toNat < S2x4x32x32.size a := fun v3284 v3478 v3557 v3560 k0_hw953 => k0_hw953

def k0_chk954 (v33 : IVec S16 32) (v35 : IVec S16 32) (v3284 : IVec S16 32) (v3478 : IVec S16 32) (v3562 : IVec S16 32) : Prop :=
  (∀ a x, ((![v3284, v3478, v3562, v33] : Fin 4 → IVec S16 32) a x).toNat < S2x4x94x96.size a) ∧
  (∀ a x, ((![v3284, v3478, v3562, v35] : Fin 4 → IVec S16 32) a x).toNat < S2x4x94x96.size a)
theorem k0_idx1255_inb : ∀ (v33 : IVec S16 32) (v35 : IVec S16 32) (v3284 : IVec S16 32) (v3478 : IVec S16 32) (v3562 : IVec S16 32) (k0_hw954 : k0_chk954 v33 v35 v3284 v3478 v3562), ∀ a x, ((![v3284, v3478, v3562, v33] : Fin 4 → IVec S16 32) a x).toNat < S2x4x94x96.size a := fun v33 v35 v3284 v3478 v3562 k0_hw954 => k0_hw954.1
theorem k0_idx1256_inb : ∀ (v33 : IVec S16 32) (v35 : IVec S16 32) (v3284 : IVec S16 32) (v3478 : IVec S16 32) (v3562 : IVec S16 32) (k0_hw954 : k0_chk954 v33 v35 v3284 v3478 v3562), ∀ a x, ((![v3284, v3478, v3562, v35] : Fin 4 → IVec S16 32) a x).toNat < S2x4x94x96.size a := fun v33 v35 v3284 v3478 v3562 k0_hw954 => k0_hw954.2

def k0_chk955 (v30 : IVec S16 32) (v3284 : IVec S16 32) (v3478 : IVec S16 32) (v3563 : IVec S16 32) : Prop :=
  (∀ a x, ((![v3284, v3478, v3563, v30] : Fin 4 → IVec S16 32) a x).toNat < S2x4x32x32.size a)
theorem k0_idx1257_inb : ∀ (v30 : IVec S16 32) (v3284 : IVec S16 32) (v3478 : IVec S16 32) (v3563 : IVec S16 32) (k0_hw955 : k0_chk955 v30 v3284 v3478 v3563), ∀ a x, ((![v3284, v3478, v3563, v30] : Fin 4 → IVec S16 32) a x).toNat < S2x4x32x32.size a := fun v30 v3284 v3478 v3563 k0_hw955 => k0_hw955

def k0_chk956 (v3284 : IVec S16 32) (v3478 : IVec S16 32) (v3563 : IVec S16 32) (v3566 : IVec S16 32) : Prop :=
  (∀ a x, ((![v3284, v3478, v3563, v3566] : Fin 4 → IVec S16 32) a x).toNat < S2x4x32x32.size a)
theorem k0_idx1258_inb : ∀ (v3284 : IVec S16 32) (v3478 : IVec S16 32) (v3563 : IVec S16 32) (v3566 : IVec S16 32) (k0_hw956 : k0_chk956 v3284 v3478 v3563 v3566), ∀ a x, ((![v3284, v3478, v3563, v3566] : Fin 4 → IVec S16 32) a x).toNat < S2x4x32x32.size a := fun v3284 v3478 v3563 v3566 k0_hw956 => k0_hw956

def k0_chk957 (v33 : IVec S16 32) (v35 : IVec S16 32) (v3284 : IVec S16 32) (v3478 : IVec S16 32) (v3568 : IVec S16 32) : Prop :=
  (∀ a x, ((![v3284, v3478, v3568, v33] : Fin 4 → IVec S16 32) a x).toNat < S2x4x94x96.size a) ∧
  (∀ a x, ((![v3284, v3478, v3568, v35] : Fin 4 → IVec S16 32) a x).toNat < S2x4x94x96.size a)
theorem k0_idx1259_inb : ∀ (v33 : IVec S16 32) (v35 : IVec S16 32) (v3284 : IVec S16 32) (v3478 : IVec S16 32) (v3568 : IVec S16 32) (k0_hw957 : k0_chk957 v33 v35 v3284 v3478 v3568), ∀ a x, ((![v3284, v3478, v3568, v33] : Fin 4 → IVec S16 32) a x).toNat < S2x4x94x96.size a := fun v33 v35 v3284 v3478 v3568 k0_hw957 => k0_hw957.1
theorem k0_idx1260_inb : ∀ (v33 : IVec S16 32) (v35 : IVec S16 32) (v3284 : IVec S16 32) (v3478 : IVec S16 32) (v3568 : IVec S16 32) (k0_hw957 : k0_chk957 v33 v35 v3284 v3478 v3568), ∀ a x, ((![v3284, v3478, v3568, v35] : Fin 4 → IVec S16 32) a x).toNat < S2x4x94x96.size a := fun v33 v35 v3284 v3478 v3568 k0_hw957 => k0_hw957.2

def k0_chk958 (v30 : IVec S16 32) (v3284 : IVec S16 32) (v3478 : IVec S16 32) (v3569 : IVec S16 32) : Prop :=
  (∀ a x, ((![v3284, v3478, v3569, v30] : Fin 4 → IVec S16 32) a x).toNat < S2x4x32x32.size a)
theorem k0_idx1261_inb : ∀ (v30 : IVec S16 32) (v3284 : IVec S16 32) (v3478 : IVec S16 32) (v3569 : IVec S16 32) (k0_hw958 : k0_chk958 v30 v3284 v3478 v3569), ∀ a x, ((![v3284, v3478, v3569, v30] : Fin 4 → IVec S16 32) a x).toNat < S2x4x32x32.size a := fun v30 v3284 v3478 v3569 k0_hw958 => k0_hw958

def k0_chk959 (v3284 : IVec S16 32) (v3478 : IVec S16 32) (v3569 : IVec S16 32) (v3572 : IVec S16 32) : Prop :=
  (∀ a x, ((![v3284, v3478, v3569, v3572] : Fin 4 → IVec S16 32) a x).toNat < S2x4x32x32.size a)
theorem k0_idx1262_inb : ∀ (v3284 : IVec S16 32) (v3478 : IVec S16 32) (v3569 : IVec S16 32) (v3572 : IVec S16 32) (k0_hw959 : k0_chk959 v3284 v3478 v3569 v3572), ∀ a x, ((![v3284, v3478, v3569, v3572] : Fin 4 → IVec S16 32) a x).toNat < S2x4x32x32.size a := fun v3284 v3478 v3569 v3572 k0_hw959 => k0_hw959

def k0_chk960 (v33 : IVec S16 32) (v35 : IVec S16 32) (v3284 : IVec S16 32) (v3478 : IVec S16 32) (v3574 : IVec S16 32) : Prop :=
  (∀ a x, ((![v3284, v3478, v3574, v33] : Fin 4 → IVec S16 32) a x).toNat < S2x4x94x96.size a) ∧
  (∀ a x, ((![v3284, v3478, v3574, v35] : Fin 4 → IVec S16 32) a x).toNat < S2x4x94x96.size a)
theorem k0_idx1263_inb : ∀ (v33 : IVec S16 32) (v35 : IVec S16 32) (v3284 : IVec S16 32) (v3478 : IVec S16 32) (v3574 : IVec S16 32) (k0_hw960 : k0_chk960 v33 v35 v3284 v3478 v3574), ∀ a x, ((![v3284, v3478, v3574, v33] : Fin 4 → IVec S16 32) a x).toNat < S2x4x94x96.size a := fun v33 v35 v3284 v3478 v3574 k0_hw960 => k0_hw960.1
theorem k0_idx1264_inb : ∀ (v33 : IVec S16 32) (v35 : IVec S16 32) (v3284 : IVec S16 32) (v3478 : IVec S16 32) (v3574 : IVec S16 32) (k0_hw960 : k0_chk960 v33 v35 v3284 v3478 v3574), ∀ a x, ((![v3284, v3478, v3574, v35] : Fin 4 → IVec S16 32) a x).toNat < S2x4x94x96.size a := fun v33 v35 v3284 v3478 v3574 k0_hw960 => k0_hw960.2

def k0_chk961 (v30 : IVec S16 32) (v3284 : IVec S16 32) (v3478 : IVec S16 32) (v3575 : IVec S16 32) : Prop :=
  (∀ a x, ((![v3284, v3478, v3575, v30] : Fin 4 → IVec S16 32) a x).toNat < S2x4x32x32.size a)
theorem k0_idx1265_inb : ∀ (v30 : IVec S16 32) (v3284 : IVec S16 32) (v3478 : IVec S16 32) (v3575 : IVec S16 32) (k0_hw961 : k0_chk961 v30 v3284 v3478 v3575), ∀ a x, ((![v3284, v3478, v3575, v30] : Fin 4 → IVec S16 32) a x).toNat < S2x4x32x32.size a := fun v30 v3284 v3478 v3575 k0_hw961 => k0_hw961

def k0_chk962 (v3284 : IVec S16 32) (v3478 : IVec S16 32) (v3575 : IVec S16 32) (v3578 : IVec S16 32) : Prop :=
  (∀ a x, ((![v3284, v3478, v3575, v3578] : Fin 4 → IVec S16 32) a x).toNat < S2x4x32x32.size a)
theorem k0_idx1266_inb : ∀ (v3284 : IVec S16 32) (v3478 : IVec S16 32) (v3575 : IVec S16 32) (v3578 : IVec S16 32) (k0_hw962 : k0_chk962 v3284 v3478 v3575 v3578), ∀ a x, ((![v3284, v3478, v3575, v3578] : Fin 4 → IVec S16 32) a x).toNat < S2x4x32x32.size a := fun v3284 v3478 v3575 v3578 k0_hw962 => k0_hw962

def k0_chk963 (v33 : IVec S16 32) (v35 : IVec S16 32) (v3284 : IVec S16 32) (v3478 : IVec S16 32) (v3580 : IVec S16 32) : Prop :=
  (∀ a x, ((![v3284, v3478, v3580, v33] : Fin 4 → IVec S16 32) a x).toNat < S2x4x94x96.size a) ∧
  (∀ a x, ((![v3284, v3478, v3580, v35] : Fin 4 → IVec S16 32) a x).toNat < S2x4x94x96.size a)
theorem k0_idx1267_inb : ∀ (v33 : IVec S16 32) (v35 : IVec S16 32) (v3284 : IVec S16 32) (v3478 : IVec S16 32) (v3580 : IVec S16 32) (k0_hw963 : k0_chk963 v33 v35 v3284 v3478 v3580), ∀ a x, ((![v3284, v3478, v3580, v33] : Fin 4 → IVec S16 32) a x).toNat < S2x4x94x96.size a := fun v33 v35 v3284 v3478 v3580 k0_hw963 => k0_hw963.1
theorem k0_idx1268_inb : ∀ (v33 : IVec S16 32) (v35 : IVec S16 32) (v3284 : IVec S16 32) (v3478 : IVec S16 32) (v3580 : IVec S16 32) (k0_hw963 : k0_chk963 v33 v35 v3284 v3478 v3580), ∀ a x, ((![v3284, v3478, v3580, v35] : Fin 4 → IVec S16 32) a x).toNat < S2x4x94x96.size a := fun v33 v35 v3284 v3478 v3580 k0_hw963 => k0_hw963.2

def k0_chk964 (v30 : IVec S16 32) (v3284 : IVec S16 32) (v3478 : IVec S16 32) (v3581 : IVec S16 32) : Prop :=
  (∀ a x, ((![v3284, v3478, v3581, v30] : Fin 4 → IVec S16 32) a x).toNat < S2x4x32x32.size a)
theorem k0_idx1269_inb : ∀ (v30 : IVec S16 32) (v3284 : IVec S16 32) (v3478 : IVec S16 32) (v3581 : IVec S16 32) (k0_hw964 : k0_chk964 v30 v3284 v3478 v3581), ∀ a x, ((![v3284, v3478, v3581, v30] : Fin 4 → IVec S16 32) a x).toNat < S2x4x32x32.size a := fun v30 v3284 v3478 v3581 k0_hw964 => k0_hw964

def k0_chk965 (v3284 : IVec S16 32) (v3478 : IVec S16 32) (v3581 : IVec S16 32) (v3584 : IVec S16 32) : Prop :=
  (∀ a x, ((![v3284, v3478, v3581, v3584] : Fin 4 → IVec S16 32) a x).toNat < S2x4x32x32.size a)
theorem k0_idx1270_inb : ∀ (v3284 : IVec S16 32) (v3478 : IVec S16 32) (v3581 : IVec S16 32) (v3584 : IVec S16 32) (k0_hw965 : k0_chk965 v3284 v3478 v3581 v3584), ∀ a x, ((![v3284, v3478, v3581, v3584] : Fin 4 → IVec S16 32) a x).toNat < S2x4x32x32.size a := fun v3284 v3478 v3581 v3584 k0_hw965 => k0_hw965

def k0_chk966 (v33 : IVec S16 32) (v35 : IVec S16 32) (v3284 : IVec S16 32) (v3478 : IVec S16 32) (v3586 : IVec S16 32) : Prop :=
  (∀ a x, ((![v3284, v3478, v3586, v33] : Fin 4 → IVec S16 32) a x).toNat < S2x4x94x96.size a) ∧
  (∀ a x, ((![v3284, v3478, v3586, v35] : Fin 4 → IVec S16 32) a x).toNat < S2x4x94x96.size a)
theorem k0_idx1271_inb : ∀ (v33 : IVec S16 32) (v35 : IVec S16 32) (v3284 : IVec S16 32) (v3478 : IVec S16 32) (v3586 : IVec S16 32) (k0_hw966 : k0_chk966 v33 v35 v3284 v3478 v3586), ∀ a x, ((![v3284, v3478, v3586, v33] : Fin 4 → IVec S16 32) a x).toNat < S2x4x94x96.size a := fun v33 v35 v3284 v3478 v3586 k0_hw966 => k0_hw966.1
theorem k0_idx1272_inb : ∀ (v33 : IVec S16 32) (v35 : IVec S16 32) (v3284 : IVec S16 32) (v3478 : IVec S16 32) (v3586 : IVec S16 32) (k0_hw966 : k0_chk966 v33 v35 v3284 v3478 v3586), ∀ a x, ((![v3284, v3478, v3586, v35] : Fin 4 → IVec S16 32) a x).toNat < S2x4x94x96.size a := fun v33 v35 v3284 v3478 v3586 k0_hw966 => k0_hw966.2

def k0_chk967 (v30 : IVec S16 32) (v3284 : IVec S16 32) (v3478 : IVec S16 32) (v3587 : IVec S16 32) : Prop :=
  (∀ a x, ((![v3284, v3478, v3587, v30] : Fin 4 → IVec S16 32) a x).toNat < S2x4x32x32.size a)
theorem k0_idx1273_inb : ∀ (v30 : IVec S16 32) (v3284 : IVec S16 32) (v3478 : IVec S16 32) (v3587 : IVec S16 32) (k0_hw967 : k0_chk967 v30 v3284 v3478 v3587), ∀ a x, ((![v3284, v3478, v3587, v30] : Fin 4 → IVec S16 32) a x).toNat < S2x4x32x32.size a := fun v30 v3284 v3478 v3587 k0_hw967 => k0_hw967

def k0_chk968 (v3284 : IVec S16 32) (v3478 : IVec S16 32) (v3587 : IVec S16 32) (v3590 : IVec S16 32) : Prop :=
  (∀ a x, ((![v3284, v3478, v3587, v3590] : Fin 4 → IVec S16 32) a x).toNat < S2x4x32x32.size a)
theorem k0_idx1274_inb : ∀ (v3284 : IVec S16 32) (v3478 : IVec S16 32) (v3587 : IVec S16 32) (v3590 : IVec S16 32) (k0_hw968 : k0_chk968 v3284 v3478 v3587 v3590), ∀ a x, ((![v3284, v3478, v3587, v3590] : Fin 4 → IVec S16 32) a x).toNat < S2x4x32x32.size a := fun v3284 v3478 v3587 v3590 k0_hw968 => k0_hw968

def k0_chk969 (v33 : IVec S16 32) (v35 : IVec S16 32) (v3284 : IVec S16 32) (v3478 : IVec S16 32) (v3592 : IVec S16 32) : Prop :=
  (∀ a x, ((![v3284, v3478, v3592, v33] : Fin 4 → IVec S16 32) a x).toNat < S2x4x94x96.size a) ∧
  (∀ a x, ((![v3284, v3478, v3592, v35] : Fin 4 → IVec S16 32) a x).toNat < S2x4x94x96.size a)
theorem k0_idx1275_inb : ∀ (v33 : IVec S16 32) (v35 : IVec S16 32) (v3284 : IVec S16 32) (v3478 : IVec S16 32) (v3592 : IVec S16 32) (k0_hw969 : k0_chk969 v33 v35 v3284 v3478 v3592), ∀ a x, ((![v3284, v3478, v3592, v33] : Fin 4 → IVec S16 32) a x).toNat < S2x4x94x96.size a := fun v33 v35 v3284 v3478 v3592 k0_hw969 => k0_hw969.1
theorem k0_idx1276_inb : ∀ (v33 : IVec S16 32) (v35 : IVec S16 32) (v3284 : IVec S16 32) (v3478 : IVec S16 32) (v3592 : IVec S16 32) (k0_hw969 : k0_chk969 v33 v35 v3284 v3478 v3592), ∀ a x, ((![v3284, v3478, v3592, v35] : Fin 4 → IVec S16 32) a x).toNat < S2x4x94x96.size a := fun v33 v35 v3284 v3478 v3592 k0_hw969 => k0_hw969.2

def k0_chk970 (v30 : IVec S16 32) (v3284 : IVec S16 32) (v3478 : IVec S16 32) (v3593 : IVec S16 32) : Prop :=
  (∀ a x, ((![v3284, v3478, v3593, v30] : Fin 4 → IVec S16 32) a x).toNat < S2x4x32x32.size a)
theorem k0_idx1277_inb : ∀ (v30 : IVec S16 32) (v3284 : IVec S16 32) (v3478 : IVec S16 32) (v3593 : IVec S16 32) (k0_hw970 : k0_chk970 v30 v3284 v3478 v3593), ∀ a x, ((![v3284, v3478, v3593, v30] : Fin 4 → IVec S16 32) a x).toNat < S2x4x32x32.size a := fun v30 v3284 v3478 v3593 k0_hw970 => k0_hw970

def k0_chk971 (v3284 : IVec S16 32) (v3478 : IVec S16 32) (v3593 : IVec S16 32) (v3596 : IVec S16 32) : Prop :=
  (∀ a x, ((![v3284, v3478, v3593, v3596] : Fin 4 → IVec S16 32) a x).toNat < S2x4x32x32.size a)
theorem k0_idx1278_inb : ∀ (v3284 : IVec S16 32) (v3478 : IVec S16 32) (v3593 : IVec S16 32) (v3596 : IVec S16 32) (k0_hw971 : k0_chk971 v3284 v3478 v3593 v3596), ∀ a x, ((![v3284, v3478, v3593, v3596] : Fin 4 → IVec S16 32) a x).toNat < S2x4x32x32.size a := fun v3284 v3478 v3593 v3596 k0_hw971 => k0_hw971

def k0_chk972 (v33 : IVec S16 32) (v35 : IVec S16 32) (v3284 : IVec S16 32) (v3478 : IVec S16 32) (v3598 : IVec S16 32) : Prop :=
  (∀ a x, ((![v3284, v3478, v3598, v33] : Fin 4 → IVec S16 32) a x).toNat < S2x4x94x96.size a) ∧
  (∀ a x, ((![v3284, v3478, v3598, v35] : Fin 4 → IVec S16 32) a x).toNat < S2x4x94x96.size a)
theorem k0_idx1279_inb : ∀ (v33 : IVec S16 32) (v35 : IVec S16 32) (v3284 : IVec S16 32) (v3478 : IVec S16 32) (v3598 : IVec S16 32) (k0_hw972 : k0_chk972 v33 v35 v3284 v3478 v3598), ∀ a x, ((![v3284, v3478, v3598, v33] : Fin 4 → IVec S16 32) a x).toNat < S2x4x94x96.size a := fun v33 v35 v3284 v3478 v3598 k0_hw972 => k0_hw972.1
theorem k0_idx1280_inb : ∀ (v33 : IVec S16 32) (v35 : IVec S16 32) (v3284 : IVec S16 32) (v3478 : IVec S16 32) (v3598 : IVec S16 32) (k0_hw972 : k0_chk972 v33 v35 v3284 v3478 v3598), ∀ a x, ((![v3284, v3478, v3598, v35] : Fin 4 → IVec S16 32) a x).toNat < S2x4x94x96.size a := fun v33 v35 v3284 v3478 v3598 k0_hw972 => k0_hw972.2

def k0_chk973 (v30 : IVec S16 32) (v3284 : IVec S16 32) (v3478 : IVec S16 32) (v3599 : IVec S16 32) : Prop :=
  (∀ a x, ((![v3284, v3478, v3599, v30] : Fin 4 → IVec S16 32) a x).toNat < S2x4x32x32.size a)
theorem k0_idx1281_inb : ∀ (v30 : IVec S16 32) (v3284 : IVec S16 32) (v3478 : IVec S16 32) (v3599 : IVec S16 32) (k0_hw973 : k0_chk973 v30 v3284 v3478 v3599), ∀ a x, ((![v3284, v3478, v3599, v30] : Fin 4 → IVec S16 32) a x).toNat < S2x4x32x32.size a := fun v30 v3284 v3478 v3599 k0_hw973 => k0_hw973

def k0_chk974 (v3284 : IVec S16 32) (v3478 : IVec S16 32) (v3599 : IVec S16 32) (v3602 : IVec S16 32) : Prop :=
  (∀ a x, ((![v3284, v3478, v3599, v3602] : Fin 4 → IVec S16 32) a x).toNat < S2x4x32x32.size a)
theorem k0_idx1282_inb : ∀ (v3284 : IVec S16 32) (v3478 : IVec S16 32) (v3599 : IVec S16 32) (v3602 : IVec S16 32) (k0_hw974 : k0_chk974 v3284 v3478 v3599 v3602), ∀ a x, ((![v3284, v3478, v3599, v3602] : Fin 4 → IVec S16 32) a x).toNat < S2x4x32x32.size a := fun v3284 v3478 v3599 v3602 k0_hw974 => k0_hw974

def k0_chk975 (v33 : IVec S16 32) (v35 : IVec S16 32) (v3284 : IVec S16 32) (v3478 : IVec S16 32) (v3604 : IVec S16 32) : Prop :=
  (∀ a x, ((![v3284, v3478, v3604, v33] : Fin 4 → IVec S16 32) a x).toNat < S2x4x94x96.size a) ∧
  (∀ a x, ((![v3284, v3478, v3604, v35] : Fin 4 → IVec S16 32) a x).toNat < S2x4x94x96.size a)
theorem k0_idx1283_inb : ∀ (v33 : IVec S16 32) (v35 : IVec S16 32) (v3284 : IVec S16 32) (v3478 : IVec S16 32) (v3604 : IVec S16 32) (k0_hw975 : k0_chk975 v33 v35 v3284 v3478 v3604), ∀ a x, ((![v3284, v3478, v3604, v33] : Fin 4 → IVec S16 32) a x).toNat < S2x4x94x96.size a := fun v33 v35 v3284 v3478 v3604 k0_hw975 => k0_hw975.1
theorem k0_idx1284_inb : ∀ (v33 : IVec S16 32) (v35 : IVec S16 32) (v3284 : IVec S16 32) (v3478 : IVec S16 32) (v3604 : IVec S16 32) (k0_hw975 : k0_chk975 v33 v35 v3284 v3478 v3604), ∀ a x, ((![v3284, v3478, v3604, v35] : Fin 4 → IVec S16 32) a x).toNat < S2x4x94x96.size a := fun v33 v35 v3284 v3478 v3604 k0_hw975 => k0_hw975.2

def k0_chk976 (v30 : IVec S16 32) (v3284 : IVec S16 32) (v3478 : IVec S16 32) (v3605 : IVec S16 32) : Prop :=
  (∀ a x, ((![v3284, v3478, v3605, v30] : Fin 4 → IVec S16 32) a x).toNat < S2x4x32x32.size a)
theorem k0_idx1285_inb : ∀ (v30 : IVec S16 32) (v3284 : IVec S16 32) (v3478 : IVec S16 32) (v3605 : IVec S16 32) (k0_hw976 : k0_chk976 v30 v3284 v3478 v3605), ∀ a x, ((![v3284, v3478, v3605, v30] : Fin 4 → IVec S16 32) a x).toNat < S2x4x32x32.size a := fun v30 v3284 v3478 v3605 k0_hw976 => k0_hw976

def k0_chk977 (v3284 : IVec S16 32) (v3478 : IVec S16 32) (v3605 : IVec S16 32) (v3608 : IVec S16 32) : Prop :=
  (∀ a x, ((![v3284, v3478, v3605, v3608] : Fin 4 → IVec S16 32) a x).toNat < S2x4x32x32.size a)
theorem k0_idx1286_inb : ∀ (v3284 : IVec S16 32) (v3478 : IVec S16 32) (v3605 : IVec S16 32) (v3608 : IVec S16 32) (k0_hw977 : k0_chk977 v3284 v3478 v3605 v3608), ∀ a x, ((![v3284, v3478, v3605, v3608] : Fin 4 → IVec S16 32) a x).toNat < S2x4x32x32.size a := fun v3284 v3478 v3605 v3608 k0_hw977 => k0_hw977

def k0_chk978 (v33 : IVec S16 32) (v35 : IVec S16 32) (v3284 : IVec S16 32) (v3478 : IVec S16 32) (v3610 : IVec S16 32) : Prop :=
  (∀ a x, ((![v3284, v3478, v3610, v33] : Fin 4 → IVec S16 32) a x).toNat < S2x4x94x96.size a) ∧
  (∀ a x, ((![v3284, v3478, v3610, v35] : Fin 4 → IVec S16 32) a x).toNat < S2x4x94x96.size a)
theorem k0_idx1287_inb : ∀ (v33 : IVec S16 32) (v35 : IVec S16 32) (v3284 : IVec S16 32) (v3478 : IVec S16 32) (v3610 : IVec S16 32) (k0_hw978 : k0_chk978 v33 v35 v3284 v3478 v3610), ∀ a x, ((![v3284, v3478, v3610, v33] : Fin 4 → IVec S16 32) a x).toNat < S2x4x94x96.size a := fun v33 v35 v3284 v3478 v3610 k0_hw978 => k0_hw978.1
theorem k0_idx1288_inb : ∀ (v33 : IVec S16 32) (v35 : IVec S16 32) (v3284 : IVec S16 32) (v3478 : IVec S16 32) (v3610 : IVec S16 32) (k0_hw978 : k0_chk978 v33 v35 v3284 v3478 v3610), ∀ a x, ((![v3284, v3478, v3610, v35] : Fin 4 → IVec S16 32) a x).toNat < S2x4x94x96.size a := fun v33 v35 v3284 v3478 v3610 k0_hw978 => k0_hw978.2

def k0_chk979 (v30 : IVec S16 32) (v3284 : IVec S16 32) (v3478 : IVec S16 32) (v3611 : IVec S16 32) : Prop :=
  (∀ a x, ((![v3284, v3478, v3611, v30] : Fin 4 → IVec S16 32) a x).toNat < S2x4x32x32.size a)
theorem k0_idx1289_inb : ∀ (v30 : IVec S16 32) (v3284 : IVec S16 32) (v3478 : IVec S16 32) (v3611 : IVec S16 32) (k0_hw979 : k0_chk979 v30 v3284 v3478 v3611), ∀ a x, ((![v3284, v3478, v3611, v30] : Fin 4 → IVec S16 32) a x).toNat < S2x4x32x32.size a := fun v30 v3284 v3478 v3611 k0_hw979 => k0_hw979

def k0_chk980 (v3284 : IVec S16 32) (v3478 : IVec S16 32) (v3611 : IVec S16 32) (v3614 : IVec S16 32) : Prop :=
  (∀ a x, ((![v3284, v3478, v3611, v3614] : Fin 4 → IVec S16 32) a x).toNat < S2x4x32x32.size a)
theorem k0_idx1290_inb : ∀ (v3284 : IVec S16 32) (v3478 : IVec S16 32) (v3611 : IVec S16 32) (v3614 : IVec S16 32) (k0_hw980 : k0_chk980 v3284 v3478 v3611 v3614), ∀ a x, ((![v3284, v3478, v3611, v3614] : Fin 4 → IVec S16 32) a x).toNat < S2x4x32x32.size a := fun v3284 v3478 v3611 v3614 k0_hw980 => k0_hw980

def k0_chk981 (v33 : IVec S16 32) (v35 : IVec S16 32) (v3284 : IVec S16 32) (v3478 : IVec S16 32) (v3616 : IVec S16 32) : Prop :=
  (∀ a x, ((![v3284, v3478, v3616, v33] : Fin 4 → IVec S16 32) a x).toNat < S2x4x94x96.size a) ∧
  (∀ a x, ((![v3284, v3478, v3616, v35] : Fin 4 → IVec S16 32) a x).toNat < S2x4x94x96.size a)
theorem k0_idx1291_inb : ∀ (v33 : IVec S16 32) (v35 : IVec S16 32) (v3284 : IVec S16 32) (v3478 : IVec S16 32) (v3616 : IVec S16 32) (k0_hw981 : k0_chk981 v33 v35 v3284 v3478 v3616), ∀ a x, ((![v3284, v3478, v3616, v33] : Fin 4 → IVec S16 32) a x).toNat < S2x4x94x96.size a := fun v33 v35 v3284 v3478 v3616 k0_hw981 => k0_hw981.1
theorem k0_idx1292_inb : ∀ (v33 : IVec S16 32) (v35 : IVec S16 32) (v3284 : IVec S16 32) (v3478 : IVec S16 32) (v3616 : IVec S16 32) (k0_hw981 : k0_chk981 v33 v35 v3284 v3478 v3616), ∀ a x, ((![v3284, v3478, v3616, v35] : Fin 4 → IVec S16 32) a x).toNat < S2x4x94x96.size a := fun v33 v35 v3284 v3478 v3616 k0_hw981 => k0_hw981.2

def k0_chk982 (v30 : IVec S16 32) (v3284 : IVec S16 32) (v3478 : IVec S16 32) (v3617 : IVec S16 32) : Prop :=
  (∀ a x, ((![v3284, v3478, v3617, v30] : Fin 4 → IVec S16 32) a x).toNat < S2x4x32x32.size a)
theorem k0_idx1293_inb : ∀ (v30 : IVec S16 32) (v3284 : IVec S16 32) (v3478 : IVec S16 32) (v3617 : IVec S16 32) (k0_hw982 : k0_chk982 v30 v3284 v3478 v3617), ∀ a x, ((![v3284, v3478, v3617, v30] : Fin 4 → IVec S16 32) a x).toNat < S2x4x32x32.size a := fun v30 v3284 v3478 v3617 k0_hw982 => k0_hw982

def k0_chk983 (v3284 : IVec S16 32) (v3478 : IVec S16 32) (v3617 : IVec S16 32) (v3620 : IVec S16 32) : Prop :=
  (∀ a x, ((![v3284, v3478, v3617, v3620] : Fin 4 → IVec S16 32) a x).toNat < S2x4x32x32.size a)
theorem k0_idx1294_inb : ∀ (v3284 : IVec S16 32) (v3478 : IVec S16 32) (v3617 : IVec S16 32) (v3620 : IVec S16 32) (k0_hw983 : k0_chk983 v3284 v3478 v3617 v3620), ∀ a x, ((![v3284, v3478, v3617, v3620] : Fin 4 → IVec S16 32) a x).toNat < S2x4x32x32.size a := fun v3284 v3478 v3617 v3620 k0_hw983 => k0_hw983

def k0_chk984 (v33 : IVec S16 32) (v35 : IVec S16 32) (v3284 : IVec S16 32) (v3478 : IVec S16 32) (v3622 : IVec S16 32) : Prop :=
  (∀ a x, ((![v3284, v3478, v3622, v33] : Fin 4 → IVec S16 32) a x).toNat < S2x4x94x96.size a) ∧
  (∀ a x, ((![v3284, v3478, v3622, v35] : Fin 4 → IVec S16 32) a x).toNat < S2x4x94x96.size a)
theorem k0_idx1295_inb : ∀ (v33 : IVec S16 32) (v35 : IVec S16 32) (v3284 : IVec S16 32) (v3478 : IVec S16 32) (v3622 : IVec S16 32) (k0_hw984 : k0_chk984 v33 v35 v3284 v3478 v3622), ∀ a x, ((![v3284, v3478, v3622, v33] : Fin 4 → IVec S16 32) a x).toNat < S2x4x94x96.size a := fun v33 v35 v3284 v3478 v3622 k0_hw984 => k0_hw984.1
theorem k0_idx1296_inb : ∀ (v33 : IVec S16 32) (v35 : IVec S16 32) (v3284 : IVec S16 32) (v3478 : IVec S16 32) (v3622 : IVec S16 32) (k0_hw984 : k0_chk984 v33 v35 v3284 v3478 v3622), ∀ a x, ((![v3284, v3478, v3622, v35] : Fin 4 → IVec S16 32) a x).toNat < S2x4x94x96.size a := fun v33 v35 v3284 v3478 v3622 k0_hw984 => k0_hw984.2

def k0_chk985 (v30 : IVec S16 32) (v3284 : IVec S16 32) (v3478 : IVec S16 32) (v3623 : IVec S16 32) : Prop :=
  (∀ a x, ((![v3284, v3478, v3623, v30] : Fin 4 → IVec S16 32) a x).toNat < S2x4x32x32.size a)
theorem k0_idx1297_inb : ∀ (v30 : IVec S16 32) (v3284 : IVec S16 32) (v3478 : IVec S16 32) (v3623 : IVec S16 32) (k0_hw985 : k0_chk985 v30 v3284 v3478 v3623), ∀ a x, ((![v3284, v3478, v3623, v30] : Fin 4 → IVec S16 32) a x).toNat < S2x4x32x32.size a := fun v30 v3284 v3478 v3623 k0_hw985 => k0_hw985

def k0_chk986 (v3284 : IVec S16 32) (v3478 : IVec S16 32) (v3623 : IVec S16 32) (v3626 : IVec S16 32) : Prop :=
  (∀ a x, ((![v3284, v3478, v3623, v3626] : Fin 4 → IVec S16 32) a x).toNat < S2x4x32x32.size a)
theorem k0_idx1298_inb : ∀ (v3284 : IVec S16 32) (v3478 : IVec S16 32) (v3623 : IVec S16 32) (v3626 : IVec S16 32) (k0_hw986 : k0_chk986 v3284 v3478 v3623 v3626), ∀ a x, ((![v3284, v3478, v3623, v3626] : Fin 4 → IVec S16 32) a x).toNat < S2x4x32x32.size a := fun v3284 v3478 v3623 v3626 k0_hw986 => k0_hw986

def k0_chk987 (v33 : IVec S16 32) (v35 : IVec S16 32) (v3284 : IVec S16 32) (v3478 : IVec S16 32) (v3628 : IVec S16 32) : Prop :=
  (∀ a x, ((![v3284, v3478, v3628, v33] : Fin 4 → IVec S16 32) a x).toNat < S2x4x94x96.size a) ∧
  (∀ a x, ((![v3284, v3478, v3628, v35] : Fin 4 → IVec S16 32) a x).toNat < S2x4x94x96.size a)
theorem k0_idx1299_inb : ∀ (v33 : IVec S16 32) (v35 : IVec S16 32) (v3284 : IVec S16 32) (v3478 : IVec S16 32) (v3628 : IVec S16 32) (k0_hw987 : k0_chk987 v33 v35 v3284 v3478 v3628), ∀ a x, ((![v3284, v3478, v3628, v33] : Fin 4 → IVec S16 32) a x).toNat < S2x4x94x96.size a := fun v33 v35 v3284 v3478 v3628 k0_hw987 => k0_hw987.1
theorem k0_idx1300_inb : ∀ (v33 : IVec S16 32) (v35 : IVec S16 32) (v3284 : IVec S16 32) (v3478 : IVec S16 32) (v3628 : IVec S16 32) (k0_hw987 : k0_chk987 v33 v35 v3284 v3478 v3628), ∀ a x, ((![v3284, v3478, v3628, v35] : Fin 4 → IVec S16 32) a x).toNat < S2x4x94x96.size a := fun v33 v35 v3284 v3478 v3628 k0_hw987 => k0_hw987.2

def k0_chk988 (v30 : IVec S16 32) (v3284 : IVec S16 32) (v3478 : IVec S16 32) (v3629 : IVec S16 32) : Prop :=
  (∀ a x, ((![v3284, v3478, v3629, v30] : Fin 4 → IVec S16 32) a x).toNat < S2x4x32x32.size a)
theorem k0_idx1301_inb : ∀ (v30 : IVec S16 32) (v3284 : IVec S16 32) (v3478 : IVec S16 32) (v3629 : IVec S16 32) (k0_hw988 : k0_chk988 v30 v3284 v3478 v3629), ∀ a x, ((![v3284, v3478, v3629, v30] : Fin 4 → IVec S16 32) a x).toNat < S2x4x32x32.size a := fun v30 v3284 v3478 v3629 k0_hw988 => k0_hw988

def k0_chk989 (v3284 : IVec S16 32) (v3478 : IVec S16 32) (v3629 : IVec S16 32) (v3632 : IVec S16 32) : Prop :=
  (∀ a x, ((![v3284, v3478, v3629, v3632] : Fin 4 → IVec S16 32) a x).toNat < S2x4x32x32.size a)
theorem k0_idx1302_inb : ∀ (v3284 : IVec S16 32) (v3478 : IVec S16 32) (v3629 : IVec S16 32) (v3632 : IVec S16 32) (k0_hw989 : k0_chk989 v3284 v3478 v3629 v3632), ∀ a x, ((![v3284, v3478, v3629, v3632] : Fin 4 → IVec S16 32) a x).toNat < S2x4x32x32.size a := fun v3284 v3478 v3629 v3632 k0_hw989 => k0_hw989

def k0_chk990 (v33 : IVec S16 32) (v35 : IVec S16 32) (v3284 : IVec S16 32) (v3478 : IVec S16 32) (v3634 : IVec S16 32) : Prop :=
  (∀ a x, ((![v3284, v3478, v3634, v33] : Fin 4 → IVec S16 32) a x).toNat < S2x4x94x96.size a) ∧
  (∀ a x, ((![v3284, v3478, v3634, v35] : Fin 4 → IVec S16 32) a x).toNat < S2x4x94x96.size a)
theorem k0_idx1303_inb : ∀ (v33 : IVec S16 32) (v35 : IVec S16 32) (v3284 : IVec S16 32) (v3478 : IVec S16 32) (v3634 : IVec S16 32) (k0_hw990 : k0_chk990 v33 v35 v3284 v3478 v3634), ∀ a x, ((![v3284, v3478, v3634, v33] : Fin 4 → IVec S16 32) a x).toNat < S2x4x94x96.size a := fun v33 v35 v3284 v3478 v3634 k0_hw990 => k0_hw990.1
theorem k0_idx1304_inb : ∀ (v33 : IVec S16 32) (v35 : IVec S16 32) (v3284 : IVec S16 32) (v3478 : IVec S16 32) (v3634 : IVec S16 32) (k0_hw990 : k0_chk990 v33 v35 v3284 v3478 v3634), ∀ a x, ((![v3284, v3478, v3634, v35] : Fin 4 → IVec S16 32) a x).toNat < S2x4x94x96.size a := fun v33 v35 v3284 v3478 v3634 k0_hw990 => k0_hw990.2

def k0_chk991 (v30 : IVec S16 32) (v3284 : IVec S16 32) (v3478 : IVec S16 32) (v3635 : IVec S16 32) : Prop :=
  (∀ a x, ((![v3284, v3478, v3635, v30] : Fin 4 → IVec S16 32) a x).toNat < S2x4x32x32.size a)
theorem k0_idx1305_inb : ∀ (v30 : IVec S16 32) (v3284 : IVec S16 32) (v3478 : IVec S16 32) (v3635 : IVec S16 32) (k0_hw991 : k0_chk991 v30 v3284 v3478 v3635), ∀ a x, ((![v3284, v3478, v3635, v30] : Fin 4 → IVec S16 32) a x).toNat < S2x4x32x32.size a := fun v30 v3284 v3478 v3635 k0_hw991 => k0_hw991

def k0_chk992 (v3284 : IVec S16 32) (v3478 : IVec S16 32) (v3635 : IVec S16 32) (v3638 : IVec S16 32) : Prop :=
  (∀ a x, ((![v3284, v3478, v3635, v3638] : Fin 4 → IVec S16 32) a x).toNat < S2x4x32x32.size a)
theorem k0_idx1306_inb : ∀ (v3284 : IVec S16 32) (v3478 : IVec S16 32) (v3635 : IVec S16 32) (v3638 : IVec S16 32) (k0_hw992 : k0_chk992 v3284 v3478 v3635 v3638), ∀ a x, ((![v3284, v3478, v3635, v3638] : Fin 4 → IVec S16 32) a x).toNat < S2x4x32x32.size a := fun v3284 v3478 v3635 v3638 k0_hw992 => k0_hw992

def k0_chk993 (v33 : IVec S16 32) (v35 : IVec S16 32) (v3284 : IVec S16 32) (v3478 : IVec S16 32) (v3640 : IVec S16 32) : Prop :=
  (∀ a x, ((![v3284, v3478, v3640, v33] : Fin 4 → IVec S16 32) a x).toNat < S2x4x94x96.size a) ∧
  (∀ a x, ((![v3284, v3478, v3640, v35] : Fin 4 → IVec S16 32) a x).toNat < S2x4x94x96.size a)
theorem k0_idx1307_inb : ∀ (v33 : IVec S16 32) (v35 : IVec S16 32) (v3284 : IVec S16 32) (v3478 : IVec S16 32) (v3640 : IVec S16 32) (k0_hw993 : k0_chk993 v33 v35 v3284 v3478 v3640), ∀ a x, ((![v3284, v3478, v3640, v33] : Fin 4 → IVec S16 32) a x).toNat < S2x4x94x96.size a := fun v33 v35 v3284 v3478 v3640 k0_hw993 => k0_hw993.1
theorem k0_idx1308_inb : ∀ (v33 : IVec S16 32) (v35 : IVec S16 32) (v3284 : IVec S16 32) (v3478 : IVec S16 32) (v3640 : IVec S16 32) (k0_hw993 : k0_chk993 v33 v35 v3284 v3478 v3640), ∀ a x, ((![v3284, v3478, v3640, v35] : Fin 4 → IVec S16 32) a x).toNat < S2x4x94x96.size a := fun v33 v35 v3284 v3478 v3640 k0_hw993 => k0_hw993.2

def k0_chk994 (v30 : IVec S16 32) (v3284 : IVec S16 32) (v3478 : IVec S16 32) (v3641 : IVec S16 32) : Prop :=
  (∀ a x, ((![v3284, v3478, v3641, v30] : Fin 4 → IVec S16 32) a x).toNat < S2x4x32x32.size a)
theorem k0_idx1309_inb : ∀ (v30 : IVec S16 32) (v3284 : IVec S16 32) (v3478 : IVec S16 32) (v3641 : IVec S16 32) (k0_hw994 : k0_chk994 v30 v3284 v3478 v3641), ∀ a x, ((![v3284, v3478, v3641, v30] : Fin 4 → IVec S16 32) a x).toNat < S2x4x32x32.size a := fun v30 v3284 v3478 v3641 k0_hw994 => k0_hw994

def k0_chk995 (v3284 : IVec S16 32) (v3478 : IVec S16 32) (v3641 : IVec S16 32) (v3644 : IVec S16 32) : Prop :=
  (∀ a x, ((![v3284, v3478, v3641, v3644] : Fin 4 → IVec S16 32) a x).toNat < S2x4x32x32.size a)
theorem k0_idx1310_inb : ∀ (v3284 : IVec S16 32) (v3478 : IVec S16 32) (v3641 : IVec S16 32) (v3644 : IVec S16 32) (k0_hw995 : k0_chk995 v3284 v3478 v3641 v3644), ∀ a x, ((![v3284, v3478, v3641, v3644] : Fin 4 → IVec S16 32) a x).toNat < S2x4x32x32.size a := fun v3284 v3478 v3641 v3644 k0_hw995 => k0_hw995

def k0_chk996 (v33 : IVec S16 32) (v35 : IVec S16 32) (v3284 : IVec S16 32) (v3478 : IVec S16 32) (v3646 : IVec S16 32) : Prop :=
  (∀ a x, ((![v3284, v3478, v3646, v33] : Fin 4 → IVec S16 32) a x).toNat < S2x4x94x96.size a) ∧
  (∀ a x, ((![v3284, v3478, v3646, v35] : Fin 4 → IVec S16 32) a x).toNat < S2x4x94x96.size a)
theorem k0_idx1311_inb : ∀ (v33 : IVec S16 32) (v35 : IVec S16 32) (v3284 : IVec S16 32) (v3478 : IVec S16 32) (v3646 : IVec S16 32) (k0_hw996 : k0_chk996 v33 v35 v3284 v3478 v3646), ∀ a x, ((![v3284, v3478, v3646, v33] : Fin 4 → IVec S16 32) a x).toNat < S2x4x94x96.size a := fun v33 v35 v3284 v3478 v3646 k0_hw996 => k0_hw996.1
theorem k0_idx1312_inb : ∀ (v33 : IVec S16 32) (v35 : IVec S16 32) (v3284 : IVec S16 32) (v3478 : IVec S16 32) (v3646 : IVec S16 32) (k0_hw996 : k0_chk996 v33 v35 v3284 v3478 v3646), ∀ a x, ((![v3284, v3478, v3646, v35] : Fin 4 → IVec S16 32) a x).toNat < S2x4x94x96.size a := fun v33 v35 v3284 v3478 v3646 k0_hw996 => k0_hw996.2

def k0_chk997 (v30 : IVec S16 32) (v3284 : IVec S16 32) (v3478 : IVec S16 32) (v3647 : IVec S16 32) : Prop :=
  (∀ a x, ((![v3284, v3478, v3647, v30] : Fin 4 → IVec S16 32) a x).toNat < S2x4x32x32.size a)
theorem k0_idx1313_inb : ∀ (v30 : IVec S16 32) (v3284 : IVec S16 32) (v3478 : IVec S16 32) (v3647 : IVec S16 32) (k0_hw997 : k0_chk997 v30 v3284 v3478 v3647), ∀ a x, ((![v3284, v3478, v3647, v30] : Fin 4 → IVec S16 32) a x).toNat < S2x4x32x32.size a := fun v30 v3284 v3478 v3647 k0_hw997 => k0_hw997

def k0_chk998 (v3284 : IVec S16 32) (v3478 : IVec S16 32) (v3647 : IVec S16 32) (v3650 : IVec S16 32) : Prop :=
  (∀ a x, ((![v3284, v3478, v3647, v3650] : Fin 4 → IVec S16 32) a x).toNat < S2x4x32x32.size a)
theorem k0_idx1314_inb : ∀ (v3284 : IVec S16 32) (v3478 : IVec S16 32) (v3647 : IVec S16 32) (v3650 : IVec S16 32) (k0_hw998 : k0_chk998 v3284 v3478 v3647 v3650), ∀ a x, ((![v3284, v3478, v3647, v3650] : Fin 4 → IVec S16 32) a x).toNat < S2x4x32x32.size a := fun v3284 v3478 v3647 v3650 k0_hw998 => k0_hw998

def k0_chk999 (v33 : IVec S16 32) (v35 : IVec S16 32) (v3284 : IVec S16 32) (v3478 : IVec S16 32) (v3652 : IVec S16 32) : Prop :=
  (∀ a x, ((![v3284, v3478, v3652, v33] : Fin 4 → IVec S16 32) a x).toNat < S2x4x94x96.size a) ∧
  (∀ a x, ((![v3284, v3478, v3652, v35] : Fin 4 → IVec S16 32) a x).toNat < S2x4x94x96.size a)
theorem k0_idx1315_inb : ∀ (v33 : IVec S16 32) (v35 : IVec S16 32) (v3284 : IVec S16 32) (v3478 : IVec S16 32) (v3652 : IVec S16 32) (k0_hw999 : k0_chk999 v33 v35 v3284 v3478 v3652), ∀ a x, ((![v3284, v3478, v3652, v33] : Fin 4 → IVec S16 32) a x).toNat < S2x4x94x96.size a := fun v33 v35 v3284 v3478 v3652 k0_hw999 => k0_hw999.1
theorem k0_idx1316_inb : ∀ (v33 : IVec S16 32) (v35 : IVec S16 32) (v3284 : IVec S16 32) (v3478 : IVec S16 32) (v3652 : IVec S16 32) (k0_hw999 : k0_chk999 v33 v35 v3284 v3478 v3652), ∀ a x, ((![v3284, v3478, v3652, v35] : Fin 4 → IVec S16 32) a x).toNat < S2x4x94x96.size a := fun v33 v35 v3284 v3478 v3652 k0_hw999 => k0_hw999.2

def k0_chk1000 (v30 : IVec S16 32) (v3284 : IVec S16 32) (v3478 : IVec S16 32) (v3653 : IVec S16 32) : Prop :=
  (∀ a x, ((![v3284, v3478, v3653, v30] : Fin 4 → IVec S16 32) a x).toNat < S2x4x32x32.size a)
theorem k0_idx1317_inb : ∀ (v30 : IVec S16 32) (v3284 : IVec S16 32) (v3478 : IVec S16 32) (v3653 : IVec S16 32) (k0_hw1000 : k0_chk1000 v30 v3284 v3478 v3653), ∀ a x, ((![v3284, v3478, v3653, v30] : Fin 4 → IVec S16 32) a x).toNat < S2x4x32x32.size a := fun v30 v3284 v3478 v3653 k0_hw1000 => k0_hw1000

def k0_chk1001 (v3284 : IVec S16 32) (v3478 : IVec S16 32) (v3653 : IVec S16 32) (v3656 : IVec S16 32) : Prop :=
  (∀ a x, ((![v3284, v3478, v3653, v3656] : Fin 4 → IVec S16 32) a x).toNat < S2x4x32x32.size a)
theorem k0_idx1318_inb : ∀ (v3284 : IVec S16 32) (v3478 : IVec S16 32) (v3653 : IVec S16 32) (v3656 : IVec S16 32) (k0_hw1001 : k0_chk1001 v3284 v3478 v3653 v3656), ∀ a x, ((![v3284, v3478, v3653, v3656] : Fin 4 → IVec S16 32) a x).toNat < S2x4x32x32.size a := fun v3284 v3478 v3653 v3656 k0_hw1001 => k0_hw1001

def k0_chk1002 (v33 : IVec S16 32) (v35 : IVec S16 32) (v3284 : IVec S16 32) (v3478 : IVec S16 32) (v3658 : IVec S16 32) : Prop :=
  (∀ a x, ((![v3284, v3478, v3658, v33] : Fin 4 → IVec S16 32) a x).toNat < S2x4x94x96.size a) ∧
  (∀ a x, ((![v3284, v3478, v3658, v35] : Fin 4 → IVec S16 32) a x).toNat < S2x4x94x96.size a)
theorem k0_idx1319_inb : ∀ (v33 : IVec S16 32) (v35 : IVec S16 32) (v3284 : IVec S16 32) (v3478 : IVec S16 32) (v3658 : IVec S16 32) (k0_hw1002 : k0_chk1002 v33 v35 v3284 v3478 v3658), ∀ a x, ((![v3284, v3478, v3658, v33] : Fin 4 → IVec S16 32) a x).toNat < S2x4x94x96.size a := fun v33 v35 v3284 v3478 v3658 k0_hw1002 => k0_hw1002.1
theorem k0_idx1320_inb : ∀ (v33 : IVec S16 32) (v35 : IVec S16 32) (v3284 : IVec S16 32) (v3478 : IVec S16 32) (v3658 : IVec S16 32) (k0_hw1002 : k0_chk1002 v33 v35 v3284 v3478 v3658), ∀ a x, ((![v3284, v3478, v3658, v35] : Fin 4 → IVec S16 32) a x).toNat < S2x4x94x96.size a := fun v33 v35 v3284 v3478 v3658 k0_hw1002 => k0_hw1002.2

def k0_chk1003 (v30 : IVec S16 32) (v3284 : IVec S16 32) (v3478 : IVec S16 32) (v3659 : IVec S16 32) : Prop :=
  (∀ a x, ((![v3284, v3478, v3659, v30] : Fin 4 → IVec S16 32) a x).toNat < S2x4x32x32.size a)
theorem k0_idx1321_inb : ∀ (v30 : IVec S16 32) (v3284 : IVec S16 32) (v3478 : IVec S16 32) (v3659 : IVec S16 32) (k0_hw1003 : k0_chk1003 v30 v3284 v3478 v3659), ∀ a x, ((![v3284, v3478, v3659, v30] : Fin 4 → IVec S16 32) a x).toNat < S2x4x32x32.size a := fun v30 v3284 v3478 v3659 k0_hw1003 => k0_hw1003

def k0_chk1004 (v3284 : IVec S16 32) (v3478 : IVec S16 32) (v3659 : IVec S16 32) (v3662 : IVec S16 32) : Prop :=
  (∀ a x, ((![v3284, v3478, v3659, v3662] : Fin 4 → IVec S16 32) a x).toNat < S2x4x32x32.size a)
theorem k0_idx1322_inb : ∀ (v3284 : IVec S16 32) (v3478 : IVec S16 32) (v3659 : IVec S16 32) (v3662 : IVec S16 32) (k0_hw1004 : k0_chk1004 v3284 v3478 v3659 v3662), ∀ a x, ((![v3284, v3478, v3659, v3662] : Fin 4 → IVec S16 32) a x).toNat < S2x4x32x32.size a := fun v3284 v3478 v3659 v3662 k0_hw1004 => k0_hw1004

def k0_chk1005 (v33 : IVec S16 32) (v35 : IVec S16 32) (v3284 : IVec S16 32) (v3478 : IVec S16 32) (v3664 : IVec S16 32) : Prop :=
  (∀ a x, ((![v3284, v3478, v3664, v33] : Fin 4 → IVec S16 32) a x).toNat < S2x4x94x96.size a) ∧
  (∀ a x, ((![v3284, v3478, v3664, v35] : Fin 4 → IVec S16 32) a x).toNat < S2x4x94x96.size a)
theorem k0_idx1323_inb : ∀ (v33 : IVec S16 32) (v35 : IVec S16 32) (v3284 : IVec S16 32) (v3478 : IVec S16 32) (v3664 : IVec S16 32) (k0_hw1005 : k0_chk1005 v33 v35 v3284 v3478 v3664), ∀ a x, ((![v3284, v3478, v3664, v33] : Fin 4 → IVec S16 32) a x).toNat < S2x4x94x96.size a := fun v33 v35 v3284 v3478 v3664 k0_hw1005 => k0_hw1005.1
theorem k0_idx1324_inb : ∀ (v33 : IVec S16 32) (v35 : IVec S16 32) (v3284 : IVec S16 32) (v3478 : IVec S16 32) (v3664 : IVec S16 32) (k0_hw1005 : k0_chk1005 v33 v35 v3284 v3478 v3664), ∀ a x, ((![v3284, v3478, v3664, v35] : Fin 4 → IVec S16 32) a x).toNat < S2x4x94x96.size a := fun v33 v35 v3284 v3478 v3664 k0_hw1005 => k0_hw1005.2

def k0_chk1006 (v30 : IVec S16 32) (v3284 : IVec S16 32) (v3478 : IVec S16 32) (v3665 : IVec S16 32) : Prop :=
  (∀ a x, ((![v3284, v3478, v3665, v30] : Fin 4 → IVec S16 32) a x).toNat < S2x4x32x32.size a)
theorem k0_idx1325_inb : ∀ (v30 : IVec S16 32) (v3284 : IVec S16 32) (v3478 : IVec S16 32) (v3665 : IVec S16 32) (k0_hw1006 : k0_chk1006 v30 v3284 v3478 v3665), ∀ a x, ((![v3284, v3478, v3665, v30] : Fin 4 → IVec S16 32) a x).toNat < S2x4x32x32.size a := fun v30 v3284 v3478 v3665 k0_hw1006 => k0_hw1006

def k0_chk1007 (v3284 : IVec S16 32) (v3478 : IVec S16 32) (v3665 : IVec S16 32) (v3668 : IVec S16 32) : Prop :=
  (∀ a x, ((![v3284, v3478, v3665, v3668] : Fin 4 → IVec S16 32) a x).toNat < S2x4x32x32.size a)
theorem k0_idx1326_inb : ∀ (v3284 : IVec S16 32) (v3478 : IVec S16 32) (v3665 : IVec S16 32) (v3668 : IVec S16 32) (k0_hw1007 : k0_chk1007 v3284 v3478 v3665 v3668), ∀ a x, ((![v3284, v3478, v3665, v3668] : Fin 4 → IVec S16 32) a x).toNat < S2x4x32x32.size a := fun v3284 v3478 v3665 v3668 k0_hw1007 => k0_hw1007

def k0_chk1008 (v33 : IVec S16 32) (v35 : IVec S16 32) (v3284 : IVec S16 32) (v3478 : IVec S16 32) (v3670 : IVec S16 32) : Prop :=
  (∀ a x, ((![v3284, v3478, v3670, v33] : Fin 4 → IVec S16 32) a x).toNat < S2x4x94x96.size a) ∧
  (∀ a x, ((![v3284, v3478, v3670, v35] : Fin 4 → IVec S16 32) a x).toNat < S2x4x94x96.size a)
theorem k0_idx1327_inb : ∀ (v33 : IVec S16 32) (v35 : IVec S16 32) (v3284 : IVec S16 32) (v3478 : IVec S16 32) (v3670 : IVec S16 32) (k0_hw1008 : k0_chk1008 v33 v35 v3284 v3478 v3670), ∀ a x, ((![v3284, v3478, v3670, v33] : Fin 4 → IVec S16 32) a x).toNat < S2x4x94x96.size a := fun v33 v35 v3284 v3478 v3670 k0_hw1008 => k0_hw1008.1
theorem k0_idx1328_inb : ∀ (v33 : IVec S16 32) (v35 : IVec S16 32) (v3284 : IVec S16 32) (v3478 : IVec S16 32) (v3670 : IVec S16 32) (k0_hw1008 : k0_chk1008 v33 v35 v3284 v3478 v3670), ∀ a x, ((![v3284, v3478, v3670, v35] : Fin 4 → IVec S16 32) a x).toNat < S2x4x94x96.size a := fun v33 v35 v3284 v3478 v3670 k0_hw1008 => k0_hw1008.2

def k0_chk1009 (v30 : IVec S16 32) (v3284 : IVec S16 32) (v3671 : IVec S16 32) (v3672 : IVec S16 32) : Prop :=
  (∀ a x, ((![v3284, v3671, v3672, v30] : Fin 4 → IVec S16 32) a x).toNat < S2x4x32x32.size a)
theorem k0_idx1329_inb : ∀ (v30 : IVec S16 32) (v3284 : IVec S16 32) (v3671 : IVec S16 32) (v3672 : IVec S16 32) (k0_hw1009 : k0_chk1009 v30 v3284 v3671 v3672), ∀ a x, ((![v3284, v3671, v3672, v30] : Fin 4 → IVec S16 32) a x).toNat < S2x4x32x32.size a := fun v30 v3284 v3671 v3672 k0_hw1009 => k0_hw1009

def k0_chk1010 (v3284 : IVec S16 32) (v3671 : IVec S16 32) (v3672 : IVec S16 32) (v3675 : IVec S16 32) : Prop :=
  (∀ a x, ((![v3284, v3671, v3672, v3675] : Fin 4 → IVec S16 32) a x).toNat < S2x4x32x32.size a)
theorem k0_idx1330_inb : ∀ (v3284 : IVec S16 32) (v3671 : IVec S16 32) (v3672 : IVec S16 32) (v3675 : IVec S16 32) (k0_hw1010 : k0_chk1010 v3284 v3671 v3672 v3675), ∀ a x, ((![v3284, v3671, v3672, v3675] : Fin 4 → IVec S16 32) a x).toNat < S2x4x32x32.size a := fun v3284 v3671 v3672 v3675 k0_hw1010 => k0_hw1010

def k0_chk1011 (v33 : IVec S16 32) (v35 : IVec S16 32) (v3284 : IVec S16 32) (v3671 : IVec S16 32) (v3677 : IVec S16 32) : Prop :=
  (∀ a x, ((![v3284, v3671, v3677, v33] : Fin 4 → IVec S16 32) a x).toNat < S2x4x94x96.size a) ∧
  (∀ a x, ((![v3284, v3671, v3677, v35] : Fin 4 → IVec S16 32) a x).toNat < S2x4x94x96.size a)
theorem k0_idx1331_inb : ∀ (v33 : IVec S16 32) (v35 : IVec S16 32) (v3284 : IVec S16 32) (v3671 : IVec S16 32) (v3677 : IVec S16 32) (k0_hw1011 : k0_chk1011 v33 v35 v3284 v3671 v3677), ∀ a x, ((![v3284, v3671, v3677, v33] : Fin 4 → IVec S16 32) a x).toNat < S2x4x94x96.size a := fun v33 v35 v3284 v3671 v3677 k0_hw1011 => k0_hw1011.1
theorem k0_idx1332_inb : ∀ (v33 : IVec S16 32) (v35 : IVec S16 32) (v3284 : IVec S16 32) (v3671 : IVec S16 32) (v3677 : IVec S16 32) (k0_hw1011 : k0_chk1011 v33 v35 v3284 v3671 v3677), ∀ a x, ((![v3284, v3671, v3677, v35] : Fin 4 → IVec S16 32) a x).toNat < S2x4x94x96.size a := fun v33 v35 v3284 v3671 v3677 k0_hw1011 => k0_hw1011.2

def k0_chk1012 (v30 : IVec S16 32) (v3284 : IVec S16 32) (v3671 : IVec S16 32) (v3678 : IVec S16 32) : Prop :=
  (∀ a x, ((![v3284, v3671, v3678, v30] : Fin 4 → IVec S16 32) a x).toNat < S2x4x32x32.size a)
theorem k0_idx1333_inb : ∀ (v30 : IVec S16 32) (v3284 : IVec S16 32) (v3671 : IVec S16 32) (v3678 : IVec S16 32) (k0_hw1012 : k0_chk1012 v30 v3284 v3671 v3678), ∀ a x, ((![v3284, v3671, v3678, v30] : Fin 4 → IVec S16 32) a x).toNat < S2x4x32x32.size a := fun v30 v3284 v3671 v3678 k0_hw1012 => k0_hw1012

def k0_chk1013 (v3284 : IVec S16 32) (v3671 : IVec S16 32) (v3678 : IVec S16 32) (v3681 : IVec S16 32) : Prop :=
  (∀ a x, ((![v3284, v3671, v3678, v3681] : Fin 4 → IVec S16 32) a x).toNat < S2x4x32x32.size a)
theorem k0_idx1334_inb : ∀ (v3284 : IVec S16 32) (v3671 : IVec S16 32) (v3678 : IVec S16 32) (v3681 : IVec S16 32) (k0_hw1013 : k0_chk1013 v3284 v3671 v3678 v3681), ∀ a x, ((![v3284, v3671, v3678, v3681] : Fin 4 → IVec S16 32) a x).toNat < S2x4x32x32.size a := fun v3284 v3671 v3678 v3681 k0_hw1013 => k0_hw1013

def k0_chk1014 (v33 : IVec S16 32) (v35 : IVec S16 32) (v3284 : IVec S16 32) (v3671 : IVec S16 32) (v3683 : IVec S16 32) : Prop :=
  (∀ a x, ((![v3284, v3671, v3683, v33] : Fin 4 → IVec S16 32) a x).toNat < S2x4x94x96.size a) ∧
  (∀ a x, ((![v3284, v3671, v3683, v35] : Fin 4 → IVec S16 32) a x).toNat < S2x4x94x96.size a)
theorem k0_idx1335_inb : ∀ (v33 : IVec S16 32) (v35 : IVec S16 32) (v3284 : IVec S16 32) (v3671 : IVec S16 32) (v3683 : IVec S16 32) (k0_hw1014 : k0_chk1014 v33 v35 v3284 v3671 v3683), ∀ a x, ((![v3284, v3671, v3683, v33] : Fin 4 → IVec S16 32) a x).toNat < S2x4x94x96.size a := fun v33 v35 v3284 v3671 v3683 k0_hw1014 => k0_hw1014.1
theorem k0_idx1336_inb : ∀ (v33 : IVec S16 32) (v35 : IVec S16 32) (v3284 : IVec S16 32) (v3671 : IVec S16 32) (v3683 : IVec S16 32) (k0_hw1014 : k0_chk1014 v33 v35 v3284 v3671 v3683), ∀ a x, ((![v3284, v3671, v3683, v35] : Fin 4 → IVec S16 32) a x).toNat < S2x4x94x96.size a := fun v33 v35 v3284 v3671 v3683 k0_hw1014 => k0_hw1014.2

def k0_chk1015 (v30 : IVec S16 32) (v3284 : IVec S16 32) (v3671 : IVec S16 32) (v3684 : IVec S16 32) : Prop :=
  (∀ a x, ((![v3284, v3671, v3684, v30] : Fin 4 → IVec S16 32) a x).toNat < S2x4x32x32.size a)
theorem k0_idx1337_inb : ∀ (v30 : IVec S16 32) (v3284 : IVec S16 32) (v3671 : IVec S16 32) (v3684 : IVec S16 32) (k0_hw1015 : k0_chk1015 v30 v3284 v3671 v3684), ∀ a x, ((![v3284, v3671, v3684, v30] : Fin 4 → IVec S16 32) a x).toNat < S2x4x32x32.size a := fun v30 v3284 v3671 v3684 k0_hw1015 => k0_hw1015

def k0_chk1016 (v3284 : IVec S16 32) (v3671 : IVec S16 32) (v3684 : IVec S16 32) (v3687 : IVec S16 32) : Prop :=
  (∀ a x, ((![v3284, v3671, v3684, v3687] : Fin 4 → IVec S16 32) a x).toNat < S2x4x32x32.size a)
theorem k0_idx1338_inb : ∀ (v3284 : IVec S16 32) (v3671 : IVec S16 32) (v3684 : IVec S16 32) (v3687 : IVec S16 32) (k0_hw1016 : k0_chk1016 v3284 v3671 v3684 v3687), ∀ a x, ((![v3284, v3671, v3684, v3687] : Fin 4 → IVec S16 32) a x).toNat < S2x4x32x32.size a := fun v3284 v3671 v3684 v3687 k0_hw1016 => k0_hw1016

def k0_chk1017 (v33 : IVec S16 32) (v35 : IVec S16 32) (v3284 : IVec S16 32) (v3671 : IVec S16 32) (v3689 : IVec S16 32) : Prop :=
  (∀ a x, ((![v3284, v3671, v3689, v33] : Fin 4 → IVec S16 32) a x).toNat < S2x4x94x96.size a) ∧
  (∀ a x, ((![v3284, v3671, v3689, v35] : Fin 4 → IVec S16 32) a x).toNat < S2x4x94x96.size a)
theorem k0_idx1339_inb : ∀ (v33 : IVec S16 32) (v35 : IVec S16 32) (v3284 : IVec S16 32) (v3671 : IVec S16 32) (v3689 : IVec S16 32) (k0_hw1017 : k0_chk1017 v33 v35 v3284 v3671 v3689), ∀ a x, ((![v3284, v3671, v3689, v33] : Fin 4 → IVec S16 32) a x).toNat < S2x4x94x96.size a := fun v33 v35 v3284 v3671 v3689 k0_hw1017 => k0_hw1017.1
theorem k0_idx1340_inb : ∀ (v33 : IVec S16 32) (v35 : IVec S16 32) (v3284 : IVec S16 32) (v3671 : IVec S16 32) (v3689 : IVec S16 32) (k0_hw1017 : k0_chk1017 v33 v35 v3284 v3671 v3689), ∀ a x, ((![v3284, v3671, v3689, v35] : Fin 4 → IVec S16 32) a x).toNat < S2x4x94x96.size a := fun v33 v35 v3284 v3671 v3689 k0_hw1017 => k0_hw1017.2

def k0_chk1018 (v30 : IVec S16 32) (v3284 : IVec S16 32) (v3671 : IVec S16 32) (v3690 : IVec S16 32) : Prop :=
  (∀ a x, ((![v3284, v3671, v3690, v30] : Fin 4 → IVec S16 32) a x).toNat < S2x4x32x32.size a)
theorem k0_idx1341_inb : ∀ (v30 : IVec S16 32) (v3284 : IVec S16 32) (v3671 : IVec S16 32) (v3690 : IVec S16 32) (k0_hw1018 : k0_chk1018 v30 v3284 v3671 v3690), ∀ a x, ((![v3284, v3671, v3690, v30] : Fin 4 → IVec S16 32) a x).toNat < S2x4x32x32.size a := fun v30 v3284 v3671 v3690 k0_hw1018 => k0_hw1018

def k0_chk1019 (v3284 : IVec S16 32) (v3671 : IVec S16 32) (v3690 : IVec S16 32) (v3693 : IVec S16 32) : Prop :=
  (∀ a x, ((![v3284, v3671, v3690, v3693] : Fin 4 → IVec S16 32) a x).toNat < S2x4x32x32.size a)
theorem k0_idx1342_inb : ∀ (v3284 : IVec S16 32) (v3671 : IVec S16 32) (v3690 : IVec S16 32) (v3693 : IVec S16 32) (k0_hw1019 : k0_chk1019 v3284 v3671 v3690 v3693), ∀ a x, ((![v3284, v3671, v3690, v3693] : Fin 4 → IVec S16 32) a x).toNat < S2x4x32x32.size a := fun v3284 v3671 v3690 v3693 k0_hw1019 => k0_hw1019

def k0_chk1020 (v33 : IVec S16 32) (v35 : IVec S16 32) (v3284 : IVec S16 32) (v3671 : IVec S16 32) (v3695 : IVec S16 32) : Prop :=
  (∀ a x, ((![v3284, v3671, v3695, v33] : Fin 4 → IVec S16 32) a x).toNat < S2x4x94x96.size a) ∧
  (∀ a x, ((![v3284, v3671, v3695, v35] : Fin 4 → IVec S16 32) a x).toNat < S2x4x94x96.size a)
theorem k0_idx1343_inb : ∀ (v33 : IVec S16 32) (v35 : IVec S16 32) (v3284 : IVec S16 32) (v3671 : IVec S16 32) (v3695 : IVec S16 32) (k0_hw1020 : k0_chk1020 v33 v35 v3284 v3671 v3695), ∀ a x, ((![v3284, v3671, v3695, v33] : Fin 4 → IVec S16 32) a x).toNat < S2x4x94x96.size a := fun v33 v35 v3284 v3671 v3695 k0_hw1020 => k0_hw1020.1
theorem k0_idx1344_inb : ∀ (v33 : IVec S16 32) (v35 : IVec S16 32) (v3284 : IVec S16 32) (v3671 : IVec S16 32) (v3695 : IVec S16 32) (k0_hw1020 : k0_chk1020 v33 v35 v3284 v3671 v3695), ∀ a x, ((![v3284, v3671, v3695, v35] : Fin 4 → IVec S16 32) a x).toNat < S2x4x94x96.size a := fun v33 v35 v3284 v3671 v3695 k0_hw1020 => k0_hw1020.2

def k0_chk1021 (v30 : IVec S16 32) (v3284 : IVec S16 32) (v3671 : IVec S16 32) (v3696 : IVec S16 32) : Prop :=
  (∀ a x, ((![v3284, v3671, v3696, v30] : Fin 4 → IVec S16 32) a x).toNat < S2x4x32x32.size a)
theorem k0_idx1345_inb : ∀ (v30 : IVec S16 32) (v3284 : IVec S16 32) (v3671 : IVec S16 32) (v3696 : IVec S16 32) (k0_hw1021 : k0_chk1021 v30 v3284 v3671 v3696), ∀ a x, ((![v3284, v3671, v3696, v30] : Fin 4 → IVec S16 32) a x).toNat < S2x4x32x32.size a := fun v30 v3284 v3671 v3696 k0_hw1021 => k0_hw1021

def k0_chk1022 (v3284 : IVec S16 32) (v3671 : IVec S16 32) (v3696 : IVec S16 32) (v3699 : IVec S16 32) : Prop :=
  (∀ a x, ((![v3284, v3671, v3696, v3699] : Fin 4 → IVec S16 32) a x).toNat < S2x4x32x32.size a)
theorem k0_idx1346_inb : ∀ (v3284 : IVec S16 32) (v3671 : IVec S16 32) (v3696 : IVec S16 32) (v3699 : IVec S16 32) (k0_hw1022 : k0_chk1022 v3284 v3671 v3696 v3699), ∀ a x, ((![v3284, v3671, v3696, v3699] : Fin 4 → IVec S16 32) a x).toNat < S2x4x32x32.size a := fun v3284 v3671 v3696 v3699 k0_hw1022 => k0_hw1022

def k0_chk1023 (v33 : IVec S16 32) (v35 : IVec S16 32) (v3284 : IVec S16 32) (v3671 : IVec S16 32) (v3701 : IVec S16 32) : Prop :=
  (∀ a x, ((![v3284, v3671, v3701, v33] : Fin 4 → IVec S16 32) a x).toNat < S2x4x94x96.size a) ∧
  (∀ a x, ((![v3284, v3671, v3701, v35] : Fin 4 → IVec S16 32) a x).toNat < S2x4x94x96.size a)
theorem k0_idx1347_inb : ∀ (v33 : IVec S16 32) (v35 : IVec S16 32) (v3284 : IVec S16 32) (v3671 : IVec S16 32) (v3701 : IVec S16 32) (k0_hw1023 : k0_chk1023 v33 v35 v3284 v3671 v3701), ∀ a x, ((![v3284, v3671, v3701, v33] : Fin 4 → IVec S16 32) a x).toNat < S2x4x94x96.size a := fun v33 v35 v3284 v3671 v3701 k0_hw1023 => k0_hw1023.1
theorem k0_idx1348_inb : ∀ (v33 : IVec S16 32) (v35 : IVec S16 32) (v3284 : IVec S16 32) (v3671 : IVec S16 32) (v3701 : IVec S16 32) (k0_hw1023 : k0_chk1023 v33 v35 v3284 v3671 v3701), ∀ a x, ((![v3284, v3671, v3701, v35] : Fin 4 → IVec S16 32) a x).toNat < S2x4x94x96.size a := fun v33 v35 v3284 v3671 v3701 k0_hw1023 => k0_hw1023.2

def k0_chk1024 (v30 : IVec S16 32) (v3284 : IVec S16 32) (v3671 : IVec S16 32) (v3702 : IVec S16 32) : Prop :=
  (∀ a x, ((![v3284, v3671, v3702, v30] : Fin 4 → IVec S16 32) a x).toNat < S2x4x32x32.size a)
theorem k0_idx1349_inb : ∀ (v30 : IVec S16 32) (v3284 : IVec S16 32) (v3671 : IVec S16 32) (v3702 : IVec S16 32) (k0_hw1024 : k0_chk1024 v30 v3284 v3671 v3702), ∀ a x, ((![v3284, v3671, v3702, v30] : Fin 4 → IVec S16 32) a x).toNat < S2x4x32x32.size a := fun v30 v3284 v3671 v3702 k0_hw1024 => k0_hw1024

def k0_chk1025 (v3284 : IVec S16 32) (v3671 : IVec S16 32) (v3702 : IVec S16 32) (v3705 : IVec S16 32) : Prop :=
  (∀ a x, ((![v3284, v3671, v3702, v3705] : Fin 4 → IVec S16 32) a x).toNat < S2x4x32x32.size a)
theorem k0_idx1350_inb : ∀ (v3284 : IVec S16 32) (v3671 : IVec S16 32) (v3702 : IVec S16 32) (v3705 : IVec S16 32) (k0_hw1025 : k0_chk1025 v3284 v3671 v3702 v3705), ∀ a x, ((![v3284, v3671, v3702, v3705] : Fin 4 → IVec S16 32) a x).toNat < S2x4x32x32.size a := fun v3284 v3671 v3702 v3705 k0_hw1025 => k0_hw1025

def k0_chk1026 (v33 : IVec S16 32) (v35 : IVec S16 32) (v3284 : IVec S16 32) (v3671 : IVec S16 32) (v3707 : IVec S16 32) : Prop :=
  (∀ a x, ((![v3284, v3671, v3707, v33] : Fin 4 → IVec S16 32) a x).toNat < S2x4x94x96.size a) ∧
  (∀ a x, ((![v3284, v3671, v3707, v35] : Fin 4 → IVec S16 32) a x).toNat < S2x4x94x96.size a)
theorem k0_idx1351_inb : ∀ (v33 : IVec S16 32) (v35 : IVec S16 32) (v3284 : IVec S16 32) (v3671 : IVec S16 32) (v3707 : IVec S16 32) (k0_hw1026 : k0_chk1026 v33 v35 v3284 v3671 v3707), ∀ a x, ((![v3284, v3671, v3707, v33] : Fin 4 → IVec S16 32) a x).toNat < S2x4x94x96.size a := fun v33 v35 v3284 v3671 v3707 k0_hw1026 => k0_hw1026.1
theorem k0_idx1352_inb : ∀ (v33 : IVec S16 32) (v35 : IVec S16 32) (v3284 : IVec S16 32) (v3671 : IVec S16 32) (v3707 : IVec S16 32) (k0_hw1026 : k0_chk1026 v33 v35 v3284 v3671 v3707), ∀ a x, ((![v3284, v3671, v3707, v35] : Fin 4 → IVec S16 32) a x).toNat < S2x4x94x96.size a := fun v33 v35 v3284 v3671 v3707 k0_hw1026 => k0_hw1026.2

def k0_chk1027 (v30 : IVec S16 32) (v3284 : IVec S16 32) (v3671 : IVec S16 32) (v3708 : IVec S16 32) : Prop :=
  (∀ a x, ((![v3284, v3671, v3708, v30] : Fin 4 → IVec S16 32) a x).toNat < S2x4x32x32.size a)
theorem k0_idx1353_inb : ∀ (v30 : IVec S16 32) (v3284 : IVec S16 32) (v3671 : IVec S16 32) (v3708 : IVec S16 32) (k0_hw1027 : k0_chk1027 v30 v3284 v3671 v3708), ∀ a x, ((![v3284, v3671, v3708, v30] : Fin 4 → IVec S16 32) a x).toNat < S2x4x32x32.size a := fun v30 v3284 v3671 v3708 k0_hw1027 => k0_hw1027

def k0_chk1028 (v3284 : IVec S16 32) (v3671 : IVec S16 32) (v3708 : IVec S16 32) (v3711 : IVec S16 32) : Prop :=
  (∀ a x, ((![v3284, v3671, v3708, v3711] : Fin 4 → IVec S16 32) a x).toNat < S2x4x32x32.size a)
theorem k0_idx1354_inb : ∀ (v3284 : IVec S16 32) (v3671 : IVec S16 32) (v3708 : IVec S16 32) (v3711 : IVec S16 32) (k0_hw1028 : k0_chk1028 v3284 v3671 v3708 v3711), ∀ a x, ((![v3284, v3671, v3708, v3711] : Fin 4 → IVec S16 32) a x).toNat < S2x4x32x32.size a := fun v3284 v3671 v3708 v3711 k0_hw1028 => k0_hw1028

def k0_chk1029 (v33 : IVec S16 32) (v35 : IVec S16 32) (v3284 : IVec S16 32) (v3671 : IVec S16 32) (v3713 : IVec S16 32) : Prop :=
  (∀ a x, ((![v3284, v3671, v3713, v33] : Fin 4 → IVec S16 32) a x).toNat < S2x4x94x96.size a) ∧
  (∀ a x, ((![v3284, v3671, v3713, v35] : Fin 4 → IVec S16 32) a x).toNat < S2x4x94x96.size a)
theorem k0_idx1355_inb : ∀ (v33 : IVec S16 32) (v35 : IVec S16 32) (v3284 : IVec S16 32) (v3671 : IVec S16 32) (v3713 : IVec S16 32) (k0_hw1029 : k0_chk1029 v33 v35 v3284 v3671 v3713), ∀ a x, ((![v3284, v3671, v3713, v33] : Fin 4 → IVec S16 32) a x).toNat < S2x4x94x96.size a := fun v33 v35 v3284 v3671 v3713 k0_hw1029 => k0_hw1029.1
theorem k0_idx1356_inb : ∀ (v33 : IVec S16 32) (v35 : IVec S16 32) (v3284 : IVec S16 32) (v3671 : IVec S16 32) (v3713 : IVec S16 32) (k0_hw1029 : k0_chk1029 v33 v35 v3284 v3671 v3713), ∀ a x, ((![v3284, v3671, v3713, v35] : Fin 4 → IVec S16 32) a x).toNat < S2x4x94x96.size a := fun v33 v35 v3284 v3671 v3713 k0_hw1029 => k0_hw1029.2

def k0_chk1030 (v30 : IVec S16 32) (v3284 : IVec S16 32) (v3671 : IVec S16 32) (v3714 : IVec S16 32) : Prop :=
  (∀ a x, ((![v3284, v3671, v3714, v30] : Fin 4 → IVec S16 32) a x).toNat < S2x4x32x32.size a)
theorem k0_idx1357_inb : ∀ (v30 : IVec S16 32) (v3284 : IVec S16 32) (v3671 : IVec S16 32) (v3714 : IVec S16 32) (k0_hw1030 : k0_chk1030 v30 v3284 v3671 v3714), ∀ a x, ((![v3284, v3671, v3714, v30] : Fin 4 → IVec S16 32) a x).toNat < S2x4x32x32.size a := fun v30 v3284 v3671 v3714 k0_hw1030 => k0_hw1030

def k0_chk1031 (v3284 : IVec S16 32) (v3671 : IVec S16 32) (v3714 : IVec S16 32) (v3717 : IVec S16 32) : Prop :=
  (∀ a x, ((![v3284, v3671, v3714, v3717] : Fin 4 → IVec S16 32) a x).toNat < S2x4x32x32.size a)
theorem k0_idx1358_inb : ∀ (v3284 : IVec S16 32) (v3671 : IVec S16 32) (v3714 : IVec S16 32) (v3717 : IVec S16 32) (k0_hw1031 : k0_chk1031 v3284 v3671 v3714 v3717), ∀ a x, ((![v3284, v3671, v3714, v3717] : Fin 4 → IVec S16 32) a x).toNat < S2x4x32x32.size a := fun v3284 v3671 v3714 v3717 k0_hw1031 => k0_hw1031

def k0_chk1032 (v33 : IVec S16 32) (v35 : IVec S16 32) (v3284 : IVec S16 32) (v3671 : IVec S16 32) (v3719 : IVec S16 32) : Prop :=
  (∀ a x, ((![v3284, v3671, v3719, v33] : Fin 4 → IVec S16 32) a x).toNat < S2x4x94x96.size a) ∧
  (∀ a x, ((![v3284, v3671, v3719, v35] : Fin 4 → IVec S16 32) a x).toNat < S2x4x94x96.size a)
theorem k0_idx1359_inb : ∀ (v33 : IVec S16 32) (v35 : IVec S16 32) (v3284 : IVec S16 32) (v3671 : IVec S16 32) (v3719 : IVec S16 32) (k0_hw1032 : k0_chk1032 v33 v35 v3284 v3671 v3719), ∀ a x, ((![v3284, v3671, v3719, v33] : Fin 4 → IVec S16 32) a x).toNat < S2x4x94x96.size a := fun v33 v35 v3284 v3671 v3719 k0_hw1032 => k0_hw1032.1
theorem k0_idx1360_inb : ∀ (v33 : IVec S16 32) (v35 : IVec S16 32) (v3284 : IVec S16 32) (v3671 : IVec S16 32) (v3719 : IVec S16 32) (k0_hw1032 : k0_chk1032 v33 v35 v3284 v3671 v3719), ∀ a x, ((![v3284, v3671, v3719, v35] : Fin 4 → IVec S16 32) a x).toNat < S2x4x94x96.size a := fun v33 v35 v3284 v3671 v3719 k0_hw1032 => k0_hw1032.2

def k0_chk1033 (v30 : IVec S16 32) (v3284 : IVec S16 32) (v3671 : IVec S16 32) (v3720 : IVec S16 32) : Prop :=
  (∀ a x, ((![v3284, v3671, v3720, v30] : Fin 4 → IVec S16 32) a x).toNat < S2x4x32x32.size a)
theorem k0_idx1361_inb : ∀ (v30 : IVec S16 32) (v3284 : IVec S16 32) (v3671 : IVec S16 32) (v3720 : IVec S16 32) (k0_hw1033 : k0_chk1033 v30 v3284 v3671 v3720), ∀ a x, ((![v3284, v3671, v3720, v30] : Fin 4 → IVec S16 32) a x).toNat < S2x4x32x32.size a := fun v30 v3284 v3671 v3720 k0_hw1033 => k0_hw1033

def k0_chk1034 (v3284 : IVec S16 32) (v3671 : IVec S16 32) (v3720 : IVec S16 32) (v3723 : IVec S16 32) : Prop :=
  (∀ a x, ((![v3284, v3671, v3720, v3723] : Fin 4 → IVec S16 32) a x).toNat < S2x4x32x32.size a)
theorem k0_idx1362_inb : ∀ (v3284 : IVec S16 32) (v3671 : IVec S16 32) (v3720 : IVec S16 32) (v3723 : IVec S16 32) (k0_hw1034 : k0_chk1034 v3284 v3671 v3720 v3723), ∀ a x, ((![v3284, v3671, v3720, v3723] : Fin 4 → IVec S16 32) a x).toNat < S2x4x32x32.size a := fun v3284 v3671 v3720 v3723 k0_hw1034 => k0_hw1034

def k0_chk1035 (v33 : IVec S16 32) (v35 : IVec S16 32) (v3284 : IVec S16 32) (v3671 : IVec S16 32) (v3725 : IVec S16 32) : Prop :=
  (∀ a x, ((![v3284, v3671, v3725, v33] : Fin 4 → IVec S16 32) a x).toNat < S2x4x94x96.size a) ∧
  (∀ a x, ((![v3284, v3671, v3725, v35] : Fin 4 → IVec S16 32) a x).toNat < S2x4x94x96.size a)
theorem k0_idx1363_inb : ∀ (v33 : IVec S16 32) (v35 : IVec S16 32) (v3284 : IVec S16 32) (v3671 : IVec S16 32) (v3725 : IVec S16 32) (k0_hw1035 : k0_chk1035 v33 v35 v3284 v3671 v3725), ∀ a x, ((![v3284, v3671, v3725, v33] : Fin 4 → IVec S16 32) a x).toNat < S2x4x94x96.size a := fun v33 v35 v3284 v3671 v3725 k0_hw1035 => k0_hw1035.1
theorem k0_idx1364_inb : ∀ (v33 : IVec S16 32) (v35 : IVec S16 32) (v3284 : IVec S16 32) (v3671 : IVec S16 32) (v3725 : IVec S16 32) (k0_hw1035 : k0_chk1035 v33 v35 v3284 v3671 v3725), ∀ a x, ((![v3284, v3671, v3725, v35] : Fin 4 → IVec S16 32) a x).toNat < S2x4x94x96.size a := fun v33 v35 v3284 v3671 v3725 k0_hw1035 => k0_hw1035.2

def k0_chk1036 (v30 : IVec S16 32) (v3284 : IVec S16 32) (v3671 : IVec S16 32) (v3726 : IVec S16 32) : Prop :=
  (∀ a x, ((![v3284, v3671, v3726, v30] : Fin 4 → IVec S16 32) a x).toNat < S2x4x32x32.size a)
theorem k0_idx1365_inb : ∀ (v30 : IVec S16 32) (v3284 : IVec S16 32) (v3671 : IVec S16 32) (v3726 : IVec S16 32) (k0_hw1036 : k0_chk1036 v30 v3284 v3671 v3726), ∀ a x, ((![v3284, v3671, v3726, v30] : Fin 4 → IVec S16 32) a x).toNat < S2x4x32x32.size a := fun v30 v3284 v3671 v3726 k0_hw1036 => k0_hw1036

def k0_chk1037 (v3284 : IVec S16 32) (v3671 : IVec S16 32) (v3726 : IVec S16 32) (v3729 : IVec S16 32) : Prop :=
  (∀ a x, ((![v3284, v3671, v3726, v3729] : Fin 4 → IVec S16 32) a x).toNat < S2x4x32x32.size a)
theorem k0_idx1366_inb : ∀ (v3284 : IVec S16 32) (v3671 : IVec S16 32) (v3726 : IVec S16 32) (v3729 : IVec S16 32) (k0_hw1037 : k0_chk1037 v3284 v3671 v3726 v3729), ∀ a x, ((![v3284, v3671, v3726, v3729] : Fin 4 → IVec S16 32) a x).toNat < S2x4x32x32.size a := fun v3284 v3671 v3726 v3729 k0_hw1037 => k0_hw1037

def k0_chk1038 (v33 : IVec S16 32) (v35 : IVec S16 32) (v3284 : IVec S16 32) (v3671 : IVec S16 32) (v3731 : IVec S16 32) : Prop :=
  (∀ a x, ((![v3284, v3671, v3731, v33] : Fin 4 → IVec S16 32) a x).toNat < S2x4x94x96.size a) ∧
  (∀ a x, ((![v3284, v3671, v3731, v35] : Fin 4 → IVec S16 32) a x).toNat < S2x4x94x96.size a)
theorem k0_idx1367_inb : ∀ (v33 : IVec S16 32) (v35 : IVec S16 32) (v3284 : IVec S16 32) (v3671 : IVec S16 32) (v3731 : IVec S16 32) (k0_hw1038 : k0_chk1038 v33 v35 v3284 v3671 v3731), ∀ a x, ((![v3284, v3671, v3731, v33] : Fin 4 → IVec S16 32) a x).toNat < S2x4x94x96.size a := fun v33 v35 v3284 v3671 v3731 k0_hw1038 => k0_hw1038.1
theorem k0_idx1368_inb : ∀ (v33 : IVec S16 32) (v35 : IVec S16 32) (v3284 : IVec S16 32) (v3671 : IVec S16 32) (v3731 : IVec S16 32) (k0_hw1038 : k0_chk1038 v33 v35 v3284 v3671 v3731), ∀ a x, ((![v3284, v3671, v3731, v35] : Fin 4 → IVec S16 32) a x).toNat < S2x4x94x96.size a := fun v33 v35 v3284 v3671 v3731 k0_hw1038 => k0_hw1038.2

def k0_chk1039 (v30 : IVec S16 32) (v3284 : IVec S16 32) (v3671 : IVec S16 32) (v3732 : IVec S16 32) : Prop :=
  (∀ a x, ((![v3284, v3671, v3732, v30] : Fin 4 → IVec S16 32) a x).toNat < S2x4x32x32.size a)
theorem k0_idx1369_inb : ∀ (v30 : IVec S16 32) (v3284 : IVec S16 32) (v3671 : IVec S16 32) (v3732 : IVec S16 32) (k0_hw1039 : k0_chk1039 v30 v3284 v3671 v3732), ∀ a x, ((![v3284, v3671, v3732, v30] : Fin 4 → IVec S16 32) a x).toNat < S2x4x32x32.size a := fun v30 v3284 v3671 v3732 k0_hw1039 => k0_hw1039

def k0_chk1040 (v3284 : IVec S16 32) (v3671 : IVec S16 32) (v3732 : IVec S16 32) (v3735 : IVec S16 32) : Prop :=
  (∀ a x, ((![v3284, v3671, v3732, v3735] : Fin 4 → IVec S16 32) a x).toNat < S2x4x32x32.size a)
theorem k0_idx1370_inb : ∀ (v3284 : IVec S16 32) (v3671 : IVec S16 32) (v3732 : IVec S16 32) (v3735 : IVec S16 32) (k0_hw1040 : k0_chk1040 v3284 v3671 v3732 v3735), ∀ a x, ((![v3284, v3671, v3732, v3735] : Fin 4 → IVec S16 32) a x).toNat < S2x4x32x32.size a := fun v3284 v3671 v3732 v3735 k0_hw1040 => k0_hw1040

def k0_chk1041 (v33 : IVec S16 32) (v35 : IVec S16 32) (v3284 : IVec S16 32) (v3671 : IVec S16 32) (v3737 : IVec S16 32) : Prop :=
  (∀ a x, ((![v3284, v3671, v3737, v33] : Fin 4 → IVec S16 32) a x).toNat < S2x4x94x96.size a) ∧
  (∀ a x, ((![v3284, v3671, v3737, v35] : Fin 4 → IVec S16 32) a x).toNat < S2x4x94x96.size a)
theorem k0_idx1371_inb : ∀ (v33 : IVec S16 32) (v35 : IVec S16 32) (v3284 : IVec S16 32) (v3671 : IVec S16 32) (v3737 : IVec S16 32) (k0_hw1041 : k0_chk1041 v33 v35 v3284 v3671 v3737), ∀ a x, ((![v3284, v3671, v3737, v33] : Fin 4 → IVec S16 32) a x).toNat < S2x4x94x96.size a := fun v33 v35 v3284 v3671 v3737 k0_hw1041 => k0_hw1041.1
theorem k0_idx1372_inb : ∀ (v33 : IVec S16 32) (v35 : IVec S16 32) (v3284 : IVec S16 32) (v3671 : IVec S16 32) (v3737 : IVec S16 32) (k0_hw1041 : k0_chk1041 v33 v35 v3284 v3671 v3737), ∀ a x, ((![v3284, v3671, v3737, v35] : Fin 4 → IVec S16 32) a x).toNat < S2x4x94x96.size a := fun v33 v35 v3284 v3671 v3737 k0_hw1041 => k0_hw1041.2

def k0_chk1042 (v30 : IVec S16 32) (v3284 : IVec S16 32) (v3671 : IVec S16 32) (v3738 : IVec S16 32) : Prop :=
  (∀ a x, ((![v3284, v3671, v3738, v30] : Fin 4 → IVec S16 32) a x).toNat < S2x4x32x32.size a)
theorem k0_idx1373_inb : ∀ (v30 : IVec S16 32) (v3284 : IVec S16 32) (v3671 : IVec S16 32) (v3738 : IVec S16 32) (k0_hw1042 : k0_chk1042 v30 v3284 v3671 v3738), ∀ a x, ((![v3284, v3671, v3738, v30] : Fin 4 → IVec S16 32) a x).toNat < S2x4x32x32.size a := fun v30 v3284 v3671 v3738 k0_hw1042 => k0_hw1042

def k0_chk1043 (v3284 : IVec S16 32) (v3671 : IVec S16 32) (v3738 : IVec S16 32) (v3741 : IVec S16 32) : Prop :=
  (∀ a x, ((![v3284, v3671, v3738, v3741] : Fin 4 → IVec S16 32) a x).toNat < S2x4x32x32.size a)
theorem k0_idx1374_inb : ∀ (v3284 : IVec S16 32) (v3671 : IVec S16 32) (v3738 : IVec S16 32) (v3741 : IVec S16 32) (k0_hw1043 : k0_chk1043 v3284 v3671 v3738 v3741), ∀ a x, ((![v3284, v3671, v3738, v3741] : Fin 4 → IVec S16 32) a x).toNat < S2x4x32x32.size a := fun v3284 v3671 v3738 v3741 k0_hw1043 => k0_hw1043

def k0_chk1044 (v33 : IVec S16 32) (v35 : IVec S16 32) (v3284 : IVec S16 32) (v3671 : IVec S16 32) (v3743 : IVec S16 32) : Prop :=
  (∀ a x, ((![v3284, v3671, v3743, v33] : Fin 4 → IVec S16 32) a x).toNat < S2x4x94x96.size a) ∧
  (∀ a x, ((![v3284, v3671, v3743, v35] : Fin 4 → IVec S16 32) a x).toNat < S2x4x94x96.size a)
theorem k0_idx1375_inb : ∀ (v33 : IVec S16 32) (v35 : IVec S16 32) (v3284 : IVec S16 32) (v3671 : IVec S16 32) (v3743 : IVec S16 32) (k0_hw1044 : k0_chk1044 v33 v35 v3284 v3671 v3743), ∀ a x, ((![v3284, v3671, v3743, v33] : Fin 4 → IVec S16 32) a x).toNat < S2x4x94x96.size a := fun v33 v35 v3284 v3671 v3743 k0_hw1044 => k0_hw1044.1
theorem k0_idx1376_inb : ∀ (v33 : IVec S16 32) (v35 : IVec S16 32) (v3284 : IVec S16 32) (v3671 : IVec S16 32) (v3743 : IVec S16 32) (k0_hw1044 : k0_chk1044 v33 v35 v3284 v3671 v3743), ∀ a x, ((![v3284, v3671, v3743, v35] : Fin 4 → IVec S16 32) a x).toNat < S2x4x94x96.size a := fun v33 v35 v3284 v3671 v3743 k0_hw1044 => k0_hw1044.2

def k0_chk1045 (v30 : IVec S16 32) (v3284 : IVec S16 32) (v3671 : IVec S16 32) (v3744 : IVec S16 32) : Prop :=
  (∀ a x, ((![v3284, v3671, v3744, v30] : Fin 4 → IVec S16 32) a x).toNat < S2x4x32x32.size a)
theorem k0_idx1377_inb : ∀ (v30 : IVec S16 32) (v3284 : IVec S16 32) (v3671 : IVec S16 32) (v3744 : IVec S16 32) (k0_hw1045 : k0_chk1045 v30 v3284 v3671 v3744), ∀ a x, ((![v3284, v3671, v3744, v30] : Fin 4 → IVec S16 32) a x).toNat < S2x4x32x32.size a := fun v30 v3284 v3671 v3744 k0_hw1045 => k0_hw1045

def k0_chk1046 (v3284 : IVec S16 32) (v3671 : IVec S16 32) (v3744 : IVec S16 32) (v3747 : IVec S16 32) : Prop :=
  (∀ a x, ((![v3284, v3671, v3744, v3747] : Fin 4 → IVec S16 32) a x).toNat < S2x4x32x32.size a)
theorem k0_idx1378_inb : ∀ (v3284 : IVec S16 32) (v3671 : IVec S16 32) (v3744 : IVec S16 32) (v3747 : IVec S16 32) (k0_hw1046 : k0_chk1046 v3284 v3671 v3744 v3747), ∀ a x, ((![v3284, v3671, v3744, v3747] : Fin 4 → IVec S16 32) a x).toNat < S2x4x32x32.size a := fun v3284 v3671 v3744 v3747 k0_hw1046 => k0_hw1046

def k0_chk1047 (v33 : IVec S16 32) (v35 : IVec S16 32) (v3284 : IVec S16 32) (v3671 : IVec S16 32) (v3749 : IVec S16 32) : Prop :=
  (∀ a x, ((![v3284, v3671, v3749, v33] : Fin 4 → IVec S16 32) a x).toNat < S2x4x94x96.size a) ∧
  (∀ a x, ((![v3284, v3671, v3749, v35] : Fin 4 → IVec S16 32) a x).toNat < S2x4x94x96.size a)
theorem k0_idx1379_inb : ∀ (v33 : IVec S16 32) (v35 : IVec S16 32) (v3284 : IVec S16 32) (v3671 : IVec S16 32) (v3749 : IVec S16 32) (k0_hw1047 : k0_chk1047 v33 v35 v3284 v3671 v3749), ∀ a x, ((![v3284, v3671, v3749, v33] : Fin 4 → IVec S16 32) a x).toNat < S2x4x94x96.size a := fun v33 v35 v3284 v3671 v3749 k0_hw1047 => k0_hw1047.1
theorem k0_idx1380_inb : ∀ (v33 : IVec S16 32) (v35 : IVec S16 32) (v3284 : IVec S16 32) (v3671 : IVec S16 32) (v3749 : IVec S16 32) (k0_hw1047 : k0_chk1047 v33 v35 v3284 v3671 v3749), ∀ a x, ((![v3284, v3671, v3749, v35] : Fin 4 → IVec S16 32) a x).toNat < S2x4x94x96.size a := fun v33 v35 v3284 v3671 v3749 k0_hw1047 => k0_hw1047.2

def k0_chk1048 (v30 : IVec S16 32) (v3284 : IVec S16 32) (v3671 : IVec S16 32) (v3750 : IVec S16 32) : Prop :=
  (∀ a x, ((![v3284, v3671, v3750, v30] : Fin 4 → IVec S16 32) a x).toNat < S2x4x32x32.size a)
theorem k0_idx1381_inb : ∀ (v30 : IVec S16 32) (v3284 : IVec S16 32) (v3671 : IVec S16 32) (v3750 : IVec S16 32) (k0_hw1048 : k0_chk1048 v30 v3284 v3671 v3750), ∀ a x, ((![v3284, v3671, v3750, v30] : Fin 4 → IVec S16 32) a x).toNat < S2x4x32x32.size a := fun v30 v3284 v3671 v3750 k0_hw1048 => k0_hw1048

def k0_chk1049 (v3284 : IVec S16 32) (v3671 : IVec S16 32) (v3750 : IVec S16 32) (v3753 : IVec S16 32) : Prop :=
  (∀ a x, ((![v3284, v3671, v3750, v3753] : Fin 4 → IVec S16 32) a x).toNat < S2x4x32x32.size a)
theorem k0_idx1382_inb : ∀ (v3284 : IVec S16 32) (v3671 : IVec S16 32) (v3750 : IVec S16 32) (v3753 : IVec S16 32) (k0_hw1049 : k0_chk1049 v3284 v3671 v3750 v3753), ∀ a x, ((![v3284, v3671, v3750, v3753] : Fin 4 → IVec S16 32) a x).toNat < S2x4x32x32.size a := fun v3284 v3671 v3750 v3753 k0_hw1049 => k0_hw1049

def k0_chk1050 (v33 : IVec S16 32) (v35 : IVec S16 32) (v3284 : IVec S16 32) (v3671 : IVec S16 32) (v3755 : IVec S16 32) : Prop :=
  (∀ a x, ((![v3284, v3671, v3755, v33] : Fin 4 → IVec S16 32) a x).toNat < S2x4x94x96.size a) ∧
  (∀ a x, ((![v3284, v3671, v3755, v35] : Fin 4 → IVec S16 32) a x).toNat < S2x4x94x96.size a)
theorem k0_idx1383_inb : ∀ (v33 : IVec S16 32) (v35 : IVec S16 32) (v3284 : IVec S16 32) (v3671 : IVec S16 32) (v3755 : IVec S16 32) (k0_hw1050 : k0_chk1050 v33 v35 v3284 v3671 v3755), ∀ a x, ((![v3284, v3671, v3755, v33] : Fin 4 → IVec S16 32) a x).toNat < S2x4x94x96.size a := fun v33 v35 v3284 v3671 v3755 k0_hw1050 => k0_hw1050.1
theorem k0_idx1384_inb : ∀ (v33 : IVec S16 32) (v35 : IVec S16 32) (v3284 : IVec S16 32) (v3671 : IVec S16 32) (v3755 : IVec S16 32) (k0_hw1050 : k0_chk1050 v33 v35 v3284 v3671 v3755), ∀ a x, ((![v3284, v3671, v3755, v35] : Fin 4 → IVec S16 32) a x).toNat < S2x4x94x96.size a := fun v33 v35 v3284 v3671 v3755 k0_hw1050 => k0_hw1050.2

def k0_chk1051 (v30 : IVec S16 32) (v3284 : IVec S16 32) (v3671 : IVec S16 32) (v3756 : IVec S16 32) : Prop :=
  (∀ a x, ((![v3284, v3671, v3756, v30] : Fin 4 → IVec S16 32) a x).toNat < S2x4x32x32.size a)
theorem k0_idx1385_inb : ∀ (v30 : IVec S16 32) (v3284 : IVec S16 32) (v3671 : IVec S16 32) (v3756 : IVec S16 32) (k0_hw1051 : k0_chk1051 v30 v3284 v3671 v3756), ∀ a x, ((![v3284, v3671, v3756, v30] : Fin 4 → IVec S16 32) a x).toNat < S2x4x32x32.size a := fun v30 v3284 v3671 v3756 k0_hw1051 => k0_hw1051

def k0_chk1052 (v3284 : IVec S16 32) (v3671 : IVec S16 32) (v3756 : IVec S16 32) (v3759 : IVec S16 32) : Prop :=
  (∀ a x, ((![v3284, v3671, v3756, v3759] : Fin 4 → IVec S16 32) a x).toNat < S2x4x32x32.size a)
theorem k0_idx1386_inb : ∀ (v3284 : IVec S16 32) (v3671 : IVec S16 32) (v3756 : IVec S16 32) (v3759 : IVec S16 32) (k0_hw1052 : k0_chk1052 v3284 v3671 v3756 v3759), ∀ a x, ((![v3284, v3671, v3756, v3759] : Fin 4 → IVec S16 32) a x).toNat < S2x4x32x32.size a := fun v3284 v3671 v3756 v3759 k0_hw1052 => k0_hw1052

def k0_chk1053 (v33 : IVec S16 32) (v35 : IVec S16 32) (v3284 : IVec S16 32) (v3671 : IVec S16 32) (v3761 : IVec S16 32) : Prop :=
  (∀ a x, ((![v3284, v3671, v3761, v33] : Fin 4 → IVec S16 32) a x).toNat < S2x4x94x96.size a) ∧
  (∀ a x, ((![v3284, v3671, v3761, v35] : Fin 4 → IVec S16 32) a x).toNat < S2x4x94x96.size a)
theorem k0_idx1387_inb : ∀ (v33 : IVec S16 32) (v35 : IVec S16 32) (v3284 : IVec S16 32) (v3671 : IVec S16 32) (v3761 : IVec S16 32) (k0_hw1053 : k0_chk1053 v33 v35 v3284 v3671 v3761), ∀ a x, ((![v3284, v3671, v3761, v33] : Fin 4 → IVec S16 32) a x).toNat < S2x4x94x96.size a := fun v33 v35 v3284 v3671 v3761 k0_hw1053 => k0_hw1053.1
theorem k0_idx1388_inb : ∀ (v33 : IVec S16 32) (v35 : IVec S16 32) (v3284 : IVec S16 32) (v3671 : IVec S16 32) (v3761 : IVec S16 32) (k0_hw1053 : k0_chk1053 v33 v35 v3284 v3671 v3761), ∀ a x, ((![v3284, v3671, v3761, v35] : Fin 4 → IVec S16 32) a x).toNat < S2x4x94x96.size a := fun v33 v35 v3284 v3671 v3761 k0_hw1053 => k0_hw1053.2

def k0_chk1054 (v30 : IVec S16 32) (v3284 : IVec S16 32) (v3671 : IVec S16 32) (v3762 : IVec S16 32) : Prop :=
  (∀ a x, ((![v3284, v3671, v3762, v30] : Fin 4 → IVec S16 32) a x).toNat < S2x4x32x32.size a)
theorem k0_idx1389_inb : ∀ (v30 : IVec S16 32) (v3284 : IVec S16 32) (v3671 : IVec S16 32) (v3762 : IVec S16 32) (k0_hw1054 : k0_chk1054 v30 v3284 v3671 v3762), ∀ a x, ((![v3284, v3671, v3762, v30] : Fin 4 → IVec S16 32) a x).toNat < S2x4x32x32.size a := fun v30 v3284 v3671 v3762 k0_hw1054 => k0_hw1054

def k0_chk1055 (v3284 : IVec S16 32) (v3671 : IVec S16 32) (v3762 : IVec S16 32) (v3765 : IVec S16 32) : Prop :=
  (∀ a x, ((![v3284, v3671, v3762, v3765] : Fin 4 → IVec S16 32) a x).toNat < S2x4x32x32.size a)
theorem k0_idx1390_inb : ∀ (v3284 : IVec S16 32) (v3671 : IVec S16 32) (v3762 : IVec S16 32) (v3765 : IVec S16 32) (k0_hw1055 : k0_chk1055 v3284 v3671 v3762 v3765), ∀ a x, ((![v3284, v3671, v3762, v3765] : Fin 4 → IVec S16 32) a x).toNat < S2x4x32x32.size a := fun v3284 v3671 v3762 v3765 k0_hw1055 => k0_hw1055

def k0_chk1056 (v33 : IVec S16 32) (v35 : IVec S16 32) (v3284 : IVec S16 32) (v3671 : IVec S16 32) (v3767 : IVec S16 32) : Prop :=
  (∀ a x, ((![v3284, v3671, v3767, v33] : Fin 4 → IVec S16 32) a x).toNat < S2x4x94x96.size a) ∧
  (∀ a x, ((![v3284, v3671, v3767, v35] : Fin 4 → IVec S16 32) a x).toNat < S2x4x94x96.size a)
theorem k0_idx1391_inb : ∀ (v33 : IVec S16 32) (v35 : IVec S16 32) (v3284 : IVec S16 32) (v3671 : IVec S16 32) (v3767 : IVec S16 32) (k0_hw1056 : k0_chk1056 v33 v35 v3284 v3671 v3767), ∀ a x, ((![v3284, v3671, v3767, v33] : Fin 4 → IVec S16 32) a x).toNat < S2x4x94x96.size a := fun v33 v35 v3284 v3671 v3767 k0_hw1056 => k0_hw1056.1
theorem k0_idx1392_inb : ∀ (v33 : IVec S16 32) (v35 : IVec S16 32) (v3284 : IVec S16 32) (v3671 : IVec S16 32) (v3767 : IVec S16 32) (k0_hw1056 : k0_chk1056 v33 v35 v3284 v3671 v3767), ∀ a x, ((![v3284, v3671, v3767, v35] : Fin 4 → IVec S16 32) a x).toNat < S2x4x94x96.size a := fun v33 v35 v3284 v3671 v3767 k0_hw1056 => k0_hw1056.2

def k0_chk1057 (v30 : IVec S16 32) (v3284 : IVec S16 32) (v3671 : IVec S16 32) (v3768 : IVec S16 32) : Prop :=
  (∀ a x, ((![v3284, v3671, v3768, v30] : Fin 4 → IVec S16 32) a x).toNat < S2x4x32x32.size a)
theorem k0_idx1393_inb : ∀ (v30 : IVec S16 32) (v3284 : IVec S16 32) (v3671 : IVec S16 32) (v3768 : IVec S16 32) (k0_hw1057 : k0_chk1057 v30 v3284 v3671 v3768), ∀ a x, ((![v3284, v3671, v3768, v30] : Fin 4 → IVec S16 32) a x).toNat < S2x4x32x32.size a := fun v30 v3284 v3671 v3768 k0_hw1057 => k0_hw1057

def k0_chk1058 (v3284 : IVec S16 32) (v3671 : IVec S16 32) (v3768 : IVec S16 32) (v3771 : IVec S16 32) : Prop :=
  (∀ a x, ((![v3284, v3671, v3768, v3771] : Fin 4 → IVec S16 32) a x).toNat < S2x4x32x32.size a)
theorem k0_idx1394_inb : ∀ (v3284 : IVec S16 32) (v3671 : IVec S16 32) (v3768 : IVec S16 32) (v3771 : IVec S16 32) (k0_hw1058 : k0_chk1058 v3284 v3671 v3768 v3771), ∀ a x, ((![v3284, v3671, v3768, v3771] : Fin 4 → IVec S16 32) a x).toNat < S2x4x32x32.size a := fun v3284 v3671 v3768 v3771 k0_hw1058 => k0_hw1058

def k0_chk1059 (v33 : IVec S16 32) (v35 : IVec S16 32) (v3284 : IVec S16 32) (v3671 : IVec S16 32) (v3773 : IVec S16 32) : Prop :=
  (∀ a x, ((![v3284, v3671, v3773, v33] : Fin 4 → IVec S16 32) a x).toNat < S2x4x94x96.size a) ∧
  (∀ a x, ((![v3284, v3671, v3773, v35] : Fin 4 → IVec S16 32) a x).toNat < S2x4x94x96.size a)
theorem k0_idx1395_inb : ∀ (v33 : IVec S16 32) (v35 : IVec S16 32) (v3284 : IVec S16 32) (v3671 : IVec S16 32) (v3773 : IVec S16 32) (k0_hw1059 : k0_chk1059 v33 v35 v3284 v3671 v3773), ∀ a x, ((![v3284, v3671, v3773, v33] : Fin 4 → IVec S16 32) a x).toNat < S2x4x94x96.size a := fun v33 v35 v3284 v3671 v3773 k0_hw1059 => k0_hw1059.1
theorem k0_idx1396_inb : ∀ (v33 : IVec S16 32) (v35 : IVec S16 32) (v3284 : IVec S16 32) (v3671 : IVec S16 32) (v3773 : IVec S16 32) (k0_hw1059 : k0_chk1059 v33 v35 v3284 v3671 v3773), ∀ a x, ((![v3284, v3671, v3773, v35] : Fin 4 → IVec S16 32) a x).toNat < S2x4x94x96.size a := fun v33 v35 v3284 v3671 v3773 k0_hw1059 => k0_hw1059.2

def k0_chk1060 (v30 : IVec S16 32) (v3284 : IVec S16 32) (v3671 : IVec S16 32) (v3774 : IVec S16 32) : Prop :=
  (∀ a x, ((![v3284, v3671, v3774, v30] : Fin 4 → IVec S16 32) a x).toNat < S2x4x32x32.size a)
theorem k0_idx1397_inb : ∀ (v30 : IVec S16 32) (v3284 : IVec S16 32) (v3671 : IVec S16 32) (v3774 : IVec S16 32) (k0_hw1060 : k0_chk1060 v30 v3284 v3671 v3774), ∀ a x, ((![v3284, v3671, v3774, v30] : Fin 4 → IVec S16 32) a x).toNat < S2x4x32x32.size a := fun v30 v3284 v3671 v3774 k0_hw1060 => k0_hw1060

def k0_chk1061 (v3284 : IVec S16 32) (v3671 : IVec S16 32) (v3774 : IVec S16 32) (v3777 : IVec S16 32) : Prop :=
  (∀ a x, ((![v3284, v3671, v3774, v3777] : Fin 4 → IVec S16 32) a x).toNat < S2x4x32x32.size a)
theorem k0_idx1398_inb : ∀ (v3284 : IVec S16 32) (v3671 : IVec S16 32) (v3774 : IVec S16 32) (v3777 : IVec S16 32) (k0_hw1061 : k0_chk1061 v3284 v3671 v3774 v3777), ∀ a x, ((![v3284, v3671, v3774, v3777] : Fin 4 → IVec S16 32) a x).toNat < S2x4x32x32.size a := fun v3284 v3671 v3774 v3777 k0_hw1061 => k0_hw1061

def k0_chk1062 (v33 : IVec S16 32) (v35 : IVec S16 32) (v3284 : IVec S16 32) (v3671 : IVec S16 32) (v3779 : IVec S16 32) : Prop :=
  (∀ a x, ((![v3284, v3671, v3779, v33] : Fin 4 → IVec S16 32) a x).toNat < S2x4x94x96.size a) ∧
  (∀ a x, ((![v3284, v3671, v3779, v35] : Fin 4 → IVec S16 32) a x).toNat < S2x4x94x96.size a)
theorem k0_idx1399_inb : ∀ (v33 : IVec S16 32) (v35 : IVec S16 32) (v3284 : IVec S16 32) (v3671 : IVec S16 32) (v3779 : IVec S16 32) (k0_hw1062 : k0_chk1062 v33 v35 v3284 v3671 v3779), ∀ a x, ((![v3284, v3671, v3779, v33] : Fin 4 → IVec S16 32) a x).toNat < S2x4x94x96.size a := fun v33 v35 v3284 v3671 v3779 k0_hw1062 => k0_hw1062.1
theorem k0_idx1400_inb : ∀ (v33 : IVec S16 32) (v35 : IVec S16 32) (v3284 : IVec S16 32) (v3671 : IVec S16 32) (v3779 : IVec S16 32) (k0_hw1062 : k0_chk1062 v33 v35 v3284 v3671 v3779), ∀ a x, ((![v3284, v3671, v3779, v35] : Fin 4 → IVec S16 32) a x).toNat < S2x4x94x96.size a := fun v33 v35 v3284 v3671 v3779 k0_hw1062 => k0_hw1062.2

def k0_chk1063 (v30 : IVec S16 32) (v3284 : IVec S16 32) (v3671 : IVec S16 32) (v3780 : IVec S16 32) : Prop :=
  (∀ a x, ((![v3284, v3671, v3780, v30] : Fin 4 → IVec S16 32) a x).toNat < S2x4x32x32.size a)
theorem k0_idx1401_inb : ∀ (v30 : IVec S16 32) (v3284 : IVec S16 32) (v3671 : IVec S16 32) (v3780 : IVec S16 32) (k0_hw1063 : k0_chk1063 v30 v3284 v3671 v3780), ∀ a x, ((![v3284, v3671, v3780, v30] : Fin 4 → IVec S16 32) a x).toNat < S2x4x32x32.size a := fun v30 v3284 v3671 v3780 k0_hw1063 => k0_hw1063

def k0_chk1064 (v3284 : IVec S16 32) (v3671 : IVec S16 32) (v3780 : IVec S16 32) (v3783 : IVec S16 32) : Prop :=
  (∀ a x, ((![v3284, v3671, v3780, v3783] : Fin 4 → IVec S16 32) a x).toNat < S2x4x32x32.size a)
theorem k0_idx1402_inb : ∀ (v3284 : IVec S16 32) (v3671 : IVec S16 32) (v3780 : IVec S16 32) (v3783 : IVec S16 32) (k0_hw1064 : k0_chk1064 v3284 v3671 v3780 v3783), ∀ a x, ((![v3284, v3671, v3780, v3783] : Fin 4 → IVec S16 32) a x).toNat < S2x4x32x32.size a := fun v3284 v3671 v3780 v3783 k0_hw1064 => k0_hw1064

def k0_chk1065 (v33 : IVec S16 32) (v35 : IVec S16 32) (v3284 : IVec S16 32) (v3671 : IVec S16 32) (v3785 : IVec S16 32) : Prop :=
  (∀ a x, ((![v3284, v3671, v3785, v33] : Fin 4 → IVec S16 32) a x).toNat < S2x4x94x96.size a) ∧
  (∀ a x, ((![v3284, v3671, v3785, v35] : Fin 4 → IVec S16 32) a x).toNat < S2x4x94x96.size a)
theorem k0_idx1403_inb : ∀ (v33 : IVec S16 32) (v35 : IVec S16 32) (v3284 : IVec S16 32) (v3671 : IVec S16 32) (v3785 : IVec S16 32) (k0_hw1065 : k0_chk1065 v33 v35 v3284 v3671 v3785), ∀ a x, ((![v3284, v3671, v3785, v33] : Fin 4 → IVec S16 32) a x).toNat < S2x4x94x96.size a := fun v33 v35 v3284 v3671 v3785 k0_hw1065 => k0_hw1065.1
theorem k0_idx1404_inb : ∀ (v33 : IVec S16 32) (v35 : IVec S16 32) (v3284 : IVec S16 32) (v3671 : IVec S16 32) (v3785 : IVec S16 32) (k0_hw1065 : k0_chk1065 v33 v35 v3284 v3671 v3785), ∀ a x, ((![v3284, v3671, v3785, v35] : Fin 4 → IVec S16 32) a x).toNat < S2x4x94x96.size a := fun v33 v35 v3284 v3671 v3785 k0_hw1065 => k0_hw1065.2

def k0_chk1066 (v30 : IVec S16 32) (v3284 : IVec S16 32) (v3671 : IVec S16 32) (v3786 : IVec S16 32) : Prop :=
  (∀ a x, ((![v3284, v3671, v3786, v30] : Fin 4 → IVec S16 32) a x).toNat < S2x4x32x32.size a)
theorem k0_idx1405_inb : ∀ (v30 : IVec S16 32) (v3284 : IVec S16 32) (v3671 : IVec S16 32) (v3786 : IVec S16 32) (k0_hw1066 : k0_chk1066 v30 v3284 v3671 v3786), ∀ a x, ((![v3284, v3671, v3786, v30] : Fin 4 → IVec S16 32) a x).toNat < S2x4x32x32.size a := fun v30 v3284 v3671 v3786 k0_hw1066 => k0_hw1066

def k0_chk1067 (v3284 : IVec S16 32) (v3671 : IVec S16 32) (v3786 : IVec S16 32) (v3789 : IVec S16 32) : Prop :=
  (∀ a x, ((![v3284, v3671, v3786, v3789] : Fin 4 → IVec S16 32) a x).toNat < S2x4x32x32.size a)
theorem k0_idx1406_inb : ∀ (v3284 : IVec S16 32) (v3671 : IVec S16 32) (v3786 : IVec S16 32) (v3789 : IVec S16 32) (k0_hw1067 : k0_chk1067 v3284 v3671 v3786 v3789), ∀ a x, ((![v3284, v3671, v3786, v3789] : Fin 4 → IVec S16 32) a x).toNat < S2x4x32x32.size a := fun v3284 v3671 v3786 v3789 k0_hw1067 => k0_hw1067

def k0_chk1068 (v33 : IVec S16 32) (v35 : IVec S16 32) (v3284 : IVec S16 32) (v3671 : IVec S16 32) (v3791 : IVec S16 32) : Prop :=
  (∀ a x, ((![v3284, v3671, v3791, v33] : Fin 4 → IVec S16 32) a x).toNat < S2x4x94x96.size a) ∧
  (∀ a x, ((![v3284, v3671, v3791, v35] : Fin 4 → IVec S16 32) a x).toNat < S2x4x94x96.size a)
theorem k0_idx1407_inb : ∀ (v33 : IVec S16 32) (v35 : IVec S16 32) (v3284 : IVec S16 32) (v3671 : IVec S16 32) (v3791 : IVec S16 32) (k0_hw1068 : k0_chk1068 v33 v35 v3284 v3671 v3791), ∀ a x, ((![v3284, v3671, v3791, v33] : Fin 4 → IVec S16 32) a x).toNat < S2x4x94x96.size a := fun v33 v35 v3284 v3671 v3791 k0_hw1068 => k0_hw1068.1
theorem k0_idx1408_inb : ∀ (v33 : IVec S16 32) (v35 : IVec S16 32) (v3284 : IVec S16 32) (v3671 : IVec S16 32) (v3791 : IVec S16 32) (k0_hw1068 : k0_chk1068 v33 v35 v3284 v3671 v3791), ∀ a x, ((![v3284, v3671, v3791, v35] : Fin 4 → IVec S16 32) a x).toNat < S2x4x94x96.size a := fun v33 v35 v3284 v3671 v3791 k0_hw1068 => k0_hw1068.2

def k0_chk1069 (v30 : IVec S16 32) (v3284 : IVec S16 32) (v3671 : IVec S16 32) (v3792 : IVec S16 32) : Prop :=
  (∀ a x, ((![v3284, v3671, v3792, v30] : Fin 4 → IVec S16 32) a x).toNat < S2x4x32x32.size a)
theorem k0_idx1409_inb : ∀ (v30 : IVec S16 32) (v3284 : IVec S16 32) (v3671 : IVec S16 32) (v3792 : IVec S16 32) (k0_hw1069 : k0_chk1069 v30 v3284 v3671 v3792), ∀ a x, ((![v3284, v3671, v3792, v30] : Fin 4 → IVec S16 32) a x).toNat < S2x4x32x32.size a := fun v30 v3284 v3671 v3792 k0_hw1069 => k0_hw1069

def k0_chk1070 (v3284 : IVec S16 32) (v3671 : IVec S16 32) (v3792 : IVec S16 32) (v3795 : IVec S16 32) : Prop :=
  (∀ a x, ((![v3284, v3671, v3792, v3795] : Fin 4 → IVec S16 32) a x).toNat < S2x4x32x32.size a)
theorem k0_idx1410_inb : ∀ (v3284 : IVec S16 32) (v3671 : IVec S16 32) (v3792 : IVec S16 32) (v3795 : IVec S16 32) (k0_hw1070 : k0_chk1070 v3284 v3671 v3792 v3795), ∀ a x, ((![v3284, v3671, v3792, v3795] : Fin 4 → IVec S16 32) a x).toNat < S2x4x32x32.size a := fun v3284 v3671 v3792 v3795 k0_hw1070 => k0_hw1070

def k0_chk1071 (v33 : IVec S16 32) (v35 : IVec S16 32) (v3284 : IVec S16 32) (v3671 : IVec S16 32) (v3797 : IVec S16 32) : Prop :=
  (∀ a x, ((![v3284, v3671, v3797, v33] : Fin 4 → IVec S16 32) a x).toNat < S2x4x94x96.size a) ∧
  (∀ a x, ((![v3284, v3671, v3797, v35] : Fin 4 → IVec S16 32) a x).toNat < S2x4x94x96.size a)
theorem k0_idx1411_inb : ∀ (v33 : IVec S16 32) (v35 : IVec S16 32) (v3284 : IVec S16 32) (v3671 : IVec S16 32) (v3797 : IVec S16 32) (k0_hw1071 : k0_chk1071 v33 v35 v3284 v3671 v3797), ∀ a x, ((![v3284, v3671, v3797, v33] : Fin 4 → IVec S16 32) a x).toNat < S2x4x94x96.size a := fun v33 v35 v3284 v3671 v3797 k0_hw1071 => k0_hw1071.1
theorem k0_idx1412_inb : ∀ (v33 : IVec S16 32) (v35 : IVec S16 32) (v3284 : IVec S16 32) (v3671 : IVec S16 32) (v3797 : IVec S16 32) (k0_hw1071 : k0_chk1071 v33 v35 v3284 v3671 v3797), ∀ a x, ((![v3284, v3671, v3797, v35] : Fin 4 → IVec S16 32) a x).toNat < S2x4x94x96.size a := fun v33 v35 v3284 v3671 v3797 k0_hw1071 => k0_hw1071.2

def k0_chk1072 (v30 : IVec S16 32) (v3284 : IVec S16 32) (v3671 : IVec S16 32) (v3798 : IVec S16 32) : Prop :=
  (∀ a x, ((![v3284, v3671, v3798, v30] : Fin 4 → IVec S16 32) a x).toNat < S2x4x32x32.size a)
theorem k0_idx1413_inb : ∀ (v30 : IVec S16 32) (v3284 : IVec S16 32) (v3671 : IVec S16 32) (v3798 : IVec S16 32) (k0_hw1072 : k0_chk1072 v30 v3284 v3671 v3798), ∀ a x, ((![v3284, v3671, v3798, v30] : Fin 4 → IVec S16 32) a x).toNat < S2x4x32x32.size a := fun v30 v3284 v3671 v3798 k0_hw1072 => k0_hw1072

def k0_chk1073 (v3284 : IVec S16 32) (v3671 : IVec S16 32) (v3798 : IVec S16 32) (v3801 : IVec S16 32) : Prop :=
  (∀ a x, ((![v3284, v3671, v3798, v3801] : Fin 4 → IVec S16 32) a x).toNat < S2x4x32x32.size a)
theorem k0_idx1414_inb : ∀ (v3284 : IVec S16 32) (v3671 : IVec S16 32) (v3798 : IVec S16 32) (v3801 : IVec S16 32) (k0_hw1073 : k0_chk1073 v3284 v3671 v3798 v3801), ∀ a x, ((![v3284, v3671, v3798, v3801] : Fin 4 → IVec S16 32) a x).toNat < S2x4x32x32.size a := fun v3284 v3671 v3798 v3801 k0_hw1073 => k0_hw1073

def k0_chk1074 (v33 : IVec S16 32) (v35 : IVec S16 32) (v3284 : IVec S16 32) (v3671 : IVec S16 32) (v3803 : IVec S16 32) : Prop :=
  (∀ a x, ((![v3284, v3671, v3803, v33] : Fin 4 → IVec S16 32) a x).toNat < S2x4x94x96.size a) ∧
  (∀ a x, ((![v3284, v3671, v3803, v35] : Fin 4 → IVec S16 32) a x).toNat < S2x4x94x96.size a)
theorem k0_idx1415_inb : ∀ (v33 : IVec S16 32) (v35 : IVec S16 32) (v3284 : IVec S16 32) (v3671 : IVec S16 32) (v3803 : IVec S16 32) (k0_hw1074 : k0_chk1074 v33 v35 v3284 v3671 v3803), ∀ a x, ((![v3284, v3671, v3803, v33] : Fin 4 → IVec S16 32) a x).toNat < S2x4x94x96.size a := fun v33 v35 v3284 v3671 v3803 k0_hw1074 => k0_hw1074.1
theorem k0_idx1416_inb : ∀ (v33 : IVec S16 32) (v35 : IVec S16 32) (v3284 : IVec S16 32) (v3671 : IVec S16 32) (v3803 : IVec S16 32) (k0_hw1074 : k0_chk1074 v33 v35 v3284 v3671 v3803), ∀ a x, ((![v3284, v3671, v3803, v35] : Fin 4 → IVec S16 32) a x).toNat < S2x4x94x96.size a := fun v33 v35 v3284 v3671 v3803 k0_hw1074 => k0_hw1074.2

def k0_chk1075 (v30 : IVec S16 32) (v3284 : IVec S16 32) (v3671 : IVec S16 32) (v3804 : IVec S16 32) : Prop :=
  (∀ a x, ((![v3284, v3671, v3804, v30] : Fin 4 → IVec S16 32) a x).toNat < S2x4x32x32.size a)
theorem k0_idx1417_inb : ∀ (v30 : IVec S16 32) (v3284 : IVec S16 32) (v3671 : IVec S16 32) (v3804 : IVec S16 32) (k0_hw1075 : k0_chk1075 v30 v3284 v3671 v3804), ∀ a x, ((![v3284, v3671, v3804, v30] : Fin 4 → IVec S16 32) a x).toNat < S2x4x32x32.size a := fun v30 v3284 v3671 v3804 k0_hw1075 => k0_hw1075

def k0_chk1076 (v3284 : IVec S16 32) (v3671 : IVec S16 32) (v3804 : IVec S16 32) (v3807 : IVec S16 32) : Prop :=
  (∀ a x, ((![v3284, v3671, v3804, v3807] : Fin 4 → IVec S16 32) a x).toNat < S2x4x32x32.size a)
theorem k0_idx1418_inb : ∀ (v3284 : IVec S16 32) (v3671 : IVec S16 32) (v3804 : IVec S16 32) (v3807 : IVec S16 32) (k0_hw1076 : k0_chk1076 v3284 v3671 v3804 v3807), ∀ a x, ((![v3284, v3671, v3804, v3807] : Fin 4 → IVec S16 32) a x).toNat < S2x4x32x32.size a := fun v3284 v3671 v3804 v3807 k0_hw1076 => k0_hw1076

def k0_chk1077 (v33 : IVec S16 32) (v35 : IVec S16 32) (v3284 : IVec S16 32) (v3671 : IVec S16 32) (v3809 : IVec S16 32) : Prop :=
  (∀ a x, ((![v3284, v3671, v3809, v33] : Fin 4 → IVec S16 32) a x).toNat < S2x4x94x96.size a) ∧
  (∀ a x, ((![v3284, v3671, v3809, v35] : Fin 4 → IVec S16 32) a x).toNat < S2x4x94x96.size a)
theorem k0_idx1419_inb : ∀ (v33 : IVec S16 32) (v35 : IVec S16 32) (v3284 : IVec S16 32) (v3671 : IVec S16 32) (v3809 : IVec S16 32) (k0_hw1077 : k0_chk1077 v33 v35 v3284 v3671 v3809), ∀ a x, ((![v3284, v3671, v3809, v33] : Fin 4 → IVec S16 32) a x).toNat < S2x4x94x96.size a := fun v33 v35 v3284 v3671 v3809 k0_hw1077 => k0_hw1077.1
theorem k0_idx1420_inb : ∀ (v33 : IVec S16 32) (v35 : IVec S16 32) (v3284 : IVec S16 32) (v3671 : IVec S16 32) (v3809 : IVec S16 32) (k0_hw1077 : k0_chk1077 v33 v35 v3284 v3671 v3809), ∀ a x, ((![v3284, v3671, v3809, v35] : Fin 4 → IVec S16 32) a x).toNat < S2x4x94x96.size a := fun v33 v35 v3284 v3671 v3809 k0_hw1077 => k0_hw1077.2

def k0_chk1078 (v30 : IVec S16 32) (v3284 : IVec S16 32) (v3671 : IVec S16 32) (v3810 : IVec S16 32) : Prop :=
  (∀ a x, ((![v3284, v3671, v3810, v30] : Fin 4 → IVec S16 32) a x).toNat < S2x4x32x32.size a)
theorem k0_idx1421_inb : ∀ (v30 : IVec S16 32) (v3284 : IVec S16 32) (v3671 : IVec S16 32) (v3810 : IVec S16 32) (k0_hw1078 : k0_chk1078 v30 v3284 v3671 v3810), ∀ a x, ((![v3284, v3671, v3810, v30] : Fin 4 → IVec S16 32) a x).toNat < S2x4x32x32.size a := fun v30 v3284 v3671 v3810 k0_hw1078 => k0_hw1078

def k0_chk1079 (v3284 : IVec S16 32) (v3671 : IVec S16 32) (v3810 : IVec S16 32) (v3813 : IVec S16 32) : Prop :=
  (∀ a x, ((![v3284, v3671, v3810, v3813] : Fin 4 → IVec S16 32) a x).toNat < S2x4x32x32.size a)
theorem k0_idx1422_inb : ∀ (v3284 : IVec S16 32) (v3671 : IVec S16 32) (v3810 : IVec S16 32) (v3813 : IVec S16 32) (k0_hw1079 : k0_chk1079 v3284 v3671 v3810 v3813), ∀ a x, ((![v3284, v3671, v3810, v3813] : Fin 4 → IVec S16 32) a x).toNat < S2x4x32x32.size a := fun v3284 v3671 v3810 v3813 k0_hw1079 => k0_hw1079

def k0_chk1080 (v33 : IVec S16 32) (v35 : IVec S16 32) (v3284 : IVec S16 32) (v3671 : IVec S16 32) (v3815 : IVec S16 32) : Prop :=
  (∀ a x, ((![v3284, v3671, v3815, v33] : Fin 4 → IVec S16 32) a x).toNat < S2x4x94x96.size a) ∧
  (∀ a x, ((![v3284, v3671, v3815, v35] : Fin 4 → IVec S16 32) a x).toNat < S2x4x94x96.size a)
theorem k0_idx1423_inb : ∀ (v33 : IVec S16 32) (v35 : IVec S16 32) (v3284 : IVec S16 32) (v3671 : IVec S16 32) (v3815 : IVec S16 32) (k0_hw1080 : k0_chk1080 v33 v35 v3284 v3671 v3815), ∀ a x, ((![v3284, v3671, v3815, v33] : Fin 4 → IVec S16 32) a x).toNat < S2x4x94x96.size a := fun v33 v35 v3284 v3671 v3815 k0_hw1080 => k0_hw1080.1
theorem k0_idx1424_inb : ∀ (v33 : IVec S16 32) (v35 : IVec S16 32) (v3284 : IVec S16 32) (v3671 : IVec S16 32) (v3815 : IVec S16 32) (k0_hw1080 : k0_chk1080 v33 v35 v3284 v3671 v3815), ∀ a x, ((![v3284, v3671, v3815, v35] : Fin 4 → IVec S16 32) a x).toNat < S2x4x94x96.size a := fun v33 v35 v3284 v3671 v3815 k0_hw1080 => k0_hw1080.2

def k0_chk1081 (v30 : IVec S16 32) (v3284 : IVec S16 32) (v3671 : IVec S16 32) (v3816 : IVec S16 32) : Prop :=
  (∀ a x, ((![v3284, v3671, v3816, v30] : Fin 4 → IVec S16 32) a x).toNat < S2x4x32x32.size a)
theorem k0_idx1425_inb : ∀ (v30 : IVec S16 32) (v3284 : IVec S16 32) (v3671 : IVec S16 32) (v3816 : IVec S16 32) (k0_hw1081 : k0_chk1081 v30 v3284 v3671 v3816), ∀ a x, ((![v3284, v3671, v3816, v30] : Fin 4 → IVec S16 32) a x).toNat < S2x4x32x32.size a := fun v30 v3284 v3671 v3816 k0_hw1081 => k0_hw1081

def k0_chk1082 (v3284 : IVec S16 32) (v3671 : IVec S16 32) (v3816 : IVec S16 32) (v3819 : IVec S16 32) : Prop :=
  (∀ a x, ((![v3284, v3671, v3816, v3819] : Fin 4 → IVec S16 32) a x).toNat < S2x4x32x32.size a)
theorem k0_idx1426_inb : ∀ (v3284 : IVec S16 32) (v3671 : IVec S16 32) (v3816 : IVec S16 32) (v3819 : IVec S16 32) (k0_hw1082 : k0_chk1082 v3284 v3671 v3816 v3819), ∀ a x, ((![v3284, v3671, v3816, v3819] : Fin 4 → IVec S16 32) a x).toNat < S2x4x32x32.size a := fun v3284 v3671 v3816 v3819 k0_hw1082 => k0_hw1082

def k0_chk1083 (v33 : IVec S16 32) (v35 : IVec S16 32) (v3284 : IVec S16 32) (v3671 : IVec S16 32) (v3821 : IVec S16 32) : Prop :=
  (∀ a x, ((![v3284, v3671, v3821, v33] : Fin 4 → IVec S16 32) a x).toNat < S2x4x94x96.size a) ∧
  (∀ a x, ((![v3284, v3671, v3821, v35] : Fin 4 → IVec S16 32) a x).toNat < S2x4x94x96.size a)
theorem k0_idx1427_inb : ∀ (v33 : IVec S16 32) (v35 : IVec S16 32) (v3284 : IVec S16 32) (v3671 : IVec S16 32) (v3821 : IVec S16 32) (k0_hw1083 : k0_chk1083 v33 v35 v3284 v3671 v3821), ∀ a x, ((![v3284, v3671, v3821, v33] : Fin 4 → IVec S16 32) a x).toNat < S2x4x94x96.size a := fun v33 v35 v3284 v3671 v3821 k0_hw1083 => k0_hw1083.1
theorem k0_idx1428_inb : ∀ (v33 : IVec S16 32) (v35 : IVec S16 32) (v3284 : IVec S16 32) (v3671 : IVec S16 32) (v3821 : IVec S16 32) (k0_hw1083 : k0_chk1083 v33 v35 v3284 v3671 v3821), ∀ a x, ((![v3284, v3671, v3821, v35] : Fin 4 → IVec S16 32) a x).toNat < S2x4x94x96.size a := fun v33 v35 v3284 v3671 v3821 k0_hw1083 => k0_hw1083.2

def k0_chk1084 (v30 : IVec S16 32) (v3284 : IVec S16 32) (v3671 : IVec S16 32) (v3822 : IVec S16 32) : Prop :=
  (∀ a x, ((![v3284, v3671, v3822, v30] : Fin 4 → IVec S16 32) a x).toNat < S2x4x32x32.size a)
theorem k0_idx1429_inb : ∀ (v30 : IVec S16 32) (v3284 : IVec S16 32) (v3671 : IVec S16 32) (v3822 : IVec S16 32) (k0_hw1084 : k0_chk1084 v30 v3284 v3671 v3822), ∀ a x, ((![v3284, v3671, v3822, v30] : Fin 4 → IVec S16 32) a x).toNat < S2x4x32x32.size a := fun v30 v3284 v3671 v3822 k0_hw1084 => k0_hw1084

def k0_chk1085 (v3284 : IVec S16 32) (v3671 : IVec S16 32) (v3822 : IVec S16 32) (v3825 : IVec S16 32) : Prop :=
  (∀ a x, ((![v3284, v3671, v3822, v3825] : Fin 4 → IVec S16 32) a x).toNat < S2x4x32x32.size a)
theorem k0_idx1430_inb : ∀ (v3284 : IVec S16 32) (v3671 : IVec S16 32) (v3822 : IVec S16 32) (v3825 : IVec S16 32) (k0_hw1085 : k0_chk1085 v3284 v3671 v3822 v3825), ∀ a x, ((![v3284, v3671, v3822, v3825] : Fin 4 → IVec S16 32) a x).toNat < S2x4x32x32.size a := fun v3284 v3671 v3822 v3825 k0_hw1085 => k0_hw1085

def k0_chk1086 (v33 : IVec S16 32) (v35 : IVec S16 32) (v3284 : IVec S16 32) (v3671 : IVec S16 32) (v3827 : IVec S16 32) : Prop :=
  (∀ a x, ((![v3284, v3671, v3827, v33] : Fin 4 → IVec S16 32) a x).toNat < S2x4x94x96.size a) ∧
  (∀ a x, ((![v3284, v3671, v3827, v35] : Fin 4 → IVec S16 32) a x).toNat < S2x4x94x96.size a)
theorem k0_idx1431_inb : ∀ (v33 : IVec S16 32) (v35 : IVec S16 32) (v3284 : IVec S16 32) (v3671 : IVec S16 32) (v3827 : IVec S16 32) (k0_hw1086 : k0_chk1086 v33 v35 v3284 v3671 v3827), ∀ a x, ((![v3284, v3671, v3827, v33] : Fin 4 → IVec S16 32) a x).toNat < S2x4x94x96.size a := fun v33 v35 v3284 v3671 v3827 k0_hw1086 => k0_hw1086.1
theorem k0_idx1432_inb : ∀ (v33 : IVec S16 32) (v35 : IVec S16 32) (v3284 : IVec S16 32) (v3671 : IVec S16 32) (v3827 : IVec S16 32) (k0_hw1086 : k0_chk1086 v33 v35 v3284 v3671 v3827), ∀ a x, ((![v3284, v3671, v3827, v35] : Fin 4 → IVec S16 32) a x).toNat < S2x4x94x96.size a := fun v33 v35 v3284 v3671 v3827 k0_hw1086 => k0_hw1086.2

def k0_chk1087 (v30 : IVec S16 32) (v3284 : IVec S16 32) (v3671 : IVec S16 32) (v3828 : IVec S16 32) : Prop :=
  (∀ a x, ((![v3284, v3671, v3828, v30] : Fin 4 → IVec S16 32) a x).toNat < S2x4x32x32.size a)
theorem k0_idx1433_inb : ∀ (v30 : IVec S16 32) (v3284 : IVec S16 32) (v3671 : IVec S16 32) (v3828 : IVec S16 32) (k0_hw1087 : k0_chk1087 v30 v3284 v3671 v3828), ∀ a x, ((![v3284, v3671, v3828, v30] : Fin 4 → IVec S16 32) a x).toNat < S2x4x32x32.size a := fun v30 v3284 v3671 v3828 k0_hw1087 => k0_hw1087

def k0_chk1088 (v3284 : IVec S16 32) (v3671 : IVec S16 32) (v3828 : IVec S16 32) (v3831 : IVec S16 32) : Prop :=
  (∀ a x, ((![v3284, v3671, v3828, v3831] : Fin 4 → IVec S16 32) a x).toNat < S2x4x32x32.size a)
theorem k0_idx1434_inb : ∀ (v3284 : IVec S16 32) (v3671 : IVec S16 32) (v3828 : IVec S16 32) (v3831 : IVec S16 32) (k0_hw1088 : k0_chk1088 v3284 v3671 v3828 v3831), ∀ a x, ((![v3284, v3671, v3828, v3831] : Fin 4 → IVec S16 32) a x).toNat < S2x4x32x32.size a := fun v3284 v3671 v3828 v3831 k0_hw1088 => k0_hw1088

def k0_chk1089 (v33 : IVec S16 32) (v35 : IVec S16 32) (v3284 : IVec S16 32) (v3671 : IVec S16 32) (v3833 : IVec S16 32) : Prop :=
  (∀ a x, ((![v3284, v3671, v3833, v33] : Fin 4 → IVec S16 32) a x).toNat < S2x4x94x96.size a) ∧
  (∀ a x, ((![v3284, v3671, v3833, v35] : Fin 4 → IVec S16 32) a x).toNat < S2x4x94x96.size a)
theorem k0_idx1435_inb : ∀ (v33 : IVec S16 32) (v35 : IVec S16 32) (v3284 : IVec S16 32) (v3671 : IVec S16 32) (v3833 : IVec S16 32) (k0_hw1089 : k0_chk1089 v33 v35 v3284 v3671 v3833), ∀ a x, ((![v3284, v3671, v3833, v33] : Fin 4 → IVec S16 32) a x).toNat < S2x4x94x96.size a := fun v33 v35 v3284 v3671 v3833 k0_hw1089 => k0_hw1089.1
theorem k0_idx1436_inb : ∀ (v33 : IVec S16 32) (v35 : IVec S16 32) (v3284 : IVec S16 32) (v3671 : IVec S16 32) (v3833 : IVec S16 32) (k0_hw1089 : k0_chk1089 v33 v35 v3284 v3671 v3833), ∀ a x, ((![v3284, v3671, v3833, v35] : Fin 4 → IVec S16 32) a x).toNat < S2x4x94x96.size a := fun v33 v35 v3284 v3671 v3833 k0_hw1089 => k0_hw1089.2

def k0_chk1090 (v30 : IVec S16 32) (v3284 : IVec S16 32) (v3671 : IVec S16 32) (v3834 : IVec S16 32) : Prop :=
  (∀ a x, ((![v3284, v3671, v3834, v30] : Fin 4 → IVec S16 32) a x).toNat < S2x4x32x32.size a)
theorem k0_idx1437_inb : ∀ (v30 : IVec S16 32) (v3284 : IVec S16 32) (v3671 : IVec S16 32) (v3834 : IVec S16 32) (k0_hw1090 : k0_chk1090 v30 v3284 v3671 v3834), ∀ a x, ((![v3284, v3671, v3834, v30] : Fin 4 → IVec S16 32) a x).toNat < S2x4x32x32.size a := fun v30 v3284 v3671 v3834 k0_hw1090 => k0_hw1090

def k0_chk1091 (v3284 : IVec S16 32) (v3671 : IVec S16 32) (v3834 : IVec S16 32) (v3837 : IVec S16 32) : Prop :=
  (∀ a x, ((![v3284, v3671, v3834, v3837] : Fin 4 → IVec S16 32) a x).toNat < S2x4x32x32.size a)
theorem k0_idx1438_inb : ∀ (v3284 : IVec S16 32) (v3671 : IVec S16 32) (v3834 : IVec S16 32) (v3837 : IVec S16 32) (k0_hw1091 : k0_chk1091 v3284 v3671 v3834 v3837), ∀ a x, ((![v3284, v3671, v3834, v3837] : Fin 4 → IVec S16 32) a x).toNat < S2x4x32x32.size a := fun v3284 v3671 v3834 v3837 k0_hw1091 => k0_hw1091

def k0_chk1092 (v33 : IVec S16 32) (v35 : IVec S16 32) (v3284 : IVec S16 32) (v3671 : IVec S16 32) (v3839 : IVec S16 32) : Prop :=
  (∀ a x, ((![v3284, v3671, v3839, v33] : Fin 4 → IVec S16 32) a x).toNat < S2x4x94x96.size a) ∧
  (∀ a x, ((![v3284, v3671, v3839, v35] : Fin 4 → IVec S16 32) a x).toNat < S2x4x94x96.size a)
theorem k0_idx1439_inb : ∀ (v33 : IVec S16 32) (v35 : IVec S16 32) (v3284 : IVec S16 32) (v3671 : IVec S16 32) (v3839 : IVec S16 32) (k0_hw1092 : k0_chk1092 v33 v35 v3284 v3671 v3839), ∀ a x, ((![v3284, v3671, v3839, v33] : Fin 4 → IVec S16 32) a x).toNat < S2x4x94x96.size a := fun v33 v35 v3284 v3671 v3839 k0_hw1092 => k0_hw1092.1
theorem k0_idx1440_inb : ∀ (v33 : IVec S16 32) (v35 : IVec S16 32) (v3284 : IVec S16 32) (v3671 : IVec S16 32) (v3839 : IVec S16 32) (k0_hw1092 : k0_chk1092 v33 v35 v3284 v3671 v3839), ∀ a x, ((![v3284, v3671, v3839, v35] : Fin 4 → IVec S16 32) a x).toNat < S2x4x94x96.size a := fun v33 v35 v3284 v3671 v3839 k0_hw1092 => k0_hw1092.2

def k0_chk1093 (v30 : IVec S16 32) (v3284 : IVec S16 32) (v3671 : IVec S16 32) (v3840 : IVec S16 32) : Prop :=
  (∀ a x, ((![v3284, v3671, v3840, v30] : Fin 4 → IVec S16 32) a x).toNat < S2x4x32x32.size a)
theorem k0_idx1441_inb : ∀ (v30 : IVec S16 32) (v3284 : IVec S16 32) (v3671 : IVec S16 32) (v3840 : IVec S16 32) (k0_hw1093 : k0_chk1093 v30 v3284 v3671 v3840), ∀ a x, ((![v3284, v3671, v3840, v30] : Fin 4 → IVec S16 32) a x).toNat < S2x4x32x32.size a := fun v30 v3284 v3671 v3840 k0_hw1093 => k0_hw1093

def k0_chk1094 (v3284 : IVec S16 32) (v3671 : IVec S16 32) (v3840 : IVec S16 32) (v3843 : IVec S16 32) : Prop :=
  (∀ a x, ((![v3284, v3671, v3840, v3843] : Fin 4 → IVec S16 32) a x).toNat < S2x4x32x32.size a)
theorem k0_idx1442_inb : ∀ (v3284 : IVec S16 32) (v3671 : IVec S16 32) (v3840 : IVec S16 32) (v3843 : IVec S16 32) (k0_hw1094 : k0_chk1094 v3284 v3671 v3840 v3843), ∀ a x, ((![v3284, v3671, v3840, v3843] : Fin 4 → IVec S16 32) a x).toNat < S2x4x32x32.size a := fun v3284 v3671 v3840 v3843 k0_hw1094 => k0_hw1094

def k0_chk1095 (v33 : IVec S16 32) (v35 : IVec S16 32) (v3284 : IVec S16 32) (v3671 : IVec S16 32) (v3845 : IVec S16 32) : Prop :=
  (∀ a x, ((![v3284, v3671, v3845, v33] : Fin 4 → IVec S16 32) a x).toNat < S2x4x94x96.size a) ∧
  (∀ a x, ((![v3284, v3671, v3845, v35] : Fin 4 → IVec S16 32) a x).toNat < S2x4x94x96.size a)
theorem k0_idx1443_inb : ∀ (v33 : IVec S16 32) (v35 : IVec S16 32) (v3284 : IVec S16 32) (v3671 : IVec S16 32) (v3845 : IVec S16 32) (k0_hw1095 : k0_chk1095 v33 v35 v3284 v3671 v3845), ∀ a x, ((![v3284, v3671, v3845, v33] : Fin 4 → IVec S16 32) a x).toNat < S2x4x94x96.size a := fun v33 v35 v3284 v3671 v3845 k0_hw1095 => k0_hw1095.1
theorem k0_idx1444_inb : ∀ (v33 : IVec S16 32) (v35 : IVec S16 32) (v3284 : IVec S16 32) (v3671 : IVec S16 32) (v3845 : IVec S16 32) (k0_hw1095 : k0_chk1095 v33 v35 v3284 v3671 v3845), ∀ a x, ((![v3284, v3671, v3845, v35] : Fin 4 → IVec S16 32) a x).toNat < S2x4x94x96.size a := fun v33 v35 v3284 v3671 v3845 k0_hw1095 => k0_hw1095.2

def k0_chk1096 (v30 : IVec S16 32) (v3284 : IVec S16 32) (v3671 : IVec S16 32) (v3846 : IVec S16 32) : Prop :=
  (∀ a x, ((![v3284, v3671, v3846, v30] : Fin 4 → IVec S16 32) a x).toNat < S2x4x32x32.size a)
theorem k0_idx1445_inb : ∀ (v30 : IVec S16 32) (v3284 : IVec S16 32) (v3671 : IVec S16 32) (v3846 : IVec S16 32) (k0_hw1096 : k0_chk1096 v30 v3284 v3671 v3846), ∀ a x, ((![v3284, v3671, v3846, v30] : Fin 4 → IVec S16 32) a x).toNat < S2x4x32x32.size a := fun v30 v3284 v3671 v3846 k0_hw1096 => k0_hw1096

def k0_chk1097 (v3284 : IVec S16 32) (v3671 : IVec S16 32) (v3846 : IVec S16 32) (v3849 : IVec S16 32) : Prop :=
  (∀ a x, ((![v3284, v3671, v3846, v3849] : Fin 4 → IVec S16 32) a x).toNat < S2x4x32x32.size a)
theorem k0_idx1446_inb : ∀ (v3284 : IVec S16 32) (v3671 : IVec S16 32) (v3846 : IVec S16 32) (v3849 : IVec S16 32) (k0_hw1097 : k0_chk1097 v3284 v3671 v3846 v3849), ∀ a x, ((![v3284, v3671, v3846, v3849] : Fin 4 → IVec S16 32) a x).toNat < S2x4x32x32.size a := fun v3284 v3671 v3846 v3849 k0_hw1097 => k0_hw1097

def k0_chk1098 (v33 : IVec S16 32) (v35 : IVec S16 32) (v3284 : IVec S16 32) (v3671 : IVec S16 32) (v3851 : IVec S16 32) : Prop :=
  (∀ a x, ((![v3284, v3671, v3851, v33] : Fin 4 → IVec S16 32) a x).toNat < S2x4x94x96.size a) ∧
  (∀ a x, ((![v3284, v3671, v3851, v35] : Fin 4 → IVec S16 32) a x).toNat < S2x4x94x96.size a)
theorem k0_idx1447_inb : ∀ (v33 : IVec S16 32) (v35 : IVec S16 32) (v3284 : IVec S16 32) (v3671 : IVec S16 32) (v3851 : IVec S16 32) (k0_hw1098 : k0_chk1098 v33 v35 v3284 v3671 v3851), ∀ a x, ((![v3284, v3671, v3851, v33] : Fin 4 → IVec S16 32) a x).toNat < S2x4x94x96.size a := fun v33 v35 v3284 v3671 v3851 k0_hw1098 => k0_hw1098.1
theorem k0_idx1448_inb : ∀ (v33 : IVec S16 32) (v35 : IVec S16 32) (v3284 : IVec S16 32) (v3671 : IVec S16 32) (v3851 : IVec S16 32) (k0_hw1098 : k0_chk1098 v33 v35 v3284 v3671 v3851), ∀ a x, ((![v3284, v3671, v3851, v35] : Fin 4 → IVec S16 32) a x).toNat < S2x4x94x96.size a := fun v33 v35 v3284 v3671 v3851 k0_hw1098 => k0_hw1098.2

def k0_chk1099 (v30 : IVec S16 32) (v3284 : IVec S16 32) (v3671 : IVec S16 32) (v3852 : IVec S16 32) : Prop :=
  (∀ a x, ((![v3284, v3671, v3852, v30] : Fin 4 → IVec S16 32) a x).toNat < S2x4x32x32.size a)
theorem k0_idx1449_inb : ∀ (v30 : IVec S16 32) (v3284 : IVec S16 32) (v3671 : IVec S16 32) (v3852 : IVec S16 32) (k0_hw1099 : k0_chk1099 v30 v3284 v3671 v3852), ∀ a x, ((![v3284, v3671, v3852, v30] : Fin 4 → IVec S16 32) a x).toNat < S2x4x32x32.size a := fun v30 v3284 v3671 v3852 k0_hw1099 => k0_hw1099

def k0_chk1100 (v3284 : IVec S16 32) (v3671 : IVec S16 32) (v3852 : IVec S16 32) (v3855 : IVec S16 32) : Prop :=
  (∀ a x, ((![v3284, v3671, v3852, v3855] : Fin 4 → IVec S16 32) a x).toNat < S2x4x32x32.size a)
theorem k0_idx1450_inb : ∀ (v3284 : IVec S16 32) (v3671 : IVec S16 32) (v3852 : IVec S16 32) (v3855 : IVec S16 32) (k0_hw1100 : k0_chk1100 v3284 v3671 v3852 v3855), ∀ a x, ((![v3284, v3671, v3852, v3855] : Fin 4 → IVec S16 32) a x).toNat < S2x4x32x32.size a := fun v3284 v3671 v3852 v3855 k0_hw1100 => k0_hw1100

def k0_chk1101 (v33 : IVec S16 32) (v35 : IVec S16 32) (v3284 : IVec S16 32) (v3671 : IVec S16 32) (v3857 : IVec S16 32) : Prop :=
  (∀ a x, ((![v3284, v3671, v3857, v33] : Fin 4 → IVec S16 32) a x).toNat < S2x4x94x96.size a) ∧
  (∀ a x, ((![v3284, v3671, v3857, v35] : Fin 4 → IVec S16 32) a x).toNat < S2x4x94x96.size a)
theorem k0_idx1451_inb : ∀ (v33 : IVec S16 32) (v35 : IVec S16 32) (v3284 : IVec S16 32) (v3671 : IVec S16 32) (v3857 : IVec S16 32) (k0_hw1101 : k0_chk1101 v33 v35 v3284 v3671 v3857), ∀ a x, ((![v3284, v3671, v3857, v33] : Fin 4 → IVec S16 32) a x).toNat < S2x4x94x96.size a := fun v33 v35 v3284 v3671 v3857 k0_hw1101 => k0_hw1101.1
theorem k0_idx1452_inb : ∀ (v33 : IVec S16 32) (v35 : IVec S16 32) (v3284 : IVec S16 32) (v3671 : IVec S16 32) (v3857 : IVec S16 32) (k0_hw1101 : k0_chk1101 v33 v35 v3284 v3671 v3857), ∀ a x, ((![v3284, v3671, v3857, v35] : Fin 4 → IVec S16 32) a x).toNat < S2x4x94x96.size a := fun v33 v35 v3284 v3671 v3857 k0_hw1101 => k0_hw1101.2

def k0_chk1102 (v30 : IVec S16 32) (v3284 : IVec S16 32) (v3671 : IVec S16 32) (v3858 : IVec S16 32) : Prop :=
  (∀ a x, ((![v3284, v3671, v3858, v30] : Fin 4 → IVec S16 32) a x).toNat < S2x4x32x32.size a)
theorem k0_idx1453_inb : ∀ (v30 : IVec S16 32) (v3284 : IVec S16 32) (v3671 : IVec S16 32) (v3858 : IVec S16 32) (k0_hw1102 : k0_chk1102 v30 v3284 v3671 v3858), ∀ a x, ((![v3284, v3671, v3858, v30] : Fin 4 → IVec S16 32) a x).toNat < S2x4x32x32.size a := fun v30 v3284 v3671 v3858 k0_hw1102 => k0_hw1102

def k0_chk1103 (v3284 : IVec S16 32) (v3671 : IVec S16 32) (v3858 : IVec S16 32) (v3861 : IVec S16 32) : Prop :=
  (∀ a x, ((![v3284, v3671, v3858, v3861] : Fin 4 → IVec S16 32) a x).toNat < S2x4x32x32.size a)
theorem k0_idx1454_inb : ∀ (v3284 : IVec S16 32) (v3671 : IVec S16 32) (v3858 : IVec S16 32) (v3861 : IVec S16 32) (k0_hw1103 : k0_chk1103 v3284 v3671 v3858 v3861), ∀ a x, ((![v3284, v3671, v3858, v3861] : Fin 4 → IVec S16 32) a x).toNat < S2x4x32x32.size a := fun v3284 v3671 v3858 v3861 k0_hw1103 => k0_hw1103

def k0_chk1104 (v33 : IVec S16 32) (v35 : IVec S16 32) (v3284 : IVec S16 32) (v3671 : IVec S16 32) (v3863 : IVec S16 32) : Prop :=
  (∀ a x, ((![v3284, v3671, v3863, v33] : Fin 4 → IVec S16 32) a x).toNat < S2x4x94x96.size a) ∧
  (∀ a x, ((![v3284, v3671, v3863, v35] : Fin 4 → IVec S16 32) a x).toNat < S2x4x94x96.size a)
theorem k0_idx1455_inb : ∀ (v33 : IVec S16 32) (v35 : IVec S16 32) (v3284 : IVec S16 32) (v3671 : IVec S16 32) (v3863 : IVec S16 32) (k0_hw1104 : k0_chk1104 v33 v35 v3284 v3671 v3863), ∀ a x, ((![v3284, v3671, v3863, v33] : Fin 4 → IVec S16 32) a x).toNat < S2x4x94x96.size a := fun v33 v35 v3284 v3671 v3863 k0_hw1104 => k0_hw1104.1
theorem k0_idx1456_inb : ∀ (v33 : IVec S16 32) (v35 : IVec S16 32) (v3284 : IVec S16 32) (v3671 : IVec S16 32) (v3863 : IVec S16 32) (k0_hw1104 : k0_chk1104 v33 v35 v3284 v3671 v3863), ∀ a x, ((![v3284, v3671, v3863, v35] : Fin 4 → IVec S16 32) a x).toNat < S2x4x94x96.size a := fun v33 v35 v3284 v3671 v3863 k0_hw1104 => k0_hw1104.2

def k0_chk1105 (v30 : IVec S16 32) (v3284 : IVec S16 32) (v3864 : IVec S16 32) (v3865 : IVec S16 32) : Prop :=
  (∀ a x, ((![v3284, v3864, v3865, v30] : Fin 4 → IVec S16 32) a x).toNat < S2x4x32x32.size a)
theorem k0_idx1457_inb : ∀ (v30 : IVec S16 32) (v3284 : IVec S16 32) (v3864 : IVec S16 32) (v3865 : IVec S16 32) (k0_hw1105 : k0_chk1105 v30 v3284 v3864 v3865), ∀ a x, ((![v3284, v3864, v3865, v30] : Fin 4 → IVec S16 32) a x).toNat < S2x4x32x32.size a := fun v30 v3284 v3864 v3865 k0_hw1105 => k0_hw1105

def k0_chk1106 (v3284 : IVec S16 32) (v3864 : IVec S16 32) (v3865 : IVec S16 32) (v3868 : IVec S16 32) : Prop :=
  (∀ a x, ((![v3284, v3864, v3865, v3868] : Fin 4 → IVec S16 32) a x).toNat < S2x4x32x32.size a)
theorem k0_idx1458_inb : ∀ (v3284 : IVec S16 32) (v3864 : IVec S16 32) (v3865 : IVec S16 32) (v3868 : IVec S16 32) (k0_hw1106 : k0_chk1106 v3284 v3864 v3865 v3868), ∀ a x, ((![v3284, v3864, v3865, v3868] : Fin 4 → IVec S16 32) a x).toNat < S2x4x32x32.size a := fun v3284 v3864 v3865 v3868 k0_hw1106 => k0_hw1106

def k0_chk1107 (v33 : IVec S16 32) (v35 : IVec S16 32) (v3284 : IVec S16 32) (v3864 : IVec S16 32) (v3870 : IVec S16 32) : Prop :=
  (∀ a x, ((![v3284, v3864, v3870, v33] : Fin 4 → IVec S16 32) a x).toNat < S2x4x94x96.size a) ∧
  (∀ a x, ((![v3284, v3864, v3870, v35] : Fin 4 → IVec S16 32) a x).toNat < S2x4x94x96.size a)
theorem k0_idx1459_inb : ∀ (v33 : IVec S16 32) (v35 : IVec S16 32) (v3284 : IVec S16 32) (v3864 : IVec S16 32) (v3870 : IVec S16 32) (k0_hw1107 : k0_chk1107 v33 v35 v3284 v3864 v3870), ∀ a x, ((![v3284, v3864, v3870, v33] : Fin 4 → IVec S16 32) a x).toNat < S2x4x94x96.size a := fun v33 v35 v3284 v3864 v3870 k0_hw1107 => k0_hw1107.1
theorem k0_idx1460_inb : ∀ (v33 : IVec S16 32) (v35 : IVec S16 32) (v3284 : IVec S16 32) (v3864 : IVec S16 32) (v3870 : IVec S16 32) (k0_hw1107 : k0_chk1107 v33 v35 v3284 v3864 v3870), ∀ a x, ((![v3284, v3864, v3870, v35] : Fin 4 → IVec S16 32) a x).toNat < S2x4x94x96.size a := fun v33 v35 v3284 v3864 v3870 k0_hw1107 => k0_hw1107.2

def k0_chk1108 (v30 : IVec S16 32) (v3284 : IVec S16 32) (v3864 : IVec S16 32) (v3871 : IVec S16 32) : Prop :=
  (∀ a x, ((![v3284, v3864, v3871, v30] : Fin 4 → IVec S16 32) a x).toNat < S2x4x32x32.size a)
theorem k0_idx1461_inb : ∀ (v30 : IVec S16 32) (v3284 : IVec S16 32) (v3864 : IVec S16 32) (v3871 : IVec S16 32) (k0_hw1108 : k0_chk1108 v30 v3284 v3864 v3871), ∀ a x, ((![v3284, v3864, v3871, v30] : Fin 4 → IVec S16 32) a x).toNat < S2x4x32x32.size a := fun v30 v3284 v3864 v3871 k0_hw1108 => k0_hw1108

def k0_chk1109 (v3284 : IVec S16 32) (v3864 : IVec S16 32) (v3871 : IVec S16 32) (v3874 : IVec S16 32) : Prop :=
  (∀ a x, ((![v3284, v3864, v3871, v3874] : Fin 4 → IVec S16 32) a x).toNat < S2x4x32x32.size a)
theorem k0_idx1462_inb : ∀ (v3284 : IVec S16 32) (v3864 : IVec S16 32) (v3871 : IVec S16 32) (v3874 : IVec S16 32) (k0_hw1109 : k0_chk1109 v3284 v3864 v3871 v3874), ∀ a x, ((![v3284, v3864, v3871, v3874] : Fin 4 → IVec S16 32) a x).toNat < S2x4x32x32.size a := fun v3284 v3864 v3871 v3874 k0_hw1109 => k0_hw1109

def k0_chk1110 (v33 : IVec S16 32) (v35 : IVec S16 32) (v3284 : IVec S16 32) (v3864 : IVec S16 32) (v3876 : IVec S16 32) : Prop :=
  (∀ a x, ((![v3284, v3864, v3876, v33] : Fin 4 → IVec S16 32) a x).toNat < S2x4x94x96.size a) ∧
  (∀ a x, ((![v3284, v3864, v3876, v35] : Fin 4 → IVec S16 32) a x).toNat < S2x4x94x96.size a)
theorem k0_idx1463_inb : ∀ (v33 : IVec S16 32) (v35 : IVec S16 32) (v3284 : IVec S16 32) (v3864 : IVec S16 32) (v3876 : IVec S16 32) (k0_hw1110 : k0_chk1110 v33 v35 v3284 v3864 v3876), ∀ a x, ((![v3284, v3864, v3876, v33] : Fin 4 → IVec S16 32) a x).toNat < S2x4x94x96.size a := fun v33 v35 v3284 v3864 v3876 k0_hw1110 => k0_hw1110.1
theorem k0_idx1464_inb : ∀ (v33 : IVec S16 32) (v35 : IVec S16 32) (v3284 : IVec S16 32) (v3864 : IVec S16 32) (v3876 : IVec S16 32) (k0_hw1110 : k0_chk1110 v33 v35 v3284 v3864 v3876), ∀ a x, ((![v3284, v3864, v3876, v35] : Fin 4 → IVec S16 32) a x).toNat < S2x4x94x96.size a := fun v33 v35 v3284 v3864 v3876 k0_hw1110 => k0_hw1110.2

def k0_chk1111 (v30 : IVec S16 32) (v3284 : IVec S16 32) (v3864 : IVec S16 32) (v3877 : IVec S16 32) : Prop :=
  (∀ a x, ((![v3284, v3864, v3877, v30] : Fin 4 → IVec S16 32) a x).toNat < S2x4x32x32.size a)
theorem k0_idx1465_inb : ∀ (v30 : IVec S16 32) (v3284 : IVec S16 32) (v3864 : IVec S16 32) (v3877 : IVec S16 32) (k0_hw1111 : k0_chk1111 v30 v3284 v3864 v3877), ∀ a x, ((![v3284, v3864, v3877, v30] : Fin 4 → IVec S16 32) a x).toNat < S2x4x32x32.size a := fun v30 v3284 v3864 v3877 k0_hw1111 => k0_hw1111

def k0_chk1112 (v3284 : IVec S16 32) (v3864 : IVec S16 32) (v3877 : IVec S16 32) (v3880 : IVec S16 32) : Prop :=
  (∀ a x, ((![v3284, v3864, v3877, v3880] : Fin 4 → IVec S16 32) a x).toNat < S2x4x32x32.size a)
theorem k0_idx1466_inb : ∀ (v3284 : IVec S16 32) (v3864 : IVec S16 32) (v3877 : IVec S16 32) (v3880 : IVec S16 32) (k0_hw1112 : k0_chk1112 v3284 v3864 v3877 v3880), ∀ a x, ((![v3284, v3864, v3877, v3880] : Fin 4 → IVec S16 32) a x).toNat < S2x4x32x32.size a := fun v3284 v3864 v3877 v3880 k0_hw1112 => k0_hw1112

def k0_chk1113 (v33 : IVec S16 32) (v35 : IVec S16 32) (v3284 : IVec S16 32) (v3864 : IVec S16 32) (v3882 : IVec S16 32) : Prop :=
  (∀ a x, ((![v3284, v3864, v3882, v33] : Fin 4 → IVec S16 32) a x).toNat < S2x4x94x96.size a) ∧
  (∀ a x, ((![v3284, v3864, v3882, v35] : Fin 4 → IVec S16 32) a x).toNat < S2x4x94x96.size a)
theorem k0_idx1467_inb : ∀ (v33 : IVec S16 32) (v35 : IVec S16 32) (v3284 : IVec S16 32) (v3864 : IVec S16 32) (v3882 : IVec S16 32) (k0_hw1113 : k0_chk1113 v33 v35 v3284 v3864 v3882), ∀ a x, ((![v3284, v3864, v3882, v33] : Fin 4 → IVec S16 32) a x).toNat < S2x4x94x96.size a := fun v33 v35 v3284 v3864 v3882 k0_hw1113 => k0_hw1113.1
theorem k0_idx1468_inb : ∀ (v33 : IVec S16 32) (v35 : IVec S16 32) (v3284 : IVec S16 32) (v3864 : IVec S16 32) (v3882 : IVec S16 32) (k0_hw1113 : k0_chk1113 v33 v35 v3284 v3864 v3882), ∀ a x, ((![v3284, v3864, v3882, v35] : Fin 4 → IVec S16 32) a x).toNat < S2x4x94x96.size a := fun v33 v35 v3284 v3864 v3882 k0_hw1113 => k0_hw1113.2

def k0_chk1114 (v30 : IVec S16 32) (v3284 : IVec S16 32) (v3864 : IVec S16 32) (v3883 : IVec S16 32) : Prop :=
  (∀ a x, ((![v3284, v3864, v3883, v30] : Fin 4 → IVec S16 32) a x).toNat < S2x4x32x32.size a)
theorem k0_idx1469_inb : ∀ (v30 : IVec S16 32) (v3284 : IVec S16 32) (v3864 : IVec S16 32) (v3883 : IVec S16 32) (k0_hw1114 : k0_chk1114 v30 v3284 v3864 v3883), ∀ a x, ((![v3284, v3864, v3883, v30] : Fin 4 → IVec S16 32) a x).toNat < S2x4x32x32.size a := fun v30 v3284 v3864 v3883 k0_hw1114 => k0_hw1114

def k0_chk1115 (v3284 : IVec S16 32) (v3864 : IVec S16 32) (v3883 : IVec S16 32) (v3886 : IVec S16 32) : Prop :=
  (∀ a x, ((![v3284, v3864, v3883, v3886] : Fin 4 → IVec S16 32) a x).toNat < S2x4x32x32.size a)
theorem k0_idx1470_inb : ∀ (v3284 : IVec S16 32) (v3864 : IVec S16 32) (v3883 : IVec S16 32) (v3886 : IVec S16 32) (k0_hw1115 : k0_chk1115 v3284 v3864 v3883 v3886), ∀ a x, ((![v3284, v3864, v3883, v3886] : Fin 4 → IVec S16 32) a x).toNat < S2x4x32x32.size a := fun v3284 v3864 v3883 v3886 k0_hw1115 => k0_hw1115

def k0_chk1116 (v33 : IVec S16 32) (v35 : IVec S16 32) (v3284 : IVec S16 32) (v3864 : IVec S16 32) (v3888 : IVec S16 32) : Prop :=
  (∀ a x, ((![v3284, v3864, v3888, v33] : Fin 4 → IVec S16 32) a x).toNat < S2x4x94x96.size a) ∧
  (∀ a x, ((![v3284, v3864, v3888, v35] : Fin 4 → IVec S16 32) a x).toNat < S2x4x94x96.size a)
theorem k0_idx1471_inb : ∀ (v33 : IVec S16 32) (v35 : IVec S16 32) (v3284 : IVec S16 32) (v3864 : IVec S16 32) (v3888 : IVec S16 32) (k0_hw1116 : k0_chk1116 v33 v35 v3284 v3864 v3888), ∀ a x, ((![v3284, v3864, v3888, v33] : Fin 4 → IVec S16 32) a x).toNat < S2x4x94x96.size a := fun v33 v35 v3284 v3864 v3888 k0_hw1116 => k0_hw1116.1
theorem k0_idx1472_inb : ∀ (v33 : IVec S16 32) (v35 : IVec S16 32) (v3284 : IVec S16 32) (v3864 : IVec S16 32) (v3888 : IVec S16 32) (k0_hw1116 : k0_chk1116 v33 v35 v3284 v3864 v3888), ∀ a x, ((![v3284, v3864, v3888, v35] : Fin 4 → IVec S16 32) a x).toNat < S2x4x94x96.size a := fun v33 v35 v3284 v3864 v3888 k0_hw1116 => k0_hw1116.2

def k0_chk1117 (v30 : IVec S16 32) (v3284 : IVec S16 32) (v3864 : IVec S16 32) (v3889 : IVec S16 32) : Prop :=
  (∀ a x, ((![v3284, v3864, v3889, v30] : Fin 4 → IVec S16 32) a x).toNat < S2x4x32x32.size a)
theorem k0_idx1473_inb : ∀ (v30 : IVec S16 32) (v3284 : IVec S16 32) (v3864 : IVec S16 32) (v3889 : IVec S16 32) (k0_hw1117 : k0_chk1117 v30 v3284 v3864 v3889), ∀ a x, ((![v3284, v3864, v3889, v30] : Fin 4 → IVec S16 32) a x).toNat < S2x4x32x32.size a := fun v30 v3284 v3864 v3889 k0_hw1117 => k0_hw1117

def k0_chk1118 (v3284 : IVec S16 32) (v3864 : IVec S16 32) (v3889 : IVec S16 32) (v3892 : IVec S16 32) : Prop :=
  (∀ a x, ((![v3284, v3864, v3889, v3892] : Fin 4 → IVec S16 32) a x).toNat < S2x4x32x32.size a)
theorem k0_idx1474_inb : ∀ (v3284 : IVec S16 32) (v3864 : IVec S16 32) (v3889 : IVec S16 32) (v3892 : IVec S16 32) (k0_hw1118 : k0_chk1118 v3284 v3864 v3889 v3892), ∀ a x, ((![v3284, v3864, v3889, v3892] : Fin 4 → IVec S16 32) a x).toNat < S2x4x32x32.size a := fun v3284 v3864 v3889 v3892 k0_hw1118 => k0_hw1118

def k0_chk1119 (v33 : IVec S16 32) (v35 : IVec S16 32) (v3284 : IVec S16 32) (v3864 : IVec S16 32) (v3894 : IVec S16 32) : Prop :=
  (∀ a x, ((![v3284, v3864, v3894, v33] : Fin 4 → IVec S16 32) a x).toNat < S2x4x94x96.size a) ∧
  (∀ a x, ((![v3284, v3864, v3894, v35] : Fin 4 → IVec S16 32) a x).toNat < S2x4x94x96.size a)
theorem k0_idx1475_inb : ∀ (v33 : IVec S16 32) (v35 : IVec S16 32) (v3284 : IVec S16 32) (v3864 : IVec S16 32) (v3894 : IVec S16 32) (k0_hw1119 : k0_chk1119 v33 v35 v3284 v3864 v3894), ∀ a x, ((![v3284, v3864, v3894, v33] : Fin 4 → IVec S16 32) a x).toNat < S2x4x94x96.size a := fun v33 v35 v3284 v3864 v3894 k0_hw1119 => k0_hw1119.1
theorem k0_idx1476_inb : ∀ (v33 : IVec S16 32) (v35 : IVec S16 32) (v3284 : IVec S16 32) (v3864 : IVec S16 32) (v3894 : IVec S16 32) (k0_hw1119 : k0_chk1119 v33 v35 v3284 v3864 v3894), ∀ a x, ((![v3284, v3864, v3894, v35] : Fin 4 → IVec S16 32) a x).toNat < S2x4x94x96.size a := fun v33 v35 v3284 v3864 v3894 k0_hw1119 => k0_hw1119.2

def k0_chk1120 (v30 : IVec S16 32) (v3284 : IVec S16 32) (v3864 : IVec S16 32) (v3895 : IVec S16 32) : Prop :=
  (∀ a x, ((![v3284, v3864, v3895, v30] : Fin 4 → IVec S16 32) a x).toNat < S2x4x32x32.size a)
theorem k0_idx1477_inb : ∀ (v30 : IVec S16 32) (v3284 : IVec S16 32) (v3864 : IVec S16 32) (v3895 : IVec S16 32) (k0_hw1120 : k0_chk1120 v30 v3284 v3864 v3895), ∀ a x, ((![v3284, v3864, v3895, v30] : Fin 4 → IVec S16 32) a x).toNat < S2x4x32x32.size a := fun v30 v3284 v3864 v3895 k0_hw1120 => k0_hw1120

def k0_chk1121 (v3284 : IVec S16 32) (v3864 : IVec S16 32) (v3895 : IVec S16 32) (v3898 : IVec S16 32) : Prop :=
  (∀ a x, ((![v3284, v3864, v3895, v3898] : Fin 4 → IVec S16 32) a x).toNat < S2x4x32x32.size a)
theorem k0_idx1478_inb : ∀ (v3284 : IVec S16 32) (v3864 : IVec S16 32) (v3895 : IVec S16 32) (v3898 : IVec S16 32) (k0_hw1121 : k0_chk1121 v3284 v3864 v3895 v3898), ∀ a x, ((![v3284, v3864, v3895, v3898] : Fin 4 → IVec S16 32) a x).toNat < S2x4x32x32.size a := fun v3284 v3864 v3895 v3898 k0_hw1121 => k0_hw1121

def k0_chk1122 (v33 : IVec S16 32) (v35 : IVec S16 32) (v3284 : IVec S16 32) (v3864 : IVec S16 32) (v3900 : IVec S16 32) : Prop :=
  (∀ a x, ((![v3284, v3864, v3900, v33] : Fin 4 → IVec S16 32) a x).toNat < S2x4x94x96.size a) ∧
  (∀ a x, ((![v3284, v3864, v3900, v35] : Fin 4 → IVec S16 32) a x).toNat < S2x4x94x96.size a)
theorem k0_idx1479_inb : ∀ (v33 : IVec S16 32) (v35 : IVec S16 32) (v3284 : IVec S16 32) (v3864 : IVec S16 32) (v3900 : IVec S16 32) (k0_hw1122 : k0_chk1122 v33 v35 v3284 v3864 v3900), ∀ a x, ((![v3284, v3864, v3900, v33] : Fin 4 → IVec S16 32) a x).toNat < S2x4x94x96.size a := fun v33 v35 v3284 v3864 v3900 k0_hw1122 => k0_hw1122.1
theorem k0_idx1480_inb : ∀ (v33 : IVec S16 32) (v35 : IVec S16 32) (v3284 : IVec S16 32) (v3864 : IVec S16 32) (v3900 : IVec S16 32) (k0_hw1122 : k0_chk1122 v33 v35 v3284 v3864 v3900), ∀ a x, ((![v3284, v3864, v3900, v35] : Fin 4 → IVec S16 32) a x).toNat < S2x4x94x96.size a := fun v33 v35 v3284 v3864 v3900 k0_hw1122 => k0_hw1122.2

def k0_chk1123 (v30 : IVec S16 32) (v3284 : IVec S16 32) (v3864 : IVec S16 32) (v3901 : IVec S16 32) : Prop :=
  (∀ a x, ((![v3284, v3864, v3901, v30] : Fin 4 → IVec S16 32) a x).toNat < S2x4x32x32.size a)
theorem k0_idx1481_inb : ∀ (v30 : IVec S16 32) (v3284 : IVec S16 32) (v3864 : IVec S16 32) (v3901 : IVec S16 32) (k0_hw1123 : k0_chk1123 v30 v3284 v3864 v3901), ∀ a x, ((![v3284, v3864, v3901, v30] : Fin 4 → IVec S16 32) a x).toNat < S2x4x32x32.size a := fun v30 v3284 v3864 v3901 k0_hw1123 => k0_hw1123

def k0_chk1124 (v3284 : IVec S16 32) (v3864 : IVec S16 32) (v3901 : IVec S16 32) (v3904 : IVec S16 32) : Prop :=
  (∀ a x, ((![v3284, v3864, v3901, v3904] : Fin 4 → IVec S16 32) a x).toNat < S2x4x32x32.size a)
theorem k0_idx1482_inb : ∀ (v3284 : IVec S16 32) (v3864 : IVec S16 32) (v3901 : IVec S16 32) (v3904 : IVec S16 32) (k0_hw1124 : k0_chk1124 v3284 v3864 v3901 v3904), ∀ a x, ((![v3284, v3864, v3901, v3904] : Fin 4 → IVec S16 32) a x).toNat < S2x4x32x32.size a := fun v3284 v3864 v3901 v3904 k0_hw1124 => k0_hw1124

def k0_chk1125 (v33 : IVec S16 32) (v35 : IVec S16 32) (v3284 : IVec S16 32) (v3864 : IVec S16 32) (v3906 : IVec S16 32) : Prop :=
  (∀ a x, ((![v3284, v3864, v3906, v33] : Fin 4 → IVec S16 32) a x).toNat < S2x4x94x96.size a) ∧
  (∀ a x, ((![v3284, v3864, v3906, v35] : Fin 4 → IVec S16 32) a x).toNat < S2x4x94x96.size a)
theorem k0_idx1483_inb : ∀ (v33 : IVec S16 32) (v35 : IVec S16 32) (v3284 : IVec S16 32) (v3864 : IVec S16 32) (v3906 : IVec S16 32) (k0_hw1125 : k0_chk1125 v33 v35 v3284 v3864 v3906), ∀ a x, ((![v3284, v3864, v3906, v33] : Fin 4 → IVec S16 32) a x).toNat < S2x4x94x96.size a := fun v33 v35 v3284 v3864 v3906 k0_hw1125 => k0_hw1125.1
theorem k0_idx1484_inb : ∀ (v33 : IVec S16 32) (v35 : IVec S16 32) (v3284 : IVec S16 32) (v3864 : IVec S16 32) (v3906 : IVec S16 32) (k0_hw1125 : k0_chk1125 v33 v35 v3284 v3864 v3906), ∀ a x, ((![v3284, v3864, v3906, v35] : Fin 4 → IVec S16 32) a x).toNat < S2x4x94x96.size a := fun v33 v35 v3284 v3864 v3906 k0_hw1125 => k0_hw1125.2

def k0_chk1126 (v30 : IVec S16 32) (v3284 : IVec S16 32) (v3864 : IVec S16 32) (v3907 : IVec S16 32) : Prop :=
  (∀ a x, ((![v3284, v3864, v3907, v30] : Fin 4 → IVec S16 32) a x).toNat < S2x4x32x32.size a)
theorem k0_idx1485_inb : ∀ (v30 : IVec S16 32) (v3284 : IVec S16 32) (v3864 : IVec S16 32) (v3907 : IVec S16 32) (k0_hw1126 : k0_chk1126 v30 v3284 v3864 v3907), ∀ a x, ((![v3284, v3864, v3907, v30] : Fin 4 → IVec S16 32) a x).toNat < S2x4x32x32.size a := fun v30 v3284 v3864 v3907 k0_hw1126 => k0_hw1126

def k0_chk1127 (v3284 : IVec S16 32) (v3864 : IVec S16 32) (v3907 : IVec S16 32) (v3910 : IVec S16 32) : Prop :=
  (∀ a x, ((![v3284, v3864, v3907, v3910] : Fin 4 → IVec S16 32) a x).toNat < S2x4x32x32.size a)
theorem k0_idx1486_inb : ∀ (v3284 : IVec S16 32) (v3864 : IVec S16 32) (v3907 : IVec S16 32) (v3910 : IVec S16 32) (k0_hw1127 : k0_chk1127 v3284 v3864 v3907 v3910), ∀ a x, ((![v3284, v3864, v3907, v3910] : Fin 4 → IVec S16 32) a x).toNat < S2x4x32x32.size a := fun v3284 v3864 v3907 v3910 k0_hw1127 => k0_hw1127

def k0_chk1128 (v33 : IVec S16 32) (v35 : IVec S16 32) (v3284 : IVec S16 32) (v3864 : IVec S16 32) (v3912 : IVec S16 32) : Prop :=
  (∀ a x, ((![v3284, v3864, v3912, v33] : Fin 4 → IVec S16 32) a x).toNat < S2x4x94x96.size a) ∧
  (∀ a x, ((![v3284, v3864, v3912, v35] : Fin 4 → IVec S16 32) a x).toNat < S2x4x94x96.size a)
theorem k0_idx1487_inb : ∀ (v33 : IVec S16 32) (v35 : IVec S16 32) (v3284 : IVec S16 32) (v3864 : IVec S16 32) (v3912 : IVec S16 32) (k0_hw1128 : k0_chk1128 v33 v35 v3284 v3864 v3912), ∀ a x, ((![v3284, v3864, v3912, v33] : Fin 4 → IVec S16 32) a x).toNat < S2x4x94x96.size a := fun v33 v35 v3284 v3864 v3912 k0_hw1128 => k0_hw1128.1
theorem k0_idx1488_inb : ∀ (v33 : IVec S16 32) (v35 : IVec S16 32) (v3284 : IVec S16 32) (v3864 : IVec S16 32) (v3912 : IVec S16 32) (k0_hw1128 : k0_chk1128 v33 v35 v3284 v3864 v3912), ∀ a x, ((![v3284, v3864, v3912, v35] : Fin 4 → IVec S16 32) a x).toNat < S2x4x94x96.size a := fun v33 v35 v3284 v3864 v3912 k0_hw1128 => k0_hw1128.2

def k0_chk1129 (v30 : IVec S16 32) (v3284 : IVec S16 32) (v3864 : IVec S16 32) (v3913 : IVec S16 32) : Prop :=
  (∀ a x, ((![v3284, v3864, v3913, v30] : Fin 4 → IVec S16 32) a x).toNat < S2x4x32x32.size a)
theorem k0_idx1489_inb : ∀ (v30 : IVec S16 32) (v3284 : IVec S16 32) (v3864 : IVec S16 32) (v3913 : IVec S16 32) (k0_hw1129 : k0_chk1129 v30 v3284 v3864 v3913), ∀ a x, ((![v3284, v3864, v3913, v30] : Fin 4 → IVec S16 32) a x).toNat < S2x4x32x32.size a := fun v30 v3284 v3864 v3913 k0_hw1129 => k0_hw1129

def k0_chk1130 (v3284 : IVec S16 32) (v3864 : IVec S16 32) (v3913 : IVec S16 32) (v3916 : IVec S16 32) : Prop :=
  (∀ a x, ((![v3284, v3864, v3913, v3916] : Fin 4 → IVec S16 32) a x).toNat < S2x4x32x32.size a)
theorem k0_idx1490_inb : ∀ (v3284 : IVec S16 32) (v3864 : IVec S16 32) (v3913 : IVec S16 32) (v3916 : IVec S16 32) (k0_hw1130 : k0_chk1130 v3284 v3864 v3913 v3916), ∀ a x, ((![v3284, v3864, v3913, v3916] : Fin 4 → IVec S16 32) a x).toNat < S2x4x32x32.size a := fun v3284 v3864 v3913 v3916 k0_hw1130 => k0_hw1130

def k0_chk1131 (v33 : IVec S16 32) (v35 : IVec S16 32) (v3284 : IVec S16 32) (v3864 : IVec S16 32) (v3918 : IVec S16 32) : Prop :=
  (∀ a x, ((![v3284, v3864, v3918, v33] : Fin 4 → IVec S16 32) a x).toNat < S2x4x94x96.size a) ∧
  (∀ a x, ((![v3284, v3864, v3918, v35] : Fin 4 → IVec S16 32) a x).toNat < S2x4x94x96.size a)
theorem k0_idx1491_inb : ∀ (v33 : IVec S16 32) (v35 : IVec S16 32) (v3284 : IVec S16 32) (v3864 : IVec S16 32) (v3918 : IVec S16 32) (k0_hw1131 : k0_chk1131 v33 v35 v3284 v3864 v3918), ∀ a x, ((![v3284, v3864, v3918, v33] : Fin 4 → IVec S16 32) a x).toNat < S2x4x94x96.size a := fun v33 v35 v3284 v3864 v3918 k0_hw1131 => k0_hw1131.1
theorem k0_idx1492_inb : ∀ (v33 : IVec S16 32) (v35 : IVec S16 32) (v3284 : IVec S16 32) (v3864 : IVec S16 32) (v3918 : IVec S16 32) (k0_hw1131 : k0_chk1131 v33 v35 v3284 v3864 v3918), ∀ a x, ((![v3284, v3864, v3918, v35] : Fin 4 → IVec S16 32) a x).toNat < S2x4x94x96.size a := fun v33 v35 v3284 v3864 v3918 k0_hw1131 => k0_hw1131.2

def k0_chk1132 (v30 : IVec S16 32) (v3284 : IVec S16 32) (v3864 : IVec S16 32) (v3919 : IVec S16 32) : Prop :=
  (∀ a x, ((![v3284, v3864, v3919, v30] : Fin 4 → IVec S16 32) a x).toNat < S2x4x32x32.size a)
theorem k0_idx1493_inb : ∀ (v30 : IVec S16 32) (v3284 : IVec S16 32) (v3864 : IVec S16 32) (v3919 : IVec S16 32) (k0_hw1132 : k0_chk1132 v30 v3284 v3864 v3919), ∀ a x, ((![v3284, v3864, v3919, v30] : Fin 4 → IVec S16 32) a x).toNat < S2x4x32x32.size a := fun v30 v3284 v3864 v3919 k0_hw1132 => k0_hw1132

def k0_chk1133 (v3284 : IVec S16 32) (v3864 : IVec S16 32) (v3919 : IVec S16 32) (v3922 : IVec S16 32) : Prop :=
  (∀ a x, ((![v3284, v3864, v3919, v3922] : Fin 4 → IVec S16 32) a x).toNat < S2x4x32x32.size a)
theorem k0_idx1494_inb : ∀ (v3284 : IVec S16 32) (v3864 : IVec S16 32) (v3919 : IVec S16 32) (v3922 : IVec S16 32) (k0_hw1133 : k0_chk1133 v3284 v3864 v3919 v3922), ∀ a x, ((![v3284, v3864, v3919, v3922] : Fin 4 → IVec S16 32) a x).toNat < S2x4x32x32.size a := fun v3284 v3864 v3919 v3922 k0_hw1133 => k0_hw1133

def k0_chk1134 (v33 : IVec S16 32) (v35 : IVec S16 32) (v3284 : IVec S16 32) (v3864 : IVec S16 32) (v3924 : IVec S16 32) : Prop :=
  (∀ a x, ((![v3284, v3864, v3924, v33] : Fin 4 → IVec S16 32) a x).toNat < S2x4x94x96.size a) ∧
  (∀ a x, ((![v3284, v3864, v3924, v35] : Fin 4 → IVec S16 32) a x).toNat < S2x4x94x96.size a)
theorem k0_idx1495_inb : ∀ (v33 : IVec S16 32) (v35 : IVec S16 32) (v3284 : IVec S16 32) (v3864 : IVec S16 32) (v3924 : IVec S16 32) (k0_hw1134 : k0_chk1134 v33 v35 v3284 v3864 v3924), ∀ a x, ((![v3284, v3864, v3924, v33] : Fin 4 → IVec S16 32) a x).toNat < S2x4x94x96.size a := fun v33 v35 v3284 v3864 v3924 k0_hw1134 => k0_hw1134.1
theorem k0_idx1496_inb : ∀ (v33 : IVec S16 32) (v35 : IVec S16 32) (v3284 : IVec S16 32) (v3864 : IVec S16 32) (v3924 : IVec S16 32) (k0_hw1134 : k0_chk1134 v33 v35 v3284 v3864 v3924), ∀ a x, ((![v3284, v3864, v3924, v35] : Fin 4 → IVec S16 32) a x).toNat < S2x4x94x96.size a := fun v33 v35 v3284 v3864 v3924 k0_hw1134 => k0_hw1134.2

def k0_chk1135 (v30 : IVec S16 32) (v3284 : IVec S16 32) (v3864 : IVec S16 32) (v3925 : IVec S16 32) : Prop :=
  (∀ a x, ((![v3284, v3864, v3925, v30] : Fin 4 → IVec S16 32) a x).toNat < S2x4x32x32.size a)
theorem k0_idx1497_inb : ∀ (v30 : IVec S16 32) (v3284 : IVec S16 32) (v3864 : IVec S16 32) (v3925 : IVec S16 32) (k0_hw1135 : k0_chk1135 v30 v3284 v3864 v3925), ∀ a x, ((![v3284, v3864, v3925, v30] : Fin 4 → IVec S16 32) a x).toNat < S2x4x32x32.size a := fun v30 v3284 v3864 v3925 k0_hw1135 => k0_hw1135

def k0_chk1136 (v3284 : IVec S16 32) (v3864 : IVec S16 32) (v3925 : IVec S16 32) (v3928 : IVec S16 32) : Prop :=
  (∀ a x, ((![v3284, v3864, v3925, v3928] : Fin 4 → IVec S16 32) a x).toNat < S2x4x32x32.size a)
theorem k0_idx1498_inb : ∀ (v3284 : IVec S16 32) (v3864 : IVec S16 32) (v3925 : IVec S16 32) (v3928 : IVec S16 32) (k0_hw1136 : k0_chk1136 v3284 v3864 v3925 v3928), ∀ a x, ((![v3284, v3864, v3925, v3928] : Fin 4 → IVec S16 32) a x).toNat < S2x4x32x32.size a := fun v3284 v3864 v3925 v3928 k0_hw1136 => k0_hw1136

def k0_chk1137 (v33 : IVec S16 32) (v35 : IVec S16 32) (v3284 : IVec S16 32) (v3864 : IVec S16 32) (v3930 : IVec S16 32) : Prop :=
  (∀ a x, ((![v3284, v3864, v3930, v33] : Fin 4 → IVec S16 32) a x).toNat < S2x4x94x96.size a) ∧
  (∀ a x, ((![v3284, v3864, v3930, v35] : Fin 4 → IVec S16 32) a x).toNat < S2x4x94x96.size a)
theorem k0_idx1499_inb : ∀ (v33 : IVec S16 32) (v35 : IVec S16 32) (v3284 : IVec S16 32) (v3864 : IVec S16 32) (v3930 : IVec S16 32) (k0_hw1137 : k0_chk1137 v33 v35 v3284 v3864 v3930), ∀ a x, ((![v3284, v3864, v3930, v33] : Fin 4 → IVec S16 32) a x).toNat < S2x4x94x96.size a := fun v33 v35 v3284 v3864 v3930 k0_hw1137 => k0_hw1137.1
theorem k0_idx1500_inb : ∀ (v33 : IVec S16 32) (v35 : IVec S16 32) (v3284 : IVec S16 32) (v3864 : IVec S16 32) (v3930 : IVec S16 32) (k0_hw1137 : k0_chk1137 v33 v35 v3284 v3864 v3930), ∀ a x, ((![v3284, v3864, v3930, v35] : Fin 4 → IVec S16 32) a x).toNat < S2x4x94x96.size a := fun v33 v35 v3284 v3864 v3930 k0_hw1137 => k0_hw1137.2

def k0_chk1138 (v30 : IVec S16 32) (v3284 : IVec S16 32) (v3864 : IVec S16 32) (v3931 : IVec S16 32) : Prop :=
  (∀ a x, ((![v3284, v3864, v3931, v30] : Fin 4 → IVec S16 32) a x).toNat < S2x4x32x32.size a)
theorem k0_idx1501_inb : ∀ (v30 : IVec S16 32) (v3284 : IVec S16 32) (v3864 : IVec S16 32) (v3931 : IVec S16 32) (k0_hw1138 : k0_chk1138 v30 v3284 v3864 v3931), ∀ a x, ((![v3284, v3864, v3931, v30] : Fin 4 → IVec S16 32) a x).toNat < S2x4x32x32.size a := fun v30 v3284 v3864 v3931 k0_hw1138 => k0_hw1138

def k0_chk1139 (v3284 : IVec S16 32) (v3864 : IVec S16 32) (v3931 : IVec S16 32) (v3934 : IVec S16 32) : Prop :=
  (∀ a x, ((![v3284, v3864, v3931, v3934] : Fin 4 → IVec S16 32) a x).toNat < S2x4x32x32.size a)
theorem k0_idx1502_inb : ∀ (v3284 : IVec S16 32) (v3864 : IVec S16 32) (v3931 : IVec S16 32) (v3934 : IVec S16 32) (k0_hw1139 : k0_chk1139 v3284 v3864 v3931 v3934), ∀ a x, ((![v3284, v3864, v3931, v3934] : Fin 4 → IVec S16 32) a x).toNat < S2x4x32x32.size a := fun v3284 v3864 v3931 v3934 k0_hw1139 => k0_hw1139

def k0_chk1140 (v33 : IVec S16 32) (v35 : IVec S16 32) (v3284 : IVec S16 32) (v3864 : IVec S16 32) (v3936 : IVec S16 32) : Prop :=
  (∀ a x, ((![v3284, v3864, v3936, v33] : Fin 4 → IVec S16 32) a x).toNat < S2x4x94x96.size a) ∧
  (∀ a x, ((![v3284, v3864, v3936, v35] : Fin 4 → IVec S16 32) a x).toNat < S2x4x94x96.size a)
theorem k0_idx1503_inb : ∀ (v33 : IVec S16 32) (v35 : IVec S16 32) (v3284 : IVec S16 32) (v3864 : IVec S16 32) (v3936 : IVec S16 32) (k0_hw1140 : k0_chk1140 v33 v35 v3284 v3864 v3936), ∀ a x, ((![v3284, v3864, v3936, v33] : Fin 4 → IVec S16 32) a x).toNat < S2x4x94x96.size a := fun v33 v35 v3284 v3864 v3936 k0_hw1140 => k0_hw1140.1
theorem k0_idx1504_inb : ∀ (v33 : IVec S16 32) (v35 : IVec S16 32) (v3284 : IVec S16 32) (v3864 : IVec S16 32) (v3936 : IVec S16 32) (k0_hw1140 : k0_chk1140 v33 v35 v3284 v3864 v3936), ∀ a x, ((![v3284, v3864, v3936, v35] : Fin 4 → IVec S16 32) a x).toNat < S2x4x94x96.size a := fun v33 v35 v3284 v3864 v3936 k0_hw1140 => k0_hw1140.2

def k0_chk1141 (v30 : IVec S16 32) (v3284 : IVec S16 32) (v3864 : IVec S16 32) (v3937 : IVec S16 32) : Prop :=
  (∀ a x, ((![v3284, v3864, v3937, v30] : Fin 4 → IVec S16 32) a x).toNat < S2x4x32x32.size a)
theorem k0_idx1505_inb : ∀ (v30 : IVec S16 32) (v3284 : IVec S16 32) (v3864 : IVec S16 32) (v3937 : IVec S16 32) (k0_hw1141 : k0_chk1141 v30 v3284 v3864 v3937), ∀ a x, ((![v3284, v3864, v3937, v30] : Fin 4 → IVec S16 32) a x).toNat < S2x4x32x32.size a := fun v30 v3284 v3864 v3937 k0_hw1141 => k0_hw1141

def k0_chk1142 (v3284 : IVec S16 32) (v3864 : IVec S16 32) (v3937 : IVec S16 32) (v3940 : IVec S16 32) : Prop :=
  (∀ a x, ((![v3284, v3864, v3937, v3940] : Fin 4 → IVec S16 32) a x).toNat < S2x4x32x32.size a)
theorem k0_idx1506_inb : ∀ (v3284 : IVec S16 32) (v3864 : IVec S16 32) (v3937 : IVec S16 32) (v3940 : IVec S16 32) (k0_hw1142 : k0_chk1142 v3284 v3864 v3937 v3940), ∀ a x, ((![v3284, v3864, v3937, v3940] : Fin 4 → IVec S16 32) a x).toNat < S2x4x32x32.size a := fun v3284 v3864 v3937 v3940 k0_hw1142 => k0_hw1142

def k0_chk1143 (v33 : IVec S16 32) (v35 : IVec S16 32) (v3284 : IVec S16 32) (v3864 : IVec S16 32) (v3942 : IVec S16 32) : Prop :=
  (∀ a x, ((![v3284, v3864, v3942, v33] : Fin 4 → IVec S16 32) a x).toNat < S2x4x94x96.size a) ∧
  (∀ a x, ((![v3284, v3864, v3942, v35] : Fin 4 → IVec S16 32) a x).toNat < S2x4x94x96.size a)
theorem k0_idx1507_inb : ∀ (v33 : IVec S16 32) (v35 : IVec S16 32) (v3284 : IVec S16 32) (v3864 : IVec S16 32) (v3942 : IVec S16 32) (k0_hw1143 : k0_chk1143 v33 v35 v3284 v3864 v3942), ∀ a x, ((![v3284, v3864, v3942, v33] : Fin 4 → IVec S16 32) a x).toNat < S2x4x94x96.size a := fun v33 v35 v3284 v3864 v3942 k0_hw1143 => k0_hw1143.1
theorem k0_idx1508_inb : ∀ (v33 : IVec S16 32) (v35 : IVec S16 32) (v3284 : IVec S16 32) (v3864 : IVec S16 32) (v3942 : IVec S16 32) (k0_hw1143 : k0_chk1143 v33 v35 v3284 v3864 v3942), ∀ a x, ((![v3284, v3864, v3942, v35] : Fin 4 → IVec S16 32) a x).toNat < S2x4x94x96.size a := fun v33 v35 v3284 v3864 v3942 k0_hw1143 => k0_hw1143.2

def k0_chk1144 (v30 : IVec S16 32) (v3284 : IVec S16 32) (v3864 : IVec S16 32) (v3943 : IVec S16 32) : Prop :=
  (∀ a x, ((![v3284, v3864, v3943, v30] : Fin 4 → IVec S16 32) a x).toNat < S2x4x32x32.size a)
theorem k0_idx1509_inb : ∀ (v30 : IVec S16 32) (v3284 : IVec S16 32) (v3864 : IVec S16 32) (v3943 : IVec S16 32) (k0_hw1144 : k0_chk1144 v30 v3284 v3864 v3943), ∀ a x, ((![v3284, v3864, v3943, v30] : Fin 4 → IVec S16 32) a x).toNat < S2x4x32x32.size a := fun v30 v3284 v3864 v3943 k0_hw1144 => k0_hw1144

def k0_chk1145 (v3284 : IVec S16 32) (v3864 : IVec S16 32) (v3943 : IVec S16 32) (v3946 : IVec S16 32) : Prop :=
  (∀ a x, ((![v3284, v3864, v3943, v3946] : Fin 4 → IVec S16 32) a x).toNat < S2x4x32x32.size a)
theorem k0_idx1510_inb : ∀ (v3284 : IVec S16 32) (v3864 : IVec S16 32) (v3943 : IVec S16 32) (v3946 : IVec S16 32) (k0_hw1145 : k0_chk1145 v3284 v3864 v3943 v3946), ∀ a x, ((![v3284, v3864, v3943, v3946] : Fin 4 → IVec S16 32) a x).toNat < S2x4x32x32.size a := fun v3284 v3864 v3943 v3946 k0_hw1145 => k0_hw1145

def k0_chk1146 (v33 : IVec S16 32) (v35 : IVec S16 32) (v3284 : IVec S16 32) (v3864 : IVec S16 32) (v3948 : IVec S16 32) : Prop :=
  (∀ a x, ((![v3284, v3864, v3948, v33] : Fin 4 → IVec S16 32) a x).toNat < S2x4x94x96.size a) ∧
  (∀ a x, ((![v3284, v3864, v3948, v35] : Fin 4 → IVec S16 32) a x).toNat < S2x4x94x96.size a)
theorem k0_idx1511_inb : ∀ (v33 : IVec S16 32) (v35 : IVec S16 32) (v3284 : IVec S16 32) (v3864 : IVec S16 32) (v3948 : IVec S16 32) (k0_hw1146 : k0_chk1146 v33 v35 v3284 v3864 v3948), ∀ a x, ((![v3284, v3864, v3948, v33] : Fin 4 → IVec S16 32) a x).toNat < S2x4x94x96.size a := fun v33 v35 v3284 v3864 v3948 k0_hw1146 => k0_hw1146.1
theorem k0_idx1512_inb : ∀ (v33 : IVec S16 32) (v35 : IVec S16 32) (v3284 : IVec S16 32) (v3864 : IVec S16 32) (v3948 : IVec S16 32) (k0_hw1146 : k0_chk1146 v33 v35 v3284 v3864 v3948), ∀ a x, ((![v3284, v3864, v3948, v35] : Fin 4 → IVec S16 32) a x).toNat < S2x4x94x96.size a := fun v33 v35 v3284 v3864 v3948 k0_hw1146 => k0_hw1146.2

def k0_chk1147 (v30 : IVec S16 32) (v3284 : IVec S16 32) (v3864 : IVec S16 32) (v3949 : IVec S16 32) : Prop :=
  (∀ a x, ((![v3284, v3864, v3949, v30] : Fin 4 → IVec S16 32) a x).toNat < S2x4x32x32.size a)
theorem k0_idx1513_inb : ∀ (v30 : IVec S16 32) (v3284 : IVec S16 32) (v3864 : IVec S16 32) (v3949 : IVec S16 32) (k0_hw1147 : k0_chk1147 v30 v3284 v3864 v3949), ∀ a x, ((![v3284, v3864, v3949, v30] : Fin 4 → IVec S16 32) a x).toNat < S2x4x32x32.size a := fun v30 v3284 v3864 v3949 k0_hw1147 => k0_hw1147

def k0_chk1148 (v3284 : IVec S16 32) (v3864 : IVec S16 32) (v3949 : IVec S16 32) (v3952 : IVec S16 32) : Prop :=
  (∀ a x, ((![v3284, v3864, v3949, v3952] : Fin 4 → IVec S16 32) a x).toNat < S2x4x32x32.size a)
theorem k0_idx1514_inb : ∀ (v3284 : IVec S16 32) (v3864 : IVec S16 32) (v3949 : IVec S16 32) (v3952 : IVec S16 32) (k0_hw1148 : k0_chk1148 v3284 v3864 v3949 v3952), ∀ a x, ((![v3284, v3864, v3949, v3952] : Fin 4 → IVec S16 32) a x).toNat < S2x4x32x32.size a := fun v3284 v3864 v3949 v3952 k0_hw1148 => k0_hw1148

def k0_chk1149 (v33 : IVec S16 32) (v35 : IVec S16 32) (v3284 : IVec S16 32) (v3864 : IVec S16 32) (v3954 : IVec S16 32) : Prop :=
  (∀ a x, ((![v3284, v3864, v3954, v33] : Fin 4 → IVec S16 32) a x).toNat < S2x4x94x96.size a) ∧
  (∀ a x, ((![v3284, v3864, v3954, v35] : Fin 4 → IVec S16 32) a x).toNat < S2x4x94x96.size a)
theorem k0_idx1515_inb : ∀ (v33 : IVec S16 32) (v35 : IVec S16 32) (v3284 : IVec S16 32) (v3864 : IVec S16 32) (v3954 : IVec S16 32) (k0_hw1149 : k0_chk1149 v33 v35 v3284 v3864 v3954), ∀ a x, ((![v3284, v3864, v3954, v33] : Fin 4 → IVec S16 32) a x).toNat < S2x4x94x96.size a := fun v33 v35 v3284 v3864 v3954 k0_hw1149 => k0_hw1149.1
theorem k0_idx1516_inb : ∀ (v33 : IVec S16 32) (v35 : IVec S16 32) (v3284 : IVec S16 32) (v3864 : IVec S16 32) (v3954 : IVec S16 32) (k0_hw1149 : k0_chk1149 v33 v35 v3284 v3864 v3954), ∀ a x, ((![v3284, v3864, v3954, v35] : Fin 4 → IVec S16 32) a x).toNat < S2x4x94x96.size a := fun v33 v35 v3284 v3864 v3954 k0_hw1149 => k0_hw1149.2

def k0_chk1150 (v30 : IVec S16 32) (v3284 : IVec S16 32) (v3864 : IVec S16 32) (v3955 : IVec S16 32) : Prop :=
  (∀ a x, ((![v3284, v3864, v3955, v30] : Fin 4 → IVec S16 32) a x).toNat < S2x4x32x32.size a)
theorem k0_idx1517_inb : ∀ (v30 : IVec S16 32) (v3284 : IVec S16 32) (v3864 : IVec S16 32) (v3955 : IVec S16 32) (k0_hw1150 : k0_chk1150 v30 v3284 v3864 v3955), ∀ a x, ((![v3284, v3864, v3955, v30] : Fin 4 → IVec S16 32) a x).toNat < S2x4x32x32.size a := fun v30 v3284 v3864 v3955 k0_hw1150 => k0_hw1150

def k0_chk1151 (v3284 : IVec S16 32) (v3864 : IVec S16 32) (v3955 : IVec S16 32) (v3958 : IVec S16 32) : Prop :=
  (∀ a x, ((![v3284, v3864, v3955, v3958] : Fin 4 → IVec S16 32) a x).toNat < S2x4x32x32.size a)
theorem k0_idx1518_inb : ∀ (v3284 : IVec S16 32) (v3864 : IVec S16 32) (v3955 : IVec S16 32) (v3958 : IVec S16 32) (k0_hw1151 : k0_chk1151 v3284 v3864 v3955 v3958), ∀ a x, ((![v3284, v3864, v3955, v3958] : Fin 4 → IVec S16 32) a x).toNat < S2x4x32x32.size a := fun v3284 v3864 v3955 v3958 k0_hw1151 => k0_hw1151

def k0_chk1152 (v33 : IVec S16 32) (v35 : IVec S16 32) (v3284 : IVec S16 32) (v3864 : IVec S16 32) (v3960 : IVec S16 32) : Prop :=
  (∀ a x, ((![v3284, v3864, v3960, v33] : Fin 4 → IVec S16 32) a x).toNat < S2x4x94x96.size a) ∧
  (∀ a x, ((![v3284, v3864, v3960, v35] : Fin 4 → IVec S16 32) a x).toNat < S2x4x94x96.size a)
theorem k0_idx1519_inb : ∀ (v33 : IVec S16 32) (v35 : IVec S16 32) (v3284 : IVec S16 32) (v3864 : IVec S16 32) (v3960 : IVec S16 32) (k0_hw1152 : k0_chk1152 v33 v35 v3284 v3864 v3960), ∀ a x, ((![v3284, v3864, v3960, v33] : Fin 4 → IVec S16 32) a x).toNat < S2x4x94x96.size a := fun v33 v35 v3284 v3864 v3960 k0_hw1152 => k0_hw1152.1
theorem k0_idx1520_inb : ∀ (v33 : IVec S16 32) (v35 : IVec S16 32) (v3284 : IVec S16 32) (v3864 : IVec S16 32) (v3960 : IVec S16 32) (k0_hw1152 : k0_chk1152 v33 v35 v3284 v3864 v3960), ∀ a x, ((![v3284, v3864, v3960, v35] : Fin 4 → IVec S16 32) a x).toNat < S2x4x94x96.size a := fun v33 v35 v3284 v3864 v3960 k0_hw1152 => k0_hw1152.2

def k0_chk1153 (v30 : IVec S16 32) (v3284 : IVec S16 32) (v3864 : IVec S16 32) (v3961 : IVec S16 32) : Prop :=
  (∀ a x, ((![v3284, v3864, v3961, v30] : Fin 4 → IVec S16 32) a x).toNat < S2x4x32x32.size a)
theorem k0_idx1521_inb : ∀ (v30 : IVec S16 32) (v3284 : IVec S16 32) (v3864 : IVec S16 32) (v3961 : IVec S16 32) (k0_hw1153 : k0_chk1153 v30 v3284 v3864 v3961), ∀ a x, ((![v3284, v3864, v3961, v30] : Fin 4 → IVec S16 32) a x).toNat < S2x4x32x32.size a := fun v30 v3284 v3864 v3961 k0_hw1153 => k0_hw1153

def k0_chk1154 (v3284 : IVec S16 32) (v3864 : IVec S16 32) (v3961 : IVec S16 32) (v3964 : IVec S16 32) : Prop :=
  (∀ a x, ((![v3284, v3864, v3961, v3964] : Fin 4 → IVec S16 32) a x).toNat < S2x4x32x32.size a)
theorem k0_idx1522_inb : ∀ (v3284 : IVec S16 32) (v3864 : IVec S16 32) (v3961 : IVec S16 32) (v3964 : IVec S16 32) (k0_hw1154 : k0_chk1154 v3284 v3864 v3961 v3964), ∀ a x, ((![v3284, v3864, v3961, v3964] : Fin 4 → IVec S16 32) a x).toNat < S2x4x32x32.size a := fun v3284 v3864 v3961 v3964 k0_hw1154 => k0_hw1154

def k0_chk1155 (v33 : IVec S16 32) (v35 : IVec S16 32) (v3284 : IVec S16 32) (v3864 : IVec S16 32) (v3966 : IVec S16 32) : Prop :=
  (∀ a x, ((![v3284, v3864, v3966, v33] : Fin 4 → IVec S16 32) a x).toNat < S2x4x94x96.size a) ∧
  (∀ a x, ((![v3284, v3864, v3966, v35] : Fin 4 → IVec S16 32) a x).toNat < S2x4x94x96.size a)
theorem k0_idx1523_inb : ∀ (v33 : IVec S16 32) (v35 : IVec S16 32) (v3284 : IVec S16 32) (v3864 : IVec S16 32) (v3966 : IVec S16 32) (k0_hw1155 : k0_chk1155 v33 v35 v3284 v3864 v3966), ∀ a x, ((![v3284, v3864, v3966, v33] : Fin 4 → IVec S16 32) a x).toNat < S2x4x94x96.size a := fun v33 v35 v3284 v3864 v3966 k0_hw1155 => k0_hw1155.1
theorem k0_idx1524_inb : ∀ (v33 : IVec S16 32) (v35 : IVec S16 32) (v3284 : IVec S16 32) (v3864 : IVec S16 32) (v3966 : IVec S16 32) (k0_hw1155 : k0_chk1155 v33 v35 v3284 v3864 v3966), ∀ a x, ((![v3284, v3864, v3966, v35] : Fin 4 → IVec S16 32) a x).toNat < S2x4x94x96.size a := fun v33 v35 v3284 v3864 v3966 k0_hw1155 => k0_hw1155.2

def k0_chk1156 (v30 : IVec S16 32) (v3284 : IVec S16 32) (v3864 : IVec S16 32) (v3967 : IVec S16 32) : Prop :=
  (∀ a x, ((![v3284, v3864, v3967, v30] : Fin 4 → IVec S16 32) a x).toNat < S2x4x32x32.size a)
theorem k0_idx1525_inb : ∀ (v30 : IVec S16 32) (v3284 : IVec S16 32) (v3864 : IVec S16 32) (v3967 : IVec S16 32) (k0_hw1156 : k0_chk1156 v30 v3284 v3864 v3967), ∀ a x, ((![v3284, v3864, v3967, v30] : Fin 4 → IVec S16 32) a x).toNat < S2x4x32x32.size a := fun v30 v3284 v3864 v3967 k0_hw1156 => k0_hw1156

def k0_chk1157 (v3284 : IVec S16 32) (v3864 : IVec S16 32) (v3967 : IVec S16 32) (v3970 : IVec S16 32) : Prop :=
  (∀ a x, ((![v3284, v3864, v3967, v3970] : Fin 4 → IVec S16 32) a x).toNat < S2x4x32x32.size a)
theorem k0_idx1526_inb : ∀ (v3284 : IVec S16 32) (v3864 : IVec S16 32) (v3967 : IVec S16 32) (v3970 : IVec S16 32) (k0_hw1157 : k0_chk1157 v3284 v3864 v3967 v3970), ∀ a x, ((![v3284, v3864, v3967, v3970] : Fin 4 → IVec S16 32) a x).toNat < S2x4x32x32.size a := fun v3284 v3864 v3967 v3970 k0_hw1157 => k0_hw1157

def k0_chk1158 (v33 : IVec S16 32) (v35 : IVec S16 32) (v3284 : IVec S16 32) (v3864 : IVec S16 32) (v3972 : IVec S16 32) : Prop :=
  (∀ a x, ((![v3284, v3864, v3972, v33] : Fin 4 → IVec S16 32) a x).toNat < S2x4x94x96.size a) ∧
  (∀ a x, ((![v3284, v3864, v3972, v35] : Fin 4 → IVec S16 32) a x).toNat < S2x4x94x96.size a)
theorem k0_idx1527_inb : ∀ (v33 : IVec S16 32) (v35 : IVec S16 32) (v3284 : IVec S16 32) (v3864 : IVec S16 32) (v3972 : IVec S16 32) (k0_hw1158 : k0_chk1158 v33 v35 v3284 v3864 v3972), ∀ a x, ((![v3284, v3864, v3972, v33] : Fin 4 → IVec S16 32) a x).toNat < S2x4x94x96.size a := fun v33 v35 v3284 v3864 v3972 k0_hw1158 => k0_hw1158.1
theorem k0_idx1528_inb : ∀ (v33 : IVec S16 32) (v35 : IVec S16 32) (v3284 : IVec S16 32) (v3864 : IVec S16 32) (v3972 : IVec S16 32) (k0_hw1158 : k0_chk1158 v33 v35 v3284 v3864 v3972), ∀ a x, ((![v3284, v3864, v3972, v35] : Fin 4 → IVec S16 32) a x).toNat < S2x4x94x96.size a := fun v33 v35 v3284 v3864 v3972 k0_hw1158 => k0_hw1158.2

def k0_chk1159 (v30 : IVec S16 32) (v3284 : IVec S16 32) (v3864 : IVec S16 32) (v3973 : IVec S16 32) : Prop :=
  (∀ a x, ((![v3284, v3864, v3973, v30] : Fin 4 → IVec S16 32) a x).toNat < S2x4x32x32.size a)
theorem k0_idx1529_inb : ∀ (v30 : IVec S16 32) (v3284 : IVec S16 32) (v3864 : IVec S16 32) (v3973 : IVec S16 32) (k0_hw1159 : k0_chk1159 v30 v3284 v3864 v3973), ∀ a x, ((![v3284, v3864, v3973, v30] : Fin 4 → IVec S16 32) a x).toNat < S2x4x32x32.size a := fun v30 v3284 v3864 v3973 k0_hw1159 => k0_hw1159

def k0_chk1160 (v3284 : IVec S16 32) (v3864 : IVec S16 32) (v3973 : IVec S16 32) (v3976 : IVec S16 32) : Prop :=
  (∀ a x, ((![v3284, v3864, v3973, v3976] : Fin 4 → IVec S16 32) a x).toNat < S2x4x32x32.size a)
theorem k0_idx1530_inb : ∀ (v3284 : IVec S16 32) (v3864 : IVec S16 32) (v3973 : IVec S16 32) (v3976 : IVec S16 32) (k0_hw1160 : k0_chk1160 v3284 v3864 v3973 v3976), ∀ a x, ((![v3284, v3864, v3973, v3976] : Fin 4 → IVec S16 32) a x).toNat < S2x4x32x32.size a := fun v3284 v3864 v3973 v3976 k0_hw1160 => k0_hw1160

def k0_chk1161 (v33 : IVec S16 32) (v35 : IVec S16 32) (v3284 : IVec S16 32) (v3864 : IVec S16 32) (v3978 : IVec S16 32) : Prop :=
  (∀ a x, ((![v3284, v3864, v3978, v33] : Fin 4 → IVec S16 32) a x).toNat < S2x4x94x96.size a) ∧
  (∀ a x, ((![v3284, v3864, v3978, v35] : Fin 4 → IVec S16 32) a x).toNat < S2x4x94x96.size a)
theorem k0_idx1531_inb : ∀ (v33 : IVec S16 32) (v35 : IVec S16 32) (v3284 : IVec S16 32) (v3864 : IVec S16 32) (v3978 : IVec S16 32) (k0_hw1161 : k0_chk1161 v33 v35 v3284 v3864 v3978), ∀ a x, ((![v3284, v3864, v3978, v33] : Fin 4 → IVec S16 32) a x).toNat < S2x4x94x96.size a := fun v33 v35 v3284 v3864 v3978 k0_hw1161 => k0_hw1161.1
theorem k0_idx1532_inb : ∀ (v33 : IVec S16 32) (v35 : IVec S16 32) (v3284 : IVec S16 32) (v3864 : IVec S16 32) (v3978 : IVec S16 32) (k0_hw1161 : k0_chk1161 v33 v35 v3284 v3864 v3978), ∀ a x, ((![v3284, v3864, v3978, v35] : Fin 4 → IVec S16 32) a x).toNat < S2x4x94x96.size a := fun v33 v35 v3284 v3864 v3978 k0_hw1161 => k0_hw1161.2

def k0_chk1162 (v30 : IVec S16 32) (v3284 : IVec S16 32) (v3864 : IVec S16 32) (v3979 : IVec S16 32) : Prop :=
  (∀ a x, ((![v3284, v3864, v3979, v30] : Fin 4 → IVec S16 32) a x).toNat < S2x4x32x32.size a)
theorem k0_idx1533_inb : ∀ (v30 : IVec S16 32) (v3284 : IVec S16 32) (v3864 : IVec S16 32) (v3979 : IVec S16 32) (k0_hw1162 : k0_chk1162 v30 v3284 v3864 v3979), ∀ a x, ((![v3284, v3864, v3979, v30] : Fin 4 → IVec S16 32) a x).toNat < S2x4x32x32.size a := fun v30 v3284 v3864 v3979 k0_hw1162 => k0_hw1162

def k0_chk1163 (v3284 : IVec S16 32) (v3864 : IVec S16 32) (v3979 : IVec S16 32) (v3982 : IVec S16 32) : Prop :=
  (∀ a x, ((![v3284, v3864, v3979, v3982] : Fin 4 → IVec S16 32) a x).toNat < S2x4x32x32.size a)
theorem k0_idx1534_inb : ∀ (v3284 : IVec S16 32) (v3864 : IVec S16 32) (v3979 : IVec S16 32) (v3982 : IVec S16 32) (k0_hw1163 : k0_chk1163 v3284 v3864 v3979 v3982), ∀ a x, ((![v3284, v3864, v3979, v3982] : Fin 4 → IVec S16 32) a x).toNat < S2x4x32x32.size a := fun v3284 v3864 v3979 v3982 k0_hw1163 => k0_hw1163

def k0_chk1164 (v33 : IVec S16 32) (v35 : IVec S16 32) (v3284 : IVec S16 32) (v3864 : IVec S16 32) (v3984 : IVec S16 32) : Prop :=
  (∀ a x, ((![v3284, v3864, v3984, v33] : Fin 4 → IVec S16 32) a x).toNat < S2x4x94x96.size a) ∧
  (∀ a x, ((![v3284, v3864, v3984, v35] : Fin 4 → IVec S16 32) a x).toNat < S2x4x94x96.size a)
theorem k0_idx1535_inb : ∀ (v33 : IVec S16 32) (v35 : IVec S16 32) (v3284 : IVec S16 32) (v3864 : IVec S16 32) (v3984 : IVec S16 32) (k0_hw1164 : k0_chk1164 v33 v35 v3284 v3864 v3984), ∀ a x, ((![v3284, v3864, v3984, v33] : Fin 4 → IVec S16 32) a x).toNat < S2x4x94x96.size a := fun v33 v35 v3284 v3864 v3984 k0_hw1164 => k0_hw1164.1
theorem k0_idx1536_inb : ∀ (v33 : IVec S16 32) (v35 : IVec S16 32) (v3284 : IVec S16 32) (v3864 : IVec S16 32) (v3984 : IVec S16 32) (k0_hw1164 : k0_chk1164 v33 v35 v3284 v3864 v3984), ∀ a x, ((![v3284, v3864, v3984, v35] : Fin 4 → IVec S16 32) a x).toNat < S2x4x94x96.size a := fun v33 v35 v3284 v3864 v3984 k0_hw1164 => k0_hw1164.2

def k0_chk1165 (v30 : IVec S16 32) (v3284 : IVec S16 32) (v3864 : IVec S16 32) (v3985 : IVec S16 32) : Prop :=
  (∀ a x, ((![v3284, v3864, v3985, v30] : Fin 4 → IVec S16 32) a x).toNat < S2x4x32x32.size a)
theorem k0_idx1537_inb : ∀ (v30 : IVec S16 32) (v3284 : IVec S16 32) (v3864 : IVec S16 32) (v3985 : IVec S16 32) (k0_hw1165 : k0_chk1165 v30 v3284 v3864 v3985), ∀ a x, ((![v3284, v3864, v3985, v30] : Fin 4 → IVec S16 32) a x).toNat < S2x4x32x32.size a := fun v30 v3284 v3864 v3985 k0_hw1165 => k0_hw1165

def k0_chk1166 (v3284 : IVec S16 32) (v3864 : IVec S16 32) (v3985 : IVec S16 32) (v3988 : IVec S16 32) : Prop :=
  (∀ a x, ((![v3284, v3864, v3985, v3988] : Fin 4 → IVec S16 32) a x).toNat < S2x4x32x32.size a)
theorem k0_idx1538_inb : ∀ (v3284 : IVec S16 32) (v3864 : IVec S16 32) (v3985 : IVec S16 32) (v3988 : IVec S16 32) (k0_hw1166 : k0_chk1166 v3284 v3864 v3985 v3988), ∀ a x, ((![v3284, v3864, v3985, v3988] : Fin 4 → IVec S16 32) a x).toNat < S2x4x32x32.size a := fun v3284 v3864 v3985 v3988 k0_hw1166 => k0_hw1166

def k0_chk1167 (v33 : IVec S16 32) (v35 : IVec S16 32) (v3284 : IVec S16 32) (v3864 : IVec S16 32) (v3990 : IVec S16 32) : Prop :=
  (∀ a x, ((![v3284, v3864, v3990, v33] : Fin 4 → IVec S16 32) a x).toNat < S2x4x94x96.size a) ∧
  (∀ a x, ((![v3284, v3864, v3990, v35] : Fin 4 → IVec S16 32) a x).toNat < S2x4x94x96.size a)
theorem k0_idx1539_inb : ∀ (v33 : IVec S16 32) (v35 : IVec S16 32) (v3284 : IVec S16 32) (v3864 : IVec S16 32) (v3990 : IVec S16 32) (k0_hw1167 : k0_chk1167 v33 v35 v3284 v3864 v3990), ∀ a x, ((![v3284, v3864, v3990, v33] : Fin 4 → IVec S16 32) a x).toNat < S2x4x94x96.size a := fun v33 v35 v3284 v3864 v3990 k0_hw1167 => k0_hw1167.1
theorem k0_idx1540_inb : ∀ (v33 : IVec S16 32) (v35 : IVec S16 32) (v3284 : IVec S16 32) (v3864 : IVec S16 32) (v3990 : IVec S16 32) (k0_hw1167 : k0_chk1167 v33 v35 v3284 v3864 v3990), ∀ a x, ((![v3284, v3864, v3990, v35] : Fin 4 → IVec S16 32) a x).toNat < S2x4x94x96.size a := fun v33 v35 v3284 v3864 v3990 k0_hw1167 => k0_hw1167.2

def k0_chk1168 (v30 : IVec S16 32) (v3284 : IVec S16 32) (v3864 : IVec S16 32) (v3991 : IVec S16 32) : Prop :=
  (∀ a x, ((![v3284, v3864, v3991, v30] : Fin 4 → IVec S16 32) a x).toNat < S2x4x32x32.size a)
theorem k0_idx1541_inb : ∀ (v30 : IVec S16 32) (v3284 : IVec S16 32) (v3864 : IVec S16 32) (v3991 : IVec S16 32) (k0_hw1168 : k0_chk1168 v30 v3284 v3864 v3991), ∀ a x, ((![v3284, v3864, v3991, v30] : Fin 4 → IVec S16 32) a x).toNat < S2x4x32x32.size a := fun v30 v3284 v3864 v3991 k0_hw1168 => k0_hw1168

def k0_chk1169 (v3284 : IVec S16 32) (v3864 : IVec S16 32) (v3991 : IVec S16 32) (v3994 : IVec S16 32) : Prop :=
  (∀ a x, ((![v3284, v3864, v3991, v3994] : Fin 4 → IVec S16 32) a x).toNat < S2x4x32x32.size a)
theorem k0_idx1542_inb : ∀ (v3284 : IVec S16 32) (v3864 : IVec S16 32) (v3991 : IVec S16 32) (v3994 : IVec S16 32) (k0_hw1169 : k0_chk1169 v3284 v3864 v3991 v3994), ∀ a x, ((![v3284, v3864, v3991, v3994] : Fin 4 → IVec S16 32) a x).toNat < S2x4x32x32.size a := fun v3284 v3864 v3991 v3994 k0_hw1169 => k0_hw1169

def k0_chk1170 (v33 : IVec S16 32) (v35 : IVec S16 32) (v3284 : IVec S16 32) (v3864 : IVec S16 32) (v3996 : IVec S16 32) : Prop :=
  (∀ a x, ((![v3284, v3864, v3996, v33] : Fin 4 → IVec S16 32) a x).toNat < S2x4x94x96.size a) ∧
  (∀ a x, ((![v3284, v3864, v3996, v35] : Fin 4 → IVec S16 32) a x).toNat < S2x4x94x96.size a)
theorem k0_idx1543_inb : ∀ (v33 : IVec S16 32) (v35 : IVec S16 32) (v3284 : IVec S16 32) (v3864 : IVec S16 32) (v3996 : IVec S16 32) (k0_hw1170 : k0_chk1170 v33 v35 v3284 v3864 v3996), ∀ a x, ((![v3284, v3864, v3996, v33] : Fin 4 → IVec S16 32) a x).toNat < S2x4x94x96.size a := fun v33 v35 v3284 v3864 v3996 k0_hw1170 => k0_hw1170.1
theorem k0_idx1544_inb : ∀ (v33 : IVec S16 32) (v35 : IVec S16 32) (v3284 : IVec S16 32) (v3864 : IVec S16 32) (v3996 : IVec S16 32) (k0_hw1170 : k0_chk1170 v33 v35 v3284 v3864 v3996), ∀ a x, ((![v3284, v3864, v3996, v35] : Fin 4 → IVec S16 32) a x).toNat < S2x4x94x96.size a := fun v33 v35 v3284 v3864 v3996 k0_hw1170 => k0_hw1170.2

def k0_chk1171 (v30 : IVec S16 32) (v3284 : IVec S16 32) (v3864 : IVec S16 32) (v3997 : IVec S16 32) : Prop :=
  (∀ a x, ((![v3284, v3864, v3997, v30] : Fin 4 → IVec S16 32) a x).toNat < S2x4x32x32.size a)
theorem k0_idx1545_inb : ∀ (v30 : IVec S16 32) (v3284 : IVec S16 32) (v3864 : IVec S16 32) (v3997 : IVec S16 32) (k0_hw1171 : k0_chk1171 v30 v3284 v3864 v3997), ∀ a x, ((![v3284, v3864, v3997, v30] : Fin 4 → IVec S16 32) a x).toNat < S2x4x32x32.size a := fun v30 v3284 v3864 v3997 k0_hw1171 => k0_hw1171

def k0_chk1172 (v3284 : IVec S16 32) (v3864 : IVec S16 32) (v3997 : IVec S16 32) (v4000 : IVec S16 32) : Prop :=
  (∀ a x, ((![v3284, v3864, v3997, v4000] : Fin 4 → IVec S16 32) a x).toNat < S2x4x32x32.size a)
theorem k0_idx1546_inb : ∀ (v3284 : IVec S16 32) (v3864 : IVec S16 32) (v3997 : IVec S16 32) (v4000 : IVec S16 32) (k0_hw1172 : k0_chk1172 v3284 v3864 v3997 v4000), ∀ a x, ((![v3284, v3864, v3997, v4000] : Fin 4 → IVec S16 32) a x).toNat < S2x4x32x32.size a := fun v3284 v3864 v3997 v4000 k0_hw1172 => k0_hw1172

def k0_chk1173 (v33 : IVec S16 32) (v35 : IVec S16 32) (v3284 : IVec S16 32) (v3864 : IVec S16 32) (v4002 : IVec S16 32) : Prop :=
  (∀ a x, ((![v3284, v3864, v4002, v33] : Fin 4 → IVec S16 32) a x).toNat < S2x4x94x96.size a) ∧
  (∀ a x, ((![v3284, v3864, v4002, v35] : Fin 4 → IVec S16 32) a x).toNat < S2x4x94x96.size a)
theorem k0_idx1547_inb : ∀ (v33 : IVec S16 32) (v35 : IVec S16 32) (v3284 : IVec S16 32) (v3864 : IVec S16 32) (v4002 : IVec S16 32) (k0_hw1173 : k0_chk1173 v33 v35 v3284 v3864 v4002), ∀ a x, ((![v3284, v3864, v4002, v33] : Fin 4 → IVec S16 32) a x).toNat < S2x4x94x96.size a := fun v33 v35 v3284 v3864 v4002 k0_hw1173 => k0_hw1173.1
theorem k0_idx1548_inb : ∀ (v33 : IVec S16 32) (v35 : IVec S16 32) (v3284 : IVec S16 32) (v3864 : IVec S16 32) (v4002 : IVec S16 32) (k0_hw1173 : k0_chk1173 v33 v35 v3284 v3864 v4002), ∀ a x, ((![v3284, v3864, v4002, v35] : Fin 4 → IVec S16 32) a x).toNat < S2x4x94x96.size a := fun v33 v35 v3284 v3864 v4002 k0_hw1173 => k0_hw1173.2

def k0_chk1174 (v30 : IVec S16 32) (v3284 : IVec S16 32) (v3864 : IVec S16 32) (v4003 : IVec S16 32) : Prop :=
  (∀ a x, ((![v3284, v3864, v4003, v30] : Fin 4 → IVec S16 32) a x).toNat < S2x4x32x32.size a)
theorem k0_idx1549_inb : ∀ (v30 : IVec S16 32) (v3284 : IVec S16 32) (v3864 : IVec S16 32) (v4003 : IVec S16 32) (k0_hw1174 : k0_chk1174 v30 v3284 v3864 v4003), ∀ a x, ((![v3284, v3864, v4003, v30] : Fin 4 → IVec S16 32) a x).toNat < S2x4x32x32.size a := fun v30 v3284 v3864 v4003 k0_hw1174 => k0_hw1174

def k0_chk1175 (v3284 : IVec S16 32) (v3864 : IVec S16 32) (v4003 : IVec S16 32) (v4006 : IVec S16 32) : Prop :=
  (∀ a x, ((![v3284, v3864, v4003, v4006] : Fin 4 → IVec S16 32) a x).toNat < S2x4x32x32.size a)
theorem k0_idx1550_inb : ∀ (v3284 : IVec S16 32) (v3864 : IVec S16 32) (v4003 : IVec S16 32) (v4006 : IVec S16 32) (k0_hw1175 : k0_chk1175 v3284 v3864 v4003 v4006), ∀ a x, ((![v3284, v3864, v4003, v4006] : Fin 4 → IVec S16 32) a x).toNat < S2x4x32x32.size a := fun v3284 v3864 v4003 v4006 k0_hw1175 => k0_hw1175

def k0_chk1176 (v33 : IVec S16 32) (v35 : IVec S16 32) (v3284 : IVec S16 32) (v3864 : IVec S16 32) (v4008 : IVec S16 32) : Prop :=
  (∀ a x, ((![v3284, v3864, v4008, v33] : Fin 4 → IVec S16 32) a x).toNat < S2x4x94x96.size a) ∧
  (∀ a x, ((![v3284, v3864, v4008, v35] : Fin 4 → IVec S16 32) a x).toNat < S2x4x94x96.size a)
theorem k0_idx1551_inb : ∀ (v33 : IVec S16 32) (v35 : IVec S16 32) (v3284 : IVec S16 32) (v3864 : IVec S16 32) (v4008 : IVec S16 32) (k0_hw1176 : k0_chk1176 v33 v35 v3284 v3864 v4008), ∀ a x, ((![v3284, v3864, v4008, v33] : Fin 4 → IVec S16 32) a x).toNat < S2x4x94x96.size a := fun v33 v35 v3284 v3864 v4008 k0_hw1176 => k0_hw1176.1
theorem k0_idx1552_inb : ∀ (v33 : IVec S16 32) (v35 : IVec S16 32) (v3284 : IVec S16 32) (v3864 : IVec S16 32) (v4008 : IVec S16 32) (k0_hw1176 : k0_chk1176 v33 v35 v3284 v3864 v4008), ∀ a x, ((![v3284, v3864, v4008, v35] : Fin 4 → IVec S16 32) a x).toNat < S2x4x94x96.size a := fun v33 v35 v3284 v3864 v4008 k0_hw1176 => k0_hw1176.2

def k0_chk1177 (v30 : IVec S16 32) (v3284 : IVec S16 32) (v3864 : IVec S16 32) (v4009 : IVec S16 32) : Prop :=
  (∀ a x, ((![v3284, v3864, v4009, v30] : Fin 4 → IVec S16 32) a x).toNat < S2x4x32x32.size a)
theorem k0_idx1553_inb : ∀ (v30 : IVec S16 32) (v3284 : IVec S16 32) (v3864 : IVec S16 32) (v4009 : IVec S16 32) (k0_hw1177 : k0_chk1177 v30 v3284 v3864 v4009), ∀ a x, ((![v3284, v3864, v4009, v30] : Fin 4 → IVec S16 32) a x).toNat < S2x4x32x32.size a := fun v30 v3284 v3864 v4009 k0_hw1177 => k0_hw1177

def k0_chk1178 (v3284 : IVec S16 32) (v3864 : IVec S16 32) (v4009 : IVec S16 32) (v4012 : IVec S16 32) : Prop :=
  (∀ a x, ((![v3284, v3864, v4009, v4012] : Fin 4 → IVec S16 32) a x).toNat < S2x4x32x32.size a)
theorem k0_idx1554_inb : ∀ (v3284 : IVec S16 32) (v3864 : IVec S16 32) (v4009 : IVec S16 32) (v4012 : IVec S16 32) (k0_hw1178 : k0_chk1178 v3284 v3864 v4009 v4012), ∀ a x, ((![v3284, v3864, v4009, v4012] : Fin 4 → IVec S16 32) a x).toNat < S2x4x32x32.size a := fun v3284 v3864 v4009 v4012 k0_hw1178 => k0_hw1178

def k0_chk1179 (v33 : IVec S16 32) (v35 : IVec S16 32) (v3284 : IVec S16 32) (v3864 : IVec S16 32) (v4014 : IVec S16 32) : Prop :=
  (∀ a x, ((![v3284, v3864, v4014, v33] : Fin 4 → IVec S16 32) a x).toNat < S2x4x94x96.size a) ∧
  (∀ a x, ((![v3284, v3864, v4014, v35] : Fin 4 → IVec S16 32) a x).toNat < S2x4x94x96.size a)
theorem k0_idx1555_inb : ∀ (v33 : IVec S16 32) (v35 : IVec S16 32) (v3284 : IVec S16 32) (v3864 : IVec S16 32) (v4014 : IVec S16 32) (k0_hw1179 : k0_chk1179 v33 v35 v3284 v3864 v4014), ∀ a x, ((![v3284, v3864, v4014, v33] : Fin 4 → IVec S16 32) a x).toNat < S2x4x94x96.size a := fun v33 v35 v3284 v3864 v4014 k0_hw1179 => k0_hw1179.1
theorem k0_idx1556_inb : ∀ (v33 : IVec S16 32) (v35 : IVec S16 32) (v3284 : IVec S16 32) (v3864 : IVec S16 32) (v4014 : IVec S16 32) (k0_hw1179 : k0_chk1179 v33 v35 v3284 v3864 v4014), ∀ a x, ((![v3284, v3864, v4014, v35] : Fin 4 → IVec S16 32) a x).toNat < S2x4x94x96.size a := fun v33 v35 v3284 v3864 v4014 k0_hw1179 => k0_hw1179.2

def k0_chk1180 (v30 : IVec S16 32) (v3284 : IVec S16 32) (v3864 : IVec S16 32) (v4015 : IVec S16 32) : Prop :=
  (∀ a x, ((![v3284, v3864, v4015, v30] : Fin 4 → IVec S16 32) a x).toNat < S2x4x32x32.size a)
theorem k0_idx1557_inb : ∀ (v30 : IVec S16 32) (v3284 : IVec S16 32) (v3864 : IVec S16 32) (v4015 : IVec S16 32) (k0_hw1180 : k0_chk1180 v30 v3284 v3864 v4015), ∀ a x, ((![v3284, v3864, v4015, v30] : Fin 4 → IVec S16 32) a x).toNat < S2x4x32x32.size a := fun v30 v3284 v3864 v4015 k0_hw1180 => k0_hw1180

def k0_chk1181 (v3284 : IVec S16 32) (v3864 : IVec S16 32) (v4015 : IVec S16 32) (v4018 : IVec S16 32) : Prop :=
  (∀ a x, ((![v3284, v3864, v4015, v4018] : Fin 4 → IVec S16 32) a x).toNat < S2x4x32x32.size a)
theorem k0_idx1558_inb : ∀ (v3284 : IVec S16 32) (v3864 : IVec S16 32) (v4015 : IVec S16 32) (v4018 : IVec S16 32) (k0_hw1181 : k0_chk1181 v3284 v3864 v4015 v4018), ∀ a x, ((![v3284, v3864, v4015, v4018] : Fin 4 → IVec S16 32) a x).toNat < S2x4x32x32.size a := fun v3284 v3864 v4015 v4018 k0_hw1181 => k0_hw1181

def k0_chk1182 (v33 : IVec S16 32) (v35 : IVec S16 32) (v3284 : IVec S16 32) (v3864 : IVec S16 32) (v4020 : IVec S16 32) : Prop :=
  (∀ a x, ((![v3284, v3864, v4020, v33] : Fin 4 → IVec S16 32) a x).toNat < S2x4x94x96.size a) ∧
  (∀ a x, ((![v3284, v3864, v4020, v35] : Fin 4 → IVec S16 32) a x).toNat < S2x4x94x96.size a)
theorem k0_idx1559_inb : ∀ (v33 : IVec S16 32) (v35 : IVec S16 32) (v3284 : IVec S16 32) (v3864 : IVec S16 32) (v4020 : IVec S16 32) (k0_hw1182 : k0_chk1182 v33 v35 v3284 v3864 v4020), ∀ a x, ((![v3284, v3864, v4020, v33] : Fin 4 → IVec S16 32) a x).toNat < S2x4x94x96.size a := fun v33 v35 v3284 v3864 v4020 k0_hw1182 => k0_hw1182.1
theorem k0_idx1560_inb : ∀ (v33 : IVec S16 32) (v35 : IVec S16 32) (v3284 : IVec S16 32) (v3864 : IVec S16 32) (v4020 : IVec S16 32) (k0_hw1182 : k0_chk1182 v33 v35 v3284 v3864 v4020), ∀ a x, ((![v3284, v3864, v4020, v35] : Fin 4 → IVec S16 32) a x).toNat < S2x4x94x96.size a := fun v33 v35 v3284 v3864 v4020 k0_hw1182 => k0_hw1182.2

def k0_chk1183 (v30 : IVec S16 32) (v3284 : IVec S16 32) (v3864 : IVec S16 32) (v4021 : IVec S16 32) : Prop :=
  (∀ a x, ((![v3284, v3864, v4021, v30] : Fin 4 → IVec S16 32) a x).toNat < S2x4x32x32.size a)
theorem k0_idx1561_inb : ∀ (v30 : IVec S16 32) (v3284 : IVec S16 32) (v3864 : IVec S16 32) (v4021 : IVec S16 32) (k0_hw1183 : k0_chk1183 v30 v3284 v3864 v4021), ∀ a x, ((![v3284, v3864, v4021, v30] : Fin 4 → IVec S16 32) a x).toNat < S2x4x32x32.size a := fun v30 v3284 v3864 v4021 k0_hw1183 => k0_hw1183

def k0_chk1184 (v3284 : IVec S16 32) (v3864 : IVec S16 32) (v4021 : IVec S16 32) (v4024 : IVec S16 32) : Prop :=
  (∀ a x, ((![v3284, v3864, v4021, v4024] : Fin 4 → IVec S16 32) a x).toNat < S2x4x32x32.size a)
theorem k0_idx1562_inb : ∀ (v3284 : IVec S16 32) (v3864 : IVec S16 32) (v4021 : IVec S16 32) (v4024 : IVec S16 32) (k0_hw1184 : k0_chk1184 v3284 v3864 v4021 v4024), ∀ a x, ((![v3284, v3864, v4021, v4024] : Fin 4 → IVec S16 32) a x).toNat < S2x4x32x32.size a := fun v3284 v3864 v4021 v4024 k0_hw1184 => k0_hw1184

def k0_chk1185 (v33 : IVec S16 32) (v35 : IVec S16 32) (v3284 : IVec S16 32) (v3864 : IVec S16 32) (v4026 : IVec S16 32) : Prop :=
  (∀ a x, ((![v3284, v3864, v4026, v33] : Fin 4 → IVec S16 32) a x).toNat < S2x4x94x96.size a) ∧
  (∀ a x, ((![v3284, v3864, v4026, v35] : Fin 4 → IVec S16 32) a x).toNat < S2x4x94x96.size a)
theorem k0_idx1563_inb : ∀ (v33 : IVec S16 32) (v35 : IVec S16 32) (v3284 : IVec S16 32) (v3864 : IVec S16 32) (v4026 : IVec S16 32) (k0_hw1185 : k0_chk1185 v33 v35 v3284 v3864 v4026), ∀ a x, ((![v3284, v3864, v4026, v33] : Fin 4 → IVec S16 32) a x).toNat < S2x4x94x96.size a := fun v33 v35 v3284 v3864 v4026 k0_hw1185 => k0_hw1185.1
theorem k0_idx1564_inb : ∀ (v33 : IVec S16 32) (v35 : IVec S16 32) (v3284 : IVec S16 32) (v3864 : IVec S16 32) (v4026 : IVec S16 32) (k0_hw1185 : k0_chk1185 v33 v35 v3284 v3864 v4026), ∀ a x, ((![v3284, v3864, v4026, v35] : Fin 4 → IVec S16 32) a x).toNat < S2x4x94x96.size a := fun v33 v35 v3284 v3864 v4026 k0_hw1185 => k0_hw1185.2

def k0_chk1186 (v30 : IVec S16 32) (v3284 : IVec S16 32) (v3864 : IVec S16 32) (v4027 : IVec S16 32) : Prop :=
  (∀ a x, ((![v3284, v3864, v4027, v30] : Fin 4 → IVec S16 32) a x).toNat < S2x4x32x32.size a)
theorem k0_idx1565_inb : ∀ (v30 : IVec S16 32) (v3284 : IVec S16 32) (v3864 : IVec S16 32) (v4027 : IVec S16 32) (k0_hw1186 : k0_chk1186 v30 v3284 v3864 v4027), ∀ a x, ((![v3284, v3864, v4027, v30] : Fin 4 → IVec S16 32) a x).toNat < S2x4x32x32.size a := fun v30 v3284 v3864 v4027 k0_hw1186 => k0_hw1186

def k0_chk1187 (v3284 : IVec S16 32) (v3864 : IVec S16 32) (v4027 : IVec S16 32) (v4030 : IVec S16 32) : Prop :=
  (∀ a x, ((![v3284, v3864, v4027, v4030] : Fin 4 → IVec S16 32) a x).toNat < S2x4x32x32.size a)
theorem k0_idx1566_inb : ∀ (v3284 : IVec S16 32) (v3864 : IVec S16 32) (v4027 : IVec S16 32) (v4030 : IVec S16 32) (k0_hw1187 : k0_chk1187 v3284 v3864 v4027 v4030), ∀ a x, ((![v3284, v3864, v4027, v4030] : Fin 4 → IVec S16 32) a x).toNat < S2x4x32x32.size a := fun v3284 v3864 v4027 v4030 k0_hw1187 => k0_hw1187

def k0_chk1188 (v33 : IVec S16 32) (v35 : IVec S16 32) (v3284 : IVec S16 32) (v3864 : IVec S16 32) (v4032 : IVec S16 32) : Prop :=
  (∀ a x, ((![v3284, v3864, v4032, v33] : Fin 4 → IVec S16 32) a x).toNat < S2x4x94x96.size a) ∧
  (∀ a x, ((![v3284, v3864, v4032, v35] : Fin 4 → IVec S16 32) a x).toNat < S2x4x94x96.size a)
theorem k0_idx1567_inb : ∀ (v33 : IVec S16 32) (v35 : IVec S16 32) (v3284 : IVec S16 32) (v3864 : IVec S16 32) (v4032 : IVec S16 32) (k0_hw1188 : k0_chk1188 v33 v35 v3284 v3864 v4032), ∀ a x, ((![v3284, v3864, v4032, v33] : Fin 4 → IVec S16 32) a x).toNat < S2x4x94x96.size a := fun v33 v35 v3284 v3864 v4032 k0_hw1188 => k0_hw1188.1
theorem k0_idx1568_inb : ∀ (v33 : IVec S16 32) (v35 : IVec S16 32) (v3284 : IVec S16 32) (v3864 : IVec S16 32) (v4032 : IVec S16 32) (k0_hw1188 : k0_chk1188 v33 v35 v3284 v3864 v4032), ∀ a x, ((![v3284, v3864, v4032, v35] : Fin 4 → IVec S16 32) a x).toNat < S2x4x94x96.size a := fun v33 v35 v3284 v3864 v4032 k0_hw1188 => k0_hw1188.2

def k0_chk1189 (v30 : IVec S16 32) (v3284 : IVec S16 32) (v3864 : IVec S16 32) (v4033 : IVec S16 32) : Prop :=
  (∀ a x, ((![v3284, v3864, v4033, v30] : Fin 4 → IVec S16 32) a x).toNat < S2x4x32x32.size a)
theorem k0_idx1569_inb : ∀ (v30 : IVec S16 32) (v3284 : IVec S16 32) (v3864 : IVec S16 32) (v4033 : IVec S16 32) (k0_hw1189 : k0_chk1189 v30 v3284 v3864 v4033), ∀ a x, ((![v3284, v3864, v4033, v30] : Fin 4 → IVec S16 32) a x).toNat < S2x4x32x32.size a := fun v30 v3284 v3864 v4033 k0_hw1189 => k0_hw1189

def k0_chk1190 (v3284 : IVec S16 32) (v3864 : IVec S16 32) (v4033 : IVec S16 32) (v4036 : IVec S16 32) : Prop :=
  (∀ a x, ((![v3284, v3864, v4033, v4036] : Fin 4 → IVec S16 32) a x).toNat < S2x4x32x32.size a)
theorem k0_idx1570_inb : ∀ (v3284 : IVec S16 32) (v3864 : IVec S16 32) (v4033 : IVec S16 32) (v4036 : IVec S16 32) (k0_hw1190 : k0_chk1190 v3284 v3864 v4033 v4036), ∀ a x, ((![v3284, v3864, v4033, v4036] : Fin 4 → IVec S16 32) a x).toNat < S2x4x32x32.size a := fun v3284 v3864 v4033 v4036 k0_hw1190 => k0_hw1190

def k0_chk1191 (v33 : IVec S16 32) (v35 : IVec S16 32) (v3284 : IVec S16 32) (v3864 : IVec S16 32) (v4038 : IVec S16 32) : Prop :=
  (∀ a x, ((![v3284, v3864, v4038, v33] : Fin 4 → IVec S16 32) a x).toNat < S2x4x94x96.size a) ∧
  (∀ a x, ((![v3284, v3864, v4038, v35] : Fin 4 → IVec S16 32) a x).toNat < S2x4x94x96.size a)
theorem k0_idx1571_inb : ∀ (v33 : IVec S16 32) (v35 : IVec S16 32) (v3284 : IVec S16 32) (v3864 : IVec S16 32) (v4038 : IVec S16 32) (k0_hw1191 : k0_chk1191 v33 v35 v3284 v3864 v4038), ∀ a x, ((![v3284, v3864, v4038, v33] : Fin 4 → IVec S16 32) a x).toNat < S2x4x94x96.size a := fun v33 v35 v3284 v3864 v4038 k0_hw1191 => k0_hw1191.1
theorem k0_idx1572_inb : ∀ (v33 : IVec S16 32) (v35 : IVec S16 32) (v3284 : IVec S16 32) (v3864 : IVec S16 32) (v4038 : IVec S16 32) (k0_hw1191 : k0_chk1191 v33 v35 v3284 v3864 v4038), ∀ a x, ((![v3284, v3864, v4038, v35] : Fin 4 → IVec S16 32) a x).toNat < S2x4x94x96.size a := fun v33 v35 v3284 v3864 v4038 k0_hw1191 => k0_hw1191.2

def k0_chk1192 (v30 : IVec S16 32) (v3284 : IVec S16 32) (v3864 : IVec S16 32) (v4039 : IVec S16 32) : Prop :=
  (∀ a x, ((![v3284, v3864, v4039, v30] : Fin 4 → IVec S16 32) a x).toNat < S2x4x32x32.size a)
theorem k0_idx1573_inb : ∀ (v30 : IVec S16 32) (v3284 : IVec S16 32) (v3864 : IVec S16 32) (v4039 : IVec S16 32) (k0_hw1192 : k0_chk1192 v30 v3284 v3864 v4039), ∀ a x, ((![v3284, v3864, v4039, v30] : Fin 4 → IVec S16 32) a x).toNat < S2x4x32x32.size a := fun v30 v3284 v3864 v4039 k0_hw1192 => k0_hw1192

def k0_chk1193 (v3284 : IVec S16 32) (v3864 : IVec S16 32) (v4039 : IVec S16 32) (v4042 : IVec S16 32) : Prop :=
  (∀ a x, ((![v3284, v3864, v4039, v4042] : Fin 4 → IVec S16 32) a x).toNat < S2x4x32x32.size a)
theorem k0_idx1574_inb : ∀ (v3284 : IVec S16 32) (v3864 : IVec S16 32) (v4039 : IVec S16 32) (v4042 : IVec S16 32) (k0_hw1193 : k0_chk1193 v3284 v3864 v4039 v4042), ∀ a x, ((![v3284, v3864, v4039, v4042] : Fin 4 → IVec S16 32) a x).toNat < S2x4x32x32.size a := fun v3284 v3864 v4039 v4042 k0_hw1193 => k0_hw1193

def k0_chk1194 (v33 : IVec S16 32) (v35 : IVec S16 32) (v3284 : IVec S16 32) (v3864 : IVec S16 32) (v4044 : IVec S16 32) : Prop :=
  (∀ a x, ((![v3284, v3864, v4044, v33] : Fin 4 → IVec S16 32) a x).toNat < S2x4x94x96.size a) ∧
  (∀ a x, ((![v3284, v3864, v4044, v35] : Fin 4 → IVec S16 32) a x).toNat < S2x4x94x96.size a)
theorem k0_idx1575_inb : ∀ (v33 : IVec S16 32) (v35 : IVec S16 32) (v3284 : IVec S16 32) (v3864 : IVec S16 32) (v4044 : IVec S16 32) (k0_hw1194 : k0_chk1194 v33 v35 v3284 v3864 v4044), ∀ a x, ((![v3284, v3864, v4044, v33] : Fin 4 → IVec S16 32) a x).toNat < S2x4x94x96.size a := fun v33 v35 v3284 v3864 v4044 k0_hw1194 => k0_hw1194.1
theorem k0_idx1576_inb : ∀ (v33 : IVec S16 32) (v35 : IVec S16 32) (v3284 : IVec S16 32) (v3864 : IVec S16 32) (v4044 : IVec S16 32) (k0_hw1194 : k0_chk1194 v33 v35 v3284 v3864 v4044), ∀ a x, ((![v3284, v3864, v4044, v35] : Fin 4 → IVec S16 32) a x).toNat < S2x4x94x96.size a := fun v33 v35 v3284 v3864 v4044 k0_hw1194 => k0_hw1194.2

def k0_chk1195 (v30 : IVec S16 32) (v3284 : IVec S16 32) (v3864 : IVec S16 32) (v4045 : IVec S16 32) : Prop :=
  (∀ a x, ((![v3284, v3864, v4045, v30] : Fin 4 → IVec S16 32) a x).toNat < S2x4x32x32.size a)
theorem k0_idx1577_inb : ∀ (v30 : IVec S16 32) (v3284 : IVec S16 32) (v3864 : IVec S16 32) (v4045 : IVec S16 32) (k0_hw1195 : k0_chk1195 v30 v3284 v3864 v4045), ∀ a x, ((![v3284, v3864, v4045, v30] : Fin 4 → IVec S16 32) a x).toNat < S2x4x32x32.size a := fun v30 v3284 v3864 v4045 k0_hw1195 => k0_hw1195

def k0_chk1196 (v3284 : IVec S16 32) (v3864 : IVec S16 32) (v4045 : IVec S16 32) (v4048 : IVec S16 32) : Prop :=
  (∀ a x, ((![v3284, v3864, v4045, v4048] : Fin 4 → IVec S16 32) a x).toNat < S2x4x32x32.size a)
theorem k0_idx1578_inb : ∀ (v3284 : IVec S16 32) (v3864 : IVec S16 32) (v4045 : IVec S16 32) (v4048 : IVec S16 32) (k0_hw1196 : k0_chk1196 v3284 v3864 v4045 v4048), ∀ a x, ((![v3284, v3864, v4045, v4048] : Fin 4 → IVec S16 32) a x).toNat < S2x4x32x32.size a := fun v3284 v3864 v4045 v4048 k0_hw1196 => k0_hw1196

def k0_chk1197 (v33 : IVec S16 32) (v35 : IVec S16 32) (v3284 : IVec S16 32) (v3864 : IVec S16 32) (v4050 : IVec S16 32) : Prop :=
  (∀ a x, ((![v3284, v3864, v4050, v33] : Fin 4 → IVec S16 32) a x).toNat < S2x4x94x96.size a) ∧
  (∀ a x, ((![v3284, v3864, v4050, v35] : Fin 4 → IVec S16 32) a x).toNat < S2x4x94x96.size a)
theorem k0_idx1579_inb : ∀ (v33 : IVec S16 32) (v35 : IVec S16 32) (v3284 : IVec S16 32) (v3864 : IVec S16 32) (v4050 : IVec S16 32) (k0_hw1197 : k0_chk1197 v33 v35 v3284 v3864 v4050), ∀ a x, ((![v3284, v3864, v4050, v33] : Fin 4 → IVec S16 32) a x).toNat < S2x4x94x96.size a := fun v33 v35 v3284 v3864 v4050 k0_hw1197 => k0_hw1197.1
theorem k0_idx1580_inb : ∀ (v33 : IVec S16 32) (v35 : IVec S16 32) (v3284 : IVec S16 32) (v3864 : IVec S16 32) (v4050 : IVec S16 32) (k0_hw1197 : k0_chk1197 v33 v35 v3284 v3864 v4050), ∀ a x, ((![v3284, v3864, v4050, v35] : Fin 4 → IVec S16 32) a x).toNat < S2x4x94x96.size a := fun v33 v35 v3284 v3864 v4050 k0_hw1197 => k0_hw1197.2

def k0_chk1198 (v30 : IVec S16 32) (v3284 : IVec S16 32) (v3864 : IVec S16 32) (v4051 : IVec S16 32) : Prop :=
  (∀ a x, ((![v3284, v3864, v4051, v30] : Fin 4 → IVec S16 32) a x).toNat < S2x4x32x32.size a)
theorem k0_idx1581_inb : ∀ (v30 : IVec S16 32) (v3284 : IVec S16 32) (v3864 : IVec S16 32) (v4051 : IVec S16 32) (k0_hw1198 : k0_chk1198 v30 v3284 v3864 v4051), ∀ a x, ((![v3284, v3864, v4051, v30] : Fin 4 → IVec S16 32) a x).toNat < S2x4x32x32.size a := fun v30 v3284 v3864 v4051 k0_hw1198 => k0_hw1198

def k0_chk1199 (v3284 : IVec S16 32) (v3864 : IVec S16 32) (v4051 : IVec S16 32) (v4054 : IVec S16 32) : Prop :=
  (∀ a x, ((![v3284, v3864, v4051, v4054] : Fin 4 → IVec S16 32) a x).toNat < S2x4x32x32.size a)
theorem k0_idx1582_inb : ∀ (v3284 : IVec S16 32) (v3864 : IVec S16 32) (v4051 : IVec S16 32) (v4054 : IVec S16 32) (k0_hw1199 : k0_chk1199 v3284 v3864 v4051 v4054), ∀ a x, ((![v3284, v3864, v4051, v4054] : Fin 4 → IVec S16 32) a x).toNat < S2x4x32x32.size a := fun v3284 v3864 v4051 v4054 k0_hw1199 => k0_hw1199

variable {F : FTy → Type} [FloatOps F]

def k0_chk1200 (v33 : IVec S16 32) (v35 : IVec S16 32) (v3284 : IVec S16 32) (v3864 : IVec S16 32) (v4056 : IVec S16 32) : Prop :=
  (∀ a x, ((![v3284, v3864, v4056, v33] : Fin 4 → IVec S16 32) a x).toNat < S2x4x94x96.size a) ∧
  (∀ a x, ((![v3284, v3864, v4056, v35] : Fin 4 → IVec S16 32) a x).toNat < S2x4x94x96.size a)
theorem k0_idx1583_inb : ∀ (v33 : IVec S16 32) (v35 : IVec S16 32) (v3284 : IVec S16 32) (v3864 : IVec S16 32) (v4056 : IVec S16 32) (k0_hw1200 : k0_chk1200 v33 v35 v3284 v3864 v4056), ∀ a x, ((![v3284, v3864, v4056, v33] : Fin 4 → IVec S16 32) a x).toNat < S2x4x94x96.size a := fun v33 v35 v3284 v3864 v4056 k0_hw1200 => k0_hw1200.1
theorem k0_idx1584_inb : ∀ (v33 : IVec S16 32) (v35 : IVec S16 32) (v3284 : IVec S16 32) (v3864 : IVec S16 32) (v4056 : IVec S16 32) (k0_hw1200 : k0_chk1200 v33 v35 v3284 v3864 v4056), ∀ a x, ((![v3284, v3864, v4056, v35] : Fin 4 → IVec S16 32) a x).toNat < S2x4x94x96.size a := fun v33 v35 v3284 v3864 v4056 k0_hw1200 => k0_hw1200.2
def k0_off6 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c2_i32_1734 : BitVec 32 := 2#32
  let c1_i32_846 : BitVec 32 := 1#32
  let c1_i32_848 : BitVec 32 := 1#32
  let arg10 : BitVec 32 := Scf.iv c1_i32_846 c1_i32_848 k0_t2
  let v3266 : BitVec 32 := Scalar.muli c2_i32_1734 arg10
  let c0_i32_1735 : BitVec 32 := 0#32
  let v3267 : BitVec 32 := Scalar.addi v3266 c0_i32_1735
  let c4_i32_2153 : BitVec 32 := 4#32
  let v4057 : BitVec 32 := Scalar.muli v3267 c4_i32_2153
  let v4058 : BitVec 32 := Scalar.addi v29 v4057
  let c0_i32_2158 : BitVec 32 := 0#32
  let c0_i32_2159 : BitVec 32 := 0#32
  ![v18.toNat, v4058.toNat, 0, 0]
def k0_off7 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c2_i32_1734 : BitVec 32 := 2#32
  let c1_i32_846 : BitVec 32 := 1#32
  let c1_i32_848 : BitVec 32 := 1#32
  let arg10 : BitVec 32 := Scf.iv c1_i32_846 c1_i32_848 k0_t2
  let v3266 : BitVec 32 := Scalar.muli c2_i32_1734 arg10
  let c0_i32_1735 : BitVec 32 := 0#32
  let v3267 : BitVec 32 := Scalar.addi v3266 c0_i32_1735
  let c2_i32_2165 : BitVec 32 := 2#32
  let v4067 : BitVec 32 := Scalar.addi v3267 c2_i32_2165
  let c4_i32_2166 : BitVec 32 := 4#32
  let v4068 : BitVec 32 := Scalar.muli v4067 c4_i32_2166
  let v4069 : BitVec 32 := Scalar.addi v29 v4068
  let c0_i32_2171 : BitVec 32 := 0#32
  let c0_i32_2172 : BitVec 32 := 0#32
  ![v18.toNat, v4069.toNat, 0, 0]

def k0_chk1201 (v30 : IVec S16 32) (v4096 : IVec S16 32) (v4097 : IVec S16 32) (v4098 : IVec S16 32) : Prop :=
  (∀ a x, ((![v4096, v4097, v4098, v30] : Fin 4 → IVec S16 32) a x).toNat < S2x4x32x32.size a)
theorem k0_idx1585_inb : ∀ (v30 : IVec S16 32) (v4096 : IVec S16 32) (v4097 : IVec S16 32) (v4098 : IVec S16 32) (k0_hw1201 : k0_chk1201 v30 v4096 v4097 v4098), ∀ a x, ((![v4096, v4097, v4098, v30] : Fin 4 → IVec S16 32) a x).toNat < S2x4x32x32.size a := fun v30 v4096 v4097 v4098 k0_hw1201 => k0_hw1201

def k0_chk1202 (v4096 : IVec S16 32) (v4097 : IVec S16 32) (v4098 : IVec S16 32) (v4101 : IVec S16 32) : Prop :=
  (∀ a x, ((![v4096, v4097, v4098, v4101] : Fin 4 → IVec S16 32) a x).toNat < S2x4x32x32.size a)
theorem k0_idx1586_inb : ∀ (v4096 : IVec S16 32) (v4097 : IVec S16 32) (v4098 : IVec S16 32) (v4101 : IVec S16 32) (k0_hw1202 : k0_chk1202 v4096 v4097 v4098 v4101), ∀ a x, ((![v4096, v4097, v4098, v4101] : Fin 4 → IVec S16 32) a x).toNat < S2x4x32x32.size a := fun v4096 v4097 v4098 v4101 k0_hw1202 => k0_hw1202

def k0_chk1203 (v33 : IVec S16 32) (v35 : IVec S16 32) (v4096 : IVec S16 32) (v4097 : IVec S16 32) (v4103 : IVec S16 32) : Prop :=
  (∀ a x, ((![v4096, v4097, v4103, v33] : Fin 4 → IVec S16 32) a x).toNat < S2x4x94x96.size a) ∧
  (∀ a x, ((![v4096, v4097, v4103, v35] : Fin 4 → IVec S16 32) a x).toNat < S2x4x94x96.size a)
theorem k0_idx1587_inb : ∀ (v33 : IVec S16 32) (v35 : IVec S16 32) (v4096 : IVec S16 32) (v4097 : IVec S16 32) (v4103 : IVec S16 32) (k0_hw1203 : k0_chk1203 v33 v35 v4096 v4097 v4103), ∀ a x, ((![v4096, v4097, v4103, v33] : Fin 4 → IVec S16 32) a x).toNat < S2x4x94x96.size a := fun v33 v35 v4096 v4097 v4103 k0_hw1203 => k0_hw1203.1
theorem k0_idx1588_inb : ∀ (v33 : IVec S16 32) (v35 : IVec S16 32) (v4096 : IVec S16 32) (v4097 : IVec S16 32) (v4103 : IVec S16 32) (k0_hw1203 : k0_chk1203 v33 v35 v4096 v4097 v4103), ∀ a x, ((![v4096, v4097, v4103, v35] : Fin 4 → IVec S16 32) a x).toNat < S2x4x94x96.size a := fun v33 v35 v4096 v4097 v4103 k0_hw1203 => k0_hw1203.2

def k0_chk1204 (v30 : IVec S16 32) (v4096 : IVec S16 32) (v4097 : IVec S16 32) (v4104 : IVec S16 32) : Prop :=
  (∀ a x, ((![v4096, v4097, v4104, v30] : Fin 4 → IVec S16 32) a x).toNat < S2x4x32x32.size a)
theorem k0_idx1589_inb : ∀ (v30 : IVec S16 32) (v4096 : IVec S16 32) (v4097 : IVec S16 32) (v4104 : IVec S16 32) (k0_hw1204 : k0_chk1204 v30 v4096 v4097 v4104), ∀ a x, ((![v4096, v4097, v4104, v30] : Fin 4 → IVec S16 32) a x).toNat < S2x4x32x32.size a := fun v30 v4096 v4097 v4104 k0_hw1204 => k0_hw1204

def k0_chk1205 (v4096 : IVec S16 32) (v4097 : IVec S16 32) (v4104 : IVec S16 32) (v4107 : IVec S16 32) : Prop :=
  (∀ a x, ((![v4096, v4097, v4104, v4107] : Fin 4 → IVec S16 32) a x).toNat < S2x4x32x32.size a)
theorem k0_idx1590_inb : ∀ (v4096 : IVec S16 32) (v4097 : IVec S16 32) (v4104 : IVec S16 32) (v4107 : IVec S16 32) (k0_hw1205 : k0_chk1205 v4096 v4097 v4104 v4107), ∀ a x, ((![v4096, v4097, v4104, v4107] : Fin 4 → IVec S16 32) a x).toNat < S2x4x32x32.size a := fun v4096 v4097 v4104 v4107 k0_hw1205 => k0_hw1205

def k0_chk1206 (v33 : IVec S16 32) (v35 : IVec S16 32) (v4096 : IVec S16 32) (v4097 : IVec S16 32) (v4109 : IVec S16 32) : Prop :=
  (∀ a x, ((![v4096, v4097, v4109, v33] : Fin 4 → IVec S16 32) a x).toNat < S2x4x94x96.size a) ∧
  (∀ a x, ((![v4096, v4097, v4109, v35] : Fin 4 → IVec S16 32) a x).toNat < S2x4x94x96.size a)
theorem k0_idx1591_inb : ∀ (v33 : IVec S16 32) (v35 : IVec S16 32) (v4096 : IVec S16 32) (v4097 : IVec S16 32) (v4109 : IVec S16 32) (k0_hw1206 : k0_chk1206 v33 v35 v4096 v4097 v4109), ∀ a x, ((![v4096, v4097, v4109, v33] : Fin 4 → IVec S16 32) a x).toNat < S2x4x94x96.size a := fun v33 v35 v4096 v4097 v4109 k0_hw1206 => k0_hw1206.1
theorem k0_idx1592_inb : ∀ (v33 : IVec S16 32) (v35 : IVec S16 32) (v4096 : IVec S16 32) (v4097 : IVec S16 32) (v4109 : IVec S16 32) (k0_hw1206 : k0_chk1206 v33 v35 v4096 v4097 v4109), ∀ a x, ((![v4096, v4097, v4109, v35] : Fin 4 → IVec S16 32) a x).toNat < S2x4x94x96.size a := fun v33 v35 v4096 v4097 v4109 k0_hw1206 => k0_hw1206.2

def k0_chk1207 (v30 : IVec S16 32) (v4096 : IVec S16 32) (v4097 : IVec S16 32) (v4110 : IVec S16 32) : Prop :=
  (∀ a x, ((![v4096, v4097, v4110, v30] : Fin 4 → IVec S16 32) a x).toNat < S2x4x32x32.size a)
theorem k0_idx1593_inb : ∀ (v30 : IVec S16 32) (v4096 : IVec S16 32) (v4097 : IVec S16 32) (v4110 : IVec S16 32) (k0_hw1207 : k0_chk1207 v30 v4096 v4097 v4110), ∀ a x, ((![v4096, v4097, v4110, v30] : Fin 4 → IVec S16 32) a x).toNat < S2x4x32x32.size a := fun v30 v4096 v4097 v4110 k0_hw1207 => k0_hw1207

def k0_chk1208 (v4096 : IVec S16 32) (v4097 : IVec S16 32) (v4110 : IVec S16 32) (v4113 : IVec S16 32) : Prop :=
  (∀ a x, ((![v4096, v4097, v4110, v4113] : Fin 4 → IVec S16 32) a x).toNat < S2x4x32x32.size a)
theorem k0_idx1594_inb : ∀ (v4096 : IVec S16 32) (v4097 : IVec S16 32) (v4110 : IVec S16 32) (v4113 : IVec S16 32) (k0_hw1208 : k0_chk1208 v4096 v4097 v4110 v4113), ∀ a x, ((![v4096, v4097, v4110, v4113] : Fin 4 → IVec S16 32) a x).toNat < S2x4x32x32.size a := fun v4096 v4097 v4110 v4113 k0_hw1208 => k0_hw1208

def k0_chk1209 (v33 : IVec S16 32) (v35 : IVec S16 32) (v4096 : IVec S16 32) (v4097 : IVec S16 32) (v4115 : IVec S16 32) : Prop :=
  (∀ a x, ((![v4096, v4097, v4115, v33] : Fin 4 → IVec S16 32) a x).toNat < S2x4x94x96.size a) ∧
  (∀ a x, ((![v4096, v4097, v4115, v35] : Fin 4 → IVec S16 32) a x).toNat < S2x4x94x96.size a)
theorem k0_idx1595_inb : ∀ (v33 : IVec S16 32) (v35 : IVec S16 32) (v4096 : IVec S16 32) (v4097 : IVec S16 32) (v4115 : IVec S16 32) (k0_hw1209 : k0_chk1209 v33 v35 v4096 v4097 v4115), ∀ a x, ((![v4096, v4097, v4115, v33] : Fin 4 → IVec S16 32) a x).toNat < S2x4x94x96.size a := fun v33 v35 v4096 v4097 v4115 k0_hw1209 => k0_hw1209.1
theorem k0_idx1596_inb : ∀ (v33 : IVec S16 32) (v35 : IVec S16 32) (v4096 : IVec S16 32) (v4097 : IVec S16 32) (v4115 : IVec S16 32) (k0_hw1209 : k0_chk1209 v33 v35 v4096 v4097 v4115), ∀ a x, ((![v4096, v4097, v4115, v35] : Fin 4 → IVec S16 32) a x).toNat < S2x4x94x96.size a := fun v33 v35 v4096 v4097 v4115 k0_hw1209 => k0_hw1209.2

def k0_chk1210 (v30 : IVec S16 32) (v4096 : IVec S16 32) (v4097 : IVec S16 32) (v4116 : IVec S16 32) : Prop :=
  (∀ a x, ((![v4096, v4097, v4116, v30] : Fin 4 → IVec S16 32) a x).toNat < S2x4x32x32.size a)
theorem k0_idx1597_inb : ∀ (v30 : IVec S16 32) (v4096 : IVec S16 32) (v4097 : IVec S16 32) (v4116 : IVec S16 32) (k0_hw1210 : k0_chk1210 v30 v4096 v4097 v4116), ∀ a x, ((![v4096, v4097, v4116, v30] : Fin 4 → IVec S16 32) a x).toNat < S2x4x32x32.size a := fun v30 v4096 v4097 v4116 k0_hw1210 => k0_hw1210

def k0_chk1211 (v4096 : IVec S16 32) (v4097 : IVec S16 32) (v4116 : IVec S16 32) (v4119 : IVec S16 32) : Prop :=
  (∀ a x, ((![v4096, v4097, v4116, v4119] : Fin 4 → IVec S16 32) a x).toNat < S2x4x32x32.size a)
theorem k0_idx1598_inb : ∀ (v4096 : IVec S16 32) (v4097 : IVec S16 32) (v4116 : IVec S16 32) (v4119 : IVec S16 32) (k0_hw1211 : k0_chk1211 v4096 v4097 v4116 v4119), ∀ a x, ((![v4096, v4097, v4116, v4119] : Fin 4 → IVec S16 32) a x).toNat < S2x4x32x32.size a := fun v4096 v4097 v4116 v4119 k0_hw1211 => k0_hw1211

def k0_chk1212 (v33 : IVec S16 32) (v35 : IVec S16 32) (v4096 : IVec S16 32) (v4097 : IVec S16 32) (v4121 : IVec S16 32) : Prop :=
  (∀ a x, ((![v4096, v4097, v4121, v33] : Fin 4 → IVec S16 32) a x).toNat < S2x4x94x96.size a) ∧
  (∀ a x, ((![v4096, v4097, v4121, v35] : Fin 4 → IVec S16 32) a x).toNat < S2x4x94x96.size a)
theorem k0_idx1599_inb : ∀ (v33 : IVec S16 32) (v35 : IVec S16 32) (v4096 : IVec S16 32) (v4097 : IVec S16 32) (v4121 : IVec S16 32) (k0_hw1212 : k0_chk1212 v33 v35 v4096 v4097 v4121), ∀ a x, ((![v4096, v4097, v4121, v33] : Fin 4 → IVec S16 32) a x).toNat < S2x4x94x96.size a := fun v33 v35 v4096 v4097 v4121 k0_hw1212 => k0_hw1212.1
theorem k0_idx1600_inb : ∀ (v33 : IVec S16 32) (v35 : IVec S16 32) (v4096 : IVec S16 32) (v4097 : IVec S16 32) (v4121 : IVec S16 32) (k0_hw1212 : k0_chk1212 v33 v35 v4096 v4097 v4121), ∀ a x, ((![v4096, v4097, v4121, v35] : Fin 4 → IVec S16 32) a x).toNat < S2x4x94x96.size a := fun v33 v35 v4096 v4097 v4121 k0_hw1212 => k0_hw1212.2

def k0_chk1213 (v30 : IVec S16 32) (v4096 : IVec S16 32) (v4097 : IVec S16 32) (v4122 : IVec S16 32) : Prop :=
  (∀ a x, ((![v4096, v4097, v4122, v30] : Fin 4 → IVec S16 32) a x).toNat < S2x4x32x32.size a)
theorem k0_idx1601_inb : ∀ (v30 : IVec S16 32) (v4096 : IVec S16 32) (v4097 : IVec S16 32) (v4122 : IVec S16 32) (k0_hw1213 : k0_chk1213 v30 v4096 v4097 v4122), ∀ a x, ((![v4096, v4097, v4122, v30] : Fin 4 → IVec S16 32) a x).toNat < S2x4x32x32.size a := fun v30 v4096 v4097 v4122 k0_hw1213 => k0_hw1213

def k0_chk1214 (v4096 : IVec S16 32) (v4097 : IVec S16 32) (v4122 : IVec S16 32) (v4125 : IVec S16 32) : Prop :=
  (∀ a x, ((![v4096, v4097, v4122, v4125] : Fin 4 → IVec S16 32) a x).toNat < S2x4x32x32.size a)
theorem k0_idx1602_inb : ∀ (v4096 : IVec S16 32) (v4097 : IVec S16 32) (v4122 : IVec S16 32) (v4125 : IVec S16 32) (k0_hw1214 : k0_chk1214 v4096 v4097 v4122 v4125), ∀ a x, ((![v4096, v4097, v4122, v4125] : Fin 4 → IVec S16 32) a x).toNat < S2x4x32x32.size a := fun v4096 v4097 v4122 v4125 k0_hw1214 => k0_hw1214

def k0_chk1215 (v33 : IVec S16 32) (v35 : IVec S16 32) (v4096 : IVec S16 32) (v4097 : IVec S16 32) (v4127 : IVec S16 32) : Prop :=
  (∀ a x, ((![v4096, v4097, v4127, v33] : Fin 4 → IVec S16 32) a x).toNat < S2x4x94x96.size a) ∧
  (∀ a x, ((![v4096, v4097, v4127, v35] : Fin 4 → IVec S16 32) a x).toNat < S2x4x94x96.size a)
theorem k0_idx1603_inb : ∀ (v33 : IVec S16 32) (v35 : IVec S16 32) (v4096 : IVec S16 32) (v4097 : IVec S16 32) (v4127 : IVec S16 32) (k0_hw1215 : k0_chk1215 v33 v35 v4096 v4097 v4127), ∀ a x, ((![v4096, v4097, v4127, v33] : Fin 4 → IVec S16 32) a x).toNat < S2x4x94x96.size a := fun v33 v35 v4096 v4097 v4127 k0_hw1215 => k0_hw1215.1
theorem k0_idx1604_inb : ∀ (v33 : IVec S16 32) (v35 : IVec S16 32) (v4096 : IVec S16 32) (v4097 : IVec S16 32) (v4127 : IVec S16 32) (k0_hw1215 : k0_chk1215 v33 v35 v4096 v4097 v4127), ∀ a x, ((![v4096, v4097, v4127, v35] : Fin 4 → IVec S16 32) a x).toNat < S2x4x94x96.size a := fun v33 v35 v4096 v4097 v4127 k0_hw1215 => k0_hw1215.2

def k0_chk1216 (v30 : IVec S16 32) (v4096 : IVec S16 32) (v4097 : IVec S16 32) (v4128 : IVec S16 32) : Prop :=
  (∀ a x, ((![v4096, v4097, v4128, v30] : Fin 4 → IVec S16 32) a x).toNat < S2x4x32x32.size a)
theorem k0_idx1605_inb : ∀ (v30 : IVec S16 32) (v4096 : IVec S16 32) (v4097 : IVec S16 32) (v4128 : IVec S16 32) (k0_hw1216 : k0_chk1216 v30 v4096 v4097 v4128), ∀ a x, ((![v4096, v4097, v4128, v30] : Fin 4 → IVec S16 32) a x).toNat < S2x4x32x32.size a := fun v30 v4096 v4097 v4128 k0_hw1216 => k0_hw1216

def k0_chk1217 (v4096 : IVec S16 32) (v4097 : IVec S16 32) (v4128 : IVec S16 32) (v4131 : IVec S16 32) : Prop :=
  (∀ a x, ((![v4096, v4097, v4128, v4131] : Fin 4 → IVec S16 32) a x).toNat < S2x4x32x32.size a)
theorem k0_idx1606_inb : ∀ (v4096 : IVec S16 32) (v4097 : IVec S16 32) (v4128 : IVec S16 32) (v4131 : IVec S16 32) (k0_hw1217 : k0_chk1217 v4096 v4097 v4128 v4131), ∀ a x, ((![v4096, v4097, v4128, v4131] : Fin 4 → IVec S16 32) a x).toNat < S2x4x32x32.size a := fun v4096 v4097 v4128 v4131 k0_hw1217 => k0_hw1217

def k0_chk1218 (v33 : IVec S16 32) (v35 : IVec S16 32) (v4096 : IVec S16 32) (v4097 : IVec S16 32) (v4133 : IVec S16 32) : Prop :=
  (∀ a x, ((![v4096, v4097, v4133, v33] : Fin 4 → IVec S16 32) a x).toNat < S2x4x94x96.size a) ∧
  (∀ a x, ((![v4096, v4097, v4133, v35] : Fin 4 → IVec S16 32) a x).toNat < S2x4x94x96.size a)
theorem k0_idx1607_inb : ∀ (v33 : IVec S16 32) (v35 : IVec S16 32) (v4096 : IVec S16 32) (v4097 : IVec S16 32) (v4133 : IVec S16 32) (k0_hw1218 : k0_chk1218 v33 v35 v4096 v4097 v4133), ∀ a x, ((![v4096, v4097, v4133, v33] : Fin 4 → IVec S16 32) a x).toNat < S2x4x94x96.size a := fun v33 v35 v4096 v4097 v4133 k0_hw1218 => k0_hw1218.1
theorem k0_idx1608_inb : ∀ (v33 : IVec S16 32) (v35 : IVec S16 32) (v4096 : IVec S16 32) (v4097 : IVec S16 32) (v4133 : IVec S16 32) (k0_hw1218 : k0_chk1218 v33 v35 v4096 v4097 v4133), ∀ a x, ((![v4096, v4097, v4133, v35] : Fin 4 → IVec S16 32) a x).toNat < S2x4x94x96.size a := fun v33 v35 v4096 v4097 v4133 k0_hw1218 => k0_hw1218.2

def k0_chk1219 (v30 : IVec S16 32) (v4096 : IVec S16 32) (v4097 : IVec S16 32) (v4134 : IVec S16 32) : Prop :=
  (∀ a x, ((![v4096, v4097, v4134, v30] : Fin 4 → IVec S16 32) a x).toNat < S2x4x32x32.size a)
theorem k0_idx1609_inb : ∀ (v30 : IVec S16 32) (v4096 : IVec S16 32) (v4097 : IVec S16 32) (v4134 : IVec S16 32) (k0_hw1219 : k0_chk1219 v30 v4096 v4097 v4134), ∀ a x, ((![v4096, v4097, v4134, v30] : Fin 4 → IVec S16 32) a x).toNat < S2x4x32x32.size a := fun v30 v4096 v4097 v4134 k0_hw1219 => k0_hw1219

def k0_chk1220 (v4096 : IVec S16 32) (v4097 : IVec S16 32) (v4134 : IVec S16 32) (v4137 : IVec S16 32) : Prop :=
  (∀ a x, ((![v4096, v4097, v4134, v4137] : Fin 4 → IVec S16 32) a x).toNat < S2x4x32x32.size a)
theorem k0_idx1610_inb : ∀ (v4096 : IVec S16 32) (v4097 : IVec S16 32) (v4134 : IVec S16 32) (v4137 : IVec S16 32) (k0_hw1220 : k0_chk1220 v4096 v4097 v4134 v4137), ∀ a x, ((![v4096, v4097, v4134, v4137] : Fin 4 → IVec S16 32) a x).toNat < S2x4x32x32.size a := fun v4096 v4097 v4134 v4137 k0_hw1220 => k0_hw1220

def k0_chk1221 (v33 : IVec S16 32) (v35 : IVec S16 32) (v4096 : IVec S16 32) (v4097 : IVec S16 32) (v4139 : IVec S16 32) : Prop :=
  (∀ a x, ((![v4096, v4097, v4139, v33] : Fin 4 → IVec S16 32) a x).toNat < S2x4x94x96.size a) ∧
  (∀ a x, ((![v4096, v4097, v4139, v35] : Fin 4 → IVec S16 32) a x).toNat < S2x4x94x96.size a)
theorem k0_idx1611_inb : ∀ (v33 : IVec S16 32) (v35 : IVec S16 32) (v4096 : IVec S16 32) (v4097 : IVec S16 32) (v4139 : IVec S16 32) (k0_hw1221 : k0_chk1221 v33 v35 v4096 v4097 v4139), ∀ a x, ((![v4096, v4097, v4139, v33] : Fin 4 → IVec S16 32) a x).toNat < S2x4x94x96.size a := fun v33 v35 v4096 v4097 v4139 k0_hw1221 => k0_hw1221.1
theorem k0_idx1612_inb : ∀ (v33 : IVec S16 32) (v35 : IVec S16 32) (v4096 : IVec S16 32) (v4097 : IVec S16 32) (v4139 : IVec S16 32) (k0_hw1221 : k0_chk1221 v33 v35 v4096 v4097 v4139), ∀ a x, ((![v4096, v4097, v4139, v35] : Fin 4 → IVec S16 32) a x).toNat < S2x4x94x96.size a := fun v33 v35 v4096 v4097 v4139 k0_hw1221 => k0_hw1221.2

def k0_chk1222 (v30 : IVec S16 32) (v4096 : IVec S16 32) (v4097 : IVec S16 32) (v4140 : IVec S16 32) : Prop :=
  (∀ a x, ((![v4096, v4097, v4140, v30] : Fin 4 → IVec S16 32) a x).toNat < S2x4x32x32.size a)
theorem k0_idx1613_inb : ∀ (v30 : IVec S16 32) (v4096 : IVec S16 32) (v4097 : IVec S16 32) (v4140 : IVec S16 32) (k0_hw1222 : k0_chk1222 v30 v4096 v4097 v4140), ∀ a x, ((![v4096, v4097, v4140, v30] : Fin 4 → IVec S16 32) a x).toNat < S2x4x32x32.size a := fun v30 v4096 v4097 v4140 k0_hw1222 => k0_hw1222

def k0_chk1223 (v4096 : IVec S16 32) (v4097 : IVec S16 32) (v4140 : IVec S16 32) (v4143 : IVec S16 32) : Prop :=
  (∀ a x, ((![v4096, v4097, v4140, v4143] : Fin 4 → IVec S16 32) a x).toNat < S2x4x32x32.size a)
theorem k0_idx1614_inb : ∀ (v4096 : IVec S16 32) (v4097 : IVec S16 32) (v4140 : IVec S16 32) (v4143 : IVec S16 32) (k0_hw1223 : k0_chk1223 v4096 v4097 v4140 v4143), ∀ a x, ((![v4096, v4097, v4140, v4143] : Fin 4 → IVec S16 32) a x).toNat < S2x4x32x32.size a := fun v4096 v4097 v4140 v4143 k0_hw1223 => k0_hw1223

def k0_chk1224 (v33 : IVec S16 32) (v35 : IVec S16 32) (v4096 : IVec S16 32) (v4097 : IVec S16 32) (v4145 : IVec S16 32) : Prop :=
  (∀ a x, ((![v4096, v4097, v4145, v33] : Fin 4 → IVec S16 32) a x).toNat < S2x4x94x96.size a) ∧
  (∀ a x, ((![v4096, v4097, v4145, v35] : Fin 4 → IVec S16 32) a x).toNat < S2x4x94x96.size a)
theorem k0_idx1615_inb : ∀ (v33 : IVec S16 32) (v35 : IVec S16 32) (v4096 : IVec S16 32) (v4097 : IVec S16 32) (v4145 : IVec S16 32) (k0_hw1224 : k0_chk1224 v33 v35 v4096 v4097 v4145), ∀ a x, ((![v4096, v4097, v4145, v33] : Fin 4 → IVec S16 32) a x).toNat < S2x4x94x96.size a := fun v33 v35 v4096 v4097 v4145 k0_hw1224 => k0_hw1224.1
theorem k0_idx1616_inb : ∀ (v33 : IVec S16 32) (v35 : IVec S16 32) (v4096 : IVec S16 32) (v4097 : IVec S16 32) (v4145 : IVec S16 32) (k0_hw1224 : k0_chk1224 v33 v35 v4096 v4097 v4145), ∀ a x, ((![v4096, v4097, v4145, v35] : Fin 4 → IVec S16 32) a x).toNat < S2x4x94x96.size a := fun v33 v35 v4096 v4097 v4145 k0_hw1224 => k0_hw1224.2

def k0_chk1225 (v30 : IVec S16 32) (v4096 : IVec S16 32) (v4097 : IVec S16 32) (v4146 : IVec S16 32) : Prop :=
  (∀ a x, ((![v4096, v4097, v4146, v30] : Fin 4 → IVec S16 32) a x).toNat < S2x4x32x32.size a)
theorem k0_idx1617_inb : ∀ (v30 : IVec S16 32) (v4096 : IVec S16 32) (v4097 : IVec S16 32) (v4146 : IVec S16 32) (k0_hw1225 : k0_chk1225 v30 v4096 v4097 v4146), ∀ a x, ((![v4096, v4097, v4146, v30] : Fin 4 → IVec S16 32) a x).toNat < S2x4x32x32.size a := fun v30 v4096 v4097 v4146 k0_hw1225 => k0_hw1225

def k0_chk1226 (v4096 : IVec S16 32) (v4097 : IVec S16 32) (v4146 : IVec S16 32) (v4149 : IVec S16 32) : Prop :=
  (∀ a x, ((![v4096, v4097, v4146, v4149] : Fin 4 → IVec S16 32) a x).toNat < S2x4x32x32.size a)
theorem k0_idx1618_inb : ∀ (v4096 : IVec S16 32) (v4097 : IVec S16 32) (v4146 : IVec S16 32) (v4149 : IVec S16 32) (k0_hw1226 : k0_chk1226 v4096 v4097 v4146 v4149), ∀ a x, ((![v4096, v4097, v4146, v4149] : Fin 4 → IVec S16 32) a x).toNat < S2x4x32x32.size a := fun v4096 v4097 v4146 v4149 k0_hw1226 => k0_hw1226

def k0_chk1227 (v33 : IVec S16 32) (v35 : IVec S16 32) (v4096 : IVec S16 32) (v4097 : IVec S16 32) (v4151 : IVec S16 32) : Prop :=
  (∀ a x, ((![v4096, v4097, v4151, v33] : Fin 4 → IVec S16 32) a x).toNat < S2x4x94x96.size a) ∧
  (∀ a x, ((![v4096, v4097, v4151, v35] : Fin 4 → IVec S16 32) a x).toNat < S2x4x94x96.size a)
theorem k0_idx1619_inb : ∀ (v33 : IVec S16 32) (v35 : IVec S16 32) (v4096 : IVec S16 32) (v4097 : IVec S16 32) (v4151 : IVec S16 32) (k0_hw1227 : k0_chk1227 v33 v35 v4096 v4097 v4151), ∀ a x, ((![v4096, v4097, v4151, v33] : Fin 4 → IVec S16 32) a x).toNat < S2x4x94x96.size a := fun v33 v35 v4096 v4097 v4151 k0_hw1227 => k0_hw1227.1
theorem k0_idx1620_inb : ∀ (v33 : IVec S16 32) (v35 : IVec S16 32) (v4096 : IVec S16 32) (v4097 : IVec S16 32) (v4151 : IVec S16 32) (k0_hw1227 : k0_chk1227 v33 v35 v4096 v4097 v4151), ∀ a x, ((![v4096, v4097, v4151, v35] : Fin 4 → IVec S16 32) a x).toNat < S2x4x94x96.size a := fun v33 v35 v4096 v4097 v4151 k0_hw1227 => k0_hw1227.2

def k0_chk1228 (v30 : IVec S16 32) (v4096 : IVec S16 32) (v4097 : IVec S16 32) (v4152 : IVec S16 32) : Prop :=
  (∀ a x, ((![v4096, v4097, v4152, v30] : Fin 4 → IVec S16 32) a x).toNat < S2x4x32x32.size a)
theorem k0_idx1621_inb : ∀ (v30 : IVec S16 32) (v4096 : IVec S16 32) (v4097 : IVec S16 32) (v4152 : IVec S16 32) (k0_hw1228 : k0_chk1228 v30 v4096 v4097 v4152), ∀ a x, ((![v4096, v4097, v4152, v30] : Fin 4 → IVec S16 32) a x).toNat < S2x4x32x32.size a := fun v30 v4096 v4097 v4152 k0_hw1228 => k0_hw1228

def k0_chk1229 (v4096 : IVec S16 32) (v4097 : IVec S16 32) (v4152 : IVec S16 32) (v4155 : IVec S16 32) : Prop :=
  (∀ a x, ((![v4096, v4097, v4152, v4155] : Fin 4 → IVec S16 32) a x).toNat < S2x4x32x32.size a)
theorem k0_idx1622_inb : ∀ (v4096 : IVec S16 32) (v4097 : IVec S16 32) (v4152 : IVec S16 32) (v4155 : IVec S16 32) (k0_hw1229 : k0_chk1229 v4096 v4097 v4152 v4155), ∀ a x, ((![v4096, v4097, v4152, v4155] : Fin 4 → IVec S16 32) a x).toNat < S2x4x32x32.size a := fun v4096 v4097 v4152 v4155 k0_hw1229 => k0_hw1229

def k0_chk1230 (v33 : IVec S16 32) (v35 : IVec S16 32) (v4096 : IVec S16 32) (v4097 : IVec S16 32) (v4157 : IVec S16 32) : Prop :=
  (∀ a x, ((![v4096, v4097, v4157, v33] : Fin 4 → IVec S16 32) a x).toNat < S2x4x94x96.size a) ∧
  (∀ a x, ((![v4096, v4097, v4157, v35] : Fin 4 → IVec S16 32) a x).toNat < S2x4x94x96.size a)
theorem k0_idx1623_inb : ∀ (v33 : IVec S16 32) (v35 : IVec S16 32) (v4096 : IVec S16 32) (v4097 : IVec S16 32) (v4157 : IVec S16 32) (k0_hw1230 : k0_chk1230 v33 v35 v4096 v4097 v4157), ∀ a x, ((![v4096, v4097, v4157, v33] : Fin 4 → IVec S16 32) a x).toNat < S2x4x94x96.size a := fun v33 v35 v4096 v4097 v4157 k0_hw1230 => k0_hw1230.1
theorem k0_idx1624_inb : ∀ (v33 : IVec S16 32) (v35 : IVec S16 32) (v4096 : IVec S16 32) (v4097 : IVec S16 32) (v4157 : IVec S16 32) (k0_hw1230 : k0_chk1230 v33 v35 v4096 v4097 v4157), ∀ a x, ((![v4096, v4097, v4157, v35] : Fin 4 → IVec S16 32) a x).toNat < S2x4x94x96.size a := fun v33 v35 v4096 v4097 v4157 k0_hw1230 => k0_hw1230.2

def k0_chk1231 (v30 : IVec S16 32) (v4096 : IVec S16 32) (v4097 : IVec S16 32) (v4158 : IVec S16 32) : Prop :=
  (∀ a x, ((![v4096, v4097, v4158, v30] : Fin 4 → IVec S16 32) a x).toNat < S2x4x32x32.size a)
theorem k0_idx1625_inb : ∀ (v30 : IVec S16 32) (v4096 : IVec S16 32) (v4097 : IVec S16 32) (v4158 : IVec S16 32) (k0_hw1231 : k0_chk1231 v30 v4096 v4097 v4158), ∀ a x, ((![v4096, v4097, v4158, v30] : Fin 4 → IVec S16 32) a x).toNat < S2x4x32x32.size a := fun v30 v4096 v4097 v4158 k0_hw1231 => k0_hw1231

def k0_chk1232 (v4096 : IVec S16 32) (v4097 : IVec S16 32) (v4158 : IVec S16 32) (v4161 : IVec S16 32) : Prop :=
  (∀ a x, ((![v4096, v4097, v4158, v4161] : Fin 4 → IVec S16 32) a x).toNat < S2x4x32x32.size a)
theorem k0_idx1626_inb : ∀ (v4096 : IVec S16 32) (v4097 : IVec S16 32) (v4158 : IVec S16 32) (v4161 : IVec S16 32) (k0_hw1232 : k0_chk1232 v4096 v4097 v4158 v4161), ∀ a x, ((![v4096, v4097, v4158, v4161] : Fin 4 → IVec S16 32) a x).toNat < S2x4x32x32.size a := fun v4096 v4097 v4158 v4161 k0_hw1232 => k0_hw1232

def k0_chk1233 (v33 : IVec S16 32) (v35 : IVec S16 32) (v4096 : IVec S16 32) (v4097 : IVec S16 32) (v4163 : IVec S16 32) : Prop :=
  (∀ a x, ((![v4096, v4097, v4163, v33] : Fin 4 → IVec S16 32) a x).toNat < S2x4x94x96.size a) ∧
  (∀ a x, ((![v4096, v4097, v4163, v35] : Fin 4 → IVec S16 32) a x).toNat < S2x4x94x96.size a)
theorem k0_idx1627_inb : ∀ (v33 : IVec S16 32) (v35 : IVec S16 32) (v4096 : IVec S16 32) (v4097 : IVec S16 32) (v4163 : IVec S16 32) (k0_hw1233 : k0_chk1233 v33 v35 v4096 v4097 v4163), ∀ a x, ((![v4096, v4097, v4163, v33] : Fin 4 → IVec S16 32) a x).toNat < S2x4x94x96.size a := fun v33 v35 v4096 v4097 v4163 k0_hw1233 => k0_hw1233.1
theorem k0_idx1628_inb : ∀ (v33 : IVec S16 32) (v35 : IVec S16 32) (v4096 : IVec S16 32) (v4097 : IVec S16 32) (v4163 : IVec S16 32) (k0_hw1233 : k0_chk1233 v33 v35 v4096 v4097 v4163), ∀ a x, ((![v4096, v4097, v4163, v35] : Fin 4 → IVec S16 32) a x).toNat < S2x4x94x96.size a := fun v33 v35 v4096 v4097 v4163 k0_hw1233 => k0_hw1233.2

def k0_chk1234 (v30 : IVec S16 32) (v4096 : IVec S16 32) (v4097 : IVec S16 32) (v4164 : IVec S16 32) : Prop :=
  (∀ a x, ((![v4096, v4097, v4164, v30] : Fin 4 → IVec S16 32) a x).toNat < S2x4x32x32.size a)
theorem k0_idx1629_inb : ∀ (v30 : IVec S16 32) (v4096 : IVec S16 32) (v4097 : IVec S16 32) (v4164 : IVec S16 32) (k0_hw1234 : k0_chk1234 v30 v4096 v4097 v4164), ∀ a x, ((![v4096, v4097, v4164, v30] : Fin 4 → IVec S16 32) a x).toNat < S2x4x32x32.size a := fun v30 v4096 v4097 v4164 k0_hw1234 => k0_hw1234

def k0_chk1235 (v4096 : IVec S16 32) (v4097 : IVec S16 32) (v4164 : IVec S16 32) (v4167 : IVec S16 32) : Prop :=
  (∀ a x, ((![v4096, v4097, v4164, v4167] : Fin 4 → IVec S16 32) a x).toNat < S2x4x32x32.size a)
theorem k0_idx1630_inb : ∀ (v4096 : IVec S16 32) (v4097 : IVec S16 32) (v4164 : IVec S16 32) (v4167 : IVec S16 32) (k0_hw1235 : k0_chk1235 v4096 v4097 v4164 v4167), ∀ a x, ((![v4096, v4097, v4164, v4167] : Fin 4 → IVec S16 32) a x).toNat < S2x4x32x32.size a := fun v4096 v4097 v4164 v4167 k0_hw1235 => k0_hw1235

def k0_chk1236 (v33 : IVec S16 32) (v35 : IVec S16 32) (v4096 : IVec S16 32) (v4097 : IVec S16 32) (v4169 : IVec S16 32) : Prop :=
  (∀ a x, ((![v4096, v4097, v4169, v33] : Fin 4 → IVec S16 32) a x).toNat < S2x4x94x96.size a) ∧
  (∀ a x, ((![v4096, v4097, v4169, v35] : Fin 4 → IVec S16 32) a x).toNat < S2x4x94x96.size a)
theorem k0_idx1631_inb : ∀ (v33 : IVec S16 32) (v35 : IVec S16 32) (v4096 : IVec S16 32) (v4097 : IVec S16 32) (v4169 : IVec S16 32) (k0_hw1236 : k0_chk1236 v33 v35 v4096 v4097 v4169), ∀ a x, ((![v4096, v4097, v4169, v33] : Fin 4 → IVec S16 32) a x).toNat < S2x4x94x96.size a := fun v33 v35 v4096 v4097 v4169 k0_hw1236 => k0_hw1236.1
theorem k0_idx1632_inb : ∀ (v33 : IVec S16 32) (v35 : IVec S16 32) (v4096 : IVec S16 32) (v4097 : IVec S16 32) (v4169 : IVec S16 32) (k0_hw1236 : k0_chk1236 v33 v35 v4096 v4097 v4169), ∀ a x, ((![v4096, v4097, v4169, v35] : Fin 4 → IVec S16 32) a x).toNat < S2x4x94x96.size a := fun v33 v35 v4096 v4097 v4169 k0_hw1236 => k0_hw1236.2

def k0_chk1237 (v30 : IVec S16 32) (v4096 : IVec S16 32) (v4097 : IVec S16 32) (v4170 : IVec S16 32) : Prop :=
  (∀ a x, ((![v4096, v4097, v4170, v30] : Fin 4 → IVec S16 32) a x).toNat < S2x4x32x32.size a)
theorem k0_idx1633_inb : ∀ (v30 : IVec S16 32) (v4096 : IVec S16 32) (v4097 : IVec S16 32) (v4170 : IVec S16 32) (k0_hw1237 : k0_chk1237 v30 v4096 v4097 v4170), ∀ a x, ((![v4096, v4097, v4170, v30] : Fin 4 → IVec S16 32) a x).toNat < S2x4x32x32.size a := fun v30 v4096 v4097 v4170 k0_hw1237 => k0_hw1237

def k0_chk1238 (v4096 : IVec S16 32) (v4097 : IVec S16 32) (v4170 : IVec S16 32) (v4173 : IVec S16 32) : Prop :=
  (∀ a x, ((![v4096, v4097, v4170, v4173] : Fin 4 → IVec S16 32) a x).toNat < S2x4x32x32.size a)
theorem k0_idx1634_inb : ∀ (v4096 : IVec S16 32) (v4097 : IVec S16 32) (v4170 : IVec S16 32) (v4173 : IVec S16 32) (k0_hw1238 : k0_chk1238 v4096 v4097 v4170 v4173), ∀ a x, ((![v4096, v4097, v4170, v4173] : Fin 4 → IVec S16 32) a x).toNat < S2x4x32x32.size a := fun v4096 v4097 v4170 v4173 k0_hw1238 => k0_hw1238

def k0_chk1239 (v33 : IVec S16 32) (v35 : IVec S16 32) (v4096 : IVec S16 32) (v4097 : IVec S16 32) (v4175 : IVec S16 32) : Prop :=
  (∀ a x, ((![v4096, v4097, v4175, v33] : Fin 4 → IVec S16 32) a x).toNat < S2x4x94x96.size a) ∧
  (∀ a x, ((![v4096, v4097, v4175, v35] : Fin 4 → IVec S16 32) a x).toNat < S2x4x94x96.size a)
theorem k0_idx1635_inb : ∀ (v33 : IVec S16 32) (v35 : IVec S16 32) (v4096 : IVec S16 32) (v4097 : IVec S16 32) (v4175 : IVec S16 32) (k0_hw1239 : k0_chk1239 v33 v35 v4096 v4097 v4175), ∀ a x, ((![v4096, v4097, v4175, v33] : Fin 4 → IVec S16 32) a x).toNat < S2x4x94x96.size a := fun v33 v35 v4096 v4097 v4175 k0_hw1239 => k0_hw1239.1
theorem k0_idx1636_inb : ∀ (v33 : IVec S16 32) (v35 : IVec S16 32) (v4096 : IVec S16 32) (v4097 : IVec S16 32) (v4175 : IVec S16 32) (k0_hw1239 : k0_chk1239 v33 v35 v4096 v4097 v4175), ∀ a x, ((![v4096, v4097, v4175, v35] : Fin 4 → IVec S16 32) a x).toNat < S2x4x94x96.size a := fun v33 v35 v4096 v4097 v4175 k0_hw1239 => k0_hw1239.2

def k0_chk1240 (v30 : IVec S16 32) (v4096 : IVec S16 32) (v4097 : IVec S16 32) (v4176 : IVec S16 32) : Prop :=
  (∀ a x, ((![v4096, v4097, v4176, v30] : Fin 4 → IVec S16 32) a x).toNat < S2x4x32x32.size a)
theorem k0_idx1637_inb : ∀ (v30 : IVec S16 32) (v4096 : IVec S16 32) (v4097 : IVec S16 32) (v4176 : IVec S16 32) (k0_hw1240 : k0_chk1240 v30 v4096 v4097 v4176), ∀ a x, ((![v4096, v4097, v4176, v30] : Fin 4 → IVec S16 32) a x).toNat < S2x4x32x32.size a := fun v30 v4096 v4097 v4176 k0_hw1240 => k0_hw1240

def k0_chk1241 (v4096 : IVec S16 32) (v4097 : IVec S16 32) (v4176 : IVec S16 32) (v4179 : IVec S16 32) : Prop :=
  (∀ a x, ((![v4096, v4097, v4176, v4179] : Fin 4 → IVec S16 32) a x).toNat < S2x4x32x32.size a)
theorem k0_idx1638_inb : ∀ (v4096 : IVec S16 32) (v4097 : IVec S16 32) (v4176 : IVec S16 32) (v4179 : IVec S16 32) (k0_hw1241 : k0_chk1241 v4096 v4097 v4176 v4179), ∀ a x, ((![v4096, v4097, v4176, v4179] : Fin 4 → IVec S16 32) a x).toNat < S2x4x32x32.size a := fun v4096 v4097 v4176 v4179 k0_hw1241 => k0_hw1241

def k0_chk1242 (v33 : IVec S16 32) (v35 : IVec S16 32) (v4096 : IVec S16 32) (v4097 : IVec S16 32) (v4181 : IVec S16 32) : Prop :=
  (∀ a x, ((![v4096, v4097, v4181, v33] : Fin 4 → IVec S16 32) a x).toNat < S2x4x94x96.size a) ∧
  (∀ a x, ((![v4096, v4097, v4181, v35] : Fin 4 → IVec S16 32) a x).toNat < S2x4x94x96.size a)
theorem k0_idx1639_inb : ∀ (v33 : IVec S16 32) (v35 : IVec S16 32) (v4096 : IVec S16 32) (v4097 : IVec S16 32) (v4181 : IVec S16 32) (k0_hw1242 : k0_chk1242 v33 v35 v4096 v4097 v4181), ∀ a x, ((![v4096, v4097, v4181, v33] : Fin 4 → IVec S16 32) a x).toNat < S2x4x94x96.size a := fun v33 v35 v4096 v4097 v4181 k0_hw1242 => k0_hw1242.1
theorem k0_idx1640_inb : ∀ (v33 : IVec S16 32) (v35 : IVec S16 32) (v4096 : IVec S16 32) (v4097 : IVec S16 32) (v4181 : IVec S16 32) (k0_hw1242 : k0_chk1242 v33 v35 v4096 v4097 v4181), ∀ a x, ((![v4096, v4097, v4181, v35] : Fin 4 → IVec S16 32) a x).toNat < S2x4x94x96.size a := fun v33 v35 v4096 v4097 v4181 k0_hw1242 => k0_hw1242.2

def k0_chk1243 (v30 : IVec S16 32) (v4096 : IVec S16 32) (v4097 : IVec S16 32) (v4182 : IVec S16 32) : Prop :=
  (∀ a x, ((![v4096, v4097, v4182, v30] : Fin 4 → IVec S16 32) a x).toNat < S2x4x32x32.size a)
theorem k0_idx1641_inb : ∀ (v30 : IVec S16 32) (v4096 : IVec S16 32) (v4097 : IVec S16 32) (v4182 : IVec S16 32) (k0_hw1243 : k0_chk1243 v30 v4096 v4097 v4182), ∀ a x, ((![v4096, v4097, v4182, v30] : Fin 4 → IVec S16 32) a x).toNat < S2x4x32x32.size a := fun v30 v4096 v4097 v4182 k0_hw1243 => k0_hw1243

def k0_chk1244 (v4096 : IVec S16 32) (v4097 : IVec S16 32) (v4182 : IVec S16 32) (v4185 : IVec S16 32) : Prop :=
  (∀ a x, ((![v4096, v4097, v4182, v4185] : Fin 4 → IVec S16 32) a x).toNat < S2x4x32x32.size a)
theorem k0_idx1642_inb : ∀ (v4096 : IVec S16 32) (v4097 : IVec S16 32) (v4182 : IVec S16 32) (v4185 : IVec S16 32) (k0_hw1244 : k0_chk1244 v4096 v4097 v4182 v4185), ∀ a x, ((![v4096, v4097, v4182, v4185] : Fin 4 → IVec S16 32) a x).toNat < S2x4x32x32.size a := fun v4096 v4097 v4182 v4185 k0_hw1244 => k0_hw1244

def k0_chk1245 (v33 : IVec S16 32) (v35 : IVec S16 32) (v4096 : IVec S16 32) (v4097 : IVec S16 32) (v4187 : IVec S16 32) : Prop :=
  (∀ a x, ((![v4096, v4097, v4187, v33] : Fin 4 → IVec S16 32) a x).toNat < S2x4x94x96.size a) ∧
  (∀ a x, ((![v4096, v4097, v4187, v35] : Fin 4 → IVec S16 32) a x).toNat < S2x4x94x96.size a)
theorem k0_idx1643_inb : ∀ (v33 : IVec S16 32) (v35 : IVec S16 32) (v4096 : IVec S16 32) (v4097 : IVec S16 32) (v4187 : IVec S16 32) (k0_hw1245 : k0_chk1245 v33 v35 v4096 v4097 v4187), ∀ a x, ((![v4096, v4097, v4187, v33] : Fin 4 → IVec S16 32) a x).toNat < S2x4x94x96.size a := fun v33 v35 v4096 v4097 v4187 k0_hw1245 => k0_hw1245.1
theorem k0_idx1644_inb : ∀ (v33 : IVec S16 32) (v35 : IVec S16 32) (v4096 : IVec S16 32) (v4097 : IVec S16 32) (v4187 : IVec S16 32) (k0_hw1245 : k0_chk1245 v33 v35 v4096 v4097 v4187), ∀ a x, ((![v4096, v4097, v4187, v35] : Fin 4 → IVec S16 32) a x).toNat < S2x4x94x96.size a := fun v33 v35 v4096 v4097 v4187 k0_hw1245 => k0_hw1245.2

def k0_chk1246 (v30 : IVec S16 32) (v4096 : IVec S16 32) (v4097 : IVec S16 32) (v4188 : IVec S16 32) : Prop :=
  (∀ a x, ((![v4096, v4097, v4188, v30] : Fin 4 → IVec S16 32) a x).toNat < S2x4x32x32.size a)
theorem k0_idx1645_inb : ∀ (v30 : IVec S16 32) (v4096 : IVec S16 32) (v4097 : IVec S16 32) (v4188 : IVec S16 32) (k0_hw1246 : k0_chk1246 v30 v4096 v4097 v4188), ∀ a x, ((![v4096, v4097, v4188, v30] : Fin 4 → IVec S16 32) a x).toNat < S2x4x32x32.size a := fun v30 v4096 v4097 v4188 k0_hw1246 => k0_hw1246

def k0_chk1247 (v4096 : IVec S16 32) (v4097 : IVec S16 32) (v4188 : IVec S16 32) (v4191 : IVec S16 32) : Prop :=
  (∀ a x, ((![v4096, v4097, v4188, v4191] : Fin 4 → IVec S16 32) a x).toNat < S2x4x32x32.size a)
theorem k0_idx1646_inb : ∀ (v4096 : IVec S16 32) (v4097 : IVec S16 32) (v4188 : IVec S16 32) (v4191 : IVec S16 32) (k0_hw1247 : k0_chk1247 v4096 v4097 v4188 v4191), ∀ a x, ((![v4096, v4097, v4188, v4191] : Fin 4 → IVec S16 32) a x).toNat < S2x4x32x32.size a := fun v4096 v4097 v4188 v4191 k0_hw1247 => k0_hw1247

def k0_chk1248 (v33 : IVec S16 32) (v35 : IVec S16 32) (v4096 : IVec S16 32) (v4097 : IVec S16 32) (v4193 : IVec S16 32) : Prop :=
  (∀ a x, ((![v4096, v4097, v4193, v33] : Fin 4 → IVec S16 32) a x).toNat < S2x4x94x96.size a) ∧
  (∀ a x, ((![v4096, v4097, v4193, v35] : Fin 4 → IVec S16 32) a x).toNat < S2x4x94x96.size a)
theorem k0_idx1647_inb : ∀ (v33 : IVec S16 32) (v35 : IVec S16 32) (v4096 : IVec S16 32) (v4097 : IVec S16 32) (v4193 : IVec S16 32) (k0_hw1248 : k0_chk1248 v33 v35 v4096 v4097 v4193), ∀ a x, ((![v4096, v4097, v4193, v33] : Fin 4 → IVec S16 32) a x).toNat < S2x4x94x96.size a := fun v33 v35 v4096 v4097 v4193 k0_hw1248 => k0_hw1248.1
theorem k0_idx1648_inb : ∀ (v33 : IVec S16 32) (v35 : IVec S16 32) (v4096 : IVec S16 32) (v4097 : IVec S16 32) (v4193 : IVec S16 32) (k0_hw1248 : k0_chk1248 v33 v35 v4096 v4097 v4193), ∀ a x, ((![v4096, v4097, v4193, v35] : Fin 4 → IVec S16 32) a x).toNat < S2x4x94x96.size a := fun v33 v35 v4096 v4097 v4193 k0_hw1248 => k0_hw1248.2

def k0_chk1249 (v30 : IVec S16 32) (v4096 : IVec S16 32) (v4097 : IVec S16 32) (v4194 : IVec S16 32) : Prop :=
  (∀ a x, ((![v4096, v4097, v4194, v30] : Fin 4 → IVec S16 32) a x).toNat < S2x4x32x32.size a)
theorem k0_idx1649_inb : ∀ (v30 : IVec S16 32) (v4096 : IVec S16 32) (v4097 : IVec S16 32) (v4194 : IVec S16 32) (k0_hw1249 : k0_chk1249 v30 v4096 v4097 v4194), ∀ a x, ((![v4096, v4097, v4194, v30] : Fin 4 → IVec S16 32) a x).toNat < S2x4x32x32.size a := fun v30 v4096 v4097 v4194 k0_hw1249 => k0_hw1249

def k0_chk1250 (v4096 : IVec S16 32) (v4097 : IVec S16 32) (v4194 : IVec S16 32) (v4197 : IVec S16 32) : Prop :=
  (∀ a x, ((![v4096, v4097, v4194, v4197] : Fin 4 → IVec S16 32) a x).toNat < S2x4x32x32.size a)
theorem k0_idx1650_inb : ∀ (v4096 : IVec S16 32) (v4097 : IVec S16 32) (v4194 : IVec S16 32) (v4197 : IVec S16 32) (k0_hw1250 : k0_chk1250 v4096 v4097 v4194 v4197), ∀ a x, ((![v4096, v4097, v4194, v4197] : Fin 4 → IVec S16 32) a x).toNat < S2x4x32x32.size a := fun v4096 v4097 v4194 v4197 k0_hw1250 => k0_hw1250

def k0_chk1251 (v33 : IVec S16 32) (v35 : IVec S16 32) (v4096 : IVec S16 32) (v4097 : IVec S16 32) (v4199 : IVec S16 32) : Prop :=
  (∀ a x, ((![v4096, v4097, v4199, v33] : Fin 4 → IVec S16 32) a x).toNat < S2x4x94x96.size a) ∧
  (∀ a x, ((![v4096, v4097, v4199, v35] : Fin 4 → IVec S16 32) a x).toNat < S2x4x94x96.size a)
theorem k0_idx1651_inb : ∀ (v33 : IVec S16 32) (v35 : IVec S16 32) (v4096 : IVec S16 32) (v4097 : IVec S16 32) (v4199 : IVec S16 32) (k0_hw1251 : k0_chk1251 v33 v35 v4096 v4097 v4199), ∀ a x, ((![v4096, v4097, v4199, v33] : Fin 4 → IVec S16 32) a x).toNat < S2x4x94x96.size a := fun v33 v35 v4096 v4097 v4199 k0_hw1251 => k0_hw1251.1
theorem k0_idx1652_inb : ∀ (v33 : IVec S16 32) (v35 : IVec S16 32) (v4096 : IVec S16 32) (v4097 : IVec S16 32) (v4199 : IVec S16 32) (k0_hw1251 : k0_chk1251 v33 v35 v4096 v4097 v4199), ∀ a x, ((![v4096, v4097, v4199, v35] : Fin 4 → IVec S16 32) a x).toNat < S2x4x94x96.size a := fun v33 v35 v4096 v4097 v4199 k0_hw1251 => k0_hw1251.2

def k0_chk1252 (v30 : IVec S16 32) (v4096 : IVec S16 32) (v4097 : IVec S16 32) (v4200 : IVec S16 32) : Prop :=
  (∀ a x, ((![v4096, v4097, v4200, v30] : Fin 4 → IVec S16 32) a x).toNat < S2x4x32x32.size a)
theorem k0_idx1653_inb : ∀ (v30 : IVec S16 32) (v4096 : IVec S16 32) (v4097 : IVec S16 32) (v4200 : IVec S16 32) (k0_hw1252 : k0_chk1252 v30 v4096 v4097 v4200), ∀ a x, ((![v4096, v4097, v4200, v30] : Fin 4 → IVec S16 32) a x).toNat < S2x4x32x32.size a := fun v30 v4096 v4097 v4200 k0_hw1252 => k0_hw1252

def k0_chk1253 (v4096 : IVec S16 32) (v4097 : IVec S16 32) (v4200 : IVec S16 32) (v4203 : IVec S16 32) : Prop :=
  (∀ a x, ((![v4096, v4097, v4200, v4203] : Fin 4 → IVec S16 32) a x).toNat < S2x4x32x32.size a)
theorem k0_idx1654_inb : ∀ (v4096 : IVec S16 32) (v4097 : IVec S16 32) (v4200 : IVec S16 32) (v4203 : IVec S16 32) (k0_hw1253 : k0_chk1253 v4096 v4097 v4200 v4203), ∀ a x, ((![v4096, v4097, v4200, v4203] : Fin 4 → IVec S16 32) a x).toNat < S2x4x32x32.size a := fun v4096 v4097 v4200 v4203 k0_hw1253 => k0_hw1253

def k0_chk1254 (v33 : IVec S16 32) (v35 : IVec S16 32) (v4096 : IVec S16 32) (v4097 : IVec S16 32) (v4205 : IVec S16 32) : Prop :=
  (∀ a x, ((![v4096, v4097, v4205, v33] : Fin 4 → IVec S16 32) a x).toNat < S2x4x94x96.size a) ∧
  (∀ a x, ((![v4096, v4097, v4205, v35] : Fin 4 → IVec S16 32) a x).toNat < S2x4x94x96.size a)
theorem k0_idx1655_inb : ∀ (v33 : IVec S16 32) (v35 : IVec S16 32) (v4096 : IVec S16 32) (v4097 : IVec S16 32) (v4205 : IVec S16 32) (k0_hw1254 : k0_chk1254 v33 v35 v4096 v4097 v4205), ∀ a x, ((![v4096, v4097, v4205, v33] : Fin 4 → IVec S16 32) a x).toNat < S2x4x94x96.size a := fun v33 v35 v4096 v4097 v4205 k0_hw1254 => k0_hw1254.1
theorem k0_idx1656_inb : ∀ (v33 : IVec S16 32) (v35 : IVec S16 32) (v4096 : IVec S16 32) (v4097 : IVec S16 32) (v4205 : IVec S16 32) (k0_hw1254 : k0_chk1254 v33 v35 v4096 v4097 v4205), ∀ a x, ((![v4096, v4097, v4205, v35] : Fin 4 → IVec S16 32) a x).toNat < S2x4x94x96.size a := fun v33 v35 v4096 v4097 v4205 k0_hw1254 => k0_hw1254.2

def k0_chk1255 (v30 : IVec S16 32) (v4096 : IVec S16 32) (v4097 : IVec S16 32) (v4206 : IVec S16 32) : Prop :=
  (∀ a x, ((![v4096, v4097, v4206, v30] : Fin 4 → IVec S16 32) a x).toNat < S2x4x32x32.size a)
theorem k0_idx1657_inb : ∀ (v30 : IVec S16 32) (v4096 : IVec S16 32) (v4097 : IVec S16 32) (v4206 : IVec S16 32) (k0_hw1255 : k0_chk1255 v30 v4096 v4097 v4206), ∀ a x, ((![v4096, v4097, v4206, v30] : Fin 4 → IVec S16 32) a x).toNat < S2x4x32x32.size a := fun v30 v4096 v4097 v4206 k0_hw1255 => k0_hw1255

def k0_chk1256 (v4096 : IVec S16 32) (v4097 : IVec S16 32) (v4206 : IVec S16 32) (v4209 : IVec S16 32) : Prop :=
  (∀ a x, ((![v4096, v4097, v4206, v4209] : Fin 4 → IVec S16 32) a x).toNat < S2x4x32x32.size a)
theorem k0_idx1658_inb : ∀ (v4096 : IVec S16 32) (v4097 : IVec S16 32) (v4206 : IVec S16 32) (v4209 : IVec S16 32) (k0_hw1256 : k0_chk1256 v4096 v4097 v4206 v4209), ∀ a x, ((![v4096, v4097, v4206, v4209] : Fin 4 → IVec S16 32) a x).toNat < S2x4x32x32.size a := fun v4096 v4097 v4206 v4209 k0_hw1256 => k0_hw1256

def k0_chk1257 (v33 : IVec S16 32) (v35 : IVec S16 32) (v4096 : IVec S16 32) (v4097 : IVec S16 32) (v4211 : IVec S16 32) : Prop :=
  (∀ a x, ((![v4096, v4097, v4211, v33] : Fin 4 → IVec S16 32) a x).toNat < S2x4x94x96.size a) ∧
  (∀ a x, ((![v4096, v4097, v4211, v35] : Fin 4 → IVec S16 32) a x).toNat < S2x4x94x96.size a)
theorem k0_idx1659_inb : ∀ (v33 : IVec S16 32) (v35 : IVec S16 32) (v4096 : IVec S16 32) (v4097 : IVec S16 32) (v4211 : IVec S16 32) (k0_hw1257 : k0_chk1257 v33 v35 v4096 v4097 v4211), ∀ a x, ((![v4096, v4097, v4211, v33] : Fin 4 → IVec S16 32) a x).toNat < S2x4x94x96.size a := fun v33 v35 v4096 v4097 v4211 k0_hw1257 => k0_hw1257.1
theorem k0_idx1660_inb : ∀ (v33 : IVec S16 32) (v35 : IVec S16 32) (v4096 : IVec S16 32) (v4097 : IVec S16 32) (v4211 : IVec S16 32) (k0_hw1257 : k0_chk1257 v33 v35 v4096 v4097 v4211), ∀ a x, ((![v4096, v4097, v4211, v35] : Fin 4 → IVec S16 32) a x).toNat < S2x4x94x96.size a := fun v33 v35 v4096 v4097 v4211 k0_hw1257 => k0_hw1257.2

def k0_chk1258 (v30 : IVec S16 32) (v4096 : IVec S16 32) (v4097 : IVec S16 32) (v4212 : IVec S16 32) : Prop :=
  (∀ a x, ((![v4096, v4097, v4212, v30] : Fin 4 → IVec S16 32) a x).toNat < S2x4x32x32.size a)
theorem k0_idx1661_inb : ∀ (v30 : IVec S16 32) (v4096 : IVec S16 32) (v4097 : IVec S16 32) (v4212 : IVec S16 32) (k0_hw1258 : k0_chk1258 v30 v4096 v4097 v4212), ∀ a x, ((![v4096, v4097, v4212, v30] : Fin 4 → IVec S16 32) a x).toNat < S2x4x32x32.size a := fun v30 v4096 v4097 v4212 k0_hw1258 => k0_hw1258

def k0_chk1259 (v4096 : IVec S16 32) (v4097 : IVec S16 32) (v4212 : IVec S16 32) (v4215 : IVec S16 32) : Prop :=
  (∀ a x, ((![v4096, v4097, v4212, v4215] : Fin 4 → IVec S16 32) a x).toNat < S2x4x32x32.size a)
theorem k0_idx1662_inb : ∀ (v4096 : IVec S16 32) (v4097 : IVec S16 32) (v4212 : IVec S16 32) (v4215 : IVec S16 32) (k0_hw1259 : k0_chk1259 v4096 v4097 v4212 v4215), ∀ a x, ((![v4096, v4097, v4212, v4215] : Fin 4 → IVec S16 32) a x).toNat < S2x4x32x32.size a := fun v4096 v4097 v4212 v4215 k0_hw1259 => k0_hw1259

def k0_chk1260 (v33 : IVec S16 32) (v35 : IVec S16 32) (v4096 : IVec S16 32) (v4097 : IVec S16 32) (v4217 : IVec S16 32) : Prop :=
  (∀ a x, ((![v4096, v4097, v4217, v33] : Fin 4 → IVec S16 32) a x).toNat < S2x4x94x96.size a) ∧
  (∀ a x, ((![v4096, v4097, v4217, v35] : Fin 4 → IVec S16 32) a x).toNat < S2x4x94x96.size a)
theorem k0_idx1663_inb : ∀ (v33 : IVec S16 32) (v35 : IVec S16 32) (v4096 : IVec S16 32) (v4097 : IVec S16 32) (v4217 : IVec S16 32) (k0_hw1260 : k0_chk1260 v33 v35 v4096 v4097 v4217), ∀ a x, ((![v4096, v4097, v4217, v33] : Fin 4 → IVec S16 32) a x).toNat < S2x4x94x96.size a := fun v33 v35 v4096 v4097 v4217 k0_hw1260 => k0_hw1260.1
theorem k0_idx1664_inb : ∀ (v33 : IVec S16 32) (v35 : IVec S16 32) (v4096 : IVec S16 32) (v4097 : IVec S16 32) (v4217 : IVec S16 32) (k0_hw1260 : k0_chk1260 v33 v35 v4096 v4097 v4217), ∀ a x, ((![v4096, v4097, v4217, v35] : Fin 4 → IVec S16 32) a x).toNat < S2x4x94x96.size a := fun v33 v35 v4096 v4097 v4217 k0_hw1260 => k0_hw1260.2

def k0_chk1261 (v30 : IVec S16 32) (v4096 : IVec S16 32) (v4097 : IVec S16 32) (v4218 : IVec S16 32) : Prop :=
  (∀ a x, ((![v4096, v4097, v4218, v30] : Fin 4 → IVec S16 32) a x).toNat < S2x4x32x32.size a)
theorem k0_idx1665_inb : ∀ (v30 : IVec S16 32) (v4096 : IVec S16 32) (v4097 : IVec S16 32) (v4218 : IVec S16 32) (k0_hw1261 : k0_chk1261 v30 v4096 v4097 v4218), ∀ a x, ((![v4096, v4097, v4218, v30] : Fin 4 → IVec S16 32) a x).toNat < S2x4x32x32.size a := fun v30 v4096 v4097 v4218 k0_hw1261 => k0_hw1261

def k0_chk1262 (v4096 : IVec S16 32) (v4097 : IVec S16 32) (v4218 : IVec S16 32) (v4221 : IVec S16 32) : Prop :=
  (∀ a x, ((![v4096, v4097, v4218, v4221] : Fin 4 → IVec S16 32) a x).toNat < S2x4x32x32.size a)
theorem k0_idx1666_inb : ∀ (v4096 : IVec S16 32) (v4097 : IVec S16 32) (v4218 : IVec S16 32) (v4221 : IVec S16 32) (k0_hw1262 : k0_chk1262 v4096 v4097 v4218 v4221), ∀ a x, ((![v4096, v4097, v4218, v4221] : Fin 4 → IVec S16 32) a x).toNat < S2x4x32x32.size a := fun v4096 v4097 v4218 v4221 k0_hw1262 => k0_hw1262

def k0_chk1263 (v33 : IVec S16 32) (v35 : IVec S16 32) (v4096 : IVec S16 32) (v4097 : IVec S16 32) (v4223 : IVec S16 32) : Prop :=
  (∀ a x, ((![v4096, v4097, v4223, v33] : Fin 4 → IVec S16 32) a x).toNat < S2x4x94x96.size a) ∧
  (∀ a x, ((![v4096, v4097, v4223, v35] : Fin 4 → IVec S16 32) a x).toNat < S2x4x94x96.size a)
theorem k0_idx1667_inb : ∀ (v33 : IVec S16 32) (v35 : IVec S16 32) (v4096 : IVec S16 32) (v4097 : IVec S16 32) (v4223 : IVec S16 32) (k0_hw1263 : k0_chk1263 v33 v35 v4096 v4097 v4223), ∀ a x, ((![v4096, v4097, v4223, v33] : Fin 4 → IVec S16 32) a x).toNat < S2x4x94x96.size a := fun v33 v35 v4096 v4097 v4223 k0_hw1263 => k0_hw1263.1
theorem k0_idx1668_inb : ∀ (v33 : IVec S16 32) (v35 : IVec S16 32) (v4096 : IVec S16 32) (v4097 : IVec S16 32) (v4223 : IVec S16 32) (k0_hw1263 : k0_chk1263 v33 v35 v4096 v4097 v4223), ∀ a x, ((![v4096, v4097, v4223, v35] : Fin 4 → IVec S16 32) a x).toNat < S2x4x94x96.size a := fun v33 v35 v4096 v4097 v4223 k0_hw1263 => k0_hw1263.2

def k0_chk1264 (v30 : IVec S16 32) (v4096 : IVec S16 32) (v4097 : IVec S16 32) (v4224 : IVec S16 32) : Prop :=
  (∀ a x, ((![v4096, v4097, v4224, v30] : Fin 4 → IVec S16 32) a x).toNat < S2x4x32x32.size a)
theorem k0_idx1669_inb : ∀ (v30 : IVec S16 32) (v4096 : IVec S16 32) (v4097 : IVec S16 32) (v4224 : IVec S16 32) (k0_hw1264 : k0_chk1264 v30 v4096 v4097 v4224), ∀ a x, ((![v4096, v4097, v4224, v30] : Fin 4 → IVec S16 32) a x).toNat < S2x4x32x32.size a := fun v30 v4096 v4097 v4224 k0_hw1264 => k0_hw1264

def k0_chk1265 (v4096 : IVec S16 32) (v4097 : IVec S16 32) (v4224 : IVec S16 32) (v4227 : IVec S16 32) : Prop :=
  (∀ a x, ((![v4096, v4097, v4224, v4227] : Fin 4 → IVec S16 32) a x).toNat < S2x4x32x32.size a)
theorem k0_idx1670_inb : ∀ (v4096 : IVec S16 32) (v4097 : IVec S16 32) (v4224 : IVec S16 32) (v4227 : IVec S16 32) (k0_hw1265 : k0_chk1265 v4096 v4097 v4224 v4227), ∀ a x, ((![v4096, v4097, v4224, v4227] : Fin 4 → IVec S16 32) a x).toNat < S2x4x32x32.size a := fun v4096 v4097 v4224 v4227 k0_hw1265 => k0_hw1265

def k0_chk1266 (v33 : IVec S16 32) (v35 : IVec S16 32) (v4096 : IVec S16 32) (v4097 : IVec S16 32) (v4229 : IVec S16 32) : Prop :=
  (∀ a x, ((![v4096, v4097, v4229, v33] : Fin 4 → IVec S16 32) a x).toNat < S2x4x94x96.size a) ∧
  (∀ a x, ((![v4096, v4097, v4229, v35] : Fin 4 → IVec S16 32) a x).toNat < S2x4x94x96.size a)
theorem k0_idx1671_inb : ∀ (v33 : IVec S16 32) (v35 : IVec S16 32) (v4096 : IVec S16 32) (v4097 : IVec S16 32) (v4229 : IVec S16 32) (k0_hw1266 : k0_chk1266 v33 v35 v4096 v4097 v4229), ∀ a x, ((![v4096, v4097, v4229, v33] : Fin 4 → IVec S16 32) a x).toNat < S2x4x94x96.size a := fun v33 v35 v4096 v4097 v4229 k0_hw1266 => k0_hw1266.1
theorem k0_idx1672_inb : ∀ (v33 : IVec S16 32) (v35 : IVec S16 32) (v4096 : IVec S16 32) (v4097 : IVec S16 32) (v4229 : IVec S16 32) (k0_hw1266 : k0_chk1266 v33 v35 v4096 v4097 v4229), ∀ a x, ((![v4096, v4097, v4229, v35] : Fin 4 → IVec S16 32) a x).toNat < S2x4x94x96.size a := fun v33 v35 v4096 v4097 v4229 k0_hw1266 => k0_hw1266.2

def k0_chk1267 (v30 : IVec S16 32) (v4096 : IVec S16 32) (v4097 : IVec S16 32) (v4230 : IVec S16 32) : Prop :=
  (∀ a x, ((![v4096, v4097, v4230, v30] : Fin 4 → IVec S16 32) a x).toNat < S2x4x32x32.size a)
theorem k0_idx1673_inb : ∀ (v30 : IVec S16 32) (v4096 : IVec S16 32) (v4097 : IVec S16 32) (v4230 : IVec S16 32) (k0_hw1267 : k0_chk1267 v30 v4096 v4097 v4230), ∀ a x, ((![v4096, v4097, v4230, v30] : Fin 4 → IVec S16 32) a x).toNat < S2x4x32x32.size a := fun v30 v4096 v4097 v4230 k0_hw1267 => k0_hw1267

def k0_chk1268 (v4096 : IVec S16 32) (v4097 : IVec S16 32) (v4230 : IVec S16 32) (v4233 : IVec S16 32) : Prop :=
  (∀ a x, ((![v4096, v4097, v4230, v4233] : Fin 4 → IVec S16 32) a x).toNat < S2x4x32x32.size a)
theorem k0_idx1674_inb : ∀ (v4096 : IVec S16 32) (v4097 : IVec S16 32) (v4230 : IVec S16 32) (v4233 : IVec S16 32) (k0_hw1268 : k0_chk1268 v4096 v4097 v4230 v4233), ∀ a x, ((![v4096, v4097, v4230, v4233] : Fin 4 → IVec S16 32) a x).toNat < S2x4x32x32.size a := fun v4096 v4097 v4230 v4233 k0_hw1268 => k0_hw1268

def k0_chk1269 (v33 : IVec S16 32) (v35 : IVec S16 32) (v4096 : IVec S16 32) (v4097 : IVec S16 32) (v4235 : IVec S16 32) : Prop :=
  (∀ a x, ((![v4096, v4097, v4235, v33] : Fin 4 → IVec S16 32) a x).toNat < S2x4x94x96.size a) ∧
  (∀ a x, ((![v4096, v4097, v4235, v35] : Fin 4 → IVec S16 32) a x).toNat < S2x4x94x96.size a)
theorem k0_idx1675_inb : ∀ (v33 : IVec S16 32) (v35 : IVec S16 32) (v4096 : IVec S16 32) (v4097 : IVec S16 32) (v4235 : IVec S16 32) (k0_hw1269 : k0_chk1269 v33 v35 v4096 v4097 v4235), ∀ a x, ((![v4096, v4097, v4235, v33] : Fin 4 → IVec S16 32) a x).toNat < S2x4x94x96.size a := fun v33 v35 v4096 v4097 v4235 k0_hw1269 => k0_hw1269.1
theorem k0_idx1676_inb : ∀ (v33 : IVec S16 32) (v35 : IVec S16 32) (v4096 : IVec S16 32) (v4097 : IVec S16 32) (v4235 : IVec S16 32) (k0_hw1269 : k0_chk1269 v33 v35 v4096 v4097 v4235), ∀ a x, ((![v4096, v4097, v4235, v35] : Fin 4 → IVec S16 32) a x).toNat < S2x4x94x96.size a := fun v33 v35 v4096 v4097 v4235 k0_hw1269 => k0_hw1269.2

def k0_chk1270 (v30 : IVec S16 32) (v4096 : IVec S16 32) (v4097 : IVec S16 32) (v4236 : IVec S16 32) : Prop :=
  (∀ a x, ((![v4096, v4097, v4236, v30] : Fin 4 → IVec S16 32) a x).toNat < S2x4x32x32.size a)
theorem k0_idx1677_inb : ∀ (v30 : IVec S16 32) (v4096 : IVec S16 32) (v4097 : IVec S16 32) (v4236 : IVec S16 32) (k0_hw1270 : k0_chk1270 v30 v4096 v4097 v4236), ∀ a x, ((![v4096, v4097, v4236, v30] : Fin 4 → IVec S16 32) a x).toNat < S2x4x32x32.size a := fun v30 v4096 v4097 v4236 k0_hw1270 => k0_hw1270

def k0_chk1271 (v4096 : IVec S16 32) (v4097 : IVec S16 32) (v4236 : IVec S16 32) (v4239 : IVec S16 32) : Prop :=
  (∀ a x, ((![v4096, v4097, v4236, v4239] : Fin 4 → IVec S16 32) a x).toNat < S2x4x32x32.size a)
theorem k0_idx1678_inb : ∀ (v4096 : IVec S16 32) (v4097 : IVec S16 32) (v4236 : IVec S16 32) (v4239 : IVec S16 32) (k0_hw1271 : k0_chk1271 v4096 v4097 v4236 v4239), ∀ a x, ((![v4096, v4097, v4236, v4239] : Fin 4 → IVec S16 32) a x).toNat < S2x4x32x32.size a := fun v4096 v4097 v4236 v4239 k0_hw1271 => k0_hw1271

def k0_chk1272 (v33 : IVec S16 32) (v35 : IVec S16 32) (v4096 : IVec S16 32) (v4097 : IVec S16 32) (v4241 : IVec S16 32) : Prop :=
  (∀ a x, ((![v4096, v4097, v4241, v33] : Fin 4 → IVec S16 32) a x).toNat < S2x4x94x96.size a) ∧
  (∀ a x, ((![v4096, v4097, v4241, v35] : Fin 4 → IVec S16 32) a x).toNat < S2x4x94x96.size a)
theorem k0_idx1679_inb : ∀ (v33 : IVec S16 32) (v35 : IVec S16 32) (v4096 : IVec S16 32) (v4097 : IVec S16 32) (v4241 : IVec S16 32) (k0_hw1272 : k0_chk1272 v33 v35 v4096 v4097 v4241), ∀ a x, ((![v4096, v4097, v4241, v33] : Fin 4 → IVec S16 32) a x).toNat < S2x4x94x96.size a := fun v33 v35 v4096 v4097 v4241 k0_hw1272 => k0_hw1272.1
theorem k0_idx1680_inb : ∀ (v33 : IVec S16 32) (v35 : IVec S16 32) (v4096 : IVec S16 32) (v4097 : IVec S16 32) (v4241 : IVec S16 32) (k0_hw1272 : k0_chk1272 v33 v35 v4096 v4097 v4241), ∀ a x, ((![v4096, v4097, v4241, v35] : Fin 4 → IVec S16 32) a x).toNat < S2x4x94x96.size a := fun v33 v35 v4096 v4097 v4241 k0_hw1272 => k0_hw1272.2

def k0_chk1273 (v30 : IVec S16 32) (v4096 : IVec S16 32) (v4097 : IVec S16 32) (v4242 : IVec S16 32) : Prop :=
  (∀ a x, ((![v4096, v4097, v4242, v30] : Fin 4 → IVec S16 32) a x).toNat < S2x4x32x32.size a)
theorem k0_idx1681_inb : ∀ (v30 : IVec S16 32) (v4096 : IVec S16 32) (v4097 : IVec S16 32) (v4242 : IVec S16 32) (k0_hw1273 : k0_chk1273 v30 v4096 v4097 v4242), ∀ a x, ((![v4096, v4097, v4242, v30] : Fin 4 → IVec S16 32) a x).toNat < S2x4x32x32.size a := fun v30 v4096 v4097 v4242 k0_hw1273 => k0_hw1273

def k0_chk1274 (v4096 : IVec S16 32) (v4097 : IVec S16 32) (v4242 : IVec S16 32) (v4245 : IVec S16 32) : Prop :=
  (∀ a x, ((![v4096, v4097, v4242, v4245] : Fin 4 → IVec S16 32) a x).toNat < S2x4x32x32.size a)
theorem k0_idx1682_inb : ∀ (v4096 : IVec S16 32) (v4097 : IVec S16 32) (v4242 : IVec S16 32) (v4245 : IVec S16 32) (k0_hw1274 : k0_chk1274 v4096 v4097 v4242 v4245), ∀ a x, ((![v4096, v4097, v4242, v4245] : Fin 4 → IVec S16 32) a x).toNat < S2x4x32x32.size a := fun v4096 v4097 v4242 v4245 k0_hw1274 => k0_hw1274

def k0_chk1275 (v33 : IVec S16 32) (v35 : IVec S16 32) (v4096 : IVec S16 32) (v4097 : IVec S16 32) (v4247 : IVec S16 32) : Prop :=
  (∀ a x, ((![v4096, v4097, v4247, v33] : Fin 4 → IVec S16 32) a x).toNat < S2x4x94x96.size a) ∧
  (∀ a x, ((![v4096, v4097, v4247, v35] : Fin 4 → IVec S16 32) a x).toNat < S2x4x94x96.size a)
theorem k0_idx1683_inb : ∀ (v33 : IVec S16 32) (v35 : IVec S16 32) (v4096 : IVec S16 32) (v4097 : IVec S16 32) (v4247 : IVec S16 32) (k0_hw1275 : k0_chk1275 v33 v35 v4096 v4097 v4247), ∀ a x, ((![v4096, v4097, v4247, v33] : Fin 4 → IVec S16 32) a x).toNat < S2x4x94x96.size a := fun v33 v35 v4096 v4097 v4247 k0_hw1275 => k0_hw1275.1
theorem k0_idx1684_inb : ∀ (v33 : IVec S16 32) (v35 : IVec S16 32) (v4096 : IVec S16 32) (v4097 : IVec S16 32) (v4247 : IVec S16 32) (k0_hw1275 : k0_chk1275 v33 v35 v4096 v4097 v4247), ∀ a x, ((![v4096, v4097, v4247, v35] : Fin 4 → IVec S16 32) a x).toNat < S2x4x94x96.size a := fun v33 v35 v4096 v4097 v4247 k0_hw1275 => k0_hw1275.2

def k0_chk1276 (v30 : IVec S16 32) (v4096 : IVec S16 32) (v4097 : IVec S16 32) (v4248 : IVec S16 32) : Prop :=
  (∀ a x, ((![v4096, v4097, v4248, v30] : Fin 4 → IVec S16 32) a x).toNat < S2x4x32x32.size a)
theorem k0_idx1685_inb : ∀ (v30 : IVec S16 32) (v4096 : IVec S16 32) (v4097 : IVec S16 32) (v4248 : IVec S16 32) (k0_hw1276 : k0_chk1276 v30 v4096 v4097 v4248), ∀ a x, ((![v4096, v4097, v4248, v30] : Fin 4 → IVec S16 32) a x).toNat < S2x4x32x32.size a := fun v30 v4096 v4097 v4248 k0_hw1276 => k0_hw1276

def k0_chk1277 (v4096 : IVec S16 32) (v4097 : IVec S16 32) (v4248 : IVec S16 32) (v4251 : IVec S16 32) : Prop :=
  (∀ a x, ((![v4096, v4097, v4248, v4251] : Fin 4 → IVec S16 32) a x).toNat < S2x4x32x32.size a)
theorem k0_idx1686_inb : ∀ (v4096 : IVec S16 32) (v4097 : IVec S16 32) (v4248 : IVec S16 32) (v4251 : IVec S16 32) (k0_hw1277 : k0_chk1277 v4096 v4097 v4248 v4251), ∀ a x, ((![v4096, v4097, v4248, v4251] : Fin 4 → IVec S16 32) a x).toNat < S2x4x32x32.size a := fun v4096 v4097 v4248 v4251 k0_hw1277 => k0_hw1277

def k0_chk1278 (v33 : IVec S16 32) (v35 : IVec S16 32) (v4096 : IVec S16 32) (v4097 : IVec S16 32) (v4253 : IVec S16 32) : Prop :=
  (∀ a x, ((![v4096, v4097, v4253, v33] : Fin 4 → IVec S16 32) a x).toNat < S2x4x94x96.size a) ∧
  (∀ a x, ((![v4096, v4097, v4253, v35] : Fin 4 → IVec S16 32) a x).toNat < S2x4x94x96.size a)
theorem k0_idx1687_inb : ∀ (v33 : IVec S16 32) (v35 : IVec S16 32) (v4096 : IVec S16 32) (v4097 : IVec S16 32) (v4253 : IVec S16 32) (k0_hw1278 : k0_chk1278 v33 v35 v4096 v4097 v4253), ∀ a x, ((![v4096, v4097, v4253, v33] : Fin 4 → IVec S16 32) a x).toNat < S2x4x94x96.size a := fun v33 v35 v4096 v4097 v4253 k0_hw1278 => k0_hw1278.1
theorem k0_idx1688_inb : ∀ (v33 : IVec S16 32) (v35 : IVec S16 32) (v4096 : IVec S16 32) (v4097 : IVec S16 32) (v4253 : IVec S16 32) (k0_hw1278 : k0_chk1278 v33 v35 v4096 v4097 v4253), ∀ a x, ((![v4096, v4097, v4253, v35] : Fin 4 → IVec S16 32) a x).toNat < S2x4x94x96.size a := fun v33 v35 v4096 v4097 v4253 k0_hw1278 => k0_hw1278.2

def k0_chk1279 (v30 : IVec S16 32) (v4096 : IVec S16 32) (v4097 : IVec S16 32) (v4254 : IVec S16 32) : Prop :=
  (∀ a x, ((![v4096, v4097, v4254, v30] : Fin 4 → IVec S16 32) a x).toNat < S2x4x32x32.size a)
theorem k0_idx1689_inb : ∀ (v30 : IVec S16 32) (v4096 : IVec S16 32) (v4097 : IVec S16 32) (v4254 : IVec S16 32) (k0_hw1279 : k0_chk1279 v30 v4096 v4097 v4254), ∀ a x, ((![v4096, v4097, v4254, v30] : Fin 4 → IVec S16 32) a x).toNat < S2x4x32x32.size a := fun v30 v4096 v4097 v4254 k0_hw1279 => k0_hw1279

def k0_chk1280 (v4096 : IVec S16 32) (v4097 : IVec S16 32) (v4254 : IVec S16 32) (v4257 : IVec S16 32) : Prop :=
  (∀ a x, ((![v4096, v4097, v4254, v4257] : Fin 4 → IVec S16 32) a x).toNat < S2x4x32x32.size a)
theorem k0_idx1690_inb : ∀ (v4096 : IVec S16 32) (v4097 : IVec S16 32) (v4254 : IVec S16 32) (v4257 : IVec S16 32) (k0_hw1280 : k0_chk1280 v4096 v4097 v4254 v4257), ∀ a x, ((![v4096, v4097, v4254, v4257] : Fin 4 → IVec S16 32) a x).toNat < S2x4x32x32.size a := fun v4096 v4097 v4254 v4257 k0_hw1280 => k0_hw1280

def k0_chk1281 (v33 : IVec S16 32) (v35 : IVec S16 32) (v4096 : IVec S16 32) (v4097 : IVec S16 32) (v4259 : IVec S16 32) : Prop :=
  (∀ a x, ((![v4096, v4097, v4259, v33] : Fin 4 → IVec S16 32) a x).toNat < S2x4x94x96.size a) ∧
  (∀ a x, ((![v4096, v4097, v4259, v35] : Fin 4 → IVec S16 32) a x).toNat < S2x4x94x96.size a)
theorem k0_idx1691_inb : ∀ (v33 : IVec S16 32) (v35 : IVec S16 32) (v4096 : IVec S16 32) (v4097 : IVec S16 32) (v4259 : IVec S16 32) (k0_hw1281 : k0_chk1281 v33 v35 v4096 v4097 v4259), ∀ a x, ((![v4096, v4097, v4259, v33] : Fin 4 → IVec S16 32) a x).toNat < S2x4x94x96.size a := fun v33 v35 v4096 v4097 v4259 k0_hw1281 => k0_hw1281.1
theorem k0_idx1692_inb : ∀ (v33 : IVec S16 32) (v35 : IVec S16 32) (v4096 : IVec S16 32) (v4097 : IVec S16 32) (v4259 : IVec S16 32) (k0_hw1281 : k0_chk1281 v33 v35 v4096 v4097 v4259), ∀ a x, ((![v4096, v4097, v4259, v35] : Fin 4 → IVec S16 32) a x).toNat < S2x4x94x96.size a := fun v33 v35 v4096 v4097 v4259 k0_hw1281 => k0_hw1281.2

def k0_chk1282 (v30 : IVec S16 32) (v4096 : IVec S16 32) (v4097 : IVec S16 32) (v4260 : IVec S16 32) : Prop :=
  (∀ a x, ((![v4096, v4097, v4260, v30] : Fin 4 → IVec S16 32) a x).toNat < S2x4x32x32.size a)
theorem k0_idx1693_inb : ∀ (v30 : IVec S16 32) (v4096 : IVec S16 32) (v4097 : IVec S16 32) (v4260 : IVec S16 32) (k0_hw1282 : k0_chk1282 v30 v4096 v4097 v4260), ∀ a x, ((![v4096, v4097, v4260, v30] : Fin 4 → IVec S16 32) a x).toNat < S2x4x32x32.size a := fun v30 v4096 v4097 v4260 k0_hw1282 => k0_hw1282

def k0_chk1283 (v4096 : IVec S16 32) (v4097 : IVec S16 32) (v4260 : IVec S16 32) (v4263 : IVec S16 32) : Prop :=
  (∀ a x, ((![v4096, v4097, v4260, v4263] : Fin 4 → IVec S16 32) a x).toNat < S2x4x32x32.size a)
theorem k0_idx1694_inb : ∀ (v4096 : IVec S16 32) (v4097 : IVec S16 32) (v4260 : IVec S16 32) (v4263 : IVec S16 32) (k0_hw1283 : k0_chk1283 v4096 v4097 v4260 v4263), ∀ a x, ((![v4096, v4097, v4260, v4263] : Fin 4 → IVec S16 32) a x).toNat < S2x4x32x32.size a := fun v4096 v4097 v4260 v4263 k0_hw1283 => k0_hw1283

def k0_chk1284 (v33 : IVec S16 32) (v35 : IVec S16 32) (v4096 : IVec S16 32) (v4097 : IVec S16 32) (v4265 : IVec S16 32) : Prop :=
  (∀ a x, ((![v4096, v4097, v4265, v33] : Fin 4 → IVec S16 32) a x).toNat < S2x4x94x96.size a) ∧
  (∀ a x, ((![v4096, v4097, v4265, v35] : Fin 4 → IVec S16 32) a x).toNat < S2x4x94x96.size a)
theorem k0_idx1695_inb : ∀ (v33 : IVec S16 32) (v35 : IVec S16 32) (v4096 : IVec S16 32) (v4097 : IVec S16 32) (v4265 : IVec S16 32) (k0_hw1284 : k0_chk1284 v33 v35 v4096 v4097 v4265), ∀ a x, ((![v4096, v4097, v4265, v33] : Fin 4 → IVec S16 32) a x).toNat < S2x4x94x96.size a := fun v33 v35 v4096 v4097 v4265 k0_hw1284 => k0_hw1284.1
theorem k0_idx1696_inb : ∀ (v33 : IVec S16 32) (v35 : IVec S16 32) (v4096 : IVec S16 32) (v4097 : IVec S16 32) (v4265 : IVec S16 32) (k0_hw1284 : k0_chk1284 v33 v35 v4096 v4097 v4265), ∀ a x, ((![v4096, v4097, v4265, v35] : Fin 4 → IVec S16 32) a x).toNat < S2x4x94x96.size a := fun v33 v35 v4096 v4097 v4265 k0_hw1284 => k0_hw1284.2

def k0_chk1285 (v30 : IVec S16 32) (v4096 : IVec S16 32) (v4097 : IVec S16 32) (v4266 : IVec S16 32) : Prop :=
  (∀ a x, ((![v4096, v4097, v4266, v30] : Fin 4 → IVec S16 32) a x).toNat < S2x4x32x32.size a)
theorem k0_idx1697_inb : ∀ (v30 : IVec S16 32) (v4096 : IVec S16 32) (v4097 : IVec S16 32) (v4266 : IVec S16 32) (k0_hw1285 : k0_chk1285 v30 v4096 v4097 v4266), ∀ a x, ((![v4096, v4097, v4266, v30] : Fin 4 → IVec S16 32) a x).toNat < S2x4x32x32.size a := fun v30 v4096 v4097 v4266 k0_hw1285 => k0_hw1285

def k0_chk1286 (v4096 : IVec S16 32) (v4097 : IVec S16 32) (v4266 : IVec S16 32) (v4269 : IVec S16 32) : Prop :=
  (∀ a x, ((![v4096, v4097, v4266, v4269] : Fin 4 → IVec S16 32) a x).toNat < S2x4x32x32.size a)
theorem k0_idx1698_inb : ∀ (v4096 : IVec S16 32) (v4097 : IVec S16 32) (v4266 : IVec S16 32) (v4269 : IVec S16 32) (k0_hw1286 : k0_chk1286 v4096 v4097 v4266 v4269), ∀ a x, ((![v4096, v4097, v4266, v4269] : Fin 4 → IVec S16 32) a x).toNat < S2x4x32x32.size a := fun v4096 v4097 v4266 v4269 k0_hw1286 => k0_hw1286

def k0_chk1287 (v33 : IVec S16 32) (v35 : IVec S16 32) (v4096 : IVec S16 32) (v4097 : IVec S16 32) (v4271 : IVec S16 32) : Prop :=
  (∀ a x, ((![v4096, v4097, v4271, v33] : Fin 4 → IVec S16 32) a x).toNat < S2x4x94x96.size a) ∧
  (∀ a x, ((![v4096, v4097, v4271, v35] : Fin 4 → IVec S16 32) a x).toNat < S2x4x94x96.size a)
theorem k0_idx1699_inb : ∀ (v33 : IVec S16 32) (v35 : IVec S16 32) (v4096 : IVec S16 32) (v4097 : IVec S16 32) (v4271 : IVec S16 32) (k0_hw1287 : k0_chk1287 v33 v35 v4096 v4097 v4271), ∀ a x, ((![v4096, v4097, v4271, v33] : Fin 4 → IVec S16 32) a x).toNat < S2x4x94x96.size a := fun v33 v35 v4096 v4097 v4271 k0_hw1287 => k0_hw1287.1
theorem k0_idx1700_inb : ∀ (v33 : IVec S16 32) (v35 : IVec S16 32) (v4096 : IVec S16 32) (v4097 : IVec S16 32) (v4271 : IVec S16 32) (k0_hw1287 : k0_chk1287 v33 v35 v4096 v4097 v4271), ∀ a x, ((![v4096, v4097, v4271, v35] : Fin 4 → IVec S16 32) a x).toNat < S2x4x94x96.size a := fun v33 v35 v4096 v4097 v4271 k0_hw1287 => k0_hw1287.2

def k0_chk1288 (v30 : IVec S16 32) (v4096 : IVec S16 32) (v4097 : IVec S16 32) (v4272 : IVec S16 32) : Prop :=
  (∀ a x, ((![v4096, v4097, v4272, v30] : Fin 4 → IVec S16 32) a x).toNat < S2x4x32x32.size a)
theorem k0_idx1701_inb : ∀ (v30 : IVec S16 32) (v4096 : IVec S16 32) (v4097 : IVec S16 32) (v4272 : IVec S16 32) (k0_hw1288 : k0_chk1288 v30 v4096 v4097 v4272), ∀ a x, ((![v4096, v4097, v4272, v30] : Fin 4 → IVec S16 32) a x).toNat < S2x4x32x32.size a := fun v30 v4096 v4097 v4272 k0_hw1288 => k0_hw1288

def k0_chk1289 (v4096 : IVec S16 32) (v4097 : IVec S16 32) (v4272 : IVec S16 32) (v4275 : IVec S16 32) : Prop :=
  (∀ a x, ((![v4096, v4097, v4272, v4275] : Fin 4 → IVec S16 32) a x).toNat < S2x4x32x32.size a)
theorem k0_idx1702_inb : ∀ (v4096 : IVec S16 32) (v4097 : IVec S16 32) (v4272 : IVec S16 32) (v4275 : IVec S16 32) (k0_hw1289 : k0_chk1289 v4096 v4097 v4272 v4275), ∀ a x, ((![v4096, v4097, v4272, v4275] : Fin 4 → IVec S16 32) a x).toNat < S2x4x32x32.size a := fun v4096 v4097 v4272 v4275 k0_hw1289 => k0_hw1289

def k0_chk1290 (v33 : IVec S16 32) (v35 : IVec S16 32) (v4096 : IVec S16 32) (v4097 : IVec S16 32) (v4277 : IVec S16 32) : Prop :=
  (∀ a x, ((![v4096, v4097, v4277, v33] : Fin 4 → IVec S16 32) a x).toNat < S2x4x94x96.size a) ∧
  (∀ a x, ((![v4096, v4097, v4277, v35] : Fin 4 → IVec S16 32) a x).toNat < S2x4x94x96.size a)
theorem k0_idx1703_inb : ∀ (v33 : IVec S16 32) (v35 : IVec S16 32) (v4096 : IVec S16 32) (v4097 : IVec S16 32) (v4277 : IVec S16 32) (k0_hw1290 : k0_chk1290 v33 v35 v4096 v4097 v4277), ∀ a x, ((![v4096, v4097, v4277, v33] : Fin 4 → IVec S16 32) a x).toNat < S2x4x94x96.size a := fun v33 v35 v4096 v4097 v4277 k0_hw1290 => k0_hw1290.1
theorem k0_idx1704_inb : ∀ (v33 : IVec S16 32) (v35 : IVec S16 32) (v4096 : IVec S16 32) (v4097 : IVec S16 32) (v4277 : IVec S16 32) (k0_hw1290 : k0_chk1290 v33 v35 v4096 v4097 v4277), ∀ a x, ((![v4096, v4097, v4277, v35] : Fin 4 → IVec S16 32) a x).toNat < S2x4x94x96.size a := fun v33 v35 v4096 v4097 v4277 k0_hw1290 => k0_hw1290.2

def k0_chk1291 (v30 : IVec S16 32) (v4096 : IVec S16 32) (v4097 : IVec S16 32) (v4278 : IVec S16 32) : Prop :=
  (∀ a x, ((![v4096, v4097, v4278, v30] : Fin 4 → IVec S16 32) a x).toNat < S2x4x32x32.size a)
theorem k0_idx1705_inb : ∀ (v30 : IVec S16 32) (v4096 : IVec S16 32) (v4097 : IVec S16 32) (v4278 : IVec S16 32) (k0_hw1291 : k0_chk1291 v30 v4096 v4097 v4278), ∀ a x, ((![v4096, v4097, v4278, v30] : Fin 4 → IVec S16 32) a x).toNat < S2x4x32x32.size a := fun v30 v4096 v4097 v4278 k0_hw1291 => k0_hw1291

def k0_chk1292 (v4096 : IVec S16 32) (v4097 : IVec S16 32) (v4278 : IVec S16 32) (v4281 : IVec S16 32) : Prop :=
  (∀ a x, ((![v4096, v4097, v4278, v4281] : Fin 4 → IVec S16 32) a x).toNat < S2x4x32x32.size a)
theorem k0_idx1706_inb : ∀ (v4096 : IVec S16 32) (v4097 : IVec S16 32) (v4278 : IVec S16 32) (v4281 : IVec S16 32) (k0_hw1292 : k0_chk1292 v4096 v4097 v4278 v4281), ∀ a x, ((![v4096, v4097, v4278, v4281] : Fin 4 → IVec S16 32) a x).toNat < S2x4x32x32.size a := fun v4096 v4097 v4278 v4281 k0_hw1292 => k0_hw1292

def k0_chk1293 (v33 : IVec S16 32) (v35 : IVec S16 32) (v4096 : IVec S16 32) (v4097 : IVec S16 32) (v4283 : IVec S16 32) : Prop :=
  (∀ a x, ((![v4096, v4097, v4283, v33] : Fin 4 → IVec S16 32) a x).toNat < S2x4x94x96.size a) ∧
  (∀ a x, ((![v4096, v4097, v4283, v35] : Fin 4 → IVec S16 32) a x).toNat < S2x4x94x96.size a)
theorem k0_idx1707_inb : ∀ (v33 : IVec S16 32) (v35 : IVec S16 32) (v4096 : IVec S16 32) (v4097 : IVec S16 32) (v4283 : IVec S16 32) (k0_hw1293 : k0_chk1293 v33 v35 v4096 v4097 v4283), ∀ a x, ((![v4096, v4097, v4283, v33] : Fin 4 → IVec S16 32) a x).toNat < S2x4x94x96.size a := fun v33 v35 v4096 v4097 v4283 k0_hw1293 => k0_hw1293.1
theorem k0_idx1708_inb : ∀ (v33 : IVec S16 32) (v35 : IVec S16 32) (v4096 : IVec S16 32) (v4097 : IVec S16 32) (v4283 : IVec S16 32) (k0_hw1293 : k0_chk1293 v33 v35 v4096 v4097 v4283), ∀ a x, ((![v4096, v4097, v4283, v35] : Fin 4 → IVec S16 32) a x).toNat < S2x4x94x96.size a := fun v33 v35 v4096 v4097 v4283 k0_hw1293 => k0_hw1293.2

def k0_chk1294 (v30 : IVec S16 32) (v4096 : IVec S16 32) (v4097 : IVec S16 32) (v4284 : IVec S16 32) : Prop :=
  (∀ a x, ((![v4096, v4097, v4284, v30] : Fin 4 → IVec S16 32) a x).toNat < S2x4x32x32.size a)
theorem k0_idx1709_inb : ∀ (v30 : IVec S16 32) (v4096 : IVec S16 32) (v4097 : IVec S16 32) (v4284 : IVec S16 32) (k0_hw1294 : k0_chk1294 v30 v4096 v4097 v4284), ∀ a x, ((![v4096, v4097, v4284, v30] : Fin 4 → IVec S16 32) a x).toNat < S2x4x32x32.size a := fun v30 v4096 v4097 v4284 k0_hw1294 => k0_hw1294

def k0_chk1295 (v4096 : IVec S16 32) (v4097 : IVec S16 32) (v4284 : IVec S16 32) (v4287 : IVec S16 32) : Prop :=
  (∀ a x, ((![v4096, v4097, v4284, v4287] : Fin 4 → IVec S16 32) a x).toNat < S2x4x32x32.size a)
theorem k0_idx1710_inb : ∀ (v4096 : IVec S16 32) (v4097 : IVec S16 32) (v4284 : IVec S16 32) (v4287 : IVec S16 32) (k0_hw1295 : k0_chk1295 v4096 v4097 v4284 v4287), ∀ a x, ((![v4096, v4097, v4284, v4287] : Fin 4 → IVec S16 32) a x).toNat < S2x4x32x32.size a := fun v4096 v4097 v4284 v4287 k0_hw1295 => k0_hw1295

def k0_chk1296 (v33 : IVec S16 32) (v35 : IVec S16 32) (v4096 : IVec S16 32) (v4097 : IVec S16 32) (v4289 : IVec S16 32) : Prop :=
  (∀ a x, ((![v4096, v4097, v4289, v33] : Fin 4 → IVec S16 32) a x).toNat < S2x4x94x96.size a) ∧
  (∀ a x, ((![v4096, v4097, v4289, v35] : Fin 4 → IVec S16 32) a x).toNat < S2x4x94x96.size a)
theorem k0_idx1711_inb : ∀ (v33 : IVec S16 32) (v35 : IVec S16 32) (v4096 : IVec S16 32) (v4097 : IVec S16 32) (v4289 : IVec S16 32) (k0_hw1296 : k0_chk1296 v33 v35 v4096 v4097 v4289), ∀ a x, ((![v4096, v4097, v4289, v33] : Fin 4 → IVec S16 32) a x).toNat < S2x4x94x96.size a := fun v33 v35 v4096 v4097 v4289 k0_hw1296 => k0_hw1296.1
theorem k0_idx1712_inb : ∀ (v33 : IVec S16 32) (v35 : IVec S16 32) (v4096 : IVec S16 32) (v4097 : IVec S16 32) (v4289 : IVec S16 32) (k0_hw1296 : k0_chk1296 v33 v35 v4096 v4097 v4289), ∀ a x, ((![v4096, v4097, v4289, v35] : Fin 4 → IVec S16 32) a x).toNat < S2x4x94x96.size a := fun v33 v35 v4096 v4097 v4289 k0_hw1296 => k0_hw1296.2

def k0_chk1297 (v30 : IVec S16 32) (v4096 : IVec S16 32) (v4290 : IVec S16 32) (v4291 : IVec S16 32) : Prop :=
  (∀ a x, ((![v4096, v4290, v4291, v30] : Fin 4 → IVec S16 32) a x).toNat < S2x4x32x32.size a)
theorem k0_idx1713_inb : ∀ (v30 : IVec S16 32) (v4096 : IVec S16 32) (v4290 : IVec S16 32) (v4291 : IVec S16 32) (k0_hw1297 : k0_chk1297 v30 v4096 v4290 v4291), ∀ a x, ((![v4096, v4290, v4291, v30] : Fin 4 → IVec S16 32) a x).toNat < S2x4x32x32.size a := fun v30 v4096 v4290 v4291 k0_hw1297 => k0_hw1297

def k0_chk1298 (v4096 : IVec S16 32) (v4290 : IVec S16 32) (v4291 : IVec S16 32) (v4294 : IVec S16 32) : Prop :=
  (∀ a x, ((![v4096, v4290, v4291, v4294] : Fin 4 → IVec S16 32) a x).toNat < S2x4x32x32.size a)
theorem k0_idx1714_inb : ∀ (v4096 : IVec S16 32) (v4290 : IVec S16 32) (v4291 : IVec S16 32) (v4294 : IVec S16 32) (k0_hw1298 : k0_chk1298 v4096 v4290 v4291 v4294), ∀ a x, ((![v4096, v4290, v4291, v4294] : Fin 4 → IVec S16 32) a x).toNat < S2x4x32x32.size a := fun v4096 v4290 v4291 v4294 k0_hw1298 => k0_hw1298

def k0_chk1299 (v33 : IVec S16 32) (v35 : IVec S16 32) (v4096 : IVec S16 32) (v4290 : IVec S16 32) (v4296 : IVec S16 32) : Prop :=
  (∀ a x, ((![v4096, v4290, v4296, v33] : Fin 4 → IVec S16 32) a x).toNat < S2x4x94x96.size a) ∧
  (∀ a x, ((![v4096, v4290, v4296, v35] : Fin 4 → IVec S16 32) a x).toNat < S2x4x94x96.size a)
theorem k0_idx1715_inb : ∀ (v33 : IVec S16 32) (v35 : IVec S16 32) (v4096 : IVec S16 32) (v4290 : IVec S16 32) (v4296 : IVec S16 32) (k0_hw1299 : k0_chk1299 v33 v35 v4096 v4290 v4296), ∀ a x, ((![v4096, v4290, v4296, v33] : Fin 4 → IVec S16 32) a x).toNat < S2x4x94x96.size a := fun v33 v35 v4096 v4290 v4296 k0_hw1299 => k0_hw1299.1
theorem k0_idx1716_inb : ∀ (v33 : IVec S16 32) (v35 : IVec S16 32) (v4096 : IVec S16 32) (v4290 : IVec S16 32) (v4296 : IVec S16 32) (k0_hw1299 : k0_chk1299 v33 v35 v4096 v4290 v4296), ∀ a x, ((![v4096, v4290, v4296, v35] : Fin 4 → IVec S16 32) a x).toNat < S2x4x94x96.size a := fun v33 v35 v4096 v4290 v4296 k0_hw1299 => k0_hw1299.2

def k0_chk1300 (v30 : IVec S16 32) (v4096 : IVec S16 32) (v4290 : IVec S16 32) (v4297 : IVec S16 32) : Prop :=
  (∀ a x, ((![v4096, v4290, v4297, v30] : Fin 4 → IVec S16 32) a x).toNat < S2x4x32x32.size a)
theorem k0_idx1717_inb : ∀ (v30 : IVec S16 32) (v4096 : IVec S16 32) (v4290 : IVec S16 32) (v4297 : IVec S16 32) (k0_hw1300 : k0_chk1300 v30 v4096 v4290 v4297), ∀ a x, ((![v4096, v4290, v4297, v30] : Fin 4 → IVec S16 32) a x).toNat < S2x4x32x32.size a := fun v30 v4096 v4290 v4297 k0_hw1300 => k0_hw1300

def k0_chk1301 (v4096 : IVec S16 32) (v4290 : IVec S16 32) (v4297 : IVec S16 32) (v4300 : IVec S16 32) : Prop :=
  (∀ a x, ((![v4096, v4290, v4297, v4300] : Fin 4 → IVec S16 32) a x).toNat < S2x4x32x32.size a)
theorem k0_idx1718_inb : ∀ (v4096 : IVec S16 32) (v4290 : IVec S16 32) (v4297 : IVec S16 32) (v4300 : IVec S16 32) (k0_hw1301 : k0_chk1301 v4096 v4290 v4297 v4300), ∀ a x, ((![v4096, v4290, v4297, v4300] : Fin 4 → IVec S16 32) a x).toNat < S2x4x32x32.size a := fun v4096 v4290 v4297 v4300 k0_hw1301 => k0_hw1301

def k0_chk1302 (v33 : IVec S16 32) (v35 : IVec S16 32) (v4096 : IVec S16 32) (v4290 : IVec S16 32) (v4302 : IVec S16 32) : Prop :=
  (∀ a x, ((![v4096, v4290, v4302, v33] : Fin 4 → IVec S16 32) a x).toNat < S2x4x94x96.size a) ∧
  (∀ a x, ((![v4096, v4290, v4302, v35] : Fin 4 → IVec S16 32) a x).toNat < S2x4x94x96.size a)
theorem k0_idx1719_inb : ∀ (v33 : IVec S16 32) (v35 : IVec S16 32) (v4096 : IVec S16 32) (v4290 : IVec S16 32) (v4302 : IVec S16 32) (k0_hw1302 : k0_chk1302 v33 v35 v4096 v4290 v4302), ∀ a x, ((![v4096, v4290, v4302, v33] : Fin 4 → IVec S16 32) a x).toNat < S2x4x94x96.size a := fun v33 v35 v4096 v4290 v4302 k0_hw1302 => k0_hw1302.1
theorem k0_idx1720_inb : ∀ (v33 : IVec S16 32) (v35 : IVec S16 32) (v4096 : IVec S16 32) (v4290 : IVec S16 32) (v4302 : IVec S16 32) (k0_hw1302 : k0_chk1302 v33 v35 v4096 v4290 v4302), ∀ a x, ((![v4096, v4290, v4302, v35] : Fin 4 → IVec S16 32) a x).toNat < S2x4x94x96.size a := fun v33 v35 v4096 v4290 v4302 k0_hw1302 => k0_hw1302.2

def k0_chk1303 (v30 : IVec S16 32) (v4096 : IVec S16 32) (v4290 : IVec S16 32) (v4303 : IVec S16 32) : Prop :=
  (∀ a x, ((![v4096, v4290, v4303, v30] : Fin 4 → IVec S16 32) a x).toNat < S2x4x32x32.size a)
theorem k0_idx1721_inb : ∀ (v30 : IVec S16 32) (v4096 : IVec S16 32) (v4290 : IVec S16 32) (v4303 : IVec S16 32) (k0_hw1303 : k0_chk1303 v30 v4096 v4290 v4303), ∀ a x, ((![v4096, v4290, v4303, v30] : Fin 4 → IVec S16 32) a x).toNat < S2x4x32x32.size a := fun v30 v4096 v4290 v4303 k0_hw1303 => k0_hw1303

def k0_chk1304 (v4096 : IVec S16 32) (v4290 : IVec S16 32) (v4303 : IVec S16 32) (v4306 : IVec S16 32) : Prop :=
  (∀ a x, ((![v4096, v4290, v4303, v4306] : Fin 4 → IVec S16 32) a x).toNat < S2x4x32x32.size a)
theorem k0_idx1722_inb : ∀ (v4096 : IVec S16 32) (v4290 : IVec S16 32) (v4303 : IVec S16 32) (v4306 : IVec S16 32) (k0_hw1304 : k0_chk1304 v4096 v4290 v4303 v4306), ∀ a x, ((![v4096, v4290, v4303, v4306] : Fin 4 → IVec S16 32) a x).toNat < S2x4x32x32.size a := fun v4096 v4290 v4303 v4306 k0_hw1304 => k0_hw1304

def k0_chk1305 (v33 : IVec S16 32) (v35 : IVec S16 32) (v4096 : IVec S16 32) (v4290 : IVec S16 32) (v4308 : IVec S16 32) : Prop :=
  (∀ a x, ((![v4096, v4290, v4308, v33] : Fin 4 → IVec S16 32) a x).toNat < S2x4x94x96.size a) ∧
  (∀ a x, ((![v4096, v4290, v4308, v35] : Fin 4 → IVec S16 32) a x).toNat < S2x4x94x96.size a)
theorem k0_idx1723_inb : ∀ (v33 : IVec S16 32) (v35 : IVec S16 32) (v4096 : IVec S16 32) (v4290 : IVec S16 32) (v4308 : IVec S16 32) (k0_hw1305 : k0_chk1305 v33 v35 v4096 v4290 v4308), ∀ a x, ((![v4096, v4290, v4308, v33] : Fin 4 → IVec S16 32) a x).toNat < S2x4x94x96.size a := fun v33 v35 v4096 v4290 v4308 k0_hw1305 => k0_hw1305.1
theorem k0_idx1724_inb : ∀ (v33 : IVec S16 32) (v35 : IVec S16 32) (v4096 : IVec S16 32) (v4290 : IVec S16 32) (v4308 : IVec S16 32) (k0_hw1305 : k0_chk1305 v33 v35 v4096 v4290 v4308), ∀ a x, ((![v4096, v4290, v4308, v35] : Fin 4 → IVec S16 32) a x).toNat < S2x4x94x96.size a := fun v33 v35 v4096 v4290 v4308 k0_hw1305 => k0_hw1305.2

def k0_chk1306 (v30 : IVec S16 32) (v4096 : IVec S16 32) (v4290 : IVec S16 32) (v4309 : IVec S16 32) : Prop :=
  (∀ a x, ((![v4096, v4290, v4309, v30] : Fin 4 → IVec S16 32) a x).toNat < S2x4x32x32.size a)
theorem k0_idx1725_inb : ∀ (v30 : IVec S16 32) (v4096 : IVec S16 32) (v4290 : IVec S16 32) (v4309 : IVec S16 32) (k0_hw1306 : k0_chk1306 v30 v4096 v4290 v4309), ∀ a x, ((![v4096, v4290, v4309, v30] : Fin 4 → IVec S16 32) a x).toNat < S2x4x32x32.size a := fun v30 v4096 v4290 v4309 k0_hw1306 => k0_hw1306

def k0_chk1307 (v4096 : IVec S16 32) (v4290 : IVec S16 32) (v4309 : IVec S16 32) (v4312 : IVec S16 32) : Prop :=
  (∀ a x, ((![v4096, v4290, v4309, v4312] : Fin 4 → IVec S16 32) a x).toNat < S2x4x32x32.size a)
theorem k0_idx1726_inb : ∀ (v4096 : IVec S16 32) (v4290 : IVec S16 32) (v4309 : IVec S16 32) (v4312 : IVec S16 32) (k0_hw1307 : k0_chk1307 v4096 v4290 v4309 v4312), ∀ a x, ((![v4096, v4290, v4309, v4312] : Fin 4 → IVec S16 32) a x).toNat < S2x4x32x32.size a := fun v4096 v4290 v4309 v4312 k0_hw1307 => k0_hw1307

def k0_chk1308 (v33 : IVec S16 32) (v35 : IVec S16 32) (v4096 : IVec S16 32) (v4290 : IVec S16 32) (v4314 : IVec S16 32) : Prop :=
  (∀ a x, ((![v4096, v4290, v4314, v33] : Fin 4 → IVec S16 32) a x).toNat < S2x4x94x96.size a) ∧
  (∀ a x, ((![v4096, v4290, v4314, v35] : Fin 4 → IVec S16 32) a x).toNat < S2x4x94x96.size a)
theorem k0_idx1727_inb : ∀ (v33 : IVec S16 32) (v35 : IVec S16 32) (v4096 : IVec S16 32) (v4290 : IVec S16 32) (v4314 : IVec S16 32) (k0_hw1308 : k0_chk1308 v33 v35 v4096 v4290 v4314), ∀ a x, ((![v4096, v4290, v4314, v33] : Fin 4 → IVec S16 32) a x).toNat < S2x4x94x96.size a := fun v33 v35 v4096 v4290 v4314 k0_hw1308 => k0_hw1308.1
theorem k0_idx1728_inb : ∀ (v33 : IVec S16 32) (v35 : IVec S16 32) (v4096 : IVec S16 32) (v4290 : IVec S16 32) (v4314 : IVec S16 32) (k0_hw1308 : k0_chk1308 v33 v35 v4096 v4290 v4314), ∀ a x, ((![v4096, v4290, v4314, v35] : Fin 4 → IVec S16 32) a x).toNat < S2x4x94x96.size a := fun v33 v35 v4096 v4290 v4314 k0_hw1308 => k0_hw1308.2

def k0_chk1309 (v30 : IVec S16 32) (v4096 : IVec S16 32) (v4290 : IVec S16 32) (v4315 : IVec S16 32) : Prop :=
  (∀ a x, ((![v4096, v4290, v4315, v30] : Fin 4 → IVec S16 32) a x).toNat < S2x4x32x32.size a)
theorem k0_idx1729_inb : ∀ (v30 : IVec S16 32) (v4096 : IVec S16 32) (v4290 : IVec S16 32) (v4315 : IVec S16 32) (k0_hw1309 : k0_chk1309 v30 v4096 v4290 v4315), ∀ a x, ((![v4096, v4290, v4315, v30] : Fin 4 → IVec S16 32) a x).toNat < S2x4x32x32.size a := fun v30 v4096 v4290 v4315 k0_hw1309 => k0_hw1309

def k0_chk1310 (v4096 : IVec S16 32) (v4290 : IVec S16 32) (v4315 : IVec S16 32) (v4318 : IVec S16 32) : Prop :=
  (∀ a x, ((![v4096, v4290, v4315, v4318] : Fin 4 → IVec S16 32) a x).toNat < S2x4x32x32.size a)
theorem k0_idx1730_inb : ∀ (v4096 : IVec S16 32) (v4290 : IVec S16 32) (v4315 : IVec S16 32) (v4318 : IVec S16 32) (k0_hw1310 : k0_chk1310 v4096 v4290 v4315 v4318), ∀ a x, ((![v4096, v4290, v4315, v4318] : Fin 4 → IVec S16 32) a x).toNat < S2x4x32x32.size a := fun v4096 v4290 v4315 v4318 k0_hw1310 => k0_hw1310

def k0_chk1311 (v33 : IVec S16 32) (v35 : IVec S16 32) (v4096 : IVec S16 32) (v4290 : IVec S16 32) (v4320 : IVec S16 32) : Prop :=
  (∀ a x, ((![v4096, v4290, v4320, v33] : Fin 4 → IVec S16 32) a x).toNat < S2x4x94x96.size a) ∧
  (∀ a x, ((![v4096, v4290, v4320, v35] : Fin 4 → IVec S16 32) a x).toNat < S2x4x94x96.size a)
theorem k0_idx1731_inb : ∀ (v33 : IVec S16 32) (v35 : IVec S16 32) (v4096 : IVec S16 32) (v4290 : IVec S16 32) (v4320 : IVec S16 32) (k0_hw1311 : k0_chk1311 v33 v35 v4096 v4290 v4320), ∀ a x, ((![v4096, v4290, v4320, v33] : Fin 4 → IVec S16 32) a x).toNat < S2x4x94x96.size a := fun v33 v35 v4096 v4290 v4320 k0_hw1311 => k0_hw1311.1
theorem k0_idx1732_inb : ∀ (v33 : IVec S16 32) (v35 : IVec S16 32) (v4096 : IVec S16 32) (v4290 : IVec S16 32) (v4320 : IVec S16 32) (k0_hw1311 : k0_chk1311 v33 v35 v4096 v4290 v4320), ∀ a x, ((![v4096, v4290, v4320, v35] : Fin 4 → IVec S16 32) a x).toNat < S2x4x94x96.size a := fun v33 v35 v4096 v4290 v4320 k0_hw1311 => k0_hw1311.2

def k0_chk1312 (v30 : IVec S16 32) (v4096 : IVec S16 32) (v4290 : IVec S16 32) (v4321 : IVec S16 32) : Prop :=
  (∀ a x, ((![v4096, v4290, v4321, v30] : Fin 4 → IVec S16 32) a x).toNat < S2x4x32x32.size a)
theorem k0_idx1733_inb : ∀ (v30 : IVec S16 32) (v4096 : IVec S16 32) (v4290 : IVec S16 32) (v4321 : IVec S16 32) (k0_hw1312 : k0_chk1312 v30 v4096 v4290 v4321), ∀ a x, ((![v4096, v4290, v4321, v30] : Fin 4 → IVec S16 32) a x).toNat < S2x4x32x32.size a := fun v30 v4096 v4290 v4321 k0_hw1312 => k0_hw1312

def k0_chk1313 (v4096 : IVec S16 32) (v4290 : IVec S16 32) (v4321 : IVec S16 32) (v4324 : IVec S16 32) : Prop :=
  (∀ a x, ((![v4096, v4290, v4321, v4324] : Fin 4 → IVec S16 32) a x).toNat < S2x4x32x32.size a)
theorem k0_idx1734_inb : ∀ (v4096 : IVec S16 32) (v4290 : IVec S16 32) (v4321 : IVec S16 32) (v4324 : IVec S16 32) (k0_hw1313 : k0_chk1313 v4096 v4290 v4321 v4324), ∀ a x, ((![v4096, v4290, v4321, v4324] : Fin 4 → IVec S16 32) a x).toNat < S2x4x32x32.size a := fun v4096 v4290 v4321 v4324 k0_hw1313 => k0_hw1313

def k0_chk1314 (v33 : IVec S16 32) (v35 : IVec S16 32) (v4096 : IVec S16 32) (v4290 : IVec S16 32) (v4326 : IVec S16 32) : Prop :=
  (∀ a x, ((![v4096, v4290, v4326, v33] : Fin 4 → IVec S16 32) a x).toNat < S2x4x94x96.size a) ∧
  (∀ a x, ((![v4096, v4290, v4326, v35] : Fin 4 → IVec S16 32) a x).toNat < S2x4x94x96.size a)
theorem k0_idx1735_inb : ∀ (v33 : IVec S16 32) (v35 : IVec S16 32) (v4096 : IVec S16 32) (v4290 : IVec S16 32) (v4326 : IVec S16 32) (k0_hw1314 : k0_chk1314 v33 v35 v4096 v4290 v4326), ∀ a x, ((![v4096, v4290, v4326, v33] : Fin 4 → IVec S16 32) a x).toNat < S2x4x94x96.size a := fun v33 v35 v4096 v4290 v4326 k0_hw1314 => k0_hw1314.1
theorem k0_idx1736_inb : ∀ (v33 : IVec S16 32) (v35 : IVec S16 32) (v4096 : IVec S16 32) (v4290 : IVec S16 32) (v4326 : IVec S16 32) (k0_hw1314 : k0_chk1314 v33 v35 v4096 v4290 v4326), ∀ a x, ((![v4096, v4290, v4326, v35] : Fin 4 → IVec S16 32) a x).toNat < S2x4x94x96.size a := fun v33 v35 v4096 v4290 v4326 k0_hw1314 => k0_hw1314.2

def k0_chk1315 (v30 : IVec S16 32) (v4096 : IVec S16 32) (v4290 : IVec S16 32) (v4327 : IVec S16 32) : Prop :=
  (∀ a x, ((![v4096, v4290, v4327, v30] : Fin 4 → IVec S16 32) a x).toNat < S2x4x32x32.size a)
theorem k0_idx1737_inb : ∀ (v30 : IVec S16 32) (v4096 : IVec S16 32) (v4290 : IVec S16 32) (v4327 : IVec S16 32) (k0_hw1315 : k0_chk1315 v30 v4096 v4290 v4327), ∀ a x, ((![v4096, v4290, v4327, v30] : Fin 4 → IVec S16 32) a x).toNat < S2x4x32x32.size a := fun v30 v4096 v4290 v4327 k0_hw1315 => k0_hw1315

def k0_chk1316 (v4096 : IVec S16 32) (v4290 : IVec S16 32) (v4327 : IVec S16 32) (v4330 : IVec S16 32) : Prop :=
  (∀ a x, ((![v4096, v4290, v4327, v4330] : Fin 4 → IVec S16 32) a x).toNat < S2x4x32x32.size a)
theorem k0_idx1738_inb : ∀ (v4096 : IVec S16 32) (v4290 : IVec S16 32) (v4327 : IVec S16 32) (v4330 : IVec S16 32) (k0_hw1316 : k0_chk1316 v4096 v4290 v4327 v4330), ∀ a x, ((![v4096, v4290, v4327, v4330] : Fin 4 → IVec S16 32) a x).toNat < S2x4x32x32.size a := fun v4096 v4290 v4327 v4330 k0_hw1316 => k0_hw1316

def k0_chk1317 (v33 : IVec S16 32) (v35 : IVec S16 32) (v4096 : IVec S16 32) (v4290 : IVec S16 32) (v4332 : IVec S16 32) : Prop :=
  (∀ a x, ((![v4096, v4290, v4332, v33] : Fin 4 → IVec S16 32) a x).toNat < S2x4x94x96.size a) ∧
  (∀ a x, ((![v4096, v4290, v4332, v35] : Fin 4 → IVec S16 32) a x).toNat < S2x4x94x96.size a)
theorem k0_idx1739_inb : ∀ (v33 : IVec S16 32) (v35 : IVec S16 32) (v4096 : IVec S16 32) (v4290 : IVec S16 32) (v4332 : IVec S16 32) (k0_hw1317 : k0_chk1317 v33 v35 v4096 v4290 v4332), ∀ a x, ((![v4096, v4290, v4332, v33] : Fin 4 → IVec S16 32) a x).toNat < S2x4x94x96.size a := fun v33 v35 v4096 v4290 v4332 k0_hw1317 => k0_hw1317.1
theorem k0_idx1740_inb : ∀ (v33 : IVec S16 32) (v35 : IVec S16 32) (v4096 : IVec S16 32) (v4290 : IVec S16 32) (v4332 : IVec S16 32) (k0_hw1317 : k0_chk1317 v33 v35 v4096 v4290 v4332), ∀ a x, ((![v4096, v4290, v4332, v35] : Fin 4 → IVec S16 32) a x).toNat < S2x4x94x96.size a := fun v33 v35 v4096 v4290 v4332 k0_hw1317 => k0_hw1317.2

def k0_chk1318 (v30 : IVec S16 32) (v4096 : IVec S16 32) (v4290 : IVec S16 32) (v4333 : IVec S16 32) : Prop :=
  (∀ a x, ((![v4096, v4290, v4333, v30] : Fin 4 → IVec S16 32) a x).toNat < S2x4x32x32.size a)
theorem k0_idx1741_inb : ∀ (v30 : IVec S16 32) (v4096 : IVec S16 32) (v4290 : IVec S16 32) (v4333 : IVec S16 32) (k0_hw1318 : k0_chk1318 v30 v4096 v4290 v4333), ∀ a x, ((![v4096, v4290, v4333, v30] : Fin 4 → IVec S16 32) a x).toNat < S2x4x32x32.size a := fun v30 v4096 v4290 v4333 k0_hw1318 => k0_hw1318

def k0_chk1319 (v4096 : IVec S16 32) (v4290 : IVec S16 32) (v4333 : IVec S16 32) (v4336 : IVec S16 32) : Prop :=
  (∀ a x, ((![v4096, v4290, v4333, v4336] : Fin 4 → IVec S16 32) a x).toNat < S2x4x32x32.size a)
theorem k0_idx1742_inb : ∀ (v4096 : IVec S16 32) (v4290 : IVec S16 32) (v4333 : IVec S16 32) (v4336 : IVec S16 32) (k0_hw1319 : k0_chk1319 v4096 v4290 v4333 v4336), ∀ a x, ((![v4096, v4290, v4333, v4336] : Fin 4 → IVec S16 32) a x).toNat < S2x4x32x32.size a := fun v4096 v4290 v4333 v4336 k0_hw1319 => k0_hw1319

def k0_chk1320 (v33 : IVec S16 32) (v35 : IVec S16 32) (v4096 : IVec S16 32) (v4290 : IVec S16 32) (v4338 : IVec S16 32) : Prop :=
  (∀ a x, ((![v4096, v4290, v4338, v33] : Fin 4 → IVec S16 32) a x).toNat < S2x4x94x96.size a) ∧
  (∀ a x, ((![v4096, v4290, v4338, v35] : Fin 4 → IVec S16 32) a x).toNat < S2x4x94x96.size a)
theorem k0_idx1743_inb : ∀ (v33 : IVec S16 32) (v35 : IVec S16 32) (v4096 : IVec S16 32) (v4290 : IVec S16 32) (v4338 : IVec S16 32) (k0_hw1320 : k0_chk1320 v33 v35 v4096 v4290 v4338), ∀ a x, ((![v4096, v4290, v4338, v33] : Fin 4 → IVec S16 32) a x).toNat < S2x4x94x96.size a := fun v33 v35 v4096 v4290 v4338 k0_hw1320 => k0_hw1320.1
theorem k0_idx1744_inb : ∀ (v33 : IVec S16 32) (v35 : IVec S16 32) (v4096 : IVec S16 32) (v4290 : IVec S16 32) (v4338 : IVec S16 32) (k0_hw1320 : k0_chk1320 v33 v35 v4096 v4290 v4338), ∀ a x, ((![v4096, v4290, v4338, v35] : Fin 4 → IVec S16 32) a x).toNat < S2x4x94x96.size a := fun v33 v35 v4096 v4290 v4338 k0_hw1320 => k0_hw1320.2

def k0_chk1321 (v30 : IVec S16 32) (v4096 : IVec S16 32) (v4290 : IVec S16 32) (v4339 : IVec S16 32) : Prop :=
  (∀ a x, ((![v4096, v4290, v4339, v30] : Fin 4 → IVec S16 32) a x).toNat < S2x4x32x32.size a)
theorem k0_idx1745_inb : ∀ (v30 : IVec S16 32) (v4096 : IVec S16 32) (v4290 : IVec S16 32) (v4339 : IVec S16 32) (k0_hw1321 : k0_chk1321 v30 v4096 v4290 v4339), ∀ a x, ((![v4096, v4290, v4339, v30] : Fin 4 → IVec S16 32) a x).toNat < S2x4x32x32.size a := fun v30 v4096 v4290 v4339 k0_hw1321 => k0_hw1321

def k0_chk1322 (v4096 : IVec S16 32) (v4290 : IVec S16 32) (v4339 : IVec S16 32) (v4342 : IVec S16 32) : Prop :=
  (∀ a x, ((![v4096, v4290, v4339, v4342] : Fin 4 → IVec S16 32) a x).toNat < S2x4x32x32.size a)
theorem k0_idx1746_inb : ∀ (v4096 : IVec S16 32) (v4290 : IVec S16 32) (v4339 : IVec S16 32) (v4342 : IVec S16 32) (k0_hw1322 : k0_chk1322 v4096 v4290 v4339 v4342), ∀ a x, ((![v4096, v4290, v4339, v4342] : Fin 4 → IVec S16 32) a x).toNat < S2x4x32x32.size a := fun v4096 v4290 v4339 v4342 k0_hw1322 => k0_hw1322

def k0_chk1323 (v33 : IVec S16 32) (v35 : IVec S16 32) (v4096 : IVec S16 32) (v4290 : IVec S16 32) (v4344 : IVec S16 32) : Prop :=
  (∀ a x, ((![v4096, v4290, v4344, v33] : Fin 4 → IVec S16 32) a x).toNat < S2x4x94x96.size a) ∧
  (∀ a x, ((![v4096, v4290, v4344, v35] : Fin 4 → IVec S16 32) a x).toNat < S2x4x94x96.size a)
theorem k0_idx1747_inb : ∀ (v33 : IVec S16 32) (v35 : IVec S16 32) (v4096 : IVec S16 32) (v4290 : IVec S16 32) (v4344 : IVec S16 32) (k0_hw1323 : k0_chk1323 v33 v35 v4096 v4290 v4344), ∀ a x, ((![v4096, v4290, v4344, v33] : Fin 4 → IVec S16 32) a x).toNat < S2x4x94x96.size a := fun v33 v35 v4096 v4290 v4344 k0_hw1323 => k0_hw1323.1
theorem k0_idx1748_inb : ∀ (v33 : IVec S16 32) (v35 : IVec S16 32) (v4096 : IVec S16 32) (v4290 : IVec S16 32) (v4344 : IVec S16 32) (k0_hw1323 : k0_chk1323 v33 v35 v4096 v4290 v4344), ∀ a x, ((![v4096, v4290, v4344, v35] : Fin 4 → IVec S16 32) a x).toNat < S2x4x94x96.size a := fun v33 v35 v4096 v4290 v4344 k0_hw1323 => k0_hw1323.2

def k0_chk1324 (v30 : IVec S16 32) (v4096 : IVec S16 32) (v4290 : IVec S16 32) (v4345 : IVec S16 32) : Prop :=
  (∀ a x, ((![v4096, v4290, v4345, v30] : Fin 4 → IVec S16 32) a x).toNat < S2x4x32x32.size a)
theorem k0_idx1749_inb : ∀ (v30 : IVec S16 32) (v4096 : IVec S16 32) (v4290 : IVec S16 32) (v4345 : IVec S16 32) (k0_hw1324 : k0_chk1324 v30 v4096 v4290 v4345), ∀ a x, ((![v4096, v4290, v4345, v30] : Fin 4 → IVec S16 32) a x).toNat < S2x4x32x32.size a := fun v30 v4096 v4290 v4345 k0_hw1324 => k0_hw1324

def k0_chk1325 (v4096 : IVec S16 32) (v4290 : IVec S16 32) (v4345 : IVec S16 32) (v4348 : IVec S16 32) : Prop :=
  (∀ a x, ((![v4096, v4290, v4345, v4348] : Fin 4 → IVec S16 32) a x).toNat < S2x4x32x32.size a)
theorem k0_idx1750_inb : ∀ (v4096 : IVec S16 32) (v4290 : IVec S16 32) (v4345 : IVec S16 32) (v4348 : IVec S16 32) (k0_hw1325 : k0_chk1325 v4096 v4290 v4345 v4348), ∀ a x, ((![v4096, v4290, v4345, v4348] : Fin 4 → IVec S16 32) a x).toNat < S2x4x32x32.size a := fun v4096 v4290 v4345 v4348 k0_hw1325 => k0_hw1325

def k0_chk1326 (v33 : IVec S16 32) (v35 : IVec S16 32) (v4096 : IVec S16 32) (v4290 : IVec S16 32) (v4350 : IVec S16 32) : Prop :=
  (∀ a x, ((![v4096, v4290, v4350, v33] : Fin 4 → IVec S16 32) a x).toNat < S2x4x94x96.size a) ∧
  (∀ a x, ((![v4096, v4290, v4350, v35] : Fin 4 → IVec S16 32) a x).toNat < S2x4x94x96.size a)
theorem k0_idx1751_inb : ∀ (v33 : IVec S16 32) (v35 : IVec S16 32) (v4096 : IVec S16 32) (v4290 : IVec S16 32) (v4350 : IVec S16 32) (k0_hw1326 : k0_chk1326 v33 v35 v4096 v4290 v4350), ∀ a x, ((![v4096, v4290, v4350, v33] : Fin 4 → IVec S16 32) a x).toNat < S2x4x94x96.size a := fun v33 v35 v4096 v4290 v4350 k0_hw1326 => k0_hw1326.1
theorem k0_idx1752_inb : ∀ (v33 : IVec S16 32) (v35 : IVec S16 32) (v4096 : IVec S16 32) (v4290 : IVec S16 32) (v4350 : IVec S16 32) (k0_hw1326 : k0_chk1326 v33 v35 v4096 v4290 v4350), ∀ a x, ((![v4096, v4290, v4350, v35] : Fin 4 → IVec S16 32) a x).toNat < S2x4x94x96.size a := fun v33 v35 v4096 v4290 v4350 k0_hw1326 => k0_hw1326.2

def k0_chk1327 (v30 : IVec S16 32) (v4096 : IVec S16 32) (v4290 : IVec S16 32) (v4351 : IVec S16 32) : Prop :=
  (∀ a x, ((![v4096, v4290, v4351, v30] : Fin 4 → IVec S16 32) a x).toNat < S2x4x32x32.size a)
theorem k0_idx1753_inb : ∀ (v30 : IVec S16 32) (v4096 : IVec S16 32) (v4290 : IVec S16 32) (v4351 : IVec S16 32) (k0_hw1327 : k0_chk1327 v30 v4096 v4290 v4351), ∀ a x, ((![v4096, v4290, v4351, v30] : Fin 4 → IVec S16 32) a x).toNat < S2x4x32x32.size a := fun v30 v4096 v4290 v4351 k0_hw1327 => k0_hw1327

def k0_chk1328 (v4096 : IVec S16 32) (v4290 : IVec S16 32) (v4351 : IVec S16 32) (v4354 : IVec S16 32) : Prop :=
  (∀ a x, ((![v4096, v4290, v4351, v4354] : Fin 4 → IVec S16 32) a x).toNat < S2x4x32x32.size a)
theorem k0_idx1754_inb : ∀ (v4096 : IVec S16 32) (v4290 : IVec S16 32) (v4351 : IVec S16 32) (v4354 : IVec S16 32) (k0_hw1328 : k0_chk1328 v4096 v4290 v4351 v4354), ∀ a x, ((![v4096, v4290, v4351, v4354] : Fin 4 → IVec S16 32) a x).toNat < S2x4x32x32.size a := fun v4096 v4290 v4351 v4354 k0_hw1328 => k0_hw1328

def k0_chk1329 (v33 : IVec S16 32) (v35 : IVec S16 32) (v4096 : IVec S16 32) (v4290 : IVec S16 32) (v4356 : IVec S16 32) : Prop :=
  (∀ a x, ((![v4096, v4290, v4356, v33] : Fin 4 → IVec S16 32) a x).toNat < S2x4x94x96.size a) ∧
  (∀ a x, ((![v4096, v4290, v4356, v35] : Fin 4 → IVec S16 32) a x).toNat < S2x4x94x96.size a)
theorem k0_idx1755_inb : ∀ (v33 : IVec S16 32) (v35 : IVec S16 32) (v4096 : IVec S16 32) (v4290 : IVec S16 32) (v4356 : IVec S16 32) (k0_hw1329 : k0_chk1329 v33 v35 v4096 v4290 v4356), ∀ a x, ((![v4096, v4290, v4356, v33] : Fin 4 → IVec S16 32) a x).toNat < S2x4x94x96.size a := fun v33 v35 v4096 v4290 v4356 k0_hw1329 => k0_hw1329.1
theorem k0_idx1756_inb : ∀ (v33 : IVec S16 32) (v35 : IVec S16 32) (v4096 : IVec S16 32) (v4290 : IVec S16 32) (v4356 : IVec S16 32) (k0_hw1329 : k0_chk1329 v33 v35 v4096 v4290 v4356), ∀ a x, ((![v4096, v4290, v4356, v35] : Fin 4 → IVec S16 32) a x).toNat < S2x4x94x96.size a := fun v33 v35 v4096 v4290 v4356 k0_hw1329 => k0_hw1329.2

def k0_chk1330 (v30 : IVec S16 32) (v4096 : IVec S16 32) (v4290 : IVec S16 32) (v4357 : IVec S16 32) : Prop :=
  (∀ a x, ((![v4096, v4290, v4357, v30] : Fin 4 → IVec S16 32) a x).toNat < S2x4x32x32.size a)
theorem k0_idx1757_inb : ∀ (v30 : IVec S16 32) (v4096 : IVec S16 32) (v4290 : IVec S16 32) (v4357 : IVec S16 32) (k0_hw1330 : k0_chk1330 v30 v4096 v4290 v4357), ∀ a x, ((![v4096, v4290, v4357, v30] : Fin 4 → IVec S16 32) a x).toNat < S2x4x32x32.size a := fun v30 v4096 v4290 v4357 k0_hw1330 => k0_hw1330

def k0_chk1331 (v4096 : IVec S16 32) (v4290 : IVec S16 32) (v4357 : IVec S16 32) (v4360 : IVec S16 32) : Prop :=
  (∀ a x, ((![v4096, v4290, v4357, v4360] : Fin 4 → IVec S16 32) a x).toNat < S2x4x32x32.size a)
theorem k0_idx1758_inb : ∀ (v4096 : IVec S16 32) (v4290 : IVec S16 32) (v4357 : IVec S16 32) (v4360 : IVec S16 32) (k0_hw1331 : k0_chk1331 v4096 v4290 v4357 v4360), ∀ a x, ((![v4096, v4290, v4357, v4360] : Fin 4 → IVec S16 32) a x).toNat < S2x4x32x32.size a := fun v4096 v4290 v4357 v4360 k0_hw1331 => k0_hw1331

def k0_chk1332 (v33 : IVec S16 32) (v35 : IVec S16 32) (v4096 : IVec S16 32) (v4290 : IVec S16 32) (v4362 : IVec S16 32) : Prop :=
  (∀ a x, ((![v4096, v4290, v4362, v33] : Fin 4 → IVec S16 32) a x).toNat < S2x4x94x96.size a) ∧
  (∀ a x, ((![v4096, v4290, v4362, v35] : Fin 4 → IVec S16 32) a x).toNat < S2x4x94x96.size a)
theorem k0_idx1759_inb : ∀ (v33 : IVec S16 32) (v35 : IVec S16 32) (v4096 : IVec S16 32) (v4290 : IVec S16 32) (v4362 : IVec S16 32) (k0_hw1332 : k0_chk1332 v33 v35 v4096 v4290 v4362), ∀ a x, ((![v4096, v4290, v4362, v33] : Fin 4 → IVec S16 32) a x).toNat < S2x4x94x96.size a := fun v33 v35 v4096 v4290 v4362 k0_hw1332 => k0_hw1332.1
theorem k0_idx1760_inb : ∀ (v33 : IVec S16 32) (v35 : IVec S16 32) (v4096 : IVec S16 32) (v4290 : IVec S16 32) (v4362 : IVec S16 32) (k0_hw1332 : k0_chk1332 v33 v35 v4096 v4290 v4362), ∀ a x, ((![v4096, v4290, v4362, v35] : Fin 4 → IVec S16 32) a x).toNat < S2x4x94x96.size a := fun v33 v35 v4096 v4290 v4362 k0_hw1332 => k0_hw1332.2

def k0_chk1333 (v30 : IVec S16 32) (v4096 : IVec S16 32) (v4290 : IVec S16 32) (v4363 : IVec S16 32) : Prop :=
  (∀ a x, ((![v4096, v4290, v4363, v30] : Fin 4 → IVec S16 32) a x).toNat < S2x4x32x32.size a)
theorem k0_idx1761_inb : ∀ (v30 : IVec S16 32) (v4096 : IVec S16 32) (v4290 : IVec S16 32) (v4363 : IVec S16 32) (k0_hw1333 : k0_chk1333 v30 v4096 v4290 v4363), ∀ a x, ((![v4096, v4290, v4363, v30] : Fin 4 → IVec S16 32) a x).toNat < S2x4x32x32.size a := fun v30 v4096 v4290 v4363 k0_hw1333 => k0_hw1333

def k0_chk1334 (v4096 : IVec S16 32) (v4290 : IVec S16 32) (v4363 : IVec S16 32) (v4366 : IVec S16 32) : Prop :=
  (∀ a x, ((![v4096, v4290, v4363, v4366] : Fin 4 → IVec S16 32) a x).toNat < S2x4x32x32.size a)
theorem k0_idx1762_inb : ∀ (v4096 : IVec S16 32) (v4290 : IVec S16 32) (v4363 : IVec S16 32) (v4366 : IVec S16 32) (k0_hw1334 : k0_chk1334 v4096 v4290 v4363 v4366), ∀ a x, ((![v4096, v4290, v4363, v4366] : Fin 4 → IVec S16 32) a x).toNat < S2x4x32x32.size a := fun v4096 v4290 v4363 v4366 k0_hw1334 => k0_hw1334

def k0_chk1335 (v33 : IVec S16 32) (v35 : IVec S16 32) (v4096 : IVec S16 32) (v4290 : IVec S16 32) (v4368 : IVec S16 32) : Prop :=
  (∀ a x, ((![v4096, v4290, v4368, v33] : Fin 4 → IVec S16 32) a x).toNat < S2x4x94x96.size a) ∧
  (∀ a x, ((![v4096, v4290, v4368, v35] : Fin 4 → IVec S16 32) a x).toNat < S2x4x94x96.size a)
theorem k0_idx1763_inb : ∀ (v33 : IVec S16 32) (v35 : IVec S16 32) (v4096 : IVec S16 32) (v4290 : IVec S16 32) (v4368 : IVec S16 32) (k0_hw1335 : k0_chk1335 v33 v35 v4096 v4290 v4368), ∀ a x, ((![v4096, v4290, v4368, v33] : Fin 4 → IVec S16 32) a x).toNat < S2x4x94x96.size a := fun v33 v35 v4096 v4290 v4368 k0_hw1335 => k0_hw1335.1
theorem k0_idx1764_inb : ∀ (v33 : IVec S16 32) (v35 : IVec S16 32) (v4096 : IVec S16 32) (v4290 : IVec S16 32) (v4368 : IVec S16 32) (k0_hw1335 : k0_chk1335 v33 v35 v4096 v4290 v4368), ∀ a x, ((![v4096, v4290, v4368, v35] : Fin 4 → IVec S16 32) a x).toNat < S2x4x94x96.size a := fun v33 v35 v4096 v4290 v4368 k0_hw1335 => k0_hw1335.2

def k0_chk1336 (v30 : IVec S16 32) (v4096 : IVec S16 32) (v4290 : IVec S16 32) (v4369 : IVec S16 32) : Prop :=
  (∀ a x, ((![v4096, v4290, v4369, v30] : Fin 4 → IVec S16 32) a x).toNat < S2x4x32x32.size a)
theorem k0_idx1765_inb : ∀ (v30 : IVec S16 32) (v4096 : IVec S16 32) (v4290 : IVec S16 32) (v4369 : IVec S16 32) (k0_hw1336 : k0_chk1336 v30 v4096 v4290 v4369), ∀ a x, ((![v4096, v4290, v4369, v30] : Fin 4 → IVec S16 32) a x).toNat < S2x4x32x32.size a := fun v30 v4096 v4290 v4369 k0_hw1336 => k0_hw1336

def k0_chk1337 (v4096 : IVec S16 32) (v4290 : IVec S16 32) (v4369 : IVec S16 32) (v4372 : IVec S16 32) : Prop :=
  (∀ a x, ((![v4096, v4290, v4369, v4372] : Fin 4 → IVec S16 32) a x).toNat < S2x4x32x32.size a)
theorem k0_idx1766_inb : ∀ (v4096 : IVec S16 32) (v4290 : IVec S16 32) (v4369 : IVec S16 32) (v4372 : IVec S16 32) (k0_hw1337 : k0_chk1337 v4096 v4290 v4369 v4372), ∀ a x, ((![v4096, v4290, v4369, v4372] : Fin 4 → IVec S16 32) a x).toNat < S2x4x32x32.size a := fun v4096 v4290 v4369 v4372 k0_hw1337 => k0_hw1337

def k0_chk1338 (v33 : IVec S16 32) (v35 : IVec S16 32) (v4096 : IVec S16 32) (v4290 : IVec S16 32) (v4374 : IVec S16 32) : Prop :=
  (∀ a x, ((![v4096, v4290, v4374, v33] : Fin 4 → IVec S16 32) a x).toNat < S2x4x94x96.size a) ∧
  (∀ a x, ((![v4096, v4290, v4374, v35] : Fin 4 → IVec S16 32) a x).toNat < S2x4x94x96.size a)
theorem k0_idx1767_inb : ∀ (v33 : IVec S16 32) (v35 : IVec S16 32) (v4096 : IVec S16 32) (v4290 : IVec S16 32) (v4374 : IVec S16 32) (k0_hw1338 : k0_chk1338 v33 v35 v4096 v4290 v4374), ∀ a x, ((![v4096, v4290, v4374, v33] : Fin 4 → IVec S16 32) a x).toNat < S2x4x94x96.size a := fun v33 v35 v4096 v4290 v4374 k0_hw1338 => k0_hw1338.1
theorem k0_idx1768_inb : ∀ (v33 : IVec S16 32) (v35 : IVec S16 32) (v4096 : IVec S16 32) (v4290 : IVec S16 32) (v4374 : IVec S16 32) (k0_hw1338 : k0_chk1338 v33 v35 v4096 v4290 v4374), ∀ a x, ((![v4096, v4290, v4374, v35] : Fin 4 → IVec S16 32) a x).toNat < S2x4x94x96.size a := fun v33 v35 v4096 v4290 v4374 k0_hw1338 => k0_hw1338.2

def k0_chk1339 (v30 : IVec S16 32) (v4096 : IVec S16 32) (v4290 : IVec S16 32) (v4375 : IVec S16 32) : Prop :=
  (∀ a x, ((![v4096, v4290, v4375, v30] : Fin 4 → IVec S16 32) a x).toNat < S2x4x32x32.size a)
theorem k0_idx1769_inb : ∀ (v30 : IVec S16 32) (v4096 : IVec S16 32) (v4290 : IVec S16 32) (v4375 : IVec S16 32) (k0_hw1339 : k0_chk1339 v30 v4096 v4290 v4375), ∀ a x, ((![v4096, v4290, v4375, v30] : Fin 4 → IVec S16 32) a x).toNat < S2x4x32x32.size a := fun v30 v4096 v4290 v4375 k0_hw1339 => k0_hw1339

def k0_chk1340 (v4096 : IVec S16 32) (v4290 : IVec S16 32) (v4375 : IVec S16 32) (v4378 : IVec S16 32) : Prop :=
  (∀ a x, ((![v4096, v4290, v4375, v4378] : Fin 4 → IVec S16 32) a x).toNat < S2x4x32x32.size a)
theorem k0_idx1770_inb : ∀ (v4096 : IVec S16 32) (v4290 : IVec S16 32) (v4375 : IVec S16 32) (v4378 : IVec S16 32) (k0_hw1340 : k0_chk1340 v4096 v4290 v4375 v4378), ∀ a x, ((![v4096, v4290, v4375, v4378] : Fin 4 → IVec S16 32) a x).toNat < S2x4x32x32.size a := fun v4096 v4290 v4375 v4378 k0_hw1340 => k0_hw1340

def k0_chk1341 (v33 : IVec S16 32) (v35 : IVec S16 32) (v4096 : IVec S16 32) (v4290 : IVec S16 32) (v4380 : IVec S16 32) : Prop :=
  (∀ a x, ((![v4096, v4290, v4380, v33] : Fin 4 → IVec S16 32) a x).toNat < S2x4x94x96.size a) ∧
  (∀ a x, ((![v4096, v4290, v4380, v35] : Fin 4 → IVec S16 32) a x).toNat < S2x4x94x96.size a)
theorem k0_idx1771_inb : ∀ (v33 : IVec S16 32) (v35 : IVec S16 32) (v4096 : IVec S16 32) (v4290 : IVec S16 32) (v4380 : IVec S16 32) (k0_hw1341 : k0_chk1341 v33 v35 v4096 v4290 v4380), ∀ a x, ((![v4096, v4290, v4380, v33] : Fin 4 → IVec S16 32) a x).toNat < S2x4x94x96.size a := fun v33 v35 v4096 v4290 v4380 k0_hw1341 => k0_hw1341.1
theorem k0_idx1772_inb : ∀ (v33 : IVec S16 32) (v35 : IVec S16 32) (v4096 : IVec S16 32) (v4290 : IVec S16 32) (v4380 : IVec S16 32) (k0_hw1341 : k0_chk1341 v33 v35 v4096 v4290 v4380), ∀ a x, ((![v4096, v4290, v4380, v35] : Fin 4 → IVec S16 32) a x).toNat < S2x4x94x96.size a := fun v33 v35 v4096 v4290 v4380 k0_hw1341 => k0_hw1341.2

def k0_chk1342 (v30 : IVec S16 32) (v4096 : IVec S16 32) (v4290 : IVec S16 32) (v4381 : IVec S16 32) : Prop :=
  (∀ a x, ((![v4096, v4290, v4381, v30] : Fin 4 → IVec S16 32) a x).toNat < S2x4x32x32.size a)
theorem k0_idx1773_inb : ∀ (v30 : IVec S16 32) (v4096 : IVec S16 32) (v4290 : IVec S16 32) (v4381 : IVec S16 32) (k0_hw1342 : k0_chk1342 v30 v4096 v4290 v4381), ∀ a x, ((![v4096, v4290, v4381, v30] : Fin 4 → IVec S16 32) a x).toNat < S2x4x32x32.size a := fun v30 v4096 v4290 v4381 k0_hw1342 => k0_hw1342

def k0_chk1343 (v4096 : IVec S16 32) (v4290 : IVec S16 32) (v4381 : IVec S16 32) (v4384 : IVec S16 32) : Prop :=
  (∀ a x, ((![v4096, v4290, v4381, v4384] : Fin 4 → IVec S16 32) a x).toNat < S2x4x32x32.size a)
theorem k0_idx1774_inb : ∀ (v4096 : IVec S16 32) (v4290 : IVec S16 32) (v4381 : IVec S16 32) (v4384 : IVec S16 32) (k0_hw1343 : k0_chk1343 v4096 v4290 v4381 v4384), ∀ a x, ((![v4096, v4290, v4381, v4384] : Fin 4 → IVec S16 32) a x).toNat < S2x4x32x32.size a := fun v4096 v4290 v4381 v4384 k0_hw1343 => k0_hw1343

def k0_chk1344 (v33 : IVec S16 32) (v35 : IVec S16 32) (v4096 : IVec S16 32) (v4290 : IVec S16 32) (v4386 : IVec S16 32) : Prop :=
  (∀ a x, ((![v4096, v4290, v4386, v33] : Fin 4 → IVec S16 32) a x).toNat < S2x4x94x96.size a) ∧
  (∀ a x, ((![v4096, v4290, v4386, v35] : Fin 4 → IVec S16 32) a x).toNat < S2x4x94x96.size a)
theorem k0_idx1775_inb : ∀ (v33 : IVec S16 32) (v35 : IVec S16 32) (v4096 : IVec S16 32) (v4290 : IVec S16 32) (v4386 : IVec S16 32) (k0_hw1344 : k0_chk1344 v33 v35 v4096 v4290 v4386), ∀ a x, ((![v4096, v4290, v4386, v33] : Fin 4 → IVec S16 32) a x).toNat < S2x4x94x96.size a := fun v33 v35 v4096 v4290 v4386 k0_hw1344 => k0_hw1344.1
theorem k0_idx1776_inb : ∀ (v33 : IVec S16 32) (v35 : IVec S16 32) (v4096 : IVec S16 32) (v4290 : IVec S16 32) (v4386 : IVec S16 32) (k0_hw1344 : k0_chk1344 v33 v35 v4096 v4290 v4386), ∀ a x, ((![v4096, v4290, v4386, v35] : Fin 4 → IVec S16 32) a x).toNat < S2x4x94x96.size a := fun v33 v35 v4096 v4290 v4386 k0_hw1344 => k0_hw1344.2

def k0_chk1345 (v30 : IVec S16 32) (v4096 : IVec S16 32) (v4290 : IVec S16 32) (v4387 : IVec S16 32) : Prop :=
  (∀ a x, ((![v4096, v4290, v4387, v30] : Fin 4 → IVec S16 32) a x).toNat < S2x4x32x32.size a)
theorem k0_idx1777_inb : ∀ (v30 : IVec S16 32) (v4096 : IVec S16 32) (v4290 : IVec S16 32) (v4387 : IVec S16 32) (k0_hw1345 : k0_chk1345 v30 v4096 v4290 v4387), ∀ a x, ((![v4096, v4290, v4387, v30] : Fin 4 → IVec S16 32) a x).toNat < S2x4x32x32.size a := fun v30 v4096 v4290 v4387 k0_hw1345 => k0_hw1345

def k0_chk1346 (v4096 : IVec S16 32) (v4290 : IVec S16 32) (v4387 : IVec S16 32) (v4390 : IVec S16 32) : Prop :=
  (∀ a x, ((![v4096, v4290, v4387, v4390] : Fin 4 → IVec S16 32) a x).toNat < S2x4x32x32.size a)
theorem k0_idx1778_inb : ∀ (v4096 : IVec S16 32) (v4290 : IVec S16 32) (v4387 : IVec S16 32) (v4390 : IVec S16 32) (k0_hw1346 : k0_chk1346 v4096 v4290 v4387 v4390), ∀ a x, ((![v4096, v4290, v4387, v4390] : Fin 4 → IVec S16 32) a x).toNat < S2x4x32x32.size a := fun v4096 v4290 v4387 v4390 k0_hw1346 => k0_hw1346

def k0_chk1347 (v33 : IVec S16 32) (v35 : IVec S16 32) (v4096 : IVec S16 32) (v4290 : IVec S16 32) (v4392 : IVec S16 32) : Prop :=
  (∀ a x, ((![v4096, v4290, v4392, v33] : Fin 4 → IVec S16 32) a x).toNat < S2x4x94x96.size a) ∧
  (∀ a x, ((![v4096, v4290, v4392, v35] : Fin 4 → IVec S16 32) a x).toNat < S2x4x94x96.size a)
theorem k0_idx1779_inb : ∀ (v33 : IVec S16 32) (v35 : IVec S16 32) (v4096 : IVec S16 32) (v4290 : IVec S16 32) (v4392 : IVec S16 32) (k0_hw1347 : k0_chk1347 v33 v35 v4096 v4290 v4392), ∀ a x, ((![v4096, v4290, v4392, v33] : Fin 4 → IVec S16 32) a x).toNat < S2x4x94x96.size a := fun v33 v35 v4096 v4290 v4392 k0_hw1347 => k0_hw1347.1
theorem k0_idx1780_inb : ∀ (v33 : IVec S16 32) (v35 : IVec S16 32) (v4096 : IVec S16 32) (v4290 : IVec S16 32) (v4392 : IVec S16 32) (k0_hw1347 : k0_chk1347 v33 v35 v4096 v4290 v4392), ∀ a x, ((![v4096, v4290, v4392, v35] : Fin 4 → IVec S16 32) a x).toNat < S2x4x94x96.size a := fun v33 v35 v4096 v4290 v4392 k0_hw1347 => k0_hw1347.2

def k0_chk1348 (v30 : IVec S16 32) (v4096 : IVec S16 32) (v4290 : IVec S16 32) (v4393 : IVec S16 32) : Prop :=
  (∀ a x, ((![v4096, v4290, v4393, v30] : Fin 4 → IVec S16 32) a x).toNat < S2x4x32x32.size a)
theorem k0_idx1781_inb : ∀ (v30 : IVec S16 32) (v4096 : IVec S16 32) (v4290 : IVec S16 32) (v4393 : IVec S16 32) (k0_hw1348 : k0_chk1348 v30 v4096 v4290 v4393), ∀ a x, ((![v4096, v4290, v4393, v30] : Fin 4 → IVec S16 32) a x).toNat < S2x4x32x32.size a := fun v30 v4096 v4290 v4393 k0_hw1348 => k0_hw1348

def k0_chk1349 (v4096 : IVec S16 32) (v4290 : IVec S16 32) (v4393 : IVec S16 32) (v4396 : IVec S16 32) : Prop :=
  (∀ a x, ((![v4096, v4290, v4393, v4396] : Fin 4 → IVec S16 32) a x).toNat < S2x4x32x32.size a)
theorem k0_idx1782_inb : ∀ (v4096 : IVec S16 32) (v4290 : IVec S16 32) (v4393 : IVec S16 32) (v4396 : IVec S16 32) (k0_hw1349 : k0_chk1349 v4096 v4290 v4393 v4396), ∀ a x, ((![v4096, v4290, v4393, v4396] : Fin 4 → IVec S16 32) a x).toNat < S2x4x32x32.size a := fun v4096 v4290 v4393 v4396 k0_hw1349 => k0_hw1349

def k0_chk1350 (v33 : IVec S16 32) (v35 : IVec S16 32) (v4096 : IVec S16 32) (v4290 : IVec S16 32) (v4398 : IVec S16 32) : Prop :=
  (∀ a x, ((![v4096, v4290, v4398, v33] : Fin 4 → IVec S16 32) a x).toNat < S2x4x94x96.size a) ∧
  (∀ a x, ((![v4096, v4290, v4398, v35] : Fin 4 → IVec S16 32) a x).toNat < S2x4x94x96.size a)
theorem k0_idx1783_inb : ∀ (v33 : IVec S16 32) (v35 : IVec S16 32) (v4096 : IVec S16 32) (v4290 : IVec S16 32) (v4398 : IVec S16 32) (k0_hw1350 : k0_chk1350 v33 v35 v4096 v4290 v4398), ∀ a x, ((![v4096, v4290, v4398, v33] : Fin 4 → IVec S16 32) a x).toNat < S2x4x94x96.size a := fun v33 v35 v4096 v4290 v4398 k0_hw1350 => k0_hw1350.1
theorem k0_idx1784_inb : ∀ (v33 : IVec S16 32) (v35 : IVec S16 32) (v4096 : IVec S16 32) (v4290 : IVec S16 32) (v4398 : IVec S16 32) (k0_hw1350 : k0_chk1350 v33 v35 v4096 v4290 v4398), ∀ a x, ((![v4096, v4290, v4398, v35] : Fin 4 → IVec S16 32) a x).toNat < S2x4x94x96.size a := fun v33 v35 v4096 v4290 v4398 k0_hw1350 => k0_hw1350.2

def k0_chk1351 (v30 : IVec S16 32) (v4096 : IVec S16 32) (v4290 : IVec S16 32) (v4399 : IVec S16 32) : Prop :=
  (∀ a x, ((![v4096, v4290, v4399, v30] : Fin 4 → IVec S16 32) a x).toNat < S2x4x32x32.size a)
theorem k0_idx1785_inb : ∀ (v30 : IVec S16 32) (v4096 : IVec S16 32) (v4290 : IVec S16 32) (v4399 : IVec S16 32) (k0_hw1351 : k0_chk1351 v30 v4096 v4290 v4399), ∀ a x, ((![v4096, v4290, v4399, v30] : Fin 4 → IVec S16 32) a x).toNat < S2x4x32x32.size a := fun v30 v4096 v4290 v4399 k0_hw1351 => k0_hw1351

def k0_chk1352 (v4096 : IVec S16 32) (v4290 : IVec S16 32) (v4399 : IVec S16 32) (v4402 : IVec S16 32) : Prop :=
  (∀ a x, ((![v4096, v4290, v4399, v4402] : Fin 4 → IVec S16 32) a x).toNat < S2x4x32x32.size a)
theorem k0_idx1786_inb : ∀ (v4096 : IVec S16 32) (v4290 : IVec S16 32) (v4399 : IVec S16 32) (v4402 : IVec S16 32) (k0_hw1352 : k0_chk1352 v4096 v4290 v4399 v4402), ∀ a x, ((![v4096, v4290, v4399, v4402] : Fin 4 → IVec S16 32) a x).toNat < S2x4x32x32.size a := fun v4096 v4290 v4399 v4402 k0_hw1352 => k0_hw1352

def k0_chk1353 (v33 : IVec S16 32) (v35 : IVec S16 32) (v4096 : IVec S16 32) (v4290 : IVec S16 32) (v4404 : IVec S16 32) : Prop :=
  (∀ a x, ((![v4096, v4290, v4404, v33] : Fin 4 → IVec S16 32) a x).toNat < S2x4x94x96.size a) ∧
  (∀ a x, ((![v4096, v4290, v4404, v35] : Fin 4 → IVec S16 32) a x).toNat < S2x4x94x96.size a)
theorem k0_idx1787_inb : ∀ (v33 : IVec S16 32) (v35 : IVec S16 32) (v4096 : IVec S16 32) (v4290 : IVec S16 32) (v4404 : IVec S16 32) (k0_hw1353 : k0_chk1353 v33 v35 v4096 v4290 v4404), ∀ a x, ((![v4096, v4290, v4404, v33] : Fin 4 → IVec S16 32) a x).toNat < S2x4x94x96.size a := fun v33 v35 v4096 v4290 v4404 k0_hw1353 => k0_hw1353.1
theorem k0_idx1788_inb : ∀ (v33 : IVec S16 32) (v35 : IVec S16 32) (v4096 : IVec S16 32) (v4290 : IVec S16 32) (v4404 : IVec S16 32) (k0_hw1353 : k0_chk1353 v33 v35 v4096 v4290 v4404), ∀ a x, ((![v4096, v4290, v4404, v35] : Fin 4 → IVec S16 32) a x).toNat < S2x4x94x96.size a := fun v33 v35 v4096 v4290 v4404 k0_hw1353 => k0_hw1353.2

def k0_chk1354 (v30 : IVec S16 32) (v4096 : IVec S16 32) (v4290 : IVec S16 32) (v4405 : IVec S16 32) : Prop :=
  (∀ a x, ((![v4096, v4290, v4405, v30] : Fin 4 → IVec S16 32) a x).toNat < S2x4x32x32.size a)
theorem k0_idx1789_inb : ∀ (v30 : IVec S16 32) (v4096 : IVec S16 32) (v4290 : IVec S16 32) (v4405 : IVec S16 32) (k0_hw1354 : k0_chk1354 v30 v4096 v4290 v4405), ∀ a x, ((![v4096, v4290, v4405, v30] : Fin 4 → IVec S16 32) a x).toNat < S2x4x32x32.size a := fun v30 v4096 v4290 v4405 k0_hw1354 => k0_hw1354

def k0_chk1355 (v4096 : IVec S16 32) (v4290 : IVec S16 32) (v4405 : IVec S16 32) (v4408 : IVec S16 32) : Prop :=
  (∀ a x, ((![v4096, v4290, v4405, v4408] : Fin 4 → IVec S16 32) a x).toNat < S2x4x32x32.size a)
theorem k0_idx1790_inb : ∀ (v4096 : IVec S16 32) (v4290 : IVec S16 32) (v4405 : IVec S16 32) (v4408 : IVec S16 32) (k0_hw1355 : k0_chk1355 v4096 v4290 v4405 v4408), ∀ a x, ((![v4096, v4290, v4405, v4408] : Fin 4 → IVec S16 32) a x).toNat < S2x4x32x32.size a := fun v4096 v4290 v4405 v4408 k0_hw1355 => k0_hw1355

def k0_chk1356 (v33 : IVec S16 32) (v35 : IVec S16 32) (v4096 : IVec S16 32) (v4290 : IVec S16 32) (v4410 : IVec S16 32) : Prop :=
  (∀ a x, ((![v4096, v4290, v4410, v33] : Fin 4 → IVec S16 32) a x).toNat < S2x4x94x96.size a) ∧
  (∀ a x, ((![v4096, v4290, v4410, v35] : Fin 4 → IVec S16 32) a x).toNat < S2x4x94x96.size a)
theorem k0_idx1791_inb : ∀ (v33 : IVec S16 32) (v35 : IVec S16 32) (v4096 : IVec S16 32) (v4290 : IVec S16 32) (v4410 : IVec S16 32) (k0_hw1356 : k0_chk1356 v33 v35 v4096 v4290 v4410), ∀ a x, ((![v4096, v4290, v4410, v33] : Fin 4 → IVec S16 32) a x).toNat < S2x4x94x96.size a := fun v33 v35 v4096 v4290 v4410 k0_hw1356 => k0_hw1356.1
theorem k0_idx1792_inb : ∀ (v33 : IVec S16 32) (v35 : IVec S16 32) (v4096 : IVec S16 32) (v4290 : IVec S16 32) (v4410 : IVec S16 32) (k0_hw1356 : k0_chk1356 v33 v35 v4096 v4290 v4410), ∀ a x, ((![v4096, v4290, v4410, v35] : Fin 4 → IVec S16 32) a x).toNat < S2x4x94x96.size a := fun v33 v35 v4096 v4290 v4410 k0_hw1356 => k0_hw1356.2

def k0_chk1357 (v30 : IVec S16 32) (v4096 : IVec S16 32) (v4290 : IVec S16 32) (v4411 : IVec S16 32) : Prop :=
  (∀ a x, ((![v4096, v4290, v4411, v30] : Fin 4 → IVec S16 32) a x).toNat < S2x4x32x32.size a)
theorem k0_idx1793_inb : ∀ (v30 : IVec S16 32) (v4096 : IVec S16 32) (v4290 : IVec S16 32) (v4411 : IVec S16 32) (k0_hw1357 : k0_chk1357 v30 v4096 v4290 v4411), ∀ a x, ((![v4096, v4290, v4411, v30] : Fin 4 → IVec S16 32) a x).toNat < S2x4x32x32.size a := fun v30 v4096 v4290 v4411 k0_hw1357 => k0_hw1357

def k0_chk1358 (v4096 : IVec S16 32) (v4290 : IVec S16 32) (v4411 : IVec S16 32) (v4414 : IVec S16 32) : Prop :=
  (∀ a x, ((![v4096, v4290, v4411, v4414] : Fin 4 → IVec S16 32) a x).toNat < S2x4x32x32.size a)
theorem k0_idx1794_inb : ∀ (v4096 : IVec S16 32) (v4290 : IVec S16 32) (v4411 : IVec S16 32) (v4414 : IVec S16 32) (k0_hw1358 : k0_chk1358 v4096 v4290 v4411 v4414), ∀ a x, ((![v4096, v4290, v4411, v4414] : Fin 4 → IVec S16 32) a x).toNat < S2x4x32x32.size a := fun v4096 v4290 v4411 v4414 k0_hw1358 => k0_hw1358

def k0_chk1359 (v33 : IVec S16 32) (v35 : IVec S16 32) (v4096 : IVec S16 32) (v4290 : IVec S16 32) (v4416 : IVec S16 32) : Prop :=
  (∀ a x, ((![v4096, v4290, v4416, v33] : Fin 4 → IVec S16 32) a x).toNat < S2x4x94x96.size a) ∧
  (∀ a x, ((![v4096, v4290, v4416, v35] : Fin 4 → IVec S16 32) a x).toNat < S2x4x94x96.size a)
theorem k0_idx1795_inb : ∀ (v33 : IVec S16 32) (v35 : IVec S16 32) (v4096 : IVec S16 32) (v4290 : IVec S16 32) (v4416 : IVec S16 32) (k0_hw1359 : k0_chk1359 v33 v35 v4096 v4290 v4416), ∀ a x, ((![v4096, v4290, v4416, v33] : Fin 4 → IVec S16 32) a x).toNat < S2x4x94x96.size a := fun v33 v35 v4096 v4290 v4416 k0_hw1359 => k0_hw1359.1
theorem k0_idx1796_inb : ∀ (v33 : IVec S16 32) (v35 : IVec S16 32) (v4096 : IVec S16 32) (v4290 : IVec S16 32) (v4416 : IVec S16 32) (k0_hw1359 : k0_chk1359 v33 v35 v4096 v4290 v4416), ∀ a x, ((![v4096, v4290, v4416, v35] : Fin 4 → IVec S16 32) a x).toNat < S2x4x94x96.size a := fun v33 v35 v4096 v4290 v4416 k0_hw1359 => k0_hw1359.2

def k0_chk1360 (v30 : IVec S16 32) (v4096 : IVec S16 32) (v4290 : IVec S16 32) (v4417 : IVec S16 32) : Prop :=
  (∀ a x, ((![v4096, v4290, v4417, v30] : Fin 4 → IVec S16 32) a x).toNat < S2x4x32x32.size a)
theorem k0_idx1797_inb : ∀ (v30 : IVec S16 32) (v4096 : IVec S16 32) (v4290 : IVec S16 32) (v4417 : IVec S16 32) (k0_hw1360 : k0_chk1360 v30 v4096 v4290 v4417), ∀ a x, ((![v4096, v4290, v4417, v30] : Fin 4 → IVec S16 32) a x).toNat < S2x4x32x32.size a := fun v30 v4096 v4290 v4417 k0_hw1360 => k0_hw1360

def k0_chk1361 (v4096 : IVec S16 32) (v4290 : IVec S16 32) (v4417 : IVec S16 32) (v4420 : IVec S16 32) : Prop :=
  (∀ a x, ((![v4096, v4290, v4417, v4420] : Fin 4 → IVec S16 32) a x).toNat < S2x4x32x32.size a)
theorem k0_idx1798_inb : ∀ (v4096 : IVec S16 32) (v4290 : IVec S16 32) (v4417 : IVec S16 32) (v4420 : IVec S16 32) (k0_hw1361 : k0_chk1361 v4096 v4290 v4417 v4420), ∀ a x, ((![v4096, v4290, v4417, v4420] : Fin 4 → IVec S16 32) a x).toNat < S2x4x32x32.size a := fun v4096 v4290 v4417 v4420 k0_hw1361 => k0_hw1361

def k0_chk1362 (v33 : IVec S16 32) (v35 : IVec S16 32) (v4096 : IVec S16 32) (v4290 : IVec S16 32) (v4422 : IVec S16 32) : Prop :=
  (∀ a x, ((![v4096, v4290, v4422, v33] : Fin 4 → IVec S16 32) a x).toNat < S2x4x94x96.size a) ∧
  (∀ a x, ((![v4096, v4290, v4422, v35] : Fin 4 → IVec S16 32) a x).toNat < S2x4x94x96.size a)
theorem k0_idx1799_inb : ∀ (v33 : IVec S16 32) (v35 : IVec S16 32) (v4096 : IVec S16 32) (v4290 : IVec S16 32) (v4422 : IVec S16 32) (k0_hw1362 : k0_chk1362 v33 v35 v4096 v4290 v4422), ∀ a x, ((![v4096, v4290, v4422, v33] : Fin 4 → IVec S16 32) a x).toNat < S2x4x94x96.size a := fun v33 v35 v4096 v4290 v4422 k0_hw1362 => k0_hw1362.1
theorem k0_idx1800_inb : ∀ (v33 : IVec S16 32) (v35 : IVec S16 32) (v4096 : IVec S16 32) (v4290 : IVec S16 32) (v4422 : IVec S16 32) (k0_hw1362 : k0_chk1362 v33 v35 v4096 v4290 v4422), ∀ a x, ((![v4096, v4290, v4422, v35] : Fin 4 → IVec S16 32) a x).toNat < S2x4x94x96.size a := fun v33 v35 v4096 v4290 v4422 k0_hw1362 => k0_hw1362.2

def k0_chk1363 (v30 : IVec S16 32) (v4096 : IVec S16 32) (v4290 : IVec S16 32) (v4423 : IVec S16 32) : Prop :=
  (∀ a x, ((![v4096, v4290, v4423, v30] : Fin 4 → IVec S16 32) a x).toNat < S2x4x32x32.size a)
theorem k0_idx1801_inb : ∀ (v30 : IVec S16 32) (v4096 : IVec S16 32) (v4290 : IVec S16 32) (v4423 : IVec S16 32) (k0_hw1363 : k0_chk1363 v30 v4096 v4290 v4423), ∀ a x, ((![v4096, v4290, v4423, v30] : Fin 4 → IVec S16 32) a x).toNat < S2x4x32x32.size a := fun v30 v4096 v4290 v4423 k0_hw1363 => k0_hw1363

def k0_chk1364 (v4096 : IVec S16 32) (v4290 : IVec S16 32) (v4423 : IVec S16 32) (v4426 : IVec S16 32) : Prop :=
  (∀ a x, ((![v4096, v4290, v4423, v4426] : Fin 4 → IVec S16 32) a x).toNat < S2x4x32x32.size a)
theorem k0_idx1802_inb : ∀ (v4096 : IVec S16 32) (v4290 : IVec S16 32) (v4423 : IVec S16 32) (v4426 : IVec S16 32) (k0_hw1364 : k0_chk1364 v4096 v4290 v4423 v4426), ∀ a x, ((![v4096, v4290, v4423, v4426] : Fin 4 → IVec S16 32) a x).toNat < S2x4x32x32.size a := fun v4096 v4290 v4423 v4426 k0_hw1364 => k0_hw1364

def k0_chk1365 (v33 : IVec S16 32) (v35 : IVec S16 32) (v4096 : IVec S16 32) (v4290 : IVec S16 32) (v4428 : IVec S16 32) : Prop :=
  (∀ a x, ((![v4096, v4290, v4428, v33] : Fin 4 → IVec S16 32) a x).toNat < S2x4x94x96.size a) ∧
  (∀ a x, ((![v4096, v4290, v4428, v35] : Fin 4 → IVec S16 32) a x).toNat < S2x4x94x96.size a)
theorem k0_idx1803_inb : ∀ (v33 : IVec S16 32) (v35 : IVec S16 32) (v4096 : IVec S16 32) (v4290 : IVec S16 32) (v4428 : IVec S16 32) (k0_hw1365 : k0_chk1365 v33 v35 v4096 v4290 v4428), ∀ a x, ((![v4096, v4290, v4428, v33] : Fin 4 → IVec S16 32) a x).toNat < S2x4x94x96.size a := fun v33 v35 v4096 v4290 v4428 k0_hw1365 => k0_hw1365.1
theorem k0_idx1804_inb : ∀ (v33 : IVec S16 32) (v35 : IVec S16 32) (v4096 : IVec S16 32) (v4290 : IVec S16 32) (v4428 : IVec S16 32) (k0_hw1365 : k0_chk1365 v33 v35 v4096 v4290 v4428), ∀ a x, ((![v4096, v4290, v4428, v35] : Fin 4 → IVec S16 32) a x).toNat < S2x4x94x96.size a := fun v33 v35 v4096 v4290 v4428 k0_hw1365 => k0_hw1365.2

def k0_chk1366 (v30 : IVec S16 32) (v4096 : IVec S16 32) (v4290 : IVec S16 32) (v4429 : IVec S16 32) : Prop :=
  (∀ a x, ((![v4096, v4290, v4429, v30] : Fin 4 → IVec S16 32) a x).toNat < S2x4x32x32.size a)
theorem k0_idx1805_inb : ∀ (v30 : IVec S16 32) (v4096 : IVec S16 32) (v4290 : IVec S16 32) (v4429 : IVec S16 32) (k0_hw1366 : k0_chk1366 v30 v4096 v4290 v4429), ∀ a x, ((![v4096, v4290, v4429, v30] : Fin 4 → IVec S16 32) a x).toNat < S2x4x32x32.size a := fun v30 v4096 v4290 v4429 k0_hw1366 => k0_hw1366

def k0_chk1367 (v4096 : IVec S16 32) (v4290 : IVec S16 32) (v4429 : IVec S16 32) (v4432 : IVec S16 32) : Prop :=
  (∀ a x, ((![v4096, v4290, v4429, v4432] : Fin 4 → IVec S16 32) a x).toNat < S2x4x32x32.size a)
theorem k0_idx1806_inb : ∀ (v4096 : IVec S16 32) (v4290 : IVec S16 32) (v4429 : IVec S16 32) (v4432 : IVec S16 32) (k0_hw1367 : k0_chk1367 v4096 v4290 v4429 v4432), ∀ a x, ((![v4096, v4290, v4429, v4432] : Fin 4 → IVec S16 32) a x).toNat < S2x4x32x32.size a := fun v4096 v4290 v4429 v4432 k0_hw1367 => k0_hw1367

def k0_chk1368 (v33 : IVec S16 32) (v35 : IVec S16 32) (v4096 : IVec S16 32) (v4290 : IVec S16 32) (v4434 : IVec S16 32) : Prop :=
  (∀ a x, ((![v4096, v4290, v4434, v33] : Fin 4 → IVec S16 32) a x).toNat < S2x4x94x96.size a) ∧
  (∀ a x, ((![v4096, v4290, v4434, v35] : Fin 4 → IVec S16 32) a x).toNat < S2x4x94x96.size a)
theorem k0_idx1807_inb : ∀ (v33 : IVec S16 32) (v35 : IVec S16 32) (v4096 : IVec S16 32) (v4290 : IVec S16 32) (v4434 : IVec S16 32) (k0_hw1368 : k0_chk1368 v33 v35 v4096 v4290 v4434), ∀ a x, ((![v4096, v4290, v4434, v33] : Fin 4 → IVec S16 32) a x).toNat < S2x4x94x96.size a := fun v33 v35 v4096 v4290 v4434 k0_hw1368 => k0_hw1368.1
theorem k0_idx1808_inb : ∀ (v33 : IVec S16 32) (v35 : IVec S16 32) (v4096 : IVec S16 32) (v4290 : IVec S16 32) (v4434 : IVec S16 32) (k0_hw1368 : k0_chk1368 v33 v35 v4096 v4290 v4434), ∀ a x, ((![v4096, v4290, v4434, v35] : Fin 4 → IVec S16 32) a x).toNat < S2x4x94x96.size a := fun v33 v35 v4096 v4290 v4434 k0_hw1368 => k0_hw1368.2

def k0_chk1369 (v30 : IVec S16 32) (v4096 : IVec S16 32) (v4290 : IVec S16 32) (v4435 : IVec S16 32) : Prop :=
  (∀ a x, ((![v4096, v4290, v4435, v30] : Fin 4 → IVec S16 32) a x).toNat < S2x4x32x32.size a)
theorem k0_idx1809_inb : ∀ (v30 : IVec S16 32) (v4096 : IVec S16 32) (v4290 : IVec S16 32) (v4435 : IVec S16 32) (k0_hw1369 : k0_chk1369 v30 v4096 v4290 v4435), ∀ a x, ((![v4096, v4290, v4435, v30] : Fin 4 → IVec S16 32) a x).toNat < S2x4x32x32.size a := fun v30 v4096 v4290 v4435 k0_hw1369 => k0_hw1369

def k0_chk1370 (v4096 : IVec S16 32) (v4290 : IVec S16 32) (v4435 : IVec S16 32) (v4438 : IVec S16 32) : Prop :=
  (∀ a x, ((![v4096, v4290, v4435, v4438] : Fin 4 → IVec S16 32) a x).toNat < S2x4x32x32.size a)
theorem k0_idx1810_inb : ∀ (v4096 : IVec S16 32) (v4290 : IVec S16 32) (v4435 : IVec S16 32) (v4438 : IVec S16 32) (k0_hw1370 : k0_chk1370 v4096 v4290 v4435 v4438), ∀ a x, ((![v4096, v4290, v4435, v4438] : Fin 4 → IVec S16 32) a x).toNat < S2x4x32x32.size a := fun v4096 v4290 v4435 v4438 k0_hw1370 => k0_hw1370

def k0_chk1371 (v33 : IVec S16 32) (v35 : IVec S16 32) (v4096 : IVec S16 32) (v4290 : IVec S16 32) (v4440 : IVec S16 32) : Prop :=
  (∀ a x, ((![v4096, v4290, v4440, v33] : Fin 4 → IVec S16 32) a x).toNat < S2x4x94x96.size a) ∧
  (∀ a x, ((![v4096, v4290, v4440, v35] : Fin 4 → IVec S16 32) a x).toNat < S2x4x94x96.size a)
theorem k0_idx1811_inb : ∀ (v33 : IVec S16 32) (v35 : IVec S16 32) (v4096 : IVec S16 32) (v4290 : IVec S16 32) (v4440 : IVec S16 32) (k0_hw1371 : k0_chk1371 v33 v35 v4096 v4290 v4440), ∀ a x, ((![v4096, v4290, v4440, v33] : Fin 4 → IVec S16 32) a x).toNat < S2x4x94x96.size a := fun v33 v35 v4096 v4290 v4440 k0_hw1371 => k0_hw1371.1
theorem k0_idx1812_inb : ∀ (v33 : IVec S16 32) (v35 : IVec S16 32) (v4096 : IVec S16 32) (v4290 : IVec S16 32) (v4440 : IVec S16 32) (k0_hw1371 : k0_chk1371 v33 v35 v4096 v4290 v4440), ∀ a x, ((![v4096, v4290, v4440, v35] : Fin 4 → IVec S16 32) a x).toNat < S2x4x94x96.size a := fun v33 v35 v4096 v4290 v4440 k0_hw1371 => k0_hw1371.2

def k0_chk1372 (v30 : IVec S16 32) (v4096 : IVec S16 32) (v4290 : IVec S16 32) (v4441 : IVec S16 32) : Prop :=
  (∀ a x, ((![v4096, v4290, v4441, v30] : Fin 4 → IVec S16 32) a x).toNat < S2x4x32x32.size a)
theorem k0_idx1813_inb : ∀ (v30 : IVec S16 32) (v4096 : IVec S16 32) (v4290 : IVec S16 32) (v4441 : IVec S16 32) (k0_hw1372 : k0_chk1372 v30 v4096 v4290 v4441), ∀ a x, ((![v4096, v4290, v4441, v30] : Fin 4 → IVec S16 32) a x).toNat < S2x4x32x32.size a := fun v30 v4096 v4290 v4441 k0_hw1372 => k0_hw1372

def k0_chk1373 (v4096 : IVec S16 32) (v4290 : IVec S16 32) (v4441 : IVec S16 32) (v4444 : IVec S16 32) : Prop :=
  (∀ a x, ((![v4096, v4290, v4441, v4444] : Fin 4 → IVec S16 32) a x).toNat < S2x4x32x32.size a)
theorem k0_idx1814_inb : ∀ (v4096 : IVec S16 32) (v4290 : IVec S16 32) (v4441 : IVec S16 32) (v4444 : IVec S16 32) (k0_hw1373 : k0_chk1373 v4096 v4290 v4441 v4444), ∀ a x, ((![v4096, v4290, v4441, v4444] : Fin 4 → IVec S16 32) a x).toNat < S2x4x32x32.size a := fun v4096 v4290 v4441 v4444 k0_hw1373 => k0_hw1373

def k0_chk1374 (v33 : IVec S16 32) (v35 : IVec S16 32) (v4096 : IVec S16 32) (v4290 : IVec S16 32) (v4446 : IVec S16 32) : Prop :=
  (∀ a x, ((![v4096, v4290, v4446, v33] : Fin 4 → IVec S16 32) a x).toNat < S2x4x94x96.size a) ∧
  (∀ a x, ((![v4096, v4290, v4446, v35] : Fin 4 → IVec S16 32) a x).toNat < S2x4x94x96.size a)
theorem k0_idx1815_inb : ∀ (v33 : IVec S16 32) (v35 : IVec S16 32) (v4096 : IVec S16 32) (v4290 : IVec S16 32) (v4446 : IVec S16 32) (k0_hw1374 : k0_chk1374 v33 v35 v4096 v4290 v4446), ∀ a x, ((![v4096, v4290, v4446, v33] : Fin 4 → IVec S16 32) a x).toNat < S2x4x94x96.size a := fun v33 v35 v4096 v4290 v4446 k0_hw1374 => k0_hw1374.1
theorem k0_idx1816_inb : ∀ (v33 : IVec S16 32) (v35 : IVec S16 32) (v4096 : IVec S16 32) (v4290 : IVec S16 32) (v4446 : IVec S16 32) (k0_hw1374 : k0_chk1374 v33 v35 v4096 v4290 v4446), ∀ a x, ((![v4096, v4290, v4446, v35] : Fin 4 → IVec S16 32) a x).toNat < S2x4x94x96.size a := fun v33 v35 v4096 v4290 v4446 k0_hw1374 => k0_hw1374.2

def k0_chk1375 (v30 : IVec S16 32) (v4096 : IVec S16 32) (v4290 : IVec S16 32) (v4447 : IVec S16 32) : Prop :=
  (∀ a x, ((![v4096, v4290, v4447, v30] : Fin 4 → IVec S16 32) a x).toNat < S2x4x32x32.size a)
theorem k0_idx1817_inb : ∀ (v30 : IVec S16 32) (v4096 : IVec S16 32) (v4290 : IVec S16 32) (v4447 : IVec S16 32) (k0_hw1375 : k0_chk1375 v30 v4096 v4290 v4447), ∀ a x, ((![v4096, v4290, v4447, v30] : Fin 4 → IVec S16 32) a x).toNat < S2x4x32x32.size a := fun v30 v4096 v4290 v4447 k0_hw1375 => k0_hw1375

def k0_chk1376 (v4096 : IVec S16 32) (v4290 : IVec S16 32) (v4447 : IVec S16 32) (v4450 : IVec S16 32) : Prop :=
  (∀ a x, ((![v4096, v4290, v4447, v4450] : Fin 4 → IVec S16 32) a x).toNat < S2x4x32x32.size a)
theorem k0_idx1818_inb : ∀ (v4096 : IVec S16 32) (v4290 : IVec S16 32) (v4447 : IVec S16 32) (v4450 : IVec S16 32) (k0_hw1376 : k0_chk1376 v4096 v4290 v4447 v4450), ∀ a x, ((![v4096, v4290, v4447, v4450] : Fin 4 → IVec S16 32) a x).toNat < S2x4x32x32.size a := fun v4096 v4290 v4447 v4450 k0_hw1376 => k0_hw1376

def k0_chk1377 (v33 : IVec S16 32) (v35 : IVec S16 32) (v4096 : IVec S16 32) (v4290 : IVec S16 32) (v4452 : IVec S16 32) : Prop :=
  (∀ a x, ((![v4096, v4290, v4452, v33] : Fin 4 → IVec S16 32) a x).toNat < S2x4x94x96.size a) ∧
  (∀ a x, ((![v4096, v4290, v4452, v35] : Fin 4 → IVec S16 32) a x).toNat < S2x4x94x96.size a)
theorem k0_idx1819_inb : ∀ (v33 : IVec S16 32) (v35 : IVec S16 32) (v4096 : IVec S16 32) (v4290 : IVec S16 32) (v4452 : IVec S16 32) (k0_hw1377 : k0_chk1377 v33 v35 v4096 v4290 v4452), ∀ a x, ((![v4096, v4290, v4452, v33] : Fin 4 → IVec S16 32) a x).toNat < S2x4x94x96.size a := fun v33 v35 v4096 v4290 v4452 k0_hw1377 => k0_hw1377.1
theorem k0_idx1820_inb : ∀ (v33 : IVec S16 32) (v35 : IVec S16 32) (v4096 : IVec S16 32) (v4290 : IVec S16 32) (v4452 : IVec S16 32) (k0_hw1377 : k0_chk1377 v33 v35 v4096 v4290 v4452), ∀ a x, ((![v4096, v4290, v4452, v35] : Fin 4 → IVec S16 32) a x).toNat < S2x4x94x96.size a := fun v33 v35 v4096 v4290 v4452 k0_hw1377 => k0_hw1377.2

def k0_chk1378 (v30 : IVec S16 32) (v4096 : IVec S16 32) (v4290 : IVec S16 32) (v4453 : IVec S16 32) : Prop :=
  (∀ a x, ((![v4096, v4290, v4453, v30] : Fin 4 → IVec S16 32) a x).toNat < S2x4x32x32.size a)
theorem k0_idx1821_inb : ∀ (v30 : IVec S16 32) (v4096 : IVec S16 32) (v4290 : IVec S16 32) (v4453 : IVec S16 32) (k0_hw1378 : k0_chk1378 v30 v4096 v4290 v4453), ∀ a x, ((![v4096, v4290, v4453, v30] : Fin 4 → IVec S16 32) a x).toNat < S2x4x32x32.size a := fun v30 v4096 v4290 v4453 k0_hw1378 => k0_hw1378

def k0_chk1379 (v4096 : IVec S16 32) (v4290 : IVec S16 32) (v4453 : IVec S16 32) (v4456 : IVec S16 32) : Prop :=
  (∀ a x, ((![v4096, v4290, v4453, v4456] : Fin 4 → IVec S16 32) a x).toNat < S2x4x32x32.size a)
theorem k0_idx1822_inb : ∀ (v4096 : IVec S16 32) (v4290 : IVec S16 32) (v4453 : IVec S16 32) (v4456 : IVec S16 32) (k0_hw1379 : k0_chk1379 v4096 v4290 v4453 v4456), ∀ a x, ((![v4096, v4290, v4453, v4456] : Fin 4 → IVec S16 32) a x).toNat < S2x4x32x32.size a := fun v4096 v4290 v4453 v4456 k0_hw1379 => k0_hw1379

def k0_chk1380 (v33 : IVec S16 32) (v35 : IVec S16 32) (v4096 : IVec S16 32) (v4290 : IVec S16 32) (v4458 : IVec S16 32) : Prop :=
  (∀ a x, ((![v4096, v4290, v4458, v33] : Fin 4 → IVec S16 32) a x).toNat < S2x4x94x96.size a) ∧
  (∀ a x, ((![v4096, v4290, v4458, v35] : Fin 4 → IVec S16 32) a x).toNat < S2x4x94x96.size a)
theorem k0_idx1823_inb : ∀ (v33 : IVec S16 32) (v35 : IVec S16 32) (v4096 : IVec S16 32) (v4290 : IVec S16 32) (v4458 : IVec S16 32) (k0_hw1380 : k0_chk1380 v33 v35 v4096 v4290 v4458), ∀ a x, ((![v4096, v4290, v4458, v33] : Fin 4 → IVec S16 32) a x).toNat < S2x4x94x96.size a := fun v33 v35 v4096 v4290 v4458 k0_hw1380 => k0_hw1380.1
theorem k0_idx1824_inb : ∀ (v33 : IVec S16 32) (v35 : IVec S16 32) (v4096 : IVec S16 32) (v4290 : IVec S16 32) (v4458 : IVec S16 32) (k0_hw1380 : k0_chk1380 v33 v35 v4096 v4290 v4458), ∀ a x, ((![v4096, v4290, v4458, v35] : Fin 4 → IVec S16 32) a x).toNat < S2x4x94x96.size a := fun v33 v35 v4096 v4290 v4458 k0_hw1380 => k0_hw1380.2

def k0_chk1381 (v30 : IVec S16 32) (v4096 : IVec S16 32) (v4290 : IVec S16 32) (v4459 : IVec S16 32) : Prop :=
  (∀ a x, ((![v4096, v4290, v4459, v30] : Fin 4 → IVec S16 32) a x).toNat < S2x4x32x32.size a)
theorem k0_idx1825_inb : ∀ (v30 : IVec S16 32) (v4096 : IVec S16 32) (v4290 : IVec S16 32) (v4459 : IVec S16 32) (k0_hw1381 : k0_chk1381 v30 v4096 v4290 v4459), ∀ a x, ((![v4096, v4290, v4459, v30] : Fin 4 → IVec S16 32) a x).toNat < S2x4x32x32.size a := fun v30 v4096 v4290 v4459 k0_hw1381 => k0_hw1381

def k0_chk1382 (v4096 : IVec S16 32) (v4290 : IVec S16 32) (v4459 : IVec S16 32) (v4462 : IVec S16 32) : Prop :=
  (∀ a x, ((![v4096, v4290, v4459, v4462] : Fin 4 → IVec S16 32) a x).toNat < S2x4x32x32.size a)
theorem k0_idx1826_inb : ∀ (v4096 : IVec S16 32) (v4290 : IVec S16 32) (v4459 : IVec S16 32) (v4462 : IVec S16 32) (k0_hw1382 : k0_chk1382 v4096 v4290 v4459 v4462), ∀ a x, ((![v4096, v4290, v4459, v4462] : Fin 4 → IVec S16 32) a x).toNat < S2x4x32x32.size a := fun v4096 v4290 v4459 v4462 k0_hw1382 => k0_hw1382

def k0_chk1383 (v33 : IVec S16 32) (v35 : IVec S16 32) (v4096 : IVec S16 32) (v4290 : IVec S16 32) (v4464 : IVec S16 32) : Prop :=
  (∀ a x, ((![v4096, v4290, v4464, v33] : Fin 4 → IVec S16 32) a x).toNat < S2x4x94x96.size a) ∧
  (∀ a x, ((![v4096, v4290, v4464, v35] : Fin 4 → IVec S16 32) a x).toNat < S2x4x94x96.size a)
theorem k0_idx1827_inb : ∀ (v33 : IVec S16 32) (v35 : IVec S16 32) (v4096 : IVec S16 32) (v4290 : IVec S16 32) (v4464 : IVec S16 32) (k0_hw1383 : k0_chk1383 v33 v35 v4096 v4290 v4464), ∀ a x, ((![v4096, v4290, v4464, v33] : Fin 4 → IVec S16 32) a x).toNat < S2x4x94x96.size a := fun v33 v35 v4096 v4290 v4464 k0_hw1383 => k0_hw1383.1
theorem k0_idx1828_inb : ∀ (v33 : IVec S16 32) (v35 : IVec S16 32) (v4096 : IVec S16 32) (v4290 : IVec S16 32) (v4464 : IVec S16 32) (k0_hw1383 : k0_chk1383 v33 v35 v4096 v4290 v4464), ∀ a x, ((![v4096, v4290, v4464, v35] : Fin 4 → IVec S16 32) a x).toNat < S2x4x94x96.size a := fun v33 v35 v4096 v4290 v4464 k0_hw1383 => k0_hw1383.2

def k0_chk1384 (v30 : IVec S16 32) (v4096 : IVec S16 32) (v4290 : IVec S16 32) (v4465 : IVec S16 32) : Prop :=
  (∀ a x, ((![v4096, v4290, v4465, v30] : Fin 4 → IVec S16 32) a x).toNat < S2x4x32x32.size a)
theorem k0_idx1829_inb : ∀ (v30 : IVec S16 32) (v4096 : IVec S16 32) (v4290 : IVec S16 32) (v4465 : IVec S16 32) (k0_hw1384 : k0_chk1384 v30 v4096 v4290 v4465), ∀ a x, ((![v4096, v4290, v4465, v30] : Fin 4 → IVec S16 32) a x).toNat < S2x4x32x32.size a := fun v30 v4096 v4290 v4465 k0_hw1384 => k0_hw1384

def k0_chk1385 (v4096 : IVec S16 32) (v4290 : IVec S16 32) (v4465 : IVec S16 32) (v4468 : IVec S16 32) : Prop :=
  (∀ a x, ((![v4096, v4290, v4465, v4468] : Fin 4 → IVec S16 32) a x).toNat < S2x4x32x32.size a)
theorem k0_idx1830_inb : ∀ (v4096 : IVec S16 32) (v4290 : IVec S16 32) (v4465 : IVec S16 32) (v4468 : IVec S16 32) (k0_hw1385 : k0_chk1385 v4096 v4290 v4465 v4468), ∀ a x, ((![v4096, v4290, v4465, v4468] : Fin 4 → IVec S16 32) a x).toNat < S2x4x32x32.size a := fun v4096 v4290 v4465 v4468 k0_hw1385 => k0_hw1385

def k0_chk1386 (v33 : IVec S16 32) (v35 : IVec S16 32) (v4096 : IVec S16 32) (v4290 : IVec S16 32) (v4470 : IVec S16 32) : Prop :=
  (∀ a x, ((![v4096, v4290, v4470, v33] : Fin 4 → IVec S16 32) a x).toNat < S2x4x94x96.size a) ∧
  (∀ a x, ((![v4096, v4290, v4470, v35] : Fin 4 → IVec S16 32) a x).toNat < S2x4x94x96.size a)
theorem k0_idx1831_inb : ∀ (v33 : IVec S16 32) (v35 : IVec S16 32) (v4096 : IVec S16 32) (v4290 : IVec S16 32) (v4470 : IVec S16 32) (k0_hw1386 : k0_chk1386 v33 v35 v4096 v4290 v4470), ∀ a x, ((![v4096, v4290, v4470, v33] : Fin 4 → IVec S16 32) a x).toNat < S2x4x94x96.size a := fun v33 v35 v4096 v4290 v4470 k0_hw1386 => k0_hw1386.1
theorem k0_idx1832_inb : ∀ (v33 : IVec S16 32) (v35 : IVec S16 32) (v4096 : IVec S16 32) (v4290 : IVec S16 32) (v4470 : IVec S16 32) (k0_hw1386 : k0_chk1386 v33 v35 v4096 v4290 v4470), ∀ a x, ((![v4096, v4290, v4470, v35] : Fin 4 → IVec S16 32) a x).toNat < S2x4x94x96.size a := fun v33 v35 v4096 v4290 v4470 k0_hw1386 => k0_hw1386.2

def k0_chk1387 (v30 : IVec S16 32) (v4096 : IVec S16 32) (v4290 : IVec S16 32) (v4471 : IVec S16 32) : Prop :=
  (∀ a x, ((![v4096, v4290, v4471, v30] : Fin 4 → IVec S16 32) a x).toNat < S2x4x32x32.size a)
theorem k0_idx1833_inb : ∀ (v30 : IVec S16 32) (v4096 : IVec S16 32) (v4290 : IVec S16 32) (v4471 : IVec S16 32) (k0_hw1387 : k0_chk1387 v30 v4096 v4290 v4471), ∀ a x, ((![v4096, v4290, v4471, v30] : Fin 4 → IVec S16 32) a x).toNat < S2x4x32x32.size a := fun v30 v4096 v4290 v4471 k0_hw1387 => k0_hw1387

def k0_chk1388 (v4096 : IVec S16 32) (v4290 : IVec S16 32) (v4471 : IVec S16 32) (v4474 : IVec S16 32) : Prop :=
  (∀ a x, ((![v4096, v4290, v4471, v4474] : Fin 4 → IVec S16 32) a x).toNat < S2x4x32x32.size a)
theorem k0_idx1834_inb : ∀ (v4096 : IVec S16 32) (v4290 : IVec S16 32) (v4471 : IVec S16 32) (v4474 : IVec S16 32) (k0_hw1388 : k0_chk1388 v4096 v4290 v4471 v4474), ∀ a x, ((![v4096, v4290, v4471, v4474] : Fin 4 → IVec S16 32) a x).toNat < S2x4x32x32.size a := fun v4096 v4290 v4471 v4474 k0_hw1388 => k0_hw1388

def k0_chk1389 (v33 : IVec S16 32) (v35 : IVec S16 32) (v4096 : IVec S16 32) (v4290 : IVec S16 32) (v4476 : IVec S16 32) : Prop :=
  (∀ a x, ((![v4096, v4290, v4476, v33] : Fin 4 → IVec S16 32) a x).toNat < S2x4x94x96.size a) ∧
  (∀ a x, ((![v4096, v4290, v4476, v35] : Fin 4 → IVec S16 32) a x).toNat < S2x4x94x96.size a)
theorem k0_idx1835_inb : ∀ (v33 : IVec S16 32) (v35 : IVec S16 32) (v4096 : IVec S16 32) (v4290 : IVec S16 32) (v4476 : IVec S16 32) (k0_hw1389 : k0_chk1389 v33 v35 v4096 v4290 v4476), ∀ a x, ((![v4096, v4290, v4476, v33] : Fin 4 → IVec S16 32) a x).toNat < S2x4x94x96.size a := fun v33 v35 v4096 v4290 v4476 k0_hw1389 => k0_hw1389.1
theorem k0_idx1836_inb : ∀ (v33 : IVec S16 32) (v35 : IVec S16 32) (v4096 : IVec S16 32) (v4290 : IVec S16 32) (v4476 : IVec S16 32) (k0_hw1389 : k0_chk1389 v33 v35 v4096 v4290 v4476), ∀ a x, ((![v4096, v4290, v4476, v35] : Fin 4 → IVec S16 32) a x).toNat < S2x4x94x96.size a := fun v33 v35 v4096 v4290 v4476 k0_hw1389 => k0_hw1389.2

def k0_chk1390 (v30 : IVec S16 32) (v4096 : IVec S16 32) (v4290 : IVec S16 32) (v4477 : IVec S16 32) : Prop :=
  (∀ a x, ((![v4096, v4290, v4477, v30] : Fin 4 → IVec S16 32) a x).toNat < S2x4x32x32.size a)
theorem k0_idx1837_inb : ∀ (v30 : IVec S16 32) (v4096 : IVec S16 32) (v4290 : IVec S16 32) (v4477 : IVec S16 32) (k0_hw1390 : k0_chk1390 v30 v4096 v4290 v4477), ∀ a x, ((![v4096, v4290, v4477, v30] : Fin 4 → IVec S16 32) a x).toNat < S2x4x32x32.size a := fun v30 v4096 v4290 v4477 k0_hw1390 => k0_hw1390

def k0_chk1391 (v4096 : IVec S16 32) (v4290 : IVec S16 32) (v4477 : IVec S16 32) (v4480 : IVec S16 32) : Prop :=
  (∀ a x, ((![v4096, v4290, v4477, v4480] : Fin 4 → IVec S16 32) a x).toNat < S2x4x32x32.size a)
theorem k0_idx1838_inb : ∀ (v4096 : IVec S16 32) (v4290 : IVec S16 32) (v4477 : IVec S16 32) (v4480 : IVec S16 32) (k0_hw1391 : k0_chk1391 v4096 v4290 v4477 v4480), ∀ a x, ((![v4096, v4290, v4477, v4480] : Fin 4 → IVec S16 32) a x).toNat < S2x4x32x32.size a := fun v4096 v4290 v4477 v4480 k0_hw1391 => k0_hw1391

def k0_chk1392 (v33 : IVec S16 32) (v35 : IVec S16 32) (v4096 : IVec S16 32) (v4290 : IVec S16 32) (v4482 : IVec S16 32) : Prop :=
  (∀ a x, ((![v4096, v4290, v4482, v33] : Fin 4 → IVec S16 32) a x).toNat < S2x4x94x96.size a) ∧
  (∀ a x, ((![v4096, v4290, v4482, v35] : Fin 4 → IVec S16 32) a x).toNat < S2x4x94x96.size a)
theorem k0_idx1839_inb : ∀ (v33 : IVec S16 32) (v35 : IVec S16 32) (v4096 : IVec S16 32) (v4290 : IVec S16 32) (v4482 : IVec S16 32) (k0_hw1392 : k0_chk1392 v33 v35 v4096 v4290 v4482), ∀ a x, ((![v4096, v4290, v4482, v33] : Fin 4 → IVec S16 32) a x).toNat < S2x4x94x96.size a := fun v33 v35 v4096 v4290 v4482 k0_hw1392 => k0_hw1392.1
theorem k0_idx1840_inb : ∀ (v33 : IVec S16 32) (v35 : IVec S16 32) (v4096 : IVec S16 32) (v4290 : IVec S16 32) (v4482 : IVec S16 32) (k0_hw1392 : k0_chk1392 v33 v35 v4096 v4290 v4482), ∀ a x, ((![v4096, v4290, v4482, v35] : Fin 4 → IVec S16 32) a x).toNat < S2x4x94x96.size a := fun v33 v35 v4096 v4290 v4482 k0_hw1392 => k0_hw1392.2

def k0_chk1393 (v30 : IVec S16 32) (v4096 : IVec S16 32) (v4483 : IVec S16 32) (v4484 : IVec S16 32) : Prop :=
  (∀ a x, ((![v4096, v4483, v4484, v30] : Fin 4 → IVec S16 32) a x).toNat < S2x4x32x32.size a)
theorem k0_idx1841_inb : ∀ (v30 : IVec S16 32) (v4096 : IVec S16 32) (v4483 : IVec S16 32) (v4484 : IVec S16 32) (k0_hw1393 : k0_chk1393 v30 v4096 v4483 v4484), ∀ a x, ((![v4096, v4483, v4484, v30] : Fin 4 → IVec S16 32) a x).toNat < S2x4x32x32.size a := fun v30 v4096 v4483 v4484 k0_hw1393 => k0_hw1393

def k0_chk1394 (v4096 : IVec S16 32) (v4483 : IVec S16 32) (v4484 : IVec S16 32) (v4487 : IVec S16 32) : Prop :=
  (∀ a x, ((![v4096, v4483, v4484, v4487] : Fin 4 → IVec S16 32) a x).toNat < S2x4x32x32.size a)
theorem k0_idx1842_inb : ∀ (v4096 : IVec S16 32) (v4483 : IVec S16 32) (v4484 : IVec S16 32) (v4487 : IVec S16 32) (k0_hw1394 : k0_chk1394 v4096 v4483 v4484 v4487), ∀ a x, ((![v4096, v4483, v4484, v4487] : Fin 4 → IVec S16 32) a x).toNat < S2x4x32x32.size a := fun v4096 v4483 v4484 v4487 k0_hw1394 => k0_hw1394

def k0_chk1395 (v33 : IVec S16 32) (v35 : IVec S16 32) (v4096 : IVec S16 32) (v4483 : IVec S16 32) (v4489 : IVec S16 32) : Prop :=
  (∀ a x, ((![v4096, v4483, v4489, v33] : Fin 4 → IVec S16 32) a x).toNat < S2x4x94x96.size a) ∧
  (∀ a x, ((![v4096, v4483, v4489, v35] : Fin 4 → IVec S16 32) a x).toNat < S2x4x94x96.size a)
theorem k0_idx1843_inb : ∀ (v33 : IVec S16 32) (v35 : IVec S16 32) (v4096 : IVec S16 32) (v4483 : IVec S16 32) (v4489 : IVec S16 32) (k0_hw1395 : k0_chk1395 v33 v35 v4096 v4483 v4489), ∀ a x, ((![v4096, v4483, v4489, v33] : Fin 4 → IVec S16 32) a x).toNat < S2x4x94x96.size a := fun v33 v35 v4096 v4483 v4489 k0_hw1395 => k0_hw1395.1
theorem k0_idx1844_inb : ∀ (v33 : IVec S16 32) (v35 : IVec S16 32) (v4096 : IVec S16 32) (v4483 : IVec S16 32) (v4489 : IVec S16 32) (k0_hw1395 : k0_chk1395 v33 v35 v4096 v4483 v4489), ∀ a x, ((![v4096, v4483, v4489, v35] : Fin 4 → IVec S16 32) a x).toNat < S2x4x94x96.size a := fun v33 v35 v4096 v4483 v4489 k0_hw1395 => k0_hw1395.2

def k0_chk1396 (v30 : IVec S16 32) (v4096 : IVec S16 32) (v4483 : IVec S16 32) (v4490 : IVec S16 32) : Prop :=
  (∀ a x, ((![v4096, v4483, v4490, v30] : Fin 4 → IVec S16 32) a x).toNat < S2x4x32x32.size a)
theorem k0_idx1845_inb : ∀ (v30 : IVec S16 32) (v4096 : IVec S16 32) (v4483 : IVec S16 32) (v4490 : IVec S16 32) (k0_hw1396 : k0_chk1396 v30 v4096 v4483 v4490), ∀ a x, ((![v4096, v4483, v4490, v30] : Fin 4 → IVec S16 32) a x).toNat < S2x4x32x32.size a := fun v30 v4096 v4483 v4490 k0_hw1396 => k0_hw1396

def k0_chk1397 (v4096 : IVec S16 32) (v4483 : IVec S16 32) (v4490 : IVec S16 32) (v4493 : IVec S16 32) : Prop :=
  (∀ a x, ((![v4096, v4483, v4490, v4493] : Fin 4 → IVec S16 32) a x).toNat < S2x4x32x32.size a)
theorem k0_idx1846_inb : ∀ (v4096 : IVec S16 32) (v4483 : IVec S16 32) (v4490 : IVec S16 32) (v4493 : IVec S16 32) (k0_hw1397 : k0_chk1397 v4096 v4483 v4490 v4493), ∀ a x, ((![v4096, v4483, v4490, v4493] : Fin 4 → IVec S16 32) a x).toNat < S2x4x32x32.size a := fun v4096 v4483 v4490 v4493 k0_hw1397 => k0_hw1397

def k0_chk1398 (v33 : IVec S16 32) (v35 : IVec S16 32) (v4096 : IVec S16 32) (v4483 : IVec S16 32) (v4495 : IVec S16 32) : Prop :=
  (∀ a x, ((![v4096, v4483, v4495, v33] : Fin 4 → IVec S16 32) a x).toNat < S2x4x94x96.size a) ∧
  (∀ a x, ((![v4096, v4483, v4495, v35] : Fin 4 → IVec S16 32) a x).toNat < S2x4x94x96.size a)
theorem k0_idx1847_inb : ∀ (v33 : IVec S16 32) (v35 : IVec S16 32) (v4096 : IVec S16 32) (v4483 : IVec S16 32) (v4495 : IVec S16 32) (k0_hw1398 : k0_chk1398 v33 v35 v4096 v4483 v4495), ∀ a x, ((![v4096, v4483, v4495, v33] : Fin 4 → IVec S16 32) a x).toNat < S2x4x94x96.size a := fun v33 v35 v4096 v4483 v4495 k0_hw1398 => k0_hw1398.1
theorem k0_idx1848_inb : ∀ (v33 : IVec S16 32) (v35 : IVec S16 32) (v4096 : IVec S16 32) (v4483 : IVec S16 32) (v4495 : IVec S16 32) (k0_hw1398 : k0_chk1398 v33 v35 v4096 v4483 v4495), ∀ a x, ((![v4096, v4483, v4495, v35] : Fin 4 → IVec S16 32) a x).toNat < S2x4x94x96.size a := fun v33 v35 v4096 v4483 v4495 k0_hw1398 => k0_hw1398.2

def k0_chk1399 (v30 : IVec S16 32) (v4096 : IVec S16 32) (v4483 : IVec S16 32) (v4496 : IVec S16 32) : Prop :=
  (∀ a x, ((![v4096, v4483, v4496, v30] : Fin 4 → IVec S16 32) a x).toNat < S2x4x32x32.size a)
theorem k0_idx1849_inb : ∀ (v30 : IVec S16 32) (v4096 : IVec S16 32) (v4483 : IVec S16 32) (v4496 : IVec S16 32) (k0_hw1399 : k0_chk1399 v30 v4096 v4483 v4496), ∀ a x, ((![v4096, v4483, v4496, v30] : Fin 4 → IVec S16 32) a x).toNat < S2x4x32x32.size a := fun v30 v4096 v4483 v4496 k0_hw1399 => k0_hw1399

def k0_chk1400 (v4096 : IVec S16 32) (v4483 : IVec S16 32) (v4496 : IVec S16 32) (v4499 : IVec S16 32) : Prop :=
  (∀ a x, ((![v4096, v4483, v4496, v4499] : Fin 4 → IVec S16 32) a x).toNat < S2x4x32x32.size a)
theorem k0_idx1850_inb : ∀ (v4096 : IVec S16 32) (v4483 : IVec S16 32) (v4496 : IVec S16 32) (v4499 : IVec S16 32) (k0_hw1400 : k0_chk1400 v4096 v4483 v4496 v4499), ∀ a x, ((![v4096, v4483, v4496, v4499] : Fin 4 → IVec S16 32) a x).toNat < S2x4x32x32.size a := fun v4096 v4483 v4496 v4499 k0_hw1400 => k0_hw1400

def k0_chk1401 (v33 : IVec S16 32) (v35 : IVec S16 32) (v4096 : IVec S16 32) (v4483 : IVec S16 32) (v4501 : IVec S16 32) : Prop :=
  (∀ a x, ((![v4096, v4483, v4501, v33] : Fin 4 → IVec S16 32) a x).toNat < S2x4x94x96.size a) ∧
  (∀ a x, ((![v4096, v4483, v4501, v35] : Fin 4 → IVec S16 32) a x).toNat < S2x4x94x96.size a)
theorem k0_idx1851_inb : ∀ (v33 : IVec S16 32) (v35 : IVec S16 32) (v4096 : IVec S16 32) (v4483 : IVec S16 32) (v4501 : IVec S16 32) (k0_hw1401 : k0_chk1401 v33 v35 v4096 v4483 v4501), ∀ a x, ((![v4096, v4483, v4501, v33] : Fin 4 → IVec S16 32) a x).toNat < S2x4x94x96.size a := fun v33 v35 v4096 v4483 v4501 k0_hw1401 => k0_hw1401.1
theorem k0_idx1852_inb : ∀ (v33 : IVec S16 32) (v35 : IVec S16 32) (v4096 : IVec S16 32) (v4483 : IVec S16 32) (v4501 : IVec S16 32) (k0_hw1401 : k0_chk1401 v33 v35 v4096 v4483 v4501), ∀ a x, ((![v4096, v4483, v4501, v35] : Fin 4 → IVec S16 32) a x).toNat < S2x4x94x96.size a := fun v33 v35 v4096 v4483 v4501 k0_hw1401 => k0_hw1401.2

def k0_chk1402 (v30 : IVec S16 32) (v4096 : IVec S16 32) (v4483 : IVec S16 32) (v4502 : IVec S16 32) : Prop :=
  (∀ a x, ((![v4096, v4483, v4502, v30] : Fin 4 → IVec S16 32) a x).toNat < S2x4x32x32.size a)
theorem k0_idx1853_inb : ∀ (v30 : IVec S16 32) (v4096 : IVec S16 32) (v4483 : IVec S16 32) (v4502 : IVec S16 32) (k0_hw1402 : k0_chk1402 v30 v4096 v4483 v4502), ∀ a x, ((![v4096, v4483, v4502, v30] : Fin 4 → IVec S16 32) a x).toNat < S2x4x32x32.size a := fun v30 v4096 v4483 v4502 k0_hw1402 => k0_hw1402

def k0_chk1403 (v4096 : IVec S16 32) (v4483 : IVec S16 32) (v4502 : IVec S16 32) (v4505 : IVec S16 32) : Prop :=
  (∀ a x, ((![v4096, v4483, v4502, v4505] : Fin 4 → IVec S16 32) a x).toNat < S2x4x32x32.size a)
theorem k0_idx1854_inb : ∀ (v4096 : IVec S16 32) (v4483 : IVec S16 32) (v4502 : IVec S16 32) (v4505 : IVec S16 32) (k0_hw1403 : k0_chk1403 v4096 v4483 v4502 v4505), ∀ a x, ((![v4096, v4483, v4502, v4505] : Fin 4 → IVec S16 32) a x).toNat < S2x4x32x32.size a := fun v4096 v4483 v4502 v4505 k0_hw1403 => k0_hw1403

def k0_chk1404 (v33 : IVec S16 32) (v35 : IVec S16 32) (v4096 : IVec S16 32) (v4483 : IVec S16 32) (v4507 : IVec S16 32) : Prop :=
  (∀ a x, ((![v4096, v4483, v4507, v33] : Fin 4 → IVec S16 32) a x).toNat < S2x4x94x96.size a) ∧
  (∀ a x, ((![v4096, v4483, v4507, v35] : Fin 4 → IVec S16 32) a x).toNat < S2x4x94x96.size a)
theorem k0_idx1855_inb : ∀ (v33 : IVec S16 32) (v35 : IVec S16 32) (v4096 : IVec S16 32) (v4483 : IVec S16 32) (v4507 : IVec S16 32) (k0_hw1404 : k0_chk1404 v33 v35 v4096 v4483 v4507), ∀ a x, ((![v4096, v4483, v4507, v33] : Fin 4 → IVec S16 32) a x).toNat < S2x4x94x96.size a := fun v33 v35 v4096 v4483 v4507 k0_hw1404 => k0_hw1404.1
theorem k0_idx1856_inb : ∀ (v33 : IVec S16 32) (v35 : IVec S16 32) (v4096 : IVec S16 32) (v4483 : IVec S16 32) (v4507 : IVec S16 32) (k0_hw1404 : k0_chk1404 v33 v35 v4096 v4483 v4507), ∀ a x, ((![v4096, v4483, v4507, v35] : Fin 4 → IVec S16 32) a x).toNat < S2x4x94x96.size a := fun v33 v35 v4096 v4483 v4507 k0_hw1404 => k0_hw1404.2

def k0_chk1405 (v30 : IVec S16 32) (v4096 : IVec S16 32) (v4483 : IVec S16 32) (v4508 : IVec S16 32) : Prop :=
  (∀ a x, ((![v4096, v4483, v4508, v30] : Fin 4 → IVec S16 32) a x).toNat < S2x4x32x32.size a)
theorem k0_idx1857_inb : ∀ (v30 : IVec S16 32) (v4096 : IVec S16 32) (v4483 : IVec S16 32) (v4508 : IVec S16 32) (k0_hw1405 : k0_chk1405 v30 v4096 v4483 v4508), ∀ a x, ((![v4096, v4483, v4508, v30] : Fin 4 → IVec S16 32) a x).toNat < S2x4x32x32.size a := fun v30 v4096 v4483 v4508 k0_hw1405 => k0_hw1405

def k0_chk1406 (v4096 : IVec S16 32) (v4483 : IVec S16 32) (v4508 : IVec S16 32) (v4511 : IVec S16 32) : Prop :=
  (∀ a x, ((![v4096, v4483, v4508, v4511] : Fin 4 → IVec S16 32) a x).toNat < S2x4x32x32.size a)
theorem k0_idx1858_inb : ∀ (v4096 : IVec S16 32) (v4483 : IVec S16 32) (v4508 : IVec S16 32) (v4511 : IVec S16 32) (k0_hw1406 : k0_chk1406 v4096 v4483 v4508 v4511), ∀ a x, ((![v4096, v4483, v4508, v4511] : Fin 4 → IVec S16 32) a x).toNat < S2x4x32x32.size a := fun v4096 v4483 v4508 v4511 k0_hw1406 => k0_hw1406

def k0_chk1407 (v33 : IVec S16 32) (v35 : IVec S16 32) (v4096 : IVec S16 32) (v4483 : IVec S16 32) (v4513 : IVec S16 32) : Prop :=
  (∀ a x, ((![v4096, v4483, v4513, v33] : Fin 4 → IVec S16 32) a x).toNat < S2x4x94x96.size a) ∧
  (∀ a x, ((![v4096, v4483, v4513, v35] : Fin 4 → IVec S16 32) a x).toNat < S2x4x94x96.size a)
theorem k0_idx1859_inb : ∀ (v33 : IVec S16 32) (v35 : IVec S16 32) (v4096 : IVec S16 32) (v4483 : IVec S16 32) (v4513 : IVec S16 32) (k0_hw1407 : k0_chk1407 v33 v35 v4096 v4483 v4513), ∀ a x, ((![v4096, v4483, v4513, v33] : Fin 4 → IVec S16 32) a x).toNat < S2x4x94x96.size a := fun v33 v35 v4096 v4483 v4513 k0_hw1407 => k0_hw1407.1
theorem k0_idx1860_inb : ∀ (v33 : IVec S16 32) (v35 : IVec S16 32) (v4096 : IVec S16 32) (v4483 : IVec S16 32) (v4513 : IVec S16 32) (k0_hw1407 : k0_chk1407 v33 v35 v4096 v4483 v4513), ∀ a x, ((![v4096, v4483, v4513, v35] : Fin 4 → IVec S16 32) a x).toNat < S2x4x94x96.size a := fun v33 v35 v4096 v4483 v4513 k0_hw1407 => k0_hw1407.2

def k0_chk1408 (v30 : IVec S16 32) (v4096 : IVec S16 32) (v4483 : IVec S16 32) (v4514 : IVec S16 32) : Prop :=
  (∀ a x, ((![v4096, v4483, v4514, v30] : Fin 4 → IVec S16 32) a x).toNat < S2x4x32x32.size a)
theorem k0_idx1861_inb : ∀ (v30 : IVec S16 32) (v4096 : IVec S16 32) (v4483 : IVec S16 32) (v4514 : IVec S16 32) (k0_hw1408 : k0_chk1408 v30 v4096 v4483 v4514), ∀ a x, ((![v4096, v4483, v4514, v30] : Fin 4 → IVec S16 32) a x).toNat < S2x4x32x32.size a := fun v30 v4096 v4483 v4514 k0_hw1408 => k0_hw1408

def k0_chk1409 (v4096 : IVec S16 32) (v4483 : IVec S16 32) (v4514 : IVec S16 32) (v4517 : IVec S16 32) : Prop :=
  (∀ a x, ((![v4096, v4483, v4514, v4517] : Fin 4 → IVec S16 32) a x).toNat < S2x4x32x32.size a)
theorem k0_idx1862_inb : ∀ (v4096 : IVec S16 32) (v4483 : IVec S16 32) (v4514 : IVec S16 32) (v4517 : IVec S16 32) (k0_hw1409 : k0_chk1409 v4096 v4483 v4514 v4517), ∀ a x, ((![v4096, v4483, v4514, v4517] : Fin 4 → IVec S16 32) a x).toNat < S2x4x32x32.size a := fun v4096 v4483 v4514 v4517 k0_hw1409 => k0_hw1409

def k0_chk1410 (v33 : IVec S16 32) (v35 : IVec S16 32) (v4096 : IVec S16 32) (v4483 : IVec S16 32) (v4519 : IVec S16 32) : Prop :=
  (∀ a x, ((![v4096, v4483, v4519, v33] : Fin 4 → IVec S16 32) a x).toNat < S2x4x94x96.size a) ∧
  (∀ a x, ((![v4096, v4483, v4519, v35] : Fin 4 → IVec S16 32) a x).toNat < S2x4x94x96.size a)
theorem k0_idx1863_inb : ∀ (v33 : IVec S16 32) (v35 : IVec S16 32) (v4096 : IVec S16 32) (v4483 : IVec S16 32) (v4519 : IVec S16 32) (k0_hw1410 : k0_chk1410 v33 v35 v4096 v4483 v4519), ∀ a x, ((![v4096, v4483, v4519, v33] : Fin 4 → IVec S16 32) a x).toNat < S2x4x94x96.size a := fun v33 v35 v4096 v4483 v4519 k0_hw1410 => k0_hw1410.1
theorem k0_idx1864_inb : ∀ (v33 : IVec S16 32) (v35 : IVec S16 32) (v4096 : IVec S16 32) (v4483 : IVec S16 32) (v4519 : IVec S16 32) (k0_hw1410 : k0_chk1410 v33 v35 v4096 v4483 v4519), ∀ a x, ((![v4096, v4483, v4519, v35] : Fin 4 → IVec S16 32) a x).toNat < S2x4x94x96.size a := fun v33 v35 v4096 v4483 v4519 k0_hw1410 => k0_hw1410.2

def k0_chk1411 (v30 : IVec S16 32) (v4096 : IVec S16 32) (v4483 : IVec S16 32) (v4520 : IVec S16 32) : Prop :=
  (∀ a x, ((![v4096, v4483, v4520, v30] : Fin 4 → IVec S16 32) a x).toNat < S2x4x32x32.size a)
theorem k0_idx1865_inb : ∀ (v30 : IVec S16 32) (v4096 : IVec S16 32) (v4483 : IVec S16 32) (v4520 : IVec S16 32) (k0_hw1411 : k0_chk1411 v30 v4096 v4483 v4520), ∀ a x, ((![v4096, v4483, v4520, v30] : Fin 4 → IVec S16 32) a x).toNat < S2x4x32x32.size a := fun v30 v4096 v4483 v4520 k0_hw1411 => k0_hw1411

def k0_chk1412 (v4096 : IVec S16 32) (v4483 : IVec S16 32) (v4520 : IVec S16 32) (v4523 : IVec S16 32) : Prop :=
  (∀ a x, ((![v4096, v4483, v4520, v4523] : Fin 4 → IVec S16 32) a x).toNat < S2x4x32x32.size a)
theorem k0_idx1866_inb : ∀ (v4096 : IVec S16 32) (v4483 : IVec S16 32) (v4520 : IVec S16 32) (v4523 : IVec S16 32) (k0_hw1412 : k0_chk1412 v4096 v4483 v4520 v4523), ∀ a x, ((![v4096, v4483, v4520, v4523] : Fin 4 → IVec S16 32) a x).toNat < S2x4x32x32.size a := fun v4096 v4483 v4520 v4523 k0_hw1412 => k0_hw1412

def k0_chk1413 (v33 : IVec S16 32) (v35 : IVec S16 32) (v4096 : IVec S16 32) (v4483 : IVec S16 32) (v4525 : IVec S16 32) : Prop :=
  (∀ a x, ((![v4096, v4483, v4525, v33] : Fin 4 → IVec S16 32) a x).toNat < S2x4x94x96.size a) ∧
  (∀ a x, ((![v4096, v4483, v4525, v35] : Fin 4 → IVec S16 32) a x).toNat < S2x4x94x96.size a)
theorem k0_idx1867_inb : ∀ (v33 : IVec S16 32) (v35 : IVec S16 32) (v4096 : IVec S16 32) (v4483 : IVec S16 32) (v4525 : IVec S16 32) (k0_hw1413 : k0_chk1413 v33 v35 v4096 v4483 v4525), ∀ a x, ((![v4096, v4483, v4525, v33] : Fin 4 → IVec S16 32) a x).toNat < S2x4x94x96.size a := fun v33 v35 v4096 v4483 v4525 k0_hw1413 => k0_hw1413.1
theorem k0_idx1868_inb : ∀ (v33 : IVec S16 32) (v35 : IVec S16 32) (v4096 : IVec S16 32) (v4483 : IVec S16 32) (v4525 : IVec S16 32) (k0_hw1413 : k0_chk1413 v33 v35 v4096 v4483 v4525), ∀ a x, ((![v4096, v4483, v4525, v35] : Fin 4 → IVec S16 32) a x).toNat < S2x4x94x96.size a := fun v33 v35 v4096 v4483 v4525 k0_hw1413 => k0_hw1413.2

def k0_chk1414 (v30 : IVec S16 32) (v4096 : IVec S16 32) (v4483 : IVec S16 32) (v4526 : IVec S16 32) : Prop :=
  (∀ a x, ((![v4096, v4483, v4526, v30] : Fin 4 → IVec S16 32) a x).toNat < S2x4x32x32.size a)
theorem k0_idx1869_inb : ∀ (v30 : IVec S16 32) (v4096 : IVec S16 32) (v4483 : IVec S16 32) (v4526 : IVec S16 32) (k0_hw1414 : k0_chk1414 v30 v4096 v4483 v4526), ∀ a x, ((![v4096, v4483, v4526, v30] : Fin 4 → IVec S16 32) a x).toNat < S2x4x32x32.size a := fun v30 v4096 v4483 v4526 k0_hw1414 => k0_hw1414

def k0_chk1415 (v4096 : IVec S16 32) (v4483 : IVec S16 32) (v4526 : IVec S16 32) (v4529 : IVec S16 32) : Prop :=
  (∀ a x, ((![v4096, v4483, v4526, v4529] : Fin 4 → IVec S16 32) a x).toNat < S2x4x32x32.size a)
theorem k0_idx1870_inb : ∀ (v4096 : IVec S16 32) (v4483 : IVec S16 32) (v4526 : IVec S16 32) (v4529 : IVec S16 32) (k0_hw1415 : k0_chk1415 v4096 v4483 v4526 v4529), ∀ a x, ((![v4096, v4483, v4526, v4529] : Fin 4 → IVec S16 32) a x).toNat < S2x4x32x32.size a := fun v4096 v4483 v4526 v4529 k0_hw1415 => k0_hw1415

def k0_chk1416 (v33 : IVec S16 32) (v35 : IVec S16 32) (v4096 : IVec S16 32) (v4483 : IVec S16 32) (v4531 : IVec S16 32) : Prop :=
  (∀ a x, ((![v4096, v4483, v4531, v33] : Fin 4 → IVec S16 32) a x).toNat < S2x4x94x96.size a) ∧
  (∀ a x, ((![v4096, v4483, v4531, v35] : Fin 4 → IVec S16 32) a x).toNat < S2x4x94x96.size a)
theorem k0_idx1871_inb : ∀ (v33 : IVec S16 32) (v35 : IVec S16 32) (v4096 : IVec S16 32) (v4483 : IVec S16 32) (v4531 : IVec S16 32) (k0_hw1416 : k0_chk1416 v33 v35 v4096 v4483 v4531), ∀ a x, ((![v4096, v4483, v4531, v33] : Fin 4 → IVec S16 32) a x).toNat < S2x4x94x96.size a := fun v33 v35 v4096 v4483 v4531 k0_hw1416 => k0_hw1416.1
theorem k0_idx1872_inb : ∀ (v33 : IVec S16 32) (v35 : IVec S16 32) (v4096 : IVec S16 32) (v4483 : IVec S16 32) (v4531 : IVec S16 32) (k0_hw1416 : k0_chk1416 v33 v35 v4096 v4483 v4531), ∀ a x, ((![v4096, v4483, v4531, v35] : Fin 4 → IVec S16 32) a x).toNat < S2x4x94x96.size a := fun v33 v35 v4096 v4483 v4531 k0_hw1416 => k0_hw1416.2

def k0_chk1417 (v30 : IVec S16 32) (v4096 : IVec S16 32) (v4483 : IVec S16 32) (v4532 : IVec S16 32) : Prop :=
  (∀ a x, ((![v4096, v4483, v4532, v30] : Fin 4 → IVec S16 32) a x).toNat < S2x4x32x32.size a)
theorem k0_idx1873_inb : ∀ (v30 : IVec S16 32) (v4096 : IVec S16 32) (v4483 : IVec S16 32) (v4532 : IVec S16 32) (k0_hw1417 : k0_chk1417 v30 v4096 v4483 v4532), ∀ a x, ((![v4096, v4483, v4532, v30] : Fin 4 → IVec S16 32) a x).toNat < S2x4x32x32.size a := fun v30 v4096 v4483 v4532 k0_hw1417 => k0_hw1417

def k0_chk1418 (v4096 : IVec S16 32) (v4483 : IVec S16 32) (v4532 : IVec S16 32) (v4535 : IVec S16 32) : Prop :=
  (∀ a x, ((![v4096, v4483, v4532, v4535] : Fin 4 → IVec S16 32) a x).toNat < S2x4x32x32.size a)
theorem k0_idx1874_inb : ∀ (v4096 : IVec S16 32) (v4483 : IVec S16 32) (v4532 : IVec S16 32) (v4535 : IVec S16 32) (k0_hw1418 : k0_chk1418 v4096 v4483 v4532 v4535), ∀ a x, ((![v4096, v4483, v4532, v4535] : Fin 4 → IVec S16 32) a x).toNat < S2x4x32x32.size a := fun v4096 v4483 v4532 v4535 k0_hw1418 => k0_hw1418

def k0_chk1419 (v33 : IVec S16 32) (v35 : IVec S16 32) (v4096 : IVec S16 32) (v4483 : IVec S16 32) (v4537 : IVec S16 32) : Prop :=
  (∀ a x, ((![v4096, v4483, v4537, v33] : Fin 4 → IVec S16 32) a x).toNat < S2x4x94x96.size a) ∧
  (∀ a x, ((![v4096, v4483, v4537, v35] : Fin 4 → IVec S16 32) a x).toNat < S2x4x94x96.size a)
theorem k0_idx1875_inb : ∀ (v33 : IVec S16 32) (v35 : IVec S16 32) (v4096 : IVec S16 32) (v4483 : IVec S16 32) (v4537 : IVec S16 32) (k0_hw1419 : k0_chk1419 v33 v35 v4096 v4483 v4537), ∀ a x, ((![v4096, v4483, v4537, v33] : Fin 4 → IVec S16 32) a x).toNat < S2x4x94x96.size a := fun v33 v35 v4096 v4483 v4537 k0_hw1419 => k0_hw1419.1
theorem k0_idx1876_inb : ∀ (v33 : IVec S16 32) (v35 : IVec S16 32) (v4096 : IVec S16 32) (v4483 : IVec S16 32) (v4537 : IVec S16 32) (k0_hw1419 : k0_chk1419 v33 v35 v4096 v4483 v4537), ∀ a x, ((![v4096, v4483, v4537, v35] : Fin 4 → IVec S16 32) a x).toNat < S2x4x94x96.size a := fun v33 v35 v4096 v4483 v4537 k0_hw1419 => k0_hw1419.2

def k0_chk1420 (v30 : IVec S16 32) (v4096 : IVec S16 32) (v4483 : IVec S16 32) (v4538 : IVec S16 32) : Prop :=
  (∀ a x, ((![v4096, v4483, v4538, v30] : Fin 4 → IVec S16 32) a x).toNat < S2x4x32x32.size a)
theorem k0_idx1877_inb : ∀ (v30 : IVec S16 32) (v4096 : IVec S16 32) (v4483 : IVec S16 32) (v4538 : IVec S16 32) (k0_hw1420 : k0_chk1420 v30 v4096 v4483 v4538), ∀ a x, ((![v4096, v4483, v4538, v30] : Fin 4 → IVec S16 32) a x).toNat < S2x4x32x32.size a := fun v30 v4096 v4483 v4538 k0_hw1420 => k0_hw1420

def k0_chk1421 (v4096 : IVec S16 32) (v4483 : IVec S16 32) (v4538 : IVec S16 32) (v4541 : IVec S16 32) : Prop :=
  (∀ a x, ((![v4096, v4483, v4538, v4541] : Fin 4 → IVec S16 32) a x).toNat < S2x4x32x32.size a)
theorem k0_idx1878_inb : ∀ (v4096 : IVec S16 32) (v4483 : IVec S16 32) (v4538 : IVec S16 32) (v4541 : IVec S16 32) (k0_hw1421 : k0_chk1421 v4096 v4483 v4538 v4541), ∀ a x, ((![v4096, v4483, v4538, v4541] : Fin 4 → IVec S16 32) a x).toNat < S2x4x32x32.size a := fun v4096 v4483 v4538 v4541 k0_hw1421 => k0_hw1421

def k0_chk1422 (v33 : IVec S16 32) (v35 : IVec S16 32) (v4096 : IVec S16 32) (v4483 : IVec S16 32) (v4543 : IVec S16 32) : Prop :=
  (∀ a x, ((![v4096, v4483, v4543, v33] : Fin 4 → IVec S16 32) a x).toNat < S2x4x94x96.size a) ∧
  (∀ a x, ((![v4096, v4483, v4543, v35] : Fin 4 → IVec S16 32) a x).toNat < S2x4x94x96.size a)
theorem k0_idx1879_inb : ∀ (v33 : IVec S16 32) (v35 : IVec S16 32) (v4096 : IVec S16 32) (v4483 : IVec S16 32) (v4543 : IVec S16 32) (k0_hw1422 : k0_chk1422 v33 v35 v4096 v4483 v4543), ∀ a x, ((![v4096, v4483, v4543, v33] : Fin 4 → IVec S16 32) a x).toNat < S2x4x94x96.size a := fun v33 v35 v4096 v4483 v4543 k0_hw1422 => k0_hw1422.1
theorem k0_idx1880_inb : ∀ (v33 : IVec S16 32) (v35 : IVec S16 32) (v4096 : IVec S16 32) (v4483 : IVec S16 32) (v4543 : IVec S16 32) (k0_hw1422 : k0_chk1422 v33 v35 v4096 v4483 v4543), ∀ a x, ((![v4096, v4483, v4543, v35] : Fin 4 → IVec S16 32) a x).toNat < S2x4x94x96.size a := fun v33 v35 v4096 v4483 v4543 k0_hw1422 => k0_hw1422.2

def k0_chk1423 (v30 : IVec S16 32) (v4096 : IVec S16 32) (v4483 : IVec S16 32) (v4544 : IVec S16 32) : Prop :=
  (∀ a x, ((![v4096, v4483, v4544, v30] : Fin 4 → IVec S16 32) a x).toNat < S2x4x32x32.size a)
theorem k0_idx1881_inb : ∀ (v30 : IVec S16 32) (v4096 : IVec S16 32) (v4483 : IVec S16 32) (v4544 : IVec S16 32) (k0_hw1423 : k0_chk1423 v30 v4096 v4483 v4544), ∀ a x, ((![v4096, v4483, v4544, v30] : Fin 4 → IVec S16 32) a x).toNat < S2x4x32x32.size a := fun v30 v4096 v4483 v4544 k0_hw1423 => k0_hw1423

def k0_chk1424 (v4096 : IVec S16 32) (v4483 : IVec S16 32) (v4544 : IVec S16 32) (v4547 : IVec S16 32) : Prop :=
  (∀ a x, ((![v4096, v4483, v4544, v4547] : Fin 4 → IVec S16 32) a x).toNat < S2x4x32x32.size a)
theorem k0_idx1882_inb : ∀ (v4096 : IVec S16 32) (v4483 : IVec S16 32) (v4544 : IVec S16 32) (v4547 : IVec S16 32) (k0_hw1424 : k0_chk1424 v4096 v4483 v4544 v4547), ∀ a x, ((![v4096, v4483, v4544, v4547] : Fin 4 → IVec S16 32) a x).toNat < S2x4x32x32.size a := fun v4096 v4483 v4544 v4547 k0_hw1424 => k0_hw1424

def k0_chk1425 (v33 : IVec S16 32) (v35 : IVec S16 32) (v4096 : IVec S16 32) (v4483 : IVec S16 32) (v4549 : IVec S16 32) : Prop :=
  (∀ a x, ((![v4096, v4483, v4549, v33] : Fin 4 → IVec S16 32) a x).toNat < S2x4x94x96.size a) ∧
  (∀ a x, ((![v4096, v4483, v4549, v35] : Fin 4 → IVec S16 32) a x).toNat < S2x4x94x96.size a)
theorem k0_idx1883_inb : ∀ (v33 : IVec S16 32) (v35 : IVec S16 32) (v4096 : IVec S16 32) (v4483 : IVec S16 32) (v4549 : IVec S16 32) (k0_hw1425 : k0_chk1425 v33 v35 v4096 v4483 v4549), ∀ a x, ((![v4096, v4483, v4549, v33] : Fin 4 → IVec S16 32) a x).toNat < S2x4x94x96.size a := fun v33 v35 v4096 v4483 v4549 k0_hw1425 => k0_hw1425.1
theorem k0_idx1884_inb : ∀ (v33 : IVec S16 32) (v35 : IVec S16 32) (v4096 : IVec S16 32) (v4483 : IVec S16 32) (v4549 : IVec S16 32) (k0_hw1425 : k0_chk1425 v33 v35 v4096 v4483 v4549), ∀ a x, ((![v4096, v4483, v4549, v35] : Fin 4 → IVec S16 32) a x).toNat < S2x4x94x96.size a := fun v33 v35 v4096 v4483 v4549 k0_hw1425 => k0_hw1425.2

def k0_chk1426 (v30 : IVec S16 32) (v4096 : IVec S16 32) (v4483 : IVec S16 32) (v4550 : IVec S16 32) : Prop :=
  (∀ a x, ((![v4096, v4483, v4550, v30] : Fin 4 → IVec S16 32) a x).toNat < S2x4x32x32.size a)
theorem k0_idx1885_inb : ∀ (v30 : IVec S16 32) (v4096 : IVec S16 32) (v4483 : IVec S16 32) (v4550 : IVec S16 32) (k0_hw1426 : k0_chk1426 v30 v4096 v4483 v4550), ∀ a x, ((![v4096, v4483, v4550, v30] : Fin 4 → IVec S16 32) a x).toNat < S2x4x32x32.size a := fun v30 v4096 v4483 v4550 k0_hw1426 => k0_hw1426

def k0_chk1427 (v4096 : IVec S16 32) (v4483 : IVec S16 32) (v4550 : IVec S16 32) (v4553 : IVec S16 32) : Prop :=
  (∀ a x, ((![v4096, v4483, v4550, v4553] : Fin 4 → IVec S16 32) a x).toNat < S2x4x32x32.size a)
theorem k0_idx1886_inb : ∀ (v4096 : IVec S16 32) (v4483 : IVec S16 32) (v4550 : IVec S16 32) (v4553 : IVec S16 32) (k0_hw1427 : k0_chk1427 v4096 v4483 v4550 v4553), ∀ a x, ((![v4096, v4483, v4550, v4553] : Fin 4 → IVec S16 32) a x).toNat < S2x4x32x32.size a := fun v4096 v4483 v4550 v4553 k0_hw1427 => k0_hw1427

def k0_chk1428 (v33 : IVec S16 32) (v35 : IVec S16 32) (v4096 : IVec S16 32) (v4483 : IVec S16 32) (v4555 : IVec S16 32) : Prop :=
  (∀ a x, ((![v4096, v4483, v4555, v33] : Fin 4 → IVec S16 32) a x).toNat < S2x4x94x96.size a) ∧
  (∀ a x, ((![v4096, v4483, v4555, v35] : Fin 4 → IVec S16 32) a x).toNat < S2x4x94x96.size a)
theorem k0_idx1887_inb : ∀ (v33 : IVec S16 32) (v35 : IVec S16 32) (v4096 : IVec S16 32) (v4483 : IVec S16 32) (v4555 : IVec S16 32) (k0_hw1428 : k0_chk1428 v33 v35 v4096 v4483 v4555), ∀ a x, ((![v4096, v4483, v4555, v33] : Fin 4 → IVec S16 32) a x).toNat < S2x4x94x96.size a := fun v33 v35 v4096 v4483 v4555 k0_hw1428 => k0_hw1428.1
theorem k0_idx1888_inb : ∀ (v33 : IVec S16 32) (v35 : IVec S16 32) (v4096 : IVec S16 32) (v4483 : IVec S16 32) (v4555 : IVec S16 32) (k0_hw1428 : k0_chk1428 v33 v35 v4096 v4483 v4555), ∀ a x, ((![v4096, v4483, v4555, v35] : Fin 4 → IVec S16 32) a x).toNat < S2x4x94x96.size a := fun v33 v35 v4096 v4483 v4555 k0_hw1428 => k0_hw1428.2

def k0_chk1429 (v30 : IVec S16 32) (v4096 : IVec S16 32) (v4483 : IVec S16 32) (v4556 : IVec S16 32) : Prop :=
  (∀ a x, ((![v4096, v4483, v4556, v30] : Fin 4 → IVec S16 32) a x).toNat < S2x4x32x32.size a)
theorem k0_idx1889_inb : ∀ (v30 : IVec S16 32) (v4096 : IVec S16 32) (v4483 : IVec S16 32) (v4556 : IVec S16 32) (k0_hw1429 : k0_chk1429 v30 v4096 v4483 v4556), ∀ a x, ((![v4096, v4483, v4556, v30] : Fin 4 → IVec S16 32) a x).toNat < S2x4x32x32.size a := fun v30 v4096 v4483 v4556 k0_hw1429 => k0_hw1429

def k0_chk1430 (v4096 : IVec S16 32) (v4483 : IVec S16 32) (v4556 : IVec S16 32) (v4559 : IVec S16 32) : Prop :=
  (∀ a x, ((![v4096, v4483, v4556, v4559] : Fin 4 → IVec S16 32) a x).toNat < S2x4x32x32.size a)
theorem k0_idx1890_inb : ∀ (v4096 : IVec S16 32) (v4483 : IVec S16 32) (v4556 : IVec S16 32) (v4559 : IVec S16 32) (k0_hw1430 : k0_chk1430 v4096 v4483 v4556 v4559), ∀ a x, ((![v4096, v4483, v4556, v4559] : Fin 4 → IVec S16 32) a x).toNat < S2x4x32x32.size a := fun v4096 v4483 v4556 v4559 k0_hw1430 => k0_hw1430

def k0_chk1431 (v33 : IVec S16 32) (v35 : IVec S16 32) (v4096 : IVec S16 32) (v4483 : IVec S16 32) (v4561 : IVec S16 32) : Prop :=
  (∀ a x, ((![v4096, v4483, v4561, v33] : Fin 4 → IVec S16 32) a x).toNat < S2x4x94x96.size a) ∧
  (∀ a x, ((![v4096, v4483, v4561, v35] : Fin 4 → IVec S16 32) a x).toNat < S2x4x94x96.size a)
theorem k0_idx1891_inb : ∀ (v33 : IVec S16 32) (v35 : IVec S16 32) (v4096 : IVec S16 32) (v4483 : IVec S16 32) (v4561 : IVec S16 32) (k0_hw1431 : k0_chk1431 v33 v35 v4096 v4483 v4561), ∀ a x, ((![v4096, v4483, v4561, v33] : Fin 4 → IVec S16 32) a x).toNat < S2x4x94x96.size a := fun v33 v35 v4096 v4483 v4561 k0_hw1431 => k0_hw1431.1
theorem k0_idx1892_inb : ∀ (v33 : IVec S16 32) (v35 : IVec S16 32) (v4096 : IVec S16 32) (v4483 : IVec S16 32) (v4561 : IVec S16 32) (k0_hw1431 : k0_chk1431 v33 v35 v4096 v4483 v4561), ∀ a x, ((![v4096, v4483, v4561, v35] : Fin 4 → IVec S16 32) a x).toNat < S2x4x94x96.size a := fun v33 v35 v4096 v4483 v4561 k0_hw1431 => k0_hw1431.2

def k0_chk1432 (v30 : IVec S16 32) (v4096 : IVec S16 32) (v4483 : IVec S16 32) (v4562 : IVec S16 32) : Prop :=
  (∀ a x, ((![v4096, v4483, v4562, v30] : Fin 4 → IVec S16 32) a x).toNat < S2x4x32x32.size a)
theorem k0_idx1893_inb : ∀ (v30 : IVec S16 32) (v4096 : IVec S16 32) (v4483 : IVec S16 32) (v4562 : IVec S16 32) (k0_hw1432 : k0_chk1432 v30 v4096 v4483 v4562), ∀ a x, ((![v4096, v4483, v4562, v30] : Fin 4 → IVec S16 32) a x).toNat < S2x4x32x32.size a := fun v30 v4096 v4483 v4562 k0_hw1432 => k0_hw1432

def k0_chk1433 (v4096 : IVec S16 32) (v4483 : IVec S16 32) (v4562 : IVec S16 32) (v4565 : IVec S16 32) : Prop :=
  (∀ a x, ((![v4096, v4483, v4562, v4565] : Fin 4 → IVec S16 32) a x).toNat < S2x4x32x32.size a)
theorem k0_idx1894_inb : ∀ (v4096 : IVec S16 32) (v4483 : IVec S16 32) (v4562 : IVec S16 32) (v4565 : IVec S16 32) (k0_hw1433 : k0_chk1433 v4096 v4483 v4562 v4565), ∀ a x, ((![v4096, v4483, v4562, v4565] : Fin 4 → IVec S16 32) a x).toNat < S2x4x32x32.size a := fun v4096 v4483 v4562 v4565 k0_hw1433 => k0_hw1433

def k0_chk1434 (v33 : IVec S16 32) (v35 : IVec S16 32) (v4096 : IVec S16 32) (v4483 : IVec S16 32) (v4567 : IVec S16 32) : Prop :=
  (∀ a x, ((![v4096, v4483, v4567, v33] : Fin 4 → IVec S16 32) a x).toNat < S2x4x94x96.size a) ∧
  (∀ a x, ((![v4096, v4483, v4567, v35] : Fin 4 → IVec S16 32) a x).toNat < S2x4x94x96.size a)
theorem k0_idx1895_inb : ∀ (v33 : IVec S16 32) (v35 : IVec S16 32) (v4096 : IVec S16 32) (v4483 : IVec S16 32) (v4567 : IVec S16 32) (k0_hw1434 : k0_chk1434 v33 v35 v4096 v4483 v4567), ∀ a x, ((![v4096, v4483, v4567, v33] : Fin 4 → IVec S16 32) a x).toNat < S2x4x94x96.size a := fun v33 v35 v4096 v4483 v4567 k0_hw1434 => k0_hw1434.1
theorem k0_idx1896_inb : ∀ (v33 : IVec S16 32) (v35 : IVec S16 32) (v4096 : IVec S16 32) (v4483 : IVec S16 32) (v4567 : IVec S16 32) (k0_hw1434 : k0_chk1434 v33 v35 v4096 v4483 v4567), ∀ a x, ((![v4096, v4483, v4567, v35] : Fin 4 → IVec S16 32) a x).toNat < S2x4x94x96.size a := fun v33 v35 v4096 v4483 v4567 k0_hw1434 => k0_hw1434.2

def k0_chk1435 (v30 : IVec S16 32) (v4096 : IVec S16 32) (v4483 : IVec S16 32) (v4568 : IVec S16 32) : Prop :=
  (∀ a x, ((![v4096, v4483, v4568, v30] : Fin 4 → IVec S16 32) a x).toNat < S2x4x32x32.size a)
theorem k0_idx1897_inb : ∀ (v30 : IVec S16 32) (v4096 : IVec S16 32) (v4483 : IVec S16 32) (v4568 : IVec S16 32) (k0_hw1435 : k0_chk1435 v30 v4096 v4483 v4568), ∀ a x, ((![v4096, v4483, v4568, v30] : Fin 4 → IVec S16 32) a x).toNat < S2x4x32x32.size a := fun v30 v4096 v4483 v4568 k0_hw1435 => k0_hw1435

def k0_chk1436 (v4096 : IVec S16 32) (v4483 : IVec S16 32) (v4568 : IVec S16 32) (v4571 : IVec S16 32) : Prop :=
  (∀ a x, ((![v4096, v4483, v4568, v4571] : Fin 4 → IVec S16 32) a x).toNat < S2x4x32x32.size a)
theorem k0_idx1898_inb : ∀ (v4096 : IVec S16 32) (v4483 : IVec S16 32) (v4568 : IVec S16 32) (v4571 : IVec S16 32) (k0_hw1436 : k0_chk1436 v4096 v4483 v4568 v4571), ∀ a x, ((![v4096, v4483, v4568, v4571] : Fin 4 → IVec S16 32) a x).toNat < S2x4x32x32.size a := fun v4096 v4483 v4568 v4571 k0_hw1436 => k0_hw1436

def k0_chk1437 (v33 : IVec S16 32) (v35 : IVec S16 32) (v4096 : IVec S16 32) (v4483 : IVec S16 32) (v4573 : IVec S16 32) : Prop :=
  (∀ a x, ((![v4096, v4483, v4573, v33] : Fin 4 → IVec S16 32) a x).toNat < S2x4x94x96.size a) ∧
  (∀ a x, ((![v4096, v4483, v4573, v35] : Fin 4 → IVec S16 32) a x).toNat < S2x4x94x96.size a)
theorem k0_idx1899_inb : ∀ (v33 : IVec S16 32) (v35 : IVec S16 32) (v4096 : IVec S16 32) (v4483 : IVec S16 32) (v4573 : IVec S16 32) (k0_hw1437 : k0_chk1437 v33 v35 v4096 v4483 v4573), ∀ a x, ((![v4096, v4483, v4573, v33] : Fin 4 → IVec S16 32) a x).toNat < S2x4x94x96.size a := fun v33 v35 v4096 v4483 v4573 k0_hw1437 => k0_hw1437.1
theorem k0_idx1900_inb : ∀ (v33 : IVec S16 32) (v35 : IVec S16 32) (v4096 : IVec S16 32) (v4483 : IVec S16 32) (v4573 : IVec S16 32) (k0_hw1437 : k0_chk1437 v33 v35 v4096 v4483 v4573), ∀ a x, ((![v4096, v4483, v4573, v35] : Fin 4 → IVec S16 32) a x).toNat < S2x4x94x96.size a := fun v33 v35 v4096 v4483 v4573 k0_hw1437 => k0_hw1437.2

def k0_chk1438 (v30 : IVec S16 32) (v4096 : IVec S16 32) (v4483 : IVec S16 32) (v4574 : IVec S16 32) : Prop :=
  (∀ a x, ((![v4096, v4483, v4574, v30] : Fin 4 → IVec S16 32) a x).toNat < S2x4x32x32.size a)
theorem k0_idx1901_inb : ∀ (v30 : IVec S16 32) (v4096 : IVec S16 32) (v4483 : IVec S16 32) (v4574 : IVec S16 32) (k0_hw1438 : k0_chk1438 v30 v4096 v4483 v4574), ∀ a x, ((![v4096, v4483, v4574, v30] : Fin 4 → IVec S16 32) a x).toNat < S2x4x32x32.size a := fun v30 v4096 v4483 v4574 k0_hw1438 => k0_hw1438

def k0_chk1439 (v4096 : IVec S16 32) (v4483 : IVec S16 32) (v4574 : IVec S16 32) (v4577 : IVec S16 32) : Prop :=
  (∀ a x, ((![v4096, v4483, v4574, v4577] : Fin 4 → IVec S16 32) a x).toNat < S2x4x32x32.size a)
theorem k0_idx1902_inb : ∀ (v4096 : IVec S16 32) (v4483 : IVec S16 32) (v4574 : IVec S16 32) (v4577 : IVec S16 32) (k0_hw1439 : k0_chk1439 v4096 v4483 v4574 v4577), ∀ a x, ((![v4096, v4483, v4574, v4577] : Fin 4 → IVec S16 32) a x).toNat < S2x4x32x32.size a := fun v4096 v4483 v4574 v4577 k0_hw1439 => k0_hw1439

def k0_chk1440 (v33 : IVec S16 32) (v35 : IVec S16 32) (v4096 : IVec S16 32) (v4483 : IVec S16 32) (v4579 : IVec S16 32) : Prop :=
  (∀ a x, ((![v4096, v4483, v4579, v33] : Fin 4 → IVec S16 32) a x).toNat < S2x4x94x96.size a) ∧
  (∀ a x, ((![v4096, v4483, v4579, v35] : Fin 4 → IVec S16 32) a x).toNat < S2x4x94x96.size a)
theorem k0_idx1903_inb : ∀ (v33 : IVec S16 32) (v35 : IVec S16 32) (v4096 : IVec S16 32) (v4483 : IVec S16 32) (v4579 : IVec S16 32) (k0_hw1440 : k0_chk1440 v33 v35 v4096 v4483 v4579), ∀ a x, ((![v4096, v4483, v4579, v33] : Fin 4 → IVec S16 32) a x).toNat < S2x4x94x96.size a := fun v33 v35 v4096 v4483 v4579 k0_hw1440 => k0_hw1440.1
theorem k0_idx1904_inb : ∀ (v33 : IVec S16 32) (v35 : IVec S16 32) (v4096 : IVec S16 32) (v4483 : IVec S16 32) (v4579 : IVec S16 32) (k0_hw1440 : k0_chk1440 v33 v35 v4096 v4483 v4579), ∀ a x, ((![v4096, v4483, v4579, v35] : Fin 4 → IVec S16 32) a x).toNat < S2x4x94x96.size a := fun v33 v35 v4096 v4483 v4579 k0_hw1440 => k0_hw1440.2

def k0_chk1441 (v30 : IVec S16 32) (v4096 : IVec S16 32) (v4483 : IVec S16 32) (v4580 : IVec S16 32) : Prop :=
  (∀ a x, ((![v4096, v4483, v4580, v30] : Fin 4 → IVec S16 32) a x).toNat < S2x4x32x32.size a)
theorem k0_idx1905_inb : ∀ (v30 : IVec S16 32) (v4096 : IVec S16 32) (v4483 : IVec S16 32) (v4580 : IVec S16 32) (k0_hw1441 : k0_chk1441 v30 v4096 v4483 v4580), ∀ a x, ((![v4096, v4483, v4580, v30] : Fin 4 → IVec S16 32) a x).toNat < S2x4x32x32.size a := fun v30 v4096 v4483 v4580 k0_hw1441 => k0_hw1441

def k0_chk1442 (v4096 : IVec S16 32) (v4483 : IVec S16 32) (v4580 : IVec S16 32) (v4583 : IVec S16 32) : Prop :=
  (∀ a x, ((![v4096, v4483, v4580, v4583] : Fin 4 → IVec S16 32) a x).toNat < S2x4x32x32.size a)
theorem k0_idx1906_inb : ∀ (v4096 : IVec S16 32) (v4483 : IVec S16 32) (v4580 : IVec S16 32) (v4583 : IVec S16 32) (k0_hw1442 : k0_chk1442 v4096 v4483 v4580 v4583), ∀ a x, ((![v4096, v4483, v4580, v4583] : Fin 4 → IVec S16 32) a x).toNat < S2x4x32x32.size a := fun v4096 v4483 v4580 v4583 k0_hw1442 => k0_hw1442

def k0_chk1443 (v33 : IVec S16 32) (v35 : IVec S16 32) (v4096 : IVec S16 32) (v4483 : IVec S16 32) (v4585 : IVec S16 32) : Prop :=
  (∀ a x, ((![v4096, v4483, v4585, v33] : Fin 4 → IVec S16 32) a x).toNat < S2x4x94x96.size a) ∧
  (∀ a x, ((![v4096, v4483, v4585, v35] : Fin 4 → IVec S16 32) a x).toNat < S2x4x94x96.size a)
theorem k0_idx1907_inb : ∀ (v33 : IVec S16 32) (v35 : IVec S16 32) (v4096 : IVec S16 32) (v4483 : IVec S16 32) (v4585 : IVec S16 32) (k0_hw1443 : k0_chk1443 v33 v35 v4096 v4483 v4585), ∀ a x, ((![v4096, v4483, v4585, v33] : Fin 4 → IVec S16 32) a x).toNat < S2x4x94x96.size a := fun v33 v35 v4096 v4483 v4585 k0_hw1443 => k0_hw1443.1
theorem k0_idx1908_inb : ∀ (v33 : IVec S16 32) (v35 : IVec S16 32) (v4096 : IVec S16 32) (v4483 : IVec S16 32) (v4585 : IVec S16 32) (k0_hw1443 : k0_chk1443 v33 v35 v4096 v4483 v4585), ∀ a x, ((![v4096, v4483, v4585, v35] : Fin 4 → IVec S16 32) a x).toNat < S2x4x94x96.size a := fun v33 v35 v4096 v4483 v4585 k0_hw1443 => k0_hw1443.2

def k0_chk1444 (v30 : IVec S16 32) (v4096 : IVec S16 32) (v4483 : IVec S16 32) (v4586 : IVec S16 32) : Prop :=
  (∀ a x, ((![v4096, v4483, v4586, v30] : Fin 4 → IVec S16 32) a x).toNat < S2x4x32x32.size a)
theorem k0_idx1909_inb : ∀ (v30 : IVec S16 32) (v4096 : IVec S16 32) (v4483 : IVec S16 32) (v4586 : IVec S16 32) (k0_hw1444 : k0_chk1444 v30 v4096 v4483 v4586), ∀ a x, ((![v4096, v4483, v4586, v30] : Fin 4 → IVec S16 32) a x).toNat < S2x4x32x32.size a := fun v30 v4096 v4483 v4586 k0_hw1444 => k0_hw1444

def k0_chk1445 (v4096 : IVec S16 32) (v4483 : IVec S16 32) (v4586 : IVec S16 32) (v4589 : IVec S16 32) : Prop :=
  (∀ a x, ((![v4096, v4483, v4586, v4589] : Fin 4 → IVec S16 32) a x).toNat < S2x4x32x32.size a)
theorem k0_idx1910_inb : ∀ (v4096 : IVec S16 32) (v4483 : IVec S16 32) (v4586 : IVec S16 32) (v4589 : IVec S16 32) (k0_hw1445 : k0_chk1445 v4096 v4483 v4586 v4589), ∀ a x, ((![v4096, v4483, v4586, v4589] : Fin 4 → IVec S16 32) a x).toNat < S2x4x32x32.size a := fun v4096 v4483 v4586 v4589 k0_hw1445 => k0_hw1445

def k0_chk1446 (v33 : IVec S16 32) (v35 : IVec S16 32) (v4096 : IVec S16 32) (v4483 : IVec S16 32) (v4591 : IVec S16 32) : Prop :=
  (∀ a x, ((![v4096, v4483, v4591, v33] : Fin 4 → IVec S16 32) a x).toNat < S2x4x94x96.size a) ∧
  (∀ a x, ((![v4096, v4483, v4591, v35] : Fin 4 → IVec S16 32) a x).toNat < S2x4x94x96.size a)
theorem k0_idx1911_inb : ∀ (v33 : IVec S16 32) (v35 : IVec S16 32) (v4096 : IVec S16 32) (v4483 : IVec S16 32) (v4591 : IVec S16 32) (k0_hw1446 : k0_chk1446 v33 v35 v4096 v4483 v4591), ∀ a x, ((![v4096, v4483, v4591, v33] : Fin 4 → IVec S16 32) a x).toNat < S2x4x94x96.size a := fun v33 v35 v4096 v4483 v4591 k0_hw1446 => k0_hw1446.1
theorem k0_idx1912_inb : ∀ (v33 : IVec S16 32) (v35 : IVec S16 32) (v4096 : IVec S16 32) (v4483 : IVec S16 32) (v4591 : IVec S16 32) (k0_hw1446 : k0_chk1446 v33 v35 v4096 v4483 v4591), ∀ a x, ((![v4096, v4483, v4591, v35] : Fin 4 → IVec S16 32) a x).toNat < S2x4x94x96.size a := fun v33 v35 v4096 v4483 v4591 k0_hw1446 => k0_hw1446.2

def k0_chk1447 (v30 : IVec S16 32) (v4096 : IVec S16 32) (v4483 : IVec S16 32) (v4592 : IVec S16 32) : Prop :=
  (∀ a x, ((![v4096, v4483, v4592, v30] : Fin 4 → IVec S16 32) a x).toNat < S2x4x32x32.size a)
theorem k0_idx1913_inb : ∀ (v30 : IVec S16 32) (v4096 : IVec S16 32) (v4483 : IVec S16 32) (v4592 : IVec S16 32) (k0_hw1447 : k0_chk1447 v30 v4096 v4483 v4592), ∀ a x, ((![v4096, v4483, v4592, v30] : Fin 4 → IVec S16 32) a x).toNat < S2x4x32x32.size a := fun v30 v4096 v4483 v4592 k0_hw1447 => k0_hw1447

def k0_chk1448 (v4096 : IVec S16 32) (v4483 : IVec S16 32) (v4592 : IVec S16 32) (v4595 : IVec S16 32) : Prop :=
  (∀ a x, ((![v4096, v4483, v4592, v4595] : Fin 4 → IVec S16 32) a x).toNat < S2x4x32x32.size a)
theorem k0_idx1914_inb : ∀ (v4096 : IVec S16 32) (v4483 : IVec S16 32) (v4592 : IVec S16 32) (v4595 : IVec S16 32) (k0_hw1448 : k0_chk1448 v4096 v4483 v4592 v4595), ∀ a x, ((![v4096, v4483, v4592, v4595] : Fin 4 → IVec S16 32) a x).toNat < S2x4x32x32.size a := fun v4096 v4483 v4592 v4595 k0_hw1448 => k0_hw1448

def k0_chk1449 (v33 : IVec S16 32) (v35 : IVec S16 32) (v4096 : IVec S16 32) (v4483 : IVec S16 32) (v4597 : IVec S16 32) : Prop :=
  (∀ a x, ((![v4096, v4483, v4597, v33] : Fin 4 → IVec S16 32) a x).toNat < S2x4x94x96.size a) ∧
  (∀ a x, ((![v4096, v4483, v4597, v35] : Fin 4 → IVec S16 32) a x).toNat < S2x4x94x96.size a)
theorem k0_idx1915_inb : ∀ (v33 : IVec S16 32) (v35 : IVec S16 32) (v4096 : IVec S16 32) (v4483 : IVec S16 32) (v4597 : IVec S16 32) (k0_hw1449 : k0_chk1449 v33 v35 v4096 v4483 v4597), ∀ a x, ((![v4096, v4483, v4597, v33] : Fin 4 → IVec S16 32) a x).toNat < S2x4x94x96.size a := fun v33 v35 v4096 v4483 v4597 k0_hw1449 => k0_hw1449.1
theorem k0_idx1916_inb : ∀ (v33 : IVec S16 32) (v35 : IVec S16 32) (v4096 : IVec S16 32) (v4483 : IVec S16 32) (v4597 : IVec S16 32) (k0_hw1449 : k0_chk1449 v33 v35 v4096 v4483 v4597), ∀ a x, ((![v4096, v4483, v4597, v35] : Fin 4 → IVec S16 32) a x).toNat < S2x4x94x96.size a := fun v33 v35 v4096 v4483 v4597 k0_hw1449 => k0_hw1449.2

def k0_chk1450 (v30 : IVec S16 32) (v4096 : IVec S16 32) (v4483 : IVec S16 32) (v4598 : IVec S16 32) : Prop :=
  (∀ a x, ((![v4096, v4483, v4598, v30] : Fin 4 → IVec S16 32) a x).toNat < S2x4x32x32.size a)
theorem k0_idx1917_inb : ∀ (v30 : IVec S16 32) (v4096 : IVec S16 32) (v4483 : IVec S16 32) (v4598 : IVec S16 32) (k0_hw1450 : k0_chk1450 v30 v4096 v4483 v4598), ∀ a x, ((![v4096, v4483, v4598, v30] : Fin 4 → IVec S16 32) a x).toNat < S2x4x32x32.size a := fun v30 v4096 v4483 v4598 k0_hw1450 => k0_hw1450

def k0_chk1451 (v4096 : IVec S16 32) (v4483 : IVec S16 32) (v4598 : IVec S16 32) (v4601 : IVec S16 32) : Prop :=
  (∀ a x, ((![v4096, v4483, v4598, v4601] : Fin 4 → IVec S16 32) a x).toNat < S2x4x32x32.size a)
theorem k0_idx1918_inb : ∀ (v4096 : IVec S16 32) (v4483 : IVec S16 32) (v4598 : IVec S16 32) (v4601 : IVec S16 32) (k0_hw1451 : k0_chk1451 v4096 v4483 v4598 v4601), ∀ a x, ((![v4096, v4483, v4598, v4601] : Fin 4 → IVec S16 32) a x).toNat < S2x4x32x32.size a := fun v4096 v4483 v4598 v4601 k0_hw1451 => k0_hw1451

def k0_chk1452 (v33 : IVec S16 32) (v35 : IVec S16 32) (v4096 : IVec S16 32) (v4483 : IVec S16 32) (v4603 : IVec S16 32) : Prop :=
  (∀ a x, ((![v4096, v4483, v4603, v33] : Fin 4 → IVec S16 32) a x).toNat < S2x4x94x96.size a) ∧
  (∀ a x, ((![v4096, v4483, v4603, v35] : Fin 4 → IVec S16 32) a x).toNat < S2x4x94x96.size a)
theorem k0_idx1919_inb : ∀ (v33 : IVec S16 32) (v35 : IVec S16 32) (v4096 : IVec S16 32) (v4483 : IVec S16 32) (v4603 : IVec S16 32) (k0_hw1452 : k0_chk1452 v33 v35 v4096 v4483 v4603), ∀ a x, ((![v4096, v4483, v4603, v33] : Fin 4 → IVec S16 32) a x).toNat < S2x4x94x96.size a := fun v33 v35 v4096 v4483 v4603 k0_hw1452 => k0_hw1452.1
theorem k0_idx1920_inb : ∀ (v33 : IVec S16 32) (v35 : IVec S16 32) (v4096 : IVec S16 32) (v4483 : IVec S16 32) (v4603 : IVec S16 32) (k0_hw1452 : k0_chk1452 v33 v35 v4096 v4483 v4603), ∀ a x, ((![v4096, v4483, v4603, v35] : Fin 4 → IVec S16 32) a x).toNat < S2x4x94x96.size a := fun v33 v35 v4096 v4483 v4603 k0_hw1452 => k0_hw1452.2

def k0_chk1453 (v30 : IVec S16 32) (v4096 : IVec S16 32) (v4483 : IVec S16 32) (v4604 : IVec S16 32) : Prop :=
  (∀ a x, ((![v4096, v4483, v4604, v30] : Fin 4 → IVec S16 32) a x).toNat < S2x4x32x32.size a)
theorem k0_idx1921_inb : ∀ (v30 : IVec S16 32) (v4096 : IVec S16 32) (v4483 : IVec S16 32) (v4604 : IVec S16 32) (k0_hw1453 : k0_chk1453 v30 v4096 v4483 v4604), ∀ a x, ((![v4096, v4483, v4604, v30] : Fin 4 → IVec S16 32) a x).toNat < S2x4x32x32.size a := fun v30 v4096 v4483 v4604 k0_hw1453 => k0_hw1453

def k0_chk1454 (v4096 : IVec S16 32) (v4483 : IVec S16 32) (v4604 : IVec S16 32) (v4607 : IVec S16 32) : Prop :=
  (∀ a x, ((![v4096, v4483, v4604, v4607] : Fin 4 → IVec S16 32) a x).toNat < S2x4x32x32.size a)
theorem k0_idx1922_inb : ∀ (v4096 : IVec S16 32) (v4483 : IVec S16 32) (v4604 : IVec S16 32) (v4607 : IVec S16 32) (k0_hw1454 : k0_chk1454 v4096 v4483 v4604 v4607), ∀ a x, ((![v4096, v4483, v4604, v4607] : Fin 4 → IVec S16 32) a x).toNat < S2x4x32x32.size a := fun v4096 v4483 v4604 v4607 k0_hw1454 => k0_hw1454

def k0_chk1455 (v33 : IVec S16 32) (v35 : IVec S16 32) (v4096 : IVec S16 32) (v4483 : IVec S16 32) (v4609 : IVec S16 32) : Prop :=
  (∀ a x, ((![v4096, v4483, v4609, v33] : Fin 4 → IVec S16 32) a x).toNat < S2x4x94x96.size a) ∧
  (∀ a x, ((![v4096, v4483, v4609, v35] : Fin 4 → IVec S16 32) a x).toNat < S2x4x94x96.size a)
theorem k0_idx1923_inb : ∀ (v33 : IVec S16 32) (v35 : IVec S16 32) (v4096 : IVec S16 32) (v4483 : IVec S16 32) (v4609 : IVec S16 32) (k0_hw1455 : k0_chk1455 v33 v35 v4096 v4483 v4609), ∀ a x, ((![v4096, v4483, v4609, v33] : Fin 4 → IVec S16 32) a x).toNat < S2x4x94x96.size a := fun v33 v35 v4096 v4483 v4609 k0_hw1455 => k0_hw1455.1
theorem k0_idx1924_inb : ∀ (v33 : IVec S16 32) (v35 : IVec S16 32) (v4096 : IVec S16 32) (v4483 : IVec S16 32) (v4609 : IVec S16 32) (k0_hw1455 : k0_chk1455 v33 v35 v4096 v4483 v4609), ∀ a x, ((![v4096, v4483, v4609, v35] : Fin 4 → IVec S16 32) a x).toNat < S2x4x94x96.size a := fun v33 v35 v4096 v4483 v4609 k0_hw1455 => k0_hw1455.2

def k0_chk1456 (v30 : IVec S16 32) (v4096 : IVec S16 32) (v4483 : IVec S16 32) (v4610 : IVec S16 32) : Prop :=
  (∀ a x, ((![v4096, v4483, v4610, v30] : Fin 4 → IVec S16 32) a x).toNat < S2x4x32x32.size a)
theorem k0_idx1925_inb : ∀ (v30 : IVec S16 32) (v4096 : IVec S16 32) (v4483 : IVec S16 32) (v4610 : IVec S16 32) (k0_hw1456 : k0_chk1456 v30 v4096 v4483 v4610), ∀ a x, ((![v4096, v4483, v4610, v30] : Fin 4 → IVec S16 32) a x).toNat < S2x4x32x32.size a := fun v30 v4096 v4483 v4610 k0_hw1456 => k0_hw1456

def k0_chk1457 (v4096 : IVec S16 32) (v4483 : IVec S16 32) (v4610 : IVec S16 32) (v4613 : IVec S16 32) : Prop :=
  (∀ a x, ((![v4096, v4483, v4610, v4613] : Fin 4 → IVec S16 32) a x).toNat < S2x4x32x32.size a)
theorem k0_idx1926_inb : ∀ (v4096 : IVec S16 32) (v4483 : IVec S16 32) (v4610 : IVec S16 32) (v4613 : IVec S16 32) (k0_hw1457 : k0_chk1457 v4096 v4483 v4610 v4613), ∀ a x, ((![v4096, v4483, v4610, v4613] : Fin 4 → IVec S16 32) a x).toNat < S2x4x32x32.size a := fun v4096 v4483 v4610 v4613 k0_hw1457 => k0_hw1457

def k0_chk1458 (v33 : IVec S16 32) (v35 : IVec S16 32) (v4096 : IVec S16 32) (v4483 : IVec S16 32) (v4615 : IVec S16 32) : Prop :=
  (∀ a x, ((![v4096, v4483, v4615, v33] : Fin 4 → IVec S16 32) a x).toNat < S2x4x94x96.size a) ∧
  (∀ a x, ((![v4096, v4483, v4615, v35] : Fin 4 → IVec S16 32) a x).toNat < S2x4x94x96.size a)
theorem k0_idx1927_inb : ∀ (v33 : IVec S16 32) (v35 : IVec S16 32) (v4096 : IVec S16 32) (v4483 : IVec S16 32) (v4615 : IVec S16 32) (k0_hw1458 : k0_chk1458 v33 v35 v4096 v4483 v4615), ∀ a x, ((![v4096, v4483, v4615, v33] : Fin 4 → IVec S16 32) a x).toNat < S2x4x94x96.size a := fun v33 v35 v4096 v4483 v4615 k0_hw1458 => k0_hw1458.1
theorem k0_idx1928_inb : ∀ (v33 : IVec S16 32) (v35 : IVec S16 32) (v4096 : IVec S16 32) (v4483 : IVec S16 32) (v4615 : IVec S16 32) (k0_hw1458 : k0_chk1458 v33 v35 v4096 v4483 v4615), ∀ a x, ((![v4096, v4483, v4615, v35] : Fin 4 → IVec S16 32) a x).toNat < S2x4x94x96.size a := fun v33 v35 v4096 v4483 v4615 k0_hw1458 => k0_hw1458.2

def k0_chk1459 (v30 : IVec S16 32) (v4096 : IVec S16 32) (v4483 : IVec S16 32) (v4616 : IVec S16 32) : Prop :=
  (∀ a x, ((![v4096, v4483, v4616, v30] : Fin 4 → IVec S16 32) a x).toNat < S2x4x32x32.size a)
theorem k0_idx1929_inb : ∀ (v30 : IVec S16 32) (v4096 : IVec S16 32) (v4483 : IVec S16 32) (v4616 : IVec S16 32) (k0_hw1459 : k0_chk1459 v30 v4096 v4483 v4616), ∀ a x, ((![v4096, v4483, v4616, v30] : Fin 4 → IVec S16 32) a x).toNat < S2x4x32x32.size a := fun v30 v4096 v4483 v4616 k0_hw1459 => k0_hw1459

def k0_chk1460 (v4096 : IVec S16 32) (v4483 : IVec S16 32) (v4616 : IVec S16 32) (v4619 : IVec S16 32) : Prop :=
  (∀ a x, ((![v4096, v4483, v4616, v4619] : Fin 4 → IVec S16 32) a x).toNat < S2x4x32x32.size a)
theorem k0_idx1930_inb : ∀ (v4096 : IVec S16 32) (v4483 : IVec S16 32) (v4616 : IVec S16 32) (v4619 : IVec S16 32) (k0_hw1460 : k0_chk1460 v4096 v4483 v4616 v4619), ∀ a x, ((![v4096, v4483, v4616, v4619] : Fin 4 → IVec S16 32) a x).toNat < S2x4x32x32.size a := fun v4096 v4483 v4616 v4619 k0_hw1460 => k0_hw1460

def k0_chk1461 (v33 : IVec S16 32) (v35 : IVec S16 32) (v4096 : IVec S16 32) (v4483 : IVec S16 32) (v4621 : IVec S16 32) : Prop :=
  (∀ a x, ((![v4096, v4483, v4621, v33] : Fin 4 → IVec S16 32) a x).toNat < S2x4x94x96.size a) ∧
  (∀ a x, ((![v4096, v4483, v4621, v35] : Fin 4 → IVec S16 32) a x).toNat < S2x4x94x96.size a)
theorem k0_idx1931_inb : ∀ (v33 : IVec S16 32) (v35 : IVec S16 32) (v4096 : IVec S16 32) (v4483 : IVec S16 32) (v4621 : IVec S16 32) (k0_hw1461 : k0_chk1461 v33 v35 v4096 v4483 v4621), ∀ a x, ((![v4096, v4483, v4621, v33] : Fin 4 → IVec S16 32) a x).toNat < S2x4x94x96.size a := fun v33 v35 v4096 v4483 v4621 k0_hw1461 => k0_hw1461.1
theorem k0_idx1932_inb : ∀ (v33 : IVec S16 32) (v35 : IVec S16 32) (v4096 : IVec S16 32) (v4483 : IVec S16 32) (v4621 : IVec S16 32) (k0_hw1461 : k0_chk1461 v33 v35 v4096 v4483 v4621), ∀ a x, ((![v4096, v4483, v4621, v35] : Fin 4 → IVec S16 32) a x).toNat < S2x4x94x96.size a := fun v33 v35 v4096 v4483 v4621 k0_hw1461 => k0_hw1461.2

def k0_chk1462 (v30 : IVec S16 32) (v4096 : IVec S16 32) (v4483 : IVec S16 32) (v4622 : IVec S16 32) : Prop :=
  (∀ a x, ((![v4096, v4483, v4622, v30] : Fin 4 → IVec S16 32) a x).toNat < S2x4x32x32.size a)
theorem k0_idx1933_inb : ∀ (v30 : IVec S16 32) (v4096 : IVec S16 32) (v4483 : IVec S16 32) (v4622 : IVec S16 32) (k0_hw1462 : k0_chk1462 v30 v4096 v4483 v4622), ∀ a x, ((![v4096, v4483, v4622, v30] : Fin 4 → IVec S16 32) a x).toNat < S2x4x32x32.size a := fun v30 v4096 v4483 v4622 k0_hw1462 => k0_hw1462

def k0_chk1463 (v4096 : IVec S16 32) (v4483 : IVec S16 32) (v4622 : IVec S16 32) (v4625 : IVec S16 32) : Prop :=
  (∀ a x, ((![v4096, v4483, v4622, v4625] : Fin 4 → IVec S16 32) a x).toNat < S2x4x32x32.size a)
theorem k0_idx1934_inb : ∀ (v4096 : IVec S16 32) (v4483 : IVec S16 32) (v4622 : IVec S16 32) (v4625 : IVec S16 32) (k0_hw1463 : k0_chk1463 v4096 v4483 v4622 v4625), ∀ a x, ((![v4096, v4483, v4622, v4625] : Fin 4 → IVec S16 32) a x).toNat < S2x4x32x32.size a := fun v4096 v4483 v4622 v4625 k0_hw1463 => k0_hw1463

def k0_chk1464 (v33 : IVec S16 32) (v35 : IVec S16 32) (v4096 : IVec S16 32) (v4483 : IVec S16 32) (v4627 : IVec S16 32) : Prop :=
  (∀ a x, ((![v4096, v4483, v4627, v33] : Fin 4 → IVec S16 32) a x).toNat < S2x4x94x96.size a) ∧
  (∀ a x, ((![v4096, v4483, v4627, v35] : Fin 4 → IVec S16 32) a x).toNat < S2x4x94x96.size a)
theorem k0_idx1935_inb : ∀ (v33 : IVec S16 32) (v35 : IVec S16 32) (v4096 : IVec S16 32) (v4483 : IVec S16 32) (v4627 : IVec S16 32) (k0_hw1464 : k0_chk1464 v33 v35 v4096 v4483 v4627), ∀ a x, ((![v4096, v4483, v4627, v33] : Fin 4 → IVec S16 32) a x).toNat < S2x4x94x96.size a := fun v33 v35 v4096 v4483 v4627 k0_hw1464 => k0_hw1464.1
theorem k0_idx1936_inb : ∀ (v33 : IVec S16 32) (v35 : IVec S16 32) (v4096 : IVec S16 32) (v4483 : IVec S16 32) (v4627 : IVec S16 32) (k0_hw1464 : k0_chk1464 v33 v35 v4096 v4483 v4627), ∀ a x, ((![v4096, v4483, v4627, v35] : Fin 4 → IVec S16 32) a x).toNat < S2x4x94x96.size a := fun v33 v35 v4096 v4483 v4627 k0_hw1464 => k0_hw1464.2

def k0_chk1465 (v30 : IVec S16 32) (v4096 : IVec S16 32) (v4483 : IVec S16 32) (v4628 : IVec S16 32) : Prop :=
  (∀ a x, ((![v4096, v4483, v4628, v30] : Fin 4 → IVec S16 32) a x).toNat < S2x4x32x32.size a)
theorem k0_idx1937_inb : ∀ (v30 : IVec S16 32) (v4096 : IVec S16 32) (v4483 : IVec S16 32) (v4628 : IVec S16 32) (k0_hw1465 : k0_chk1465 v30 v4096 v4483 v4628), ∀ a x, ((![v4096, v4483, v4628, v30] : Fin 4 → IVec S16 32) a x).toNat < S2x4x32x32.size a := fun v30 v4096 v4483 v4628 k0_hw1465 => k0_hw1465

def k0_chk1466 (v4096 : IVec S16 32) (v4483 : IVec S16 32) (v4628 : IVec S16 32) (v4631 : IVec S16 32) : Prop :=
  (∀ a x, ((![v4096, v4483, v4628, v4631] : Fin 4 → IVec S16 32) a x).toNat < S2x4x32x32.size a)
theorem k0_idx1938_inb : ∀ (v4096 : IVec S16 32) (v4483 : IVec S16 32) (v4628 : IVec S16 32) (v4631 : IVec S16 32) (k0_hw1466 : k0_chk1466 v4096 v4483 v4628 v4631), ∀ a x, ((![v4096, v4483, v4628, v4631] : Fin 4 → IVec S16 32) a x).toNat < S2x4x32x32.size a := fun v4096 v4483 v4628 v4631 k0_hw1466 => k0_hw1466

def k0_chk1467 (v33 : IVec S16 32) (v35 : IVec S16 32) (v4096 : IVec S16 32) (v4483 : IVec S16 32) (v4633 : IVec S16 32) : Prop :=
  (∀ a x, ((![v4096, v4483, v4633, v33] : Fin 4 → IVec S16 32) a x).toNat < S2x4x94x96.size a) ∧
  (∀ a x, ((![v4096, v4483, v4633, v35] : Fin 4 → IVec S16 32) a x).toNat < S2x4x94x96.size a)
theorem k0_idx1939_inb : ∀ (v33 : IVec S16 32) (v35 : IVec S16 32) (v4096 : IVec S16 32) (v4483 : IVec S16 32) (v4633 : IVec S16 32) (k0_hw1467 : k0_chk1467 v33 v35 v4096 v4483 v4633), ∀ a x, ((![v4096, v4483, v4633, v33] : Fin 4 → IVec S16 32) a x).toNat < S2x4x94x96.size a := fun v33 v35 v4096 v4483 v4633 k0_hw1467 => k0_hw1467.1
theorem k0_idx1940_inb : ∀ (v33 : IVec S16 32) (v35 : IVec S16 32) (v4096 : IVec S16 32) (v4483 : IVec S16 32) (v4633 : IVec S16 32) (k0_hw1467 : k0_chk1467 v33 v35 v4096 v4483 v4633), ∀ a x, ((![v4096, v4483, v4633, v35] : Fin 4 → IVec S16 32) a x).toNat < S2x4x94x96.size a := fun v33 v35 v4096 v4483 v4633 k0_hw1467 => k0_hw1467.2

def k0_chk1468 (v30 : IVec S16 32) (v4096 : IVec S16 32) (v4483 : IVec S16 32) (v4634 : IVec S16 32) : Prop :=
  (∀ a x, ((![v4096, v4483, v4634, v30] : Fin 4 → IVec S16 32) a x).toNat < S2x4x32x32.size a)
theorem k0_idx1941_inb : ∀ (v30 : IVec S16 32) (v4096 : IVec S16 32) (v4483 : IVec S16 32) (v4634 : IVec S16 32) (k0_hw1468 : k0_chk1468 v30 v4096 v4483 v4634), ∀ a x, ((![v4096, v4483, v4634, v30] : Fin 4 → IVec S16 32) a x).toNat < S2x4x32x32.size a := fun v30 v4096 v4483 v4634 k0_hw1468 => k0_hw1468

def k0_chk1469 (v4096 : IVec S16 32) (v4483 : IVec S16 32) (v4634 : IVec S16 32) (v4637 : IVec S16 32) : Prop :=
  (∀ a x, ((![v4096, v4483, v4634, v4637] : Fin 4 → IVec S16 32) a x).toNat < S2x4x32x32.size a)
theorem k0_idx1942_inb : ∀ (v4096 : IVec S16 32) (v4483 : IVec S16 32) (v4634 : IVec S16 32) (v4637 : IVec S16 32) (k0_hw1469 : k0_chk1469 v4096 v4483 v4634 v4637), ∀ a x, ((![v4096, v4483, v4634, v4637] : Fin 4 → IVec S16 32) a x).toNat < S2x4x32x32.size a := fun v4096 v4483 v4634 v4637 k0_hw1469 => k0_hw1469

def k0_chk1470 (v33 : IVec S16 32) (v35 : IVec S16 32) (v4096 : IVec S16 32) (v4483 : IVec S16 32) (v4639 : IVec S16 32) : Prop :=
  (∀ a x, ((![v4096, v4483, v4639, v33] : Fin 4 → IVec S16 32) a x).toNat < S2x4x94x96.size a) ∧
  (∀ a x, ((![v4096, v4483, v4639, v35] : Fin 4 → IVec S16 32) a x).toNat < S2x4x94x96.size a)
theorem k0_idx1943_inb : ∀ (v33 : IVec S16 32) (v35 : IVec S16 32) (v4096 : IVec S16 32) (v4483 : IVec S16 32) (v4639 : IVec S16 32) (k0_hw1470 : k0_chk1470 v33 v35 v4096 v4483 v4639), ∀ a x, ((![v4096, v4483, v4639, v33] : Fin 4 → IVec S16 32) a x).toNat < S2x4x94x96.size a := fun v33 v35 v4096 v4483 v4639 k0_hw1470 => k0_hw1470.1
theorem k0_idx1944_inb : ∀ (v33 : IVec S16 32) (v35 : IVec S16 32) (v4096 : IVec S16 32) (v4483 : IVec S16 32) (v4639 : IVec S16 32) (k0_hw1470 : k0_chk1470 v33 v35 v4096 v4483 v4639), ∀ a x, ((![v4096, v4483, v4639, v35] : Fin 4 → IVec S16 32) a x).toNat < S2x4x94x96.size a := fun v33 v35 v4096 v4483 v4639 k0_hw1470 => k0_hw1470.2

def k0_chk1471 (v30 : IVec S16 32) (v4096 : IVec S16 32) (v4483 : IVec S16 32) (v4640 : IVec S16 32) : Prop :=
  (∀ a x, ((![v4096, v4483, v4640, v30] : Fin 4 → IVec S16 32) a x).toNat < S2x4x32x32.size a)
theorem k0_idx1945_inb : ∀ (v30 : IVec S16 32) (v4096 : IVec S16 32) (v4483 : IVec S16 32) (v4640 : IVec S16 32) (k0_hw1471 : k0_chk1471 v30 v4096 v4483 v4640), ∀ a x, ((![v4096, v4483, v4640, v30] : Fin 4 → IVec S16 32) a x).toNat < S2x4x32x32.size a := fun v30 v4096 v4483 v4640 k0_hw1471 => k0_hw1471

def k0_chk1472 (v4096 : IVec S16 32) (v4483 : IVec S16 32) (v4640 : IVec S16 32) (v4643 : IVec S16 32) : Prop :=
  (∀ a x, ((![v4096, v4483, v4640, v4643] : Fin 4 → IVec S16 32) a x).toNat < S2x4x32x32.size a)
theorem k0_idx1946_inb : ∀ (v4096 : IVec S16 32) (v4483 : IVec S16 32) (v4640 : IVec S16 32) (v4643 : IVec S16 32) (k0_hw1472 : k0_chk1472 v4096 v4483 v4640 v4643), ∀ a x, ((![v4096, v4483, v4640, v4643] : Fin 4 → IVec S16 32) a x).toNat < S2x4x32x32.size a := fun v4096 v4483 v4640 v4643 k0_hw1472 => k0_hw1472

def k0_chk1473 (v33 : IVec S16 32) (v35 : IVec S16 32) (v4096 : IVec S16 32) (v4483 : IVec S16 32) (v4645 : IVec S16 32) : Prop :=
  (∀ a x, ((![v4096, v4483, v4645, v33] : Fin 4 → IVec S16 32) a x).toNat < S2x4x94x96.size a) ∧
  (∀ a x, ((![v4096, v4483, v4645, v35] : Fin 4 → IVec S16 32) a x).toNat < S2x4x94x96.size a)
theorem k0_idx1947_inb : ∀ (v33 : IVec S16 32) (v35 : IVec S16 32) (v4096 : IVec S16 32) (v4483 : IVec S16 32) (v4645 : IVec S16 32) (k0_hw1473 : k0_chk1473 v33 v35 v4096 v4483 v4645), ∀ a x, ((![v4096, v4483, v4645, v33] : Fin 4 → IVec S16 32) a x).toNat < S2x4x94x96.size a := fun v33 v35 v4096 v4483 v4645 k0_hw1473 => k0_hw1473.1
theorem k0_idx1948_inb : ∀ (v33 : IVec S16 32) (v35 : IVec S16 32) (v4096 : IVec S16 32) (v4483 : IVec S16 32) (v4645 : IVec S16 32) (k0_hw1473 : k0_chk1473 v33 v35 v4096 v4483 v4645), ∀ a x, ((![v4096, v4483, v4645, v35] : Fin 4 → IVec S16 32) a x).toNat < S2x4x94x96.size a := fun v33 v35 v4096 v4483 v4645 k0_hw1473 => k0_hw1473.2

def k0_chk1474 (v30 : IVec S16 32) (v4096 : IVec S16 32) (v4483 : IVec S16 32) (v4646 : IVec S16 32) : Prop :=
  (∀ a x, ((![v4096, v4483, v4646, v30] : Fin 4 → IVec S16 32) a x).toNat < S2x4x32x32.size a)
theorem k0_idx1949_inb : ∀ (v30 : IVec S16 32) (v4096 : IVec S16 32) (v4483 : IVec S16 32) (v4646 : IVec S16 32) (k0_hw1474 : k0_chk1474 v30 v4096 v4483 v4646), ∀ a x, ((![v4096, v4483, v4646, v30] : Fin 4 → IVec S16 32) a x).toNat < S2x4x32x32.size a := fun v30 v4096 v4483 v4646 k0_hw1474 => k0_hw1474

def k0_chk1475 (v4096 : IVec S16 32) (v4483 : IVec S16 32) (v4646 : IVec S16 32) (v4649 : IVec S16 32) : Prop :=
  (∀ a x, ((![v4096, v4483, v4646, v4649] : Fin 4 → IVec S16 32) a x).toNat < S2x4x32x32.size a)
theorem k0_idx1950_inb : ∀ (v4096 : IVec S16 32) (v4483 : IVec S16 32) (v4646 : IVec S16 32) (v4649 : IVec S16 32) (k0_hw1475 : k0_chk1475 v4096 v4483 v4646 v4649), ∀ a x, ((![v4096, v4483, v4646, v4649] : Fin 4 → IVec S16 32) a x).toNat < S2x4x32x32.size a := fun v4096 v4483 v4646 v4649 k0_hw1475 => k0_hw1475

def k0_chk1476 (v33 : IVec S16 32) (v35 : IVec S16 32) (v4096 : IVec S16 32) (v4483 : IVec S16 32) (v4651 : IVec S16 32) : Prop :=
  (∀ a x, ((![v4096, v4483, v4651, v33] : Fin 4 → IVec S16 32) a x).toNat < S2x4x94x96.size a) ∧
  (∀ a x, ((![v4096, v4483, v4651, v35] : Fin 4 → IVec S16 32) a x).toNat < S2x4x94x96.size a)
theorem k0_idx1951_inb : ∀ (v33 : IVec S16 32) (v35 : IVec S16 32) (v4096 : IVec S16 32) (v4483 : IVec S16 32) (v4651 : IVec S16 32) (k0_hw1476 : k0_chk1476 v33 v35 v4096 v4483 v4651), ∀ a x, ((![v4096, v4483, v4651, v33] : Fin 4 → IVec S16 32) a x).toNat < S2x4x94x96.size a := fun v33 v35 v4096 v4483 v4651 k0_hw1476 => k0_hw1476.1
theorem k0_idx1952_inb : ∀ (v33 : IVec S16 32) (v35 : IVec S16 32) (v4096 : IVec S16 32) (v4483 : IVec S16 32) (v4651 : IVec S16 32) (k0_hw1476 : k0_chk1476 v33 v35 v4096 v4483 v4651), ∀ a x, ((![v4096, v4483, v4651, v35] : Fin 4 → IVec S16 32) a x).toNat < S2x4x94x96.size a := fun v33 v35 v4096 v4483 v4651 k0_hw1476 => k0_hw1476.2

def k0_chk1477 (v30 : IVec S16 32) (v4096 : IVec S16 32) (v4483 : IVec S16 32) (v4652 : IVec S16 32) : Prop :=
  (∀ a x, ((![v4096, v4483, v4652, v30] : Fin 4 → IVec S16 32) a x).toNat < S2x4x32x32.size a)
theorem k0_idx1953_inb : ∀ (v30 : IVec S16 32) (v4096 : IVec S16 32) (v4483 : IVec S16 32) (v4652 : IVec S16 32) (k0_hw1477 : k0_chk1477 v30 v4096 v4483 v4652), ∀ a x, ((![v4096, v4483, v4652, v30] : Fin 4 → IVec S16 32) a x).toNat < S2x4x32x32.size a := fun v30 v4096 v4483 v4652 k0_hw1477 => k0_hw1477

def k0_chk1478 (v4096 : IVec S16 32) (v4483 : IVec S16 32) (v4652 : IVec S16 32) (v4655 : IVec S16 32) : Prop :=
  (∀ a x, ((![v4096, v4483, v4652, v4655] : Fin 4 → IVec S16 32) a x).toNat < S2x4x32x32.size a)
theorem k0_idx1954_inb : ∀ (v4096 : IVec S16 32) (v4483 : IVec S16 32) (v4652 : IVec S16 32) (v4655 : IVec S16 32) (k0_hw1478 : k0_chk1478 v4096 v4483 v4652 v4655), ∀ a x, ((![v4096, v4483, v4652, v4655] : Fin 4 → IVec S16 32) a x).toNat < S2x4x32x32.size a := fun v4096 v4483 v4652 v4655 k0_hw1478 => k0_hw1478

def k0_chk1479 (v33 : IVec S16 32) (v35 : IVec S16 32) (v4096 : IVec S16 32) (v4483 : IVec S16 32) (v4657 : IVec S16 32) : Prop :=
  (∀ a x, ((![v4096, v4483, v4657, v33] : Fin 4 → IVec S16 32) a x).toNat < S2x4x94x96.size a) ∧
  (∀ a x, ((![v4096, v4483, v4657, v35] : Fin 4 → IVec S16 32) a x).toNat < S2x4x94x96.size a)
theorem k0_idx1955_inb : ∀ (v33 : IVec S16 32) (v35 : IVec S16 32) (v4096 : IVec S16 32) (v4483 : IVec S16 32) (v4657 : IVec S16 32) (k0_hw1479 : k0_chk1479 v33 v35 v4096 v4483 v4657), ∀ a x, ((![v4096, v4483, v4657, v33] : Fin 4 → IVec S16 32) a x).toNat < S2x4x94x96.size a := fun v33 v35 v4096 v4483 v4657 k0_hw1479 => k0_hw1479.1
theorem k0_idx1956_inb : ∀ (v33 : IVec S16 32) (v35 : IVec S16 32) (v4096 : IVec S16 32) (v4483 : IVec S16 32) (v4657 : IVec S16 32) (k0_hw1479 : k0_chk1479 v33 v35 v4096 v4483 v4657), ∀ a x, ((![v4096, v4483, v4657, v35] : Fin 4 → IVec S16 32) a x).toNat < S2x4x94x96.size a := fun v33 v35 v4096 v4483 v4657 k0_hw1479 => k0_hw1479.2

def k0_chk1480 (v30 : IVec S16 32) (v4096 : IVec S16 32) (v4483 : IVec S16 32) (v4658 : IVec S16 32) : Prop :=
  (∀ a x, ((![v4096, v4483, v4658, v30] : Fin 4 → IVec S16 32) a x).toNat < S2x4x32x32.size a)
theorem k0_idx1957_inb : ∀ (v30 : IVec S16 32) (v4096 : IVec S16 32) (v4483 : IVec S16 32) (v4658 : IVec S16 32) (k0_hw1480 : k0_chk1480 v30 v4096 v4483 v4658), ∀ a x, ((![v4096, v4483, v4658, v30] : Fin 4 → IVec S16 32) a x).toNat < S2x4x32x32.size a := fun v30 v4096 v4483 v4658 k0_hw1480 => k0_hw1480

def k0_chk1481 (v4096 : IVec S16 32) (v4483 : IVec S16 32) (v4658 : IVec S16 32) (v4661 : IVec S16 32) : Prop :=
  (∀ a x, ((![v4096, v4483, v4658, v4661] : Fin 4 → IVec S16 32) a x).toNat < S2x4x32x32.size a)
theorem k0_idx1958_inb : ∀ (v4096 : IVec S16 32) (v4483 : IVec S16 32) (v4658 : IVec S16 32) (v4661 : IVec S16 32) (k0_hw1481 : k0_chk1481 v4096 v4483 v4658 v4661), ∀ a x, ((![v4096, v4483, v4658, v4661] : Fin 4 → IVec S16 32) a x).toNat < S2x4x32x32.size a := fun v4096 v4483 v4658 v4661 k0_hw1481 => k0_hw1481

def k0_chk1482 (v33 : IVec S16 32) (v35 : IVec S16 32) (v4096 : IVec S16 32) (v4483 : IVec S16 32) (v4663 : IVec S16 32) : Prop :=
  (∀ a x, ((![v4096, v4483, v4663, v33] : Fin 4 → IVec S16 32) a x).toNat < S2x4x94x96.size a) ∧
  (∀ a x, ((![v4096, v4483, v4663, v35] : Fin 4 → IVec S16 32) a x).toNat < S2x4x94x96.size a)
theorem k0_idx1959_inb : ∀ (v33 : IVec S16 32) (v35 : IVec S16 32) (v4096 : IVec S16 32) (v4483 : IVec S16 32) (v4663 : IVec S16 32) (k0_hw1482 : k0_chk1482 v33 v35 v4096 v4483 v4663), ∀ a x, ((![v4096, v4483, v4663, v33] : Fin 4 → IVec S16 32) a x).toNat < S2x4x94x96.size a := fun v33 v35 v4096 v4483 v4663 k0_hw1482 => k0_hw1482.1
theorem k0_idx1960_inb : ∀ (v33 : IVec S16 32) (v35 : IVec S16 32) (v4096 : IVec S16 32) (v4483 : IVec S16 32) (v4663 : IVec S16 32) (k0_hw1482 : k0_chk1482 v33 v35 v4096 v4483 v4663), ∀ a x, ((![v4096, v4483, v4663, v35] : Fin 4 → IVec S16 32) a x).toNat < S2x4x94x96.size a := fun v33 v35 v4096 v4483 v4663 k0_hw1482 => k0_hw1482.2

def k0_chk1483 (v30 : IVec S16 32) (v4096 : IVec S16 32) (v4483 : IVec S16 32) (v4664 : IVec S16 32) : Prop :=
  (∀ a x, ((![v4096, v4483, v4664, v30] : Fin 4 → IVec S16 32) a x).toNat < S2x4x32x32.size a)
theorem k0_idx1961_inb : ∀ (v30 : IVec S16 32) (v4096 : IVec S16 32) (v4483 : IVec S16 32) (v4664 : IVec S16 32) (k0_hw1483 : k0_chk1483 v30 v4096 v4483 v4664), ∀ a x, ((![v4096, v4483, v4664, v30] : Fin 4 → IVec S16 32) a x).toNat < S2x4x32x32.size a := fun v30 v4096 v4483 v4664 k0_hw1483 => k0_hw1483

def k0_chk1484 (v4096 : IVec S16 32) (v4483 : IVec S16 32) (v4664 : IVec S16 32) (v4667 : IVec S16 32) : Prop :=
  (∀ a x, ((![v4096, v4483, v4664, v4667] : Fin 4 → IVec S16 32) a x).toNat < S2x4x32x32.size a)
theorem k0_idx1962_inb : ∀ (v4096 : IVec S16 32) (v4483 : IVec S16 32) (v4664 : IVec S16 32) (v4667 : IVec S16 32) (k0_hw1484 : k0_chk1484 v4096 v4483 v4664 v4667), ∀ a x, ((![v4096, v4483, v4664, v4667] : Fin 4 → IVec S16 32) a x).toNat < S2x4x32x32.size a := fun v4096 v4483 v4664 v4667 k0_hw1484 => k0_hw1484

def k0_chk1485 (v33 : IVec S16 32) (v35 : IVec S16 32) (v4096 : IVec S16 32) (v4483 : IVec S16 32) (v4669 : IVec S16 32) : Prop :=
  (∀ a x, ((![v4096, v4483, v4669, v33] : Fin 4 → IVec S16 32) a x).toNat < S2x4x94x96.size a) ∧
  (∀ a x, ((![v4096, v4483, v4669, v35] : Fin 4 → IVec S16 32) a x).toNat < S2x4x94x96.size a)
theorem k0_idx1963_inb : ∀ (v33 : IVec S16 32) (v35 : IVec S16 32) (v4096 : IVec S16 32) (v4483 : IVec S16 32) (v4669 : IVec S16 32) (k0_hw1485 : k0_chk1485 v33 v35 v4096 v4483 v4669), ∀ a x, ((![v4096, v4483, v4669, v33] : Fin 4 → IVec S16 32) a x).toNat < S2x4x94x96.size a := fun v33 v35 v4096 v4483 v4669 k0_hw1485 => k0_hw1485.1
theorem k0_idx1964_inb : ∀ (v33 : IVec S16 32) (v35 : IVec S16 32) (v4096 : IVec S16 32) (v4483 : IVec S16 32) (v4669 : IVec S16 32) (k0_hw1485 : k0_chk1485 v33 v35 v4096 v4483 v4669), ∀ a x, ((![v4096, v4483, v4669, v35] : Fin 4 → IVec S16 32) a x).toNat < S2x4x94x96.size a := fun v33 v35 v4096 v4483 v4669 k0_hw1485 => k0_hw1485.2

def k0_chk1486 (v30 : IVec S16 32) (v4096 : IVec S16 32) (v4483 : IVec S16 32) (v4670 : IVec S16 32) : Prop :=
  (∀ a x, ((![v4096, v4483, v4670, v30] : Fin 4 → IVec S16 32) a x).toNat < S2x4x32x32.size a)
theorem k0_idx1965_inb : ∀ (v30 : IVec S16 32) (v4096 : IVec S16 32) (v4483 : IVec S16 32) (v4670 : IVec S16 32) (k0_hw1486 : k0_chk1486 v30 v4096 v4483 v4670), ∀ a x, ((![v4096, v4483, v4670, v30] : Fin 4 → IVec S16 32) a x).toNat < S2x4x32x32.size a := fun v30 v4096 v4483 v4670 k0_hw1486 => k0_hw1486

def k0_chk1487 (v4096 : IVec S16 32) (v4483 : IVec S16 32) (v4670 : IVec S16 32) (v4673 : IVec S16 32) : Prop :=
  (∀ a x, ((![v4096, v4483, v4670, v4673] : Fin 4 → IVec S16 32) a x).toNat < S2x4x32x32.size a)
theorem k0_idx1966_inb : ∀ (v4096 : IVec S16 32) (v4483 : IVec S16 32) (v4670 : IVec S16 32) (v4673 : IVec S16 32) (k0_hw1487 : k0_chk1487 v4096 v4483 v4670 v4673), ∀ a x, ((![v4096, v4483, v4670, v4673] : Fin 4 → IVec S16 32) a x).toNat < S2x4x32x32.size a := fun v4096 v4483 v4670 v4673 k0_hw1487 => k0_hw1487

def k0_chk1488 (v33 : IVec S16 32) (v35 : IVec S16 32) (v4096 : IVec S16 32) (v4483 : IVec S16 32) (v4675 : IVec S16 32) : Prop :=
  (∀ a x, ((![v4096, v4483, v4675, v33] : Fin 4 → IVec S16 32) a x).toNat < S2x4x94x96.size a) ∧
  (∀ a x, ((![v4096, v4483, v4675, v35] : Fin 4 → IVec S16 32) a x).toNat < S2x4x94x96.size a)
theorem k0_idx1967_inb : ∀ (v33 : IVec S16 32) (v35 : IVec S16 32) (v4096 : IVec S16 32) (v4483 : IVec S16 32) (v4675 : IVec S16 32) (k0_hw1488 : k0_chk1488 v33 v35 v4096 v4483 v4675), ∀ a x, ((![v4096, v4483, v4675, v33] : Fin 4 → IVec S16 32) a x).toNat < S2x4x94x96.size a := fun v33 v35 v4096 v4483 v4675 k0_hw1488 => k0_hw1488.1
theorem k0_idx1968_inb : ∀ (v33 : IVec S16 32) (v35 : IVec S16 32) (v4096 : IVec S16 32) (v4483 : IVec S16 32) (v4675 : IVec S16 32) (k0_hw1488 : k0_chk1488 v33 v35 v4096 v4483 v4675), ∀ a x, ((![v4096, v4483, v4675, v35] : Fin 4 → IVec S16 32) a x).toNat < S2x4x94x96.size a := fun v33 v35 v4096 v4483 v4675 k0_hw1488 => k0_hw1488.2

def k0_chk1489 (v30 : IVec S16 32) (v4096 : IVec S16 32) (v4676 : IVec S16 32) (v4677 : IVec S16 32) : Prop :=
  (∀ a x, ((![v4096, v4676, v4677, v30] : Fin 4 → IVec S16 32) a x).toNat < S2x4x32x32.size a)
theorem k0_idx1969_inb : ∀ (v30 : IVec S16 32) (v4096 : IVec S16 32) (v4676 : IVec S16 32) (v4677 : IVec S16 32) (k0_hw1489 : k0_chk1489 v30 v4096 v4676 v4677), ∀ a x, ((![v4096, v4676, v4677, v30] : Fin 4 → IVec S16 32) a x).toNat < S2x4x32x32.size a := fun v30 v4096 v4676 v4677 k0_hw1489 => k0_hw1489

def k0_chk1490 (v4096 : IVec S16 32) (v4676 : IVec S16 32) (v4677 : IVec S16 32) (v4680 : IVec S16 32) : Prop :=
  (∀ a x, ((![v4096, v4676, v4677, v4680] : Fin 4 → IVec S16 32) a x).toNat < S2x4x32x32.size a)
theorem k0_idx1970_inb : ∀ (v4096 : IVec S16 32) (v4676 : IVec S16 32) (v4677 : IVec S16 32) (v4680 : IVec S16 32) (k0_hw1490 : k0_chk1490 v4096 v4676 v4677 v4680), ∀ a x, ((![v4096, v4676, v4677, v4680] : Fin 4 → IVec S16 32) a x).toNat < S2x4x32x32.size a := fun v4096 v4676 v4677 v4680 k0_hw1490 => k0_hw1490

def k0_chk1491 (v33 : IVec S16 32) (v35 : IVec S16 32) (v4096 : IVec S16 32) (v4676 : IVec S16 32) (v4682 : IVec S16 32) : Prop :=
  (∀ a x, ((![v4096, v4676, v4682, v33] : Fin 4 → IVec S16 32) a x).toNat < S2x4x94x96.size a) ∧
  (∀ a x, ((![v4096, v4676, v4682, v35] : Fin 4 → IVec S16 32) a x).toNat < S2x4x94x96.size a)
theorem k0_idx1971_inb : ∀ (v33 : IVec S16 32) (v35 : IVec S16 32) (v4096 : IVec S16 32) (v4676 : IVec S16 32) (v4682 : IVec S16 32) (k0_hw1491 : k0_chk1491 v33 v35 v4096 v4676 v4682), ∀ a x, ((![v4096, v4676, v4682, v33] : Fin 4 → IVec S16 32) a x).toNat < S2x4x94x96.size a := fun v33 v35 v4096 v4676 v4682 k0_hw1491 => k0_hw1491.1
theorem k0_idx1972_inb : ∀ (v33 : IVec S16 32) (v35 : IVec S16 32) (v4096 : IVec S16 32) (v4676 : IVec S16 32) (v4682 : IVec S16 32) (k0_hw1491 : k0_chk1491 v33 v35 v4096 v4676 v4682), ∀ a x, ((![v4096, v4676, v4682, v35] : Fin 4 → IVec S16 32) a x).toNat < S2x4x94x96.size a := fun v33 v35 v4096 v4676 v4682 k0_hw1491 => k0_hw1491.2

def k0_chk1492 (v30 : IVec S16 32) (v4096 : IVec S16 32) (v4676 : IVec S16 32) (v4683 : IVec S16 32) : Prop :=
  (∀ a x, ((![v4096, v4676, v4683, v30] : Fin 4 → IVec S16 32) a x).toNat < S2x4x32x32.size a)
theorem k0_idx1973_inb : ∀ (v30 : IVec S16 32) (v4096 : IVec S16 32) (v4676 : IVec S16 32) (v4683 : IVec S16 32) (k0_hw1492 : k0_chk1492 v30 v4096 v4676 v4683), ∀ a x, ((![v4096, v4676, v4683, v30] : Fin 4 → IVec S16 32) a x).toNat < S2x4x32x32.size a := fun v30 v4096 v4676 v4683 k0_hw1492 => k0_hw1492

def k0_chk1493 (v4096 : IVec S16 32) (v4676 : IVec S16 32) (v4683 : IVec S16 32) (v4686 : IVec S16 32) : Prop :=
  (∀ a x, ((![v4096, v4676, v4683, v4686] : Fin 4 → IVec S16 32) a x).toNat < S2x4x32x32.size a)
theorem k0_idx1974_inb : ∀ (v4096 : IVec S16 32) (v4676 : IVec S16 32) (v4683 : IVec S16 32) (v4686 : IVec S16 32) (k0_hw1493 : k0_chk1493 v4096 v4676 v4683 v4686), ∀ a x, ((![v4096, v4676, v4683, v4686] : Fin 4 → IVec S16 32) a x).toNat < S2x4x32x32.size a := fun v4096 v4676 v4683 v4686 k0_hw1493 => k0_hw1493

def k0_chk1494 (v33 : IVec S16 32) (v35 : IVec S16 32) (v4096 : IVec S16 32) (v4676 : IVec S16 32) (v4688 : IVec S16 32) : Prop :=
  (∀ a x, ((![v4096, v4676, v4688, v33] : Fin 4 → IVec S16 32) a x).toNat < S2x4x94x96.size a) ∧
  (∀ a x, ((![v4096, v4676, v4688, v35] : Fin 4 → IVec S16 32) a x).toNat < S2x4x94x96.size a)
theorem k0_idx1975_inb : ∀ (v33 : IVec S16 32) (v35 : IVec S16 32) (v4096 : IVec S16 32) (v4676 : IVec S16 32) (v4688 : IVec S16 32) (k0_hw1494 : k0_chk1494 v33 v35 v4096 v4676 v4688), ∀ a x, ((![v4096, v4676, v4688, v33] : Fin 4 → IVec S16 32) a x).toNat < S2x4x94x96.size a := fun v33 v35 v4096 v4676 v4688 k0_hw1494 => k0_hw1494.1
theorem k0_idx1976_inb : ∀ (v33 : IVec S16 32) (v35 : IVec S16 32) (v4096 : IVec S16 32) (v4676 : IVec S16 32) (v4688 : IVec S16 32) (k0_hw1494 : k0_chk1494 v33 v35 v4096 v4676 v4688), ∀ a x, ((![v4096, v4676, v4688, v35] : Fin 4 → IVec S16 32) a x).toNat < S2x4x94x96.size a := fun v33 v35 v4096 v4676 v4688 k0_hw1494 => k0_hw1494.2

def k0_chk1495 (v30 : IVec S16 32) (v4096 : IVec S16 32) (v4676 : IVec S16 32) (v4689 : IVec S16 32) : Prop :=
  (∀ a x, ((![v4096, v4676, v4689, v30] : Fin 4 → IVec S16 32) a x).toNat < S2x4x32x32.size a)
theorem k0_idx1977_inb : ∀ (v30 : IVec S16 32) (v4096 : IVec S16 32) (v4676 : IVec S16 32) (v4689 : IVec S16 32) (k0_hw1495 : k0_chk1495 v30 v4096 v4676 v4689), ∀ a x, ((![v4096, v4676, v4689, v30] : Fin 4 → IVec S16 32) a x).toNat < S2x4x32x32.size a := fun v30 v4096 v4676 v4689 k0_hw1495 => k0_hw1495

def k0_chk1496 (v4096 : IVec S16 32) (v4676 : IVec S16 32) (v4689 : IVec S16 32) (v4692 : IVec S16 32) : Prop :=
  (∀ a x, ((![v4096, v4676, v4689, v4692] : Fin 4 → IVec S16 32) a x).toNat < S2x4x32x32.size a)
theorem k0_idx1978_inb : ∀ (v4096 : IVec S16 32) (v4676 : IVec S16 32) (v4689 : IVec S16 32) (v4692 : IVec S16 32) (k0_hw1496 : k0_chk1496 v4096 v4676 v4689 v4692), ∀ a x, ((![v4096, v4676, v4689, v4692] : Fin 4 → IVec S16 32) a x).toNat < S2x4x32x32.size a := fun v4096 v4676 v4689 v4692 k0_hw1496 => k0_hw1496

def k0_chk1497 (v33 : IVec S16 32) (v35 : IVec S16 32) (v4096 : IVec S16 32) (v4676 : IVec S16 32) (v4694 : IVec S16 32) : Prop :=
  (∀ a x, ((![v4096, v4676, v4694, v33] : Fin 4 → IVec S16 32) a x).toNat < S2x4x94x96.size a) ∧
  (∀ a x, ((![v4096, v4676, v4694, v35] : Fin 4 → IVec S16 32) a x).toNat < S2x4x94x96.size a)
theorem k0_idx1979_inb : ∀ (v33 : IVec S16 32) (v35 : IVec S16 32) (v4096 : IVec S16 32) (v4676 : IVec S16 32) (v4694 : IVec S16 32) (k0_hw1497 : k0_chk1497 v33 v35 v4096 v4676 v4694), ∀ a x, ((![v4096, v4676, v4694, v33] : Fin 4 → IVec S16 32) a x).toNat < S2x4x94x96.size a := fun v33 v35 v4096 v4676 v4694 k0_hw1497 => k0_hw1497.1
theorem k0_idx1980_inb : ∀ (v33 : IVec S16 32) (v35 : IVec S16 32) (v4096 : IVec S16 32) (v4676 : IVec S16 32) (v4694 : IVec S16 32) (k0_hw1497 : k0_chk1497 v33 v35 v4096 v4676 v4694), ∀ a x, ((![v4096, v4676, v4694, v35] : Fin 4 → IVec S16 32) a x).toNat < S2x4x94x96.size a := fun v33 v35 v4096 v4676 v4694 k0_hw1497 => k0_hw1497.2

def k0_chk1498 (v30 : IVec S16 32) (v4096 : IVec S16 32) (v4676 : IVec S16 32) (v4695 : IVec S16 32) : Prop :=
  (∀ a x, ((![v4096, v4676, v4695, v30] : Fin 4 → IVec S16 32) a x).toNat < S2x4x32x32.size a)
theorem k0_idx1981_inb : ∀ (v30 : IVec S16 32) (v4096 : IVec S16 32) (v4676 : IVec S16 32) (v4695 : IVec S16 32) (k0_hw1498 : k0_chk1498 v30 v4096 v4676 v4695), ∀ a x, ((![v4096, v4676, v4695, v30] : Fin 4 → IVec S16 32) a x).toNat < S2x4x32x32.size a := fun v30 v4096 v4676 v4695 k0_hw1498 => k0_hw1498

def k0_chk1499 (v4096 : IVec S16 32) (v4676 : IVec S16 32) (v4695 : IVec S16 32) (v4698 : IVec S16 32) : Prop :=
  (∀ a x, ((![v4096, v4676, v4695, v4698] : Fin 4 → IVec S16 32) a x).toNat < S2x4x32x32.size a)
theorem k0_idx1982_inb : ∀ (v4096 : IVec S16 32) (v4676 : IVec S16 32) (v4695 : IVec S16 32) (v4698 : IVec S16 32) (k0_hw1499 : k0_chk1499 v4096 v4676 v4695 v4698), ∀ a x, ((![v4096, v4676, v4695, v4698] : Fin 4 → IVec S16 32) a x).toNat < S2x4x32x32.size a := fun v4096 v4676 v4695 v4698 k0_hw1499 => k0_hw1499

def k0_chk1500 (v33 : IVec S16 32) (v35 : IVec S16 32) (v4096 : IVec S16 32) (v4676 : IVec S16 32) (v4700 : IVec S16 32) : Prop :=
  (∀ a x, ((![v4096, v4676, v4700, v33] : Fin 4 → IVec S16 32) a x).toNat < S2x4x94x96.size a) ∧
  (∀ a x, ((![v4096, v4676, v4700, v35] : Fin 4 → IVec S16 32) a x).toNat < S2x4x94x96.size a)
theorem k0_idx1983_inb : ∀ (v33 : IVec S16 32) (v35 : IVec S16 32) (v4096 : IVec S16 32) (v4676 : IVec S16 32) (v4700 : IVec S16 32) (k0_hw1500 : k0_chk1500 v33 v35 v4096 v4676 v4700), ∀ a x, ((![v4096, v4676, v4700, v33] : Fin 4 → IVec S16 32) a x).toNat < S2x4x94x96.size a := fun v33 v35 v4096 v4676 v4700 k0_hw1500 => k0_hw1500.1
theorem k0_idx1984_inb : ∀ (v33 : IVec S16 32) (v35 : IVec S16 32) (v4096 : IVec S16 32) (v4676 : IVec S16 32) (v4700 : IVec S16 32) (k0_hw1500 : k0_chk1500 v33 v35 v4096 v4676 v4700), ∀ a x, ((![v4096, v4676, v4700, v35] : Fin 4 → IVec S16 32) a x).toNat < S2x4x94x96.size a := fun v33 v35 v4096 v4676 v4700 k0_hw1500 => k0_hw1500.2

def k0_chk1501 (v30 : IVec S16 32) (v4096 : IVec S16 32) (v4676 : IVec S16 32) (v4701 : IVec S16 32) : Prop :=
  (∀ a x, ((![v4096, v4676, v4701, v30] : Fin 4 → IVec S16 32) a x).toNat < S2x4x32x32.size a)
theorem k0_idx1985_inb : ∀ (v30 : IVec S16 32) (v4096 : IVec S16 32) (v4676 : IVec S16 32) (v4701 : IVec S16 32) (k0_hw1501 : k0_chk1501 v30 v4096 v4676 v4701), ∀ a x, ((![v4096, v4676, v4701, v30] : Fin 4 → IVec S16 32) a x).toNat < S2x4x32x32.size a := fun v30 v4096 v4676 v4701 k0_hw1501 => k0_hw1501

def k0_chk1502 (v4096 : IVec S16 32) (v4676 : IVec S16 32) (v4701 : IVec S16 32) (v4704 : IVec S16 32) : Prop :=
  (∀ a x, ((![v4096, v4676, v4701, v4704] : Fin 4 → IVec S16 32) a x).toNat < S2x4x32x32.size a)
theorem k0_idx1986_inb : ∀ (v4096 : IVec S16 32) (v4676 : IVec S16 32) (v4701 : IVec S16 32) (v4704 : IVec S16 32) (k0_hw1502 : k0_chk1502 v4096 v4676 v4701 v4704), ∀ a x, ((![v4096, v4676, v4701, v4704] : Fin 4 → IVec S16 32) a x).toNat < S2x4x32x32.size a := fun v4096 v4676 v4701 v4704 k0_hw1502 => k0_hw1502

def k0_chk1503 (v33 : IVec S16 32) (v35 : IVec S16 32) (v4096 : IVec S16 32) (v4676 : IVec S16 32) (v4706 : IVec S16 32) : Prop :=
  (∀ a x, ((![v4096, v4676, v4706, v33] : Fin 4 → IVec S16 32) a x).toNat < S2x4x94x96.size a) ∧
  (∀ a x, ((![v4096, v4676, v4706, v35] : Fin 4 → IVec S16 32) a x).toNat < S2x4x94x96.size a)
theorem k0_idx1987_inb : ∀ (v33 : IVec S16 32) (v35 : IVec S16 32) (v4096 : IVec S16 32) (v4676 : IVec S16 32) (v4706 : IVec S16 32) (k0_hw1503 : k0_chk1503 v33 v35 v4096 v4676 v4706), ∀ a x, ((![v4096, v4676, v4706, v33] : Fin 4 → IVec S16 32) a x).toNat < S2x4x94x96.size a := fun v33 v35 v4096 v4676 v4706 k0_hw1503 => k0_hw1503.1
theorem k0_idx1988_inb : ∀ (v33 : IVec S16 32) (v35 : IVec S16 32) (v4096 : IVec S16 32) (v4676 : IVec S16 32) (v4706 : IVec S16 32) (k0_hw1503 : k0_chk1503 v33 v35 v4096 v4676 v4706), ∀ a x, ((![v4096, v4676, v4706, v35] : Fin 4 → IVec S16 32) a x).toNat < S2x4x94x96.size a := fun v33 v35 v4096 v4676 v4706 k0_hw1503 => k0_hw1503.2

def k0_chk1504 (v30 : IVec S16 32) (v4096 : IVec S16 32) (v4676 : IVec S16 32) (v4707 : IVec S16 32) : Prop :=
  (∀ a x, ((![v4096, v4676, v4707, v30] : Fin 4 → IVec S16 32) a x).toNat < S2x4x32x32.size a)
theorem k0_idx1989_inb : ∀ (v30 : IVec S16 32) (v4096 : IVec S16 32) (v4676 : IVec S16 32) (v4707 : IVec S16 32) (k0_hw1504 : k0_chk1504 v30 v4096 v4676 v4707), ∀ a x, ((![v4096, v4676, v4707, v30] : Fin 4 → IVec S16 32) a x).toNat < S2x4x32x32.size a := fun v30 v4096 v4676 v4707 k0_hw1504 => k0_hw1504

def k0_chk1505 (v4096 : IVec S16 32) (v4676 : IVec S16 32) (v4707 : IVec S16 32) (v4710 : IVec S16 32) : Prop :=
  (∀ a x, ((![v4096, v4676, v4707, v4710] : Fin 4 → IVec S16 32) a x).toNat < S2x4x32x32.size a)
theorem k0_idx1990_inb : ∀ (v4096 : IVec S16 32) (v4676 : IVec S16 32) (v4707 : IVec S16 32) (v4710 : IVec S16 32) (k0_hw1505 : k0_chk1505 v4096 v4676 v4707 v4710), ∀ a x, ((![v4096, v4676, v4707, v4710] : Fin 4 → IVec S16 32) a x).toNat < S2x4x32x32.size a := fun v4096 v4676 v4707 v4710 k0_hw1505 => k0_hw1505

def k0_chk1506 (v33 : IVec S16 32) (v35 : IVec S16 32) (v4096 : IVec S16 32) (v4676 : IVec S16 32) (v4712 : IVec S16 32) : Prop :=
  (∀ a x, ((![v4096, v4676, v4712, v33] : Fin 4 → IVec S16 32) a x).toNat < S2x4x94x96.size a) ∧
  (∀ a x, ((![v4096, v4676, v4712, v35] : Fin 4 → IVec S16 32) a x).toNat < S2x4x94x96.size a)
theorem k0_idx1991_inb : ∀ (v33 : IVec S16 32) (v35 : IVec S16 32) (v4096 : IVec S16 32) (v4676 : IVec S16 32) (v4712 : IVec S16 32) (k0_hw1506 : k0_chk1506 v33 v35 v4096 v4676 v4712), ∀ a x, ((![v4096, v4676, v4712, v33] : Fin 4 → IVec S16 32) a x).toNat < S2x4x94x96.size a := fun v33 v35 v4096 v4676 v4712 k0_hw1506 => k0_hw1506.1
theorem k0_idx1992_inb : ∀ (v33 : IVec S16 32) (v35 : IVec S16 32) (v4096 : IVec S16 32) (v4676 : IVec S16 32) (v4712 : IVec S16 32) (k0_hw1506 : k0_chk1506 v33 v35 v4096 v4676 v4712), ∀ a x, ((![v4096, v4676, v4712, v35] : Fin 4 → IVec S16 32) a x).toNat < S2x4x94x96.size a := fun v33 v35 v4096 v4676 v4712 k0_hw1506 => k0_hw1506.2

def k0_chk1507 (v30 : IVec S16 32) (v4096 : IVec S16 32) (v4676 : IVec S16 32) (v4713 : IVec S16 32) : Prop :=
  (∀ a x, ((![v4096, v4676, v4713, v30] : Fin 4 → IVec S16 32) a x).toNat < S2x4x32x32.size a)
theorem k0_idx1993_inb : ∀ (v30 : IVec S16 32) (v4096 : IVec S16 32) (v4676 : IVec S16 32) (v4713 : IVec S16 32) (k0_hw1507 : k0_chk1507 v30 v4096 v4676 v4713), ∀ a x, ((![v4096, v4676, v4713, v30] : Fin 4 → IVec S16 32) a x).toNat < S2x4x32x32.size a := fun v30 v4096 v4676 v4713 k0_hw1507 => k0_hw1507

def k0_chk1508 (v4096 : IVec S16 32) (v4676 : IVec S16 32) (v4713 : IVec S16 32) (v4716 : IVec S16 32) : Prop :=
  (∀ a x, ((![v4096, v4676, v4713, v4716] : Fin 4 → IVec S16 32) a x).toNat < S2x4x32x32.size a)
theorem k0_idx1994_inb : ∀ (v4096 : IVec S16 32) (v4676 : IVec S16 32) (v4713 : IVec S16 32) (v4716 : IVec S16 32) (k0_hw1508 : k0_chk1508 v4096 v4676 v4713 v4716), ∀ a x, ((![v4096, v4676, v4713, v4716] : Fin 4 → IVec S16 32) a x).toNat < S2x4x32x32.size a := fun v4096 v4676 v4713 v4716 k0_hw1508 => k0_hw1508

def k0_chk1509 (v33 : IVec S16 32) (v35 : IVec S16 32) (v4096 : IVec S16 32) (v4676 : IVec S16 32) (v4718 : IVec S16 32) : Prop :=
  (∀ a x, ((![v4096, v4676, v4718, v33] : Fin 4 → IVec S16 32) a x).toNat < S2x4x94x96.size a) ∧
  (∀ a x, ((![v4096, v4676, v4718, v35] : Fin 4 → IVec S16 32) a x).toNat < S2x4x94x96.size a)
theorem k0_idx1995_inb : ∀ (v33 : IVec S16 32) (v35 : IVec S16 32) (v4096 : IVec S16 32) (v4676 : IVec S16 32) (v4718 : IVec S16 32) (k0_hw1509 : k0_chk1509 v33 v35 v4096 v4676 v4718), ∀ a x, ((![v4096, v4676, v4718, v33] : Fin 4 → IVec S16 32) a x).toNat < S2x4x94x96.size a := fun v33 v35 v4096 v4676 v4718 k0_hw1509 => k0_hw1509.1
theorem k0_idx1996_inb : ∀ (v33 : IVec S16 32) (v35 : IVec S16 32) (v4096 : IVec S16 32) (v4676 : IVec S16 32) (v4718 : IVec S16 32) (k0_hw1509 : k0_chk1509 v33 v35 v4096 v4676 v4718), ∀ a x, ((![v4096, v4676, v4718, v35] : Fin 4 → IVec S16 32) a x).toNat < S2x4x94x96.size a := fun v33 v35 v4096 v4676 v4718 k0_hw1509 => k0_hw1509.2

def k0_chk1510 (v30 : IVec S16 32) (v4096 : IVec S16 32) (v4676 : IVec S16 32) (v4719 : IVec S16 32) : Prop :=
  (∀ a x, ((![v4096, v4676, v4719, v30] : Fin 4 → IVec S16 32) a x).toNat < S2x4x32x32.size a)
theorem k0_idx1997_inb : ∀ (v30 : IVec S16 32) (v4096 : IVec S16 32) (v4676 : IVec S16 32) (v4719 : IVec S16 32) (k0_hw1510 : k0_chk1510 v30 v4096 v4676 v4719), ∀ a x, ((![v4096, v4676, v4719, v30] : Fin 4 → IVec S16 32) a x).toNat < S2x4x32x32.size a := fun v30 v4096 v4676 v4719 k0_hw1510 => k0_hw1510

def k0_chk1511 (v4096 : IVec S16 32) (v4676 : IVec S16 32) (v4719 : IVec S16 32) (v4722 : IVec S16 32) : Prop :=
  (∀ a x, ((![v4096, v4676, v4719, v4722] : Fin 4 → IVec S16 32) a x).toNat < S2x4x32x32.size a)
theorem k0_idx1998_inb : ∀ (v4096 : IVec S16 32) (v4676 : IVec S16 32) (v4719 : IVec S16 32) (v4722 : IVec S16 32) (k0_hw1511 : k0_chk1511 v4096 v4676 v4719 v4722), ∀ a x, ((![v4096, v4676, v4719, v4722] : Fin 4 → IVec S16 32) a x).toNat < S2x4x32x32.size a := fun v4096 v4676 v4719 v4722 k0_hw1511 => k0_hw1511

def k0_chk1512 (v33 : IVec S16 32) (v35 : IVec S16 32) (v4096 : IVec S16 32) (v4676 : IVec S16 32) (v4724 : IVec S16 32) : Prop :=
  (∀ a x, ((![v4096, v4676, v4724, v33] : Fin 4 → IVec S16 32) a x).toNat < S2x4x94x96.size a) ∧
  (∀ a x, ((![v4096, v4676, v4724, v35] : Fin 4 → IVec S16 32) a x).toNat < S2x4x94x96.size a)
theorem k0_idx1999_inb : ∀ (v33 : IVec S16 32) (v35 : IVec S16 32) (v4096 : IVec S16 32) (v4676 : IVec S16 32) (v4724 : IVec S16 32) (k0_hw1512 : k0_chk1512 v33 v35 v4096 v4676 v4724), ∀ a x, ((![v4096, v4676, v4724, v33] : Fin 4 → IVec S16 32) a x).toNat < S2x4x94x96.size a := fun v33 v35 v4096 v4676 v4724 k0_hw1512 => k0_hw1512.1
theorem k0_idx2000_inb : ∀ (v33 : IVec S16 32) (v35 : IVec S16 32) (v4096 : IVec S16 32) (v4676 : IVec S16 32) (v4724 : IVec S16 32) (k0_hw1512 : k0_chk1512 v33 v35 v4096 v4676 v4724), ∀ a x, ((![v4096, v4676, v4724, v35] : Fin 4 → IVec S16 32) a x).toNat < S2x4x94x96.size a := fun v33 v35 v4096 v4676 v4724 k0_hw1512 => k0_hw1512.2

def k0_chk1513 (v30 : IVec S16 32) (v4096 : IVec S16 32) (v4676 : IVec S16 32) (v4725 : IVec S16 32) : Prop :=
  (∀ a x, ((![v4096, v4676, v4725, v30] : Fin 4 → IVec S16 32) a x).toNat < S2x4x32x32.size a)
theorem k0_idx2001_inb : ∀ (v30 : IVec S16 32) (v4096 : IVec S16 32) (v4676 : IVec S16 32) (v4725 : IVec S16 32) (k0_hw1513 : k0_chk1513 v30 v4096 v4676 v4725), ∀ a x, ((![v4096, v4676, v4725, v30] : Fin 4 → IVec S16 32) a x).toNat < S2x4x32x32.size a := fun v30 v4096 v4676 v4725 k0_hw1513 => k0_hw1513

def k0_chk1514 (v4096 : IVec S16 32) (v4676 : IVec S16 32) (v4725 : IVec S16 32) (v4728 : IVec S16 32) : Prop :=
  (∀ a x, ((![v4096, v4676, v4725, v4728] : Fin 4 → IVec S16 32) a x).toNat < S2x4x32x32.size a)
theorem k0_idx2002_inb : ∀ (v4096 : IVec S16 32) (v4676 : IVec S16 32) (v4725 : IVec S16 32) (v4728 : IVec S16 32) (k0_hw1514 : k0_chk1514 v4096 v4676 v4725 v4728), ∀ a x, ((![v4096, v4676, v4725, v4728] : Fin 4 → IVec S16 32) a x).toNat < S2x4x32x32.size a := fun v4096 v4676 v4725 v4728 k0_hw1514 => k0_hw1514

def k0_chk1515 (v33 : IVec S16 32) (v35 : IVec S16 32) (v4096 : IVec S16 32) (v4676 : IVec S16 32) (v4730 : IVec S16 32) : Prop :=
  (∀ a x, ((![v4096, v4676, v4730, v33] : Fin 4 → IVec S16 32) a x).toNat < S2x4x94x96.size a) ∧
  (∀ a x, ((![v4096, v4676, v4730, v35] : Fin 4 → IVec S16 32) a x).toNat < S2x4x94x96.size a)
theorem k0_idx2003_inb : ∀ (v33 : IVec S16 32) (v35 : IVec S16 32) (v4096 : IVec S16 32) (v4676 : IVec S16 32) (v4730 : IVec S16 32) (k0_hw1515 : k0_chk1515 v33 v35 v4096 v4676 v4730), ∀ a x, ((![v4096, v4676, v4730, v33] : Fin 4 → IVec S16 32) a x).toNat < S2x4x94x96.size a := fun v33 v35 v4096 v4676 v4730 k0_hw1515 => k0_hw1515.1
theorem k0_idx2004_inb : ∀ (v33 : IVec S16 32) (v35 : IVec S16 32) (v4096 : IVec S16 32) (v4676 : IVec S16 32) (v4730 : IVec S16 32) (k0_hw1515 : k0_chk1515 v33 v35 v4096 v4676 v4730), ∀ a x, ((![v4096, v4676, v4730, v35] : Fin 4 → IVec S16 32) a x).toNat < S2x4x94x96.size a := fun v33 v35 v4096 v4676 v4730 k0_hw1515 => k0_hw1515.2

def k0_chk1516 (v30 : IVec S16 32) (v4096 : IVec S16 32) (v4676 : IVec S16 32) (v4731 : IVec S16 32) : Prop :=
  (∀ a x, ((![v4096, v4676, v4731, v30] : Fin 4 → IVec S16 32) a x).toNat < S2x4x32x32.size a)
theorem k0_idx2005_inb : ∀ (v30 : IVec S16 32) (v4096 : IVec S16 32) (v4676 : IVec S16 32) (v4731 : IVec S16 32) (k0_hw1516 : k0_chk1516 v30 v4096 v4676 v4731), ∀ a x, ((![v4096, v4676, v4731, v30] : Fin 4 → IVec S16 32) a x).toNat < S2x4x32x32.size a := fun v30 v4096 v4676 v4731 k0_hw1516 => k0_hw1516

def k0_chk1517 (v4096 : IVec S16 32) (v4676 : IVec S16 32) (v4731 : IVec S16 32) (v4734 : IVec S16 32) : Prop :=
  (∀ a x, ((![v4096, v4676, v4731, v4734] : Fin 4 → IVec S16 32) a x).toNat < S2x4x32x32.size a)
theorem k0_idx2006_inb : ∀ (v4096 : IVec S16 32) (v4676 : IVec S16 32) (v4731 : IVec S16 32) (v4734 : IVec S16 32) (k0_hw1517 : k0_chk1517 v4096 v4676 v4731 v4734), ∀ a x, ((![v4096, v4676, v4731, v4734] : Fin 4 → IVec S16 32) a x).toNat < S2x4x32x32.size a := fun v4096 v4676 v4731 v4734 k0_hw1517 => k0_hw1517

def k0_chk1518 (v33 : IVec S16 32) (v35 : IVec S16 32) (v4096 : IVec S16 32) (v4676 : IVec S16 32) (v4736 : IVec S16 32) : Prop :=
  (∀ a x, ((![v4096, v4676, v4736, v33] : Fin 4 → IVec S16 32) a x).toNat < S2x4x94x96.size a) ∧
  (∀ a x, ((![v4096, v4676, v4736, v35] : Fin 4 → IVec S16 32) a x).toNat < S2x4x94x96.size a)
theorem k0_idx2007_inb : ∀ (v33 : IVec S16 32) (v35 : IVec S16 32) (v4096 : IVec S16 32) (v4676 : IVec S16 32) (v4736 : IVec S16 32) (k0_hw1518 : k0_chk1518 v33 v35 v4096 v4676 v4736), ∀ a x, ((![v4096, v4676, v4736, v33] : Fin 4 → IVec S16 32) a x).toNat < S2x4x94x96.size a := fun v33 v35 v4096 v4676 v4736 k0_hw1518 => k0_hw1518.1
theorem k0_idx2008_inb : ∀ (v33 : IVec S16 32) (v35 : IVec S16 32) (v4096 : IVec S16 32) (v4676 : IVec S16 32) (v4736 : IVec S16 32) (k0_hw1518 : k0_chk1518 v33 v35 v4096 v4676 v4736), ∀ a x, ((![v4096, v4676, v4736, v35] : Fin 4 → IVec S16 32) a x).toNat < S2x4x94x96.size a := fun v33 v35 v4096 v4676 v4736 k0_hw1518 => k0_hw1518.2

def k0_chk1519 (v30 : IVec S16 32) (v4096 : IVec S16 32) (v4676 : IVec S16 32) (v4737 : IVec S16 32) : Prop :=
  (∀ a x, ((![v4096, v4676, v4737, v30] : Fin 4 → IVec S16 32) a x).toNat < S2x4x32x32.size a)
theorem k0_idx2009_inb : ∀ (v30 : IVec S16 32) (v4096 : IVec S16 32) (v4676 : IVec S16 32) (v4737 : IVec S16 32) (k0_hw1519 : k0_chk1519 v30 v4096 v4676 v4737), ∀ a x, ((![v4096, v4676, v4737, v30] : Fin 4 → IVec S16 32) a x).toNat < S2x4x32x32.size a := fun v30 v4096 v4676 v4737 k0_hw1519 => k0_hw1519

def k0_chk1520 (v4096 : IVec S16 32) (v4676 : IVec S16 32) (v4737 : IVec S16 32) (v4740 : IVec S16 32) : Prop :=
  (∀ a x, ((![v4096, v4676, v4737, v4740] : Fin 4 → IVec S16 32) a x).toNat < S2x4x32x32.size a)
theorem k0_idx2010_inb : ∀ (v4096 : IVec S16 32) (v4676 : IVec S16 32) (v4737 : IVec S16 32) (v4740 : IVec S16 32) (k0_hw1520 : k0_chk1520 v4096 v4676 v4737 v4740), ∀ a x, ((![v4096, v4676, v4737, v4740] : Fin 4 → IVec S16 32) a x).toNat < S2x4x32x32.size a := fun v4096 v4676 v4737 v4740 k0_hw1520 => k0_hw1520

def k0_chk1521 (v33 : IVec S16 32) (v35 : IVec S16 32) (v4096 : IVec S16 32) (v4676 : IVec S16 32) (v4742 : IVec S16 32) : Prop :=
  (∀ a x, ((![v4096, v4676, v4742, v33] : Fin 4 → IVec S16 32) a x).toNat < S2x4x94x96.size a) ∧
  (∀ a x, ((![v4096, v4676, v4742, v35] : Fin 4 → IVec S16 32) a x).toNat < S2x4x94x96.size a)
theorem k0_idx2011_inb : ∀ (v33 : IVec S16 32) (v35 : IVec S16 32) (v4096 : IVec S16 32) (v4676 : IVec S16 32) (v4742 : IVec S16 32) (k0_hw1521 : k0_chk1521 v33 v35 v4096 v4676 v4742), ∀ a x, ((![v4096, v4676, v4742, v33] : Fin 4 → IVec S16 32) a x).toNat < S2x4x94x96.size a := fun v33 v35 v4096 v4676 v4742 k0_hw1521 => k0_hw1521.1
theorem k0_idx2012_inb : ∀ (v33 : IVec S16 32) (v35 : IVec S16 32) (v4096 : IVec S16 32) (v4676 : IVec S16 32) (v4742 : IVec S16 32) (k0_hw1521 : k0_chk1521 v33 v35 v4096 v4676 v4742), ∀ a x, ((![v4096, v4676, v4742, v35] : Fin 4 → IVec S16 32) a x).toNat < S2x4x94x96.size a := fun v33 v35 v4096 v4676 v4742 k0_hw1521 => k0_hw1521.2

def k0_chk1522 (v30 : IVec S16 32) (v4096 : IVec S16 32) (v4676 : IVec S16 32) (v4743 : IVec S16 32) : Prop :=
  (∀ a x, ((![v4096, v4676, v4743, v30] : Fin 4 → IVec S16 32) a x).toNat < S2x4x32x32.size a)
theorem k0_idx2013_inb : ∀ (v30 : IVec S16 32) (v4096 : IVec S16 32) (v4676 : IVec S16 32) (v4743 : IVec S16 32) (k0_hw1522 : k0_chk1522 v30 v4096 v4676 v4743), ∀ a x, ((![v4096, v4676, v4743, v30] : Fin 4 → IVec S16 32) a x).toNat < S2x4x32x32.size a := fun v30 v4096 v4676 v4743 k0_hw1522 => k0_hw1522

def k0_chk1523 (v4096 : IVec S16 32) (v4676 : IVec S16 32) (v4743 : IVec S16 32) (v4746 : IVec S16 32) : Prop :=
  (∀ a x, ((![v4096, v4676, v4743, v4746] : Fin 4 → IVec S16 32) a x).toNat < S2x4x32x32.size a)
theorem k0_idx2014_inb : ∀ (v4096 : IVec S16 32) (v4676 : IVec S16 32) (v4743 : IVec S16 32) (v4746 : IVec S16 32) (k0_hw1523 : k0_chk1523 v4096 v4676 v4743 v4746), ∀ a x, ((![v4096, v4676, v4743, v4746] : Fin 4 → IVec S16 32) a x).toNat < S2x4x32x32.size a := fun v4096 v4676 v4743 v4746 k0_hw1523 => k0_hw1523

def k0_chk1524 (v33 : IVec S16 32) (v35 : IVec S16 32) (v4096 : IVec S16 32) (v4676 : IVec S16 32) (v4748 : IVec S16 32) : Prop :=
  (∀ a x, ((![v4096, v4676, v4748, v33] : Fin 4 → IVec S16 32) a x).toNat < S2x4x94x96.size a) ∧
  (∀ a x, ((![v4096, v4676, v4748, v35] : Fin 4 → IVec S16 32) a x).toNat < S2x4x94x96.size a)
theorem k0_idx2015_inb : ∀ (v33 : IVec S16 32) (v35 : IVec S16 32) (v4096 : IVec S16 32) (v4676 : IVec S16 32) (v4748 : IVec S16 32) (k0_hw1524 : k0_chk1524 v33 v35 v4096 v4676 v4748), ∀ a x, ((![v4096, v4676, v4748, v33] : Fin 4 → IVec S16 32) a x).toNat < S2x4x94x96.size a := fun v33 v35 v4096 v4676 v4748 k0_hw1524 => k0_hw1524.1
theorem k0_idx2016_inb : ∀ (v33 : IVec S16 32) (v35 : IVec S16 32) (v4096 : IVec S16 32) (v4676 : IVec S16 32) (v4748 : IVec S16 32) (k0_hw1524 : k0_chk1524 v33 v35 v4096 v4676 v4748), ∀ a x, ((![v4096, v4676, v4748, v35] : Fin 4 → IVec S16 32) a x).toNat < S2x4x94x96.size a := fun v33 v35 v4096 v4676 v4748 k0_hw1524 => k0_hw1524.2

def k0_chk1525 (v30 : IVec S16 32) (v4096 : IVec S16 32) (v4676 : IVec S16 32) (v4749 : IVec S16 32) : Prop :=
  (∀ a x, ((![v4096, v4676, v4749, v30] : Fin 4 → IVec S16 32) a x).toNat < S2x4x32x32.size a)
theorem k0_idx2017_inb : ∀ (v30 : IVec S16 32) (v4096 : IVec S16 32) (v4676 : IVec S16 32) (v4749 : IVec S16 32) (k0_hw1525 : k0_chk1525 v30 v4096 v4676 v4749), ∀ a x, ((![v4096, v4676, v4749, v30] : Fin 4 → IVec S16 32) a x).toNat < S2x4x32x32.size a := fun v30 v4096 v4676 v4749 k0_hw1525 => k0_hw1525

def k0_chk1526 (v4096 : IVec S16 32) (v4676 : IVec S16 32) (v4749 : IVec S16 32) (v4752 : IVec S16 32) : Prop :=
  (∀ a x, ((![v4096, v4676, v4749, v4752] : Fin 4 → IVec S16 32) a x).toNat < S2x4x32x32.size a)
theorem k0_idx2018_inb : ∀ (v4096 : IVec S16 32) (v4676 : IVec S16 32) (v4749 : IVec S16 32) (v4752 : IVec S16 32) (k0_hw1526 : k0_chk1526 v4096 v4676 v4749 v4752), ∀ a x, ((![v4096, v4676, v4749, v4752] : Fin 4 → IVec S16 32) a x).toNat < S2x4x32x32.size a := fun v4096 v4676 v4749 v4752 k0_hw1526 => k0_hw1526

def k0_chk1527 (v33 : IVec S16 32) (v35 : IVec S16 32) (v4096 : IVec S16 32) (v4676 : IVec S16 32) (v4754 : IVec S16 32) : Prop :=
  (∀ a x, ((![v4096, v4676, v4754, v33] : Fin 4 → IVec S16 32) a x).toNat < S2x4x94x96.size a) ∧
  (∀ a x, ((![v4096, v4676, v4754, v35] : Fin 4 → IVec S16 32) a x).toNat < S2x4x94x96.size a)
theorem k0_idx2019_inb : ∀ (v33 : IVec S16 32) (v35 : IVec S16 32) (v4096 : IVec S16 32) (v4676 : IVec S16 32) (v4754 : IVec S16 32) (k0_hw1527 : k0_chk1527 v33 v35 v4096 v4676 v4754), ∀ a x, ((![v4096, v4676, v4754, v33] : Fin 4 → IVec S16 32) a x).toNat < S2x4x94x96.size a := fun v33 v35 v4096 v4676 v4754 k0_hw1527 => k0_hw1527.1
theorem k0_idx2020_inb : ∀ (v33 : IVec S16 32) (v35 : IVec S16 32) (v4096 : IVec S16 32) (v4676 : IVec S16 32) (v4754 : IVec S16 32) (k0_hw1527 : k0_chk1527 v33 v35 v4096 v4676 v4754), ∀ a x, ((![v4096, v4676, v4754, v35] : Fin 4 → IVec S16 32) a x).toNat < S2x4x94x96.size a := fun v33 v35 v4096 v4676 v4754 k0_hw1527 => k0_hw1527.2

def k0_chk1528 (v30 : IVec S16 32) (v4096 : IVec S16 32) (v4676 : IVec S16 32) (v4755 : IVec S16 32) : Prop :=
  (∀ a x, ((![v4096, v4676, v4755, v30] : Fin 4 → IVec S16 32) a x).toNat < S2x4x32x32.size a)
theorem k0_idx2021_inb : ∀ (v30 : IVec S16 32) (v4096 : IVec S16 32) (v4676 : IVec S16 32) (v4755 : IVec S16 32) (k0_hw1528 : k0_chk1528 v30 v4096 v4676 v4755), ∀ a x, ((![v4096, v4676, v4755, v30] : Fin 4 → IVec S16 32) a x).toNat < S2x4x32x32.size a := fun v30 v4096 v4676 v4755 k0_hw1528 => k0_hw1528

def k0_chk1529 (v4096 : IVec S16 32) (v4676 : IVec S16 32) (v4755 : IVec S16 32) (v4758 : IVec S16 32) : Prop :=
  (∀ a x, ((![v4096, v4676, v4755, v4758] : Fin 4 → IVec S16 32) a x).toNat < S2x4x32x32.size a)
theorem k0_idx2022_inb : ∀ (v4096 : IVec S16 32) (v4676 : IVec S16 32) (v4755 : IVec S16 32) (v4758 : IVec S16 32) (k0_hw1529 : k0_chk1529 v4096 v4676 v4755 v4758), ∀ a x, ((![v4096, v4676, v4755, v4758] : Fin 4 → IVec S16 32) a x).toNat < S2x4x32x32.size a := fun v4096 v4676 v4755 v4758 k0_hw1529 => k0_hw1529

def k0_chk1530 (v33 : IVec S16 32) (v35 : IVec S16 32) (v4096 : IVec S16 32) (v4676 : IVec S16 32) (v4760 : IVec S16 32) : Prop :=
  (∀ a x, ((![v4096, v4676, v4760, v33] : Fin 4 → IVec S16 32) a x).toNat < S2x4x94x96.size a) ∧
  (∀ a x, ((![v4096, v4676, v4760, v35] : Fin 4 → IVec S16 32) a x).toNat < S2x4x94x96.size a)
theorem k0_idx2023_inb : ∀ (v33 : IVec S16 32) (v35 : IVec S16 32) (v4096 : IVec S16 32) (v4676 : IVec S16 32) (v4760 : IVec S16 32) (k0_hw1530 : k0_chk1530 v33 v35 v4096 v4676 v4760), ∀ a x, ((![v4096, v4676, v4760, v33] : Fin 4 → IVec S16 32) a x).toNat < S2x4x94x96.size a := fun v33 v35 v4096 v4676 v4760 k0_hw1530 => k0_hw1530.1
theorem k0_idx2024_inb : ∀ (v33 : IVec S16 32) (v35 : IVec S16 32) (v4096 : IVec S16 32) (v4676 : IVec S16 32) (v4760 : IVec S16 32) (k0_hw1530 : k0_chk1530 v33 v35 v4096 v4676 v4760), ∀ a x, ((![v4096, v4676, v4760, v35] : Fin 4 → IVec S16 32) a x).toNat < S2x4x94x96.size a := fun v33 v35 v4096 v4676 v4760 k0_hw1530 => k0_hw1530.2

def k0_chk1531 (v30 : IVec S16 32) (v4096 : IVec S16 32) (v4676 : IVec S16 32) (v4761 : IVec S16 32) : Prop :=
  (∀ a x, ((![v4096, v4676, v4761, v30] : Fin 4 → IVec S16 32) a x).toNat < S2x4x32x32.size a)
theorem k0_idx2025_inb : ∀ (v30 : IVec S16 32) (v4096 : IVec S16 32) (v4676 : IVec S16 32) (v4761 : IVec S16 32) (k0_hw1531 : k0_chk1531 v30 v4096 v4676 v4761), ∀ a x, ((![v4096, v4676, v4761, v30] : Fin 4 → IVec S16 32) a x).toNat < S2x4x32x32.size a := fun v30 v4096 v4676 v4761 k0_hw1531 => k0_hw1531

def k0_chk1532 (v4096 : IVec S16 32) (v4676 : IVec S16 32) (v4761 : IVec S16 32) (v4764 : IVec S16 32) : Prop :=
  (∀ a x, ((![v4096, v4676, v4761, v4764] : Fin 4 → IVec S16 32) a x).toNat < S2x4x32x32.size a)
theorem k0_idx2026_inb : ∀ (v4096 : IVec S16 32) (v4676 : IVec S16 32) (v4761 : IVec S16 32) (v4764 : IVec S16 32) (k0_hw1532 : k0_chk1532 v4096 v4676 v4761 v4764), ∀ a x, ((![v4096, v4676, v4761, v4764] : Fin 4 → IVec S16 32) a x).toNat < S2x4x32x32.size a := fun v4096 v4676 v4761 v4764 k0_hw1532 => k0_hw1532

def k0_chk1533 (v33 : IVec S16 32) (v35 : IVec S16 32) (v4096 : IVec S16 32) (v4676 : IVec S16 32) (v4766 : IVec S16 32) : Prop :=
  (∀ a x, ((![v4096, v4676, v4766, v33] : Fin 4 → IVec S16 32) a x).toNat < S2x4x94x96.size a) ∧
  (∀ a x, ((![v4096, v4676, v4766, v35] : Fin 4 → IVec S16 32) a x).toNat < S2x4x94x96.size a)
theorem k0_idx2027_inb : ∀ (v33 : IVec S16 32) (v35 : IVec S16 32) (v4096 : IVec S16 32) (v4676 : IVec S16 32) (v4766 : IVec S16 32) (k0_hw1533 : k0_chk1533 v33 v35 v4096 v4676 v4766), ∀ a x, ((![v4096, v4676, v4766, v33] : Fin 4 → IVec S16 32) a x).toNat < S2x4x94x96.size a := fun v33 v35 v4096 v4676 v4766 k0_hw1533 => k0_hw1533.1
theorem k0_idx2028_inb : ∀ (v33 : IVec S16 32) (v35 : IVec S16 32) (v4096 : IVec S16 32) (v4676 : IVec S16 32) (v4766 : IVec S16 32) (k0_hw1533 : k0_chk1533 v33 v35 v4096 v4676 v4766), ∀ a x, ((![v4096, v4676, v4766, v35] : Fin 4 → IVec S16 32) a x).toNat < S2x4x94x96.size a := fun v33 v35 v4096 v4676 v4766 k0_hw1533 => k0_hw1533.2

def k0_chk1534 (v30 : IVec S16 32) (v4096 : IVec S16 32) (v4676 : IVec S16 32) (v4767 : IVec S16 32) : Prop :=
  (∀ a x, ((![v4096, v4676, v4767, v30] : Fin 4 → IVec S16 32) a x).toNat < S2x4x32x32.size a)
theorem k0_idx2029_inb : ∀ (v30 : IVec S16 32) (v4096 : IVec S16 32) (v4676 : IVec S16 32) (v4767 : IVec S16 32) (k0_hw1534 : k0_chk1534 v30 v4096 v4676 v4767), ∀ a x, ((![v4096, v4676, v4767, v30] : Fin 4 → IVec S16 32) a x).toNat < S2x4x32x32.size a := fun v30 v4096 v4676 v4767 k0_hw1534 => k0_hw1534

def k0_chk1535 (v4096 : IVec S16 32) (v4676 : IVec S16 32) (v4767 : IVec S16 32) (v4770 : IVec S16 32) : Prop :=
  (∀ a x, ((![v4096, v4676, v4767, v4770] : Fin 4 → IVec S16 32) a x).toNat < S2x4x32x32.size a)
theorem k0_idx2030_inb : ∀ (v4096 : IVec S16 32) (v4676 : IVec S16 32) (v4767 : IVec S16 32) (v4770 : IVec S16 32) (k0_hw1535 : k0_chk1535 v4096 v4676 v4767 v4770), ∀ a x, ((![v4096, v4676, v4767, v4770] : Fin 4 → IVec S16 32) a x).toNat < S2x4x32x32.size a := fun v4096 v4676 v4767 v4770 k0_hw1535 => k0_hw1535

def k0_chk1536 (v33 : IVec S16 32) (v35 : IVec S16 32) (v4096 : IVec S16 32) (v4676 : IVec S16 32) (v4772 : IVec S16 32) : Prop :=
  (∀ a x, ((![v4096, v4676, v4772, v33] : Fin 4 → IVec S16 32) a x).toNat < S2x4x94x96.size a) ∧
  (∀ a x, ((![v4096, v4676, v4772, v35] : Fin 4 → IVec S16 32) a x).toNat < S2x4x94x96.size a)
theorem k0_idx2031_inb : ∀ (v33 : IVec S16 32) (v35 : IVec S16 32) (v4096 : IVec S16 32) (v4676 : IVec S16 32) (v4772 : IVec S16 32) (k0_hw1536 : k0_chk1536 v33 v35 v4096 v4676 v4772), ∀ a x, ((![v4096, v4676, v4772, v33] : Fin 4 → IVec S16 32) a x).toNat < S2x4x94x96.size a := fun v33 v35 v4096 v4676 v4772 k0_hw1536 => k0_hw1536.1
theorem k0_idx2032_inb : ∀ (v33 : IVec S16 32) (v35 : IVec S16 32) (v4096 : IVec S16 32) (v4676 : IVec S16 32) (v4772 : IVec S16 32) (k0_hw1536 : k0_chk1536 v33 v35 v4096 v4676 v4772), ∀ a x, ((![v4096, v4676, v4772, v35] : Fin 4 → IVec S16 32) a x).toNat < S2x4x94x96.size a := fun v33 v35 v4096 v4676 v4772 k0_hw1536 => k0_hw1536.2

def k0_chk1537 (v30 : IVec S16 32) (v4096 : IVec S16 32) (v4676 : IVec S16 32) (v4773 : IVec S16 32) : Prop :=
  (∀ a x, ((![v4096, v4676, v4773, v30] : Fin 4 → IVec S16 32) a x).toNat < S2x4x32x32.size a)
theorem k0_idx2033_inb : ∀ (v30 : IVec S16 32) (v4096 : IVec S16 32) (v4676 : IVec S16 32) (v4773 : IVec S16 32) (k0_hw1537 : k0_chk1537 v30 v4096 v4676 v4773), ∀ a x, ((![v4096, v4676, v4773, v30] : Fin 4 → IVec S16 32) a x).toNat < S2x4x32x32.size a := fun v30 v4096 v4676 v4773 k0_hw1537 => k0_hw1537

def k0_chk1538 (v4096 : IVec S16 32) (v4676 : IVec S16 32) (v4773 : IVec S16 32) (v4776 : IVec S16 32) : Prop :=
  (∀ a x, ((![v4096, v4676, v4773, v4776] : Fin 4 → IVec S16 32) a x).toNat < S2x4x32x32.size a)
theorem k0_idx2034_inb : ∀ (v4096 : IVec S16 32) (v4676 : IVec S16 32) (v4773 : IVec S16 32) (v4776 : IVec S16 32) (k0_hw1538 : k0_chk1538 v4096 v4676 v4773 v4776), ∀ a x, ((![v4096, v4676, v4773, v4776] : Fin 4 → IVec S16 32) a x).toNat < S2x4x32x32.size a := fun v4096 v4676 v4773 v4776 k0_hw1538 => k0_hw1538

def k0_chk1539 (v33 : IVec S16 32) (v35 : IVec S16 32) (v4096 : IVec S16 32) (v4676 : IVec S16 32) (v4778 : IVec S16 32) : Prop :=
  (∀ a x, ((![v4096, v4676, v4778, v33] : Fin 4 → IVec S16 32) a x).toNat < S2x4x94x96.size a) ∧
  (∀ a x, ((![v4096, v4676, v4778, v35] : Fin 4 → IVec S16 32) a x).toNat < S2x4x94x96.size a)
theorem k0_idx2035_inb : ∀ (v33 : IVec S16 32) (v35 : IVec S16 32) (v4096 : IVec S16 32) (v4676 : IVec S16 32) (v4778 : IVec S16 32) (k0_hw1539 : k0_chk1539 v33 v35 v4096 v4676 v4778), ∀ a x, ((![v4096, v4676, v4778, v33] : Fin 4 → IVec S16 32) a x).toNat < S2x4x94x96.size a := fun v33 v35 v4096 v4676 v4778 k0_hw1539 => k0_hw1539.1
theorem k0_idx2036_inb : ∀ (v33 : IVec S16 32) (v35 : IVec S16 32) (v4096 : IVec S16 32) (v4676 : IVec S16 32) (v4778 : IVec S16 32) (k0_hw1539 : k0_chk1539 v33 v35 v4096 v4676 v4778), ∀ a x, ((![v4096, v4676, v4778, v35] : Fin 4 → IVec S16 32) a x).toNat < S2x4x94x96.size a := fun v33 v35 v4096 v4676 v4778 k0_hw1539 => k0_hw1539.2

def k0_chk1540 (v30 : IVec S16 32) (v4096 : IVec S16 32) (v4676 : IVec S16 32) (v4779 : IVec S16 32) : Prop :=
  (∀ a x, ((![v4096, v4676, v4779, v30] : Fin 4 → IVec S16 32) a x).toNat < S2x4x32x32.size a)
theorem k0_idx2037_inb : ∀ (v30 : IVec S16 32) (v4096 : IVec S16 32) (v4676 : IVec S16 32) (v4779 : IVec S16 32) (k0_hw1540 : k0_chk1540 v30 v4096 v4676 v4779), ∀ a x, ((![v4096, v4676, v4779, v30] : Fin 4 → IVec S16 32) a x).toNat < S2x4x32x32.size a := fun v30 v4096 v4676 v4779 k0_hw1540 => k0_hw1540

def k0_chk1541 (v4096 : IVec S16 32) (v4676 : IVec S16 32) (v4779 : IVec S16 32) (v4782 : IVec S16 32) : Prop :=
  (∀ a x, ((![v4096, v4676, v4779, v4782] : Fin 4 → IVec S16 32) a x).toNat < S2x4x32x32.size a)
theorem k0_idx2038_inb : ∀ (v4096 : IVec S16 32) (v4676 : IVec S16 32) (v4779 : IVec S16 32) (v4782 : IVec S16 32) (k0_hw1541 : k0_chk1541 v4096 v4676 v4779 v4782), ∀ a x, ((![v4096, v4676, v4779, v4782] : Fin 4 → IVec S16 32) a x).toNat < S2x4x32x32.size a := fun v4096 v4676 v4779 v4782 k0_hw1541 => k0_hw1541

def k0_chk1542 (v33 : IVec S16 32) (v35 : IVec S16 32) (v4096 : IVec S16 32) (v4676 : IVec S16 32) (v4784 : IVec S16 32) : Prop :=
  (∀ a x, ((![v4096, v4676, v4784, v33] : Fin 4 → IVec S16 32) a x).toNat < S2x4x94x96.size a) ∧
  (∀ a x, ((![v4096, v4676, v4784, v35] : Fin 4 → IVec S16 32) a x).toNat < S2x4x94x96.size a)
theorem k0_idx2039_inb : ∀ (v33 : IVec S16 32) (v35 : IVec S16 32) (v4096 : IVec S16 32) (v4676 : IVec S16 32) (v4784 : IVec S16 32) (k0_hw1542 : k0_chk1542 v33 v35 v4096 v4676 v4784), ∀ a x, ((![v4096, v4676, v4784, v33] : Fin 4 → IVec S16 32) a x).toNat < S2x4x94x96.size a := fun v33 v35 v4096 v4676 v4784 k0_hw1542 => k0_hw1542.1
theorem k0_idx2040_inb : ∀ (v33 : IVec S16 32) (v35 : IVec S16 32) (v4096 : IVec S16 32) (v4676 : IVec S16 32) (v4784 : IVec S16 32) (k0_hw1542 : k0_chk1542 v33 v35 v4096 v4676 v4784), ∀ a x, ((![v4096, v4676, v4784, v35] : Fin 4 → IVec S16 32) a x).toNat < S2x4x94x96.size a := fun v33 v35 v4096 v4676 v4784 k0_hw1542 => k0_hw1542.2

def k0_chk1543 (v30 : IVec S16 32) (v4096 : IVec S16 32) (v4676 : IVec S16 32) (v4785 : IVec S16 32) : Prop :=
  (∀ a x, ((![v4096, v4676, v4785, v30] : Fin 4 → IVec S16 32) a x).toNat < S2x4x32x32.size a)
theorem k0_idx2041_inb : ∀ (v30 : IVec S16 32) (v4096 : IVec S16 32) (v4676 : IVec S16 32) (v4785 : IVec S16 32) (k0_hw1543 : k0_chk1543 v30 v4096 v4676 v4785), ∀ a x, ((![v4096, v4676, v4785, v30] : Fin 4 → IVec S16 32) a x).toNat < S2x4x32x32.size a := fun v30 v4096 v4676 v4785 k0_hw1543 => k0_hw1543

def k0_chk1544 (v4096 : IVec S16 32) (v4676 : IVec S16 32) (v4785 : IVec S16 32) (v4788 : IVec S16 32) : Prop :=
  (∀ a x, ((![v4096, v4676, v4785, v4788] : Fin 4 → IVec S16 32) a x).toNat < S2x4x32x32.size a)
theorem k0_idx2042_inb : ∀ (v4096 : IVec S16 32) (v4676 : IVec S16 32) (v4785 : IVec S16 32) (v4788 : IVec S16 32) (k0_hw1544 : k0_chk1544 v4096 v4676 v4785 v4788), ∀ a x, ((![v4096, v4676, v4785, v4788] : Fin 4 → IVec S16 32) a x).toNat < S2x4x32x32.size a := fun v4096 v4676 v4785 v4788 k0_hw1544 => k0_hw1544

def k0_chk1545 (v33 : IVec S16 32) (v35 : IVec S16 32) (v4096 : IVec S16 32) (v4676 : IVec S16 32) (v4790 : IVec S16 32) : Prop :=
  (∀ a x, ((![v4096, v4676, v4790, v33] : Fin 4 → IVec S16 32) a x).toNat < S2x4x94x96.size a) ∧
  (∀ a x, ((![v4096, v4676, v4790, v35] : Fin 4 → IVec S16 32) a x).toNat < S2x4x94x96.size a)
theorem k0_idx2043_inb : ∀ (v33 : IVec S16 32) (v35 : IVec S16 32) (v4096 : IVec S16 32) (v4676 : IVec S16 32) (v4790 : IVec S16 32) (k0_hw1545 : k0_chk1545 v33 v35 v4096 v4676 v4790), ∀ a x, ((![v4096, v4676, v4790, v33] : Fin 4 → IVec S16 32) a x).toNat < S2x4x94x96.size a := fun v33 v35 v4096 v4676 v4790 k0_hw1545 => k0_hw1545.1
theorem k0_idx2044_inb : ∀ (v33 : IVec S16 32) (v35 : IVec S16 32) (v4096 : IVec S16 32) (v4676 : IVec S16 32) (v4790 : IVec S16 32) (k0_hw1545 : k0_chk1545 v33 v35 v4096 v4676 v4790), ∀ a x, ((![v4096, v4676, v4790, v35] : Fin 4 → IVec S16 32) a x).toNat < S2x4x94x96.size a := fun v33 v35 v4096 v4676 v4790 k0_hw1545 => k0_hw1545.2

def k0_chk1546 (v30 : IVec S16 32) (v4096 : IVec S16 32) (v4676 : IVec S16 32) (v4791 : IVec S16 32) : Prop :=
  (∀ a x, ((![v4096, v4676, v4791, v30] : Fin 4 → IVec S16 32) a x).toNat < S2x4x32x32.size a)
theorem k0_idx2045_inb : ∀ (v30 : IVec S16 32) (v4096 : IVec S16 32) (v4676 : IVec S16 32) (v4791 : IVec S16 32) (k0_hw1546 : k0_chk1546 v30 v4096 v4676 v4791), ∀ a x, ((![v4096, v4676, v4791, v30] : Fin 4 → IVec S16 32) a x).toNat < S2x4x32x32.size a := fun v30 v4096 v4676 v4791 k0_hw1546 => k0_hw1546

def k0_chk1547 (v4096 : IVec S16 32) (v4676 : IVec S16 32) (v4791 : IVec S16 32) (v4794 : IVec S16 32) : Prop :=
  (∀ a x, ((![v4096, v4676, v4791, v4794] : Fin 4 → IVec S16 32) a x).toNat < S2x4x32x32.size a)
theorem k0_idx2046_inb : ∀ (v4096 : IVec S16 32) (v4676 : IVec S16 32) (v4791 : IVec S16 32) (v4794 : IVec S16 32) (k0_hw1547 : k0_chk1547 v4096 v4676 v4791 v4794), ∀ a x, ((![v4096, v4676, v4791, v4794] : Fin 4 → IVec S16 32) a x).toNat < S2x4x32x32.size a := fun v4096 v4676 v4791 v4794 k0_hw1547 => k0_hw1547

def k0_chk1548 (v33 : IVec S16 32) (v35 : IVec S16 32) (v4096 : IVec S16 32) (v4676 : IVec S16 32) (v4796 : IVec S16 32) : Prop :=
  (∀ a x, ((![v4096, v4676, v4796, v33] : Fin 4 → IVec S16 32) a x).toNat < S2x4x94x96.size a) ∧
  (∀ a x, ((![v4096, v4676, v4796, v35] : Fin 4 → IVec S16 32) a x).toNat < S2x4x94x96.size a)
theorem k0_idx2047_inb : ∀ (v33 : IVec S16 32) (v35 : IVec S16 32) (v4096 : IVec S16 32) (v4676 : IVec S16 32) (v4796 : IVec S16 32) (k0_hw1548 : k0_chk1548 v33 v35 v4096 v4676 v4796), ∀ a x, ((![v4096, v4676, v4796, v33] : Fin 4 → IVec S16 32) a x).toNat < S2x4x94x96.size a := fun v33 v35 v4096 v4676 v4796 k0_hw1548 => k0_hw1548.1
theorem k0_idx2048_inb : ∀ (v33 : IVec S16 32) (v35 : IVec S16 32) (v4096 : IVec S16 32) (v4676 : IVec S16 32) (v4796 : IVec S16 32) (k0_hw1548 : k0_chk1548 v33 v35 v4096 v4676 v4796), ∀ a x, ((![v4096, v4676, v4796, v35] : Fin 4 → IVec S16 32) a x).toNat < S2x4x94x96.size a := fun v33 v35 v4096 v4676 v4796 k0_hw1548 => k0_hw1548.2

def k0_chk1549 (v30 : IVec S16 32) (v4096 : IVec S16 32) (v4676 : IVec S16 32) (v4797 : IVec S16 32) : Prop :=
  (∀ a x, ((![v4096, v4676, v4797, v30] : Fin 4 → IVec S16 32) a x).toNat < S2x4x32x32.size a)
theorem k0_idx2049_inb : ∀ (v30 : IVec S16 32) (v4096 : IVec S16 32) (v4676 : IVec S16 32) (v4797 : IVec S16 32) (k0_hw1549 : k0_chk1549 v30 v4096 v4676 v4797), ∀ a x, ((![v4096, v4676, v4797, v30] : Fin 4 → IVec S16 32) a x).toNat < S2x4x32x32.size a := fun v30 v4096 v4676 v4797 k0_hw1549 => k0_hw1549

def k0_chk1550 (v4096 : IVec S16 32) (v4676 : IVec S16 32) (v4797 : IVec S16 32) (v4800 : IVec S16 32) : Prop :=
  (∀ a x, ((![v4096, v4676, v4797, v4800] : Fin 4 → IVec S16 32) a x).toNat < S2x4x32x32.size a)
theorem k0_idx2050_inb : ∀ (v4096 : IVec S16 32) (v4676 : IVec S16 32) (v4797 : IVec S16 32) (v4800 : IVec S16 32) (k0_hw1550 : k0_chk1550 v4096 v4676 v4797 v4800), ∀ a x, ((![v4096, v4676, v4797, v4800] : Fin 4 → IVec S16 32) a x).toNat < S2x4x32x32.size a := fun v4096 v4676 v4797 v4800 k0_hw1550 => k0_hw1550

def k0_chk1551 (v33 : IVec S16 32) (v35 : IVec S16 32) (v4096 : IVec S16 32) (v4676 : IVec S16 32) (v4802 : IVec S16 32) : Prop :=
  (∀ a x, ((![v4096, v4676, v4802, v33] : Fin 4 → IVec S16 32) a x).toNat < S2x4x94x96.size a) ∧
  (∀ a x, ((![v4096, v4676, v4802, v35] : Fin 4 → IVec S16 32) a x).toNat < S2x4x94x96.size a)
theorem k0_idx2051_inb : ∀ (v33 : IVec S16 32) (v35 : IVec S16 32) (v4096 : IVec S16 32) (v4676 : IVec S16 32) (v4802 : IVec S16 32) (k0_hw1551 : k0_chk1551 v33 v35 v4096 v4676 v4802), ∀ a x, ((![v4096, v4676, v4802, v33] : Fin 4 → IVec S16 32) a x).toNat < S2x4x94x96.size a := fun v33 v35 v4096 v4676 v4802 k0_hw1551 => k0_hw1551.1
theorem k0_idx2052_inb : ∀ (v33 : IVec S16 32) (v35 : IVec S16 32) (v4096 : IVec S16 32) (v4676 : IVec S16 32) (v4802 : IVec S16 32) (k0_hw1551 : k0_chk1551 v33 v35 v4096 v4676 v4802), ∀ a x, ((![v4096, v4676, v4802, v35] : Fin 4 → IVec S16 32) a x).toNat < S2x4x94x96.size a := fun v33 v35 v4096 v4676 v4802 k0_hw1551 => k0_hw1551.2

def k0_chk1552 (v30 : IVec S16 32) (v4096 : IVec S16 32) (v4676 : IVec S16 32) (v4803 : IVec S16 32) : Prop :=
  (∀ a x, ((![v4096, v4676, v4803, v30] : Fin 4 → IVec S16 32) a x).toNat < S2x4x32x32.size a)
theorem k0_idx2053_inb : ∀ (v30 : IVec S16 32) (v4096 : IVec S16 32) (v4676 : IVec S16 32) (v4803 : IVec S16 32) (k0_hw1552 : k0_chk1552 v30 v4096 v4676 v4803), ∀ a x, ((![v4096, v4676, v4803, v30] : Fin 4 → IVec S16 32) a x).toNat < S2x4x32x32.size a := fun v30 v4096 v4676 v4803 k0_hw1552 => k0_hw1552

def k0_chk1553 (v4096 : IVec S16 32) (v4676 : IVec S16 32) (v4803 : IVec S16 32) (v4806 : IVec S16 32) : Prop :=
  (∀ a x, ((![v4096, v4676, v4803, v4806] : Fin 4 → IVec S16 32) a x).toNat < S2x4x32x32.size a)
theorem k0_idx2054_inb : ∀ (v4096 : IVec S16 32) (v4676 : IVec S16 32) (v4803 : IVec S16 32) (v4806 : IVec S16 32) (k0_hw1553 : k0_chk1553 v4096 v4676 v4803 v4806), ∀ a x, ((![v4096, v4676, v4803, v4806] : Fin 4 → IVec S16 32) a x).toNat < S2x4x32x32.size a := fun v4096 v4676 v4803 v4806 k0_hw1553 => k0_hw1553

def k0_chk1554 (v33 : IVec S16 32) (v35 : IVec S16 32) (v4096 : IVec S16 32) (v4676 : IVec S16 32) (v4808 : IVec S16 32) : Prop :=
  (∀ a x, ((![v4096, v4676, v4808, v33] : Fin 4 → IVec S16 32) a x).toNat < S2x4x94x96.size a) ∧
  (∀ a x, ((![v4096, v4676, v4808, v35] : Fin 4 → IVec S16 32) a x).toNat < S2x4x94x96.size a)
theorem k0_idx2055_inb : ∀ (v33 : IVec S16 32) (v35 : IVec S16 32) (v4096 : IVec S16 32) (v4676 : IVec S16 32) (v4808 : IVec S16 32) (k0_hw1554 : k0_chk1554 v33 v35 v4096 v4676 v4808), ∀ a x, ((![v4096, v4676, v4808, v33] : Fin 4 → IVec S16 32) a x).toNat < S2x4x94x96.size a := fun v33 v35 v4096 v4676 v4808 k0_hw1554 => k0_hw1554.1
theorem k0_idx2056_inb : ∀ (v33 : IVec S16 32) (v35 : IVec S16 32) (v4096 : IVec S16 32) (v4676 : IVec S16 32) (v4808 : IVec S16 32) (k0_hw1554 : k0_chk1554 v33 v35 v4096 v4676 v4808), ∀ a x, ((![v4096, v4676, v4808, v35] : Fin 4 → IVec S16 32) a x).toNat < S2x4x94x96.size a := fun v33 v35 v4096 v4676 v4808 k0_hw1554 => k0_hw1554.2

def k0_chk1555 (v30 : IVec S16 32) (v4096 : IVec S16 32) (v4676 : IVec S16 32) (v4809 : IVec S16 32) : Prop :=
  (∀ a x, ((![v4096, v4676, v4809, v30] : Fin 4 → IVec S16 32) a x).toNat < S2x4x32x32.size a)
theorem k0_idx2057_inb : ∀ (v30 : IVec S16 32) (v4096 : IVec S16 32) (v4676 : IVec S16 32) (v4809 : IVec S16 32) (k0_hw1555 : k0_chk1555 v30 v4096 v4676 v4809), ∀ a x, ((![v4096, v4676, v4809, v30] : Fin 4 → IVec S16 32) a x).toNat < S2x4x32x32.size a := fun v30 v4096 v4676 v4809 k0_hw1555 => k0_hw1555

def k0_chk1556 (v4096 : IVec S16 32) (v4676 : IVec S16 32) (v4809 : IVec S16 32) (v4812 : IVec S16 32) : Prop :=
  (∀ a x, ((![v4096, v4676, v4809, v4812] : Fin 4 → IVec S16 32) a x).toNat < S2x4x32x32.size a)
theorem k0_idx2058_inb : ∀ (v4096 : IVec S16 32) (v4676 : IVec S16 32) (v4809 : IVec S16 32) (v4812 : IVec S16 32) (k0_hw1556 : k0_chk1556 v4096 v4676 v4809 v4812), ∀ a x, ((![v4096, v4676, v4809, v4812] : Fin 4 → IVec S16 32) a x).toNat < S2x4x32x32.size a := fun v4096 v4676 v4809 v4812 k0_hw1556 => k0_hw1556

def k0_chk1557 (v33 : IVec S16 32) (v35 : IVec S16 32) (v4096 : IVec S16 32) (v4676 : IVec S16 32) (v4814 : IVec S16 32) : Prop :=
  (∀ a x, ((![v4096, v4676, v4814, v33] : Fin 4 → IVec S16 32) a x).toNat < S2x4x94x96.size a) ∧
  (∀ a x, ((![v4096, v4676, v4814, v35] : Fin 4 → IVec S16 32) a x).toNat < S2x4x94x96.size a)
theorem k0_idx2059_inb : ∀ (v33 : IVec S16 32) (v35 : IVec S16 32) (v4096 : IVec S16 32) (v4676 : IVec S16 32) (v4814 : IVec S16 32) (k0_hw1557 : k0_chk1557 v33 v35 v4096 v4676 v4814), ∀ a x, ((![v4096, v4676, v4814, v33] : Fin 4 → IVec S16 32) a x).toNat < S2x4x94x96.size a := fun v33 v35 v4096 v4676 v4814 k0_hw1557 => k0_hw1557.1
theorem k0_idx2060_inb : ∀ (v33 : IVec S16 32) (v35 : IVec S16 32) (v4096 : IVec S16 32) (v4676 : IVec S16 32) (v4814 : IVec S16 32) (k0_hw1557 : k0_chk1557 v33 v35 v4096 v4676 v4814), ∀ a x, ((![v4096, v4676, v4814, v35] : Fin 4 → IVec S16 32) a x).toNat < S2x4x94x96.size a := fun v33 v35 v4096 v4676 v4814 k0_hw1557 => k0_hw1557.2

def k0_chk1558 (v30 : IVec S16 32) (v4096 : IVec S16 32) (v4676 : IVec S16 32) (v4815 : IVec S16 32) : Prop :=
  (∀ a x, ((![v4096, v4676, v4815, v30] : Fin 4 → IVec S16 32) a x).toNat < S2x4x32x32.size a)
theorem k0_idx2061_inb : ∀ (v30 : IVec S16 32) (v4096 : IVec S16 32) (v4676 : IVec S16 32) (v4815 : IVec S16 32) (k0_hw1558 : k0_chk1558 v30 v4096 v4676 v4815), ∀ a x, ((![v4096, v4676, v4815, v30] : Fin 4 → IVec S16 32) a x).toNat < S2x4x32x32.size a := fun v30 v4096 v4676 v4815 k0_hw1558 => k0_hw1558

def k0_chk1559 (v4096 : IVec S16 32) (v4676 : IVec S16 32) (v4815 : IVec S16 32) (v4818 : IVec S16 32) : Prop :=
  (∀ a x, ((![v4096, v4676, v4815, v4818] : Fin 4 → IVec S16 32) a x).toNat < S2x4x32x32.size a)
theorem k0_idx2062_inb : ∀ (v4096 : IVec S16 32) (v4676 : IVec S16 32) (v4815 : IVec S16 32) (v4818 : IVec S16 32) (k0_hw1559 : k0_chk1559 v4096 v4676 v4815 v4818), ∀ a x, ((![v4096, v4676, v4815, v4818] : Fin 4 → IVec S16 32) a x).toNat < S2x4x32x32.size a := fun v4096 v4676 v4815 v4818 k0_hw1559 => k0_hw1559

def k0_chk1560 (v33 : IVec S16 32) (v35 : IVec S16 32) (v4096 : IVec S16 32) (v4676 : IVec S16 32) (v4820 : IVec S16 32) : Prop :=
  (∀ a x, ((![v4096, v4676, v4820, v33] : Fin 4 → IVec S16 32) a x).toNat < S2x4x94x96.size a) ∧
  (∀ a x, ((![v4096, v4676, v4820, v35] : Fin 4 → IVec S16 32) a x).toNat < S2x4x94x96.size a)
theorem k0_idx2063_inb : ∀ (v33 : IVec S16 32) (v35 : IVec S16 32) (v4096 : IVec S16 32) (v4676 : IVec S16 32) (v4820 : IVec S16 32) (k0_hw1560 : k0_chk1560 v33 v35 v4096 v4676 v4820), ∀ a x, ((![v4096, v4676, v4820, v33] : Fin 4 → IVec S16 32) a x).toNat < S2x4x94x96.size a := fun v33 v35 v4096 v4676 v4820 k0_hw1560 => k0_hw1560.1
theorem k0_idx2064_inb : ∀ (v33 : IVec S16 32) (v35 : IVec S16 32) (v4096 : IVec S16 32) (v4676 : IVec S16 32) (v4820 : IVec S16 32) (k0_hw1560 : k0_chk1560 v33 v35 v4096 v4676 v4820), ∀ a x, ((![v4096, v4676, v4820, v35] : Fin 4 → IVec S16 32) a x).toNat < S2x4x94x96.size a := fun v33 v35 v4096 v4676 v4820 k0_hw1560 => k0_hw1560.2

def k0_chk1561 (v30 : IVec S16 32) (v4096 : IVec S16 32) (v4676 : IVec S16 32) (v4821 : IVec S16 32) : Prop :=
  (∀ a x, ((![v4096, v4676, v4821, v30] : Fin 4 → IVec S16 32) a x).toNat < S2x4x32x32.size a)
theorem k0_idx2065_inb : ∀ (v30 : IVec S16 32) (v4096 : IVec S16 32) (v4676 : IVec S16 32) (v4821 : IVec S16 32) (k0_hw1561 : k0_chk1561 v30 v4096 v4676 v4821), ∀ a x, ((![v4096, v4676, v4821, v30] : Fin 4 → IVec S16 32) a x).toNat < S2x4x32x32.size a := fun v30 v4096 v4676 v4821 k0_hw1561 => k0_hw1561

def k0_chk1562 (v4096 : IVec S16 32) (v4676 : IVec S16 32) (v4821 : IVec S16 32) (v4824 : IVec S16 32) : Prop :=
  (∀ a x, ((![v4096, v4676, v4821, v4824] : Fin 4 → IVec S16 32) a x).toNat < S2x4x32x32.size a)
theorem k0_idx2066_inb : ∀ (v4096 : IVec S16 32) (v4676 : IVec S16 32) (v4821 : IVec S16 32) (v4824 : IVec S16 32) (k0_hw1562 : k0_chk1562 v4096 v4676 v4821 v4824), ∀ a x, ((![v4096, v4676, v4821, v4824] : Fin 4 → IVec S16 32) a x).toNat < S2x4x32x32.size a := fun v4096 v4676 v4821 v4824 k0_hw1562 => k0_hw1562

def k0_chk1563 (v33 : IVec S16 32) (v35 : IVec S16 32) (v4096 : IVec S16 32) (v4676 : IVec S16 32) (v4826 : IVec S16 32) : Prop :=
  (∀ a x, ((![v4096, v4676, v4826, v33] : Fin 4 → IVec S16 32) a x).toNat < S2x4x94x96.size a) ∧
  (∀ a x, ((![v4096, v4676, v4826, v35] : Fin 4 → IVec S16 32) a x).toNat < S2x4x94x96.size a)
theorem k0_idx2067_inb : ∀ (v33 : IVec S16 32) (v35 : IVec S16 32) (v4096 : IVec S16 32) (v4676 : IVec S16 32) (v4826 : IVec S16 32) (k0_hw1563 : k0_chk1563 v33 v35 v4096 v4676 v4826), ∀ a x, ((![v4096, v4676, v4826, v33] : Fin 4 → IVec S16 32) a x).toNat < S2x4x94x96.size a := fun v33 v35 v4096 v4676 v4826 k0_hw1563 => k0_hw1563.1
theorem k0_idx2068_inb : ∀ (v33 : IVec S16 32) (v35 : IVec S16 32) (v4096 : IVec S16 32) (v4676 : IVec S16 32) (v4826 : IVec S16 32) (k0_hw1563 : k0_chk1563 v33 v35 v4096 v4676 v4826), ∀ a x, ((![v4096, v4676, v4826, v35] : Fin 4 → IVec S16 32) a x).toNat < S2x4x94x96.size a := fun v33 v35 v4096 v4676 v4826 k0_hw1563 => k0_hw1563.2

def k0_chk1564 (v30 : IVec S16 32) (v4096 : IVec S16 32) (v4676 : IVec S16 32) (v4827 : IVec S16 32) : Prop :=
  (∀ a x, ((![v4096, v4676, v4827, v30] : Fin 4 → IVec S16 32) a x).toNat < S2x4x32x32.size a)
theorem k0_idx2069_inb : ∀ (v30 : IVec S16 32) (v4096 : IVec S16 32) (v4676 : IVec S16 32) (v4827 : IVec S16 32) (k0_hw1564 : k0_chk1564 v30 v4096 v4676 v4827), ∀ a x, ((![v4096, v4676, v4827, v30] : Fin 4 → IVec S16 32) a x).toNat < S2x4x32x32.size a := fun v30 v4096 v4676 v4827 k0_hw1564 => k0_hw1564

def k0_chk1565 (v4096 : IVec S16 32) (v4676 : IVec S16 32) (v4827 : IVec S16 32) (v4830 : IVec S16 32) : Prop :=
  (∀ a x, ((![v4096, v4676, v4827, v4830] : Fin 4 → IVec S16 32) a x).toNat < S2x4x32x32.size a)
theorem k0_idx2070_inb : ∀ (v4096 : IVec S16 32) (v4676 : IVec S16 32) (v4827 : IVec S16 32) (v4830 : IVec S16 32) (k0_hw1565 : k0_chk1565 v4096 v4676 v4827 v4830), ∀ a x, ((![v4096, v4676, v4827, v4830] : Fin 4 → IVec S16 32) a x).toNat < S2x4x32x32.size a := fun v4096 v4676 v4827 v4830 k0_hw1565 => k0_hw1565

def k0_chk1566 (v33 : IVec S16 32) (v35 : IVec S16 32) (v4096 : IVec S16 32) (v4676 : IVec S16 32) (v4832 : IVec S16 32) : Prop :=
  (∀ a x, ((![v4096, v4676, v4832, v33] : Fin 4 → IVec S16 32) a x).toNat < S2x4x94x96.size a) ∧
  (∀ a x, ((![v4096, v4676, v4832, v35] : Fin 4 → IVec S16 32) a x).toNat < S2x4x94x96.size a)
theorem k0_idx2071_inb : ∀ (v33 : IVec S16 32) (v35 : IVec S16 32) (v4096 : IVec S16 32) (v4676 : IVec S16 32) (v4832 : IVec S16 32) (k0_hw1566 : k0_chk1566 v33 v35 v4096 v4676 v4832), ∀ a x, ((![v4096, v4676, v4832, v33] : Fin 4 → IVec S16 32) a x).toNat < S2x4x94x96.size a := fun v33 v35 v4096 v4676 v4832 k0_hw1566 => k0_hw1566.1
theorem k0_idx2072_inb : ∀ (v33 : IVec S16 32) (v35 : IVec S16 32) (v4096 : IVec S16 32) (v4676 : IVec S16 32) (v4832 : IVec S16 32) (k0_hw1566 : k0_chk1566 v33 v35 v4096 v4676 v4832), ∀ a x, ((![v4096, v4676, v4832, v35] : Fin 4 → IVec S16 32) a x).toNat < S2x4x94x96.size a := fun v33 v35 v4096 v4676 v4832 k0_hw1566 => k0_hw1566.2

def k0_chk1567 (v30 : IVec S16 32) (v4096 : IVec S16 32) (v4676 : IVec S16 32) (v4833 : IVec S16 32) : Prop :=
  (∀ a x, ((![v4096, v4676, v4833, v30] : Fin 4 → IVec S16 32) a x).toNat < S2x4x32x32.size a)
theorem k0_idx2073_inb : ∀ (v30 : IVec S16 32) (v4096 : IVec S16 32) (v4676 : IVec S16 32) (v4833 : IVec S16 32) (k0_hw1567 : k0_chk1567 v30 v4096 v4676 v4833), ∀ a x, ((![v4096, v4676, v4833, v30] : Fin 4 → IVec S16 32) a x).toNat < S2x4x32x32.size a := fun v30 v4096 v4676 v4833 k0_hw1567 => k0_hw1567

def k0_chk1568 (v4096 : IVec S16 32) (v4676 : IVec S16 32) (v4833 : IVec S16 32) (v4836 : IVec S16 32) : Prop :=
  (∀ a x, ((![v4096, v4676, v4833, v4836] : Fin 4 → IVec S16 32) a x).toNat < S2x4x32x32.size a)
theorem k0_idx2074_inb : ∀ (v4096 : IVec S16 32) (v4676 : IVec S16 32) (v4833 : IVec S16 32) (v4836 : IVec S16 32) (k0_hw1568 : k0_chk1568 v4096 v4676 v4833 v4836), ∀ a x, ((![v4096, v4676, v4833, v4836] : Fin 4 → IVec S16 32) a x).toNat < S2x4x32x32.size a := fun v4096 v4676 v4833 v4836 k0_hw1568 => k0_hw1568

def k0_chk1569 (v33 : IVec S16 32) (v35 : IVec S16 32) (v4096 : IVec S16 32) (v4676 : IVec S16 32) (v4838 : IVec S16 32) : Prop :=
  (∀ a x, ((![v4096, v4676, v4838, v33] : Fin 4 → IVec S16 32) a x).toNat < S2x4x94x96.size a) ∧
  (∀ a x, ((![v4096, v4676, v4838, v35] : Fin 4 → IVec S16 32) a x).toNat < S2x4x94x96.size a)
theorem k0_idx2075_inb : ∀ (v33 : IVec S16 32) (v35 : IVec S16 32) (v4096 : IVec S16 32) (v4676 : IVec S16 32) (v4838 : IVec S16 32) (k0_hw1569 : k0_chk1569 v33 v35 v4096 v4676 v4838), ∀ a x, ((![v4096, v4676, v4838, v33] : Fin 4 → IVec S16 32) a x).toNat < S2x4x94x96.size a := fun v33 v35 v4096 v4676 v4838 k0_hw1569 => k0_hw1569.1
theorem k0_idx2076_inb : ∀ (v33 : IVec S16 32) (v35 : IVec S16 32) (v4096 : IVec S16 32) (v4676 : IVec S16 32) (v4838 : IVec S16 32) (k0_hw1569 : k0_chk1569 v33 v35 v4096 v4676 v4838), ∀ a x, ((![v4096, v4676, v4838, v35] : Fin 4 → IVec S16 32) a x).toNat < S2x4x94x96.size a := fun v33 v35 v4096 v4676 v4838 k0_hw1569 => k0_hw1569.2

def k0_chk1570 (v30 : IVec S16 32) (v4096 : IVec S16 32) (v4676 : IVec S16 32) (v4839 : IVec S16 32) : Prop :=
  (∀ a x, ((![v4096, v4676, v4839, v30] : Fin 4 → IVec S16 32) a x).toNat < S2x4x32x32.size a)
theorem k0_idx2077_inb : ∀ (v30 : IVec S16 32) (v4096 : IVec S16 32) (v4676 : IVec S16 32) (v4839 : IVec S16 32) (k0_hw1570 : k0_chk1570 v30 v4096 v4676 v4839), ∀ a x, ((![v4096, v4676, v4839, v30] : Fin 4 → IVec S16 32) a x).toNat < S2x4x32x32.size a := fun v30 v4096 v4676 v4839 k0_hw1570 => k0_hw1570

def k0_chk1571 (v4096 : IVec S16 32) (v4676 : IVec S16 32) (v4839 : IVec S16 32) (v4842 : IVec S16 32) : Prop :=
  (∀ a x, ((![v4096, v4676, v4839, v4842] : Fin 4 → IVec S16 32) a x).toNat < S2x4x32x32.size a)
theorem k0_idx2078_inb : ∀ (v4096 : IVec S16 32) (v4676 : IVec S16 32) (v4839 : IVec S16 32) (v4842 : IVec S16 32) (k0_hw1571 : k0_chk1571 v4096 v4676 v4839 v4842), ∀ a x, ((![v4096, v4676, v4839, v4842] : Fin 4 → IVec S16 32) a x).toNat < S2x4x32x32.size a := fun v4096 v4676 v4839 v4842 k0_hw1571 => k0_hw1571

def k0_chk1572 (v33 : IVec S16 32) (v35 : IVec S16 32) (v4096 : IVec S16 32) (v4676 : IVec S16 32) (v4844 : IVec S16 32) : Prop :=
  (∀ a x, ((![v4096, v4676, v4844, v33] : Fin 4 → IVec S16 32) a x).toNat < S2x4x94x96.size a) ∧
  (∀ a x, ((![v4096, v4676, v4844, v35] : Fin 4 → IVec S16 32) a x).toNat < S2x4x94x96.size a)
theorem k0_idx2079_inb : ∀ (v33 : IVec S16 32) (v35 : IVec S16 32) (v4096 : IVec S16 32) (v4676 : IVec S16 32) (v4844 : IVec S16 32) (k0_hw1572 : k0_chk1572 v33 v35 v4096 v4676 v4844), ∀ a x, ((![v4096, v4676, v4844, v33] : Fin 4 → IVec S16 32) a x).toNat < S2x4x94x96.size a := fun v33 v35 v4096 v4676 v4844 k0_hw1572 => k0_hw1572.1
theorem k0_idx2080_inb : ∀ (v33 : IVec S16 32) (v35 : IVec S16 32) (v4096 : IVec S16 32) (v4676 : IVec S16 32) (v4844 : IVec S16 32) (k0_hw1572 : k0_chk1572 v33 v35 v4096 v4676 v4844), ∀ a x, ((![v4096, v4676, v4844, v35] : Fin 4 → IVec S16 32) a x).toNat < S2x4x94x96.size a := fun v33 v35 v4096 v4676 v4844 k0_hw1572 => k0_hw1572.2

def k0_chk1573 (v30 : IVec S16 32) (v4096 : IVec S16 32) (v4676 : IVec S16 32) (v4845 : IVec S16 32) : Prop :=
  (∀ a x, ((![v4096, v4676, v4845, v30] : Fin 4 → IVec S16 32) a x).toNat < S2x4x32x32.size a)
theorem k0_idx2081_inb : ∀ (v30 : IVec S16 32) (v4096 : IVec S16 32) (v4676 : IVec S16 32) (v4845 : IVec S16 32) (k0_hw1573 : k0_chk1573 v30 v4096 v4676 v4845), ∀ a x, ((![v4096, v4676, v4845, v30] : Fin 4 → IVec S16 32) a x).toNat < S2x4x32x32.size a := fun v30 v4096 v4676 v4845 k0_hw1573 => k0_hw1573

def k0_chk1574 (v4096 : IVec S16 32) (v4676 : IVec S16 32) (v4845 : IVec S16 32) (v4848 : IVec S16 32) : Prop :=
  (∀ a x, ((![v4096, v4676, v4845, v4848] : Fin 4 → IVec S16 32) a x).toNat < S2x4x32x32.size a)
theorem k0_idx2082_inb : ∀ (v4096 : IVec S16 32) (v4676 : IVec S16 32) (v4845 : IVec S16 32) (v4848 : IVec S16 32) (k0_hw1574 : k0_chk1574 v4096 v4676 v4845 v4848), ∀ a x, ((![v4096, v4676, v4845, v4848] : Fin 4 → IVec S16 32) a x).toNat < S2x4x32x32.size a := fun v4096 v4676 v4845 v4848 k0_hw1574 => k0_hw1574

def k0_chk1575 (v33 : IVec S16 32) (v35 : IVec S16 32) (v4096 : IVec S16 32) (v4676 : IVec S16 32) (v4850 : IVec S16 32) : Prop :=
  (∀ a x, ((![v4096, v4676, v4850, v33] : Fin 4 → IVec S16 32) a x).toNat < S2x4x94x96.size a) ∧
  (∀ a x, ((![v4096, v4676, v4850, v35] : Fin 4 → IVec S16 32) a x).toNat < S2x4x94x96.size a)
theorem k0_idx2083_inb : ∀ (v33 : IVec S16 32) (v35 : IVec S16 32) (v4096 : IVec S16 32) (v4676 : IVec S16 32) (v4850 : IVec S16 32) (k0_hw1575 : k0_chk1575 v33 v35 v4096 v4676 v4850), ∀ a x, ((![v4096, v4676, v4850, v33] : Fin 4 → IVec S16 32) a x).toNat < S2x4x94x96.size a := fun v33 v35 v4096 v4676 v4850 k0_hw1575 => k0_hw1575.1
theorem k0_idx2084_inb : ∀ (v33 : IVec S16 32) (v35 : IVec S16 32) (v4096 : IVec S16 32) (v4676 : IVec S16 32) (v4850 : IVec S16 32) (k0_hw1575 : k0_chk1575 v33 v35 v4096 v4676 v4850), ∀ a x, ((![v4096, v4676, v4850, v35] : Fin 4 → IVec S16 32) a x).toNat < S2x4x94x96.size a := fun v33 v35 v4096 v4676 v4850 k0_hw1575 => k0_hw1575.2

def k0_chk1576 (v30 : IVec S16 32) (v4096 : IVec S16 32) (v4676 : IVec S16 32) (v4851 : IVec S16 32) : Prop :=
  (∀ a x, ((![v4096, v4676, v4851, v30] : Fin 4 → IVec S16 32) a x).toNat < S2x4x32x32.size a)
theorem k0_idx2085_inb : ∀ (v30 : IVec S16 32) (v4096 : IVec S16 32) (v4676 : IVec S16 32) (v4851 : IVec S16 32) (k0_hw1576 : k0_chk1576 v30 v4096 v4676 v4851), ∀ a x, ((![v4096, v4676, v4851, v30] : Fin 4 → IVec S16 32) a x).toNat < S2x4x32x32.size a := fun v30 v4096 v4676 v4851 k0_hw1576 => k0_hw1576

def k0_chk1577 (v4096 : IVec S16 32) (v4676 : IVec S16 32) (v4851 : IVec S16 32) (v4854 : IVec S16 32) : Prop :=
  (∀ a x, ((![v4096, v4676, v4851, v4854] : Fin 4 → IVec S16 32) a x).toNat < S2x4x32x32.size a)
theorem k0_idx2086_inb : ∀ (v4096 : IVec S16 32) (v4676 : IVec S16 32) (v4851 : IVec S16 32) (v4854 : IVec S16 32) (k0_hw1577 : k0_chk1577 v4096 v4676 v4851 v4854), ∀ a x, ((![v4096, v4676, v4851, v4854] : Fin 4 → IVec S16 32) a x).toNat < S2x4x32x32.size a := fun v4096 v4676 v4851 v4854 k0_hw1577 => k0_hw1577

def k0_chk1578 (v33 : IVec S16 32) (v35 : IVec S16 32) (v4096 : IVec S16 32) (v4676 : IVec S16 32) (v4856 : IVec S16 32) : Prop :=
  (∀ a x, ((![v4096, v4676, v4856, v33] : Fin 4 → IVec S16 32) a x).toNat < S2x4x94x96.size a) ∧
  (∀ a x, ((![v4096, v4676, v4856, v35] : Fin 4 → IVec S16 32) a x).toNat < S2x4x94x96.size a)
theorem k0_idx2087_inb : ∀ (v33 : IVec S16 32) (v35 : IVec S16 32) (v4096 : IVec S16 32) (v4676 : IVec S16 32) (v4856 : IVec S16 32) (k0_hw1578 : k0_chk1578 v33 v35 v4096 v4676 v4856), ∀ a x, ((![v4096, v4676, v4856, v33] : Fin 4 → IVec S16 32) a x).toNat < S2x4x94x96.size a := fun v33 v35 v4096 v4676 v4856 k0_hw1578 => k0_hw1578.1
theorem k0_idx2088_inb : ∀ (v33 : IVec S16 32) (v35 : IVec S16 32) (v4096 : IVec S16 32) (v4676 : IVec S16 32) (v4856 : IVec S16 32) (k0_hw1578 : k0_chk1578 v33 v35 v4096 v4676 v4856), ∀ a x, ((![v4096, v4676, v4856, v35] : Fin 4 → IVec S16 32) a x).toNat < S2x4x94x96.size a := fun v33 v35 v4096 v4676 v4856 k0_hw1578 => k0_hw1578.2

def k0_chk1579 (v30 : IVec S16 32) (v4096 : IVec S16 32) (v4676 : IVec S16 32) (v4857 : IVec S16 32) : Prop :=
  (∀ a x, ((![v4096, v4676, v4857, v30] : Fin 4 → IVec S16 32) a x).toNat < S2x4x32x32.size a)
theorem k0_idx2089_inb : ∀ (v30 : IVec S16 32) (v4096 : IVec S16 32) (v4676 : IVec S16 32) (v4857 : IVec S16 32) (k0_hw1579 : k0_chk1579 v30 v4096 v4676 v4857), ∀ a x, ((![v4096, v4676, v4857, v30] : Fin 4 → IVec S16 32) a x).toNat < S2x4x32x32.size a := fun v30 v4096 v4676 v4857 k0_hw1579 => k0_hw1579

def k0_chk1580 (v4096 : IVec S16 32) (v4676 : IVec S16 32) (v4857 : IVec S16 32) (v4860 : IVec S16 32) : Prop :=
  (∀ a x, ((![v4096, v4676, v4857, v4860] : Fin 4 → IVec S16 32) a x).toNat < S2x4x32x32.size a)
theorem k0_idx2090_inb : ∀ (v4096 : IVec S16 32) (v4676 : IVec S16 32) (v4857 : IVec S16 32) (v4860 : IVec S16 32) (k0_hw1580 : k0_chk1580 v4096 v4676 v4857 v4860), ∀ a x, ((![v4096, v4676, v4857, v4860] : Fin 4 → IVec S16 32) a x).toNat < S2x4x32x32.size a := fun v4096 v4676 v4857 v4860 k0_hw1580 => k0_hw1580

def k0_chk1581 (v33 : IVec S16 32) (v35 : IVec S16 32) (v4096 : IVec S16 32) (v4676 : IVec S16 32) (v4862 : IVec S16 32) : Prop :=
  (∀ a x, ((![v4096, v4676, v4862, v33] : Fin 4 → IVec S16 32) a x).toNat < S2x4x94x96.size a) ∧
  (∀ a x, ((![v4096, v4676, v4862, v35] : Fin 4 → IVec S16 32) a x).toNat < S2x4x94x96.size a)
theorem k0_idx2091_inb : ∀ (v33 : IVec S16 32) (v35 : IVec S16 32) (v4096 : IVec S16 32) (v4676 : IVec S16 32) (v4862 : IVec S16 32) (k0_hw1581 : k0_chk1581 v33 v35 v4096 v4676 v4862), ∀ a x, ((![v4096, v4676, v4862, v33] : Fin 4 → IVec S16 32) a x).toNat < S2x4x94x96.size a := fun v33 v35 v4096 v4676 v4862 k0_hw1581 => k0_hw1581.1
theorem k0_idx2092_inb : ∀ (v33 : IVec S16 32) (v35 : IVec S16 32) (v4096 : IVec S16 32) (v4676 : IVec S16 32) (v4862 : IVec S16 32) (k0_hw1581 : k0_chk1581 v33 v35 v4096 v4676 v4862), ∀ a x, ((![v4096, v4676, v4862, v35] : Fin 4 → IVec S16 32) a x).toNat < S2x4x94x96.size a := fun v33 v35 v4096 v4676 v4862 k0_hw1581 => k0_hw1581.2

def k0_chk1582 (v30 : IVec S16 32) (v4096 : IVec S16 32) (v4676 : IVec S16 32) (v4863 : IVec S16 32) : Prop :=
  (∀ a x, ((![v4096, v4676, v4863, v30] : Fin 4 → IVec S16 32) a x).toNat < S2x4x32x32.size a)
theorem k0_idx2093_inb : ∀ (v30 : IVec S16 32) (v4096 : IVec S16 32) (v4676 : IVec S16 32) (v4863 : IVec S16 32) (k0_hw1582 : k0_chk1582 v30 v4096 v4676 v4863), ∀ a x, ((![v4096, v4676, v4863, v30] : Fin 4 → IVec S16 32) a x).toNat < S2x4x32x32.size a := fun v30 v4096 v4676 v4863 k0_hw1582 => k0_hw1582

def k0_chk1583 (v4096 : IVec S16 32) (v4676 : IVec S16 32) (v4863 : IVec S16 32) (v4866 : IVec S16 32) : Prop :=
  (∀ a x, ((![v4096, v4676, v4863, v4866] : Fin 4 → IVec S16 32) a x).toNat < S2x4x32x32.size a)
theorem k0_idx2094_inb : ∀ (v4096 : IVec S16 32) (v4676 : IVec S16 32) (v4863 : IVec S16 32) (v4866 : IVec S16 32) (k0_hw1583 : k0_chk1583 v4096 v4676 v4863 v4866), ∀ a x, ((![v4096, v4676, v4863, v4866] : Fin 4 → IVec S16 32) a x).toNat < S2x4x32x32.size a := fun v4096 v4676 v4863 v4866 k0_hw1583 => k0_hw1583

def k0_chk1584 (v33 : IVec S16 32) (v35 : IVec S16 32) (v4096 : IVec S16 32) (v4676 : IVec S16 32) (v4868 : IVec S16 32) : Prop :=
  (∀ a x, ((![v4096, v4676, v4868, v33] : Fin 4 → IVec S16 32) a x).toNat < S2x4x94x96.size a) ∧
  (∀ a x, ((![v4096, v4676, v4868, v35] : Fin 4 → IVec S16 32) a x).toNat < S2x4x94x96.size a)
theorem k0_idx2095_inb : ∀ (v33 : IVec S16 32) (v35 : IVec S16 32) (v4096 : IVec S16 32) (v4676 : IVec S16 32) (v4868 : IVec S16 32) (k0_hw1584 : k0_chk1584 v33 v35 v4096 v4676 v4868), ∀ a x, ((![v4096, v4676, v4868, v33] : Fin 4 → IVec S16 32) a x).toNat < S2x4x94x96.size a := fun v33 v35 v4096 v4676 v4868 k0_hw1584 => k0_hw1584.1
theorem k0_idx2096_inb : ∀ (v33 : IVec S16 32) (v35 : IVec S16 32) (v4096 : IVec S16 32) (v4676 : IVec S16 32) (v4868 : IVec S16 32) (k0_hw1584 : k0_chk1584 v33 v35 v4096 v4676 v4868), ∀ a x, ((![v4096, v4676, v4868, v35] : Fin 4 → IVec S16 32) a x).toNat < S2x4x94x96.size a := fun v33 v35 v4096 v4676 v4868 k0_hw1584 => k0_hw1584.2
def k0_off8 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c2_i32_2178 : BitVec 32 := 2#32
  let c1_i32_846 : BitVec 32 := 1#32
  let c1_i32_848 : BitVec 32 := 1#32
  let arg10 : BitVec 32 := Scf.iv c1_i32_846 c1_i32_848 k0_t2
  let v4078 : BitVec 32 := Scalar.muli c2_i32_2178 arg10
  let c1_i32_2179 : BitVec 32 := 1#32
  let v4079 : BitVec 32 := Scalar.addi v4078 c1_i32_2179
  let c4_i32_2597 : BitVec 32 := 4#32
  let v4869 : BitVec 32 := Scalar.muli v4079 c4_i32_2597
  let v4870 : BitVec 32 := Scalar.addi v29 v4869
  let c0_i32_2602 : BitVec 32 := 0#32
  let c0_i32_2603 : BitVec 32 := 0#32
  ![v18.toNat, v4870.toNat, 0, 0]
def k0_off9 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c2_i32_2178 : BitVec 32 := 2#32
  let c1_i32_846 : BitVec 32 := 1#32
  let c1_i32_848 : BitVec 32 := 1#32
  let arg10 : BitVec 32 := Scf.iv c1_i32_846 c1_i32_848 k0_t2
  let v4078 : BitVec 32 := Scalar.muli c2_i32_2178 arg10
  let c1_i32_2179 : BitVec 32 := 1#32
  let v4079 : BitVec 32 := Scalar.addi v4078 c1_i32_2179
  let c2_i32_2609 : BitVec 32 := 2#32
  let v4879 : BitVec 32 := Scalar.addi v4079 c2_i32_2609
  let c4_i32_2610 : BitVec 32 := 4#32
  let v4880 : BitVec 32 := Scalar.muli v4879 c4_i32_2610
  let v4881 : BitVec 32 := Scalar.addi v29 v4880
  let c0_i32_2615 : BitVec 32 := 0#32
  let c0_i32_2616 : BitVec 32 := 0#32
  ![v18.toNat, v4881.toNat, 0, 0]

def k0_chk1585 (v30 : IVec S16 32) (v1670 : IVec S16 32) (v1671 : IVec S16 32) (v1672 : IVec S16 32) : Prop :=
  (∀ a x, ((![v1670, v1671, v1672, v30] : Fin 4 → IVec S16 32) a x).toNat < S2x4x32x32.size a)
theorem k0_idx2097_inb : ∀ (v30 : IVec S16 32) (v1670 : IVec S16 32) (v1671 : IVec S16 32) (v1672 : IVec S16 32) (k0_hw1585 : k0_chk1585 v30 v1670 v1671 v1672), ∀ a x, ((![v1670, v1671, v1672, v30] : Fin 4 → IVec S16 32) a x).toNat < S2x4x32x32.size a := fun v30 v1670 v1671 v1672 k0_hw1585 => k0_hw1585

def k0_chk1586 (v1670 : IVec S16 32) (v1671 : IVec S16 32) (v1672 : IVec S16 32) (v1675 : IVec S16 32) : Prop :=
  (∀ a x, ((![v1670, v1671, v1672, v1675] : Fin 4 → IVec S16 32) a x).toNat < S2x4x32x32.size a)
theorem k0_idx2098_inb : ∀ (v1670 : IVec S16 32) (v1671 : IVec S16 32) (v1672 : IVec S16 32) (v1675 : IVec S16 32) (k0_hw1586 : k0_chk1586 v1670 v1671 v1672 v1675), ∀ a x, ((![v1670, v1671, v1672, v1675] : Fin 4 → IVec S16 32) a x).toNat < S2x4x32x32.size a := fun v1670 v1671 v1672 v1675 k0_hw1586 => k0_hw1586

def k0_chk1587 (v33 : IVec S16 32) (v35 : IVec S16 32) (v1670 : IVec S16 32) (v1671 : IVec S16 32) (v1677 : IVec S16 32) : Prop :=
  (∀ a x, ((![v1670, v1671, v1677, v33] : Fin 4 → IVec S16 32) a x).toNat < S2x4x94x96.size a) ∧
  (∀ a x, ((![v1670, v1671, v1677, v35] : Fin 4 → IVec S16 32) a x).toNat < S2x4x94x96.size a)
theorem k0_idx2099_inb : ∀ (v33 : IVec S16 32) (v35 : IVec S16 32) (v1670 : IVec S16 32) (v1671 : IVec S16 32) (v1677 : IVec S16 32) (k0_hw1587 : k0_chk1587 v33 v35 v1670 v1671 v1677), ∀ a x, ((![v1670, v1671, v1677, v33] : Fin 4 → IVec S16 32) a x).toNat < S2x4x94x96.size a := fun v33 v35 v1670 v1671 v1677 k0_hw1587 => k0_hw1587.1
theorem k0_idx2100_inb : ∀ (v33 : IVec S16 32) (v35 : IVec S16 32) (v1670 : IVec S16 32) (v1671 : IVec S16 32) (v1677 : IVec S16 32) (k0_hw1587 : k0_chk1587 v33 v35 v1670 v1671 v1677), ∀ a x, ((![v1670, v1671, v1677, v35] : Fin 4 → IVec S16 32) a x).toNat < S2x4x94x96.size a := fun v33 v35 v1670 v1671 v1677 k0_hw1587 => k0_hw1587.2

def k0_chk1588 (v30 : IVec S16 32) (v1670 : IVec S16 32) (v1671 : IVec S16 32) (v1678 : IVec S16 32) : Prop :=
  (∀ a x, ((![v1670, v1671, v1678, v30] : Fin 4 → IVec S16 32) a x).toNat < S2x4x32x32.size a)
theorem k0_idx2101_inb : ∀ (v30 : IVec S16 32) (v1670 : IVec S16 32) (v1671 : IVec S16 32) (v1678 : IVec S16 32) (k0_hw1588 : k0_chk1588 v30 v1670 v1671 v1678), ∀ a x, ((![v1670, v1671, v1678, v30] : Fin 4 → IVec S16 32) a x).toNat < S2x4x32x32.size a := fun v30 v1670 v1671 v1678 k0_hw1588 => k0_hw1588

def k0_chk1589 (v1670 : IVec S16 32) (v1671 : IVec S16 32) (v1678 : IVec S16 32) (v1681 : IVec S16 32) : Prop :=
  (∀ a x, ((![v1670, v1671, v1678, v1681] : Fin 4 → IVec S16 32) a x).toNat < S2x4x32x32.size a)
theorem k0_idx2102_inb : ∀ (v1670 : IVec S16 32) (v1671 : IVec S16 32) (v1678 : IVec S16 32) (v1681 : IVec S16 32) (k0_hw1589 : k0_chk1589 v1670 v1671 v1678 v1681), ∀ a x, ((![v1670, v1671, v1678, v1681] : Fin 4 → IVec S16 32) a x).toNat < S2x4x32x32.size a := fun v1670 v1671 v1678 v1681 k0_hw1589 => k0_hw1589

def k0_chk1590 (v33 : IVec S16 32) (v35 : IVec S16 32) (v1670 : IVec S16 32) (v1671 : IVec S16 32) (v1683 : IVec S16 32) : Prop :=
  (∀ a x, ((![v1670, v1671, v1683, v33] : Fin 4 → IVec S16 32) a x).toNat < S2x4x94x96.size a) ∧
  (∀ a x, ((![v1670, v1671, v1683, v35] : Fin 4 → IVec S16 32) a x).toNat < S2x4x94x96.size a)
theorem k0_idx2103_inb : ∀ (v33 : IVec S16 32) (v35 : IVec S16 32) (v1670 : IVec S16 32) (v1671 : IVec S16 32) (v1683 : IVec S16 32) (k0_hw1590 : k0_chk1590 v33 v35 v1670 v1671 v1683), ∀ a x, ((![v1670, v1671, v1683, v33] : Fin 4 → IVec S16 32) a x).toNat < S2x4x94x96.size a := fun v33 v35 v1670 v1671 v1683 k0_hw1590 => k0_hw1590.1
theorem k0_idx2104_inb : ∀ (v33 : IVec S16 32) (v35 : IVec S16 32) (v1670 : IVec S16 32) (v1671 : IVec S16 32) (v1683 : IVec S16 32) (k0_hw1590 : k0_chk1590 v33 v35 v1670 v1671 v1683), ∀ a x, ((![v1670, v1671, v1683, v35] : Fin 4 → IVec S16 32) a x).toNat < S2x4x94x96.size a := fun v33 v35 v1670 v1671 v1683 k0_hw1590 => k0_hw1590.2

def k0_chk1591 (v30 : IVec S16 32) (v1670 : IVec S16 32) (v1671 : IVec S16 32) (v1684 : IVec S16 32) : Prop :=
  (∀ a x, ((![v1670, v1671, v1684, v30] : Fin 4 → IVec S16 32) a x).toNat < S2x4x32x32.size a)
theorem k0_idx2105_inb : ∀ (v30 : IVec S16 32) (v1670 : IVec S16 32) (v1671 : IVec S16 32) (v1684 : IVec S16 32) (k0_hw1591 : k0_chk1591 v30 v1670 v1671 v1684), ∀ a x, ((![v1670, v1671, v1684, v30] : Fin 4 → IVec S16 32) a x).toNat < S2x4x32x32.size a := fun v30 v1670 v1671 v1684 k0_hw1591 => k0_hw1591

def k0_chk1592 (v1670 : IVec S16 32) (v1671 : IVec S16 32) (v1684 : IVec S16 32) (v1687 : IVec S16 32) : Prop :=
  (∀ a x, ((![v1670, v1671, v1684, v1687] : Fin 4 → IVec S16 32) a x).toNat < S2x4x32x32.size a)
theorem k0_idx2106_inb : ∀ (v1670 : IVec S16 32) (v1671 : IVec S16 32) (v1684 : IVec S16 32) (v1687 : IVec S16 32) (k0_hw1592 : k0_chk1592 v1670 v1671 v1684 v1687), ∀ a x, ((![v1670, v1671, v1684, v1687] : Fin 4 → IVec S16 32) a x).toNat < S2x4x32x32.size a := fun v1670 v1671 v1684 v1687 k0_hw1592 => k0_hw1592

def k0_chk1593 (v33 : IVec S16 32) (v35 : IVec S16 32) (v1670 : IVec S16 32) (v1671 : IVec S16 32) (v1689 : IVec S16 32) : Prop :=
  (∀ a x, ((![v1670, v1671, v1689, v33] : Fin 4 → IVec S16 32) a x).toNat < S2x4x94x96.size a) ∧
  (∀ a x, ((![v1670, v1671, v1689, v35] : Fin 4 → IVec S16 32) a x).toNat < S2x4x94x96.size a)
theorem k0_idx2107_inb : ∀ (v33 : IVec S16 32) (v35 : IVec S16 32) (v1670 : IVec S16 32) (v1671 : IVec S16 32) (v1689 : IVec S16 32) (k0_hw1593 : k0_chk1593 v33 v35 v1670 v1671 v1689), ∀ a x, ((![v1670, v1671, v1689, v33] : Fin 4 → IVec S16 32) a x).toNat < S2x4x94x96.size a := fun v33 v35 v1670 v1671 v1689 k0_hw1593 => k0_hw1593.1
theorem k0_idx2108_inb : ∀ (v33 : IVec S16 32) (v35 : IVec S16 32) (v1670 : IVec S16 32) (v1671 : IVec S16 32) (v1689 : IVec S16 32) (k0_hw1593 : k0_chk1593 v33 v35 v1670 v1671 v1689), ∀ a x, ((![v1670, v1671, v1689, v35] : Fin 4 → IVec S16 32) a x).toNat < S2x4x94x96.size a := fun v33 v35 v1670 v1671 v1689 k0_hw1593 => k0_hw1593.2

def k0_chk1594 (v30 : IVec S16 32) (v1670 : IVec S16 32) (v1671 : IVec S16 32) (v1690 : IVec S16 32) : Prop :=
  (∀ a x, ((![v1670, v1671, v1690, v30] : Fin 4 → IVec S16 32) a x).toNat < S2x4x32x32.size a)
theorem k0_idx2109_inb : ∀ (v30 : IVec S16 32) (v1670 : IVec S16 32) (v1671 : IVec S16 32) (v1690 : IVec S16 32) (k0_hw1594 : k0_chk1594 v30 v1670 v1671 v1690), ∀ a x, ((![v1670, v1671, v1690, v30] : Fin 4 → IVec S16 32) a x).toNat < S2x4x32x32.size a := fun v30 v1670 v1671 v1690 k0_hw1594 => k0_hw1594

def k0_chk1595 (v1670 : IVec S16 32) (v1671 : IVec S16 32) (v1690 : IVec S16 32) (v1693 : IVec S16 32) : Prop :=
  (∀ a x, ((![v1670, v1671, v1690, v1693] : Fin 4 → IVec S16 32) a x).toNat < S2x4x32x32.size a)
theorem k0_idx2110_inb : ∀ (v1670 : IVec S16 32) (v1671 : IVec S16 32) (v1690 : IVec S16 32) (v1693 : IVec S16 32) (k0_hw1595 : k0_chk1595 v1670 v1671 v1690 v1693), ∀ a x, ((![v1670, v1671, v1690, v1693] : Fin 4 → IVec S16 32) a x).toNat < S2x4x32x32.size a := fun v1670 v1671 v1690 v1693 k0_hw1595 => k0_hw1595

def k0_chk1596 (v33 : IVec S16 32) (v35 : IVec S16 32) (v1670 : IVec S16 32) (v1671 : IVec S16 32) (v1695 : IVec S16 32) : Prop :=
  (∀ a x, ((![v1670, v1671, v1695, v33] : Fin 4 → IVec S16 32) a x).toNat < S2x4x94x96.size a) ∧
  (∀ a x, ((![v1670, v1671, v1695, v35] : Fin 4 → IVec S16 32) a x).toNat < S2x4x94x96.size a)
theorem k0_idx2111_inb : ∀ (v33 : IVec S16 32) (v35 : IVec S16 32) (v1670 : IVec S16 32) (v1671 : IVec S16 32) (v1695 : IVec S16 32) (k0_hw1596 : k0_chk1596 v33 v35 v1670 v1671 v1695), ∀ a x, ((![v1670, v1671, v1695, v33] : Fin 4 → IVec S16 32) a x).toNat < S2x4x94x96.size a := fun v33 v35 v1670 v1671 v1695 k0_hw1596 => k0_hw1596.1
theorem k0_idx2112_inb : ∀ (v33 : IVec S16 32) (v35 : IVec S16 32) (v1670 : IVec S16 32) (v1671 : IVec S16 32) (v1695 : IVec S16 32) (k0_hw1596 : k0_chk1596 v33 v35 v1670 v1671 v1695), ∀ a x, ((![v1670, v1671, v1695, v35] : Fin 4 → IVec S16 32) a x).toNat < S2x4x94x96.size a := fun v33 v35 v1670 v1671 v1695 k0_hw1596 => k0_hw1596.2

def k0_chk1597 (v30 : IVec S16 32) (v1670 : IVec S16 32) (v1671 : IVec S16 32) (v1696 : IVec S16 32) : Prop :=
  (∀ a x, ((![v1670, v1671, v1696, v30] : Fin 4 → IVec S16 32) a x).toNat < S2x4x32x32.size a)
theorem k0_idx2113_inb : ∀ (v30 : IVec S16 32) (v1670 : IVec S16 32) (v1671 : IVec S16 32) (v1696 : IVec S16 32) (k0_hw1597 : k0_chk1597 v30 v1670 v1671 v1696), ∀ a x, ((![v1670, v1671, v1696, v30] : Fin 4 → IVec S16 32) a x).toNat < S2x4x32x32.size a := fun v30 v1670 v1671 v1696 k0_hw1597 => k0_hw1597

def k0_chk1598 (v1670 : IVec S16 32) (v1671 : IVec S16 32) (v1696 : IVec S16 32) (v1699 : IVec S16 32) : Prop :=
  (∀ a x, ((![v1670, v1671, v1696, v1699] : Fin 4 → IVec S16 32) a x).toNat < S2x4x32x32.size a)
theorem k0_idx2114_inb : ∀ (v1670 : IVec S16 32) (v1671 : IVec S16 32) (v1696 : IVec S16 32) (v1699 : IVec S16 32) (k0_hw1598 : k0_chk1598 v1670 v1671 v1696 v1699), ∀ a x, ((![v1670, v1671, v1696, v1699] : Fin 4 → IVec S16 32) a x).toNat < S2x4x32x32.size a := fun v1670 v1671 v1696 v1699 k0_hw1598 => k0_hw1598

def k0_chk1599 (v33 : IVec S16 32) (v35 : IVec S16 32) (v1670 : IVec S16 32) (v1671 : IVec S16 32) (v1701 : IVec S16 32) : Prop :=
  (∀ a x, ((![v1670, v1671, v1701, v33] : Fin 4 → IVec S16 32) a x).toNat < S2x4x94x96.size a) ∧
  (∀ a x, ((![v1670, v1671, v1701, v35] : Fin 4 → IVec S16 32) a x).toNat < S2x4x94x96.size a)
theorem k0_idx2115_inb : ∀ (v33 : IVec S16 32) (v35 : IVec S16 32) (v1670 : IVec S16 32) (v1671 : IVec S16 32) (v1701 : IVec S16 32) (k0_hw1599 : k0_chk1599 v33 v35 v1670 v1671 v1701), ∀ a x, ((![v1670, v1671, v1701, v33] : Fin 4 → IVec S16 32) a x).toNat < S2x4x94x96.size a := fun v33 v35 v1670 v1671 v1701 k0_hw1599 => k0_hw1599.1
theorem k0_idx2116_inb : ∀ (v33 : IVec S16 32) (v35 : IVec S16 32) (v1670 : IVec S16 32) (v1671 : IVec S16 32) (v1701 : IVec S16 32) (k0_hw1599 : k0_chk1599 v33 v35 v1670 v1671 v1701), ∀ a x, ((![v1670, v1671, v1701, v35] : Fin 4 → IVec S16 32) a x).toNat < S2x4x94x96.size a := fun v33 v35 v1670 v1671 v1701 k0_hw1599 => k0_hw1599.2

def k0_chk1600 (v30 : IVec S16 32) (v1670 : IVec S16 32) (v1671 : IVec S16 32) (v1702 : IVec S16 32) : Prop :=
  (∀ a x, ((![v1670, v1671, v1702, v30] : Fin 4 → IVec S16 32) a x).toNat < S2x4x32x32.size a)
theorem k0_idx2117_inb : ∀ (v30 : IVec S16 32) (v1670 : IVec S16 32) (v1671 : IVec S16 32) (v1702 : IVec S16 32) (k0_hw1600 : k0_chk1600 v30 v1670 v1671 v1702), ∀ a x, ((![v1670, v1671, v1702, v30] : Fin 4 → IVec S16 32) a x).toNat < S2x4x32x32.size a := fun v30 v1670 v1671 v1702 k0_hw1600 => k0_hw1600

def k0_chk1601 (v1670 : IVec S16 32) (v1671 : IVec S16 32) (v1702 : IVec S16 32) (v1705 : IVec S16 32) : Prop :=
  (∀ a x, ((![v1670, v1671, v1702, v1705] : Fin 4 → IVec S16 32) a x).toNat < S2x4x32x32.size a)
theorem k0_idx2118_inb : ∀ (v1670 : IVec S16 32) (v1671 : IVec S16 32) (v1702 : IVec S16 32) (v1705 : IVec S16 32) (k0_hw1601 : k0_chk1601 v1670 v1671 v1702 v1705), ∀ a x, ((![v1670, v1671, v1702, v1705] : Fin 4 → IVec S16 32) a x).toNat < S2x4x32x32.size a := fun v1670 v1671 v1702 v1705 k0_hw1601 => k0_hw1601

def k0_chk1602 (v33 : IVec S16 32) (v35 : IVec S16 32) (v1670 : IVec S16 32) (v1671 : IVec S16 32) (v1707 : IVec S16 32) : Prop :=
  (∀ a x, ((![v1670, v1671, v1707, v33] : Fin 4 → IVec S16 32) a x).toNat < S2x4x94x96.size a) ∧
  (∀ a x, ((![v1670, v1671, v1707, v35] : Fin 4 → IVec S16 32) a x).toNat < S2x4x94x96.size a)
theorem k0_idx2119_inb : ∀ (v33 : IVec S16 32) (v35 : IVec S16 32) (v1670 : IVec S16 32) (v1671 : IVec S16 32) (v1707 : IVec S16 32) (k0_hw1602 : k0_chk1602 v33 v35 v1670 v1671 v1707), ∀ a x, ((![v1670, v1671, v1707, v33] : Fin 4 → IVec S16 32) a x).toNat < S2x4x94x96.size a := fun v33 v35 v1670 v1671 v1707 k0_hw1602 => k0_hw1602.1
theorem k0_idx2120_inb : ∀ (v33 : IVec S16 32) (v35 : IVec S16 32) (v1670 : IVec S16 32) (v1671 : IVec S16 32) (v1707 : IVec S16 32) (k0_hw1602 : k0_chk1602 v33 v35 v1670 v1671 v1707), ∀ a x, ((![v1670, v1671, v1707, v35] : Fin 4 → IVec S16 32) a x).toNat < S2x4x94x96.size a := fun v33 v35 v1670 v1671 v1707 k0_hw1602 => k0_hw1602.2

def k0_chk1603 (v30 : IVec S16 32) (v1670 : IVec S16 32) (v1671 : IVec S16 32) (v1708 : IVec S16 32) : Prop :=
  (∀ a x, ((![v1670, v1671, v1708, v30] : Fin 4 → IVec S16 32) a x).toNat < S2x4x32x32.size a)
theorem k0_idx2121_inb : ∀ (v30 : IVec S16 32) (v1670 : IVec S16 32) (v1671 : IVec S16 32) (v1708 : IVec S16 32) (k0_hw1603 : k0_chk1603 v30 v1670 v1671 v1708), ∀ a x, ((![v1670, v1671, v1708, v30] : Fin 4 → IVec S16 32) a x).toNat < S2x4x32x32.size a := fun v30 v1670 v1671 v1708 k0_hw1603 => k0_hw1603

def k0_chk1604 (v1670 : IVec S16 32) (v1671 : IVec S16 32) (v1708 : IVec S16 32) (v1711 : IVec S16 32) : Prop :=
  (∀ a x, ((![v1670, v1671, v1708, v1711] : Fin 4 → IVec S16 32) a x).toNat < S2x4x32x32.size a)
theorem k0_idx2122_inb : ∀ (v1670 : IVec S16 32) (v1671 : IVec S16 32) (v1708 : IVec S16 32) (v1711 : IVec S16 32) (k0_hw1604 : k0_chk1604 v1670 v1671 v1708 v1711), ∀ a x, ((![v1670, v1671, v1708, v1711] : Fin 4 → IVec S16 32) a x).toNat < S2x4x32x32.size a := fun v1670 v1671 v1708 v1711 k0_hw1604 => k0_hw1604

def k0_chk1605 (v33 : IVec S16 32) (v35 : IVec S16 32) (v1670 : IVec S16 32) (v1671 : IVec S16 32) (v1713 : IVec S16 32) : Prop :=
  (∀ a x, ((![v1670, v1671, v1713, v33] : Fin 4 → IVec S16 32) a x).toNat < S2x4x94x96.size a) ∧
  (∀ a x, ((![v1670, v1671, v1713, v35] : Fin 4 → IVec S16 32) a x).toNat < S2x4x94x96.size a)
theorem k0_idx2123_inb : ∀ (v33 : IVec S16 32) (v35 : IVec S16 32) (v1670 : IVec S16 32) (v1671 : IVec S16 32) (v1713 : IVec S16 32) (k0_hw1605 : k0_chk1605 v33 v35 v1670 v1671 v1713), ∀ a x, ((![v1670, v1671, v1713, v33] : Fin 4 → IVec S16 32) a x).toNat < S2x4x94x96.size a := fun v33 v35 v1670 v1671 v1713 k0_hw1605 => k0_hw1605.1
theorem k0_idx2124_inb : ∀ (v33 : IVec S16 32) (v35 : IVec S16 32) (v1670 : IVec S16 32) (v1671 : IVec S16 32) (v1713 : IVec S16 32) (k0_hw1605 : k0_chk1605 v33 v35 v1670 v1671 v1713), ∀ a x, ((![v1670, v1671, v1713, v35] : Fin 4 → IVec S16 32) a x).toNat < S2x4x94x96.size a := fun v33 v35 v1670 v1671 v1713 k0_hw1605 => k0_hw1605.2

def k0_chk1606 (v30 : IVec S16 32) (v1670 : IVec S16 32) (v1671 : IVec S16 32) (v1714 : IVec S16 32) : Prop :=
  (∀ a x, ((![v1670, v1671, v1714, v30] : Fin 4 → IVec S16 32) a x).toNat < S2x4x32x32.size a)
theorem k0_idx2125_inb : ∀ (v30 : IVec S16 32) (v1670 : IVec S16 32) (v1671 : IVec S16 32) (v1714 : IVec S16 32) (k0_hw1606 : k0_chk1606 v30 v1670 v1671 v1714), ∀ a x, ((![v1670, v1671, v1714, v30] : Fin 4 → IVec S16 32) a x).toNat < S2x4x32x32.size a := fun v30 v1670 v1671 v1714 k0_hw1606 => k0_hw1606

def k0_chk1607 (v1670 : IVec S16 32) (v1671 : IVec S16 32) (v1714 : IVec S16 32) (v1717 : IVec S16 32) : Prop :=
  (∀ a x, ((![v1670, v1671, v1714, v1717] : Fin 4 → IVec S16 32) a x).toNat < S2x4x32x32.size a)
theorem k0_idx2126_inb : ∀ (v1670 : IVec S16 32) (v1671 : IVec S16 32) (v1714 : IVec S16 32) (v1717 : IVec S16 32) (k0_hw1607 : k0_chk1607 v1670 v1671 v1714 v1717), ∀ a x, ((![v1670, v1671, v1714, v1717] : Fin 4 → IVec S16 32) a x).toNat < S2x4x32x32.size a := fun v1670 v1671 v1714 v1717 k0_hw1607 => k0_hw1607

def k0_chk1608 (v33 : IVec S16 32) (v35 : IVec S16 32) (v1670 : IVec S16 32) (v1671 : IVec S16 32) (v1719 : IVec S16 32) : Prop :=
  (∀ a x, ((![v1670, v1671, v1719, v33] : Fin 4 → IVec S16 32) a x).toNat < S2x4x94x96.size a) ∧
  (∀ a x, ((![v1670, v1671, v1719, v35] : Fin 4 → IVec S16 32) a x).toNat < S2x4x94x96.size a)
theorem k0_idx2127_inb : ∀ (v33 : IVec S16 32) (v35 : IVec S16 32) (v1670 : IVec S16 32) (v1671 : IVec S16 32) (v1719 : IVec S16 32) (k0_hw1608 : k0_chk1608 v33 v35 v1670 v1671 v1719), ∀ a x, ((![v1670, v1671, v1719, v33] : Fin 4 → IVec S16 32) a x).toNat < S2x4x94x96.size a := fun v33 v35 v1670 v1671 v1719 k0_hw1608 => k0_hw1608.1
theorem k0_idx2128_inb : ∀ (v33 : IVec S16 32) (v35 : IVec S16 32) (v1670 : IVec S16 32) (v1671 : IVec S16 32) (v1719 : IVec S16 32) (k0_hw1608 : k0_chk1608 v33 v35 v1670 v1671 v1719), ∀ a x, ((![v1670, v1671, v1719, v35] : Fin 4 → IVec S16 32) a x).toNat < S2x4x94x96.size a := fun v33 v35 v1670 v1671 v1719 k0_hw1608 => k0_hw1608.2

def k0_chk1609 (v30 : IVec S16 32) (v1670 : IVec S16 32) (v1671 : IVec S16 32) (v1720 : IVec S16 32) : Prop :=
  (∀ a x, ((![v1670, v1671, v1720, v30] : Fin 4 → IVec S16 32) a x).toNat < S2x4x32x32.size a)
theorem k0_idx2129_inb : ∀ (v30 : IVec S16 32) (v1670 : IVec S16 32) (v1671 : IVec S16 32) (v1720 : IVec S16 32) (k0_hw1609 : k0_chk1609 v30 v1670 v1671 v1720), ∀ a x, ((![v1670, v1671, v1720, v30] : Fin 4 → IVec S16 32) a x).toNat < S2x4x32x32.size a := fun v30 v1670 v1671 v1720 k0_hw1609 => k0_hw1609

def k0_chk1610 (v1670 : IVec S16 32) (v1671 : IVec S16 32) (v1720 : IVec S16 32) (v1723 : IVec S16 32) : Prop :=
  (∀ a x, ((![v1670, v1671, v1720, v1723] : Fin 4 → IVec S16 32) a x).toNat < S2x4x32x32.size a)
theorem k0_idx2130_inb : ∀ (v1670 : IVec S16 32) (v1671 : IVec S16 32) (v1720 : IVec S16 32) (v1723 : IVec S16 32) (k0_hw1610 : k0_chk1610 v1670 v1671 v1720 v1723), ∀ a x, ((![v1670, v1671, v1720, v1723] : Fin 4 → IVec S16 32) a x).toNat < S2x4x32x32.size a := fun v1670 v1671 v1720 v1723 k0_hw1610 => k0_hw1610

def k0_chk1611 (v33 : IVec S16 32) (v35 : IVec S16 32) (v1670 : IVec S16 32) (v1671 : IVec S16 32) (v1725 : IVec S16 32) : Prop :=
  (∀ a x, ((![v1670, v1671, v1725, v33] : Fin 4 → IVec S16 32) a x).toNat < S2x4x94x96.size a) ∧
  (∀ a x, ((![v1670, v1671, v1725, v35] : Fin 4 → IVec S16 32) a x).toNat < S2x4x94x96.size a)
theorem k0_idx2131_inb : ∀ (v33 : IVec S16 32) (v35 : IVec S16 32) (v1670 : IVec S16 32) (v1671 : IVec S16 32) (v1725 : IVec S16 32) (k0_hw1611 : k0_chk1611 v33 v35 v1670 v1671 v1725), ∀ a x, ((![v1670, v1671, v1725, v33] : Fin 4 → IVec S16 32) a x).toNat < S2x4x94x96.size a := fun v33 v35 v1670 v1671 v1725 k0_hw1611 => k0_hw1611.1
theorem k0_idx2132_inb : ∀ (v33 : IVec S16 32) (v35 : IVec S16 32) (v1670 : IVec S16 32) (v1671 : IVec S16 32) (v1725 : IVec S16 32) (k0_hw1611 : k0_chk1611 v33 v35 v1670 v1671 v1725), ∀ a x, ((![v1670, v1671, v1725, v35] : Fin 4 → IVec S16 32) a x).toNat < S2x4x94x96.size a := fun v33 v35 v1670 v1671 v1725 k0_hw1611 => k0_hw1611.2

def k0_chk1612 (v30 : IVec S16 32) (v1670 : IVec S16 32) (v1671 : IVec S16 32) (v1726 : IVec S16 32) : Prop :=
  (∀ a x, ((![v1670, v1671, v1726, v30] : Fin 4 → IVec S16 32) a x).toNat < S2x4x32x32.size a)
theorem k0_idx2133_inb : ∀ (v30 : IVec S16 32) (v1670 : IVec S16 32) (v1671 : IVec S16 32) (v1726 : IVec S16 32) (k0_hw1612 : k0_chk1612 v30 v1670 v1671 v1726), ∀ a x, ((![v1670, v1671, v1726, v30] : Fin 4 → IVec S16 32) a x).toNat < S2x4x32x32.size a := fun v30 v1670 v1671 v1726 k0_hw1612 => k0_hw1612

def k0_chk1613 (v1670 : IVec S16 32) (v1671 : IVec S16 32) (v1726 : IVec S16 32) (v1729 : IVec S16 32) : Prop :=
  (∀ a x, ((![v1670, v1671, v1726, v1729] : Fin 4 → IVec S16 32) a x).toNat < S2x4x32x32.size a)
theorem k0_idx2134_inb : ∀ (v1670 : IVec S16 32) (v1671 : IVec S16 32) (v1726 : IVec S16 32) (v1729 : IVec S16 32) (k0_hw1613 : k0_chk1613 v1670 v1671 v1726 v1729), ∀ a x, ((![v1670, v1671, v1726, v1729] : Fin 4 → IVec S16 32) a x).toNat < S2x4x32x32.size a := fun v1670 v1671 v1726 v1729 k0_hw1613 => k0_hw1613

def k0_chk1614 (v33 : IVec S16 32) (v35 : IVec S16 32) (v1670 : IVec S16 32) (v1671 : IVec S16 32) (v1731 : IVec S16 32) : Prop :=
  (∀ a x, ((![v1670, v1671, v1731, v33] : Fin 4 → IVec S16 32) a x).toNat < S2x4x94x96.size a) ∧
  (∀ a x, ((![v1670, v1671, v1731, v35] : Fin 4 → IVec S16 32) a x).toNat < S2x4x94x96.size a)
theorem k0_idx2135_inb : ∀ (v33 : IVec S16 32) (v35 : IVec S16 32) (v1670 : IVec S16 32) (v1671 : IVec S16 32) (v1731 : IVec S16 32) (k0_hw1614 : k0_chk1614 v33 v35 v1670 v1671 v1731), ∀ a x, ((![v1670, v1671, v1731, v33] : Fin 4 → IVec S16 32) a x).toNat < S2x4x94x96.size a := fun v33 v35 v1670 v1671 v1731 k0_hw1614 => k0_hw1614.1
theorem k0_idx2136_inb : ∀ (v33 : IVec S16 32) (v35 : IVec S16 32) (v1670 : IVec S16 32) (v1671 : IVec S16 32) (v1731 : IVec S16 32) (k0_hw1614 : k0_chk1614 v33 v35 v1670 v1671 v1731), ∀ a x, ((![v1670, v1671, v1731, v35] : Fin 4 → IVec S16 32) a x).toNat < S2x4x94x96.size a := fun v33 v35 v1670 v1671 v1731 k0_hw1614 => k0_hw1614.2

def k0_chk1615 (v30 : IVec S16 32) (v1670 : IVec S16 32) (v1671 : IVec S16 32) (v1732 : IVec S16 32) : Prop :=
  (∀ a x, ((![v1670, v1671, v1732, v30] : Fin 4 → IVec S16 32) a x).toNat < S2x4x32x32.size a)
theorem k0_idx2137_inb : ∀ (v30 : IVec S16 32) (v1670 : IVec S16 32) (v1671 : IVec S16 32) (v1732 : IVec S16 32) (k0_hw1615 : k0_chk1615 v30 v1670 v1671 v1732), ∀ a x, ((![v1670, v1671, v1732, v30] : Fin 4 → IVec S16 32) a x).toNat < S2x4x32x32.size a := fun v30 v1670 v1671 v1732 k0_hw1615 => k0_hw1615

def k0_chk1616 (v1670 : IVec S16 32) (v1671 : IVec S16 32) (v1732 : IVec S16 32) (v1735 : IVec S16 32) : Prop :=
  (∀ a x, ((![v1670, v1671, v1732, v1735] : Fin 4 → IVec S16 32) a x).toNat < S2x4x32x32.size a)
theorem k0_idx2138_inb : ∀ (v1670 : IVec S16 32) (v1671 : IVec S16 32) (v1732 : IVec S16 32) (v1735 : IVec S16 32) (k0_hw1616 : k0_chk1616 v1670 v1671 v1732 v1735), ∀ a x, ((![v1670, v1671, v1732, v1735] : Fin 4 → IVec S16 32) a x).toNat < S2x4x32x32.size a := fun v1670 v1671 v1732 v1735 k0_hw1616 => k0_hw1616

def k0_chk1617 (v33 : IVec S16 32) (v35 : IVec S16 32) (v1670 : IVec S16 32) (v1671 : IVec S16 32) (v1737 : IVec S16 32) : Prop :=
  (∀ a x, ((![v1670, v1671, v1737, v33] : Fin 4 → IVec S16 32) a x).toNat < S2x4x94x96.size a) ∧
  (∀ a x, ((![v1670, v1671, v1737, v35] : Fin 4 → IVec S16 32) a x).toNat < S2x4x94x96.size a)
theorem k0_idx2139_inb : ∀ (v33 : IVec S16 32) (v35 : IVec S16 32) (v1670 : IVec S16 32) (v1671 : IVec S16 32) (v1737 : IVec S16 32) (k0_hw1617 : k0_chk1617 v33 v35 v1670 v1671 v1737), ∀ a x, ((![v1670, v1671, v1737, v33] : Fin 4 → IVec S16 32) a x).toNat < S2x4x94x96.size a := fun v33 v35 v1670 v1671 v1737 k0_hw1617 => k0_hw1617.1
theorem k0_idx2140_inb : ∀ (v33 : IVec S16 32) (v35 : IVec S16 32) (v1670 : IVec S16 32) (v1671 : IVec S16 32) (v1737 : IVec S16 32) (k0_hw1617 : k0_chk1617 v33 v35 v1670 v1671 v1737), ∀ a x, ((![v1670, v1671, v1737, v35] : Fin 4 → IVec S16 32) a x).toNat < S2x4x94x96.size a := fun v33 v35 v1670 v1671 v1737 k0_hw1617 => k0_hw1617.2

def k0_chk1618 (v30 : IVec S16 32) (v1670 : IVec S16 32) (v1671 : IVec S16 32) (v1738 : IVec S16 32) : Prop :=
  (∀ a x, ((![v1670, v1671, v1738, v30] : Fin 4 → IVec S16 32) a x).toNat < S2x4x32x32.size a)
theorem k0_idx2141_inb : ∀ (v30 : IVec S16 32) (v1670 : IVec S16 32) (v1671 : IVec S16 32) (v1738 : IVec S16 32) (k0_hw1618 : k0_chk1618 v30 v1670 v1671 v1738), ∀ a x, ((![v1670, v1671, v1738, v30] : Fin 4 → IVec S16 32) a x).toNat < S2x4x32x32.size a := fun v30 v1670 v1671 v1738 k0_hw1618 => k0_hw1618

def k0_chk1619 (v1670 : IVec S16 32) (v1671 : IVec S16 32) (v1738 : IVec S16 32) (v1741 : IVec S16 32) : Prop :=
  (∀ a x, ((![v1670, v1671, v1738, v1741] : Fin 4 → IVec S16 32) a x).toNat < S2x4x32x32.size a)
theorem k0_idx2142_inb : ∀ (v1670 : IVec S16 32) (v1671 : IVec S16 32) (v1738 : IVec S16 32) (v1741 : IVec S16 32) (k0_hw1619 : k0_chk1619 v1670 v1671 v1738 v1741), ∀ a x, ((![v1670, v1671, v1738, v1741] : Fin 4 → IVec S16 32) a x).toNat < S2x4x32x32.size a := fun v1670 v1671 v1738 v1741 k0_hw1619 => k0_hw1619

def k0_chk1620 (v33 : IVec S16 32) (v35 : IVec S16 32) (v1670 : IVec S16 32) (v1671 : IVec S16 32) (v1743 : IVec S16 32) : Prop :=
  (∀ a x, ((![v1670, v1671, v1743, v33] : Fin 4 → IVec S16 32) a x).toNat < S2x4x94x96.size a) ∧
  (∀ a x, ((![v1670, v1671, v1743, v35] : Fin 4 → IVec S16 32) a x).toNat < S2x4x94x96.size a)
theorem k0_idx2143_inb : ∀ (v33 : IVec S16 32) (v35 : IVec S16 32) (v1670 : IVec S16 32) (v1671 : IVec S16 32) (v1743 : IVec S16 32) (k0_hw1620 : k0_chk1620 v33 v35 v1670 v1671 v1743), ∀ a x, ((![v1670, v1671, v1743, v33] : Fin 4 → IVec S16 32) a x).toNat < S2x4x94x96.size a := fun v33 v35 v1670 v1671 v1743 k0_hw1620 => k0_hw1620.1
theorem k0_idx2144_inb : ∀ (v33 : IVec S16 32) (v35 : IVec S16 32) (v1670 : IVec S16 32) (v1671 : IVec S16 32) (v1743 : IVec S16 32) (k0_hw1620 : k0_chk1620 v33 v35 v1670 v1671 v1743), ∀ a x, ((![v1670, v1671, v1743, v35] : Fin 4 → IVec S16 32) a x).toNat < S2x4x94x96.size a := fun v33 v35 v1670 v1671 v1743 k0_hw1620 => k0_hw1620.2

def k0_chk1621 (v30 : IVec S16 32) (v1670 : IVec S16 32) (v1671 : IVec S16 32) (v1744 : IVec S16 32) : Prop :=
  (∀ a x, ((![v1670, v1671, v1744, v30] : Fin 4 → IVec S16 32) a x).toNat < S2x4x32x32.size a)
theorem k0_idx2145_inb : ∀ (v30 : IVec S16 32) (v1670 : IVec S16 32) (v1671 : IVec S16 32) (v1744 : IVec S16 32) (k0_hw1621 : k0_chk1621 v30 v1670 v1671 v1744), ∀ a x, ((![v1670, v1671, v1744, v30] : Fin 4 → IVec S16 32) a x).toNat < S2x4x32x32.size a := fun v30 v1670 v1671 v1744 k0_hw1621 => k0_hw1621

def k0_chk1622 (v1670 : IVec S16 32) (v1671 : IVec S16 32) (v1744 : IVec S16 32) (v1747 : IVec S16 32) : Prop :=
  (∀ a x, ((![v1670, v1671, v1744, v1747] : Fin 4 → IVec S16 32) a x).toNat < S2x4x32x32.size a)
theorem k0_idx2146_inb : ∀ (v1670 : IVec S16 32) (v1671 : IVec S16 32) (v1744 : IVec S16 32) (v1747 : IVec S16 32) (k0_hw1622 : k0_chk1622 v1670 v1671 v1744 v1747), ∀ a x, ((![v1670, v1671, v1744, v1747] : Fin 4 → IVec S16 32) a x).toNat < S2x4x32x32.size a := fun v1670 v1671 v1744 v1747 k0_hw1622 => k0_hw1622

def k0_chk1623 (v33 : IVec S16 32) (v35 : IVec S16 32) (v1670 : IVec S16 32) (v1671 : IVec S16 32) (v1749 : IVec S16 32) : Prop :=
  (∀ a x, ((![v1670, v1671, v1749, v33] : Fin 4 → IVec S16 32) a x).toNat < S2x4x94x96.size a) ∧
  (∀ a x, ((![v1670, v1671, v1749, v35] : Fin 4 → IVec S16 32) a x).toNat < S2x4x94x96.size a)
theorem k0_idx2147_inb : ∀ (v33 : IVec S16 32) (v35 : IVec S16 32) (v1670 : IVec S16 32) (v1671 : IVec S16 32) (v1749 : IVec S16 32) (k0_hw1623 : k0_chk1623 v33 v35 v1670 v1671 v1749), ∀ a x, ((![v1670, v1671, v1749, v33] : Fin 4 → IVec S16 32) a x).toNat < S2x4x94x96.size a := fun v33 v35 v1670 v1671 v1749 k0_hw1623 => k0_hw1623.1
theorem k0_idx2148_inb : ∀ (v33 : IVec S16 32) (v35 : IVec S16 32) (v1670 : IVec S16 32) (v1671 : IVec S16 32) (v1749 : IVec S16 32) (k0_hw1623 : k0_chk1623 v33 v35 v1670 v1671 v1749), ∀ a x, ((![v1670, v1671, v1749, v35] : Fin 4 → IVec S16 32) a x).toNat < S2x4x94x96.size a := fun v33 v35 v1670 v1671 v1749 k0_hw1623 => k0_hw1623.2

def k0_chk1624 (v30 : IVec S16 32) (v1670 : IVec S16 32) (v1671 : IVec S16 32) (v1750 : IVec S16 32) : Prop :=
  (∀ a x, ((![v1670, v1671, v1750, v30] : Fin 4 → IVec S16 32) a x).toNat < S2x4x32x32.size a)
theorem k0_idx2149_inb : ∀ (v30 : IVec S16 32) (v1670 : IVec S16 32) (v1671 : IVec S16 32) (v1750 : IVec S16 32) (k0_hw1624 : k0_chk1624 v30 v1670 v1671 v1750), ∀ a x, ((![v1670, v1671, v1750, v30] : Fin 4 → IVec S16 32) a x).toNat < S2x4x32x32.size a := fun v30 v1670 v1671 v1750 k0_hw1624 => k0_hw1624

def k0_chk1625 (v1670 : IVec S16 32) (v1671 : IVec S16 32) (v1750 : IVec S16 32) (v1753 : IVec S16 32) : Prop :=
  (∀ a x, ((![v1670, v1671, v1750, v1753] : Fin 4 → IVec S16 32) a x).toNat < S2x4x32x32.size a)
theorem k0_idx2150_inb : ∀ (v1670 : IVec S16 32) (v1671 : IVec S16 32) (v1750 : IVec S16 32) (v1753 : IVec S16 32) (k0_hw1625 : k0_chk1625 v1670 v1671 v1750 v1753), ∀ a x, ((![v1670, v1671, v1750, v1753] : Fin 4 → IVec S16 32) a x).toNat < S2x4x32x32.size a := fun v1670 v1671 v1750 v1753 k0_hw1625 => k0_hw1625

def k0_chk1626 (v33 : IVec S16 32) (v35 : IVec S16 32) (v1670 : IVec S16 32) (v1671 : IVec S16 32) (v1755 : IVec S16 32) : Prop :=
  (∀ a x, ((![v1670, v1671, v1755, v33] : Fin 4 → IVec S16 32) a x).toNat < S2x4x94x96.size a) ∧
  (∀ a x, ((![v1670, v1671, v1755, v35] : Fin 4 → IVec S16 32) a x).toNat < S2x4x94x96.size a)
theorem k0_idx2151_inb : ∀ (v33 : IVec S16 32) (v35 : IVec S16 32) (v1670 : IVec S16 32) (v1671 : IVec S16 32) (v1755 : IVec S16 32) (k0_hw1626 : k0_chk1626 v33 v35 v1670 v1671 v1755), ∀ a x, ((![v1670, v1671, v1755, v33] : Fin 4 → IVec S16 32) a x).toNat < S2x4x94x96.size a := fun v33 v35 v1670 v1671 v1755 k0_hw1626 => k0_hw1626.1
theorem k0_idx2152_inb : ∀ (v33 : IVec S16 32) (v35 : IVec S16 32) (v1670 : IVec S16 32) (v1671 : IVec S16 32) (v1755 : IVec S16 32) (k0_hw1626 : k0_chk1626 v33 v35 v1670 v1671 v1755), ∀ a x, ((![v1670, v1671, v1755, v35] : Fin 4 → IVec S16 32) a x).toNat < S2x4x94x96.size a := fun v33 v35 v1670 v1671 v1755 k0_hw1626 => k0_hw1626.2

def k0_chk1627 (v30 : IVec S16 32) (v1670 : IVec S16 32) (v1671 : IVec S16 32) (v1756 : IVec S16 32) : Prop :=
  (∀ a x, ((![v1670, v1671, v1756, v30] : Fin 4 → IVec S16 32) a x).toNat < S2x4x32x32.size a)
theorem k0_idx2153_inb : ∀ (v30 : IVec S16 32) (v1670 : IVec S16 32) (v1671 : IVec S16 32) (v1756 : IVec S16 32) (k0_hw1627 : k0_chk1627 v30 v1670 v1671 v1756), ∀ a x, ((![v1670, v1671, v1756, v30] : Fin 4 → IVec S16 32) a x).toNat < S2x4x32x32.size a := fun v30 v1670 v1671 v1756 k0_hw1627 => k0_hw1627

def k0_chk1628 (v1670 : IVec S16 32) (v1671 : IVec S16 32) (v1756 : IVec S16 32) (v1759 : IVec S16 32) : Prop :=
  (∀ a x, ((![v1670, v1671, v1756, v1759] : Fin 4 → IVec S16 32) a x).toNat < S2x4x32x32.size a)
theorem k0_idx2154_inb : ∀ (v1670 : IVec S16 32) (v1671 : IVec S16 32) (v1756 : IVec S16 32) (v1759 : IVec S16 32) (k0_hw1628 : k0_chk1628 v1670 v1671 v1756 v1759), ∀ a x, ((![v1670, v1671, v1756, v1759] : Fin 4 → IVec S16 32) a x).toNat < S2x4x32x32.size a := fun v1670 v1671 v1756 v1759 k0_hw1628 => k0_hw1628

def k0_chk1629 (v33 : IVec S16 32) (v35 : IVec S16 32) (v1670 : IVec S16 32) (v1671 : IVec S16 32) (v1761 : IVec S16 32) : Prop :=
  (∀ a x, ((![v1670, v1671, v1761, v33] : Fin 4 → IVec S16 32) a x).toNat < S2x4x94x96.size a) ∧
  (∀ a x, ((![v1670, v1671, v1761, v35] : Fin 4 → IVec S16 32) a x).toNat < S2x4x94x96.size a)
theorem k0_idx2155_inb : ∀ (v33 : IVec S16 32) (v35 : IVec S16 32) (v1670 : IVec S16 32) (v1671 : IVec S16 32) (v1761 : IVec S16 32) (k0_hw1629 : k0_chk1629 v33 v35 v1670 v1671 v1761), ∀ a x, ((![v1670, v1671, v1761, v33] : Fin 4 → IVec S16 32) a x).toNat < S2x4x94x96.size a := fun v33 v35 v1670 v1671 v1761 k0_hw1629 => k0_hw1629.1
theorem k0_idx2156_inb : ∀ (v33 : IVec S16 32) (v35 : IVec S16 32) (v1670 : IVec S16 32) (v1671 : IVec S16 32) (v1761 : IVec S16 32) (k0_hw1629 : k0_chk1629 v33 v35 v1670 v1671 v1761), ∀ a x, ((![v1670, v1671, v1761, v35] : Fin 4 → IVec S16 32) a x).toNat < S2x4x94x96.size a := fun v33 v35 v1670 v1671 v1761 k0_hw1629 => k0_hw1629.2

def k0_chk1630 (v30 : IVec S16 32) (v1670 : IVec S16 32) (v1671 : IVec S16 32) (v1762 : IVec S16 32) : Prop :=
  (∀ a x, ((![v1670, v1671, v1762, v30] : Fin 4 → IVec S16 32) a x).toNat < S2x4x32x32.size a)
theorem k0_idx2157_inb : ∀ (v30 : IVec S16 32) (v1670 : IVec S16 32) (v1671 : IVec S16 32) (v1762 : IVec S16 32) (k0_hw1630 : k0_chk1630 v30 v1670 v1671 v1762), ∀ a x, ((![v1670, v1671, v1762, v30] : Fin 4 → IVec S16 32) a x).toNat < S2x4x32x32.size a := fun v30 v1670 v1671 v1762 k0_hw1630 => k0_hw1630

def k0_chk1631 (v1670 : IVec S16 32) (v1671 : IVec S16 32) (v1762 : IVec S16 32) (v1765 : IVec S16 32) : Prop :=
  (∀ a x, ((![v1670, v1671, v1762, v1765] : Fin 4 → IVec S16 32) a x).toNat < S2x4x32x32.size a)
theorem k0_idx2158_inb : ∀ (v1670 : IVec S16 32) (v1671 : IVec S16 32) (v1762 : IVec S16 32) (v1765 : IVec S16 32) (k0_hw1631 : k0_chk1631 v1670 v1671 v1762 v1765), ∀ a x, ((![v1670, v1671, v1762, v1765] : Fin 4 → IVec S16 32) a x).toNat < S2x4x32x32.size a := fun v1670 v1671 v1762 v1765 k0_hw1631 => k0_hw1631

def k0_chk1632 (v33 : IVec S16 32) (v35 : IVec S16 32) (v1670 : IVec S16 32) (v1671 : IVec S16 32) (v1767 : IVec S16 32) : Prop :=
  (∀ a x, ((![v1670, v1671, v1767, v33] : Fin 4 → IVec S16 32) a x).toNat < S2x4x94x96.size a) ∧
  (∀ a x, ((![v1670, v1671, v1767, v35] : Fin 4 → IVec S16 32) a x).toNat < S2x4x94x96.size a)
theorem k0_idx2159_inb : ∀ (v33 : IVec S16 32) (v35 : IVec S16 32) (v1670 : IVec S16 32) (v1671 : IVec S16 32) (v1767 : IVec S16 32) (k0_hw1632 : k0_chk1632 v33 v35 v1670 v1671 v1767), ∀ a x, ((![v1670, v1671, v1767, v33] : Fin 4 → IVec S16 32) a x).toNat < S2x4x94x96.size a := fun v33 v35 v1670 v1671 v1767 k0_hw1632 => k0_hw1632.1
theorem k0_idx2160_inb : ∀ (v33 : IVec S16 32) (v35 : IVec S16 32) (v1670 : IVec S16 32) (v1671 : IVec S16 32) (v1767 : IVec S16 32) (k0_hw1632 : k0_chk1632 v33 v35 v1670 v1671 v1767), ∀ a x, ((![v1670, v1671, v1767, v35] : Fin 4 → IVec S16 32) a x).toNat < S2x4x94x96.size a := fun v33 v35 v1670 v1671 v1767 k0_hw1632 => k0_hw1632.2

def k0_chk1633 (v30 : IVec S16 32) (v1670 : IVec S16 32) (v1671 : IVec S16 32) (v1768 : IVec S16 32) : Prop :=
  (∀ a x, ((![v1670, v1671, v1768, v30] : Fin 4 → IVec S16 32) a x).toNat < S2x4x32x32.size a)
theorem k0_idx2161_inb : ∀ (v30 : IVec S16 32) (v1670 : IVec S16 32) (v1671 : IVec S16 32) (v1768 : IVec S16 32) (k0_hw1633 : k0_chk1633 v30 v1670 v1671 v1768), ∀ a x, ((![v1670, v1671, v1768, v30] : Fin 4 → IVec S16 32) a x).toNat < S2x4x32x32.size a := fun v30 v1670 v1671 v1768 k0_hw1633 => k0_hw1633

def k0_chk1634 (v1670 : IVec S16 32) (v1671 : IVec S16 32) (v1768 : IVec S16 32) (v1771 : IVec S16 32) : Prop :=
  (∀ a x, ((![v1670, v1671, v1768, v1771] : Fin 4 → IVec S16 32) a x).toNat < S2x4x32x32.size a)
theorem k0_idx2162_inb : ∀ (v1670 : IVec S16 32) (v1671 : IVec S16 32) (v1768 : IVec S16 32) (v1771 : IVec S16 32) (k0_hw1634 : k0_chk1634 v1670 v1671 v1768 v1771), ∀ a x, ((![v1670, v1671, v1768, v1771] : Fin 4 → IVec S16 32) a x).toNat < S2x4x32x32.size a := fun v1670 v1671 v1768 v1771 k0_hw1634 => k0_hw1634

def k0_chk1635 (v33 : IVec S16 32) (v35 : IVec S16 32) (v1670 : IVec S16 32) (v1671 : IVec S16 32) (v1773 : IVec S16 32) : Prop :=
  (∀ a x, ((![v1670, v1671, v1773, v33] : Fin 4 → IVec S16 32) a x).toNat < S2x4x94x96.size a) ∧
  (∀ a x, ((![v1670, v1671, v1773, v35] : Fin 4 → IVec S16 32) a x).toNat < S2x4x94x96.size a)
theorem k0_idx2163_inb : ∀ (v33 : IVec S16 32) (v35 : IVec S16 32) (v1670 : IVec S16 32) (v1671 : IVec S16 32) (v1773 : IVec S16 32) (k0_hw1635 : k0_chk1635 v33 v35 v1670 v1671 v1773), ∀ a x, ((![v1670, v1671, v1773, v33] : Fin 4 → IVec S16 32) a x).toNat < S2x4x94x96.size a := fun v33 v35 v1670 v1671 v1773 k0_hw1635 => k0_hw1635.1
theorem k0_idx2164_inb : ∀ (v33 : IVec S16 32) (v35 : IVec S16 32) (v1670 : IVec S16 32) (v1671 : IVec S16 32) (v1773 : IVec S16 32) (k0_hw1635 : k0_chk1635 v33 v35 v1670 v1671 v1773), ∀ a x, ((![v1670, v1671, v1773, v35] : Fin 4 → IVec S16 32) a x).toNat < S2x4x94x96.size a := fun v33 v35 v1670 v1671 v1773 k0_hw1635 => k0_hw1635.2

def k0_chk1636 (v30 : IVec S16 32) (v1670 : IVec S16 32) (v1671 : IVec S16 32) (v1774 : IVec S16 32) : Prop :=
  (∀ a x, ((![v1670, v1671, v1774, v30] : Fin 4 → IVec S16 32) a x).toNat < S2x4x32x32.size a)
theorem k0_idx2165_inb : ∀ (v30 : IVec S16 32) (v1670 : IVec S16 32) (v1671 : IVec S16 32) (v1774 : IVec S16 32) (k0_hw1636 : k0_chk1636 v30 v1670 v1671 v1774), ∀ a x, ((![v1670, v1671, v1774, v30] : Fin 4 → IVec S16 32) a x).toNat < S2x4x32x32.size a := fun v30 v1670 v1671 v1774 k0_hw1636 => k0_hw1636

def k0_chk1637 (v1670 : IVec S16 32) (v1671 : IVec S16 32) (v1774 : IVec S16 32) (v1777 : IVec S16 32) : Prop :=
  (∀ a x, ((![v1670, v1671, v1774, v1777] : Fin 4 → IVec S16 32) a x).toNat < S2x4x32x32.size a)
theorem k0_idx2166_inb : ∀ (v1670 : IVec S16 32) (v1671 : IVec S16 32) (v1774 : IVec S16 32) (v1777 : IVec S16 32) (k0_hw1637 : k0_chk1637 v1670 v1671 v1774 v1777), ∀ a x, ((![v1670, v1671, v1774, v1777] : Fin 4 → IVec S16 32) a x).toNat < S2x4x32x32.size a := fun v1670 v1671 v1774 v1777 k0_hw1637 => k0_hw1637

def k0_chk1638 (v33 : IVec S16 32) (v35 : IVec S16 32) (v1670 : IVec S16 32) (v1671 : IVec S16 32) (v1779 : IVec S16 32) : Prop :=
  (∀ a x, ((![v1670, v1671, v1779, v33] : Fin 4 → IVec S16 32) a x).toNat < S2x4x94x96.size a) ∧
  (∀ a x, ((![v1670, v1671, v1779, v35] : Fin 4 → IVec S16 32) a x).toNat < S2x4x94x96.size a)
theorem k0_idx2167_inb : ∀ (v33 : IVec S16 32) (v35 : IVec S16 32) (v1670 : IVec S16 32) (v1671 : IVec S16 32) (v1779 : IVec S16 32) (k0_hw1638 : k0_chk1638 v33 v35 v1670 v1671 v1779), ∀ a x, ((![v1670, v1671, v1779, v33] : Fin 4 → IVec S16 32) a x).toNat < S2x4x94x96.size a := fun v33 v35 v1670 v1671 v1779 k0_hw1638 => k0_hw1638.1
theorem k0_idx2168_inb : ∀ (v33 : IVec S16 32) (v35 : IVec S16 32) (v1670 : IVec S16 32) (v1671 : IVec S16 32) (v1779 : IVec S16 32) (k0_hw1638 : k0_chk1638 v33 v35 v1670 v1671 v1779), ∀ a x, ((![v1670, v1671, v1779, v35] : Fin 4 → IVec S16 32) a x).toNat < S2x4x94x96.size a := fun v33 v35 v1670 v1671 v1779 k0_hw1638 => k0_hw1638.2

def k0_chk1639 (v30 : IVec S16 32) (v1670 : IVec S16 32) (v1671 : IVec S16 32) (v1780 : IVec S16 32) : Prop :=
  (∀ a x, ((![v1670, v1671, v1780, v30] : Fin 4 → IVec S16 32) a x).toNat < S2x4x32x32.size a)
theorem k0_idx2169_inb : ∀ (v30 : IVec S16 32) (v1670 : IVec S16 32) (v1671 : IVec S16 32) (v1780 : IVec S16 32) (k0_hw1639 : k0_chk1639 v30 v1670 v1671 v1780), ∀ a x, ((![v1670, v1671, v1780, v30] : Fin 4 → IVec S16 32) a x).toNat < S2x4x32x32.size a := fun v30 v1670 v1671 v1780 k0_hw1639 => k0_hw1639

def k0_chk1640 (v1670 : IVec S16 32) (v1671 : IVec S16 32) (v1780 : IVec S16 32) (v1783 : IVec S16 32) : Prop :=
  (∀ a x, ((![v1670, v1671, v1780, v1783] : Fin 4 → IVec S16 32) a x).toNat < S2x4x32x32.size a)
theorem k0_idx2170_inb : ∀ (v1670 : IVec S16 32) (v1671 : IVec S16 32) (v1780 : IVec S16 32) (v1783 : IVec S16 32) (k0_hw1640 : k0_chk1640 v1670 v1671 v1780 v1783), ∀ a x, ((![v1670, v1671, v1780, v1783] : Fin 4 → IVec S16 32) a x).toNat < S2x4x32x32.size a := fun v1670 v1671 v1780 v1783 k0_hw1640 => k0_hw1640

def k0_chk1641 (v33 : IVec S16 32) (v35 : IVec S16 32) (v1670 : IVec S16 32) (v1671 : IVec S16 32) (v1785 : IVec S16 32) : Prop :=
  (∀ a x, ((![v1670, v1671, v1785, v33] : Fin 4 → IVec S16 32) a x).toNat < S2x4x94x96.size a) ∧
  (∀ a x, ((![v1670, v1671, v1785, v35] : Fin 4 → IVec S16 32) a x).toNat < S2x4x94x96.size a)
theorem k0_idx2171_inb : ∀ (v33 : IVec S16 32) (v35 : IVec S16 32) (v1670 : IVec S16 32) (v1671 : IVec S16 32) (v1785 : IVec S16 32) (k0_hw1641 : k0_chk1641 v33 v35 v1670 v1671 v1785), ∀ a x, ((![v1670, v1671, v1785, v33] : Fin 4 → IVec S16 32) a x).toNat < S2x4x94x96.size a := fun v33 v35 v1670 v1671 v1785 k0_hw1641 => k0_hw1641.1
theorem k0_idx2172_inb : ∀ (v33 : IVec S16 32) (v35 : IVec S16 32) (v1670 : IVec S16 32) (v1671 : IVec S16 32) (v1785 : IVec S16 32) (k0_hw1641 : k0_chk1641 v33 v35 v1670 v1671 v1785), ∀ a x, ((![v1670, v1671, v1785, v35] : Fin 4 → IVec S16 32) a x).toNat < S2x4x94x96.size a := fun v33 v35 v1670 v1671 v1785 k0_hw1641 => k0_hw1641.2

def k0_chk1642 (v30 : IVec S16 32) (v1670 : IVec S16 32) (v1671 : IVec S16 32) (v1786 : IVec S16 32) : Prop :=
  (∀ a x, ((![v1670, v1671, v1786, v30] : Fin 4 → IVec S16 32) a x).toNat < S2x4x32x32.size a)
theorem k0_idx2173_inb : ∀ (v30 : IVec S16 32) (v1670 : IVec S16 32) (v1671 : IVec S16 32) (v1786 : IVec S16 32) (k0_hw1642 : k0_chk1642 v30 v1670 v1671 v1786), ∀ a x, ((![v1670, v1671, v1786, v30] : Fin 4 → IVec S16 32) a x).toNat < S2x4x32x32.size a := fun v30 v1670 v1671 v1786 k0_hw1642 => k0_hw1642

def k0_chk1643 (v1670 : IVec S16 32) (v1671 : IVec S16 32) (v1786 : IVec S16 32) (v1789 : IVec S16 32) : Prop :=
  (∀ a x, ((![v1670, v1671, v1786, v1789] : Fin 4 → IVec S16 32) a x).toNat < S2x4x32x32.size a)
theorem k0_idx2174_inb : ∀ (v1670 : IVec S16 32) (v1671 : IVec S16 32) (v1786 : IVec S16 32) (v1789 : IVec S16 32) (k0_hw1643 : k0_chk1643 v1670 v1671 v1786 v1789), ∀ a x, ((![v1670, v1671, v1786, v1789] : Fin 4 → IVec S16 32) a x).toNat < S2x4x32x32.size a := fun v1670 v1671 v1786 v1789 k0_hw1643 => k0_hw1643

def k0_chk1644 (v33 : IVec S16 32) (v35 : IVec S16 32) (v1670 : IVec S16 32) (v1671 : IVec S16 32) (v1791 : IVec S16 32) : Prop :=
  (∀ a x, ((![v1670, v1671, v1791, v33] : Fin 4 → IVec S16 32) a x).toNat < S2x4x94x96.size a) ∧
  (∀ a x, ((![v1670, v1671, v1791, v35] : Fin 4 → IVec S16 32) a x).toNat < S2x4x94x96.size a)
theorem k0_idx2175_inb : ∀ (v33 : IVec S16 32) (v35 : IVec S16 32) (v1670 : IVec S16 32) (v1671 : IVec S16 32) (v1791 : IVec S16 32) (k0_hw1644 : k0_chk1644 v33 v35 v1670 v1671 v1791), ∀ a x, ((![v1670, v1671, v1791, v33] : Fin 4 → IVec S16 32) a x).toNat < S2x4x94x96.size a := fun v33 v35 v1670 v1671 v1791 k0_hw1644 => k0_hw1644.1
theorem k0_idx2176_inb : ∀ (v33 : IVec S16 32) (v35 : IVec S16 32) (v1670 : IVec S16 32) (v1671 : IVec S16 32) (v1791 : IVec S16 32) (k0_hw1644 : k0_chk1644 v33 v35 v1670 v1671 v1791), ∀ a x, ((![v1670, v1671, v1791, v35] : Fin 4 → IVec S16 32) a x).toNat < S2x4x94x96.size a := fun v33 v35 v1670 v1671 v1791 k0_hw1644 => k0_hw1644.2

def k0_chk1645 (v30 : IVec S16 32) (v1670 : IVec S16 32) (v1671 : IVec S16 32) (v1792 : IVec S16 32) : Prop :=
  (∀ a x, ((![v1670, v1671, v1792, v30] : Fin 4 → IVec S16 32) a x).toNat < S2x4x32x32.size a)
theorem k0_idx2177_inb : ∀ (v30 : IVec S16 32) (v1670 : IVec S16 32) (v1671 : IVec S16 32) (v1792 : IVec S16 32) (k0_hw1645 : k0_chk1645 v30 v1670 v1671 v1792), ∀ a x, ((![v1670, v1671, v1792, v30] : Fin 4 → IVec S16 32) a x).toNat < S2x4x32x32.size a := fun v30 v1670 v1671 v1792 k0_hw1645 => k0_hw1645

def k0_chk1646 (v1670 : IVec S16 32) (v1671 : IVec S16 32) (v1792 : IVec S16 32) (v1795 : IVec S16 32) : Prop :=
  (∀ a x, ((![v1670, v1671, v1792, v1795] : Fin 4 → IVec S16 32) a x).toNat < S2x4x32x32.size a)
theorem k0_idx2178_inb : ∀ (v1670 : IVec S16 32) (v1671 : IVec S16 32) (v1792 : IVec S16 32) (v1795 : IVec S16 32) (k0_hw1646 : k0_chk1646 v1670 v1671 v1792 v1795), ∀ a x, ((![v1670, v1671, v1792, v1795] : Fin 4 → IVec S16 32) a x).toNat < S2x4x32x32.size a := fun v1670 v1671 v1792 v1795 k0_hw1646 => k0_hw1646

def k0_chk1647 (v33 : IVec S16 32) (v35 : IVec S16 32) (v1670 : IVec S16 32) (v1671 : IVec S16 32) (v1797 : IVec S16 32) : Prop :=
  (∀ a x, ((![v1670, v1671, v1797, v33] : Fin 4 → IVec S16 32) a x).toNat < S2x4x94x96.size a) ∧
  (∀ a x, ((![v1670, v1671, v1797, v35] : Fin 4 → IVec S16 32) a x).toNat < S2x4x94x96.size a)
theorem k0_idx2179_inb : ∀ (v33 : IVec S16 32) (v35 : IVec S16 32) (v1670 : IVec S16 32) (v1671 : IVec S16 32) (v1797 : IVec S16 32) (k0_hw1647 : k0_chk1647 v33 v35 v1670 v1671 v1797), ∀ a x, ((![v1670, v1671, v1797, v33] : Fin 4 → IVec S16 32) a x).toNat < S2x4x94x96.size a := fun v33 v35 v1670 v1671 v1797 k0_hw1647 => k0_hw1647.1
theorem k0_idx2180_inb : ∀ (v33 : IVec S16 32) (v35 : IVec S16 32) (v1670 : IVec S16 32) (v1671 : IVec S16 32) (v1797 : IVec S16 32) (k0_hw1647 : k0_chk1647 v33 v35 v1670 v1671 v1797), ∀ a x, ((![v1670, v1671, v1797, v35] : Fin 4 → IVec S16 32) a x).toNat < S2x4x94x96.size a := fun v33 v35 v1670 v1671 v1797 k0_hw1647 => k0_hw1647.2

def k0_chk1648 (v30 : IVec S16 32) (v1670 : IVec S16 32) (v1671 : IVec S16 32) (v1798 : IVec S16 32) : Prop :=
  (∀ a x, ((![v1670, v1671, v1798, v30] : Fin 4 → IVec S16 32) a x).toNat < S2x4x32x32.size a)
theorem k0_idx2181_inb : ∀ (v30 : IVec S16 32) (v1670 : IVec S16 32) (v1671 : IVec S16 32) (v1798 : IVec S16 32) (k0_hw1648 : k0_chk1648 v30 v1670 v1671 v1798), ∀ a x, ((![v1670, v1671, v1798, v30] : Fin 4 → IVec S16 32) a x).toNat < S2x4x32x32.size a := fun v30 v1670 v1671 v1798 k0_hw1648 => k0_hw1648

def k0_chk1649 (v1670 : IVec S16 32) (v1671 : IVec S16 32) (v1798 : IVec S16 32) (v1801 : IVec S16 32) : Prop :=
  (∀ a x, ((![v1670, v1671, v1798, v1801] : Fin 4 → IVec S16 32) a x).toNat < S2x4x32x32.size a)
theorem k0_idx2182_inb : ∀ (v1670 : IVec S16 32) (v1671 : IVec S16 32) (v1798 : IVec S16 32) (v1801 : IVec S16 32) (k0_hw1649 : k0_chk1649 v1670 v1671 v1798 v1801), ∀ a x, ((![v1670, v1671, v1798, v1801] : Fin 4 → IVec S16 32) a x).toNat < S2x4x32x32.size a := fun v1670 v1671 v1798 v1801 k0_hw1649 => k0_hw1649

def k0_chk1650 (v33 : IVec S16 32) (v35 : IVec S16 32) (v1670 : IVec S16 32) (v1671 : IVec S16 32) (v1803 : IVec S16 32) : Prop :=
  (∀ a x, ((![v1670, v1671, v1803, v33] : Fin 4 → IVec S16 32) a x).toNat < S2x4x94x96.size a) ∧
  (∀ a x, ((![v1670, v1671, v1803, v35] : Fin 4 → IVec S16 32) a x).toNat < S2x4x94x96.size a)
theorem k0_idx2183_inb : ∀ (v33 : IVec S16 32) (v35 : IVec S16 32) (v1670 : IVec S16 32) (v1671 : IVec S16 32) (v1803 : IVec S16 32) (k0_hw1650 : k0_chk1650 v33 v35 v1670 v1671 v1803), ∀ a x, ((![v1670, v1671, v1803, v33] : Fin 4 → IVec S16 32) a x).toNat < S2x4x94x96.size a := fun v33 v35 v1670 v1671 v1803 k0_hw1650 => k0_hw1650.1
theorem k0_idx2184_inb : ∀ (v33 : IVec S16 32) (v35 : IVec S16 32) (v1670 : IVec S16 32) (v1671 : IVec S16 32) (v1803 : IVec S16 32) (k0_hw1650 : k0_chk1650 v33 v35 v1670 v1671 v1803), ∀ a x, ((![v1670, v1671, v1803, v35] : Fin 4 → IVec S16 32) a x).toNat < S2x4x94x96.size a := fun v33 v35 v1670 v1671 v1803 k0_hw1650 => k0_hw1650.2

def k0_chk1651 (v30 : IVec S16 32) (v1670 : IVec S16 32) (v1671 : IVec S16 32) (v1804 : IVec S16 32) : Prop :=
  (∀ a x, ((![v1670, v1671, v1804, v30] : Fin 4 → IVec S16 32) a x).toNat < S2x4x32x32.size a)
theorem k0_idx2185_inb : ∀ (v30 : IVec S16 32) (v1670 : IVec S16 32) (v1671 : IVec S16 32) (v1804 : IVec S16 32) (k0_hw1651 : k0_chk1651 v30 v1670 v1671 v1804), ∀ a x, ((![v1670, v1671, v1804, v30] : Fin 4 → IVec S16 32) a x).toNat < S2x4x32x32.size a := fun v30 v1670 v1671 v1804 k0_hw1651 => k0_hw1651

def k0_chk1652 (v1670 : IVec S16 32) (v1671 : IVec S16 32) (v1804 : IVec S16 32) (v1807 : IVec S16 32) : Prop :=
  (∀ a x, ((![v1670, v1671, v1804, v1807] : Fin 4 → IVec S16 32) a x).toNat < S2x4x32x32.size a)
theorem k0_idx2186_inb : ∀ (v1670 : IVec S16 32) (v1671 : IVec S16 32) (v1804 : IVec S16 32) (v1807 : IVec S16 32) (k0_hw1652 : k0_chk1652 v1670 v1671 v1804 v1807), ∀ a x, ((![v1670, v1671, v1804, v1807] : Fin 4 → IVec S16 32) a x).toNat < S2x4x32x32.size a := fun v1670 v1671 v1804 v1807 k0_hw1652 => k0_hw1652

def k0_chk1653 (v33 : IVec S16 32) (v35 : IVec S16 32) (v1670 : IVec S16 32) (v1671 : IVec S16 32) (v1809 : IVec S16 32) : Prop :=
  (∀ a x, ((![v1670, v1671, v1809, v33] : Fin 4 → IVec S16 32) a x).toNat < S2x4x94x96.size a) ∧
  (∀ a x, ((![v1670, v1671, v1809, v35] : Fin 4 → IVec S16 32) a x).toNat < S2x4x94x96.size a)
theorem k0_idx2187_inb : ∀ (v33 : IVec S16 32) (v35 : IVec S16 32) (v1670 : IVec S16 32) (v1671 : IVec S16 32) (v1809 : IVec S16 32) (k0_hw1653 : k0_chk1653 v33 v35 v1670 v1671 v1809), ∀ a x, ((![v1670, v1671, v1809, v33] : Fin 4 → IVec S16 32) a x).toNat < S2x4x94x96.size a := fun v33 v35 v1670 v1671 v1809 k0_hw1653 => k0_hw1653.1
theorem k0_idx2188_inb : ∀ (v33 : IVec S16 32) (v35 : IVec S16 32) (v1670 : IVec S16 32) (v1671 : IVec S16 32) (v1809 : IVec S16 32) (k0_hw1653 : k0_chk1653 v33 v35 v1670 v1671 v1809), ∀ a x, ((![v1670, v1671, v1809, v35] : Fin 4 → IVec S16 32) a x).toNat < S2x4x94x96.size a := fun v33 v35 v1670 v1671 v1809 k0_hw1653 => k0_hw1653.2

def k0_chk1654 (v30 : IVec S16 32) (v1670 : IVec S16 32) (v1671 : IVec S16 32) (v1810 : IVec S16 32) : Prop :=
  (∀ a x, ((![v1670, v1671, v1810, v30] : Fin 4 → IVec S16 32) a x).toNat < S2x4x32x32.size a)
theorem k0_idx2189_inb : ∀ (v30 : IVec S16 32) (v1670 : IVec S16 32) (v1671 : IVec S16 32) (v1810 : IVec S16 32) (k0_hw1654 : k0_chk1654 v30 v1670 v1671 v1810), ∀ a x, ((![v1670, v1671, v1810, v30] : Fin 4 → IVec S16 32) a x).toNat < S2x4x32x32.size a := fun v30 v1670 v1671 v1810 k0_hw1654 => k0_hw1654

def k0_chk1655 (v1670 : IVec S16 32) (v1671 : IVec S16 32) (v1810 : IVec S16 32) (v1813 : IVec S16 32) : Prop :=
  (∀ a x, ((![v1670, v1671, v1810, v1813] : Fin 4 → IVec S16 32) a x).toNat < S2x4x32x32.size a)
theorem k0_idx2190_inb : ∀ (v1670 : IVec S16 32) (v1671 : IVec S16 32) (v1810 : IVec S16 32) (v1813 : IVec S16 32) (k0_hw1655 : k0_chk1655 v1670 v1671 v1810 v1813), ∀ a x, ((![v1670, v1671, v1810, v1813] : Fin 4 → IVec S16 32) a x).toNat < S2x4x32x32.size a := fun v1670 v1671 v1810 v1813 k0_hw1655 => k0_hw1655

def k0_chk1656 (v33 : IVec S16 32) (v35 : IVec S16 32) (v1670 : IVec S16 32) (v1671 : IVec S16 32) (v1815 : IVec S16 32) : Prop :=
  (∀ a x, ((![v1670, v1671, v1815, v33] : Fin 4 → IVec S16 32) a x).toNat < S2x4x94x96.size a) ∧
  (∀ a x, ((![v1670, v1671, v1815, v35] : Fin 4 → IVec S16 32) a x).toNat < S2x4x94x96.size a)
theorem k0_idx2191_inb : ∀ (v33 : IVec S16 32) (v35 : IVec S16 32) (v1670 : IVec S16 32) (v1671 : IVec S16 32) (v1815 : IVec S16 32) (k0_hw1656 : k0_chk1656 v33 v35 v1670 v1671 v1815), ∀ a x, ((![v1670, v1671, v1815, v33] : Fin 4 → IVec S16 32) a x).toNat < S2x4x94x96.size a := fun v33 v35 v1670 v1671 v1815 k0_hw1656 => k0_hw1656.1
theorem k0_idx2192_inb : ∀ (v33 : IVec S16 32) (v35 : IVec S16 32) (v1670 : IVec S16 32) (v1671 : IVec S16 32) (v1815 : IVec S16 32) (k0_hw1656 : k0_chk1656 v33 v35 v1670 v1671 v1815), ∀ a x, ((![v1670, v1671, v1815, v35] : Fin 4 → IVec S16 32) a x).toNat < S2x4x94x96.size a := fun v33 v35 v1670 v1671 v1815 k0_hw1656 => k0_hw1656.2

def k0_chk1657 (v30 : IVec S16 32) (v1670 : IVec S16 32) (v1671 : IVec S16 32) (v1816 : IVec S16 32) : Prop :=
  (∀ a x, ((![v1670, v1671, v1816, v30] : Fin 4 → IVec S16 32) a x).toNat < S2x4x32x32.size a)
theorem k0_idx2193_inb : ∀ (v30 : IVec S16 32) (v1670 : IVec S16 32) (v1671 : IVec S16 32) (v1816 : IVec S16 32) (k0_hw1657 : k0_chk1657 v30 v1670 v1671 v1816), ∀ a x, ((![v1670, v1671, v1816, v30] : Fin 4 → IVec S16 32) a x).toNat < S2x4x32x32.size a := fun v30 v1670 v1671 v1816 k0_hw1657 => k0_hw1657

def k0_chk1658 (v1670 : IVec S16 32) (v1671 : IVec S16 32) (v1816 : IVec S16 32) (v1819 : IVec S16 32) : Prop :=
  (∀ a x, ((![v1670, v1671, v1816, v1819] : Fin 4 → IVec S16 32) a x).toNat < S2x4x32x32.size a)
theorem k0_idx2194_inb : ∀ (v1670 : IVec S16 32) (v1671 : IVec S16 32) (v1816 : IVec S16 32) (v1819 : IVec S16 32) (k0_hw1658 : k0_chk1658 v1670 v1671 v1816 v1819), ∀ a x, ((![v1670, v1671, v1816, v1819] : Fin 4 → IVec S16 32) a x).toNat < S2x4x32x32.size a := fun v1670 v1671 v1816 v1819 k0_hw1658 => k0_hw1658

def k0_chk1659 (v33 : IVec S16 32) (v35 : IVec S16 32) (v1670 : IVec S16 32) (v1671 : IVec S16 32) (v1821 : IVec S16 32) : Prop :=
  (∀ a x, ((![v1670, v1671, v1821, v33] : Fin 4 → IVec S16 32) a x).toNat < S2x4x94x96.size a) ∧
  (∀ a x, ((![v1670, v1671, v1821, v35] : Fin 4 → IVec S16 32) a x).toNat < S2x4x94x96.size a)
theorem k0_idx2195_inb : ∀ (v33 : IVec S16 32) (v35 : IVec S16 32) (v1670 : IVec S16 32) (v1671 : IVec S16 32) (v1821 : IVec S16 32) (k0_hw1659 : k0_chk1659 v33 v35 v1670 v1671 v1821), ∀ a x, ((![v1670, v1671, v1821, v33] : Fin 4 → IVec S16 32) a x).toNat < S2x4x94x96.size a := fun v33 v35 v1670 v1671 v1821 k0_hw1659 => k0_hw1659.1
theorem k0_idx2196_inb : ∀ (v33 : IVec S16 32) (v35 : IVec S16 32) (v1670 : IVec S16 32) (v1671 : IVec S16 32) (v1821 : IVec S16 32) (k0_hw1659 : k0_chk1659 v33 v35 v1670 v1671 v1821), ∀ a x, ((![v1670, v1671, v1821, v35] : Fin 4 → IVec S16 32) a x).toNat < S2x4x94x96.size a := fun v33 v35 v1670 v1671 v1821 k0_hw1659 => k0_hw1659.2

def k0_chk1660 (v30 : IVec S16 32) (v1670 : IVec S16 32) (v1671 : IVec S16 32) (v1822 : IVec S16 32) : Prop :=
  (∀ a x, ((![v1670, v1671, v1822, v30] : Fin 4 → IVec S16 32) a x).toNat < S2x4x32x32.size a)
theorem k0_idx2197_inb : ∀ (v30 : IVec S16 32) (v1670 : IVec S16 32) (v1671 : IVec S16 32) (v1822 : IVec S16 32) (k0_hw1660 : k0_chk1660 v30 v1670 v1671 v1822), ∀ a x, ((![v1670, v1671, v1822, v30] : Fin 4 → IVec S16 32) a x).toNat < S2x4x32x32.size a := fun v30 v1670 v1671 v1822 k0_hw1660 => k0_hw1660

def k0_chk1661 (v1670 : IVec S16 32) (v1671 : IVec S16 32) (v1822 : IVec S16 32) (v1825 : IVec S16 32) : Prop :=
  (∀ a x, ((![v1670, v1671, v1822, v1825] : Fin 4 → IVec S16 32) a x).toNat < S2x4x32x32.size a)
theorem k0_idx2198_inb : ∀ (v1670 : IVec S16 32) (v1671 : IVec S16 32) (v1822 : IVec S16 32) (v1825 : IVec S16 32) (k0_hw1661 : k0_chk1661 v1670 v1671 v1822 v1825), ∀ a x, ((![v1670, v1671, v1822, v1825] : Fin 4 → IVec S16 32) a x).toNat < S2x4x32x32.size a := fun v1670 v1671 v1822 v1825 k0_hw1661 => k0_hw1661

def k0_chk1662 (v33 : IVec S16 32) (v35 : IVec S16 32) (v1670 : IVec S16 32) (v1671 : IVec S16 32) (v1827 : IVec S16 32) : Prop :=
  (∀ a x, ((![v1670, v1671, v1827, v33] : Fin 4 → IVec S16 32) a x).toNat < S2x4x94x96.size a) ∧
  (∀ a x, ((![v1670, v1671, v1827, v35] : Fin 4 → IVec S16 32) a x).toNat < S2x4x94x96.size a)
theorem k0_idx2199_inb : ∀ (v33 : IVec S16 32) (v35 : IVec S16 32) (v1670 : IVec S16 32) (v1671 : IVec S16 32) (v1827 : IVec S16 32) (k0_hw1662 : k0_chk1662 v33 v35 v1670 v1671 v1827), ∀ a x, ((![v1670, v1671, v1827, v33] : Fin 4 → IVec S16 32) a x).toNat < S2x4x94x96.size a := fun v33 v35 v1670 v1671 v1827 k0_hw1662 => k0_hw1662.1
theorem k0_idx2200_inb : ∀ (v33 : IVec S16 32) (v35 : IVec S16 32) (v1670 : IVec S16 32) (v1671 : IVec S16 32) (v1827 : IVec S16 32) (k0_hw1662 : k0_chk1662 v33 v35 v1670 v1671 v1827), ∀ a x, ((![v1670, v1671, v1827, v35] : Fin 4 → IVec S16 32) a x).toNat < S2x4x94x96.size a := fun v33 v35 v1670 v1671 v1827 k0_hw1662 => k0_hw1662.2

def k0_chk1663 (v30 : IVec S16 32) (v1670 : IVec S16 32) (v1671 : IVec S16 32) (v1828 : IVec S16 32) : Prop :=
  (∀ a x, ((![v1670, v1671, v1828, v30] : Fin 4 → IVec S16 32) a x).toNat < S2x4x32x32.size a)
theorem k0_idx2201_inb : ∀ (v30 : IVec S16 32) (v1670 : IVec S16 32) (v1671 : IVec S16 32) (v1828 : IVec S16 32) (k0_hw1663 : k0_chk1663 v30 v1670 v1671 v1828), ∀ a x, ((![v1670, v1671, v1828, v30] : Fin 4 → IVec S16 32) a x).toNat < S2x4x32x32.size a := fun v30 v1670 v1671 v1828 k0_hw1663 => k0_hw1663

def k0_chk1664 (v1670 : IVec S16 32) (v1671 : IVec S16 32) (v1828 : IVec S16 32) (v1831 : IVec S16 32) : Prop :=
  (∀ a x, ((![v1670, v1671, v1828, v1831] : Fin 4 → IVec S16 32) a x).toNat < S2x4x32x32.size a)
theorem k0_idx2202_inb : ∀ (v1670 : IVec S16 32) (v1671 : IVec S16 32) (v1828 : IVec S16 32) (v1831 : IVec S16 32) (k0_hw1664 : k0_chk1664 v1670 v1671 v1828 v1831), ∀ a x, ((![v1670, v1671, v1828, v1831] : Fin 4 → IVec S16 32) a x).toNat < S2x4x32x32.size a := fun v1670 v1671 v1828 v1831 k0_hw1664 => k0_hw1664

def k0_chk1665 (v33 : IVec S16 32) (v35 : IVec S16 32) (v1670 : IVec S16 32) (v1671 : IVec S16 32) (v1833 : IVec S16 32) : Prop :=
  (∀ a x, ((![v1670, v1671, v1833, v33] : Fin 4 → IVec S16 32) a x).toNat < S2x4x94x96.size a) ∧
  (∀ a x, ((![v1670, v1671, v1833, v35] : Fin 4 → IVec S16 32) a x).toNat < S2x4x94x96.size a)
theorem k0_idx2203_inb : ∀ (v33 : IVec S16 32) (v35 : IVec S16 32) (v1670 : IVec S16 32) (v1671 : IVec S16 32) (v1833 : IVec S16 32) (k0_hw1665 : k0_chk1665 v33 v35 v1670 v1671 v1833), ∀ a x, ((![v1670, v1671, v1833, v33] : Fin 4 → IVec S16 32) a x).toNat < S2x4x94x96.size a := fun v33 v35 v1670 v1671 v1833 k0_hw1665 => k0_hw1665.1
theorem k0_idx2204_inb : ∀ (v33 : IVec S16 32) (v35 : IVec S16 32) (v1670 : IVec S16 32) (v1671 : IVec S16 32) (v1833 : IVec S16 32) (k0_hw1665 : k0_chk1665 v33 v35 v1670 v1671 v1833), ∀ a x, ((![v1670, v1671, v1833, v35] : Fin 4 → IVec S16 32) a x).toNat < S2x4x94x96.size a := fun v33 v35 v1670 v1671 v1833 k0_hw1665 => k0_hw1665.2

def k0_chk1666 (v30 : IVec S16 32) (v1670 : IVec S16 32) (v1671 : IVec S16 32) (v1834 : IVec S16 32) : Prop :=
  (∀ a x, ((![v1670, v1671, v1834, v30] : Fin 4 → IVec S16 32) a x).toNat < S2x4x32x32.size a)
theorem k0_idx2205_inb : ∀ (v30 : IVec S16 32) (v1670 : IVec S16 32) (v1671 : IVec S16 32) (v1834 : IVec S16 32) (k0_hw1666 : k0_chk1666 v30 v1670 v1671 v1834), ∀ a x, ((![v1670, v1671, v1834, v30] : Fin 4 → IVec S16 32) a x).toNat < S2x4x32x32.size a := fun v30 v1670 v1671 v1834 k0_hw1666 => k0_hw1666

def k0_chk1667 (v1670 : IVec S16 32) (v1671 : IVec S16 32) (v1834 : IVec S16 32) (v1837 : IVec S16 32) : Prop :=
  (∀ a x, ((![v1670, v1671, v1834, v1837] : Fin 4 → IVec S16 32) a x).toNat < S2x4x32x32.size a)
theorem k0_idx2206_inb : ∀ (v1670 : IVec S16 32) (v1671 : IVec S16 32) (v1834 : IVec S16 32) (v1837 : IVec S16 32) (k0_hw1667 : k0_chk1667 v1670 v1671 v1834 v1837), ∀ a x, ((![v1670, v1671, v1834, v1837] : Fin 4 → IVec S16 32) a x).toNat < S2x4x32x32.size a := fun v1670 v1671 v1834 v1837 k0_hw1667 => k0_hw1667

def k0_chk1668 (v33 : IVec S16 32) (v35 : IVec S16 32) (v1670 : IVec S16 32) (v1671 : IVec S16 32) (v1839 : IVec S16 32) : Prop :=
  (∀ a x, ((![v1670, v1671, v1839, v33] : Fin 4 → IVec S16 32) a x).toNat < S2x4x94x96.size a) ∧
  (∀ a x, ((![v1670, v1671, v1839, v35] : Fin 4 → IVec S16 32) a x).toNat < S2x4x94x96.size a)
theorem k0_idx2207_inb : ∀ (v33 : IVec S16 32) (v35 : IVec S16 32) (v1670 : IVec S16 32) (v1671 : IVec S16 32) (v1839 : IVec S16 32) (k0_hw1668 : k0_chk1668 v33 v35 v1670 v1671 v1839), ∀ a x, ((![v1670, v1671, v1839, v33] : Fin 4 → IVec S16 32) a x).toNat < S2x4x94x96.size a := fun v33 v35 v1670 v1671 v1839 k0_hw1668 => k0_hw1668.1
theorem k0_idx2208_inb : ∀ (v33 : IVec S16 32) (v35 : IVec S16 32) (v1670 : IVec S16 32) (v1671 : IVec S16 32) (v1839 : IVec S16 32) (k0_hw1668 : k0_chk1668 v33 v35 v1670 v1671 v1839), ∀ a x, ((![v1670, v1671, v1839, v35] : Fin 4 → IVec S16 32) a x).toNat < S2x4x94x96.size a := fun v33 v35 v1670 v1671 v1839 k0_hw1668 => k0_hw1668.2

def k0_chk1669 (v30 : IVec S16 32) (v1670 : IVec S16 32) (v1671 : IVec S16 32) (v1840 : IVec S16 32) : Prop :=
  (∀ a x, ((![v1670, v1671, v1840, v30] : Fin 4 → IVec S16 32) a x).toNat < S2x4x32x32.size a)
theorem k0_idx2209_inb : ∀ (v30 : IVec S16 32) (v1670 : IVec S16 32) (v1671 : IVec S16 32) (v1840 : IVec S16 32) (k0_hw1669 : k0_chk1669 v30 v1670 v1671 v1840), ∀ a x, ((![v1670, v1671, v1840, v30] : Fin 4 → IVec S16 32) a x).toNat < S2x4x32x32.size a := fun v30 v1670 v1671 v1840 k0_hw1669 => k0_hw1669

def k0_chk1670 (v1670 : IVec S16 32) (v1671 : IVec S16 32) (v1840 : IVec S16 32) (v1843 : IVec S16 32) : Prop :=
  (∀ a x, ((![v1670, v1671, v1840, v1843] : Fin 4 → IVec S16 32) a x).toNat < S2x4x32x32.size a)
theorem k0_idx2210_inb : ∀ (v1670 : IVec S16 32) (v1671 : IVec S16 32) (v1840 : IVec S16 32) (v1843 : IVec S16 32) (k0_hw1670 : k0_chk1670 v1670 v1671 v1840 v1843), ∀ a x, ((![v1670, v1671, v1840, v1843] : Fin 4 → IVec S16 32) a x).toNat < S2x4x32x32.size a := fun v1670 v1671 v1840 v1843 k0_hw1670 => k0_hw1670

def k0_chk1671 (v33 : IVec S16 32) (v35 : IVec S16 32) (v1670 : IVec S16 32) (v1671 : IVec S16 32) (v1845 : IVec S16 32) : Prop :=
  (∀ a x, ((![v1670, v1671, v1845, v33] : Fin 4 → IVec S16 32) a x).toNat < S2x4x94x96.size a) ∧
  (∀ a x, ((![v1670, v1671, v1845, v35] : Fin 4 → IVec S16 32) a x).toNat < S2x4x94x96.size a)
theorem k0_idx2211_inb : ∀ (v33 : IVec S16 32) (v35 : IVec S16 32) (v1670 : IVec S16 32) (v1671 : IVec S16 32) (v1845 : IVec S16 32) (k0_hw1671 : k0_chk1671 v33 v35 v1670 v1671 v1845), ∀ a x, ((![v1670, v1671, v1845, v33] : Fin 4 → IVec S16 32) a x).toNat < S2x4x94x96.size a := fun v33 v35 v1670 v1671 v1845 k0_hw1671 => k0_hw1671.1
theorem k0_idx2212_inb : ∀ (v33 : IVec S16 32) (v35 : IVec S16 32) (v1670 : IVec S16 32) (v1671 : IVec S16 32) (v1845 : IVec S16 32) (k0_hw1671 : k0_chk1671 v33 v35 v1670 v1671 v1845), ∀ a x, ((![v1670, v1671, v1845, v35] : Fin 4 → IVec S16 32) a x).toNat < S2x4x94x96.size a := fun v33 v35 v1670 v1671 v1845 k0_hw1671 => k0_hw1671.2

def k0_chk1672 (v30 : IVec S16 32) (v1670 : IVec S16 32) (v1671 : IVec S16 32) (v1846 : IVec S16 32) : Prop :=
  (∀ a x, ((![v1670, v1671, v1846, v30] : Fin 4 → IVec S16 32) a x).toNat < S2x4x32x32.size a)
theorem k0_idx2213_inb : ∀ (v30 : IVec S16 32) (v1670 : IVec S16 32) (v1671 : IVec S16 32) (v1846 : IVec S16 32) (k0_hw1672 : k0_chk1672 v30 v1670 v1671 v1846), ∀ a x, ((![v1670, v1671, v1846, v30] : Fin 4 → IVec S16 32) a x).toNat < S2x4x32x32.size a := fun v30 v1670 v1671 v1846 k0_hw1672 => k0_hw1672

def k0_chk1673 (v1670 : IVec S16 32) (v1671 : IVec S16 32) (v1846 : IVec S16 32) (v1849 : IVec S16 32) : Prop :=
  (∀ a x, ((![v1670, v1671, v1846, v1849] : Fin 4 → IVec S16 32) a x).toNat < S2x4x32x32.size a)
theorem k0_idx2214_inb : ∀ (v1670 : IVec S16 32) (v1671 : IVec S16 32) (v1846 : IVec S16 32) (v1849 : IVec S16 32) (k0_hw1673 : k0_chk1673 v1670 v1671 v1846 v1849), ∀ a x, ((![v1670, v1671, v1846, v1849] : Fin 4 → IVec S16 32) a x).toNat < S2x4x32x32.size a := fun v1670 v1671 v1846 v1849 k0_hw1673 => k0_hw1673

def k0_chk1674 (v33 : IVec S16 32) (v35 : IVec S16 32) (v1670 : IVec S16 32) (v1671 : IVec S16 32) (v1851 : IVec S16 32) : Prop :=
  (∀ a x, ((![v1670, v1671, v1851, v33] : Fin 4 → IVec S16 32) a x).toNat < S2x4x94x96.size a) ∧
  (∀ a x, ((![v1670, v1671, v1851, v35] : Fin 4 → IVec S16 32) a x).toNat < S2x4x94x96.size a)
theorem k0_idx2215_inb : ∀ (v33 : IVec S16 32) (v35 : IVec S16 32) (v1670 : IVec S16 32) (v1671 : IVec S16 32) (v1851 : IVec S16 32) (k0_hw1674 : k0_chk1674 v33 v35 v1670 v1671 v1851), ∀ a x, ((![v1670, v1671, v1851, v33] : Fin 4 → IVec S16 32) a x).toNat < S2x4x94x96.size a := fun v33 v35 v1670 v1671 v1851 k0_hw1674 => k0_hw1674.1
theorem k0_idx2216_inb : ∀ (v33 : IVec S16 32) (v35 : IVec S16 32) (v1670 : IVec S16 32) (v1671 : IVec S16 32) (v1851 : IVec S16 32) (k0_hw1674 : k0_chk1674 v33 v35 v1670 v1671 v1851), ∀ a x, ((![v1670, v1671, v1851, v35] : Fin 4 → IVec S16 32) a x).toNat < S2x4x94x96.size a := fun v33 v35 v1670 v1671 v1851 k0_hw1674 => k0_hw1674.2

def k0_chk1675 (v30 : IVec S16 32) (v1670 : IVec S16 32) (v1671 : IVec S16 32) (v1852 : IVec S16 32) : Prop :=
  (∀ a x, ((![v1670, v1671, v1852, v30] : Fin 4 → IVec S16 32) a x).toNat < S2x4x32x32.size a)
theorem k0_idx2217_inb : ∀ (v30 : IVec S16 32) (v1670 : IVec S16 32) (v1671 : IVec S16 32) (v1852 : IVec S16 32) (k0_hw1675 : k0_chk1675 v30 v1670 v1671 v1852), ∀ a x, ((![v1670, v1671, v1852, v30] : Fin 4 → IVec S16 32) a x).toNat < S2x4x32x32.size a := fun v30 v1670 v1671 v1852 k0_hw1675 => k0_hw1675

def k0_chk1676 (v1670 : IVec S16 32) (v1671 : IVec S16 32) (v1852 : IVec S16 32) (v1855 : IVec S16 32) : Prop :=
  (∀ a x, ((![v1670, v1671, v1852, v1855] : Fin 4 → IVec S16 32) a x).toNat < S2x4x32x32.size a)
theorem k0_idx2218_inb : ∀ (v1670 : IVec S16 32) (v1671 : IVec S16 32) (v1852 : IVec S16 32) (v1855 : IVec S16 32) (k0_hw1676 : k0_chk1676 v1670 v1671 v1852 v1855), ∀ a x, ((![v1670, v1671, v1852, v1855] : Fin 4 → IVec S16 32) a x).toNat < S2x4x32x32.size a := fun v1670 v1671 v1852 v1855 k0_hw1676 => k0_hw1676

def k0_chk1677 (v33 : IVec S16 32) (v35 : IVec S16 32) (v1670 : IVec S16 32) (v1671 : IVec S16 32) (v1857 : IVec S16 32) : Prop :=
  (∀ a x, ((![v1670, v1671, v1857, v33] : Fin 4 → IVec S16 32) a x).toNat < S2x4x94x96.size a) ∧
  (∀ a x, ((![v1670, v1671, v1857, v35] : Fin 4 → IVec S16 32) a x).toNat < S2x4x94x96.size a)
theorem k0_idx2219_inb : ∀ (v33 : IVec S16 32) (v35 : IVec S16 32) (v1670 : IVec S16 32) (v1671 : IVec S16 32) (v1857 : IVec S16 32) (k0_hw1677 : k0_chk1677 v33 v35 v1670 v1671 v1857), ∀ a x, ((![v1670, v1671, v1857, v33] : Fin 4 → IVec S16 32) a x).toNat < S2x4x94x96.size a := fun v33 v35 v1670 v1671 v1857 k0_hw1677 => k0_hw1677.1
theorem k0_idx2220_inb : ∀ (v33 : IVec S16 32) (v35 : IVec S16 32) (v1670 : IVec S16 32) (v1671 : IVec S16 32) (v1857 : IVec S16 32) (k0_hw1677 : k0_chk1677 v33 v35 v1670 v1671 v1857), ∀ a x, ((![v1670, v1671, v1857, v35] : Fin 4 → IVec S16 32) a x).toNat < S2x4x94x96.size a := fun v33 v35 v1670 v1671 v1857 k0_hw1677 => k0_hw1677.2

def k0_chk1678 (v30 : IVec S16 32) (v1670 : IVec S16 32) (v1671 : IVec S16 32) (v1858 : IVec S16 32) : Prop :=
  (∀ a x, ((![v1670, v1671, v1858, v30] : Fin 4 → IVec S16 32) a x).toNat < S2x4x32x32.size a)
theorem k0_idx2221_inb : ∀ (v30 : IVec S16 32) (v1670 : IVec S16 32) (v1671 : IVec S16 32) (v1858 : IVec S16 32) (k0_hw1678 : k0_chk1678 v30 v1670 v1671 v1858), ∀ a x, ((![v1670, v1671, v1858, v30] : Fin 4 → IVec S16 32) a x).toNat < S2x4x32x32.size a := fun v30 v1670 v1671 v1858 k0_hw1678 => k0_hw1678

def k0_chk1679 (v1670 : IVec S16 32) (v1671 : IVec S16 32) (v1858 : IVec S16 32) (v1861 : IVec S16 32) : Prop :=
  (∀ a x, ((![v1670, v1671, v1858, v1861] : Fin 4 → IVec S16 32) a x).toNat < S2x4x32x32.size a)
theorem k0_idx2222_inb : ∀ (v1670 : IVec S16 32) (v1671 : IVec S16 32) (v1858 : IVec S16 32) (v1861 : IVec S16 32) (k0_hw1679 : k0_chk1679 v1670 v1671 v1858 v1861), ∀ a x, ((![v1670, v1671, v1858, v1861] : Fin 4 → IVec S16 32) a x).toNat < S2x4x32x32.size a := fun v1670 v1671 v1858 v1861 k0_hw1679 => k0_hw1679

def k0_chk1680 (v33 : IVec S16 32) (v35 : IVec S16 32) (v1670 : IVec S16 32) (v1671 : IVec S16 32) (v1863 : IVec S16 32) : Prop :=
  (∀ a x, ((![v1670, v1671, v1863, v33] : Fin 4 → IVec S16 32) a x).toNat < S2x4x94x96.size a) ∧
  (∀ a x, ((![v1670, v1671, v1863, v35] : Fin 4 → IVec S16 32) a x).toNat < S2x4x94x96.size a)
theorem k0_idx2223_inb : ∀ (v33 : IVec S16 32) (v35 : IVec S16 32) (v1670 : IVec S16 32) (v1671 : IVec S16 32) (v1863 : IVec S16 32) (k0_hw1680 : k0_chk1680 v33 v35 v1670 v1671 v1863), ∀ a x, ((![v1670, v1671, v1863, v33] : Fin 4 → IVec S16 32) a x).toNat < S2x4x94x96.size a := fun v33 v35 v1670 v1671 v1863 k0_hw1680 => k0_hw1680.1
theorem k0_idx2224_inb : ∀ (v33 : IVec S16 32) (v35 : IVec S16 32) (v1670 : IVec S16 32) (v1671 : IVec S16 32) (v1863 : IVec S16 32) (k0_hw1680 : k0_chk1680 v33 v35 v1670 v1671 v1863), ∀ a x, ((![v1670, v1671, v1863, v35] : Fin 4 → IVec S16 32) a x).toNat < S2x4x94x96.size a := fun v33 v35 v1670 v1671 v1863 k0_hw1680 => k0_hw1680.2

def k0_chk1681 (v30 : IVec S16 32) (v1670 : IVec S16 32) (v1864 : IVec S16 32) (v1865 : IVec S16 32) : Prop :=
  (∀ a x, ((![v1670, v1864, v1865, v30] : Fin 4 → IVec S16 32) a x).toNat < S2x4x32x32.size a)
theorem k0_idx2225_inb : ∀ (v30 : IVec S16 32) (v1670 : IVec S16 32) (v1864 : IVec S16 32) (v1865 : IVec S16 32) (k0_hw1681 : k0_chk1681 v30 v1670 v1864 v1865), ∀ a x, ((![v1670, v1864, v1865, v30] : Fin 4 → IVec S16 32) a x).toNat < S2x4x32x32.size a := fun v30 v1670 v1864 v1865 k0_hw1681 => k0_hw1681

def k0_chk1682 (v1670 : IVec S16 32) (v1864 : IVec S16 32) (v1865 : IVec S16 32) (v1868 : IVec S16 32) : Prop :=
  (∀ a x, ((![v1670, v1864, v1865, v1868] : Fin 4 → IVec S16 32) a x).toNat < S2x4x32x32.size a)
theorem k0_idx2226_inb : ∀ (v1670 : IVec S16 32) (v1864 : IVec S16 32) (v1865 : IVec S16 32) (v1868 : IVec S16 32) (k0_hw1682 : k0_chk1682 v1670 v1864 v1865 v1868), ∀ a x, ((![v1670, v1864, v1865, v1868] : Fin 4 → IVec S16 32) a x).toNat < S2x4x32x32.size a := fun v1670 v1864 v1865 v1868 k0_hw1682 => k0_hw1682

def k0_chk1683 (v33 : IVec S16 32) (v35 : IVec S16 32) (v1670 : IVec S16 32) (v1864 : IVec S16 32) (v1870 : IVec S16 32) : Prop :=
  (∀ a x, ((![v1670, v1864, v1870, v33] : Fin 4 → IVec S16 32) a x).toNat < S2x4x94x96.size a) ∧
  (∀ a x, ((![v1670, v1864, v1870, v35] : Fin 4 → IVec S16 32) a x).toNat < S2x4x94x96.size a)
theorem k0_idx2227_inb : ∀ (v33 : IVec S16 32) (v35 : IVec S16 32) (v1670 : IVec S16 32) (v1864 : IVec S16 32) (v1870 : IVec S16 32) (k0_hw1683 : k0_chk1683 v33 v35 v1670 v1864 v1870), ∀ a x, ((![v1670, v1864, v1870, v33] : Fin 4 → IVec S16 32) a x).toNat < S2x4x94x96.size a := fun v33 v35 v1670 v1864 v1870 k0_hw1683 => k0_hw1683.1
theorem k0_idx2228_inb : ∀ (v33 : IVec S16 32) (v35 : IVec S16 32) (v1670 : IVec S16 32) (v1864 : IVec S16 32) (v1870 : IVec S16 32) (k0_hw1683 : k0_chk1683 v33 v35 v1670 v1864 v1870), ∀ a x, ((![v1670, v1864, v1870, v35] : Fin 4 → IVec S16 32) a x).toNat < S2x4x94x96.size a := fun v33 v35 v1670 v1864 v1870 k0_hw1683 => k0_hw1683.2

def k0_chk1684 (v30 : IVec S16 32) (v1670 : IVec S16 32) (v1864 : IVec S16 32) (v1871 : IVec S16 32) : Prop :=
  (∀ a x, ((![v1670, v1864, v1871, v30] : Fin 4 → IVec S16 32) a x).toNat < S2x4x32x32.size a)
theorem k0_idx2229_inb : ∀ (v30 : IVec S16 32) (v1670 : IVec S16 32) (v1864 : IVec S16 32) (v1871 : IVec S16 32) (k0_hw1684 : k0_chk1684 v30 v1670 v1864 v1871), ∀ a x, ((![v1670, v1864, v1871, v30] : Fin 4 → IVec S16 32) a x).toNat < S2x4x32x32.size a := fun v30 v1670 v1864 v1871 k0_hw1684 => k0_hw1684

def k0_chk1685 (v1670 : IVec S16 32) (v1864 : IVec S16 32) (v1871 : IVec S16 32) (v1874 : IVec S16 32) : Prop :=
  (∀ a x, ((![v1670, v1864, v1871, v1874] : Fin 4 → IVec S16 32) a x).toNat < S2x4x32x32.size a)
theorem k0_idx2230_inb : ∀ (v1670 : IVec S16 32) (v1864 : IVec S16 32) (v1871 : IVec S16 32) (v1874 : IVec S16 32) (k0_hw1685 : k0_chk1685 v1670 v1864 v1871 v1874), ∀ a x, ((![v1670, v1864, v1871, v1874] : Fin 4 → IVec S16 32) a x).toNat < S2x4x32x32.size a := fun v1670 v1864 v1871 v1874 k0_hw1685 => k0_hw1685

def k0_chk1686 (v33 : IVec S16 32) (v35 : IVec S16 32) (v1670 : IVec S16 32) (v1864 : IVec S16 32) (v1876 : IVec S16 32) : Prop :=
  (∀ a x, ((![v1670, v1864, v1876, v33] : Fin 4 → IVec S16 32) a x).toNat < S2x4x94x96.size a) ∧
  (∀ a x, ((![v1670, v1864, v1876, v35] : Fin 4 → IVec S16 32) a x).toNat < S2x4x94x96.size a)
theorem k0_idx2231_inb : ∀ (v33 : IVec S16 32) (v35 : IVec S16 32) (v1670 : IVec S16 32) (v1864 : IVec S16 32) (v1876 : IVec S16 32) (k0_hw1686 : k0_chk1686 v33 v35 v1670 v1864 v1876), ∀ a x, ((![v1670, v1864, v1876, v33] : Fin 4 → IVec S16 32) a x).toNat < S2x4x94x96.size a := fun v33 v35 v1670 v1864 v1876 k0_hw1686 => k0_hw1686.1
theorem k0_idx2232_inb : ∀ (v33 : IVec S16 32) (v35 : IVec S16 32) (v1670 : IVec S16 32) (v1864 : IVec S16 32) (v1876 : IVec S16 32) (k0_hw1686 : k0_chk1686 v33 v35 v1670 v1864 v1876), ∀ a x, ((![v1670, v1864, v1876, v35] : Fin 4 → IVec S16 32) a x).toNat < S2x4x94x96.size a := fun v33 v35 v1670 v1864 v1876 k0_hw1686 => k0_hw1686.2

def k0_chk1687 (v30 : IVec S16 32) (v1670 : IVec S16 32) (v1864 : IVec S16 32) (v1877 : IVec S16 32) : Prop :=
  (∀ a x, ((![v1670, v1864, v1877, v30] : Fin 4 → IVec S16 32) a x).toNat < S2x4x32x32.size a)
theorem k0_idx2233_inb : ∀ (v30 : IVec S16 32) (v1670 : IVec S16 32) (v1864 : IVec S16 32) (v1877 : IVec S16 32) (k0_hw1687 : k0_chk1687 v30 v1670 v1864 v1877), ∀ a x, ((![v1670, v1864, v1877, v30] : Fin 4 → IVec S16 32) a x).toNat < S2x4x32x32.size a := fun v30 v1670 v1864 v1877 k0_hw1687 => k0_hw1687

def k0_chk1688 (v1670 : IVec S16 32) (v1864 : IVec S16 32) (v1877 : IVec S16 32) (v1880 : IVec S16 32) : Prop :=
  (∀ a x, ((![v1670, v1864, v1877, v1880] : Fin 4 → IVec S16 32) a x).toNat < S2x4x32x32.size a)
theorem k0_idx2234_inb : ∀ (v1670 : IVec S16 32) (v1864 : IVec S16 32) (v1877 : IVec S16 32) (v1880 : IVec S16 32) (k0_hw1688 : k0_chk1688 v1670 v1864 v1877 v1880), ∀ a x, ((![v1670, v1864, v1877, v1880] : Fin 4 → IVec S16 32) a x).toNat < S2x4x32x32.size a := fun v1670 v1864 v1877 v1880 k0_hw1688 => k0_hw1688

def k0_chk1689 (v33 : IVec S16 32) (v35 : IVec S16 32) (v1670 : IVec S16 32) (v1864 : IVec S16 32) (v1882 : IVec S16 32) : Prop :=
  (∀ a x, ((![v1670, v1864, v1882, v33] : Fin 4 → IVec S16 32) a x).toNat < S2x4x94x96.size a) ∧
  (∀ a x, ((![v1670, v1864, v1882, v35] : Fin 4 → IVec S16 32) a x).toNat < S2x4x94x96.size a)
theorem k0_idx2235_inb : ∀ (v33 : IVec S16 32) (v35 : IVec S16 32) (v1670 : IVec S16 32) (v1864 : IVec S16 32) (v1882 : IVec S16 32) (k0_hw1689 : k0_chk1689 v33 v35 v1670 v1864 v1882), ∀ a x, ((![v1670, v1864, v1882, v33] : Fin 4 → IVec S16 32) a x).toNat < S2x4x94x96.size a := fun v33 v35 v1670 v1864 v1882 k0_hw1689 => k0_hw1689.1
theorem k0_idx2236_inb : ∀ (v33 : IVec S16 32) (v35 : IVec S16 32) (v1670 : IVec S16 32) (v1864 : IVec S16 32) (v1882 : IVec S16 32) (k0_hw1689 : k0_chk1689 v33 v35 v1670 v1864 v1882), ∀ a x, ((![v1670, v1864, v1882, v35] : Fin 4 → IVec S16 32) a x).toNat < S2x4x94x96.size a := fun v33 v35 v1670 v1864 v1882 k0_hw1689 => k0_hw1689.2

def k0_chk1690 (v30 : IVec S16 32) (v1670 : IVec S16 32) (v1864 : IVec S16 32) (v1883 : IVec S16 32) : Prop :=
  (∀ a x, ((![v1670, v1864, v1883, v30] : Fin 4 → IVec S16 32) a x).toNat < S2x4x32x32.size a)
theorem k0_idx2237_inb : ∀ (v30 : IVec S16 32) (v1670 : IVec S16 32) (v1864 : IVec S16 32) (v1883 : IVec S16 32) (k0_hw1690 : k0_chk1690 v30 v1670 v1864 v1883), ∀ a x, ((![v1670, v1864, v1883, v30] : Fin 4 → IVec S16 32) a x).toNat < S2x4x32x32.size a := fun v30 v1670 v1864 v1883 k0_hw1690 => k0_hw1690

def k0_chk1691 (v1670 : IVec S16 32) (v1864 : IVec S16 32) (v1883 : IVec S16 32) (v1886 : IVec S16 32) : Prop :=
  (∀ a x, ((![v1670, v1864, v1883, v1886] : Fin 4 → IVec S16 32) a x).toNat < S2x4x32x32.size a)
theorem k0_idx2238_inb : ∀ (v1670 : IVec S16 32) (v1864 : IVec S16 32) (v1883 : IVec S16 32) (v1886 : IVec S16 32) (k0_hw1691 : k0_chk1691 v1670 v1864 v1883 v1886), ∀ a x, ((![v1670, v1864, v1883, v1886] : Fin 4 → IVec S16 32) a x).toNat < S2x4x32x32.size a := fun v1670 v1864 v1883 v1886 k0_hw1691 => k0_hw1691

def k0_chk1692 (v33 : IVec S16 32) (v35 : IVec S16 32) (v1670 : IVec S16 32) (v1864 : IVec S16 32) (v1888 : IVec S16 32) : Prop :=
  (∀ a x, ((![v1670, v1864, v1888, v33] : Fin 4 → IVec S16 32) a x).toNat < S2x4x94x96.size a) ∧
  (∀ a x, ((![v1670, v1864, v1888, v35] : Fin 4 → IVec S16 32) a x).toNat < S2x4x94x96.size a)
theorem k0_idx2239_inb : ∀ (v33 : IVec S16 32) (v35 : IVec S16 32) (v1670 : IVec S16 32) (v1864 : IVec S16 32) (v1888 : IVec S16 32) (k0_hw1692 : k0_chk1692 v33 v35 v1670 v1864 v1888), ∀ a x, ((![v1670, v1864, v1888, v33] : Fin 4 → IVec S16 32) a x).toNat < S2x4x94x96.size a := fun v33 v35 v1670 v1864 v1888 k0_hw1692 => k0_hw1692.1
theorem k0_idx2240_inb : ∀ (v33 : IVec S16 32) (v35 : IVec S16 32) (v1670 : IVec S16 32) (v1864 : IVec S16 32) (v1888 : IVec S16 32) (k0_hw1692 : k0_chk1692 v33 v35 v1670 v1864 v1888), ∀ a x, ((![v1670, v1864, v1888, v35] : Fin 4 → IVec S16 32) a x).toNat < S2x4x94x96.size a := fun v33 v35 v1670 v1864 v1888 k0_hw1692 => k0_hw1692.2

def k0_chk1693 (v30 : IVec S16 32) (v1670 : IVec S16 32) (v1864 : IVec S16 32) (v1889 : IVec S16 32) : Prop :=
  (∀ a x, ((![v1670, v1864, v1889, v30] : Fin 4 → IVec S16 32) a x).toNat < S2x4x32x32.size a)
theorem k0_idx2241_inb : ∀ (v30 : IVec S16 32) (v1670 : IVec S16 32) (v1864 : IVec S16 32) (v1889 : IVec S16 32) (k0_hw1693 : k0_chk1693 v30 v1670 v1864 v1889), ∀ a x, ((![v1670, v1864, v1889, v30] : Fin 4 → IVec S16 32) a x).toNat < S2x4x32x32.size a := fun v30 v1670 v1864 v1889 k0_hw1693 => k0_hw1693

def k0_chk1694 (v1670 : IVec S16 32) (v1864 : IVec S16 32) (v1889 : IVec S16 32) (v1892 : IVec S16 32) : Prop :=
  (∀ a x, ((![v1670, v1864, v1889, v1892] : Fin 4 → IVec S16 32) a x).toNat < S2x4x32x32.size a)
theorem k0_idx2242_inb : ∀ (v1670 : IVec S16 32) (v1864 : IVec S16 32) (v1889 : IVec S16 32) (v1892 : IVec S16 32) (k0_hw1694 : k0_chk1694 v1670 v1864 v1889 v1892), ∀ a x, ((![v1670, v1864, v1889, v1892] : Fin 4 → IVec S16 32) a x).toNat < S2x4x32x32.size a := fun v1670 v1864 v1889 v1892 k0_hw1694 => k0_hw1694

def k0_chk1695 (v33 : IVec S16 32) (v35 : IVec S16 32) (v1670 : IVec S16 32) (v1864 : IVec S16 32) (v1894 : IVec S16 32) : Prop :=
  (∀ a x, ((![v1670, v1864, v1894, v33] : Fin 4 → IVec S16 32) a x).toNat < S2x4x94x96.size a) ∧
  (∀ a x, ((![v1670, v1864, v1894, v35] : Fin 4 → IVec S16 32) a x).toNat < S2x4x94x96.size a)
theorem k0_idx2243_inb : ∀ (v33 : IVec S16 32) (v35 : IVec S16 32) (v1670 : IVec S16 32) (v1864 : IVec S16 32) (v1894 : IVec S16 32) (k0_hw1695 : k0_chk1695 v33 v35 v1670 v1864 v1894), ∀ a x, ((![v1670, v1864, v1894, v33] : Fin 4 → IVec S16 32) a x).toNat < S2x4x94x96.size a := fun v33 v35 v1670 v1864 v1894 k0_hw1695 => k0_hw1695.1
theorem k0_idx2244_inb : ∀ (v33 : IVec S16 32) (v35 : IVec S16 32) (v1670 : IVec S16 32) (v1864 : IVec S16 32) (v1894 : IVec S16 32) (k0_hw1695 : k0_chk1695 v33 v35 v1670 v1864 v1894), ∀ a x, ((![v1670, v1864, v1894, v35] : Fin 4 → IVec S16 32) a x).toNat < S2x4x94x96.size a := fun v33 v35 v1670 v1864 v1894 k0_hw1695 => k0_hw1695.2

def k0_chk1696 (v30 : IVec S16 32) (v1670 : IVec S16 32) (v1864 : IVec S16 32) (v1895 : IVec S16 32) : Prop :=
  (∀ a x, ((![v1670, v1864, v1895, v30] : Fin 4 → IVec S16 32) a x).toNat < S2x4x32x32.size a)
theorem k0_idx2245_inb : ∀ (v30 : IVec S16 32) (v1670 : IVec S16 32) (v1864 : IVec S16 32) (v1895 : IVec S16 32) (k0_hw1696 : k0_chk1696 v30 v1670 v1864 v1895), ∀ a x, ((![v1670, v1864, v1895, v30] : Fin 4 → IVec S16 32) a x).toNat < S2x4x32x32.size a := fun v30 v1670 v1864 v1895 k0_hw1696 => k0_hw1696

def k0_chk1697 (v1670 : IVec S16 32) (v1864 : IVec S16 32) (v1895 : IVec S16 32) (v1898 : IVec S16 32) : Prop :=
  (∀ a x, ((![v1670, v1864, v1895, v1898] : Fin 4 → IVec S16 32) a x).toNat < S2x4x32x32.size a)
theorem k0_idx2246_inb : ∀ (v1670 : IVec S16 32) (v1864 : IVec S16 32) (v1895 : IVec S16 32) (v1898 : IVec S16 32) (k0_hw1697 : k0_chk1697 v1670 v1864 v1895 v1898), ∀ a x, ((![v1670, v1864, v1895, v1898] : Fin 4 → IVec S16 32) a x).toNat < S2x4x32x32.size a := fun v1670 v1864 v1895 v1898 k0_hw1697 => k0_hw1697

def k0_chk1698 (v33 : IVec S16 32) (v35 : IVec S16 32) (v1670 : IVec S16 32) (v1864 : IVec S16 32) (v1900 : IVec S16 32) : Prop :=
  (∀ a x, ((![v1670, v1864, v1900, v33] : Fin 4 → IVec S16 32) a x).toNat < S2x4x94x96.size a) ∧
  (∀ a x, ((![v1670, v1864, v1900, v35] : Fin 4 → IVec S16 32) a x).toNat < S2x4x94x96.size a)
theorem k0_idx2247_inb : ∀ (v33 : IVec S16 32) (v35 : IVec S16 32) (v1670 : IVec S16 32) (v1864 : IVec S16 32) (v1900 : IVec S16 32) (k0_hw1698 : k0_chk1698 v33 v35 v1670 v1864 v1900), ∀ a x, ((![v1670, v1864, v1900, v33] : Fin 4 → IVec S16 32) a x).toNat < S2x4x94x96.size a := fun v33 v35 v1670 v1864 v1900 k0_hw1698 => k0_hw1698.1
theorem k0_idx2248_inb : ∀ (v33 : IVec S16 32) (v35 : IVec S16 32) (v1670 : IVec S16 32) (v1864 : IVec S16 32) (v1900 : IVec S16 32) (k0_hw1698 : k0_chk1698 v33 v35 v1670 v1864 v1900), ∀ a x, ((![v1670, v1864, v1900, v35] : Fin 4 → IVec S16 32) a x).toNat < S2x4x94x96.size a := fun v33 v35 v1670 v1864 v1900 k0_hw1698 => k0_hw1698.2

def k0_chk1699 (v30 : IVec S16 32) (v1670 : IVec S16 32) (v1864 : IVec S16 32) (v1901 : IVec S16 32) : Prop :=
  (∀ a x, ((![v1670, v1864, v1901, v30] : Fin 4 → IVec S16 32) a x).toNat < S2x4x32x32.size a)
theorem k0_idx2249_inb : ∀ (v30 : IVec S16 32) (v1670 : IVec S16 32) (v1864 : IVec S16 32) (v1901 : IVec S16 32) (k0_hw1699 : k0_chk1699 v30 v1670 v1864 v1901), ∀ a x, ((![v1670, v1864, v1901, v30] : Fin 4 → IVec S16 32) a x).toNat < S2x4x32x32.size a := fun v30 v1670 v1864 v1901 k0_hw1699 => k0_hw1699

def k0_chk1700 (v1670 : IVec S16 32) (v1864 : IVec S16 32) (v1901 : IVec S16 32) (v1904 : IVec S16 32) : Prop :=
  (∀ a x, ((![v1670, v1864, v1901, v1904] : Fin 4 → IVec S16 32) a x).toNat < S2x4x32x32.size a)
theorem k0_idx2250_inb : ∀ (v1670 : IVec S16 32) (v1864 : IVec S16 32) (v1901 : IVec S16 32) (v1904 : IVec S16 32) (k0_hw1700 : k0_chk1700 v1670 v1864 v1901 v1904), ∀ a x, ((![v1670, v1864, v1901, v1904] : Fin 4 → IVec S16 32) a x).toNat < S2x4x32x32.size a := fun v1670 v1864 v1901 v1904 k0_hw1700 => k0_hw1700

def k0_chk1701 (v33 : IVec S16 32) (v35 : IVec S16 32) (v1670 : IVec S16 32) (v1864 : IVec S16 32) (v1906 : IVec S16 32) : Prop :=
  (∀ a x, ((![v1670, v1864, v1906, v33] : Fin 4 → IVec S16 32) a x).toNat < S2x4x94x96.size a) ∧
  (∀ a x, ((![v1670, v1864, v1906, v35] : Fin 4 → IVec S16 32) a x).toNat < S2x4x94x96.size a)
theorem k0_idx2251_inb : ∀ (v33 : IVec S16 32) (v35 : IVec S16 32) (v1670 : IVec S16 32) (v1864 : IVec S16 32) (v1906 : IVec S16 32) (k0_hw1701 : k0_chk1701 v33 v35 v1670 v1864 v1906), ∀ a x, ((![v1670, v1864, v1906, v33] : Fin 4 → IVec S16 32) a x).toNat < S2x4x94x96.size a := fun v33 v35 v1670 v1864 v1906 k0_hw1701 => k0_hw1701.1
theorem k0_idx2252_inb : ∀ (v33 : IVec S16 32) (v35 : IVec S16 32) (v1670 : IVec S16 32) (v1864 : IVec S16 32) (v1906 : IVec S16 32) (k0_hw1701 : k0_chk1701 v33 v35 v1670 v1864 v1906), ∀ a x, ((![v1670, v1864, v1906, v35] : Fin 4 → IVec S16 32) a x).toNat < S2x4x94x96.size a := fun v33 v35 v1670 v1864 v1906 k0_hw1701 => k0_hw1701.2

def k0_chk1702 (v30 : IVec S16 32) (v1670 : IVec S16 32) (v1864 : IVec S16 32) (v1907 : IVec S16 32) : Prop :=
  (∀ a x, ((![v1670, v1864, v1907, v30] : Fin 4 → IVec S16 32) a x).toNat < S2x4x32x32.size a)
theorem k0_idx2253_inb : ∀ (v30 : IVec S16 32) (v1670 : IVec S16 32) (v1864 : IVec S16 32) (v1907 : IVec S16 32) (k0_hw1702 : k0_chk1702 v30 v1670 v1864 v1907), ∀ a x, ((![v1670, v1864, v1907, v30] : Fin 4 → IVec S16 32) a x).toNat < S2x4x32x32.size a := fun v30 v1670 v1864 v1907 k0_hw1702 => k0_hw1702

def k0_chk1703 (v1670 : IVec S16 32) (v1864 : IVec S16 32) (v1907 : IVec S16 32) (v1910 : IVec S16 32) : Prop :=
  (∀ a x, ((![v1670, v1864, v1907, v1910] : Fin 4 → IVec S16 32) a x).toNat < S2x4x32x32.size a)
theorem k0_idx2254_inb : ∀ (v1670 : IVec S16 32) (v1864 : IVec S16 32) (v1907 : IVec S16 32) (v1910 : IVec S16 32) (k0_hw1703 : k0_chk1703 v1670 v1864 v1907 v1910), ∀ a x, ((![v1670, v1864, v1907, v1910] : Fin 4 → IVec S16 32) a x).toNat < S2x4x32x32.size a := fun v1670 v1864 v1907 v1910 k0_hw1703 => k0_hw1703

def k0_chk1704 (v33 : IVec S16 32) (v35 : IVec S16 32) (v1670 : IVec S16 32) (v1864 : IVec S16 32) (v1912 : IVec S16 32) : Prop :=
  (∀ a x, ((![v1670, v1864, v1912, v33] : Fin 4 → IVec S16 32) a x).toNat < S2x4x94x96.size a) ∧
  (∀ a x, ((![v1670, v1864, v1912, v35] : Fin 4 → IVec S16 32) a x).toNat < S2x4x94x96.size a)
theorem k0_idx2255_inb : ∀ (v33 : IVec S16 32) (v35 : IVec S16 32) (v1670 : IVec S16 32) (v1864 : IVec S16 32) (v1912 : IVec S16 32) (k0_hw1704 : k0_chk1704 v33 v35 v1670 v1864 v1912), ∀ a x, ((![v1670, v1864, v1912, v33] : Fin 4 → IVec S16 32) a x).toNat < S2x4x94x96.size a := fun v33 v35 v1670 v1864 v1912 k0_hw1704 => k0_hw1704.1
theorem k0_idx2256_inb : ∀ (v33 : IVec S16 32) (v35 : IVec S16 32) (v1670 : IVec S16 32) (v1864 : IVec S16 32) (v1912 : IVec S16 32) (k0_hw1704 : k0_chk1704 v33 v35 v1670 v1864 v1912), ∀ a x, ((![v1670, v1864, v1912, v35] : Fin 4 → IVec S16 32) a x).toNat < S2x4x94x96.size a := fun v33 v35 v1670 v1864 v1912 k0_hw1704 => k0_hw1704.2

def k0_chk1705 (v30 : IVec S16 32) (v1670 : IVec S16 32) (v1864 : IVec S16 32) (v1913 : IVec S16 32) : Prop :=
  (∀ a x, ((![v1670, v1864, v1913, v30] : Fin 4 → IVec S16 32) a x).toNat < S2x4x32x32.size a)
theorem k0_idx2257_inb : ∀ (v30 : IVec S16 32) (v1670 : IVec S16 32) (v1864 : IVec S16 32) (v1913 : IVec S16 32) (k0_hw1705 : k0_chk1705 v30 v1670 v1864 v1913), ∀ a x, ((![v1670, v1864, v1913, v30] : Fin 4 → IVec S16 32) a x).toNat < S2x4x32x32.size a := fun v30 v1670 v1864 v1913 k0_hw1705 => k0_hw1705

def k0_chk1706 (v1670 : IVec S16 32) (v1864 : IVec S16 32) (v1913 : IVec S16 32) (v1916 : IVec S16 32) : Prop :=
  (∀ a x, ((![v1670, v1864, v1913, v1916] : Fin 4 → IVec S16 32) a x).toNat < S2x4x32x32.size a)
theorem k0_idx2258_inb : ∀ (v1670 : IVec S16 32) (v1864 : IVec S16 32) (v1913 : IVec S16 32) (v1916 : IVec S16 32) (k0_hw1706 : k0_chk1706 v1670 v1864 v1913 v1916), ∀ a x, ((![v1670, v1864, v1913, v1916] : Fin 4 → IVec S16 32) a x).toNat < S2x4x32x32.size a := fun v1670 v1864 v1913 v1916 k0_hw1706 => k0_hw1706

def k0_chk1707 (v33 : IVec S16 32) (v35 : IVec S16 32) (v1670 : IVec S16 32) (v1864 : IVec S16 32) (v1918 : IVec S16 32) : Prop :=
  (∀ a x, ((![v1670, v1864, v1918, v33] : Fin 4 → IVec S16 32) a x).toNat < S2x4x94x96.size a) ∧
  (∀ a x, ((![v1670, v1864, v1918, v35] : Fin 4 → IVec S16 32) a x).toNat < S2x4x94x96.size a)
theorem k0_idx2259_inb : ∀ (v33 : IVec S16 32) (v35 : IVec S16 32) (v1670 : IVec S16 32) (v1864 : IVec S16 32) (v1918 : IVec S16 32) (k0_hw1707 : k0_chk1707 v33 v35 v1670 v1864 v1918), ∀ a x, ((![v1670, v1864, v1918, v33] : Fin 4 → IVec S16 32) a x).toNat < S2x4x94x96.size a := fun v33 v35 v1670 v1864 v1918 k0_hw1707 => k0_hw1707.1
theorem k0_idx2260_inb : ∀ (v33 : IVec S16 32) (v35 : IVec S16 32) (v1670 : IVec S16 32) (v1864 : IVec S16 32) (v1918 : IVec S16 32) (k0_hw1707 : k0_chk1707 v33 v35 v1670 v1864 v1918), ∀ a x, ((![v1670, v1864, v1918, v35] : Fin 4 → IVec S16 32) a x).toNat < S2x4x94x96.size a := fun v33 v35 v1670 v1864 v1918 k0_hw1707 => k0_hw1707.2

def k0_chk1708 (v30 : IVec S16 32) (v1670 : IVec S16 32) (v1864 : IVec S16 32) (v1919 : IVec S16 32) : Prop :=
  (∀ a x, ((![v1670, v1864, v1919, v30] : Fin 4 → IVec S16 32) a x).toNat < S2x4x32x32.size a)
theorem k0_idx2261_inb : ∀ (v30 : IVec S16 32) (v1670 : IVec S16 32) (v1864 : IVec S16 32) (v1919 : IVec S16 32) (k0_hw1708 : k0_chk1708 v30 v1670 v1864 v1919), ∀ a x, ((![v1670, v1864, v1919, v30] : Fin 4 → IVec S16 32) a x).toNat < S2x4x32x32.size a := fun v30 v1670 v1864 v1919 k0_hw1708 => k0_hw1708

def k0_chk1709 (v1670 : IVec S16 32) (v1864 : IVec S16 32) (v1919 : IVec S16 32) (v1922 : IVec S16 32) : Prop :=
  (∀ a x, ((![v1670, v1864, v1919, v1922] : Fin 4 → IVec S16 32) a x).toNat < S2x4x32x32.size a)
theorem k0_idx2262_inb : ∀ (v1670 : IVec S16 32) (v1864 : IVec S16 32) (v1919 : IVec S16 32) (v1922 : IVec S16 32) (k0_hw1709 : k0_chk1709 v1670 v1864 v1919 v1922), ∀ a x, ((![v1670, v1864, v1919, v1922] : Fin 4 → IVec S16 32) a x).toNat < S2x4x32x32.size a := fun v1670 v1864 v1919 v1922 k0_hw1709 => k0_hw1709

def k0_chk1710 (v33 : IVec S16 32) (v35 : IVec S16 32) (v1670 : IVec S16 32) (v1864 : IVec S16 32) (v1924 : IVec S16 32) : Prop :=
  (∀ a x, ((![v1670, v1864, v1924, v33] : Fin 4 → IVec S16 32) a x).toNat < S2x4x94x96.size a) ∧
  (∀ a x, ((![v1670, v1864, v1924, v35] : Fin 4 → IVec S16 32) a x).toNat < S2x4x94x96.size a)
theorem k0_idx2263_inb : ∀ (v33 : IVec S16 32) (v35 : IVec S16 32) (v1670 : IVec S16 32) (v1864 : IVec S16 32) (v1924 : IVec S16 32) (k0_hw1710 : k0_chk1710 v33 v35 v1670 v1864 v1924), ∀ a x, ((![v1670, v1864, v1924, v33] : Fin 4 → IVec S16 32) a x).toNat < S2x4x94x96.size a := fun v33 v35 v1670 v1864 v1924 k0_hw1710 => k0_hw1710.1
theorem k0_idx2264_inb : ∀ (v33 : IVec S16 32) (v35 : IVec S16 32) (v1670 : IVec S16 32) (v1864 : IVec S16 32) (v1924 : IVec S16 32) (k0_hw1710 : k0_chk1710 v33 v35 v1670 v1864 v1924), ∀ a x, ((![v1670, v1864, v1924, v35] : Fin 4 → IVec S16 32) a x).toNat < S2x4x94x96.size a := fun v33 v35 v1670 v1864 v1924 k0_hw1710 => k0_hw1710.2

def k0_chk1711 (v30 : IVec S16 32) (v1670 : IVec S16 32) (v1864 : IVec S16 32) (v1925 : IVec S16 32) : Prop :=
  (∀ a x, ((![v1670, v1864, v1925, v30] : Fin 4 → IVec S16 32) a x).toNat < S2x4x32x32.size a)
theorem k0_idx2265_inb : ∀ (v30 : IVec S16 32) (v1670 : IVec S16 32) (v1864 : IVec S16 32) (v1925 : IVec S16 32) (k0_hw1711 : k0_chk1711 v30 v1670 v1864 v1925), ∀ a x, ((![v1670, v1864, v1925, v30] : Fin 4 → IVec S16 32) a x).toNat < S2x4x32x32.size a := fun v30 v1670 v1864 v1925 k0_hw1711 => k0_hw1711

def k0_chk1712 (v1670 : IVec S16 32) (v1864 : IVec S16 32) (v1925 : IVec S16 32) (v1928 : IVec S16 32) : Prop :=
  (∀ a x, ((![v1670, v1864, v1925, v1928] : Fin 4 → IVec S16 32) a x).toNat < S2x4x32x32.size a)
theorem k0_idx2266_inb : ∀ (v1670 : IVec S16 32) (v1864 : IVec S16 32) (v1925 : IVec S16 32) (v1928 : IVec S16 32) (k0_hw1712 : k0_chk1712 v1670 v1864 v1925 v1928), ∀ a x, ((![v1670, v1864, v1925, v1928] : Fin 4 → IVec S16 32) a x).toNat < S2x4x32x32.size a := fun v1670 v1864 v1925 v1928 k0_hw1712 => k0_hw1712

def k0_chk1713 (v33 : IVec S16 32) (v35 : IVec S16 32) (v1670 : IVec S16 32) (v1864 : IVec S16 32) (v1930 : IVec S16 32) : Prop :=
  (∀ a x, ((![v1670, v1864, v1930, v33] : Fin 4 → IVec S16 32) a x).toNat < S2x4x94x96.size a) ∧
  (∀ a x, ((![v1670, v1864, v1930, v35] : Fin 4 → IVec S16 32) a x).toNat < S2x4x94x96.size a)
theorem k0_idx2267_inb : ∀ (v33 : IVec S16 32) (v35 : IVec S16 32) (v1670 : IVec S16 32) (v1864 : IVec S16 32) (v1930 : IVec S16 32) (k0_hw1713 : k0_chk1713 v33 v35 v1670 v1864 v1930), ∀ a x, ((![v1670, v1864, v1930, v33] : Fin 4 → IVec S16 32) a x).toNat < S2x4x94x96.size a := fun v33 v35 v1670 v1864 v1930 k0_hw1713 => k0_hw1713.1
theorem k0_idx2268_inb : ∀ (v33 : IVec S16 32) (v35 : IVec S16 32) (v1670 : IVec S16 32) (v1864 : IVec S16 32) (v1930 : IVec S16 32) (k0_hw1713 : k0_chk1713 v33 v35 v1670 v1864 v1930), ∀ a x, ((![v1670, v1864, v1930, v35] : Fin 4 → IVec S16 32) a x).toNat < S2x4x94x96.size a := fun v33 v35 v1670 v1864 v1930 k0_hw1713 => k0_hw1713.2

def k0_chk1714 (v30 : IVec S16 32) (v1670 : IVec S16 32) (v1864 : IVec S16 32) (v1931 : IVec S16 32) : Prop :=
  (∀ a x, ((![v1670, v1864, v1931, v30] : Fin 4 → IVec S16 32) a x).toNat < S2x4x32x32.size a)
theorem k0_idx2269_inb : ∀ (v30 : IVec S16 32) (v1670 : IVec S16 32) (v1864 : IVec S16 32) (v1931 : IVec S16 32) (k0_hw1714 : k0_chk1714 v30 v1670 v1864 v1931), ∀ a x, ((![v1670, v1864, v1931, v30] : Fin 4 → IVec S16 32) a x).toNat < S2x4x32x32.size a := fun v30 v1670 v1864 v1931 k0_hw1714 => k0_hw1714

def k0_chk1715 (v1670 : IVec S16 32) (v1864 : IVec S16 32) (v1931 : IVec S16 32) (v1934 : IVec S16 32) : Prop :=
  (∀ a x, ((![v1670, v1864, v1931, v1934] : Fin 4 → IVec S16 32) a x).toNat < S2x4x32x32.size a)
theorem k0_idx2270_inb : ∀ (v1670 : IVec S16 32) (v1864 : IVec S16 32) (v1931 : IVec S16 32) (v1934 : IVec S16 32) (k0_hw1715 : k0_chk1715 v1670 v1864 v1931 v1934), ∀ a x, ((![v1670, v1864, v1931, v1934] : Fin 4 → IVec S16 32) a x).toNat < S2x4x32x32.size a := fun v1670 v1864 v1931 v1934 k0_hw1715 => k0_hw1715

def k0_chk1716 (v33 : IVec S16 32) (v35 : IVec S16 32) (v1670 : IVec S16 32) (v1864 : IVec S16 32) (v1936 : IVec S16 32) : Prop :=
  (∀ a x, ((![v1670, v1864, v1936, v33] : Fin 4 → IVec S16 32) a x).toNat < S2x4x94x96.size a) ∧
  (∀ a x, ((![v1670, v1864, v1936, v35] : Fin 4 → IVec S16 32) a x).toNat < S2x4x94x96.size a)
theorem k0_idx2271_inb : ∀ (v33 : IVec S16 32) (v35 : IVec S16 32) (v1670 : IVec S16 32) (v1864 : IVec S16 32) (v1936 : IVec S16 32) (k0_hw1716 : k0_chk1716 v33 v35 v1670 v1864 v1936), ∀ a x, ((![v1670, v1864, v1936, v33] : Fin 4 → IVec S16 32) a x).toNat < S2x4x94x96.size a := fun v33 v35 v1670 v1864 v1936 k0_hw1716 => k0_hw1716.1
theorem k0_idx2272_inb : ∀ (v33 : IVec S16 32) (v35 : IVec S16 32) (v1670 : IVec S16 32) (v1864 : IVec S16 32) (v1936 : IVec S16 32) (k0_hw1716 : k0_chk1716 v33 v35 v1670 v1864 v1936), ∀ a x, ((![v1670, v1864, v1936, v35] : Fin 4 → IVec S16 32) a x).toNat < S2x4x94x96.size a := fun v33 v35 v1670 v1864 v1936 k0_hw1716 => k0_hw1716.2

def k0_chk1717 (v30 : IVec S16 32) (v1670 : IVec S16 32) (v1864 : IVec S16 32) (v1937 : IVec S16 32) : Prop :=
  (∀ a x, ((![v1670, v1864, v1937, v30] : Fin 4 → IVec S16 32) a x).toNat < S2x4x32x32.size a)
theorem k0_idx2273_inb : ∀ (v30 : IVec S16 32) (v1670 : IVec S16 32) (v1864 : IVec S16 32) (v1937 : IVec S16 32) (k0_hw1717 : k0_chk1717 v30 v1670 v1864 v1937), ∀ a x, ((![v1670, v1864, v1937, v30] : Fin 4 → IVec S16 32) a x).toNat < S2x4x32x32.size a := fun v30 v1670 v1864 v1937 k0_hw1717 => k0_hw1717

def k0_chk1718 (v1670 : IVec S16 32) (v1864 : IVec S16 32) (v1937 : IVec S16 32) (v1940 : IVec S16 32) : Prop :=
  (∀ a x, ((![v1670, v1864, v1937, v1940] : Fin 4 → IVec S16 32) a x).toNat < S2x4x32x32.size a)
theorem k0_idx2274_inb : ∀ (v1670 : IVec S16 32) (v1864 : IVec S16 32) (v1937 : IVec S16 32) (v1940 : IVec S16 32) (k0_hw1718 : k0_chk1718 v1670 v1864 v1937 v1940), ∀ a x, ((![v1670, v1864, v1937, v1940] : Fin 4 → IVec S16 32) a x).toNat < S2x4x32x32.size a := fun v1670 v1864 v1937 v1940 k0_hw1718 => k0_hw1718

def k0_chk1719 (v33 : IVec S16 32) (v35 : IVec S16 32) (v1670 : IVec S16 32) (v1864 : IVec S16 32) (v1942 : IVec S16 32) : Prop :=
  (∀ a x, ((![v1670, v1864, v1942, v33] : Fin 4 → IVec S16 32) a x).toNat < S2x4x94x96.size a) ∧
  (∀ a x, ((![v1670, v1864, v1942, v35] : Fin 4 → IVec S16 32) a x).toNat < S2x4x94x96.size a)
theorem k0_idx2275_inb : ∀ (v33 : IVec S16 32) (v35 : IVec S16 32) (v1670 : IVec S16 32) (v1864 : IVec S16 32) (v1942 : IVec S16 32) (k0_hw1719 : k0_chk1719 v33 v35 v1670 v1864 v1942), ∀ a x, ((![v1670, v1864, v1942, v33] : Fin 4 → IVec S16 32) a x).toNat < S2x4x94x96.size a := fun v33 v35 v1670 v1864 v1942 k0_hw1719 => k0_hw1719.1
theorem k0_idx2276_inb : ∀ (v33 : IVec S16 32) (v35 : IVec S16 32) (v1670 : IVec S16 32) (v1864 : IVec S16 32) (v1942 : IVec S16 32) (k0_hw1719 : k0_chk1719 v33 v35 v1670 v1864 v1942), ∀ a x, ((![v1670, v1864, v1942, v35] : Fin 4 → IVec S16 32) a x).toNat < S2x4x94x96.size a := fun v33 v35 v1670 v1864 v1942 k0_hw1719 => k0_hw1719.2

def k0_chk1720 (v30 : IVec S16 32) (v1670 : IVec S16 32) (v1864 : IVec S16 32) (v1943 : IVec S16 32) : Prop :=
  (∀ a x, ((![v1670, v1864, v1943, v30] : Fin 4 → IVec S16 32) a x).toNat < S2x4x32x32.size a)
theorem k0_idx2277_inb : ∀ (v30 : IVec S16 32) (v1670 : IVec S16 32) (v1864 : IVec S16 32) (v1943 : IVec S16 32) (k0_hw1720 : k0_chk1720 v30 v1670 v1864 v1943), ∀ a x, ((![v1670, v1864, v1943, v30] : Fin 4 → IVec S16 32) a x).toNat < S2x4x32x32.size a := fun v30 v1670 v1864 v1943 k0_hw1720 => k0_hw1720

def k0_chk1721 (v1670 : IVec S16 32) (v1864 : IVec S16 32) (v1943 : IVec S16 32) (v1946 : IVec S16 32) : Prop :=
  (∀ a x, ((![v1670, v1864, v1943, v1946] : Fin 4 → IVec S16 32) a x).toNat < S2x4x32x32.size a)
theorem k0_idx2278_inb : ∀ (v1670 : IVec S16 32) (v1864 : IVec S16 32) (v1943 : IVec S16 32) (v1946 : IVec S16 32) (k0_hw1721 : k0_chk1721 v1670 v1864 v1943 v1946), ∀ a x, ((![v1670, v1864, v1943, v1946] : Fin 4 → IVec S16 32) a x).toNat < S2x4x32x32.size a := fun v1670 v1864 v1943 v1946 k0_hw1721 => k0_hw1721

def k0_chk1722 (v33 : IVec S16 32) (v35 : IVec S16 32) (v1670 : IVec S16 32) (v1864 : IVec S16 32) (v1948 : IVec S16 32) : Prop :=
  (∀ a x, ((![v1670, v1864, v1948, v33] : Fin 4 → IVec S16 32) a x).toNat < S2x4x94x96.size a) ∧
  (∀ a x, ((![v1670, v1864, v1948, v35] : Fin 4 → IVec S16 32) a x).toNat < S2x4x94x96.size a)
theorem k0_idx2279_inb : ∀ (v33 : IVec S16 32) (v35 : IVec S16 32) (v1670 : IVec S16 32) (v1864 : IVec S16 32) (v1948 : IVec S16 32) (k0_hw1722 : k0_chk1722 v33 v35 v1670 v1864 v1948), ∀ a x, ((![v1670, v1864, v1948, v33] : Fin 4 → IVec S16 32) a x).toNat < S2x4x94x96.size a := fun v33 v35 v1670 v1864 v1948 k0_hw1722 => k0_hw1722.1
theorem k0_idx2280_inb : ∀ (v33 : IVec S16 32) (v35 : IVec S16 32) (v1670 : IVec S16 32) (v1864 : IVec S16 32) (v1948 : IVec S16 32) (k0_hw1722 : k0_chk1722 v33 v35 v1670 v1864 v1948), ∀ a x, ((![v1670, v1864, v1948, v35] : Fin 4 → IVec S16 32) a x).toNat < S2x4x94x96.size a := fun v33 v35 v1670 v1864 v1948 k0_hw1722 => k0_hw1722.2

def k0_chk1723 (v30 : IVec S16 32) (v1670 : IVec S16 32) (v1864 : IVec S16 32) (v1949 : IVec S16 32) : Prop :=
  (∀ a x, ((![v1670, v1864, v1949, v30] : Fin 4 → IVec S16 32) a x).toNat < S2x4x32x32.size a)
theorem k0_idx2281_inb : ∀ (v30 : IVec S16 32) (v1670 : IVec S16 32) (v1864 : IVec S16 32) (v1949 : IVec S16 32) (k0_hw1723 : k0_chk1723 v30 v1670 v1864 v1949), ∀ a x, ((![v1670, v1864, v1949, v30] : Fin 4 → IVec S16 32) a x).toNat < S2x4x32x32.size a := fun v30 v1670 v1864 v1949 k0_hw1723 => k0_hw1723

def k0_chk1724 (v1670 : IVec S16 32) (v1864 : IVec S16 32) (v1949 : IVec S16 32) (v1952 : IVec S16 32) : Prop :=
  (∀ a x, ((![v1670, v1864, v1949, v1952] : Fin 4 → IVec S16 32) a x).toNat < S2x4x32x32.size a)
theorem k0_idx2282_inb : ∀ (v1670 : IVec S16 32) (v1864 : IVec S16 32) (v1949 : IVec S16 32) (v1952 : IVec S16 32) (k0_hw1724 : k0_chk1724 v1670 v1864 v1949 v1952), ∀ a x, ((![v1670, v1864, v1949, v1952] : Fin 4 → IVec S16 32) a x).toNat < S2x4x32x32.size a := fun v1670 v1864 v1949 v1952 k0_hw1724 => k0_hw1724

def k0_chk1725 (v33 : IVec S16 32) (v35 : IVec S16 32) (v1670 : IVec S16 32) (v1864 : IVec S16 32) (v1954 : IVec S16 32) : Prop :=
  (∀ a x, ((![v1670, v1864, v1954, v33] : Fin 4 → IVec S16 32) a x).toNat < S2x4x94x96.size a) ∧
  (∀ a x, ((![v1670, v1864, v1954, v35] : Fin 4 → IVec S16 32) a x).toNat < S2x4x94x96.size a)
theorem k0_idx2283_inb : ∀ (v33 : IVec S16 32) (v35 : IVec S16 32) (v1670 : IVec S16 32) (v1864 : IVec S16 32) (v1954 : IVec S16 32) (k0_hw1725 : k0_chk1725 v33 v35 v1670 v1864 v1954), ∀ a x, ((![v1670, v1864, v1954, v33] : Fin 4 → IVec S16 32) a x).toNat < S2x4x94x96.size a := fun v33 v35 v1670 v1864 v1954 k0_hw1725 => k0_hw1725.1
theorem k0_idx2284_inb : ∀ (v33 : IVec S16 32) (v35 : IVec S16 32) (v1670 : IVec S16 32) (v1864 : IVec S16 32) (v1954 : IVec S16 32) (k0_hw1725 : k0_chk1725 v33 v35 v1670 v1864 v1954), ∀ a x, ((![v1670, v1864, v1954, v35] : Fin 4 → IVec S16 32) a x).toNat < S2x4x94x96.size a := fun v33 v35 v1670 v1864 v1954 k0_hw1725 => k0_hw1725.2

def k0_chk1726 (v30 : IVec S16 32) (v1670 : IVec S16 32) (v1864 : IVec S16 32) (v1955 : IVec S16 32) : Prop :=
  (∀ a x, ((![v1670, v1864, v1955, v30] : Fin 4 → IVec S16 32) a x).toNat < S2x4x32x32.size a)
theorem k0_idx2285_inb : ∀ (v30 : IVec S16 32) (v1670 : IVec S16 32) (v1864 : IVec S16 32) (v1955 : IVec S16 32) (k0_hw1726 : k0_chk1726 v30 v1670 v1864 v1955), ∀ a x, ((![v1670, v1864, v1955, v30] : Fin 4 → IVec S16 32) a x).toNat < S2x4x32x32.size a := fun v30 v1670 v1864 v1955 k0_hw1726 => k0_hw1726

def k0_chk1727 (v1670 : IVec S16 32) (v1864 : IVec S16 32) (v1955 : IVec S16 32) (v1958 : IVec S16 32) : Prop :=
  (∀ a x, ((![v1670, v1864, v1955, v1958] : Fin 4 → IVec S16 32) a x).toNat < S2x4x32x32.size a)
theorem k0_idx2286_inb : ∀ (v1670 : IVec S16 32) (v1864 : IVec S16 32) (v1955 : IVec S16 32) (v1958 : IVec S16 32) (k0_hw1727 : k0_chk1727 v1670 v1864 v1955 v1958), ∀ a x, ((![v1670, v1864, v1955, v1958] : Fin 4 → IVec S16 32) a x).toNat < S2x4x32x32.size a := fun v1670 v1864 v1955 v1958 k0_hw1727 => k0_hw1727

def k0_chk1728 (v33 : IVec S16 32) (v35 : IVec S16 32) (v1670 : IVec S16 32) (v1864 : IVec S16 32) (v1960 : IVec S16 32) : Prop :=
  (∀ a x, ((![v1670, v1864, v1960, v33] : Fin 4 → IVec S16 32) a x).toNat < S2x4x94x96.size a) ∧
  (∀ a x, ((![v1670, v1864, v1960, v35] : Fin 4 → IVec S16 32) a x).toNat < S2x4x94x96.size a)
theorem k0_idx2287_inb : ∀ (v33 : IVec S16 32) (v35 : IVec S16 32) (v1670 : IVec S16 32) (v1864 : IVec S16 32) (v1960 : IVec S16 32) (k0_hw1728 : k0_chk1728 v33 v35 v1670 v1864 v1960), ∀ a x, ((![v1670, v1864, v1960, v33] : Fin 4 → IVec S16 32) a x).toNat < S2x4x94x96.size a := fun v33 v35 v1670 v1864 v1960 k0_hw1728 => k0_hw1728.1
theorem k0_idx2288_inb : ∀ (v33 : IVec S16 32) (v35 : IVec S16 32) (v1670 : IVec S16 32) (v1864 : IVec S16 32) (v1960 : IVec S16 32) (k0_hw1728 : k0_chk1728 v33 v35 v1670 v1864 v1960), ∀ a x, ((![v1670, v1864, v1960, v35] : Fin 4 → IVec S16 32) a x).toNat < S2x4x94x96.size a := fun v33 v35 v1670 v1864 v1960 k0_hw1728 => k0_hw1728.2

def k0_chk1729 (v30 : IVec S16 32) (v1670 : IVec S16 32) (v1864 : IVec S16 32) (v1961 : IVec S16 32) : Prop :=
  (∀ a x, ((![v1670, v1864, v1961, v30] : Fin 4 → IVec S16 32) a x).toNat < S2x4x32x32.size a)
theorem k0_idx2289_inb : ∀ (v30 : IVec S16 32) (v1670 : IVec S16 32) (v1864 : IVec S16 32) (v1961 : IVec S16 32) (k0_hw1729 : k0_chk1729 v30 v1670 v1864 v1961), ∀ a x, ((![v1670, v1864, v1961, v30] : Fin 4 → IVec S16 32) a x).toNat < S2x4x32x32.size a := fun v30 v1670 v1864 v1961 k0_hw1729 => k0_hw1729

def k0_chk1730 (v1670 : IVec S16 32) (v1864 : IVec S16 32) (v1961 : IVec S16 32) (v1964 : IVec S16 32) : Prop :=
  (∀ a x, ((![v1670, v1864, v1961, v1964] : Fin 4 → IVec S16 32) a x).toNat < S2x4x32x32.size a)
theorem k0_idx2290_inb : ∀ (v1670 : IVec S16 32) (v1864 : IVec S16 32) (v1961 : IVec S16 32) (v1964 : IVec S16 32) (k0_hw1730 : k0_chk1730 v1670 v1864 v1961 v1964), ∀ a x, ((![v1670, v1864, v1961, v1964] : Fin 4 → IVec S16 32) a x).toNat < S2x4x32x32.size a := fun v1670 v1864 v1961 v1964 k0_hw1730 => k0_hw1730

def k0_chk1731 (v33 : IVec S16 32) (v35 : IVec S16 32) (v1670 : IVec S16 32) (v1864 : IVec S16 32) (v1966 : IVec S16 32) : Prop :=
  (∀ a x, ((![v1670, v1864, v1966, v33] : Fin 4 → IVec S16 32) a x).toNat < S2x4x94x96.size a) ∧
  (∀ a x, ((![v1670, v1864, v1966, v35] : Fin 4 → IVec S16 32) a x).toNat < S2x4x94x96.size a)
theorem k0_idx2291_inb : ∀ (v33 : IVec S16 32) (v35 : IVec S16 32) (v1670 : IVec S16 32) (v1864 : IVec S16 32) (v1966 : IVec S16 32) (k0_hw1731 : k0_chk1731 v33 v35 v1670 v1864 v1966), ∀ a x, ((![v1670, v1864, v1966, v33] : Fin 4 → IVec S16 32) a x).toNat < S2x4x94x96.size a := fun v33 v35 v1670 v1864 v1966 k0_hw1731 => k0_hw1731.1
theorem k0_idx2292_inb : ∀ (v33 : IVec S16 32) (v35 : IVec S16 32) (v1670 : IVec S16 32) (v1864 : IVec S16 32) (v1966 : IVec S16 32) (k0_hw1731 : k0_chk1731 v33 v35 v1670 v1864 v1966), ∀ a x, ((![v1670, v1864, v1966, v35] : Fin 4 → IVec S16 32) a x).toNat < S2x4x94x96.size a := fun v33 v35 v1670 v1864 v1966 k0_hw1731 => k0_hw1731.2

def k0_chk1732 (v30 : IVec S16 32) (v1670 : IVec S16 32) (v1864 : IVec S16 32) (v1967 : IVec S16 32) : Prop :=
  (∀ a x, ((![v1670, v1864, v1967, v30] : Fin 4 → IVec S16 32) a x).toNat < S2x4x32x32.size a)
theorem k0_idx2293_inb : ∀ (v30 : IVec S16 32) (v1670 : IVec S16 32) (v1864 : IVec S16 32) (v1967 : IVec S16 32) (k0_hw1732 : k0_chk1732 v30 v1670 v1864 v1967), ∀ a x, ((![v1670, v1864, v1967, v30] : Fin 4 → IVec S16 32) a x).toNat < S2x4x32x32.size a := fun v30 v1670 v1864 v1967 k0_hw1732 => k0_hw1732

def k0_chk1733 (v1670 : IVec S16 32) (v1864 : IVec S16 32) (v1967 : IVec S16 32) (v1970 : IVec S16 32) : Prop :=
  (∀ a x, ((![v1670, v1864, v1967, v1970] : Fin 4 → IVec S16 32) a x).toNat < S2x4x32x32.size a)
theorem k0_idx2294_inb : ∀ (v1670 : IVec S16 32) (v1864 : IVec S16 32) (v1967 : IVec S16 32) (v1970 : IVec S16 32) (k0_hw1733 : k0_chk1733 v1670 v1864 v1967 v1970), ∀ a x, ((![v1670, v1864, v1967, v1970] : Fin 4 → IVec S16 32) a x).toNat < S2x4x32x32.size a := fun v1670 v1864 v1967 v1970 k0_hw1733 => k0_hw1733

def k0_chk1734 (v33 : IVec S16 32) (v35 : IVec S16 32) (v1670 : IVec S16 32) (v1864 : IVec S16 32) (v1972 : IVec S16 32) : Prop :=
  (∀ a x, ((![v1670, v1864, v1972, v33] : Fin 4 → IVec S16 32) a x).toNat < S2x4x94x96.size a) ∧
  (∀ a x, ((![v1670, v1864, v1972, v35] : Fin 4 → IVec S16 32) a x).toNat < S2x4x94x96.size a)
theorem k0_idx2295_inb : ∀ (v33 : IVec S16 32) (v35 : IVec S16 32) (v1670 : IVec S16 32) (v1864 : IVec S16 32) (v1972 : IVec S16 32) (k0_hw1734 : k0_chk1734 v33 v35 v1670 v1864 v1972), ∀ a x, ((![v1670, v1864, v1972, v33] : Fin 4 → IVec S16 32) a x).toNat < S2x4x94x96.size a := fun v33 v35 v1670 v1864 v1972 k0_hw1734 => k0_hw1734.1
theorem k0_idx2296_inb : ∀ (v33 : IVec S16 32) (v35 : IVec S16 32) (v1670 : IVec S16 32) (v1864 : IVec S16 32) (v1972 : IVec S16 32) (k0_hw1734 : k0_chk1734 v33 v35 v1670 v1864 v1972), ∀ a x, ((![v1670, v1864, v1972, v35] : Fin 4 → IVec S16 32) a x).toNat < S2x4x94x96.size a := fun v33 v35 v1670 v1864 v1972 k0_hw1734 => k0_hw1734.2

def k0_chk1735 (v30 : IVec S16 32) (v1670 : IVec S16 32) (v1864 : IVec S16 32) (v1973 : IVec S16 32) : Prop :=
  (∀ a x, ((![v1670, v1864, v1973, v30] : Fin 4 → IVec S16 32) a x).toNat < S2x4x32x32.size a)
theorem k0_idx2297_inb : ∀ (v30 : IVec S16 32) (v1670 : IVec S16 32) (v1864 : IVec S16 32) (v1973 : IVec S16 32) (k0_hw1735 : k0_chk1735 v30 v1670 v1864 v1973), ∀ a x, ((![v1670, v1864, v1973, v30] : Fin 4 → IVec S16 32) a x).toNat < S2x4x32x32.size a := fun v30 v1670 v1864 v1973 k0_hw1735 => k0_hw1735

def k0_chk1736 (v1670 : IVec S16 32) (v1864 : IVec S16 32) (v1973 : IVec S16 32) (v1976 : IVec S16 32) : Prop :=
  (∀ a x, ((![v1670, v1864, v1973, v1976] : Fin 4 → IVec S16 32) a x).toNat < S2x4x32x32.size a)
theorem k0_idx2298_inb : ∀ (v1670 : IVec S16 32) (v1864 : IVec S16 32) (v1973 : IVec S16 32) (v1976 : IVec S16 32) (k0_hw1736 : k0_chk1736 v1670 v1864 v1973 v1976), ∀ a x, ((![v1670, v1864, v1973, v1976] : Fin 4 → IVec S16 32) a x).toNat < S2x4x32x32.size a := fun v1670 v1864 v1973 v1976 k0_hw1736 => k0_hw1736

def k0_chk1737 (v33 : IVec S16 32) (v35 : IVec S16 32) (v1670 : IVec S16 32) (v1864 : IVec S16 32) (v1978 : IVec S16 32) : Prop :=
  (∀ a x, ((![v1670, v1864, v1978, v33] : Fin 4 → IVec S16 32) a x).toNat < S2x4x94x96.size a) ∧
  (∀ a x, ((![v1670, v1864, v1978, v35] : Fin 4 → IVec S16 32) a x).toNat < S2x4x94x96.size a)
theorem k0_idx2299_inb : ∀ (v33 : IVec S16 32) (v35 : IVec S16 32) (v1670 : IVec S16 32) (v1864 : IVec S16 32) (v1978 : IVec S16 32) (k0_hw1737 : k0_chk1737 v33 v35 v1670 v1864 v1978), ∀ a x, ((![v1670, v1864, v1978, v33] : Fin 4 → IVec S16 32) a x).toNat < S2x4x94x96.size a := fun v33 v35 v1670 v1864 v1978 k0_hw1737 => k0_hw1737.1
theorem k0_idx2300_inb : ∀ (v33 : IVec S16 32) (v35 : IVec S16 32) (v1670 : IVec S16 32) (v1864 : IVec S16 32) (v1978 : IVec S16 32) (k0_hw1737 : k0_chk1737 v33 v35 v1670 v1864 v1978), ∀ a x, ((![v1670, v1864, v1978, v35] : Fin 4 → IVec S16 32) a x).toNat < S2x4x94x96.size a := fun v33 v35 v1670 v1864 v1978 k0_hw1737 => k0_hw1737.2

def k0_chk1738 (v30 : IVec S16 32) (v1670 : IVec S16 32) (v1864 : IVec S16 32) (v1979 : IVec S16 32) : Prop :=
  (∀ a x, ((![v1670, v1864, v1979, v30] : Fin 4 → IVec S16 32) a x).toNat < S2x4x32x32.size a)
theorem k0_idx2301_inb : ∀ (v30 : IVec S16 32) (v1670 : IVec S16 32) (v1864 : IVec S16 32) (v1979 : IVec S16 32) (k0_hw1738 : k0_chk1738 v30 v1670 v1864 v1979), ∀ a x, ((![v1670, v1864, v1979, v30] : Fin 4 → IVec S16 32) a x).toNat < S2x4x32x32.size a := fun v30 v1670 v1864 v1979 k0_hw1738 => k0_hw1738

def k0_chk1739 (v1670 : IVec S16 32) (v1864 : IVec S16 32) (v1979 : IVec S16 32) (v1982 : IVec S16 32) : Prop :=
  (∀ a x, ((![v1670, v1864, v1979, v1982] : Fin 4 → IVec S16 32) a x).toNat < S2x4x32x32.size a)
theorem k0_idx2302_inb : ∀ (v1670 : IVec S16 32) (v1864 : IVec S16 32) (v1979 : IVec S16 32) (v1982 : IVec S16 32) (k0_hw1739 : k0_chk1739 v1670 v1864 v1979 v1982), ∀ a x, ((![v1670, v1864, v1979, v1982] : Fin 4 → IVec S16 32) a x).toNat < S2x4x32x32.size a := fun v1670 v1864 v1979 v1982 k0_hw1739 => k0_hw1739

def k0_chk1740 (v33 : IVec S16 32) (v35 : IVec S16 32) (v1670 : IVec S16 32) (v1864 : IVec S16 32) (v1984 : IVec S16 32) : Prop :=
  (∀ a x, ((![v1670, v1864, v1984, v33] : Fin 4 → IVec S16 32) a x).toNat < S2x4x94x96.size a) ∧
  (∀ a x, ((![v1670, v1864, v1984, v35] : Fin 4 → IVec S16 32) a x).toNat < S2x4x94x96.size a)
theorem k0_idx2303_inb : ∀ (v33 : IVec S16 32) (v35 : IVec S16 32) (v1670 : IVec S16 32) (v1864 : IVec S16 32) (v1984 : IVec S16 32) (k0_hw1740 : k0_chk1740 v33 v35 v1670 v1864 v1984), ∀ a x, ((![v1670, v1864, v1984, v33] : Fin 4 → IVec S16 32) a x).toNat < S2x4x94x96.size a := fun v33 v35 v1670 v1864 v1984 k0_hw1740 => k0_hw1740.1
theorem k0_idx2304_inb : ∀ (v33 : IVec S16 32) (v35 : IVec S16 32) (v1670 : IVec S16 32) (v1864 : IVec S16 32) (v1984 : IVec S16 32) (k0_hw1740 : k0_chk1740 v33 v35 v1670 v1864 v1984), ∀ a x, ((![v1670, v1864, v1984, v35] : Fin 4 → IVec S16 32) a x).toNat < S2x4x94x96.size a := fun v33 v35 v1670 v1864 v1984 k0_hw1740 => k0_hw1740.2

def k0_chk1741 (v30 : IVec S16 32) (v1670 : IVec S16 32) (v1864 : IVec S16 32) (v1985 : IVec S16 32) : Prop :=
  (∀ a x, ((![v1670, v1864, v1985, v30] : Fin 4 → IVec S16 32) a x).toNat < S2x4x32x32.size a)
theorem k0_idx2305_inb : ∀ (v30 : IVec S16 32) (v1670 : IVec S16 32) (v1864 : IVec S16 32) (v1985 : IVec S16 32) (k0_hw1741 : k0_chk1741 v30 v1670 v1864 v1985), ∀ a x, ((![v1670, v1864, v1985, v30] : Fin 4 → IVec S16 32) a x).toNat < S2x4x32x32.size a := fun v30 v1670 v1864 v1985 k0_hw1741 => k0_hw1741

def k0_chk1742 (v1670 : IVec S16 32) (v1864 : IVec S16 32) (v1985 : IVec S16 32) (v1988 : IVec S16 32) : Prop :=
  (∀ a x, ((![v1670, v1864, v1985, v1988] : Fin 4 → IVec S16 32) a x).toNat < S2x4x32x32.size a)
theorem k0_idx2306_inb : ∀ (v1670 : IVec S16 32) (v1864 : IVec S16 32) (v1985 : IVec S16 32) (v1988 : IVec S16 32) (k0_hw1742 : k0_chk1742 v1670 v1864 v1985 v1988), ∀ a x, ((![v1670, v1864, v1985, v1988] : Fin 4 → IVec S16 32) a x).toNat < S2x4x32x32.size a := fun v1670 v1864 v1985 v1988 k0_hw1742 => k0_hw1742

def k0_chk1743 (v33 : IVec S16 32) (v35 : IVec S16 32) (v1670 : IVec S16 32) (v1864 : IVec S16 32) (v1990 : IVec S16 32) : Prop :=
  (∀ a x, ((![v1670, v1864, v1990, v33] : Fin 4 → IVec S16 32) a x).toNat < S2x4x94x96.size a) ∧
  (∀ a x, ((![v1670, v1864, v1990, v35] : Fin 4 → IVec S16 32) a x).toNat < S2x4x94x96.size a)
theorem k0_idx2307_inb : ∀ (v33 : IVec S16 32) (v35 : IVec S16 32) (v1670 : IVec S16 32) (v1864 : IVec S16 32) (v1990 : IVec S16 32) (k0_hw1743 : k0_chk1743 v33 v35 v1670 v1864 v1990), ∀ a x, ((![v1670, v1864, v1990, v33] : Fin 4 → IVec S16 32) a x).toNat < S2x4x94x96.size a := fun v33 v35 v1670 v1864 v1990 k0_hw1743 => k0_hw1743.1
theorem k0_idx2308_inb : ∀ (v33 : IVec S16 32) (v35 : IVec S16 32) (v1670 : IVec S16 32) (v1864 : IVec S16 32) (v1990 : IVec S16 32) (k0_hw1743 : k0_chk1743 v33 v35 v1670 v1864 v1990), ∀ a x, ((![v1670, v1864, v1990, v35] : Fin 4 → IVec S16 32) a x).toNat < S2x4x94x96.size a := fun v33 v35 v1670 v1864 v1990 k0_hw1743 => k0_hw1743.2

def k0_chk1744 (v30 : IVec S16 32) (v1670 : IVec S16 32) (v1864 : IVec S16 32) (v1991 : IVec S16 32) : Prop :=
  (∀ a x, ((![v1670, v1864, v1991, v30] : Fin 4 → IVec S16 32) a x).toNat < S2x4x32x32.size a)
theorem k0_idx2309_inb : ∀ (v30 : IVec S16 32) (v1670 : IVec S16 32) (v1864 : IVec S16 32) (v1991 : IVec S16 32) (k0_hw1744 : k0_chk1744 v30 v1670 v1864 v1991), ∀ a x, ((![v1670, v1864, v1991, v30] : Fin 4 → IVec S16 32) a x).toNat < S2x4x32x32.size a := fun v30 v1670 v1864 v1991 k0_hw1744 => k0_hw1744

def k0_chk1745 (v1670 : IVec S16 32) (v1864 : IVec S16 32) (v1991 : IVec S16 32) (v1994 : IVec S16 32) : Prop :=
  (∀ a x, ((![v1670, v1864, v1991, v1994] : Fin 4 → IVec S16 32) a x).toNat < S2x4x32x32.size a)
theorem k0_idx2310_inb : ∀ (v1670 : IVec S16 32) (v1864 : IVec S16 32) (v1991 : IVec S16 32) (v1994 : IVec S16 32) (k0_hw1745 : k0_chk1745 v1670 v1864 v1991 v1994), ∀ a x, ((![v1670, v1864, v1991, v1994] : Fin 4 → IVec S16 32) a x).toNat < S2x4x32x32.size a := fun v1670 v1864 v1991 v1994 k0_hw1745 => k0_hw1745

def k0_chk1746 (v33 : IVec S16 32) (v35 : IVec S16 32) (v1670 : IVec S16 32) (v1864 : IVec S16 32) (v1996 : IVec S16 32) : Prop :=
  (∀ a x, ((![v1670, v1864, v1996, v33] : Fin 4 → IVec S16 32) a x).toNat < S2x4x94x96.size a) ∧
  (∀ a x, ((![v1670, v1864, v1996, v35] : Fin 4 → IVec S16 32) a x).toNat < S2x4x94x96.size a)
theorem k0_idx2311_inb : ∀ (v33 : IVec S16 32) (v35 : IVec S16 32) (v1670 : IVec S16 32) (v1864 : IVec S16 32) (v1996 : IVec S16 32) (k0_hw1746 : k0_chk1746 v33 v35 v1670 v1864 v1996), ∀ a x, ((![v1670, v1864, v1996, v33] : Fin 4 → IVec S16 32) a x).toNat < S2x4x94x96.size a := fun v33 v35 v1670 v1864 v1996 k0_hw1746 => k0_hw1746.1
theorem k0_idx2312_inb : ∀ (v33 : IVec S16 32) (v35 : IVec S16 32) (v1670 : IVec S16 32) (v1864 : IVec S16 32) (v1996 : IVec S16 32) (k0_hw1746 : k0_chk1746 v33 v35 v1670 v1864 v1996), ∀ a x, ((![v1670, v1864, v1996, v35] : Fin 4 → IVec S16 32) a x).toNat < S2x4x94x96.size a := fun v33 v35 v1670 v1864 v1996 k0_hw1746 => k0_hw1746.2

def k0_chk1747 (v30 : IVec S16 32) (v1670 : IVec S16 32) (v1864 : IVec S16 32) (v1997 : IVec S16 32) : Prop :=
  (∀ a x, ((![v1670, v1864, v1997, v30] : Fin 4 → IVec S16 32) a x).toNat < S2x4x32x32.size a)
theorem k0_idx2313_inb : ∀ (v30 : IVec S16 32) (v1670 : IVec S16 32) (v1864 : IVec S16 32) (v1997 : IVec S16 32) (k0_hw1747 : k0_chk1747 v30 v1670 v1864 v1997), ∀ a x, ((![v1670, v1864, v1997, v30] : Fin 4 → IVec S16 32) a x).toNat < S2x4x32x32.size a := fun v30 v1670 v1864 v1997 k0_hw1747 => k0_hw1747

def k0_chk1748 (v1670 : IVec S16 32) (v1864 : IVec S16 32) (v1997 : IVec S16 32) (v2000 : IVec S16 32) : Prop :=
  (∀ a x, ((![v1670, v1864, v1997, v2000] : Fin 4 → IVec S16 32) a x).toNat < S2x4x32x32.size a)
theorem k0_idx2314_inb : ∀ (v1670 : IVec S16 32) (v1864 : IVec S16 32) (v1997 : IVec S16 32) (v2000 : IVec S16 32) (k0_hw1748 : k0_chk1748 v1670 v1864 v1997 v2000), ∀ a x, ((![v1670, v1864, v1997, v2000] : Fin 4 → IVec S16 32) a x).toNat < S2x4x32x32.size a := fun v1670 v1864 v1997 v2000 k0_hw1748 => k0_hw1748

def k0_chk1749 (v33 : IVec S16 32) (v35 : IVec S16 32) (v1670 : IVec S16 32) (v1864 : IVec S16 32) (v2002 : IVec S16 32) : Prop :=
  (∀ a x, ((![v1670, v1864, v2002, v33] : Fin 4 → IVec S16 32) a x).toNat < S2x4x94x96.size a) ∧
  (∀ a x, ((![v1670, v1864, v2002, v35] : Fin 4 → IVec S16 32) a x).toNat < S2x4x94x96.size a)
theorem k0_idx2315_inb : ∀ (v33 : IVec S16 32) (v35 : IVec S16 32) (v1670 : IVec S16 32) (v1864 : IVec S16 32) (v2002 : IVec S16 32) (k0_hw1749 : k0_chk1749 v33 v35 v1670 v1864 v2002), ∀ a x, ((![v1670, v1864, v2002, v33] : Fin 4 → IVec S16 32) a x).toNat < S2x4x94x96.size a := fun v33 v35 v1670 v1864 v2002 k0_hw1749 => k0_hw1749.1
theorem k0_idx2316_inb : ∀ (v33 : IVec S16 32) (v35 : IVec S16 32) (v1670 : IVec S16 32) (v1864 : IVec S16 32) (v2002 : IVec S16 32) (k0_hw1749 : k0_chk1749 v33 v35 v1670 v1864 v2002), ∀ a x, ((![v1670, v1864, v2002, v35] : Fin 4 → IVec S16 32) a x).toNat < S2x4x94x96.size a := fun v33 v35 v1670 v1864 v2002 k0_hw1749 => k0_hw1749.2

def k0_chk1750 (v30 : IVec S16 32) (v1670 : IVec S16 32) (v1864 : IVec S16 32) (v2003 : IVec S16 32) : Prop :=
  (∀ a x, ((![v1670, v1864, v2003, v30] : Fin 4 → IVec S16 32) a x).toNat < S2x4x32x32.size a)
theorem k0_idx2317_inb : ∀ (v30 : IVec S16 32) (v1670 : IVec S16 32) (v1864 : IVec S16 32) (v2003 : IVec S16 32) (k0_hw1750 : k0_chk1750 v30 v1670 v1864 v2003), ∀ a x, ((![v1670, v1864, v2003, v30] : Fin 4 → IVec S16 32) a x).toNat < S2x4x32x32.size a := fun v30 v1670 v1864 v2003 k0_hw1750 => k0_hw1750

def k0_chk1751 (v1670 : IVec S16 32) (v1864 : IVec S16 32) (v2003 : IVec S16 32) (v2006 : IVec S16 32) : Prop :=
  (∀ a x, ((![v1670, v1864, v2003, v2006] : Fin 4 → IVec S16 32) a x).toNat < S2x4x32x32.size a)
theorem k0_idx2318_inb : ∀ (v1670 : IVec S16 32) (v1864 : IVec S16 32) (v2003 : IVec S16 32) (v2006 : IVec S16 32) (k0_hw1751 : k0_chk1751 v1670 v1864 v2003 v2006), ∀ a x, ((![v1670, v1864, v2003, v2006] : Fin 4 → IVec S16 32) a x).toNat < S2x4x32x32.size a := fun v1670 v1864 v2003 v2006 k0_hw1751 => k0_hw1751

def k0_chk1752 (v33 : IVec S16 32) (v35 : IVec S16 32) (v1670 : IVec S16 32) (v1864 : IVec S16 32) (v2008 : IVec S16 32) : Prop :=
  (∀ a x, ((![v1670, v1864, v2008, v33] : Fin 4 → IVec S16 32) a x).toNat < S2x4x94x96.size a) ∧
  (∀ a x, ((![v1670, v1864, v2008, v35] : Fin 4 → IVec S16 32) a x).toNat < S2x4x94x96.size a)
theorem k0_idx2319_inb : ∀ (v33 : IVec S16 32) (v35 : IVec S16 32) (v1670 : IVec S16 32) (v1864 : IVec S16 32) (v2008 : IVec S16 32) (k0_hw1752 : k0_chk1752 v33 v35 v1670 v1864 v2008), ∀ a x, ((![v1670, v1864, v2008, v33] : Fin 4 → IVec S16 32) a x).toNat < S2x4x94x96.size a := fun v33 v35 v1670 v1864 v2008 k0_hw1752 => k0_hw1752.1
theorem k0_idx2320_inb : ∀ (v33 : IVec S16 32) (v35 : IVec S16 32) (v1670 : IVec S16 32) (v1864 : IVec S16 32) (v2008 : IVec S16 32) (k0_hw1752 : k0_chk1752 v33 v35 v1670 v1864 v2008), ∀ a x, ((![v1670, v1864, v2008, v35] : Fin 4 → IVec S16 32) a x).toNat < S2x4x94x96.size a := fun v33 v35 v1670 v1864 v2008 k0_hw1752 => k0_hw1752.2

def k0_chk1753 (v30 : IVec S16 32) (v1670 : IVec S16 32) (v1864 : IVec S16 32) (v2009 : IVec S16 32) : Prop :=
  (∀ a x, ((![v1670, v1864, v2009, v30] : Fin 4 → IVec S16 32) a x).toNat < S2x4x32x32.size a)
theorem k0_idx2321_inb : ∀ (v30 : IVec S16 32) (v1670 : IVec S16 32) (v1864 : IVec S16 32) (v2009 : IVec S16 32) (k0_hw1753 : k0_chk1753 v30 v1670 v1864 v2009), ∀ a x, ((![v1670, v1864, v2009, v30] : Fin 4 → IVec S16 32) a x).toNat < S2x4x32x32.size a := fun v30 v1670 v1864 v2009 k0_hw1753 => k0_hw1753

def k0_chk1754 (v1670 : IVec S16 32) (v1864 : IVec S16 32) (v2009 : IVec S16 32) (v2012 : IVec S16 32) : Prop :=
  (∀ a x, ((![v1670, v1864, v2009, v2012] : Fin 4 → IVec S16 32) a x).toNat < S2x4x32x32.size a)
theorem k0_idx2322_inb : ∀ (v1670 : IVec S16 32) (v1864 : IVec S16 32) (v2009 : IVec S16 32) (v2012 : IVec S16 32) (k0_hw1754 : k0_chk1754 v1670 v1864 v2009 v2012), ∀ a x, ((![v1670, v1864, v2009, v2012] : Fin 4 → IVec S16 32) a x).toNat < S2x4x32x32.size a := fun v1670 v1864 v2009 v2012 k0_hw1754 => k0_hw1754

def k0_chk1755 (v33 : IVec S16 32) (v35 : IVec S16 32) (v1670 : IVec S16 32) (v1864 : IVec S16 32) (v2014 : IVec S16 32) : Prop :=
  (∀ a x, ((![v1670, v1864, v2014, v33] : Fin 4 → IVec S16 32) a x).toNat < S2x4x94x96.size a) ∧
  (∀ a x, ((![v1670, v1864, v2014, v35] : Fin 4 → IVec S16 32) a x).toNat < S2x4x94x96.size a)
theorem k0_idx2323_inb : ∀ (v33 : IVec S16 32) (v35 : IVec S16 32) (v1670 : IVec S16 32) (v1864 : IVec S16 32) (v2014 : IVec S16 32) (k0_hw1755 : k0_chk1755 v33 v35 v1670 v1864 v2014), ∀ a x, ((![v1670, v1864, v2014, v33] : Fin 4 → IVec S16 32) a x).toNat < S2x4x94x96.size a := fun v33 v35 v1670 v1864 v2014 k0_hw1755 => k0_hw1755.1
theorem k0_idx2324_inb : ∀ (v33 : IVec S16 32) (v35 : IVec S16 32) (v1670 : IVec S16 32) (v1864 : IVec S16 32) (v2014 : IVec S16 32) (k0_hw1755 : k0_chk1755 v33 v35 v1670 v1864 v2014), ∀ a x, ((![v1670, v1864, v2014, v35] : Fin 4 → IVec S16 32) a x).toNat < S2x4x94x96.size a := fun v33 v35 v1670 v1864 v2014 k0_hw1755 => k0_hw1755.2

def k0_chk1756 (v30 : IVec S16 32) (v1670 : IVec S16 32) (v1864 : IVec S16 32) (v2015 : IVec S16 32) : Prop :=
  (∀ a x, ((![v1670, v1864, v2015, v30] : Fin 4 → IVec S16 32) a x).toNat < S2x4x32x32.size a)
theorem k0_idx2325_inb : ∀ (v30 : IVec S16 32) (v1670 : IVec S16 32) (v1864 : IVec S16 32) (v2015 : IVec S16 32) (k0_hw1756 : k0_chk1756 v30 v1670 v1864 v2015), ∀ a x, ((![v1670, v1864, v2015, v30] : Fin 4 → IVec S16 32) a x).toNat < S2x4x32x32.size a := fun v30 v1670 v1864 v2015 k0_hw1756 => k0_hw1756

def k0_chk1757 (v1670 : IVec S16 32) (v1864 : IVec S16 32) (v2015 : IVec S16 32) (v2018 : IVec S16 32) : Prop :=
  (∀ a x, ((![v1670, v1864, v2015, v2018] : Fin 4 → IVec S16 32) a x).toNat < S2x4x32x32.size a)
theorem k0_idx2326_inb : ∀ (v1670 : IVec S16 32) (v1864 : IVec S16 32) (v2015 : IVec S16 32) (v2018 : IVec S16 32) (k0_hw1757 : k0_chk1757 v1670 v1864 v2015 v2018), ∀ a x, ((![v1670, v1864, v2015, v2018] : Fin 4 → IVec S16 32) a x).toNat < S2x4x32x32.size a := fun v1670 v1864 v2015 v2018 k0_hw1757 => k0_hw1757

def k0_chk1758 (v33 : IVec S16 32) (v35 : IVec S16 32) (v1670 : IVec S16 32) (v1864 : IVec S16 32) (v2020 : IVec S16 32) : Prop :=
  (∀ a x, ((![v1670, v1864, v2020, v33] : Fin 4 → IVec S16 32) a x).toNat < S2x4x94x96.size a) ∧
  (∀ a x, ((![v1670, v1864, v2020, v35] : Fin 4 → IVec S16 32) a x).toNat < S2x4x94x96.size a)
theorem k0_idx2327_inb : ∀ (v33 : IVec S16 32) (v35 : IVec S16 32) (v1670 : IVec S16 32) (v1864 : IVec S16 32) (v2020 : IVec S16 32) (k0_hw1758 : k0_chk1758 v33 v35 v1670 v1864 v2020), ∀ a x, ((![v1670, v1864, v2020, v33] : Fin 4 → IVec S16 32) a x).toNat < S2x4x94x96.size a := fun v33 v35 v1670 v1864 v2020 k0_hw1758 => k0_hw1758.1
theorem k0_idx2328_inb : ∀ (v33 : IVec S16 32) (v35 : IVec S16 32) (v1670 : IVec S16 32) (v1864 : IVec S16 32) (v2020 : IVec S16 32) (k0_hw1758 : k0_chk1758 v33 v35 v1670 v1864 v2020), ∀ a x, ((![v1670, v1864, v2020, v35] : Fin 4 → IVec S16 32) a x).toNat < S2x4x94x96.size a := fun v33 v35 v1670 v1864 v2020 k0_hw1758 => k0_hw1758.2

def k0_chk1759 (v30 : IVec S16 32) (v1670 : IVec S16 32) (v1864 : IVec S16 32) (v2021 : IVec S16 32) : Prop :=
  (∀ a x, ((![v1670, v1864, v2021, v30] : Fin 4 → IVec S16 32) a x).toNat < S2x4x32x32.size a)
theorem k0_idx2329_inb : ∀ (v30 : IVec S16 32) (v1670 : IVec S16 32) (v1864 : IVec S16 32) (v2021 : IVec S16 32) (k0_hw1759 : k0_chk1759 v30 v1670 v1864 v2021), ∀ a x, ((![v1670, v1864, v2021, v30] : Fin 4 → IVec S16 32) a x).toNat < S2x4x32x32.size a := fun v30 v1670 v1864 v2021 k0_hw1759 => k0_hw1759

def k0_chk1760 (v1670 : IVec S16 32) (v1864 : IVec S16 32) (v2021 : IVec S16 32) (v2024 : IVec S16 32) : Prop :=
  (∀ a x, ((![v1670, v1864, v2021, v2024] : Fin 4 → IVec S16 32) a x).toNat < S2x4x32x32.size a)
theorem k0_idx2330_inb : ∀ (v1670 : IVec S16 32) (v1864 : IVec S16 32) (v2021 : IVec S16 32) (v2024 : IVec S16 32) (k0_hw1760 : k0_chk1760 v1670 v1864 v2021 v2024), ∀ a x, ((![v1670, v1864, v2021, v2024] : Fin 4 → IVec S16 32) a x).toNat < S2x4x32x32.size a := fun v1670 v1864 v2021 v2024 k0_hw1760 => k0_hw1760

def k0_chk1761 (v33 : IVec S16 32) (v35 : IVec S16 32) (v1670 : IVec S16 32) (v1864 : IVec S16 32) (v2026 : IVec S16 32) : Prop :=
  (∀ a x, ((![v1670, v1864, v2026, v33] : Fin 4 → IVec S16 32) a x).toNat < S2x4x94x96.size a) ∧
  (∀ a x, ((![v1670, v1864, v2026, v35] : Fin 4 → IVec S16 32) a x).toNat < S2x4x94x96.size a)
theorem k0_idx2331_inb : ∀ (v33 : IVec S16 32) (v35 : IVec S16 32) (v1670 : IVec S16 32) (v1864 : IVec S16 32) (v2026 : IVec S16 32) (k0_hw1761 : k0_chk1761 v33 v35 v1670 v1864 v2026), ∀ a x, ((![v1670, v1864, v2026, v33] : Fin 4 → IVec S16 32) a x).toNat < S2x4x94x96.size a := fun v33 v35 v1670 v1864 v2026 k0_hw1761 => k0_hw1761.1
theorem k0_idx2332_inb : ∀ (v33 : IVec S16 32) (v35 : IVec S16 32) (v1670 : IVec S16 32) (v1864 : IVec S16 32) (v2026 : IVec S16 32) (k0_hw1761 : k0_chk1761 v33 v35 v1670 v1864 v2026), ∀ a x, ((![v1670, v1864, v2026, v35] : Fin 4 → IVec S16 32) a x).toNat < S2x4x94x96.size a := fun v33 v35 v1670 v1864 v2026 k0_hw1761 => k0_hw1761.2

def k0_chk1762 (v30 : IVec S16 32) (v1670 : IVec S16 32) (v1864 : IVec S16 32) (v2027 : IVec S16 32) : Prop :=
  (∀ a x, ((![v1670, v1864, v2027, v30] : Fin 4 → IVec S16 32) a x).toNat < S2x4x32x32.size a)
theorem k0_idx2333_inb : ∀ (v30 : IVec S16 32) (v1670 : IVec S16 32) (v1864 : IVec S16 32) (v2027 : IVec S16 32) (k0_hw1762 : k0_chk1762 v30 v1670 v1864 v2027), ∀ a x, ((![v1670, v1864, v2027, v30] : Fin 4 → IVec S16 32) a x).toNat < S2x4x32x32.size a := fun v30 v1670 v1864 v2027 k0_hw1762 => k0_hw1762

def k0_chk1763 (v1670 : IVec S16 32) (v1864 : IVec S16 32) (v2027 : IVec S16 32) (v2030 : IVec S16 32) : Prop :=
  (∀ a x, ((![v1670, v1864, v2027, v2030] : Fin 4 → IVec S16 32) a x).toNat < S2x4x32x32.size a)
theorem k0_idx2334_inb : ∀ (v1670 : IVec S16 32) (v1864 : IVec S16 32) (v2027 : IVec S16 32) (v2030 : IVec S16 32) (k0_hw1763 : k0_chk1763 v1670 v1864 v2027 v2030), ∀ a x, ((![v1670, v1864, v2027, v2030] : Fin 4 → IVec S16 32) a x).toNat < S2x4x32x32.size a := fun v1670 v1864 v2027 v2030 k0_hw1763 => k0_hw1763

def k0_chk1764 (v33 : IVec S16 32) (v35 : IVec S16 32) (v1670 : IVec S16 32) (v1864 : IVec S16 32) (v2032 : IVec S16 32) : Prop :=
  (∀ a x, ((![v1670, v1864, v2032, v33] : Fin 4 → IVec S16 32) a x).toNat < S2x4x94x96.size a) ∧
  (∀ a x, ((![v1670, v1864, v2032, v35] : Fin 4 → IVec S16 32) a x).toNat < S2x4x94x96.size a)
theorem k0_idx2335_inb : ∀ (v33 : IVec S16 32) (v35 : IVec S16 32) (v1670 : IVec S16 32) (v1864 : IVec S16 32) (v2032 : IVec S16 32) (k0_hw1764 : k0_chk1764 v33 v35 v1670 v1864 v2032), ∀ a x, ((![v1670, v1864, v2032, v33] : Fin 4 → IVec S16 32) a x).toNat < S2x4x94x96.size a := fun v33 v35 v1670 v1864 v2032 k0_hw1764 => k0_hw1764.1
theorem k0_idx2336_inb : ∀ (v33 : IVec S16 32) (v35 : IVec S16 32) (v1670 : IVec S16 32) (v1864 : IVec S16 32) (v2032 : IVec S16 32) (k0_hw1764 : k0_chk1764 v33 v35 v1670 v1864 v2032), ∀ a x, ((![v1670, v1864, v2032, v35] : Fin 4 → IVec S16 32) a x).toNat < S2x4x94x96.size a := fun v33 v35 v1670 v1864 v2032 k0_hw1764 => k0_hw1764.2

def k0_chk1765 (v30 : IVec S16 32) (v1670 : IVec S16 32) (v1864 : IVec S16 32) (v2033 : IVec S16 32) : Prop :=
  (∀ a x, ((![v1670, v1864, v2033, v30] : Fin 4 → IVec S16 32) a x).toNat < S2x4x32x32.size a)
theorem k0_idx2337_inb : ∀ (v30 : IVec S16 32) (v1670 : IVec S16 32) (v1864 : IVec S16 32) (v2033 : IVec S16 32) (k0_hw1765 : k0_chk1765 v30 v1670 v1864 v2033), ∀ a x, ((![v1670, v1864, v2033, v30] : Fin 4 → IVec S16 32) a x).toNat < S2x4x32x32.size a := fun v30 v1670 v1864 v2033 k0_hw1765 => k0_hw1765

def k0_chk1766 (v1670 : IVec S16 32) (v1864 : IVec S16 32) (v2033 : IVec S16 32) (v2036 : IVec S16 32) : Prop :=
  (∀ a x, ((![v1670, v1864, v2033, v2036] : Fin 4 → IVec S16 32) a x).toNat < S2x4x32x32.size a)
theorem k0_idx2338_inb : ∀ (v1670 : IVec S16 32) (v1864 : IVec S16 32) (v2033 : IVec S16 32) (v2036 : IVec S16 32) (k0_hw1766 : k0_chk1766 v1670 v1864 v2033 v2036), ∀ a x, ((![v1670, v1864, v2033, v2036] : Fin 4 → IVec S16 32) a x).toNat < S2x4x32x32.size a := fun v1670 v1864 v2033 v2036 k0_hw1766 => k0_hw1766

def k0_chk1767 (v33 : IVec S16 32) (v35 : IVec S16 32) (v1670 : IVec S16 32) (v1864 : IVec S16 32) (v2038 : IVec S16 32) : Prop :=
  (∀ a x, ((![v1670, v1864, v2038, v33] : Fin 4 → IVec S16 32) a x).toNat < S2x4x94x96.size a) ∧
  (∀ a x, ((![v1670, v1864, v2038, v35] : Fin 4 → IVec S16 32) a x).toNat < S2x4x94x96.size a)
theorem k0_idx2339_inb : ∀ (v33 : IVec S16 32) (v35 : IVec S16 32) (v1670 : IVec S16 32) (v1864 : IVec S16 32) (v2038 : IVec S16 32) (k0_hw1767 : k0_chk1767 v33 v35 v1670 v1864 v2038), ∀ a x, ((![v1670, v1864, v2038, v33] : Fin 4 → IVec S16 32) a x).toNat < S2x4x94x96.size a := fun v33 v35 v1670 v1864 v2038 k0_hw1767 => k0_hw1767.1
theorem k0_idx2340_inb : ∀ (v33 : IVec S16 32) (v35 : IVec S16 32) (v1670 : IVec S16 32) (v1864 : IVec S16 32) (v2038 : IVec S16 32) (k0_hw1767 : k0_chk1767 v33 v35 v1670 v1864 v2038), ∀ a x, ((![v1670, v1864, v2038, v35] : Fin 4 → IVec S16 32) a x).toNat < S2x4x94x96.size a := fun v33 v35 v1670 v1864 v2038 k0_hw1767 => k0_hw1767.2

def k0_chk1768 (v30 : IVec S16 32) (v1670 : IVec S16 32) (v1864 : IVec S16 32) (v2039 : IVec S16 32) : Prop :=
  (∀ a x, ((![v1670, v1864, v2039, v30] : Fin 4 → IVec S16 32) a x).toNat < S2x4x32x32.size a)
theorem k0_idx2341_inb : ∀ (v30 : IVec S16 32) (v1670 : IVec S16 32) (v1864 : IVec S16 32) (v2039 : IVec S16 32) (k0_hw1768 : k0_chk1768 v30 v1670 v1864 v2039), ∀ a x, ((![v1670, v1864, v2039, v30] : Fin 4 → IVec S16 32) a x).toNat < S2x4x32x32.size a := fun v30 v1670 v1864 v2039 k0_hw1768 => k0_hw1768

def k0_chk1769 (v1670 : IVec S16 32) (v1864 : IVec S16 32) (v2039 : IVec S16 32) (v2042 : IVec S16 32) : Prop :=
  (∀ a x, ((![v1670, v1864, v2039, v2042] : Fin 4 → IVec S16 32) a x).toNat < S2x4x32x32.size a)
theorem k0_idx2342_inb : ∀ (v1670 : IVec S16 32) (v1864 : IVec S16 32) (v2039 : IVec S16 32) (v2042 : IVec S16 32) (k0_hw1769 : k0_chk1769 v1670 v1864 v2039 v2042), ∀ a x, ((![v1670, v1864, v2039, v2042] : Fin 4 → IVec S16 32) a x).toNat < S2x4x32x32.size a := fun v1670 v1864 v2039 v2042 k0_hw1769 => k0_hw1769

def k0_chk1770 (v33 : IVec S16 32) (v35 : IVec S16 32) (v1670 : IVec S16 32) (v1864 : IVec S16 32) (v2044 : IVec S16 32) : Prop :=
  (∀ a x, ((![v1670, v1864, v2044, v33] : Fin 4 → IVec S16 32) a x).toNat < S2x4x94x96.size a) ∧
  (∀ a x, ((![v1670, v1864, v2044, v35] : Fin 4 → IVec S16 32) a x).toNat < S2x4x94x96.size a)
theorem k0_idx2343_inb : ∀ (v33 : IVec S16 32) (v35 : IVec S16 32) (v1670 : IVec S16 32) (v1864 : IVec S16 32) (v2044 : IVec S16 32) (k0_hw1770 : k0_chk1770 v33 v35 v1670 v1864 v2044), ∀ a x, ((![v1670, v1864, v2044, v33] : Fin 4 → IVec S16 32) a x).toNat < S2x4x94x96.size a := fun v33 v35 v1670 v1864 v2044 k0_hw1770 => k0_hw1770.1
theorem k0_idx2344_inb : ∀ (v33 : IVec S16 32) (v35 : IVec S16 32) (v1670 : IVec S16 32) (v1864 : IVec S16 32) (v2044 : IVec S16 32) (k0_hw1770 : k0_chk1770 v33 v35 v1670 v1864 v2044), ∀ a x, ((![v1670, v1864, v2044, v35] : Fin 4 → IVec S16 32) a x).toNat < S2x4x94x96.size a := fun v33 v35 v1670 v1864 v2044 k0_hw1770 => k0_hw1770.2

def k0_chk1771 (v30 : IVec S16 32) (v1670 : IVec S16 32) (v1864 : IVec S16 32) (v2045 : IVec S16 32) : Prop :=
  (∀ a x, ((![v1670, v1864, v2045, v30] : Fin 4 → IVec S16 32) a x).toNat < S2x4x32x32.size a)
theorem k0_idx2345_inb : ∀ (v30 : IVec S16 32) (v1670 : IVec S16 32) (v1864 : IVec S16 32) (v2045 : IVec S16 32) (k0_hw1771 : k0_chk1771 v30 v1670 v1864 v2045), ∀ a x, ((![v1670, v1864, v2045, v30] : Fin 4 → IVec S16 32) a x).toNat < S2x4x32x32.size a := fun v30 v1670 v1864 v2045 k0_hw1771 => k0_hw1771

def k0_chk1772 (v1670 : IVec S16 32) (v1864 : IVec S16 32) (v2045 : IVec S16 32) (v2048 : IVec S16 32) : Prop :=
  (∀ a x, ((![v1670, v1864, v2045, v2048] : Fin 4 → IVec S16 32) a x).toNat < S2x4x32x32.size a)
theorem k0_idx2346_inb : ∀ (v1670 : IVec S16 32) (v1864 : IVec S16 32) (v2045 : IVec S16 32) (v2048 : IVec S16 32) (k0_hw1772 : k0_chk1772 v1670 v1864 v2045 v2048), ∀ a x, ((![v1670, v1864, v2045, v2048] : Fin 4 → IVec S16 32) a x).toNat < S2x4x32x32.size a := fun v1670 v1864 v2045 v2048 k0_hw1772 => k0_hw1772

def k0_chk1773 (v33 : IVec S16 32) (v35 : IVec S16 32) (v1670 : IVec S16 32) (v1864 : IVec S16 32) (v2050 : IVec S16 32) : Prop :=
  (∀ a x, ((![v1670, v1864, v2050, v33] : Fin 4 → IVec S16 32) a x).toNat < S2x4x94x96.size a) ∧
  (∀ a x, ((![v1670, v1864, v2050, v35] : Fin 4 → IVec S16 32) a x).toNat < S2x4x94x96.size a)
theorem k0_idx2347_inb : ∀ (v33 : IVec S16 32) (v35 : IVec S16 32) (v1670 : IVec S16 32) (v1864 : IVec S16 32) (v2050 : IVec S16 32) (k0_hw1773 : k0_chk1773 v33 v35 v1670 v1864 v2050), ∀ a x, ((![v1670, v1864, v2050, v33] : Fin 4 → IVec S16 32) a x).toNat < S2x4x94x96.size a := fun v33 v35 v1670 v1864 v2050 k0_hw1773 => k0_hw1773.1
theorem k0_idx2348_inb : ∀ (v33 : IVec S16 32) (v35 : IVec S16 32) (v1670 : IVec S16 32) (v1864 : IVec S16 32) (v2050 : IVec S16 32) (k0_hw1773 : k0_chk1773 v33 v35 v1670 v1864 v2050), ∀ a x, ((![v1670, v1864, v2050, v35] : Fin 4 → IVec S16 32) a x).toNat < S2x4x94x96.size a := fun v33 v35 v1670 v1864 v2050 k0_hw1773 => k0_hw1773.2

def k0_chk1774 (v30 : IVec S16 32) (v1670 : IVec S16 32) (v1864 : IVec S16 32) (v2051 : IVec S16 32) : Prop :=
  (∀ a x, ((![v1670, v1864, v2051, v30] : Fin 4 → IVec S16 32) a x).toNat < S2x4x32x32.size a)
theorem k0_idx2349_inb : ∀ (v30 : IVec S16 32) (v1670 : IVec S16 32) (v1864 : IVec S16 32) (v2051 : IVec S16 32) (k0_hw1774 : k0_chk1774 v30 v1670 v1864 v2051), ∀ a x, ((![v1670, v1864, v2051, v30] : Fin 4 → IVec S16 32) a x).toNat < S2x4x32x32.size a := fun v30 v1670 v1864 v2051 k0_hw1774 => k0_hw1774

def k0_chk1775 (v1670 : IVec S16 32) (v1864 : IVec S16 32) (v2051 : IVec S16 32) (v2054 : IVec S16 32) : Prop :=
  (∀ a x, ((![v1670, v1864, v2051, v2054] : Fin 4 → IVec S16 32) a x).toNat < S2x4x32x32.size a)
theorem k0_idx2350_inb : ∀ (v1670 : IVec S16 32) (v1864 : IVec S16 32) (v2051 : IVec S16 32) (v2054 : IVec S16 32) (k0_hw1775 : k0_chk1775 v1670 v1864 v2051 v2054), ∀ a x, ((![v1670, v1864, v2051, v2054] : Fin 4 → IVec S16 32) a x).toNat < S2x4x32x32.size a := fun v1670 v1864 v2051 v2054 k0_hw1775 => k0_hw1775

def k0_chk1776 (v33 : IVec S16 32) (v35 : IVec S16 32) (v1670 : IVec S16 32) (v1864 : IVec S16 32) (v2056 : IVec S16 32) : Prop :=
  (∀ a x, ((![v1670, v1864, v2056, v33] : Fin 4 → IVec S16 32) a x).toNat < S2x4x94x96.size a) ∧
  (∀ a x, ((![v1670, v1864, v2056, v35] : Fin 4 → IVec S16 32) a x).toNat < S2x4x94x96.size a)
theorem k0_idx2351_inb : ∀ (v33 : IVec S16 32) (v35 : IVec S16 32) (v1670 : IVec S16 32) (v1864 : IVec S16 32) (v2056 : IVec S16 32) (k0_hw1776 : k0_chk1776 v33 v35 v1670 v1864 v2056), ∀ a x, ((![v1670, v1864, v2056, v33] : Fin 4 → IVec S16 32) a x).toNat < S2x4x94x96.size a := fun v33 v35 v1670 v1864 v2056 k0_hw1776 => k0_hw1776.1
theorem k0_idx2352_inb : ∀ (v33 : IVec S16 32) (v35 : IVec S16 32) (v1670 : IVec S16 32) (v1864 : IVec S16 32) (v2056 : IVec S16 32) (k0_hw1776 : k0_chk1776 v33 v35 v1670 v1864 v2056), ∀ a x, ((![v1670, v1864, v2056, v35] : Fin 4 → IVec S16 32) a x).toNat < S2x4x94x96.size a := fun v33 v35 v1670 v1864 v2056 k0_hw1776 => k0_hw1776.2

def k0_chk1777 (v30 : IVec S16 32) (v1670 : IVec S16 32) (v2057 : IVec S16 32) (v2058 : IVec S16 32) : Prop :=
  (∀ a x, ((![v1670, v2057, v2058, v30] : Fin 4 → IVec S16 32) a x).toNat < S2x4x32x32.size a)
theorem k0_idx2353_inb : ∀ (v30 : IVec S16 32) (v1670 : IVec S16 32) (v2057 : IVec S16 32) (v2058 : IVec S16 32) (k0_hw1777 : k0_chk1777 v30 v1670 v2057 v2058), ∀ a x, ((![v1670, v2057, v2058, v30] : Fin 4 → IVec S16 32) a x).toNat < S2x4x32x32.size a := fun v30 v1670 v2057 v2058 k0_hw1777 => k0_hw1777

def k0_chk1778 (v1670 : IVec S16 32) (v2057 : IVec S16 32) (v2058 : IVec S16 32) (v2061 : IVec S16 32) : Prop :=
  (∀ a x, ((![v1670, v2057, v2058, v2061] : Fin 4 → IVec S16 32) a x).toNat < S2x4x32x32.size a)
theorem k0_idx2354_inb : ∀ (v1670 : IVec S16 32) (v2057 : IVec S16 32) (v2058 : IVec S16 32) (v2061 : IVec S16 32) (k0_hw1778 : k0_chk1778 v1670 v2057 v2058 v2061), ∀ a x, ((![v1670, v2057, v2058, v2061] : Fin 4 → IVec S16 32) a x).toNat < S2x4x32x32.size a := fun v1670 v2057 v2058 v2061 k0_hw1778 => k0_hw1778

def k0_chk1779 (v33 : IVec S16 32) (v35 : IVec S16 32) (v1670 : IVec S16 32) (v2057 : IVec S16 32) (v2063 : IVec S16 32) : Prop :=
  (∀ a x, ((![v1670, v2057, v2063, v33] : Fin 4 → IVec S16 32) a x).toNat < S2x4x94x96.size a) ∧
  (∀ a x, ((![v1670, v2057, v2063, v35] : Fin 4 → IVec S16 32) a x).toNat < S2x4x94x96.size a)
theorem k0_idx2355_inb : ∀ (v33 : IVec S16 32) (v35 : IVec S16 32) (v1670 : IVec S16 32) (v2057 : IVec S16 32) (v2063 : IVec S16 32) (k0_hw1779 : k0_chk1779 v33 v35 v1670 v2057 v2063), ∀ a x, ((![v1670, v2057, v2063, v33] : Fin 4 → IVec S16 32) a x).toNat < S2x4x94x96.size a := fun v33 v35 v1670 v2057 v2063 k0_hw1779 => k0_hw1779.1
theorem k0_idx2356_inb : ∀ (v33 : IVec S16 32) (v35 : IVec S16 32) (v1670 : IVec S16 32) (v2057 : IVec S16 32) (v2063 : IVec S16 32) (k0_hw1779 : k0_chk1779 v33 v35 v1670 v2057 v2063), ∀ a x, ((![v1670, v2057, v2063, v35] : Fin 4 → IVec S16 32) a x).toNat < S2x4x94x96.size a := fun v33 v35 v1670 v2057 v2063 k0_hw1779 => k0_hw1779.2

def k0_chk1780 (v30 : IVec S16 32) (v1670 : IVec S16 32) (v2057 : IVec S16 32) (v2064 : IVec S16 32) : Prop :=
  (∀ a x, ((![v1670, v2057, v2064, v30] : Fin 4 → IVec S16 32) a x).toNat < S2x4x32x32.size a)
theorem k0_idx2357_inb : ∀ (v30 : IVec S16 32) (v1670 : IVec S16 32) (v2057 : IVec S16 32) (v2064 : IVec S16 32) (k0_hw1780 : k0_chk1780 v30 v1670 v2057 v2064), ∀ a x, ((![v1670, v2057, v2064, v30] : Fin 4 → IVec S16 32) a x).toNat < S2x4x32x32.size a := fun v30 v1670 v2057 v2064 k0_hw1780 => k0_hw1780

def k0_chk1781 (v1670 : IVec S16 32) (v2057 : IVec S16 32) (v2064 : IVec S16 32) (v2067 : IVec S16 32) : Prop :=
  (∀ a x, ((![v1670, v2057, v2064, v2067] : Fin 4 → IVec S16 32) a x).toNat < S2x4x32x32.size a)
theorem k0_idx2358_inb : ∀ (v1670 : IVec S16 32) (v2057 : IVec S16 32) (v2064 : IVec S16 32) (v2067 : IVec S16 32) (k0_hw1781 : k0_chk1781 v1670 v2057 v2064 v2067), ∀ a x, ((![v1670, v2057, v2064, v2067] : Fin 4 → IVec S16 32) a x).toNat < S2x4x32x32.size a := fun v1670 v2057 v2064 v2067 k0_hw1781 => k0_hw1781

def k0_chk1782 (v33 : IVec S16 32) (v35 : IVec S16 32) (v1670 : IVec S16 32) (v2057 : IVec S16 32) (v2069 : IVec S16 32) : Prop :=
  (∀ a x, ((![v1670, v2057, v2069, v33] : Fin 4 → IVec S16 32) a x).toNat < S2x4x94x96.size a) ∧
  (∀ a x, ((![v1670, v2057, v2069, v35] : Fin 4 → IVec S16 32) a x).toNat < S2x4x94x96.size a)
theorem k0_idx2359_inb : ∀ (v33 : IVec S16 32) (v35 : IVec S16 32) (v1670 : IVec S16 32) (v2057 : IVec S16 32) (v2069 : IVec S16 32) (k0_hw1782 : k0_chk1782 v33 v35 v1670 v2057 v2069), ∀ a x, ((![v1670, v2057, v2069, v33] : Fin 4 → IVec S16 32) a x).toNat < S2x4x94x96.size a := fun v33 v35 v1670 v2057 v2069 k0_hw1782 => k0_hw1782.1
theorem k0_idx2360_inb : ∀ (v33 : IVec S16 32) (v35 : IVec S16 32) (v1670 : IVec S16 32) (v2057 : IVec S16 32) (v2069 : IVec S16 32) (k0_hw1782 : k0_chk1782 v33 v35 v1670 v2057 v2069), ∀ a x, ((![v1670, v2057, v2069, v35] : Fin 4 → IVec S16 32) a x).toNat < S2x4x94x96.size a := fun v33 v35 v1670 v2057 v2069 k0_hw1782 => k0_hw1782.2

def k0_chk1783 (v30 : IVec S16 32) (v1670 : IVec S16 32) (v2057 : IVec S16 32) (v2070 : IVec S16 32) : Prop :=
  (∀ a x, ((![v1670, v2057, v2070, v30] : Fin 4 → IVec S16 32) a x).toNat < S2x4x32x32.size a)
theorem k0_idx2361_inb : ∀ (v30 : IVec S16 32) (v1670 : IVec S16 32) (v2057 : IVec S16 32) (v2070 : IVec S16 32) (k0_hw1783 : k0_chk1783 v30 v1670 v2057 v2070), ∀ a x, ((![v1670, v2057, v2070, v30] : Fin 4 → IVec S16 32) a x).toNat < S2x4x32x32.size a := fun v30 v1670 v2057 v2070 k0_hw1783 => k0_hw1783

def k0_chk1784 (v1670 : IVec S16 32) (v2057 : IVec S16 32) (v2070 : IVec S16 32) (v2073 : IVec S16 32) : Prop :=
  (∀ a x, ((![v1670, v2057, v2070, v2073] : Fin 4 → IVec S16 32) a x).toNat < S2x4x32x32.size a)
theorem k0_idx2362_inb : ∀ (v1670 : IVec S16 32) (v2057 : IVec S16 32) (v2070 : IVec S16 32) (v2073 : IVec S16 32) (k0_hw1784 : k0_chk1784 v1670 v2057 v2070 v2073), ∀ a x, ((![v1670, v2057, v2070, v2073] : Fin 4 → IVec S16 32) a x).toNat < S2x4x32x32.size a := fun v1670 v2057 v2070 v2073 k0_hw1784 => k0_hw1784

def k0_chk1785 (v33 : IVec S16 32) (v35 : IVec S16 32) (v1670 : IVec S16 32) (v2057 : IVec S16 32) (v2075 : IVec S16 32) : Prop :=
  (∀ a x, ((![v1670, v2057, v2075, v33] : Fin 4 → IVec S16 32) a x).toNat < S2x4x94x96.size a) ∧
  (∀ a x, ((![v1670, v2057, v2075, v35] : Fin 4 → IVec S16 32) a x).toNat < S2x4x94x96.size a)
theorem k0_idx2363_inb : ∀ (v33 : IVec S16 32) (v35 : IVec S16 32) (v1670 : IVec S16 32) (v2057 : IVec S16 32) (v2075 : IVec S16 32) (k0_hw1785 : k0_chk1785 v33 v35 v1670 v2057 v2075), ∀ a x, ((![v1670, v2057, v2075, v33] : Fin 4 → IVec S16 32) a x).toNat < S2x4x94x96.size a := fun v33 v35 v1670 v2057 v2075 k0_hw1785 => k0_hw1785.1
theorem k0_idx2364_inb : ∀ (v33 : IVec S16 32) (v35 : IVec S16 32) (v1670 : IVec S16 32) (v2057 : IVec S16 32) (v2075 : IVec S16 32) (k0_hw1785 : k0_chk1785 v33 v35 v1670 v2057 v2075), ∀ a x, ((![v1670, v2057, v2075, v35] : Fin 4 → IVec S16 32) a x).toNat < S2x4x94x96.size a := fun v33 v35 v1670 v2057 v2075 k0_hw1785 => k0_hw1785.2

def k0_chk1786 (v30 : IVec S16 32) (v1670 : IVec S16 32) (v2057 : IVec S16 32) (v2076 : IVec S16 32) : Prop :=
  (∀ a x, ((![v1670, v2057, v2076, v30] : Fin 4 → IVec S16 32) a x).toNat < S2x4x32x32.size a)
theorem k0_idx2365_inb : ∀ (v30 : IVec S16 32) (v1670 : IVec S16 32) (v2057 : IVec S16 32) (v2076 : IVec S16 32) (k0_hw1786 : k0_chk1786 v30 v1670 v2057 v2076), ∀ a x, ((![v1670, v2057, v2076, v30] : Fin 4 → IVec S16 32) a x).toNat < S2x4x32x32.size a := fun v30 v1670 v2057 v2076 k0_hw1786 => k0_hw1786

def k0_chk1787 (v1670 : IVec S16 32) (v2057 : IVec S16 32) (v2076 : IVec S16 32) (v2079 : IVec S16 32) : Prop :=
  (∀ a x, ((![v1670, v2057, v2076, v2079] : Fin 4 → IVec S16 32) a x).toNat < S2x4x32x32.size a)
theorem k0_idx2366_inb : ∀ (v1670 : IVec S16 32) (v2057 : IVec S16 32) (v2076 : IVec S16 32) (v2079 : IVec S16 32) (k0_hw1787 : k0_chk1787 v1670 v2057 v2076 v2079), ∀ a x, ((![v1670, v2057, v2076, v2079] : Fin 4 → IVec S16 32) a x).toNat < S2x4x32x32.size a := fun v1670 v2057 v2076 v2079 k0_hw1787 => k0_hw1787

def k0_chk1788 (v33 : IVec S16 32) (v35 : IVec S16 32) (v1670 : IVec S16 32) (v2057 : IVec S16 32) (v2081 : IVec S16 32) : Prop :=
  (∀ a x, ((![v1670, v2057, v2081, v33] : Fin 4 → IVec S16 32) a x).toNat < S2x4x94x96.size a) ∧
  (∀ a x, ((![v1670, v2057, v2081, v35] : Fin 4 → IVec S16 32) a x).toNat < S2x4x94x96.size a)
theorem k0_idx2367_inb : ∀ (v33 : IVec S16 32) (v35 : IVec S16 32) (v1670 : IVec S16 32) (v2057 : IVec S16 32) (v2081 : IVec S16 32) (k0_hw1788 : k0_chk1788 v33 v35 v1670 v2057 v2081), ∀ a x, ((![v1670, v2057, v2081, v33] : Fin 4 → IVec S16 32) a x).toNat < S2x4x94x96.size a := fun v33 v35 v1670 v2057 v2081 k0_hw1788 => k0_hw1788.1
theorem k0_idx2368_inb : ∀ (v33 : IVec S16 32) (v35 : IVec S16 32) (v1670 : IVec S16 32) (v2057 : IVec S16 32) (v2081 : IVec S16 32) (k0_hw1788 : k0_chk1788 v33 v35 v1670 v2057 v2081), ∀ a x, ((![v1670, v2057, v2081, v35] : Fin 4 → IVec S16 32) a x).toNat < S2x4x94x96.size a := fun v33 v35 v1670 v2057 v2081 k0_hw1788 => k0_hw1788.2

def k0_chk1789 (v30 : IVec S16 32) (v1670 : IVec S16 32) (v2057 : IVec S16 32) (v2082 : IVec S16 32) : Prop :=
  (∀ a x, ((![v1670, v2057, v2082, v30] : Fin 4 → IVec S16 32) a x).toNat < S2x4x32x32.size a)
theorem k0_idx2369_inb : ∀ (v30 : IVec S16 32) (v1670 : IVec S16 32) (v2057 : IVec S16 32) (v2082 : IVec S16 32) (k0_hw1789 : k0_chk1789 v30 v1670 v2057 v2082), ∀ a x, ((![v1670, v2057, v2082, v30] : Fin 4 → IVec S16 32) a x).toNat < S2x4x32x32.size a := fun v30 v1670 v2057 v2082 k0_hw1789 => k0_hw1789

def k0_chk1790 (v1670 : IVec S16 32) (v2057 : IVec S16 32) (v2082 : IVec S16 32) (v2085 : IVec S16 32) : Prop :=
  (∀ a x, ((![v1670, v2057, v2082, v2085] : Fin 4 → IVec S16 32) a x).toNat < S2x4x32x32.size a)
theorem k0_idx2370_inb : ∀ (v1670 : IVec S16 32) (v2057 : IVec S16 32) (v2082 : IVec S16 32) (v2085 : IVec S16 32) (k0_hw1790 : k0_chk1790 v1670 v2057 v2082 v2085), ∀ a x, ((![v1670, v2057, v2082, v2085] : Fin 4 → IVec S16 32) a x).toNat < S2x4x32x32.size a := fun v1670 v2057 v2082 v2085 k0_hw1790 => k0_hw1790

def k0_chk1791 (v33 : IVec S16 32) (v35 : IVec S16 32) (v1670 : IVec S16 32) (v2057 : IVec S16 32) (v2087 : IVec S16 32) : Prop :=
  (∀ a x, ((![v1670, v2057, v2087, v33] : Fin 4 → IVec S16 32) a x).toNat < S2x4x94x96.size a) ∧
  (∀ a x, ((![v1670, v2057, v2087, v35] : Fin 4 → IVec S16 32) a x).toNat < S2x4x94x96.size a)
theorem k0_idx2371_inb : ∀ (v33 : IVec S16 32) (v35 : IVec S16 32) (v1670 : IVec S16 32) (v2057 : IVec S16 32) (v2087 : IVec S16 32) (k0_hw1791 : k0_chk1791 v33 v35 v1670 v2057 v2087), ∀ a x, ((![v1670, v2057, v2087, v33] : Fin 4 → IVec S16 32) a x).toNat < S2x4x94x96.size a := fun v33 v35 v1670 v2057 v2087 k0_hw1791 => k0_hw1791.1
theorem k0_idx2372_inb : ∀ (v33 : IVec S16 32) (v35 : IVec S16 32) (v1670 : IVec S16 32) (v2057 : IVec S16 32) (v2087 : IVec S16 32) (k0_hw1791 : k0_chk1791 v33 v35 v1670 v2057 v2087), ∀ a x, ((![v1670, v2057, v2087, v35] : Fin 4 → IVec S16 32) a x).toNat < S2x4x94x96.size a := fun v33 v35 v1670 v2057 v2087 k0_hw1791 => k0_hw1791.2

def k0_chk1792 (v30 : IVec S16 32) (v1670 : IVec S16 32) (v2057 : IVec S16 32) (v2088 : IVec S16 32) : Prop :=
  (∀ a x, ((![v1670, v2057, v2088, v30] : Fin 4 → IVec S16 32) a x).toNat < S2x4x32x32.size a)
theorem k0_idx2373_inb : ∀ (v30 : IVec S16 32) (v1670 : IVec S16 32) (v2057 : IVec S16 32) (v2088 : IVec S16 32) (k0_hw1792 : k0_chk1792 v30 v1670 v2057 v2088), ∀ a x, ((![v1670, v2057, v2088, v30] : Fin 4 → IVec S16 32) a x).toNat < S2x4x32x32.size a := fun v30 v1670 v2057 v2088 k0_hw1792 => k0_hw1792

def k0_chk1793 (v1670 : IVec S16 32) (v2057 : IVec S16 32) (v2088 : IVec S16 32) (v2091 : IVec S16 32) : Prop :=
  (∀ a x, ((![v1670, v2057, v2088, v2091] : Fin 4 → IVec S16 32) a x).toNat < S2x4x32x32.size a)
theorem k0_idx2374_inb : ∀ (v1670 : IVec S16 32) (v2057 : IVec S16 32) (v2088 : IVec S16 32) (v2091 : IVec S16 32) (k0_hw1793 : k0_chk1793 v1670 v2057 v2088 v2091), ∀ a x, ((![v1670, v2057, v2088, v2091] : Fin 4 → IVec S16 32) a x).toNat < S2x4x32x32.size a := fun v1670 v2057 v2088 v2091 k0_hw1793 => k0_hw1793

def k0_chk1794 (v33 : IVec S16 32) (v35 : IVec S16 32) (v1670 : IVec S16 32) (v2057 : IVec S16 32) (v2093 : IVec S16 32) : Prop :=
  (∀ a x, ((![v1670, v2057, v2093, v33] : Fin 4 → IVec S16 32) a x).toNat < S2x4x94x96.size a) ∧
  (∀ a x, ((![v1670, v2057, v2093, v35] : Fin 4 → IVec S16 32) a x).toNat < S2x4x94x96.size a)
theorem k0_idx2375_inb : ∀ (v33 : IVec S16 32) (v35 : IVec S16 32) (v1670 : IVec S16 32) (v2057 : IVec S16 32) (v2093 : IVec S16 32) (k0_hw1794 : k0_chk1794 v33 v35 v1670 v2057 v2093), ∀ a x, ((![v1670, v2057, v2093, v33] : Fin 4 → IVec S16 32) a x).toNat < S2x4x94x96.size a := fun v33 v35 v1670 v2057 v2093 k0_hw1794 => k0_hw1794.1
theorem k0_idx2376_inb : ∀ (v33 : IVec S16 32) (v35 : IVec S16 32) (v1670 : IVec S16 32) (v2057 : IVec S16 32) (v2093 : IVec S16 32) (k0_hw1794 : k0_chk1794 v33 v35 v1670 v2057 v2093), ∀ a x, ((![v1670, v2057, v2093, v35] : Fin 4 → IVec S16 32) a x).toNat < S2x4x94x96.size a := fun v33 v35 v1670 v2057 v2093 k0_hw1794 => k0_hw1794.2

def k0_chk1795 (v30 : IVec S16 32) (v1670 : IVec S16 32) (v2057 : IVec S16 32) (v2094 : IVec S16 32) : Prop :=
  (∀ a x, ((![v1670, v2057, v2094, v30] : Fin 4 → IVec S16 32) a x).toNat < S2x4x32x32.size a)
theorem k0_idx2377_inb : ∀ (v30 : IVec S16 32) (v1670 : IVec S16 32) (v2057 : IVec S16 32) (v2094 : IVec S16 32) (k0_hw1795 : k0_chk1795 v30 v1670 v2057 v2094), ∀ a x, ((![v1670, v2057, v2094, v30] : Fin 4 → IVec S16 32) a x).toNat < S2x4x32x32.size a := fun v30 v1670 v2057 v2094 k0_hw1795 => k0_hw1795

def k0_chk1796 (v1670 : IVec S16 32) (v2057 : IVec S16 32) (v2094 : IVec S16 32) (v2097 : IVec S16 32) : Prop :=
  (∀ a x, ((![v1670, v2057, v2094, v2097] : Fin 4 → IVec S16 32) a x).toNat < S2x4x32x32.size a)
theorem k0_idx2378_inb : ∀ (v1670 : IVec S16 32) (v2057 : IVec S16 32) (v2094 : IVec S16 32) (v2097 : IVec S16 32) (k0_hw1796 : k0_chk1796 v1670 v2057 v2094 v2097), ∀ a x, ((![v1670, v2057, v2094, v2097] : Fin 4 → IVec S16 32) a x).toNat < S2x4x32x32.size a := fun v1670 v2057 v2094 v2097 k0_hw1796 => k0_hw1796

def k0_chk1797 (v33 : IVec S16 32) (v35 : IVec S16 32) (v1670 : IVec S16 32) (v2057 : IVec S16 32) (v2099 : IVec S16 32) : Prop :=
  (∀ a x, ((![v1670, v2057, v2099, v33] : Fin 4 → IVec S16 32) a x).toNat < S2x4x94x96.size a) ∧
  (∀ a x, ((![v1670, v2057, v2099, v35] : Fin 4 → IVec S16 32) a x).toNat < S2x4x94x96.size a)
theorem k0_idx2379_inb : ∀ (v33 : IVec S16 32) (v35 : IVec S16 32) (v1670 : IVec S16 32) (v2057 : IVec S16 32) (v2099 : IVec S16 32) (k0_hw1797 : k0_chk1797 v33 v35 v1670 v2057 v2099), ∀ a x, ((![v1670, v2057, v2099, v33] : Fin 4 → IVec S16 32) a x).toNat < S2x4x94x96.size a := fun v33 v35 v1670 v2057 v2099 k0_hw1797 => k0_hw1797.1
theorem k0_idx2380_inb : ∀ (v33 : IVec S16 32) (v35 : IVec S16 32) (v1670 : IVec S16 32) (v2057 : IVec S16 32) (v2099 : IVec S16 32) (k0_hw1797 : k0_chk1797 v33 v35 v1670 v2057 v2099), ∀ a x, ((![v1670, v2057, v2099, v35] : Fin 4 → IVec S16 32) a x).toNat < S2x4x94x96.size a := fun v33 v35 v1670 v2057 v2099 k0_hw1797 => k0_hw1797.2

def k0_chk1798 (v30 : IVec S16 32) (v1670 : IVec S16 32) (v2057 : IVec S16 32) (v2100 : IVec S16 32) : Prop :=
  (∀ a x, ((![v1670, v2057, v2100, v30] : Fin 4 → IVec S16 32) a x).toNat < S2x4x32x32.size a)
theorem k0_idx2381_inb : ∀ (v30 : IVec S16 32) (v1670 : IVec S16 32) (v2057 : IVec S16 32) (v2100 : IVec S16 32) (k0_hw1798 : k0_chk1798 v30 v1670 v2057 v2100), ∀ a x, ((![v1670, v2057, v2100, v30] : Fin 4 → IVec S16 32) a x).toNat < S2x4x32x32.size a := fun v30 v1670 v2057 v2100 k0_hw1798 => k0_hw1798

def k0_chk1799 (v1670 : IVec S16 32) (v2057 : IVec S16 32) (v2100 : IVec S16 32) (v2103 : IVec S16 32) : Prop :=
  (∀ a x, ((![v1670, v2057, v2100, v2103] : Fin 4 → IVec S16 32) a x).toNat < S2x4x32x32.size a)
theorem k0_idx2382_inb : ∀ (v1670 : IVec S16 32) (v2057 : IVec S16 32) (v2100 : IVec S16 32) (v2103 : IVec S16 32) (k0_hw1799 : k0_chk1799 v1670 v2057 v2100 v2103), ∀ a x, ((![v1670, v2057, v2100, v2103] : Fin 4 → IVec S16 32) a x).toNat < S2x4x32x32.size a := fun v1670 v2057 v2100 v2103 k0_hw1799 => k0_hw1799

def k0_chk1800 (v33 : IVec S16 32) (v35 : IVec S16 32) (v1670 : IVec S16 32) (v2057 : IVec S16 32) (v2105 : IVec S16 32) : Prop :=
  (∀ a x, ((![v1670, v2057, v2105, v33] : Fin 4 → IVec S16 32) a x).toNat < S2x4x94x96.size a) ∧
  (∀ a x, ((![v1670, v2057, v2105, v35] : Fin 4 → IVec S16 32) a x).toNat < S2x4x94x96.size a)
theorem k0_idx2383_inb : ∀ (v33 : IVec S16 32) (v35 : IVec S16 32) (v1670 : IVec S16 32) (v2057 : IVec S16 32) (v2105 : IVec S16 32) (k0_hw1800 : k0_chk1800 v33 v35 v1670 v2057 v2105), ∀ a x, ((![v1670, v2057, v2105, v33] : Fin 4 → IVec S16 32) a x).toNat < S2x4x94x96.size a := fun v33 v35 v1670 v2057 v2105 k0_hw1800 => k0_hw1800.1
theorem k0_idx2384_inb : ∀ (v33 : IVec S16 32) (v35 : IVec S16 32) (v1670 : IVec S16 32) (v2057 : IVec S16 32) (v2105 : IVec S16 32) (k0_hw1800 : k0_chk1800 v33 v35 v1670 v2057 v2105), ∀ a x, ((![v1670, v2057, v2105, v35] : Fin 4 → IVec S16 32) a x).toNat < S2x4x94x96.size a := fun v33 v35 v1670 v2057 v2105 k0_hw1800 => k0_hw1800.2

def k0_chk1801 (v30 : IVec S16 32) (v1670 : IVec S16 32) (v2057 : IVec S16 32) (v2106 : IVec S16 32) : Prop :=
  (∀ a x, ((![v1670, v2057, v2106, v30] : Fin 4 → IVec S16 32) a x).toNat < S2x4x32x32.size a)
theorem k0_idx2385_inb : ∀ (v30 : IVec S16 32) (v1670 : IVec S16 32) (v2057 : IVec S16 32) (v2106 : IVec S16 32) (k0_hw1801 : k0_chk1801 v30 v1670 v2057 v2106), ∀ a x, ((![v1670, v2057, v2106, v30] : Fin 4 → IVec S16 32) a x).toNat < S2x4x32x32.size a := fun v30 v1670 v2057 v2106 k0_hw1801 => k0_hw1801

def k0_chk1802 (v1670 : IVec S16 32) (v2057 : IVec S16 32) (v2106 : IVec S16 32) (v2109 : IVec S16 32) : Prop :=
  (∀ a x, ((![v1670, v2057, v2106, v2109] : Fin 4 → IVec S16 32) a x).toNat < S2x4x32x32.size a)
theorem k0_idx2386_inb : ∀ (v1670 : IVec S16 32) (v2057 : IVec S16 32) (v2106 : IVec S16 32) (v2109 : IVec S16 32) (k0_hw1802 : k0_chk1802 v1670 v2057 v2106 v2109), ∀ a x, ((![v1670, v2057, v2106, v2109] : Fin 4 → IVec S16 32) a x).toNat < S2x4x32x32.size a := fun v1670 v2057 v2106 v2109 k0_hw1802 => k0_hw1802

def k0_chk1803 (v33 : IVec S16 32) (v35 : IVec S16 32) (v1670 : IVec S16 32) (v2057 : IVec S16 32) (v2111 : IVec S16 32) : Prop :=
  (∀ a x, ((![v1670, v2057, v2111, v33] : Fin 4 → IVec S16 32) a x).toNat < S2x4x94x96.size a) ∧
  (∀ a x, ((![v1670, v2057, v2111, v35] : Fin 4 → IVec S16 32) a x).toNat < S2x4x94x96.size a)
theorem k0_idx2387_inb : ∀ (v33 : IVec S16 32) (v35 : IVec S16 32) (v1670 : IVec S16 32) (v2057 : IVec S16 32) (v2111 : IVec S16 32) (k0_hw1803 : k0_chk1803 v33 v35 v1670 v2057 v2111), ∀ a x, ((![v1670, v2057, v2111, v33] : Fin 4 → IVec S16 32) a x).toNat < S2x4x94x96.size a := fun v33 v35 v1670 v2057 v2111 k0_hw1803 => k0_hw1803.1
theorem k0_idx2388_inb : ∀ (v33 : IVec S16 32) (v35 : IVec S16 32) (v1670 : IVec S16 32) (v2057 : IVec S16 32) (v2111 : IVec S16 32) (k0_hw1803 : k0_chk1803 v33 v35 v1670 v2057 v2111), ∀ a x, ((![v1670, v2057, v2111, v35] : Fin 4 → IVec S16 32) a x).toNat < S2x4x94x96.size a := fun v33 v35 v1670 v2057 v2111 k0_hw1803 => k0_hw1803.2

def k0_chk1804 (v30 : IVec S16 32) (v1670 : IVec S16 32) (v2057 : IVec S16 32) (v2112 : IVec S16 32) : Prop :=
  (∀ a x, ((![v1670, v2057, v2112, v30] : Fin 4 → IVec S16 32) a x).toNat < S2x4x32x32.size a)
theorem k0_idx2389_inb : ∀ (v30 : IVec S16 32) (v1670 : IVec S16 32) (v2057 : IVec S16 32) (v2112 : IVec S16 32) (k0_hw1804 : k0_chk1804 v30 v1670 v2057 v2112), ∀ a x, ((![v1670, v2057, v2112, v30] : Fin 4 → IVec S16 32) a x).toNat < S2x4x32x32.size a := fun v30 v1670 v2057 v2112 k0_hw1804 => k0_hw1804

def k0_chk1805 (v1670 : IVec S16 32) (v2057 : IVec S16 32) (v2112 : IVec S16 32) (v2115 : IVec S16 32) : Prop :=
  (∀ a x, ((![v1670, v2057, v2112, v2115] : Fin 4 → IVec S16 32) a x).toNat < S2x4x32x32.size a)
theorem k0_idx2390_inb : ∀ (v1670 : IVec S16 32) (v2057 : IVec S16 32) (v2112 : IVec S16 32) (v2115 : IVec S16 32) (k0_hw1805 : k0_chk1805 v1670 v2057 v2112 v2115), ∀ a x, ((![v1670, v2057, v2112, v2115] : Fin 4 → IVec S16 32) a x).toNat < S2x4x32x32.size a := fun v1670 v2057 v2112 v2115 k0_hw1805 => k0_hw1805

def k0_chk1806 (v33 : IVec S16 32) (v35 : IVec S16 32) (v1670 : IVec S16 32) (v2057 : IVec S16 32) (v2117 : IVec S16 32) : Prop :=
  (∀ a x, ((![v1670, v2057, v2117, v33] : Fin 4 → IVec S16 32) a x).toNat < S2x4x94x96.size a) ∧
  (∀ a x, ((![v1670, v2057, v2117, v35] : Fin 4 → IVec S16 32) a x).toNat < S2x4x94x96.size a)
theorem k0_idx2391_inb : ∀ (v33 : IVec S16 32) (v35 : IVec S16 32) (v1670 : IVec S16 32) (v2057 : IVec S16 32) (v2117 : IVec S16 32) (k0_hw1806 : k0_chk1806 v33 v35 v1670 v2057 v2117), ∀ a x, ((![v1670, v2057, v2117, v33] : Fin 4 → IVec S16 32) a x).toNat < S2x4x94x96.size a := fun v33 v35 v1670 v2057 v2117 k0_hw1806 => k0_hw1806.1
theorem k0_idx2392_inb : ∀ (v33 : IVec S16 32) (v35 : IVec S16 32) (v1670 : IVec S16 32) (v2057 : IVec S16 32) (v2117 : IVec S16 32) (k0_hw1806 : k0_chk1806 v33 v35 v1670 v2057 v2117), ∀ a x, ((![v1670, v2057, v2117, v35] : Fin 4 → IVec S16 32) a x).toNat < S2x4x94x96.size a := fun v33 v35 v1670 v2057 v2117 k0_hw1806 => k0_hw1806.2

def k0_chk1807 (v30 : IVec S16 32) (v1670 : IVec S16 32) (v2057 : IVec S16 32) (v2118 : IVec S16 32) : Prop :=
  (∀ a x, ((![v1670, v2057, v2118, v30] : Fin 4 → IVec S16 32) a x).toNat < S2x4x32x32.size a)
theorem k0_idx2393_inb : ∀ (v30 : IVec S16 32) (v1670 : IVec S16 32) (v2057 : IVec S16 32) (v2118 : IVec S16 32) (k0_hw1807 : k0_chk1807 v30 v1670 v2057 v2118), ∀ a x, ((![v1670, v2057, v2118, v30] : Fin 4 → IVec S16 32) a x).toNat < S2x4x32x32.size a := fun v30 v1670 v2057 v2118 k0_hw1807 => k0_hw1807

def k0_chk1808 (v1670 : IVec S16 32) (v2057 : IVec S16 32) (v2118 : IVec S16 32) (v2121 : IVec S16 32) : Prop :=
  (∀ a x, ((![v1670, v2057, v2118, v2121] : Fin 4 → IVec S16 32) a x).toNat < S2x4x32x32.size a)
theorem k0_idx2394_inb : ∀ (v1670 : IVec S16 32) (v2057 : IVec S16 32) (v2118 : IVec S16 32) (v2121 : IVec S16 32) (k0_hw1808 : k0_chk1808 v1670 v2057 v2118 v2121), ∀ a x, ((![v1670, v2057, v2118, v2121] : Fin 4 → IVec S16 32) a x).toNat < S2x4x32x32.size a := fun v1670 v2057 v2118 v2121 k0_hw1808 => k0_hw1808

def k0_chk1809 (v33 : IVec S16 32) (v35 : IVec S16 32) (v1670 : IVec S16 32) (v2057 : IVec S16 32) (v2123 : IVec S16 32) : Prop :=
  (∀ a x, ((![v1670, v2057, v2123, v33] : Fin 4 → IVec S16 32) a x).toNat < S2x4x94x96.size a) ∧
  (∀ a x, ((![v1670, v2057, v2123, v35] : Fin 4 → IVec S16 32) a x).toNat < S2x4x94x96.size a)
theorem k0_idx2395_inb : ∀ (v33 : IVec S16 32) (v35 : IVec S16 32) (v1670 : IVec S16 32) (v2057 : IVec S16 32) (v2123 : IVec S16 32) (k0_hw1809 : k0_chk1809 v33 v35 v1670 v2057 v2123), ∀ a x, ((![v1670, v2057, v2123, v33] : Fin 4 → IVec S16 32) a x).toNat < S2x4x94x96.size a := fun v33 v35 v1670 v2057 v2123 k0_hw1809 => k0_hw1809.1
theorem k0_idx2396_inb : ∀ (v33 : IVec S16 32) (v35 : IVec S16 32) (v1670 : IVec S16 32) (v2057 : IVec S16 32) (v2123 : IVec S16 32) (k0_hw1809 : k0_chk1809 v33 v35 v1670 v2057 v2123), ∀ a x, ((![v1670, v2057, v2123, v35] : Fin 4 → IVec S16 32) a x).toNat < S2x4x94x96.size a := fun v33 v35 v1670 v2057 v2123 k0_hw1809 => k0_hw1809.2

def k0_chk1810 (v30 : IVec S16 32) (v1670 : IVec S16 32) (v2057 : IVec S16 32) (v2124 : IVec S16 32) : Prop :=
  (∀ a x, ((![v1670, v2057, v2124, v30] : Fin 4 → IVec S16 32) a x).toNat < S2x4x32x32.size a)
theorem k0_idx2397_inb : ∀ (v30 : IVec S16 32) (v1670 : IVec S16 32) (v2057 : IVec S16 32) (v2124 : IVec S16 32) (k0_hw1810 : k0_chk1810 v30 v1670 v2057 v2124), ∀ a x, ((![v1670, v2057, v2124, v30] : Fin 4 → IVec S16 32) a x).toNat < S2x4x32x32.size a := fun v30 v1670 v2057 v2124 k0_hw1810 => k0_hw1810

def k0_chk1811 (v1670 : IVec S16 32) (v2057 : IVec S16 32) (v2124 : IVec S16 32) (v2127 : IVec S16 32) : Prop :=
  (∀ a x, ((![v1670, v2057, v2124, v2127] : Fin 4 → IVec S16 32) a x).toNat < S2x4x32x32.size a)
theorem k0_idx2398_inb : ∀ (v1670 : IVec S16 32) (v2057 : IVec S16 32) (v2124 : IVec S16 32) (v2127 : IVec S16 32) (k0_hw1811 : k0_chk1811 v1670 v2057 v2124 v2127), ∀ a x, ((![v1670, v2057, v2124, v2127] : Fin 4 → IVec S16 32) a x).toNat < S2x4x32x32.size a := fun v1670 v2057 v2124 v2127 k0_hw1811 => k0_hw1811

def k0_chk1812 (v33 : IVec S16 32) (v35 : IVec S16 32) (v1670 : IVec S16 32) (v2057 : IVec S16 32) (v2129 : IVec S16 32) : Prop :=
  (∀ a x, ((![v1670, v2057, v2129, v33] : Fin 4 → IVec S16 32) a x).toNat < S2x4x94x96.size a) ∧
  (∀ a x, ((![v1670, v2057, v2129, v35] : Fin 4 → IVec S16 32) a x).toNat < S2x4x94x96.size a)
theorem k0_idx2399_inb : ∀ (v33 : IVec S16 32) (v35 : IVec S16 32) (v1670 : IVec S16 32) (v2057 : IVec S16 32) (v2129 : IVec S16 32) (k0_hw1812 : k0_chk1812 v33 v35 v1670 v2057 v2129), ∀ a x, ((![v1670, v2057, v2129, v33] : Fin 4 → IVec S16 32) a x).toNat < S2x4x94x96.size a := fun v33 v35 v1670 v2057 v2129 k0_hw1812 => k0_hw1812.1
theorem k0_idx2400_inb : ∀ (v33 : IVec S16 32) (v35 : IVec S16 32) (v1670 : IVec S16 32) (v2057 : IVec S16 32) (v2129 : IVec S16 32) (k0_hw1812 : k0_chk1812 v33 v35 v1670 v2057 v2129), ∀ a x, ((![v1670, v2057, v2129, v35] : Fin 4 → IVec S16 32) a x).toNat < S2x4x94x96.size a := fun v33 v35 v1670 v2057 v2129 k0_hw1812 => k0_hw1812.2

def k0_chk1813 (v30 : IVec S16 32) (v1670 : IVec S16 32) (v2057 : IVec S16 32) (v2130 : IVec S16 32) : Prop :=
  (∀ a x, ((![v1670, v2057, v2130, v30] : Fin 4 → IVec S16 32) a x).toNat < S2x4x32x32.size a)
theorem k0_idx2401_inb : ∀ (v30 : IVec S16 32) (v1670 : IVec S16 32) (v2057 : IVec S16 32) (v2130 : IVec S16 32) (k0_hw1813 : k0_chk1813 v30 v1670 v2057 v2130), ∀ a x, ((![v1670, v2057, v2130, v30] : Fin 4 → IVec S16 32) a x).toNat < S2x4x32x32.size a := fun v30 v1670 v2057 v2130 k0_hw1813 => k0_hw1813

def k0_chk1814 (v1670 : IVec S16 32) (v2057 : IVec S16 32) (v2130 : IVec S16 32) (v2133 : IVec S16 32) : Prop :=
  (∀ a x, ((![v1670, v2057, v2130, v2133] : Fin 4 → IVec S16 32) a x).toNat < S2x4x32x32.size a)
theorem k0_idx2402_inb : ∀ (v1670 : IVec S16 32) (v2057 : IVec S16 32) (v2130 : IVec S16 32) (v2133 : IVec S16 32) (k0_hw1814 : k0_chk1814 v1670 v2057 v2130 v2133), ∀ a x, ((![v1670, v2057, v2130, v2133] : Fin 4 → IVec S16 32) a x).toNat < S2x4x32x32.size a := fun v1670 v2057 v2130 v2133 k0_hw1814 => k0_hw1814

def k0_chk1815 (v33 : IVec S16 32) (v35 : IVec S16 32) (v1670 : IVec S16 32) (v2057 : IVec S16 32) (v2135 : IVec S16 32) : Prop :=
  (∀ a x, ((![v1670, v2057, v2135, v33] : Fin 4 → IVec S16 32) a x).toNat < S2x4x94x96.size a) ∧
  (∀ a x, ((![v1670, v2057, v2135, v35] : Fin 4 → IVec S16 32) a x).toNat < S2x4x94x96.size a)
theorem k0_idx2403_inb : ∀ (v33 : IVec S16 32) (v35 : IVec S16 32) (v1670 : IVec S16 32) (v2057 : IVec S16 32) (v2135 : IVec S16 32) (k0_hw1815 : k0_chk1815 v33 v35 v1670 v2057 v2135), ∀ a x, ((![v1670, v2057, v2135, v33] : Fin 4 → IVec S16 32) a x).toNat < S2x4x94x96.size a := fun v33 v35 v1670 v2057 v2135 k0_hw1815 => k0_hw1815.1
theorem k0_idx2404_inb : ∀ (v33 : IVec S16 32) (v35 : IVec S16 32) (v1670 : IVec S16 32) (v2057 : IVec S16 32) (v2135 : IVec S16 32) (k0_hw1815 : k0_chk1815 v33 v35 v1670 v2057 v2135), ∀ a x, ((![v1670, v2057, v2135, v35] : Fin 4 → IVec S16 32) a x).toNat < S2x4x94x96.size a := fun v33 v35 v1670 v2057 v2135 k0_hw1815 => k0_hw1815.2

def k0_chk1816 (v30 : IVec S16 32) (v1670 : IVec S16 32) (v2057 : IVec S16 32) (v2136 : IVec S16 32) : Prop :=
  (∀ a x, ((![v1670, v2057, v2136, v30] : Fin 4 → IVec S16 32) a x).toNat < S2x4x32x32.size a)
theorem k0_idx2405_inb : ∀ (v30 : IVec S16 32) (v1670 : IVec S16 32) (v2057 : IVec S16 32) (v2136 : IVec S16 32) (k0_hw1816 : k0_chk1816 v30 v1670 v2057 v2136), ∀ a x, ((![v1670, v2057, v2136, v30] : Fin 4 → IVec S16 32) a x).toNat < S2x4x32x32.size a := fun v30 v1670 v2057 v2136 k0_hw1816 => k0_hw1816

def k0_chk1817 (v1670 : IVec S16 32) (v2057 : IVec S16 32) (v2136 : IVec S16 32) (v2139 : IVec S16 32) : Prop :=
  (∀ a x, ((![v1670, v2057, v2136, v2139] : Fin 4 → IVec S16 32) a x).toNat < S2x4x32x32.size a)
theorem k0_idx2406_inb : ∀ (v1670 : IVec S16 32) (v2057 : IVec S16 32) (v2136 : IVec S16 32) (v2139 : IVec S16 32) (k0_hw1817 : k0_chk1817 v1670 v2057 v2136 v2139), ∀ a x, ((![v1670, v2057, v2136, v2139] : Fin 4 → IVec S16 32) a x).toNat < S2x4x32x32.size a := fun v1670 v2057 v2136 v2139 k0_hw1817 => k0_hw1817

def k0_chk1818 (v33 : IVec S16 32) (v35 : IVec S16 32) (v1670 : IVec S16 32) (v2057 : IVec S16 32) (v2141 : IVec S16 32) : Prop :=
  (∀ a x, ((![v1670, v2057, v2141, v33] : Fin 4 → IVec S16 32) a x).toNat < S2x4x94x96.size a) ∧
  (∀ a x, ((![v1670, v2057, v2141, v35] : Fin 4 → IVec S16 32) a x).toNat < S2x4x94x96.size a)
theorem k0_idx2407_inb : ∀ (v33 : IVec S16 32) (v35 : IVec S16 32) (v1670 : IVec S16 32) (v2057 : IVec S16 32) (v2141 : IVec S16 32) (k0_hw1818 : k0_chk1818 v33 v35 v1670 v2057 v2141), ∀ a x, ((![v1670, v2057, v2141, v33] : Fin 4 → IVec S16 32) a x).toNat < S2x4x94x96.size a := fun v33 v35 v1670 v2057 v2141 k0_hw1818 => k0_hw1818.1
theorem k0_idx2408_inb : ∀ (v33 : IVec S16 32) (v35 : IVec S16 32) (v1670 : IVec S16 32) (v2057 : IVec S16 32) (v2141 : IVec S16 32) (k0_hw1818 : k0_chk1818 v33 v35 v1670 v2057 v2141), ∀ a x, ((![v1670, v2057, v2141, v35] : Fin 4 → IVec S16 32) a x).toNat < S2x4x94x96.size a := fun v33 v35 v1670 v2057 v2141 k0_hw1818 => k0_hw1818.2

def k0_chk1819 (v30 : IVec S16 32) (v1670 : IVec S16 32) (v2057 : IVec S16 32) (v2142 : IVec S16 32) : Prop :=
  (∀ a x, ((![v1670, v2057, v2142, v30] : Fin 4 → IVec S16 32) a x).toNat < S2x4x32x32.size a)
theorem k0_idx2409_inb : ∀ (v30 : IVec S16 32) (v1670 : IVec S16 32) (v2057 : IVec S16 32) (v2142 : IVec S16 32) (k0_hw1819 : k0_chk1819 v30 v1670 v2057 v2142), ∀ a x, ((![v1670, v2057, v2142, v30] : Fin 4 → IVec S16 32) a x).toNat < S2x4x32x32.size a := fun v30 v1670 v2057 v2142 k0_hw1819 => k0_hw1819

def k0_chk1820 (v1670 : IVec S16 32) (v2057 : IVec S16 32) (v2142 : IVec S16 32) (v2145 : IVec S16 32) : Prop :=
  (∀ a x, ((![v1670, v2057, v2142, v2145] : Fin 4 → IVec S16 32) a x).toNat < S2x4x32x32.size a)
theorem k0_idx2410_inb : ∀ (v1670 : IVec S16 32) (v2057 : IVec S16 32) (v2142 : IVec S16 32) (v2145 : IVec S16 32) (k0_hw1820 : k0_chk1820 v1670 v2057 v2142 v2145), ∀ a x, ((![v1670, v2057, v2142, v2145] : Fin 4 → IVec S16 32) a x).toNat < S2x4x32x32.size a := fun v1670 v2057 v2142 v2145 k0_hw1820 => k0_hw1820

def k0_chk1821 (v33 : IVec S16 32) (v35 : IVec S16 32) (v1670 : IVec S16 32) (v2057 : IVec S16 32) (v2147 : IVec S16 32) : Prop :=
  (∀ a x, ((![v1670, v2057, v2147, v33] : Fin 4 → IVec S16 32) a x).toNat < S2x4x94x96.size a) ∧
  (∀ a x, ((![v1670, v2057, v2147, v35] : Fin 4 → IVec S16 32) a x).toNat < S2x4x94x96.size a)
theorem k0_idx2411_inb : ∀ (v33 : IVec S16 32) (v35 : IVec S16 32) (v1670 : IVec S16 32) (v2057 : IVec S16 32) (v2147 : IVec S16 32) (k0_hw1821 : k0_chk1821 v33 v35 v1670 v2057 v2147), ∀ a x, ((![v1670, v2057, v2147, v33] : Fin 4 → IVec S16 32) a x).toNat < S2x4x94x96.size a := fun v33 v35 v1670 v2057 v2147 k0_hw1821 => k0_hw1821.1
theorem k0_idx2412_inb : ∀ (v33 : IVec S16 32) (v35 : IVec S16 32) (v1670 : IVec S16 32) (v2057 : IVec S16 32) (v2147 : IVec S16 32) (k0_hw1821 : k0_chk1821 v33 v35 v1670 v2057 v2147), ∀ a x, ((![v1670, v2057, v2147, v35] : Fin 4 → IVec S16 32) a x).toNat < S2x4x94x96.size a := fun v33 v35 v1670 v2057 v2147 k0_hw1821 => k0_hw1821.2

def k0_chk1822 (v30 : IVec S16 32) (v1670 : IVec S16 32) (v2057 : IVec S16 32) (v2148 : IVec S16 32) : Prop :=
  (∀ a x, ((![v1670, v2057, v2148, v30] : Fin 4 → IVec S16 32) a x).toNat < S2x4x32x32.size a)
theorem k0_idx2413_inb : ∀ (v30 : IVec S16 32) (v1670 : IVec S16 32) (v2057 : IVec S16 32) (v2148 : IVec S16 32) (k0_hw1822 : k0_chk1822 v30 v1670 v2057 v2148), ∀ a x, ((![v1670, v2057, v2148, v30] : Fin 4 → IVec S16 32) a x).toNat < S2x4x32x32.size a := fun v30 v1670 v2057 v2148 k0_hw1822 => k0_hw1822

def k0_chk1823 (v1670 : IVec S16 32) (v2057 : IVec S16 32) (v2148 : IVec S16 32) (v2151 : IVec S16 32) : Prop :=
  (∀ a x, ((![v1670, v2057, v2148, v2151] : Fin 4 → IVec S16 32) a x).toNat < S2x4x32x32.size a)
theorem k0_idx2414_inb : ∀ (v1670 : IVec S16 32) (v2057 : IVec S16 32) (v2148 : IVec S16 32) (v2151 : IVec S16 32) (k0_hw1823 : k0_chk1823 v1670 v2057 v2148 v2151), ∀ a x, ((![v1670, v2057, v2148, v2151] : Fin 4 → IVec S16 32) a x).toNat < S2x4x32x32.size a := fun v1670 v2057 v2148 v2151 k0_hw1823 => k0_hw1823

def k0_chk1824 (v33 : IVec S16 32) (v35 : IVec S16 32) (v1670 : IVec S16 32) (v2057 : IVec S16 32) (v2153 : IVec S16 32) : Prop :=
  (∀ a x, ((![v1670, v2057, v2153, v33] : Fin 4 → IVec S16 32) a x).toNat < S2x4x94x96.size a) ∧
  (∀ a x, ((![v1670, v2057, v2153, v35] : Fin 4 → IVec S16 32) a x).toNat < S2x4x94x96.size a)
theorem k0_idx2415_inb : ∀ (v33 : IVec S16 32) (v35 : IVec S16 32) (v1670 : IVec S16 32) (v2057 : IVec S16 32) (v2153 : IVec S16 32) (k0_hw1824 : k0_chk1824 v33 v35 v1670 v2057 v2153), ∀ a x, ((![v1670, v2057, v2153, v33] : Fin 4 → IVec S16 32) a x).toNat < S2x4x94x96.size a := fun v33 v35 v1670 v2057 v2153 k0_hw1824 => k0_hw1824.1
theorem k0_idx2416_inb : ∀ (v33 : IVec S16 32) (v35 : IVec S16 32) (v1670 : IVec S16 32) (v2057 : IVec S16 32) (v2153 : IVec S16 32) (k0_hw1824 : k0_chk1824 v33 v35 v1670 v2057 v2153), ∀ a x, ((![v1670, v2057, v2153, v35] : Fin 4 → IVec S16 32) a x).toNat < S2x4x94x96.size a := fun v33 v35 v1670 v2057 v2153 k0_hw1824 => k0_hw1824.2

def k0_chk1825 (v30 : IVec S16 32) (v1670 : IVec S16 32) (v2057 : IVec S16 32) (v2154 : IVec S16 32) : Prop :=
  (∀ a x, ((![v1670, v2057, v2154, v30] : Fin 4 → IVec S16 32) a x).toNat < S2x4x32x32.size a)
theorem k0_idx2417_inb : ∀ (v30 : IVec S16 32) (v1670 : IVec S16 32) (v2057 : IVec S16 32) (v2154 : IVec S16 32) (k0_hw1825 : k0_chk1825 v30 v1670 v2057 v2154), ∀ a x, ((![v1670, v2057, v2154, v30] : Fin 4 → IVec S16 32) a x).toNat < S2x4x32x32.size a := fun v30 v1670 v2057 v2154 k0_hw1825 => k0_hw1825

def k0_chk1826 (v1670 : IVec S16 32) (v2057 : IVec S16 32) (v2154 : IVec S16 32) (v2157 : IVec S16 32) : Prop :=
  (∀ a x, ((![v1670, v2057, v2154, v2157] : Fin 4 → IVec S16 32) a x).toNat < S2x4x32x32.size a)
theorem k0_idx2418_inb : ∀ (v1670 : IVec S16 32) (v2057 : IVec S16 32) (v2154 : IVec S16 32) (v2157 : IVec S16 32) (k0_hw1826 : k0_chk1826 v1670 v2057 v2154 v2157), ∀ a x, ((![v1670, v2057, v2154, v2157] : Fin 4 → IVec S16 32) a x).toNat < S2x4x32x32.size a := fun v1670 v2057 v2154 v2157 k0_hw1826 => k0_hw1826

def k0_chk1827 (v33 : IVec S16 32) (v35 : IVec S16 32) (v1670 : IVec S16 32) (v2057 : IVec S16 32) (v2159 : IVec S16 32) : Prop :=
  (∀ a x, ((![v1670, v2057, v2159, v33] : Fin 4 → IVec S16 32) a x).toNat < S2x4x94x96.size a) ∧
  (∀ a x, ((![v1670, v2057, v2159, v35] : Fin 4 → IVec S16 32) a x).toNat < S2x4x94x96.size a)
theorem k0_idx2419_inb : ∀ (v33 : IVec S16 32) (v35 : IVec S16 32) (v1670 : IVec S16 32) (v2057 : IVec S16 32) (v2159 : IVec S16 32) (k0_hw1827 : k0_chk1827 v33 v35 v1670 v2057 v2159), ∀ a x, ((![v1670, v2057, v2159, v33] : Fin 4 → IVec S16 32) a x).toNat < S2x4x94x96.size a := fun v33 v35 v1670 v2057 v2159 k0_hw1827 => k0_hw1827.1
theorem k0_idx2420_inb : ∀ (v33 : IVec S16 32) (v35 : IVec S16 32) (v1670 : IVec S16 32) (v2057 : IVec S16 32) (v2159 : IVec S16 32) (k0_hw1827 : k0_chk1827 v33 v35 v1670 v2057 v2159), ∀ a x, ((![v1670, v2057, v2159, v35] : Fin 4 → IVec S16 32) a x).toNat < S2x4x94x96.size a := fun v33 v35 v1670 v2057 v2159 k0_hw1827 => k0_hw1827.2

def k0_chk1828 (v30 : IVec S16 32) (v1670 : IVec S16 32) (v2057 : IVec S16 32) (v2160 : IVec S16 32) : Prop :=
  (∀ a x, ((![v1670, v2057, v2160, v30] : Fin 4 → IVec S16 32) a x).toNat < S2x4x32x32.size a)
theorem k0_idx2421_inb : ∀ (v30 : IVec S16 32) (v1670 : IVec S16 32) (v2057 : IVec S16 32) (v2160 : IVec S16 32) (k0_hw1828 : k0_chk1828 v30 v1670 v2057 v2160), ∀ a x, ((![v1670, v2057, v2160, v30] : Fin 4 → IVec S16 32) a x).toNat < S2x4x32x32.size a := fun v30 v1670 v2057 v2160 k0_hw1828 => k0_hw1828

def k0_chk1829 (v1670 : IVec S16 32) (v2057 : IVec S16 32) (v2160 : IVec S16 32) (v2163 : IVec S16 32) : Prop :=
  (∀ a x, ((![v1670, v2057, v2160, v2163] : Fin 4 → IVec S16 32) a x).toNat < S2x4x32x32.size a)
theorem k0_idx2422_inb : ∀ (v1670 : IVec S16 32) (v2057 : IVec S16 32) (v2160 : IVec S16 32) (v2163 : IVec S16 32) (k0_hw1829 : k0_chk1829 v1670 v2057 v2160 v2163), ∀ a x, ((![v1670, v2057, v2160, v2163] : Fin 4 → IVec S16 32) a x).toNat < S2x4x32x32.size a := fun v1670 v2057 v2160 v2163 k0_hw1829 => k0_hw1829

def k0_chk1830 (v33 : IVec S16 32) (v35 : IVec S16 32) (v1670 : IVec S16 32) (v2057 : IVec S16 32) (v2165 : IVec S16 32) : Prop :=
  (∀ a x, ((![v1670, v2057, v2165, v33] : Fin 4 → IVec S16 32) a x).toNat < S2x4x94x96.size a) ∧
  (∀ a x, ((![v1670, v2057, v2165, v35] : Fin 4 → IVec S16 32) a x).toNat < S2x4x94x96.size a)
theorem k0_idx2423_inb : ∀ (v33 : IVec S16 32) (v35 : IVec S16 32) (v1670 : IVec S16 32) (v2057 : IVec S16 32) (v2165 : IVec S16 32) (k0_hw1830 : k0_chk1830 v33 v35 v1670 v2057 v2165), ∀ a x, ((![v1670, v2057, v2165, v33] : Fin 4 → IVec S16 32) a x).toNat < S2x4x94x96.size a := fun v33 v35 v1670 v2057 v2165 k0_hw1830 => k0_hw1830.1
theorem k0_idx2424_inb : ∀ (v33 : IVec S16 32) (v35 : IVec S16 32) (v1670 : IVec S16 32) (v2057 : IVec S16 32) (v2165 : IVec S16 32) (k0_hw1830 : k0_chk1830 v33 v35 v1670 v2057 v2165), ∀ a x, ((![v1670, v2057, v2165, v35] : Fin 4 → IVec S16 32) a x).toNat < S2x4x94x96.size a := fun v33 v35 v1670 v2057 v2165 k0_hw1830 => k0_hw1830.2

def k0_chk1831 (v30 : IVec S16 32) (v1670 : IVec S16 32) (v2057 : IVec S16 32) (v2166 : IVec S16 32) : Prop :=
  (∀ a x, ((![v1670, v2057, v2166, v30] : Fin 4 → IVec S16 32) a x).toNat < S2x4x32x32.size a)
theorem k0_idx2425_inb : ∀ (v30 : IVec S16 32) (v1670 : IVec S16 32) (v2057 : IVec S16 32) (v2166 : IVec S16 32) (k0_hw1831 : k0_chk1831 v30 v1670 v2057 v2166), ∀ a x, ((![v1670, v2057, v2166, v30] : Fin 4 → IVec S16 32) a x).toNat < S2x4x32x32.size a := fun v30 v1670 v2057 v2166 k0_hw1831 => k0_hw1831

def k0_chk1832 (v1670 : IVec S16 32) (v2057 : IVec S16 32) (v2166 : IVec S16 32) (v2169 : IVec S16 32) : Prop :=
  (∀ a x, ((![v1670, v2057, v2166, v2169] : Fin 4 → IVec S16 32) a x).toNat < S2x4x32x32.size a)
theorem k0_idx2426_inb : ∀ (v1670 : IVec S16 32) (v2057 : IVec S16 32) (v2166 : IVec S16 32) (v2169 : IVec S16 32) (k0_hw1832 : k0_chk1832 v1670 v2057 v2166 v2169), ∀ a x, ((![v1670, v2057, v2166, v2169] : Fin 4 → IVec S16 32) a x).toNat < S2x4x32x32.size a := fun v1670 v2057 v2166 v2169 k0_hw1832 => k0_hw1832

def k0_chk1833 (v33 : IVec S16 32) (v35 : IVec S16 32) (v1670 : IVec S16 32) (v2057 : IVec S16 32) (v2171 : IVec S16 32) : Prop :=
  (∀ a x, ((![v1670, v2057, v2171, v33] : Fin 4 → IVec S16 32) a x).toNat < S2x4x94x96.size a) ∧
  (∀ a x, ((![v1670, v2057, v2171, v35] : Fin 4 → IVec S16 32) a x).toNat < S2x4x94x96.size a)
theorem k0_idx2427_inb : ∀ (v33 : IVec S16 32) (v35 : IVec S16 32) (v1670 : IVec S16 32) (v2057 : IVec S16 32) (v2171 : IVec S16 32) (k0_hw1833 : k0_chk1833 v33 v35 v1670 v2057 v2171), ∀ a x, ((![v1670, v2057, v2171, v33] : Fin 4 → IVec S16 32) a x).toNat < S2x4x94x96.size a := fun v33 v35 v1670 v2057 v2171 k0_hw1833 => k0_hw1833.1
theorem k0_idx2428_inb : ∀ (v33 : IVec S16 32) (v35 : IVec S16 32) (v1670 : IVec S16 32) (v2057 : IVec S16 32) (v2171 : IVec S16 32) (k0_hw1833 : k0_chk1833 v33 v35 v1670 v2057 v2171), ∀ a x, ((![v1670, v2057, v2171, v35] : Fin 4 → IVec S16 32) a x).toNat < S2x4x94x96.size a := fun v33 v35 v1670 v2057 v2171 k0_hw1833 => k0_hw1833.2

def k0_chk1834 (v30 : IVec S16 32) (v1670 : IVec S16 32) (v2057 : IVec S16 32) (v2172 : IVec S16 32) : Prop :=
  (∀ a x, ((![v1670, v2057, v2172, v30] : Fin 4 → IVec S16 32) a x).toNat < S2x4x32x32.size a)
theorem k0_idx2429_inb : ∀ (v30 : IVec S16 32) (v1670 : IVec S16 32) (v2057 : IVec S16 32) (v2172 : IVec S16 32) (k0_hw1834 : k0_chk1834 v30 v1670 v2057 v2172), ∀ a x, ((![v1670, v2057, v2172, v30] : Fin 4 → IVec S16 32) a x).toNat < S2x4x32x32.size a := fun v30 v1670 v2057 v2172 k0_hw1834 => k0_hw1834

def k0_chk1835 (v1670 : IVec S16 32) (v2057 : IVec S16 32) (v2172 : IVec S16 32) (v2175 : IVec S16 32) : Prop :=
  (∀ a x, ((![v1670, v2057, v2172, v2175] : Fin 4 → IVec S16 32) a x).toNat < S2x4x32x32.size a)
theorem k0_idx2430_inb : ∀ (v1670 : IVec S16 32) (v2057 : IVec S16 32) (v2172 : IVec S16 32) (v2175 : IVec S16 32) (k0_hw1835 : k0_chk1835 v1670 v2057 v2172 v2175), ∀ a x, ((![v1670, v2057, v2172, v2175] : Fin 4 → IVec S16 32) a x).toNat < S2x4x32x32.size a := fun v1670 v2057 v2172 v2175 k0_hw1835 => k0_hw1835

def k0_chk1836 (v33 : IVec S16 32) (v35 : IVec S16 32) (v1670 : IVec S16 32) (v2057 : IVec S16 32) (v2177 : IVec S16 32) : Prop :=
  (∀ a x, ((![v1670, v2057, v2177, v33] : Fin 4 → IVec S16 32) a x).toNat < S2x4x94x96.size a) ∧
  (∀ a x, ((![v1670, v2057, v2177, v35] : Fin 4 → IVec S16 32) a x).toNat < S2x4x94x96.size a)
theorem k0_idx2431_inb : ∀ (v33 : IVec S16 32) (v35 : IVec S16 32) (v1670 : IVec S16 32) (v2057 : IVec S16 32) (v2177 : IVec S16 32) (k0_hw1836 : k0_chk1836 v33 v35 v1670 v2057 v2177), ∀ a x, ((![v1670, v2057, v2177, v33] : Fin 4 → IVec S16 32) a x).toNat < S2x4x94x96.size a := fun v33 v35 v1670 v2057 v2177 k0_hw1836 => k0_hw1836.1
theorem k0_idx2432_inb : ∀ (v33 : IVec S16 32) (v35 : IVec S16 32) (v1670 : IVec S16 32) (v2057 : IVec S16 32) (v2177 : IVec S16 32) (k0_hw1836 : k0_chk1836 v33 v35 v1670 v2057 v2177), ∀ a x, ((![v1670, v2057, v2177, v35] : Fin 4 → IVec S16 32) a x).toNat < S2x4x94x96.size a := fun v33 v35 v1670 v2057 v2177 k0_hw1836 => k0_hw1836.2

def k0_chk1837 (v30 : IVec S16 32) (v1670 : IVec S16 32) (v2057 : IVec S16 32) (v2178 : IVec S16 32) : Prop :=
  (∀ a x, ((![v1670, v2057, v2178, v30] : Fin 4 → IVec S16 32) a x).toNat < S2x4x32x32.size a)
theorem k0_idx2433_inb : ∀ (v30 : IVec S16 32) (v1670 : IVec S16 32) (v2057 : IVec S16 32) (v2178 : IVec S16 32) (k0_hw1837 : k0_chk1837 v30 v1670 v2057 v2178), ∀ a x, ((![v1670, v2057, v2178, v30] : Fin 4 → IVec S16 32) a x).toNat < S2x4x32x32.size a := fun v30 v1670 v2057 v2178 k0_hw1837 => k0_hw1837

def k0_chk1838 (v1670 : IVec S16 32) (v2057 : IVec S16 32) (v2178 : IVec S16 32) (v2181 : IVec S16 32) : Prop :=
  (∀ a x, ((![v1670, v2057, v2178, v2181] : Fin 4 → IVec S16 32) a x).toNat < S2x4x32x32.size a)
theorem k0_idx2434_inb : ∀ (v1670 : IVec S16 32) (v2057 : IVec S16 32) (v2178 : IVec S16 32) (v2181 : IVec S16 32) (k0_hw1838 : k0_chk1838 v1670 v2057 v2178 v2181), ∀ a x, ((![v1670, v2057, v2178, v2181] : Fin 4 → IVec S16 32) a x).toNat < S2x4x32x32.size a := fun v1670 v2057 v2178 v2181 k0_hw1838 => k0_hw1838

def k0_chk1839 (v33 : IVec S16 32) (v35 : IVec S16 32) (v1670 : IVec S16 32) (v2057 : IVec S16 32) (v2183 : IVec S16 32) : Prop :=
  (∀ a x, ((![v1670, v2057, v2183, v33] : Fin 4 → IVec S16 32) a x).toNat < S2x4x94x96.size a) ∧
  (∀ a x, ((![v1670, v2057, v2183, v35] : Fin 4 → IVec S16 32) a x).toNat < S2x4x94x96.size a)
theorem k0_idx2435_inb : ∀ (v33 : IVec S16 32) (v35 : IVec S16 32) (v1670 : IVec S16 32) (v2057 : IVec S16 32) (v2183 : IVec S16 32) (k0_hw1839 : k0_chk1839 v33 v35 v1670 v2057 v2183), ∀ a x, ((![v1670, v2057, v2183, v33] : Fin 4 → IVec S16 32) a x).toNat < S2x4x94x96.size a := fun v33 v35 v1670 v2057 v2183 k0_hw1839 => k0_hw1839.1
theorem k0_idx2436_inb : ∀ (v33 : IVec S16 32) (v35 : IVec S16 32) (v1670 : IVec S16 32) (v2057 : IVec S16 32) (v2183 : IVec S16 32) (k0_hw1839 : k0_chk1839 v33 v35 v1670 v2057 v2183), ∀ a x, ((![v1670, v2057, v2183, v35] : Fin 4 → IVec S16 32) a x).toNat < S2x4x94x96.size a := fun v33 v35 v1670 v2057 v2183 k0_hw1839 => k0_hw1839.2

def k0_chk1840 (v30 : IVec S16 32) (v1670 : IVec S16 32) (v2057 : IVec S16 32) (v2184 : IVec S16 32) : Prop :=
  (∀ a x, ((![v1670, v2057, v2184, v30] : Fin 4 → IVec S16 32) a x).toNat < S2x4x32x32.size a)
theorem k0_idx2437_inb : ∀ (v30 : IVec S16 32) (v1670 : IVec S16 32) (v2057 : IVec S16 32) (v2184 : IVec S16 32) (k0_hw1840 : k0_chk1840 v30 v1670 v2057 v2184), ∀ a x, ((![v1670, v2057, v2184, v30] : Fin 4 → IVec S16 32) a x).toNat < S2x4x32x32.size a := fun v30 v1670 v2057 v2184 k0_hw1840 => k0_hw1840

def k0_chk1841 (v1670 : IVec S16 32) (v2057 : IVec S16 32) (v2184 : IVec S16 32) (v2187 : IVec S16 32) : Prop :=
  (∀ a x, ((![v1670, v2057, v2184, v2187] : Fin 4 → IVec S16 32) a x).toNat < S2x4x32x32.size a)
theorem k0_idx2438_inb : ∀ (v1670 : IVec S16 32) (v2057 : IVec S16 32) (v2184 : IVec S16 32) (v2187 : IVec S16 32) (k0_hw1841 : k0_chk1841 v1670 v2057 v2184 v2187), ∀ a x, ((![v1670, v2057, v2184, v2187] : Fin 4 → IVec S16 32) a x).toNat < S2x4x32x32.size a := fun v1670 v2057 v2184 v2187 k0_hw1841 => k0_hw1841

def k0_chk1842 (v33 : IVec S16 32) (v35 : IVec S16 32) (v1670 : IVec S16 32) (v2057 : IVec S16 32) (v2189 : IVec S16 32) : Prop :=
  (∀ a x, ((![v1670, v2057, v2189, v33] : Fin 4 → IVec S16 32) a x).toNat < S2x4x94x96.size a) ∧
  (∀ a x, ((![v1670, v2057, v2189, v35] : Fin 4 → IVec S16 32) a x).toNat < S2x4x94x96.size a)
theorem k0_idx2439_inb : ∀ (v33 : IVec S16 32) (v35 : IVec S16 32) (v1670 : IVec S16 32) (v2057 : IVec S16 32) (v2189 : IVec S16 32) (k0_hw1842 : k0_chk1842 v33 v35 v1670 v2057 v2189), ∀ a x, ((![v1670, v2057, v2189, v33] : Fin 4 → IVec S16 32) a x).toNat < S2x4x94x96.size a := fun v33 v35 v1670 v2057 v2189 k0_hw1842 => k0_hw1842.1
theorem k0_idx2440_inb : ∀ (v33 : IVec S16 32) (v35 : IVec S16 32) (v1670 : IVec S16 32) (v2057 : IVec S16 32) (v2189 : IVec S16 32) (k0_hw1842 : k0_chk1842 v33 v35 v1670 v2057 v2189), ∀ a x, ((![v1670, v2057, v2189, v35] : Fin 4 → IVec S16 32) a x).toNat < S2x4x94x96.size a := fun v33 v35 v1670 v2057 v2189 k0_hw1842 => k0_hw1842.2

def k0_chk1843 (v30 : IVec S16 32) (v1670 : IVec S16 32) (v2057 : IVec S16 32) (v2190 : IVec S16 32) : Prop :=
  (∀ a x, ((![v1670, v2057, v2190, v30] : Fin 4 → IVec S16 32) a x).toNat < S2x4x32x32.size a)
theorem k0_idx2441_inb : ∀ (v30 : IVec S16 32) (v1670 : IVec S16 32) (v2057 : IVec S16 32) (v2190 : IVec S16 32) (k0_hw1843 : k0_chk1843 v30 v1670 v2057 v2190), ∀ a x, ((![v1670, v2057, v2190, v30] : Fin 4 → IVec S16 32) a x).toNat < S2x4x32x32.size a := fun v30 v1670 v2057 v2190 k0_hw1843 => k0_hw1843

def k0_chk1844 (v1670 : IVec S16 32) (v2057 : IVec S16 32) (v2190 : IVec S16 32) (v2193 : IVec S16 32) : Prop :=
  (∀ a x, ((![v1670, v2057, v2190, v2193] : Fin 4 → IVec S16 32) a x).toNat < S2x4x32x32.size a)
theorem k0_idx2442_inb : ∀ (v1670 : IVec S16 32) (v2057 : IVec S16 32) (v2190 : IVec S16 32) (v2193 : IVec S16 32) (k0_hw1844 : k0_chk1844 v1670 v2057 v2190 v2193), ∀ a x, ((![v1670, v2057, v2190, v2193] : Fin 4 → IVec S16 32) a x).toNat < S2x4x32x32.size a := fun v1670 v2057 v2190 v2193 k0_hw1844 => k0_hw1844

def k0_chk1845 (v33 : IVec S16 32) (v35 : IVec S16 32) (v1670 : IVec S16 32) (v2057 : IVec S16 32) (v2195 : IVec S16 32) : Prop :=
  (∀ a x, ((![v1670, v2057, v2195, v33] : Fin 4 → IVec S16 32) a x).toNat < S2x4x94x96.size a) ∧
  (∀ a x, ((![v1670, v2057, v2195, v35] : Fin 4 → IVec S16 32) a x).toNat < S2x4x94x96.size a)
theorem k0_idx2443_inb : ∀ (v33 : IVec S16 32) (v35 : IVec S16 32) (v1670 : IVec S16 32) (v2057 : IVec S16 32) (v2195 : IVec S16 32) (k0_hw1845 : k0_chk1845 v33 v35 v1670 v2057 v2195), ∀ a x, ((![v1670, v2057, v2195, v33] : Fin 4 → IVec S16 32) a x).toNat < S2x4x94x96.size a := fun v33 v35 v1670 v2057 v2195 k0_hw1845 => k0_hw1845.1
theorem k0_idx2444_inb : ∀ (v33 : IVec S16 32) (v35 : IVec S16 32) (v1670 : IVec S16 32) (v2057 : IVec S16 32) (v2195 : IVec S16 32) (k0_hw1845 : k0_chk1845 v33 v35 v1670 v2057 v2195), ∀ a x, ((![v1670, v2057, v2195, v35] : Fin 4 → IVec S16 32) a x).toNat < S2x4x94x96.size a := fun v33 v35 v1670 v2057 v2195 k0_hw1845 => k0_hw1845.2

def k0_chk1846 (v30 : IVec S16 32) (v1670 : IVec S16 32) (v2057 : IVec S16 32) (v2196 : IVec S16 32) : Prop :=
  (∀ a x, ((![v1670, v2057, v2196, v30] : Fin 4 → IVec S16 32) a x).toNat < S2x4x32x32.size a)
theorem k0_idx2445_inb : ∀ (v30 : IVec S16 32) (v1670 : IVec S16 32) (v2057 : IVec S16 32) (v2196 : IVec S16 32) (k0_hw1846 : k0_chk1846 v30 v1670 v2057 v2196), ∀ a x, ((![v1670, v2057, v2196, v30] : Fin 4 → IVec S16 32) a x).toNat < S2x4x32x32.size a := fun v30 v1670 v2057 v2196 k0_hw1846 => k0_hw1846

def k0_chk1847 (v1670 : IVec S16 32) (v2057 : IVec S16 32) (v2196 : IVec S16 32) (v2199 : IVec S16 32) : Prop :=
  (∀ a x, ((![v1670, v2057, v2196, v2199] : Fin 4 → IVec S16 32) a x).toNat < S2x4x32x32.size a)
theorem k0_idx2446_inb : ∀ (v1670 : IVec S16 32) (v2057 : IVec S16 32) (v2196 : IVec S16 32) (v2199 : IVec S16 32) (k0_hw1847 : k0_chk1847 v1670 v2057 v2196 v2199), ∀ a x, ((![v1670, v2057, v2196, v2199] : Fin 4 → IVec S16 32) a x).toNat < S2x4x32x32.size a := fun v1670 v2057 v2196 v2199 k0_hw1847 => k0_hw1847

def k0_chk1848 (v33 : IVec S16 32) (v35 : IVec S16 32) (v1670 : IVec S16 32) (v2057 : IVec S16 32) (v2201 : IVec S16 32) : Prop :=
  (∀ a x, ((![v1670, v2057, v2201, v33] : Fin 4 → IVec S16 32) a x).toNat < S2x4x94x96.size a) ∧
  (∀ a x, ((![v1670, v2057, v2201, v35] : Fin 4 → IVec S16 32) a x).toNat < S2x4x94x96.size a)
theorem k0_idx2447_inb : ∀ (v33 : IVec S16 32) (v35 : IVec S16 32) (v1670 : IVec S16 32) (v2057 : IVec S16 32) (v2201 : IVec S16 32) (k0_hw1848 : k0_chk1848 v33 v35 v1670 v2057 v2201), ∀ a x, ((![v1670, v2057, v2201, v33] : Fin 4 → IVec S16 32) a x).toNat < S2x4x94x96.size a := fun v33 v35 v1670 v2057 v2201 k0_hw1848 => k0_hw1848.1
theorem k0_idx2448_inb : ∀ (v33 : IVec S16 32) (v35 : IVec S16 32) (v1670 : IVec S16 32) (v2057 : IVec S16 32) (v2201 : IVec S16 32) (k0_hw1848 : k0_chk1848 v33 v35 v1670 v2057 v2201), ∀ a x, ((![v1670, v2057, v2201, v35] : Fin 4 → IVec S16 32) a x).toNat < S2x4x94x96.size a := fun v33 v35 v1670 v2057 v2201 k0_hw1848 => k0_hw1848.2

def k0_chk1849 (v30 : IVec S16 32) (v1670 : IVec S16 32) (v2057 : IVec S16 32) (v2202 : IVec S16 32) : Prop :=
  (∀ a x, ((![v1670, v2057, v2202, v30] : Fin 4 → IVec S16 32) a x).toNat < S2x4x32x32.size a)
theorem k0_idx2449_inb : ∀ (v30 : IVec S16 32) (v1670 : IVec S16 32) (v2057 : IVec S16 32) (v2202 : IVec S16 32) (k0_hw1849 : k0_chk1849 v30 v1670 v2057 v2202), ∀ a x, ((![v1670, v2057, v2202, v30] : Fin 4 → IVec S16 32) a x).toNat < S2x4x32x32.size a := fun v30 v1670 v2057 v2202 k0_hw1849 => k0_hw1849

def k0_chk1850 (v1670 : IVec S16 32) (v2057 : IVec S16 32) (v2202 : IVec S16 32) (v2205 : IVec S16 32) : Prop :=
  (∀ a x, ((![v1670, v2057, v2202, v2205] : Fin 4 → IVec S16 32) a x).toNat < S2x4x32x32.size a)
theorem k0_idx2450_inb : ∀ (v1670 : IVec S16 32) (v2057 : IVec S16 32) (v2202 : IVec S16 32) (v2205 : IVec S16 32) (k0_hw1850 : k0_chk1850 v1670 v2057 v2202 v2205), ∀ a x, ((![v1670, v2057, v2202, v2205] : Fin 4 → IVec S16 32) a x).toNat < S2x4x32x32.size a := fun v1670 v2057 v2202 v2205 k0_hw1850 => k0_hw1850

def k0_chk1851 (v33 : IVec S16 32) (v35 : IVec S16 32) (v1670 : IVec S16 32) (v2057 : IVec S16 32) (v2207 : IVec S16 32) : Prop :=
  (∀ a x, ((![v1670, v2057, v2207, v33] : Fin 4 → IVec S16 32) a x).toNat < S2x4x94x96.size a) ∧
  (∀ a x, ((![v1670, v2057, v2207, v35] : Fin 4 → IVec S16 32) a x).toNat < S2x4x94x96.size a)
theorem k0_idx2451_inb : ∀ (v33 : IVec S16 32) (v35 : IVec S16 32) (v1670 : IVec S16 32) (v2057 : IVec S16 32) (v2207 : IVec S16 32) (k0_hw1851 : k0_chk1851 v33 v35 v1670 v2057 v2207), ∀ a x, ((![v1670, v2057, v2207, v33] : Fin 4 → IVec S16 32) a x).toNat < S2x4x94x96.size a := fun v33 v35 v1670 v2057 v2207 k0_hw1851 => k0_hw1851.1
theorem k0_idx2452_inb : ∀ (v33 : IVec S16 32) (v35 : IVec S16 32) (v1670 : IVec S16 32) (v2057 : IVec S16 32) (v2207 : IVec S16 32) (k0_hw1851 : k0_chk1851 v33 v35 v1670 v2057 v2207), ∀ a x, ((![v1670, v2057, v2207, v35] : Fin 4 → IVec S16 32) a x).toNat < S2x4x94x96.size a := fun v33 v35 v1670 v2057 v2207 k0_hw1851 => k0_hw1851.2

def k0_chk1852 (v30 : IVec S16 32) (v1670 : IVec S16 32) (v2057 : IVec S16 32) (v2208 : IVec S16 32) : Prop :=
  (∀ a x, ((![v1670, v2057, v2208, v30] : Fin 4 → IVec S16 32) a x).toNat < S2x4x32x32.size a)
theorem k0_idx2453_inb : ∀ (v30 : IVec S16 32) (v1670 : IVec S16 32) (v2057 : IVec S16 32) (v2208 : IVec S16 32) (k0_hw1852 : k0_chk1852 v30 v1670 v2057 v2208), ∀ a x, ((![v1670, v2057, v2208, v30] : Fin 4 → IVec S16 32) a x).toNat < S2x4x32x32.size a := fun v30 v1670 v2057 v2208 k0_hw1852 => k0_hw1852

def k0_chk1853 (v1670 : IVec S16 32) (v2057 : IVec S16 32) (v2208 : IVec S16 32) (v2211 : IVec S16 32) : Prop :=
  (∀ a x, ((![v1670, v2057, v2208, v2211] : Fin 4 → IVec S16 32) a x).toNat < S2x4x32x32.size a)
theorem k0_idx2454_inb : ∀ (v1670 : IVec S16 32) (v2057 : IVec S16 32) (v2208 : IVec S16 32) (v2211 : IVec S16 32) (k0_hw1853 : k0_chk1853 v1670 v2057 v2208 v2211), ∀ a x, ((![v1670, v2057, v2208, v2211] : Fin 4 → IVec S16 32) a x).toNat < S2x4x32x32.size a := fun v1670 v2057 v2208 v2211 k0_hw1853 => k0_hw1853

def k0_chk1854 (v33 : IVec S16 32) (v35 : IVec S16 32) (v1670 : IVec S16 32) (v2057 : IVec S16 32) (v2213 : IVec S16 32) : Prop :=
  (∀ a x, ((![v1670, v2057, v2213, v33] : Fin 4 → IVec S16 32) a x).toNat < S2x4x94x96.size a) ∧
  (∀ a x, ((![v1670, v2057, v2213, v35] : Fin 4 → IVec S16 32) a x).toNat < S2x4x94x96.size a)
theorem k0_idx2455_inb : ∀ (v33 : IVec S16 32) (v35 : IVec S16 32) (v1670 : IVec S16 32) (v2057 : IVec S16 32) (v2213 : IVec S16 32) (k0_hw1854 : k0_chk1854 v33 v35 v1670 v2057 v2213), ∀ a x, ((![v1670, v2057, v2213, v33] : Fin 4 → IVec S16 32) a x).toNat < S2x4x94x96.size a := fun v33 v35 v1670 v2057 v2213 k0_hw1854 => k0_hw1854.1
theorem k0_idx2456_inb : ∀ (v33 : IVec S16 32) (v35 : IVec S16 32) (v1670 : IVec S16 32) (v2057 : IVec S16 32) (v2213 : IVec S16 32) (k0_hw1854 : k0_chk1854 v33 v35 v1670 v2057 v2213), ∀ a x, ((![v1670, v2057, v2213, v35] : Fin 4 → IVec S16 32) a x).toNat < S2x4x94x96.size a := fun v33 v35 v1670 v2057 v2213 k0_hw1854 => k0_hw1854.2

def k0_chk1855 (v30 : IVec S16 32) (v1670 : IVec S16 32) (v2057 : IVec S16 32) (v2214 : IVec S16 32) : Prop :=
  (∀ a x, ((![v1670, v2057, v2214, v30] : Fin 4 → IVec S16 32) a x).toNat < S2x4x32x32.size a)
theorem k0_idx2457_inb : ∀ (v30 : IVec S16 32) (v1670 : IVec S16 32) (v2057 : IVec S16 32) (v2214 : IVec S16 32) (k0_hw1855 : k0_chk1855 v30 v1670 v2057 v2214), ∀ a x, ((![v1670, v2057, v2214, v30] : Fin 4 → IVec S16 32) a x).toNat < S2x4x32x32.size a := fun v30 v1670 v2057 v2214 k0_hw1855 => k0_hw1855

def k0_chk1856 (v1670 : IVec S16 32) (v2057 : IVec S16 32) (v2214 : IVec S16 32) (v2217 : IVec S16 32) : Prop :=
  (∀ a x, ((![v1670, v2057, v2214, v2217] : Fin 4 → IVec S16 32) a x).toNat < S2x4x32x32.size a)
theorem k0_idx2458_inb : ∀ (v1670 : IVec S16 32) (v2057 : IVec S16 32) (v2214 : IVec S16 32) (v2217 : IVec S16 32) (k0_hw1856 : k0_chk1856 v1670 v2057 v2214 v2217), ∀ a x, ((![v1670, v2057, v2214, v2217] : Fin 4 → IVec S16 32) a x).toNat < S2x4x32x32.size a := fun v1670 v2057 v2214 v2217 k0_hw1856 => k0_hw1856

def k0_chk1857 (v33 : IVec S16 32) (v35 : IVec S16 32) (v1670 : IVec S16 32) (v2057 : IVec S16 32) (v2219 : IVec S16 32) : Prop :=
  (∀ a x, ((![v1670, v2057, v2219, v33] : Fin 4 → IVec S16 32) a x).toNat < S2x4x94x96.size a) ∧
  (∀ a x, ((![v1670, v2057, v2219, v35] : Fin 4 → IVec S16 32) a x).toNat < S2x4x94x96.size a)
theorem k0_idx2459_inb : ∀ (v33 : IVec S16 32) (v35 : IVec S16 32) (v1670 : IVec S16 32) (v2057 : IVec S16 32) (v2219 : IVec S16 32) (k0_hw1857 : k0_chk1857 v33 v35 v1670 v2057 v2219), ∀ a x, ((![v1670, v2057, v2219, v33] : Fin 4 → IVec S16 32) a x).toNat < S2x4x94x96.size a := fun v33 v35 v1670 v2057 v2219 k0_hw1857 => k0_hw1857.1
theorem k0_idx2460_inb : ∀ (v33 : IVec S16 32) (v35 : IVec S16 32) (v1670 : IVec S16 32) (v2057 : IVec S16 32) (v2219 : IVec S16 32) (k0_hw1857 : k0_chk1857 v33 v35 v1670 v2057 v2219), ∀ a x, ((![v1670, v2057, v2219, v35] : Fin 4 → IVec S16 32) a x).toNat < S2x4x94x96.size a := fun v33 v35 v1670 v2057 v2219 k0_hw1857 => k0_hw1857.2

def k0_chk1858 (v30 : IVec S16 32) (v1670 : IVec S16 32) (v2057 : IVec S16 32) (v2220 : IVec S16 32) : Prop :=
  (∀ a x, ((![v1670, v2057, v2220, v30] : Fin 4 → IVec S16 32) a x).toNat < S2x4x32x32.size a)
theorem k0_idx2461_inb : ∀ (v30 : IVec S16 32) (v1670 : IVec S16 32) (v2057 : IVec S16 32) (v2220 : IVec S16 32) (k0_hw1858 : k0_chk1858 v30 v1670 v2057 v2220), ∀ a x, ((![v1670, v2057, v2220, v30] : Fin 4 → IVec S16 32) a x).toNat < S2x4x32x32.size a := fun v30 v1670 v2057 v2220 k0_hw1858 => k0_hw1858

def k0_chk1859 (v1670 : IVec S16 32) (v2057 : IVec S16 32) (v2220 : IVec S16 32) (v2223 : IVec S16 32) : Prop :=
  (∀ a x, ((![v1670, v2057, v2220, v2223] : Fin 4 → IVec S16 32) a x).toNat < S2x4x32x32.size a)
theorem k0_idx2462_inb : ∀ (v1670 : IVec S16 32) (v2057 : IVec S16 32) (v2220 : IVec S16 32) (v2223 : IVec S16 32) (k0_hw1859 : k0_chk1859 v1670 v2057 v2220 v2223), ∀ a x, ((![v1670, v2057, v2220, v2223] : Fin 4 → IVec S16 32) a x).toNat < S2x4x32x32.size a := fun v1670 v2057 v2220 v2223 k0_hw1859 => k0_hw1859

def k0_chk1860 (v33 : IVec S16 32) (v35 : IVec S16 32) (v1670 : IVec S16 32) (v2057 : IVec S16 32) (v2225 : IVec S16 32) : Prop :=
  (∀ a x, ((![v1670, v2057, v2225, v33] : Fin 4 → IVec S16 32) a x).toNat < S2x4x94x96.size a) ∧
  (∀ a x, ((![v1670, v2057, v2225, v35] : Fin 4 → IVec S16 32) a x).toNat < S2x4x94x96.size a)
theorem k0_idx2463_inb : ∀ (v33 : IVec S16 32) (v35 : IVec S16 32) (v1670 : IVec S16 32) (v2057 : IVec S16 32) (v2225 : IVec S16 32) (k0_hw1860 : k0_chk1860 v33 v35 v1670 v2057 v2225), ∀ a x, ((![v1670, v2057, v2225, v33] : Fin 4 → IVec S16 32) a x).toNat < S2x4x94x96.size a := fun v33 v35 v1670 v2057 v2225 k0_hw1860 => k0_hw1860.1
theorem k0_idx2464_inb : ∀ (v33 : IVec S16 32) (v35 : IVec S16 32) (v1670 : IVec S16 32) (v2057 : IVec S16 32) (v2225 : IVec S16 32) (k0_hw1860 : k0_chk1860 v33 v35 v1670 v2057 v2225), ∀ a x, ((![v1670, v2057, v2225, v35] : Fin 4 → IVec S16 32) a x).toNat < S2x4x94x96.size a := fun v33 v35 v1670 v2057 v2225 k0_hw1860 => k0_hw1860.2

def k0_chk1861 (v30 : IVec S16 32) (v1670 : IVec S16 32) (v2057 : IVec S16 32) (v2226 : IVec S16 32) : Prop :=
  (∀ a x, ((![v1670, v2057, v2226, v30] : Fin 4 → IVec S16 32) a x).toNat < S2x4x32x32.size a)
theorem k0_idx2465_inb : ∀ (v30 : IVec S16 32) (v1670 : IVec S16 32) (v2057 : IVec S16 32) (v2226 : IVec S16 32) (k0_hw1861 : k0_chk1861 v30 v1670 v2057 v2226), ∀ a x, ((![v1670, v2057, v2226, v30] : Fin 4 → IVec S16 32) a x).toNat < S2x4x32x32.size a := fun v30 v1670 v2057 v2226 k0_hw1861 => k0_hw1861

def k0_chk1862 (v1670 : IVec S16 32) (v2057 : IVec S16 32) (v2226 : IVec S16 32) (v2229 : IVec S16 32) : Prop :=
  (∀ a x, ((![v1670, v2057, v2226, v2229] : Fin 4 → IVec S16 32) a x).toNat < S2x4x32x32.size a)
theorem k0_idx2466_inb : ∀ (v1670 : IVec S16 32) (v2057 : IVec S16 32) (v2226 : IVec S16 32) (v2229 : IVec S16 32) (k0_hw1862 : k0_chk1862 v1670 v2057 v2226 v2229), ∀ a x, ((![v1670, v2057, v2226, v2229] : Fin 4 → IVec S16 32) a x).toNat < S2x4x32x32.size a := fun v1670 v2057 v2226 v2229 k0_hw1862 => k0_hw1862

def k0_chk1863 (v33 : IVec S16 32) (v35 : IVec S16 32) (v1670 : IVec S16 32) (v2057 : IVec S16 32) (v2231 : IVec S16 32) : Prop :=
  (∀ a x, ((![v1670, v2057, v2231, v33] : Fin 4 → IVec S16 32) a x).toNat < S2x4x94x96.size a) ∧
  (∀ a x, ((![v1670, v2057, v2231, v35] : Fin 4 → IVec S16 32) a x).toNat < S2x4x94x96.size a)
theorem k0_idx2467_inb : ∀ (v33 : IVec S16 32) (v35 : IVec S16 32) (v1670 : IVec S16 32) (v2057 : IVec S16 32) (v2231 : IVec S16 32) (k0_hw1863 : k0_chk1863 v33 v35 v1670 v2057 v2231), ∀ a x, ((![v1670, v2057, v2231, v33] : Fin 4 → IVec S16 32) a x).toNat < S2x4x94x96.size a := fun v33 v35 v1670 v2057 v2231 k0_hw1863 => k0_hw1863.1
theorem k0_idx2468_inb : ∀ (v33 : IVec S16 32) (v35 : IVec S16 32) (v1670 : IVec S16 32) (v2057 : IVec S16 32) (v2231 : IVec S16 32) (k0_hw1863 : k0_chk1863 v33 v35 v1670 v2057 v2231), ∀ a x, ((![v1670, v2057, v2231, v35] : Fin 4 → IVec S16 32) a x).toNat < S2x4x94x96.size a := fun v33 v35 v1670 v2057 v2231 k0_hw1863 => k0_hw1863.2

def k0_chk1864 (v30 : IVec S16 32) (v1670 : IVec S16 32) (v2057 : IVec S16 32) (v2232 : IVec S16 32) : Prop :=
  (∀ a x, ((![v1670, v2057, v2232, v30] : Fin 4 → IVec S16 32) a x).toNat < S2x4x32x32.size a)
theorem k0_idx2469_inb : ∀ (v30 : IVec S16 32) (v1670 : IVec S16 32) (v2057 : IVec S16 32) (v2232 : IVec S16 32) (k0_hw1864 : k0_chk1864 v30 v1670 v2057 v2232), ∀ a x, ((![v1670, v2057, v2232, v30] : Fin 4 → IVec S16 32) a x).toNat < S2x4x32x32.size a := fun v30 v1670 v2057 v2232 k0_hw1864 => k0_hw1864

def k0_chk1865 (v1670 : IVec S16 32) (v2057 : IVec S16 32) (v2232 : IVec S16 32) (v2235 : IVec S16 32) : Prop :=
  (∀ a x, ((![v1670, v2057, v2232, v2235] : Fin 4 → IVec S16 32) a x).toNat < S2x4x32x32.size a)
theorem k0_idx2470_inb : ∀ (v1670 : IVec S16 32) (v2057 : IVec S16 32) (v2232 : IVec S16 32) (v2235 : IVec S16 32) (k0_hw1865 : k0_chk1865 v1670 v2057 v2232 v2235), ∀ a x, ((![v1670, v2057, v2232, v2235] : Fin 4 → IVec S16 32) a x).toNat < S2x4x32x32.size a := fun v1670 v2057 v2232 v2235 k0_hw1865 => k0_hw1865

def k0_chk1866 (v33 : IVec S16 32) (v35 : IVec S16 32) (v1670 : IVec S16 32) (v2057 : IVec S16 32) (v2237 : IVec S16 32) : Prop :=
  (∀ a x, ((![v1670, v2057, v2237, v33] : Fin 4 → IVec S16 32) a x).toNat < S2x4x94x96.size a) ∧
  (∀ a x, ((![v1670, v2057, v2237, v35] : Fin 4 → IVec S16 32) a x).toNat < S2x4x94x96.size a)
theorem k0_idx2471_inb : ∀ (v33 : IVec S16 32) (v35 : IVec S16 32) (v1670 : IVec S16 32) (v2057 : IVec S16 32) (v2237 : IVec S16 32) (k0_hw1866 : k0_chk1866 v33 v35 v1670 v2057 v2237), ∀ a x, ((![v1670, v2057, v2237, v33] : Fin 4 → IVec S16 32) a x).toNat < S2x4x94x96.size a := fun v33 v35 v1670 v2057 v2237 k0_hw1866 => k0_hw1866.1
theorem k0_idx2472_inb : ∀ (v33 : IVec S16 32) (v35 : IVec S16 32) (v1670 : IVec S16 32) (v2057 : IVec S16 32) (v2237 : IVec S16 32) (k0_hw1866 : k0_chk1866 v33 v35 v1670 v2057 v2237), ∀ a x, ((![v1670, v2057, v2237, v35] : Fin 4 → IVec S16 32) a x).toNat < S2x4x94x96.size a := fun v33 v35 v1670 v2057 v2237 k0_hw1866 => k0_hw1866.2

def k0_chk1867 (v30 : IVec S16 32) (v1670 : IVec S16 32) (v2057 : IVec S16 32) (v2238 : IVec S16 32) : Prop :=
  (∀ a x, ((![v1670, v2057, v2238, v30] : Fin 4 → IVec S16 32) a x).toNat < S2x4x32x32.size a)
theorem k0_idx2473_inb : ∀ (v30 : IVec S16 32) (v1670 : IVec S16 32) (v2057 : IVec S16 32) (v2238 : IVec S16 32) (k0_hw1867 : k0_chk1867 v30 v1670 v2057 v2238), ∀ a x, ((![v1670, v2057, v2238, v30] : Fin 4 → IVec S16 32) a x).toNat < S2x4x32x32.size a := fun v30 v1670 v2057 v2238 k0_hw1867 => k0_hw1867

def k0_chk1868 (v1670 : IVec S16 32) (v2057 : IVec S16 32) (v2238 : IVec S16 32) (v2241 : IVec S16 32) : Prop :=
  (∀ a x, ((![v1670, v2057, v2238, v2241] : Fin 4 → IVec S16 32) a x).toNat < S2x4x32x32.size a)
theorem k0_idx2474_inb : ∀ (v1670 : IVec S16 32) (v2057 : IVec S16 32) (v2238 : IVec S16 32) (v2241 : IVec S16 32) (k0_hw1868 : k0_chk1868 v1670 v2057 v2238 v2241), ∀ a x, ((![v1670, v2057, v2238, v2241] : Fin 4 → IVec S16 32) a x).toNat < S2x4x32x32.size a := fun v1670 v2057 v2238 v2241 k0_hw1868 => k0_hw1868

def k0_chk1869 (v33 : IVec S16 32) (v35 : IVec S16 32) (v1670 : IVec S16 32) (v2057 : IVec S16 32) (v2243 : IVec S16 32) : Prop :=
  (∀ a x, ((![v1670, v2057, v2243, v33] : Fin 4 → IVec S16 32) a x).toNat < S2x4x94x96.size a) ∧
  (∀ a x, ((![v1670, v2057, v2243, v35] : Fin 4 → IVec S16 32) a x).toNat < S2x4x94x96.size a)
theorem k0_idx2475_inb : ∀ (v33 : IVec S16 32) (v35 : IVec S16 32) (v1670 : IVec S16 32) (v2057 : IVec S16 32) (v2243 : IVec S16 32) (k0_hw1869 : k0_chk1869 v33 v35 v1670 v2057 v2243), ∀ a x, ((![v1670, v2057, v2243, v33] : Fin 4 → IVec S16 32) a x).toNat < S2x4x94x96.size a := fun v33 v35 v1670 v2057 v2243 k0_hw1869 => k0_hw1869.1
theorem k0_idx2476_inb : ∀ (v33 : IVec S16 32) (v35 : IVec S16 32) (v1670 : IVec S16 32) (v2057 : IVec S16 32) (v2243 : IVec S16 32) (k0_hw1869 : k0_chk1869 v33 v35 v1670 v2057 v2243), ∀ a x, ((![v1670, v2057, v2243, v35] : Fin 4 → IVec S16 32) a x).toNat < S2x4x94x96.size a := fun v33 v35 v1670 v2057 v2243 k0_hw1869 => k0_hw1869.2

def k0_chk1870 (v30 : IVec S16 32) (v1670 : IVec S16 32) (v2057 : IVec S16 32) (v2244 : IVec S16 32) : Prop :=
  (∀ a x, ((![v1670, v2057, v2244, v30] : Fin 4 → IVec S16 32) a x).toNat < S2x4x32x32.size a)
theorem k0_idx2477_inb : ∀ (v30 : IVec S16 32) (v1670 : IVec S16 32) (v2057 : IVec S16 32) (v2244 : IVec S16 32) (k0_hw1870 : k0_chk1870 v30 v1670 v2057 v2244), ∀ a x, ((![v1670, v2057, v2244, v30] : Fin 4 → IVec S16 32) a x).toNat < S2x4x32x32.size a := fun v30 v1670 v2057 v2244 k0_hw1870 => k0_hw1870

def k0_chk1871 (v1670 : IVec S16 32) (v2057 : IVec S16 32) (v2244 : IVec S16 32) (v2247 : IVec S16 32) : Prop :=
  (∀ a x, ((![v1670, v2057, v2244, v2247] : Fin 4 → IVec S16 32) a x).toNat < S2x4x32x32.size a)
theorem k0_idx2478_inb : ∀ (v1670 : IVec S16 32) (v2057 : IVec S16 32) (v2244 : IVec S16 32) (v2247 : IVec S16 32) (k0_hw1871 : k0_chk1871 v1670 v2057 v2244 v2247), ∀ a x, ((![v1670, v2057, v2244, v2247] : Fin 4 → IVec S16 32) a x).toNat < S2x4x32x32.size a := fun v1670 v2057 v2244 v2247 k0_hw1871 => k0_hw1871

def k0_chk1872 (v33 : IVec S16 32) (v35 : IVec S16 32) (v1670 : IVec S16 32) (v2057 : IVec S16 32) (v2249 : IVec S16 32) : Prop :=
  (∀ a x, ((![v1670, v2057, v2249, v33] : Fin 4 → IVec S16 32) a x).toNat < S2x4x94x96.size a) ∧
  (∀ a x, ((![v1670, v2057, v2249, v35] : Fin 4 → IVec S16 32) a x).toNat < S2x4x94x96.size a)
theorem k0_idx2479_inb : ∀ (v33 : IVec S16 32) (v35 : IVec S16 32) (v1670 : IVec S16 32) (v2057 : IVec S16 32) (v2249 : IVec S16 32) (k0_hw1872 : k0_chk1872 v33 v35 v1670 v2057 v2249), ∀ a x, ((![v1670, v2057, v2249, v33] : Fin 4 → IVec S16 32) a x).toNat < S2x4x94x96.size a := fun v33 v35 v1670 v2057 v2249 k0_hw1872 => k0_hw1872.1
theorem k0_idx2480_inb : ∀ (v33 : IVec S16 32) (v35 : IVec S16 32) (v1670 : IVec S16 32) (v2057 : IVec S16 32) (v2249 : IVec S16 32) (k0_hw1872 : k0_chk1872 v33 v35 v1670 v2057 v2249), ∀ a x, ((![v1670, v2057, v2249, v35] : Fin 4 → IVec S16 32) a x).toNat < S2x4x94x96.size a := fun v33 v35 v1670 v2057 v2249 k0_hw1872 => k0_hw1872.2

def k0_chk1873 (v30 : IVec S16 32) (v1670 : IVec S16 32) (v2250 : IVec S16 32) (v2251 : IVec S16 32) : Prop :=
  (∀ a x, ((![v1670, v2250, v2251, v30] : Fin 4 → IVec S16 32) a x).toNat < S2x4x32x32.size a)
theorem k0_idx2481_inb : ∀ (v30 : IVec S16 32) (v1670 : IVec S16 32) (v2250 : IVec S16 32) (v2251 : IVec S16 32) (k0_hw1873 : k0_chk1873 v30 v1670 v2250 v2251), ∀ a x, ((![v1670, v2250, v2251, v30] : Fin 4 → IVec S16 32) a x).toNat < S2x4x32x32.size a := fun v30 v1670 v2250 v2251 k0_hw1873 => k0_hw1873

def k0_chk1874 (v1670 : IVec S16 32) (v2250 : IVec S16 32) (v2251 : IVec S16 32) (v2254 : IVec S16 32) : Prop :=
  (∀ a x, ((![v1670, v2250, v2251, v2254] : Fin 4 → IVec S16 32) a x).toNat < S2x4x32x32.size a)
theorem k0_idx2482_inb : ∀ (v1670 : IVec S16 32) (v2250 : IVec S16 32) (v2251 : IVec S16 32) (v2254 : IVec S16 32) (k0_hw1874 : k0_chk1874 v1670 v2250 v2251 v2254), ∀ a x, ((![v1670, v2250, v2251, v2254] : Fin 4 → IVec S16 32) a x).toNat < S2x4x32x32.size a := fun v1670 v2250 v2251 v2254 k0_hw1874 => k0_hw1874

def k0_chk1875 (v33 : IVec S16 32) (v35 : IVec S16 32) (v1670 : IVec S16 32) (v2250 : IVec S16 32) (v2256 : IVec S16 32) : Prop :=
  (∀ a x, ((![v1670, v2250, v2256, v33] : Fin 4 → IVec S16 32) a x).toNat < S2x4x94x96.size a) ∧
  (∀ a x, ((![v1670, v2250, v2256, v35] : Fin 4 → IVec S16 32) a x).toNat < S2x4x94x96.size a)
theorem k0_idx2483_inb : ∀ (v33 : IVec S16 32) (v35 : IVec S16 32) (v1670 : IVec S16 32) (v2250 : IVec S16 32) (v2256 : IVec S16 32) (k0_hw1875 : k0_chk1875 v33 v35 v1670 v2250 v2256), ∀ a x, ((![v1670, v2250, v2256, v33] : Fin 4 → IVec S16 32) a x).toNat < S2x4x94x96.size a := fun v33 v35 v1670 v2250 v2256 k0_hw1875 => k0_hw1875.1
theorem k0_idx2484_inb : ∀ (v33 : IVec S16 32) (v35 : IVec S16 32) (v1670 : IVec S16 32) (v2250 : IVec S16 32) (v2256 : IVec S16 32) (k0_hw1875 : k0_chk1875 v33 v35 v1670 v2250 v2256), ∀ a x, ((![v1670, v2250, v2256, v35] : Fin 4 → IVec S16 32) a x).toNat < S2x4x94x96.size a := fun v33 v35 v1670 v2250 v2256 k0_hw1875 => k0_hw1875.2

def k0_chk1876 (v30 : IVec S16 32) (v1670 : IVec S16 32) (v2250 : IVec S16 32) (v2257 : IVec S16 32) : Prop :=
  (∀ a x, ((![v1670, v2250, v2257, v30] : Fin 4 → IVec S16 32) a x).toNat < S2x4x32x32.size a)
theorem k0_idx2485_inb : ∀ (v30 : IVec S16 32) (v1670 : IVec S16 32) (v2250 : IVec S16 32) (v2257 : IVec S16 32) (k0_hw1876 : k0_chk1876 v30 v1670 v2250 v2257), ∀ a x, ((![v1670, v2250, v2257, v30] : Fin 4 → IVec S16 32) a x).toNat < S2x4x32x32.size a := fun v30 v1670 v2250 v2257 k0_hw1876 => k0_hw1876

def k0_chk1877 (v1670 : IVec S16 32) (v2250 : IVec S16 32) (v2257 : IVec S16 32) (v2260 : IVec S16 32) : Prop :=
  (∀ a x, ((![v1670, v2250, v2257, v2260] : Fin 4 → IVec S16 32) a x).toNat < S2x4x32x32.size a)
theorem k0_idx2486_inb : ∀ (v1670 : IVec S16 32) (v2250 : IVec S16 32) (v2257 : IVec S16 32) (v2260 : IVec S16 32) (k0_hw1877 : k0_chk1877 v1670 v2250 v2257 v2260), ∀ a x, ((![v1670, v2250, v2257, v2260] : Fin 4 → IVec S16 32) a x).toNat < S2x4x32x32.size a := fun v1670 v2250 v2257 v2260 k0_hw1877 => k0_hw1877

def k0_chk1878 (v33 : IVec S16 32) (v35 : IVec S16 32) (v1670 : IVec S16 32) (v2250 : IVec S16 32) (v2262 : IVec S16 32) : Prop :=
  (∀ a x, ((![v1670, v2250, v2262, v33] : Fin 4 → IVec S16 32) a x).toNat < S2x4x94x96.size a) ∧
  (∀ a x, ((![v1670, v2250, v2262, v35] : Fin 4 → IVec S16 32) a x).toNat < S2x4x94x96.size a)
theorem k0_idx2487_inb : ∀ (v33 : IVec S16 32) (v35 : IVec S16 32) (v1670 : IVec S16 32) (v2250 : IVec S16 32) (v2262 : IVec S16 32) (k0_hw1878 : k0_chk1878 v33 v35 v1670 v2250 v2262), ∀ a x, ((![v1670, v2250, v2262, v33] : Fin 4 → IVec S16 32) a x).toNat < S2x4x94x96.size a := fun v33 v35 v1670 v2250 v2262 k0_hw1878 => k0_hw1878.1
theorem k0_idx2488_inb : ∀ (v33 : IVec S16 32) (v35 : IVec S16 32) (v1670 : IVec S16 32) (v2250 : IVec S16 32) (v2262 : IVec S16 32) (k0_hw1878 : k0_chk1878 v33 v35 v1670 v2250 v2262), ∀ a x, ((![v1670, v2250, v2262, v35] : Fin 4 → IVec S16 32) a x).toNat < S2x4x94x96.size a := fun v33 v35 v1670 v2250 v2262 k0_hw1878 => k0_hw1878.2

def k0_chk1879 (v30 : IVec S16 32) (v1670 : IVec S16 32) (v2250 : IVec S16 32) (v2263 : IVec S16 32) : Prop :=
  (∀ a x, ((![v1670, v2250, v2263, v30] : Fin 4 → IVec S16 32) a x).toNat < S2x4x32x32.size a)
theorem k0_idx2489_inb : ∀ (v30 : IVec S16 32) (v1670 : IVec S16 32) (v2250 : IVec S16 32) (v2263 : IVec S16 32) (k0_hw1879 : k0_chk1879 v30 v1670 v2250 v2263), ∀ a x, ((![v1670, v2250, v2263, v30] : Fin 4 → IVec S16 32) a x).toNat < S2x4x32x32.size a := fun v30 v1670 v2250 v2263 k0_hw1879 => k0_hw1879

def k0_chk1880 (v1670 : IVec S16 32) (v2250 : IVec S16 32) (v2263 : IVec S16 32) (v2266 : IVec S16 32) : Prop :=
  (∀ a x, ((![v1670, v2250, v2263, v2266] : Fin 4 → IVec S16 32) a x).toNat < S2x4x32x32.size a)
theorem k0_idx2490_inb : ∀ (v1670 : IVec S16 32) (v2250 : IVec S16 32) (v2263 : IVec S16 32) (v2266 : IVec S16 32) (k0_hw1880 : k0_chk1880 v1670 v2250 v2263 v2266), ∀ a x, ((![v1670, v2250, v2263, v2266] : Fin 4 → IVec S16 32) a x).toNat < S2x4x32x32.size a := fun v1670 v2250 v2263 v2266 k0_hw1880 => k0_hw1880

def k0_chk1881 (v33 : IVec S16 32) (v35 : IVec S16 32) (v1670 : IVec S16 32) (v2250 : IVec S16 32) (v2268 : IVec S16 32) : Prop :=
  (∀ a x, ((![v1670, v2250, v2268, v33] : Fin 4 → IVec S16 32) a x).toNat < S2x4x94x96.size a) ∧
  (∀ a x, ((![v1670, v2250, v2268, v35] : Fin 4 → IVec S16 32) a x).toNat < S2x4x94x96.size a)
theorem k0_idx2491_inb : ∀ (v33 : IVec S16 32) (v35 : IVec S16 32) (v1670 : IVec S16 32) (v2250 : IVec S16 32) (v2268 : IVec S16 32) (k0_hw1881 : k0_chk1881 v33 v35 v1670 v2250 v2268), ∀ a x, ((![v1670, v2250, v2268, v33] : Fin 4 → IVec S16 32) a x).toNat < S2x4x94x96.size a := fun v33 v35 v1670 v2250 v2268 k0_hw1881 => k0_hw1881.1
theorem k0_idx2492_inb : ∀ (v33 : IVec S16 32) (v35 : IVec S16 32) (v1670 : IVec S16 32) (v2250 : IVec S16 32) (v2268 : IVec S16 32) (k0_hw1881 : k0_chk1881 v33 v35 v1670 v2250 v2268), ∀ a x, ((![v1670, v2250, v2268, v35] : Fin 4 → IVec S16 32) a x).toNat < S2x4x94x96.size a := fun v33 v35 v1670 v2250 v2268 k0_hw1881 => k0_hw1881.2

def k0_chk1882 (v30 : IVec S16 32) (v1670 : IVec S16 32) (v2250 : IVec S16 32) (v2269 : IVec S16 32) : Prop :=
  (∀ a x, ((![v1670, v2250, v2269, v30] : Fin 4 → IVec S16 32) a x).toNat < S2x4x32x32.size a)
theorem k0_idx2493_inb : ∀ (v30 : IVec S16 32) (v1670 : IVec S16 32) (v2250 : IVec S16 32) (v2269 : IVec S16 32) (k0_hw1882 : k0_chk1882 v30 v1670 v2250 v2269), ∀ a x, ((![v1670, v2250, v2269, v30] : Fin 4 → IVec S16 32) a x).toNat < S2x4x32x32.size a := fun v30 v1670 v2250 v2269 k0_hw1882 => k0_hw1882

def k0_chk1883 (v1670 : IVec S16 32) (v2250 : IVec S16 32) (v2269 : IVec S16 32) (v2272 : IVec S16 32) : Prop :=
  (∀ a x, ((![v1670, v2250, v2269, v2272] : Fin 4 → IVec S16 32) a x).toNat < S2x4x32x32.size a)
theorem k0_idx2494_inb : ∀ (v1670 : IVec S16 32) (v2250 : IVec S16 32) (v2269 : IVec S16 32) (v2272 : IVec S16 32) (k0_hw1883 : k0_chk1883 v1670 v2250 v2269 v2272), ∀ a x, ((![v1670, v2250, v2269, v2272] : Fin 4 → IVec S16 32) a x).toNat < S2x4x32x32.size a := fun v1670 v2250 v2269 v2272 k0_hw1883 => k0_hw1883

def k0_chk1884 (v33 : IVec S16 32) (v35 : IVec S16 32) (v1670 : IVec S16 32) (v2250 : IVec S16 32) (v2274 : IVec S16 32) : Prop :=
  (∀ a x, ((![v1670, v2250, v2274, v33] : Fin 4 → IVec S16 32) a x).toNat < S2x4x94x96.size a) ∧
  (∀ a x, ((![v1670, v2250, v2274, v35] : Fin 4 → IVec S16 32) a x).toNat < S2x4x94x96.size a)
theorem k0_idx2495_inb : ∀ (v33 : IVec S16 32) (v35 : IVec S16 32) (v1670 : IVec S16 32) (v2250 : IVec S16 32) (v2274 : IVec S16 32) (k0_hw1884 : k0_chk1884 v33 v35 v1670 v2250 v2274), ∀ a x, ((![v1670, v2250, v2274, v33] : Fin 4 → IVec S16 32) a x).toNat < S2x4x94x96.size a := fun v33 v35 v1670 v2250 v2274 k0_hw1884 => k0_hw1884.1
theorem k0_idx2496_inb : ∀ (v33 : IVec S16 32) (v35 : IVec S16 32) (v1670 : IVec S16 32) (v2250 : IVec S16 32) (v2274 : IVec S16 32) (k0_hw1884 : k0_chk1884 v33 v35 v1670 v2250 v2274), ∀ a x, ((![v1670, v2250, v2274, v35] : Fin 4 → IVec S16 32) a x).toNat < S2x4x94x96.size a := fun v33 v35 v1670 v2250 v2274 k0_hw1884 => k0_hw1884.2

def k0_chk1885 (v30 : IVec S16 32) (v1670 : IVec S16 32) (v2250 : IVec S16 32) (v2275 : IVec S16 32) : Prop :=
  (∀ a x, ((![v1670, v2250, v2275, v30] : Fin 4 → IVec S16 32) a x).toNat < S2x4x32x32.size a)
theorem k0_idx2497_inb : ∀ (v30 : IVec S16 32) (v1670 : IVec S16 32) (v2250 : IVec S16 32) (v2275 : IVec S16 32) (k0_hw1885 : k0_chk1885 v30 v1670 v2250 v2275), ∀ a x, ((![v1670, v2250, v2275, v30] : Fin 4 → IVec S16 32) a x).toNat < S2x4x32x32.size a := fun v30 v1670 v2250 v2275 k0_hw1885 => k0_hw1885

def k0_chk1886 (v1670 : IVec S16 32) (v2250 : IVec S16 32) (v2275 : IVec S16 32) (v2278 : IVec S16 32) : Prop :=
  (∀ a x, ((![v1670, v2250, v2275, v2278] : Fin 4 → IVec S16 32) a x).toNat < S2x4x32x32.size a)
theorem k0_idx2498_inb : ∀ (v1670 : IVec S16 32) (v2250 : IVec S16 32) (v2275 : IVec S16 32) (v2278 : IVec S16 32) (k0_hw1886 : k0_chk1886 v1670 v2250 v2275 v2278), ∀ a x, ((![v1670, v2250, v2275, v2278] : Fin 4 → IVec S16 32) a x).toNat < S2x4x32x32.size a := fun v1670 v2250 v2275 v2278 k0_hw1886 => k0_hw1886

def k0_chk1887 (v33 : IVec S16 32) (v35 : IVec S16 32) (v1670 : IVec S16 32) (v2250 : IVec S16 32) (v2280 : IVec S16 32) : Prop :=
  (∀ a x, ((![v1670, v2250, v2280, v33] : Fin 4 → IVec S16 32) a x).toNat < S2x4x94x96.size a) ∧
  (∀ a x, ((![v1670, v2250, v2280, v35] : Fin 4 → IVec S16 32) a x).toNat < S2x4x94x96.size a)
theorem k0_idx2499_inb : ∀ (v33 : IVec S16 32) (v35 : IVec S16 32) (v1670 : IVec S16 32) (v2250 : IVec S16 32) (v2280 : IVec S16 32) (k0_hw1887 : k0_chk1887 v33 v35 v1670 v2250 v2280), ∀ a x, ((![v1670, v2250, v2280, v33] : Fin 4 → IVec S16 32) a x).toNat < S2x4x94x96.size a := fun v33 v35 v1670 v2250 v2280 k0_hw1887 => k0_hw1887.1
theorem k0_idx2500_inb : ∀ (v33 : IVec S16 32) (v35 : IVec S16 32) (v1670 : IVec S16 32) (v2250 : IVec S16 32) (v2280 : IVec S16 32) (k0_hw1887 : k0_chk1887 v33 v35 v1670 v2250 v2280), ∀ a x, ((![v1670, v2250, v2280, v35] : Fin 4 → IVec S16 32) a x).toNat < S2x4x94x96.size a := fun v33 v35 v1670 v2250 v2280 k0_hw1887 => k0_hw1887.2

def k0_chk1888 (v30 : IVec S16 32) (v1670 : IVec S16 32) (v2250 : IVec S16 32) (v2281 : IVec S16 32) : Prop :=
  (∀ a x, ((![v1670, v2250, v2281, v30] : Fin 4 → IVec S16 32) a x).toNat < S2x4x32x32.size a)
theorem k0_idx2501_inb : ∀ (v30 : IVec S16 32) (v1670 : IVec S16 32) (v2250 : IVec S16 32) (v2281 : IVec S16 32) (k0_hw1888 : k0_chk1888 v30 v1670 v2250 v2281), ∀ a x, ((![v1670, v2250, v2281, v30] : Fin 4 → IVec S16 32) a x).toNat < S2x4x32x32.size a := fun v30 v1670 v2250 v2281 k0_hw1888 => k0_hw1888

def k0_chk1889 (v1670 : IVec S16 32) (v2250 : IVec S16 32) (v2281 : IVec S16 32) (v2284 : IVec S16 32) : Prop :=
  (∀ a x, ((![v1670, v2250, v2281, v2284] : Fin 4 → IVec S16 32) a x).toNat < S2x4x32x32.size a)
theorem k0_idx2502_inb : ∀ (v1670 : IVec S16 32) (v2250 : IVec S16 32) (v2281 : IVec S16 32) (v2284 : IVec S16 32) (k0_hw1889 : k0_chk1889 v1670 v2250 v2281 v2284), ∀ a x, ((![v1670, v2250, v2281, v2284] : Fin 4 → IVec S16 32) a x).toNat < S2x4x32x32.size a := fun v1670 v2250 v2281 v2284 k0_hw1889 => k0_hw1889

def k0_chk1890 (v33 : IVec S16 32) (v35 : IVec S16 32) (v1670 : IVec S16 32) (v2250 : IVec S16 32) (v2286 : IVec S16 32) : Prop :=
  (∀ a x, ((![v1670, v2250, v2286, v33] : Fin 4 → IVec S16 32) a x).toNat < S2x4x94x96.size a) ∧
  (∀ a x, ((![v1670, v2250, v2286, v35] : Fin 4 → IVec S16 32) a x).toNat < S2x4x94x96.size a)
theorem k0_idx2503_inb : ∀ (v33 : IVec S16 32) (v35 : IVec S16 32) (v1670 : IVec S16 32) (v2250 : IVec S16 32) (v2286 : IVec S16 32) (k0_hw1890 : k0_chk1890 v33 v35 v1670 v2250 v2286), ∀ a x, ((![v1670, v2250, v2286, v33] : Fin 4 → IVec S16 32) a x).toNat < S2x4x94x96.size a := fun v33 v35 v1670 v2250 v2286 k0_hw1890 => k0_hw1890.1
theorem k0_idx2504_inb : ∀ (v33 : IVec S16 32) (v35 : IVec S16 32) (v1670 : IVec S16 32) (v2250 : IVec S16 32) (v2286 : IVec S16 32) (k0_hw1890 : k0_chk1890 v33 v35 v1670 v2250 v2286), ∀ a x, ((![v1670, v2250, v2286, v35] : Fin 4 → IVec S16 32) a x).toNat < S2x4x94x96.size a := fun v33 v35 v1670 v2250 v2286 k0_hw1890 => k0_hw1890.2

def k0_chk1891 (v30 : IVec S16 32) (v1670 : IVec S16 32) (v2250 : IVec S16 32) (v2287 : IVec S16 32) : Prop :=
  (∀ a x, ((![v1670, v2250, v2287, v30] : Fin 4 → IVec S16 32) a x).toNat < S2x4x32x32.size a)
theorem k0_idx2505_inb : ∀ (v30 : IVec S16 32) (v1670 : IVec S16 32) (v2250 : IVec S16 32) (v2287 : IVec S16 32) (k0_hw1891 : k0_chk1891 v30 v1670 v2250 v2287), ∀ a x, ((![v1670, v2250, v2287, v30] : Fin 4 → IVec S16 32) a x).toNat < S2x4x32x32.size a := fun v30 v1670 v2250 v2287 k0_hw1891 => k0_hw1891

def k0_chk1892 (v1670 : IVec S16 32) (v2250 : IVec S16 32) (v2287 : IVec S16 32) (v2290 : IVec S16 32) : Prop :=
  (∀ a x, ((![v1670, v2250, v2287, v2290] : Fin 4 → IVec S16 32) a x).toNat < S2x4x32x32.size a)
theorem k0_idx2506_inb : ∀ (v1670 : IVec S16 32) (v2250 : IVec S16 32) (v2287 : IVec S16 32) (v2290 : IVec S16 32) (k0_hw1892 : k0_chk1892 v1670 v2250 v2287 v2290), ∀ a x, ((![v1670, v2250, v2287, v2290] : Fin 4 → IVec S16 32) a x).toNat < S2x4x32x32.size a := fun v1670 v2250 v2287 v2290 k0_hw1892 => k0_hw1892

def k0_chk1893 (v33 : IVec S16 32) (v35 : IVec S16 32) (v1670 : IVec S16 32) (v2250 : IVec S16 32) (v2292 : IVec S16 32) : Prop :=
  (∀ a x, ((![v1670, v2250, v2292, v33] : Fin 4 → IVec S16 32) a x).toNat < S2x4x94x96.size a) ∧
  (∀ a x, ((![v1670, v2250, v2292, v35] : Fin 4 → IVec S16 32) a x).toNat < S2x4x94x96.size a)
theorem k0_idx2507_inb : ∀ (v33 : IVec S16 32) (v35 : IVec S16 32) (v1670 : IVec S16 32) (v2250 : IVec S16 32) (v2292 : IVec S16 32) (k0_hw1893 : k0_chk1893 v33 v35 v1670 v2250 v2292), ∀ a x, ((![v1670, v2250, v2292, v33] : Fin 4 → IVec S16 32) a x).toNat < S2x4x94x96.size a := fun v33 v35 v1670 v2250 v2292 k0_hw1893 => k0_hw1893.1
theorem k0_idx2508_inb : ∀ (v33 : IVec S16 32) (v35 : IVec S16 32) (v1670 : IVec S16 32) (v2250 : IVec S16 32) (v2292 : IVec S16 32) (k0_hw1893 : k0_chk1893 v33 v35 v1670 v2250 v2292), ∀ a x, ((![v1670, v2250, v2292, v35] : Fin 4 → IVec S16 32) a x).toNat < S2x4x94x96.size a := fun v33 v35 v1670 v2250 v2292 k0_hw1893 => k0_hw1893.2

def k0_chk1894 (v30 : IVec S16 32) (v1670 : IVec S16 32) (v2250 : IVec S16 32) (v2293 : IVec S16 32) : Prop :=
  (∀ a x, ((![v1670, v2250, v2293, v30] : Fin 4 → IVec S16 32) a x).toNat < S2x4x32x32.size a)
theorem k0_idx2509_inb : ∀ (v30 : IVec S16 32) (v1670 : IVec S16 32) (v2250 : IVec S16 32) (v2293 : IVec S16 32) (k0_hw1894 : k0_chk1894 v30 v1670 v2250 v2293), ∀ a x, ((![v1670, v2250, v2293, v30] : Fin 4 → IVec S16 32) a x).toNat < S2x4x32x32.size a := fun v30 v1670 v2250 v2293 k0_hw1894 => k0_hw1894

def k0_chk1895 (v1670 : IVec S16 32) (v2250 : IVec S16 32) (v2293 : IVec S16 32) (v2296 : IVec S16 32) : Prop :=
  (∀ a x, ((![v1670, v2250, v2293, v2296] : Fin 4 → IVec S16 32) a x).toNat < S2x4x32x32.size a)
theorem k0_idx2510_inb : ∀ (v1670 : IVec S16 32) (v2250 : IVec S16 32) (v2293 : IVec S16 32) (v2296 : IVec S16 32) (k0_hw1895 : k0_chk1895 v1670 v2250 v2293 v2296), ∀ a x, ((![v1670, v2250, v2293, v2296] : Fin 4 → IVec S16 32) a x).toNat < S2x4x32x32.size a := fun v1670 v2250 v2293 v2296 k0_hw1895 => k0_hw1895

def k0_chk1896 (v33 : IVec S16 32) (v35 : IVec S16 32) (v1670 : IVec S16 32) (v2250 : IVec S16 32) (v2298 : IVec S16 32) : Prop :=
  (∀ a x, ((![v1670, v2250, v2298, v33] : Fin 4 → IVec S16 32) a x).toNat < S2x4x94x96.size a) ∧
  (∀ a x, ((![v1670, v2250, v2298, v35] : Fin 4 → IVec S16 32) a x).toNat < S2x4x94x96.size a)
theorem k0_idx2511_inb : ∀ (v33 : IVec S16 32) (v35 : IVec S16 32) (v1670 : IVec S16 32) (v2250 : IVec S16 32) (v2298 : IVec S16 32) (k0_hw1896 : k0_chk1896 v33 v35 v1670 v2250 v2298), ∀ a x, ((![v1670, v2250, v2298, v33] : Fin 4 → IVec S16 32) a x).toNat < S2x4x94x96.size a := fun v33 v35 v1670 v2250 v2298 k0_hw1896 => k0_hw1896.1
theorem k0_idx2512_inb : ∀ (v33 : IVec S16 32) (v35 : IVec S16 32) (v1670 : IVec S16 32) (v2250 : IVec S16 32) (v2298 : IVec S16 32) (k0_hw1896 : k0_chk1896 v33 v35 v1670 v2250 v2298), ∀ a x, ((![v1670, v2250, v2298, v35] : Fin 4 → IVec S16 32) a x).toNat < S2x4x94x96.size a := fun v33 v35 v1670 v2250 v2298 k0_hw1896 => k0_hw1896.2

def k0_chk1897 (v30 : IVec S16 32) (v1670 : IVec S16 32) (v2250 : IVec S16 32) (v2299 : IVec S16 32) : Prop :=
  (∀ a x, ((![v1670, v2250, v2299, v30] : Fin 4 → IVec S16 32) a x).toNat < S2x4x32x32.size a)
theorem k0_idx2513_inb : ∀ (v30 : IVec S16 32) (v1670 : IVec S16 32) (v2250 : IVec S16 32) (v2299 : IVec S16 32) (k0_hw1897 : k0_chk1897 v30 v1670 v2250 v2299), ∀ a x, ((![v1670, v2250, v2299, v30] : Fin 4 → IVec S16 32) a x).toNat < S2x4x32x32.size a := fun v30 v1670 v2250 v2299 k0_hw1897 => k0_hw1897

def k0_chk1898 (v1670 : IVec S16 32) (v2250 : IVec S16 32) (v2299 : IVec S16 32) (v2302 : IVec S16 32) : Prop :=
  (∀ a x, ((![v1670, v2250, v2299, v2302] : Fin 4 → IVec S16 32) a x).toNat < S2x4x32x32.size a)
theorem k0_idx2514_inb : ∀ (v1670 : IVec S16 32) (v2250 : IVec S16 32) (v2299 : IVec S16 32) (v2302 : IVec S16 32) (k0_hw1898 : k0_chk1898 v1670 v2250 v2299 v2302), ∀ a x, ((![v1670, v2250, v2299, v2302] : Fin 4 → IVec S16 32) a x).toNat < S2x4x32x32.size a := fun v1670 v2250 v2299 v2302 k0_hw1898 => k0_hw1898

def k0_chk1899 (v33 : IVec S16 32) (v35 : IVec S16 32) (v1670 : IVec S16 32) (v2250 : IVec S16 32) (v2304 : IVec S16 32) : Prop :=
  (∀ a x, ((![v1670, v2250, v2304, v33] : Fin 4 → IVec S16 32) a x).toNat < S2x4x94x96.size a) ∧
  (∀ a x, ((![v1670, v2250, v2304, v35] : Fin 4 → IVec S16 32) a x).toNat < S2x4x94x96.size a)
theorem k0_idx2515_inb : ∀ (v33 : IVec S16 32) (v35 : IVec S16 32) (v1670 : IVec S16 32) (v2250 : IVec S16 32) (v2304 : IVec S16 32) (k0_hw1899 : k0_chk1899 v33 v35 v1670 v2250 v2304), ∀ a x, ((![v1670, v2250, v2304, v33] : Fin 4 → IVec S16 32) a x).toNat < S2x4x94x96.size a := fun v33 v35 v1670 v2250 v2304 k0_hw1899 => k0_hw1899.1
theorem k0_idx2516_inb : ∀ (v33 : IVec S16 32) (v35 : IVec S16 32) (v1670 : IVec S16 32) (v2250 : IVec S16 32) (v2304 : IVec S16 32) (k0_hw1899 : k0_chk1899 v33 v35 v1670 v2250 v2304), ∀ a x, ((![v1670, v2250, v2304, v35] : Fin 4 → IVec S16 32) a x).toNat < S2x4x94x96.size a := fun v33 v35 v1670 v2250 v2304 k0_hw1899 => k0_hw1899.2

def k0_chk1900 (v30 : IVec S16 32) (v1670 : IVec S16 32) (v2250 : IVec S16 32) (v2305 : IVec S16 32) : Prop :=
  (∀ a x, ((![v1670, v2250, v2305, v30] : Fin 4 → IVec S16 32) a x).toNat < S2x4x32x32.size a)
theorem k0_idx2517_inb : ∀ (v30 : IVec S16 32) (v1670 : IVec S16 32) (v2250 : IVec S16 32) (v2305 : IVec S16 32) (k0_hw1900 : k0_chk1900 v30 v1670 v2250 v2305), ∀ a x, ((![v1670, v2250, v2305, v30] : Fin 4 → IVec S16 32) a x).toNat < S2x4x32x32.size a := fun v30 v1670 v2250 v2305 k0_hw1900 => k0_hw1900

def k0_chk1901 (v1670 : IVec S16 32) (v2250 : IVec S16 32) (v2305 : IVec S16 32) (v2308 : IVec S16 32) : Prop :=
  (∀ a x, ((![v1670, v2250, v2305, v2308] : Fin 4 → IVec S16 32) a x).toNat < S2x4x32x32.size a)
theorem k0_idx2518_inb : ∀ (v1670 : IVec S16 32) (v2250 : IVec S16 32) (v2305 : IVec S16 32) (v2308 : IVec S16 32) (k0_hw1901 : k0_chk1901 v1670 v2250 v2305 v2308), ∀ a x, ((![v1670, v2250, v2305, v2308] : Fin 4 → IVec S16 32) a x).toNat < S2x4x32x32.size a := fun v1670 v2250 v2305 v2308 k0_hw1901 => k0_hw1901

def k0_chk1902 (v33 : IVec S16 32) (v35 : IVec S16 32) (v1670 : IVec S16 32) (v2250 : IVec S16 32) (v2310 : IVec S16 32) : Prop :=
  (∀ a x, ((![v1670, v2250, v2310, v33] : Fin 4 → IVec S16 32) a x).toNat < S2x4x94x96.size a) ∧
  (∀ a x, ((![v1670, v2250, v2310, v35] : Fin 4 → IVec S16 32) a x).toNat < S2x4x94x96.size a)
theorem k0_idx2519_inb : ∀ (v33 : IVec S16 32) (v35 : IVec S16 32) (v1670 : IVec S16 32) (v2250 : IVec S16 32) (v2310 : IVec S16 32) (k0_hw1902 : k0_chk1902 v33 v35 v1670 v2250 v2310), ∀ a x, ((![v1670, v2250, v2310, v33] : Fin 4 → IVec S16 32) a x).toNat < S2x4x94x96.size a := fun v33 v35 v1670 v2250 v2310 k0_hw1902 => k0_hw1902.1
theorem k0_idx2520_inb : ∀ (v33 : IVec S16 32) (v35 : IVec S16 32) (v1670 : IVec S16 32) (v2250 : IVec S16 32) (v2310 : IVec S16 32) (k0_hw1902 : k0_chk1902 v33 v35 v1670 v2250 v2310), ∀ a x, ((![v1670, v2250, v2310, v35] : Fin 4 → IVec S16 32) a x).toNat < S2x4x94x96.size a := fun v33 v35 v1670 v2250 v2310 k0_hw1902 => k0_hw1902.2

def k0_chk1903 (v30 : IVec S16 32) (v1670 : IVec S16 32) (v2250 : IVec S16 32) (v2311 : IVec S16 32) : Prop :=
  (∀ a x, ((![v1670, v2250, v2311, v30] : Fin 4 → IVec S16 32) a x).toNat < S2x4x32x32.size a)
theorem k0_idx2521_inb : ∀ (v30 : IVec S16 32) (v1670 : IVec S16 32) (v2250 : IVec S16 32) (v2311 : IVec S16 32) (k0_hw1903 : k0_chk1903 v30 v1670 v2250 v2311), ∀ a x, ((![v1670, v2250, v2311, v30] : Fin 4 → IVec S16 32) a x).toNat < S2x4x32x32.size a := fun v30 v1670 v2250 v2311 k0_hw1903 => k0_hw1903

def k0_chk1904 (v1670 : IVec S16 32) (v2250 : IVec S16 32) (v2311 : IVec S16 32) (v2314 : IVec S16 32) : Prop :=
  (∀ a x, ((![v1670, v2250, v2311, v2314] : Fin 4 → IVec S16 32) a x).toNat < S2x4x32x32.size a)
theorem k0_idx2522_inb : ∀ (v1670 : IVec S16 32) (v2250 : IVec S16 32) (v2311 : IVec S16 32) (v2314 : IVec S16 32) (k0_hw1904 : k0_chk1904 v1670 v2250 v2311 v2314), ∀ a x, ((![v1670, v2250, v2311, v2314] : Fin 4 → IVec S16 32) a x).toNat < S2x4x32x32.size a := fun v1670 v2250 v2311 v2314 k0_hw1904 => k0_hw1904

def k0_chk1905 (v33 : IVec S16 32) (v35 : IVec S16 32) (v1670 : IVec S16 32) (v2250 : IVec S16 32) (v2316 : IVec S16 32) : Prop :=
  (∀ a x, ((![v1670, v2250, v2316, v33] : Fin 4 → IVec S16 32) a x).toNat < S2x4x94x96.size a) ∧
  (∀ a x, ((![v1670, v2250, v2316, v35] : Fin 4 → IVec S16 32) a x).toNat < S2x4x94x96.size a)
theorem k0_idx2523_inb : ∀ (v33 : IVec S16 32) (v35 : IVec S16 32) (v1670 : IVec S16 32) (v2250 : IVec S16 32) (v2316 : IVec S16 32) (k0_hw1905 : k0_chk1905 v33 v35 v1670 v2250 v2316), ∀ a x, ((![v1670, v2250, v2316, v33] : Fin 4 → IVec S16 32) a x).toNat < S2x4x94x96.size a := fun v33 v35 v1670 v2250 v2316 k0_hw1905 => k0_hw1905.1
theorem k0_idx2524_inb : ∀ (v33 : IVec S16 32) (v35 : IVec S16 32) (v1670 : IVec S16 32) (v2250 : IVec S16 32) (v2316 : IVec S16 32) (k0_hw1905 : k0_chk1905 v33 v35 v1670 v2250 v2316), ∀ a x, ((![v1670, v2250, v2316, v35] : Fin 4 → IVec S16 32) a x).toNat < S2x4x94x96.size a := fun v33 v35 v1670 v2250 v2316 k0_hw1905 => k0_hw1905.2

def k0_chk1906 (v30 : IVec S16 32) (v1670 : IVec S16 32) (v2250 : IVec S16 32) (v2317 : IVec S16 32) : Prop :=
  (∀ a x, ((![v1670, v2250, v2317, v30] : Fin 4 → IVec S16 32) a x).toNat < S2x4x32x32.size a)
theorem k0_idx2525_inb : ∀ (v30 : IVec S16 32) (v1670 : IVec S16 32) (v2250 : IVec S16 32) (v2317 : IVec S16 32) (k0_hw1906 : k0_chk1906 v30 v1670 v2250 v2317), ∀ a x, ((![v1670, v2250, v2317, v30] : Fin 4 → IVec S16 32) a x).toNat < S2x4x32x32.size a := fun v30 v1670 v2250 v2317 k0_hw1906 => k0_hw1906

def k0_chk1907 (v1670 : IVec S16 32) (v2250 : IVec S16 32) (v2317 : IVec S16 32) (v2320 : IVec S16 32) : Prop :=
  (∀ a x, ((![v1670, v2250, v2317, v2320] : Fin 4 → IVec S16 32) a x).toNat < S2x4x32x32.size a)
theorem k0_idx2526_inb : ∀ (v1670 : IVec S16 32) (v2250 : IVec S16 32) (v2317 : IVec S16 32) (v2320 : IVec S16 32) (k0_hw1907 : k0_chk1907 v1670 v2250 v2317 v2320), ∀ a x, ((![v1670, v2250, v2317, v2320] : Fin 4 → IVec S16 32) a x).toNat < S2x4x32x32.size a := fun v1670 v2250 v2317 v2320 k0_hw1907 => k0_hw1907

def k0_chk1908 (v33 : IVec S16 32) (v35 : IVec S16 32) (v1670 : IVec S16 32) (v2250 : IVec S16 32) (v2322 : IVec S16 32) : Prop :=
  (∀ a x, ((![v1670, v2250, v2322, v33] : Fin 4 → IVec S16 32) a x).toNat < S2x4x94x96.size a) ∧
  (∀ a x, ((![v1670, v2250, v2322, v35] : Fin 4 → IVec S16 32) a x).toNat < S2x4x94x96.size a)
theorem k0_idx2527_inb : ∀ (v33 : IVec S16 32) (v35 : IVec S16 32) (v1670 : IVec S16 32) (v2250 : IVec S16 32) (v2322 : IVec S16 32) (k0_hw1908 : k0_chk1908 v33 v35 v1670 v2250 v2322), ∀ a x, ((![v1670, v2250, v2322, v33] : Fin 4 → IVec S16 32) a x).toNat < S2x4x94x96.size a := fun v33 v35 v1670 v2250 v2322 k0_hw1908 => k0_hw1908.1
theorem k0_idx2528_inb : ∀ (v33 : IVec S16 32) (v35 : IVec S16 32) (v1670 : IVec S16 32) (v2250 : IVec S16 32) (v2322 : IVec S16 32) (k0_hw1908 : k0_chk1908 v33 v35 v1670 v2250 v2322), ∀ a x, ((![v1670, v2250, v2322, v35] : Fin 4 → IVec S16 32) a x).toNat < S2x4x94x96.size a := fun v33 v35 v1670 v2250 v2322 k0_hw1908 => k0_hw1908.2

def k0_chk1909 (v30 : IVec S16 32) (v1670 : IVec S16 32) (v2250 : IVec S16 32) (v2323 : IVec S16 32) : Prop :=
  (∀ a x, ((![v1670, v2250, v2323, v30] : Fin 4 → IVec S16 32) a x).toNat < S2x4x32x32.size a)
theorem k0_idx2529_inb : ∀ (v30 : IVec S16 32) (v1670 : IVec S16 32) (v2250 : IVec S16 32) (v2323 : IVec S16 32) (k0_hw1909 : k0_chk1909 v30 v1670 v2250 v2323), ∀ a x, ((![v1670, v2250, v2323, v30] : Fin 4 → IVec S16 32) a x).toNat < S2x4x32x32.size a := fun v30 v1670 v2250 v2323 k0_hw1909 => k0_hw1909

def k0_chk1910 (v1670 : IVec S16 32) (v2250 : IVec S16 32) (v2323 : IVec S16 32) (v2326 : IVec S16 32) : Prop :=
  (∀ a x, ((![v1670, v2250, v2323, v2326] : Fin 4 → IVec S16 32) a x).toNat < S2x4x32x32.size a)
theorem k0_idx2530_inb : ∀ (v1670 : IVec S16 32) (v2250 : IVec S16 32) (v2323 : IVec S16 32) (v2326 : IVec S16 32) (k0_hw1910 : k0_chk1910 v1670 v2250 v2323 v2326), ∀ a x, ((![v1670, v2250, v2323, v2326] : Fin 4 → IVec S16 32) a x).toNat < S2x4x32x32.size a := fun v1670 v2250 v2323 v2326 k0_hw1910 => k0_hw1910

def k0_chk1911 (v33 : IVec S16 32) (v35 : IVec S16 32) (v1670 : IVec S16 32) (v2250 : IVec S16 32) (v2328 : IVec S16 32) : Prop :=
  (∀ a x, ((![v1670, v2250, v2328, v33] : Fin 4 → IVec S16 32) a x).toNat < S2x4x94x96.size a) ∧
  (∀ a x, ((![v1670, v2250, v2328, v35] : Fin 4 → IVec S16 32) a x).toNat < S2x4x94x96.size a)
theorem k0_idx2531_inb : ∀ (v33 : IVec S16 32) (v35 : IVec S16 32) (v1670 : IVec S16 32) (v2250 : IVec S16 32) (v2328 : IVec S16 32) (k0_hw1911 : k0_chk1911 v33 v35 v1670 v2250 v2328), ∀ a x, ((![v1670, v2250, v2328, v33] : Fin 4 → IVec S16 32) a x).toNat < S2x4x94x96.size a := fun v33 v35 v1670 v2250 v2328 k0_hw1911 => k0_hw1911.1
theorem k0_idx2532_inb : ∀ (v33 : IVec S16 32) (v35 : IVec S16 32) (v1670 : IVec S16 32) (v2250 : IVec S16 32) (v2328 : IVec S16 32) (k0_hw1911 : k0_chk1911 v33 v35 v1670 v2250 v2328), ∀ a x, ((![v1670, v2250, v2328, v35] : Fin 4 → IVec S16 32) a x).toNat < S2x4x94x96.size a := fun v33 v35 v1670 v2250 v2328 k0_hw1911 => k0_hw1911.2

def k0_chk1912 (v30 : IVec S16 32) (v1670 : IVec S16 32) (v2250 : IVec S16 32) (v2329 : IVec S16 32) : Prop :=
  (∀ a x, ((![v1670, v2250, v2329, v30] : Fin 4 → IVec S16 32) a x).toNat < S2x4x32x32.size a)
theorem k0_idx2533_inb : ∀ (v30 : IVec S16 32) (v1670 : IVec S16 32) (v2250 : IVec S16 32) (v2329 : IVec S16 32) (k0_hw1912 : k0_chk1912 v30 v1670 v2250 v2329), ∀ a x, ((![v1670, v2250, v2329, v30] : Fin 4 → IVec S16 32) a x).toNat < S2x4x32x32.size a := fun v30 v1670 v2250 v2329 k0_hw1912 => k0_hw1912

def k0_chk1913 (v1670 : IVec S16 32) (v2250 : IVec S16 32) (v2329 : IVec S16 32) (v2332 : IVec S16 32) : Prop :=
  (∀ a x, ((![v1670, v2250, v2329, v2332] : Fin 4 → IVec S16 32) a x).toNat < S2x4x32x32.size a)
theorem k0_idx2534_inb : ∀ (v1670 : IVec S16 32) (v2250 : IVec S16 32) (v2329 : IVec S16 32) (v2332 : IVec S16 32) (k0_hw1913 : k0_chk1913 v1670 v2250 v2329 v2332), ∀ a x, ((![v1670, v2250, v2329, v2332] : Fin 4 → IVec S16 32) a x).toNat < S2x4x32x32.size a := fun v1670 v2250 v2329 v2332 k0_hw1913 => k0_hw1913

def k0_chk1914 (v33 : IVec S16 32) (v35 : IVec S16 32) (v1670 : IVec S16 32) (v2250 : IVec S16 32) (v2334 : IVec S16 32) : Prop :=
  (∀ a x, ((![v1670, v2250, v2334, v33] : Fin 4 → IVec S16 32) a x).toNat < S2x4x94x96.size a) ∧
  (∀ a x, ((![v1670, v2250, v2334, v35] : Fin 4 → IVec S16 32) a x).toNat < S2x4x94x96.size a)
theorem k0_idx2535_inb : ∀ (v33 : IVec S16 32) (v35 : IVec S16 32) (v1670 : IVec S16 32) (v2250 : IVec S16 32) (v2334 : IVec S16 32) (k0_hw1914 : k0_chk1914 v33 v35 v1670 v2250 v2334), ∀ a x, ((![v1670, v2250, v2334, v33] : Fin 4 → IVec S16 32) a x).toNat < S2x4x94x96.size a := fun v33 v35 v1670 v2250 v2334 k0_hw1914 => k0_hw1914.1
theorem k0_idx2536_inb : ∀ (v33 : IVec S16 32) (v35 : IVec S16 32) (v1670 : IVec S16 32) (v2250 : IVec S16 32) (v2334 : IVec S16 32) (k0_hw1914 : k0_chk1914 v33 v35 v1670 v2250 v2334), ∀ a x, ((![v1670, v2250, v2334, v35] : Fin 4 → IVec S16 32) a x).toNat < S2x4x94x96.size a := fun v33 v35 v1670 v2250 v2334 k0_hw1914 => k0_hw1914.2

def k0_chk1915 (v30 : IVec S16 32) (v1670 : IVec S16 32) (v2250 : IVec S16 32) (v2335 : IVec S16 32) : Prop :=
  (∀ a x, ((![v1670, v2250, v2335, v30] : Fin 4 → IVec S16 32) a x).toNat < S2x4x32x32.size a)
theorem k0_idx2537_inb : ∀ (v30 : IVec S16 32) (v1670 : IVec S16 32) (v2250 : IVec S16 32) (v2335 : IVec S16 32) (k0_hw1915 : k0_chk1915 v30 v1670 v2250 v2335), ∀ a x, ((![v1670, v2250, v2335, v30] : Fin 4 → IVec S16 32) a x).toNat < S2x4x32x32.size a := fun v30 v1670 v2250 v2335 k0_hw1915 => k0_hw1915

def k0_chk1916 (v1670 : IVec S16 32) (v2250 : IVec S16 32) (v2335 : IVec S16 32) (v2338 : IVec S16 32) : Prop :=
  (∀ a x, ((![v1670, v2250, v2335, v2338] : Fin 4 → IVec S16 32) a x).toNat < S2x4x32x32.size a)
theorem k0_idx2538_inb : ∀ (v1670 : IVec S16 32) (v2250 : IVec S16 32) (v2335 : IVec S16 32) (v2338 : IVec S16 32) (k0_hw1916 : k0_chk1916 v1670 v2250 v2335 v2338), ∀ a x, ((![v1670, v2250, v2335, v2338] : Fin 4 → IVec S16 32) a x).toNat < S2x4x32x32.size a := fun v1670 v2250 v2335 v2338 k0_hw1916 => k0_hw1916

def k0_chk1917 (v33 : IVec S16 32) (v35 : IVec S16 32) (v1670 : IVec S16 32) (v2250 : IVec S16 32) (v2340 : IVec S16 32) : Prop :=
  (∀ a x, ((![v1670, v2250, v2340, v33] : Fin 4 → IVec S16 32) a x).toNat < S2x4x94x96.size a) ∧
  (∀ a x, ((![v1670, v2250, v2340, v35] : Fin 4 → IVec S16 32) a x).toNat < S2x4x94x96.size a)
theorem k0_idx2539_inb : ∀ (v33 : IVec S16 32) (v35 : IVec S16 32) (v1670 : IVec S16 32) (v2250 : IVec S16 32) (v2340 : IVec S16 32) (k0_hw1917 : k0_chk1917 v33 v35 v1670 v2250 v2340), ∀ a x, ((![v1670, v2250, v2340, v33] : Fin 4 → IVec S16 32) a x).toNat < S2x4x94x96.size a := fun v33 v35 v1670 v2250 v2340 k0_hw1917 => k0_hw1917.1
theorem k0_idx2540_inb : ∀ (v33 : IVec S16 32) (v35 : IVec S16 32) (v1670 : IVec S16 32) (v2250 : IVec S16 32) (v2340 : IVec S16 32) (k0_hw1917 : k0_chk1917 v33 v35 v1670 v2250 v2340), ∀ a x, ((![v1670, v2250, v2340, v35] : Fin 4 → IVec S16 32) a x).toNat < S2x4x94x96.size a := fun v33 v35 v1670 v2250 v2340 k0_hw1917 => k0_hw1917.2

def k0_chk1918 (v30 : IVec S16 32) (v1670 : IVec S16 32) (v2250 : IVec S16 32) (v2341 : IVec S16 32) : Prop :=
  (∀ a x, ((![v1670, v2250, v2341, v30] : Fin 4 → IVec S16 32) a x).toNat < S2x4x32x32.size a)
theorem k0_idx2541_inb : ∀ (v30 : IVec S16 32) (v1670 : IVec S16 32) (v2250 : IVec S16 32) (v2341 : IVec S16 32) (k0_hw1918 : k0_chk1918 v30 v1670 v2250 v2341), ∀ a x, ((![v1670, v2250, v2341, v30] : Fin 4 → IVec S16 32) a x).toNat < S2x4x32x32.size a := fun v30 v1670 v2250 v2341 k0_hw1918 => k0_hw1918

def k0_chk1919 (v1670 : IVec S16 32) (v2250 : IVec S16 32) (v2341 : IVec S16 32) (v2344 : IVec S16 32) : Prop :=
  (∀ a x, ((![v1670, v2250, v2341, v2344] : Fin 4 → IVec S16 32) a x).toNat < S2x4x32x32.size a)
theorem k0_idx2542_inb : ∀ (v1670 : IVec S16 32) (v2250 : IVec S16 32) (v2341 : IVec S16 32) (v2344 : IVec S16 32) (k0_hw1919 : k0_chk1919 v1670 v2250 v2341 v2344), ∀ a x, ((![v1670, v2250, v2341, v2344] : Fin 4 → IVec S16 32) a x).toNat < S2x4x32x32.size a := fun v1670 v2250 v2341 v2344 k0_hw1919 => k0_hw1919

def k0_chk1920 (v33 : IVec S16 32) (v35 : IVec S16 32) (v1670 : IVec S16 32) (v2250 : IVec S16 32) (v2346 : IVec S16 32) : Prop :=
  (∀ a x, ((![v1670, v2250, v2346, v33] : Fin 4 → IVec S16 32) a x).toNat < S2x4x94x96.size a) ∧
  (∀ a x, ((![v1670, v2250, v2346, v35] : Fin 4 → IVec S16 32) a x).toNat < S2x4x94x96.size a)
theorem k0_idx2543_inb : ∀ (v33 : IVec S16 32) (v35 : IVec S16 32) (v1670 : IVec S16 32) (v2250 : IVec S16 32) (v2346 : IVec S16 32) (k0_hw1920 : k0_chk1920 v33 v35 v1670 v2250 v2346), ∀ a x, ((![v1670, v2250, v2346, v33] : Fin 4 → IVec S16 32) a x).toNat < S2x4x94x96.size a := fun v33 v35 v1670 v2250 v2346 k0_hw1920 => k0_hw1920.1
theorem k0_idx2544_inb : ∀ (v33 : IVec S16 32) (v35 : IVec S16 32) (v1670 : IVec S16 32) (v2250 : IVec S16 32) (v2346 : IVec S16 32) (k0_hw1920 : k0_chk1920 v33 v35 v1670 v2250 v2346), ∀ a x, ((![v1670, v2250, v2346, v35] : Fin 4 → IVec S16 32) a x).toNat < S2x4x94x96.size a := fun v33 v35 v1670 v2250 v2346 k0_hw1920 => k0_hw1920.2

def k0_chk1921 (v30 : IVec S16 32) (v1670 : IVec S16 32) (v2250 : IVec S16 32) (v2347 : IVec S16 32) : Prop :=
  (∀ a x, ((![v1670, v2250, v2347, v30] : Fin 4 → IVec S16 32) a x).toNat < S2x4x32x32.size a)
theorem k0_idx2545_inb : ∀ (v30 : IVec S16 32) (v1670 : IVec S16 32) (v2250 : IVec S16 32) (v2347 : IVec S16 32) (k0_hw1921 : k0_chk1921 v30 v1670 v2250 v2347), ∀ a x, ((![v1670, v2250, v2347, v30] : Fin 4 → IVec S16 32) a x).toNat < S2x4x32x32.size a := fun v30 v1670 v2250 v2347 k0_hw1921 => k0_hw1921

def k0_chk1922 (v1670 : IVec S16 32) (v2250 : IVec S16 32) (v2347 : IVec S16 32) (v2350 : IVec S16 32) : Prop :=
  (∀ a x, ((![v1670, v2250, v2347, v2350] : Fin 4 → IVec S16 32) a x).toNat < S2x4x32x32.size a)
theorem k0_idx2546_inb : ∀ (v1670 : IVec S16 32) (v2250 : IVec S16 32) (v2347 : IVec S16 32) (v2350 : IVec S16 32) (k0_hw1922 : k0_chk1922 v1670 v2250 v2347 v2350), ∀ a x, ((![v1670, v2250, v2347, v2350] : Fin 4 → IVec S16 32) a x).toNat < S2x4x32x32.size a := fun v1670 v2250 v2347 v2350 k0_hw1922 => k0_hw1922

def k0_chk1923 (v33 : IVec S16 32) (v35 : IVec S16 32) (v1670 : IVec S16 32) (v2250 : IVec S16 32) (v2352 : IVec S16 32) : Prop :=
  (∀ a x, ((![v1670, v2250, v2352, v33] : Fin 4 → IVec S16 32) a x).toNat < S2x4x94x96.size a) ∧
  (∀ a x, ((![v1670, v2250, v2352, v35] : Fin 4 → IVec S16 32) a x).toNat < S2x4x94x96.size a)
theorem k0_idx2547_inb : ∀ (v33 : IVec S16 32) (v35 : IVec S16 32) (v1670 : IVec S16 32) (v2250 : IVec S16 32) (v2352 : IVec S16 32) (k0_hw1923 : k0_chk1923 v33 v35 v1670 v2250 v2352), ∀ a x, ((![v1670, v2250, v2352, v33] : Fin 4 → IVec S16 32) a x).toNat < S2x4x94x96.size a := fun v33 v35 v1670 v2250 v2352 k0_hw1923 => k0_hw1923.1
theorem k0_idx2548_inb : ∀ (v33 : IVec S16 32) (v35 : IVec S16 32) (v1670 : IVec S16 32) (v2250 : IVec S16 32) (v2352 : IVec S16 32) (k0_hw1923 : k0_chk1923 v33 v35 v1670 v2250 v2352), ∀ a x, ((![v1670, v2250, v2352, v35] : Fin 4 → IVec S16 32) a x).toNat < S2x4x94x96.size a := fun v33 v35 v1670 v2250 v2352 k0_hw1923 => k0_hw1923.2

def k0_chk1924 (v30 : IVec S16 32) (v1670 : IVec S16 32) (v2250 : IVec S16 32) (v2353 : IVec S16 32) : Prop :=
  (∀ a x, ((![v1670, v2250, v2353, v30] : Fin 4 → IVec S16 32) a x).toNat < S2x4x32x32.size a)
theorem k0_idx2549_inb : ∀ (v30 : IVec S16 32) (v1670 : IVec S16 32) (v2250 : IVec S16 32) (v2353 : IVec S16 32) (k0_hw1924 : k0_chk1924 v30 v1670 v2250 v2353), ∀ a x, ((![v1670, v2250, v2353, v30] : Fin 4 → IVec S16 32) a x).toNat < S2x4x32x32.size a := fun v30 v1670 v2250 v2353 k0_hw1924 => k0_hw1924

def k0_chk1925 (v1670 : IVec S16 32) (v2250 : IVec S16 32) (v2353 : IVec S16 32) (v2356 : IVec S16 32) : Prop :=
  (∀ a x, ((![v1670, v2250, v2353, v2356] : Fin 4 → IVec S16 32) a x).toNat < S2x4x32x32.size a)
theorem k0_idx2550_inb : ∀ (v1670 : IVec S16 32) (v2250 : IVec S16 32) (v2353 : IVec S16 32) (v2356 : IVec S16 32) (k0_hw1925 : k0_chk1925 v1670 v2250 v2353 v2356), ∀ a x, ((![v1670, v2250, v2353, v2356] : Fin 4 → IVec S16 32) a x).toNat < S2x4x32x32.size a := fun v1670 v2250 v2353 v2356 k0_hw1925 => k0_hw1925

def k0_chk1926 (v33 : IVec S16 32) (v35 : IVec S16 32) (v1670 : IVec S16 32) (v2250 : IVec S16 32) (v2358 : IVec S16 32) : Prop :=
  (∀ a x, ((![v1670, v2250, v2358, v33] : Fin 4 → IVec S16 32) a x).toNat < S2x4x94x96.size a) ∧
  (∀ a x, ((![v1670, v2250, v2358, v35] : Fin 4 → IVec S16 32) a x).toNat < S2x4x94x96.size a)
theorem k0_idx2551_inb : ∀ (v33 : IVec S16 32) (v35 : IVec S16 32) (v1670 : IVec S16 32) (v2250 : IVec S16 32) (v2358 : IVec S16 32) (k0_hw1926 : k0_chk1926 v33 v35 v1670 v2250 v2358), ∀ a x, ((![v1670, v2250, v2358, v33] : Fin 4 → IVec S16 32) a x).toNat < S2x4x94x96.size a := fun v33 v35 v1670 v2250 v2358 k0_hw1926 => k0_hw1926.1
theorem k0_idx2552_inb : ∀ (v33 : IVec S16 32) (v35 : IVec S16 32) (v1670 : IVec S16 32) (v2250 : IVec S16 32) (v2358 : IVec S16 32) (k0_hw1926 : k0_chk1926 v33 v35 v1670 v2250 v2358), ∀ a x, ((![v1670, v2250, v2358, v35] : Fin 4 → IVec S16 32) a x).toNat < S2x4x94x96.size a := fun v33 v35 v1670 v2250 v2358 k0_hw1926 => k0_hw1926.2

def k0_chk1927 (v30 : IVec S16 32) (v1670 : IVec S16 32) (v2250 : IVec S16 32) (v2359 : IVec S16 32) : Prop :=
  (∀ a x, ((![v1670, v2250, v2359, v30] : Fin 4 → IVec S16 32) a x).toNat < S2x4x32x32.size a)
theorem k0_idx2553_inb : ∀ (v30 : IVec S16 32) (v1670 : IVec S16 32) (v2250 : IVec S16 32) (v2359 : IVec S16 32) (k0_hw1927 : k0_chk1927 v30 v1670 v2250 v2359), ∀ a x, ((![v1670, v2250, v2359, v30] : Fin 4 → IVec S16 32) a x).toNat < S2x4x32x32.size a := fun v30 v1670 v2250 v2359 k0_hw1927 => k0_hw1927

def k0_chk1928 (v1670 : IVec S16 32) (v2250 : IVec S16 32) (v2359 : IVec S16 32) (v2362 : IVec S16 32) : Prop :=
  (∀ a x, ((![v1670, v2250, v2359, v2362] : Fin 4 → IVec S16 32) a x).toNat < S2x4x32x32.size a)
theorem k0_idx2554_inb : ∀ (v1670 : IVec S16 32) (v2250 : IVec S16 32) (v2359 : IVec S16 32) (v2362 : IVec S16 32) (k0_hw1928 : k0_chk1928 v1670 v2250 v2359 v2362), ∀ a x, ((![v1670, v2250, v2359, v2362] : Fin 4 → IVec S16 32) a x).toNat < S2x4x32x32.size a := fun v1670 v2250 v2359 v2362 k0_hw1928 => k0_hw1928

def k0_chk1929 (v33 : IVec S16 32) (v35 : IVec S16 32) (v1670 : IVec S16 32) (v2250 : IVec S16 32) (v2364 : IVec S16 32) : Prop :=
  (∀ a x, ((![v1670, v2250, v2364, v33] : Fin 4 → IVec S16 32) a x).toNat < S2x4x94x96.size a) ∧
  (∀ a x, ((![v1670, v2250, v2364, v35] : Fin 4 → IVec S16 32) a x).toNat < S2x4x94x96.size a)
theorem k0_idx2555_inb : ∀ (v33 : IVec S16 32) (v35 : IVec S16 32) (v1670 : IVec S16 32) (v2250 : IVec S16 32) (v2364 : IVec S16 32) (k0_hw1929 : k0_chk1929 v33 v35 v1670 v2250 v2364), ∀ a x, ((![v1670, v2250, v2364, v33] : Fin 4 → IVec S16 32) a x).toNat < S2x4x94x96.size a := fun v33 v35 v1670 v2250 v2364 k0_hw1929 => k0_hw1929.1
theorem k0_idx2556_inb : ∀ (v33 : IVec S16 32) (v35 : IVec S16 32) (v1670 : IVec S16 32) (v2250 : IVec S16 32) (v2364 : IVec S16 32) (k0_hw1929 : k0_chk1929 v33 v35 v1670 v2250 v2364), ∀ a x, ((![v1670, v2250, v2364, v35] : Fin 4 → IVec S16 32) a x).toNat < S2x4x94x96.size a := fun v33 v35 v1670 v2250 v2364 k0_hw1929 => k0_hw1929.2

def k0_chk1930 (v30 : IVec S16 32) (v1670 : IVec S16 32) (v2250 : IVec S16 32) (v2365 : IVec S16 32) : Prop :=
  (∀ a x, ((![v1670, v2250, v2365, v30] : Fin 4 → IVec S16 32) a x).toNat < S2x4x32x32.size a)
theorem k0_idx2557_inb : ∀ (v30 : IVec S16 32) (v1670 : IVec S16 32) (v2250 : IVec S16 32) (v2365 : IVec S16 32) (k0_hw1930 : k0_chk1930 v30 v1670 v2250 v2365), ∀ a x, ((![v1670, v2250, v2365, v30] : Fin 4 → IVec S16 32) a x).toNat < S2x4x32x32.size a := fun v30 v1670 v2250 v2365 k0_hw1930 => k0_hw1930

def k0_chk1931 (v1670 : IVec S16 32) (v2250 : IVec S16 32) (v2365 : IVec S16 32) (v2368 : IVec S16 32) : Prop :=
  (∀ a x, ((![v1670, v2250, v2365, v2368] : Fin 4 → IVec S16 32) a x).toNat < S2x4x32x32.size a)
theorem k0_idx2558_inb : ∀ (v1670 : IVec S16 32) (v2250 : IVec S16 32) (v2365 : IVec S16 32) (v2368 : IVec S16 32) (k0_hw1931 : k0_chk1931 v1670 v2250 v2365 v2368), ∀ a x, ((![v1670, v2250, v2365, v2368] : Fin 4 → IVec S16 32) a x).toNat < S2x4x32x32.size a := fun v1670 v2250 v2365 v2368 k0_hw1931 => k0_hw1931

def k0_chk1932 (v33 : IVec S16 32) (v35 : IVec S16 32) (v1670 : IVec S16 32) (v2250 : IVec S16 32) (v2370 : IVec S16 32) : Prop :=
  (∀ a x, ((![v1670, v2250, v2370, v33] : Fin 4 → IVec S16 32) a x).toNat < S2x4x94x96.size a) ∧
  (∀ a x, ((![v1670, v2250, v2370, v35] : Fin 4 → IVec S16 32) a x).toNat < S2x4x94x96.size a)
theorem k0_idx2559_inb : ∀ (v33 : IVec S16 32) (v35 : IVec S16 32) (v1670 : IVec S16 32) (v2250 : IVec S16 32) (v2370 : IVec S16 32) (k0_hw1932 : k0_chk1932 v33 v35 v1670 v2250 v2370), ∀ a x, ((![v1670, v2250, v2370, v33] : Fin 4 → IVec S16 32) a x).toNat < S2x4x94x96.size a := fun v33 v35 v1670 v2250 v2370 k0_hw1932 => k0_hw1932.1
theorem k0_idx2560_inb : ∀ (v33 : IVec S16 32) (v35 : IVec S16 32) (v1670 : IVec S16 32) (v2250 : IVec S16 32) (v2370 : IVec S16 32) (k0_hw1932 : k0_chk1932 v33 v35 v1670 v2250 v2370), ∀ a x, ((![v1670, v2250, v2370, v35] : Fin 4 → IVec S16 32) a x).toNat < S2x4x94x96.size a := fun v33 v35 v1670 v2250 v2370 k0_hw1932 => k0_hw1932.2

def k0_chk1933 (v30 : IVec S16 32) (v1670 : IVec S16 32) (v2250 : IVec S16 32) (v2371 : IVec S16 32) : Prop :=
  (∀ a x, ((![v1670, v2250, v2371, v30] : Fin 4 → IVec S16 32) a x).toNat < S2x4x32x32.size a)
theorem k0_idx2561_inb : ∀ (v30 : IVec S16 32) (v1670 : IVec S16 32) (v2250 : IVec S16 32) (v2371 : IVec S16 32) (k0_hw1933 : k0_chk1933 v30 v1670 v2250 v2371), ∀ a x, ((![v1670, v2250, v2371, v30] : Fin 4 → IVec S16 32) a x).toNat < S2x4x32x32.size a := fun v30 v1670 v2250 v2371 k0_hw1933 => k0_hw1933

def k0_chk1934 (v1670 : IVec S16 32) (v2250 : IVec S16 32) (v2371 : IVec S16 32) (v2374 : IVec S16 32) : Prop :=
  (∀ a x, ((![v1670, v2250, v2371, v2374] : Fin 4 → IVec S16 32) a x).toNat < S2x4x32x32.size a)
theorem k0_idx2562_inb : ∀ (v1670 : IVec S16 32) (v2250 : IVec S16 32) (v2371 : IVec S16 32) (v2374 : IVec S16 32) (k0_hw1934 : k0_chk1934 v1670 v2250 v2371 v2374), ∀ a x, ((![v1670, v2250, v2371, v2374] : Fin 4 → IVec S16 32) a x).toNat < S2x4x32x32.size a := fun v1670 v2250 v2371 v2374 k0_hw1934 => k0_hw1934

def k0_chk1935 (v33 : IVec S16 32) (v35 : IVec S16 32) (v1670 : IVec S16 32) (v2250 : IVec S16 32) (v2376 : IVec S16 32) : Prop :=
  (∀ a x, ((![v1670, v2250, v2376, v33] : Fin 4 → IVec S16 32) a x).toNat < S2x4x94x96.size a) ∧
  (∀ a x, ((![v1670, v2250, v2376, v35] : Fin 4 → IVec S16 32) a x).toNat < S2x4x94x96.size a)
theorem k0_idx2563_inb : ∀ (v33 : IVec S16 32) (v35 : IVec S16 32) (v1670 : IVec S16 32) (v2250 : IVec S16 32) (v2376 : IVec S16 32) (k0_hw1935 : k0_chk1935 v33 v35 v1670 v2250 v2376), ∀ a x, ((![v1670, v2250, v2376, v33] : Fin 4 → IVec S16 32) a x).toNat < S2x4x94x96.size a := fun v33 v35 v1670 v2250 v2376 k0_hw1935 => k0_hw1935.1
theorem k0_idx2564_inb : ∀ (v33 : IVec S16 32) (v35 : IVec S16 32) (v1670 : IVec S16 32) (v2250 : IVec S16 32) (v2376 : IVec S16 32) (k0_hw1935 : k0_chk1935 v33 v35 v1670 v2250 v2376), ∀ a x, ((![v1670, v2250, v2376, v35] : Fin 4 → IVec S16 32) a x).toNat < S2x4x94x96.size a := fun v33 v35 v1670 v2250 v2376 k0_hw1935 => k0_hw1935.2

def k0_chk1936 (v30 : IVec S16 32) (v1670 : IVec S16 32) (v2250 : IVec S16 32) (v2377 : IVec S16 32) : Prop :=
  (∀ a x, ((![v1670, v2250, v2377, v30] : Fin 4 → IVec S16 32) a x).toNat < S2x4x32x32.size a)
theorem k0_idx2565_inb : ∀ (v30 : IVec S16 32) (v1670 : IVec S16 32) (v2250 : IVec S16 32) (v2377 : IVec S16 32) (k0_hw1936 : k0_chk1936 v30 v1670 v2250 v2377), ∀ a x, ((![v1670, v2250, v2377, v30] : Fin 4 → IVec S16 32) a x).toNat < S2x4x32x32.size a := fun v30 v1670 v2250 v2377 k0_hw1936 => k0_hw1936

def k0_chk1937 (v1670 : IVec S16 32) (v2250 : IVec S16 32) (v2377 : IVec S16 32) (v2380 : IVec S16 32) : Prop :=
  (∀ a x, ((![v1670, v2250, v2377, v2380] : Fin 4 → IVec S16 32) a x).toNat < S2x4x32x32.size a)
theorem k0_idx2566_inb : ∀ (v1670 : IVec S16 32) (v2250 : IVec S16 32) (v2377 : IVec S16 32) (v2380 : IVec S16 32) (k0_hw1937 : k0_chk1937 v1670 v2250 v2377 v2380), ∀ a x, ((![v1670, v2250, v2377, v2380] : Fin 4 → IVec S16 32) a x).toNat < S2x4x32x32.size a := fun v1670 v2250 v2377 v2380 k0_hw1937 => k0_hw1937

def k0_chk1938 (v33 : IVec S16 32) (v35 : IVec S16 32) (v1670 : IVec S16 32) (v2250 : IVec S16 32) (v2382 : IVec S16 32) : Prop :=
  (∀ a x, ((![v1670, v2250, v2382, v33] : Fin 4 → IVec S16 32) a x).toNat < S2x4x94x96.size a) ∧
  (∀ a x, ((![v1670, v2250, v2382, v35] : Fin 4 → IVec S16 32) a x).toNat < S2x4x94x96.size a)
theorem k0_idx2567_inb : ∀ (v33 : IVec S16 32) (v35 : IVec S16 32) (v1670 : IVec S16 32) (v2250 : IVec S16 32) (v2382 : IVec S16 32) (k0_hw1938 : k0_chk1938 v33 v35 v1670 v2250 v2382), ∀ a x, ((![v1670, v2250, v2382, v33] : Fin 4 → IVec S16 32) a x).toNat < S2x4x94x96.size a := fun v33 v35 v1670 v2250 v2382 k0_hw1938 => k0_hw1938.1
theorem k0_idx2568_inb : ∀ (v33 : IVec S16 32) (v35 : IVec S16 32) (v1670 : IVec S16 32) (v2250 : IVec S16 32) (v2382 : IVec S16 32) (k0_hw1938 : k0_chk1938 v33 v35 v1670 v2250 v2382), ∀ a x, ((![v1670, v2250, v2382, v35] : Fin 4 → IVec S16 32) a x).toNat < S2x4x94x96.size a := fun v33 v35 v1670 v2250 v2382 k0_hw1938 => k0_hw1938.2

def k0_chk1939 (v30 : IVec S16 32) (v1670 : IVec S16 32) (v2250 : IVec S16 32) (v2383 : IVec S16 32) : Prop :=
  (∀ a x, ((![v1670, v2250, v2383, v30] : Fin 4 → IVec S16 32) a x).toNat < S2x4x32x32.size a)
theorem k0_idx2569_inb : ∀ (v30 : IVec S16 32) (v1670 : IVec S16 32) (v2250 : IVec S16 32) (v2383 : IVec S16 32) (k0_hw1939 : k0_chk1939 v30 v1670 v2250 v2383), ∀ a x, ((![v1670, v2250, v2383, v30] : Fin 4 → IVec S16 32) a x).toNat < S2x4x32x32.size a := fun v30 v1670 v2250 v2383 k0_hw1939 => k0_hw1939

def k0_chk1940 (v1670 : IVec S16 32) (v2250 : IVec S16 32) (v2383 : IVec S16 32) (v2386 : IVec S16 32) : Prop :=
  (∀ a x, ((![v1670, v2250, v2383, v2386] : Fin 4 → IVec S16 32) a x).toNat < S2x4x32x32.size a)
theorem k0_idx2570_inb : ∀ (v1670 : IVec S16 32) (v2250 : IVec S16 32) (v2383 : IVec S16 32) (v2386 : IVec S16 32) (k0_hw1940 : k0_chk1940 v1670 v2250 v2383 v2386), ∀ a x, ((![v1670, v2250, v2383, v2386] : Fin 4 → IVec S16 32) a x).toNat < S2x4x32x32.size a := fun v1670 v2250 v2383 v2386 k0_hw1940 => k0_hw1940

def k0_chk1941 (v33 : IVec S16 32) (v35 : IVec S16 32) (v1670 : IVec S16 32) (v2250 : IVec S16 32) (v2388 : IVec S16 32) : Prop :=
  (∀ a x, ((![v1670, v2250, v2388, v33] : Fin 4 → IVec S16 32) a x).toNat < S2x4x94x96.size a) ∧
  (∀ a x, ((![v1670, v2250, v2388, v35] : Fin 4 → IVec S16 32) a x).toNat < S2x4x94x96.size a)
theorem k0_idx2571_inb : ∀ (v33 : IVec S16 32) (v35 : IVec S16 32) (v1670 : IVec S16 32) (v2250 : IVec S16 32) (v2388 : IVec S16 32) (k0_hw1941 : k0_chk1941 v33 v35 v1670 v2250 v2388), ∀ a x, ((![v1670, v2250, v2388, v33] : Fin 4 → IVec S16 32) a x).toNat < S2x4x94x96.size a := fun v33 v35 v1670 v2250 v2388 k0_hw1941 => k0_hw1941.1
theorem k0_idx2572_inb : ∀ (v33 : IVec S16 32) (v35 : IVec S16 32) (v1670 : IVec S16 32) (v2250 : IVec S16 32) (v2388 : IVec S16 32) (k0_hw1941 : k0_chk1941 v33 v35 v1670 v2250 v2388), ∀ a x, ((![v1670, v2250, v2388, v35] : Fin 4 → IVec S16 32) a x).toNat < S2x4x94x96.size a := fun v33 v35 v1670 v2250 v2388 k0_hw1941 => k0_hw1941.2

def k0_chk1942 (v30 : IVec S16 32) (v1670 : IVec S16 32) (v2250 : IVec S16 32) (v2389 : IVec S16 32) : Prop :=
  (∀ a x, ((![v1670, v2250, v2389, v30] : Fin 4 → IVec S16 32) a x).toNat < S2x4x32x32.size a)
theorem k0_idx2573_inb : ∀ (v30 : IVec S16 32) (v1670 : IVec S16 32) (v2250 : IVec S16 32) (v2389 : IVec S16 32) (k0_hw1942 : k0_chk1942 v30 v1670 v2250 v2389), ∀ a x, ((![v1670, v2250, v2389, v30] : Fin 4 → IVec S16 32) a x).toNat < S2x4x32x32.size a := fun v30 v1670 v2250 v2389 k0_hw1942 => k0_hw1942

def k0_chk1943 (v1670 : IVec S16 32) (v2250 : IVec S16 32) (v2389 : IVec S16 32) (v2392 : IVec S16 32) : Prop :=
  (∀ a x, ((![v1670, v2250, v2389, v2392] : Fin 4 → IVec S16 32) a x).toNat < S2x4x32x32.size a)
theorem k0_idx2574_inb : ∀ (v1670 : IVec S16 32) (v2250 : IVec S16 32) (v2389 : IVec S16 32) (v2392 : IVec S16 32) (k0_hw1943 : k0_chk1943 v1670 v2250 v2389 v2392), ∀ a x, ((![v1670, v2250, v2389, v2392] : Fin 4 → IVec S16 32) a x).toNat < S2x4x32x32.size a := fun v1670 v2250 v2389 v2392 k0_hw1943 => k0_hw1943

def k0_chk1944 (v33 : IVec S16 32) (v35 : IVec S16 32) (v1670 : IVec S16 32) (v2250 : IVec S16 32) (v2394 : IVec S16 32) : Prop :=
  (∀ a x, ((![v1670, v2250, v2394, v33] : Fin 4 → IVec S16 32) a x).toNat < S2x4x94x96.size a) ∧
  (∀ a x, ((![v1670, v2250, v2394, v35] : Fin 4 → IVec S16 32) a x).toNat < S2x4x94x96.size a)
theorem k0_idx2575_inb : ∀ (v33 : IVec S16 32) (v35 : IVec S16 32) (v1670 : IVec S16 32) (v2250 : IVec S16 32) (v2394 : IVec S16 32) (k0_hw1944 : k0_chk1944 v33 v35 v1670 v2250 v2394), ∀ a x, ((![v1670, v2250, v2394, v33] : Fin 4 → IVec S16 32) a x).toNat < S2x4x94x96.size a := fun v33 v35 v1670 v2250 v2394 k0_hw1944 => k0_hw1944.1
theorem k0_idx2576_inb : ∀ (v33 : IVec S16 32) (v35 : IVec S16 32) (v1670 : IVec S16 32) (v2250 : IVec S16 32) (v2394 : IVec S16 32) (k0_hw1944 : k0_chk1944 v33 v35 v1670 v2250 v2394), ∀ a x, ((![v1670, v2250, v2394, v35] : Fin 4 → IVec S16 32) a x).toNat < S2x4x94x96.size a := fun v33 v35 v1670 v2250 v2394 k0_hw1944 => k0_hw1944.2

def k0_chk1945 (v30 : IVec S16 32) (v1670 : IVec S16 32) (v2250 : IVec S16 32) (v2395 : IVec S16 32) : Prop :=
  (∀ a x, ((![v1670, v2250, v2395, v30] : Fin 4 → IVec S16 32) a x).toNat < S2x4x32x32.size a)
theorem k0_idx2577_inb : ∀ (v30 : IVec S16 32) (v1670 : IVec S16 32) (v2250 : IVec S16 32) (v2395 : IVec S16 32) (k0_hw1945 : k0_chk1945 v30 v1670 v2250 v2395), ∀ a x, ((![v1670, v2250, v2395, v30] : Fin 4 → IVec S16 32) a x).toNat < S2x4x32x32.size a := fun v30 v1670 v2250 v2395 k0_hw1945 => k0_hw1945

def k0_chk1946 (v1670 : IVec S16 32) (v2250 : IVec S16 32) (v2395 : IVec S16 32) (v2398 : IVec S16 32) : Prop :=
  (∀ a x, ((![v1670, v2250, v2395, v2398] : Fin 4 → IVec S16 32) a x).toNat < S2x4x32x32.size a)
theorem k0_idx2578_inb : ∀ (v1670 : IVec S16 32) (v2250 : IVec S16 32) (v2395 : IVec S16 32) (v2398 : IVec S16 32) (k0_hw1946 : k0_chk1946 v1670 v2250 v2395 v2398), ∀ a x, ((![v1670, v2250, v2395, v2398] : Fin 4 → IVec S16 32) a x).toNat < S2x4x32x32.size a := fun v1670 v2250 v2395 v2398 k0_hw1946 => k0_hw1946

def k0_chk1947 (v33 : IVec S16 32) (v35 : IVec S16 32) (v1670 : IVec S16 32) (v2250 : IVec S16 32) (v2400 : IVec S16 32) : Prop :=
  (∀ a x, ((![v1670, v2250, v2400, v33] : Fin 4 → IVec S16 32) a x).toNat < S2x4x94x96.size a) ∧
  (∀ a x, ((![v1670, v2250, v2400, v35] : Fin 4 → IVec S16 32) a x).toNat < S2x4x94x96.size a)
theorem k0_idx2579_inb : ∀ (v33 : IVec S16 32) (v35 : IVec S16 32) (v1670 : IVec S16 32) (v2250 : IVec S16 32) (v2400 : IVec S16 32) (k0_hw1947 : k0_chk1947 v33 v35 v1670 v2250 v2400), ∀ a x, ((![v1670, v2250, v2400, v33] : Fin 4 → IVec S16 32) a x).toNat < S2x4x94x96.size a := fun v33 v35 v1670 v2250 v2400 k0_hw1947 => k0_hw1947.1
theorem k0_idx2580_inb : ∀ (v33 : IVec S16 32) (v35 : IVec S16 32) (v1670 : IVec S16 32) (v2250 : IVec S16 32) (v2400 : IVec S16 32) (k0_hw1947 : k0_chk1947 v33 v35 v1670 v2250 v2400), ∀ a x, ((![v1670, v2250, v2400, v35] : Fin 4 → IVec S16 32) a x).toNat < S2x4x94x96.size a := fun v33 v35 v1670 v2250 v2400 k0_hw1947 => k0_hw1947.2

def k0_chk1948 (v30 : IVec S16 32) (v1670 : IVec S16 32) (v2250 : IVec S16 32) (v2401 : IVec S16 32) : Prop :=
  (∀ a x, ((![v1670, v2250, v2401, v30] : Fin 4 → IVec S16 32) a x).toNat < S2x4x32x32.size a)
theorem k0_idx2581_inb : ∀ (v30 : IVec S16 32) (v1670 : IVec S16 32) (v2250 : IVec S16 32) (v2401 : IVec S16 32) (k0_hw1948 : k0_chk1948 v30 v1670 v2250 v2401), ∀ a x, ((![v1670, v2250, v2401, v30] : Fin 4 → IVec S16 32) a x).toNat < S2x4x32x32.size a := fun v30 v1670 v2250 v2401 k0_hw1948 => k0_hw1948

def k0_chk1949 (v1670 : IVec S16 32) (v2250 : IVec S16 32) (v2401 : IVec S16 32) (v2404 : IVec S16 32) : Prop :=
  (∀ a x, ((![v1670, v2250, v2401, v2404] : Fin 4 → IVec S16 32) a x).toNat < S2x4x32x32.size a)
theorem k0_idx2582_inb : ∀ (v1670 : IVec S16 32) (v2250 : IVec S16 32) (v2401 : IVec S16 32) (v2404 : IVec S16 32) (k0_hw1949 : k0_chk1949 v1670 v2250 v2401 v2404), ∀ a x, ((![v1670, v2250, v2401, v2404] : Fin 4 → IVec S16 32) a x).toNat < S2x4x32x32.size a := fun v1670 v2250 v2401 v2404 k0_hw1949 => k0_hw1949

def k0_chk1950 (v33 : IVec S16 32) (v35 : IVec S16 32) (v1670 : IVec S16 32) (v2250 : IVec S16 32) (v2406 : IVec S16 32) : Prop :=
  (∀ a x, ((![v1670, v2250, v2406, v33] : Fin 4 → IVec S16 32) a x).toNat < S2x4x94x96.size a) ∧
  (∀ a x, ((![v1670, v2250, v2406, v35] : Fin 4 → IVec S16 32) a x).toNat < S2x4x94x96.size a)
theorem k0_idx2583_inb : ∀ (v33 : IVec S16 32) (v35 : IVec S16 32) (v1670 : IVec S16 32) (v2250 : IVec S16 32) (v2406 : IVec S16 32) (k0_hw1950 : k0_chk1950 v33 v35 v1670 v2250 v2406), ∀ a x, ((![v1670, v2250, v2406, v33] : Fin 4 → IVec S16 32) a x).toNat < S2x4x94x96.size a := fun v33 v35 v1670 v2250 v2406 k0_hw1950 => k0_hw1950.1
theorem k0_idx2584_inb : ∀ (v33 : IVec S16 32) (v35 : IVec S16 32) (v1670 : IVec S16 32) (v2250 : IVec S16 32) (v2406 : IVec S16 32) (k0_hw1950 : k0_chk1950 v33 v35 v1670 v2250 v2406), ∀ a x, ((![v1670, v2250, v2406, v35] : Fin 4 → IVec S16 32) a x).toNat < S2x4x94x96.size a := fun v33 v35 v1670 v2250 v2406 k0_hw1950 => k0_hw1950.2

def k0_chk1951 (v30 : IVec S16 32) (v1670 : IVec S16 32) (v2250 : IVec S16 32) (v2407 : IVec S16 32) : Prop :=
  (∀ a x, ((![v1670, v2250, v2407, v30] : Fin 4 → IVec S16 32) a x).toNat < S2x4x32x32.size a)
theorem k0_idx2585_inb : ∀ (v30 : IVec S16 32) (v1670 : IVec S16 32) (v2250 : IVec S16 32) (v2407 : IVec S16 32) (k0_hw1951 : k0_chk1951 v30 v1670 v2250 v2407), ∀ a x, ((![v1670, v2250, v2407, v30] : Fin 4 → IVec S16 32) a x).toNat < S2x4x32x32.size a := fun v30 v1670 v2250 v2407 k0_hw1951 => k0_hw1951

def k0_chk1952 (v1670 : IVec S16 32) (v2250 : IVec S16 32) (v2407 : IVec S16 32) (v2410 : IVec S16 32) : Prop :=
  (∀ a x, ((![v1670, v2250, v2407, v2410] : Fin 4 → IVec S16 32) a x).toNat < S2x4x32x32.size a)
theorem k0_idx2586_inb : ∀ (v1670 : IVec S16 32) (v2250 : IVec S16 32) (v2407 : IVec S16 32) (v2410 : IVec S16 32) (k0_hw1952 : k0_chk1952 v1670 v2250 v2407 v2410), ∀ a x, ((![v1670, v2250, v2407, v2410] : Fin 4 → IVec S16 32) a x).toNat < S2x4x32x32.size a := fun v1670 v2250 v2407 v2410 k0_hw1952 => k0_hw1952

def k0_chk1953 (v33 : IVec S16 32) (v35 : IVec S16 32) (v1670 : IVec S16 32) (v2250 : IVec S16 32) (v2412 : IVec S16 32) : Prop :=
  (∀ a x, ((![v1670, v2250, v2412, v33] : Fin 4 → IVec S16 32) a x).toNat < S2x4x94x96.size a) ∧
  (∀ a x, ((![v1670, v2250, v2412, v35] : Fin 4 → IVec S16 32) a x).toNat < S2x4x94x96.size a)
theorem k0_idx2587_inb : ∀ (v33 : IVec S16 32) (v35 : IVec S16 32) (v1670 : IVec S16 32) (v2250 : IVec S16 32) (v2412 : IVec S16 32) (k0_hw1953 : k0_chk1953 v33 v35 v1670 v2250 v2412), ∀ a x, ((![v1670, v2250, v2412, v33] : Fin 4 → IVec S16 32) a x).toNat < S2x4x94x96.size a := fun v33 v35 v1670 v2250 v2412 k0_hw1953 => k0_hw1953.1
theorem k0_idx2588_inb : ∀ (v33 : IVec S16 32) (v35 : IVec S16 32) (v1670 : IVec S16 32) (v2250 : IVec S16 32) (v2412 : IVec S16 32) (k0_hw1953 : k0_chk1953 v33 v35 v1670 v2250 v2412), ∀ a x, ((![v1670, v2250, v2412, v35] : Fin 4 → IVec S16 32) a x).toNat < S2x4x94x96.size a := fun v33 v35 v1670 v2250 v2412 k0_hw1953 => k0_hw1953.2

def k0_chk1954 (v30 : IVec S16 32) (v1670 : IVec S16 32) (v2250 : IVec S16 32) (v2413 : IVec S16 32) : Prop :=
  (∀ a x, ((![v1670, v2250, v2413, v30] : Fin 4 → IVec S16 32) a x).toNat < S2x4x32x32.size a)
theorem k0_idx2589_inb : ∀ (v30 : IVec S16 32) (v1670 : IVec S16 32) (v2250 : IVec S16 32) (v2413 : IVec S16 32) (k0_hw1954 : k0_chk1954 v30 v1670 v2250 v2413), ∀ a x, ((![v1670, v2250, v2413, v30] : Fin 4 → IVec S16 32) a x).toNat < S2x4x32x32.size a := fun v30 v1670 v2250 v2413 k0_hw1954 => k0_hw1954

def k0_chk1955 (v1670 : IVec S16 32) (v2250 : IVec S16 32) (v2413 : IVec S16 32) (v2416 : IVec S16 32) : Prop :=
  (∀ a x, ((![v1670, v2250, v2413, v2416] : Fin 4 → IVec S16 32) a x).toNat < S2x4x32x32.size a)
theorem k0_idx2590_inb : ∀ (v1670 : IVec S16 32) (v2250 : IVec S16 32) (v2413 : IVec S16 32) (v2416 : IVec S16 32) (k0_hw1955 : k0_chk1955 v1670 v2250 v2413 v2416), ∀ a x, ((![v1670, v2250, v2413, v2416] : Fin 4 → IVec S16 32) a x).toNat < S2x4x32x32.size a := fun v1670 v2250 v2413 v2416 k0_hw1955 => k0_hw1955

def k0_chk1956 (v33 : IVec S16 32) (v35 : IVec S16 32) (v1670 : IVec S16 32) (v2250 : IVec S16 32) (v2418 : IVec S16 32) : Prop :=
  (∀ a x, ((![v1670, v2250, v2418, v33] : Fin 4 → IVec S16 32) a x).toNat < S2x4x94x96.size a) ∧
  (∀ a x, ((![v1670, v2250, v2418, v35] : Fin 4 → IVec S16 32) a x).toNat < S2x4x94x96.size a)
theorem k0_idx2591_inb : ∀ (v33 : IVec S16 32) (v35 : IVec S16 32) (v1670 : IVec S16 32) (v2250 : IVec S16 32) (v2418 : IVec S16 32) (k0_hw1956 : k0_chk1956 v33 v35 v1670 v2250 v2418), ∀ a x, ((![v1670, v2250, v2418, v33] : Fin 4 → IVec S16 32) a x).toNat < S2x4x94x96.size a := fun v33 v35 v1670 v2250 v2418 k0_hw1956 => k0_hw1956.1
theorem k0_idx2592_inb : ∀ (v33 : IVec S16 32) (v35 : IVec S16 32) (v1670 : IVec S16 32) (v2250 : IVec S16 32) (v2418 : IVec S16 32) (k0_hw1956 : k0_chk1956 v33 v35 v1670 v2250 v2418), ∀ a x, ((![v1670, v2250, v2418, v35] : Fin 4 → IVec S16 32) a x).toNat < S2x4x94x96.size a := fun v33 v35 v1670 v2250 v2418 k0_hw1956 => k0_hw1956.2

def k0_chk1957 (v30 : IVec S16 32) (v1670 : IVec S16 32) (v2250 : IVec S16 32) (v2419 : IVec S16 32) : Prop :=
  (∀ a x, ((![v1670, v2250, v2419, v30] : Fin 4 → IVec S16 32) a x).toNat < S2x4x32x32.size a)
theorem k0_idx2593_inb : ∀ (v30 : IVec S16 32) (v1670 : IVec S16 32) (v2250 : IVec S16 32) (v2419 : IVec S16 32) (k0_hw1957 : k0_chk1957 v30 v1670 v2250 v2419), ∀ a x, ((![v1670, v2250, v2419, v30] : Fin 4 → IVec S16 32) a x).toNat < S2x4x32x32.size a := fun v30 v1670 v2250 v2419 k0_hw1957 => k0_hw1957

def k0_chk1958 (v1670 : IVec S16 32) (v2250 : IVec S16 32) (v2419 : IVec S16 32) (v2422 : IVec S16 32) : Prop :=
  (∀ a x, ((![v1670, v2250, v2419, v2422] : Fin 4 → IVec S16 32) a x).toNat < S2x4x32x32.size a)
theorem k0_idx2594_inb : ∀ (v1670 : IVec S16 32) (v2250 : IVec S16 32) (v2419 : IVec S16 32) (v2422 : IVec S16 32) (k0_hw1958 : k0_chk1958 v1670 v2250 v2419 v2422), ∀ a x, ((![v1670, v2250, v2419, v2422] : Fin 4 → IVec S16 32) a x).toNat < S2x4x32x32.size a := fun v1670 v2250 v2419 v2422 k0_hw1958 => k0_hw1958

def k0_chk1959 (v33 : IVec S16 32) (v35 : IVec S16 32) (v1670 : IVec S16 32) (v2250 : IVec S16 32) (v2424 : IVec S16 32) : Prop :=
  (∀ a x, ((![v1670, v2250, v2424, v33] : Fin 4 → IVec S16 32) a x).toNat < S2x4x94x96.size a) ∧
  (∀ a x, ((![v1670, v2250, v2424, v35] : Fin 4 → IVec S16 32) a x).toNat < S2x4x94x96.size a)
theorem k0_idx2595_inb : ∀ (v33 : IVec S16 32) (v35 : IVec S16 32) (v1670 : IVec S16 32) (v2250 : IVec S16 32) (v2424 : IVec S16 32) (k0_hw1959 : k0_chk1959 v33 v35 v1670 v2250 v2424), ∀ a x, ((![v1670, v2250, v2424, v33] : Fin 4 → IVec S16 32) a x).toNat < S2x4x94x96.size a := fun v33 v35 v1670 v2250 v2424 k0_hw1959 => k0_hw1959.1
theorem k0_idx2596_inb : ∀ (v33 : IVec S16 32) (v35 : IVec S16 32) (v1670 : IVec S16 32) (v2250 : IVec S16 32) (v2424 : IVec S16 32) (k0_hw1959 : k0_chk1959 v33 v35 v1670 v2250 v2424), ∀ a x, ((![v1670, v2250, v2424, v35] : Fin 4 → IVec S16 32) a x).toNat < S2x4x94x96.size a := fun v33 v35 v1670 v2250 v2424 k0_hw1959 => k0_hw1959.2

def k0_chk1960 (v30 : IVec S16 32) (v1670 : IVec S16 32) (v2250 : IVec S16 32) (v2425 : IVec S16 32) : Prop :=
  (∀ a x, ((![v1670, v2250, v2425, v30] : Fin 4 → IVec S16 32) a x).toNat < S2x4x32x32.size a)
theorem k0_idx2597_inb : ∀ (v30 : IVec S16 32) (v1670 : IVec S16 32) (v2250 : IVec S16 32) (v2425 : IVec S16 32) (k0_hw1960 : k0_chk1960 v30 v1670 v2250 v2425), ∀ a x, ((![v1670, v2250, v2425, v30] : Fin 4 → IVec S16 32) a x).toNat < S2x4x32x32.size a := fun v30 v1670 v2250 v2425 k0_hw1960 => k0_hw1960

def k0_chk1961 (v1670 : IVec S16 32) (v2250 : IVec S16 32) (v2425 : IVec S16 32) (v2428 : IVec S16 32) : Prop :=
  (∀ a x, ((![v1670, v2250, v2425, v2428] : Fin 4 → IVec S16 32) a x).toNat < S2x4x32x32.size a)
theorem k0_idx2598_inb : ∀ (v1670 : IVec S16 32) (v2250 : IVec S16 32) (v2425 : IVec S16 32) (v2428 : IVec S16 32) (k0_hw1961 : k0_chk1961 v1670 v2250 v2425 v2428), ∀ a x, ((![v1670, v2250, v2425, v2428] : Fin 4 → IVec S16 32) a x).toNat < S2x4x32x32.size a := fun v1670 v2250 v2425 v2428 k0_hw1961 => k0_hw1961

def k0_chk1962 (v33 : IVec S16 32) (v35 : IVec S16 32) (v1670 : IVec S16 32) (v2250 : IVec S16 32) (v2430 : IVec S16 32) : Prop :=
  (∀ a x, ((![v1670, v2250, v2430, v33] : Fin 4 → IVec S16 32) a x).toNat < S2x4x94x96.size a) ∧
  (∀ a x, ((![v1670, v2250, v2430, v35] : Fin 4 → IVec S16 32) a x).toNat < S2x4x94x96.size a)
theorem k0_idx2599_inb : ∀ (v33 : IVec S16 32) (v35 : IVec S16 32) (v1670 : IVec S16 32) (v2250 : IVec S16 32) (v2430 : IVec S16 32) (k0_hw1962 : k0_chk1962 v33 v35 v1670 v2250 v2430), ∀ a x, ((![v1670, v2250, v2430, v33] : Fin 4 → IVec S16 32) a x).toNat < S2x4x94x96.size a := fun v33 v35 v1670 v2250 v2430 k0_hw1962 => k0_hw1962.1
theorem k0_idx2600_inb : ∀ (v33 : IVec S16 32) (v35 : IVec S16 32) (v1670 : IVec S16 32) (v2250 : IVec S16 32) (v2430 : IVec S16 32) (k0_hw1962 : k0_chk1962 v33 v35 v1670 v2250 v2430), ∀ a x, ((![v1670, v2250, v2430, v35] : Fin 4 → IVec S16 32) a x).toNat < S2x4x94x96.size a := fun v33 v35 v1670 v2250 v2430 k0_hw1962 => k0_hw1962.2

def k0_chk1963 (v30 : IVec S16 32) (v1670 : IVec S16 32) (v2250 : IVec S16 32) (v2431 : IVec S16 32) : Prop :=
  (∀ a x, ((![v1670, v2250, v2431, v30] : Fin 4 → IVec S16 32) a x).toNat < S2x4x32x32.size a)
theorem k0_idx2601_inb : ∀ (v30 : IVec S16 32) (v1670 : IVec S16 32) (v2250 : IVec S16 32) (v2431 : IVec S16 32) (k0_hw1963 : k0_chk1963 v30 v1670 v2250 v2431), ∀ a x, ((![v1670, v2250, v2431, v30] : Fin 4 → IVec S16 32) a x).toNat < S2x4x32x32.size a := fun v30 v1670 v2250 v2431 k0_hw1963 => k0_hw1963

def k0_chk1964 (v1670 : IVec S16 32) (v2250 : IVec S16 32) (v2431 : IVec S16 32) (v2434 : IVec S16 32) : Prop :=
  (∀ a x, ((![v1670, v2250, v2431, v2434] : Fin 4 → IVec S16 32) a x).toNat < S2x4x32x32.size a)
theorem k0_idx2602_inb : ∀ (v1670 : IVec S16 32) (v2250 : IVec S16 32) (v2431 : IVec S16 32) (v2434 : IVec S16 32) (k0_hw1964 : k0_chk1964 v1670 v2250 v2431 v2434), ∀ a x, ((![v1670, v2250, v2431, v2434] : Fin 4 → IVec S16 32) a x).toNat < S2x4x32x32.size a := fun v1670 v2250 v2431 v2434 k0_hw1964 => k0_hw1964

def k0_chk1965 (v33 : IVec S16 32) (v35 : IVec S16 32) (v1670 : IVec S16 32) (v2250 : IVec S16 32) (v2436 : IVec S16 32) : Prop :=
  (∀ a x, ((![v1670, v2250, v2436, v33] : Fin 4 → IVec S16 32) a x).toNat < S2x4x94x96.size a) ∧
  (∀ a x, ((![v1670, v2250, v2436, v35] : Fin 4 → IVec S16 32) a x).toNat < S2x4x94x96.size a)
theorem k0_idx2603_inb : ∀ (v33 : IVec S16 32) (v35 : IVec S16 32) (v1670 : IVec S16 32) (v2250 : IVec S16 32) (v2436 : IVec S16 32) (k0_hw1965 : k0_chk1965 v33 v35 v1670 v2250 v2436), ∀ a x, ((![v1670, v2250, v2436, v33] : Fin 4 → IVec S16 32) a x).toNat < S2x4x94x96.size a := fun v33 v35 v1670 v2250 v2436 k0_hw1965 => k0_hw1965.1
theorem k0_idx2604_inb : ∀ (v33 : IVec S16 32) (v35 : IVec S16 32) (v1670 : IVec S16 32) (v2250 : IVec S16 32) (v2436 : IVec S16 32) (k0_hw1965 : k0_chk1965 v33 v35 v1670 v2250 v2436), ∀ a x, ((![v1670, v2250, v2436, v35] : Fin 4 → IVec S16 32) a x).toNat < S2x4x94x96.size a := fun v33 v35 v1670 v2250 v2436 k0_hw1965 => k0_hw1965.2

def k0_chk1966 (v30 : IVec S16 32) (v1670 : IVec S16 32) (v2250 : IVec S16 32) (v2437 : IVec S16 32) : Prop :=
  (∀ a x, ((![v1670, v2250, v2437, v30] : Fin 4 → IVec S16 32) a x).toNat < S2x4x32x32.size a)
theorem k0_idx2605_inb : ∀ (v30 : IVec S16 32) (v1670 : IVec S16 32) (v2250 : IVec S16 32) (v2437 : IVec S16 32) (k0_hw1966 : k0_chk1966 v30 v1670 v2250 v2437), ∀ a x, ((![v1670, v2250, v2437, v30] : Fin 4 → IVec S16 32) a x).toNat < S2x4x32x32.size a := fun v30 v1670 v2250 v2437 k0_hw1966 => k0_hw1966

def k0_chk1967 (v1670 : IVec S16 32) (v2250 : IVec S16 32) (v2437 : IVec S16 32) (v2440 : IVec S16 32) : Prop :=
  (∀ a x, ((![v1670, v2250, v2437, v2440] : Fin 4 → IVec S16 32) a x).toNat < S2x4x32x32.size a)
theorem k0_idx2606_inb : ∀ (v1670 : IVec S16 32) (v2250 : IVec S16 32) (v2437 : IVec S16 32) (v2440 : IVec S16 32) (k0_hw1967 : k0_chk1967 v1670 v2250 v2437 v2440), ∀ a x, ((![v1670, v2250, v2437, v2440] : Fin 4 → IVec S16 32) a x).toNat < S2x4x32x32.size a := fun v1670 v2250 v2437 v2440 k0_hw1967 => k0_hw1967

def k0_chk1968 (v33 : IVec S16 32) (v35 : IVec S16 32) (v1670 : IVec S16 32) (v2250 : IVec S16 32) (v2442 : IVec S16 32) : Prop :=
  (∀ a x, ((![v1670, v2250, v2442, v33] : Fin 4 → IVec S16 32) a x).toNat < S2x4x94x96.size a) ∧
  (∀ a x, ((![v1670, v2250, v2442, v35] : Fin 4 → IVec S16 32) a x).toNat < S2x4x94x96.size a)
theorem k0_idx2607_inb : ∀ (v33 : IVec S16 32) (v35 : IVec S16 32) (v1670 : IVec S16 32) (v2250 : IVec S16 32) (v2442 : IVec S16 32) (k0_hw1968 : k0_chk1968 v33 v35 v1670 v2250 v2442), ∀ a x, ((![v1670, v2250, v2442, v33] : Fin 4 → IVec S16 32) a x).toNat < S2x4x94x96.size a := fun v33 v35 v1670 v2250 v2442 k0_hw1968 => k0_hw1968.1
theorem k0_idx2608_inb : ∀ (v33 : IVec S16 32) (v35 : IVec S16 32) (v1670 : IVec S16 32) (v2250 : IVec S16 32) (v2442 : IVec S16 32) (k0_hw1968 : k0_chk1968 v33 v35 v1670 v2250 v2442), ∀ a x, ((![v1670, v2250, v2442, v35] : Fin 4 → IVec S16 32) a x).toNat < S2x4x94x96.size a := fun v33 v35 v1670 v2250 v2442 k0_hw1968 => k0_hw1968.2
def k0_off10 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c88_i32 : BitVec 32 := 88#32
  let v2443 : BitVec 32 := Scalar.addi v29 c88_i32
  let c0_i32_1271 : BitVec 32 := 0#32
  let c0_i32_1272 : BitVec 32 := 0#32
  ![v18.toNat, v2443.toNat, 0, 0]

def k0_chk1969 (v30 : IVec S16 32) (v2468 : IVec S16 32) (v2469 : IVec S16 32) (v2470 : IVec S16 32) : Prop :=
  (∀ a x, ((![v2468, v2469, v2470, v30] : Fin 4 → IVec S16 32) a x).toNat < S2x4x32x32.size a)
theorem k0_idx2609_inb : ∀ (v30 : IVec S16 32) (v2468 : IVec S16 32) (v2469 : IVec S16 32) (v2470 : IVec S16 32) (k0_hw1969 : k0_chk1969 v30 v2468 v2469 v2470), ∀ a x, ((![v2468, v2469, v2470, v30] : Fin 4 → IVec S16 32) a x).toNat < S2x4x32x32.size a := fun v30 v2468 v2469 v2470 k0_hw1969 => k0_hw1969

def k0_chk1970 (v2468 : IVec S16 32) (v2469 : IVec S16 32) (v2470 : IVec S16 32) (v2473 : IVec S16 32) : Prop :=
  (∀ a x, ((![v2468, v2469, v2470, v2473] : Fin 4 → IVec S16 32) a x).toNat < S2x4x32x32.size a)
theorem k0_idx2610_inb : ∀ (v2468 : IVec S16 32) (v2469 : IVec S16 32) (v2470 : IVec S16 32) (v2473 : IVec S16 32) (k0_hw1970 : k0_chk1970 v2468 v2469 v2470 v2473), ∀ a x, ((![v2468, v2469, v2470, v2473] : Fin 4 → IVec S16 32) a x).toNat < S2x4x32x32.size a := fun v2468 v2469 v2470 v2473 k0_hw1970 => k0_hw1970

def k0_chk1971 (v33 : IVec S16 32) (v35 : IVec S16 32) (v2468 : IVec S16 32) (v2469 : IVec S16 32) (v2475 : IVec S16 32) : Prop :=
  (∀ a x, ((![v2468, v2469, v2475, v33] : Fin 4 → IVec S16 32) a x).toNat < S2x4x94x96.size a) ∧
  (∀ a x, ((![v2468, v2469, v2475, v35] : Fin 4 → IVec S16 32) a x).toNat < S2x4x94x96.size a)
theorem k0_idx2611_inb : ∀ (v33 : IVec S16 32) (v35 : IVec S16 32) (v2468 : IVec S16 32) (v2469 : IVec S16 32) (v2475 : IVec S16 32) (k0_hw1971 : k0_chk1971 v33 v35 v2468 v2469 v2475), ∀ a x, ((![v2468, v2469, v2475, v33] : Fin 4 → IVec S16 32) a x).toNat < S2x4x94x96.size a := fun v33 v35 v2468 v2469 v2475 k0_hw1971 => k0_hw1971.1
theorem k0_idx2612_inb : ∀ (v33 : IVec S16 32) (v35 : IVec S16 32) (v2468 : IVec S16 32) (v2469 : IVec S16 32) (v2475 : IVec S16 32) (k0_hw1971 : k0_chk1971 v33 v35 v2468 v2469 v2475), ∀ a x, ((![v2468, v2469, v2475, v35] : Fin 4 → IVec S16 32) a x).toNat < S2x4x94x96.size a := fun v33 v35 v2468 v2469 v2475 k0_hw1971 => k0_hw1971.2

def k0_chk1972 (v30 : IVec S16 32) (v2468 : IVec S16 32) (v2469 : IVec S16 32) (v2476 : IVec S16 32) : Prop :=
  (∀ a x, ((![v2468, v2469, v2476, v30] : Fin 4 → IVec S16 32) a x).toNat < S2x4x32x32.size a)
theorem k0_idx2613_inb : ∀ (v30 : IVec S16 32) (v2468 : IVec S16 32) (v2469 : IVec S16 32) (v2476 : IVec S16 32) (k0_hw1972 : k0_chk1972 v30 v2468 v2469 v2476), ∀ a x, ((![v2468, v2469, v2476, v30] : Fin 4 → IVec S16 32) a x).toNat < S2x4x32x32.size a := fun v30 v2468 v2469 v2476 k0_hw1972 => k0_hw1972

def k0_chk1973 (v2468 : IVec S16 32) (v2469 : IVec S16 32) (v2476 : IVec S16 32) (v2479 : IVec S16 32) : Prop :=
  (∀ a x, ((![v2468, v2469, v2476, v2479] : Fin 4 → IVec S16 32) a x).toNat < S2x4x32x32.size a)
theorem k0_idx2614_inb : ∀ (v2468 : IVec S16 32) (v2469 : IVec S16 32) (v2476 : IVec S16 32) (v2479 : IVec S16 32) (k0_hw1973 : k0_chk1973 v2468 v2469 v2476 v2479), ∀ a x, ((![v2468, v2469, v2476, v2479] : Fin 4 → IVec S16 32) a x).toNat < S2x4x32x32.size a := fun v2468 v2469 v2476 v2479 k0_hw1973 => k0_hw1973

def k0_chk1974 (v33 : IVec S16 32) (v35 : IVec S16 32) (v2468 : IVec S16 32) (v2469 : IVec S16 32) (v2481 : IVec S16 32) : Prop :=
  (∀ a x, ((![v2468, v2469, v2481, v33] : Fin 4 → IVec S16 32) a x).toNat < S2x4x94x96.size a) ∧
  (∀ a x, ((![v2468, v2469, v2481, v35] : Fin 4 → IVec S16 32) a x).toNat < S2x4x94x96.size a)
theorem k0_idx2615_inb : ∀ (v33 : IVec S16 32) (v35 : IVec S16 32) (v2468 : IVec S16 32) (v2469 : IVec S16 32) (v2481 : IVec S16 32) (k0_hw1974 : k0_chk1974 v33 v35 v2468 v2469 v2481), ∀ a x, ((![v2468, v2469, v2481, v33] : Fin 4 → IVec S16 32) a x).toNat < S2x4x94x96.size a := fun v33 v35 v2468 v2469 v2481 k0_hw1974 => k0_hw1974.1
theorem k0_idx2616_inb : ∀ (v33 : IVec S16 32) (v35 : IVec S16 32) (v2468 : IVec S16 32) (v2469 : IVec S16 32) (v2481 : IVec S16 32) (k0_hw1974 : k0_chk1974 v33 v35 v2468 v2469 v2481), ∀ a x, ((![v2468, v2469, v2481, v35] : Fin 4 → IVec S16 32) a x).toNat < S2x4x94x96.size a := fun v33 v35 v2468 v2469 v2481 k0_hw1974 => k0_hw1974.2

def k0_chk1975 (v30 : IVec S16 32) (v2468 : IVec S16 32) (v2469 : IVec S16 32) (v2482 : IVec S16 32) : Prop :=
  (∀ a x, ((![v2468, v2469, v2482, v30] : Fin 4 → IVec S16 32) a x).toNat < S2x4x32x32.size a)
theorem k0_idx2617_inb : ∀ (v30 : IVec S16 32) (v2468 : IVec S16 32) (v2469 : IVec S16 32) (v2482 : IVec S16 32) (k0_hw1975 : k0_chk1975 v30 v2468 v2469 v2482), ∀ a x, ((![v2468, v2469, v2482, v30] : Fin 4 → IVec S16 32) a x).toNat < S2x4x32x32.size a := fun v30 v2468 v2469 v2482 k0_hw1975 => k0_hw1975

def k0_chk1976 (v2468 : IVec S16 32) (v2469 : IVec S16 32) (v2482 : IVec S16 32) (v2485 : IVec S16 32) : Prop :=
  (∀ a x, ((![v2468, v2469, v2482, v2485] : Fin 4 → IVec S16 32) a x).toNat < S2x4x32x32.size a)
theorem k0_idx2618_inb : ∀ (v2468 : IVec S16 32) (v2469 : IVec S16 32) (v2482 : IVec S16 32) (v2485 : IVec S16 32) (k0_hw1976 : k0_chk1976 v2468 v2469 v2482 v2485), ∀ a x, ((![v2468, v2469, v2482, v2485] : Fin 4 → IVec S16 32) a x).toNat < S2x4x32x32.size a := fun v2468 v2469 v2482 v2485 k0_hw1976 => k0_hw1976

def k0_chk1977 (v33 : IVec S16 32) (v35 : IVec S16 32) (v2468 : IVec S16 32) (v2469 : IVec S16 32) (v2487 : IVec S16 32) : Prop :=
  (∀ a x, ((![v2468, v2469, v2487, v33] : Fin 4 → IVec S16 32) a x).toNat < S2x4x94x96.size a) ∧
  (∀ a x, ((![v2468, v2469, v2487, v35] : Fin 4 → IVec S16 32) a x).toNat < S2x4x94x96.size a)
theorem k0_idx2619_inb : ∀ (v33 : IVec S16 32) (v35 : IVec S16 32) (v2468 : IVec S16 32) (v2469 : IVec S16 32) (v2487 : IVec S16 32) (k0_hw1977 : k0_chk1977 v33 v35 v2468 v2469 v2487), ∀ a x, ((![v2468, v2469, v2487, v33] : Fin 4 → IVec S16 32) a x).toNat < S2x4x94x96.size a := fun v33 v35 v2468 v2469 v2487 k0_hw1977 => k0_hw1977.1
theorem k0_idx2620_inb : ∀ (v33 : IVec S16 32) (v35 : IVec S16 32) (v2468 : IVec S16 32) (v2469 : IVec S16 32) (v2487 : IVec S16 32) (k0_hw1977 : k0_chk1977 v33 v35 v2468 v2469 v2487), ∀ a x, ((![v2468, v2469, v2487, v35] : Fin 4 → IVec S16 32) a x).toNat < S2x4x94x96.size a := fun v33 v35 v2468 v2469 v2487 k0_hw1977 => k0_hw1977.2

def k0_chk1978 (v30 : IVec S16 32) (v2468 : IVec S16 32) (v2469 : IVec S16 32) (v2488 : IVec S16 32) : Prop :=
  (∀ a x, ((![v2468, v2469, v2488, v30] : Fin 4 → IVec S16 32) a x).toNat < S2x4x32x32.size a)
theorem k0_idx2621_inb : ∀ (v30 : IVec S16 32) (v2468 : IVec S16 32) (v2469 : IVec S16 32) (v2488 : IVec S16 32) (k0_hw1978 : k0_chk1978 v30 v2468 v2469 v2488), ∀ a x, ((![v2468, v2469, v2488, v30] : Fin 4 → IVec S16 32) a x).toNat < S2x4x32x32.size a := fun v30 v2468 v2469 v2488 k0_hw1978 => k0_hw1978

def k0_chk1979 (v2468 : IVec S16 32) (v2469 : IVec S16 32) (v2488 : IVec S16 32) (v2491 : IVec S16 32) : Prop :=
  (∀ a x, ((![v2468, v2469, v2488, v2491] : Fin 4 → IVec S16 32) a x).toNat < S2x4x32x32.size a)
theorem k0_idx2622_inb : ∀ (v2468 : IVec S16 32) (v2469 : IVec S16 32) (v2488 : IVec S16 32) (v2491 : IVec S16 32) (k0_hw1979 : k0_chk1979 v2468 v2469 v2488 v2491), ∀ a x, ((![v2468, v2469, v2488, v2491] : Fin 4 → IVec S16 32) a x).toNat < S2x4x32x32.size a := fun v2468 v2469 v2488 v2491 k0_hw1979 => k0_hw1979

def k0_chk1980 (v33 : IVec S16 32) (v35 : IVec S16 32) (v2468 : IVec S16 32) (v2469 : IVec S16 32) (v2493 : IVec S16 32) : Prop :=
  (∀ a x, ((![v2468, v2469, v2493, v33] : Fin 4 → IVec S16 32) a x).toNat < S2x4x94x96.size a) ∧
  (∀ a x, ((![v2468, v2469, v2493, v35] : Fin 4 → IVec S16 32) a x).toNat < S2x4x94x96.size a)
theorem k0_idx2623_inb : ∀ (v33 : IVec S16 32) (v35 : IVec S16 32) (v2468 : IVec S16 32) (v2469 : IVec S16 32) (v2493 : IVec S16 32) (k0_hw1980 : k0_chk1980 v33 v35 v2468 v2469 v2493), ∀ a x, ((![v2468, v2469, v2493, v33] : Fin 4 → IVec S16 32) a x).toNat < S2x4x94x96.size a := fun v33 v35 v2468 v2469 v2493 k0_hw1980 => k0_hw1980.1
theorem k0_idx2624_inb : ∀ (v33 : IVec S16 32) (v35 : IVec S16 32) (v2468 : IVec S16 32) (v2469 : IVec S16 32) (v2493 : IVec S16 32) (k0_hw1980 : k0_chk1980 v33 v35 v2468 v2469 v2493), ∀ a x, ((![v2468, v2469, v2493, v35] : Fin 4 → IVec S16 32) a x).toNat < S2x4x94x96.size a := fun v33 v35 v2468 v2469 v2493 k0_hw1980 => k0_hw1980.2

def k0_chk1981 (v30 : IVec S16 32) (v2468 : IVec S16 32) (v2469 : IVec S16 32) (v2494 : IVec S16 32) : Prop :=
  (∀ a x, ((![v2468, v2469, v2494, v30] : Fin 4 → IVec S16 32) a x).toNat < S2x4x32x32.size a)
theorem k0_idx2625_inb : ∀ (v30 : IVec S16 32) (v2468 : IVec S16 32) (v2469 : IVec S16 32) (v2494 : IVec S16 32) (k0_hw1981 : k0_chk1981 v30 v2468 v2469 v2494), ∀ a x, ((![v2468, v2469, v2494, v30] : Fin 4 → IVec S16 32) a x).toNat < S2x4x32x32.size a := fun v30 v2468 v2469 v2494 k0_hw1981 => k0_hw1981

def k0_chk1982 (v2468 : IVec S16 32) (v2469 : IVec S16 32) (v2494 : IVec S16 32) (v2497 : IVec S16 32) : Prop :=
  (∀ a x, ((![v2468, v2469, v2494, v2497] : Fin 4 → IVec S16 32) a x).toNat < S2x4x32x32.size a)
theorem k0_idx2626_inb : ∀ (v2468 : IVec S16 32) (v2469 : IVec S16 32) (v2494 : IVec S16 32) (v2497 : IVec S16 32) (k0_hw1982 : k0_chk1982 v2468 v2469 v2494 v2497), ∀ a x, ((![v2468, v2469, v2494, v2497] : Fin 4 → IVec S16 32) a x).toNat < S2x4x32x32.size a := fun v2468 v2469 v2494 v2497 k0_hw1982 => k0_hw1982

def k0_chk1983 (v33 : IVec S16 32) (v35 : IVec S16 32) (v2468 : IVec S16 32) (v2469 : IVec S16 32) (v2499 : IVec S16 32) : Prop :=
  (∀ a x, ((![v2468, v2469, v2499, v33] : Fin 4 → IVec S16 32) a x).toNat < S2x4x94x96.size a) ∧
  (∀ a x, ((![v2468, v2469, v2499, v35] : Fin 4 → IVec S16 32) a x).toNat < S2x4x94x96.size a)
theorem k0_idx2627_inb : ∀ (v33 : IVec S16 32) (v35 : IVec S16 32) (v2468 : IVec S16 32) (v2469 : IVec S16 32) (v2499 : IVec S16 32) (k0_hw1983 : k0_chk1983 v33 v35 v2468 v2469 v2499), ∀ a x, ((![v2468, v2469, v2499, v33] : Fin 4 → IVec S16 32) a x).toNat < S2x4x94x96.size a := fun v33 v35 v2468 v2469 v2499 k0_hw1983 => k0_hw1983.1
theorem k0_idx2628_inb : ∀ (v33 : IVec S16 32) (v35 : IVec S16 32) (v2468 : IVec S16 32) (v2469 : IVec S16 32) (v2499 : IVec S16 32) (k0_hw1983 : k0_chk1983 v33 v35 v2468 v2469 v2499), ∀ a x, ((![v2468, v2469, v2499, v35] : Fin 4 → IVec S16 32) a x).toNat < S2x4x94x96.size a := fun v33 v35 v2468 v2469 v2499 k0_hw1983 => k0_hw1983.2

def k0_chk1984 (v30 : IVec S16 32) (v2468 : IVec S16 32) (v2469 : IVec S16 32) (v2500 : IVec S16 32) : Prop :=
  (∀ a x, ((![v2468, v2469, v2500, v30] : Fin 4 → IVec S16 32) a x).toNat < S2x4x32x32.size a)
theorem k0_idx2629_inb : ∀ (v30 : IVec S16 32) (v2468 : IVec S16 32) (v2469 : IVec S16 32) (v2500 : IVec S16 32) (k0_hw1984 : k0_chk1984 v30 v2468 v2469 v2500), ∀ a x, ((![v2468, v2469, v2500, v30] : Fin 4 → IVec S16 32) a x).toNat < S2x4x32x32.size a := fun v30 v2468 v2469 v2500 k0_hw1984 => k0_hw1984

def k0_chk1985 (v2468 : IVec S16 32) (v2469 : IVec S16 32) (v2500 : IVec S16 32) (v2503 : IVec S16 32) : Prop :=
  (∀ a x, ((![v2468, v2469, v2500, v2503] : Fin 4 → IVec S16 32) a x).toNat < S2x4x32x32.size a)
theorem k0_idx2630_inb : ∀ (v2468 : IVec S16 32) (v2469 : IVec S16 32) (v2500 : IVec S16 32) (v2503 : IVec S16 32) (k0_hw1985 : k0_chk1985 v2468 v2469 v2500 v2503), ∀ a x, ((![v2468, v2469, v2500, v2503] : Fin 4 → IVec S16 32) a x).toNat < S2x4x32x32.size a := fun v2468 v2469 v2500 v2503 k0_hw1985 => k0_hw1985

def k0_chk1986 (v33 : IVec S16 32) (v35 : IVec S16 32) (v2468 : IVec S16 32) (v2469 : IVec S16 32) (v2505 : IVec S16 32) : Prop :=
  (∀ a x, ((![v2468, v2469, v2505, v33] : Fin 4 → IVec S16 32) a x).toNat < S2x4x94x96.size a) ∧
  (∀ a x, ((![v2468, v2469, v2505, v35] : Fin 4 → IVec S16 32) a x).toNat < S2x4x94x96.size a)
theorem k0_idx2631_inb : ∀ (v33 : IVec S16 32) (v35 : IVec S16 32) (v2468 : IVec S16 32) (v2469 : IVec S16 32) (v2505 : IVec S16 32) (k0_hw1986 : k0_chk1986 v33 v35 v2468 v2469 v2505), ∀ a x, ((![v2468, v2469, v2505, v33] : Fin 4 → IVec S16 32) a x).toNat < S2x4x94x96.size a := fun v33 v35 v2468 v2469 v2505 k0_hw1986 => k0_hw1986.1
theorem k0_idx2632_inb : ∀ (v33 : IVec S16 32) (v35 : IVec S16 32) (v2468 : IVec S16 32) (v2469 : IVec S16 32) (v2505 : IVec S16 32) (k0_hw1986 : k0_chk1986 v33 v35 v2468 v2469 v2505), ∀ a x, ((![v2468, v2469, v2505, v35] : Fin 4 → IVec S16 32) a x).toNat < S2x4x94x96.size a := fun v33 v35 v2468 v2469 v2505 k0_hw1986 => k0_hw1986.2

def k0_chk1987 (v30 : IVec S16 32) (v2468 : IVec S16 32) (v2469 : IVec S16 32) (v2506 : IVec S16 32) : Prop :=
  (∀ a x, ((![v2468, v2469, v2506, v30] : Fin 4 → IVec S16 32) a x).toNat < S2x4x32x32.size a)
theorem k0_idx2633_inb : ∀ (v30 : IVec S16 32) (v2468 : IVec S16 32) (v2469 : IVec S16 32) (v2506 : IVec S16 32) (k0_hw1987 : k0_chk1987 v30 v2468 v2469 v2506), ∀ a x, ((![v2468, v2469, v2506, v30] : Fin 4 → IVec S16 32) a x).toNat < S2x4x32x32.size a := fun v30 v2468 v2469 v2506 k0_hw1987 => k0_hw1987

def k0_chk1988 (v2468 : IVec S16 32) (v2469 : IVec S16 32) (v2506 : IVec S16 32) (v2509 : IVec S16 32) : Prop :=
  (∀ a x, ((![v2468, v2469, v2506, v2509] : Fin 4 → IVec S16 32) a x).toNat < S2x4x32x32.size a)
theorem k0_idx2634_inb : ∀ (v2468 : IVec S16 32) (v2469 : IVec S16 32) (v2506 : IVec S16 32) (v2509 : IVec S16 32) (k0_hw1988 : k0_chk1988 v2468 v2469 v2506 v2509), ∀ a x, ((![v2468, v2469, v2506, v2509] : Fin 4 → IVec S16 32) a x).toNat < S2x4x32x32.size a := fun v2468 v2469 v2506 v2509 k0_hw1988 => k0_hw1988

def k0_chk1989 (v33 : IVec S16 32) (v35 : IVec S16 32) (v2468 : IVec S16 32) (v2469 : IVec S16 32) (v2511 : IVec S16 32) : Prop :=
  (∀ a x, ((![v2468, v2469, v2511, v33] : Fin 4 → IVec S16 32) a x).toNat < S2x4x94x96.size a) ∧
  (∀ a x, ((![v2468, v2469, v2511, v35] : Fin 4 → IVec S16 32) a x).toNat < S2x4x94x96.size a)
theorem k0_idx2635_inb : ∀ (v33 : IVec S16 32) (v35 : IVec S16 32) (v2468 : IVec S16 32) (v2469 : IVec S16 32) (v2511 : IVec S16 32) (k0_hw1989 : k0_chk1989 v33 v35 v2468 v2469 v2511), ∀ a x, ((![v2468, v2469, v2511, v33] : Fin 4 → IVec S16 32) a x).toNat < S2x4x94x96.size a := fun v33 v35 v2468 v2469 v2511 k0_hw1989 => k0_hw1989.1
theorem k0_idx2636_inb : ∀ (v33 : IVec S16 32) (v35 : IVec S16 32) (v2468 : IVec S16 32) (v2469 : IVec S16 32) (v2511 : IVec S16 32) (k0_hw1989 : k0_chk1989 v33 v35 v2468 v2469 v2511), ∀ a x, ((![v2468, v2469, v2511, v35] : Fin 4 → IVec S16 32) a x).toNat < S2x4x94x96.size a := fun v33 v35 v2468 v2469 v2511 k0_hw1989 => k0_hw1989.2

def k0_chk1990 (v30 : IVec S16 32) (v2468 : IVec S16 32) (v2469 : IVec S16 32) (v2512 : IVec S16 32) : Prop :=
  (∀ a x, ((![v2468, v2469, v2512, v30] : Fin 4 → IVec S16 32) a x).toNat < S2x4x32x32.size a)
theorem k0_idx2637_inb : ∀ (v30 : IVec S16 32) (v2468 : IVec S16 32) (v2469 : IVec S16 32) (v2512 : IVec S16 32) (k0_hw1990 : k0_chk1990 v30 v2468 v2469 v2512), ∀ a x, ((![v2468, v2469, v2512, v30] : Fin 4 → IVec S16 32) a x).toNat < S2x4x32x32.size a := fun v30 v2468 v2469 v2512 k0_hw1990 => k0_hw1990

def k0_chk1991 (v2468 : IVec S16 32) (v2469 : IVec S16 32) (v2512 : IVec S16 32) (v2515 : IVec S16 32) : Prop :=
  (∀ a x, ((![v2468, v2469, v2512, v2515] : Fin 4 → IVec S16 32) a x).toNat < S2x4x32x32.size a)
theorem k0_idx2638_inb : ∀ (v2468 : IVec S16 32) (v2469 : IVec S16 32) (v2512 : IVec S16 32) (v2515 : IVec S16 32) (k0_hw1991 : k0_chk1991 v2468 v2469 v2512 v2515), ∀ a x, ((![v2468, v2469, v2512, v2515] : Fin 4 → IVec S16 32) a x).toNat < S2x4x32x32.size a := fun v2468 v2469 v2512 v2515 k0_hw1991 => k0_hw1991

def k0_chk1992 (v33 : IVec S16 32) (v35 : IVec S16 32) (v2468 : IVec S16 32) (v2469 : IVec S16 32) (v2517 : IVec S16 32) : Prop :=
  (∀ a x, ((![v2468, v2469, v2517, v33] : Fin 4 → IVec S16 32) a x).toNat < S2x4x94x96.size a) ∧
  (∀ a x, ((![v2468, v2469, v2517, v35] : Fin 4 → IVec S16 32) a x).toNat < S2x4x94x96.size a)
theorem k0_idx2639_inb : ∀ (v33 : IVec S16 32) (v35 : IVec S16 32) (v2468 : IVec S16 32) (v2469 : IVec S16 32) (v2517 : IVec S16 32) (k0_hw1992 : k0_chk1992 v33 v35 v2468 v2469 v2517), ∀ a x, ((![v2468, v2469, v2517, v33] : Fin 4 → IVec S16 32) a x).toNat < S2x4x94x96.size a := fun v33 v35 v2468 v2469 v2517 k0_hw1992 => k0_hw1992.1
theorem k0_idx2640_inb : ∀ (v33 : IVec S16 32) (v35 : IVec S16 32) (v2468 : IVec S16 32) (v2469 : IVec S16 32) (v2517 : IVec S16 32) (k0_hw1992 : k0_chk1992 v33 v35 v2468 v2469 v2517), ∀ a x, ((![v2468, v2469, v2517, v35] : Fin 4 → IVec S16 32) a x).toNat < S2x4x94x96.size a := fun v33 v35 v2468 v2469 v2517 k0_hw1992 => k0_hw1992.2

def k0_chk1993 (v30 : IVec S16 32) (v2468 : IVec S16 32) (v2469 : IVec S16 32) (v2518 : IVec S16 32) : Prop :=
  (∀ a x, ((![v2468, v2469, v2518, v30] : Fin 4 → IVec S16 32) a x).toNat < S2x4x32x32.size a)
theorem k0_idx2641_inb : ∀ (v30 : IVec S16 32) (v2468 : IVec S16 32) (v2469 : IVec S16 32) (v2518 : IVec S16 32) (k0_hw1993 : k0_chk1993 v30 v2468 v2469 v2518), ∀ a x, ((![v2468, v2469, v2518, v30] : Fin 4 → IVec S16 32) a x).toNat < S2x4x32x32.size a := fun v30 v2468 v2469 v2518 k0_hw1993 => k0_hw1993

def k0_chk1994 (v2468 : IVec S16 32) (v2469 : IVec S16 32) (v2518 : IVec S16 32) (v2521 : IVec S16 32) : Prop :=
  (∀ a x, ((![v2468, v2469, v2518, v2521] : Fin 4 → IVec S16 32) a x).toNat < S2x4x32x32.size a)
theorem k0_idx2642_inb : ∀ (v2468 : IVec S16 32) (v2469 : IVec S16 32) (v2518 : IVec S16 32) (v2521 : IVec S16 32) (k0_hw1994 : k0_chk1994 v2468 v2469 v2518 v2521), ∀ a x, ((![v2468, v2469, v2518, v2521] : Fin 4 → IVec S16 32) a x).toNat < S2x4x32x32.size a := fun v2468 v2469 v2518 v2521 k0_hw1994 => k0_hw1994

def k0_chk1995 (v33 : IVec S16 32) (v35 : IVec S16 32) (v2468 : IVec S16 32) (v2469 : IVec S16 32) (v2523 : IVec S16 32) : Prop :=
  (∀ a x, ((![v2468, v2469, v2523, v33] : Fin 4 → IVec S16 32) a x).toNat < S2x4x94x96.size a) ∧
  (∀ a x, ((![v2468, v2469, v2523, v35] : Fin 4 → IVec S16 32) a x).toNat < S2x4x94x96.size a)
theorem k0_idx2643_inb : ∀ (v33 : IVec S16 32) (v35 : IVec S16 32) (v2468 : IVec S16 32) (v2469 : IVec S16 32) (v2523 : IVec S16 32) (k0_hw1995 : k0_chk1995 v33 v35 v2468 v2469 v2523), ∀ a x, ((![v2468, v2469, v2523, v33] : Fin 4 → IVec S16 32) a x).toNat < S2x4x94x96.size a := fun v33 v35 v2468 v2469 v2523 k0_hw1995 => k0_hw1995.1
theorem k0_idx2644_inb : ∀ (v33 : IVec S16 32) (v35 : IVec S16 32) (v2468 : IVec S16 32) (v2469 : IVec S16 32) (v2523 : IVec S16 32) (k0_hw1995 : k0_chk1995 v33 v35 v2468 v2469 v2523), ∀ a x, ((![v2468, v2469, v2523, v35] : Fin 4 → IVec S16 32) a x).toNat < S2x4x94x96.size a := fun v33 v35 v2468 v2469 v2523 k0_hw1995 => k0_hw1995.2

def k0_chk1996 (v30 : IVec S16 32) (v2468 : IVec S16 32) (v2469 : IVec S16 32) (v2524 : IVec S16 32) : Prop :=
  (∀ a x, ((![v2468, v2469, v2524, v30] : Fin 4 → IVec S16 32) a x).toNat < S2x4x32x32.size a)
theorem k0_idx2645_inb : ∀ (v30 : IVec S16 32) (v2468 : IVec S16 32) (v2469 : IVec S16 32) (v2524 : IVec S16 32) (k0_hw1996 : k0_chk1996 v30 v2468 v2469 v2524), ∀ a x, ((![v2468, v2469, v2524, v30] : Fin 4 → IVec S16 32) a x).toNat < S2x4x32x32.size a := fun v30 v2468 v2469 v2524 k0_hw1996 => k0_hw1996

def k0_chk1997 (v2468 : IVec S16 32) (v2469 : IVec S16 32) (v2524 : IVec S16 32) (v2527 : IVec S16 32) : Prop :=
  (∀ a x, ((![v2468, v2469, v2524, v2527] : Fin 4 → IVec S16 32) a x).toNat < S2x4x32x32.size a)
theorem k0_idx2646_inb : ∀ (v2468 : IVec S16 32) (v2469 : IVec S16 32) (v2524 : IVec S16 32) (v2527 : IVec S16 32) (k0_hw1997 : k0_chk1997 v2468 v2469 v2524 v2527), ∀ a x, ((![v2468, v2469, v2524, v2527] : Fin 4 → IVec S16 32) a x).toNat < S2x4x32x32.size a := fun v2468 v2469 v2524 v2527 k0_hw1997 => k0_hw1997

def k0_chk1998 (v33 : IVec S16 32) (v35 : IVec S16 32) (v2468 : IVec S16 32) (v2469 : IVec S16 32) (v2529 : IVec S16 32) : Prop :=
  (∀ a x, ((![v2468, v2469, v2529, v33] : Fin 4 → IVec S16 32) a x).toNat < S2x4x94x96.size a) ∧
  (∀ a x, ((![v2468, v2469, v2529, v35] : Fin 4 → IVec S16 32) a x).toNat < S2x4x94x96.size a)
theorem k0_idx2647_inb : ∀ (v33 : IVec S16 32) (v35 : IVec S16 32) (v2468 : IVec S16 32) (v2469 : IVec S16 32) (v2529 : IVec S16 32) (k0_hw1998 : k0_chk1998 v33 v35 v2468 v2469 v2529), ∀ a x, ((![v2468, v2469, v2529, v33] : Fin 4 → IVec S16 32) a x).toNat < S2x4x94x96.size a := fun v33 v35 v2468 v2469 v2529 k0_hw1998 => k0_hw1998.1
theorem k0_idx2648_inb : ∀ (v33 : IVec S16 32) (v35 : IVec S16 32) (v2468 : IVec S16 32) (v2469 : IVec S16 32) (v2529 : IVec S16 32) (k0_hw1998 : k0_chk1998 v33 v35 v2468 v2469 v2529), ∀ a x, ((![v2468, v2469, v2529, v35] : Fin 4 → IVec S16 32) a x).toNat < S2x4x94x96.size a := fun v33 v35 v2468 v2469 v2529 k0_hw1998 => k0_hw1998.2

def k0_chk1999 (v30 : IVec S16 32) (v2468 : IVec S16 32) (v2469 : IVec S16 32) (v2530 : IVec S16 32) : Prop :=
  (∀ a x, ((![v2468, v2469, v2530, v30] : Fin 4 → IVec S16 32) a x).toNat < S2x4x32x32.size a)
theorem k0_idx2649_inb : ∀ (v30 : IVec S16 32) (v2468 : IVec S16 32) (v2469 : IVec S16 32) (v2530 : IVec S16 32) (k0_hw1999 : k0_chk1999 v30 v2468 v2469 v2530), ∀ a x, ((![v2468, v2469, v2530, v30] : Fin 4 → IVec S16 32) a x).toNat < S2x4x32x32.size a := fun v30 v2468 v2469 v2530 k0_hw1999 => k0_hw1999

def k0_chk2000 (v2468 : IVec S16 32) (v2469 : IVec S16 32) (v2530 : IVec S16 32) (v2533 : IVec S16 32) : Prop :=
  (∀ a x, ((![v2468, v2469, v2530, v2533] : Fin 4 → IVec S16 32) a x).toNat < S2x4x32x32.size a)
theorem k0_idx2650_inb : ∀ (v2468 : IVec S16 32) (v2469 : IVec S16 32) (v2530 : IVec S16 32) (v2533 : IVec S16 32) (k0_hw2000 : k0_chk2000 v2468 v2469 v2530 v2533), ∀ a x, ((![v2468, v2469, v2530, v2533] : Fin 4 → IVec S16 32) a x).toNat < S2x4x32x32.size a := fun v2468 v2469 v2530 v2533 k0_hw2000 => k0_hw2000

def k0_chk2001 (v33 : IVec S16 32) (v35 : IVec S16 32) (v2468 : IVec S16 32) (v2469 : IVec S16 32) (v2535 : IVec S16 32) : Prop :=
  (∀ a x, ((![v2468, v2469, v2535, v33] : Fin 4 → IVec S16 32) a x).toNat < S2x4x94x96.size a) ∧
  (∀ a x, ((![v2468, v2469, v2535, v35] : Fin 4 → IVec S16 32) a x).toNat < S2x4x94x96.size a)
theorem k0_idx2651_inb : ∀ (v33 : IVec S16 32) (v35 : IVec S16 32) (v2468 : IVec S16 32) (v2469 : IVec S16 32) (v2535 : IVec S16 32) (k0_hw2001 : k0_chk2001 v33 v35 v2468 v2469 v2535), ∀ a x, ((![v2468, v2469, v2535, v33] : Fin 4 → IVec S16 32) a x).toNat < S2x4x94x96.size a := fun v33 v35 v2468 v2469 v2535 k0_hw2001 => k0_hw2001.1
theorem k0_idx2652_inb : ∀ (v33 : IVec S16 32) (v35 : IVec S16 32) (v2468 : IVec S16 32) (v2469 : IVec S16 32) (v2535 : IVec S16 32) (k0_hw2001 : k0_chk2001 v33 v35 v2468 v2469 v2535), ∀ a x, ((![v2468, v2469, v2535, v35] : Fin 4 → IVec S16 32) a x).toNat < S2x4x94x96.size a := fun v33 v35 v2468 v2469 v2535 k0_hw2001 => k0_hw2001.2

def k0_chk2002 (v30 : IVec S16 32) (v2468 : IVec S16 32) (v2469 : IVec S16 32) (v2536 : IVec S16 32) : Prop :=
  (∀ a x, ((![v2468, v2469, v2536, v30] : Fin 4 → IVec S16 32) a x).toNat < S2x4x32x32.size a)
theorem k0_idx2653_inb : ∀ (v30 : IVec S16 32) (v2468 : IVec S16 32) (v2469 : IVec S16 32) (v2536 : IVec S16 32) (k0_hw2002 : k0_chk2002 v30 v2468 v2469 v2536), ∀ a x, ((![v2468, v2469, v2536, v30] : Fin 4 → IVec S16 32) a x).toNat < S2x4x32x32.size a := fun v30 v2468 v2469 v2536 k0_hw2002 => k0_hw2002

def k0_chk2003 (v2468 : IVec S16 32) (v2469 : IVec S16 32) (v2536 : IVec S16 32) (v2539 : IVec S16 32) : Prop :=
  (∀ a x, ((![v2468, v2469, v2536, v2539] : Fin 4 → IVec S16 32) a x).toNat < S2x4x32x32.size a)
theorem k0_idx2654_inb : ∀ (v2468 : IVec S16 32) (v2469 : IVec S16 32) (v2536 : IVec S16 32) (v2539 : IVec S16 32) (k0_hw2003 : k0_chk2003 v2468 v2469 v2536 v2539), ∀ a x, ((![v2468, v2469, v2536, v2539] : Fin 4 → IVec S16 32) a x).toNat < S2x4x32x32.size a := fun v2468 v2469 v2536 v2539 k0_hw2003 => k0_hw2003

def k0_chk2004 (v33 : IVec S16 32) (v35 : IVec S16 32) (v2468 : IVec S16 32) (v2469 : IVec S16 32) (v2541 : IVec S16 32) : Prop :=
  (∀ a x, ((![v2468, v2469, v2541, v33] : Fin 4 → IVec S16 32) a x).toNat < S2x4x94x96.size a) ∧
  (∀ a x, ((![v2468, v2469, v2541, v35] : Fin 4 → IVec S16 32) a x).toNat < S2x4x94x96.size a)
theorem k0_idx2655_inb : ∀ (v33 : IVec S16 32) (v35 : IVec S16 32) (v2468 : IVec S16 32) (v2469 : IVec S16 32) (v2541 : IVec S16 32) (k0_hw2004 : k0_chk2004 v33 v35 v2468 v2469 v2541), ∀ a x, ((![v2468, v2469, v2541, v33] : Fin 4 → IVec S16 32) a x).toNat < S2x4x94x96.size a := fun v33 v35 v2468 v2469 v2541 k0_hw2004 => k0_hw2004.1
theorem k0_idx2656_inb : ∀ (v33 : IVec S16 32) (v35 : IVec S16 32) (v2468 : IVec S16 32) (v2469 : IVec S16 32) (v2541 : IVec S16 32) (k0_hw2004 : k0_chk2004 v33 v35 v2468 v2469 v2541), ∀ a x, ((![v2468, v2469, v2541, v35] : Fin 4 → IVec S16 32) a x).toNat < S2x4x94x96.size a := fun v33 v35 v2468 v2469 v2541 k0_hw2004 => k0_hw2004.2

def k0_chk2005 (v30 : IVec S16 32) (v2468 : IVec S16 32) (v2469 : IVec S16 32) (v2542 : IVec S16 32) : Prop :=
  (∀ a x, ((![v2468, v2469, v2542, v30] : Fin 4 → IVec S16 32) a x).toNat < S2x4x32x32.size a)
theorem k0_idx2657_inb : ∀ (v30 : IVec S16 32) (v2468 : IVec S16 32) (v2469 : IVec S16 32) (v2542 : IVec S16 32) (k0_hw2005 : k0_chk2005 v30 v2468 v2469 v2542), ∀ a x, ((![v2468, v2469, v2542, v30] : Fin 4 → IVec S16 32) a x).toNat < S2x4x32x32.size a := fun v30 v2468 v2469 v2542 k0_hw2005 => k0_hw2005

def k0_chk2006 (v2468 : IVec S16 32) (v2469 : IVec S16 32) (v2542 : IVec S16 32) (v2545 : IVec S16 32) : Prop :=
  (∀ a x, ((![v2468, v2469, v2542, v2545] : Fin 4 → IVec S16 32) a x).toNat < S2x4x32x32.size a)
theorem k0_idx2658_inb : ∀ (v2468 : IVec S16 32) (v2469 : IVec S16 32) (v2542 : IVec S16 32) (v2545 : IVec S16 32) (k0_hw2006 : k0_chk2006 v2468 v2469 v2542 v2545), ∀ a x, ((![v2468, v2469, v2542, v2545] : Fin 4 → IVec S16 32) a x).toNat < S2x4x32x32.size a := fun v2468 v2469 v2542 v2545 k0_hw2006 => k0_hw2006

def k0_chk2007 (v33 : IVec S16 32) (v35 : IVec S16 32) (v2468 : IVec S16 32) (v2469 : IVec S16 32) (v2547 : IVec S16 32) : Prop :=
  (∀ a x, ((![v2468, v2469, v2547, v33] : Fin 4 → IVec S16 32) a x).toNat < S2x4x94x96.size a) ∧
  (∀ a x, ((![v2468, v2469, v2547, v35] : Fin 4 → IVec S16 32) a x).toNat < S2x4x94x96.size a)
theorem k0_idx2659_inb : ∀ (v33 : IVec S16 32) (v35 : IVec S16 32) (v2468 : IVec S16 32) (v2469 : IVec S16 32) (v2547 : IVec S16 32) (k0_hw2007 : k0_chk2007 v33 v35 v2468 v2469 v2547), ∀ a x, ((![v2468, v2469, v2547, v33] : Fin 4 → IVec S16 32) a x).toNat < S2x4x94x96.size a := fun v33 v35 v2468 v2469 v2547 k0_hw2007 => k0_hw2007.1
theorem k0_idx2660_inb : ∀ (v33 : IVec S16 32) (v35 : IVec S16 32) (v2468 : IVec S16 32) (v2469 : IVec S16 32) (v2547 : IVec S16 32) (k0_hw2007 : k0_chk2007 v33 v35 v2468 v2469 v2547), ∀ a x, ((![v2468, v2469, v2547, v35] : Fin 4 → IVec S16 32) a x).toNat < S2x4x94x96.size a := fun v33 v35 v2468 v2469 v2547 k0_hw2007 => k0_hw2007.2

def k0_chk2008 (v30 : IVec S16 32) (v2468 : IVec S16 32) (v2469 : IVec S16 32) (v2548 : IVec S16 32) : Prop :=
  (∀ a x, ((![v2468, v2469, v2548, v30] : Fin 4 → IVec S16 32) a x).toNat < S2x4x32x32.size a)
theorem k0_idx2661_inb : ∀ (v30 : IVec S16 32) (v2468 : IVec S16 32) (v2469 : IVec S16 32) (v2548 : IVec S16 32) (k0_hw2008 : k0_chk2008 v30 v2468 v2469 v2548), ∀ a x, ((![v2468, v2469, v2548, v30] : Fin 4 → IVec S16 32) a x).toNat < S2x4x32x32.size a := fun v30 v2468 v2469 v2548 k0_hw2008 => k0_hw2008

def k0_chk2009 (v2468 : IVec S16 32) (v2469 : IVec S16 32) (v2548 : IVec S16 32) (v2551 : IVec S16 32) : Prop :=
  (∀ a x, ((![v2468, v2469, v2548, v2551] : Fin 4 → IVec S16 32) a x).toNat < S2x4x32x32.size a)
theorem k0_idx2662_inb : ∀ (v2468 : IVec S16 32) (v2469 : IVec S16 32) (v2548 : IVec S16 32) (v2551 : IVec S16 32) (k0_hw2009 : k0_chk2009 v2468 v2469 v2548 v2551), ∀ a x, ((![v2468, v2469, v2548, v2551] : Fin 4 → IVec S16 32) a x).toNat < S2x4x32x32.size a := fun v2468 v2469 v2548 v2551 k0_hw2009 => k0_hw2009

def k0_chk2010 (v33 : IVec S16 32) (v35 : IVec S16 32) (v2468 : IVec S16 32) (v2469 : IVec S16 32) (v2553 : IVec S16 32) : Prop :=
  (∀ a x, ((![v2468, v2469, v2553, v33] : Fin 4 → IVec S16 32) a x).toNat < S2x4x94x96.size a) ∧
  (∀ a x, ((![v2468, v2469, v2553, v35] : Fin 4 → IVec S16 32) a x).toNat < S2x4x94x96.size a)
theorem k0_idx2663_inb : ∀ (v33 : IVec S16 32) (v35 : IVec S16 32) (v2468 : IVec S16 32) (v2469 : IVec S16 32) (v2553 : IVec S16 32) (k0_hw2010 : k0_chk2010 v33 v35 v2468 v2469 v2553), ∀ a x, ((![v2468, v2469, v2553, v33] : Fin 4 → IVec S16 32) a x).toNat < S2x4x94x96.size a := fun v33 v35 v2468 v2469 v2553 k0_hw2010 => k0_hw2010.1
theorem k0_idx2664_inb : ∀ (v33 : IVec S16 32) (v35 : IVec S16 32) (v2468 : IVec S16 32) (v2469 : IVec S16 32) (v2553 : IVec S16 32) (k0_hw2010 : k0_chk2010 v33 v35 v2468 v2469 v2553), ∀ a x, ((![v2468, v2469, v2553, v35] : Fin 4 → IVec S16 32) a x).toNat < S2x4x94x96.size a := fun v33 v35 v2468 v2469 v2553 k0_hw2010 => k0_hw2010.2

def k0_chk2011 (v30 : IVec S16 32) (v2468 : IVec S16 32) (v2469 : IVec S16 32) (v2554 : IVec S16 32) : Prop :=
  (∀ a x, ((![v2468, v2469, v2554, v30] : Fin 4 → IVec S16 32) a x).toNat < S2x4x32x32.size a)
theorem k0_idx2665_inb : ∀ (v30 : IVec S16 32) (v2468 : IVec S16 32) (v2469 : IVec S16 32) (v2554 : IVec S16 32) (k0_hw2011 : k0_chk2011 v30 v2468 v2469 v2554), ∀ a x, ((![v2468, v2469, v2554, v30] : Fin 4 → IVec S16 32) a x).toNat < S2x4x32x32.size a := fun v30 v2468 v2469 v2554 k0_hw2011 => k0_hw2011

def k0_chk2012 (v2468 : IVec S16 32) (v2469 : IVec S16 32) (v2554 : IVec S16 32) (v2557 : IVec S16 32) : Prop :=
  (∀ a x, ((![v2468, v2469, v2554, v2557] : Fin 4 → IVec S16 32) a x).toNat < S2x4x32x32.size a)
theorem k0_idx2666_inb : ∀ (v2468 : IVec S16 32) (v2469 : IVec S16 32) (v2554 : IVec S16 32) (v2557 : IVec S16 32) (k0_hw2012 : k0_chk2012 v2468 v2469 v2554 v2557), ∀ a x, ((![v2468, v2469, v2554, v2557] : Fin 4 → IVec S16 32) a x).toNat < S2x4x32x32.size a := fun v2468 v2469 v2554 v2557 k0_hw2012 => k0_hw2012

def k0_chk2013 (v33 : IVec S16 32) (v35 : IVec S16 32) (v2468 : IVec S16 32) (v2469 : IVec S16 32) (v2559 : IVec S16 32) : Prop :=
  (∀ a x, ((![v2468, v2469, v2559, v33] : Fin 4 → IVec S16 32) a x).toNat < S2x4x94x96.size a) ∧
  (∀ a x, ((![v2468, v2469, v2559, v35] : Fin 4 → IVec S16 32) a x).toNat < S2x4x94x96.size a)
theorem k0_idx2667_inb : ∀ (v33 : IVec S16 32) (v35 : IVec S16 32) (v2468 : IVec S16 32) (v2469 : IVec S16 32) (v2559 : IVec S16 32) (k0_hw2013 : k0_chk2013 v33 v35 v2468 v2469 v2559), ∀ a x, ((![v2468, v2469, v2559, v33] : Fin 4 → IVec S16 32) a x).toNat < S2x4x94x96.size a := fun v33 v35 v2468 v2469 v2559 k0_hw2013 => k0_hw2013.1
theorem k0_idx2668_inb : ∀ (v33 : IVec S16 32) (v35 : IVec S16 32) (v2468 : IVec S16 32) (v2469 : IVec S16 32) (v2559 : IVec S16 32) (k0_hw2013 : k0_chk2013 v33 v35 v2468 v2469 v2559), ∀ a x, ((![v2468, v2469, v2559, v35] : Fin 4 → IVec S16 32) a x).toNat < S2x4x94x96.size a := fun v33 v35 v2468 v2469 v2559 k0_hw2013 => k0_hw2013.2

def k0_chk2014 (v30 : IVec S16 32) (v2468 : IVec S16 32) (v2469 : IVec S16 32) (v2560 : IVec S16 32) : Prop :=
  (∀ a x, ((![v2468, v2469, v2560, v30] : Fin 4 → IVec S16 32) a x).toNat < S2x4x32x32.size a)
theorem k0_idx2669_inb : ∀ (v30 : IVec S16 32) (v2468 : IVec S16 32) (v2469 : IVec S16 32) (v2560 : IVec S16 32) (k0_hw2014 : k0_chk2014 v30 v2468 v2469 v2560), ∀ a x, ((![v2468, v2469, v2560, v30] : Fin 4 → IVec S16 32) a x).toNat < S2x4x32x32.size a := fun v30 v2468 v2469 v2560 k0_hw2014 => k0_hw2014

def k0_chk2015 (v2468 : IVec S16 32) (v2469 : IVec S16 32) (v2560 : IVec S16 32) (v2563 : IVec S16 32) : Prop :=
  (∀ a x, ((![v2468, v2469, v2560, v2563] : Fin 4 → IVec S16 32) a x).toNat < S2x4x32x32.size a)
theorem k0_idx2670_inb : ∀ (v2468 : IVec S16 32) (v2469 : IVec S16 32) (v2560 : IVec S16 32) (v2563 : IVec S16 32) (k0_hw2015 : k0_chk2015 v2468 v2469 v2560 v2563), ∀ a x, ((![v2468, v2469, v2560, v2563] : Fin 4 → IVec S16 32) a x).toNat < S2x4x32x32.size a := fun v2468 v2469 v2560 v2563 k0_hw2015 => k0_hw2015

def k0_chk2016 (v33 : IVec S16 32) (v35 : IVec S16 32) (v2468 : IVec S16 32) (v2469 : IVec S16 32) (v2565 : IVec S16 32) : Prop :=
  (∀ a x, ((![v2468, v2469, v2565, v33] : Fin 4 → IVec S16 32) a x).toNat < S2x4x94x96.size a) ∧
  (∀ a x, ((![v2468, v2469, v2565, v35] : Fin 4 → IVec S16 32) a x).toNat < S2x4x94x96.size a)
theorem k0_idx2671_inb : ∀ (v33 : IVec S16 32) (v35 : IVec S16 32) (v2468 : IVec S16 32) (v2469 : IVec S16 32) (v2565 : IVec S16 32) (k0_hw2016 : k0_chk2016 v33 v35 v2468 v2469 v2565), ∀ a x, ((![v2468, v2469, v2565, v33] : Fin 4 → IVec S16 32) a x).toNat < S2x4x94x96.size a := fun v33 v35 v2468 v2469 v2565 k0_hw2016 => k0_hw2016.1
theorem k0_idx2672_inb : ∀ (v33 : IVec S16 32) (v35 : IVec S16 32) (v2468 : IVec S16 32) (v2469 : IVec S16 32) (v2565 : IVec S16 32) (k0_hw2016 : k0_chk2016 v33 v35 v2468 v2469 v2565), ∀ a x, ((![v2468, v2469, v2565, v35] : Fin 4 → IVec S16 32) a x).toNat < S2x4x94x96.size a := fun v33 v35 v2468 v2469 v2565 k0_hw2016 => k0_hw2016.2

def k0_chk2017 (v30 : IVec S16 32) (v2468 : IVec S16 32) (v2469 : IVec S16 32) (v2566 : IVec S16 32) : Prop :=
  (∀ a x, ((![v2468, v2469, v2566, v30] : Fin 4 → IVec S16 32) a x).toNat < S2x4x32x32.size a)
theorem k0_idx2673_inb : ∀ (v30 : IVec S16 32) (v2468 : IVec S16 32) (v2469 : IVec S16 32) (v2566 : IVec S16 32) (k0_hw2017 : k0_chk2017 v30 v2468 v2469 v2566), ∀ a x, ((![v2468, v2469, v2566, v30] : Fin 4 → IVec S16 32) a x).toNat < S2x4x32x32.size a := fun v30 v2468 v2469 v2566 k0_hw2017 => k0_hw2017

def k0_chk2018 (v2468 : IVec S16 32) (v2469 : IVec S16 32) (v2566 : IVec S16 32) (v2569 : IVec S16 32) : Prop :=
  (∀ a x, ((![v2468, v2469, v2566, v2569] : Fin 4 → IVec S16 32) a x).toNat < S2x4x32x32.size a)
theorem k0_idx2674_inb : ∀ (v2468 : IVec S16 32) (v2469 : IVec S16 32) (v2566 : IVec S16 32) (v2569 : IVec S16 32) (k0_hw2018 : k0_chk2018 v2468 v2469 v2566 v2569), ∀ a x, ((![v2468, v2469, v2566, v2569] : Fin 4 → IVec S16 32) a x).toNat < S2x4x32x32.size a := fun v2468 v2469 v2566 v2569 k0_hw2018 => k0_hw2018

def k0_chk2019 (v33 : IVec S16 32) (v35 : IVec S16 32) (v2468 : IVec S16 32) (v2469 : IVec S16 32) (v2571 : IVec S16 32) : Prop :=
  (∀ a x, ((![v2468, v2469, v2571, v33] : Fin 4 → IVec S16 32) a x).toNat < S2x4x94x96.size a) ∧
  (∀ a x, ((![v2468, v2469, v2571, v35] : Fin 4 → IVec S16 32) a x).toNat < S2x4x94x96.size a)
theorem k0_idx2675_inb : ∀ (v33 : IVec S16 32) (v35 : IVec S16 32) (v2468 : IVec S16 32) (v2469 : IVec S16 32) (v2571 : IVec S16 32) (k0_hw2019 : k0_chk2019 v33 v35 v2468 v2469 v2571), ∀ a x, ((![v2468, v2469, v2571, v33] : Fin 4 → IVec S16 32) a x).toNat < S2x4x94x96.size a := fun v33 v35 v2468 v2469 v2571 k0_hw2019 => k0_hw2019.1
theorem k0_idx2676_inb : ∀ (v33 : IVec S16 32) (v35 : IVec S16 32) (v2468 : IVec S16 32) (v2469 : IVec S16 32) (v2571 : IVec S16 32) (k0_hw2019 : k0_chk2019 v33 v35 v2468 v2469 v2571), ∀ a x, ((![v2468, v2469, v2571, v35] : Fin 4 → IVec S16 32) a x).toNat < S2x4x94x96.size a := fun v33 v35 v2468 v2469 v2571 k0_hw2019 => k0_hw2019.2

def k0_chk2020 (v30 : IVec S16 32) (v2468 : IVec S16 32) (v2469 : IVec S16 32) (v2572 : IVec S16 32) : Prop :=
  (∀ a x, ((![v2468, v2469, v2572, v30] : Fin 4 → IVec S16 32) a x).toNat < S2x4x32x32.size a)
theorem k0_idx2677_inb : ∀ (v30 : IVec S16 32) (v2468 : IVec S16 32) (v2469 : IVec S16 32) (v2572 : IVec S16 32) (k0_hw2020 : k0_chk2020 v30 v2468 v2469 v2572), ∀ a x, ((![v2468, v2469, v2572, v30] : Fin 4 → IVec S16 32) a x).toNat < S2x4x32x32.size a := fun v30 v2468 v2469 v2572 k0_hw2020 => k0_hw2020

def k0_chk2021 (v2468 : IVec S16 32) (v2469 : IVec S16 32) (v2572 : IVec S16 32) (v2575 : IVec S16 32) : Prop :=
  (∀ a x, ((![v2468, v2469, v2572, v2575] : Fin 4 → IVec S16 32) a x).toNat < S2x4x32x32.size a)
theorem k0_idx2678_inb : ∀ (v2468 : IVec S16 32) (v2469 : IVec S16 32) (v2572 : IVec S16 32) (v2575 : IVec S16 32) (k0_hw2021 : k0_chk2021 v2468 v2469 v2572 v2575), ∀ a x, ((![v2468, v2469, v2572, v2575] : Fin 4 → IVec S16 32) a x).toNat < S2x4x32x32.size a := fun v2468 v2469 v2572 v2575 k0_hw2021 => k0_hw2021

def k0_chk2022 (v33 : IVec S16 32) (v35 : IVec S16 32) (v2468 : IVec S16 32) (v2469 : IVec S16 32) (v2577 : IVec S16 32) : Prop :=
  (∀ a x, ((![v2468, v2469, v2577, v33] : Fin 4 → IVec S16 32) a x).toNat < S2x4x94x96.size a) ∧
  (∀ a x, ((![v2468, v2469, v2577, v35] : Fin 4 → IVec S16 32) a x).toNat < S2x4x94x96.size a)
theorem k0_idx2679_inb : ∀ (v33 : IVec S16 32) (v35 : IVec S16 32) (v2468 : IVec S16 32) (v2469 : IVec S16 32) (v2577 : IVec S16 32) (k0_hw2022 : k0_chk2022 v33 v35 v2468 v2469 v2577), ∀ a x, ((![v2468, v2469, v2577, v33] : Fin 4 → IVec S16 32) a x).toNat < S2x4x94x96.size a := fun v33 v35 v2468 v2469 v2577 k0_hw2022 => k0_hw2022.1
theorem k0_idx2680_inb : ∀ (v33 : IVec S16 32) (v35 : IVec S16 32) (v2468 : IVec S16 32) (v2469 : IVec S16 32) (v2577 : IVec S16 32) (k0_hw2022 : k0_chk2022 v33 v35 v2468 v2469 v2577), ∀ a x, ((![v2468, v2469, v2577, v35] : Fin 4 → IVec S16 32) a x).toNat < S2x4x94x96.size a := fun v33 v35 v2468 v2469 v2577 k0_hw2022 => k0_hw2022.2

def k0_chk2023 (v30 : IVec S16 32) (v2468 : IVec S16 32) (v2469 : IVec S16 32) (v2578 : IVec S16 32) : Prop :=
  (∀ a x, ((![v2468, v2469, v2578, v30] : Fin 4 → IVec S16 32) a x).toNat < S2x4x32x32.size a)
theorem k0_idx2681_inb : ∀ (v30 : IVec S16 32) (v2468 : IVec S16 32) (v2469 : IVec S16 32) (v2578 : IVec S16 32) (k0_hw2023 : k0_chk2023 v30 v2468 v2469 v2578), ∀ a x, ((![v2468, v2469, v2578, v30] : Fin 4 → IVec S16 32) a x).toNat < S2x4x32x32.size a := fun v30 v2468 v2469 v2578 k0_hw2023 => k0_hw2023

def k0_chk2024 (v2468 : IVec S16 32) (v2469 : IVec S16 32) (v2578 : IVec S16 32) (v2581 : IVec S16 32) : Prop :=
  (∀ a x, ((![v2468, v2469, v2578, v2581] : Fin 4 → IVec S16 32) a x).toNat < S2x4x32x32.size a)
theorem k0_idx2682_inb : ∀ (v2468 : IVec S16 32) (v2469 : IVec S16 32) (v2578 : IVec S16 32) (v2581 : IVec S16 32) (k0_hw2024 : k0_chk2024 v2468 v2469 v2578 v2581), ∀ a x, ((![v2468, v2469, v2578, v2581] : Fin 4 → IVec S16 32) a x).toNat < S2x4x32x32.size a := fun v2468 v2469 v2578 v2581 k0_hw2024 => k0_hw2024

def k0_chk2025 (v33 : IVec S16 32) (v35 : IVec S16 32) (v2468 : IVec S16 32) (v2469 : IVec S16 32) (v2583 : IVec S16 32) : Prop :=
  (∀ a x, ((![v2468, v2469, v2583, v33] : Fin 4 → IVec S16 32) a x).toNat < S2x4x94x96.size a) ∧
  (∀ a x, ((![v2468, v2469, v2583, v35] : Fin 4 → IVec S16 32) a x).toNat < S2x4x94x96.size a)
theorem k0_idx2683_inb : ∀ (v33 : IVec S16 32) (v35 : IVec S16 32) (v2468 : IVec S16 32) (v2469 : IVec S16 32) (v2583 : IVec S16 32) (k0_hw2025 : k0_chk2025 v33 v35 v2468 v2469 v2583), ∀ a x, ((![v2468, v2469, v2583, v33] : Fin 4 → IVec S16 32) a x).toNat < S2x4x94x96.size a := fun v33 v35 v2468 v2469 v2583 k0_hw2025 => k0_hw2025.1
theorem k0_idx2684_inb : ∀ (v33 : IVec S16 32) (v35 : IVec S16 32) (v2468 : IVec S16 32) (v2469 : IVec S16 32) (v2583 : IVec S16 32) (k0_hw2025 : k0_chk2025 v33 v35 v2468 v2469 v2583), ∀ a x, ((![v2468, v2469, v2583, v35] : Fin 4 → IVec S16 32) a x).toNat < S2x4x94x96.size a := fun v33 v35 v2468 v2469 v2583 k0_hw2025 => k0_hw2025.2

def k0_chk2026 (v30 : IVec S16 32) (v2468 : IVec S16 32) (v2469 : IVec S16 32) (v2584 : IVec S16 32) : Prop :=
  (∀ a x, ((![v2468, v2469, v2584, v30] : Fin 4 → IVec S16 32) a x).toNat < S2x4x32x32.size a)
theorem k0_idx2685_inb : ∀ (v30 : IVec S16 32) (v2468 : IVec S16 32) (v2469 : IVec S16 32) (v2584 : IVec S16 32) (k0_hw2026 : k0_chk2026 v30 v2468 v2469 v2584), ∀ a x, ((![v2468, v2469, v2584, v30] : Fin 4 → IVec S16 32) a x).toNat < S2x4x32x32.size a := fun v30 v2468 v2469 v2584 k0_hw2026 => k0_hw2026

def k0_chk2027 (v2468 : IVec S16 32) (v2469 : IVec S16 32) (v2584 : IVec S16 32) (v2587 : IVec S16 32) : Prop :=
  (∀ a x, ((![v2468, v2469, v2584, v2587] : Fin 4 → IVec S16 32) a x).toNat < S2x4x32x32.size a)
theorem k0_idx2686_inb : ∀ (v2468 : IVec S16 32) (v2469 : IVec S16 32) (v2584 : IVec S16 32) (v2587 : IVec S16 32) (k0_hw2027 : k0_chk2027 v2468 v2469 v2584 v2587), ∀ a x, ((![v2468, v2469, v2584, v2587] : Fin 4 → IVec S16 32) a x).toNat < S2x4x32x32.size a := fun v2468 v2469 v2584 v2587 k0_hw2027 => k0_hw2027

def k0_chk2028 (v33 : IVec S16 32) (v35 : IVec S16 32) (v2468 : IVec S16 32) (v2469 : IVec S16 32) (v2589 : IVec S16 32) : Prop :=
  (∀ a x, ((![v2468, v2469, v2589, v33] : Fin 4 → IVec S16 32) a x).toNat < S2x4x94x96.size a) ∧
  (∀ a x, ((![v2468, v2469, v2589, v35] : Fin 4 → IVec S16 32) a x).toNat < S2x4x94x96.size a)
theorem k0_idx2687_inb : ∀ (v33 : IVec S16 32) (v35 : IVec S16 32) (v2468 : IVec S16 32) (v2469 : IVec S16 32) (v2589 : IVec S16 32) (k0_hw2028 : k0_chk2028 v33 v35 v2468 v2469 v2589), ∀ a x, ((![v2468, v2469, v2589, v33] : Fin 4 → IVec S16 32) a x).toNat < S2x4x94x96.size a := fun v33 v35 v2468 v2469 v2589 k0_hw2028 => k0_hw2028.1
theorem k0_idx2688_inb : ∀ (v33 : IVec S16 32) (v35 : IVec S16 32) (v2468 : IVec S16 32) (v2469 : IVec S16 32) (v2589 : IVec S16 32) (k0_hw2028 : k0_chk2028 v33 v35 v2468 v2469 v2589), ∀ a x, ((![v2468, v2469, v2589, v35] : Fin 4 → IVec S16 32) a x).toNat < S2x4x94x96.size a := fun v33 v35 v2468 v2469 v2589 k0_hw2028 => k0_hw2028.2

def k0_chk2029 (v30 : IVec S16 32) (v2468 : IVec S16 32) (v2469 : IVec S16 32) (v2590 : IVec S16 32) : Prop :=
  (∀ a x, ((![v2468, v2469, v2590, v30] : Fin 4 → IVec S16 32) a x).toNat < S2x4x32x32.size a)
theorem k0_idx2689_inb : ∀ (v30 : IVec S16 32) (v2468 : IVec S16 32) (v2469 : IVec S16 32) (v2590 : IVec S16 32) (k0_hw2029 : k0_chk2029 v30 v2468 v2469 v2590), ∀ a x, ((![v2468, v2469, v2590, v30] : Fin 4 → IVec S16 32) a x).toNat < S2x4x32x32.size a := fun v30 v2468 v2469 v2590 k0_hw2029 => k0_hw2029

def k0_chk2030 (v2468 : IVec S16 32) (v2469 : IVec S16 32) (v2590 : IVec S16 32) (v2593 : IVec S16 32) : Prop :=
  (∀ a x, ((![v2468, v2469, v2590, v2593] : Fin 4 → IVec S16 32) a x).toNat < S2x4x32x32.size a)
theorem k0_idx2690_inb : ∀ (v2468 : IVec S16 32) (v2469 : IVec S16 32) (v2590 : IVec S16 32) (v2593 : IVec S16 32) (k0_hw2030 : k0_chk2030 v2468 v2469 v2590 v2593), ∀ a x, ((![v2468, v2469, v2590, v2593] : Fin 4 → IVec S16 32) a x).toNat < S2x4x32x32.size a := fun v2468 v2469 v2590 v2593 k0_hw2030 => k0_hw2030

def k0_chk2031 (v33 : IVec S16 32) (v35 : IVec S16 32) (v2468 : IVec S16 32) (v2469 : IVec S16 32) (v2595 : IVec S16 32) : Prop :=
  (∀ a x, ((![v2468, v2469, v2595, v33] : Fin 4 → IVec S16 32) a x).toNat < S2x4x94x96.size a) ∧
  (∀ a x, ((![v2468, v2469, v2595, v35] : Fin 4 → IVec S16 32) a x).toNat < S2x4x94x96.size a)
theorem k0_idx2691_inb : ∀ (v33 : IVec S16 32) (v35 : IVec S16 32) (v2468 : IVec S16 32) (v2469 : IVec S16 32) (v2595 : IVec S16 32) (k0_hw2031 : k0_chk2031 v33 v35 v2468 v2469 v2595), ∀ a x, ((![v2468, v2469, v2595, v33] : Fin 4 → IVec S16 32) a x).toNat < S2x4x94x96.size a := fun v33 v35 v2468 v2469 v2595 k0_hw2031 => k0_hw2031.1
theorem k0_idx2692_inb : ∀ (v33 : IVec S16 32) (v35 : IVec S16 32) (v2468 : IVec S16 32) (v2469 : IVec S16 32) (v2595 : IVec S16 32) (k0_hw2031 : k0_chk2031 v33 v35 v2468 v2469 v2595), ∀ a x, ((![v2468, v2469, v2595, v35] : Fin 4 → IVec S16 32) a x).toNat < S2x4x94x96.size a := fun v33 v35 v2468 v2469 v2595 k0_hw2031 => k0_hw2031.2

def k0_chk2032 (v30 : IVec S16 32) (v2468 : IVec S16 32) (v2469 : IVec S16 32) (v2596 : IVec S16 32) : Prop :=
  (∀ a x, ((![v2468, v2469, v2596, v30] : Fin 4 → IVec S16 32) a x).toNat < S2x4x32x32.size a)
theorem k0_idx2693_inb : ∀ (v30 : IVec S16 32) (v2468 : IVec S16 32) (v2469 : IVec S16 32) (v2596 : IVec S16 32) (k0_hw2032 : k0_chk2032 v30 v2468 v2469 v2596), ∀ a x, ((![v2468, v2469, v2596, v30] : Fin 4 → IVec S16 32) a x).toNat < S2x4x32x32.size a := fun v30 v2468 v2469 v2596 k0_hw2032 => k0_hw2032

def k0_chk2033 (v2468 : IVec S16 32) (v2469 : IVec S16 32) (v2596 : IVec S16 32) (v2599 : IVec S16 32) : Prop :=
  (∀ a x, ((![v2468, v2469, v2596, v2599] : Fin 4 → IVec S16 32) a x).toNat < S2x4x32x32.size a)
theorem k0_idx2694_inb : ∀ (v2468 : IVec S16 32) (v2469 : IVec S16 32) (v2596 : IVec S16 32) (v2599 : IVec S16 32) (k0_hw2033 : k0_chk2033 v2468 v2469 v2596 v2599), ∀ a x, ((![v2468, v2469, v2596, v2599] : Fin 4 → IVec S16 32) a x).toNat < S2x4x32x32.size a := fun v2468 v2469 v2596 v2599 k0_hw2033 => k0_hw2033

def k0_chk2034 (v33 : IVec S16 32) (v35 : IVec S16 32) (v2468 : IVec S16 32) (v2469 : IVec S16 32) (v2601 : IVec S16 32) : Prop :=
  (∀ a x, ((![v2468, v2469, v2601, v33] : Fin 4 → IVec S16 32) a x).toNat < S2x4x94x96.size a) ∧
  (∀ a x, ((![v2468, v2469, v2601, v35] : Fin 4 → IVec S16 32) a x).toNat < S2x4x94x96.size a)
theorem k0_idx2695_inb : ∀ (v33 : IVec S16 32) (v35 : IVec S16 32) (v2468 : IVec S16 32) (v2469 : IVec S16 32) (v2601 : IVec S16 32) (k0_hw2034 : k0_chk2034 v33 v35 v2468 v2469 v2601), ∀ a x, ((![v2468, v2469, v2601, v33] : Fin 4 → IVec S16 32) a x).toNat < S2x4x94x96.size a := fun v33 v35 v2468 v2469 v2601 k0_hw2034 => k0_hw2034.1
theorem k0_idx2696_inb : ∀ (v33 : IVec S16 32) (v35 : IVec S16 32) (v2468 : IVec S16 32) (v2469 : IVec S16 32) (v2601 : IVec S16 32) (k0_hw2034 : k0_chk2034 v33 v35 v2468 v2469 v2601), ∀ a x, ((![v2468, v2469, v2601, v35] : Fin 4 → IVec S16 32) a x).toNat < S2x4x94x96.size a := fun v33 v35 v2468 v2469 v2601 k0_hw2034 => k0_hw2034.2

def k0_chk2035 (v30 : IVec S16 32) (v2468 : IVec S16 32) (v2469 : IVec S16 32) (v2602 : IVec S16 32) : Prop :=
  (∀ a x, ((![v2468, v2469, v2602, v30] : Fin 4 → IVec S16 32) a x).toNat < S2x4x32x32.size a)
theorem k0_idx2697_inb : ∀ (v30 : IVec S16 32) (v2468 : IVec S16 32) (v2469 : IVec S16 32) (v2602 : IVec S16 32) (k0_hw2035 : k0_chk2035 v30 v2468 v2469 v2602), ∀ a x, ((![v2468, v2469, v2602, v30] : Fin 4 → IVec S16 32) a x).toNat < S2x4x32x32.size a := fun v30 v2468 v2469 v2602 k0_hw2035 => k0_hw2035

def k0_chk2036 (v2468 : IVec S16 32) (v2469 : IVec S16 32) (v2602 : IVec S16 32) (v2605 : IVec S16 32) : Prop :=
  (∀ a x, ((![v2468, v2469, v2602, v2605] : Fin 4 → IVec S16 32) a x).toNat < S2x4x32x32.size a)
theorem k0_idx2698_inb : ∀ (v2468 : IVec S16 32) (v2469 : IVec S16 32) (v2602 : IVec S16 32) (v2605 : IVec S16 32) (k0_hw2036 : k0_chk2036 v2468 v2469 v2602 v2605), ∀ a x, ((![v2468, v2469, v2602, v2605] : Fin 4 → IVec S16 32) a x).toNat < S2x4x32x32.size a := fun v2468 v2469 v2602 v2605 k0_hw2036 => k0_hw2036

def k0_chk2037 (v33 : IVec S16 32) (v35 : IVec S16 32) (v2468 : IVec S16 32) (v2469 : IVec S16 32) (v2607 : IVec S16 32) : Prop :=
  (∀ a x, ((![v2468, v2469, v2607, v33] : Fin 4 → IVec S16 32) a x).toNat < S2x4x94x96.size a) ∧
  (∀ a x, ((![v2468, v2469, v2607, v35] : Fin 4 → IVec S16 32) a x).toNat < S2x4x94x96.size a)
theorem k0_idx2699_inb : ∀ (v33 : IVec S16 32) (v35 : IVec S16 32) (v2468 : IVec S16 32) (v2469 : IVec S16 32) (v2607 : IVec S16 32) (k0_hw2037 : k0_chk2037 v33 v35 v2468 v2469 v2607), ∀ a x, ((![v2468, v2469, v2607, v33] : Fin 4 → IVec S16 32) a x).toNat < S2x4x94x96.size a := fun v33 v35 v2468 v2469 v2607 k0_hw2037 => k0_hw2037.1
theorem k0_idx2700_inb : ∀ (v33 : IVec S16 32) (v35 : IVec S16 32) (v2468 : IVec S16 32) (v2469 : IVec S16 32) (v2607 : IVec S16 32) (k0_hw2037 : k0_chk2037 v33 v35 v2468 v2469 v2607), ∀ a x, ((![v2468, v2469, v2607, v35] : Fin 4 → IVec S16 32) a x).toNat < S2x4x94x96.size a := fun v33 v35 v2468 v2469 v2607 k0_hw2037 => k0_hw2037.2

def k0_chk2038 (v30 : IVec S16 32) (v2468 : IVec S16 32) (v2469 : IVec S16 32) (v2608 : IVec S16 32) : Prop :=
  (∀ a x, ((![v2468, v2469, v2608, v30] : Fin 4 → IVec S16 32) a x).toNat < S2x4x32x32.size a)
theorem k0_idx2701_inb : ∀ (v30 : IVec S16 32) (v2468 : IVec S16 32) (v2469 : IVec S16 32) (v2608 : IVec S16 32) (k0_hw2038 : k0_chk2038 v30 v2468 v2469 v2608), ∀ a x, ((![v2468, v2469, v2608, v30] : Fin 4 → IVec S16 32) a x).toNat < S2x4x32x32.size a := fun v30 v2468 v2469 v2608 k0_hw2038 => k0_hw2038

def k0_chk2039 (v2468 : IVec S16 32) (v2469 : IVec S16 32) (v2608 : IVec S16 32) (v2611 : IVec S16 32) : Prop :=
  (∀ a x, ((![v2468, v2469, v2608, v2611] : Fin 4 → IVec S16 32) a x).toNat < S2x4x32x32.size a)
theorem k0_idx2702_inb : ∀ (v2468 : IVec S16 32) (v2469 : IVec S16 32) (v2608 : IVec S16 32) (v2611 : IVec S16 32) (k0_hw2039 : k0_chk2039 v2468 v2469 v2608 v2611), ∀ a x, ((![v2468, v2469, v2608, v2611] : Fin 4 → IVec S16 32) a x).toNat < S2x4x32x32.size a := fun v2468 v2469 v2608 v2611 k0_hw2039 => k0_hw2039

def k0_chk2040 (v33 : IVec S16 32) (v35 : IVec S16 32) (v2468 : IVec S16 32) (v2469 : IVec S16 32) (v2613 : IVec S16 32) : Prop :=
  (∀ a x, ((![v2468, v2469, v2613, v33] : Fin 4 → IVec S16 32) a x).toNat < S2x4x94x96.size a) ∧
  (∀ a x, ((![v2468, v2469, v2613, v35] : Fin 4 → IVec S16 32) a x).toNat < S2x4x94x96.size a)
theorem k0_idx2703_inb : ∀ (v33 : IVec S16 32) (v35 : IVec S16 32) (v2468 : IVec S16 32) (v2469 : IVec S16 32) (v2613 : IVec S16 32) (k0_hw2040 : k0_chk2040 v33 v35 v2468 v2469 v2613), ∀ a x, ((![v2468, v2469, v2613, v33] : Fin 4 → IVec S16 32) a x).toNat < S2x4x94x96.size a := fun v33 v35 v2468 v2469 v2613 k0_hw2040 => k0_hw2040.1
theorem k0_idx2704_inb : ∀ (v33 : IVec S16 32) (v35 : IVec S16 32) (v2468 : IVec S16 32) (v2469 : IVec S16 32) (v2613 : IVec S16 32) (k0_hw2040 : k0_chk2040 v33 v35 v2468 v2469 v2613), ∀ a x, ((![v2468, v2469, v2613, v35] : Fin 4 → IVec S16 32) a x).toNat < S2x4x94x96.size a := fun v33 v35 v2468 v2469 v2613 k0_hw2040 => k0_hw2040.2

def k0_chk2041 (v30 : IVec S16 32) (v2468 : IVec S16 32) (v2469 : IVec S16 32) (v2614 : IVec S16 32) : Prop :=
  (∀ a x, ((![v2468, v2469, v2614, v30] : Fin 4 → IVec S16 32) a x).toNat < S2x4x32x32.size a)
theorem k0_idx2705_inb : ∀ (v30 : IVec S16 32) (v2468 : IVec S16 32) (v2469 : IVec S16 32) (v2614 : IVec S16 32) (k0_hw2041 : k0_chk2041 v30 v2468 v2469 v2614), ∀ a x, ((![v2468, v2469, v2614, v30] : Fin 4 → IVec S16 32) a x).toNat < S2x4x32x32.size a := fun v30 v2468 v2469 v2614 k0_hw2041 => k0_hw2041

def k0_chk2042 (v2468 : IVec S16 32) (v2469 : IVec S16 32) (v2614 : IVec S16 32) (v2617 : IVec S16 32) : Prop :=
  (∀ a x, ((![v2468, v2469, v2614, v2617] : Fin 4 → IVec S16 32) a x).toNat < S2x4x32x32.size a)
theorem k0_idx2706_inb : ∀ (v2468 : IVec S16 32) (v2469 : IVec S16 32) (v2614 : IVec S16 32) (v2617 : IVec S16 32) (k0_hw2042 : k0_chk2042 v2468 v2469 v2614 v2617), ∀ a x, ((![v2468, v2469, v2614, v2617] : Fin 4 → IVec S16 32) a x).toNat < S2x4x32x32.size a := fun v2468 v2469 v2614 v2617 k0_hw2042 => k0_hw2042

def k0_chk2043 (v33 : IVec S16 32) (v35 : IVec S16 32) (v2468 : IVec S16 32) (v2469 : IVec S16 32) (v2619 : IVec S16 32) : Prop :=
  (∀ a x, ((![v2468, v2469, v2619, v33] : Fin 4 → IVec S16 32) a x).toNat < S2x4x94x96.size a) ∧
  (∀ a x, ((![v2468, v2469, v2619, v35] : Fin 4 → IVec S16 32) a x).toNat < S2x4x94x96.size a)
theorem k0_idx2707_inb : ∀ (v33 : IVec S16 32) (v35 : IVec S16 32) (v2468 : IVec S16 32) (v2469 : IVec S16 32) (v2619 : IVec S16 32) (k0_hw2043 : k0_chk2043 v33 v35 v2468 v2469 v2619), ∀ a x, ((![v2468, v2469, v2619, v33] : Fin 4 → IVec S16 32) a x).toNat < S2x4x94x96.size a := fun v33 v35 v2468 v2469 v2619 k0_hw2043 => k0_hw2043.1
theorem k0_idx2708_inb : ∀ (v33 : IVec S16 32) (v35 : IVec S16 32) (v2468 : IVec S16 32) (v2469 : IVec S16 32) (v2619 : IVec S16 32) (k0_hw2043 : k0_chk2043 v33 v35 v2468 v2469 v2619), ∀ a x, ((![v2468, v2469, v2619, v35] : Fin 4 → IVec S16 32) a x).toNat < S2x4x94x96.size a := fun v33 v35 v2468 v2469 v2619 k0_hw2043 => k0_hw2043.2

def k0_chk2044 (v30 : IVec S16 32) (v2468 : IVec S16 32) (v2469 : IVec S16 32) (v2620 : IVec S16 32) : Prop :=
  (∀ a x, ((![v2468, v2469, v2620, v30] : Fin 4 → IVec S16 32) a x).toNat < S2x4x32x32.size a)
theorem k0_idx2709_inb : ∀ (v30 : IVec S16 32) (v2468 : IVec S16 32) (v2469 : IVec S16 32) (v2620 : IVec S16 32) (k0_hw2044 : k0_chk2044 v30 v2468 v2469 v2620), ∀ a x, ((![v2468, v2469, v2620, v30] : Fin 4 → IVec S16 32) a x).toNat < S2x4x32x32.size a := fun v30 v2468 v2469 v2620 k0_hw2044 => k0_hw2044

def k0_chk2045 (v2468 : IVec S16 32) (v2469 : IVec S16 32) (v2620 : IVec S16 32) (v2623 : IVec S16 32) : Prop :=
  (∀ a x, ((![v2468, v2469, v2620, v2623] : Fin 4 → IVec S16 32) a x).toNat < S2x4x32x32.size a)
theorem k0_idx2710_inb : ∀ (v2468 : IVec S16 32) (v2469 : IVec S16 32) (v2620 : IVec S16 32) (v2623 : IVec S16 32) (k0_hw2045 : k0_chk2045 v2468 v2469 v2620 v2623), ∀ a x, ((![v2468, v2469, v2620, v2623] : Fin 4 → IVec S16 32) a x).toNat < S2x4x32x32.size a := fun v2468 v2469 v2620 v2623 k0_hw2045 => k0_hw2045

def k0_chk2046 (v33 : IVec S16 32) (v35 : IVec S16 32) (v2468 : IVec S16 32) (v2469 : IVec S16 32) (v2625 : IVec S16 32) : Prop :=
  (∀ a x, ((![v2468, v2469, v2625, v33] : Fin 4 → IVec S16 32) a x).toNat < S2x4x94x96.size a) ∧
  (∀ a x, ((![v2468, v2469, v2625, v35] : Fin 4 → IVec S16 32) a x).toNat < S2x4x94x96.size a)
theorem k0_idx2711_inb : ∀ (v33 : IVec S16 32) (v35 : IVec S16 32) (v2468 : IVec S16 32) (v2469 : IVec S16 32) (v2625 : IVec S16 32) (k0_hw2046 : k0_chk2046 v33 v35 v2468 v2469 v2625), ∀ a x, ((![v2468, v2469, v2625, v33] : Fin 4 → IVec S16 32) a x).toNat < S2x4x94x96.size a := fun v33 v35 v2468 v2469 v2625 k0_hw2046 => k0_hw2046.1
theorem k0_idx2712_inb : ∀ (v33 : IVec S16 32) (v35 : IVec S16 32) (v2468 : IVec S16 32) (v2469 : IVec S16 32) (v2625 : IVec S16 32) (k0_hw2046 : k0_chk2046 v33 v35 v2468 v2469 v2625), ∀ a x, ((![v2468, v2469, v2625, v35] : Fin 4 → IVec S16 32) a x).toNat < S2x4x94x96.size a := fun v33 v35 v2468 v2469 v2625 k0_hw2046 => k0_hw2046.2

def k0_chk2047 (v30 : IVec S16 32) (v2468 : IVec S16 32) (v2469 : IVec S16 32) (v2626 : IVec S16 32) : Prop :=
  (∀ a x, ((![v2468, v2469, v2626, v30] : Fin 4 → IVec S16 32) a x).toNat < S2x4x32x32.size a)
theorem k0_idx2713_inb : ∀ (v30 : IVec S16 32) (v2468 : IVec S16 32) (v2469 : IVec S16 32) (v2626 : IVec S16 32) (k0_hw2047 : k0_chk2047 v30 v2468 v2469 v2626), ∀ a x, ((![v2468, v2469, v2626, v30] : Fin 4 → IVec S16 32) a x).toNat < S2x4x32x32.size a := fun v30 v2468 v2469 v2626 k0_hw2047 => k0_hw2047

def k0_chk2048 (v2468 : IVec S16 32) (v2469 : IVec S16 32) (v2626 : IVec S16 32) (v2629 : IVec S16 32) : Prop :=
  (∀ a x, ((![v2468, v2469, v2626, v2629] : Fin 4 → IVec S16 32) a x).toNat < S2x4x32x32.size a)
theorem k0_idx2714_inb : ∀ (v2468 : IVec S16 32) (v2469 : IVec S16 32) (v2626 : IVec S16 32) (v2629 : IVec S16 32) (k0_hw2048 : k0_chk2048 v2468 v2469 v2626 v2629), ∀ a x, ((![v2468, v2469, v2626, v2629] : Fin 4 → IVec S16 32) a x).toNat < S2x4x32x32.size a := fun v2468 v2469 v2626 v2629 k0_hw2048 => k0_hw2048

def k0_chk2049 (v33 : IVec S16 32) (v35 : IVec S16 32) (v2468 : IVec S16 32) (v2469 : IVec S16 32) (v2631 : IVec S16 32) : Prop :=
  (∀ a x, ((![v2468, v2469, v2631, v33] : Fin 4 → IVec S16 32) a x).toNat < S2x4x94x96.size a) ∧
  (∀ a x, ((![v2468, v2469, v2631, v35] : Fin 4 → IVec S16 32) a x).toNat < S2x4x94x96.size a)
theorem k0_idx2715_inb : ∀ (v33 : IVec S16 32) (v35 : IVec S16 32) (v2468 : IVec S16 32) (v2469 : IVec S16 32) (v2631 : IVec S16 32) (k0_hw2049 : k0_chk2049 v33 v35 v2468 v2469 v2631), ∀ a x, ((![v2468, v2469, v2631, v33] : Fin 4 → IVec S16 32) a x).toNat < S2x4x94x96.size a := fun v33 v35 v2468 v2469 v2631 k0_hw2049 => k0_hw2049.1
theorem k0_idx2716_inb : ∀ (v33 : IVec S16 32) (v35 : IVec S16 32) (v2468 : IVec S16 32) (v2469 : IVec S16 32) (v2631 : IVec S16 32) (k0_hw2049 : k0_chk2049 v33 v35 v2468 v2469 v2631), ∀ a x, ((![v2468, v2469, v2631, v35] : Fin 4 → IVec S16 32) a x).toNat < S2x4x94x96.size a := fun v33 v35 v2468 v2469 v2631 k0_hw2049 => k0_hw2049.2

def k0_chk2050 (v30 : IVec S16 32) (v2468 : IVec S16 32) (v2469 : IVec S16 32) (v2632 : IVec S16 32) : Prop :=
  (∀ a x, ((![v2468, v2469, v2632, v30] : Fin 4 → IVec S16 32) a x).toNat < S2x4x32x32.size a)
theorem k0_idx2717_inb : ∀ (v30 : IVec S16 32) (v2468 : IVec S16 32) (v2469 : IVec S16 32) (v2632 : IVec S16 32) (k0_hw2050 : k0_chk2050 v30 v2468 v2469 v2632), ∀ a x, ((![v2468, v2469, v2632, v30] : Fin 4 → IVec S16 32) a x).toNat < S2x4x32x32.size a := fun v30 v2468 v2469 v2632 k0_hw2050 => k0_hw2050

def k0_chk2051 (v2468 : IVec S16 32) (v2469 : IVec S16 32) (v2632 : IVec S16 32) (v2635 : IVec S16 32) : Prop :=
  (∀ a x, ((![v2468, v2469, v2632, v2635] : Fin 4 → IVec S16 32) a x).toNat < S2x4x32x32.size a)
theorem k0_idx2718_inb : ∀ (v2468 : IVec S16 32) (v2469 : IVec S16 32) (v2632 : IVec S16 32) (v2635 : IVec S16 32) (k0_hw2051 : k0_chk2051 v2468 v2469 v2632 v2635), ∀ a x, ((![v2468, v2469, v2632, v2635] : Fin 4 → IVec S16 32) a x).toNat < S2x4x32x32.size a := fun v2468 v2469 v2632 v2635 k0_hw2051 => k0_hw2051

def k0_chk2052 (v33 : IVec S16 32) (v35 : IVec S16 32) (v2468 : IVec S16 32) (v2469 : IVec S16 32) (v2637 : IVec S16 32) : Prop :=
  (∀ a x, ((![v2468, v2469, v2637, v33] : Fin 4 → IVec S16 32) a x).toNat < S2x4x94x96.size a) ∧
  (∀ a x, ((![v2468, v2469, v2637, v35] : Fin 4 → IVec S16 32) a x).toNat < S2x4x94x96.size a)
theorem k0_idx2719_inb : ∀ (v33 : IVec S16 32) (v35 : IVec S16 32) (v2468 : IVec S16 32) (v2469 : IVec S16 32) (v2637 : IVec S16 32) (k0_hw2052 : k0_chk2052 v33 v35 v2468 v2469 v2637), ∀ a x, ((![v2468, v2469, v2637, v33] : Fin 4 → IVec S16 32) a x).toNat < S2x4x94x96.size a := fun v33 v35 v2468 v2469 v2637 k0_hw2052 => k0_hw2052.1
theorem k0_idx2720_inb : ∀ (v33 : IVec S16 32) (v35 : IVec S16 32) (v2468 : IVec S16 32) (v2469 : IVec S16 32) (v2637 : IVec S16 32) (k0_hw2052 : k0_chk2052 v33 v35 v2468 v2469 v2637), ∀ a x, ((![v2468, v2469, v2637, v35] : Fin 4 → IVec S16 32) a x).toNat < S2x4x94x96.size a := fun v33 v35 v2468 v2469 v2637 k0_hw2052 => k0_hw2052.2

def k0_chk2053 (v30 : IVec S16 32) (v2468 : IVec S16 32) (v2469 : IVec S16 32) (v2638 : IVec S16 32) : Prop :=
  (∀ a x, ((![v2468, v2469, v2638, v30] : Fin 4 → IVec S16 32) a x).toNat < S2x4x32x32.size a)
theorem k0_idx2721_inb : ∀ (v30 : IVec S16 32) (v2468 : IVec S16 32) (v2469 : IVec S16 32) (v2638 : IVec S16 32) (k0_hw2053 : k0_chk2053 v30 v2468 v2469 v2638), ∀ a x, ((![v2468, v2469, v2638, v30] : Fin 4 → IVec S16 32) a x).toNat < S2x4x32x32.size a := fun v30 v2468 v2469 v2638 k0_hw2053 => k0_hw2053

def k0_chk2054 (v2468 : IVec S16 32) (v2469 : IVec S16 32) (v2638 : IVec S16 32) (v2641 : IVec S16 32) : Prop :=
  (∀ a x, ((![v2468, v2469, v2638, v2641] : Fin 4 → IVec S16 32) a x).toNat < S2x4x32x32.size a)
theorem k0_idx2722_inb : ∀ (v2468 : IVec S16 32) (v2469 : IVec S16 32) (v2638 : IVec S16 32) (v2641 : IVec S16 32) (k0_hw2054 : k0_chk2054 v2468 v2469 v2638 v2641), ∀ a x, ((![v2468, v2469, v2638, v2641] : Fin 4 → IVec S16 32) a x).toNat < S2x4x32x32.size a := fun v2468 v2469 v2638 v2641 k0_hw2054 => k0_hw2054

def k0_chk2055 (v33 : IVec S16 32) (v35 : IVec S16 32) (v2468 : IVec S16 32) (v2469 : IVec S16 32) (v2643 : IVec S16 32) : Prop :=
  (∀ a x, ((![v2468, v2469, v2643, v33] : Fin 4 → IVec S16 32) a x).toNat < S2x4x94x96.size a) ∧
  (∀ a x, ((![v2468, v2469, v2643, v35] : Fin 4 → IVec S16 32) a x).toNat < S2x4x94x96.size a)
theorem k0_idx2723_inb : ∀ (v33 : IVec S16 32) (v35 : IVec S16 32) (v2468 : IVec S16 32) (v2469 : IVec S16 32) (v2643 : IVec S16 32) (k0_hw2055 : k0_chk2055 v33 v35 v2468 v2469 v2643), ∀ a x, ((![v2468, v2469, v2643, v33] : Fin 4 → IVec S16 32) a x).toNat < S2x4x94x96.size a := fun v33 v35 v2468 v2469 v2643 k0_hw2055 => k0_hw2055.1
theorem k0_idx2724_inb : ∀ (v33 : IVec S16 32) (v35 : IVec S16 32) (v2468 : IVec S16 32) (v2469 : IVec S16 32) (v2643 : IVec S16 32) (k0_hw2055 : k0_chk2055 v33 v35 v2468 v2469 v2643), ∀ a x, ((![v2468, v2469, v2643, v35] : Fin 4 → IVec S16 32) a x).toNat < S2x4x94x96.size a := fun v33 v35 v2468 v2469 v2643 k0_hw2055 => k0_hw2055.2

def k0_chk2056 (v30 : IVec S16 32) (v2468 : IVec S16 32) (v2469 : IVec S16 32) (v2644 : IVec S16 32) : Prop :=
  (∀ a x, ((![v2468, v2469, v2644, v30] : Fin 4 → IVec S16 32) a x).toNat < S2x4x32x32.size a)
theorem k0_idx2725_inb : ∀ (v30 : IVec S16 32) (v2468 : IVec S16 32) (v2469 : IVec S16 32) (v2644 : IVec S16 32) (k0_hw2056 : k0_chk2056 v30 v2468 v2469 v2644), ∀ a x, ((![v2468, v2469, v2644, v30] : Fin 4 → IVec S16 32) a x).toNat < S2x4x32x32.size a := fun v30 v2468 v2469 v2644 k0_hw2056 => k0_hw2056

def k0_chk2057 (v2468 : IVec S16 32) (v2469 : IVec S16 32) (v2644 : IVec S16 32) (v2647 : IVec S16 32) : Prop :=
  (∀ a x, ((![v2468, v2469, v2644, v2647] : Fin 4 → IVec S16 32) a x).toNat < S2x4x32x32.size a)
theorem k0_idx2726_inb : ∀ (v2468 : IVec S16 32) (v2469 : IVec S16 32) (v2644 : IVec S16 32) (v2647 : IVec S16 32) (k0_hw2057 : k0_chk2057 v2468 v2469 v2644 v2647), ∀ a x, ((![v2468, v2469, v2644, v2647] : Fin 4 → IVec S16 32) a x).toNat < S2x4x32x32.size a := fun v2468 v2469 v2644 v2647 k0_hw2057 => k0_hw2057

def k0_chk2058 (v33 : IVec S16 32) (v35 : IVec S16 32) (v2468 : IVec S16 32) (v2469 : IVec S16 32) (v2649 : IVec S16 32) : Prop :=
  (∀ a x, ((![v2468, v2469, v2649, v33] : Fin 4 → IVec S16 32) a x).toNat < S2x4x94x96.size a) ∧
  (∀ a x, ((![v2468, v2469, v2649, v35] : Fin 4 → IVec S16 32) a x).toNat < S2x4x94x96.size a)
theorem k0_idx2727_inb : ∀ (v33 : IVec S16 32) (v35 : IVec S16 32) (v2468 : IVec S16 32) (v2469 : IVec S16 32) (v2649 : IVec S16 32) (k0_hw2058 : k0_chk2058 v33 v35 v2468 v2469 v2649), ∀ a x, ((![v2468, v2469, v2649, v33] : Fin 4 → IVec S16 32) a x).toNat < S2x4x94x96.size a := fun v33 v35 v2468 v2469 v2649 k0_hw2058 => k0_hw2058.1
theorem k0_idx2728_inb : ∀ (v33 : IVec S16 32) (v35 : IVec S16 32) (v2468 : IVec S16 32) (v2469 : IVec S16 32) (v2649 : IVec S16 32) (k0_hw2058 : k0_chk2058 v33 v35 v2468 v2469 v2649), ∀ a x, ((![v2468, v2469, v2649, v35] : Fin 4 → IVec S16 32) a x).toNat < S2x4x94x96.size a := fun v33 v35 v2468 v2469 v2649 k0_hw2058 => k0_hw2058.2

def k0_chk2059 (v30 : IVec S16 32) (v2468 : IVec S16 32) (v2469 : IVec S16 32) (v2650 : IVec S16 32) : Prop :=
  (∀ a x, ((![v2468, v2469, v2650, v30] : Fin 4 → IVec S16 32) a x).toNat < S2x4x32x32.size a)
theorem k0_idx2729_inb : ∀ (v30 : IVec S16 32) (v2468 : IVec S16 32) (v2469 : IVec S16 32) (v2650 : IVec S16 32) (k0_hw2059 : k0_chk2059 v30 v2468 v2469 v2650), ∀ a x, ((![v2468, v2469, v2650, v30] : Fin 4 → IVec S16 32) a x).toNat < S2x4x32x32.size a := fun v30 v2468 v2469 v2650 k0_hw2059 => k0_hw2059

def k0_chk2060 (v2468 : IVec S16 32) (v2469 : IVec S16 32) (v2650 : IVec S16 32) (v2653 : IVec S16 32) : Prop :=
  (∀ a x, ((![v2468, v2469, v2650, v2653] : Fin 4 → IVec S16 32) a x).toNat < S2x4x32x32.size a)
theorem k0_idx2730_inb : ∀ (v2468 : IVec S16 32) (v2469 : IVec S16 32) (v2650 : IVec S16 32) (v2653 : IVec S16 32) (k0_hw2060 : k0_chk2060 v2468 v2469 v2650 v2653), ∀ a x, ((![v2468, v2469, v2650, v2653] : Fin 4 → IVec S16 32) a x).toNat < S2x4x32x32.size a := fun v2468 v2469 v2650 v2653 k0_hw2060 => k0_hw2060

def k0_chk2061 (v33 : IVec S16 32) (v35 : IVec S16 32) (v2468 : IVec S16 32) (v2469 : IVec S16 32) (v2655 : IVec S16 32) : Prop :=
  (∀ a x, ((![v2468, v2469, v2655, v33] : Fin 4 → IVec S16 32) a x).toNat < S2x4x94x96.size a) ∧
  (∀ a x, ((![v2468, v2469, v2655, v35] : Fin 4 → IVec S16 32) a x).toNat < S2x4x94x96.size a)
theorem k0_idx2731_inb : ∀ (v33 : IVec S16 32) (v35 : IVec S16 32) (v2468 : IVec S16 32) (v2469 : IVec S16 32) (v2655 : IVec S16 32) (k0_hw2061 : k0_chk2061 v33 v35 v2468 v2469 v2655), ∀ a x, ((![v2468, v2469, v2655, v33] : Fin 4 → IVec S16 32) a x).toNat < S2x4x94x96.size a := fun v33 v35 v2468 v2469 v2655 k0_hw2061 => k0_hw2061.1
theorem k0_idx2732_inb : ∀ (v33 : IVec S16 32) (v35 : IVec S16 32) (v2468 : IVec S16 32) (v2469 : IVec S16 32) (v2655 : IVec S16 32) (k0_hw2061 : k0_chk2061 v33 v35 v2468 v2469 v2655), ∀ a x, ((![v2468, v2469, v2655, v35] : Fin 4 → IVec S16 32) a x).toNat < S2x4x94x96.size a := fun v33 v35 v2468 v2469 v2655 k0_hw2061 => k0_hw2061.2

def k0_chk2062 (v30 : IVec S16 32) (v2468 : IVec S16 32) (v2469 : IVec S16 32) (v2656 : IVec S16 32) : Prop :=
  (∀ a x, ((![v2468, v2469, v2656, v30] : Fin 4 → IVec S16 32) a x).toNat < S2x4x32x32.size a)
theorem k0_idx2733_inb : ∀ (v30 : IVec S16 32) (v2468 : IVec S16 32) (v2469 : IVec S16 32) (v2656 : IVec S16 32) (k0_hw2062 : k0_chk2062 v30 v2468 v2469 v2656), ∀ a x, ((![v2468, v2469, v2656, v30] : Fin 4 → IVec S16 32) a x).toNat < S2x4x32x32.size a := fun v30 v2468 v2469 v2656 k0_hw2062 => k0_hw2062

def k0_chk2063 (v2468 : IVec S16 32) (v2469 : IVec S16 32) (v2656 : IVec S16 32) (v2659 : IVec S16 32) : Prop :=
  (∀ a x, ((![v2468, v2469, v2656, v2659] : Fin 4 → IVec S16 32) a x).toNat < S2x4x32x32.size a)
theorem k0_idx2734_inb : ∀ (v2468 : IVec S16 32) (v2469 : IVec S16 32) (v2656 : IVec S16 32) (v2659 : IVec S16 32) (k0_hw2063 : k0_chk2063 v2468 v2469 v2656 v2659), ∀ a x, ((![v2468, v2469, v2656, v2659] : Fin 4 → IVec S16 32) a x).toNat < S2x4x32x32.size a := fun v2468 v2469 v2656 v2659 k0_hw2063 => k0_hw2063

def k0_chk2064 (v33 : IVec S16 32) (v35 : IVec S16 32) (v2468 : IVec S16 32) (v2469 : IVec S16 32) (v2661 : IVec S16 32) : Prop :=
  (∀ a x, ((![v2468, v2469, v2661, v33] : Fin 4 → IVec S16 32) a x).toNat < S2x4x94x96.size a) ∧
  (∀ a x, ((![v2468, v2469, v2661, v35] : Fin 4 → IVec S16 32) a x).toNat < S2x4x94x96.size a)
theorem k0_idx2735_inb : ∀ (v33 : IVec S16 32) (v35 : IVec S16 32) (v2468 : IVec S16 32) (v2469 : IVec S16 32) (v2661 : IVec S16 32) (k0_hw2064 : k0_chk2064 v33 v35 v2468 v2469 v2661), ∀ a x, ((![v2468, v2469, v2661, v33] : Fin 4 → IVec S16 32) a x).toNat < S2x4x94x96.size a := fun v33 v35 v2468 v2469 v2661 k0_hw2064 => k0_hw2064.1
theorem k0_idx2736_inb : ∀ (v33 : IVec S16 32) (v35 : IVec S16 32) (v2468 : IVec S16 32) (v2469 : IVec S16 32) (v2661 : IVec S16 32) (k0_hw2064 : k0_chk2064 v33 v35 v2468 v2469 v2661), ∀ a x, ((![v2468, v2469, v2661, v35] : Fin 4 → IVec S16 32) a x).toNat < S2x4x94x96.size a := fun v33 v35 v2468 v2469 v2661 k0_hw2064 => k0_hw2064.2

def k0_chk2065 (v30 : IVec S16 32) (v2468 : IVec S16 32) (v2662 : IVec S16 32) (v2663 : IVec S16 32) : Prop :=
  (∀ a x, ((![v2468, v2662, v2663, v30] : Fin 4 → IVec S16 32) a x).toNat < S2x4x32x32.size a)
theorem k0_idx2737_inb : ∀ (v30 : IVec S16 32) (v2468 : IVec S16 32) (v2662 : IVec S16 32) (v2663 : IVec S16 32) (k0_hw2065 : k0_chk2065 v30 v2468 v2662 v2663), ∀ a x, ((![v2468, v2662, v2663, v30] : Fin 4 → IVec S16 32) a x).toNat < S2x4x32x32.size a := fun v30 v2468 v2662 v2663 k0_hw2065 => k0_hw2065

def k0_chk2066 (v2468 : IVec S16 32) (v2662 : IVec S16 32) (v2663 : IVec S16 32) (v2666 : IVec S16 32) : Prop :=
  (∀ a x, ((![v2468, v2662, v2663, v2666] : Fin 4 → IVec S16 32) a x).toNat < S2x4x32x32.size a)
theorem k0_idx2738_inb : ∀ (v2468 : IVec S16 32) (v2662 : IVec S16 32) (v2663 : IVec S16 32) (v2666 : IVec S16 32) (k0_hw2066 : k0_chk2066 v2468 v2662 v2663 v2666), ∀ a x, ((![v2468, v2662, v2663, v2666] : Fin 4 → IVec S16 32) a x).toNat < S2x4x32x32.size a := fun v2468 v2662 v2663 v2666 k0_hw2066 => k0_hw2066

def k0_chk2067 (v33 : IVec S16 32) (v35 : IVec S16 32) (v2468 : IVec S16 32) (v2662 : IVec S16 32) (v2668 : IVec S16 32) : Prop :=
  (∀ a x, ((![v2468, v2662, v2668, v33] : Fin 4 → IVec S16 32) a x).toNat < S2x4x94x96.size a) ∧
  (∀ a x, ((![v2468, v2662, v2668, v35] : Fin 4 → IVec S16 32) a x).toNat < S2x4x94x96.size a)
theorem k0_idx2739_inb : ∀ (v33 : IVec S16 32) (v35 : IVec S16 32) (v2468 : IVec S16 32) (v2662 : IVec S16 32) (v2668 : IVec S16 32) (k0_hw2067 : k0_chk2067 v33 v35 v2468 v2662 v2668), ∀ a x, ((![v2468, v2662, v2668, v33] : Fin 4 → IVec S16 32) a x).toNat < S2x4x94x96.size a := fun v33 v35 v2468 v2662 v2668 k0_hw2067 => k0_hw2067.1
theorem k0_idx2740_inb : ∀ (v33 : IVec S16 32) (v35 : IVec S16 32) (v2468 : IVec S16 32) (v2662 : IVec S16 32) (v2668 : IVec S16 32) (k0_hw2067 : k0_chk2067 v33 v35 v2468 v2662 v2668), ∀ a x, ((![v2468, v2662, v2668, v35] : Fin 4 → IVec S16 32) a x).toNat < S2x4x94x96.size a := fun v33 v35 v2468 v2662 v2668 k0_hw2067 => k0_hw2067.2

def k0_chk2068 (v30 : IVec S16 32) (v2468 : IVec S16 32) (v2662 : IVec S16 32) (v2669 : IVec S16 32) : Prop :=
  (∀ a x, ((![v2468, v2662, v2669, v30] : Fin 4 → IVec S16 32) a x).toNat < S2x4x32x32.size a)
theorem k0_idx2741_inb : ∀ (v30 : IVec S16 32) (v2468 : IVec S16 32) (v2662 : IVec S16 32) (v2669 : IVec S16 32) (k0_hw2068 : k0_chk2068 v30 v2468 v2662 v2669), ∀ a x, ((![v2468, v2662, v2669, v30] : Fin 4 → IVec S16 32) a x).toNat < S2x4x32x32.size a := fun v30 v2468 v2662 v2669 k0_hw2068 => k0_hw2068

def k0_chk2069 (v2468 : IVec S16 32) (v2662 : IVec S16 32) (v2669 : IVec S16 32) (v2672 : IVec S16 32) : Prop :=
  (∀ a x, ((![v2468, v2662, v2669, v2672] : Fin 4 → IVec S16 32) a x).toNat < S2x4x32x32.size a)
theorem k0_idx2742_inb : ∀ (v2468 : IVec S16 32) (v2662 : IVec S16 32) (v2669 : IVec S16 32) (v2672 : IVec S16 32) (k0_hw2069 : k0_chk2069 v2468 v2662 v2669 v2672), ∀ a x, ((![v2468, v2662, v2669, v2672] : Fin 4 → IVec S16 32) a x).toNat < S2x4x32x32.size a := fun v2468 v2662 v2669 v2672 k0_hw2069 => k0_hw2069

def k0_chk2070 (v33 : IVec S16 32) (v35 : IVec S16 32) (v2468 : IVec S16 32) (v2662 : IVec S16 32) (v2674 : IVec S16 32) : Prop :=
  (∀ a x, ((![v2468, v2662, v2674, v33] : Fin 4 → IVec S16 32) a x).toNat < S2x4x94x96.size a) ∧
  (∀ a x, ((![v2468, v2662, v2674, v35] : Fin 4 → IVec S16 32) a x).toNat < S2x4x94x96.size a)
theorem k0_idx2743_inb : ∀ (v33 : IVec S16 32) (v35 : IVec S16 32) (v2468 : IVec S16 32) (v2662 : IVec S16 32) (v2674 : IVec S16 32) (k0_hw2070 : k0_chk2070 v33 v35 v2468 v2662 v2674), ∀ a x, ((![v2468, v2662, v2674, v33] : Fin 4 → IVec S16 32) a x).toNat < S2x4x94x96.size a := fun v33 v35 v2468 v2662 v2674 k0_hw2070 => k0_hw2070.1
theorem k0_idx2744_inb : ∀ (v33 : IVec S16 32) (v35 : IVec S16 32) (v2468 : IVec S16 32) (v2662 : IVec S16 32) (v2674 : IVec S16 32) (k0_hw2070 : k0_chk2070 v33 v35 v2468 v2662 v2674), ∀ a x, ((![v2468, v2662, v2674, v35] : Fin 4 → IVec S16 32) a x).toNat < S2x4x94x96.size a := fun v33 v35 v2468 v2662 v2674 k0_hw2070 => k0_hw2070.2

def k0_chk2071 (v30 : IVec S16 32) (v2468 : IVec S16 32) (v2662 : IVec S16 32) (v2675 : IVec S16 32) : Prop :=
  (∀ a x, ((![v2468, v2662, v2675, v30] : Fin 4 → IVec S16 32) a x).toNat < S2x4x32x32.size a)
theorem k0_idx2745_inb : ∀ (v30 : IVec S16 32) (v2468 : IVec S16 32) (v2662 : IVec S16 32) (v2675 : IVec S16 32) (k0_hw2071 : k0_chk2071 v30 v2468 v2662 v2675), ∀ a x, ((![v2468, v2662, v2675, v30] : Fin 4 → IVec S16 32) a x).toNat < S2x4x32x32.size a := fun v30 v2468 v2662 v2675 k0_hw2071 => k0_hw2071

def k0_chk2072 (v2468 : IVec S16 32) (v2662 : IVec S16 32) (v2675 : IVec S16 32) (v2678 : IVec S16 32) : Prop :=
  (∀ a x, ((![v2468, v2662, v2675, v2678] : Fin 4 → IVec S16 32) a x).toNat < S2x4x32x32.size a)
theorem k0_idx2746_inb : ∀ (v2468 : IVec S16 32) (v2662 : IVec S16 32) (v2675 : IVec S16 32) (v2678 : IVec S16 32) (k0_hw2072 : k0_chk2072 v2468 v2662 v2675 v2678), ∀ a x, ((![v2468, v2662, v2675, v2678] : Fin 4 → IVec S16 32) a x).toNat < S2x4x32x32.size a := fun v2468 v2662 v2675 v2678 k0_hw2072 => k0_hw2072

def k0_chk2073 (v33 : IVec S16 32) (v35 : IVec S16 32) (v2468 : IVec S16 32) (v2662 : IVec S16 32) (v2680 : IVec S16 32) : Prop :=
  (∀ a x, ((![v2468, v2662, v2680, v33] : Fin 4 → IVec S16 32) a x).toNat < S2x4x94x96.size a) ∧
  (∀ a x, ((![v2468, v2662, v2680, v35] : Fin 4 → IVec S16 32) a x).toNat < S2x4x94x96.size a)
theorem k0_idx2747_inb : ∀ (v33 : IVec S16 32) (v35 : IVec S16 32) (v2468 : IVec S16 32) (v2662 : IVec S16 32) (v2680 : IVec S16 32) (k0_hw2073 : k0_chk2073 v33 v35 v2468 v2662 v2680), ∀ a x, ((![v2468, v2662, v2680, v33] : Fin 4 → IVec S16 32) a x).toNat < S2x4x94x96.size a := fun v33 v35 v2468 v2662 v2680 k0_hw2073 => k0_hw2073.1
theorem k0_idx2748_inb : ∀ (v33 : IVec S16 32) (v35 : IVec S16 32) (v2468 : IVec S16 32) (v2662 : IVec S16 32) (v2680 : IVec S16 32) (k0_hw2073 : k0_chk2073 v33 v35 v2468 v2662 v2680), ∀ a x, ((![v2468, v2662, v2680, v35] : Fin 4 → IVec S16 32) a x).toNat < S2x4x94x96.size a := fun v33 v35 v2468 v2662 v2680 k0_hw2073 => k0_hw2073.2

def k0_chk2074 (v30 : IVec S16 32) (v2468 : IVec S16 32) (v2662 : IVec S16 32) (v2681 : IVec S16 32) : Prop :=
  (∀ a x, ((![v2468, v2662, v2681, v30] : Fin 4 → IVec S16 32) a x).toNat < S2x4x32x32.size a)
theorem k0_idx2749_inb : ∀ (v30 : IVec S16 32) (v2468 : IVec S16 32) (v2662 : IVec S16 32) (v2681 : IVec S16 32) (k0_hw2074 : k0_chk2074 v30 v2468 v2662 v2681), ∀ a x, ((![v2468, v2662, v2681, v30] : Fin 4 → IVec S16 32) a x).toNat < S2x4x32x32.size a := fun v30 v2468 v2662 v2681 k0_hw2074 => k0_hw2074

def k0_chk2075 (v2468 : IVec S16 32) (v2662 : IVec S16 32) (v2681 : IVec S16 32) (v2684 : IVec S16 32) : Prop :=
  (∀ a x, ((![v2468, v2662, v2681, v2684] : Fin 4 → IVec S16 32) a x).toNat < S2x4x32x32.size a)
theorem k0_idx2750_inb : ∀ (v2468 : IVec S16 32) (v2662 : IVec S16 32) (v2681 : IVec S16 32) (v2684 : IVec S16 32) (k0_hw2075 : k0_chk2075 v2468 v2662 v2681 v2684), ∀ a x, ((![v2468, v2662, v2681, v2684] : Fin 4 → IVec S16 32) a x).toNat < S2x4x32x32.size a := fun v2468 v2662 v2681 v2684 k0_hw2075 => k0_hw2075

def k0_chk2076 (v33 : IVec S16 32) (v35 : IVec S16 32) (v2468 : IVec S16 32) (v2662 : IVec S16 32) (v2686 : IVec S16 32) : Prop :=
  (∀ a x, ((![v2468, v2662, v2686, v33] : Fin 4 → IVec S16 32) a x).toNat < S2x4x94x96.size a) ∧
  (∀ a x, ((![v2468, v2662, v2686, v35] : Fin 4 → IVec S16 32) a x).toNat < S2x4x94x96.size a)
theorem k0_idx2751_inb : ∀ (v33 : IVec S16 32) (v35 : IVec S16 32) (v2468 : IVec S16 32) (v2662 : IVec S16 32) (v2686 : IVec S16 32) (k0_hw2076 : k0_chk2076 v33 v35 v2468 v2662 v2686), ∀ a x, ((![v2468, v2662, v2686, v33] : Fin 4 → IVec S16 32) a x).toNat < S2x4x94x96.size a := fun v33 v35 v2468 v2662 v2686 k0_hw2076 => k0_hw2076.1
theorem k0_idx2752_inb : ∀ (v33 : IVec S16 32) (v35 : IVec S16 32) (v2468 : IVec S16 32) (v2662 : IVec S16 32) (v2686 : IVec S16 32) (k0_hw2076 : k0_chk2076 v33 v35 v2468 v2662 v2686), ∀ a x, ((![v2468, v2662, v2686, v35] : Fin 4 → IVec S16 32) a x).toNat < S2x4x94x96.size a := fun v33 v35 v2468 v2662 v2686 k0_hw2076 => k0_hw2076.2

def k0_chk2077 (v30 : IVec S16 32) (v2468 : IVec S16 32) (v2662 : IVec S16 32) (v2687 : IVec S16 32) : Prop :=
  (∀ a x, ((![v2468, v2662, v2687, v30] : Fin 4 → IVec S16 32) a x).toNat < S2x4x32x32.size a)
theorem k0_idx2753_inb : ∀ (v30 : IVec S16 32) (v2468 : IVec S16 32) (v2662 : IVec S16 32) (v2687 : IVec S16 32) (k0_hw2077 : k0_chk2077 v30 v2468 v2662 v2687), ∀ a x, ((![v2468, v2662, v2687, v30] : Fin 4 → IVec S16 32) a x).toNat < S2x4x32x32.size a := fun v30 v2468 v2662 v2687 k0_hw2077 => k0_hw2077

def k0_chk2078 (v2468 : IVec S16 32) (v2662 : IVec S16 32) (v2687 : IVec S16 32) (v2690 : IVec S16 32) : Prop :=
  (∀ a x, ((![v2468, v2662, v2687, v2690] : Fin 4 → IVec S16 32) a x).toNat < S2x4x32x32.size a)
theorem k0_idx2754_inb : ∀ (v2468 : IVec S16 32) (v2662 : IVec S16 32) (v2687 : IVec S16 32) (v2690 : IVec S16 32) (k0_hw2078 : k0_chk2078 v2468 v2662 v2687 v2690), ∀ a x, ((![v2468, v2662, v2687, v2690] : Fin 4 → IVec S16 32) a x).toNat < S2x4x32x32.size a := fun v2468 v2662 v2687 v2690 k0_hw2078 => k0_hw2078

def k0_chk2079 (v33 : IVec S16 32) (v35 : IVec S16 32) (v2468 : IVec S16 32) (v2662 : IVec S16 32) (v2692 : IVec S16 32) : Prop :=
  (∀ a x, ((![v2468, v2662, v2692, v33] : Fin 4 → IVec S16 32) a x).toNat < S2x4x94x96.size a) ∧
  (∀ a x, ((![v2468, v2662, v2692, v35] : Fin 4 → IVec S16 32) a x).toNat < S2x4x94x96.size a)
theorem k0_idx2755_inb : ∀ (v33 : IVec S16 32) (v35 : IVec S16 32) (v2468 : IVec S16 32) (v2662 : IVec S16 32) (v2692 : IVec S16 32) (k0_hw2079 : k0_chk2079 v33 v35 v2468 v2662 v2692), ∀ a x, ((![v2468, v2662, v2692, v33] : Fin 4 → IVec S16 32) a x).toNat < S2x4x94x96.size a := fun v33 v35 v2468 v2662 v2692 k0_hw2079 => k0_hw2079.1
theorem k0_idx2756_inb : ∀ (v33 : IVec S16 32) (v35 : IVec S16 32) (v2468 : IVec S16 32) (v2662 : IVec S16 32) (v2692 : IVec S16 32) (k0_hw2079 : k0_chk2079 v33 v35 v2468 v2662 v2692), ∀ a x, ((![v2468, v2662, v2692, v35] : Fin 4 → IVec S16 32) a x).toNat < S2x4x94x96.size a := fun v33 v35 v2468 v2662 v2692 k0_hw2079 => k0_hw2079.2

def k0_chk2080 (v30 : IVec S16 32) (v2468 : IVec S16 32) (v2662 : IVec S16 32) (v2693 : IVec S16 32) : Prop :=
  (∀ a x, ((![v2468, v2662, v2693, v30] : Fin 4 → IVec S16 32) a x).toNat < S2x4x32x32.size a)
theorem k0_idx2757_inb : ∀ (v30 : IVec S16 32) (v2468 : IVec S16 32) (v2662 : IVec S16 32) (v2693 : IVec S16 32) (k0_hw2080 : k0_chk2080 v30 v2468 v2662 v2693), ∀ a x, ((![v2468, v2662, v2693, v30] : Fin 4 → IVec S16 32) a x).toNat < S2x4x32x32.size a := fun v30 v2468 v2662 v2693 k0_hw2080 => k0_hw2080

def k0_chk2081 (v2468 : IVec S16 32) (v2662 : IVec S16 32) (v2693 : IVec S16 32) (v2696 : IVec S16 32) : Prop :=
  (∀ a x, ((![v2468, v2662, v2693, v2696] : Fin 4 → IVec S16 32) a x).toNat < S2x4x32x32.size a)
theorem k0_idx2758_inb : ∀ (v2468 : IVec S16 32) (v2662 : IVec S16 32) (v2693 : IVec S16 32) (v2696 : IVec S16 32) (k0_hw2081 : k0_chk2081 v2468 v2662 v2693 v2696), ∀ a x, ((![v2468, v2662, v2693, v2696] : Fin 4 → IVec S16 32) a x).toNat < S2x4x32x32.size a := fun v2468 v2662 v2693 v2696 k0_hw2081 => k0_hw2081

def k0_chk2082 (v33 : IVec S16 32) (v35 : IVec S16 32) (v2468 : IVec S16 32) (v2662 : IVec S16 32) (v2698 : IVec S16 32) : Prop :=
  (∀ a x, ((![v2468, v2662, v2698, v33] : Fin 4 → IVec S16 32) a x).toNat < S2x4x94x96.size a) ∧
  (∀ a x, ((![v2468, v2662, v2698, v35] : Fin 4 → IVec S16 32) a x).toNat < S2x4x94x96.size a)
theorem k0_idx2759_inb : ∀ (v33 : IVec S16 32) (v35 : IVec S16 32) (v2468 : IVec S16 32) (v2662 : IVec S16 32) (v2698 : IVec S16 32) (k0_hw2082 : k0_chk2082 v33 v35 v2468 v2662 v2698), ∀ a x, ((![v2468, v2662, v2698, v33] : Fin 4 → IVec S16 32) a x).toNat < S2x4x94x96.size a := fun v33 v35 v2468 v2662 v2698 k0_hw2082 => k0_hw2082.1
theorem k0_idx2760_inb : ∀ (v33 : IVec S16 32) (v35 : IVec S16 32) (v2468 : IVec S16 32) (v2662 : IVec S16 32) (v2698 : IVec S16 32) (k0_hw2082 : k0_chk2082 v33 v35 v2468 v2662 v2698), ∀ a x, ((![v2468, v2662, v2698, v35] : Fin 4 → IVec S16 32) a x).toNat < S2x4x94x96.size a := fun v33 v35 v2468 v2662 v2698 k0_hw2082 => k0_hw2082.2

def k0_chk2083 (v30 : IVec S16 32) (v2468 : IVec S16 32) (v2662 : IVec S16 32) (v2699 : IVec S16 32) : Prop :=
  (∀ a x, ((![v2468, v2662, v2699, v30] : Fin 4 → IVec S16 32) a x).toNat < S2x4x32x32.size a)
theorem k0_idx2761_inb : ∀ (v30 : IVec S16 32) (v2468 : IVec S16 32) (v2662 : IVec S16 32) (v2699 : IVec S16 32) (k0_hw2083 : k0_chk2083 v30 v2468 v2662 v2699), ∀ a x, ((![v2468, v2662, v2699, v30] : Fin 4 → IVec S16 32) a x).toNat < S2x4x32x32.size a := fun v30 v2468 v2662 v2699 k0_hw2083 => k0_hw2083

def k0_chk2084 (v2468 : IVec S16 32) (v2662 : IVec S16 32) (v2699 : IVec S16 32) (v2702 : IVec S16 32) : Prop :=
  (∀ a x, ((![v2468, v2662, v2699, v2702] : Fin 4 → IVec S16 32) a x).toNat < S2x4x32x32.size a)
theorem k0_idx2762_inb : ∀ (v2468 : IVec S16 32) (v2662 : IVec S16 32) (v2699 : IVec S16 32) (v2702 : IVec S16 32) (k0_hw2084 : k0_chk2084 v2468 v2662 v2699 v2702), ∀ a x, ((![v2468, v2662, v2699, v2702] : Fin 4 → IVec S16 32) a x).toNat < S2x4x32x32.size a := fun v2468 v2662 v2699 v2702 k0_hw2084 => k0_hw2084

def k0_chk2085 (v33 : IVec S16 32) (v35 : IVec S16 32) (v2468 : IVec S16 32) (v2662 : IVec S16 32) (v2704 : IVec S16 32) : Prop :=
  (∀ a x, ((![v2468, v2662, v2704, v33] : Fin 4 → IVec S16 32) a x).toNat < S2x4x94x96.size a) ∧
  (∀ a x, ((![v2468, v2662, v2704, v35] : Fin 4 → IVec S16 32) a x).toNat < S2x4x94x96.size a)
theorem k0_idx2763_inb : ∀ (v33 : IVec S16 32) (v35 : IVec S16 32) (v2468 : IVec S16 32) (v2662 : IVec S16 32) (v2704 : IVec S16 32) (k0_hw2085 : k0_chk2085 v33 v35 v2468 v2662 v2704), ∀ a x, ((![v2468, v2662, v2704, v33] : Fin 4 → IVec S16 32) a x).toNat < S2x4x94x96.size a := fun v33 v35 v2468 v2662 v2704 k0_hw2085 => k0_hw2085.1
theorem k0_idx2764_inb : ∀ (v33 : IVec S16 32) (v35 : IVec S16 32) (v2468 : IVec S16 32) (v2662 : IVec S16 32) (v2704 : IVec S16 32) (k0_hw2085 : k0_chk2085 v33 v35 v2468 v2662 v2704), ∀ a x, ((![v2468, v2662, v2704, v35] : Fin 4 → IVec S16 32) a x).toNat < S2x4x94x96.size a := fun v33 v35 v2468 v2662 v2704 k0_hw2085 => k0_hw2085.2

def k0_chk2086 (v30 : IVec S16 32) (v2468 : IVec S16 32) (v2662 : IVec S16 32) (v2705 : IVec S16 32) : Prop :=
  (∀ a x, ((![v2468, v2662, v2705, v30] : Fin 4 → IVec S16 32) a x).toNat < S2x4x32x32.size a)
theorem k0_idx2765_inb : ∀ (v30 : IVec S16 32) (v2468 : IVec S16 32) (v2662 : IVec S16 32) (v2705 : IVec S16 32) (k0_hw2086 : k0_chk2086 v30 v2468 v2662 v2705), ∀ a x, ((![v2468, v2662, v2705, v30] : Fin 4 → IVec S16 32) a x).toNat < S2x4x32x32.size a := fun v30 v2468 v2662 v2705 k0_hw2086 => k0_hw2086

def k0_chk2087 (v2468 : IVec S16 32) (v2662 : IVec S16 32) (v2705 : IVec S16 32) (v2708 : IVec S16 32) : Prop :=
  (∀ a x, ((![v2468, v2662, v2705, v2708] : Fin 4 → IVec S16 32) a x).toNat < S2x4x32x32.size a)
theorem k0_idx2766_inb : ∀ (v2468 : IVec S16 32) (v2662 : IVec S16 32) (v2705 : IVec S16 32) (v2708 : IVec S16 32) (k0_hw2087 : k0_chk2087 v2468 v2662 v2705 v2708), ∀ a x, ((![v2468, v2662, v2705, v2708] : Fin 4 → IVec S16 32) a x).toNat < S2x4x32x32.size a := fun v2468 v2662 v2705 v2708 k0_hw2087 => k0_hw2087

def k0_chk2088 (v33 : IVec S16 32) (v35 : IVec S16 32) (v2468 : IVec S16 32) (v2662 : IVec S16 32) (v2710 : IVec S16 32) : Prop :=
  (∀ a x, ((![v2468, v2662, v2710, v33] : Fin 4 → IVec S16 32) a x).toNat < S2x4x94x96.size a) ∧
  (∀ a x, ((![v2468, v2662, v2710, v35] : Fin 4 → IVec S16 32) a x).toNat < S2x4x94x96.size a)
theorem k0_idx2767_inb : ∀ (v33 : IVec S16 32) (v35 : IVec S16 32) (v2468 : IVec S16 32) (v2662 : IVec S16 32) (v2710 : IVec S16 32) (k0_hw2088 : k0_chk2088 v33 v35 v2468 v2662 v2710), ∀ a x, ((![v2468, v2662, v2710, v33] : Fin 4 → IVec S16 32) a x).toNat < S2x4x94x96.size a := fun v33 v35 v2468 v2662 v2710 k0_hw2088 => k0_hw2088.1
theorem k0_idx2768_inb : ∀ (v33 : IVec S16 32) (v35 : IVec S16 32) (v2468 : IVec S16 32) (v2662 : IVec S16 32) (v2710 : IVec S16 32) (k0_hw2088 : k0_chk2088 v33 v35 v2468 v2662 v2710), ∀ a x, ((![v2468, v2662, v2710, v35] : Fin 4 → IVec S16 32) a x).toNat < S2x4x94x96.size a := fun v33 v35 v2468 v2662 v2710 k0_hw2088 => k0_hw2088.2

def k0_chk2089 (v30 : IVec S16 32) (v2468 : IVec S16 32) (v2662 : IVec S16 32) (v2711 : IVec S16 32) : Prop :=
  (∀ a x, ((![v2468, v2662, v2711, v30] : Fin 4 → IVec S16 32) a x).toNat < S2x4x32x32.size a)
theorem k0_idx2769_inb : ∀ (v30 : IVec S16 32) (v2468 : IVec S16 32) (v2662 : IVec S16 32) (v2711 : IVec S16 32) (k0_hw2089 : k0_chk2089 v30 v2468 v2662 v2711), ∀ a x, ((![v2468, v2662, v2711, v30] : Fin 4 → IVec S16 32) a x).toNat < S2x4x32x32.size a := fun v30 v2468 v2662 v2711 k0_hw2089 => k0_hw2089

def k0_chk2090 (v2468 : IVec S16 32) (v2662 : IVec S16 32) (v2711 : IVec S16 32) (v2714 : IVec S16 32) : Prop :=
  (∀ a x, ((![v2468, v2662, v2711, v2714] : Fin 4 → IVec S16 32) a x).toNat < S2x4x32x32.size a)
theorem k0_idx2770_inb : ∀ (v2468 : IVec S16 32) (v2662 : IVec S16 32) (v2711 : IVec S16 32) (v2714 : IVec S16 32) (k0_hw2090 : k0_chk2090 v2468 v2662 v2711 v2714), ∀ a x, ((![v2468, v2662, v2711, v2714] : Fin 4 → IVec S16 32) a x).toNat < S2x4x32x32.size a := fun v2468 v2662 v2711 v2714 k0_hw2090 => k0_hw2090

def k0_chk2091 (v33 : IVec S16 32) (v35 : IVec S16 32) (v2468 : IVec S16 32) (v2662 : IVec S16 32) (v2716 : IVec S16 32) : Prop :=
  (∀ a x, ((![v2468, v2662, v2716, v33] : Fin 4 → IVec S16 32) a x).toNat < S2x4x94x96.size a) ∧
  (∀ a x, ((![v2468, v2662, v2716, v35] : Fin 4 → IVec S16 32) a x).toNat < S2x4x94x96.size a)
theorem k0_idx2771_inb : ∀ (v33 : IVec S16 32) (v35 : IVec S16 32) (v2468 : IVec S16 32) (v2662 : IVec S16 32) (v2716 : IVec S16 32) (k0_hw2091 : k0_chk2091 v33 v35 v2468 v2662 v2716), ∀ a x, ((![v2468, v2662, v2716, v33] : Fin 4 → IVec S16 32) a x).toNat < S2x4x94x96.size a := fun v33 v35 v2468 v2662 v2716 k0_hw2091 => k0_hw2091.1
theorem k0_idx2772_inb : ∀ (v33 : IVec S16 32) (v35 : IVec S16 32) (v2468 : IVec S16 32) (v2662 : IVec S16 32) (v2716 : IVec S16 32) (k0_hw2091 : k0_chk2091 v33 v35 v2468 v2662 v2716), ∀ a x, ((![v2468, v2662, v2716, v35] : Fin 4 → IVec S16 32) a x).toNat < S2x4x94x96.size a := fun v33 v35 v2468 v2662 v2716 k0_hw2091 => k0_hw2091.2

def k0_chk2092 (v30 : IVec S16 32) (v2468 : IVec S16 32) (v2662 : IVec S16 32) (v2717 : IVec S16 32) : Prop :=
  (∀ a x, ((![v2468, v2662, v2717, v30] : Fin 4 → IVec S16 32) a x).toNat < S2x4x32x32.size a)
theorem k0_idx2773_inb : ∀ (v30 : IVec S16 32) (v2468 : IVec S16 32) (v2662 : IVec S16 32) (v2717 : IVec S16 32) (k0_hw2092 : k0_chk2092 v30 v2468 v2662 v2717), ∀ a x, ((![v2468, v2662, v2717, v30] : Fin 4 → IVec S16 32) a x).toNat < S2x4x32x32.size a := fun v30 v2468 v2662 v2717 k0_hw2092 => k0_hw2092

def k0_chk2093 (v2468 : IVec S16 32) (v2662 : IVec S16 32) (v2717 : IVec S16 32) (v2720 : IVec S16 32) : Prop :=
  (∀ a x, ((![v2468, v2662, v2717, v2720] : Fin 4 → IVec S16 32) a x).toNat < S2x4x32x32.size a)
theorem k0_idx2774_inb : ∀ (v2468 : IVec S16 32) (v2662 : IVec S16 32) (v2717 : IVec S16 32) (v2720 : IVec S16 32) (k0_hw2093 : k0_chk2093 v2468 v2662 v2717 v2720), ∀ a x, ((![v2468, v2662, v2717, v2720] : Fin 4 → IVec S16 32) a x).toNat < S2x4x32x32.size a := fun v2468 v2662 v2717 v2720 k0_hw2093 => k0_hw2093

def k0_chk2094 (v33 : IVec S16 32) (v35 : IVec S16 32) (v2468 : IVec S16 32) (v2662 : IVec S16 32) (v2722 : IVec S16 32) : Prop :=
  (∀ a x, ((![v2468, v2662, v2722, v33] : Fin 4 → IVec S16 32) a x).toNat < S2x4x94x96.size a) ∧
  (∀ a x, ((![v2468, v2662, v2722, v35] : Fin 4 → IVec S16 32) a x).toNat < S2x4x94x96.size a)
theorem k0_idx2775_inb : ∀ (v33 : IVec S16 32) (v35 : IVec S16 32) (v2468 : IVec S16 32) (v2662 : IVec S16 32) (v2722 : IVec S16 32) (k0_hw2094 : k0_chk2094 v33 v35 v2468 v2662 v2722), ∀ a x, ((![v2468, v2662, v2722, v33] : Fin 4 → IVec S16 32) a x).toNat < S2x4x94x96.size a := fun v33 v35 v2468 v2662 v2722 k0_hw2094 => k0_hw2094.1
theorem k0_idx2776_inb : ∀ (v33 : IVec S16 32) (v35 : IVec S16 32) (v2468 : IVec S16 32) (v2662 : IVec S16 32) (v2722 : IVec S16 32) (k0_hw2094 : k0_chk2094 v33 v35 v2468 v2662 v2722), ∀ a x, ((![v2468, v2662, v2722, v35] : Fin 4 → IVec S16 32) a x).toNat < S2x4x94x96.size a := fun v33 v35 v2468 v2662 v2722 k0_hw2094 => k0_hw2094.2

def k0_chk2095 (v30 : IVec S16 32) (v2468 : IVec S16 32) (v2662 : IVec S16 32) (v2723 : IVec S16 32) : Prop :=
  (∀ a x, ((![v2468, v2662, v2723, v30] : Fin 4 → IVec S16 32) a x).toNat < S2x4x32x32.size a)
theorem k0_idx2777_inb : ∀ (v30 : IVec S16 32) (v2468 : IVec S16 32) (v2662 : IVec S16 32) (v2723 : IVec S16 32) (k0_hw2095 : k0_chk2095 v30 v2468 v2662 v2723), ∀ a x, ((![v2468, v2662, v2723, v30] : Fin 4 → IVec S16 32) a x).toNat < S2x4x32x32.size a := fun v30 v2468 v2662 v2723 k0_hw2095 => k0_hw2095

def k0_chk2096 (v2468 : IVec S16 32) (v2662 : IVec S16 32) (v2723 : IVec S16 32) (v2726 : IVec S16 32) : Prop :=
  (∀ a x, ((![v2468, v2662, v2723, v2726] : Fin 4 → IVec S16 32) a x).toNat < S2x4x32x32.size a)
theorem k0_idx2778_inb : ∀ (v2468 : IVec S16 32) (v2662 : IVec S16 32) (v2723 : IVec S16 32) (v2726 : IVec S16 32) (k0_hw2096 : k0_chk2096 v2468 v2662 v2723 v2726), ∀ a x, ((![v2468, v2662, v2723, v2726] : Fin 4 → IVec S16 32) a x).toNat < S2x4x32x32.size a := fun v2468 v2662 v2723 v2726 k0_hw2096 => k0_hw2096

def k0_chk2097 (v33 : IVec S16 32) (v35 : IVec S16 32) (v2468 : IVec S16 32) (v2662 : IVec S16 32) (v2728 : IVec S16 32) : Prop :=
  (∀ a x, ((![v2468, v2662, v2728, v33] : Fin 4 → IVec S16 32) a x).toNat < S2x4x94x96.size a) ∧
  (∀ a x, ((![v2468, v2662, v2728, v35] : Fin 4 → IVec S16 32) a x).toNat < S2x4x94x96.size a)
theorem k0_idx2779_inb : ∀ (v33 : IVec S16 32) (v35 : IVec S16 32) (v2468 : IVec S16 32) (v2662 : IVec S16 32) (v2728 : IVec S16 32) (k0_hw2097 : k0_chk2097 v33 v35 v2468 v2662 v2728), ∀ a x, ((![v2468, v2662, v2728, v33] : Fin 4 → IVec S16 32) a x).toNat < S2x4x94x96.size a := fun v33 v35 v2468 v2662 v2728 k0_hw2097 => k0_hw2097.1
theorem k0_idx2780_inb : ∀ (v33 : IVec S16 32) (v35 : IVec S16 32) (v2468 : IVec S16 32) (v2662 : IVec S16 32) (v2728 : IVec S16 32) (k0_hw2097 : k0_chk2097 v33 v35 v2468 v2662 v2728), ∀ a x, ((![v2468, v2662, v2728, v35] : Fin 4 → IVec S16 32) a x).toNat < S2x4x94x96.size a := fun v33 v35 v2468 v2662 v2728 k0_hw2097 => k0_hw2097.2

def k0_chk2098 (v30 : IVec S16 32) (v2468 : IVec S16 32) (v2662 : IVec S16 32) (v2729 : IVec S16 32) : Prop :=
  (∀ a x, ((![v2468, v2662, v2729, v30] : Fin 4 → IVec S16 32) a x).toNat < S2x4x32x32.size a)
theorem k0_idx2781_inb : ∀ (v30 : IVec S16 32) (v2468 : IVec S16 32) (v2662 : IVec S16 32) (v2729 : IVec S16 32) (k0_hw2098 : k0_chk2098 v30 v2468 v2662 v2729), ∀ a x, ((![v2468, v2662, v2729, v30] : Fin 4 → IVec S16 32) a x).toNat < S2x4x32x32.size a := fun v30 v2468 v2662 v2729 k0_hw2098 => k0_hw2098

def k0_chk2099 (v2468 : IVec S16 32) (v2662 : IVec S16 32) (v2729 : IVec S16 32) (v2732 : IVec S16 32) : Prop :=
  (∀ a x, ((![v2468, v2662, v2729, v2732] : Fin 4 → IVec S16 32) a x).toNat < S2x4x32x32.size a)
theorem k0_idx2782_inb : ∀ (v2468 : IVec S16 32) (v2662 : IVec S16 32) (v2729 : IVec S16 32) (v2732 : IVec S16 32) (k0_hw2099 : k0_chk2099 v2468 v2662 v2729 v2732), ∀ a x, ((![v2468, v2662, v2729, v2732] : Fin 4 → IVec S16 32) a x).toNat < S2x4x32x32.size a := fun v2468 v2662 v2729 v2732 k0_hw2099 => k0_hw2099

def k0_chk2100 (v33 : IVec S16 32) (v35 : IVec S16 32) (v2468 : IVec S16 32) (v2662 : IVec S16 32) (v2734 : IVec S16 32) : Prop :=
  (∀ a x, ((![v2468, v2662, v2734, v33] : Fin 4 → IVec S16 32) a x).toNat < S2x4x94x96.size a) ∧
  (∀ a x, ((![v2468, v2662, v2734, v35] : Fin 4 → IVec S16 32) a x).toNat < S2x4x94x96.size a)
theorem k0_idx2783_inb : ∀ (v33 : IVec S16 32) (v35 : IVec S16 32) (v2468 : IVec S16 32) (v2662 : IVec S16 32) (v2734 : IVec S16 32) (k0_hw2100 : k0_chk2100 v33 v35 v2468 v2662 v2734), ∀ a x, ((![v2468, v2662, v2734, v33] : Fin 4 → IVec S16 32) a x).toNat < S2x4x94x96.size a := fun v33 v35 v2468 v2662 v2734 k0_hw2100 => k0_hw2100.1
theorem k0_idx2784_inb : ∀ (v33 : IVec S16 32) (v35 : IVec S16 32) (v2468 : IVec S16 32) (v2662 : IVec S16 32) (v2734 : IVec S16 32) (k0_hw2100 : k0_chk2100 v33 v35 v2468 v2662 v2734), ∀ a x, ((![v2468, v2662, v2734, v35] : Fin 4 → IVec S16 32) a x).toNat < S2x4x94x96.size a := fun v33 v35 v2468 v2662 v2734 k0_hw2100 => k0_hw2100.2

def k0_chk2101 (v30 : IVec S16 32) (v2468 : IVec S16 32) (v2662 : IVec S16 32) (v2735 : IVec S16 32) : Prop :=
  (∀ a x, ((![v2468, v2662, v2735, v30] : Fin 4 → IVec S16 32) a x).toNat < S2x4x32x32.size a)
theorem k0_idx2785_inb : ∀ (v30 : IVec S16 32) (v2468 : IVec S16 32) (v2662 : IVec S16 32) (v2735 : IVec S16 32) (k0_hw2101 : k0_chk2101 v30 v2468 v2662 v2735), ∀ a x, ((![v2468, v2662, v2735, v30] : Fin 4 → IVec S16 32) a x).toNat < S2x4x32x32.size a := fun v30 v2468 v2662 v2735 k0_hw2101 => k0_hw2101

def k0_chk2102 (v2468 : IVec S16 32) (v2662 : IVec S16 32) (v2735 : IVec S16 32) (v2738 : IVec S16 32) : Prop :=
  (∀ a x, ((![v2468, v2662, v2735, v2738] : Fin 4 → IVec S16 32) a x).toNat < S2x4x32x32.size a)
theorem k0_idx2786_inb : ∀ (v2468 : IVec S16 32) (v2662 : IVec S16 32) (v2735 : IVec S16 32) (v2738 : IVec S16 32) (k0_hw2102 : k0_chk2102 v2468 v2662 v2735 v2738), ∀ a x, ((![v2468, v2662, v2735, v2738] : Fin 4 → IVec S16 32) a x).toNat < S2x4x32x32.size a := fun v2468 v2662 v2735 v2738 k0_hw2102 => k0_hw2102

def k0_chk2103 (v33 : IVec S16 32) (v35 : IVec S16 32) (v2468 : IVec S16 32) (v2662 : IVec S16 32) (v2740 : IVec S16 32) : Prop :=
  (∀ a x, ((![v2468, v2662, v2740, v33] : Fin 4 → IVec S16 32) a x).toNat < S2x4x94x96.size a) ∧
  (∀ a x, ((![v2468, v2662, v2740, v35] : Fin 4 → IVec S16 32) a x).toNat < S2x4x94x96.size a)
theorem k0_idx2787_inb : ∀ (v33 : IVec S16 32) (v35 : IVec S16 32) (v2468 : IVec S16 32) (v2662 : IVec S16 32) (v2740 : IVec S16 32) (k0_hw2103 : k0_chk2103 v33 v35 v2468 v2662 v2740), ∀ a x, ((![v2468, v2662, v2740, v33] : Fin 4 → IVec S16 32) a x).toNat < S2x4x94x96.size a := fun v33 v35 v2468 v2662 v2740 k0_hw2103 => k0_hw2103.1
theorem k0_idx2788_inb : ∀ (v33 : IVec S16 32) (v35 : IVec S16 32) (v2468 : IVec S16 32) (v2662 : IVec S16 32) (v2740 : IVec S16 32) (k0_hw2103 : k0_chk2103 v33 v35 v2468 v2662 v2740), ∀ a x, ((![v2468, v2662, v2740, v35] : Fin 4 → IVec S16 32) a x).toNat < S2x4x94x96.size a := fun v33 v35 v2468 v2662 v2740 k0_hw2103 => k0_hw2103.2

def k0_chk2104 (v30 : IVec S16 32) (v2468 : IVec S16 32) (v2662 : IVec S16 32) (v2741 : IVec S16 32) : Prop :=
  (∀ a x, ((![v2468, v2662, v2741, v30] : Fin 4 → IVec S16 32) a x).toNat < S2x4x32x32.size a)
theorem k0_idx2789_inb : ∀ (v30 : IVec S16 32) (v2468 : IVec S16 32) (v2662 : IVec S16 32) (v2741 : IVec S16 32) (k0_hw2104 : k0_chk2104 v30 v2468 v2662 v2741), ∀ a x, ((![v2468, v2662, v2741, v30] : Fin 4 → IVec S16 32) a x).toNat < S2x4x32x32.size a := fun v30 v2468 v2662 v2741 k0_hw2104 => k0_hw2104

def k0_chk2105 (v2468 : IVec S16 32) (v2662 : IVec S16 32) (v2741 : IVec S16 32) (v2744 : IVec S16 32) : Prop :=
  (∀ a x, ((![v2468, v2662, v2741, v2744] : Fin 4 → IVec S16 32) a x).toNat < S2x4x32x32.size a)
theorem k0_idx2790_inb : ∀ (v2468 : IVec S16 32) (v2662 : IVec S16 32) (v2741 : IVec S16 32) (v2744 : IVec S16 32) (k0_hw2105 : k0_chk2105 v2468 v2662 v2741 v2744), ∀ a x, ((![v2468, v2662, v2741, v2744] : Fin 4 → IVec S16 32) a x).toNat < S2x4x32x32.size a := fun v2468 v2662 v2741 v2744 k0_hw2105 => k0_hw2105

def k0_chk2106 (v33 : IVec S16 32) (v35 : IVec S16 32) (v2468 : IVec S16 32) (v2662 : IVec S16 32) (v2746 : IVec S16 32) : Prop :=
  (∀ a x, ((![v2468, v2662, v2746, v33] : Fin 4 → IVec S16 32) a x).toNat < S2x4x94x96.size a) ∧
  (∀ a x, ((![v2468, v2662, v2746, v35] : Fin 4 → IVec S16 32) a x).toNat < S2x4x94x96.size a)
theorem k0_idx2791_inb : ∀ (v33 : IVec S16 32) (v35 : IVec S16 32) (v2468 : IVec S16 32) (v2662 : IVec S16 32) (v2746 : IVec S16 32) (k0_hw2106 : k0_chk2106 v33 v35 v2468 v2662 v2746), ∀ a x, ((![v2468, v2662, v2746, v33] : Fin 4 → IVec S16 32) a x).toNat < S2x4x94x96.size a := fun v33 v35 v2468 v2662 v2746 k0_hw2106 => k0_hw2106.1
theorem k0_idx2792_inb : ∀ (v33 : IVec S16 32) (v35 : IVec S16 32) (v2468 : IVec S16 32) (v2662 : IVec S16 32) (v2746 : IVec S16 32) (k0_hw2106 : k0_chk2106 v33 v35 v2468 v2662 v2746), ∀ a x, ((![v2468, v2662, v2746, v35] : Fin 4 → IVec S16 32) a x).toNat < S2x4x94x96.size a := fun v33 v35 v2468 v2662 v2746 k0_hw2106 => k0_hw2106.2

def k0_chk2107 (v30 : IVec S16 32) (v2468 : IVec S16 32) (v2662 : IVec S16 32) (v2747 : IVec S16 32) : Prop :=
  (∀ a x, ((![v2468, v2662, v2747, v30] : Fin 4 → IVec S16 32) a x).toNat < S2x4x32x32.size a)
theorem k0_idx2793_inb : ∀ (v30 : IVec S16 32) (v2468 : IVec S16 32) (v2662 : IVec S16 32) (v2747 : IVec S16 32) (k0_hw2107 : k0_chk2107 v30 v2468 v2662 v2747), ∀ a x, ((![v2468, v2662, v2747, v30] : Fin 4 → IVec S16 32) a x).toNat < S2x4x32x32.size a := fun v30 v2468 v2662 v2747 k0_hw2107 => k0_hw2107

def k0_chk2108 (v2468 : IVec S16 32) (v2662 : IVec S16 32) (v2747 : IVec S16 32) (v2750 : IVec S16 32) : Prop :=
  (∀ a x, ((![v2468, v2662, v2747, v2750] : Fin 4 → IVec S16 32) a x).toNat < S2x4x32x32.size a)
theorem k0_idx2794_inb : ∀ (v2468 : IVec S16 32) (v2662 : IVec S16 32) (v2747 : IVec S16 32) (v2750 : IVec S16 32) (k0_hw2108 : k0_chk2108 v2468 v2662 v2747 v2750), ∀ a x, ((![v2468, v2662, v2747, v2750] : Fin 4 → IVec S16 32) a x).toNat < S2x4x32x32.size a := fun v2468 v2662 v2747 v2750 k0_hw2108 => k0_hw2108

def k0_chk2109 (v33 : IVec S16 32) (v35 : IVec S16 32) (v2468 : IVec S16 32) (v2662 : IVec S16 32) (v2752 : IVec S16 32) : Prop :=
  (∀ a x, ((![v2468, v2662, v2752, v33] : Fin 4 → IVec S16 32) a x).toNat < S2x4x94x96.size a) ∧
  (∀ a x, ((![v2468, v2662, v2752, v35] : Fin 4 → IVec S16 32) a x).toNat < S2x4x94x96.size a)
theorem k0_idx2795_inb : ∀ (v33 : IVec S16 32) (v35 : IVec S16 32) (v2468 : IVec S16 32) (v2662 : IVec S16 32) (v2752 : IVec S16 32) (k0_hw2109 : k0_chk2109 v33 v35 v2468 v2662 v2752), ∀ a x, ((![v2468, v2662, v2752, v33] : Fin 4 → IVec S16 32) a x).toNat < S2x4x94x96.size a := fun v33 v35 v2468 v2662 v2752 k0_hw2109 => k0_hw2109.1
theorem k0_idx2796_inb : ∀ (v33 : IVec S16 32) (v35 : IVec S16 32) (v2468 : IVec S16 32) (v2662 : IVec S16 32) (v2752 : IVec S16 32) (k0_hw2109 : k0_chk2109 v33 v35 v2468 v2662 v2752), ∀ a x, ((![v2468, v2662, v2752, v35] : Fin 4 → IVec S16 32) a x).toNat < S2x4x94x96.size a := fun v33 v35 v2468 v2662 v2752 k0_hw2109 => k0_hw2109.2

def k0_chk2110 (v30 : IVec S16 32) (v2468 : IVec S16 32) (v2662 : IVec S16 32) (v2753 : IVec S16 32) : Prop :=
  (∀ a x, ((![v2468, v2662, v2753, v30] : Fin 4 → IVec S16 32) a x).toNat < S2x4x32x32.size a)
theorem k0_idx2797_inb : ∀ (v30 : IVec S16 32) (v2468 : IVec S16 32) (v2662 : IVec S16 32) (v2753 : IVec S16 32) (k0_hw2110 : k0_chk2110 v30 v2468 v2662 v2753), ∀ a x, ((![v2468, v2662, v2753, v30] : Fin 4 → IVec S16 32) a x).toNat < S2x4x32x32.size a := fun v30 v2468 v2662 v2753 k0_hw2110 => k0_hw2110

def k0_chk2111 (v2468 : IVec S16 32) (v2662 : IVec S16 32) (v2753 : IVec S16 32) (v2756 : IVec S16 32) : Prop :=
  (∀ a x, ((![v2468, v2662, v2753, v2756] : Fin 4 → IVec S16 32) a x).toNat < S2x4x32x32.size a)
theorem k0_idx2798_inb : ∀ (v2468 : IVec S16 32) (v2662 : IVec S16 32) (v2753 : IVec S16 32) (v2756 : IVec S16 32) (k0_hw2111 : k0_chk2111 v2468 v2662 v2753 v2756), ∀ a x, ((![v2468, v2662, v2753, v2756] : Fin 4 → IVec S16 32) a x).toNat < S2x4x32x32.size a := fun v2468 v2662 v2753 v2756 k0_hw2111 => k0_hw2111

def k0_chk2112 (v33 : IVec S16 32) (v35 : IVec S16 32) (v2468 : IVec S16 32) (v2662 : IVec S16 32) (v2758 : IVec S16 32) : Prop :=
  (∀ a x, ((![v2468, v2662, v2758, v33] : Fin 4 → IVec S16 32) a x).toNat < S2x4x94x96.size a) ∧
  (∀ a x, ((![v2468, v2662, v2758, v35] : Fin 4 → IVec S16 32) a x).toNat < S2x4x94x96.size a)
theorem k0_idx2799_inb : ∀ (v33 : IVec S16 32) (v35 : IVec S16 32) (v2468 : IVec S16 32) (v2662 : IVec S16 32) (v2758 : IVec S16 32) (k0_hw2112 : k0_chk2112 v33 v35 v2468 v2662 v2758), ∀ a x, ((![v2468, v2662, v2758, v33] : Fin 4 → IVec S16 32) a x).toNat < S2x4x94x96.size a := fun v33 v35 v2468 v2662 v2758 k0_hw2112 => k0_hw2112.1
theorem k0_idx2800_inb : ∀ (v33 : IVec S16 32) (v35 : IVec S16 32) (v2468 : IVec S16 32) (v2662 : IVec S16 32) (v2758 : IVec S16 32) (k0_hw2112 : k0_chk2112 v33 v35 v2468 v2662 v2758), ∀ a x, ((![v2468, v2662, v2758, v35] : Fin 4 → IVec S16 32) a x).toNat < S2x4x94x96.size a := fun v33 v35 v2468 v2662 v2758 k0_hw2112 => k0_hw2112.2

def k0_chk2113 (v30 : IVec S16 32) (v2468 : IVec S16 32) (v2662 : IVec S16 32) (v2759 : IVec S16 32) : Prop :=
  (∀ a x, ((![v2468, v2662, v2759, v30] : Fin 4 → IVec S16 32) a x).toNat < S2x4x32x32.size a)
theorem k0_idx2801_inb : ∀ (v30 : IVec S16 32) (v2468 : IVec S16 32) (v2662 : IVec S16 32) (v2759 : IVec S16 32) (k0_hw2113 : k0_chk2113 v30 v2468 v2662 v2759), ∀ a x, ((![v2468, v2662, v2759, v30] : Fin 4 → IVec S16 32) a x).toNat < S2x4x32x32.size a := fun v30 v2468 v2662 v2759 k0_hw2113 => k0_hw2113

def k0_chk2114 (v2468 : IVec S16 32) (v2662 : IVec S16 32) (v2759 : IVec S16 32) (v2762 : IVec S16 32) : Prop :=
  (∀ a x, ((![v2468, v2662, v2759, v2762] : Fin 4 → IVec S16 32) a x).toNat < S2x4x32x32.size a)
theorem k0_idx2802_inb : ∀ (v2468 : IVec S16 32) (v2662 : IVec S16 32) (v2759 : IVec S16 32) (v2762 : IVec S16 32) (k0_hw2114 : k0_chk2114 v2468 v2662 v2759 v2762), ∀ a x, ((![v2468, v2662, v2759, v2762] : Fin 4 → IVec S16 32) a x).toNat < S2x4x32x32.size a := fun v2468 v2662 v2759 v2762 k0_hw2114 => k0_hw2114

def k0_chk2115 (v33 : IVec S16 32) (v35 : IVec S16 32) (v2468 : IVec S16 32) (v2662 : IVec S16 32) (v2764 : IVec S16 32) : Prop :=
  (∀ a x, ((![v2468, v2662, v2764, v33] : Fin 4 → IVec S16 32) a x).toNat < S2x4x94x96.size a) ∧
  (∀ a x, ((![v2468, v2662, v2764, v35] : Fin 4 → IVec S16 32) a x).toNat < S2x4x94x96.size a)
theorem k0_idx2803_inb : ∀ (v33 : IVec S16 32) (v35 : IVec S16 32) (v2468 : IVec S16 32) (v2662 : IVec S16 32) (v2764 : IVec S16 32) (k0_hw2115 : k0_chk2115 v33 v35 v2468 v2662 v2764), ∀ a x, ((![v2468, v2662, v2764, v33] : Fin 4 → IVec S16 32) a x).toNat < S2x4x94x96.size a := fun v33 v35 v2468 v2662 v2764 k0_hw2115 => k0_hw2115.1
theorem k0_idx2804_inb : ∀ (v33 : IVec S16 32) (v35 : IVec S16 32) (v2468 : IVec S16 32) (v2662 : IVec S16 32) (v2764 : IVec S16 32) (k0_hw2115 : k0_chk2115 v33 v35 v2468 v2662 v2764), ∀ a x, ((![v2468, v2662, v2764, v35] : Fin 4 → IVec S16 32) a x).toNat < S2x4x94x96.size a := fun v33 v35 v2468 v2662 v2764 k0_hw2115 => k0_hw2115.2

def k0_chk2116 (v30 : IVec S16 32) (v2468 : IVec S16 32) (v2662 : IVec S16 32) (v2765 : IVec S16 32) : Prop :=
  (∀ a x, ((![v2468, v2662, v2765, v30] : Fin 4 → IVec S16 32) a x).toNat < S2x4x32x32.size a)
theorem k0_idx2805_inb : ∀ (v30 : IVec S16 32) (v2468 : IVec S16 32) (v2662 : IVec S16 32) (v2765 : IVec S16 32) (k0_hw2116 : k0_chk2116 v30 v2468 v2662 v2765), ∀ a x, ((![v2468, v2662, v2765, v30] : Fin 4 → IVec S16 32) a x).toNat < S2x4x32x32.size a := fun v30 v2468 v2662 v2765 k0_hw2116 => k0_hw2116

def k0_chk2117 (v2468 : IVec S16 32) (v2662 : IVec S16 32) (v2765 : IVec S16 32) (v2768 : IVec S16 32) : Prop :=
  (∀ a x, ((![v2468, v2662, v2765, v2768] : Fin 4 → IVec S16 32) a x).toNat < S2x4x32x32.size a)
theorem k0_idx2806_inb : ∀ (v2468 : IVec S16 32) (v2662 : IVec S16 32) (v2765 : IVec S16 32) (v2768 : IVec S16 32) (k0_hw2117 : k0_chk2117 v2468 v2662 v2765 v2768), ∀ a x, ((![v2468, v2662, v2765, v2768] : Fin 4 → IVec S16 32) a x).toNat < S2x4x32x32.size a := fun v2468 v2662 v2765 v2768 k0_hw2117 => k0_hw2117

def k0_chk2118 (v33 : IVec S16 32) (v35 : IVec S16 32) (v2468 : IVec S16 32) (v2662 : IVec S16 32) (v2770 : IVec S16 32) : Prop :=
  (∀ a x, ((![v2468, v2662, v2770, v33] : Fin 4 → IVec S16 32) a x).toNat < S2x4x94x96.size a) ∧
  (∀ a x, ((![v2468, v2662, v2770, v35] : Fin 4 → IVec S16 32) a x).toNat < S2x4x94x96.size a)
theorem k0_idx2807_inb : ∀ (v33 : IVec S16 32) (v35 : IVec S16 32) (v2468 : IVec S16 32) (v2662 : IVec S16 32) (v2770 : IVec S16 32) (k0_hw2118 : k0_chk2118 v33 v35 v2468 v2662 v2770), ∀ a x, ((![v2468, v2662, v2770, v33] : Fin 4 → IVec S16 32) a x).toNat < S2x4x94x96.size a := fun v33 v35 v2468 v2662 v2770 k0_hw2118 => k0_hw2118.1
theorem k0_idx2808_inb : ∀ (v33 : IVec S16 32) (v35 : IVec S16 32) (v2468 : IVec S16 32) (v2662 : IVec S16 32) (v2770 : IVec S16 32) (k0_hw2118 : k0_chk2118 v33 v35 v2468 v2662 v2770), ∀ a x, ((![v2468, v2662, v2770, v35] : Fin 4 → IVec S16 32) a x).toNat < S2x4x94x96.size a := fun v33 v35 v2468 v2662 v2770 k0_hw2118 => k0_hw2118.2

def k0_chk2119 (v30 : IVec S16 32) (v2468 : IVec S16 32) (v2662 : IVec S16 32) (v2771 : IVec S16 32) : Prop :=
  (∀ a x, ((![v2468, v2662, v2771, v30] : Fin 4 → IVec S16 32) a x).toNat < S2x4x32x32.size a)
theorem k0_idx2809_inb : ∀ (v30 : IVec S16 32) (v2468 : IVec S16 32) (v2662 : IVec S16 32) (v2771 : IVec S16 32) (k0_hw2119 : k0_chk2119 v30 v2468 v2662 v2771), ∀ a x, ((![v2468, v2662, v2771, v30] : Fin 4 → IVec S16 32) a x).toNat < S2x4x32x32.size a := fun v30 v2468 v2662 v2771 k0_hw2119 => k0_hw2119

def k0_chk2120 (v2468 : IVec S16 32) (v2662 : IVec S16 32) (v2771 : IVec S16 32) (v2774 : IVec S16 32) : Prop :=
  (∀ a x, ((![v2468, v2662, v2771, v2774] : Fin 4 → IVec S16 32) a x).toNat < S2x4x32x32.size a)
theorem k0_idx2810_inb : ∀ (v2468 : IVec S16 32) (v2662 : IVec S16 32) (v2771 : IVec S16 32) (v2774 : IVec S16 32) (k0_hw2120 : k0_chk2120 v2468 v2662 v2771 v2774), ∀ a x, ((![v2468, v2662, v2771, v2774] : Fin 4 → IVec S16 32) a x).toNat < S2x4x32x32.size a := fun v2468 v2662 v2771 v2774 k0_hw2120 => k0_hw2120

def k0_chk2121 (v33 : IVec S16 32) (v35 : IVec S16 32) (v2468 : IVec S16 32) (v2662 : IVec S16 32) (v2776 : IVec S16 32) : Prop :=
  (∀ a x, ((![v2468, v2662, v2776, v33] : Fin 4 → IVec S16 32) a x).toNat < S2x4x94x96.size a) ∧
  (∀ a x, ((![v2468, v2662, v2776, v35] : Fin 4 → IVec S16 32) a x).toNat < S2x4x94x96.size a)
theorem k0_idx2811_inb : ∀ (v33 : IVec S16 32) (v35 : IVec S16 32) (v2468 : IVec S16 32) (v2662 : IVec S16 32) (v2776 : IVec S16 32) (k0_hw2121 : k0_chk2121 v33 v35 v2468 v2662 v2776), ∀ a x, ((![v2468, v2662, v2776, v33] : Fin 4 → IVec S16 32) a x).toNat < S2x4x94x96.size a := fun v33 v35 v2468 v2662 v2776 k0_hw2121 => k0_hw2121.1
theorem k0_idx2812_inb : ∀ (v33 : IVec S16 32) (v35 : IVec S16 32) (v2468 : IVec S16 32) (v2662 : IVec S16 32) (v2776 : IVec S16 32) (k0_hw2121 : k0_chk2121 v33 v35 v2468 v2662 v2776), ∀ a x, ((![v2468, v2662, v2776, v35] : Fin 4 → IVec S16 32) a x).toNat < S2x4x94x96.size a := fun v33 v35 v2468 v2662 v2776 k0_hw2121 => k0_hw2121.2

def k0_chk2122 (v30 : IVec S16 32) (v2468 : IVec S16 32) (v2662 : IVec S16 32) (v2777 : IVec S16 32) : Prop :=
  (∀ a x, ((![v2468, v2662, v2777, v30] : Fin 4 → IVec S16 32) a x).toNat < S2x4x32x32.size a)
theorem k0_idx2813_inb : ∀ (v30 : IVec S16 32) (v2468 : IVec S16 32) (v2662 : IVec S16 32) (v2777 : IVec S16 32) (k0_hw2122 : k0_chk2122 v30 v2468 v2662 v2777), ∀ a x, ((![v2468, v2662, v2777, v30] : Fin 4 → IVec S16 32) a x).toNat < S2x4x32x32.size a := fun v30 v2468 v2662 v2777 k0_hw2122 => k0_hw2122

def k0_chk2123 (v2468 : IVec S16 32) (v2662 : IVec S16 32) (v2777 : IVec S16 32) (v2780 : IVec S16 32) : Prop :=
  (∀ a x, ((![v2468, v2662, v2777, v2780] : Fin 4 → IVec S16 32) a x).toNat < S2x4x32x32.size a)
theorem k0_idx2814_inb : ∀ (v2468 : IVec S16 32) (v2662 : IVec S16 32) (v2777 : IVec S16 32) (v2780 : IVec S16 32) (k0_hw2123 : k0_chk2123 v2468 v2662 v2777 v2780), ∀ a x, ((![v2468, v2662, v2777, v2780] : Fin 4 → IVec S16 32) a x).toNat < S2x4x32x32.size a := fun v2468 v2662 v2777 v2780 k0_hw2123 => k0_hw2123

def k0_chk2124 (v33 : IVec S16 32) (v35 : IVec S16 32) (v2468 : IVec S16 32) (v2662 : IVec S16 32) (v2782 : IVec S16 32) : Prop :=
  (∀ a x, ((![v2468, v2662, v2782, v33] : Fin 4 → IVec S16 32) a x).toNat < S2x4x94x96.size a) ∧
  (∀ a x, ((![v2468, v2662, v2782, v35] : Fin 4 → IVec S16 32) a x).toNat < S2x4x94x96.size a)
theorem k0_idx2815_inb : ∀ (v33 : IVec S16 32) (v35 : IVec S16 32) (v2468 : IVec S16 32) (v2662 : IVec S16 32) (v2782 : IVec S16 32) (k0_hw2124 : k0_chk2124 v33 v35 v2468 v2662 v2782), ∀ a x, ((![v2468, v2662, v2782, v33] : Fin 4 → IVec S16 32) a x).toNat < S2x4x94x96.size a := fun v33 v35 v2468 v2662 v2782 k0_hw2124 => k0_hw2124.1
theorem k0_idx2816_inb : ∀ (v33 : IVec S16 32) (v35 : IVec S16 32) (v2468 : IVec S16 32) (v2662 : IVec S16 32) (v2782 : IVec S16 32) (k0_hw2124 : k0_chk2124 v33 v35 v2468 v2662 v2782), ∀ a x, ((![v2468, v2662, v2782, v35] : Fin 4 → IVec S16 32) a x).toNat < S2x4x94x96.size a := fun v33 v35 v2468 v2662 v2782 k0_hw2124 => k0_hw2124.2

def k0_chk2125 (v30 : IVec S16 32) (v2468 : IVec S16 32) (v2662 : IVec S16 32) (v2783 : IVec S16 32) : Prop :=
  (∀ a x, ((![v2468, v2662, v2783, v30] : Fin 4 → IVec S16 32) a x).toNat < S2x4x32x32.size a)
theorem k0_idx2817_inb : ∀ (v30 : IVec S16 32) (v2468 : IVec S16 32) (v2662 : IVec S16 32) (v2783 : IVec S16 32) (k0_hw2125 : k0_chk2125 v30 v2468 v2662 v2783), ∀ a x, ((![v2468, v2662, v2783, v30] : Fin 4 → IVec S16 32) a x).toNat < S2x4x32x32.size a := fun v30 v2468 v2662 v2783 k0_hw2125 => k0_hw2125

def k0_chk2126 (v2468 : IVec S16 32) (v2662 : IVec S16 32) (v2783 : IVec S16 32) (v2786 : IVec S16 32) : Prop :=
  (∀ a x, ((![v2468, v2662, v2783, v2786] : Fin 4 → IVec S16 32) a x).toNat < S2x4x32x32.size a)
theorem k0_idx2818_inb : ∀ (v2468 : IVec S16 32) (v2662 : IVec S16 32) (v2783 : IVec S16 32) (v2786 : IVec S16 32) (k0_hw2126 : k0_chk2126 v2468 v2662 v2783 v2786), ∀ a x, ((![v2468, v2662, v2783, v2786] : Fin 4 → IVec S16 32) a x).toNat < S2x4x32x32.size a := fun v2468 v2662 v2783 v2786 k0_hw2126 => k0_hw2126

def k0_chk2127 (v33 : IVec S16 32) (v35 : IVec S16 32) (v2468 : IVec S16 32) (v2662 : IVec S16 32) (v2788 : IVec S16 32) : Prop :=
  (∀ a x, ((![v2468, v2662, v2788, v33] : Fin 4 → IVec S16 32) a x).toNat < S2x4x94x96.size a) ∧
  (∀ a x, ((![v2468, v2662, v2788, v35] : Fin 4 → IVec S16 32) a x).toNat < S2x4x94x96.size a)
theorem k0_idx2819_inb : ∀ (v33 : IVec S16 32) (v35 : IVec S16 32) (v2468 : IVec S16 32) (v2662 : IVec S16 32) (v2788 : IVec S16 32) (k0_hw2127 : k0_chk2127 v33 v35 v2468 v2662 v2788), ∀ a x, ((![v2468, v2662, v2788, v33] : Fin 4 → IVec S16 32) a x).toNat < S2x4x94x96.size a := fun v33 v35 v2468 v2662 v2788 k0_hw2127 => k0_hw2127.1
theorem k0_idx2820_inb : ∀ (v33 : IVec S16 32) (v35 : IVec S16 32) (v2468 : IVec S16 32) (v2662 : IVec S16 32) (v2788 : IVec S16 32) (k0_hw2127 : k0_chk2127 v33 v35 v2468 v2662 v2788), ∀ a x, ((![v2468, v2662, v2788, v35] : Fin 4 → IVec S16 32) a x).toNat < S2x4x94x96.size a := fun v33 v35 v2468 v2662 v2788 k0_hw2127 => k0_hw2127.2

def k0_chk2128 (v30 : IVec S16 32) (v2468 : IVec S16 32) (v2662 : IVec S16 32) (v2789 : IVec S16 32) : Prop :=
  (∀ a x, ((![v2468, v2662, v2789, v30] : Fin 4 → IVec S16 32) a x).toNat < S2x4x32x32.size a)
theorem k0_idx2821_inb : ∀ (v30 : IVec S16 32) (v2468 : IVec S16 32) (v2662 : IVec S16 32) (v2789 : IVec S16 32) (k0_hw2128 : k0_chk2128 v30 v2468 v2662 v2789), ∀ a x, ((![v2468, v2662, v2789, v30] : Fin 4 → IVec S16 32) a x).toNat < S2x4x32x32.size a := fun v30 v2468 v2662 v2789 k0_hw2128 => k0_hw2128

def k0_chk2129 (v2468 : IVec S16 32) (v2662 : IVec S16 32) (v2789 : IVec S16 32) (v2792 : IVec S16 32) : Prop :=
  (∀ a x, ((![v2468, v2662, v2789, v2792] : Fin 4 → IVec S16 32) a x).toNat < S2x4x32x32.size a)
theorem k0_idx2822_inb : ∀ (v2468 : IVec S16 32) (v2662 : IVec S16 32) (v2789 : IVec S16 32) (v2792 : IVec S16 32) (k0_hw2129 : k0_chk2129 v2468 v2662 v2789 v2792), ∀ a x, ((![v2468, v2662, v2789, v2792] : Fin 4 → IVec S16 32) a x).toNat < S2x4x32x32.size a := fun v2468 v2662 v2789 v2792 k0_hw2129 => k0_hw2129

def k0_chk2130 (v33 : IVec S16 32) (v35 : IVec S16 32) (v2468 : IVec S16 32) (v2662 : IVec S16 32) (v2794 : IVec S16 32) : Prop :=
  (∀ a x, ((![v2468, v2662, v2794, v33] : Fin 4 → IVec S16 32) a x).toNat < S2x4x94x96.size a) ∧
  (∀ a x, ((![v2468, v2662, v2794, v35] : Fin 4 → IVec S16 32) a x).toNat < S2x4x94x96.size a)
theorem k0_idx2823_inb : ∀ (v33 : IVec S16 32) (v35 : IVec S16 32) (v2468 : IVec S16 32) (v2662 : IVec S16 32) (v2794 : IVec S16 32) (k0_hw2130 : k0_chk2130 v33 v35 v2468 v2662 v2794), ∀ a x, ((![v2468, v2662, v2794, v33] : Fin 4 → IVec S16 32) a x).toNat < S2x4x94x96.size a := fun v33 v35 v2468 v2662 v2794 k0_hw2130 => k0_hw2130.1
theorem k0_idx2824_inb : ∀ (v33 : IVec S16 32) (v35 : IVec S16 32) (v2468 : IVec S16 32) (v2662 : IVec S16 32) (v2794 : IVec S16 32) (k0_hw2130 : k0_chk2130 v33 v35 v2468 v2662 v2794), ∀ a x, ((![v2468, v2662, v2794, v35] : Fin 4 → IVec S16 32) a x).toNat < S2x4x94x96.size a := fun v33 v35 v2468 v2662 v2794 k0_hw2130 => k0_hw2130.2

def k0_chk2131 (v30 : IVec S16 32) (v2468 : IVec S16 32) (v2662 : IVec S16 32) (v2795 : IVec S16 32) : Prop :=
  (∀ a x, ((![v2468, v2662, v2795, v30] : Fin 4 → IVec S16 32) a x).toNat < S2x4x32x32.size a)
theorem k0_idx2825_inb : ∀ (v30 : IVec S16 32) (v2468 : IVec S16 32) (v2662 : IVec S16 32) (v2795 : IVec S16 32) (k0_hw2131 : k0_chk2131 v30 v2468 v2662 v2795), ∀ a x, ((![v2468, v2662, v2795, v30] : Fin 4 → IVec S16 32) a x).toNat < S2x4x32x32.size a := fun v30 v2468 v2662 v2795 k0_hw2131 => k0_hw2131

def k0_chk2132 (v2468 : IVec S16 32) (v2662 : IVec S16 32) (v2795 : IVec S16 32) (v2798 : IVec S16 32) : Prop :=
  (∀ a x, ((![v2468, v2662, v2795, v2798] : Fin 4 → IVec S16 32) a x).toNat < S2x4x32x32.size a)
theorem k0_idx2826_inb : ∀ (v2468 : IVec S16 32) (v2662 : IVec S16 32) (v2795 : IVec S16 32) (v2798 : IVec S16 32) (k0_hw2132 : k0_chk2132 v2468 v2662 v2795 v2798), ∀ a x, ((![v2468, v2662, v2795, v2798] : Fin 4 → IVec S16 32) a x).toNat < S2x4x32x32.size a := fun v2468 v2662 v2795 v2798 k0_hw2132 => k0_hw2132

def k0_chk2133 (v33 : IVec S16 32) (v35 : IVec S16 32) (v2468 : IVec S16 32) (v2662 : IVec S16 32) (v2800 : IVec S16 32) : Prop :=
  (∀ a x, ((![v2468, v2662, v2800, v33] : Fin 4 → IVec S16 32) a x).toNat < S2x4x94x96.size a) ∧
  (∀ a x, ((![v2468, v2662, v2800, v35] : Fin 4 → IVec S16 32) a x).toNat < S2x4x94x96.size a)
theorem k0_idx2827_inb : ∀ (v33 : IVec S16 32) (v35 : IVec S16 32) (v2468 : IVec S16 32) (v2662 : IVec S16 32) (v2800 : IVec S16 32) (k0_hw2133 : k0_chk2133 v33 v35 v2468 v2662 v2800), ∀ a x, ((![v2468, v2662, v2800, v33] : Fin 4 → IVec S16 32) a x).toNat < S2x4x94x96.size a := fun v33 v35 v2468 v2662 v2800 k0_hw2133 => k0_hw2133.1
theorem k0_idx2828_inb : ∀ (v33 : IVec S16 32) (v35 : IVec S16 32) (v2468 : IVec S16 32) (v2662 : IVec S16 32) (v2800 : IVec S16 32) (k0_hw2133 : k0_chk2133 v33 v35 v2468 v2662 v2800), ∀ a x, ((![v2468, v2662, v2800, v35] : Fin 4 → IVec S16 32) a x).toNat < S2x4x94x96.size a := fun v33 v35 v2468 v2662 v2800 k0_hw2133 => k0_hw2133.2

def k0_chk2134 (v30 : IVec S16 32) (v2468 : IVec S16 32) (v2662 : IVec S16 32) (v2801 : IVec S16 32) : Prop :=
  (∀ a x, ((![v2468, v2662, v2801, v30] : Fin 4 → IVec S16 32) a x).toNat < S2x4x32x32.size a)
theorem k0_idx2829_inb : ∀ (v30 : IVec S16 32) (v2468 : IVec S16 32) (v2662 : IVec S16 32) (v2801 : IVec S16 32) (k0_hw2134 : k0_chk2134 v30 v2468 v2662 v2801), ∀ a x, ((![v2468, v2662, v2801, v30] : Fin 4 → IVec S16 32) a x).toNat < S2x4x32x32.size a := fun v30 v2468 v2662 v2801 k0_hw2134 => k0_hw2134

def k0_chk2135 (v2468 : IVec S16 32) (v2662 : IVec S16 32) (v2801 : IVec S16 32) (v2804 : IVec S16 32) : Prop :=
  (∀ a x, ((![v2468, v2662, v2801, v2804] : Fin 4 → IVec S16 32) a x).toNat < S2x4x32x32.size a)
theorem k0_idx2830_inb : ∀ (v2468 : IVec S16 32) (v2662 : IVec S16 32) (v2801 : IVec S16 32) (v2804 : IVec S16 32) (k0_hw2135 : k0_chk2135 v2468 v2662 v2801 v2804), ∀ a x, ((![v2468, v2662, v2801, v2804] : Fin 4 → IVec S16 32) a x).toNat < S2x4x32x32.size a := fun v2468 v2662 v2801 v2804 k0_hw2135 => k0_hw2135

def k0_chk2136 (v33 : IVec S16 32) (v35 : IVec S16 32) (v2468 : IVec S16 32) (v2662 : IVec S16 32) (v2806 : IVec S16 32) : Prop :=
  (∀ a x, ((![v2468, v2662, v2806, v33] : Fin 4 → IVec S16 32) a x).toNat < S2x4x94x96.size a) ∧
  (∀ a x, ((![v2468, v2662, v2806, v35] : Fin 4 → IVec S16 32) a x).toNat < S2x4x94x96.size a)
theorem k0_idx2831_inb : ∀ (v33 : IVec S16 32) (v35 : IVec S16 32) (v2468 : IVec S16 32) (v2662 : IVec S16 32) (v2806 : IVec S16 32) (k0_hw2136 : k0_chk2136 v33 v35 v2468 v2662 v2806), ∀ a x, ((![v2468, v2662, v2806, v33] : Fin 4 → IVec S16 32) a x).toNat < S2x4x94x96.size a := fun v33 v35 v2468 v2662 v2806 k0_hw2136 => k0_hw2136.1
theorem k0_idx2832_inb : ∀ (v33 : IVec S16 32) (v35 : IVec S16 32) (v2468 : IVec S16 32) (v2662 : IVec S16 32) (v2806 : IVec S16 32) (k0_hw2136 : k0_chk2136 v33 v35 v2468 v2662 v2806), ∀ a x, ((![v2468, v2662, v2806, v35] : Fin 4 → IVec S16 32) a x).toNat < S2x4x94x96.size a := fun v33 v35 v2468 v2662 v2806 k0_hw2136 => k0_hw2136.2

def k0_chk2137 (v30 : IVec S16 32) (v2468 : IVec S16 32) (v2662 : IVec S16 32) (v2807 : IVec S16 32) : Prop :=
  (∀ a x, ((![v2468, v2662, v2807, v30] : Fin 4 → IVec S16 32) a x).toNat < S2x4x32x32.size a)
theorem k0_idx2833_inb : ∀ (v30 : IVec S16 32) (v2468 : IVec S16 32) (v2662 : IVec S16 32) (v2807 : IVec S16 32) (k0_hw2137 : k0_chk2137 v30 v2468 v2662 v2807), ∀ a x, ((![v2468, v2662, v2807, v30] : Fin 4 → IVec S16 32) a x).toNat < S2x4x32x32.size a := fun v30 v2468 v2662 v2807 k0_hw2137 => k0_hw2137

def k0_chk2138 (v2468 : IVec S16 32) (v2662 : IVec S16 32) (v2807 : IVec S16 32) (v2810 : IVec S16 32) : Prop :=
  (∀ a x, ((![v2468, v2662, v2807, v2810] : Fin 4 → IVec S16 32) a x).toNat < S2x4x32x32.size a)
theorem k0_idx2834_inb : ∀ (v2468 : IVec S16 32) (v2662 : IVec S16 32) (v2807 : IVec S16 32) (v2810 : IVec S16 32) (k0_hw2138 : k0_chk2138 v2468 v2662 v2807 v2810), ∀ a x, ((![v2468, v2662, v2807, v2810] : Fin 4 → IVec S16 32) a x).toNat < S2x4x32x32.size a := fun v2468 v2662 v2807 v2810 k0_hw2138 => k0_hw2138

def k0_chk2139 (v33 : IVec S16 32) (v35 : IVec S16 32) (v2468 : IVec S16 32) (v2662 : IVec S16 32) (v2812 : IVec S16 32) : Prop :=
  (∀ a x, ((![v2468, v2662, v2812, v33] : Fin 4 → IVec S16 32) a x).toNat < S2x4x94x96.size a) ∧
  (∀ a x, ((![v2468, v2662, v2812, v35] : Fin 4 → IVec S16 32) a x).toNat < S2x4x94x96.size a)
theorem k0_idx2835_inb : ∀ (v33 : IVec S16 32) (v35 : IVec S16 32) (v2468 : IVec S16 32) (v2662 : IVec S16 32) (v2812 : IVec S16 32) (k0_hw2139 : k0_chk2139 v33 v35 v2468 v2662 v2812), ∀ a x, ((![v2468, v2662, v2812, v33] : Fin 4 → IVec S16 32) a x).toNat < S2x4x94x96.size a := fun v33 v35 v2468 v2662 v2812 k0_hw2139 => k0_hw2139.1
theorem k0_idx2836_inb : ∀ (v33 : IVec S16 32) (v35 : IVec S16 32) (v2468 : IVec S16 32) (v2662 : IVec S16 32) (v2812 : IVec S16 32) (k0_hw2139 : k0_chk2139 v33 v35 v2468 v2662 v2812), ∀ a x, ((![v2468, v2662, v2812, v35] : Fin 4 → IVec S16 32) a x).toNat < S2x4x94x96.size a := fun v33 v35 v2468 v2662 v2812 k0_hw2139 => k0_hw2139.2

def k0_chk2140 (v30 : IVec S16 32) (v2468 : IVec S16 32) (v2662 : IVec S16 32) (v2813 : IVec S16 32) : Prop :=
  (∀ a x, ((![v2468, v2662, v2813, v30] : Fin 4 → IVec S16 32) a x).toNat < S2x4x32x32.size a)
theorem k0_idx2837_inb : ∀ (v30 : IVec S16 32) (v2468 : IVec S16 32) (v2662 : IVec S16 32) (v2813 : IVec S16 32) (k0_hw2140 : k0_chk2140 v30 v2468 v2662 v2813), ∀ a x, ((![v2468, v2662, v2813, v30] : Fin 4 → IVec S16 32) a x).toNat < S2x4x32x32.size a := fun v30 v2468 v2662 v2813 k0_hw2140 => k0_hw2140

def k0_chk2141 (v2468 : IVec S16 32) (v2662 : IVec S16 32) (v2813 : IVec S16 32) (v2816 : IVec S16 32) : Prop :=
  (∀ a x, ((![v2468, v2662, v2813, v2816] : Fin 4 → IVec S16 32) a x).toNat < S2x4x32x32.size a)
theorem k0_idx2838_inb : ∀ (v2468 : IVec S16 32) (v2662 : IVec S16 32) (v2813 : IVec S16 32) (v2816 : IVec S16 32) (k0_hw2141 : k0_chk2141 v2468 v2662 v2813 v2816), ∀ a x, ((![v2468, v2662, v2813, v2816] : Fin 4 → IVec S16 32) a x).toNat < S2x4x32x32.size a := fun v2468 v2662 v2813 v2816 k0_hw2141 => k0_hw2141

def k0_chk2142 (v33 : IVec S16 32) (v35 : IVec S16 32) (v2468 : IVec S16 32) (v2662 : IVec S16 32) (v2818 : IVec S16 32) : Prop :=
  (∀ a x, ((![v2468, v2662, v2818, v33] : Fin 4 → IVec S16 32) a x).toNat < S2x4x94x96.size a) ∧
  (∀ a x, ((![v2468, v2662, v2818, v35] : Fin 4 → IVec S16 32) a x).toNat < S2x4x94x96.size a)
theorem k0_idx2839_inb : ∀ (v33 : IVec S16 32) (v35 : IVec S16 32) (v2468 : IVec S16 32) (v2662 : IVec S16 32) (v2818 : IVec S16 32) (k0_hw2142 : k0_chk2142 v33 v35 v2468 v2662 v2818), ∀ a x, ((![v2468, v2662, v2818, v33] : Fin 4 → IVec S16 32) a x).toNat < S2x4x94x96.size a := fun v33 v35 v2468 v2662 v2818 k0_hw2142 => k0_hw2142.1
theorem k0_idx2840_inb : ∀ (v33 : IVec S16 32) (v35 : IVec S16 32) (v2468 : IVec S16 32) (v2662 : IVec S16 32) (v2818 : IVec S16 32) (k0_hw2142 : k0_chk2142 v33 v35 v2468 v2662 v2818), ∀ a x, ((![v2468, v2662, v2818, v35] : Fin 4 → IVec S16 32) a x).toNat < S2x4x94x96.size a := fun v33 v35 v2468 v2662 v2818 k0_hw2142 => k0_hw2142.2

def k0_chk2143 (v30 : IVec S16 32) (v2468 : IVec S16 32) (v2662 : IVec S16 32) (v2819 : IVec S16 32) : Prop :=
  (∀ a x, ((![v2468, v2662, v2819, v30] : Fin 4 → IVec S16 32) a x).toNat < S2x4x32x32.size a)
theorem k0_idx2841_inb : ∀ (v30 : IVec S16 32) (v2468 : IVec S16 32) (v2662 : IVec S16 32) (v2819 : IVec S16 32) (k0_hw2143 : k0_chk2143 v30 v2468 v2662 v2819), ∀ a x, ((![v2468, v2662, v2819, v30] : Fin 4 → IVec S16 32) a x).toNat < S2x4x32x32.size a := fun v30 v2468 v2662 v2819 k0_hw2143 => k0_hw2143

def k0_chk2144 (v2468 : IVec S16 32) (v2662 : IVec S16 32) (v2819 : IVec S16 32) (v2822 : IVec S16 32) : Prop :=
  (∀ a x, ((![v2468, v2662, v2819, v2822] : Fin 4 → IVec S16 32) a x).toNat < S2x4x32x32.size a)
theorem k0_idx2842_inb : ∀ (v2468 : IVec S16 32) (v2662 : IVec S16 32) (v2819 : IVec S16 32) (v2822 : IVec S16 32) (k0_hw2144 : k0_chk2144 v2468 v2662 v2819 v2822), ∀ a x, ((![v2468, v2662, v2819, v2822] : Fin 4 → IVec S16 32) a x).toNat < S2x4x32x32.size a := fun v2468 v2662 v2819 v2822 k0_hw2144 => k0_hw2144

def k0_chk2145 (v33 : IVec S16 32) (v35 : IVec S16 32) (v2468 : IVec S16 32) (v2662 : IVec S16 32) (v2824 : IVec S16 32) : Prop :=
  (∀ a x, ((![v2468, v2662, v2824, v33] : Fin 4 → IVec S16 32) a x).toNat < S2x4x94x96.size a) ∧
  (∀ a x, ((![v2468, v2662, v2824, v35] : Fin 4 → IVec S16 32) a x).toNat < S2x4x94x96.size a)
theorem k0_idx2843_inb : ∀ (v33 : IVec S16 32) (v35 : IVec S16 32) (v2468 : IVec S16 32) (v2662 : IVec S16 32) (v2824 : IVec S16 32) (k0_hw2145 : k0_chk2145 v33 v35 v2468 v2662 v2824), ∀ a x, ((![v2468, v2662, v2824, v33] : Fin 4 → IVec S16 32) a x).toNat < S2x4x94x96.size a := fun v33 v35 v2468 v2662 v2824 k0_hw2145 => k0_hw2145.1
theorem k0_idx2844_inb : ∀ (v33 : IVec S16 32) (v35 : IVec S16 32) (v2468 : IVec S16 32) (v2662 : IVec S16 32) (v2824 : IVec S16 32) (k0_hw2145 : k0_chk2145 v33 v35 v2468 v2662 v2824), ∀ a x, ((![v2468, v2662, v2824, v35] : Fin 4 → IVec S16 32) a x).toNat < S2x4x94x96.size a := fun v33 v35 v2468 v2662 v2824 k0_hw2145 => k0_hw2145.2

def k0_chk2146 (v30 : IVec S16 32) (v2468 : IVec S16 32) (v2662 : IVec S16 32) (v2825 : IVec S16 32) : Prop :=
  (∀ a x, ((![v2468, v2662, v2825, v30] : Fin 4 → IVec S16 32) a x).toNat < S2x4x32x32.size a)
theorem k0_idx2845_inb : ∀ (v30 : IVec S16 32) (v2468 : IVec S16 32) (v2662 : IVec S16 32) (v2825 : IVec S16 32) (k0_hw2146 : k0_chk2146 v30 v2468 v2662 v2825), ∀ a x, ((![v2468, v2662, v2825, v30] : Fin 4 → IVec S16 32) a x).toNat < S2x4x32x32.size a := fun v30 v2468 v2662 v2825 k0_hw2146 => k0_hw2146

def k0_chk2147 (v2468 : IVec S16 32) (v2662 : IVec S16 32) (v2825 : IVec S16 32) (v2828 : IVec S16 32) : Prop :=
  (∀ a x, ((![v2468, v2662, v2825, v2828] : Fin 4 → IVec S16 32) a x).toNat < S2x4x32x32.size a)
theorem k0_idx2846_inb : ∀ (v2468 : IVec S16 32) (v2662 : IVec S16 32) (v2825 : IVec S16 32) (v2828 : IVec S16 32) (k0_hw2147 : k0_chk2147 v2468 v2662 v2825 v2828), ∀ a x, ((![v2468, v2662, v2825, v2828] : Fin 4 → IVec S16 32) a x).toNat < S2x4x32x32.size a := fun v2468 v2662 v2825 v2828 k0_hw2147 => k0_hw2147

def k0_chk2148 (v33 : IVec S16 32) (v35 : IVec S16 32) (v2468 : IVec S16 32) (v2662 : IVec S16 32) (v2830 : IVec S16 32) : Prop :=
  (∀ a x, ((![v2468, v2662, v2830, v33] : Fin 4 → IVec S16 32) a x).toNat < S2x4x94x96.size a) ∧
  (∀ a x, ((![v2468, v2662, v2830, v35] : Fin 4 → IVec S16 32) a x).toNat < S2x4x94x96.size a)
theorem k0_idx2847_inb : ∀ (v33 : IVec S16 32) (v35 : IVec S16 32) (v2468 : IVec S16 32) (v2662 : IVec S16 32) (v2830 : IVec S16 32) (k0_hw2148 : k0_chk2148 v33 v35 v2468 v2662 v2830), ∀ a x, ((![v2468, v2662, v2830, v33] : Fin 4 → IVec S16 32) a x).toNat < S2x4x94x96.size a := fun v33 v35 v2468 v2662 v2830 k0_hw2148 => k0_hw2148.1
theorem k0_idx2848_inb : ∀ (v33 : IVec S16 32) (v35 : IVec S16 32) (v2468 : IVec S16 32) (v2662 : IVec S16 32) (v2830 : IVec S16 32) (k0_hw2148 : k0_chk2148 v33 v35 v2468 v2662 v2830), ∀ a x, ((![v2468, v2662, v2830, v35] : Fin 4 → IVec S16 32) a x).toNat < S2x4x94x96.size a := fun v33 v35 v2468 v2662 v2830 k0_hw2148 => k0_hw2148.2

def k0_chk2149 (v30 : IVec S16 32) (v2468 : IVec S16 32) (v2662 : IVec S16 32) (v2831 : IVec S16 32) : Prop :=
  (∀ a x, ((![v2468, v2662, v2831, v30] : Fin 4 → IVec S16 32) a x).toNat < S2x4x32x32.size a)
theorem k0_idx2849_inb : ∀ (v30 : IVec S16 32) (v2468 : IVec S16 32) (v2662 : IVec S16 32) (v2831 : IVec S16 32) (k0_hw2149 : k0_chk2149 v30 v2468 v2662 v2831), ∀ a x, ((![v2468, v2662, v2831, v30] : Fin 4 → IVec S16 32) a x).toNat < S2x4x32x32.size a := fun v30 v2468 v2662 v2831 k0_hw2149 => k0_hw2149

def k0_chk2150 (v2468 : IVec S16 32) (v2662 : IVec S16 32) (v2831 : IVec S16 32) (v2834 : IVec S16 32) : Prop :=
  (∀ a x, ((![v2468, v2662, v2831, v2834] : Fin 4 → IVec S16 32) a x).toNat < S2x4x32x32.size a)
theorem k0_idx2850_inb : ∀ (v2468 : IVec S16 32) (v2662 : IVec S16 32) (v2831 : IVec S16 32) (v2834 : IVec S16 32) (k0_hw2150 : k0_chk2150 v2468 v2662 v2831 v2834), ∀ a x, ((![v2468, v2662, v2831, v2834] : Fin 4 → IVec S16 32) a x).toNat < S2x4x32x32.size a := fun v2468 v2662 v2831 v2834 k0_hw2150 => k0_hw2150

def k0_chk2151 (v33 : IVec S16 32) (v35 : IVec S16 32) (v2468 : IVec S16 32) (v2662 : IVec S16 32) (v2836 : IVec S16 32) : Prop :=
  (∀ a x, ((![v2468, v2662, v2836, v33] : Fin 4 → IVec S16 32) a x).toNat < S2x4x94x96.size a) ∧
  (∀ a x, ((![v2468, v2662, v2836, v35] : Fin 4 → IVec S16 32) a x).toNat < S2x4x94x96.size a)
theorem k0_idx2851_inb : ∀ (v33 : IVec S16 32) (v35 : IVec S16 32) (v2468 : IVec S16 32) (v2662 : IVec S16 32) (v2836 : IVec S16 32) (k0_hw2151 : k0_chk2151 v33 v35 v2468 v2662 v2836), ∀ a x, ((![v2468, v2662, v2836, v33] : Fin 4 → IVec S16 32) a x).toNat < S2x4x94x96.size a := fun v33 v35 v2468 v2662 v2836 k0_hw2151 => k0_hw2151.1
theorem k0_idx2852_inb : ∀ (v33 : IVec S16 32) (v35 : IVec S16 32) (v2468 : IVec S16 32) (v2662 : IVec S16 32) (v2836 : IVec S16 32) (k0_hw2151 : k0_chk2151 v33 v35 v2468 v2662 v2836), ∀ a x, ((![v2468, v2662, v2836, v35] : Fin 4 → IVec S16 32) a x).toNat < S2x4x94x96.size a := fun v33 v35 v2468 v2662 v2836 k0_hw2151 => k0_hw2151.2

def k0_chk2152 (v30 : IVec S16 32) (v2468 : IVec S16 32) (v2662 : IVec S16 32) (v2837 : IVec S16 32) : Prop :=
  (∀ a x, ((![v2468, v2662, v2837, v30] : Fin 4 → IVec S16 32) a x).toNat < S2x4x32x32.size a)
theorem k0_idx2853_inb : ∀ (v30 : IVec S16 32) (v2468 : IVec S16 32) (v2662 : IVec S16 32) (v2837 : IVec S16 32) (k0_hw2152 : k0_chk2152 v30 v2468 v2662 v2837), ∀ a x, ((![v2468, v2662, v2837, v30] : Fin 4 → IVec S16 32) a x).toNat < S2x4x32x32.size a := fun v30 v2468 v2662 v2837 k0_hw2152 => k0_hw2152

def k0_chk2153 (v2468 : IVec S16 32) (v2662 : IVec S16 32) (v2837 : IVec S16 32) (v2840 : IVec S16 32) : Prop :=
  (∀ a x, ((![v2468, v2662, v2837, v2840] : Fin 4 → IVec S16 32) a x).toNat < S2x4x32x32.size a)
theorem k0_idx2854_inb : ∀ (v2468 : IVec S16 32) (v2662 : IVec S16 32) (v2837 : IVec S16 32) (v2840 : IVec S16 32) (k0_hw2153 : k0_chk2153 v2468 v2662 v2837 v2840), ∀ a x, ((![v2468, v2662, v2837, v2840] : Fin 4 → IVec S16 32) a x).toNat < S2x4x32x32.size a := fun v2468 v2662 v2837 v2840 k0_hw2153 => k0_hw2153

def k0_chk2154 (v33 : IVec S16 32) (v35 : IVec S16 32) (v2468 : IVec S16 32) (v2662 : IVec S16 32) (v2842 : IVec S16 32) : Prop :=
  (∀ a x, ((![v2468, v2662, v2842, v33] : Fin 4 → IVec S16 32) a x).toNat < S2x4x94x96.size a) ∧
  (∀ a x, ((![v2468, v2662, v2842, v35] : Fin 4 → IVec S16 32) a x).toNat < S2x4x94x96.size a)
theorem k0_idx2855_inb : ∀ (v33 : IVec S16 32) (v35 : IVec S16 32) (v2468 : IVec S16 32) (v2662 : IVec S16 32) (v2842 : IVec S16 32) (k0_hw2154 : k0_chk2154 v33 v35 v2468 v2662 v2842), ∀ a x, ((![v2468, v2662, v2842, v33] : Fin 4 → IVec S16 32) a x).toNat < S2x4x94x96.size a := fun v33 v35 v2468 v2662 v2842 k0_hw2154 => k0_hw2154.1
theorem k0_idx2856_inb : ∀ (v33 : IVec S16 32) (v35 : IVec S16 32) (v2468 : IVec S16 32) (v2662 : IVec S16 32) (v2842 : IVec S16 32) (k0_hw2154 : k0_chk2154 v33 v35 v2468 v2662 v2842), ∀ a x, ((![v2468, v2662, v2842, v35] : Fin 4 → IVec S16 32) a x).toNat < S2x4x94x96.size a := fun v33 v35 v2468 v2662 v2842 k0_hw2154 => k0_hw2154.2

def k0_chk2155 (v30 : IVec S16 32) (v2468 : IVec S16 32) (v2662 : IVec S16 32) (v2843 : IVec S16 32) : Prop :=
  (∀ a x, ((![v2468, v2662, v2843, v30] : Fin 4 → IVec S16 32) a x).toNat < S2x4x32x32.size a)
theorem k0_idx2857_inb : ∀ (v30 : IVec S16 32) (v2468 : IVec S16 32) (v2662 : IVec S16 32) (v2843 : IVec S16 32) (k0_hw2155 : k0_chk2155 v30 v2468 v2662 v2843), ∀ a x, ((![v2468, v2662, v2843, v30] : Fin 4 → IVec S16 32) a x).toNat < S2x4x32x32.size a := fun v30 v2468 v2662 v2843 k0_hw2155 => k0_hw2155

def k0_chk2156 (v2468 : IVec S16 32) (v2662 : IVec S16 32) (v2843 : IVec S16 32) (v2846 : IVec S16 32) : Prop :=
  (∀ a x, ((![v2468, v2662, v2843, v2846] : Fin 4 → IVec S16 32) a x).toNat < S2x4x32x32.size a)
theorem k0_idx2858_inb : ∀ (v2468 : IVec S16 32) (v2662 : IVec S16 32) (v2843 : IVec S16 32) (v2846 : IVec S16 32) (k0_hw2156 : k0_chk2156 v2468 v2662 v2843 v2846), ∀ a x, ((![v2468, v2662, v2843, v2846] : Fin 4 → IVec S16 32) a x).toNat < S2x4x32x32.size a := fun v2468 v2662 v2843 v2846 k0_hw2156 => k0_hw2156

def k0_chk2157 (v33 : IVec S16 32) (v35 : IVec S16 32) (v2468 : IVec S16 32) (v2662 : IVec S16 32) (v2848 : IVec S16 32) : Prop :=
  (∀ a x, ((![v2468, v2662, v2848, v33] : Fin 4 → IVec S16 32) a x).toNat < S2x4x94x96.size a) ∧
  (∀ a x, ((![v2468, v2662, v2848, v35] : Fin 4 → IVec S16 32) a x).toNat < S2x4x94x96.size a)
theorem k0_idx2859_inb : ∀ (v33 : IVec S16 32) (v35 : IVec S16 32) (v2468 : IVec S16 32) (v2662 : IVec S16 32) (v2848 : IVec S16 32) (k0_hw2157 : k0_chk2157 v33 v35 v2468 v2662 v2848), ∀ a x, ((![v2468, v2662, v2848, v33] : Fin 4 → IVec S16 32) a x).toNat < S2x4x94x96.size a := fun v33 v35 v2468 v2662 v2848 k0_hw2157 => k0_hw2157.1
theorem k0_idx2860_inb : ∀ (v33 : IVec S16 32) (v35 : IVec S16 32) (v2468 : IVec S16 32) (v2662 : IVec S16 32) (v2848 : IVec S16 32) (k0_hw2157 : k0_chk2157 v33 v35 v2468 v2662 v2848), ∀ a x, ((![v2468, v2662, v2848, v35] : Fin 4 → IVec S16 32) a x).toNat < S2x4x94x96.size a := fun v33 v35 v2468 v2662 v2848 k0_hw2157 => k0_hw2157.2

def k0_chk2158 (v30 : IVec S16 32) (v2468 : IVec S16 32) (v2662 : IVec S16 32) (v2849 : IVec S16 32) : Prop :=
  (∀ a x, ((![v2468, v2662, v2849, v30] : Fin 4 → IVec S16 32) a x).toNat < S2x4x32x32.size a)
theorem k0_idx2861_inb : ∀ (v30 : IVec S16 32) (v2468 : IVec S16 32) (v2662 : IVec S16 32) (v2849 : IVec S16 32) (k0_hw2158 : k0_chk2158 v30 v2468 v2662 v2849), ∀ a x, ((![v2468, v2662, v2849, v30] : Fin 4 → IVec S16 32) a x).toNat < S2x4x32x32.size a := fun v30 v2468 v2662 v2849 k0_hw2158 => k0_hw2158

def k0_chk2159 (v2468 : IVec S16 32) (v2662 : IVec S16 32) (v2849 : IVec S16 32) (v2852 : IVec S16 32) : Prop :=
  (∀ a x, ((![v2468, v2662, v2849, v2852] : Fin 4 → IVec S16 32) a x).toNat < S2x4x32x32.size a)
theorem k0_idx2862_inb : ∀ (v2468 : IVec S16 32) (v2662 : IVec S16 32) (v2849 : IVec S16 32) (v2852 : IVec S16 32) (k0_hw2159 : k0_chk2159 v2468 v2662 v2849 v2852), ∀ a x, ((![v2468, v2662, v2849, v2852] : Fin 4 → IVec S16 32) a x).toNat < S2x4x32x32.size a := fun v2468 v2662 v2849 v2852 k0_hw2159 => k0_hw2159

def k0_chk2160 (v33 : IVec S16 32) (v35 : IVec S16 32) (v2468 : IVec S16 32) (v2662 : IVec S16 32) (v2854 : IVec S16 32) : Prop :=
  (∀ a x, ((![v2468, v2662, v2854, v33] : Fin 4 → IVec S16 32) a x).toNat < S2x4x94x96.size a) ∧
  (∀ a x, ((![v2468, v2662, v2854, v35] : Fin 4 → IVec S16 32) a x).toNat < S2x4x94x96.size a)
theorem k0_idx2863_inb : ∀ (v33 : IVec S16 32) (v35 : IVec S16 32) (v2468 : IVec S16 32) (v2662 : IVec S16 32) (v2854 : IVec S16 32) (k0_hw2160 : k0_chk2160 v33 v35 v2468 v2662 v2854), ∀ a x, ((![v2468, v2662, v2854, v33] : Fin 4 → IVec S16 32) a x).toNat < S2x4x94x96.size a := fun v33 v35 v2468 v2662 v2854 k0_hw2160 => k0_hw2160.1
theorem k0_idx2864_inb : ∀ (v33 : IVec S16 32) (v35 : IVec S16 32) (v2468 : IVec S16 32) (v2662 : IVec S16 32) (v2854 : IVec S16 32) (k0_hw2160 : k0_chk2160 v33 v35 v2468 v2662 v2854), ∀ a x, ((![v2468, v2662, v2854, v35] : Fin 4 → IVec S16 32) a x).toNat < S2x4x94x96.size a := fun v33 v35 v2468 v2662 v2854 k0_hw2160 => k0_hw2160.2

def k0_chk2161 (v30 : IVec S16 32) (v2468 : IVec S16 32) (v2855 : IVec S16 32) (v2856 : IVec S16 32) : Prop :=
  (∀ a x, ((![v2468, v2855, v2856, v30] : Fin 4 → IVec S16 32) a x).toNat < S2x4x32x32.size a)
theorem k0_idx2865_inb : ∀ (v30 : IVec S16 32) (v2468 : IVec S16 32) (v2855 : IVec S16 32) (v2856 : IVec S16 32) (k0_hw2161 : k0_chk2161 v30 v2468 v2855 v2856), ∀ a x, ((![v2468, v2855, v2856, v30] : Fin 4 → IVec S16 32) a x).toNat < S2x4x32x32.size a := fun v30 v2468 v2855 v2856 k0_hw2161 => k0_hw2161

def k0_chk2162 (v2468 : IVec S16 32) (v2855 : IVec S16 32) (v2856 : IVec S16 32) (v2859 : IVec S16 32) : Prop :=
  (∀ a x, ((![v2468, v2855, v2856, v2859] : Fin 4 → IVec S16 32) a x).toNat < S2x4x32x32.size a)
theorem k0_idx2866_inb : ∀ (v2468 : IVec S16 32) (v2855 : IVec S16 32) (v2856 : IVec S16 32) (v2859 : IVec S16 32) (k0_hw2162 : k0_chk2162 v2468 v2855 v2856 v2859), ∀ a x, ((![v2468, v2855, v2856, v2859] : Fin 4 → IVec S16 32) a x).toNat < S2x4x32x32.size a := fun v2468 v2855 v2856 v2859 k0_hw2162 => k0_hw2162

def k0_chk2163 (v33 : IVec S16 32) (v35 : IVec S16 32) (v2468 : IVec S16 32) (v2855 : IVec S16 32) (v2861 : IVec S16 32) : Prop :=
  (∀ a x, ((![v2468, v2855, v2861, v33] : Fin 4 → IVec S16 32) a x).toNat < S2x4x94x96.size a) ∧
  (∀ a x, ((![v2468, v2855, v2861, v35] : Fin 4 → IVec S16 32) a x).toNat < S2x4x94x96.size a)
theorem k0_idx2867_inb : ∀ (v33 : IVec S16 32) (v35 : IVec S16 32) (v2468 : IVec S16 32) (v2855 : IVec S16 32) (v2861 : IVec S16 32) (k0_hw2163 : k0_chk2163 v33 v35 v2468 v2855 v2861), ∀ a x, ((![v2468, v2855, v2861, v33] : Fin 4 → IVec S16 32) a x).toNat < S2x4x94x96.size a := fun v33 v35 v2468 v2855 v2861 k0_hw2163 => k0_hw2163.1
theorem k0_idx2868_inb : ∀ (v33 : IVec S16 32) (v35 : IVec S16 32) (v2468 : IVec S16 32) (v2855 : IVec S16 32) (v2861 : IVec S16 32) (k0_hw2163 : k0_chk2163 v33 v35 v2468 v2855 v2861), ∀ a x, ((![v2468, v2855, v2861, v35] : Fin 4 → IVec S16 32) a x).toNat < S2x4x94x96.size a := fun v33 v35 v2468 v2855 v2861 k0_hw2163 => k0_hw2163.2

def k0_chk2164 (v30 : IVec S16 32) (v2468 : IVec S16 32) (v2855 : IVec S16 32) (v2862 : IVec S16 32) : Prop :=
  (∀ a x, ((![v2468, v2855, v2862, v30] : Fin 4 → IVec S16 32) a x).toNat < S2x4x32x32.size a)
theorem k0_idx2869_inb : ∀ (v30 : IVec S16 32) (v2468 : IVec S16 32) (v2855 : IVec S16 32) (v2862 : IVec S16 32) (k0_hw2164 : k0_chk2164 v30 v2468 v2855 v2862), ∀ a x, ((![v2468, v2855, v2862, v30] : Fin 4 → IVec S16 32) a x).toNat < S2x4x32x32.size a := fun v30 v2468 v2855 v2862 k0_hw2164 => k0_hw2164

def k0_chk2165 (v2468 : IVec S16 32) (v2855 : IVec S16 32) (v2862 : IVec S16 32) (v2865 : IVec S16 32) : Prop :=
  (∀ a x, ((![v2468, v2855, v2862, v2865] : Fin 4 → IVec S16 32) a x).toNat < S2x4x32x32.size a)
theorem k0_idx2870_inb : ∀ (v2468 : IVec S16 32) (v2855 : IVec S16 32) (v2862 : IVec S16 32) (v2865 : IVec S16 32) (k0_hw2165 : k0_chk2165 v2468 v2855 v2862 v2865), ∀ a x, ((![v2468, v2855, v2862, v2865] : Fin 4 → IVec S16 32) a x).toNat < S2x4x32x32.size a := fun v2468 v2855 v2862 v2865 k0_hw2165 => k0_hw2165

def k0_chk2166 (v33 : IVec S16 32) (v35 : IVec S16 32) (v2468 : IVec S16 32) (v2855 : IVec S16 32) (v2867 : IVec S16 32) : Prop :=
  (∀ a x, ((![v2468, v2855, v2867, v33] : Fin 4 → IVec S16 32) a x).toNat < S2x4x94x96.size a) ∧
  (∀ a x, ((![v2468, v2855, v2867, v35] : Fin 4 → IVec S16 32) a x).toNat < S2x4x94x96.size a)
theorem k0_idx2871_inb : ∀ (v33 : IVec S16 32) (v35 : IVec S16 32) (v2468 : IVec S16 32) (v2855 : IVec S16 32) (v2867 : IVec S16 32) (k0_hw2166 : k0_chk2166 v33 v35 v2468 v2855 v2867), ∀ a x, ((![v2468, v2855, v2867, v33] : Fin 4 → IVec S16 32) a x).toNat < S2x4x94x96.size a := fun v33 v35 v2468 v2855 v2867 k0_hw2166 => k0_hw2166.1
theorem k0_idx2872_inb : ∀ (v33 : IVec S16 32) (v35 : IVec S16 32) (v2468 : IVec S16 32) (v2855 : IVec S16 32) (v2867 : IVec S16 32) (k0_hw2166 : k0_chk2166 v33 v35 v2468 v2855 v2867), ∀ a x, ((![v2468, v2855, v2867, v35] : Fin 4 → IVec S16 32) a x).toNat < S2x4x94x96.size a := fun v33 v35 v2468 v2855 v2867 k0_hw2166 => k0_hw2166.2

def k0_chk2167 (v30 : IVec S16 32) (v2468 : IVec S16 32) (v2855 : IVec S16 32) (v2868 : IVec S16 32) : Prop :=
  (∀ a x, ((![v2468, v2855, v2868, v30] : Fin 4 → IVec S16 32) a x).toNat < S2x4x32x32.size a)
theorem k0_idx2873_inb : ∀ (v30 : IVec S16 32) (v2468 : IVec S16 32) (v2855 : IVec S16 32) (v2868 : IVec S16 32) (k0_hw2167 : k0_chk2167 v30 v2468 v2855 v2868), ∀ a x, ((![v2468, v2855, v2868, v30] : Fin 4 → IVec S16 32) a x).toNat < S2x4x32x32.size a := fun v30 v2468 v2855 v2868 k0_hw2167 => k0_hw2167

def k0_chk2168 (v2468 : IVec S16 32) (v2855 : IVec S16 32) (v2868 : IVec S16 32) (v2871 : IVec S16 32) : Prop :=
  (∀ a x, ((![v2468, v2855, v2868, v2871] : Fin 4 → IVec S16 32) a x).toNat < S2x4x32x32.size a)
theorem k0_idx2874_inb : ∀ (v2468 : IVec S16 32) (v2855 : IVec S16 32) (v2868 : IVec S16 32) (v2871 : IVec S16 32) (k0_hw2168 : k0_chk2168 v2468 v2855 v2868 v2871), ∀ a x, ((![v2468, v2855, v2868, v2871] : Fin 4 → IVec S16 32) a x).toNat < S2x4x32x32.size a := fun v2468 v2855 v2868 v2871 k0_hw2168 => k0_hw2168

def k0_chk2169 (v33 : IVec S16 32) (v35 : IVec S16 32) (v2468 : IVec S16 32) (v2855 : IVec S16 32) (v2873 : IVec S16 32) : Prop :=
  (∀ a x, ((![v2468, v2855, v2873, v33] : Fin 4 → IVec S16 32) a x).toNat < S2x4x94x96.size a) ∧
  (∀ a x, ((![v2468, v2855, v2873, v35] : Fin 4 → IVec S16 32) a x).toNat < S2x4x94x96.size a)
theorem k0_idx2875_inb : ∀ (v33 : IVec S16 32) (v35 : IVec S16 32) (v2468 : IVec S16 32) (v2855 : IVec S16 32) (v2873 : IVec S16 32) (k0_hw2169 : k0_chk2169 v33 v35 v2468 v2855 v2873), ∀ a x, ((![v2468, v2855, v2873, v33] : Fin 4 → IVec S16 32) a x).toNat < S2x4x94x96.size a := fun v33 v35 v2468 v2855 v2873 k0_hw2169 => k0_hw2169.1
theorem k0_idx2876_inb : ∀ (v33 : IVec S16 32) (v35 : IVec S16 32) (v2468 : IVec S16 32) (v2855 : IVec S16 32) (v2873 : IVec S16 32) (k0_hw2169 : k0_chk2169 v33 v35 v2468 v2855 v2873), ∀ a x, ((![v2468, v2855, v2873, v35] : Fin 4 → IVec S16 32) a x).toNat < S2x4x94x96.size a := fun v33 v35 v2468 v2855 v2873 k0_hw2169 => k0_hw2169.2

def k0_chk2170 (v30 : IVec S16 32) (v2468 : IVec S16 32) (v2855 : IVec S16 32) (v2874 : IVec S16 32) : Prop :=
  (∀ a x, ((![v2468, v2855, v2874, v30] : Fin 4 → IVec S16 32) a x).toNat < S2x4x32x32.size a)
theorem k0_idx2877_inb : ∀ (v30 : IVec S16 32) (v2468 : IVec S16 32) (v2855 : IVec S16 32) (v2874 : IVec S16 32) (k0_hw2170 : k0_chk2170 v30 v2468 v2855 v2874), ∀ a x, ((![v2468, v2855, v2874, v30] : Fin 4 → IVec S16 32) a x).toNat < S2x4x32x32.size a := fun v30 v2468 v2855 v2874 k0_hw2170 => k0_hw2170

def k0_chk2171 (v2468 : IVec S16 32) (v2855 : IVec S16 32) (v2874 : IVec S16 32) (v2877 : IVec S16 32) : Prop :=
  (∀ a x, ((![v2468, v2855, v2874, v2877] : Fin 4 → IVec S16 32) a x).toNat < S2x4x32x32.size a)
theorem k0_idx2878_inb : ∀ (v2468 : IVec S16 32) (v2855 : IVec S16 32) (v2874 : IVec S16 32) (v2877 : IVec S16 32) (k0_hw2171 : k0_chk2171 v2468 v2855 v2874 v2877), ∀ a x, ((![v2468, v2855, v2874, v2877] : Fin 4 → IVec S16 32) a x).toNat < S2x4x32x32.size a := fun v2468 v2855 v2874 v2877 k0_hw2171 => k0_hw2171

def k0_chk2172 (v33 : IVec S16 32) (v35 : IVec S16 32) (v2468 : IVec S16 32) (v2855 : IVec S16 32) (v2879 : IVec S16 32) : Prop :=
  (∀ a x, ((![v2468, v2855, v2879, v33] : Fin 4 → IVec S16 32) a x).toNat < S2x4x94x96.size a) ∧
  (∀ a x, ((![v2468, v2855, v2879, v35] : Fin 4 → IVec S16 32) a x).toNat < S2x4x94x96.size a)
theorem k0_idx2879_inb : ∀ (v33 : IVec S16 32) (v35 : IVec S16 32) (v2468 : IVec S16 32) (v2855 : IVec S16 32) (v2879 : IVec S16 32) (k0_hw2172 : k0_chk2172 v33 v35 v2468 v2855 v2879), ∀ a x, ((![v2468, v2855, v2879, v33] : Fin 4 → IVec S16 32) a x).toNat < S2x4x94x96.size a := fun v33 v35 v2468 v2855 v2879 k0_hw2172 => k0_hw2172.1
theorem k0_idx2880_inb : ∀ (v33 : IVec S16 32) (v35 : IVec S16 32) (v2468 : IVec S16 32) (v2855 : IVec S16 32) (v2879 : IVec S16 32) (k0_hw2172 : k0_chk2172 v33 v35 v2468 v2855 v2879), ∀ a x, ((![v2468, v2855, v2879, v35] : Fin 4 → IVec S16 32) a x).toNat < S2x4x94x96.size a := fun v33 v35 v2468 v2855 v2879 k0_hw2172 => k0_hw2172.2

def k0_chk2173 (v30 : IVec S16 32) (v2468 : IVec S16 32) (v2855 : IVec S16 32) (v2880 : IVec S16 32) : Prop :=
  (∀ a x, ((![v2468, v2855, v2880, v30] : Fin 4 → IVec S16 32) a x).toNat < S2x4x32x32.size a)
theorem k0_idx2881_inb : ∀ (v30 : IVec S16 32) (v2468 : IVec S16 32) (v2855 : IVec S16 32) (v2880 : IVec S16 32) (k0_hw2173 : k0_chk2173 v30 v2468 v2855 v2880), ∀ a x, ((![v2468, v2855, v2880, v30] : Fin 4 → IVec S16 32) a x).toNat < S2x4x32x32.size a := fun v30 v2468 v2855 v2880 k0_hw2173 => k0_hw2173

def k0_chk2174 (v2468 : IVec S16 32) (v2855 : IVec S16 32) (v2880 : IVec S16 32) (v2883 : IVec S16 32) : Prop :=
  (∀ a x, ((![v2468, v2855, v2880, v2883] : Fin 4 → IVec S16 32) a x).toNat < S2x4x32x32.size a)
theorem k0_idx2882_inb : ∀ (v2468 : IVec S16 32) (v2855 : IVec S16 32) (v2880 : IVec S16 32) (v2883 : IVec S16 32) (k0_hw2174 : k0_chk2174 v2468 v2855 v2880 v2883), ∀ a x, ((![v2468, v2855, v2880, v2883] : Fin 4 → IVec S16 32) a x).toNat < S2x4x32x32.size a := fun v2468 v2855 v2880 v2883 k0_hw2174 => k0_hw2174

def k0_chk2175 (v33 : IVec S16 32) (v35 : IVec S16 32) (v2468 : IVec S16 32) (v2855 : IVec S16 32) (v2885 : IVec S16 32) : Prop :=
  (∀ a x, ((![v2468, v2855, v2885, v33] : Fin 4 → IVec S16 32) a x).toNat < S2x4x94x96.size a) ∧
  (∀ a x, ((![v2468, v2855, v2885, v35] : Fin 4 → IVec S16 32) a x).toNat < S2x4x94x96.size a)
theorem k0_idx2883_inb : ∀ (v33 : IVec S16 32) (v35 : IVec S16 32) (v2468 : IVec S16 32) (v2855 : IVec S16 32) (v2885 : IVec S16 32) (k0_hw2175 : k0_chk2175 v33 v35 v2468 v2855 v2885), ∀ a x, ((![v2468, v2855, v2885, v33] : Fin 4 → IVec S16 32) a x).toNat < S2x4x94x96.size a := fun v33 v35 v2468 v2855 v2885 k0_hw2175 => k0_hw2175.1
theorem k0_idx2884_inb : ∀ (v33 : IVec S16 32) (v35 : IVec S16 32) (v2468 : IVec S16 32) (v2855 : IVec S16 32) (v2885 : IVec S16 32) (k0_hw2175 : k0_chk2175 v33 v35 v2468 v2855 v2885), ∀ a x, ((![v2468, v2855, v2885, v35] : Fin 4 → IVec S16 32) a x).toNat < S2x4x94x96.size a := fun v33 v35 v2468 v2855 v2885 k0_hw2175 => k0_hw2175.2

def k0_chk2176 (v30 : IVec S16 32) (v2468 : IVec S16 32) (v2855 : IVec S16 32) (v2886 : IVec S16 32) : Prop :=
  (∀ a x, ((![v2468, v2855, v2886, v30] : Fin 4 → IVec S16 32) a x).toNat < S2x4x32x32.size a)
theorem k0_idx2885_inb : ∀ (v30 : IVec S16 32) (v2468 : IVec S16 32) (v2855 : IVec S16 32) (v2886 : IVec S16 32) (k0_hw2176 : k0_chk2176 v30 v2468 v2855 v2886), ∀ a x, ((![v2468, v2855, v2886, v30] : Fin 4 → IVec S16 32) a x).toNat < S2x4x32x32.size a := fun v30 v2468 v2855 v2886 k0_hw2176 => k0_hw2176

def k0_chk2177 (v2468 : IVec S16 32) (v2855 : IVec S16 32) (v2886 : IVec S16 32) (v2889 : IVec S16 32) : Prop :=
  (∀ a x, ((![v2468, v2855, v2886, v2889] : Fin 4 → IVec S16 32) a x).toNat < S2x4x32x32.size a)
theorem k0_idx2886_inb : ∀ (v2468 : IVec S16 32) (v2855 : IVec S16 32) (v2886 : IVec S16 32) (v2889 : IVec S16 32) (k0_hw2177 : k0_chk2177 v2468 v2855 v2886 v2889), ∀ a x, ((![v2468, v2855, v2886, v2889] : Fin 4 → IVec S16 32) a x).toNat < S2x4x32x32.size a := fun v2468 v2855 v2886 v2889 k0_hw2177 => k0_hw2177

def k0_chk2178 (v33 : IVec S16 32) (v35 : IVec S16 32) (v2468 : IVec S16 32) (v2855 : IVec S16 32) (v2891 : IVec S16 32) : Prop :=
  (∀ a x, ((![v2468, v2855, v2891, v33] : Fin 4 → IVec S16 32) a x).toNat < S2x4x94x96.size a) ∧
  (∀ a x, ((![v2468, v2855, v2891, v35] : Fin 4 → IVec S16 32) a x).toNat < S2x4x94x96.size a)
theorem k0_idx2887_inb : ∀ (v33 : IVec S16 32) (v35 : IVec S16 32) (v2468 : IVec S16 32) (v2855 : IVec S16 32) (v2891 : IVec S16 32) (k0_hw2178 : k0_chk2178 v33 v35 v2468 v2855 v2891), ∀ a x, ((![v2468, v2855, v2891, v33] : Fin 4 → IVec S16 32) a x).toNat < S2x4x94x96.size a := fun v33 v35 v2468 v2855 v2891 k0_hw2178 => k0_hw2178.1
theorem k0_idx2888_inb : ∀ (v33 : IVec S16 32) (v35 : IVec S16 32) (v2468 : IVec S16 32) (v2855 : IVec S16 32) (v2891 : IVec S16 32) (k0_hw2178 : k0_chk2178 v33 v35 v2468 v2855 v2891), ∀ a x, ((![v2468, v2855, v2891, v35] : Fin 4 → IVec S16 32) a x).toNat < S2x4x94x96.size a := fun v33 v35 v2468 v2855 v2891 k0_hw2178 => k0_hw2178.2

def k0_chk2179 (v30 : IVec S16 32) (v2468 : IVec S16 32) (v2855 : IVec S16 32) (v2892 : IVec S16 32) : Prop :=
  (∀ a x, ((![v2468, v2855, v2892, v30] : Fin 4 → IVec S16 32) a x).toNat < S2x4x32x32.size a)
theorem k0_idx2889_inb : ∀ (v30 : IVec S16 32) (v2468 : IVec S16 32) (v2855 : IVec S16 32) (v2892 : IVec S16 32) (k0_hw2179 : k0_chk2179 v30 v2468 v2855 v2892), ∀ a x, ((![v2468, v2855, v2892, v30] : Fin 4 → IVec S16 32) a x).toNat < S2x4x32x32.size a := fun v30 v2468 v2855 v2892 k0_hw2179 => k0_hw2179

def k0_chk2180 (v2468 : IVec S16 32) (v2855 : IVec S16 32) (v2892 : IVec S16 32) (v2895 : IVec S16 32) : Prop :=
  (∀ a x, ((![v2468, v2855, v2892, v2895] : Fin 4 → IVec S16 32) a x).toNat < S2x4x32x32.size a)
theorem k0_idx2890_inb : ∀ (v2468 : IVec S16 32) (v2855 : IVec S16 32) (v2892 : IVec S16 32) (v2895 : IVec S16 32) (k0_hw2180 : k0_chk2180 v2468 v2855 v2892 v2895), ∀ a x, ((![v2468, v2855, v2892, v2895] : Fin 4 → IVec S16 32) a x).toNat < S2x4x32x32.size a := fun v2468 v2855 v2892 v2895 k0_hw2180 => k0_hw2180

def k0_chk2181 (v33 : IVec S16 32) (v35 : IVec S16 32) (v2468 : IVec S16 32) (v2855 : IVec S16 32) (v2897 : IVec S16 32) : Prop :=
  (∀ a x, ((![v2468, v2855, v2897, v33] : Fin 4 → IVec S16 32) a x).toNat < S2x4x94x96.size a) ∧
  (∀ a x, ((![v2468, v2855, v2897, v35] : Fin 4 → IVec S16 32) a x).toNat < S2x4x94x96.size a)
theorem k0_idx2891_inb : ∀ (v33 : IVec S16 32) (v35 : IVec S16 32) (v2468 : IVec S16 32) (v2855 : IVec S16 32) (v2897 : IVec S16 32) (k0_hw2181 : k0_chk2181 v33 v35 v2468 v2855 v2897), ∀ a x, ((![v2468, v2855, v2897, v33] : Fin 4 → IVec S16 32) a x).toNat < S2x4x94x96.size a := fun v33 v35 v2468 v2855 v2897 k0_hw2181 => k0_hw2181.1
theorem k0_idx2892_inb : ∀ (v33 : IVec S16 32) (v35 : IVec S16 32) (v2468 : IVec S16 32) (v2855 : IVec S16 32) (v2897 : IVec S16 32) (k0_hw2181 : k0_chk2181 v33 v35 v2468 v2855 v2897), ∀ a x, ((![v2468, v2855, v2897, v35] : Fin 4 → IVec S16 32) a x).toNat < S2x4x94x96.size a := fun v33 v35 v2468 v2855 v2897 k0_hw2181 => k0_hw2181.2

def k0_chk2182 (v30 : IVec S16 32) (v2468 : IVec S16 32) (v2855 : IVec S16 32) (v2898 : IVec S16 32) : Prop :=
  (∀ a x, ((![v2468, v2855, v2898, v30] : Fin 4 → IVec S16 32) a x).toNat < S2x4x32x32.size a)
theorem k0_idx2893_inb : ∀ (v30 : IVec S16 32) (v2468 : IVec S16 32) (v2855 : IVec S16 32) (v2898 : IVec S16 32) (k0_hw2182 : k0_chk2182 v30 v2468 v2855 v2898), ∀ a x, ((![v2468, v2855, v2898, v30] : Fin 4 → IVec S16 32) a x).toNat < S2x4x32x32.size a := fun v30 v2468 v2855 v2898 k0_hw2182 => k0_hw2182

def k0_chk2183 (v2468 : IVec S16 32) (v2855 : IVec S16 32) (v2898 : IVec S16 32) (v2901 : IVec S16 32) : Prop :=
  (∀ a x, ((![v2468, v2855, v2898, v2901] : Fin 4 → IVec S16 32) a x).toNat < S2x4x32x32.size a)
theorem k0_idx2894_inb : ∀ (v2468 : IVec S16 32) (v2855 : IVec S16 32) (v2898 : IVec S16 32) (v2901 : IVec S16 32) (k0_hw2183 : k0_chk2183 v2468 v2855 v2898 v2901), ∀ a x, ((![v2468, v2855, v2898, v2901] : Fin 4 → IVec S16 32) a x).toNat < S2x4x32x32.size a := fun v2468 v2855 v2898 v2901 k0_hw2183 => k0_hw2183

def k0_chk2184 (v33 : IVec S16 32) (v35 : IVec S16 32) (v2468 : IVec S16 32) (v2855 : IVec S16 32) (v2903 : IVec S16 32) : Prop :=
  (∀ a x, ((![v2468, v2855, v2903, v33] : Fin 4 → IVec S16 32) a x).toNat < S2x4x94x96.size a) ∧
  (∀ a x, ((![v2468, v2855, v2903, v35] : Fin 4 → IVec S16 32) a x).toNat < S2x4x94x96.size a)
theorem k0_idx2895_inb : ∀ (v33 : IVec S16 32) (v35 : IVec S16 32) (v2468 : IVec S16 32) (v2855 : IVec S16 32) (v2903 : IVec S16 32) (k0_hw2184 : k0_chk2184 v33 v35 v2468 v2855 v2903), ∀ a x, ((![v2468, v2855, v2903, v33] : Fin 4 → IVec S16 32) a x).toNat < S2x4x94x96.size a := fun v33 v35 v2468 v2855 v2903 k0_hw2184 => k0_hw2184.1
theorem k0_idx2896_inb : ∀ (v33 : IVec S16 32) (v35 : IVec S16 32) (v2468 : IVec S16 32) (v2855 : IVec S16 32) (v2903 : IVec S16 32) (k0_hw2184 : k0_chk2184 v33 v35 v2468 v2855 v2903), ∀ a x, ((![v2468, v2855, v2903, v35] : Fin 4 → IVec S16 32) a x).toNat < S2x4x94x96.size a := fun v33 v35 v2468 v2855 v2903 k0_hw2184 => k0_hw2184.2

def k0_chk2185 (v30 : IVec S16 32) (v2468 : IVec S16 32) (v2855 : IVec S16 32) (v2904 : IVec S16 32) : Prop :=
  (∀ a x, ((![v2468, v2855, v2904, v30] : Fin 4 → IVec S16 32) a x).toNat < S2x4x32x32.size a)
theorem k0_idx2897_inb : ∀ (v30 : IVec S16 32) (v2468 : IVec S16 32) (v2855 : IVec S16 32) (v2904 : IVec S16 32) (k0_hw2185 : k0_chk2185 v30 v2468 v2855 v2904), ∀ a x, ((![v2468, v2855, v2904, v30] : Fin 4 → IVec S16 32) a x).toNat < S2x4x32x32.size a := fun v30 v2468 v2855 v2904 k0_hw2185 => k0_hw2185

def k0_chk2186 (v2468 : IVec S16 32) (v2855 : IVec S16 32) (v2904 : IVec S16 32) (v2907 : IVec S16 32) : Prop :=
  (∀ a x, ((![v2468, v2855, v2904, v2907] : Fin 4 → IVec S16 32) a x).toNat < S2x4x32x32.size a)
theorem k0_idx2898_inb : ∀ (v2468 : IVec S16 32) (v2855 : IVec S16 32) (v2904 : IVec S16 32) (v2907 : IVec S16 32) (k0_hw2186 : k0_chk2186 v2468 v2855 v2904 v2907), ∀ a x, ((![v2468, v2855, v2904, v2907] : Fin 4 → IVec S16 32) a x).toNat < S2x4x32x32.size a := fun v2468 v2855 v2904 v2907 k0_hw2186 => k0_hw2186

def k0_chk2187 (v33 : IVec S16 32) (v35 : IVec S16 32) (v2468 : IVec S16 32) (v2855 : IVec S16 32) (v2909 : IVec S16 32) : Prop :=
  (∀ a x, ((![v2468, v2855, v2909, v33] : Fin 4 → IVec S16 32) a x).toNat < S2x4x94x96.size a) ∧
  (∀ a x, ((![v2468, v2855, v2909, v35] : Fin 4 → IVec S16 32) a x).toNat < S2x4x94x96.size a)
theorem k0_idx2899_inb : ∀ (v33 : IVec S16 32) (v35 : IVec S16 32) (v2468 : IVec S16 32) (v2855 : IVec S16 32) (v2909 : IVec S16 32) (k0_hw2187 : k0_chk2187 v33 v35 v2468 v2855 v2909), ∀ a x, ((![v2468, v2855, v2909, v33] : Fin 4 → IVec S16 32) a x).toNat < S2x4x94x96.size a := fun v33 v35 v2468 v2855 v2909 k0_hw2187 => k0_hw2187.1
theorem k0_idx2900_inb : ∀ (v33 : IVec S16 32) (v35 : IVec S16 32) (v2468 : IVec S16 32) (v2855 : IVec S16 32) (v2909 : IVec S16 32) (k0_hw2187 : k0_chk2187 v33 v35 v2468 v2855 v2909), ∀ a x, ((![v2468, v2855, v2909, v35] : Fin 4 → IVec S16 32) a x).toNat < S2x4x94x96.size a := fun v33 v35 v2468 v2855 v2909 k0_hw2187 => k0_hw2187.2

def k0_chk2188 (v30 : IVec S16 32) (v2468 : IVec S16 32) (v2855 : IVec S16 32) (v2910 : IVec S16 32) : Prop :=
  (∀ a x, ((![v2468, v2855, v2910, v30] : Fin 4 → IVec S16 32) a x).toNat < S2x4x32x32.size a)
theorem k0_idx2901_inb : ∀ (v30 : IVec S16 32) (v2468 : IVec S16 32) (v2855 : IVec S16 32) (v2910 : IVec S16 32) (k0_hw2188 : k0_chk2188 v30 v2468 v2855 v2910), ∀ a x, ((![v2468, v2855, v2910, v30] : Fin 4 → IVec S16 32) a x).toNat < S2x4x32x32.size a := fun v30 v2468 v2855 v2910 k0_hw2188 => k0_hw2188

def k0_chk2189 (v2468 : IVec S16 32) (v2855 : IVec S16 32) (v2910 : IVec S16 32) (v2913 : IVec S16 32) : Prop :=
  (∀ a x, ((![v2468, v2855, v2910, v2913] : Fin 4 → IVec S16 32) a x).toNat < S2x4x32x32.size a)
theorem k0_idx2902_inb : ∀ (v2468 : IVec S16 32) (v2855 : IVec S16 32) (v2910 : IVec S16 32) (v2913 : IVec S16 32) (k0_hw2189 : k0_chk2189 v2468 v2855 v2910 v2913), ∀ a x, ((![v2468, v2855, v2910, v2913] : Fin 4 → IVec S16 32) a x).toNat < S2x4x32x32.size a := fun v2468 v2855 v2910 v2913 k0_hw2189 => k0_hw2189

def k0_chk2190 (v33 : IVec S16 32) (v35 : IVec S16 32) (v2468 : IVec S16 32) (v2855 : IVec S16 32) (v2915 : IVec S16 32) : Prop :=
  (∀ a x, ((![v2468, v2855, v2915, v33] : Fin 4 → IVec S16 32) a x).toNat < S2x4x94x96.size a) ∧
  (∀ a x, ((![v2468, v2855, v2915, v35] : Fin 4 → IVec S16 32) a x).toNat < S2x4x94x96.size a)
theorem k0_idx2903_inb : ∀ (v33 : IVec S16 32) (v35 : IVec S16 32) (v2468 : IVec S16 32) (v2855 : IVec S16 32) (v2915 : IVec S16 32) (k0_hw2190 : k0_chk2190 v33 v35 v2468 v2855 v2915), ∀ a x, ((![v2468, v2855, v2915, v33] : Fin 4 → IVec S16 32) a x).toNat < S2x4x94x96.size a := fun v33 v35 v2468 v2855 v2915 k0_hw2190 => k0_hw2190.1
theorem k0_idx2904_inb : ∀ (v33 : IVec S16 32) (v35 : IVec S16 32) (v2468 : IVec S16 32) (v2855 : IVec S16 32) (v2915 : IVec S16 32) (k0_hw2190 : k0_chk2190 v33 v35 v2468 v2855 v2915), ∀ a x, ((![v2468, v2855, v2915, v35] : Fin 4 → IVec S16 32) a x).toNat < S2x4x94x96.size a := fun v33 v35 v2468 v2855 v2915 k0_hw2190 => k0_hw2190.2

def k0_chk2191 (v30 : IVec S16 32) (v2468 : IVec S16 32) (v2855 : IVec S16 32) (v2916 : IVec S16 32) : Prop :=
  (∀ a x, ((![v2468, v2855, v2916, v30] : Fin 4 → IVec S16 32) a x).toNat < S2x4x32x32.size a)
theorem k0_idx2905_inb : ∀ (v30 : IVec S16 32) (v2468 : IVec S16 32) (v2855 : IVec S16 32) (v2916 : IVec S16 32) (k0_hw2191 : k0_chk2191 v30 v2468 v2855 v2916), ∀ a x, ((![v2468, v2855, v2916, v30] : Fin 4 → IVec S16 32) a x).toNat < S2x4x32x32.size a := fun v30 v2468 v2855 v2916 k0_hw2191 => k0_hw2191

def k0_chk2192 (v2468 : IVec S16 32) (v2855 : IVec S16 32) (v2916 : IVec S16 32) (v2919 : IVec S16 32) : Prop :=
  (∀ a x, ((![v2468, v2855, v2916, v2919] : Fin 4 → IVec S16 32) a x).toNat < S2x4x32x32.size a)
theorem k0_idx2906_inb : ∀ (v2468 : IVec S16 32) (v2855 : IVec S16 32) (v2916 : IVec S16 32) (v2919 : IVec S16 32) (k0_hw2192 : k0_chk2192 v2468 v2855 v2916 v2919), ∀ a x, ((![v2468, v2855, v2916, v2919] : Fin 4 → IVec S16 32) a x).toNat < S2x4x32x32.size a := fun v2468 v2855 v2916 v2919 k0_hw2192 => k0_hw2192

def k0_chk2193 (v33 : IVec S16 32) (v35 : IVec S16 32) (v2468 : IVec S16 32) (v2855 : IVec S16 32) (v2921 : IVec S16 32) : Prop :=
  (∀ a x, ((![v2468, v2855, v2921, v33] : Fin 4 → IVec S16 32) a x).toNat < S2x4x94x96.size a) ∧
  (∀ a x, ((![v2468, v2855, v2921, v35] : Fin 4 → IVec S16 32) a x).toNat < S2x4x94x96.size a)
theorem k0_idx2907_inb : ∀ (v33 : IVec S16 32) (v35 : IVec S16 32) (v2468 : IVec S16 32) (v2855 : IVec S16 32) (v2921 : IVec S16 32) (k0_hw2193 : k0_chk2193 v33 v35 v2468 v2855 v2921), ∀ a x, ((![v2468, v2855, v2921, v33] : Fin 4 → IVec S16 32) a x).toNat < S2x4x94x96.size a := fun v33 v35 v2468 v2855 v2921 k0_hw2193 => k0_hw2193.1
theorem k0_idx2908_inb : ∀ (v33 : IVec S16 32) (v35 : IVec S16 32) (v2468 : IVec S16 32) (v2855 : IVec S16 32) (v2921 : IVec S16 32) (k0_hw2193 : k0_chk2193 v33 v35 v2468 v2855 v2921), ∀ a x, ((![v2468, v2855, v2921, v35] : Fin 4 → IVec S16 32) a x).toNat < S2x4x94x96.size a := fun v33 v35 v2468 v2855 v2921 k0_hw2193 => k0_hw2193.2

def k0_chk2194 (v30 : IVec S16 32) (v2468 : IVec S16 32) (v2855 : IVec S16 32) (v2922 : IVec S16 32) : Prop :=
  (∀ a x, ((![v2468, v2855, v2922, v30] : Fin 4 → IVec S16 32) a x).toNat < S2x4x32x32.size a)
theorem k0_idx2909_inb : ∀ (v30 : IVec S16 32) (v2468 : IVec S16 32) (v2855 : IVec S16 32) (v2922 : IVec S16 32) (k0_hw2194 : k0_chk2194 v30 v2468 v2855 v2922), ∀ a x, ((![v2468, v2855, v2922, v30] : Fin 4 → IVec S16 32) a x).toNat < S2x4x32x32.size a := fun v30 v2468 v2855 v2922 k0_hw2194 => k0_hw2194

def k0_chk2195 (v2468 : IVec S16 32) (v2855 : IVec S16 32) (v2922 : IVec S16 32) (v2925 : IVec S16 32) : Prop :=
  (∀ a x, ((![v2468, v2855, v2922, v2925] : Fin 4 → IVec S16 32) a x).toNat < S2x4x32x32.size a)
theorem k0_idx2910_inb : ∀ (v2468 : IVec S16 32) (v2855 : IVec S16 32) (v2922 : IVec S16 32) (v2925 : IVec S16 32) (k0_hw2195 : k0_chk2195 v2468 v2855 v2922 v2925), ∀ a x, ((![v2468, v2855, v2922, v2925] : Fin 4 → IVec S16 32) a x).toNat < S2x4x32x32.size a := fun v2468 v2855 v2922 v2925 k0_hw2195 => k0_hw2195

def k0_chk2196 (v33 : IVec S16 32) (v35 : IVec S16 32) (v2468 : IVec S16 32) (v2855 : IVec S16 32) (v2927 : IVec S16 32) : Prop :=
  (∀ a x, ((![v2468, v2855, v2927, v33] : Fin 4 → IVec S16 32) a x).toNat < S2x4x94x96.size a) ∧
  (∀ a x, ((![v2468, v2855, v2927, v35] : Fin 4 → IVec S16 32) a x).toNat < S2x4x94x96.size a)
theorem k0_idx2911_inb : ∀ (v33 : IVec S16 32) (v35 : IVec S16 32) (v2468 : IVec S16 32) (v2855 : IVec S16 32) (v2927 : IVec S16 32) (k0_hw2196 : k0_chk2196 v33 v35 v2468 v2855 v2927), ∀ a x, ((![v2468, v2855, v2927, v33] : Fin 4 → IVec S16 32) a x).toNat < S2x4x94x96.size a := fun v33 v35 v2468 v2855 v2927 k0_hw2196 => k0_hw2196.1
theorem k0_idx2912_inb : ∀ (v33 : IVec S16 32) (v35 : IVec S16 32) (v2468 : IVec S16 32) (v2855 : IVec S16 32) (v2927 : IVec S16 32) (k0_hw2196 : k0_chk2196 v33 v35 v2468 v2855 v2927), ∀ a x, ((![v2468, v2855, v2927, v35] : Fin 4 → IVec S16 32) a x).toNat < S2x4x94x96.size a := fun v33 v35 v2468 v2855 v2927 k0_hw2196 => k0_hw2196.2

def k0_chk2197 (v30 : IVec S16 32) (v2468 : IVec S16 32) (v2855 : IVec S16 32) (v2928 : IVec S16 32) : Prop :=
  (∀ a x, ((![v2468, v2855, v2928, v30] : Fin 4 → IVec S16 32) a x).toNat < S2x4x32x32.size a)
theorem k0_idx2913_inb : ∀ (v30 : IVec S16 32) (v2468 : IVec S16 32) (v2855 : IVec S16 32) (v2928 : IVec S16 32) (k0_hw2197 : k0_chk2197 v30 v2468 v2855 v2928), ∀ a x, ((![v2468, v2855, v2928, v30] : Fin 4 → IVec S16 32) a x).toNat < S2x4x32x32.size a := fun v30 v2468 v2855 v2928 k0_hw2197 => k0_hw2197

def k0_chk2198 (v2468 : IVec S16 32) (v2855 : IVec S16 32) (v2928 : IVec S16 32) (v2931 : IVec S16 32) : Prop :=
  (∀ a x, ((![v2468, v2855, v2928, v2931] : Fin 4 → IVec S16 32) a x).toNat < S2x4x32x32.size a)
theorem k0_idx2914_inb : ∀ (v2468 : IVec S16 32) (v2855 : IVec S16 32) (v2928 : IVec S16 32) (v2931 : IVec S16 32) (k0_hw2198 : k0_chk2198 v2468 v2855 v2928 v2931), ∀ a x, ((![v2468, v2855, v2928, v2931] : Fin 4 → IVec S16 32) a x).toNat < S2x4x32x32.size a := fun v2468 v2855 v2928 v2931 k0_hw2198 => k0_hw2198

def k0_chk2199 (v33 : IVec S16 32) (v35 : IVec S16 32) (v2468 : IVec S16 32) (v2855 : IVec S16 32) (v2933 : IVec S16 32) : Prop :=
  (∀ a x, ((![v2468, v2855, v2933, v33] : Fin 4 → IVec S16 32) a x).toNat < S2x4x94x96.size a) ∧
  (∀ a x, ((![v2468, v2855, v2933, v35] : Fin 4 → IVec S16 32) a x).toNat < S2x4x94x96.size a)
theorem k0_idx2915_inb : ∀ (v33 : IVec S16 32) (v35 : IVec S16 32) (v2468 : IVec S16 32) (v2855 : IVec S16 32) (v2933 : IVec S16 32) (k0_hw2199 : k0_chk2199 v33 v35 v2468 v2855 v2933), ∀ a x, ((![v2468, v2855, v2933, v33] : Fin 4 → IVec S16 32) a x).toNat < S2x4x94x96.size a := fun v33 v35 v2468 v2855 v2933 k0_hw2199 => k0_hw2199.1
theorem k0_idx2916_inb : ∀ (v33 : IVec S16 32) (v35 : IVec S16 32) (v2468 : IVec S16 32) (v2855 : IVec S16 32) (v2933 : IVec S16 32) (k0_hw2199 : k0_chk2199 v33 v35 v2468 v2855 v2933), ∀ a x, ((![v2468, v2855, v2933, v35] : Fin 4 → IVec S16 32) a x).toNat < S2x4x94x96.size a := fun v33 v35 v2468 v2855 v2933 k0_hw2199 => k0_hw2199.2

def k0_chk2200 (v30 : IVec S16 32) (v2468 : IVec S16 32) (v2855 : IVec S16 32) (v2934 : IVec S16 32) : Prop :=
  (∀ a x, ((![v2468, v2855, v2934, v30] : Fin 4 → IVec S16 32) a x).toNat < S2x4x32x32.size a)
theorem k0_idx2917_inb : ∀ (v30 : IVec S16 32) (v2468 : IVec S16 32) (v2855 : IVec S16 32) (v2934 : IVec S16 32) (k0_hw2200 : k0_chk2200 v30 v2468 v2855 v2934), ∀ a x, ((![v2468, v2855, v2934, v30] : Fin 4 → IVec S16 32) a x).toNat < S2x4x32x32.size a := fun v30 v2468 v2855 v2934 k0_hw2200 => k0_hw2200

def k0_chk2201 (v2468 : IVec S16 32) (v2855 : IVec S16 32) (v2934 : IVec S16 32) (v2937 : IVec S16 32) : Prop :=
  (∀ a x, ((![v2468, v2855, v2934, v2937] : Fin 4 → IVec S16 32) a x).toNat < S2x4x32x32.size a)
theorem k0_idx2918_inb : ∀ (v2468 : IVec S16 32) (v2855 : IVec S16 32) (v2934 : IVec S16 32) (v2937 : IVec S16 32) (k0_hw2201 : k0_chk2201 v2468 v2855 v2934 v2937), ∀ a x, ((![v2468, v2855, v2934, v2937] : Fin 4 → IVec S16 32) a x).toNat < S2x4x32x32.size a := fun v2468 v2855 v2934 v2937 k0_hw2201 => k0_hw2201

def k0_chk2202 (v33 : IVec S16 32) (v35 : IVec S16 32) (v2468 : IVec S16 32) (v2855 : IVec S16 32) (v2939 : IVec S16 32) : Prop :=
  (∀ a x, ((![v2468, v2855, v2939, v33] : Fin 4 → IVec S16 32) a x).toNat < S2x4x94x96.size a) ∧
  (∀ a x, ((![v2468, v2855, v2939, v35] : Fin 4 → IVec S16 32) a x).toNat < S2x4x94x96.size a)
theorem k0_idx2919_inb : ∀ (v33 : IVec S16 32) (v35 : IVec S16 32) (v2468 : IVec S16 32) (v2855 : IVec S16 32) (v2939 : IVec S16 32) (k0_hw2202 : k0_chk2202 v33 v35 v2468 v2855 v2939), ∀ a x, ((![v2468, v2855, v2939, v33] : Fin 4 → IVec S16 32) a x).toNat < S2x4x94x96.size a := fun v33 v35 v2468 v2855 v2939 k0_hw2202 => k0_hw2202.1
theorem k0_idx2920_inb : ∀ (v33 : IVec S16 32) (v35 : IVec S16 32) (v2468 : IVec S16 32) (v2855 : IVec S16 32) (v2939 : IVec S16 32) (k0_hw2202 : k0_chk2202 v33 v35 v2468 v2855 v2939), ∀ a x, ((![v2468, v2855, v2939, v35] : Fin 4 → IVec S16 32) a x).toNat < S2x4x94x96.size a := fun v33 v35 v2468 v2855 v2939 k0_hw2202 => k0_hw2202.2

def k0_chk2203 (v30 : IVec S16 32) (v2468 : IVec S16 32) (v2855 : IVec S16 32) (v2940 : IVec S16 32) : Prop :=
  (∀ a x, ((![v2468, v2855, v2940, v30] : Fin 4 → IVec S16 32) a x).toNat < S2x4x32x32.size a)
theorem k0_idx2921_inb : ∀ (v30 : IVec S16 32) (v2468 : IVec S16 32) (v2855 : IVec S16 32) (v2940 : IVec S16 32) (k0_hw2203 : k0_chk2203 v30 v2468 v2855 v2940), ∀ a x, ((![v2468, v2855, v2940, v30] : Fin 4 → IVec S16 32) a x).toNat < S2x4x32x32.size a := fun v30 v2468 v2855 v2940 k0_hw2203 => k0_hw2203

def k0_chk2204 (v2468 : IVec S16 32) (v2855 : IVec S16 32) (v2940 : IVec S16 32) (v2943 : IVec S16 32) : Prop :=
  (∀ a x, ((![v2468, v2855, v2940, v2943] : Fin 4 → IVec S16 32) a x).toNat < S2x4x32x32.size a)
theorem k0_idx2922_inb : ∀ (v2468 : IVec S16 32) (v2855 : IVec S16 32) (v2940 : IVec S16 32) (v2943 : IVec S16 32) (k0_hw2204 : k0_chk2204 v2468 v2855 v2940 v2943), ∀ a x, ((![v2468, v2855, v2940, v2943] : Fin 4 → IVec S16 32) a x).toNat < S2x4x32x32.size a := fun v2468 v2855 v2940 v2943 k0_hw2204 => k0_hw2204

def k0_chk2205 (v33 : IVec S16 32) (v35 : IVec S16 32) (v2468 : IVec S16 32) (v2855 : IVec S16 32) (v2945 : IVec S16 32) : Prop :=
  (∀ a x, ((![v2468, v2855, v2945, v33] : Fin 4 → IVec S16 32) a x).toNat < S2x4x94x96.size a) ∧
  (∀ a x, ((![v2468, v2855, v2945, v35] : Fin 4 → IVec S16 32) a x).toNat < S2x4x94x96.size a)
theorem k0_idx2923_inb : ∀ (v33 : IVec S16 32) (v35 : IVec S16 32) (v2468 : IVec S16 32) (v2855 : IVec S16 32) (v2945 : IVec S16 32) (k0_hw2205 : k0_chk2205 v33 v35 v2468 v2855 v2945), ∀ a x, ((![v2468, v2855, v2945, v33] : Fin 4 → IVec S16 32) a x).toNat < S2x4x94x96.size a := fun v33 v35 v2468 v2855 v2945 k0_hw2205 => k0_hw2205.1
theorem k0_idx2924_inb : ∀ (v33 : IVec S16 32) (v35 : IVec S16 32) (v2468 : IVec S16 32) (v2855 : IVec S16 32) (v2945 : IVec S16 32) (k0_hw2205 : k0_chk2205 v33 v35 v2468 v2855 v2945), ∀ a x, ((![v2468, v2855, v2945, v35] : Fin 4 → IVec S16 32) a x).toNat < S2x4x94x96.size a := fun v33 v35 v2468 v2855 v2945 k0_hw2205 => k0_hw2205.2

def k0_chk2206 (v30 : IVec S16 32) (v2468 : IVec S16 32) (v2855 : IVec S16 32) (v2946 : IVec S16 32) : Prop :=
  (∀ a x, ((![v2468, v2855, v2946, v30] : Fin 4 → IVec S16 32) a x).toNat < S2x4x32x32.size a)
theorem k0_idx2925_inb : ∀ (v30 : IVec S16 32) (v2468 : IVec S16 32) (v2855 : IVec S16 32) (v2946 : IVec S16 32) (k0_hw2206 : k0_chk2206 v30 v2468 v2855 v2946), ∀ a x, ((![v2468, v2855, v2946, v30] : Fin 4 → IVec S16 32) a x).toNat < S2x4x32x32.size a := fun v30 v2468 v2855 v2946 k0_hw2206 => k0_hw2206

def k0_chk2207 (v2468 : IVec S16 32) (v2855 : IVec S16 32) (v2946 : IVec S16 32) (v2949 : IVec S16 32) : Prop :=
  (∀ a x, ((![v2468, v2855, v2946, v2949] : Fin 4 → IVec S16 32) a x).toNat < S2x4x32x32.size a)
theorem k0_idx2926_inb : ∀ (v2468 : IVec S16 32) (v2855 : IVec S16 32) (v2946 : IVec S16 32) (v2949 : IVec S16 32) (k0_hw2207 : k0_chk2207 v2468 v2855 v2946 v2949), ∀ a x, ((![v2468, v2855, v2946, v2949] : Fin 4 → IVec S16 32) a x).toNat < S2x4x32x32.size a := fun v2468 v2855 v2946 v2949 k0_hw2207 => k0_hw2207

def k0_chk2208 (v33 : IVec S16 32) (v35 : IVec S16 32) (v2468 : IVec S16 32) (v2855 : IVec S16 32) (v2951 : IVec S16 32) : Prop :=
  (∀ a x, ((![v2468, v2855, v2951, v33] : Fin 4 → IVec S16 32) a x).toNat < S2x4x94x96.size a) ∧
  (∀ a x, ((![v2468, v2855, v2951, v35] : Fin 4 → IVec S16 32) a x).toNat < S2x4x94x96.size a)
theorem k0_idx2927_inb : ∀ (v33 : IVec S16 32) (v35 : IVec S16 32) (v2468 : IVec S16 32) (v2855 : IVec S16 32) (v2951 : IVec S16 32) (k0_hw2208 : k0_chk2208 v33 v35 v2468 v2855 v2951), ∀ a x, ((![v2468, v2855, v2951, v33] : Fin 4 → IVec S16 32) a x).toNat < S2x4x94x96.size a := fun v33 v35 v2468 v2855 v2951 k0_hw2208 => k0_hw2208.1
theorem k0_idx2928_inb : ∀ (v33 : IVec S16 32) (v35 : IVec S16 32) (v2468 : IVec S16 32) (v2855 : IVec S16 32) (v2951 : IVec S16 32) (k0_hw2208 : k0_chk2208 v33 v35 v2468 v2855 v2951), ∀ a x, ((![v2468, v2855, v2951, v35] : Fin 4 → IVec S16 32) a x).toNat < S2x4x94x96.size a := fun v33 v35 v2468 v2855 v2951 k0_hw2208 => k0_hw2208.2

def k0_chk2209 (v30 : IVec S16 32) (v2468 : IVec S16 32) (v2855 : IVec S16 32) (v2952 : IVec S16 32) : Prop :=
  (∀ a x, ((![v2468, v2855, v2952, v30] : Fin 4 → IVec S16 32) a x).toNat < S2x4x32x32.size a)
theorem k0_idx2929_inb : ∀ (v30 : IVec S16 32) (v2468 : IVec S16 32) (v2855 : IVec S16 32) (v2952 : IVec S16 32) (k0_hw2209 : k0_chk2209 v30 v2468 v2855 v2952), ∀ a x, ((![v2468, v2855, v2952, v30] : Fin 4 → IVec S16 32) a x).toNat < S2x4x32x32.size a := fun v30 v2468 v2855 v2952 k0_hw2209 => k0_hw2209

def k0_chk2210 (v2468 : IVec S16 32) (v2855 : IVec S16 32) (v2952 : IVec S16 32) (v2955 : IVec S16 32) : Prop :=
  (∀ a x, ((![v2468, v2855, v2952, v2955] : Fin 4 → IVec S16 32) a x).toNat < S2x4x32x32.size a)
theorem k0_idx2930_inb : ∀ (v2468 : IVec S16 32) (v2855 : IVec S16 32) (v2952 : IVec S16 32) (v2955 : IVec S16 32) (k0_hw2210 : k0_chk2210 v2468 v2855 v2952 v2955), ∀ a x, ((![v2468, v2855, v2952, v2955] : Fin 4 → IVec S16 32) a x).toNat < S2x4x32x32.size a := fun v2468 v2855 v2952 v2955 k0_hw2210 => k0_hw2210

def k0_chk2211 (v33 : IVec S16 32) (v35 : IVec S16 32) (v2468 : IVec S16 32) (v2855 : IVec S16 32) (v2957 : IVec S16 32) : Prop :=
  (∀ a x, ((![v2468, v2855, v2957, v33] : Fin 4 → IVec S16 32) a x).toNat < S2x4x94x96.size a) ∧
  (∀ a x, ((![v2468, v2855, v2957, v35] : Fin 4 → IVec S16 32) a x).toNat < S2x4x94x96.size a)
theorem k0_idx2931_inb : ∀ (v33 : IVec S16 32) (v35 : IVec S16 32) (v2468 : IVec S16 32) (v2855 : IVec S16 32) (v2957 : IVec S16 32) (k0_hw2211 : k0_chk2211 v33 v35 v2468 v2855 v2957), ∀ a x, ((![v2468, v2855, v2957, v33] : Fin 4 → IVec S16 32) a x).toNat < S2x4x94x96.size a := fun v33 v35 v2468 v2855 v2957 k0_hw2211 => k0_hw2211.1
theorem k0_idx2932_inb : ∀ (v33 : IVec S16 32) (v35 : IVec S16 32) (v2468 : IVec S16 32) (v2855 : IVec S16 32) (v2957 : IVec S16 32) (k0_hw2211 : k0_chk2211 v33 v35 v2468 v2855 v2957), ∀ a x, ((![v2468, v2855, v2957, v35] : Fin 4 → IVec S16 32) a x).toNat < S2x4x94x96.size a := fun v33 v35 v2468 v2855 v2957 k0_hw2211 => k0_hw2211.2

def k0_chk2212 (v30 : IVec S16 32) (v2468 : IVec S16 32) (v2855 : IVec S16 32) (v2958 : IVec S16 32) : Prop :=
  (∀ a x, ((![v2468, v2855, v2958, v30] : Fin 4 → IVec S16 32) a x).toNat < S2x4x32x32.size a)
theorem k0_idx2933_inb : ∀ (v30 : IVec S16 32) (v2468 : IVec S16 32) (v2855 : IVec S16 32) (v2958 : IVec S16 32) (k0_hw2212 : k0_chk2212 v30 v2468 v2855 v2958), ∀ a x, ((![v2468, v2855, v2958, v30] : Fin 4 → IVec S16 32) a x).toNat < S2x4x32x32.size a := fun v30 v2468 v2855 v2958 k0_hw2212 => k0_hw2212

def k0_chk2213 (v2468 : IVec S16 32) (v2855 : IVec S16 32) (v2958 : IVec S16 32) (v2961 : IVec S16 32) : Prop :=
  (∀ a x, ((![v2468, v2855, v2958, v2961] : Fin 4 → IVec S16 32) a x).toNat < S2x4x32x32.size a)
theorem k0_idx2934_inb : ∀ (v2468 : IVec S16 32) (v2855 : IVec S16 32) (v2958 : IVec S16 32) (v2961 : IVec S16 32) (k0_hw2213 : k0_chk2213 v2468 v2855 v2958 v2961), ∀ a x, ((![v2468, v2855, v2958, v2961] : Fin 4 → IVec S16 32) a x).toNat < S2x4x32x32.size a := fun v2468 v2855 v2958 v2961 k0_hw2213 => k0_hw2213

def k0_chk2214 (v33 : IVec S16 32) (v35 : IVec S16 32) (v2468 : IVec S16 32) (v2855 : IVec S16 32) (v2963 : IVec S16 32) : Prop :=
  (∀ a x, ((![v2468, v2855, v2963, v33] : Fin 4 → IVec S16 32) a x).toNat < S2x4x94x96.size a) ∧
  (∀ a x, ((![v2468, v2855, v2963, v35] : Fin 4 → IVec S16 32) a x).toNat < S2x4x94x96.size a)
theorem k0_idx2935_inb : ∀ (v33 : IVec S16 32) (v35 : IVec S16 32) (v2468 : IVec S16 32) (v2855 : IVec S16 32) (v2963 : IVec S16 32) (k0_hw2214 : k0_chk2214 v33 v35 v2468 v2855 v2963), ∀ a x, ((![v2468, v2855, v2963, v33] : Fin 4 → IVec S16 32) a x).toNat < S2x4x94x96.size a := fun v33 v35 v2468 v2855 v2963 k0_hw2214 => k0_hw2214.1
theorem k0_idx2936_inb : ∀ (v33 : IVec S16 32) (v35 : IVec S16 32) (v2468 : IVec S16 32) (v2855 : IVec S16 32) (v2963 : IVec S16 32) (k0_hw2214 : k0_chk2214 v33 v35 v2468 v2855 v2963), ∀ a x, ((![v2468, v2855, v2963, v35] : Fin 4 → IVec S16 32) a x).toNat < S2x4x94x96.size a := fun v33 v35 v2468 v2855 v2963 k0_hw2214 => k0_hw2214.2

def k0_chk2215 (v30 : IVec S16 32) (v2468 : IVec S16 32) (v2855 : IVec S16 32) (v2964 : IVec S16 32) : Prop :=
  (∀ a x, ((![v2468, v2855, v2964, v30] : Fin 4 → IVec S16 32) a x).toNat < S2x4x32x32.size a)
theorem k0_idx2937_inb : ∀ (v30 : IVec S16 32) (v2468 : IVec S16 32) (v2855 : IVec S16 32) (v2964 : IVec S16 32) (k0_hw2215 : k0_chk2215 v30 v2468 v2855 v2964), ∀ a x, ((![v2468, v2855, v2964, v30] : Fin 4 → IVec S16 32) a x).toNat < S2x4x32x32.size a := fun v30 v2468 v2855 v2964 k0_hw2215 => k0_hw2215

def k0_chk2216 (v2468 : IVec S16 32) (v2855 : IVec S16 32) (v2964 : IVec S16 32) (v2967 : IVec S16 32) : Prop :=
  (∀ a x, ((![v2468, v2855, v2964, v2967] : Fin 4 → IVec S16 32) a x).toNat < S2x4x32x32.size a)
theorem k0_idx2938_inb : ∀ (v2468 : IVec S16 32) (v2855 : IVec S16 32) (v2964 : IVec S16 32) (v2967 : IVec S16 32) (k0_hw2216 : k0_chk2216 v2468 v2855 v2964 v2967), ∀ a x, ((![v2468, v2855, v2964, v2967] : Fin 4 → IVec S16 32) a x).toNat < S2x4x32x32.size a := fun v2468 v2855 v2964 v2967 k0_hw2216 => k0_hw2216

def k0_chk2217 (v33 : IVec S16 32) (v35 : IVec S16 32) (v2468 : IVec S16 32) (v2855 : IVec S16 32) (v2969 : IVec S16 32) : Prop :=
  (∀ a x, ((![v2468, v2855, v2969, v33] : Fin 4 → IVec S16 32) a x).toNat < S2x4x94x96.size a) ∧
  (∀ a x, ((![v2468, v2855, v2969, v35] : Fin 4 → IVec S16 32) a x).toNat < S2x4x94x96.size a)
theorem k0_idx2939_inb : ∀ (v33 : IVec S16 32) (v35 : IVec S16 32) (v2468 : IVec S16 32) (v2855 : IVec S16 32) (v2969 : IVec S16 32) (k0_hw2217 : k0_chk2217 v33 v35 v2468 v2855 v2969), ∀ a x, ((![v2468, v2855, v2969, v33] : Fin 4 → IVec S16 32) a x).toNat < S2x4x94x96.size a := fun v33 v35 v2468 v2855 v2969 k0_hw2217 => k0_hw2217.1
theorem k0_idx2940_inb : ∀ (v33 : IVec S16 32) (v35 : IVec S16 32) (v2468 : IVec S16 32) (v2855 : IVec S16 32) (v2969 : IVec S16 32) (k0_hw2217 : k0_chk2217 v33 v35 v2468 v2855 v2969), ∀ a x, ((![v2468, v2855, v2969, v35] : Fin 4 → IVec S16 32) a x).toNat < S2x4x94x96.size a := fun v33 v35 v2468 v2855 v2969 k0_hw2217 => k0_hw2217.2

def k0_chk2218 (v30 : IVec S16 32) (v2468 : IVec S16 32) (v2855 : IVec S16 32) (v2970 : IVec S16 32) : Prop :=
  (∀ a x, ((![v2468, v2855, v2970, v30] : Fin 4 → IVec S16 32) a x).toNat < S2x4x32x32.size a)
theorem k0_idx2941_inb : ∀ (v30 : IVec S16 32) (v2468 : IVec S16 32) (v2855 : IVec S16 32) (v2970 : IVec S16 32) (k0_hw2218 : k0_chk2218 v30 v2468 v2855 v2970), ∀ a x, ((![v2468, v2855, v2970, v30] : Fin 4 → IVec S16 32) a x).toNat < S2x4x32x32.size a := fun v30 v2468 v2855 v2970 k0_hw2218 => k0_hw2218

def k0_chk2219 (v2468 : IVec S16 32) (v2855 : IVec S16 32) (v2970 : IVec S16 32) (v2973 : IVec S16 32) : Prop :=
  (∀ a x, ((![v2468, v2855, v2970, v2973] : Fin 4 → IVec S16 32) a x).toNat < S2x4x32x32.size a)
theorem k0_idx2942_inb : ∀ (v2468 : IVec S16 32) (v2855 : IVec S16 32) (v2970 : IVec S16 32) (v2973 : IVec S16 32) (k0_hw2219 : k0_chk2219 v2468 v2855 v2970 v2973), ∀ a x, ((![v2468, v2855, v2970, v2973] : Fin 4 → IVec S16 32) a x).toNat < S2x4x32x32.size a := fun v2468 v2855 v2970 v2973 k0_hw2219 => k0_hw2219

def k0_chk2220 (v33 : IVec S16 32) (v35 : IVec S16 32) (v2468 : IVec S16 32) (v2855 : IVec S16 32) (v2975 : IVec S16 32) : Prop :=
  (∀ a x, ((![v2468, v2855, v2975, v33] : Fin 4 → IVec S16 32) a x).toNat < S2x4x94x96.size a) ∧
  (∀ a x, ((![v2468, v2855, v2975, v35] : Fin 4 → IVec S16 32) a x).toNat < S2x4x94x96.size a)
theorem k0_idx2943_inb : ∀ (v33 : IVec S16 32) (v35 : IVec S16 32) (v2468 : IVec S16 32) (v2855 : IVec S16 32) (v2975 : IVec S16 32) (k0_hw2220 : k0_chk2220 v33 v35 v2468 v2855 v2975), ∀ a x, ((![v2468, v2855, v2975, v33] : Fin 4 → IVec S16 32) a x).toNat < S2x4x94x96.size a := fun v33 v35 v2468 v2855 v2975 k0_hw2220 => k0_hw2220.1
theorem k0_idx2944_inb : ∀ (v33 : IVec S16 32) (v35 : IVec S16 32) (v2468 : IVec S16 32) (v2855 : IVec S16 32) (v2975 : IVec S16 32) (k0_hw2220 : k0_chk2220 v33 v35 v2468 v2855 v2975), ∀ a x, ((![v2468, v2855, v2975, v35] : Fin 4 → IVec S16 32) a x).toNat < S2x4x94x96.size a := fun v33 v35 v2468 v2855 v2975 k0_hw2220 => k0_hw2220.2

def k0_chk2221 (v30 : IVec S16 32) (v2468 : IVec S16 32) (v2855 : IVec S16 32) (v2976 : IVec S16 32) : Prop :=
  (∀ a x, ((![v2468, v2855, v2976, v30] : Fin 4 → IVec S16 32) a x).toNat < S2x4x32x32.size a)
theorem k0_idx2945_inb : ∀ (v30 : IVec S16 32) (v2468 : IVec S16 32) (v2855 : IVec S16 32) (v2976 : IVec S16 32) (k0_hw2221 : k0_chk2221 v30 v2468 v2855 v2976), ∀ a x, ((![v2468, v2855, v2976, v30] : Fin 4 → IVec S16 32) a x).toNat < S2x4x32x32.size a := fun v30 v2468 v2855 v2976 k0_hw2221 => k0_hw2221

def k0_chk2222 (v2468 : IVec S16 32) (v2855 : IVec S16 32) (v2976 : IVec S16 32) (v2979 : IVec S16 32) : Prop :=
  (∀ a x, ((![v2468, v2855, v2976, v2979] : Fin 4 → IVec S16 32) a x).toNat < S2x4x32x32.size a)
theorem k0_idx2946_inb : ∀ (v2468 : IVec S16 32) (v2855 : IVec S16 32) (v2976 : IVec S16 32) (v2979 : IVec S16 32) (k0_hw2222 : k0_chk2222 v2468 v2855 v2976 v2979), ∀ a x, ((![v2468, v2855, v2976, v2979] : Fin 4 → IVec S16 32) a x).toNat < S2x4x32x32.size a := fun v2468 v2855 v2976 v2979 k0_hw2222 => k0_hw2222

def k0_chk2223 (v33 : IVec S16 32) (v35 : IVec S16 32) (v2468 : IVec S16 32) (v2855 : IVec S16 32) (v2981 : IVec S16 32) : Prop :=
  (∀ a x, ((![v2468, v2855, v2981, v33] : Fin 4 → IVec S16 32) a x).toNat < S2x4x94x96.size a) ∧
  (∀ a x, ((![v2468, v2855, v2981, v35] : Fin 4 → IVec S16 32) a x).toNat < S2x4x94x96.size a)
theorem k0_idx2947_inb : ∀ (v33 : IVec S16 32) (v35 : IVec S16 32) (v2468 : IVec S16 32) (v2855 : IVec S16 32) (v2981 : IVec S16 32) (k0_hw2223 : k0_chk2223 v33 v35 v2468 v2855 v2981), ∀ a x, ((![v2468, v2855, v2981, v33] : Fin 4 → IVec S16 32) a x).toNat < S2x4x94x96.size a := fun v33 v35 v2468 v2855 v2981 k0_hw2223 => k0_hw2223.1
theorem k0_idx2948_inb : ∀ (v33 : IVec S16 32) (v35 : IVec S16 32) (v2468 : IVec S16 32) (v2855 : IVec S16 32) (v2981 : IVec S16 32) (k0_hw2223 : k0_chk2223 v33 v35 v2468 v2855 v2981), ∀ a x, ((![v2468, v2855, v2981, v35] : Fin 4 → IVec S16 32) a x).toNat < S2x4x94x96.size a := fun v33 v35 v2468 v2855 v2981 k0_hw2223 => k0_hw2223.2

def k0_chk2224 (v30 : IVec S16 32) (v2468 : IVec S16 32) (v2855 : IVec S16 32) (v2982 : IVec S16 32) : Prop :=
  (∀ a x, ((![v2468, v2855, v2982, v30] : Fin 4 → IVec S16 32) a x).toNat < S2x4x32x32.size a)
theorem k0_idx2949_inb : ∀ (v30 : IVec S16 32) (v2468 : IVec S16 32) (v2855 : IVec S16 32) (v2982 : IVec S16 32) (k0_hw2224 : k0_chk2224 v30 v2468 v2855 v2982), ∀ a x, ((![v2468, v2855, v2982, v30] : Fin 4 → IVec S16 32) a x).toNat < S2x4x32x32.size a := fun v30 v2468 v2855 v2982 k0_hw2224 => k0_hw2224

def k0_chk2225 (v2468 : IVec S16 32) (v2855 : IVec S16 32) (v2982 : IVec S16 32) (v2985 : IVec S16 32) : Prop :=
  (∀ a x, ((![v2468, v2855, v2982, v2985] : Fin 4 → IVec S16 32) a x).toNat < S2x4x32x32.size a)
theorem k0_idx2950_inb : ∀ (v2468 : IVec S16 32) (v2855 : IVec S16 32) (v2982 : IVec S16 32) (v2985 : IVec S16 32) (k0_hw2225 : k0_chk2225 v2468 v2855 v2982 v2985), ∀ a x, ((![v2468, v2855, v2982, v2985] : Fin 4 → IVec S16 32) a x).toNat < S2x4x32x32.size a := fun v2468 v2855 v2982 v2985 k0_hw2225 => k0_hw2225

def k0_chk2226 (v33 : IVec S16 32) (v35 : IVec S16 32) (v2468 : IVec S16 32) (v2855 : IVec S16 32) (v2987 : IVec S16 32) : Prop :=
  (∀ a x, ((![v2468, v2855, v2987, v33] : Fin 4 → IVec S16 32) a x).toNat < S2x4x94x96.size a) ∧
  (∀ a x, ((![v2468, v2855, v2987, v35] : Fin 4 → IVec S16 32) a x).toNat < S2x4x94x96.size a)
theorem k0_idx2951_inb : ∀ (v33 : IVec S16 32) (v35 : IVec S16 32) (v2468 : IVec S16 32) (v2855 : IVec S16 32) (v2987 : IVec S16 32) (k0_hw2226 : k0_chk2226 v33 v35 v2468 v2855 v2987), ∀ a x, ((![v2468, v2855, v2987, v33] : Fin 4 → IVec S16 32) a x).toNat < S2x4x94x96.size a := fun v33 v35 v2468 v2855 v2987 k0_hw2226 => k0_hw2226.1
theorem k0_idx2952_inb : ∀ (v33 : IVec S16 32) (v35 : IVec S16 32) (v2468 : IVec S16 32) (v2855 : IVec S16 32) (v2987 : IVec S16 32) (k0_hw2226 : k0_chk2226 v33 v35 v2468 v2855 v2987), ∀ a x, ((![v2468, v2855, v2987, v35] : Fin 4 → IVec S16 32) a x).toNat < S2x4x94x96.size a := fun v33 v35 v2468 v2855 v2987 k0_hw2226 => k0_hw2226.2

def k0_chk2227 (v30 : IVec S16 32) (v2468 : IVec S16 32) (v2855 : IVec S16 32) (v2988 : IVec S16 32) : Prop :=
  (∀ a x, ((![v2468, v2855, v2988, v30] : Fin 4 → IVec S16 32) a x).toNat < S2x4x32x32.size a)
theorem k0_idx2953_inb : ∀ (v30 : IVec S16 32) (v2468 : IVec S16 32) (v2855 : IVec S16 32) (v2988 : IVec S16 32) (k0_hw2227 : k0_chk2227 v30 v2468 v2855 v2988), ∀ a x, ((![v2468, v2855, v2988, v30] : Fin 4 → IVec S16 32) a x).toNat < S2x4x32x32.size a := fun v30 v2468 v2855 v2988 k0_hw2227 => k0_hw2227

def k0_chk2228 (v2468 : IVec S16 32) (v2855 : IVec S16 32) (v2988 : IVec S16 32) (v2991 : IVec S16 32) : Prop :=
  (∀ a x, ((![v2468, v2855, v2988, v2991] : Fin 4 → IVec S16 32) a x).toNat < S2x4x32x32.size a)
theorem k0_idx2954_inb : ∀ (v2468 : IVec S16 32) (v2855 : IVec S16 32) (v2988 : IVec S16 32) (v2991 : IVec S16 32) (k0_hw2228 : k0_chk2228 v2468 v2855 v2988 v2991), ∀ a x, ((![v2468, v2855, v2988, v2991] : Fin 4 → IVec S16 32) a x).toNat < S2x4x32x32.size a := fun v2468 v2855 v2988 v2991 k0_hw2228 => k0_hw2228

def k0_chk2229 (v33 : IVec S16 32) (v35 : IVec S16 32) (v2468 : IVec S16 32) (v2855 : IVec S16 32) (v2993 : IVec S16 32) : Prop :=
  (∀ a x, ((![v2468, v2855, v2993, v33] : Fin 4 → IVec S16 32) a x).toNat < S2x4x94x96.size a) ∧
  (∀ a x, ((![v2468, v2855, v2993, v35] : Fin 4 → IVec S16 32) a x).toNat < S2x4x94x96.size a)
theorem k0_idx2955_inb : ∀ (v33 : IVec S16 32) (v35 : IVec S16 32) (v2468 : IVec S16 32) (v2855 : IVec S16 32) (v2993 : IVec S16 32) (k0_hw2229 : k0_chk2229 v33 v35 v2468 v2855 v2993), ∀ a x, ((![v2468, v2855, v2993, v33] : Fin 4 → IVec S16 32) a x).toNat < S2x4x94x96.size a := fun v33 v35 v2468 v2855 v2993 k0_hw2229 => k0_hw2229.1
theorem k0_idx2956_inb : ∀ (v33 : IVec S16 32) (v35 : IVec S16 32) (v2468 : IVec S16 32) (v2855 : IVec S16 32) (v2993 : IVec S16 32) (k0_hw2229 : k0_chk2229 v33 v35 v2468 v2855 v2993), ∀ a x, ((![v2468, v2855, v2993, v35] : Fin 4 → IVec S16 32) a x).toNat < S2x4x94x96.size a := fun v33 v35 v2468 v2855 v2993 k0_hw2229 => k0_hw2229.2

def k0_chk2230 (v30 : IVec S16 32) (v2468 : IVec S16 32) (v2855 : IVec S16 32) (v2994 : IVec S16 32) : Prop :=
  (∀ a x, ((![v2468, v2855, v2994, v30] : Fin 4 → IVec S16 32) a x).toNat < S2x4x32x32.size a)
theorem k0_idx2957_inb : ∀ (v30 : IVec S16 32) (v2468 : IVec S16 32) (v2855 : IVec S16 32) (v2994 : IVec S16 32) (k0_hw2230 : k0_chk2230 v30 v2468 v2855 v2994), ∀ a x, ((![v2468, v2855, v2994, v30] : Fin 4 → IVec S16 32) a x).toNat < S2x4x32x32.size a := fun v30 v2468 v2855 v2994 k0_hw2230 => k0_hw2230

def k0_chk2231 (v2468 : IVec S16 32) (v2855 : IVec S16 32) (v2994 : IVec S16 32) (v2997 : IVec S16 32) : Prop :=
  (∀ a x, ((![v2468, v2855, v2994, v2997] : Fin 4 → IVec S16 32) a x).toNat < S2x4x32x32.size a)
theorem k0_idx2958_inb : ∀ (v2468 : IVec S16 32) (v2855 : IVec S16 32) (v2994 : IVec S16 32) (v2997 : IVec S16 32) (k0_hw2231 : k0_chk2231 v2468 v2855 v2994 v2997), ∀ a x, ((![v2468, v2855, v2994, v2997] : Fin 4 → IVec S16 32) a x).toNat < S2x4x32x32.size a := fun v2468 v2855 v2994 v2997 k0_hw2231 => k0_hw2231

def k0_chk2232 (v33 : IVec S16 32) (v35 : IVec S16 32) (v2468 : IVec S16 32) (v2855 : IVec S16 32) (v2999 : IVec S16 32) : Prop :=
  (∀ a x, ((![v2468, v2855, v2999, v33] : Fin 4 → IVec S16 32) a x).toNat < S2x4x94x96.size a) ∧
  (∀ a x, ((![v2468, v2855, v2999, v35] : Fin 4 → IVec S16 32) a x).toNat < S2x4x94x96.size a)
theorem k0_idx2959_inb : ∀ (v33 : IVec S16 32) (v35 : IVec S16 32) (v2468 : IVec S16 32) (v2855 : IVec S16 32) (v2999 : IVec S16 32) (k0_hw2232 : k0_chk2232 v33 v35 v2468 v2855 v2999), ∀ a x, ((![v2468, v2855, v2999, v33] : Fin 4 → IVec S16 32) a x).toNat < S2x4x94x96.size a := fun v33 v35 v2468 v2855 v2999 k0_hw2232 => k0_hw2232.1
theorem k0_idx2960_inb : ∀ (v33 : IVec S16 32) (v35 : IVec S16 32) (v2468 : IVec S16 32) (v2855 : IVec S16 32) (v2999 : IVec S16 32) (k0_hw2232 : k0_chk2232 v33 v35 v2468 v2855 v2999), ∀ a x, ((![v2468, v2855, v2999, v35] : Fin 4 → IVec S16 32) a x).toNat < S2x4x94x96.size a := fun v33 v35 v2468 v2855 v2999 k0_hw2232 => k0_hw2232.2

def k0_chk2233 (v30 : IVec S16 32) (v2468 : IVec S16 32) (v2855 : IVec S16 32) (v3000 : IVec S16 32) : Prop :=
  (∀ a x, ((![v2468, v2855, v3000, v30] : Fin 4 → IVec S16 32) a x).toNat < S2x4x32x32.size a)
theorem k0_idx2961_inb : ∀ (v30 : IVec S16 32) (v2468 : IVec S16 32) (v2855 : IVec S16 32) (v3000 : IVec S16 32) (k0_hw2233 : k0_chk2233 v30 v2468 v2855 v3000), ∀ a x, ((![v2468, v2855, v3000, v30] : Fin 4 → IVec S16 32) a x).toNat < S2x4x32x32.size a := fun v30 v2468 v2855 v3000 k0_hw2233 => k0_hw2233

def k0_chk2234 (v2468 : IVec S16 32) (v2855 : IVec S16 32) (v3000 : IVec S16 32) (v3003 : IVec S16 32) : Prop :=
  (∀ a x, ((![v2468, v2855, v3000, v3003] : Fin 4 → IVec S16 32) a x).toNat < S2x4x32x32.size a)
theorem k0_idx2962_inb : ∀ (v2468 : IVec S16 32) (v2855 : IVec S16 32) (v3000 : IVec S16 32) (v3003 : IVec S16 32) (k0_hw2234 : k0_chk2234 v2468 v2855 v3000 v3003), ∀ a x, ((![v2468, v2855, v3000, v3003] : Fin 4 → IVec S16 32) a x).toNat < S2x4x32x32.size a := fun v2468 v2855 v3000 v3003 k0_hw2234 => k0_hw2234

def k0_chk2235 (v33 : IVec S16 32) (v35 : IVec S16 32) (v2468 : IVec S16 32) (v2855 : IVec S16 32) (v3005 : IVec S16 32) : Prop :=
  (∀ a x, ((![v2468, v2855, v3005, v33] : Fin 4 → IVec S16 32) a x).toNat < S2x4x94x96.size a) ∧
  (∀ a x, ((![v2468, v2855, v3005, v35] : Fin 4 → IVec S16 32) a x).toNat < S2x4x94x96.size a)
theorem k0_idx2963_inb : ∀ (v33 : IVec S16 32) (v35 : IVec S16 32) (v2468 : IVec S16 32) (v2855 : IVec S16 32) (v3005 : IVec S16 32) (k0_hw2235 : k0_chk2235 v33 v35 v2468 v2855 v3005), ∀ a x, ((![v2468, v2855, v3005, v33] : Fin 4 → IVec S16 32) a x).toNat < S2x4x94x96.size a := fun v33 v35 v2468 v2855 v3005 k0_hw2235 => k0_hw2235.1
theorem k0_idx2964_inb : ∀ (v33 : IVec S16 32) (v35 : IVec S16 32) (v2468 : IVec S16 32) (v2855 : IVec S16 32) (v3005 : IVec S16 32) (k0_hw2235 : k0_chk2235 v33 v35 v2468 v2855 v3005), ∀ a x, ((![v2468, v2855, v3005, v35] : Fin 4 → IVec S16 32) a x).toNat < S2x4x94x96.size a := fun v33 v35 v2468 v2855 v3005 k0_hw2235 => k0_hw2235.2

def k0_chk2236 (v30 : IVec S16 32) (v2468 : IVec S16 32) (v2855 : IVec S16 32) (v3006 : IVec S16 32) : Prop :=
  (∀ a x, ((![v2468, v2855, v3006, v30] : Fin 4 → IVec S16 32) a x).toNat < S2x4x32x32.size a)
theorem k0_idx2965_inb : ∀ (v30 : IVec S16 32) (v2468 : IVec S16 32) (v2855 : IVec S16 32) (v3006 : IVec S16 32) (k0_hw2236 : k0_chk2236 v30 v2468 v2855 v3006), ∀ a x, ((![v2468, v2855, v3006, v30] : Fin 4 → IVec S16 32) a x).toNat < S2x4x32x32.size a := fun v30 v2468 v2855 v3006 k0_hw2236 => k0_hw2236

def k0_chk2237 (v2468 : IVec S16 32) (v2855 : IVec S16 32) (v3006 : IVec S16 32) (v3009 : IVec S16 32) : Prop :=
  (∀ a x, ((![v2468, v2855, v3006, v3009] : Fin 4 → IVec S16 32) a x).toNat < S2x4x32x32.size a)
theorem k0_idx2966_inb : ∀ (v2468 : IVec S16 32) (v2855 : IVec S16 32) (v3006 : IVec S16 32) (v3009 : IVec S16 32) (k0_hw2237 : k0_chk2237 v2468 v2855 v3006 v3009), ∀ a x, ((![v2468, v2855, v3006, v3009] : Fin 4 → IVec S16 32) a x).toNat < S2x4x32x32.size a := fun v2468 v2855 v3006 v3009 k0_hw2237 => k0_hw2237

def k0_chk2238 (v33 : IVec S16 32) (v35 : IVec S16 32) (v2468 : IVec S16 32) (v2855 : IVec S16 32) (v3011 : IVec S16 32) : Prop :=
  (∀ a x, ((![v2468, v2855, v3011, v33] : Fin 4 → IVec S16 32) a x).toNat < S2x4x94x96.size a) ∧
  (∀ a x, ((![v2468, v2855, v3011, v35] : Fin 4 → IVec S16 32) a x).toNat < S2x4x94x96.size a)
theorem k0_idx2967_inb : ∀ (v33 : IVec S16 32) (v35 : IVec S16 32) (v2468 : IVec S16 32) (v2855 : IVec S16 32) (v3011 : IVec S16 32) (k0_hw2238 : k0_chk2238 v33 v35 v2468 v2855 v3011), ∀ a x, ((![v2468, v2855, v3011, v33] : Fin 4 → IVec S16 32) a x).toNat < S2x4x94x96.size a := fun v33 v35 v2468 v2855 v3011 k0_hw2238 => k0_hw2238.1
theorem k0_idx2968_inb : ∀ (v33 : IVec S16 32) (v35 : IVec S16 32) (v2468 : IVec S16 32) (v2855 : IVec S16 32) (v3011 : IVec S16 32) (k0_hw2238 : k0_chk2238 v33 v35 v2468 v2855 v3011), ∀ a x, ((![v2468, v2855, v3011, v35] : Fin 4 → IVec S16 32) a x).toNat < S2x4x94x96.size a := fun v33 v35 v2468 v2855 v3011 k0_hw2238 => k0_hw2238.2

def k0_chk2239 (v30 : IVec S16 32) (v2468 : IVec S16 32) (v2855 : IVec S16 32) (v3012 : IVec S16 32) : Prop :=
  (∀ a x, ((![v2468, v2855, v3012, v30] : Fin 4 → IVec S16 32) a x).toNat < S2x4x32x32.size a)
theorem k0_idx2969_inb : ∀ (v30 : IVec S16 32) (v2468 : IVec S16 32) (v2855 : IVec S16 32) (v3012 : IVec S16 32) (k0_hw2239 : k0_chk2239 v30 v2468 v2855 v3012), ∀ a x, ((![v2468, v2855, v3012, v30] : Fin 4 → IVec S16 32) a x).toNat < S2x4x32x32.size a := fun v30 v2468 v2855 v3012 k0_hw2239 => k0_hw2239

def k0_chk2240 (v2468 : IVec S16 32) (v2855 : IVec S16 32) (v3012 : IVec S16 32) (v3015 : IVec S16 32) : Prop :=
  (∀ a x, ((![v2468, v2855, v3012, v3015] : Fin 4 → IVec S16 32) a x).toNat < S2x4x32x32.size a)
theorem k0_idx2970_inb : ∀ (v2468 : IVec S16 32) (v2855 : IVec S16 32) (v3012 : IVec S16 32) (v3015 : IVec S16 32) (k0_hw2240 : k0_chk2240 v2468 v2855 v3012 v3015), ∀ a x, ((![v2468, v2855, v3012, v3015] : Fin 4 → IVec S16 32) a x).toNat < S2x4x32x32.size a := fun v2468 v2855 v3012 v3015 k0_hw2240 => k0_hw2240

def k0_chk2241 (v33 : IVec S16 32) (v35 : IVec S16 32) (v2468 : IVec S16 32) (v2855 : IVec S16 32) (v3017 : IVec S16 32) : Prop :=
  (∀ a x, ((![v2468, v2855, v3017, v33] : Fin 4 → IVec S16 32) a x).toNat < S2x4x94x96.size a) ∧
  (∀ a x, ((![v2468, v2855, v3017, v35] : Fin 4 → IVec S16 32) a x).toNat < S2x4x94x96.size a)
theorem k0_idx2971_inb : ∀ (v33 : IVec S16 32) (v35 : IVec S16 32) (v2468 : IVec S16 32) (v2855 : IVec S16 32) (v3017 : IVec S16 32) (k0_hw2241 : k0_chk2241 v33 v35 v2468 v2855 v3017), ∀ a x, ((![v2468, v2855, v3017, v33] : Fin 4 → IVec S16 32) a x).toNat < S2x4x94x96.size a := fun v33 v35 v2468 v2855 v3017 k0_hw2241 => k0_hw2241.1
theorem k0_idx2972_inb : ∀ (v33 : IVec S16 32) (v35 : IVec S16 32) (v2468 : IVec S16 32) (v2855 : IVec S16 32) (v3017 : IVec S16 32) (k0_hw2241 : k0_chk2241 v33 v35 v2468 v2855 v3017), ∀ a x, ((![v2468, v2855, v3017, v35] : Fin 4 → IVec S16 32) a x).toNat < S2x4x94x96.size a := fun v33 v35 v2468 v2855 v3017 k0_hw2241 => k0_hw2241.2

def k0_chk2242 (v30 : IVec S16 32) (v2468 : IVec S16 32) (v2855 : IVec S16 32) (v3018 : IVec S16 32) : Prop :=
  (∀ a x, ((![v2468, v2855, v3018, v30] : Fin 4 → IVec S16 32) a x).toNat < S2x4x32x32.size a)
theorem k0_idx2973_inb : ∀ (v30 : IVec S16 32) (v2468 : IVec S16 32) (v2855 : IVec S16 32) (v3018 : IVec S16 32) (k0_hw2242 : k0_chk2242 v30 v2468 v2855 v3018), ∀ a x, ((![v2468, v2855, v3018, v30] : Fin 4 → IVec S16 32) a x).toNat < S2x4x32x32.size a := fun v30 v2468 v2855 v3018 k0_hw2242 => k0_hw2242

def k0_chk2243 (v2468 : IVec S16 32) (v2855 : IVec S16 32) (v3018 : IVec S16 32) (v3021 : IVec S16 32) : Prop :=
  (∀ a x, ((![v2468, v2855, v3018, v3021] : Fin 4 → IVec S16 32) a x).toNat < S2x4x32x32.size a)
theorem k0_idx2974_inb : ∀ (v2468 : IVec S16 32) (v2855 : IVec S16 32) (v3018 : IVec S16 32) (v3021 : IVec S16 32) (k0_hw2243 : k0_chk2243 v2468 v2855 v3018 v3021), ∀ a x, ((![v2468, v2855, v3018, v3021] : Fin 4 → IVec S16 32) a x).toNat < S2x4x32x32.size a := fun v2468 v2855 v3018 v3021 k0_hw2243 => k0_hw2243

def k0_chk2244 (v33 : IVec S16 32) (v35 : IVec S16 32) (v2468 : IVec S16 32) (v2855 : IVec S16 32) (v3023 : IVec S16 32) : Prop :=
  (∀ a x, ((![v2468, v2855, v3023, v33] : Fin 4 → IVec S16 32) a x).toNat < S2x4x94x96.size a) ∧
  (∀ a x, ((![v2468, v2855, v3023, v35] : Fin 4 → IVec S16 32) a x).toNat < S2x4x94x96.size a)
theorem k0_idx2975_inb : ∀ (v33 : IVec S16 32) (v35 : IVec S16 32) (v2468 : IVec S16 32) (v2855 : IVec S16 32) (v3023 : IVec S16 32) (k0_hw2244 : k0_chk2244 v33 v35 v2468 v2855 v3023), ∀ a x, ((![v2468, v2855, v3023, v33] : Fin 4 → IVec S16 32) a x).toNat < S2x4x94x96.size a := fun v33 v35 v2468 v2855 v3023 k0_hw2244 => k0_hw2244.1
theorem k0_idx2976_inb : ∀ (v33 : IVec S16 32) (v35 : IVec S16 32) (v2468 : IVec S16 32) (v2855 : IVec S16 32) (v3023 : IVec S16 32) (k0_hw2244 : k0_chk2244 v33 v35 v2468 v2855 v3023), ∀ a x, ((![v2468, v2855, v3023, v35] : Fin 4 → IVec S16 32) a x).toNat < S2x4x94x96.size a := fun v33 v35 v2468 v2855 v3023 k0_hw2244 => k0_hw2244.2

def k0_chk2245 (v30 : IVec S16 32) (v2468 : IVec S16 32) (v2855 : IVec S16 32) (v3024 : IVec S16 32) : Prop :=
  (∀ a x, ((![v2468, v2855, v3024, v30] : Fin 4 → IVec S16 32) a x).toNat < S2x4x32x32.size a)
theorem k0_idx2977_inb : ∀ (v30 : IVec S16 32) (v2468 : IVec S16 32) (v2855 : IVec S16 32) (v3024 : IVec S16 32) (k0_hw2245 : k0_chk2245 v30 v2468 v2855 v3024), ∀ a x, ((![v2468, v2855, v3024, v30] : Fin 4 → IVec S16 32) a x).toNat < S2x4x32x32.size a := fun v30 v2468 v2855 v3024 k0_hw2245 => k0_hw2245

def k0_chk2246 (v2468 : IVec S16 32) (v2855 : IVec S16 32) (v3024 : IVec S16 32) (v3027 : IVec S16 32) : Prop :=
  (∀ a x, ((![v2468, v2855, v3024, v3027] : Fin 4 → IVec S16 32) a x).toNat < S2x4x32x32.size a)
theorem k0_idx2978_inb : ∀ (v2468 : IVec S16 32) (v2855 : IVec S16 32) (v3024 : IVec S16 32) (v3027 : IVec S16 32) (k0_hw2246 : k0_chk2246 v2468 v2855 v3024 v3027), ∀ a x, ((![v2468, v2855, v3024, v3027] : Fin 4 → IVec S16 32) a x).toNat < S2x4x32x32.size a := fun v2468 v2855 v3024 v3027 k0_hw2246 => k0_hw2246

def k0_chk2247 (v33 : IVec S16 32) (v35 : IVec S16 32) (v2468 : IVec S16 32) (v2855 : IVec S16 32) (v3029 : IVec S16 32) : Prop :=
  (∀ a x, ((![v2468, v2855, v3029, v33] : Fin 4 → IVec S16 32) a x).toNat < S2x4x94x96.size a) ∧
  (∀ a x, ((![v2468, v2855, v3029, v35] : Fin 4 → IVec S16 32) a x).toNat < S2x4x94x96.size a)
theorem k0_idx2979_inb : ∀ (v33 : IVec S16 32) (v35 : IVec S16 32) (v2468 : IVec S16 32) (v2855 : IVec S16 32) (v3029 : IVec S16 32) (k0_hw2247 : k0_chk2247 v33 v35 v2468 v2855 v3029), ∀ a x, ((![v2468, v2855, v3029, v33] : Fin 4 → IVec S16 32) a x).toNat < S2x4x94x96.size a := fun v33 v35 v2468 v2855 v3029 k0_hw2247 => k0_hw2247.1
theorem k0_idx2980_inb : ∀ (v33 : IVec S16 32) (v35 : IVec S16 32) (v2468 : IVec S16 32) (v2855 : IVec S16 32) (v3029 : IVec S16 32) (k0_hw2247 : k0_chk2247 v33 v35 v2468 v2855 v3029), ∀ a x, ((![v2468, v2855, v3029, v35] : Fin 4 → IVec S16 32) a x).toNat < S2x4x94x96.size a := fun v33 v35 v2468 v2855 v3029 k0_hw2247 => k0_hw2247.2

def k0_chk2248 (v30 : IVec S16 32) (v2468 : IVec S16 32) (v2855 : IVec S16 32) (v3030 : IVec S16 32) : Prop :=
  (∀ a x, ((![v2468, v2855, v3030, v30] : Fin 4 → IVec S16 32) a x).toNat < S2x4x32x32.size a)
theorem k0_idx2981_inb : ∀ (v30 : IVec S16 32) (v2468 : IVec S16 32) (v2855 : IVec S16 32) (v3030 : IVec S16 32) (k0_hw2248 : k0_chk2248 v30 v2468 v2855 v3030), ∀ a x, ((![v2468, v2855, v3030, v30] : Fin 4 → IVec S16 32) a x).toNat < S2x4x32x32.size a := fun v30 v2468 v2855 v3030 k0_hw2248 => k0_hw2248

def k0_chk2249 (v2468 : IVec S16 32) (v2855 : IVec S16 32) (v3030 : IVec S16 32) (v3033 : IVec S16 32) : Prop :=
  (∀ a x, ((![v2468, v2855, v3030, v3033] : Fin 4 → IVec S16 32) a x).toNat < S2x4x32x32.size a)
theorem k0_idx2982_inb : ∀ (v2468 : IVec S16 32) (v2855 : IVec S16 32) (v3030 : IVec S16 32) (v3033 : IVec S16 32) (k0_hw2249 : k0_chk2249 v2468 v2855 v3030 v3033), ∀ a x, ((![v2468, v2855, v3030, v3033] : Fin 4 → IVec S16 32) a x).toNat < S2x4x32x32.size a := fun v2468 v2855 v3030 v3033 k0_hw2249 => k0_hw2249

def k0_chk2250 (v33 : IVec S16 32) (v35 : IVec S16 32) (v2468 : IVec S16 32) (v2855 : IVec S16 32) (v3035 : IVec S16 32) : Prop :=
  (∀ a x, ((![v2468, v2855, v3035, v33] : Fin 4 → IVec S16 32) a x).toNat < S2x4x94x96.size a) ∧
  (∀ a x, ((![v2468, v2855, v3035, v35] : Fin 4 → IVec S16 32) a x).toNat < S2x4x94x96.size a)
theorem k0_idx2983_inb : ∀ (v33 : IVec S16 32) (v35 : IVec S16 32) (v2468 : IVec S16 32) (v2855 : IVec S16 32) (v3035 : IVec S16 32) (k0_hw2250 : k0_chk2250 v33 v35 v2468 v2855 v3035), ∀ a x, ((![v2468, v2855, v3035, v33] : Fin 4 → IVec S16 32) a x).toNat < S2x4x94x96.size a := fun v33 v35 v2468 v2855 v3035 k0_hw2250 => k0_hw2250.1
theorem k0_idx2984_inb : ∀ (v33 : IVec S16 32) (v35 : IVec S16 32) (v2468 : IVec S16 32) (v2855 : IVec S16 32) (v3035 : IVec S16 32) (k0_hw2250 : k0_chk2250 v33 v35 v2468 v2855 v3035), ∀ a x, ((![v2468, v2855, v3035, v35] : Fin 4 → IVec S16 32) a x).toNat < S2x4x94x96.size a := fun v33 v35 v2468 v2855 v3035 k0_hw2250 => k0_hw2250.2

def k0_chk2251 (v30 : IVec S16 32) (v2468 : IVec S16 32) (v2855 : IVec S16 32) (v3036 : IVec S16 32) : Prop :=
  (∀ a x, ((![v2468, v2855, v3036, v30] : Fin 4 → IVec S16 32) a x).toNat < S2x4x32x32.size a)
theorem k0_idx2985_inb : ∀ (v30 : IVec S16 32) (v2468 : IVec S16 32) (v2855 : IVec S16 32) (v3036 : IVec S16 32) (k0_hw2251 : k0_chk2251 v30 v2468 v2855 v3036), ∀ a x, ((![v2468, v2855, v3036, v30] : Fin 4 → IVec S16 32) a x).toNat < S2x4x32x32.size a := fun v30 v2468 v2855 v3036 k0_hw2251 => k0_hw2251

def k0_chk2252 (v2468 : IVec S16 32) (v2855 : IVec S16 32) (v3036 : IVec S16 32) (v3039 : IVec S16 32) : Prop :=
  (∀ a x, ((![v2468, v2855, v3036, v3039] : Fin 4 → IVec S16 32) a x).toNat < S2x4x32x32.size a)
theorem k0_idx2986_inb : ∀ (v2468 : IVec S16 32) (v2855 : IVec S16 32) (v3036 : IVec S16 32) (v3039 : IVec S16 32) (k0_hw2252 : k0_chk2252 v2468 v2855 v3036 v3039), ∀ a x, ((![v2468, v2855, v3036, v3039] : Fin 4 → IVec S16 32) a x).toNat < S2x4x32x32.size a := fun v2468 v2855 v3036 v3039 k0_hw2252 => k0_hw2252

def k0_chk2253 (v33 : IVec S16 32) (v35 : IVec S16 32) (v2468 : IVec S16 32) (v2855 : IVec S16 32) (v3041 : IVec S16 32) : Prop :=
  (∀ a x, ((![v2468, v2855, v3041, v33] : Fin 4 → IVec S16 32) a x).toNat < S2x4x94x96.size a) ∧
  (∀ a x, ((![v2468, v2855, v3041, v35] : Fin 4 → IVec S16 32) a x).toNat < S2x4x94x96.size a)
theorem k0_idx2987_inb : ∀ (v33 : IVec S16 32) (v35 : IVec S16 32) (v2468 : IVec S16 32) (v2855 : IVec S16 32) (v3041 : IVec S16 32) (k0_hw2253 : k0_chk2253 v33 v35 v2468 v2855 v3041), ∀ a x, ((![v2468, v2855, v3041, v33] : Fin 4 → IVec S16 32) a x).toNat < S2x4x94x96.size a := fun v33 v35 v2468 v2855 v3041 k0_hw2253 => k0_hw2253.1
theorem k0_idx2988_inb : ∀ (v33 : IVec S16 32) (v35 : IVec S16 32) (v2468 : IVec S16 32) (v2855 : IVec S16 32) (v3041 : IVec S16 32) (k0_hw2253 : k0_chk2253 v33 v35 v2468 v2855 v3041), ∀ a x, ((![v2468, v2855, v3041, v35] : Fin 4 → IVec S16 32) a x).toNat < S2x4x94x96.size a := fun v33 v35 v2468 v2855 v3041 k0_hw2253 => k0_hw2253.2

def k0_chk2254 (v30 : IVec S16 32) (v2468 : IVec S16 32) (v2855 : IVec S16 32) (v3042 : IVec S16 32) : Prop :=
  (∀ a x, ((![v2468, v2855, v3042, v30] : Fin 4 → IVec S16 32) a x).toNat < S2x4x32x32.size a)
theorem k0_idx2989_inb : ∀ (v30 : IVec S16 32) (v2468 : IVec S16 32) (v2855 : IVec S16 32) (v3042 : IVec S16 32) (k0_hw2254 : k0_chk2254 v30 v2468 v2855 v3042), ∀ a x, ((![v2468, v2855, v3042, v30] : Fin 4 → IVec S16 32) a x).toNat < S2x4x32x32.size a := fun v30 v2468 v2855 v3042 k0_hw2254 => k0_hw2254

def k0_chk2255 (v2468 : IVec S16 32) (v2855 : IVec S16 32) (v3042 : IVec S16 32) (v3045 : IVec S16 32) : Prop :=
  (∀ a x, ((![v2468, v2855, v3042, v3045] : Fin 4 → IVec S16 32) a x).toNat < S2x4x32x32.size a)
theorem k0_idx2990_inb : ∀ (v2468 : IVec S16 32) (v2855 : IVec S16 32) (v3042 : IVec S16 32) (v3045 : IVec S16 32) (k0_hw2255 : k0_chk2255 v2468 v2855 v3042 v3045), ∀ a x, ((![v2468, v2855, v3042, v3045] : Fin 4 → IVec S16 32) a x).toNat < S2x4x32x32.size a := fun v2468 v2855 v3042 v3045 k0_hw2255 => k0_hw2255

def k0_chk2256 (v33 : IVec S16 32) (v35 : IVec S16 32) (v2468 : IVec S16 32) (v2855 : IVec S16 32) (v3047 : IVec S16 32) : Prop :=
  (∀ a x, ((![v2468, v2855, v3047, v33] : Fin 4 → IVec S16 32) a x).toNat < S2x4x94x96.size a) ∧
  (∀ a x, ((![v2468, v2855, v3047, v35] : Fin 4 → IVec S16 32) a x).toNat < S2x4x94x96.size a)
theorem k0_idx2991_inb : ∀ (v33 : IVec S16 32) (v35 : IVec S16 32) (v2468 : IVec S16 32) (v2855 : IVec S16 32) (v3047 : IVec S16 32) (k0_hw2256 : k0_chk2256 v33 v35 v2468 v2855 v3047), ∀ a x, ((![v2468, v2855, v3047, v33] : Fin 4 → IVec S16 32) a x).toNat < S2x4x94x96.size a := fun v33 v35 v2468 v2855 v3047 k0_hw2256 => k0_hw2256.1
theorem k0_idx2992_inb : ∀ (v33 : IVec S16 32) (v35 : IVec S16 32) (v2468 : IVec S16 32) (v2855 : IVec S16 32) (v3047 : IVec S16 32) (k0_hw2256 : k0_chk2256 v33 v35 v2468 v2855 v3047), ∀ a x, ((![v2468, v2855, v3047, v35] : Fin 4 → IVec S16 32) a x).toNat < S2x4x94x96.size a := fun v33 v35 v2468 v2855 v3047 k0_hw2256 => k0_hw2256.2

def k0_chk2257 (v30 : IVec S16 32) (v2468 : IVec S16 32) (v3048 : IVec S16 32) (v3049 : IVec S16 32) : Prop :=
  (∀ a x, ((![v2468, v3048, v3049, v30] : Fin 4 → IVec S16 32) a x).toNat < S2x4x32x32.size a)
theorem k0_idx2993_inb : ∀ (v30 : IVec S16 32) (v2468 : IVec S16 32) (v3048 : IVec S16 32) (v3049 : IVec S16 32) (k0_hw2257 : k0_chk2257 v30 v2468 v3048 v3049), ∀ a x, ((![v2468, v3048, v3049, v30] : Fin 4 → IVec S16 32) a x).toNat < S2x4x32x32.size a := fun v30 v2468 v3048 v3049 k0_hw2257 => k0_hw2257

def k0_chk2258 (v2468 : IVec S16 32) (v3048 : IVec S16 32) (v3049 : IVec S16 32) (v3052 : IVec S16 32) : Prop :=
  (∀ a x, ((![v2468, v3048, v3049, v3052] : Fin 4 → IVec S16 32) a x).toNat < S2x4x32x32.size a)
theorem k0_idx2994_inb : ∀ (v2468 : IVec S16 32) (v3048 : IVec S16 32) (v3049 : IVec S16 32) (v3052 : IVec S16 32) (k0_hw2258 : k0_chk2258 v2468 v3048 v3049 v3052), ∀ a x, ((![v2468, v3048, v3049, v3052] : Fin 4 → IVec S16 32) a x).toNat < S2x4x32x32.size a := fun v2468 v3048 v3049 v3052 k0_hw2258 => k0_hw2258

def k0_chk2259 (v33 : IVec S16 32) (v35 : IVec S16 32) (v2468 : IVec S16 32) (v3048 : IVec S16 32) (v3054 : IVec S16 32) : Prop :=
  (∀ a x, ((![v2468, v3048, v3054, v33] : Fin 4 → IVec S16 32) a x).toNat < S2x4x94x96.size a) ∧
  (∀ a x, ((![v2468, v3048, v3054, v35] : Fin 4 → IVec S16 32) a x).toNat < S2x4x94x96.size a)
theorem k0_idx2995_inb : ∀ (v33 : IVec S16 32) (v35 : IVec S16 32) (v2468 : IVec S16 32) (v3048 : IVec S16 32) (v3054 : IVec S16 32) (k0_hw2259 : k0_chk2259 v33 v35 v2468 v3048 v3054), ∀ a x, ((![v2468, v3048, v3054, v33] : Fin 4 → IVec S16 32) a x).toNat < S2x4x94x96.size a := fun v33 v35 v2468 v3048 v3054 k0_hw2259 => k0_hw2259.1
theorem k0_idx2996_inb : ∀ (v33 : IVec S16 32) (v35 : IVec S16 32) (v2468 : IVec S16 32) (v3048 : IVec S16 32) (v3054 : IVec S16 32) (k0_hw2259 : k0_chk2259 v33 v35 v2468 v3048 v3054), ∀ a x, ((![v2468, v3048, v3054, v35] : Fin 4 → IVec S16 32) a x).toNat < S2x4x94x96.size a := fun v33 v35 v2468 v3048 v3054 k0_hw2259 => k0_hw2259.2

def k0_chk2260 (v30 : IVec S16 32) (v2468 : IVec S16 32) (v3048 : IVec S16 32) (v3055 : IVec S16 32) : Prop :=
  (∀ a x, ((![v2468, v3048, v3055, v30] : Fin 4 → IVec S16 32) a x).toNat < S2x4x32x32.size a)
theorem k0_idx2997_inb : ∀ (v30 : IVec S16 32) (v2468 : IVec S16 32) (v3048 : IVec S16 32) (v3055 : IVec S16 32) (k0_hw2260 : k0_chk2260 v30 v2468 v3048 v3055), ∀ a x, ((![v2468, v3048, v3055, v30] : Fin 4 → IVec S16 32) a x).toNat < S2x4x32x32.size a := fun v30 v2468 v3048 v3055 k0_hw2260 => k0_hw2260

def k0_chk2261 (v2468 : IVec S16 32) (v3048 : IVec S16 32) (v3055 : IVec S16 32) (v3058 : IVec S16 32) : Prop :=
  (∀ a x, ((![v2468, v3048, v3055, v3058] : Fin 4 → IVec S16 32) a x).toNat < S2x4x32x32.size a)
theorem k0_idx2998_inb : ∀ (v2468 : IVec S16 32) (v3048 : IVec S16 32) (v3055 : IVec S16 32) (v3058 : IVec S16 32) (k0_hw2261 : k0_chk2261 v2468 v3048 v3055 v3058), ∀ a x, ((![v2468, v3048, v3055, v3058] : Fin 4 → IVec S16 32) a x).toNat < S2x4x32x32.size a := fun v2468 v3048 v3055 v3058 k0_hw2261 => k0_hw2261

def k0_chk2262 (v33 : IVec S16 32) (v35 : IVec S16 32) (v2468 : IVec S16 32) (v3048 : IVec S16 32) (v3060 : IVec S16 32) : Prop :=
  (∀ a x, ((![v2468, v3048, v3060, v33] : Fin 4 → IVec S16 32) a x).toNat < S2x4x94x96.size a) ∧
  (∀ a x, ((![v2468, v3048, v3060, v35] : Fin 4 → IVec S16 32) a x).toNat < S2x4x94x96.size a)
theorem k0_idx2999_inb : ∀ (v33 : IVec S16 32) (v35 : IVec S16 32) (v2468 : IVec S16 32) (v3048 : IVec S16 32) (v3060 : IVec S16 32) (k0_hw2262 : k0_chk2262 v33 v35 v2468 v3048 v3060), ∀ a x, ((![v2468, v3048, v3060, v33] : Fin 4 → IVec S16 32) a x).toNat < S2x4x94x96.size a := fun v33 v35 v2468 v3048 v3060 k0_hw2262 => k0_hw2262.1
theorem k0_idx3000_inb : ∀ (v33 : IVec S16 32) (v35 : IVec S16 32) (v2468 : IVec S16 32) (v3048 : IVec S16 32) (v3060 : IVec S16 32) (k0_hw2262 : k0_chk2262 v33 v35 v2468 v3048 v3060), ∀ a x, ((![v2468, v3048, v3060, v35] : Fin 4 → IVec S16 32) a x).toNat < S2x4x94x96.size a := fun v33 v35 v2468 v3048 v3060 k0_hw2262 => k0_hw2262.2

def k0_chk2263 (v30 : IVec S16 32) (v2468 : IVec S16 32) (v3048 : IVec S16 32) (v3061 : IVec S16 32) : Prop :=
  (∀ a x, ((![v2468, v3048, v3061, v30] : Fin 4 → IVec S16 32) a x).toNat < S2x4x32x32.size a)
theorem k0_idx3001_inb : ∀ (v30 : IVec S16 32) (v2468 : IVec S16 32) (v3048 : IVec S16 32) (v3061 : IVec S16 32) (k0_hw2263 : k0_chk2263 v30 v2468 v3048 v3061), ∀ a x, ((![v2468, v3048, v3061, v30] : Fin 4 → IVec S16 32) a x).toNat < S2x4x32x32.size a := fun v30 v2468 v3048 v3061 k0_hw2263 => k0_hw2263

def k0_chk2264 (v2468 : IVec S16 32) (v3048 : IVec S16 32) (v3061 : IVec S16 32) (v3064 : IVec S16 32) : Prop :=
  (∀ a x, ((![v2468, v3048, v3061, v3064] : Fin 4 → IVec S16 32) a x).toNat < S2x4x32x32.size a)
theorem k0_idx3002_inb : ∀ (v2468 : IVec S16 32) (v3048 : IVec S16 32) (v3061 : IVec S16 32) (v3064 : IVec S16 32) (k0_hw2264 : k0_chk2264 v2468 v3048 v3061 v3064), ∀ a x, ((![v2468, v3048, v3061, v3064] : Fin 4 → IVec S16 32) a x).toNat < S2x4x32x32.size a := fun v2468 v3048 v3061 v3064 k0_hw2264 => k0_hw2264

def k0_chk2265 (v33 : IVec S16 32) (v35 : IVec S16 32) (v2468 : IVec S16 32) (v3048 : IVec S16 32) (v3066 : IVec S16 32) : Prop :=
  (∀ a x, ((![v2468, v3048, v3066, v33] : Fin 4 → IVec S16 32) a x).toNat < S2x4x94x96.size a) ∧
  (∀ a x, ((![v2468, v3048, v3066, v35] : Fin 4 → IVec S16 32) a x).toNat < S2x4x94x96.size a)
theorem k0_idx3003_inb : ∀ (v33 : IVec S16 32) (v35 : IVec S16 32) (v2468 : IVec S16 32) (v3048 : IVec S16 32) (v3066 : IVec S16 32) (k0_hw2265 : k0_chk2265 v33 v35 v2468 v3048 v3066), ∀ a x, ((![v2468, v3048, v3066, v33] : Fin 4 → IVec S16 32) a x).toNat < S2x4x94x96.size a := fun v33 v35 v2468 v3048 v3066 k0_hw2265 => k0_hw2265.1
theorem k0_idx3004_inb : ∀ (v33 : IVec S16 32) (v35 : IVec S16 32) (v2468 : IVec S16 32) (v3048 : IVec S16 32) (v3066 : IVec S16 32) (k0_hw2265 : k0_chk2265 v33 v35 v2468 v3048 v3066), ∀ a x, ((![v2468, v3048, v3066, v35] : Fin 4 → IVec S16 32) a x).toNat < S2x4x94x96.size a := fun v33 v35 v2468 v3048 v3066 k0_hw2265 => k0_hw2265.2

def k0_chk2266 (v30 : IVec S16 32) (v2468 : IVec S16 32) (v3048 : IVec S16 32) (v3067 : IVec S16 32) : Prop :=
  (∀ a x, ((![v2468, v3048, v3067, v30] : Fin 4 → IVec S16 32) a x).toNat < S2x4x32x32.size a)
theorem k0_idx3005_inb : ∀ (v30 : IVec S16 32) (v2468 : IVec S16 32) (v3048 : IVec S16 32) (v3067 : IVec S16 32) (k0_hw2266 : k0_chk2266 v30 v2468 v3048 v3067), ∀ a x, ((![v2468, v3048, v3067, v30] : Fin 4 → IVec S16 32) a x).toNat < S2x4x32x32.size a := fun v30 v2468 v3048 v3067 k0_hw2266 => k0_hw2266

def k0_chk2267 (v2468 : IVec S16 32) (v3048 : IVec S16 32) (v3067 : IVec S16 32) (v3070 : IVec S16 32) : Prop :=
  (∀ a x, ((![v2468, v3048, v3067, v3070] : Fin 4 → IVec S16 32) a x).toNat < S2x4x32x32.size a)
theorem k0_idx3006_inb : ∀ (v2468 : IVec S16 32) (v3048 : IVec S16 32) (v3067 : IVec S16 32) (v3070 : IVec S16 32) (k0_hw2267 : k0_chk2267 v2468 v3048 v3067 v3070), ∀ a x, ((![v2468, v3048, v3067, v3070] : Fin 4 → IVec S16 32) a x).toNat < S2x4x32x32.size a := fun v2468 v3048 v3067 v3070 k0_hw2267 => k0_hw2267

def k0_chk2268 (v33 : IVec S16 32) (v35 : IVec S16 32) (v2468 : IVec S16 32) (v3048 : IVec S16 32) (v3072 : IVec S16 32) : Prop :=
  (∀ a x, ((![v2468, v3048, v3072, v33] : Fin 4 → IVec S16 32) a x).toNat < S2x4x94x96.size a) ∧
  (∀ a x, ((![v2468, v3048, v3072, v35] : Fin 4 → IVec S16 32) a x).toNat < S2x4x94x96.size a)
theorem k0_idx3007_inb : ∀ (v33 : IVec S16 32) (v35 : IVec S16 32) (v2468 : IVec S16 32) (v3048 : IVec S16 32) (v3072 : IVec S16 32) (k0_hw2268 : k0_chk2268 v33 v35 v2468 v3048 v3072), ∀ a x, ((![v2468, v3048, v3072, v33] : Fin 4 → IVec S16 32) a x).toNat < S2x4x94x96.size a := fun v33 v35 v2468 v3048 v3072 k0_hw2268 => k0_hw2268.1
theorem k0_idx3008_inb : ∀ (v33 : IVec S16 32) (v35 : IVec S16 32) (v2468 : IVec S16 32) (v3048 : IVec S16 32) (v3072 : IVec S16 32) (k0_hw2268 : k0_chk2268 v33 v35 v2468 v3048 v3072), ∀ a x, ((![v2468, v3048, v3072, v35] : Fin 4 → IVec S16 32) a x).toNat < S2x4x94x96.size a := fun v33 v35 v2468 v3048 v3072 k0_hw2268 => k0_hw2268.2

def k0_chk2269 (v30 : IVec S16 32) (v2468 : IVec S16 32) (v3048 : IVec S16 32) (v3073 : IVec S16 32) : Prop :=
  (∀ a x, ((![v2468, v3048, v3073, v30] : Fin 4 → IVec S16 32) a x).toNat < S2x4x32x32.size a)
theorem k0_idx3009_inb : ∀ (v30 : IVec S16 32) (v2468 : IVec S16 32) (v3048 : IVec S16 32) (v3073 : IVec S16 32) (k0_hw2269 : k0_chk2269 v30 v2468 v3048 v3073), ∀ a x, ((![v2468, v3048, v3073, v30] : Fin 4 → IVec S16 32) a x).toNat < S2x4x32x32.size a := fun v30 v2468 v3048 v3073 k0_hw2269 => k0_hw2269

def k0_chk2270 (v2468 : IVec S16 32) (v3048 : IVec S16 32) (v3073 : IVec S16 32) (v3076 : IVec S16 32) : Prop :=
  (∀ a x, ((![v2468, v3048, v3073, v3076] : Fin 4 → IVec S16 32) a x).toNat < S2x4x32x32.size a)
theorem k0_idx3010_inb : ∀ (v2468 : IVec S16 32) (v3048 : IVec S16 32) (v3073 : IVec S16 32) (v3076 : IVec S16 32) (k0_hw2270 : k0_chk2270 v2468 v3048 v3073 v3076), ∀ a x, ((![v2468, v3048, v3073, v3076] : Fin 4 → IVec S16 32) a x).toNat < S2x4x32x32.size a := fun v2468 v3048 v3073 v3076 k0_hw2270 => k0_hw2270

def k0_chk2271 (v33 : IVec S16 32) (v35 : IVec S16 32) (v2468 : IVec S16 32) (v3048 : IVec S16 32) (v3078 : IVec S16 32) : Prop :=
  (∀ a x, ((![v2468, v3048, v3078, v33] : Fin 4 → IVec S16 32) a x).toNat < S2x4x94x96.size a) ∧
  (∀ a x, ((![v2468, v3048, v3078, v35] : Fin 4 → IVec S16 32) a x).toNat < S2x4x94x96.size a)
theorem k0_idx3011_inb : ∀ (v33 : IVec S16 32) (v35 : IVec S16 32) (v2468 : IVec S16 32) (v3048 : IVec S16 32) (v3078 : IVec S16 32) (k0_hw2271 : k0_chk2271 v33 v35 v2468 v3048 v3078), ∀ a x, ((![v2468, v3048, v3078, v33] : Fin 4 → IVec S16 32) a x).toNat < S2x4x94x96.size a := fun v33 v35 v2468 v3048 v3078 k0_hw2271 => k0_hw2271.1
theorem k0_idx3012_inb : ∀ (v33 : IVec S16 32) (v35 : IVec S16 32) (v2468 : IVec S16 32) (v3048 : IVec S16 32) (v3078 : IVec S16 32) (k0_hw2271 : k0_chk2271 v33 v35 v2468 v3048 v3078), ∀ a x, ((![v2468, v3048, v3078, v35] : Fin 4 → IVec S16 32) a x).toNat < S2x4x94x96.size a := fun v33 v35 v2468 v3048 v3078 k0_hw2271 => k0_hw2271.2

def k0_chk2272 (v30 : IVec S16 32) (v2468 : IVec S16 32) (v3048 : IVec S16 32) (v3079 : IVec S16 32) : Prop :=
  (∀ a x, ((![v2468, v3048, v3079, v30] : Fin 4 → IVec S16 32) a x).toNat < S2x4x32x32.size a)
theorem k0_idx3013_inb : ∀ (v30 : IVec S16 32) (v2468 : IVec S16 32) (v3048 : IVec S16 32) (v3079 : IVec S16 32) (k0_hw2272 : k0_chk2272 v30 v2468 v3048 v3079), ∀ a x, ((![v2468, v3048, v3079, v30] : Fin 4 → IVec S16 32) a x).toNat < S2x4x32x32.size a := fun v30 v2468 v3048 v3079 k0_hw2272 => k0_hw2272

def k0_chk2273 (v2468 : IVec S16 32) (v3048 : IVec S16 32) (v3079 : IVec S16 32) (v3082 : IVec S16 32) : Prop :=
  (∀ a x, ((![v2468, v3048, v3079, v3082] : Fin 4 → IVec S16 32) a x).toNat < S2x4x32x32.size a)
theorem k0_idx3014_inb : ∀ (v2468 : IVec S16 32) (v3048 : IVec S16 32) (v3079 : IVec S16 32) (v3082 : IVec S16 32) (k0_hw2273 : k0_chk2273 v2468 v3048 v3079 v3082), ∀ a x, ((![v2468, v3048, v3079, v3082] : Fin 4 → IVec S16 32) a x).toNat < S2x4x32x32.size a := fun v2468 v3048 v3079 v3082 k0_hw2273 => k0_hw2273

def k0_chk2274 (v33 : IVec S16 32) (v35 : IVec S16 32) (v2468 : IVec S16 32) (v3048 : IVec S16 32) (v3084 : IVec S16 32) : Prop :=
  (∀ a x, ((![v2468, v3048, v3084, v33] : Fin 4 → IVec S16 32) a x).toNat < S2x4x94x96.size a) ∧
  (∀ a x, ((![v2468, v3048, v3084, v35] : Fin 4 → IVec S16 32) a x).toNat < S2x4x94x96.size a)
theorem k0_idx3015_inb : ∀ (v33 : IVec S16 32) (v35 : IVec S16 32) (v2468 : IVec S16 32) (v3048 : IVec S16 32) (v3084 : IVec S16 32) (k0_hw2274 : k0_chk2274 v33 v35 v2468 v3048 v3084), ∀ a x, ((![v2468, v3048, v3084, v33] : Fin 4 → IVec S16 32) a x).toNat < S2x4x94x96.size a := fun v33 v35 v2468 v3048 v3084 k0_hw2274 => k0_hw2274.1
theorem k0_idx3016_inb : ∀ (v33 : IVec S16 32) (v35 : IVec S16 32) (v2468 : IVec S16 32) (v3048 : IVec S16 32) (v3084 : IVec S16 32) (k0_hw2274 : k0_chk2274 v33 v35 v2468 v3048 v3084), ∀ a x, ((![v2468, v3048, v3084, v35] : Fin 4 → IVec S16 32) a x).toNat < S2x4x94x96.size a := fun v33 v35 v2468 v3048 v3084 k0_hw2274 => k0_hw2274.2

def k0_chk2275 (v30 : IVec S16 32) (v2468 : IVec S16 32) (v3048 : IVec S16 32) (v3085 : IVec S16 32) : Prop :=
  (∀ a x, ((![v2468, v3048, v3085, v30] : Fin 4 → IVec S16 32) a x).toNat < S2x4x32x32.size a)
theorem k0_idx3017_inb : ∀ (v30 : IVec S16 32) (v2468 : IVec S16 32) (v3048 : IVec S16 32) (v3085 : IVec S16 32) (k0_hw2275 : k0_chk2275 v30 v2468 v3048 v3085), ∀ a x, ((![v2468, v3048, v3085, v30] : Fin 4 → IVec S16 32) a x).toNat < S2x4x32x32.size a := fun v30 v2468 v3048 v3085 k0_hw2275 => k0_hw2275

def k0_chk2276 (v2468 : IVec S16 32) (v3048 : IVec S16 32) (v3085 : IVec S16 32) (v3088 : IVec S16 32) : Prop :=
  (∀ a x, ((![v2468, v3048, v3085, v3088] : Fin 4 → IVec S16 32) a x).toNat < S2x4x32x32.size a)
theorem k0_idx3018_inb : ∀ (v2468 : IVec S16 32) (v3048 : IVec S16 32) (v3085 : IVec S16 32) (v3088 : IVec S16 32) (k0_hw2276 : k0_chk2276 v2468 v3048 v3085 v3088), ∀ a x, ((![v2468, v3048, v3085, v3088] : Fin 4 → IVec S16 32) a x).toNat < S2x4x32x32.size a := fun v2468 v3048 v3085 v3088 k0_hw2276 => k0_hw2276

def k0_chk2277 (v33 : IVec S16 32) (v35 : IVec S16 32) (v2468 : IVec S16 32) (v3048 : IVec S16 32) (v3090 : IVec S16 32) : Prop :=
  (∀ a x, ((![v2468, v3048, v3090, v33] : Fin 4 → IVec S16 32) a x).toNat < S2x4x94x96.size a) ∧
  (∀ a x, ((![v2468, v3048, v3090, v35] : Fin 4 → IVec S16 32) a x).toNat < S2x4x94x96.size a)
theorem k0_idx3019_inb : ∀ (v33 : IVec S16 32) (v35 : IVec S16 32) (v2468 : IVec S16 32) (v3048 : IVec S16 32) (v3090 : IVec S16 32) (k0_hw2277 : k0_chk2277 v33 v35 v2468 v3048 v3090), ∀ a x, ((![v2468, v3048, v3090, v33] : Fin 4 → IVec S16 32) a x).toNat < S2x4x94x96.size a := fun v33 v35 v2468 v3048 v3090 k0_hw2277 => k0_hw2277.1
theorem k0_idx3020_inb : ∀ (v33 : IVec S16 32) (v35 : IVec S16 32) (v2468 : IVec S16 32) (v3048 : IVec S16 32) (v3090 : IVec S16 32) (k0_hw2277 : k0_chk2277 v33 v35 v2468 v3048 v3090), ∀ a x, ((![v2468, v3048, v3090, v35] : Fin 4 → IVec S16 32) a x).toNat < S2x4x94x96.size a := fun v33 v35 v2468 v3048 v3090 k0_hw2277 => k0_hw2277.2

def k0_chk2278 (v30 : IVec S16 32) (v2468 : IVec S16 32) (v3048 : IVec S16 32) (v3091 : IVec S16 32) : Prop :=
  (∀ a x, ((![v2468, v3048, v3091, v30] : Fin 4 → IVec S16 32) a x).toNat < S2x4x32x32.size a)
theorem k0_idx3021_inb : ∀ (v30 : IVec S16 32) (v2468 : IVec S16 32) (v3048 : IVec S16 32) (v3091 : IVec S16 32) (k0_hw2278 : k0_chk2278 v30 v2468 v3048 v3091), ∀ a x, ((![v2468, v3048, v3091, v30] : Fin 4 → IVec S16 32) a x).toNat < S2x4x32x32.size a := fun v30 v2468 v3048 v3091 k0_hw2278 => k0_hw2278

def k0_chk2279 (v2468 : IVec S16 32) (v3048 : IVec S16 32) (v3091 : IVec S16 32) (v3094 : IVec S16 32) : Prop :=
  (∀ a x, ((![v2468, v3048, v3091, v3094] : Fin 4 → IVec S16 32) a x).toNat < S2x4x32x32.size a)
theorem k0_idx3022_inb : ∀ (v2468 : IVec S16 32) (v3048 : IVec S16 32) (v3091 : IVec S16 32) (v3094 : IVec S16 32) (k0_hw2279 : k0_chk2279 v2468 v3048 v3091 v3094), ∀ a x, ((![v2468, v3048, v3091, v3094] : Fin 4 → IVec S16 32) a x).toNat < S2x4x32x32.size a := fun v2468 v3048 v3091 v3094 k0_hw2279 => k0_hw2279

def k0_chk2280 (v33 : IVec S16 32) (v35 : IVec S16 32) (v2468 : IVec S16 32) (v3048 : IVec S16 32) (v3096 : IVec S16 32) : Prop :=
  (∀ a x, ((![v2468, v3048, v3096, v33] : Fin 4 → IVec S16 32) a x).toNat < S2x4x94x96.size a) ∧
  (∀ a x, ((![v2468, v3048, v3096, v35] : Fin 4 → IVec S16 32) a x).toNat < S2x4x94x96.size a)
theorem k0_idx3023_inb : ∀ (v33 : IVec S16 32) (v35 : IVec S16 32) (v2468 : IVec S16 32) (v3048 : IVec S16 32) (v3096 : IVec S16 32) (k0_hw2280 : k0_chk2280 v33 v35 v2468 v3048 v3096), ∀ a x, ((![v2468, v3048, v3096, v33] : Fin 4 → IVec S16 32) a x).toNat < S2x4x94x96.size a := fun v33 v35 v2468 v3048 v3096 k0_hw2280 => k0_hw2280.1
theorem k0_idx3024_inb : ∀ (v33 : IVec S16 32) (v35 : IVec S16 32) (v2468 : IVec S16 32) (v3048 : IVec S16 32) (v3096 : IVec S16 32) (k0_hw2280 : k0_chk2280 v33 v35 v2468 v3048 v3096), ∀ a x, ((![v2468, v3048, v3096, v35] : Fin 4 → IVec S16 32) a x).toNat < S2x4x94x96.size a := fun v33 v35 v2468 v3048 v3096 k0_hw2280 => k0_hw2280.2

def k0_chk2281 (v30 : IVec S16 32) (v2468 : IVec S16 32) (v3048 : IVec S16 32) (v3097 : IVec S16 32) : Prop :=
  (∀ a x, ((![v2468, v3048, v3097, v30] : Fin 4 → IVec S16 32) a x).toNat < S2x4x32x32.size a)
theorem k0_idx3025_inb : ∀ (v30 : IVec S16 32) (v2468 : IVec S16 32) (v3048 : IVec S16 32) (v3097 : IVec S16 32) (k0_hw2281 : k0_chk2281 v30 v2468 v3048 v3097), ∀ a x, ((![v2468, v3048, v3097, v30] : Fin 4 → IVec S16 32) a x).toNat < S2x4x32x32.size a := fun v30 v2468 v3048 v3097 k0_hw2281 => k0_hw2281

def k0_chk2282 (v2468 : IVec S16 32) (v3048 : IVec S16 32) (v3097 : IVec S16 32) (v3100 : IVec S16 32) : Prop :=
  (∀ a x, ((![v2468, v3048, v3097, v3100] : Fin 4 → IVec S16 32) a x).toNat < S2x4x32x32.size a)
theorem k0_idx3026_inb : ∀ (v2468 : IVec S16 32) (v3048 : IVec S16 32) (v3097 : IVec S16 32) (v3100 : IVec S16 32) (k0_hw2282 : k0_chk2282 v2468 v3048 v3097 v3100), ∀ a x, ((![v2468, v3048, v3097, v3100] : Fin 4 → IVec S16 32) a x).toNat < S2x4x32x32.size a := fun v2468 v3048 v3097 v3100 k0_hw2282 => k0_hw2282

def k0_chk2283 (v33 : IVec S16 32) (v35 : IVec S16 32) (v2468 : IVec S16 32) (v3048 : IVec S16 32) (v3102 : IVec S16 32) : Prop :=
  (∀ a x, ((![v2468, v3048, v3102, v33] : Fin 4 → IVec S16 32) a x).toNat < S2x4x94x96.size a) ∧
  (∀ a x, ((![v2468, v3048, v3102, v35] : Fin 4 → IVec S16 32) a x).toNat < S2x4x94x96.size a)
theorem k0_idx3027_inb : ∀ (v33 : IVec S16 32) (v35 : IVec S16 32) (v2468 : IVec S16 32) (v3048 : IVec S16 32) (v3102 : IVec S16 32) (k0_hw2283 : k0_chk2283 v33 v35 v2468 v3048 v3102), ∀ a x, ((![v2468, v3048, v3102, v33] : Fin 4 → IVec S16 32) a x).toNat < S2x4x94x96.size a := fun v33 v35 v2468 v3048 v3102 k0_hw2283 => k0_hw2283.1
theorem k0_idx3028_inb : ∀ (v33 : IVec S16 32) (v35 : IVec S16 32) (v2468 : IVec S16 32) (v3048 : IVec S16 32) (v3102 : IVec S16 32) (k0_hw2283 : k0_chk2283 v33 v35 v2468 v3048 v3102), ∀ a x, ((![v2468, v3048, v3102, v35] : Fin 4 → IVec S16 32) a x).toNat < S2x4x94x96.size a := fun v33 v35 v2468 v3048 v3102 k0_hw2283 => k0_hw2283.2

def k0_chk2284 (v30 : IVec S16 32) (v2468 : IVec S16 32) (v3048 : IVec S16 32) (v3103 : IVec S16 32) : Prop :=
  (∀ a x, ((![v2468, v3048, v3103, v30] : Fin 4 → IVec S16 32) a x).toNat < S2x4x32x32.size a)
theorem k0_idx3029_inb : ∀ (v30 : IVec S16 32) (v2468 : IVec S16 32) (v3048 : IVec S16 32) (v3103 : IVec S16 32) (k0_hw2284 : k0_chk2284 v30 v2468 v3048 v3103), ∀ a x, ((![v2468, v3048, v3103, v30] : Fin 4 → IVec S16 32) a x).toNat < S2x4x32x32.size a := fun v30 v2468 v3048 v3103 k0_hw2284 => k0_hw2284

def k0_chk2285 (v2468 : IVec S16 32) (v3048 : IVec S16 32) (v3103 : IVec S16 32) (v3106 : IVec S16 32) : Prop :=
  (∀ a x, ((![v2468, v3048, v3103, v3106] : Fin 4 → IVec S16 32) a x).toNat < S2x4x32x32.size a)
theorem k0_idx3030_inb : ∀ (v2468 : IVec S16 32) (v3048 : IVec S16 32) (v3103 : IVec S16 32) (v3106 : IVec S16 32) (k0_hw2285 : k0_chk2285 v2468 v3048 v3103 v3106), ∀ a x, ((![v2468, v3048, v3103, v3106] : Fin 4 → IVec S16 32) a x).toNat < S2x4x32x32.size a := fun v2468 v3048 v3103 v3106 k0_hw2285 => k0_hw2285

def k0_chk2286 (v33 : IVec S16 32) (v35 : IVec S16 32) (v2468 : IVec S16 32) (v3048 : IVec S16 32) (v3108 : IVec S16 32) : Prop :=
  (∀ a x, ((![v2468, v3048, v3108, v33] : Fin 4 → IVec S16 32) a x).toNat < S2x4x94x96.size a) ∧
  (∀ a x, ((![v2468, v3048, v3108, v35] : Fin 4 → IVec S16 32) a x).toNat < S2x4x94x96.size a)
theorem k0_idx3031_inb : ∀ (v33 : IVec S16 32) (v35 : IVec S16 32) (v2468 : IVec S16 32) (v3048 : IVec S16 32) (v3108 : IVec S16 32) (k0_hw2286 : k0_chk2286 v33 v35 v2468 v3048 v3108), ∀ a x, ((![v2468, v3048, v3108, v33] : Fin 4 → IVec S16 32) a x).toNat < S2x4x94x96.size a := fun v33 v35 v2468 v3048 v3108 k0_hw2286 => k0_hw2286.1
theorem k0_idx3032_inb : ∀ (v33 : IVec S16 32) (v35 : IVec S16 32) (v2468 : IVec S16 32) (v3048 : IVec S16 32) (v3108 : IVec S16 32) (k0_hw2286 : k0_chk2286 v33 v35 v2468 v3048 v3108), ∀ a x, ((![v2468, v3048, v3108, v35] : Fin 4 → IVec S16 32) a x).toNat < S2x4x94x96.size a := fun v33 v35 v2468 v3048 v3108 k0_hw2286 => k0_hw2286.2

def k0_chk2287 (v30 : IVec S16 32) (v2468 : IVec S16 32) (v3048 : IVec S16 32) (v3109 : IVec S16 32) : Prop :=
  (∀ a x, ((![v2468, v3048, v3109, v30] : Fin 4 → IVec S16 32) a x).toNat < S2x4x32x32.size a)
theorem k0_idx3033_inb : ∀ (v30 : IVec S16 32) (v2468 : IVec S16 32) (v3048 : IVec S16 32) (v3109 : IVec S16 32) (k0_hw2287 : k0_chk2287 v30 v2468 v3048 v3109), ∀ a x, ((![v2468, v3048, v3109, v30] : Fin 4 → IVec S16 32) a x).toNat < S2x4x32x32.size a := fun v30 v2468 v3048 v3109 k0_hw2287 => k0_hw2287

def k0_chk2288 (v2468 : IVec S16 32) (v3048 : IVec S16 32) (v3109 : IVec S16 32) (v3112 : IVec S16 32) : Prop :=
  (∀ a x, ((![v2468, v3048, v3109, v3112] : Fin 4 → IVec S16 32) a x).toNat < S2x4x32x32.size a)
theorem k0_idx3034_inb : ∀ (v2468 : IVec S16 32) (v3048 : IVec S16 32) (v3109 : IVec S16 32) (v3112 : IVec S16 32) (k0_hw2288 : k0_chk2288 v2468 v3048 v3109 v3112), ∀ a x, ((![v2468, v3048, v3109, v3112] : Fin 4 → IVec S16 32) a x).toNat < S2x4x32x32.size a := fun v2468 v3048 v3109 v3112 k0_hw2288 => k0_hw2288

def k0_chk2289 (v33 : IVec S16 32) (v35 : IVec S16 32) (v2468 : IVec S16 32) (v3048 : IVec S16 32) (v3114 : IVec S16 32) : Prop :=
  (∀ a x, ((![v2468, v3048, v3114, v33] : Fin 4 → IVec S16 32) a x).toNat < S2x4x94x96.size a) ∧
  (∀ a x, ((![v2468, v3048, v3114, v35] : Fin 4 → IVec S16 32) a x).toNat < S2x4x94x96.size a)
theorem k0_idx3035_inb : ∀ (v33 : IVec S16 32) (v35 : IVec S16 32) (v2468 : IVec S16 32) (v3048 : IVec S16 32) (v3114 : IVec S16 32) (k0_hw2289 : k0_chk2289 v33 v35 v2468 v3048 v3114), ∀ a x, ((![v2468, v3048, v3114, v33] : Fin 4 → IVec S16 32) a x).toNat < S2x4x94x96.size a := fun v33 v35 v2468 v3048 v3114 k0_hw2289 => k0_hw2289.1
theorem k0_idx3036_inb : ∀ (v33 : IVec S16 32) (v35 : IVec S16 32) (v2468 : IVec S16 32) (v3048 : IVec S16 32) (v3114 : IVec S16 32) (k0_hw2289 : k0_chk2289 v33 v35 v2468 v3048 v3114), ∀ a x, ((![v2468, v3048, v3114, v35] : Fin 4 → IVec S16 32) a x).toNat < S2x4x94x96.size a := fun v33 v35 v2468 v3048 v3114 k0_hw2289 => k0_hw2289.2

def k0_chk2290 (v30 : IVec S16 32) (v2468 : IVec S16 32) (v3048 : IVec S16 32) (v3115 : IVec S16 32) : Prop :=
  (∀ a x, ((![v2468, v3048, v3115, v30] : Fin 4 → IVec S16 32) a x).toNat < S2x4x32x32.size a)
theorem k0_idx3037_inb : ∀ (v30 : IVec S16 32) (v2468 : IVec S16 32) (v3048 : IVec S16 32) (v3115 : IVec S16 32) (k0_hw2290 : k0_chk2290 v30 v2468 v3048 v3115), ∀ a x, ((![v2468, v3048, v3115, v30] : Fin 4 → IVec S16 32) a x).toNat < S2x4x32x32.size a := fun v30 v2468 v3048 v3115 k0_hw2290 => k0_hw2290

def k0_chk2291 (v2468 : IVec S16 32) (v3048 : IVec S16 32) (v3115 : IVec S16 32) (v3118 : IVec S16 32) : Prop :=
  (∀ a x, ((![v2468, v3048, v3115, v3118] : Fin 4 → IVec S16 32) a x).toNat < S2x4x32x32.size a)
theorem k0_idx3038_inb : ∀ (v2468 : IVec S16 32) (v3048 : IVec S16 32) (v3115 : IVec S16 32) (v3118 : IVec S16 32) (k0_hw2291 : k0_chk2291 v2468 v3048 v3115 v3118), ∀ a x, ((![v2468, v3048, v3115, v3118] : Fin 4 → IVec S16 32) a x).toNat < S2x4x32x32.size a := fun v2468 v3048 v3115 v3118 k0_hw2291 => k0_hw2291

def k0_chk2292 (v33 : IVec S16 32) (v35 : IVec S16 32) (v2468 : IVec S16 32) (v3048 : IVec S16 32) (v3120 : IVec S16 32) : Prop :=
  (∀ a x, ((![v2468, v3048, v3120, v33] : Fin 4 → IVec S16 32) a x).toNat < S2x4x94x96.size a) ∧
  (∀ a x, ((![v2468, v3048, v3120, v35] : Fin 4 → IVec S16 32) a x).toNat < S2x4x94x96.size a)
theorem k0_idx3039_inb : ∀ (v33 : IVec S16 32) (v35 : IVec S16 32) (v2468 : IVec S16 32) (v3048 : IVec S16 32) (v3120 : IVec S16 32) (k0_hw2292 : k0_chk2292 v33 v35 v2468 v3048 v3120), ∀ a x, ((![v2468, v3048, v3120, v33] : Fin 4 → IVec S16 32) a x).toNat < S2x4x94x96.size a := fun v33 v35 v2468 v3048 v3120 k0_hw2292 => k0_hw2292.1
theorem k0_idx3040_inb : ∀ (v33 : IVec S16 32) (v35 : IVec S16 32) (v2468 : IVec S16 32) (v3048 : IVec S16 32) (v3120 : IVec S16 32) (k0_hw2292 : k0_chk2292 v33 v35 v2468 v3048 v3120), ∀ a x, ((![v2468, v3048, v3120, v35] : Fin 4 → IVec S16 32) a x).toNat < S2x4x94x96.size a := fun v33 v35 v2468 v3048 v3120 k0_hw2292 => k0_hw2292.2

def k0_chk2293 (v30 : IVec S16 32) (v2468 : IVec S16 32) (v3048 : IVec S16 32) (v3121 : IVec S16 32) : Prop :=
  (∀ a x, ((![v2468, v3048, v3121, v30] : Fin 4 → IVec S16 32) a x).toNat < S2x4x32x32.size a)
theorem k0_idx3041_inb : ∀ (v30 : IVec S16 32) (v2468 : IVec S16 32) (v3048 : IVec S16 32) (v3121 : IVec S16 32) (k0_hw2293 : k0_chk2293 v30 v2468 v3048 v3121), ∀ a x, ((![v2468, v3048, v3121, v30] : Fin 4 → IVec S16 32) a x).toNat < S2x4x32x32.size a := fun v30 v2468 v3048 v3121 k0_hw2293 => k0_hw2293

def k0_chk2294 (v2468 : IVec S16 32) (v3048 : IVec S16 32) (v3121 : IVec S16 32) (v3124 : IVec S16 32) : Prop :=
  (∀ a x, ((![v2468, v3048, v3121, v3124] : Fin 4 → IVec S16 32) a x).toNat < S2x4x32x32.size a)
theorem k0_idx3042_inb : ∀ (v2468 : IVec S16 32) (v3048 : IVec S16 32) (v3121 : IVec S16 32) (v3124 : IVec S16 32) (k0_hw2294 : k0_chk2294 v2468 v3048 v3121 v3124), ∀ a x, ((![v2468, v3048, v3121, v3124] : Fin 4 → IVec S16 32) a x).toNat < S2x4x32x32.size a := fun v2468 v3048 v3121 v3124 k0_hw2294 => k0_hw2294

def k0_chk2295 (v33 : IVec S16 32) (v35 : IVec S16 32) (v2468 : IVec S16 32) (v3048 : IVec S16 32) (v3126 : IVec S16 32) : Prop :=
  (∀ a x, ((![v2468, v3048, v3126, v33] : Fin 4 → IVec S16 32) a x).toNat < S2x4x94x96.size a) ∧
  (∀ a x, ((![v2468, v3048, v3126, v35] : Fin 4 → IVec S16 32) a x).toNat < S2x4x94x96.size a)
theorem k0_idx3043_inb : ∀ (v33 : IVec S16 32) (v35 : IVec S16 32) (v2468 : IVec S16 32) (v3048 : IVec S16 32) (v3126 : IVec S16 32) (k0_hw2295 : k0_chk2295 v33 v35 v2468 v3048 v3126), ∀ a x, ((![v2468, v3048, v3126, v33] : Fin 4 → IVec S16 32) a x).toNat < S2x4x94x96.size a := fun v33 v35 v2468 v3048 v3126 k0_hw2295 => k0_hw2295.1
theorem k0_idx3044_inb : ∀ (v33 : IVec S16 32) (v35 : IVec S16 32) (v2468 : IVec S16 32) (v3048 : IVec S16 32) (v3126 : IVec S16 32) (k0_hw2295 : k0_chk2295 v33 v35 v2468 v3048 v3126), ∀ a x, ((![v2468, v3048, v3126, v35] : Fin 4 → IVec S16 32) a x).toNat < S2x4x94x96.size a := fun v33 v35 v2468 v3048 v3126 k0_hw2295 => k0_hw2295.2

def k0_chk2296 (v30 : IVec S16 32) (v2468 : IVec S16 32) (v3048 : IVec S16 32) (v3127 : IVec S16 32) : Prop :=
  (∀ a x, ((![v2468, v3048, v3127, v30] : Fin 4 → IVec S16 32) a x).toNat < S2x4x32x32.size a)
theorem k0_idx3045_inb : ∀ (v30 : IVec S16 32) (v2468 : IVec S16 32) (v3048 : IVec S16 32) (v3127 : IVec S16 32) (k0_hw2296 : k0_chk2296 v30 v2468 v3048 v3127), ∀ a x, ((![v2468, v3048, v3127, v30] : Fin 4 → IVec S16 32) a x).toNat < S2x4x32x32.size a := fun v30 v2468 v3048 v3127 k0_hw2296 => k0_hw2296

def k0_chk2297 (v2468 : IVec S16 32) (v3048 : IVec S16 32) (v3127 : IVec S16 32) (v3130 : IVec S16 32) : Prop :=
  (∀ a x, ((![v2468, v3048, v3127, v3130] : Fin 4 → IVec S16 32) a x).toNat < S2x4x32x32.size a)
theorem k0_idx3046_inb : ∀ (v2468 : IVec S16 32) (v3048 : IVec S16 32) (v3127 : IVec S16 32) (v3130 : IVec S16 32) (k0_hw2297 : k0_chk2297 v2468 v3048 v3127 v3130), ∀ a x, ((![v2468, v3048, v3127, v3130] : Fin 4 → IVec S16 32) a x).toNat < S2x4x32x32.size a := fun v2468 v3048 v3127 v3130 k0_hw2297 => k0_hw2297

def k0_chk2298 (v33 : IVec S16 32) (v35 : IVec S16 32) (v2468 : IVec S16 32) (v3048 : IVec S16 32) (v3132 : IVec S16 32) : Prop :=
  (∀ a x, ((![v2468, v3048, v3132, v33] : Fin 4 → IVec S16 32) a x).toNat < S2x4x94x96.size a) ∧
  (∀ a x, ((![v2468, v3048, v3132, v35] : Fin 4 → IVec S16 32) a x).toNat < S2x4x94x96.size a)
theorem k0_idx3047_inb : ∀ (v33 : IVec S16 32) (v35 : IVec S16 32) (v2468 : IVec S16 32) (v3048 : IVec S16 32) (v3132 : IVec S16 32) (k0_hw2298 : k0_chk2298 v33 v35 v2468 v3048 v3132), ∀ a x, ((![v2468, v3048, v3132, v33] : Fin 4 → IVec S16 32) a x).toNat < S2x4x94x96.size a := fun v33 v35 v2468 v3048 v3132 k0_hw2298 => k0_hw2298.1
theorem k0_idx3048_inb : ∀ (v33 : IVec S16 32) (v35 : IVec S16 32) (v2468 : IVec S16 32) (v3048 : IVec S16 32) (v3132 : IVec S16 32) (k0_hw2298 : k0_chk2298 v33 v35 v2468 v3048 v3132), ∀ a x, ((![v2468, v3048, v3132, v35] : Fin 4 → IVec S16 32) a x).toNat < S2x4x94x96.size a := fun v33 v35 v2468 v3048 v3132 k0_hw2298 => k0_hw2298.2

def k0_chk2299 (v30 : IVec S16 32) (v2468 : IVec S16 32) (v3048 : IVec S16 32) (v3133 : IVec S16 32) : Prop :=
  (∀ a x, ((![v2468, v3048, v3133, v30] : Fin 4 → IVec S16 32) a x).toNat < S2x4x32x32.size a)
theorem k0_idx3049_inb : ∀ (v30 : IVec S16 32) (v2468 : IVec S16 32) (v3048 : IVec S16 32) (v3133 : IVec S16 32) (k0_hw2299 : k0_chk2299 v30 v2468 v3048 v3133), ∀ a x, ((![v2468, v3048, v3133, v30] : Fin 4 → IVec S16 32) a x).toNat < S2x4x32x32.size a := fun v30 v2468 v3048 v3133 k0_hw2299 => k0_hw2299

def k0_chk2300 (v2468 : IVec S16 32) (v3048 : IVec S16 32) (v3133 : IVec S16 32) (v3136 : IVec S16 32) : Prop :=
  (∀ a x, ((![v2468, v3048, v3133, v3136] : Fin 4 → IVec S16 32) a x).toNat < S2x4x32x32.size a)
theorem k0_idx3050_inb : ∀ (v2468 : IVec S16 32) (v3048 : IVec S16 32) (v3133 : IVec S16 32) (v3136 : IVec S16 32) (k0_hw2300 : k0_chk2300 v2468 v3048 v3133 v3136), ∀ a x, ((![v2468, v3048, v3133, v3136] : Fin 4 → IVec S16 32) a x).toNat < S2x4x32x32.size a := fun v2468 v3048 v3133 v3136 k0_hw2300 => k0_hw2300

def k0_chk2301 (v33 : IVec S16 32) (v35 : IVec S16 32) (v2468 : IVec S16 32) (v3048 : IVec S16 32) (v3138 : IVec S16 32) : Prop :=
  (∀ a x, ((![v2468, v3048, v3138, v33] : Fin 4 → IVec S16 32) a x).toNat < S2x4x94x96.size a) ∧
  (∀ a x, ((![v2468, v3048, v3138, v35] : Fin 4 → IVec S16 32) a x).toNat < S2x4x94x96.size a)
theorem k0_idx3051_inb : ∀ (v33 : IVec S16 32) (v35 : IVec S16 32) (v2468 : IVec S16 32) (v3048 : IVec S16 32) (v3138 : IVec S16 32) (k0_hw2301 : k0_chk2301 v33 v35 v2468 v3048 v3138), ∀ a x, ((![v2468, v3048, v3138, v33] : Fin 4 → IVec S16 32) a x).toNat < S2x4x94x96.size a := fun v33 v35 v2468 v3048 v3138 k0_hw2301 => k0_hw2301.1
theorem k0_idx3052_inb : ∀ (v33 : IVec S16 32) (v35 : IVec S16 32) (v2468 : IVec S16 32) (v3048 : IVec S16 32) (v3138 : IVec S16 32) (k0_hw2301 : k0_chk2301 v33 v35 v2468 v3048 v3138), ∀ a x, ((![v2468, v3048, v3138, v35] : Fin 4 → IVec S16 32) a x).toNat < S2x4x94x96.size a := fun v33 v35 v2468 v3048 v3138 k0_hw2301 => k0_hw2301.2

def k0_chk2302 (v30 : IVec S16 32) (v2468 : IVec S16 32) (v3048 : IVec S16 32) (v3139 : IVec S16 32) : Prop :=
  (∀ a x, ((![v2468, v3048, v3139, v30] : Fin 4 → IVec S16 32) a x).toNat < S2x4x32x32.size a)
theorem k0_idx3053_inb : ∀ (v30 : IVec S16 32) (v2468 : IVec S16 32) (v3048 : IVec S16 32) (v3139 : IVec S16 32) (k0_hw2302 : k0_chk2302 v30 v2468 v3048 v3139), ∀ a x, ((![v2468, v3048, v3139, v30] : Fin 4 → IVec S16 32) a x).toNat < S2x4x32x32.size a := fun v30 v2468 v3048 v3139 k0_hw2302 => k0_hw2302

def k0_chk2303 (v2468 : IVec S16 32) (v3048 : IVec S16 32) (v3139 : IVec S16 32) (v3142 : IVec S16 32) : Prop :=
  (∀ a x, ((![v2468, v3048, v3139, v3142] : Fin 4 → IVec S16 32) a x).toNat < S2x4x32x32.size a)
theorem k0_idx3054_inb : ∀ (v2468 : IVec S16 32) (v3048 : IVec S16 32) (v3139 : IVec S16 32) (v3142 : IVec S16 32) (k0_hw2303 : k0_chk2303 v2468 v3048 v3139 v3142), ∀ a x, ((![v2468, v3048, v3139, v3142] : Fin 4 → IVec S16 32) a x).toNat < S2x4x32x32.size a := fun v2468 v3048 v3139 v3142 k0_hw2303 => k0_hw2303

def k0_chk2304 (v33 : IVec S16 32) (v35 : IVec S16 32) (v2468 : IVec S16 32) (v3048 : IVec S16 32) (v3144 : IVec S16 32) : Prop :=
  (∀ a x, ((![v2468, v3048, v3144, v33] : Fin 4 → IVec S16 32) a x).toNat < S2x4x94x96.size a) ∧
  (∀ a x, ((![v2468, v3048, v3144, v35] : Fin 4 → IVec S16 32) a x).toNat < S2x4x94x96.size a)
theorem k0_idx3055_inb : ∀ (v33 : IVec S16 32) (v35 : IVec S16 32) (v2468 : IVec S16 32) (v3048 : IVec S16 32) (v3144 : IVec S16 32) (k0_hw2304 : k0_chk2304 v33 v35 v2468 v3048 v3144), ∀ a x, ((![v2468, v3048, v3144, v33] : Fin 4 → IVec S16 32) a x).toNat < S2x4x94x96.size a := fun v33 v35 v2468 v3048 v3144 k0_hw2304 => k0_hw2304.1
theorem k0_idx3056_inb : ∀ (v33 : IVec S16 32) (v35 : IVec S16 32) (v2468 : IVec S16 32) (v3048 : IVec S16 32) (v3144 : IVec S16 32) (k0_hw2304 : k0_chk2304 v33 v35 v2468 v3048 v3144), ∀ a x, ((![v2468, v3048, v3144, v35] : Fin 4 → IVec S16 32) a x).toNat < S2x4x94x96.size a := fun v33 v35 v2468 v3048 v3144 k0_hw2304 => k0_hw2304.2

def k0_chk2305 (v30 : IVec S16 32) (v2468 : IVec S16 32) (v3048 : IVec S16 32) (v3145 : IVec S16 32) : Prop :=
  (∀ a x, ((![v2468, v3048, v3145, v30] : Fin 4 → IVec S16 32) a x).toNat < S2x4x32x32.size a)
theorem k0_idx3057_inb : ∀ (v30 : IVec S16 32) (v2468 : IVec S16 32) (v3048 : IVec S16 32) (v3145 : IVec S16 32) (k0_hw2305 : k0_chk2305 v30 v2468 v3048 v3145), ∀ a x, ((![v2468, v3048, v3145, v30] : Fin 4 → IVec S16 32) a x).toNat < S2x4x32x32.size a := fun v30 v2468 v3048 v3145 k0_hw2305 => k0_hw2305

def k0_chk2306 (v2468 : IVec S16 32) (v3048 : IVec S16 32) (v3145 : IVec S16 32) (v3148 : IVec S16 32) : Prop :=
  (∀ a x, ((![v2468, v3048, v3145, v3148] : Fin 4 → IVec S16 32) a x).toNat < S2x4x32x32.size a)
theorem k0_idx3058_inb : ∀ (v2468 : IVec S16 32) (v3048 : IVec S16 32) (v3145 : IVec S16 32) (v3148 : IVec S16 32) (k0_hw2306 : k0_chk2306 v2468 v3048 v3145 v3148), ∀ a x, ((![v2468, v3048, v3145, v3148] : Fin 4 → IVec S16 32) a x).toNat < S2x4x32x32.size a := fun v2468 v3048 v3145 v3148 k0_hw2306 => k0_hw2306

def k0_chk2307 (v33 : IVec S16 32) (v35 : IVec S16 32) (v2468 : IVec S16 32) (v3048 : IVec S16 32) (v3150 : IVec S16 32) : Prop :=
  (∀ a x, ((![v2468, v3048, v3150, v33] : Fin 4 → IVec S16 32) a x).toNat < S2x4x94x96.size a) ∧
  (∀ a x, ((![v2468, v3048, v3150, v35] : Fin 4 → IVec S16 32) a x).toNat < S2x4x94x96.size a)
theorem k0_idx3059_inb : ∀ (v33 : IVec S16 32) (v35 : IVec S16 32) (v2468 : IVec S16 32) (v3048 : IVec S16 32) (v3150 : IVec S16 32) (k0_hw2307 : k0_chk2307 v33 v35 v2468 v3048 v3150), ∀ a x, ((![v2468, v3048, v3150, v33] : Fin 4 → IVec S16 32) a x).toNat < S2x4x94x96.size a := fun v33 v35 v2468 v3048 v3150 k0_hw2307 => k0_hw2307.1
theorem k0_idx3060_inb : ∀ (v33 : IVec S16 32) (v35 : IVec S16 32) (v2468 : IVec S16 32) (v3048 : IVec S16 32) (v3150 : IVec S16 32) (k0_hw2307 : k0_chk2307 v33 v35 v2468 v3048 v3150), ∀ a x, ((![v2468, v3048, v3150, v35] : Fin 4 → IVec S16 32) a x).toNat < S2x4x94x96.size a := fun v33 v35 v2468 v3048 v3150 k0_hw2307 => k0_hw2307.2

def k0_chk2308 (v30 : IVec S16 32) (v2468 : IVec S16 32) (v3048 : IVec S16 32) (v3151 : IVec S16 32) : Prop :=
  (∀ a x, ((![v2468, v3048, v3151, v30] : Fin 4 → IVec S16 32) a x).toNat < S2x4x32x32.size a)
theorem k0_idx3061_inb : ∀ (v30 : IVec S16 32) (v2468 : IVec S16 32) (v3048 : IVec S16 32) (v3151 : IVec S16 32) (k0_hw2308 : k0_chk2308 v30 v2468 v3048 v3151), ∀ a x, ((![v2468, v3048, v3151, v30] : Fin 4 → IVec S16 32) a x).toNat < S2x4x32x32.size a := fun v30 v2468 v3048 v3151 k0_hw2308 => k0_hw2308

def k0_chk2309 (v2468 : IVec S16 32) (v3048 : IVec S16 32) (v3151 : IVec S16 32) (v3154 : IVec S16 32) : Prop :=
  (∀ a x, ((![v2468, v3048, v3151, v3154] : Fin 4 → IVec S16 32) a x).toNat < S2x4x32x32.size a)
theorem k0_idx3062_inb : ∀ (v2468 : IVec S16 32) (v3048 : IVec S16 32) (v3151 : IVec S16 32) (v3154 : IVec S16 32) (k0_hw2309 : k0_chk2309 v2468 v3048 v3151 v3154), ∀ a x, ((![v2468, v3048, v3151, v3154] : Fin 4 → IVec S16 32) a x).toNat < S2x4x32x32.size a := fun v2468 v3048 v3151 v3154 k0_hw2309 => k0_hw2309

def k0_chk2310 (v33 : IVec S16 32) (v35 : IVec S16 32) (v2468 : IVec S16 32) (v3048 : IVec S16 32) (v3156 : IVec S16 32) : Prop :=
  (∀ a x, ((![v2468, v3048, v3156, v33] : Fin 4 → IVec S16 32) a x).toNat < S2x4x94x96.size a) ∧
  (∀ a x, ((![v2468, v3048, v3156, v35] : Fin 4 → IVec S16 32) a x).toNat < S2x4x94x96.size a)
theorem k0_idx3063_inb : ∀ (v33 : IVec S16 32) (v35 : IVec S16 32) (v2468 : IVec S16 32) (v3048 : IVec S16 32) (v3156 : IVec S16 32) (k0_hw2310 : k0_chk2310 v33 v35 v2468 v3048 v3156), ∀ a x, ((![v2468, v3048, v3156, v33] : Fin 4 → IVec S16 32) a x).toNat < S2x4x94x96.size a := fun v33 v35 v2468 v3048 v3156 k0_hw2310 => k0_hw2310.1
theorem k0_idx3064_inb : ∀ (v33 : IVec S16 32) (v35 : IVec S16 32) (v2468 : IVec S16 32) (v3048 : IVec S16 32) (v3156 : IVec S16 32) (k0_hw2310 : k0_chk2310 v33 v35 v2468 v3048 v3156), ∀ a x, ((![v2468, v3048, v3156, v35] : Fin 4 → IVec S16 32) a x).toNat < S2x4x94x96.size a := fun v33 v35 v2468 v3048 v3156 k0_hw2310 => k0_hw2310.2

def k0_chk2311 (v30 : IVec S16 32) (v2468 : IVec S16 32) (v3048 : IVec S16 32) (v3157 : IVec S16 32) : Prop :=
  (∀ a x, ((![v2468, v3048, v3157, v30] : Fin 4 → IVec S16 32) a x).toNat < S2x4x32x32.size a)
theorem k0_idx3065_inb : ∀ (v30 : IVec S16 32) (v2468 : IVec S16 32) (v3048 : IVec S16 32) (v3157 : IVec S16 32) (k0_hw2311 : k0_chk2311 v30 v2468 v3048 v3157), ∀ a x, ((![v2468, v3048, v3157, v30] : Fin 4 → IVec S16 32) a x).toNat < S2x4x32x32.size a := fun v30 v2468 v3048 v3157 k0_hw2311 => k0_hw2311

def k0_chk2312 (v2468 : IVec S16 32) (v3048 : IVec S16 32) (v3157 : IVec S16 32) (v3160 : IVec S16 32) : Prop :=
  (∀ a x, ((![v2468, v3048, v3157, v3160] : Fin 4 → IVec S16 32) a x).toNat < S2x4x32x32.size a)
theorem k0_idx3066_inb : ∀ (v2468 : IVec S16 32) (v3048 : IVec S16 32) (v3157 : IVec S16 32) (v3160 : IVec S16 32) (k0_hw2312 : k0_chk2312 v2468 v3048 v3157 v3160), ∀ a x, ((![v2468, v3048, v3157, v3160] : Fin 4 → IVec S16 32) a x).toNat < S2x4x32x32.size a := fun v2468 v3048 v3157 v3160 k0_hw2312 => k0_hw2312

def k0_chk2313 (v33 : IVec S16 32) (v35 : IVec S16 32) (v2468 : IVec S16 32) (v3048 : IVec S16 32) (v3162 : IVec S16 32) : Prop :=
  (∀ a x, ((![v2468, v3048, v3162, v33] : Fin 4 → IVec S16 32) a x).toNat < S2x4x94x96.size a) ∧
  (∀ a x, ((![v2468, v3048, v3162, v35] : Fin 4 → IVec S16 32) a x).toNat < S2x4x94x96.size a)
theorem k0_idx3067_inb : ∀ (v33 : IVec S16 32) (v35 : IVec S16 32) (v2468 : IVec S16 32) (v3048 : IVec S16 32) (v3162 : IVec S16 32) (k0_hw2313 : k0_chk2313 v33 v35 v2468 v3048 v3162), ∀ a x, ((![v2468, v3048, v3162, v33] : Fin 4 → IVec S16 32) a x).toNat < S2x4x94x96.size a := fun v33 v35 v2468 v3048 v3162 k0_hw2313 => k0_hw2313.1
theorem k0_idx3068_inb : ∀ (v33 : IVec S16 32) (v35 : IVec S16 32) (v2468 : IVec S16 32) (v3048 : IVec S16 32) (v3162 : IVec S16 32) (k0_hw2313 : k0_chk2313 v33 v35 v2468 v3048 v3162), ∀ a x, ((![v2468, v3048, v3162, v35] : Fin 4 → IVec S16 32) a x).toNat < S2x4x94x96.size a := fun v33 v35 v2468 v3048 v3162 k0_hw2313 => k0_hw2313.2

def k0_chk2314 (v30 : IVec S16 32) (v2468 : IVec S16 32) (v3048 : IVec S16 32) (v3163 : IVec S16 32) : Prop :=
  (∀ a x, ((![v2468, v3048, v3163, v30] : Fin 4 → IVec S16 32) a x).toNat < S2x4x32x32.size a)
theorem k0_idx3069_inb : ∀ (v30 : IVec S16 32) (v2468 : IVec S16 32) (v3048 : IVec S16 32) (v3163 : IVec S16 32) (k0_hw2314 : k0_chk2314 v30 v2468 v3048 v3163), ∀ a x, ((![v2468, v3048, v3163, v30] : Fin 4 → IVec S16 32) a x).toNat < S2x4x32x32.size a := fun v30 v2468 v3048 v3163 k0_hw2314 => k0_hw2314

def k0_chk2315 (v2468 : IVec S16 32) (v3048 : IVec S16 32) (v3163 : IVec S16 32) (v3166 : IVec S16 32) : Prop :=
  (∀ a x, ((![v2468, v3048, v3163, v3166] : Fin 4 → IVec S16 32) a x).toNat < S2x4x32x32.size a)
theorem k0_idx3070_inb : ∀ (v2468 : IVec S16 32) (v3048 : IVec S16 32) (v3163 : IVec S16 32) (v3166 : IVec S16 32) (k0_hw2315 : k0_chk2315 v2468 v3048 v3163 v3166), ∀ a x, ((![v2468, v3048, v3163, v3166] : Fin 4 → IVec S16 32) a x).toNat < S2x4x32x32.size a := fun v2468 v3048 v3163 v3166 k0_hw2315 => k0_hw2315

def k0_chk2316 (v33 : IVec S16 32) (v35 : IVec S16 32) (v2468 : IVec S16 32) (v3048 : IVec S16 32) (v3168 : IVec S16 32) : Prop :=
  (∀ a x, ((![v2468, v3048, v3168, v33] : Fin 4 → IVec S16 32) a x).toNat < S2x4x94x96.size a) ∧
  (∀ a x, ((![v2468, v3048, v3168, v35] : Fin 4 → IVec S16 32) a x).toNat < S2x4x94x96.size a)
theorem k0_idx3071_inb : ∀ (v33 : IVec S16 32) (v35 : IVec S16 32) (v2468 : IVec S16 32) (v3048 : IVec S16 32) (v3168 : IVec S16 32) (k0_hw2316 : k0_chk2316 v33 v35 v2468 v3048 v3168), ∀ a x, ((![v2468, v3048, v3168, v33] : Fin 4 → IVec S16 32) a x).toNat < S2x4x94x96.size a := fun v33 v35 v2468 v3048 v3168 k0_hw2316 => k0_hw2316.1
theorem k0_idx3072_inb : ∀ (v33 : IVec S16 32) (v35 : IVec S16 32) (v2468 : IVec S16 32) (v3048 : IVec S16 32) (v3168 : IVec S16 32) (k0_hw2316 : k0_chk2316 v33 v35 v2468 v3048 v3168), ∀ a x, ((![v2468, v3048, v3168, v35] : Fin 4 → IVec S16 32) a x).toNat < S2x4x94x96.size a := fun v33 v35 v2468 v3048 v3168 k0_hw2316 => k0_hw2316.2

def k0_chk2317 (v30 : IVec S16 32) (v2468 : IVec S16 32) (v3048 : IVec S16 32) (v3169 : IVec S16 32) : Prop :=
  (∀ a x, ((![v2468, v3048, v3169, v30] : Fin 4 → IVec S16 32) a x).toNat < S2x4x32x32.size a)
theorem k0_idx3073_inb : ∀ (v30 : IVec S16 32) (v2468 : IVec S16 32) (v3048 : IVec S16 32) (v3169 : IVec S16 32) (k0_hw2317 : k0_chk2317 v30 v2468 v3048 v3169), ∀ a x, ((![v2468, v3048, v3169, v30] : Fin 4 → IVec S16 32) a x).toNat < S2x4x32x32.size a := fun v30 v2468 v3048 v3169 k0_hw2317 => k0_hw2317

def k0_chk2318 (v2468 : IVec S16 32) (v3048 : IVec S16 32) (v3169 : IVec S16 32) (v3172 : IVec S16 32) : Prop :=
  (∀ a x, ((![v2468, v3048, v3169, v3172] : Fin 4 → IVec S16 32) a x).toNat < S2x4x32x32.size a)
theorem k0_idx3074_inb : ∀ (v2468 : IVec S16 32) (v3048 : IVec S16 32) (v3169 : IVec S16 32) (v3172 : IVec S16 32) (k0_hw2318 : k0_chk2318 v2468 v3048 v3169 v3172), ∀ a x, ((![v2468, v3048, v3169, v3172] : Fin 4 → IVec S16 32) a x).toNat < S2x4x32x32.size a := fun v2468 v3048 v3169 v3172 k0_hw2318 => k0_hw2318

def k0_chk2319 (v33 : IVec S16 32) (v35 : IVec S16 32) (v2468 : IVec S16 32) (v3048 : IVec S16 32) (v3174 : IVec S16 32) : Prop :=
  (∀ a x, ((![v2468, v3048, v3174, v33] : Fin 4 → IVec S16 32) a x).toNat < S2x4x94x96.size a) ∧
  (∀ a x, ((![v2468, v3048, v3174, v35] : Fin 4 → IVec S16 32) a x).toNat < S2x4x94x96.size a)
theorem k0_idx3075_inb : ∀ (v33 : IVec S16 32) (v35 : IVec S16 32) (v2468 : IVec S16 32) (v3048 : IVec S16 32) (v3174 : IVec S16 32) (k0_hw2319 : k0_chk2319 v33 v35 v2468 v3048 v3174), ∀ a x, ((![v2468, v3048, v3174, v33] : Fin 4 → IVec S16 32) a x).toNat < S2x4x94x96.size a := fun v33 v35 v2468 v3048 v3174 k0_hw2319 => k0_hw2319.1
theorem k0_idx3076_inb : ∀ (v33 : IVec S16 32) (v35 : IVec S16 32) (v2468 : IVec S16 32) (v3048 : IVec S16 32) (v3174 : IVec S16 32) (k0_hw2319 : k0_chk2319 v33 v35 v2468 v3048 v3174), ∀ a x, ((![v2468, v3048, v3174, v35] : Fin 4 → IVec S16 32) a x).toNat < S2x4x94x96.size a := fun v33 v35 v2468 v3048 v3174 k0_hw2319 => k0_hw2319.2

def k0_chk2320 (v30 : IVec S16 32) (v2468 : IVec S16 32) (v3048 : IVec S16 32) (v3175 : IVec S16 32) : Prop :=
  (∀ a x, ((![v2468, v3048, v3175, v30] : Fin 4 → IVec S16 32) a x).toNat < S2x4x32x32.size a)
theorem k0_idx3077_inb : ∀ (v30 : IVec S16 32) (v2468 : IVec S16 32) (v3048 : IVec S16 32) (v3175 : IVec S16 32) (k0_hw2320 : k0_chk2320 v30 v2468 v3048 v3175), ∀ a x, ((![v2468, v3048, v3175, v30] : Fin 4 → IVec S16 32) a x).toNat < S2x4x32x32.size a := fun v30 v2468 v3048 v3175 k0_hw2320 => k0_hw2320

def k0_chk2321 (v2468 : IVec S16 32) (v3048 : IVec S16 32) (v3175 : IVec S16 32) (v3178 : IVec S16 32) : Prop :=
  (∀ a x, ((![v2468, v3048, v3175, v3178] : Fin 4 → IVec S16 32) a x).toNat < S2x4x32x32.size a)
theorem k0_idx3078_inb : ∀ (v2468 : IVec S16 32) (v3048 : IVec S16 32) (v3175 : IVec S16 32) (v3178 : IVec S16 32) (k0_hw2321 : k0_chk2321 v2468 v3048 v3175 v3178), ∀ a x, ((![v2468, v3048, v3175, v3178] : Fin 4 → IVec S16 32) a x).toNat < S2x4x32x32.size a := fun v2468 v3048 v3175 v3178 k0_hw2321 => k0_hw2321

def k0_chk2322 (v33 : IVec S16 32) (v35 : IVec S16 32) (v2468 : IVec S16 32) (v3048 : IVec S16 32) (v3180 : IVec S16 32) : Prop :=
  (∀ a x, ((![v2468, v3048, v3180, v33] : Fin 4 → IVec S16 32) a x).toNat < S2x4x94x96.size a) ∧
  (∀ a x, ((![v2468, v3048, v3180, v35] : Fin 4 → IVec S16 32) a x).toNat < S2x4x94x96.size a)
theorem k0_idx3079_inb : ∀ (v33 : IVec S16 32) (v35 : IVec S16 32) (v2468 : IVec S16 32) (v3048 : IVec S16 32) (v3180 : IVec S16 32) (k0_hw2322 : k0_chk2322 v33 v35 v2468 v3048 v3180), ∀ a x, ((![v2468, v3048, v3180, v33] : Fin 4 → IVec S16 32) a x).toNat < S2x4x94x96.size a := fun v33 v35 v2468 v3048 v3180 k0_hw2322 => k0_hw2322.1
theorem k0_idx3080_inb : ∀ (v33 : IVec S16 32) (v35 : IVec S16 32) (v2468 : IVec S16 32) (v3048 : IVec S16 32) (v3180 : IVec S16 32) (k0_hw2322 : k0_chk2322 v33 v35 v2468 v3048 v3180), ∀ a x, ((![v2468, v3048, v3180, v35] : Fin 4 → IVec S16 32) a x).toNat < S2x4x94x96.size a := fun v33 v35 v2468 v3048 v3180 k0_hw2322 => k0_hw2322.2

def k0_chk2323 (v30 : IVec S16 32) (v2468 : IVec S16 32) (v3048 : IVec S16 32) (v3181 : IVec S16 32) : Prop :=
  (∀ a x, ((![v2468, v3048, v3181, v30] : Fin 4 → IVec S16 32) a x).toNat < S2x4x32x32.size a)
theorem k0_idx3081_inb : ∀ (v30 : IVec S16 32) (v2468 : IVec S16 32) (v3048 : IVec S16 32) (v3181 : IVec S16 32) (k0_hw2323 : k0_chk2323 v30 v2468 v3048 v3181), ∀ a x, ((![v2468, v3048, v3181, v30] : Fin 4 → IVec S16 32) a x).toNat < S2x4x32x32.size a := fun v30 v2468 v3048 v3181 k0_hw2323 => k0_hw2323

def k0_chk2324 (v2468 : IVec S16 32) (v3048 : IVec S16 32) (v3181 : IVec S16 32) (v3184 : IVec S16 32) : Prop :=
  (∀ a x, ((![v2468, v3048, v3181, v3184] : Fin 4 → IVec S16 32) a x).toNat < S2x4x32x32.size a)
theorem k0_idx3082_inb : ∀ (v2468 : IVec S16 32) (v3048 : IVec S16 32) (v3181 : IVec S16 32) (v3184 : IVec S16 32) (k0_hw2324 : k0_chk2324 v2468 v3048 v3181 v3184), ∀ a x, ((![v2468, v3048, v3181, v3184] : Fin 4 → IVec S16 32) a x).toNat < S2x4x32x32.size a := fun v2468 v3048 v3181 v3184 k0_hw2324 => k0_hw2324

def k0_chk2325 (v33 : IVec S16 32) (v35 : IVec S16 32) (v2468 : IVec S16 32) (v3048 : IVec S16 32) (v3186 : IVec S16 32) : Prop :=
  (∀ a x, ((![v2468, v3048, v3186, v33] : Fin 4 → IVec S16 32) a x).toNat < S2x4x94x96.size a) ∧
  (∀ a x, ((![v2468, v3048, v3186, v35] : Fin 4 → IVec S16 32) a x).toNat < S2x4x94x96.size a)
theorem k0_idx3083_inb : ∀ (v33 : IVec S16 32) (v35 : IVec S16 32) (v2468 : IVec S16 32) (v3048 : IVec S16 32) (v3186 : IVec S16 32) (k0_hw2325 : k0_chk2325 v33 v35 v2468 v3048 v3186), ∀ a x, ((![v2468, v3048, v3186, v33] : Fin 4 → IVec S16 32) a x).toNat < S2x4x94x96.size a := fun v33 v35 v2468 v3048 v3186 k0_hw2325 => k0_hw2325.1
theorem k0_idx3084_inb : ∀ (v33 : IVec S16 32) (v35 : IVec S16 32) (v2468 : IVec S16 32) (v3048 : IVec S16 32) (v3186 : IVec S16 32) (k0_hw2325 : k0_chk2325 v33 v35 v2468 v3048 v3186), ∀ a x, ((![v2468, v3048, v3186, v35] : Fin 4 → IVec S16 32) a x).toNat < S2x4x94x96.size a := fun v33 v35 v2468 v3048 v3186 k0_hw2325 => k0_hw2325.2

def k0_chk2326 (v30 : IVec S16 32) (v2468 : IVec S16 32) (v3048 : IVec S16 32) (v3187 : IVec S16 32) : Prop :=
  (∀ a x, ((![v2468, v3048, v3187, v30] : Fin 4 → IVec S16 32) a x).toNat < S2x4x32x32.size a)
theorem k0_idx3085_inb : ∀ (v30 : IVec S16 32) (v2468 : IVec S16 32) (v3048 : IVec S16 32) (v3187 : IVec S16 32) (k0_hw2326 : k0_chk2326 v30 v2468 v3048 v3187), ∀ a x, ((![v2468, v3048, v3187, v30] : Fin 4 → IVec S16 32) a x).toNat < S2x4x32x32.size a := fun v30 v2468 v3048 v3187 k0_hw2326 => k0_hw2326

def k0_chk2327 (v2468 : IVec S16 32) (v3048 : IVec S16 32) (v3187 : IVec S16 32) (v3190 : IVec S16 32) : Prop :=
  (∀ a x, ((![v2468, v3048, v3187, v3190] : Fin 4 → IVec S16 32) a x).toNat < S2x4x32x32.size a)
theorem k0_idx3086_inb : ∀ (v2468 : IVec S16 32) (v3048 : IVec S16 32) (v3187 : IVec S16 32) (v3190 : IVec S16 32) (k0_hw2327 : k0_chk2327 v2468 v3048 v3187 v3190), ∀ a x, ((![v2468, v3048, v3187, v3190] : Fin 4 → IVec S16 32) a x).toNat < S2x4x32x32.size a := fun v2468 v3048 v3187 v3190 k0_hw2327 => k0_hw2327

def k0_chk2328 (v33 : IVec S16 32) (v35 : IVec S16 32) (v2468 : IVec S16 32) (v3048 : IVec S16 32) (v3192 : IVec S16 32) : Prop :=
  (∀ a x, ((![v2468, v3048, v3192, v33] : Fin 4 → IVec S16 32) a x).toNat < S2x4x94x96.size a) ∧
  (∀ a x, ((![v2468, v3048, v3192, v35] : Fin 4 → IVec S16 32) a x).toNat < S2x4x94x96.size a)
theorem k0_idx3087_inb : ∀ (v33 : IVec S16 32) (v35 : IVec S16 32) (v2468 : IVec S16 32) (v3048 : IVec S16 32) (v3192 : IVec S16 32) (k0_hw2328 : k0_chk2328 v33 v35 v2468 v3048 v3192), ∀ a x, ((![v2468, v3048, v3192, v33] : Fin 4 → IVec S16 32) a x).toNat < S2x4x94x96.size a := fun v33 v35 v2468 v3048 v3192 k0_hw2328 => k0_hw2328.1
theorem k0_idx3088_inb : ∀ (v33 : IVec S16 32) (v35 : IVec S16 32) (v2468 : IVec S16 32) (v3048 : IVec S16 32) (v3192 : IVec S16 32) (k0_hw2328 : k0_chk2328 v33 v35 v2468 v3048 v3192), ∀ a x, ((![v2468, v3048, v3192, v35] : Fin 4 → IVec S16 32) a x).toNat < S2x4x94x96.size a := fun v33 v35 v2468 v3048 v3192 k0_hw2328 => k0_hw2328.2

def k0_chk2329 (v30 : IVec S16 32) (v2468 : IVec S16 32) (v3048 : IVec S16 32) (v3193 : IVec S16 32) : Prop :=
  (∀ a x, ((![v2468, v3048, v3193, v30] : Fin 4 → IVec S16 32) a x).toNat < S2x4x32x32.size a)
theorem k0_idx3089_inb : ∀ (v30 : IVec S16 32) (v2468 : IVec S16 32) (v3048 : IVec S16 32) (v3193 : IVec S16 32) (k0_hw2329 : k0_chk2329 v30 v2468 v3048 v3193), ∀ a x, ((![v2468, v3048, v3193, v30] : Fin 4 → IVec S16 32) a x).toNat < S2x4x32x32.size a := fun v30 v2468 v3048 v3193 k0_hw2329 => k0_hw2329

def k0_chk2330 (v2468 : IVec S16 32) (v3048 : IVec S16 32) (v3193 : IVec S16 32) (v3196 : IVec S16 32) : Prop :=
  (∀ a x, ((![v2468, v3048, v3193, v3196] : Fin 4 → IVec S16 32) a x).toNat < S2x4x32x32.size a)
theorem k0_idx3090_inb : ∀ (v2468 : IVec S16 32) (v3048 : IVec S16 32) (v3193 : IVec S16 32) (v3196 : IVec S16 32) (k0_hw2330 : k0_chk2330 v2468 v3048 v3193 v3196), ∀ a x, ((![v2468, v3048, v3193, v3196] : Fin 4 → IVec S16 32) a x).toNat < S2x4x32x32.size a := fun v2468 v3048 v3193 v3196 k0_hw2330 => k0_hw2330

def k0_chk2331 (v33 : IVec S16 32) (v35 : IVec S16 32) (v2468 : IVec S16 32) (v3048 : IVec S16 32) (v3198 : IVec S16 32) : Prop :=
  (∀ a x, ((![v2468, v3048, v3198, v33] : Fin 4 → IVec S16 32) a x).toNat < S2x4x94x96.size a) ∧
  (∀ a x, ((![v2468, v3048, v3198, v35] : Fin 4 → IVec S16 32) a x).toNat < S2x4x94x96.size a)
theorem k0_idx3091_inb : ∀ (v33 : IVec S16 32) (v35 : IVec S16 32) (v2468 : IVec S16 32) (v3048 : IVec S16 32) (v3198 : IVec S16 32) (k0_hw2331 : k0_chk2331 v33 v35 v2468 v3048 v3198), ∀ a x, ((![v2468, v3048, v3198, v33] : Fin 4 → IVec S16 32) a x).toNat < S2x4x94x96.size a := fun v33 v35 v2468 v3048 v3198 k0_hw2331 => k0_hw2331.1
theorem k0_idx3092_inb : ∀ (v33 : IVec S16 32) (v35 : IVec S16 32) (v2468 : IVec S16 32) (v3048 : IVec S16 32) (v3198 : IVec S16 32) (k0_hw2331 : k0_chk2331 v33 v35 v2468 v3048 v3198), ∀ a x, ((![v2468, v3048, v3198, v35] : Fin 4 → IVec S16 32) a x).toNat < S2x4x94x96.size a := fun v33 v35 v2468 v3048 v3198 k0_hw2331 => k0_hw2331.2

def k0_chk2332 (v30 : IVec S16 32) (v2468 : IVec S16 32) (v3048 : IVec S16 32) (v3199 : IVec S16 32) : Prop :=
  (∀ a x, ((![v2468, v3048, v3199, v30] : Fin 4 → IVec S16 32) a x).toNat < S2x4x32x32.size a)
theorem k0_idx3093_inb : ∀ (v30 : IVec S16 32) (v2468 : IVec S16 32) (v3048 : IVec S16 32) (v3199 : IVec S16 32) (k0_hw2332 : k0_chk2332 v30 v2468 v3048 v3199), ∀ a x, ((![v2468, v3048, v3199, v30] : Fin 4 → IVec S16 32) a x).toNat < S2x4x32x32.size a := fun v30 v2468 v3048 v3199 k0_hw2332 => k0_hw2332

def k0_chk2333 (v2468 : IVec S16 32) (v3048 : IVec S16 32) (v3199 : IVec S16 32) (v3202 : IVec S16 32) : Prop :=
  (∀ a x, ((![v2468, v3048, v3199, v3202] : Fin 4 → IVec S16 32) a x).toNat < S2x4x32x32.size a)
theorem k0_idx3094_inb : ∀ (v2468 : IVec S16 32) (v3048 : IVec S16 32) (v3199 : IVec S16 32) (v3202 : IVec S16 32) (k0_hw2333 : k0_chk2333 v2468 v3048 v3199 v3202), ∀ a x, ((![v2468, v3048, v3199, v3202] : Fin 4 → IVec S16 32) a x).toNat < S2x4x32x32.size a := fun v2468 v3048 v3199 v3202 k0_hw2333 => k0_hw2333

def k0_chk2334 (v33 : IVec S16 32) (v35 : IVec S16 32) (v2468 : IVec S16 32) (v3048 : IVec S16 32) (v3204 : IVec S16 32) : Prop :=
  (∀ a x, ((![v2468, v3048, v3204, v33] : Fin 4 → IVec S16 32) a x).toNat < S2x4x94x96.size a) ∧
  (∀ a x, ((![v2468, v3048, v3204, v35] : Fin 4 → IVec S16 32) a x).toNat < S2x4x94x96.size a)
theorem k0_idx3095_inb : ∀ (v33 : IVec S16 32) (v35 : IVec S16 32) (v2468 : IVec S16 32) (v3048 : IVec S16 32) (v3204 : IVec S16 32) (k0_hw2334 : k0_chk2334 v33 v35 v2468 v3048 v3204), ∀ a x, ((![v2468, v3048, v3204, v33] : Fin 4 → IVec S16 32) a x).toNat < S2x4x94x96.size a := fun v33 v35 v2468 v3048 v3204 k0_hw2334 => k0_hw2334.1
theorem k0_idx3096_inb : ∀ (v33 : IVec S16 32) (v35 : IVec S16 32) (v2468 : IVec S16 32) (v3048 : IVec S16 32) (v3204 : IVec S16 32) (k0_hw2334 : k0_chk2334 v33 v35 v2468 v3048 v3204), ∀ a x, ((![v2468, v3048, v3204, v35] : Fin 4 → IVec S16 32) a x).toNat < S2x4x94x96.size a := fun v33 v35 v2468 v3048 v3204 k0_hw2334 => k0_hw2334.2

def k0_chk2335 (v30 : IVec S16 32) (v2468 : IVec S16 32) (v3048 : IVec S16 32) (v3205 : IVec S16 32) : Prop :=
  (∀ a x, ((![v2468, v3048, v3205, v30] : Fin 4 → IVec S16 32) a x).toNat < S2x4x32x32.size a)
theorem k0_idx3097_inb : ∀ (v30 : IVec S16 32) (v2468 : IVec S16 32) (v3048 : IVec S16 32) (v3205 : IVec S16 32) (k0_hw2335 : k0_chk2335 v30 v2468 v3048 v3205), ∀ a x, ((![v2468, v3048, v3205, v30] : Fin 4 → IVec S16 32) a x).toNat < S2x4x32x32.size a := fun v30 v2468 v3048 v3205 k0_hw2335 => k0_hw2335

def k0_chk2336 (v2468 : IVec S16 32) (v3048 : IVec S16 32) (v3205 : IVec S16 32) (v3208 : IVec S16 32) : Prop :=
  (∀ a x, ((![v2468, v3048, v3205, v3208] : Fin 4 → IVec S16 32) a x).toNat < S2x4x32x32.size a)
theorem k0_idx3098_inb : ∀ (v2468 : IVec S16 32) (v3048 : IVec S16 32) (v3205 : IVec S16 32) (v3208 : IVec S16 32) (k0_hw2336 : k0_chk2336 v2468 v3048 v3205 v3208), ∀ a x, ((![v2468, v3048, v3205, v3208] : Fin 4 → IVec S16 32) a x).toNat < S2x4x32x32.size a := fun v2468 v3048 v3205 v3208 k0_hw2336 => k0_hw2336

def k0_chk2337 (v33 : IVec S16 32) (v35 : IVec S16 32) (v2468 : IVec S16 32) (v3048 : IVec S16 32) (v3210 : IVec S16 32) : Prop :=
  (∀ a x, ((![v2468, v3048, v3210, v33] : Fin 4 → IVec S16 32) a x).toNat < S2x4x94x96.size a) ∧
  (∀ a x, ((![v2468, v3048, v3210, v35] : Fin 4 → IVec S16 32) a x).toNat < S2x4x94x96.size a)
theorem k0_idx3099_inb : ∀ (v33 : IVec S16 32) (v35 : IVec S16 32) (v2468 : IVec S16 32) (v3048 : IVec S16 32) (v3210 : IVec S16 32) (k0_hw2337 : k0_chk2337 v33 v35 v2468 v3048 v3210), ∀ a x, ((![v2468, v3048, v3210, v33] : Fin 4 → IVec S16 32) a x).toNat < S2x4x94x96.size a := fun v33 v35 v2468 v3048 v3210 k0_hw2337 => k0_hw2337.1
theorem k0_idx3100_inb : ∀ (v33 : IVec S16 32) (v35 : IVec S16 32) (v2468 : IVec S16 32) (v3048 : IVec S16 32) (v3210 : IVec S16 32) (k0_hw2337 : k0_chk2337 v33 v35 v2468 v3048 v3210), ∀ a x, ((![v2468, v3048, v3210, v35] : Fin 4 → IVec S16 32) a x).toNat < S2x4x94x96.size a := fun v33 v35 v2468 v3048 v3210 k0_hw2337 => k0_hw2337.2

def k0_chk2338 (v30 : IVec S16 32) (v2468 : IVec S16 32) (v3048 : IVec S16 32) (v3211 : IVec S16 32) : Prop :=
  (∀ a x, ((![v2468, v3048, v3211, v30] : Fin 4 → IVec S16 32) a x).toNat < S2x4x32x32.size a)
theorem k0_idx3101_inb : ∀ (v30 : IVec S16 32) (v2468 : IVec S16 32) (v3048 : IVec S16 32) (v3211 : IVec S16 32) (k0_hw2338 : k0_chk2338 v30 v2468 v3048 v3211), ∀ a x, ((![v2468, v3048, v3211, v30] : Fin 4 → IVec S16 32) a x).toNat < S2x4x32x32.size a := fun v30 v2468 v3048 v3211 k0_hw2338 => k0_hw2338

def k0_chk2339 (v2468 : IVec S16 32) (v3048 : IVec S16 32) (v3211 : IVec S16 32) (v3214 : IVec S16 32) : Prop :=
  (∀ a x, ((![v2468, v3048, v3211, v3214] : Fin 4 → IVec S16 32) a x).toNat < S2x4x32x32.size a)
theorem k0_idx3102_inb : ∀ (v2468 : IVec S16 32) (v3048 : IVec S16 32) (v3211 : IVec S16 32) (v3214 : IVec S16 32) (k0_hw2339 : k0_chk2339 v2468 v3048 v3211 v3214), ∀ a x, ((![v2468, v3048, v3211, v3214] : Fin 4 → IVec S16 32) a x).toNat < S2x4x32x32.size a := fun v2468 v3048 v3211 v3214 k0_hw2339 => k0_hw2339

def k0_chk2340 (v33 : IVec S16 32) (v35 : IVec S16 32) (v2468 : IVec S16 32) (v3048 : IVec S16 32) (v3216 : IVec S16 32) : Prop :=
  (∀ a x, ((![v2468, v3048, v3216, v33] : Fin 4 → IVec S16 32) a x).toNat < S2x4x94x96.size a) ∧
  (∀ a x, ((![v2468, v3048, v3216, v35] : Fin 4 → IVec S16 32) a x).toNat < S2x4x94x96.size a)
theorem k0_idx3103_inb : ∀ (v33 : IVec S16 32) (v35 : IVec S16 32) (v2468 : IVec S16 32) (v3048 : IVec S16 32) (v3216 : IVec S16 32) (k0_hw2340 : k0_chk2340 v33 v35 v2468 v3048 v3216), ∀ a x, ((![v2468, v3048, v3216, v33] : Fin 4 → IVec S16 32) a x).toNat < S2x4x94x96.size a := fun v33 v35 v2468 v3048 v3216 k0_hw2340 => k0_hw2340.1
theorem k0_idx3104_inb : ∀ (v33 : IVec S16 32) (v35 : IVec S16 32) (v2468 : IVec S16 32) (v3048 : IVec S16 32) (v3216 : IVec S16 32) (k0_hw2340 : k0_chk2340 v33 v35 v2468 v3048 v3216), ∀ a x, ((![v2468, v3048, v3216, v35] : Fin 4 → IVec S16 32) a x).toNat < S2x4x94x96.size a := fun v33 v35 v2468 v3048 v3216 k0_hw2340 => k0_hw2340.2

def k0_chk2341 (v30 : IVec S16 32) (v2468 : IVec S16 32) (v3048 : IVec S16 32) (v3217 : IVec S16 32) : Prop :=
  (∀ a x, ((![v2468, v3048, v3217, v30] : Fin 4 → IVec S16 32) a x).toNat < S2x4x32x32.size a)
theorem k0_idx3105_inb : ∀ (v30 : IVec S16 32) (v2468 : IVec S16 32) (v3048 : IVec S16 32) (v3217 : IVec S16 32) (k0_hw2341 : k0_chk2341 v30 v2468 v3048 v3217), ∀ a x, ((![v2468, v3048, v3217, v30] : Fin 4 → IVec S16 32) a x).toNat < S2x4x32x32.size a := fun v30 v2468 v3048 v3217 k0_hw2341 => k0_hw2341

def k0_chk2342 (v2468 : IVec S16 32) (v3048 : IVec S16 32) (v3217 : IVec S16 32) (v3220 : IVec S16 32) : Prop :=
  (∀ a x, ((![v2468, v3048, v3217, v3220] : Fin 4 → IVec S16 32) a x).toNat < S2x4x32x32.size a)
theorem k0_idx3106_inb : ∀ (v2468 : IVec S16 32) (v3048 : IVec S16 32) (v3217 : IVec S16 32) (v3220 : IVec S16 32) (k0_hw2342 : k0_chk2342 v2468 v3048 v3217 v3220), ∀ a x, ((![v2468, v3048, v3217, v3220] : Fin 4 → IVec S16 32) a x).toNat < S2x4x32x32.size a := fun v2468 v3048 v3217 v3220 k0_hw2342 => k0_hw2342

def k0_chk2343 (v33 : IVec S16 32) (v35 : IVec S16 32) (v2468 : IVec S16 32) (v3048 : IVec S16 32) (v3222 : IVec S16 32) : Prop :=
  (∀ a x, ((![v2468, v3048, v3222, v33] : Fin 4 → IVec S16 32) a x).toNat < S2x4x94x96.size a) ∧
  (∀ a x, ((![v2468, v3048, v3222, v35] : Fin 4 → IVec S16 32) a x).toNat < S2x4x94x96.size a)
theorem k0_idx3107_inb : ∀ (v33 : IVec S16 32) (v35 : IVec S16 32) (v2468 : IVec S16 32) (v3048 : IVec S16 32) (v3222 : IVec S16 32) (k0_hw2343 : k0_chk2343 v33 v35 v2468 v3048 v3222), ∀ a x, ((![v2468, v3048, v3222, v33] : Fin 4 → IVec S16 32) a x).toNat < S2x4x94x96.size a := fun v33 v35 v2468 v3048 v3222 k0_hw2343 => k0_hw2343.1
theorem k0_idx3108_inb : ∀ (v33 : IVec S16 32) (v35 : IVec S16 32) (v2468 : IVec S16 32) (v3048 : IVec S16 32) (v3222 : IVec S16 32) (k0_hw2343 : k0_chk2343 v33 v35 v2468 v3048 v3222), ∀ a x, ((![v2468, v3048, v3222, v35] : Fin 4 → IVec S16 32) a x).toNat < S2x4x94x96.size a := fun v33 v35 v2468 v3048 v3222 k0_hw2343 => k0_hw2343.2

def k0_chk2344 (v30 : IVec S16 32) (v2468 : IVec S16 32) (v3048 : IVec S16 32) (v3223 : IVec S16 32) : Prop :=
  (∀ a x, ((![v2468, v3048, v3223, v30] : Fin 4 → IVec S16 32) a x).toNat < S2x4x32x32.size a)
theorem k0_idx3109_inb : ∀ (v30 : IVec S16 32) (v2468 : IVec S16 32) (v3048 : IVec S16 32) (v3223 : IVec S16 32) (k0_hw2344 : k0_chk2344 v30 v2468 v3048 v3223), ∀ a x, ((![v2468, v3048, v3223, v30] : Fin 4 → IVec S16 32) a x).toNat < S2x4x32x32.size a := fun v30 v2468 v3048 v3223 k0_hw2344 => k0_hw2344

def k0_chk2345 (v2468 : IVec S16 32) (v3048 : IVec S16 32) (v3223 : IVec S16 32) (v3226 : IVec S16 32) : Prop :=
  (∀ a x, ((![v2468, v3048, v3223, v3226] : Fin 4 → IVec S16 32) a x).toNat < S2x4x32x32.size a)
theorem k0_idx3110_inb : ∀ (v2468 : IVec S16 32) (v3048 : IVec S16 32) (v3223 : IVec S16 32) (v3226 : IVec S16 32) (k0_hw2345 : k0_chk2345 v2468 v3048 v3223 v3226), ∀ a x, ((![v2468, v3048, v3223, v3226] : Fin 4 → IVec S16 32) a x).toNat < S2x4x32x32.size a := fun v2468 v3048 v3223 v3226 k0_hw2345 => k0_hw2345

def k0_chk2346 (v33 : IVec S16 32) (v35 : IVec S16 32) (v2468 : IVec S16 32) (v3048 : IVec S16 32) (v3228 : IVec S16 32) : Prop :=
  (∀ a x, ((![v2468, v3048, v3228, v33] : Fin 4 → IVec S16 32) a x).toNat < S2x4x94x96.size a) ∧
  (∀ a x, ((![v2468, v3048, v3228, v35] : Fin 4 → IVec S16 32) a x).toNat < S2x4x94x96.size a)
theorem k0_idx3111_inb : ∀ (v33 : IVec S16 32) (v35 : IVec S16 32) (v2468 : IVec S16 32) (v3048 : IVec S16 32) (v3228 : IVec S16 32) (k0_hw2346 : k0_chk2346 v33 v35 v2468 v3048 v3228), ∀ a x, ((![v2468, v3048, v3228, v33] : Fin 4 → IVec S16 32) a x).toNat < S2x4x94x96.size a := fun v33 v35 v2468 v3048 v3228 k0_hw2346 => k0_hw2346.1
theorem k0_idx3112_inb : ∀ (v33 : IVec S16 32) (v35 : IVec S16 32) (v2468 : IVec S16 32) (v3048 : IVec S16 32) (v3228 : IVec S16 32) (k0_hw2346 : k0_chk2346 v33 v35 v2468 v3048 v3228), ∀ a x, ((![v2468, v3048, v3228, v35] : Fin 4 → IVec S16 32) a x).toNat < S2x4x94x96.size a := fun v33 v35 v2468 v3048 v3228 k0_hw2346 => k0_hw2346.2

def k0_chk2347 (v30 : IVec S16 32) (v2468 : IVec S16 32) (v3048 : IVec S16 32) (v3229 : IVec S16 32) : Prop :=
  (∀ a x, ((![v2468, v3048, v3229, v30] : Fin 4 → IVec S16 32) a x).toNat < S2x4x32x32.size a)
theorem k0_idx3113_inb : ∀ (v30 : IVec S16 32) (v2468 : IVec S16 32) (v3048 : IVec S16 32) (v3229 : IVec S16 32) (k0_hw2347 : k0_chk2347 v30 v2468 v3048 v3229), ∀ a x, ((![v2468, v3048, v3229, v30] : Fin 4 → IVec S16 32) a x).toNat < S2x4x32x32.size a := fun v30 v2468 v3048 v3229 k0_hw2347 => k0_hw2347

def k0_chk2348 (v2468 : IVec S16 32) (v3048 : IVec S16 32) (v3229 : IVec S16 32) (v3232 : IVec S16 32) : Prop :=
  (∀ a x, ((![v2468, v3048, v3229, v3232] : Fin 4 → IVec S16 32) a x).toNat < S2x4x32x32.size a)
theorem k0_idx3114_inb : ∀ (v2468 : IVec S16 32) (v3048 : IVec S16 32) (v3229 : IVec S16 32) (v3232 : IVec S16 32) (k0_hw2348 : k0_chk2348 v2468 v3048 v3229 v3232), ∀ a x, ((![v2468, v3048, v3229, v3232] : Fin 4 → IVec S16 32) a x).toNat < S2x4x32x32.size a := fun v2468 v3048 v3229 v3232 k0_hw2348 => k0_hw2348

def k0_chk2349 (v33 : IVec S16 32) (v35 : IVec S16 32) (v2468 : IVec S16 32) (v3048 : IVec S16 32) (v3234 : IVec S16 32) : Prop :=
  (∀ a x, ((![v2468, v3048, v3234, v33] : Fin 4 → IVec S16 32) a x).toNat < S2x4x94x96.size a) ∧
  (∀ a x, ((![v2468, v3048, v3234, v35] : Fin 4 → IVec S16 32) a x).toNat < S2x4x94x96.size a)
theorem k0_idx3115_inb : ∀ (v33 : IVec S16 32) (v35 : IVec S16 32) (v2468 : IVec S16 32) (v3048 : IVec S16 32) (v3234 : IVec S16 32) (k0_hw2349 : k0_chk2349 v33 v35 v2468 v3048 v3234), ∀ a x, ((![v2468, v3048, v3234, v33] : Fin 4 → IVec S16 32) a x).toNat < S2x4x94x96.size a := fun v33 v35 v2468 v3048 v3234 k0_hw2349 => k0_hw2349.1
theorem k0_idx3116_inb : ∀ (v33 : IVec S16 32) (v35 : IVec S16 32) (v2468 : IVec S16 32) (v3048 : IVec S16 32) (v3234 : IVec S16 32) (k0_hw2349 : k0_chk2349 v33 v35 v2468 v3048 v3234), ∀ a x, ((![v2468, v3048, v3234, v35] : Fin 4 → IVec S16 32) a x).toNat < S2x4x94x96.size a := fun v33 v35 v2468 v3048 v3234 k0_hw2349 => k0_hw2349.2

def k0_chk2350 (v30 : IVec S16 32) (v2468 : IVec S16 32) (v3048 : IVec S16 32) (v3235 : IVec S16 32) : Prop :=
  (∀ a x, ((![v2468, v3048, v3235, v30] : Fin 4 → IVec S16 32) a x).toNat < S2x4x32x32.size a)
theorem k0_idx3117_inb : ∀ (v30 : IVec S16 32) (v2468 : IVec S16 32) (v3048 : IVec S16 32) (v3235 : IVec S16 32) (k0_hw2350 : k0_chk2350 v30 v2468 v3048 v3235), ∀ a x, ((![v2468, v3048, v3235, v30] : Fin 4 → IVec S16 32) a x).toNat < S2x4x32x32.size a := fun v30 v2468 v3048 v3235 k0_hw2350 => k0_hw2350

def k0_chk2351 (v2468 : IVec S16 32) (v3048 : IVec S16 32) (v3235 : IVec S16 32) (v3238 : IVec S16 32) : Prop :=
  (∀ a x, ((![v2468, v3048, v3235, v3238] : Fin 4 → IVec S16 32) a x).toNat < S2x4x32x32.size a)
theorem k0_idx3118_inb : ∀ (v2468 : IVec S16 32) (v3048 : IVec S16 32) (v3235 : IVec S16 32) (v3238 : IVec S16 32) (k0_hw2351 : k0_chk2351 v2468 v3048 v3235 v3238), ∀ a x, ((![v2468, v3048, v3235, v3238] : Fin 4 → IVec S16 32) a x).toNat < S2x4x32x32.size a := fun v2468 v3048 v3235 v3238 k0_hw2351 => k0_hw2351

def k0_chk2352 (v33 : IVec S16 32) (v35 : IVec S16 32) (v2468 : IVec S16 32) (v3048 : IVec S16 32) (v3240 : IVec S16 32) : Prop :=
  (∀ a x, ((![v2468, v3048, v3240, v33] : Fin 4 → IVec S16 32) a x).toNat < S2x4x94x96.size a) ∧
  (∀ a x, ((![v2468, v3048, v3240, v35] : Fin 4 → IVec S16 32) a x).toNat < S2x4x94x96.size a)
theorem k0_idx3119_inb : ∀ (v33 : IVec S16 32) (v35 : IVec S16 32) (v2468 : IVec S16 32) (v3048 : IVec S16 32) (v3240 : IVec S16 32) (k0_hw2352 : k0_chk2352 v33 v35 v2468 v3048 v3240), ∀ a x, ((![v2468, v3048, v3240, v33] : Fin 4 → IVec S16 32) a x).toNat < S2x4x94x96.size a := fun v33 v35 v2468 v3048 v3240 k0_hw2352 => k0_hw2352.1
theorem k0_idx3120_inb : ∀ (v33 : IVec S16 32) (v35 : IVec S16 32) (v2468 : IVec S16 32) (v3048 : IVec S16 32) (v3240 : IVec S16 32) (k0_hw2352 : k0_chk2352 v33 v35 v2468 v3048 v3240), ∀ a x, ((![v2468, v3048, v3240, v35] : Fin 4 → IVec S16 32) a x).toNat < S2x4x94x96.size a := fun v33 v35 v2468 v3048 v3240 k0_hw2352 => k0_hw2352.2
def k0_off11 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c96_i32 : BitVec 32 := 96#32
  let v29 : BitVec 32 := Scalar.muli v28 c96_i32
  let c92_i32 : BitVec 32 := 92#32
  let v3241 : BitVec 32 := Scalar.addi v29 c92_i32
  let c0_i32_1699 : BitVec 32 := 0#32
  let c0_i32_1700 : BitVec 32 := 0#32
  ![v18.toNat, v3241.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x384x32x32 : Shape := ⟨4, ![8, 384, 32, 32]⟩
abbrev S94 : Shape := ⟨1, ![94]⟩
abbrev S94x1 : Shape := ⟨2, ![94, 1]⟩
abbrev S1x94 : Shape := ⟨2, ![1, 94]⟩
abbrev S_ : Shape := ⟨0, ![]⟩
abbrev S94x94 : Shape := ⟨2, ![94, 94]⟩
abbrev S8x384x32x64 : Shape := ⟨4, ![8, 384, 32, 64]⟩
abbrev S94x94x1 : Shape := ⟨3, ![94, 94, 1]⟩
abbrev S94x94x2 : Shape := ⟨3, ![94, 94, 2]⟩
abbrev S8x384x94x94 : Shape := ⟨4, ![8, 384, 94, 94]⟩

abbrev nBuf : Space → Nat
  | .hbm => 125
  | .vmem => 0
  | .smem => 0
  | _ => 0

abbrev bufTy : (tb : Table) → Fin (tcTables nBuf tb) → BufTy
  | .hbm, ⟨0, _⟩ => ⟨S8x384x32x32, .f32⟩
  | .hbm, ⟨1, _⟩ => ⟨S94, .i32⟩
  | .hbm, ⟨2, _⟩ => ⟨S94x1, .i32⟩
  | .hbm, ⟨3, _⟩ => ⟨S94, .i32⟩
  | .hbm, ⟨4, _⟩ => ⟨S1x94, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S94x1, .i32⟩
  | .hbm, ⟨12, _⟩ => ⟨S94x1, .i32⟩
  | .hbm, ⟨13, _⟩ => ⟨S_, .i32⟩
  | .hbm, ⟨14, _⟩ => ⟨S94x1, .i32⟩
  | .hbm, ⟨15, _⟩ => ⟨S94x1, .i1⟩
  | .hbm, ⟨16, _⟩ => ⟨S_, .i32⟩
  | .hbm, ⟨17, _⟩ => ⟨S94x1, .i32⟩
  | .hbm, ⟨18, _⟩ => ⟨S94x1, .i1⟩
  | .hbm, ⟨19, _⟩ => ⟨S_, .i32⟩
  | .hbm, ⟨20, _⟩ => ⟨S_, .i1⟩
  | .hbm, ⟨21, _⟩ => ⟨S94x1, .i1⟩
  | .hbm, ⟨22, _⟩ => ⟨S94x1, .i1⟩
  | .hbm, ⟨23, _⟩ => ⟨S94x1, .i1⟩
  | .hbm, ⟨24, _⟩ => ⟨S94x1, .i32⟩
  | .hbm, ⟨25, _⟩ => ⟨S94x1, .i32⟩
  | .hbm, ⟨26, _⟩ => ⟨S94x1, .i32⟩
  | .hbm, ⟨27, _⟩ => ⟨S_, .i32⟩
  | .hbm, ⟨28, _⟩ => ⟨S94x1, .i32⟩
  | .hbm, ⟨29, _⟩ => ⟨S94x1, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x94, .i32⟩
  | .hbm, ⟨37, _⟩ => ⟨S1x94, .i32⟩
  | .hbm, ⟨38, _⟩ => ⟨S_, .i32⟩
  | .hbm, ⟨39, _⟩ => ⟨S1x94, .i32⟩
  | .hbm, ⟨40, _⟩ => ⟨S1x94, .i1⟩
  | .hbm, ⟨41, _⟩ => ⟨S_, .i32⟩
  | .hbm, ⟨42, _⟩ => ⟨S1x94, .i32⟩
  | .hbm, ⟨43, _⟩ => ⟨S1x94, .i1⟩
  | .hbm, ⟨44, _⟩ => ⟨S_, .i32⟩
  | .hbm, ⟨45, _⟩ => ⟨S_, .i1⟩
  | .hbm, ⟨46, _⟩ => ⟨S1x94, .i1⟩
  | .hbm, ⟨47, _⟩ => ⟨S1x94, .i1⟩
  | .hbm, ⟨48, _⟩ => ⟨S1x94, .i1⟩
  | .hbm, ⟨49, _⟩ => ⟨S1x94, .i32⟩
  | .hbm, ⟨50, _⟩ => ⟨S1x94, .i32⟩
  | .hbm, ⟨51, _⟩ => ⟨S1x94, .i32⟩
  | .hbm, ⟨52, _⟩ => ⟨S_, .i32⟩
  | .hbm, ⟨53, _⟩ => ⟨S1x94, .i32⟩
  | .hbm, ⟨54, _⟩ => ⟨S1x94, .i1⟩
  | .hbm, ⟨55, _⟩ => ⟨S94x94, .i1⟩
  | .hbm, ⟨56, _⟩ => ⟨S94x94, .i1⟩
  | .hbm, ⟨57, _⟩ => ⟨S94x94, .i1⟩
  | .hbm, ⟨58, _⟩ => ⟨S_, .i32⟩
  | .hbm, ⟨59, _⟩ => ⟨S_, .i32⟩
  | .hbm, ⟨60, _⟩ => ⟨S94x1, .i32⟩
  | .hbm, ⟨61, _⟩ => ⟨S94x1, .i32⟩
  | .hbm, ⟨62, _⟩ => ⟨S94x1, .i32⟩
  | .hbm, ⟨63, _⟩ => ⟨S_, .i32⟩
  | .hbm, ⟨64, _⟩ => ⟨S94x1, .i32⟩
  | .hbm, ⟨65, _⟩ => ⟨S94x1, .i1⟩
  | .hbm, ⟨66, _⟩ => ⟨S94x1, .i32⟩
  | .hbm, ⟨67, _⟩ => ⟨S94x1, .i32⟩
  | .hbm, ⟨68, _⟩ => ⟨S_, .i32⟩
  | .hbm, ⟨69, _⟩ => ⟨S94x1, .i32⟩
  | .hbm, ⟨70, _⟩ => ⟨S94x1, .i1⟩
  | .hbm, ⟨71, _⟩ => ⟨S94x1, .i1⟩
  | .hbm, ⟨72, _⟩ => ⟨S_, .i32⟩
  | .hbm, ⟨73, _⟩ => ⟨S94x1, .i32⟩
  | .hbm, ⟨74, _⟩ => ⟨S94x1, .i32⟩
  | .hbm, ⟨75, _⟩ => ⟨S94x1, .i32⟩
  | .hbm, ⟨76, _⟩ => ⟨S_, .i32⟩
  | .hbm, ⟨77, _⟩ => ⟨S_, .i32⟩
  | .hbm, ⟨78, _⟩ => ⟨S94x94, .i32⟩
  | .hbm, ⟨79, _⟩ => ⟨S94x94, .i32⟩
  | .hbm, ⟨80, _⟩ => ⟨S94x94, .i32⟩
  | .hbm, ⟨81, _⟩ => ⟨S_, .i32⟩
  | .hbm, ⟨82, _⟩ => ⟨S_, .i32⟩
  | .hbm, ⟨83, _⟩ => ⟨S1x94, .i32⟩
  | .hbm, ⟨84, _⟩ => ⟨S1x94, .i32⟩
  | .hbm, ⟨85, _⟩ => ⟨S1x94, .i32⟩
  | .hbm, ⟨86, _⟩ => ⟨S_, .i32⟩
  | .hbm, ⟨87, _⟩ => ⟨S1x94, .i32⟩
  | .hbm, ⟨88, _⟩ => ⟨S1x94, .i1⟩
  | .hbm, ⟨89, _⟩ => ⟨S1x94, .i32⟩
  | .hbm, ⟨90, _⟩ => ⟨S1x94, .i32⟩
  | .hbm, ⟨91, _⟩ => ⟨S_, .i32⟩
  | .hbm, ⟨92, _⟩ => ⟨S1x94, .i32⟩
  | .hbm, ⟨93, _⟩ => ⟨S1x94, .i1⟩
  | .hbm, ⟨94, _⟩ => ⟨S1x94, .i1⟩
  | .hbm, ⟨95, _⟩ => ⟨S_, .i32⟩
  | .hbm, ⟨96, _⟩ => ⟨S1x94, .i32⟩
  | .hbm, ⟨97, _⟩ => ⟨S1x94, .i32⟩
  | .hbm, ⟨98, _⟩ => ⟨S1x94, .i32⟩
  | .hbm, ⟨99, _⟩ => ⟨S_, .i32⟩
  | .hbm, ⟨100, _⟩ => ⟨S_, .i32⟩
  | .hbm, ⟨101, _⟩ => ⟨S94x94, .i32⟩
  | .hbm, ⟨102, _⟩ => ⟨S94x94, .i32⟩
  | .hbm, ⟨103, _⟩ => ⟨S94x94, .i32⟩
  | .hbm, ⟨104, _⟩ => ⟨S_, .f32⟩
  | .hbm, ⟨105, _⟩ => ⟨S8x384x32x32, .f32⟩
  | .hbm, ⟨106, _⟩ => ⟨S8x384x32x64, .f32⟩
  | .hbm, ⟨107, _⟩ => ⟨S_, .i32⟩
  | .hbm, ⟨108, _⟩ => ⟨S94x94, .i32⟩
  | .hbm, ⟨109, _⟩ => ⟨S94x94, .i1⟩
  | .hbm, ⟨110, _⟩ => ⟨S_, .i32⟩
  | .hbm, ⟨111, _⟩ => ⟨S94x94, .i32⟩
  | .hbm, ⟨112, _⟩ => ⟨S94x94, .i32⟩
  | .hbm, ⟨113, _⟩ => ⟨S94x94, .i32⟩
  | .hbm, ⟨114, _⟩ => ⟨S_, .i32⟩
  | .hbm, ⟨115, _⟩ => ⟨S94x94, .i32⟩
  | .hbm, ⟨116, _⟩ => ⟨S94x94, .i1⟩
  | .hbm, ⟨117, _⟩ => ⟨S_, .i32⟩
  | .hbm, ⟨118, _⟩ => ⟨S94x94, .i32⟩
  | .hbm, ⟨119, _⟩ => ⟨S94x94, .i32⟩
  | .hbm, ⟨120, _⟩ => ⟨S94x94, .i32⟩
  | .hbm, ⟨121, _⟩ => ⟨S94x94x1, .i32⟩
  | .hbm, ⟨122, _⟩ => ⟨S94x94x1, .i32⟩
  | .hbm, ⟨123, _⟩ => ⟨S94x94x2, .i32⟩
  | .hbm, ⟨124, _⟩ => ⟨S8x384x94x94, .f32⟩
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v7 : Ref sig .tc := ⟨.hbm, 51, rfl⟩
abbrev main_c_2 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_c_3 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v13 : Ref sig .tc := ⟨.hbm, 75, rfl⟩
abbrev main_c_4 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v14 : Ref sig .tc := ⟨.hbm, 80, rfl⟩
abbrev main_c_5 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_c : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_0 : Ref sig .tc := ⟨.hbm, 95, rfl⟩
abbrev main_call4_v12 : Ref sig .tc := ⟨.hbm, 96, rfl⟩
abbrev main_call4_v13 : Ref sig .tc := ⟨.hbm, 97, rfl⟩
abbrev main_v15 : Ref sig .tc := ⟨.hbm, 98, rfl⟩
abbrev main_c_6 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v16 : Ref sig .tc := ⟨.hbm, 103, rfl⟩
abbrev main_cst : Ref sig .tc := ⟨.hbm, 104, rfl⟩
abbrev main_v17 : Ref sig .tc := ⟨.hbm, 105, rfl⟩
abbrev main_v18 : Ref sig .tc := ⟨.hbm, 106, rfl⟩
abbrev main_c_7 : Ref sig .tc := ⟨.hbm, 107, rfl⟩
abbrev main_v19 : Ref sig .tc := ⟨.hbm, 108, rfl⟩
abbrev main_v20 : Ref sig .tc := ⟨.hbm, 109, rfl⟩
abbrev main_c_8 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_c_9 : Ref sig .tc := ⟨.hbm, 114, rfl⟩
abbrev main_v24 : Ref sig .tc := ⟨.hbm, 115, rfl⟩
abbrev main_v25 : Ref sig .tc := ⟨.hbm, 116, rfl⟩
abbrev main_c_10 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩

abbrev nD : Nat := 1
abbrev τ : Topo := Topo.v7x

variable {F : FTy → Type} [FloatOps F]
-- ==== Proof.Checked.lean ====
/-
  Checked programs. A vector subcore's indexed store rewrites the whole scratch buffer it goes through: it loads the buffer, replaces the
  named elements and stores every element back. While a transfer still reads another part of the same buffer, the program logic grants no
  such store, although the elements outside the named ones are stored back as they were. Here a program that stores a whole buffer is
  compared with its CHECKED form: a store of a part of the buffer, then a load of the buffer and an `assume` that what is read is
  what the whole store would have left. Whenever the checked form has no stuck or endless run, the `assume` holds, the two stores leave the
  same memory, and every run of the plain program is followed by a run of the checked one (`run_of_checked`). A load may also read less in the
  checked form, when the rest of the program does not depend on what is left out.
-/
module

public import Idealize.ShloMosaic.Lib.ThreadCanStep
public import Idealize.ShloMosaic.Lib.SparseCore
public import Idealize.ShloMosaic.Lib.Pipeline

@[expose] public section

namespace Cert.Proof.Checked
open Idealize.SL.Sem Idealize.ShloMosaic

variable {nD : Nat} {τ : Topo} {sig : RefSig} {Val : EltTy → Type} {Λ : Labels}

/-- `Chk c p p'`: on thread `c`, `p'` is a checked form of `p`. -/
inductive Chk (c : Thread nD τ) : {α : Type} → Prog (TpuEff nD τ sig Val Λ c.2) α → Prog (TpuEff nD τ sig Val Λ c.2) α → Prop where
  | ret {α : Type} (a : α) : Chk c (.ret a) (.ret a)
  | op {α β : Type} (e : TpuEff nD τ sig Val Λ c.2 β) {k k' : β → Prog (TpuEff nD τ sig Val Λ c.2) α}
      (hk : ∀ x, Chk c (k x) (k' x)) : Chk c (.op e k) (.op e k')
  | load {α : Type} {cs : CoreSpace} {s : Shape} {e : EltTy} (m : Memref sig c.2.kind cs s e) (r r' : LoadRect s)
      (h : m.view.LoadsAt r) (h' : m.view.LoadsAt r')
      {k : (r.shape.Idx → Val e) → Prog (TpuEff nD τ sig Val Λ c.2) α} {k' : (r'.shape.Idx → Val e) → Prog (TpuEff nD τ sig Val Λ c.2) α}
      (hk : ∀ g : Buf Val (m.view.loc c), Chk c (k (m.view.readAt Val r g)) (k' (m.view.readAt Val r' g))) :
      Chk c (.op (.load m r h) k) (.op (.load m r' h') k')
  | store {α : Type} {cs : CoreSpace} {s : Shape} {e : EltTy} (m : Memref sig c.2.kind cs s e) (r : Rect s) (w : r.shape.Idx → Val e)
      (r' : Rect s) (w' : r'.shape.Idx → Val e) (hr : r'.set ⊆ r.set) (hn : Nonempty r'.shape.Idx)
      (h : (m.access r).Stores Finset.univ) (hm : Finset.univ = Finset.univ ∨ ∀ a, r.stride a = 1)
      (h' : (m.access r').Stores Finset.univ) (hm' : Finset.univ = Finset.univ ∨ ∀ a, r'.stride a = 1) (hl : m.view.LoadsAt r.toLoadRect)
      (d : (f : r.toLoadRect.shape.Idx → Val e) → Decidable (f = w))
      {k : PUnit → Prog (TpuEff nD τ sig Val Λ c.2) α} {k' : Prog (TpuEff nD τ sig Val Λ c.2) α} (hk : Chk c (k ⟨⟩) k') :
      Chk c (.op (.store m r w Finset.univ h hm) k)
        (.op (.store m r' w' Finset.univ h' hm') fun _ => .op (.load m r.toLoadRect hl) fun f => .op (.assume (f = w) (d f)) fun _ => k')

namespace Chk
variable {c : Thread nD τ} {α β : Type}

/-- Every program is a checked form of itself. -/
theorem refl : (p : Prog (TpuEff nD τ sig Val Λ c.2) α) → Chk c p p
  | .ret a => .ret a
  | .op e k => .op e fun x => refl (k x)

theorem bind {p p' : Prog (TpuEff nD τ sig Val Λ c.2) α} (hp : Chk c p p') {k k' : α → Prog (TpuEff nD τ sig Val Λ c.2) β}
    (hk : ∀ a, Chk c (k a) (k' a)) : Chk c (p >>= k) (p' >>= k') := by
  induction hp with
  | ret a => exact hk a
  | op e _ ih => exact .op e fun x => ih x
  | load m r r' h h' _ ih => exact .load m r r' h h' fun g => ih g
  | store m r w r' w' hr hn h hm h' hm' hl d _ ih => exact .store m r w r' w' hr hn h hm h' hm' hl d ih

/-- Over more labels. -/
theorem inl {Λ' : Labels} {p p' : Prog (TpuEff nD τ sig Val Λ c.2) α} (hp : Chk c p p') :
    Chk c (TpuEff.inlProg (Λ' := Λ') p) (TpuEff.inlProg (Λ' := Λ') p') := by
  induction hp with
  | ret a => exact .ret a
  | op e _ ih => exact .op e.inl ih
  | load m r r' h h' _ ih => exact .load m r r' h h' ih
  | store m r w r' w' hr hn h hm h' hm' hl d _ ih => exact .store m r w r' w' hr hn h hm h' hm' hl d ih

end Chk

/-- Body tables: on every processor, every label's body in `D'` is a checked form of its body in `D`. -/
def ChkDefs (D D' : Defs nD τ sig Val Λ) : Prop := ∀ (c : Thread nD τ) ℓ a, Chk c (D c.2 ℓ a) (D' c.2 ℓ a)

theorem ChkDefs.pipeline {P : Type} {pcs : P → Pipeline.PCfg sig Λ Val} {D D' : Defs nD τ sig Val Λ} (h : ChkDefs D D') :
    ChkDefs (Pipeline.defs pcs D) (Pipeline.defs pcs D') := by
  rintro ⟨d, pr⟩ (ℓ | p) a
  · exact (h (d, pr) ℓ a).inl
  · cases pr <;> cases p <;> exact Chk.refl _

theorem ChkDefs.sparseCore {Q : Nat} (K : SparseCore.Cfg τ sig Λ Q) {D D' : Defs nD τ sig Val Λ} (h : ChkDefs D D') :
    ChkDefs (K.defs D) (K.defs D') := by
  rintro ⟨d, pr⟩ (ℓ | q) a
  · exact (h (d, pr) ℓ a).inl
  · cases pr <;> exact Chk.refl _

/-! ## States -/

/-- Thread by thread: both returned, or the second's residual program a checked form of the first's. -/
inductive ChkOpt (c : Thread nD τ) :
    Option (Prog (TpuEff nD τ sig Val Λ c.2) PUnit) → Option (Prog (TpuEff nD τ sig Val Λ c.2) PUnit) → Prop where
  | none : ChkOpt c none none
  | some {p p' : Prog (TpuEff nD τ sig Val Λ c.2) PUnit} (h : Chk c p p') : ChkOpt c (some p) (some p')

/-- Running states: the same memory and engine, every thread's residual program in checked form. -/
structure ChkSt (s s' : RunSt nD τ sig Val Λ) : Prop where
  phys : s.toPhys = s'.toPhys
  prog : ∀ c, ChkOpt c (s.prog c) (s'.prog c)

theorem ChkSt.final {s s' : RunSt nD τ sig Val Λ} (h : ChkSt s s') : Final s ↔ Final s' := by
  constructor <;> intro hf c <;> have hc := h.prog c <;> have hfc := hf c <;>
    generalize s.prog c = q at hc hfc <;> generalize s'.prog c = q' at hc hfc <;> cases hc <;> first | rfl | cases hfc

/-- Where the buffer reads, after a write of a part of the rectangle, as the payload, that write is the whole one. -/
theorem write_univ_of_read {κ : Kind} {sp : Space} {s : Shape} {e : EltTy} (v : View sig κ sp s e) (r r' : Rect s) (hr : r'.set ⊆ r.set)
    (f : v.ty.Contents Val) (w : r.shape.Idx → Val e) (w' : r'.shape.Idx → Val e)
    (h : (v.slice r).read Val ((v.slice r').write Val f w' Finset.univ) = w) :
    (v.slice r).write Val f w Finset.univ = (v.slice r').write Val f w' Finset.univ := by
  funext i
  by_cases hi : i ∈ (v.slice r).setOn Finset.univ
  · obtain ⟨x, hx, rfl⟩ := Finset.mem_map.mp hi
    rw [View.write_emb_of_mem _ _ hx, ← h, View.read_apply, cast_cast, cast_eq]
  · rw [View.write_of_not_mem _ _ _ hi, View.write_of_not_mem _ _ _ fun hi' => hi ?_]
    rw [View.setOn_univ, View.set_slice] at hi' ⊢
    exact Finset.map_subset_map.mpr hr hi'

/-- One step of a thread changes its residual program only. -/
theorem chk_setProg {s s' n n' : RunSt nD τ sig Val Λ} (h : ChkSt s s') (c : Thread nD τ)
    {q q' : Option (Prog (TpuEff nD τ sig Val Λ c.2) PUnit)} (hp : n.toPhys = n'.toPhys) (hn : n.prog = s.prog) (hn' : n'.prog = s'.prog)
    (hq : ChkOpt c q q') : ChkSt (n.setProg c q) (n'.setProg c q') where
  phys := hp
  prog c' := by
    by_cases hc : c' = c
    · subst hc; simpa only [RunSt.setProg, Function.update_self] using hq
    · simpa only [RunSt.setProg, Function.update_of_ne hc, hn, hn'] using h.prog c'

/-- The engine's steps and the deliveries read the physical state alone. -/
theorem step_engine {D D' : Defs nD τ sig Val Λ} {s s' t : RunSt nD τ sig Val Λ} {a : Agent nD τ} (hs : ChkSt s s')
    (h : MeshStep D a s t) (ha : ∀ c, a ≠ .thread c) : ∃ t', MeshStep D' a s' t' ∧ ChkSt t t' := by
  obtain ⟨ph, pr⟩ := s
  obtain ⟨ph', pr'⟩ := s'
  obtain ⟨he, hpr⟩ := hs
  dsimp only at he hpr
  subst he
  cases h with
  | core c ω hstep => exact absurd rfl (ha c)
  | dmaRead i M alt hd hM => exact ⟨_, .dmaRead i M alt hd hM, rfl, hpr⟩
  | dmaWrite i M hd hM => exact ⟨_, .dmaWrite i M hd hM, rfl, hpr⟩
  | dmaPaySrc i k hd hk => exact ⟨_, .dmaPaySrc i k hd hk, rfl, hpr⟩
  | dmaPayDst i k hd hk => exact ⟨_, .dmaPayDst i k hd hk, rfl, hpr⟩
  | dmaRetire i hd hk => exact ⟨_, .dmaRetire i hd hk, rfl, hpr⟩
  | serve i k alt hS hk => exact ⟨_, .serve i k alt hS hk, rfl, hpr⟩
  | deliver i hsg => exact ⟨_, .deliver i hsg, rfl, hpr⟩

/-- A thread's step at one effect of both programs is the same step. -/
theorem step_same {D D' : Defs nD τ sig Val Λ} (hD : ChkDefs D D') {c : Thread nD τ} {ω : Valuation τ sig Val}
    {s s' : RunSt nD τ sig Val Λ} (hs : s.toPhys = s'.toPhys) {β : Type} (e : TpuEff nD τ sig Val Λ c.2 β)
    {k k' : β → Prog (TpuEff nD τ sig Val Λ c.2) PUnit} (hk : ∀ x, Chk c (k x) (k' x))
    {q : Option (Prog (TpuEff nD τ sig Val Λ c.2) PUnit)} {n : RunSt nD τ sig Val Λ}
    (h : coreStepInner D c s ω (.op e k) = some (q, n)) :
    ∃ q' n', coreStepInner D' c s' ω (.op e k') = some (q', n') ∧ n.toPhys = n'.toPhys ∧ n.prog = s.prog ∧ n'.prog = s'.prog ∧ ChkOpt c q q' := by
  cases e with
  | call ℓ a => cases h; exact ⟨_, _, rfl, hs, rfl, rfl, .some ((hD c ℓ a).bind hk)⟩
  | customCall ℓ a =>
    cases h
    refine ⟨_, _, rfl, ?_, rfl, rfl, .some ((hD c ℓ a).bind fun r => .op _ fun _ => hk r)⟩
    show s.toPhys.forget c ω = s'.toPhys.forget c ω
    rw [hs]
  | _ =>
    simp only [coreStepInner] at h ⊢
    obtain ⟨⟨x, p⟩, heff, hxm⟩ := Option.map_eq_some_iff.mp h
    cases hxm
    rw [hs] at heff
    exact ⟨some (k' x), s'.withPhys p, by rw [heff]; rfl, rfl, rfl, rfl, .some (hk x)⟩

/-- What a step of the plain program becomes: one step of the checked program by the same agent, or — a whole store — three. -/
inductive Follows (D' : Defs nD τ sig Val Λ) (a : Agent nD τ) (s' t' : RunSt nD τ sig Val Λ) : Prop where
  | one (h : MeshStep D' a s' t')
  | three {u u' : RunSt nD τ sig Val Λ} (h : MeshStep D' a s' u) (hu : ¬ Final u) (h' : MeshStep D' a u u') (hu' : ¬ Final u')
      (h'' : MeshStep D' a u' t')

theorem step_forward {D D' : Defs nD τ sig Val Λ} (hD : ChkDefs D D') {Q : MemSt nD τ sig Val → Prop} {s₀ s s' t : RunSt nD τ sig Val Λ}
    {a : Agent nD τ} (hrun : MeshRun D' Q s₀) (hr : Reaches D' s₀ s') (hs : ChkSt s s') (h : MeshStep D a s t) :
    ∃ t', Follows D' a s' t' ∧ ChkSt t t' := by
  by_cases ha : ∀ c, a ≠ .thread c
  · obtain ⟨t', h1, h2⟩ := step_engine (D' := D') hs h ha
    exact ⟨t', .one h1, h2⟩
  push Not at ha
  obtain ⟨c, rfl⟩ := ha
  cases h with
  | core _ ω hstep =>
    rw [coreStep] at hstep
    have hp := hs.prog c
    cases hpc : s.prog c with
    | none => rw [hpc] at hstep; cases hstep
    | some p =>
      cases hpc' : s'.prog c with
      | none => rw [hpc, hpc'] at hp; cases hp
      | some p' =>
        rw [hpc, hpc'] at hp
        rw [hpc, Option.bind_some] at hstep
        cases hp with
        | some hpp =>
          cases hpp with
          | ret x =>
            cases hstep
            exact ⟨s'.setProg c none, .one (.core c ω (by rw [coreStep, hpc']; rfl)), chk_setProg hs c hs.phys rfl rfl .none⟩
          | op e hk =>
            obtain ⟨q', n', h1, h2, h3, h4, h5⟩ := step_same hD hs.phys e hk hstep
            exact ⟨n'.setProg c q', .one (.core c ω (by rw [coreStep, hpc']; exact h1)), chk_setProg hs c h2 h3 h4 h5⟩
          | load m r r' hl hl' hk =>
            cases hstep
            refine ⟨(s'.withPhys s'.toPhys).setProg c (some _), .one (.core c ω (by rw [coreStep, hpc']; rfl)), chk_setProg hs c hs.phys rfl rfl ?_⟩
            dsimp only
            rw [hs.phys]
            exact .some (hk _)
          | store m r w r' w' hsub hn hst hm hst' hm' hl d hk =>
            cases hstep
            -- the smaller store, then the load
            rename_i k k'
            set u : RunSt nD τ sig Val Λ := (s'.withPhys { s'.toPhys.writeView c (m.access r') w' Finset.univ with
                ops := Phys.touch s'.ops c.1 (c.2.devRef m.view.ref) (Finset.univ : Finset r'.shape.Idx) }).setProg c
              (some (.op (.load m r.toLoadRect hl) fun f => .op (.assume (f = w) (d f)) fun _ => k')) with hu
            have h1 : MeshStep D' (.thread c) s' u := .core c ω (by rw [coreStep, hpc']; rfl)
            have hup : u.prog c = some (.op (.load m r.toLoadRect hl) fun f => .op (.assume (f = w) (d f)) fun _ => k') := by
              rw [hu]; exact Function.update_self ..
            have hnu : ¬ Final u := not_final_of_isSome c (by rw [hup]; rfl)
            set u' : RunSt nD τ sig Val Λ := u.setProg c (some (.op (.assume (m.view.readAt Val r.toLoadRect (u.mem.mem (m.view.loc c)) = w)
              (d _)) fun _ => k')) with hu'
            have h2 : MeshStep D' (.thread c) u u' := .core c ω (by rw [coreStep, hup]; rfl)
            have hup' : u'.prog c = some (.op (.assume (m.view.readAt Val r.toLoadRect (u.mem.mem (m.view.loc c)) = w) (d _)) fun _ => k') := by
              rw [hu']; exact Function.update_self ..
            have hnu' : ¬ Final u' := not_final_of_isSome c (by rw [hup']; rfl)
            have hns' : ¬ Final s' := not_final_of_isSome c (by rw [hpc']; rfl)
            -- what the check says
            have hread := hrun.assume_holds ((hr.tail ⟨hns', _, h1⟩).tail ⟨hnu, _, h2⟩) hup'
            have h3 : MeshStep D' (.thread c) u' (u'.setProg c (some k')) := .core c ω (by
              rw [coreStep, hup', Option.bind_some]
              cases hd : d (m.view.readAt Val r.toLoadRect (u.mem.mem (m.view.loc c))) with
              | isFalse hn => exact absurd hread hn
              | isTrue hy => simp only [coreStepInner, hd, effStep, Option.map_some])
            refine ⟨_, .three h1 hnu h2 hnu' h3, ?_, fun c' => ?_⟩
            · show ({ s.toPhys.writeView c (m.access r) w Finset.univ with
                  ops := Phys.touch s.ops c.1 (c.2.devRef m.view.ref) (Finset.univ : Finset r.shape.Idx) } : Phys nD τ sig Val)
                = { s'.toPhys.writeView c (m.access r') w' Finset.univ with
                  ops := Phys.touch s'.ops c.1 (c.2.devRef m.view.ref) (Finset.univ : Finset r'.shape.Idx) }
              rw [← hs.phys]
              have hmem : u.mem.mem (m.view.loc c) = (m.access r').write Val (s.mem.mem (m.view.loc c)) w' Finset.univ := by
                rw [hu]
                show ((s'.mem.writeView c (m.access r') w' Finset.univ)).mem (m.view.loc c) = _
                rw [show s.mem = s'.mem from congrArg Phys.mem hs.phys]
                exact Function.update_self ..
              rw [hmem] at hread
              have hw := write_univ_of_read (Val := Val) m.view r r' hsub (s.mem.mem (m.view.loc c)) w w' hread
              have h1' : s.toPhys.writeView c (m.access r) w Finset.univ = s.toPhys.writeView c (m.access r') w' Finset.univ := by
                unfold Phys.writeView MemSt.writeView
                exact congrArg (fun f => ({ s.toPhys with mem := s.mem.write (m.view.loc c) f } : Phys nD τ sig Val)) hw
              rw [h1']
              have htouch : Phys.touch s.toPhys.ops c.1 (c.2.devRef m.view.ref) (Finset.univ : Finset r.shape.Idx)
                  = Phys.touch s.toPhys.ops c.1 (c.2.devRef m.view.ref) (Finset.univ : Finset r'.shape.Idx) := by
                unfold Phys.touch
                obtain ⟨x⟩ := hn
                have hx := r'.idx_mem x
                obtain ⟨y, -⟩ := r.exists_idx_of_mem (hsub hx)
                have h1 : (Finset.univ : Finset r'.shape.Idx).Nonempty := ⟨x, Finset.mem_univ _⟩
                have h2 : (Finset.univ : Finset r.shape.Idx).Nonempty := ⟨y, Finset.mem_univ _⟩
                simp only [h1, h2]
              rw [htouch]
            · by_cases hc : c' = c
              · subst hc
                simp only [RunSt.setProg, Function.update_self]
                exact .some hk
              · simp only [RunSt.setProg, Function.update_of_ne hc, hu', hu]
                exact hs.prog c'

/-- Where the checked program has a step, so has the plain one, by the same agent. -/
theorem step_backward {D D' : Defs nD τ sig Val Λ} {s s' : RunSt nD τ sig Val Λ} {a : Agent nD τ} (hs : ChkSt s s')
    (h : Enabled D' a s') : Enabled D a s := by
  obtain ⟨t', h⟩ := h
  by_cases ha : ∀ c, a ≠ .thread c
  · cases h with
    | core c ω hstep => exact absurd rfl (ha c)
    | dmaRead i M alt hd hM => exact ⟨_, .dmaRead i M alt (hs.phys ▸ hd) hM⟩
    | dmaWrite i M hd hM => exact ⟨_, .dmaWrite i M (hs.phys ▸ hd) hM⟩
    | dmaPaySrc i k hd hk => exact ⟨_, .dmaPaySrc i k (hs.phys ▸ hd) hk⟩
    | dmaPayDst i k hd hk => exact ⟨_, .dmaPayDst i k (hs.phys ▸ hd) hk⟩
    | dmaRetire i hd hk => exact ⟨_, .dmaRetire i (hs.phys ▸ hd) hk⟩
    | serve i k alt hS hk => exact ⟨_, .serve i k alt (hs.phys ▸ hS) hk⟩
    | deliver i hsg => exact ⟨_, .deliver i (hs.phys ▸ hsg)⟩
  push Not at ha
  obtain ⟨c, rfl⟩ := ha
  cases h with
  | core _ ω hstep =>
    rw [coreStep] at hstep
    have hp := hs.prog c
    cases hpc' : s'.prog c with
    | none => rw [hpc'] at hstep; cases hstep
    | some p' =>
      cases hpc : s.prog c with
      | none => rw [hpc, hpc'] at hp; cases hp
      | some p =>
        rw [hpc, hpc'] at hp
        rw [hpc', Option.bind_some] at hstep
        cases hp with
        | some hpp =>
          cases hpp with
          | ret x => exact ⟨_, .core c ω (by rw [coreStep, hpc]; rfl)⟩
          | op e hk =>
            rename_i k k'
            have : ∃ q n, coreStepInner D c s ω (.op e k) = some (q, n) := by
              cases e with
              | call ℓ a => exact ⟨_, _, rfl⟩
              | customCall ℓ a => exact ⟨_, _, rfl⟩
              | _ =>
                simp only [coreStepInner] at hstep ⊢
                obtain ⟨⟨x, p⟩, heff, -⟩ := Option.map_eq_some_iff.mp hstep
                rw [← hs.phys] at heff
                exact ⟨_, _, by rw [heff]; rfl⟩
            obtain ⟨q, n, hqn⟩ := this
            exact ⟨_, .core c ω (by rw [coreStep, hpc]; exact hqn)⟩
          | load m r r' hl hl' hk => exact ⟨_, .core c ω (by rw [coreStep, hpc]; rfl)⟩
          | store m r w r' w' hsub hn hst hm hst' hm' hl d hk => exact ⟨_, .core c ω (by rw [coreStep, hpc]; rfl)⟩

/-! ## Runs -/
section Runs
variable {D D' : Defs nD τ sig Val Λ} {Q : MemSt nD τ sig Val → Prop} {s₀ s₀' : RunSt nD τ sig Val Λ}

theorem Follows.reaches {a : Agent nD τ} {s' t' : RunSt nD τ sig Val Λ} (h : Follows D' a s' t') (hs : ¬ Final s') (hr : Reaches D' s₀' s') :
    Reaches D' s₀' t' := by
  cases h with
  | one h => exact hr.tail ⟨hs, a, h⟩
  | three h hu h' hu' h'' => exact ((hr.tail ⟨hs, a, h⟩).tail ⟨hu, a, h'⟩).tail ⟨hu', a, h''⟩

/-- The steps that follow one step, as a sequence. -/
theorem Follows.path {a : Agent nD τ} {s' t' : RunSt nD τ sig Val Λ} (h : Follows D' a s' t') (hs : ¬ Final s') :
    ∃ (n : Nat) (P : Nat → RunSt nD τ sig Val Λ), 0 < n ∧ P 0 = s' ∧ P n = t' ∧ ∀ j < n, ¬ Final (P j) ∧ MeshStep D' a (P j) (P (j + 1)) := by
  cases h with
  | one h =>
    refine ⟨1, fun | 0 => s' | _ + 1 => t', by omega, rfl, rfl, fun j hj => ?_⟩
    obtain rfl : j = 0 := by omega
    exact ⟨hs, h⟩
  | @three u u' h hu h' hu' h'' =>
    refine ⟨3, fun | 0 => s' | 1 => u | 2 => u' | _ + 3 => t', by omega, rfl, rfl, fun j hj => ?_⟩
    match j, hj with
    | 0, _ => exact ⟨hs, h⟩
    | 1, _ => exact ⟨hu, h'⟩
    | 2, _ => exact ⟨hu', h''⟩

theorem reaches_forward (hD : ChkDefs D D') (hrun : MeshRun D' Q s₀') (h₀ : ChkSt s₀ s₀') {s : RunSt nD τ sig Val Λ} (h : Reaches D s₀ s) :
    ∃ s', Reaches D' s₀' s' ∧ ChkSt s s' := by
  induction h with
  | refl => exact ⟨s₀', .refl, h₀⟩
  | tail _ hst ih =>
    obtain ⟨s', hr, hs⟩ := ih
    obtain ⟨hnf, a, hst⟩ := hst
    obtain ⟨t', hf, ht⟩ := step_forward hD hrun hr hs hst
    exact ⟨t', hf.reaches (fun h => hnf (hs.final.mpr h)) hr, ht⟩

/-- Position `(n, j)`: `j` steps into the path that follows step `n`; its successor along paths of lengths `L`. -/
def advance (L : Nat → Nat) (p : Nat × Nat) : Nat × Nat := if p.2 + 1 < L p.1 then (p.1, p.2 + 1) else (p.1 + 1, 0)

def pos (L : Nat → Nat) : Nat → Nat × Nat
  | 0 => (0, 0)
  | m + 1 => advance L (pos L m)

theorem pos_lt {L : Nat → Nat} (hL : ∀ n, 0 < L n) : ∀ m, (pos L m).2 < L (pos L m).1
  | 0 => hL 0
  | m + 1 => by
    simp only [pos, advance]
    split
    · assumption
    · exact hL _

/-- From any position, the start of the next path is reached. -/
theorem pos_next {L : Nat → Nat} (hL : ∀ n, 0 < L n) (m : Nat) : ∃ m', m < m' ∧ pos L m' = ((pos L m).1 + 1, 0) := by
  induction hk : L (pos L m).1 - (pos L m).2 using Nat.strong_induction_on generalizing m with
  | _ k ih =>
    have hm := pos_lt hL m
    by_cases h : (pos L m).2 + 1 < L (pos L m).1
    · have hp : pos L (m + 1) = ((pos L m).1, (pos L m).2 + 1) := by simp only [pos, advance, if_pos h]
      obtain ⟨m', h1, h2⟩ := ih (L (pos L m).1 - ((pos L m).2 + 1)) (by omega) (m + 1) (by rw [hp])
      exact ⟨m', by omega, by rw [h2, hp]⟩
    · exact ⟨m + 1, by omega, by simp only [pos, advance, if_neg h]⟩

theorem pos_reach {L : Nat → Nat} (hL : ∀ n, 0 < L n) (m : Nat) : ∀ k, ∃ m', m < m' ∧ pos L m' = ((pos L m).1 + 1 + k, 0)
  | 0 => pos_next hL m
  | k + 1 => by
    obtain ⟨m₁, h1, h2⟩ := pos_reach hL m k
    obtain ⟨m₂, h3, h4⟩ := pos_next hL m₁
    exact ⟨m₂, by omega, by rw [h4, h2]; rfl⟩

/-- **Where the checked program runs to the end with `Q`, so does the plain one.** -/
theorem run_of_checked (hD : ChkDefs D D') (h₀ : ChkSt s₀ s₀') (hrun : MeshRun D' Q s₀') : MeshRun D Q s₀ where
  post s hr hf := by
    obtain ⟨s', hr', hs⟩ := reaches_forward hD hrun h₀ hr
    have := hrun.post s' hr' (hs.final.mp hf)
    rwa [show s.mem = s'.mem from congrArg Phys.mem hs.phys]
  progress s hr hf := by
    obtain ⟨s', hr', hs⟩ := reaches_forward hD hrun h₀ hr
    obtain ⟨a, t', ht⟩ := hrun.progress s' hr' fun h => hf (hs.final.mpr h)
    obtain ⟨t, ht⟩ := step_backward (D := D) hs ⟨t', ht⟩
    exact ⟨a, t, ht⟩
  fair ρ hfair := by
    -- the checked states that match the run's
    have hnext : ∀ n (x : { s' // Reaches D' s₀' s' ∧ ChkSt (ρ.st n) s' }),
        ∃ y : { s' // Reaches D' s₀' s' ∧ ChkSt (ρ.st (n + 1)) s' }, Follows D' (ρ.ag n) x.1 y.1 := by
      rintro n ⟨s', hr, hs⟩
      obtain ⟨hnf, hst⟩ := ρ.step n
      obtain ⟨t', hf, ht⟩ := step_forward hD hrun hr hs hst
      exact ⟨⟨t', hf.reaches (fun h => hnf (hs.final.mpr h)) hr, ht⟩, hf⟩
    choose nx hnx using hnext
    let S : (n : Nat) → { s' // Reaches D' s₀' s' ∧ ChkSt (ρ.st n) s' } :=
      Nat.rec ⟨s₀', .refl, by rw [ρ.head]; exact h₀⟩ fun n x => nx n x
    have hS : ∀ n, Follows D' (ρ.ag n) (S n).1 (S (n + 1)).1 := fun n => hnx n (S n)
    have hpath := fun n => (hS n).path fun h => (ρ.step n).1 ((S n).2.2.final.mpr h)
    choose L P hL hP0 hPL hPs using hpath
    -- the paths end to end
    let ρ' : InfRun D' s₀' := {
      st := fun m => P (pos L m).1 (pos L m).2
      ag := fun m => ρ.ag (pos L m).1
      head := hP0 0
      step := fun m => by
        obtain ⟨h1, h2⟩ := hPs _ _ (pos_lt hL m)
        refine ⟨h1, ?_⟩
        have hj := pos_lt hL m
        by_cases h : (pos L m).2 + 1 < L (pos L m).1
        · simpa only [pos, advance, if_pos h] using h2
        · have he : (pos L m).2 + 1 = L (pos L m).1 := by omega
          rw [he, (hPL (pos L m).1).trans (hP0 ((pos L m).1 + 1)).symm] at h2
          simpa only [pos, advance, if_neg h] using h2 }
    refine hrun.fair ρ' fun a m hen => ?_
    obtain ⟨n, hn, ha⟩ := hfair a ((pos L m).1 + 1) fun n hn => by
      obtain ⟨k, rfl⟩ := Nat.exists_eq_add_of_le hn
      obtain ⟨m', h1, h2⟩ := pos_reach hL m k
      have h3 : Enabled D' a (P (pos L m').1 (pos L m').2) := hen m' (by omega)
      rw [h2, hP0] at h3
      exact step_backward (S _).2.2 h3
    obtain ⟨k, rfl⟩ := Nat.exists_eq_add_of_le hn
    obtain ⟨m', h1, h2⟩ := pos_reach hL m k
    exact ⟨m', by omega, by show ρ.ag (pos L m').1 = a; rw [h2]; exact ha⟩

/-- The same for whole programs under the two tables, from one memory. -/
theorem θ_of_checked (hD : ChkDefs D D') (p : (c : Thread nD τ) → Prog (TpuEff nD τ sig Val Λ c.2) PUnit) (m : MemSt nD τ sig Val)
    {R : PUnit × MemSt nD τ sig Val → Prop} (h : (θ_run D' p m) R) : (θ_run D p m) R :=
  run_of_checked hD ⟨rfl, fun c => .some (Chk.refl (p c))⟩ h

end Runs

end Cert.Proof.Checked
-- ==== Proof.Program.lean ====
/-
  The vector subcore's program, in short form: `row` one row of a unit scattered into the scratch image, `scat` the 128 rows of a unit, `zst`
  the 48 stores that clear one row of the scratch image, `inStart` … `outWait` the transfers, and `prog` the whole program, each followed by
  the rest of the program. `prog` takes the scattering of a unit as an argument: with `scat` it is the printed program (Proof/Walk.lean), with
  the checked scattering of Proof/CheckedProgram.lean the program that is run in its place.
-/
module

public import proofs.«01_k».proof.Proof.Gen.KernelIdeal
public import proofs.«01_k».proof.Proof.Checked

@[expose] public section

noncomputable section

namespace Cert.Proof.Weave
open Idealize.SL.Sem Idealize.ShloMosaic Cert.KernelIdeal Cert.KernelIdeal.Gen

variable {F : FTy → Type} [FloatOps F]

/-- Programs of one vector subcore. -/
abbrev Pr (F : FTy → Type) (c : Fin τ.nSC) (s : Fin τ.nSub) := Prog (TpuEff nD τ sig (Elt F) Λ₀ (.scVector c s)) PUnit

/-- The input units' two slots, and the images' two slots. -/
abbrev X : Memref sig .scVector .vmem S2x4x32x32 .f32 := Memref.whole cc0_scratch0
abbrev Y : Memref sig .scVector .vmem S2x4x94x96 .f32 := Memref.whole cc0_scratch1
/-- The padded input and the padded output, in HBM. -/
abbrev A : Memref sig .scVector .hbm S8x384x32x128 .f32 := Memref.whole main_v6_scv
abbrev B : Memref sig .scVector .hbm S8x384x96x128 .f32 := Memref.whole main_v7_scv

/-- The vector of sixteen times `n`. -/
abbrev sp (n : Nat) : IVec S16 32 := broadcast S16 (BitVec.ofNat 32 n)
/-- 0 … 15; three times it; that plus 48. -/
abbrev lanes : IVec S16 32 := iota .scVector S16 32 [0] iota_S16_d0_w32_scVector
abbrev colLo : IVec S16 32 := muli lanes (sp 3)
abbrev colHi : IVec S16 32 := addi colLo (sp 48)
abbrev zero16 : FVec F S16 .f32 := broadcast S16 (Scalar.ofBits .f32 0x00000000#32 : F .f32)

/-- The index vectors name elements of the input slots / of the images. -/
abbrev InX (i : Fin 4 → IVec S16 32) : Prop := ∀ a x, ((i : Fin 4 → IVec S16 32) a x).toNat < S2x4x32x32.size a
abbrev InY (i : Fin 4 → IVec S16 32) : Prop := ∀ a x, ((i : Fin 4 → IVec S16 32) a x).toNat < S2x4x94x96.size a

abbrev ixLo (p q r : Nat) : Fin 4 → IVec S16 32 := ![sp p, sp q, sp r, lanes]
abbrev ixHi (p q r : Nat) : Fin 4 → IVec S16 32 := ![sp p, sp q, sp r, addi lanes (sp 16)]
abbrev iyLo (p q r : Nat) : Fin 4 → IVec S16 32 := ![sp p, sp q, sp (3 * r), colLo]
abbrev iyHi (p q r : Nat) : Fin 4 → IVec S16 32 := ![sp p, sp q, sp (3 * r), colHi]
/-- Columns `o … o + 15` of row `t` of channel `q` of slot `p`. -/
abbrev iz (p q o : Nat) (t : BitVec 32) : Fin 4 → IVec S16 32 := ![sp p, sp q, broadcast S16 t, addi lanes (sp o)]

/-- Slot `p` of the images, as elements of the buffer. -/
def slotY (p : Nat) : Finset S2x4x94x96.Idx := Finset.univ.filter fun j => (j 0).val = p

variable {c : Fin τ.nSC} {s : Fin τ.nSub}

/-- One row: its two halves loaded from slot `p` of the input, each scattered into every third column of row `3r` of the image. -/
def row (p q r : Nat) (k : Pr F c s) : Pr F c s :=
  .op (.assume (InX (ixLo p q r)) (Classical.propDecidable _)) fun h₁ =>
  .op (.load X (.whole S2x4x32x32) (View.loadsAt_whole (View.loads_vmem h_S2x4x32x32))) fun f₁ =>
  .op (.assume (InX (ixHi p q r)) (Classical.propDecidable _)) fun h₂ =>
  .op (.load X (.whole S2x4x32x32) (View.loadsAt_whole (View.loads_vmem h_S2x4x32x32))) fun f₂ =>
  .op (.assume (InY (iyLo p q r) ∧ InY (iyHi p q r)) (Classical.propDecidable _)) fun h₃ =>
  .op (.load Y (.whole S2x4x94x96) (View.loadsAt_rect (View.stores_vmem_bits_univ h_S2x4x94x96 rfl).loads)) fun f₃ =>
  .op (.store Y (.whole S2x4x94x96) (storeIdx f₃ (iyLo p q r) (loadIdx f₁ (ixLo p q r) h₁.down) (fun _ => 1#1) false h₃.down.1) Finset.univ
    (View.stores_vmem_bits_univ h_S2x4x94x96 rfl) (.inl rfl)) fun _ =>
  .op (.load Y (.whole S2x4x94x96) (View.loadsAt_rect (View.stores_vmem_bits_univ h_S2x4x94x96 rfl).loads)) fun f₄ =>
  .op (.store Y (.whole S2x4x94x96) (storeIdx f₄ (iyHi p q r) (loadIdx f₂ (ixHi p q r) h₂.down) (fun _ => 1#1) false h₃.down.2) Finset.univ
    (View.stores_vmem_bits_univ h_S2x4x94x96 rfl) (.inl rfl)) fun _ => k

theorem row_eq {p q r : Nat} {k : Pr F c s} {k' : PUnit → Pr F c s} {d₁ : Decidable (InX (ixLo p q r))} {d₂ : Decidable (InX (ixHi p q r))}
    {d₃ : Decidable (InY (iyLo p q r) ∧ InY (iyHi p q r))} (h : k = k' ⟨⟩) : row p q r k =
      .op (.assume (InX (ixLo p q r)) d₁) fun h₁ =>
      .op (.load X (.whole S2x4x32x32) (View.loadsAt_whole (View.loads_vmem h_S2x4x32x32))) fun f₁ =>
      .op (.assume (InX (ixHi p q r)) d₂) fun h₂ =>
      .op (.load X (.whole S2x4x32x32) (View.loadsAt_whole (View.loads_vmem h_S2x4x32x32))) fun f₂ =>
      .op (.assume (InY (iyLo p q r) ∧ InY (iyHi p q r)) d₃) fun h₃ =>
      .op (.load Y (.whole S2x4x94x96) (View.loadsAt_rect (View.stores_vmem_bits_univ h_S2x4x94x96 rfl).loads)) fun f₃ =>
      .op (.store Y (.whole S2x4x94x96) (storeIdx f₃ (iyLo p q r) (loadIdx f₁ (ixLo p q r) h₁.down) (fun _ => 1#1) false h₃.down.1) Finset.univ
        (View.stores_vmem_bits_univ h_S2x4x94x96 rfl) (.inl rfl)) fun _ =>
      .op (.load Y (.whole S2x4x94x96) (View.loadsAt_rect (View.stores_vmem_bits_univ h_S2x4x94x96 rfl).loads)) fun f₄ =>
      .op (.store Y (.whole S2x4x94x96) (storeIdx f₄ (iyHi p q r) (loadIdx f₂ (ixHi p q r) h₂.down) (fun _ => 1#1) false h₃.down.2) Finset.univ
        (View.stores_vmem_bits_univ h_S2x4x94x96 rfl) (.inl rfl)) k' := by
  subst h
  rw [row, Subsingleton.elim d₁ (Classical.propDecidable _), Subsingleton.elim d₂ (Classical.propDecidable _),
    Subsingleton.elim d₃ (Classical.propDecidable _)]

/-- The unit in slot `p`, from its last `n` rows on. -/
def scat (p : Nat) : Nat → Pr F c s → Pr F c s
  | 0, k => k
  | n + 1, k => row p ((127 - n) / 32) ((127 - n) % 32) (scat p n k)

/-- One clearing store. -/
def zst (p q o : Nat) (t : BitVec 32) (k : Pr F c s) : Pr F c s :=
  .op (.assume (InY (iz p q o t)) (Classical.propDecidable _)) fun h =>
  .op (.load Y (.whole S2x4x94x96) (View.loadsAt_rect (View.stores_vmem_bits_univ h_S2x4x94x96 rfl).loads)) fun f =>
  .op (.store Y (.whole S2x4x94x96) (storeIdx f (iz p q o t) zero16 (fun _ => 1#1) false h.down) Finset.univ
    (View.stores_vmem_bits_univ h_S2x4x94x96 rfl) (.inl rfl)) fun _ => k

theorem zst_eq {p q o : Nat} {t : BitVec 32} {k : Pr F c s} {k' : PUnit → Pr F c s} {d : Decidable (InY (iz p q o t))} (h : k = k' ⟨⟩) : zst p q o t k =
      .op (.assume (InY (iz p q o t)) d) fun h =>
      .op (.load Y (.whole S2x4x94x96) (View.loadsAt_rect (View.stores_vmem_bits_univ h_S2x4x94x96 rfl).loads)) fun f =>
      .op (.store Y (.whole S2x4x94x96) (storeIdx f (iz p q o t) zero16 (fun _ => 1#1) false h.down) Finset.univ
        (View.stores_vmem_bits_univ h_S2x4x94x96 rfl) (.inl rfl)) k' := by
  subst h
  rw [zst, Subsingleton.elim d (Classical.propDecidable _)]

/-- The last `n` of the 48 stores that clear row `t`. -/
def zrow (t : BitVec 32) : Nat → Pr F c s → Pr F c s
  | 0, k => k
  | n + 1, k => zst ((47 - n) / 24) ((47 - n) % 24 / 6) (16 * ((47 - n) % 6)) t (zrow t n k)

/-! ## The transfers -/

abbrev slotX_inb (p : Nat) (hp : p < 2) : ∀ a, (![p, 0, 0, 0] : Fin 4 → Nat) a + S1x4x32x32.size a ≤ S2x4x32x32.size a := by
  intro a; fin_cases a <;> simp [S1x4x32x32, S2x4x32x32] <;> omega
abbrev slotY_inb (p : Nat) (hp : p < 2) : ∀ a, (![p, 0, 0, 0] : Fin 4 → Nat) a + S1x4x94x96.size a ≤ S2x4x94x96.size a := by
  intro a; fin_cases a <;> simp [S1x4x94x96, S2x4x94x96] <;> omega

/-- Slot `p` of the input buffer / of the images. -/
abbrev Xs (p : Nat) (hp : p < 2) : Memref sig .scVector .vmem S4x32x32 .f32 :=
  (X.slice (Rect.unit (s := S2x4x32x32) ![p, 0, 0, 0] S1x4x32x32.size (slotX_inb p hp)) (fun _ => rfl)).squeeze S4x32x32 squeezes_S1x4x32x32_S4x32x32
abbrev Ys (p : Nat) (hp : p < 2) : Memref sig .scVector .vmem S4x94x96 .f32 :=
  (Y.slice (Rect.unit (s := S2x4x94x96) ![p, 0, 0, 0] S1x4x94x96.size (slotY_inb p hp)) (fun _ => rfl)).squeeze S4x94x96 squeezes_S1x4x94x96_S4x94x96
/-- The part of the padded input / output at an offset. -/
abbrev As (off : Fin 4 → Nat) (h : ∀ a, off a + S1x4x32x32.size a ≤ S8x384x32x128.size a) : Memref sig .scVector .hbm S4x32x32 .f32 :=
  (A.slice (Rect.unit (s := S8x384x32x128) off S1x4x32x32.size h) (fun _ => rfl)).squeeze S4x32x32 squeezes_S1x4x32x32_S4x32x32
abbrev Bs (off : Fin 4 → Nat) (h : ∀ a, off a + S1x4x94x96.size a ≤ S8x384x96x128.size a) : Memref sig .scVector .hbm S4x94x96 .f32 :=
  (B.slice (Rect.unit (s := S8x384x96x128) off S1x4x94x96.size h) (fun _ => rfl)).squeeze S4x94x96 squeezes_S1x4x94x96_S4x94x96

/-- Slot `p`'s semaphores. -/
abbrev semI : Nat → DmaSems sig S_
  | 0 => cc0_scratch2
  | _ + 1 => cc0_scratch3
abbrev semO : Nat → DmaSems sig S_
  | 0 => cc0_scratch4
  | _ + 1 => cc0_scratch5

abbrev inStart (p : Nat) (hp : p < 2) (off : Fin 4 → Nat) (h : ∀ a, off a + S1x4x32x32.size a ≤ S8x384x32x128.size a) (k : Pr F c s) : Pr F c s :=
  .op (.enqueueDma (As off h) (.here (Xs p hp)) (.dma (semI p).sem) ((View.wordExact_bits rfl).reshape _ _) ((View.wordExact_bits rfl).reshape _ _)
    ⟨Or.inl rfl, trivial⟩) fun _ => k
abbrev outStart (p : Nat) (hp : p < 2) (off : Fin 4 → Nat) (h : ∀ a, off a + S1x4x94x96.size a ≤ S8x384x96x128.size a) (k : Pr F c s) : Pr F c s :=
  .op (.enqueueDma (Ys p hp) (.here (Bs off h)) (.dma (semO p).sem) ((View.wordExact_bits rfl).reshape _ _) ((View.wordExact_bits rfl).reshape _ _)
    ⟨Or.inl rfl, trivial⟩) fun _ => k
abbrev inWait (p : Nat) (hp : p < 2) (k : Pr F c s) : Pr F c s :=
  .op (.waitDma2 (semI p).sem (As ![0, 0, 0, 0] inb_S8x384x32x128_S1x4x32x32_0_0_0_0) (Xs p hp) ((View.wordExact_bits rfl).reshape _ _)
    ((View.wordExact_bits rfl).reshape _ _)) fun _ => k
abbrev outWait (p : Nat) (hp : p < 2) (k : Pr F c s) : Pr F c s :=
  .op (.waitDma2 (semO p).sem (Ys p hp) (Bs ![0, 0, 0, 0] inb_S8x384x96x128_S1x4x94x96_0_0_0_0) ((View.wordExact_bits rfl).reshape _ _)
    ((View.wordExact_bits rfl).reshape _ _)) fun _ => k

theorem op_eq {α : Type} {E : Type → Type} {e : E PUnit} {k : Prog E α} {k' : PUnit → Prog E α} (h : k = k' ⟨⟩) :
    (Prog.op e fun _ => k) = Prog.op e k' := by rw [h]

/-! ## The whole program -/

/-- The loop's body, a unit through each slot; `S p _ k` the unit in slot `p` scattered, then `k`. -/
def steady (S : (p : Nat) → p < 2 → Pr F c s → Pr F c s) (i : grid0.Coords) (t : Fin k0_t2_loop.trips) : Pr F c s :=
  outWait 0 (by omega) <| inWait 0 (by omega) <| S 0 (by omega) <| outStart 0 (by omega) (k0_off6 i t) (k0_off6_inb i t) <|
  inStart 0 (by omega) (k0_off7 i t) (k0_off7_inb i t) <|
  outWait 1 (by omega) <| inWait 1 (by omega) <| S 1 (by omega) <| outStart 1 (by omega) (k0_off8 i t) (k0_off8_inb i t) <|
  inStart 1 (by omega) (k0_off9 i t) (k0_off9_inb i t) <| .ret ⟨⟩

/-- The last two units. -/
def last (S : (p : Nat) → p < 2 → Pr F c s → Pr F c s) (i : grid0.Coords) : Pr F c s :=
  outWait 0 (by omega) <| inWait 0 (by omega) <| S 0 (by omega) <| outStart 0 (by omega) (k0_off10 i) (k0_off10_inb i) <|
  outWait 1 (by omega) <| inWait 1 (by omega) <| S 1 (by omega) <| outStart 1 (by omega) (k0_off11 i) (k0_off11_inb i) <|
  outWait 0 (by omega) <| outWait 1 (by omega) <| .ret ⟨⟩

/-- The first two units. -/
def first (S : (p : Nat) → p < 2 → Pr F c s → Pr F c s) (i : grid0.Coords) (k : Pr F c s) : Pr F c s :=
  inWait 0 (by omega) <| S 0 (by omega) <| outStart 0 (by omega) (k0_off2 i) (k0_off2_inb i) <|
  inStart 0 (by omega) (k0_off3 i) (k0_off3_inb i) <|
  inWait 1 (by omega) <| S 1 (by omega) <| outStart 1 (by omega) (k0_off4 i) (k0_off4_inb i) <|
  inStart 1 (by omega) (k0_off5 i) (k0_off5_inb i) k

def prog (S : (p : Nat) → p < 2 → Pr F c s → Pr F c s) (i : grid0.Coords) : Pr F c s :=
  inStart 0 (by omega) (k0_off1 i 0#32) (k0_off1_inb i 0) <| inStart 1 (by omega) (k0_off1 i 4#32) (k0_off1_inb i 1) <|
  Scf.Loop.for k0_t1_loop k0_t1_ok ⟨⟩ (fun t _ => zrow (Scf.iv 0#32 1#32 t) 48 (.ret ⟨⟩)) >>= fun _ =>
  first S i <|
  Scf.Loop.for k0_t2_loop k0_t2_ok ⟨⟩ (fun t _ => steady S i t) >>= fun _ =>
  last S i

end Cert.Proof.Weave
-- ==== Proof.Indices.lean ====
/-
  What the index vectors of the program name, and what an indexed store through them leaves.
-/
module

public import proofs.«01_k».proof.Proof.Program

@[expose] public section

noncomputable section

namespace Cert.Proof.Weave
open Idealize.SL.Sem Idealize.ShloMosaic Cert.KernelIdeal Cert.KernelIdeal.Gen

variable {F : FTy → Type} [FloatOps F]

/-! ## Lanes -/

theorem lane_lt (x : S16.Idx) : (x 0).val < 16 := (x 0).isLt

theorem sp_toNat {n : Nat} (h : n < 4096) (x : S16.Idx) : (sp n x).toNat = n := by
  show (BitVec.ofNat 32 n).toNat = n
  rw [BitVec.toNat_ofNat]; omega

theorem lanes_toNat (x : S16.Idx) : (lanes x).toNat = (x 0).val := by
  show (BitVec.ofNat 32 (0 * 16 + (x 0).val)).toNat = _
  have := lane_lt x
  rw [BitVec.toNat_ofNat]; omega

theorem lanes_add_toNat {o : Nat} (h : o < 4096) (x : S16.Idx) : (addi lanes (sp o) x).toNat = (x 0).val + o := by
  show (lanes x + sp o x).toNat = _
  have := lane_lt x
  rw [BitVec.toNat_add, lanes_toNat, sp_toNat h]; omega

theorem colLo_toNat (x : S16.Idx) : (colLo x).toNat = 3 * (x 0).val := by
  show (lanes x * sp 3 x).toNat = _
  have := lane_lt x
  rw [BitVec.toNat_mul, lanes_toNat, sp_toNat (by omega)]; omega

theorem colHi_toNat (x : S16.Idx) : (colHi x).toNat = 3 * (x 0).val + 48 := by
  show (colLo x + sp 48 x).toNat = _
  have := lane_lt x
  rw [BitVec.toNat_add, colLo_toNat, sp_toNat (by omega)]; omega

theorem ixLo_toNat {p q r : Nat} (hp : p < 2) (hq : q < 4) (hr : r < 32) (a : Fin 4) (x : S16.Idx) :
    (ixLo p q r a x).toNat = (![p, q, r, (x 0).val] : Fin 4 → Nat) a := by
  fin_cases a
  exacts [sp_toNat (by omega) x, sp_toNat (by omega) x, sp_toNat (by omega) x, lanes_toNat x]

theorem ixHi_toNat {p q r : Nat} (hp : p < 2) (hq : q < 4) (hr : r < 32) (a : Fin 4) (x : S16.Idx) :
    (ixHi p q r a x).toNat = (![p, q, r, (x 0).val + 16] : Fin 4 → Nat) a := by
  fin_cases a
  exacts [sp_toNat (by omega) x, sp_toNat (by omega) x, sp_toNat (by omega) x, lanes_add_toNat (by omega) x]

theorem iyLo_toNat {p q r : Nat} (hp : p < 2) (hq : q < 4) (hr : r < 32) (a : Fin 4) (x : S16.Idx) :
    (iyLo p q r a x).toNat = (![p, q, 3 * r, 3 * (x 0).val] : Fin 4 → Nat) a := by
  fin_cases a
  exacts [sp_toNat (by omega) x, sp_toNat (by omega) x, sp_toNat (by omega) x, colLo_toNat x]

theorem iyHi_toNat {p q r : Nat} (hp : p < 2) (hq : q < 4) (hr : r < 32) (a : Fin 4) (x : S16.Idx) :
    (iyHi p q r a x).toNat = (![p, q, 3 * r, 3 * (x 0).val + 48] : Fin 4 → Nat) a := by
  fin_cases a
  exacts [sp_toNat (by omega) x, sp_toNat (by omega) x, sp_toNat (by omega) x, colHi_toNat x]

theorem iz_toNat {p q o : Nat} {t : BitVec 32} (hp : p < 2) (hq : q < 4) (ho : o < 96) (a : Fin 4) (x : S16.Idx) :
    (iz p q o t a x).toNat = (![p, q, t.toNat, (x 0).val + o] : Fin 4 → Nat) a := by
  fin_cases a
  exacts [sp_toNat (by omega) x, sp_toNat (by omega) x, rfl, lanes_add_toNat (by omega) x]

/-- Four coordinates below four extents. -/
theorem four_lt {v d : Fin 4 → Nat} (h0 : v 0 < d 0) (h1 : v 1 < d 1) (h2 : v 2 < d 2) (h3 : v 3 < d 3) (a : Fin 4) : v a < d a := by
  fin_cases a <;> assumption

theorem inX_lo {p q r : Nat} (hp : p < 2) (hq : q < 4) (hr : r < 32) : InX (ixLo p q r) := fun a x => by
  rw [ixLo_toNat hp hq hr]
  have := lane_lt x
  exact four_lt (d := S2x4x32x32.size) hp hq hr (show (x 0).val < 32 by omega) a

theorem inX_hi {p q r : Nat} (hp : p < 2) (hq : q < 4) (hr : r < 32) : InX (ixHi p q r) := fun a x => by
  rw [ixHi_toNat hp hq hr]
  have := lane_lt x
  exact four_lt (d := S2x4x32x32.size) hp hq hr (show (x 0).val + 16 < 32 by omega) a

theorem inY_lo {p q r : Nat} (hp : p < 2) (hq : q < 4) (hr : r < 32) : InY (iyLo p q r) := fun a x => by
  rw [iyLo_toNat hp hq hr]
  have := lane_lt x
  exact four_lt (d := S2x4x94x96.size) hp hq (show 3 * r < 94 by omega) (show 3 * (x 0).val < 96 by omega) a

theorem inY_hi {p q r : Nat} (hp : p < 2) (hq : q < 4) (hr : r < 32) : InY (iyHi p q r) := fun a x => by
  rw [iyHi_toNat hp hq hr]
  have := lane_lt x
  exact four_lt (d := S2x4x94x96.size) hp hq (show 3 * r < 94 by omega) (show 3 * (x 0).val + 48 < 96 by omega) a

theorem inY_z {p q o : Nat} {t : BitVec 32} (hp : p < 2) (hq : q < 4) (ho : o + 16 ≤ 96) (ht : t.toNat < 94) : InY (iz p q o t) := fun a x => by
  rw [iz_toNat hp hq (by omega)]
  have := lane_lt x
  exact four_lt (d := S2x4x94x96.size) hp hq ht (show (x 0).val + o < 96 by omega) a

/-! ## Indexed stores -/

open Classical in
theorem foldl_store {α ι κ : Type} (C : ι → κ → Prop) [∀ j k, Decidable (C j k)] (v : κ → α) (j : ι) (y : α) (l : List κ) (f : ι → α)
    (hv : ∀ k ∈ l, C j k → v k = y) :
    l.foldl (fun g k => fun j => if C j k then v k else g j) f j = if ∃ k ∈ l, C j k then y else f j := by
  induction l generalizing f with
  | nil => simp
  | cons k l ih =>
    rw [List.foldl_cons, ih _ fun k' h => hv k' (List.mem_cons_of_mem _ h)]
    by_cases h : ∃ k' ∈ l, C j k'
    · rw [if_pos h, if_pos]; obtain ⟨k', h1, h2⟩ := h; exact ⟨k', List.mem_cons_of_mem _ h1, h2⟩
    · rw [if_neg h]
      by_cases hk : C j k
      · rw [if_pos hk, if_pos ⟨k, List.mem_cons_self, hk⟩, hv k List.mem_cons_self hk]
      · rw [if_neg hk, if_neg]
        rintro ⟨k', h1, h2⟩
        rcases List.mem_cons.mp h1 with rfl | h1
        · exact hk h2
        · exact h ⟨k', h1, h2⟩

open Classical in
/-- An indexed store at element `j`: the stored value where some lane names `j`, what was there elsewhere. -/
theorem storeIdx_apply (f : Vec F S2x4x94x96 .f32) (idxs : Fin 4 → IVec S16 32) (v : FVec F S16 .f32) (h : InY idxs) (j : S2x4x94x96.Idx)
    (y : F .f32) (hv : ∀ x : S16.Idx, (∀ a, (j a).val = (idxs a x).toNat) → v x = y) :
    storeIdx (e := .f32) f idxs v (fun _ => 1#1) false h j = if ∃ x : S16.Idx, ∀ a, (j a).val = (idxs a x).toNat then y else f j := by
  have hs := foldl_store (fun (j : S2x4x94x96.Idx) (k : Fin 16) => ∀ a, (j a).val = (idxs a (Shape.ofLane (d := ![16]) k)).toNat)
    (fun k => v (Shape.ofLane (d := ![16]) k)) j y (List.finRange 16) f fun k _ h => hv _ h
  refine Eq.trans ?_ (hs.trans ?_)
  · unfold storeIdx
    simp only [if_true, Bool.false_eq_true, if_false]
    rfl
  · congr 1
    apply propext
    constructor
    · rintro ⟨k, -, hk⟩; exact ⟨_, hk⟩
    · rintro ⟨x, hx⟩
      refine ⟨x 0, List.mem_finRange _, ?_⟩
      have : Shape.ofLane (d := ![16]) (x 0) = x := by
        funext a; obtain rfl : a = 0 := Fin.eq_zero a; rfl
      rw [this]; exact hx

/-- Lane `k`. -/
def lane (k : Nat) (h : k < 16) : S16.Idx := fun a => ⟨k, by obtain rfl : a = 0 := Fin.eq_zero a; exact h⟩

theorem forall_four {P : Fin 4 → Prop} : (∀ a, P a) ↔ P 0 ∧ P 1 ∧ P 2 ∧ P 3 :=
  ⟨fun h => ⟨h 0, h 1, h 2, h 3⟩, fun ⟨h0, h1, h2, h3⟩ a => by fin_cases a <;> assumption⟩

/-- Which elements sixteen lanes name: of row `t` of channel `q` of slot `p`, the columns `k · x + o`. -/
theorem named {idxs : Fin 4 → IVec S16 32} {p q t k o : Nat} (hi : ∀ a x, (idxs a x).toNat = (![p, q, t, k * (x 0).val + o] : Fin 4 → Nat) a)
    (j : S2x4x94x96.Idx) (x : S16.Idx) :
    (∀ a, (j a).val = (idxs a x).toNat) ↔ (j 0).val = p ∧ (j 1).val = q ∧ (j 2).val = t ∧ (j 3).val = k * (x 0).val + o := by
  refine Iff.trans (forall_congr' fun a => by rw [hi a x]) ?_
  exact forall_four

/-! ## Images -/

/-- The first `m` rows of a unit `u` scattered into slot `p` of the images `f`. -/
def scattered (p : Nat) (u : Nat → Nat → Nat → F .f32) (m : Nat) (f : Vec F S2x4x94x96 .f32) : Vec F S2x4x94x96 .f32 := fun j =>
  if (j 0).val = p ∧ (j 2).val % 3 = 0 ∧ (j 3).val % 3 = 0 ∧ 32 * (j 1).val + (j 2).val / 3 < m then
    u (j 1).val ((j 2).val / 3) ((j 3).val / 3)
  else f j

theorem scattered_zero (p : Nat) (u : Nat → Nat → Nat → F .f32) (f : Vec F S2x4x94x96 .f32) : scattered p u 0 f = f := by
  funext j; exact if_neg fun h => absurd h.2.2.2 (Nat.not_lt_zero _)

/-- One more row: its two halves stored. -/
theorem scattered_succ {p q r : Nat} (hp : p < 2) (hq : q < 4) (hr : r < 32) (u : Nat → Nat → Nat → F .f32) (f : Vec F S2x4x94x96 .f32)
    (v₁ v₂ : FVec F S16 .f32) (h₁ : InY (iyLo p q r)) (h₂ : InY (iyHi p q r)) (hv₁ : ∀ x, v₁ x = u q r ((x 0).val + 0))
    (hv₂ : ∀ x, v₂ x = u q r ((x 0).val + 16)) :
    storeIdx (e := .f32) (storeIdx (e := .f32) (scattered p u (32 * q + r) f) (iyLo p q r) v₁ (fun _ => 1#1) false h₁) (iyHi p q r) v₂ (fun _ => 1#1) false h₂
      = scattered p u (32 * q + r + 1) f := by
  classical
  funext j
  have hj1 : (j 1).val < 4 := (j 1).isLt
  have hj2 : (j 2).val < 94 := (j 2).isLt
  have hj3 : (j 3).val < 96 := (j 3).isLt
  have n₁ := named (p := p) (q := q) (t := 3 * r) (k := 3) (o := 0) (fun a x => iyLo_toNat hp hq hr a x) j
  have n₂ := named (p := p) (q := q) (t := 3 * r) (k := 3) (o := 48) (fun a x => iyHi_toNat hp hq hr a x) j
  rw [storeIdx_apply _ _ _ _ j (u q r ((j 3).val / 3)) fun x hx => by
      rw [hv₂]; obtain ⟨-, -, -, h⟩ := (n₂ x).mp hx; congr 1; omega,
    storeIdx_apply _ _ _ _ j (u q r ((j 3).val / 3)) fun x hx => by
      rw [hv₁]; obtain ⟨-, -, -, h⟩ := (n₁ x).mp hx; congr 1; omega]
  by_cases h : (j 0).val = p ∧ (j 1).val = q ∧ (j 2).val = 3 * r ∧ (j 3).val % 3 = 0
  · obtain ⟨e0, e1, e2, e3⟩ := h
    have hR : scattered p u (32 * q + r + 1) f j = u q r ((j 3).val / 3) := by
      unfold scattered
      rw [if_pos ⟨e0, by omega, e3, by omega⟩, e1, show (j 2).val / 3 = r by omega]
    rw [hR]
    by_cases hl : (j 3).val < 48
    · split
      · rfl
      · rw [if_pos ⟨lane ((j 3).val / 3) (by omega), (n₁ _).mpr ⟨e0, e1, e2, show _ = 3 * ((j 3).val / 3) + 0 by omega⟩⟩]
    · rw [if_pos ⟨lane ((j 3).val / 3 - 16) (by omega), (n₂ _).mpr ⟨e0, e1, e2, show _ = 3 * ((j 3).val / 3 - 16) + 48 by omega⟩⟩]
  · rw [if_neg fun ⟨x, hx⟩ => h (by obtain ⟨a, b, c, d⟩ := (n₂ x).mp hx; exact ⟨a, b, c, by omega⟩),
      if_neg fun ⟨x, hx⟩ => h (by obtain ⟨a, b, c, d⟩ := (n₁ x).mp hx; exact ⟨a, b, c, by omega⟩)]
    unfold scattered
    have : ((j 0).val = p ∧ (j 2).val % 3 = 0 ∧ (j 3).val % 3 = 0 ∧ 32 * (j 1).val + (j 2).val / 3 < 32 * q + r)
        ↔ ((j 0).val = p ∧ (j 2).val % 3 = 0 ∧ (j 3).val % 3 = 0 ∧ 32 * (j 1).val + (j 2).val / 3 < 32 * q + r + 1) := by
      constructor
      · rintro ⟨a, b, c, d⟩; exact ⟨a, b, c, by omega⟩
      · rintro ⟨a, b, c, d⟩
        refine ⟨a, b, c, Nat.lt_of_le_of_ne (by omega) fun e => h ⟨a, ?_, ?_, c⟩⟩ <;> omega
    simp only [this]

/-- Only slot `p` is stored to. -/
theorem storeIdx_off {p : Nat} (f : Vec F S2x4x94x96 .f32) (idxs : Fin 4 → IVec S16 32) (v : FVec F S16 .f32) (h : InY idxs)
    (hi : ∀ x, (idxs 0 x).toNat = p) (j : S2x4x94x96.Idx) (hj : (j 0).val ≠ p) :
    storeIdx (e := .f32) f idxs v (fun _ => 1#1) false h j = f j := by
  rw [storeIdx_apply _ _ _ _ j (f j) fun x hx => absurd ((hx 0).trans (hi x)) hj, ite_self]

/-- Rows below `t`, and the first `m` sixteens (six to a row, channels and slots in order) of row `t`, are clear. -/
def Cleared (t m : Nat) (f : Vec F S2x4x94x96 .f32) : Prop :=
  ∀ j : S2x4x94x96.Idx, (j 2).val < t ∨ ((j 2).val = t ∧ 24 * (j 0).val + 6 * (j 1).val + (j 3).val / 16 < m) → f j = Scalar.ofBits .f32 0x00000000#32

theorem Cleared.step {t m : Nat} {f : Vec F S2x4x94x96 .f32} (hf : Cleared t m f) (hm : m < 48) (T : BitVec 32) (hT : T.toNat = t)
    (h : InY (iz (m / 24) (m % 24 / 6) (16 * (m % 6)) T)) :
    Cleared t (m + 1) (storeIdx (e := .f32) f (iz (m / 24) (m % 24 / 6) (16 * (m % 6)) T) zero16 (fun _ => 1#1) false h) := by
  classical
  intro j hj
  have hj1 : (j 1).val < 4 := (j 1).isLt
  have hj3 : (j 3).val < 96 := (j 3).isLt
  have n := named (p := m / 24) (q := m % 24 / 6) (t := T.toNat) (k := 1) (o := 16 * (m % 6))
    (idxs := iz (m / 24) (m % 24 / 6) (16 * (m % 6)) T) (fun a x => by rw [Nat.one_mul]; exact iz_toNat (by omega) (by omega) (by omega) a x) j
  rw [storeIdx_apply f _ zero16 h j (Scalar.ofBits .f32 0x00000000#32) fun _ _ => rfl]
  split
  · rfl
  · rename_i hn
    apply hf j
    rcases hj with hj | ⟨e, hj⟩
    · exact .inl hj
    · refine .inr ⟨e, Nat.lt_of_le_of_ne (by omega) fun e' => hn ⟨lane ((j 3).val % 16) (by omega), (n _).mpr ⟨by omega, by omega, by omega, ?_⟩⟩⟩
      show _ = 1 * ((j 3).val % 16) + 16 * (m % 6)
      omega

theorem Cleared.next {t : Nat} {f : Vec F S2x4x94x96 .f32} (hf : Cleared t 48 f) : Cleared (t + 1) 0 f := fun j hj => hf j (by
  have hj0 : (j 0).val < 2 := (j 0).isLt
  have hj1 : (j 1).val < 4 := (j 1).isLt
  have hj3 : (j 3).val < 96 := (j 3).isLt
  omega)

end Cert.Proof.Weave
-- ==== Proof.CheckedProgram.lean ====
/-
  The checked program of one vector subcore: `prog` with rows that load slot `p` of the input only and store slot `p` of the images only
  (Proof/Checked.lean), and the proof that it is a checked form of `prog` with plain rows.
-/
module

public import proofs.«01_k».proof.Proof.Indices

@[expose] public section

noncomputable section

namespace Cert.Proof.Weave
open Idealize.SL.Sem Idealize.ShloMosaic Cert.KernelIdeal Cert.KernelIdeal.Gen Cert.Proof.Checked

variable {F : FTy → Type} [FloatOps F]
variable {c : Fin τ.nSC} {s : Fin τ.nSub}

theorem h_S1x4x32x32 : 0 < S1x4x32x32.numel := by decide
theorem h_S1x4x94x96 : 0 < S1x4x94x96.numel := by decide

/-- Slot `p` as a part of the input buffer / of the images. -/
abbrev rX (p : Nat) (hp : p < 2) : Rect S2x4x32x32 := Rect.unit (s := S2x4x32x32) ![p, 0, 0, 0] S1x4x32x32.size (slotX_inb p hp)
abbrev rY (p : Nat) (hp : p < 2) : Rect S2x4x94x96 := Rect.unit (s := S2x4x94x96) ![p, 0, 0, 0] S1x4x94x96.size (slotY_inb p hp)

/-- A slot's contents by channel, row and column. -/
def unitOf (g : Vec F S1x4x32x32 .f32) (q r w : Nat) : F .f32 :=
  g fun a => ⟨(![0, q % 4, r % 32, w % 32] : Fin 4 → Nat) a, by fin_cases a <;> simp [S1x4x32x32] <;> omega⟩

/-- Sixteen columns of a row, from `o` on, out of a slot. -/
def pick (g : Vec F S1x4x32x32 .f32) (q r o : Nat) : FVec F S16 .f32 := fun x => unitOf g q r ((x 0).val + o)

/-- The checked store of `w`: slot `p` stored, and the whole buffer checked to be `w`. -/
def stC (p : Nat) (hp : p < 2) (w : Vec F S2x4x94x96 .f32) (k : Pr F c s) : Pr F c s :=
  .op (.store Y (rY p hp) (fun x => w ((rY p hp).emb x)) Finset.univ (View.stores_vmem_bits_univ h_S1x4x94x96 rfl) (.inl rfl)) fun _ =>
  .op (.load Y (.whole S2x4x94x96) (View.loadsAt_whole (View.loads_vmem h_S2x4x94x96))) fun f =>
  .op (.assume (f = w) (Classical.propDecidable _)) fun _ => k

/-- One row, checked. -/
def rowC (p : Nat) (hp : p < 2) (q r : Nat) (k : Pr F c s) : Pr F c s :=
  .op (.assume (InX (ixLo p q r)) (Classical.propDecidable _)) fun _ =>
  .op (.load X (rX p hp) (View.loadsAt_rect (View.loads_vmem h_S1x4x32x32))) fun f₁ =>
  .op (.assume (InX (ixHi p q r)) (Classical.propDecidable _)) fun _ =>
  .op (.load X (rX p hp) (View.loadsAt_rect (View.loads_vmem h_S1x4x32x32))) fun f₂ =>
  .op (.assume (InY (iyLo p q r) ∧ InY (iyHi p q r)) (Classical.propDecidable _)) fun h₃ =>
  .op (.load Y (.whole S2x4x94x96) (View.loadsAt_rect (View.stores_vmem_bits_univ h_S2x4x94x96 rfl).loads)) fun f₃ =>
  stC p hp (storeIdx f₃ (iyLo p q r) (pick f₁ q r 0) (fun _ => 1#1) false h₃.down.1) <|
  .op (.load Y (.whole S2x4x94x96) (View.loadsAt_rect (View.stores_vmem_bits_univ h_S2x4x94x96 rfl).loads)) fun f₄ =>
  stC p hp (storeIdx f₄ (iyHi p q r) (pick f₂ q r 16) (fun _ => 1#1) false h₃.down.2) k

/-- The unit in slot `p`, from its last `n` rows on, checked. -/
def scatC (p : Nat) (hp : p < 2) : Nat → Pr F c s → Pr F c s
  | 0, k => k
  | n + 1, k => rowC p hp ((127 - n) / 32) ((127 - n) % 32) (scatC p hp n k)

theorem loadIdx_pick {p : Nat} (hp : p < 2) {q r o : Nat} (hq : q < 4) (hr : r < 32) (ho : o ≤ 16) {i : Fin 4 → IVec S16 32} (h : InX i)
    (hi : ∀ a x, (i a x).toNat = (![p, q, r, (x 0).val + o] : Fin 4 → Nat) a) (g : Buf (Elt F) (X.view.loc (((0 : Fin 1), .scVector c s) : Thread nD τ))) :
    loadIdx (X.view.readAt (Elt F) (.whole S2x4x32x32) g) i h = pick (X.view.readAt (Elt F) (rX p hp) g) q r o := by
  funext x
  have hx := lane_lt x
  have h0 := hi 0 x
  have h1 := hi 1 x
  have h2 := hi 2 x
  have h3 := hi 3 x
  show g _ = g _
  congr 1
  funext a
  apply Fin.ext
  fin_cases a
  · show 0 + 1 * (i 0 x).toNat = p + 1 * 0
    rw [h0]; show 0 + 1 * p = _; omega
  · show 0 + 1 * (i 1 x).toNat = 0 + 1 * (q % 4)
    rw [h1]; show 0 + 1 * q = _; omega
  · show 0 + 1 * (i 2 x).toNat = 0 + 1 * (r % 32)
    rw [h2]; show 0 + 1 * r = _; omega
  · show 0 + 1 * (i 3 x).toNat = 0 + 1 * (((x 0).val + o) % 32)
    rw [h3]; show 0 + 1 * ((x 0).val + o) = _; omega

/-- The thread of a vector subcore. -/
abbrev thr (d : Fin nD) (c : Fin τ.nSC) (s : Fin τ.nSub) : Thread nD τ := (d, .scVector c s)

theorem rY_sub (p : Nat) (hp : p < 2) : (rY p hp).set ⊆ (Rect.whole S2x4x94x96).set := by
  intro i _
  rw [LoadRect.mem_set]
  exact fun a => ⟨(i a).val, (i a).isLt, by show _ = 0 + 1 * (i a).val; omega⟩

instance : Nonempty S1x4x94x96.Idx := ⟨fun a => ⟨0, by fin_cases a <;> simp [S1x4x94x96]⟩⟩

variable {d : Fin nD}

theorem chk_st {p : Nat} (hp : p < 2) {w : Vec F S2x4x94x96 .f32} {k k' : Pr F c s} (hk : Chk (thr d c s) k k') :
    Chk (thr d c s) (.op (.store Y (.whole S2x4x94x96) w Finset.univ (View.stores_vmem_bits_univ h_S2x4x94x96 rfl) (.inl rfl)) fun _ => k) (stC p hp w k') :=
  .store (c := thr d c s) Y (.whole S2x4x94x96) w (rY p hp) _ (rY_sub p hp) (inferInstanceAs (Nonempty S1x4x94x96.Idx)) _ _ _ _ _ _ hk

theorem chk_row {p : Nat} (hp : p < 2) {q r : Nat} (hq : q < 4) (hr : r < 32) {k k' : Pr F c s} (hk : Chk (thr d c s) k k') :
    Chk (thr d c s) (row p q r k) (rowC p hp q r k') := by
  refine .op (c := thr d c s) _ fun h₁ => .load (c := thr d c s) X _ _ _ _ fun g₁ => .op (c := thr d c s) _ fun h₂ => .load (c := thr d c s) X _ _ _ _ fun g₂ => ?_
  refine .op (c := thr d c s) _ fun h₃ => .op (c := thr d c s) _ fun f₃ => ?_
  have e₁ := loadIdx_pick (F := F) (c := c) (s := s) (o := 0) hp hq hr (by omega) h₁.down (ixLo_toNat hp hq hr) g₁
  have e₂ := loadIdx_pick (F := F) (c := c) (s := s) (o := 16) hp hq hr (by omega) h₂.down (ixHi_toNat hp hq hr) g₂
  rw [← e₁, ← e₂]
  exact chk_st hp (.op (c := thr d c s) _ fun f₄ => chk_st hp hk)

theorem chk_scat {p : Nat} (hp : p < 2) {k k' : Pr F c s} (hk : Chk (thr d c s) k k') :
    ∀ n, n ≤ 128 → Chk (thr d c s) (scat p n k) (scatC p hp n k')
  | 0, _ => hk
  | n + 1, h => chk_row hp (by omega) (by omega) (chk_scat hp hk n (by omega))

/-- A unit scattered, checked, then `k`. -/
abbrev SC (p : Nat) (hp : p < 2) (k : Pr F c s) : Pr F c s := scatC p hp 128 k

theorem chk_steady (i : grid0.Coords) (t : Fin k0_t2_loop.trips) :
    Chk (thr d c s) (steady (F := F) (c := c) (s := s) (fun p _ k => scat p 128 k) i t) (steady SC i t) := by
  refine .op (c := thr d c s) _ fun _ => .op (c := thr d c s) _ fun _ => chk_scat _ (.op (c := thr d c s) _ fun _ => .op (c := thr d c s) _ fun _ => ?_) 128 le_rfl
  refine .op (c := thr d c s) _ fun _ => .op (c := thr d c s) _ fun _ => chk_scat _ (.op (c := thr d c s) _ fun _ => .op (c := thr d c s) _ fun _ => .ret _) 128 le_rfl

theorem chk_last (i : grid0.Coords) : Chk (thr d c s) (last (F := F) (c := c) (s := s) (fun p _ k => scat p 128 k) i) (last SC i) := by
  refine .op (c := thr d c s) _ fun _ => .op (c := thr d c s) _ fun _ => chk_scat _ (.op (c := thr d c s) _ fun _ => ?_) 128 le_rfl
  refine .op (c := thr d c s) _ fun _ => .op (c := thr d c s) _ fun _ => chk_scat _ (.op (c := thr d c s) _ fun _ => ?_) 128 le_rfl
  exact Chk.refl _

theorem chk_first (i : grid0.Coords) {k k' : Pr F c s} (hk : Chk (thr d c s) k k') :
    Chk (thr d c s) (first (fun p _ k => scat p 128 k) i k) (first SC i k') := by
  refine .op (c := thr d c s) _ fun _ => chk_scat _ (.op (c := thr d c s) _ fun _ => .op (c := thr d c s) _ fun _ => ?_) 128 le_rfl
  exact .op (c := thr d c s) _ fun _ => chk_scat _ (.op (c := thr d c s) _ fun _ => .op (c := thr d c s) _ fun _ => hk) 128 le_rfl

theorem chk_for {w : Nat} (l : Scf.Loop w) (hl : l.OK) {f g : Fin l.trips → PUnit → Pr F c s} (h : ∀ t x, Chk (thr d c s) (f t x) (g t x)) :
    Chk (thr d c s) (Scf.Loop.for l hl ⟨⟩ f) (Scf.Loop.for l hl ⟨⟩ g) := by
  unfold Scf.Loop.for
  rw [Scf.for_eq, Scf.for_eq]
  generalize List.finRange _ = L
  induction L with
  | nil => exact .ret _
  | cons t L ih => exact .bind (h t _) fun _ => ih

theorem chk_prog (i : grid0.Coords) : Chk (thr d c s) (prog (F := F) (fun p _ k => scat p 128 k) i) (prog SC i) := by
  refine .op (c := thr d c s) _ fun _ => .op (c := thr d c s) _ fun _ => .bind (.refl _) fun _ => chk_first i ?_
  exact .bind (chk_for _ _ fun t _ => chk_steady i t) fun _ => chk_last i

end Cert.Proof.Weave
-- ==== Proof.Values.lean ====
/-
  What the program computes, as functions of the padded input: the contents of an input slot and of an image for a unit, and of the padded
  output; which elements of each buffer a transfer touches, and what it leaves there.
-/
module

public import proofs.«01_k».proof.Proof.CheckedProgram

@[expose] public section

noncomputable section

namespace Cert.Proof.Weave
open Idealize.SL.Sem Idealize.ShloMosaic Cert.KernelIdeal Cert.KernelIdeal.Gen

variable {F : FTy → Type} [FloatOps F]

/-! ## Contents -/

/-- The padded input at four coordinates. -/
def xat (xp : Vec F S8x384x32x128 .f32) (b ch h w : Nat) : F .f32 :=
  xp fun a => ⟨(![b % 8, ch % 384, h % 32, w % 128] : Fin 4 → Nat) a, by fin_cases a <;> simp [S8x384x32x128] <;> omega⟩

/-- The woven array at four coordinates: the input at a third of the row and of the column where both are multiples of three, else zero. -/
def wv (xp : Vec F S8x384x32x128 .f32) (b ch h w : Nat) : F .f32 :=
  if h % 3 = 0 ∧ w % 3 = 0 then xat xp b ch (h / 3) (w / 3) else Scalar.ofBits .f32 0x00000000#32

/-- The four channels from `ch` of batch `b`, in either input slot / as an image in either slot. -/
def inp (xp : Vec F S8x384x32x128 .f32) (b ch : Nat) : Vec F S2x4x32x32 .f32 := fun j => xat xp b (ch + (j 1).val) (j 2).val (j 3).val
def img (xp : Vec F S8x384x32x128 .f32) (b ch : Nat) : Vec F S2x4x94x96 .f32 := fun j => wv xp b (ch + (j 1).val) (j 2).val (j 3).val

/-- The padded output: woven where the images reach, as before elsewhere. -/
def outW (xp : Vec F S8x384x32x128 .f32) (b0 : Vec F S8x384x96x128 .f32) : Vec F S8x384x96x128 .f32 := fun j =>
  if (j 2).val < 94 ∧ (j 3).val < 96 then wv xp (j 0).val (j 1).val (j 2).val (j 3).val else b0 j

/-! ## Element sets -/

/-- Slot `p` of the input buffer. -/
def slotX (p : Nat) : Finset S2x4x32x32.Idx := Finset.univ.filter fun j => (j 0).val = p
/-- Channels `lo … hi - 1` of batch `b`, of the padded input and of the padded output; of the padded input, the columns that are read. -/
def chA (b lo hi : Nat) : Finset S8x384x32x128.Idx := Finset.univ.filter fun j => (j 0).val = b ∧ lo ≤ (j 1).val ∧ (j 1).val < hi
def chA32 (b lo hi : Nat) : Finset S8x384x32x128.Idx := (chA b lo hi).filter fun j => (j 3).val < 32
def chB (b lo hi : Nat) : Finset S8x384x96x128.Idx := Finset.univ.filter fun j => (j 0).val = b ∧ lo ≤ (j 1).val ∧ (j 1).val < hi

theorem mem_slotX {p : Nat} {j : S2x4x32x32.Idx} : j ∈ slotX p ↔ (j 0).val = p := by simp [slotX]
theorem mem_slotY {p : Nat} {j : S2x4x94x96.Idx} : j ∈ slotY p ↔ (j 0).val = p := by simp [slotY]
theorem mem_chA {b lo hi : Nat} {j : S8x384x32x128.Idx} : j ∈ chA b lo hi ↔ (j 0).val = b ∧ lo ≤ (j 1).val ∧ (j 1).val < hi := by simp [chA]
theorem mem_chA32 {b lo hi : Nat} {j : S8x384x32x128.Idx} :
    j ∈ chA32 b lo hi ↔ ((j 0).val = b ∧ lo ≤ (j 1).val ∧ (j 1).val < hi) ∧ (j 3).val < 32 := by simp [chA32, chA]
theorem mem_chB {b lo hi : Nat} {j : S8x384x96x128.Idx} : j ∈ chB b lo hi ↔ (j 0).val = b ∧ lo ≤ (j 1).val ∧ (j 1).val < hi := by simp [chB]

theorem chA32_sub (b lo hi : Nat) : chA32 b lo hi ⊆ chA b lo hi := Finset.filter_subset _ _

theorem chA_split {b lo mid hi : Nat} (h₁ : lo ≤ mid) (h₂ : mid ≤ hi) : chA b lo hi = chA b lo mid ∪ chA b mid hi := by
  ext j; rw [Finset.mem_union, mem_chA, mem_chA, mem_chA]; omega
theorem chA_disjoint (b lo mid hi : Nat) : Disjoint (chA b lo mid) (chA b mid hi) :=
  Finset.disjoint_left.mpr fun j h₁ h₂ => by rw [mem_chA] at h₁ h₂; omega
theorem chB_split {b lo mid hi : Nat} (h₁ : lo ≤ mid) (h₂ : mid ≤ hi) : chB b lo hi = chB b lo mid ∪ chB b mid hi := by
  ext j; rw [Finset.mem_union, mem_chB, mem_chB, mem_chB]; omega
theorem chB_disjoint (b lo mid hi : Nat) : Disjoint (chB b lo mid) (chB b mid hi) :=
  Finset.disjoint_left.mpr fun j h₁ h₂ => by rw [mem_chB] at h₁ h₂; omega
theorem chB_empty (b lo : Nat) : chB b lo lo = ∅ := by
  ext j; rw [mem_chB]; simp

/-- Membership in a rectangle of unit strides, of rank four. -/
theorem mem_unit {s : Shape} {off size : Fin s.rank → Nat} {inb : ∀ a, off a + size a ≤ s.size a} {j : s.Idx} :
    j ∈ (Rect.unit (s := s) off size inb).set ↔ ∀ a, off a ≤ (j a).val ∧ (j a).val < off a + size a := by
  rw [LoadRect.mem_set]
  refine forall_congr' fun a => ⟨?_, fun ⟨h₁, h₂⟩ => ⟨(j a).val - off a, ?_, ?_⟩⟩
  · rintro ⟨k, hk, e⟩
    have hk' : k < size a := hk
    have e' : (j a).val = off a + 1 * k := e
    omega
  · show (j a).val - off a < size a
    omega
  · show (j a).val = off a + 1 * ((j a).val - off a)
    omega

theorem rX_set (p : Nat) (hp : p < 2) : (rX p hp).set = slotX p := by
  ext j
  have h0 : (j 0).val < 2 := (j 0).isLt
  have h1 : (j 1).val < 4 := (j 1).isLt
  have h2 : (j 2).val < 32 := (j 2).isLt
  have h3 : (j 3).val < 32 := (j 3).isLt
  rw [mem_unit, mem_slotX]
  refine Iff.trans (forall_four (P := fun a => _)) ?_
  show (p ≤ (j 0).val ∧ (j 0).val < p + 1) ∧ (0 ≤ (j 1).val ∧ (j 1).val < 0 + 4) ∧ (0 ≤ (j 2).val ∧ (j 2).val < 0 + 32)
    ∧ (0 ≤ (j 3).val ∧ (j 3).val < 0 + 32) ↔ _
  omega

theorem rY_set (p : Nat) (hp : p < 2) : (rY p hp).set = slotY p := by
  ext j
  have h0 : (j 0).val < 2 := (j 0).isLt
  have h1 : (j 1).val < 4 := (j 1).isLt
  have h2 : (j 2).val < 94 := (j 2).isLt
  have h3 : (j 3).val < 96 := (j 3).isLt
  rw [mem_unit, mem_slotY]
  refine Iff.trans (forall_four (P := fun a => _)) ?_
  show (p ≤ (j 0).val ∧ (j 0).val < p + 1) ∧ (0 ≤ (j 1).val ∧ (j 1).val < 0 + 4) ∧ (0 ≤ (j 2).val ∧ (j 2).val < 0 + 94)
    ∧ (0 ≤ (j 3).val ∧ (j 3).val < 0 + 96) ↔ _
  omega

/-- An offset: batch `b`, channel `ch`. -/
abbrev at4 (b ch : Nat) : Fin 4 → Nat := ![b, ch, 0, 0]

theorem unitA_set {b ch : Nat} (h : ∀ a, at4 b ch a + S1x4x32x32.size a ≤ S8x384x32x128.size a) :
    (Rect.unit (s := S8x384x32x128) (at4 b ch) S1x4x32x32.size h).set = chA32 b ch (ch + 4) := by
  ext j
  have h2 : (j 2).val < 32 := (j 2).isLt
  rw [mem_unit, mem_chA32]
  refine Iff.trans (forall_four (P := fun a => _)) ?_
  show (b ≤ (j 0).val ∧ (j 0).val < b + 1) ∧ (ch ≤ (j 1).val ∧ (j 1).val < ch + 4) ∧ (0 ≤ (j 2).val ∧ (j 2).val < 0 + 32)
    ∧ (0 ≤ (j 3).val ∧ (j 3).val < 0 + 32) ↔ _
  omega

theorem unitB_mem {b ch : Nat} (h : ∀ a, at4 b ch a + S1x4x94x96.size a ≤ S8x384x96x128.size a) {j : S8x384x96x128.Idx} :
    j ∈ (Rect.unit (s := S8x384x96x128) (at4 b ch) S1x4x94x96.size h).set ↔ j ∈ chB b ch (ch + 4) ∧ (j 2).val < 94 ∧ (j 3).val < 96 := by
  rw [mem_unit, mem_chB]
  refine Iff.trans (forall_four (P := fun a => _)) ?_
  show (b ≤ (j 0).val ∧ (j 0).val < b + 1) ∧ (ch ≤ (j 1).val ∧ (j 1).val < ch + 4) ∧ (0 ≤ (j 2).val ∧ (j 2).val < 0 + 94)
    ∧ (0 ≤ (j 3).val ∧ (j 3).val < 0 + 96) ↔ _
  omega

theorem Xs_set (p : Nat) (hp : p < 2) : (Xs p hp).view.set = slotX p := by
  show ((X.view.slice (rX p hp)).reshape S4x32x32 squeezes_S1x4x32x32_S4x32x32.numel_eq).set = _
  rw [View.set_reshape, View.set_slice, ← rX_set p hp]; exact Finset.map_refl

theorem Ys_set (p : Nat) (hp : p < 2) : (Ys p hp).view.set = slotY p := by
  show ((Y.view.slice (rY p hp)).reshape S4x94x96 squeezes_S1x4x94x96_S4x94x96.numel_eq).set = _
  rw [View.set_reshape, View.set_slice, ← rY_set p hp]; exact Finset.map_refl

theorem As_set {b ch : Nat} (h : ∀ a, at4 b ch a + S1x4x32x32.size a ≤ S8x384x32x128.size a) : (As (at4 b ch) h).view.set = chA32 b ch (ch + 4) := by
  show ((A.view.slice (Rect.unit (s := S8x384x32x128) (at4 b ch) S1x4x32x32.size h)).reshape S4x32x32 squeezes_S1x4x32x32_S4x32x32.numel_eq).set = _
  rw [View.set_reshape, View.set_slice, ← unitA_set h]; exact Finset.map_refl

theorem Bs_set {b ch : Nat} (h : ∀ a, at4 b ch a + S1x4x94x96.size a ≤ S8x384x96x128.size a) :
    (Bs (at4 b ch) h).view.set = (Rect.unit (s := S8x384x96x128) (at4 b ch) S1x4x94x96.size h).set := by
  show ((B.view.slice (Rect.unit (s := S8x384x96x128) (at4 b ch) S1x4x94x96.size h)).reshape S4x94x96 squeezes_S1x4x94x96_S4x94x96.numel_eq).set = _
  rw [View.set_reshape, View.set_slice]; exact Finset.map_refl

theorem Bs_sub {b ch : Nat} (h : ∀ a, at4 b ch a + S1x4x94x96.size a ≤ S8x384x96x128.size a) : (Bs (at4 b ch) h).view.set ⊆ chB b ch (ch + 4) := by
  rw [Bs_set]; exact fun j hj => ((unitB_mem h).mp hj).1

/-! ## What the transfers leave -/

theorem in_leaves {b ch p : Nat} (hp : p < 2) (hb : b < 8) (hch : ch + 4 ≤ 384)
    (h : ∀ a, at4 b ch a + S1x4x32x32.size a ≤ S8x384x32x128.size a) (xp : Vec F S8x384x32x128 .f32) (g : Vec F S2x4x32x32 .f32)
    {j : S2x4x32x32.Idx} (hj : j ∈ slotX p) :
    (Xs p hp).view.write (Elt F) g (ReadAs.same.apply ((As (at4 b ch) h).view.read (Elt F) xp)) Finset.univ j = inp xp b ch j := by
  rw [← Xs_set p hp] at hj
  obtain ⟨k, -, rfl⟩ := Finset.mem_map.mp hj
  rw [View.write_emb_of_mem _ _ (Finset.mem_univ k)]
  show xp _ = xp _
  congr 1
  generalize hk : (Shape.reshapeEquiv squeezes_S1x4x32x32_S4x32x32.numel_eq k : S1x4x32x32.Idx) = k'
  have e : (Xs p hp).view.emb k = (rX p hp).emb k' := by rw [← hk]; rfl
  have e' : (As (at4 b ch) h).view.emb k = (Rect.unit (s := S8x384x32x128) (at4 b ch) S1x4x32x32.size h).emb k' := by rw [← hk]; rfl
  rw [e']
  simp only [e]
  have k0 : (k' 0).val < 1 := (k' 0).isLt
  have k1 : (k' 1).val < 4 := (k' 1).isLt
  have k2 : (k' 2).val < 32 := (k' 2).isLt
  have k3 : (k' 3).val < 32 := (k' 3).isLt
  funext a
  apply Fin.ext
  fin_cases a
  · show b + 1 * (k' 0).val = b % 8
    omega
  · show ch + 1 * (k' 1).val = (ch + (0 + 1 * (k' 1).val)) % 384
    omega
  · show 0 + 1 * (k' 2).val = (0 + 1 * (k' 2).val) % 32
    omega
  · show 0 + 1 * (k' 3).val = (0 + 1 * (k' 3).val) % 128
    omega

theorem out_leaves {b ch p : Nat} (hp : p < 2) (h : ∀ a, at4 b ch a + S1x4x94x96.size a ≤ S8x384x96x128.size a) (xp : Vec F S8x384x32x128 .f32)
    (b0 : Vec F S8x384x96x128 .f32) {j : S8x384x96x128.Idx} (hj : j ∈ chB b ch (ch + 4)) :
    (Bs (at4 b ch) h).view.write (Elt F) b0 (ReadAs.same.apply ((Ys p hp).view.read (Elt F) (img xp b ch))) Finset.univ j = outW xp b0 j := by
  by_cases hm : j ∈ (Bs (at4 b ch) h).view.set
  · have hm' := (unitB_mem h).mp (Bs_set h ▸ hm)
    rw [outW, if_pos hm'.2]
    obtain ⟨k, -, rfl⟩ := Finset.mem_map.mp hm
    rw [View.write_emb_of_mem _ _ (Finset.mem_univ k)]
    show wv xp _ _ _ _ = _
    generalize hk : (Shape.reshapeEquiv squeezes_S1x4x94x96_S4x94x96.numel_eq k : S1x4x94x96.Idx) = k'
    have e : (Ys p hp).view.emb k = (rY p hp).emb k' := by rw [← hk]; rfl
    have e' : (Bs (at4 b ch) h).view.emb k = (Rect.unit (s := S8x384x96x128) (at4 b ch) S1x4x94x96.size h).emb k' := by rw [← hk]; rfl
    rw [e, e']
    have k0 : (k' 0).val < 1 := (k' 0).isLt
    show wv xp b (ch + (0 + 1 * (k' 1).val)) (0 + 1 * (k' 2).val) (0 + 1 * (k' 3).val)
      = wv xp (b + 1 * (k' 0).val) (ch + 1 * (k' 1).val) (0 + 1 * (k' 2).val) (0 + 1 * (k' 3).val)
    congr 1 <;> omega
  · rw [View.write_of_not_mem _ _ _ (by rw [View.setOn_univ]; exact hm), outW, if_neg fun hh => hm ((Bs_set h).symm ▸ (unitB_mem h).mpr ⟨hj, hh⟩)]

/-! ## Images -/

/-- Slot `p` is clear off every third row and column. -/
def Sparse (p : Nat) (f : Vec F S2x4x94x96 .f32) : Prop :=
  ∀ j : S2x4x94x96.Idx, (j 0).val = p → ¬((j 2).val % 3 = 0 ∧ (j 3).val % 3 = 0) → f j = Scalar.ofBits .f32 0x00000000#32

theorem img_sparse (xp : Vec F S8x384x32x128 .f32) (b ch p : Nat) : Sparse p (img xp b ch) := fun _ _ h => if_neg h

theorem sparse_congr {p : Nat} {f g : Vec F S2x4x94x96 .f32} (h : ∀ j ∈ slotY p, f j = g j) (hf : Sparse p f) : Sparse p g := fun j hj hn =>
  (h j (mem_slotY.mpr hj)).symm.trans (hf j hj hn)

/-- All 128 rows scattered into a slot that is clear elsewhere: the image. -/
theorem scattered_all (xp : Vec F S8x384x32x128 .f32) (b ch p : Nat) {f : Vec F S2x4x94x96 .f32} (hf : Sparse p f) {j : S2x4x94x96.Idx} (hj : j ∈ slotY p) :
    scattered p (fun q r w => xat xp b (ch + q) r w) 128 f j = img xp b ch j := by
  have h1 : (j 1).val < 4 := (j 1).isLt
  have h2 : (j 2).val < 94 := (j 2).isLt
  rw [mem_slotY] at hj
  unfold scattered img wv
  by_cases h : (j 2).val % 3 = 0 ∧ (j 3).val % 3 = 0
  · rw [if_pos h, if_pos ⟨hj, h.1, h.2, by omega⟩]
  · rw [if_neg h, if_neg fun hh => h ⟨hh.2.1, hh.2.2.1⟩]; exact hf j hj h

theorem scattered_off (p m : Nat) (u : Nat → Nat → Nat → F .f32) (f : Vec F S2x4x94x96 .f32) {j : S2x4x94x96.Idx} (hj : (j 0).val ≠ p) :
    scattered p u m f j = f j := if_neg fun h => hj h.1

/-- Sixteen columns picked out of a slot that holds a unit. -/
theorem pick_inp (xp : Vec F S8x384x32x128 .f32) (b ch p : Nat) (hp : p < 2) {q r o : Nat} (hq : q < 4) (hr : r < 32) (ho : o ≤ 16)
    {g : Vec F S2x4x32x32 .f32} (hg : ∀ j ∈ slotX p, g j = inp xp b ch j) (x : S16.Idx) :
    pick (X.view.readAt (Elt F) (rX p hp) g) q r o x = xat xp b (ch + q) r ((x 0).val + o) := by
  have hx := lane_lt x
  show g ((rX p hp).emb _) = _
  rw [hg _ (by rw [← rX_set p hp, ← Rect.map_emb_univ]; exact Finset.mem_map_of_mem _ (Finset.mem_univ _))]
  show xat xp b (ch + (0 + 1 * (q % 4))) (0 + 1 * (r % 32)) (0 + 1 * (((x 0).val + o) % 32)) = _
  congr 1 <;> omega

/-- Every row cleared. -/
theorem Cleared.sparse {f : Vec F S2x4x94x96 .f32} (h : Cleared 94 0 f) (p : Nat) : Sparse p f := fun j _ _ => h j (.inl (j 2).isLt)

end Cert.Proof.Weave
-- ==== Proof.Rules.lean ====
/-
  One step of the checked program at a time: loads and stores of a slot of the images, a row, the 128 rows of a unit.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic

@[expose] public section

noncomputable section

namespace Cert.Proof.Weave
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The launch's handshakes beside the transfers' counters. -/
abbrev UH : Type := URounds (GSem nD τ sig) ℕ
abbrev UU : Type := UH × Counters

local notation "𝕄" => MT nD τ sig (HIx 1) (Elt F) ℕ UU ℕ

variable (defs : Defs nD τ sig (Elt F) Λ₀) (d : Dev nD) (c : Fin τ.nSC) (s : Fin τ.nSub)

abbrev 𝒱₀ : Variants := Variants.none

/-- A program of a vector subcore runs to `Q`. -/
abbrev runs (k : Pr F c s) (Q : PUnit → sProp 𝕄) : sProp 𝕄 := wp (M := 𝕄) frame (wpE defs 𝒱₀ (thr d c s) none) Set.univ k Q

/-! ## The four buffers -/

abbrev Xt (S : Finset S2x4x32x32.Idx) (f : Vec F S2x4x32x32 .f32) : sProp 𝕄 := X.view.loc (thr d c s) ↦[S]{fullShare} f
abbrev Yt (q : PosShare TreeShare) (S : Finset S2x4x94x96.Idx) (f : Vec F S2x4x94x96 .f32) : sProp 𝕄 := Y.view.loc (thr d c s) ↦[S]{q} f
abbrev At (S : Finset S8x384x32x128.Idx) (f : Vec F S8x384x32x128 .f32) : sProp 𝕄 := A.view.loc (thr d c s) ↦[S]{fullShare} f
abbrev Bt (S : Finset S8x384x96x128.Idx) (f : Vec F S8x384x96x128 .f32) : sProp 𝕄 := B.view.loc (thr d c s) ↦[S]{fullShare} f

/-- Half the share of slot `p` is kept while a transfer reads the slot. -/
abbrev lft : PosShare TreeShare := (fullShare : PosShare TreeShare).left
abbrev rgt : PosShare TreeShare := (fullShare : PosShare TreeShare).right

theorem Y_halves (S : Finset S2x4x94x96.Idx) (f : Vec F S2x4x94x96 .f32) :
    (Yt d c s fullShare S f : sProp 𝕄) ⊣⊢ iprop(Yt d c s lft S f ∗ Yt d c s rgt S f) :=
  pointsTo_share (PosShare.mem_left_op_right _)

/-- Slot `p` of the images to write, the other slot to read. -/
abbrev Own (p : Nat) (f : Vec F S2x4x94x96 .f32) : sProp 𝕄 := iprop(Yt d c s fullShare (slotY p) f ∗ Yt d c s lft (Finset.univ \ slotY p) f)

theorem Own_read (p : Nat) (f : Vec F S2x4x94x96 .f32) :
    (Own d c s p f : sProp 𝕄) ⊣⊢ iprop(Yt d c s lft Finset.univ f ∗ Yt d c s rgt (slotY p) f) := by
  have e : (Yt d c s lft Finset.univ f : sProp 𝕄) ⊣⊢ iprop(Yt d c s lft (slotY p) f ∗ Yt d c s lft (Finset.univ \ slotY p) f) :=
    pointsTo_split_subset (Finset.subset_univ _)
  constructor
  · iintro ⟨H, Ho⟩
    ihave H := (Y_halves d c s _ f).1 $$ H
    icases H with ⟨Hl, Hr⟩
    isplitl [Hl Ho]
    · iapply e.2; isplitl [Hl] <;> iassumption
    · iexact Hr
  · iintro ⟨H, Hr⟩
    ihave H := e.1 $$ H
    icases H with ⟨Hl, Ho⟩
    isplitl [Hl Hr]
    · iapply (Y_halves d c s _ f).2; isplitl [Hl] <;> iassumption
    · iexact Ho

variable {defs d c s}
variable {Q : PUnit → sProp (MT nD τ sig (HIx 1) (Elt F) ℕ UU ℕ)}

theorem Own_load (p : Nat) {f : Vec F S2x4x94x96 .f32} {hl : Y.view.LoadsAt (LoadRect.whole S2x4x94x96)} {k : Vec F S2x4x94x96 .f32 → Pr F c s} :
    (Own d c s p f : sProp 𝕄) ⊢ iprop((Own d c s p f -∗ runs defs d c s (k f) Q) -∗ runs defs d c s (.op (.load Y (.whole S2x4x94x96) hl) k) Q) := by
  iintro H Hk
  ihave H := (Own_read d c s p f).1 $$ H
  icases H with ⟨H, Hr⟩
  iapply (wp_load 𝒱₀ (thr d c s) none Set.univ (m := Y) (S := Finset.univ) (q := lft) (Finset.subset_univ _)) $$ H
  iintro H
  have e : Y.view.readAt (Elt F) (LoadRect.whole S2x4x94x96) f = f := Memref.readAt_whole (Elt F) cc0_scratch1 f
  rw [e]
  iapply Hk
  iapply (Own_read d c s p f).2
  isplitl [H] <;> iassumption

theorem slot_write {p : Nat} (hp : p < 2) (f w : Vec F S2x4x94x96 .f32) {j : S2x4x94x96.Idx} (hj : j ∈ slotY p) :
    (Y.access (rY p hp)).write (Elt F) f (fun x => w ((rY p hp).emb x)) Finset.univ j = w j := by
  rw [← rY_set p hp, ← Rect.map_emb_univ] at hj
  obtain ⟨x, -, rfl⟩ := Finset.mem_map.mp hj
  exact View.write_emb_of_mem (v := Y.access (rY p hp)) _ _ (Finset.mem_univ x)

theorem Own_store {p : Nat} (hp : p < 2) {f w : Vec F S2x4x94x96 .f32} (hw : ∀ j : S2x4x94x96.Idx, (j 0).val ≠ p → w j = f j) {k : Pr F c s} :
    (Own d c s p f : sProp 𝕄) ⊢ iprop((Own d c s p w -∗ runs defs d c s k Q) -∗ runs defs d c s (stC p hp w k) Q) := by
  iintro ⟨H, Ho⟩ Hk
  unfold stC
  iapply (wp_store 𝒱₀ (thr d c s) none Set.univ (m := Y) (r := rY p hp) (Mk := Finset.univ) (S := slotY p) (f := f)
    (by rw [View.setOn_univ, View.set_slice, rY_set]; exact (Finset.map_refl (s := slotY p)).subset)) $$ H
  iintro H
  have e₁ : (Yt d c s fullShare (slotY p) ((Y.access (rY p hp)).write (Elt F) f (fun x => w ((rY p hp).emb x)) Finset.univ) : sProp 𝕄)
      = Yt d c s fullShare (slotY p) w := pointsTo_congr fun j hj => slot_write hp f w hj
  have e₂ : (Yt d c s lft (Finset.univ \ slotY p) f : sProp 𝕄) = Yt d c s lft (Finset.univ \ slotY p) w := pointsTo_congr fun j hj => by
    rw [Finset.mem_sdiff, mem_slotY] at hj; exact (hw j hj.2).symm
  ihave H := (Entails.of_eq e₁) $$ H
  ihave Ho := (Entails.of_eq e₂) $$ Ho
  iapply (Own_load p) $$ [H Ho]
  · isplitl [H] <;> iassumption
  iintro H
  iapply (wp_assume 𝒱₀ (thr d c s) none Set.univ rfl)
  iapply Hk
  iexact H

theorem X_load {p : Nat} (hp : p < 2) {g : Vec F S2x4x32x32 .f32} {hl : X.view.LoadsAt (rX p hp).toLoadRect} {k : Vec F S1x4x32x32 .f32 → Pr F c s} :
    (Xt d c s (slotX p) g : sProp 𝕄) ⊢ iprop((Xt d c s (slotX p) g -∗ runs defs d c s (k (X.view.readAt (Elt F) (rX p hp) g)) Q)
      -∗ runs defs d c s (.op (.load X (rX p hp) hl) k) Q) :=
  wp_load 𝒱₀ (thr d c s) none Set.univ (m := X) (S := slotX p) (q := fullShare)
    (by rw [View.setOn, rX_set]; exact (Finset.map_refl (s := slotX p)).subset)

/-! ## A row, a unit -/

variable (xp : Vec F S8x384x32x128 .f32) (b ch : Nat)

/-- A unit's values by channel, row and column. -/
abbrev unit (q r w : Nat) : F .f32 := xat xp b (ch + q) r w

theorem row_step {p : Nat} (hp : p < 2) {q r : Nat} (hq : q < 4) (hr : r < 32) {f : Vec F S2x4x94x96 .f32} {k : Pr F c s} :
    iprop(Xt d c s (slotX p) (inp xp b ch) ∗ Own d c s p (scattered p (unit xp b ch) (32 * q + r) f))
      ⊢ iprop((iprop(Xt d c s (slotX p) (inp xp b ch) ∗ Own d c s p (scattered p (unit xp b ch) (32 * q + r + 1) f)) -∗ runs defs d c s k Q)
        -∗ runs defs d c s (rowC p hp q r k) Q) := by
  iintro ⟨HX, HY⟩ Hk
  unfold rowC
  iapply (wp_assume 𝒱₀ (thr d c s) none Set.univ (inX_lo hp hq hr))
  iapply (X_load hp) $$ HX; iintro HX
  iapply (wp_assume 𝒱₀ (thr d c s) none Set.univ (inX_hi hp hq hr))
  iapply (X_load hp) $$ HX; iintro HX
  iapply (wp_assume 𝒱₀ (thr d c s) none Set.univ ⟨inY_lo hp hq hr, inY_hi hp hq hr⟩)
  iapply (Own_load p) $$ HY; iintro HY
  iapply (Own_store hp (fun j hj => storeIdx_off _ _ _ _ (fun x => iyLo_toNat hp hq hr 0 x) j hj)) $$ HY; iintro HY
  iapply (Own_load p) $$ HY; iintro HY
  iapply (Own_store hp (fun j hj => storeIdx_off _ _ _ _ (fun x => iyHi_toNat hp hq hr 0 x) j hj)) $$ HY; iintro HY
  rw [scattered_succ hp hq hr (unit xp b ch) f _ _ _ _ (fun x => pick_inp xp b ch p hp hq hr (by omega) (fun _ _ => rfl) x)
    (fun x => pick_inp xp b ch p hp hq hr (by omega) (fun _ _ => rfl) x)]
  iapply Hk
  isplitl [HX] <;> iassumption

theorem rows_step {p : Nat} (hp : p < 2) {f : Vec F S2x4x94x96 .f32} {k : Pr F c s} : ∀ n, n ≤ 128 →
    iprop(Xt d c s (slotX p) (inp xp b ch) ∗ Own d c s p (scattered p (unit xp b ch) (128 - n) f))
      ⊢ iprop((iprop(Xt d c s (slotX p) (inp xp b ch) ∗ Own d c s p (scattered p (unit xp b ch) 128 f)) -∗ runs defs d c s k Q)
        -∗ runs defs d c s (scatC p hp n k) Q)
  | 0, _ => by
    iintro H Hk
    iapply Hk; iexact H
  | n + 1, hn => by
    have e : 128 - (n + 1) = 32 * ((127 - n) / 32) + (127 - n) % 32 := by omega
    have e' : 128 - n = 32 * ((127 - n) / 32) + (127 - n) % 32 + 1 := by omega
    have ih := rows_step hp (f := f) (k := k) n (by omega)
    rw [e'] at ih
    rw [e]
    iintro H Hk
    iapply (row_step xp b ch hp (by omega) (by omega)) $$ H
    iintro H
    iapply ih $$ H
    iexact Hk

/-- A unit scattered into a slot that is clear elsewhere: its image; the other slot as it was. -/
theorem unit_step {p : Nat} (hp : p < 2) {f g : Vec F S2x4x94x96 .f32} (hf : Sparse p f) {k : Pr F c s} :
    iprop(Xt d c s (slotX p) (inp xp b ch) ∗ Yt d c s fullShare (slotY p) f ∗ Yt d c s lft (Finset.univ \ slotY p) g)
      ⊢ iprop((iprop(Xt d c s (slotX p) (inp xp b ch) ∗ Yt d c s fullShare (slotY p) (img xp b ch) ∗ Yt d c s lft (Finset.univ \ slotY p) g)
        -∗ runs defs d c s k Q) -∗ runs defs d c s (SC p hp k) Q) := by
  classical
  let h : Vec F S2x4x94x96 .f32 := fun j => if (j 0).val = p then f j else g j
  have e₁ : (Yt d c s fullShare (slotY p) f : sProp 𝕄) = Yt d c s fullShare (slotY p) h := pointsTo_congr fun j hj => (if_pos (mem_slotY.mp hj)).symm
  have e₂ : (Yt d c s lft (Finset.univ \ slotY p) g : sProp 𝕄) = Yt d c s lft (Finset.univ \ slotY p) h := pointsTo_congr fun j hj => by
    rw [Finset.mem_sdiff, mem_slotY] at hj; exact (if_neg hj.2).symm
  have hh : Sparse p h := sparse_congr (fun j hj => (if_pos (mem_slotY.mp hj)).symm) hf
  have e₃ : (Yt d c s fullShare (slotY p) (scattered p (unit xp b ch) 128 h) : sProp 𝕄) = Yt d c s fullShare (slotY p) (img xp b ch) :=
    pointsTo_congr fun j hj => scattered_all xp b ch p hh hj
  have e₄ : (Yt d c s lft (Finset.univ \ slotY p) (scattered p (unit xp b ch) 128 h) : sProp 𝕄) = Yt d c s lft (Finset.univ \ slotY p) h :=
    pointsTo_congr fun j hj => by rw [Finset.mem_sdiff, mem_slotY] at hj; exact scattered_off p 128 _ h hj.2
  rw [e₁, e₂, ← e₃]
  have hs := rows_step (defs := defs) (d := d) (Q := Q) xp b ch hp (f := h) (k := k) 128 le_rfl
  rw [Nat.sub_self, scattered_zero] at hs
  iintro ⟨HX, HY⟩ Hk
  iapply hs $$ [HX HY]
  · isplitl [HX] <;> iassumption
  iintro ⟨HX, HY, Ho⟩
  iapply Hk
  isplitl [HX]; · iexact HX
  isplitl [HY]; · iexact HY
  iapply (Entails.of_eq e₄); iexact Ho

end Cert.Proof.Weave
-- ==== Proof.Steps.lean ====
/-
  The transfers of the checked program: what is held while one is in flight, its start and its wait; and a slot's turn, its unit waited for,
  scattered, and its image sent off.
-/
module

public import proofs.«01_k».proof.Proof.Rules

@[expose] public section

noncomputable section

namespace Cert.Proof.Weave
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Held

variable (d : Dev nD) (c : Fin τ.nSC) (s : Fin τ.nSub) (O : CellTallies nD τ sig (HIx 1)) (W : Waits sig (HIx 1))

/-- What a transfer of a unit / of an image signals. -/
abbrev amtI : Nat := (Xs 0 (by omega)).view.dmaCredit
abbrev amtO : Nat := (Bs ![0, 0, 0, 0] inb_S8x384x96x128_S1x4x94x96_0_0_0_0).view.dmaCredit

/-- A semaphore at rest. -/
abbrev idle (m : DmaSem sig) : sProp 𝕄 := semVal (thr d c s, SemLoc.dma m) 0

variable (xp : Vec F S8x384x32x128 .f32) (b0 : Vec F S8x384x96x128 .f32) (b ch : Nat)

/-- The unit from channel `ch` on its way into slot `p`; its image on its way out of slot `p`. -/
def flI (p : Nat) : sProp 𝕄 :=
  Transfers.Flight countersEmb (thr d c s) (.dma (semI p).sem) (none : HIx 1) amtI (Xt d c s (slotX p) (inp xp b ch))
def flO (p : Nat) : sProp 𝕄 :=
  Transfers.Flight countersEmb (thr d c s) (.dma (semO p).sem) (none : HIx 1) amtO
    iprop(Bt d c s (chB b ch (ch + 4)) (outW xp b0) ∗ Yt d c s rgt (slotY p) (img xp b ch))

/-- What the thread owes, its waits but at handshakes. -/
def ow : sProp 𝕄 := iprop(∃ W', ⌜∀ p ∈ W', p ∈ W ∨ p.2 = none⌝ ∗ owes (thr d c s) O W')

end Held

variable {defs : Defs nD τ sig (Elt F) Λ₀} {d : Dev nD} {c : Fin τ.nSC} {s : Fin τ.nSub} {O : CellTallies nD τ sig (HIx 1)} {W : Waits sig (HIx 1)}
variable {Q : PUnit → sProp (MT nD τ sig (HIx 1) (Elt F) ℕ UU ℕ)}

theorem ow_next {m : SemLoc sig} {W' : Waits sig (HIx 1)} (h : ∀ p ∈ W', p ∈ W ∨ p.2 = none) :
    (owes (thr d c s) O (insert (m, none) W') : sProp 𝕄) ⊢ ow d c s O W := by
  unfold ow
  iintro H
  iexists (insert (m, none) W')
  isplitr
  · ipureintro
    intro p hp
    rcases Finset.mem_insert.mp hp with rfl | hp
    · exact .inr rfl
    · exact h p hp
  iexact H

variable (xp : Vec F S8x384x32x128 .f32) (b0 : Vec F S8x384x96x128 .f32) {b ch : Nat}

theorem in_start {p : Nat} (hp : p < 2) (hb : b < 8) (hch : ch + 4 ≤ 384) {off : Fin 4 → Nat} (hoff : off = at4 b ch)
    (h : ∀ a, off a + S1x4x32x32.size a ≤ S8x384x32x128.size a) {k : Pr F c s} {g : Vec F S2x4x32x32 .f32} :
    iprop(At d c s (chA b ch (ch + 4)) xp ∗ Xt d c s (slotX p) g ∗ idle d c s (semI p).sem)
      ⊢ iprop((flI d c s xp b ch p -∗ runs defs d c s k Q) -∗ runs defs d c s (inStart p hp off h k) Q) := by
  subst hoff
  iintro ⟨HA, HX, Hs⟩ Hk
  ihave HA := (pointsTo_split_subset (chA32_sub b ch (ch + 4))).1 $$ HA
  icases HA with ⟨HA, -⟩
  ihave HA := (Entails.of_eq (show (At d c s (chA32 b ch (ch + 4)) xp : sProp 𝕄)
    = ((As (at4 b ch) h).view.loc (thr d c s) ↦[(As (at4 b ch) h).view.set]{fullShare} xp) by rw [As_set])) $$ HA
  iapply (Transfers.wp_dmaLocal countersEmb 𝒱₀ (thr d c s) none (src := As (at4 b ch) h) (dst := Xs p hp) (q := fullShare) (fs := xp) (fd := g)
    (Sd := slotX p) (none : HIx 1) amtI rfl (by decide) (Xs_set p hp).subset) $$ [HA HX Hs]
  · isplitl [HA]; · iexact HA
    isplitl [HX] <;> iassumption
  iintro Hf
  iapply Hk
  unfold flI
  iapply (Transfers.Flight_mono countersEmb (thr d c s) ?_) $$ Hf
  iintro ⟨HX, -⟩
  iapply (Entails.of_eq (pointsTo_congr fun j hj => in_leaves hp hb hch h xp g hj)) $$ HX

theorem in_wait {p : Nat} (hp : p < 2) {k : Pr F c s} :
    iprop(Transfers.MayWaits (thr d c s) (none : HIx 1) O ∗ flI d c s xp b ch p ∗ ow d c s O W)
      ⊢ iprop((iprop(Xt d c s (slotX p) (inp xp b ch) ∗ idle d c s (semI p).sem ∗ ow d c s O W) -∗ runs defs d c s k Q)
        -∗ runs defs d c s (inWait p hp k) Q) := by
  unfold flI
  iintro ⟨Hm, Hf, Ho⟩ Hk
  unfold ow
  icases Ho with ⟨%W', %hW, Ho⟩
  iapply (Transfers.wp_waitLocalO countersEmb 𝒱₀ (thr d c s) none (dstw := Xs p hp) (none : HIx 1) rfl) $$ [Hm Hf Ho]
  · isplitl [Hf]; · iexact Hf
    isplitl [Ho]; · iexact Ho
    iapply (Transfers.MayWaits.elim _) $$ Hm
  iintro ⟨HX, Hs, Ho⟩
  iapply Hk
  isplitl [HX]; · iexact HX
  isplitl [Hs]; · iexact Hs
  ihave Ho := (ow_next hW) $$ Ho
  unfold ow
  iexact Ho

theorem out_start {p : Nat} (hp : p < 2) {off : Fin 4 → Nat} (hoff : off = at4 b ch)
    (h : ∀ a, off a + S1x4x94x96.size a ≤ S8x384x96x128.size a) {k : Pr F c s} :
    iprop(Bt d c s (chB b ch (ch + 4)) b0 ∗ Yt d c s fullShare (slotY p) (img xp b ch) ∗ idle d c s (semO p).sem)
      ⊢ iprop((iprop(flO d c s xp b0 b ch p ∗ Yt d c s lft (slotY p) (img xp b ch)) -∗ runs defs d c s k Q)
        -∗ runs defs d c s (outStart p hp off h k) Q) := by
  subst hoff
  iintro ⟨HB, HY, Hs⟩ Hk
  ihave HY := (Y_halves d c s _ _).1 $$ HY
  icases HY with ⟨Hl, Hr⟩
  have e : (Yt d c s rgt (slotY p) (img xp b ch) : sProp 𝕄) = ((Ys p hp).view.loc (thr d c s) ↦[(Ys p hp).view.set]{rgt} img xp b ch) := by
    rw [Ys_set]
  ihave Hr := (Entails.of_eq e) $$ Hr
  iapply (Transfers.wp_dmaLocal countersEmb 𝒱₀ (thr d c s) none (src := Ys p hp) (dst := Bs (at4 b ch) h) (q := rgt) (fs := img xp b ch) (fd := b0)
    (Sd := chB b ch (ch + 4)) (none : HIx 1) amtO rfl (by decide) (Bs_sub h)) $$ [HB Hr Hs]
  · isplitl [Hr]; · iexact Hr
    isplitl [HB] <;> iassumption
  iintro Hf
  iapply Hk
  isplitr [Hl]
  · unfold flO
    iapply (Transfers.Flight_mono countersEmb (thr d c s) ?_) $$ Hf
    iintro ⟨HB, Hr⟩
    isplitl [HB]
    · iapply (Entails.of_eq (pointsTo_congr fun j hj => out_leaves hp h xp b0 hj)) $$ HB
    · iapply (Entails.of_eq e.symm) $$ Hr
  · iexact Hl

theorem out_wait {p : Nat} (hp : p < 2) {k : Pr F c s} :
    iprop(Transfers.MayWaits (thr d c s) (none : HIx 1) O ∗ flO d c s xp b0 b ch p ∗ Yt d c s lft (slotY p) (img xp b ch) ∗ ow d c s O W)
      ⊢ iprop((iprop(Bt d c s (chB b ch (ch + 4)) (outW xp b0) ∗ Yt d c s fullShare (slotY p) (img xp b ch) ∗ idle d c s (semO p).sem ∗ ow d c s O W)
        -∗ runs defs d c s k Q) -∗ runs defs d c s (outWait p hp k) Q) := by
  unfold flO
  iintro ⟨Hm, Hf, Hl, Ho⟩ Hk
  unfold ow
  icases Ho with ⟨%W', %hW, Ho⟩
  iapply (Transfers.wp_waitLocalO countersEmb 𝒱₀ (thr d c s) none (dstw := Bs ![0, 0, 0, 0] inb_S8x384x96x128_S1x4x94x96_0_0_0_0) (none : HIx 1) rfl)
    $$ [Hm Hf Ho]
  · isplitl [Hf]; · iexact Hf
    isplitl [Ho]; · iexact Ho
    iapply (Transfers.MayWaits.elim _) $$ Hm
  iintro ⟨⟨HB, Hr⟩, Hs, Ho⟩
  iapply Hk
  isplitl [HB]; · iexact HB
  isplitl [Hl Hr]
  · iapply (Y_halves d c s _ _).2; isplitl [Hl] <;> iassumption
  isplitl [Hs]; · iexact Hs
  ihave Ho := (ow_next hW) $$ Ho
  unfold ow
  iexact Ho

/-- A slot's turn. -/
theorem turn {p : Nat} (hp : p < 2) {off : Fin 4 → Nat} (hoff : off = at4 b ch) (h : ∀ a, off a + S1x4x94x96.size a ≤ S8x384x96x128.size a)
    {f g : Vec F S2x4x94x96 .f32} (hf : Sparse p f) {k : Pr F c s} :
    iprop(Transfers.MayWaits (thr d c s) (none : HIx 1) O ∗ flI d c s xp b ch p ∗ Bt d c s (chB b ch (ch + 4)) b0 ∗ Yt d c s fullShare (slotY p) f
        ∗ Yt d c s lft (Finset.univ \ slotY p) g ∗ idle d c s (semO p).sem ∗ ow d c s O W)
      ⊢ iprop((iprop(Xt d c s (slotX p) (inp xp b ch) ∗ idle d c s (semI p).sem ∗ flO d c s xp b0 b ch p ∗ Yt d c s lft (slotY p) (img xp b ch)
          ∗ Yt d c s lft (Finset.univ \ slotY p) g ∗ ow d c s O W) -∗ runs defs d c s k Q)
        -∗ runs defs d c s (inWait p hp <| SC p hp <| outStart p hp off h k) Q) := by
  iintro ⟨Hm, Hf, HB, HY, Hg, Hs, Ho⟩ Hk
  iapply (in_wait xp hp) $$ [Hm Hf Ho]
  · isplitl [Hm]; · iexact Hm
    isplitl [Hf] <;> iassumption
  iintro ⟨HX, Hi, Ho⟩
  iapply (unit_step xp b ch hp hf) $$ [HX HY Hg]
  · isplitl [HX]; · iexact HX
    isplitl [HY] <;> iassumption
  iintro ⟨HX, HY, Hg⟩
  iapply (out_start xp b0 hp hoff h) $$ [HB HY Hs]
  · isplitl [HB]; · iexact HB
    isplitl [HY] <;> iassumption
  iintro ⟨Hf, Hl⟩
  iapply Hk
  isplitl [HX]; · iexact HX
  isplitl [Hi]; · iexact Hi
  isplitl [Hf]; · iexact Hf
  isplitl [Hl]; · iexact Hl
  isplitl [Hg] <;> iassumption

end Cert.Proof.Weave
-- ==== Proof.Tile.lean ====
/-
  The checked program of one vector subcore, run: from its part of the padded input and of the padded output, its scratch buffers and its
  semaphores at rest, it leaves its part of the padded output woven and everything else at rest again.
-/
module

public import proofs.«01_k».proof.Proof.Steps

@[expose] public section

noncomputable section

namespace Cert.Proof.Weave
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Which channels -/

/-- The number of a vector subcore; its batch, its first channel. -/
def wid (i : grid0.Coords) : Nat := 2 * (i 1).val + (i 0).val
def bOf (i : grid0.Coords) : Nat := wid i / 4
def cOf (i : grid0.Coords) : Nat := wid i % 4 * 96

theorem wid_lt (i : grid0.Coords) : wid i < 32 := by
  have h0 : (i 0).val < 2 := (i 0).isLt
  have h1 : (i 1).val < 16 := (i 1).isLt
  unfold wid; omega
theorem bOf_lt (i : grid0.Coords) : bOf i < 8 := by have := wid_lt i; unfold bOf; omega
theorem cOf_le (i : grid0.Coords) : cOf i + 96 ≤ 384 := by unfold cOf; omega

theorem trips₁ : k0_t1_loop.trips = 94 := by decide +kernel
theorem trips₂ : k0_t2_loop.trips = 10 := by decide +kernel

theorem off1_lo : ∀ i : grid0.Coords, k0_off1 i 0#32 = at4 (bOf i) (cOf i) := by decide +kernel
theorem off1_hi : ∀ i : grid0.Coords, k0_off1 i 4#32 = at4 (bOf i) (cOf i + 4) := by decide +kernel
theorem off2 : ∀ i : grid0.Coords, k0_off2 i = at4 (bOf i) (cOf i) := by decide +kernel
theorem off3 : ∀ i : grid0.Coords, k0_off3 i = at4 (bOf i) (cOf i + 8) := by decide +kernel
theorem off4 : ∀ i : grid0.Coords, k0_off4 i = at4 (bOf i) (cOf i + 4) := by decide +kernel
theorem off5 : ∀ i : grid0.Coords, k0_off5 i = at4 (bOf i) (cOf i + 12) := by decide +kernel
theorem off6 : ∀ (i : grid0.Coords) (t : Fin k0_t2_loop.trips), k0_off6 i t = at4 (bOf i) (cOf i + 8 * t.val + 8) := by decide +kernel
theorem off7 : ∀ (i : grid0.Coords) (t : Fin k0_t2_loop.trips), k0_off7 i t = at4 (bOf i) (cOf i + 8 * t.val + 16) := by decide +kernel
theorem off8 : ∀ (i : grid0.Coords) (t : Fin k0_t2_loop.trips), k0_off8 i t = at4 (bOf i) (cOf i + 8 * t.val + 12) := by decide +kernel
theorem off9 : ∀ (i : grid0.Coords) (t : Fin k0_t2_loop.trips), k0_off9 i t = at4 (bOf i) (cOf i + 8 * t.val + 20) := by decide +kernel
theorem off10 : ∀ i : grid0.Coords, k0_off10 i = at4 (bOf i) (cOf i + 88) := by decide +kernel
theorem off11 : ∀ i : grid0.Coords, k0_off11 i = at4 (bOf i) (cOf i + 92) := by decide +kernel

theorem iv_toNat (t : Fin k0_t1_loop.trips) : (Scf.iv 0#32 1#32 t).toNat = t.val := by
  revert t; decide +kernel

/-! ## Slots -/

theorem slotX_compl : (Finset.univ : Finset S2x4x32x32.Idx) = slotX 0 ∪ slotX 1 := by
  ext j
  have h0 : (j 0).val < 2 := (j 0).isLt
  rw [Finset.mem_union, mem_slotX, mem_slotX]
  simp only [Finset.mem_univ, true_iff]; omega
theorem slotX_disj : Disjoint (slotX 0) (slotX 1) := Finset.disjoint_left.mpr fun j h₁ h₂ => by rw [mem_slotX] at h₁ h₂; omega
theorem slotY_compl₀ : (Finset.univ : Finset S2x4x94x96.Idx) \ slotY 0 = slotY 1 := by
  ext j
  have h0 : (j 0).val < 2 := (j 0).isLt
  rw [Finset.mem_sdiff, mem_slotY, mem_slotY]
  simp only [Finset.mem_univ, true_and]; omega
theorem slotY_compl₁ : (Finset.univ : Finset S2x4x94x96.Idx) \ slotY 1 = slotY 0 := by
  ext j
  have h0 : (j 0).val < 2 := (j 0).isLt
  rw [Finset.mem_sdiff, mem_slotY, mem_slotY]
  simp only [Finset.mem_univ, true_and]; omega

section Join
variable {d : Dev nD} {c : Fin τ.nSC} {s : Fin τ.nSub}

theorem X_split (g : Vec F S2x4x32x32 .f32) :
    (Xt d c s Finset.univ g : sProp 𝕄) ⊢ iprop(Xt d c s (slotX 0) g ∗ Xt d c s (slotX 1) g) := by
  rw [slotX_compl]; exact (pointsTo_union slotX_disj).1

theorem X_join (g₀ g₁ : Vec F S2x4x32x32 .f32) :
    iprop(Xt d c s (slotX 0) g₀ ∗ Xt d c s (slotX 1) g₁) ⊢ (iprop(∃ g, Xt d c s Finset.univ g) : sProp 𝕄) := by
  have e₀ : (Xt d c s (slotX 0) g₀ : sProp 𝕄) = Xt d c s (slotX 0) (fun j => if (j 0).val = 0 then g₀ j else g₁ j) :=
    pointsTo_congr fun j hj => (if_pos (mem_slotX.mp hj)).symm
  have e₁ : (Xt d c s (slotX 1) g₁ : sProp 𝕄) = Xt d c s (slotX 1) (fun j => if (j 0).val = 0 then g₀ j else g₁ j) :=
    pointsTo_congr fun j hj => (if_neg (by rw [mem_slotX.mp hj]; decide)).symm
  rw [e₀, e₁]
  iintro H
  iexists (fun j => if (j 0).val = 0 then g₀ j else g₁ j)
  rw [slotX_compl]
  iapply (pointsTo_union slotX_disj).2 $$ H

theorem Y_split (f : Vec F S2x4x94x96 .f32) :
    (Yt d c s fullShare Finset.univ f : sProp 𝕄) ⊢ iprop(Yt d c s fullShare (slotY 0) f ∗ Yt d c s fullShare (slotY 1) f) := by
  have h : (Yt d c s fullShare Finset.univ f : sProp 𝕄) ⊢ iprop(Yt d c s fullShare (slotY 0) f ∗ Yt d c s fullShare (Finset.univ \ slotY 0) f) :=
    (pointsTo_split_subset (Finset.subset_univ _)).1
  rwa [slotY_compl₀] at h

theorem Y_join (f₀ f₁ : Vec F S2x4x94x96 .f32) :
    iprop(Yt d c s fullShare (slotY 0) f₀ ∗ Yt d c s fullShare (slotY 1) f₁) ⊢ (iprop(∃ f, Yt d c s fullShare Finset.univ f) : sProp 𝕄) := by
  have e₀ : (Yt d c s fullShare (slotY 0) f₀ : sProp 𝕄) = Yt d c s fullShare (slotY 0) (fun j => if (j 0).val = 0 then f₀ j else f₁ j) :=
    pointsTo_congr fun j hj => (if_pos (mem_slotY.mp hj)).symm
  have e₁ : (Yt d c s fullShare (slotY 1) f₁ : sProp 𝕄) = Yt d c s fullShare (slotY 1) (fun j => if (j 0).val = 0 then f₀ j else f₁ j) :=
    pointsTo_congr fun j hj => (if_neg (by rw [mem_slotY.mp hj]; decide)).symm
  have h : iprop(Yt d c s fullShare (slotY 0) (fun j => if (j 0).val = 0 then f₀ j else f₁ j)
      ∗ Yt d c s fullShare (Finset.univ \ slotY 0) (fun j => if (j 0).val = 0 then f₀ j else f₁ j))
      ⊢ (Yt d c s fullShare Finset.univ (fun j => if (j 0).val = 0 then f₀ j else f₁ j) : sProp 𝕄) :=
    (pointsTo_split_subset (Finset.subset_univ _)).2
  rw [slotY_compl₀] at h
  rw [e₀, e₁]
  iintro H
  iexists (fun j => if (j 0).val = 0 then f₀ j else f₁ j)
  iapply h $$ H

theorem A_split {b lo mid hi : Nat} (h₁ : lo ≤ mid) (h₂ : mid ≤ hi) (f : Vec F S8x384x32x128 .f32) :
    (At d c s (chA b lo hi) f : sProp 𝕄) ⊢ iprop(At d c s (chA b lo mid) f ∗ At d c s (chA b mid hi) f) := by
  rw [chA_split h₁ h₂]; exact (pointsTo_union (chA_disjoint b lo mid hi)).1
theorem B_split {b lo mid hi : Nat} (h₁ : lo ≤ mid) (h₂ : mid ≤ hi) (f : Vec F S8x384x96x128 .f32) :
    (Bt d c s (chB b lo hi) f : sProp 𝕄) ⊣⊢ iprop(Bt d c s (chB b lo mid) f ∗ Bt d c s (chB b mid hi) f) := by
  rw [chB_split h₁ h₂]; exact pointsTo_union (chB_disjoint b lo mid hi)

end Join

variable {defs : Defs nD τ sig (Elt F) Λ₀} {d : Dev nD} {c : Fin τ.nSC} {s : Fin τ.nSub} {O : CellTallies nD τ sig (HIx 1)} {W : Waits sig (HIx 1)}
variable {Q : PUnit → sProp (MT nD τ sig (HIx 1) (Elt F) ℕ UU ℕ)}

/-! ## Loops -/

theorem loop_rule {w : Nat} (l : Scf.Loop w) (hl : l.OK) {f : Fin l.trips → PUnit → Pr F c s} {kk : PUnit → Pr F c s} (I : Nat → sProp 𝕄)
    (hb : ∀ t : Fin l.trips, I t.val ⊢ runs defs d c s (f t ⟨⟩) fun _ => I (t.val + 1)) :
    I 0 ⊢ iprop((I l.trips -∗ runs defs d c s (kk ⟨⟩) Q) -∗ runs defs d c s (Scf.Loop.for l hl ⟨⟩ f >>= kk) Q) := by
  unfold Scf.Loop.for
  iintro HI Hk
  iapply (Scf.wp_for_bind frame (wpE defs 𝒱₀ (thr d c s) none) Set.univ l.lb l.ub l.st hl ⟨⟩ f (fun t _ => I t) (fun t _ => hb t)) $$ HI
  iintro %_ HI
  iapply Hk
  iexact HI

/-! ## The images cleared -/

theorem clear_step {p q o : Nat} {t : BitVec 32} (h : InY (iz p q o t)) {f : Vec F S2x4x94x96 .f32} {k : Pr F c s} :
    (Yt d c s fullShare Finset.univ f : sProp 𝕄)
      ⊢ iprop((Yt d c s fullShare Finset.univ (storeIdx (e := .f32) f (iz p q o t) zero16 (fun _ => 1#1) false h) -∗ runs defs d c s k Q)
        -∗ runs defs d c s (zst p q o t k) Q) := by
  iintro H Hk
  unfold zst
  iapply (wp_assume 𝒱₀ (thr d c s) none Set.univ h)
  iapply (wp_load 𝒱₀ (thr d c s) none Set.univ (m := Y) (S := Finset.univ) (q := fullShare) (Finset.subset_univ _)) $$ H
  iintro H
  have e : Y.view.readAt (Elt F) (LoadRect.whole S2x4x94x96) f = f := Memref.readAt_whole (Elt F) cc0_scratch1 f
  rw [e]
  iapply (wp_store 𝒱₀ (thr d c s) none Set.univ (m := Y) (r := Rect.whole S2x4x94x96) (Mk := Finset.univ) (S := Finset.univ) (f := f)
    (Finset.subset_univ _)) $$ H
  iintro H
  have e' : (Y.access (Rect.whole S2x4x94x96)).write (Elt F) f (storeIdx (e := .f32) f (iz p q o t) zero16 (fun _ => 1#1) false h) Finset.univ
      = storeIdx (e := .f32) f (iz p q o t) zero16 (fun _ => 1#1) false h := Memref.write_access_whole_univ (Elt F) cc0_scratch1 _ _
  rw [e']
  iapply Hk
  iexact H

theorem clear_row {T : BitVec 32} {t : Nat} (hT : T.toNat = t) (ht : t < 94) {k : Pr F c s} : ∀ n, n ≤ 48 → ∀ f : Vec F S2x4x94x96 .f32, Cleared t (48 - n) f →
    ((Yt d c s fullShare Finset.univ f : sProp 𝕄)
      ⊢ iprop((iprop(∃ f', ⌜Cleared t 48 f'⌝ ∗ Yt d c s fullShare Finset.univ f') -∗ runs defs d c s k Q) -∗ runs defs d c s (zrow T n k) Q))
  | 0, _, f, hf => by
    iintro H Hk
    iapply Hk
    iexists f
    isplitr; · ipureintro; exact hf
    iexact H
  | n + 1, hn, f, hf => by
    have e : 48 - (n + 1) = 47 - n := by omega
    rw [e] at hf
    have hz : InY (iz ((47 - n) / 24) ((47 - n) % 24 / 6) (16 * ((47 - n) % 6)) T) := inY_z (by omega) (by omega) (by omega) (by omega)
    have hs := hf.step (by omega) T hT hz
    rw [show 47 - n + 1 = 48 - n by omega] at hs
    iintro H Hk
    iapply (clear_step hz) $$ H
    iintro H
    iapply (clear_row hT ht n (by omega) _ hs) $$ H
    iexact Hk

/-- What the clearing loop keeps. -/
def clr (d : Dev nD) (c : Fin τ.nSC) (s : Fin τ.nSub) (t : Nat) : sProp 𝕄 := iprop(∃ f, ⌜Cleared t 0 f⌝ ∗ Yt d c s fullShare Finset.univ f)

theorem clear_trip (t : Fin k0_t1_loop.trips) :
    (clr d c s t.val : sProp 𝕄) ⊢ runs defs d c s (zrow (Scf.iv 0#32 1#32 t) 48 (.ret ⟨⟩)) fun _ => clr d c s (t.val + 1) := by
  have ht : t.val < 94 := lt_of_lt_of_eq t.isLt trips₁
  unfold clr
  iintro ⟨%f, %hf, H⟩
  iapply (clear_row (iv_toNat t) ht 48 le_rfl f hf) $$ H
  iintro ⟨%f', %hf', H⟩
  unfold runs; rw [wp_ret]; imodintro
  iexists f'
  isplitr; · ipureintro; exact hf'.next
  iexact H

/-! ## A slot's trip -/

section Trip
variable (xp : Vec F S8x384x32x128 .f32) (b0 : Vec F S8x384x96x128 .f32) {b : Nat}

theorem half {ch ch₁ ch₂ p : Nat} (hp : p < 2) (hb : b < 8) (hch : ch₂ + 4 ≤ 384) {off₁ off₂ : Fin 4 → Nat} (h₁ : off₁ = at4 b ch₁) (h₂ : off₂ = at4 b ch₂)
    (i₁ : ∀ a, off₁ a + S1x4x94x96.size a ≤ S8x384x96x128.size a) (i₂ : ∀ a, off₂ a + S1x4x32x32.size a ≤ S8x384x32x128.size a)
    {g : Vec F S2x4x94x96 .f32} {k : Pr F c s} :
    iprop(Transfers.MayWaits (thr d c s) (none : HIx 1) O ∗ flO d c s xp b0 b ch p ∗ Yt d c s lft (slotY p) (img xp b ch) ∗ flI d c s xp b ch₁ p
        ∗ Yt d c s lft (Finset.univ \ slotY p) g ∗ At d c s (chA b ch₂ (ch₂ + 4)) xp ∗ Bt d c s (chB b ch₁ (ch₁ + 4)) b0 ∗ ow d c s O W)
      ⊢ iprop((iprop(Bt d c s (chB b ch (ch + 4)) (outW xp b0) ∗ flO d c s xp b0 b ch₁ p ∗ Yt d c s lft (slotY p) (img xp b ch₁) ∗ flI d c s xp b ch₂ p
          ∗ Yt d c s lft (Finset.univ \ slotY p) g ∗ ow d c s O W) -∗ runs defs d c s k Q)
        -∗ runs defs d c s (outWait p hp <| inWait p hp <| SC p hp <| outStart p hp off₁ i₁ <| inStart p hp off₂ i₂ k) Q) := by
  iintro ⟨#Hm, Hf, Hl, Hi, Hg, HA, HB, Ho⟩ Hk
  iapply (out_wait xp b0 hp) $$ [Hf Hl Ho]
  · isplitr; · iexact Hm
    isplitl [Hf]; · iexact Hf
    isplitl [Hl] <;> iassumption
  iintro ⟨HB', HY, Hs, Ho⟩
  iapply (turn xp b0 hp h₁ i₁ (img_sparse xp b ch p)) $$ [Hi HB HY Hg Hs Ho]
  · isplitr; · iexact Hm
    isplitl [Hi]; · iexact Hi
    isplitl [HB]; · iexact HB
    isplitl [HY]; · iexact HY
    isplitl [Hg]; · iexact Hg
    isplitl [Hs] <;> iassumption
  iintro ⟨HX, Hs, Hf, Hl, Hg, Ho⟩
  iapply (in_start xp hp hb hch h₂ i₂) $$ [HA HX Hs]
  · isplitl [HA]; · iexact HA
    isplitl [HX] <;> iassumption
  iintro Hi
  iapply Hk
  isplitl [HB']; · iexact HB'
  isplitl [Hf]; · iexact Hf
  isplitl [Hl]; · iexact Hl
  isplitl [Hi]; · iexact Hi
  isplitl [Hg] <;> iassumption

/-- What the loop over the units keeps: with channels below `ch` done, images `ch`, `ch + 4` on their way out, units `ch + 8`, `ch + 12` on their way in. -/
def keep (d : Dev nD) (c : Fin τ.nSC) (s : Fin τ.nSub) (O : CellTallies nD τ sig (HIx 1)) (W : Waits sig (HIx 1)) (b c0 ch : Nat) : sProp 𝕄 :=
  iprop(Transfers.MayWaits (thr d c s) (none : HIx 1) O ∗ (flO d c s xp b0 b ch 0 ∗ Yt d c s lft (slotY 0) (img xp b ch) ∗ flI d c s xp b (ch + 8) 0)
    ∗ (flO d c s xp b0 b (ch + 4) 1 ∗ Yt d c s lft (slotY 1) (img xp b (ch + 4)) ∗ flI d c s xp b (ch + 12) 1)
    ∗ At d c s (chA b (ch + 16) (c0 + 96)) xp ∗ Bt d c s (chB b (ch + 8) (c0 + 96)) b0 ∗ Bt d c s (chB b c0 ch) (outW xp b0) ∗ ow d c s O W)

theorem steady_trip (i : grid0.Coords) (t : Fin k0_t2_loop.trips) :
    (keep xp b0 d c s O W (bOf i) (cOf i) (cOf i + 8 * t.val) : sProp 𝕄)
      ⊢ runs defs d c s (steady SC i t) fun _ => keep xp b0 d c s O W (bOf i) (cOf i) (cOf i + 8 * (t.val + 1)) := by
  have ht : t.val < 10 := lt_of_lt_of_eq t.isLt trips₂
  have hc := cOf_le i
  rw [show cOf i + 8 * (t.val + 1) = cOf i + 8 * t.val + 8 by omega]
  have h6 := off6 i t
  have h7 := off7 i t
  have h8 := off8 i t
  have h9 := off9 i t
  generalize hch : cOf i + 8 * t.val = ch at *
  unfold keep steady
  iintro ⟨#Hm, ⟨Hf₀, Hl₀, Hi₀⟩, ⟨Hf₁, Hl₁, Hi₁⟩, HA, HB, HW, Ho⟩
  ihave HA := (A_split (show ch + 16 ≤ ch + 16 + 4 by omega) (show ch + 16 + 4 ≤ cOf i + 96 by omega) xp) $$ HA
  icases HA with ⟨HA₀, HA⟩
  ihave HA := (A_split (show ch + 16 + 4 ≤ ch + 20 + 4 by omega) (show ch + 20 + 4 ≤ cOf i + 96 by omega) xp) $$ HA
  icases HA with ⟨HA₁, HA⟩
  ihave HB := (B_split (show ch + 8 ≤ ch + 8 + 4 by omega) (show ch + 8 + 4 ≤ cOf i + 96 by omega) b0).1 $$ HB
  icases HB with ⟨HB₀, HB⟩
  ihave HB := (B_split (show ch + 8 + 4 ≤ ch + 12 + 4 by omega) (show ch + 12 + 4 ≤ cOf i + 96 by omega) b0).1 $$ HB
  icases HB with ⟨HB₁, HB⟩
  iapply (half xp b0 _ (bOf_lt i) (by omega) h6 h7 _ _) $$ [Hf₀ Hl₀ Hi₀ Hl₁ HA₀ HB₀ Ho]
  · isplitr; · iexact Hm
    isplitl [Hf₀]; · iexact Hf₀
    isplitl [Hl₀]; · iexact Hl₀
    isplitl [Hi₀]; · iexact Hi₀
    isplitl [Hl₁]; · rw [slotY_compl₀]; iexact Hl₁
    isplitl [HA₀]; · iexact HA₀
    isplitl [HB₀] <;> iassumption
  rw [slotY_compl₀]
  iintro ⟨HW₀, Hf₀, Hl₀, Hi₀, Hl₁, Ho⟩
  iapply (half xp b0 _ (bOf_lt i) (by omega) h8 h9 _ _) $$ [Hf₁ Hl₁ Hi₁ Hl₀ HA₁ HB₁ Ho]
  · isplitr; · iexact Hm
    isplitl [Hf₁]; · iexact Hf₁
    isplitl [Hl₁]; · iexact Hl₁
    isplitl [Hi₁]; · iexact Hi₁
    isplitl [Hl₀]; · rw [slotY_compl₁]; iexact Hl₀
    isplitl [HA₁]; · iexact HA₁
    isplitl [HB₁] <;> iassumption
  rw [slotY_compl₁]
  iintro ⟨HW₁, Hf₁, Hl₁, Hi₁, Hl₀, Ho⟩
  unfold runs; rw [wp_ret]; imodintro
  isplitr; · iexact Hm
  isplitl [Hf₀ Hl₀ Hi₀]
  · isplitl [Hf₀]; · iexact Hf₀
    isplitl [Hl₀] <;> iassumption
  isplitl [Hf₁ Hl₁ Hi₁]
  · isplitl [Hf₁]; · iexact Hf₁
    isplitl [Hl₁] <;> iassumption
  isplitl [HA]; · iexact HA
  isplitl [HB]; · iexact HB
  isplitr [Ho]
  · iapply (B_split (show cOf i ≤ ch by omega) (show ch ≤ ch + 8 by omega) (outW xp b0)).2
    isplitl [HW]; · iexact HW
    iapply (B_split (show ch ≤ ch + 4 by omega) (show ch + 4 ≤ ch + 8 by omega) (outW xp b0)).2
    isplitl [HW₀] <;> iassumption
  iexact Ho

/-- The four semaphores at rest. -/
abbrev rest (d : Dev nD) (c : Fin τ.nSC) (s : Fin τ.nSub) : sProp 𝕄 :=
  iprop(idle d c s cc0_scratch2.sem ∗ idle d c s cc0_scratch3.sem ∗ idle d c s cc0_scratch4.sem ∗ idle d c s cc0_scratch5.sem)

/-- What a vector subcore hands back: its part of the padded output, woven; its buffers and its semaphores. -/
def done (d : Dev nD) (c : Fin τ.nSC) (s : Fin τ.nSub) (O : CellTallies nD τ sig (HIx 1)) (W : Waits sig (HIx 1)) (b c0 : Nat) : sProp 𝕄 :=
  iprop(Bt d c s (chB b c0 (c0 + 96)) (outW xp b0) ∗ (∃ g, Xt d c s Finset.univ g) ∗ (∃ f, Yt d c s fullShare Finset.univ f) ∗ rest d c s ∗ ow d c s O W)

theorem last_part (i : grid0.Coords) :
    (keep xp b0 d c s O W (bOf i) (cOf i) (cOf i + 80) : sProp 𝕄) ⊢ runs defs d c s (last SC i) fun _ => done xp b0 d c s O W (bOf i) (cOf i) := by
  have h10 := off10 i
  have h11 := off11 i
  generalize bOf i = b at *
  generalize cOf i = c0 at *
  unfold keep last
  iintro ⟨#Hm, ⟨Hf₀, Hl₀, Hi₀⟩, ⟨Hf₁, Hl₁, Hi₁⟩, -, HB, HW, Ho⟩
  ihave HB := (B_split (show c0 + 80 + 8 ≤ c0 + 88 + 4 by omega) (show c0 + 88 + 4 ≤ c0 + 96 by omega) b0).1 $$ HB
  icases HB with ⟨HB₀, HB₁⟩
  iapply (out_wait xp b0 _) $$ [Hf₀ Hl₀ Ho]
  · isplitr; · iexact Hm
    isplitl [Hf₀]; · iexact Hf₀
    isplitl [Hl₀] <;> iassumption
  iintro ⟨HW₀, HY₀, Hs₀, Ho⟩
  iapply (turn xp b0 _ h10 _ (img_sparse xp b _ 0)) $$ [Hi₀ HB₀ HY₀ Hl₁ Hs₀ Ho]
  · isplitr; · iexact Hm
    isplitl [Hi₀]; · iexact Hi₀
    isplitl [HB₀]; · iexact HB₀
    isplitl [HY₀]; · iexact HY₀
    isplitl [Hl₁]; · rw [slotY_compl₀]; iexact Hl₁
    isplitl [Hs₀] <;> iassumption
  rw [slotY_compl₀]
  iintro ⟨HX₀, Hi₀, Hf₀, Hl₀, Hl₁, Ho⟩
  iapply (out_wait xp b0 _) $$ [Hf₁ Hl₁ Ho]
  · isplitr; · iexact Hm
    isplitl [Hf₁]; · iexact Hf₁
    isplitl [Hl₁] <;> iassumption
  iintro ⟨HW₁, HY₁, Hs₁, Ho⟩
  iapply (turn xp b0 _ h11 _ (img_sparse xp b _ 1)) $$ [Hi₁ HB₁ HY₁ Hl₀ Hs₁ Ho]
  · isplitr; · iexact Hm
    isplitl [Hi₁]; · iexact Hi₁
    isplitl [HB₁]; · iexact HB₁
    isplitl [HY₁]; · iexact HY₁
    isplitl [Hl₀]; · rw [slotY_compl₁]; iexact Hl₀
    isplitl [Hs₁] <;> iassumption
  rw [slotY_compl₁]
  iintro ⟨HX₁, Hi₁, Hf₁, Hl₁, Hl₀, Ho⟩
  iapply (out_wait xp b0 _) $$ [Hf₀ Hl₀ Ho]
  · isplitr; · iexact Hm
    isplitl [Hf₀]; · iexact Hf₀
    isplitl [Hl₀] <;> iassumption
  iintro ⟨HW₂, HY₀, Hs₀, Ho⟩
  iapply (out_wait xp b0 _) $$ [Hf₁ Hl₁ Ho]
  · isplitr; · iexact Hm
    isplitl [Hf₁]; · iexact Hf₁
    isplitl [Hl₁] <;> iassumption
  iintro ⟨HW₃, HY₁, Hs₁, Ho⟩
  unfold runs; rw [wp_ret]; imodintro
  unfold done
  isplitl [HW HW₀ HW₁ HW₂ HW₃]
  · iapply (B_split (show c0 ≤ c0 + 80 by omega) (show c0 + 80 ≤ c0 + 96 by omega) (outW xp b0)).2
    isplitl [HW]; · iexact HW
    iapply (B_split (show c0 + 80 ≤ c0 + 84 by omega) (show c0 + 84 ≤ c0 + 96 by omega) (outW xp b0)).2
    isplitl [HW₀]; · iexact HW₀
    iapply (B_split (show c0 + 84 ≤ c0 + 88 by omega) (show c0 + 88 ≤ c0 + 96 by omega) (outW xp b0)).2
    isplitl [HW₁]; · iexact HW₁
    iapply (B_split (show c0 + 88 ≤ c0 + 92 by omega) (show c0 + 92 ≤ c0 + 96 by omega) (outW xp b0)).2
    isplitl [HW₂] <;> iassumption
  isplitl [HX₀ HX₁]
  · iapply (X_join _ _); isplitl [HX₀] <;> iassumption
  isplitl [HY₀ HY₁]
  · iapply (Y_join _ _); isplitl [HY₀] <;> iassumption
  isplitr [Ho]
  · isplitl [Hi₀]; · iexact Hi₀
    isplitl [Hi₁]; · iexact Hi₁
    isplitl [Hs₀] <;> iassumption
  iexact Ho

/-- What a vector subcore is handed. -/
def given (d : Dev nD) (c : Fin τ.nSC) (s : Fin τ.nSub) (O : CellTallies nD τ sig (HIx 1)) (W : Waits sig (HIx 1)) (b c0 : Nat) : sProp 𝕄 :=
  iprop(Transfers.MayWaits (thr d c s) (none : HIx 1) O ∗ At d c s (chA b c0 (c0 + 96)) xp ∗ Bt d c s (chB b c0 (c0 + 96)) b0
    ∗ (∃ g, Xt d c s Finset.univ g) ∗ (∃ f, Yt d c s fullShare Finset.univ f) ∗ rest d c s ∗ ow d c s O W)

theorem first_part (i : grid0.Coords) {f : Vec F S2x4x94x96 .f32} (hf : Cleared 94 0 f) {k : Pr F c s} :
    iprop(Transfers.MayWaits (thr d c s) (none : HIx 1) O ∗ flI d c s xp (bOf i) (cOf i) 0 ∗ flI d c s xp (bOf i) (cOf i + 4) 1
        ∗ At d c s (chA (bOf i) (cOf i + 8) (cOf i + 96)) xp ∗ Bt d c s (chB (bOf i) (cOf i) (cOf i + 96)) b0 ∗ Yt d c s fullShare Finset.univ f
        ∗ idle d c s cc0_scratch4.sem ∗ idle d c s cc0_scratch5.sem ∗ ow d c s O W)
      ⊢ iprop((keep xp b0 d c s O W (bOf i) (cOf i) (cOf i) -∗ runs defs d c s k Q) -∗ runs defs d c s (first SC i k) Q) := by
  have h2 := off2 i
  have h3 := off3 i
  have h4 := off4 i
  have h5 := off5 i
  have hb := bOf_lt i
  have hc := cOf_le i
  generalize bOf i = b at *
  generalize cOf i = c0 at *
  unfold first
  iintro ⟨#Hm, Hi₀, Hi₁, HA, HB, HY, Hs₀, Hs₁, Ho⟩ Hk
  ihave HA := (A_split (show c0 + 8 ≤ c0 + 8 + 4 by omega) (show c0 + 8 + 4 ≤ c0 + 96 by omega) xp) $$ HA
  icases HA with ⟨HA₀, HA⟩
  ihave HA := (A_split (show c0 + 8 + 4 ≤ c0 + 12 + 4 by omega) (show c0 + 12 + 4 ≤ c0 + 96 by omega) xp) $$ HA
  icases HA with ⟨HA₁, HA⟩
  ihave HB := (B_split (show c0 ≤ c0 + 4 by omega) (show c0 + 4 ≤ c0 + 96 by omega) b0).1 $$ HB
  icases HB with ⟨HB₀, HB⟩
  ihave HB := (B_split (show c0 + 4 ≤ c0 + 4 + 4 by omega) (show c0 + 4 + 4 ≤ c0 + 96 by omega) b0).1 $$ HB
  icases HB with ⟨HB₁, HB⟩
  ihave HY := (Y_split f) $$ HY
  icases HY with ⟨HY₀, HY₁⟩
  ihave HY₁ := (Y_halves d c s _ f).1 $$ HY₁
  icases HY₁ with ⟨Hl₁, Hr₁⟩
  iapply (turn xp b0 _ h2 _ (hf.sparse 0)) $$ [Hi₀ HB₀ HY₀ Hl₁ Hs₀ Ho]
  · isplitr; · iexact Hm
    isplitl [Hi₀]; · iexact Hi₀
    isplitl [HB₀]; · iexact HB₀
    isplitl [HY₀]; · iexact HY₀
    isplitl [Hl₁]; · rw [slotY_compl₀]; iexact Hl₁
    isplitl [Hs₀] <;> iassumption
  rw [slotY_compl₀]
  iintro ⟨HX₀, Hi₀, Hf₀, Hl₀, Hl₁, Ho⟩
  iapply (in_start xp _ hb (by omega) h3 _) $$ [HA₀ HX₀ Hi₀]
  · isplitl [HA₀]; · iexact HA₀
    isplitl [HX₀] <;> iassumption
  iintro Hi₀
  iapply (turn xp b0 _ h4 _ (hf.sparse 1)) $$ [Hi₁ HB₁ Hl₁ Hr₁ Hl₀ Hs₁ Ho]
  · isplitr; · iexact Hm
    isplitl [Hi₁]; · iexact Hi₁
    isplitl [HB₁]; · iexact HB₁
    isplitl [Hl₁ Hr₁]
    · iapply (Y_halves d c s _ f).2; isplitl [Hl₁] <;> iassumption
    isplitl [Hl₀]; · rw [slotY_compl₁]; iexact Hl₀
    isplitl [Hs₁] <;> iassumption
  rw [slotY_compl₁]
  iintro ⟨HX₁, Hi₁, Hf₁, Hl₁, Hl₀, Ho⟩
  iapply (in_start xp _ hb (by omega) h5 _) $$ [HA₁ HX₁ Hi₁]
  · isplitl [HA₁]; · iexact HA₁
    isplitl [HX₁] <;> iassumption
  iintro Hi₁
  iapply Hk
  unfold keep
  isplitr; · iexact Hm
  isplitl [Hf₀ Hl₀ Hi₀]
  · isplitl [Hf₀]; · iexact Hf₀
    isplitl [Hl₀] <;> iassumption
  isplitl [Hf₁ Hl₁ Hi₁]
  · isplitl [Hf₁]; · iexact Hf₁
    isplitl [Hl₁] <;> iassumption
  isplitl [HA]; · iexact HA
  isplitl [HB]; · iexact HB
  isplitr [Ho]
  · rw [chB_empty]
    iapply (Entails.of_eq pointsTo_empty.symm)
    iempintro
  iexact Ho

/-- The whole program. -/
theorem tile_runs (i : grid0.Coords) :
    (given xp b0 d c s O W (bOf i) (cOf i) : sProp 𝕄) ⊢ runs defs d c s (prog SC i) fun _ => done xp b0 d c s O W (bOf i) (cOf i) := by
  have hb := bOf_lt i
  have hc := cOf_le i
  unfold given prog
  iintro ⟨#Hm, HA, HB, ⟨%g, HX⟩, ⟨%f, HY⟩, ⟨Hi₀, Hi₁, Hs₀, Hs₁⟩, Ho⟩
  ihave HX := (X_split g) $$ HX
  icases HX with ⟨HX₀, HX₁⟩
  ihave HA := (A_split (show cOf i ≤ cOf i + 4 by omega) (show cOf i + 4 ≤ cOf i + 96 by omega) xp) $$ HA
  icases HA with ⟨HA₀, HA⟩
  ihave HA := (A_split (show cOf i + 4 ≤ cOf i + 4 + 4 by omega) (show cOf i + 4 + 4 ≤ cOf i + 96 by omega) xp) $$ HA
  icases HA with ⟨HA₁, HA⟩
  iapply (in_start xp _ hb (by omega) (off1_lo i) _) $$ [HA₀ HX₀ Hi₀]
  · isplitl [HA₀]; · iexact HA₀
    isplitl [HX₀] <;> iassumption
  iintro Hi₀
  iapply (in_start xp _ hb (by omega) (off1_hi i) _) $$ [HA₁ HX₁ Hi₁]
  · isplitl [HA₁]; · iexact HA₁
    isplitl [HX₁] <;> iassumption
  iintro Hi₁
  iapply (loop_rule k0_t1_loop k0_t1_ok (clr d c s) clear_trip) $$ [HY]
  · unfold clr
    iexists f
    isplitr; · ipureintro; intro j hj; omega
    iexact HY
  rw [trips₁]
  unfold clr
  iintro ⟨%f', %hf', HY⟩
  iapply (first_part xp b0 i hf') $$ [Hi₀ Hi₁ HA HB HY Hs₀ Hs₁ Ho]
  · isplitr; · iexact Hm
    isplitl [Hi₀]; · iexact Hi₀
    isplitl [Hi₁]; · iexact Hi₁
    isplitl [HA]; · iexact HA
    isplitl [HB]; · iexact HB
    isplitl [HY]; · iexact HY
    isplitl [Hs₀]; · iexact Hs₀
    isplitl [Hs₁] <;> iassumption
  iintro H
  iapply (loop_rule k0_t2_loop k0_t2_ok (fun t => keep xp b0 d c s O W (bOf i) (cOf i) (cOf i + 8 * t)) (steady_trip xp b0 i)) $$ H
  rw [trips₂]
  iintro H
  iapply (last_part xp b0 i) $$ H

end Trip

end Cert.Proof.Weave
-- ==== Proof.Walk.lean ====
/-
  The printed program is `prog`: followed row by row.
-/
module

public import proofs.«01_k».proof.Proof.Program

@[expose] public section

noncomputable section

namespace Cert.Proof.Weave
open Idealize.SL.Sem Idealize.ShloMosaic Cert.KernelIdeal Cert.KernelIdeal.Gen

variable {F : FTy → Type} [FloatOps F]
variable {c : Fin τ.nSC} {s : Fin τ.nSub}

theorem loop3 {α : Type} {E : Type → Type} {β₁ β₂ : Type} {l : Scf.Loop 32} {ok ok' : l.OK} {b b' : Fin l.trips → PUnit → Prog E PUnit}
    {k : Prog E α} {g₀ : PUnit → Prog E β₁} {g₁ : β₁ → Prog E β₂} {g₂ : β₂ → Prog E α} (hb : ∀ t, b t ⟨⟩ = b' t ⟨⟩)
    (hk : k = Prog.bind (Prog.bind (g₀ ⟨⟩) g₁) g₂) :
    (Scf.Loop.for l ok ⟨⟩ b >>= fun _ => k) = Prog.bind (Prog.bind (Prog.bind (Scf.Loop.for l ok' ⟨⟩ b') g₀) g₁) g₂ := by
  have e : b = b' := funext fun t => funext fun _ => hb t
  subst e
  subst hk
  exact ((congrArg (fun p => p >>= g₂) (Prog.bind_assoc (Scf.Loop.for l ok ⟨⟩ b) g₀ g₁)).trans (Prog.bind_assoc _ _ _)).symm

theorem scat_eq {p n : Nat} {k k' : Pr F c s} (h : row p ((127 - n) / 32) ((127 - n) % 32) (scat p n k) = k') : scat p (n + 1) k = k' := h
theorem zrow_eq {t : BitVec 32} {n : Nat} {k k' : Pr F c s} (h : zst ((47 - n) / 24) ((47 - n) % 24 / 6) (16 * ((47 - n) % 6)) t (zrow t n k) = k') :
  zrow t (n + 1) k = k' := h

set_option maxHeartbeats 4000000 in
/-- The printed program of a vector subcore is `prog`. -/
theorem walk (i : grid0.Coords) (h2 h3 h4 h5) : cc0__weave_sc (F := F) i A h2 B h3 X h4 Y h5 cc0_scratch2 cc0_scratch3 cc0_scratch4 cc0_scratch5
    = prog (fun p _ k => scat p 128 k) i := by
  symm
  unfold prog
  refine op_eq (op_eq (loop3 (fun t => ?_) ?_))
  · iterate 48 refine zrow_eq (zst_eq ?_)
    rfl
  unfold first
  refine op_eq ?_
  iterate 128 refine scat_eq (row_eq ?_)
  refine op_eq (op_eq (op_eq ?_))
  iterate 128 refine scat_eq (row_eq ?_)
  refine op_eq (op_eq (loop3 (fun t => ?_) ?_))
  · unfold steady
    refine op_eq (op_eq ?_)
    iterate 128 refine scat_eq (row_eq ?_)
    refine op_eq (op_eq (op_eq (op_eq ?_)))
    iterate 128 refine scat_eq (row_eq ?_)
    refine op_eq (op_eq ?_)
    rfl
  unfold last
  refine op_eq (op_eq ?_)
  iterate 128 refine scat_eq (row_eq ?_)
  refine op_eq (op_eq (op_eq ?_))
  iterate 128 refine scat_eq (row_eq ?_)
  refine op_eq (op_eq (op_eq ?_))
  rfl

end Cert.Proof.Weave
-- ==== Proof.Launch.lean ====
/-
  The launch: what the call hands each vector subcore of the padded input and the padded output and takes back, the host operations
  around the call, and the run of the whole program.
-/
module

public import proofs.«01_k».proof.Proof.Tile
public import proofs.«01_k».proof.Proof.Walk
public import Idealize.ShloMosaic.Lib.Pipeline.Frame

@[expose] public section

noncomputable section

namespace Cert.Proof.Weave
open Cert.KernelIdeal Cert.KernelIdeal.Gen Cert.Proof.Checked
open Idealize.ShloMosaic
open Idealize.ShloMosaic.SparseCore.Cfg (HIx Pay ownBufs ownSems0 ownCells ownRefs mem_ownCells mem_ownRefs)
open Idealize.ShloMosaic.StableHlo (held held_sub_split held_congr wp_hlo_within nullary unary binary)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The checked program in the program's place -/

/-- A vector subcore's coordinates in the grid. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's table with the checked program for the vector subcores. -/
def defsC [FloatOps F] : Defs nD τ sig (Elt F) Λ₀
  | .scVector c s, 0, _ => SparseCore.onTile hcore0 hsub0 (fun c s => prog SC (coordsV c s)) ⟨⟩ c s
  | _, ℓ, a => .op (.call ℓ a) .ret

theorem defs₀_vector [FloatOps F] (c : Fin τ.nSC) (s : Fin τ.nSub) (ℓ : Λ₀.Label) (a) :
    defs₀ (F := F) (.scVector c s) ℓ a
      = SparseCore.onTile hcore0 hsub0 (fun c s => cc0__weave_sc (coordsV c s) A (Memref.isWhole_whole _) B (Memref.isWhole_whole _)
          X (Memref.isWhole_whole _) Y (Memref.isWhole_whole _) cc0_scratch2 cc0_scratch3 cc0_scratch4 cc0_scratch5) ⟨⟩ c s := by
  fin_cases ℓ; rfl

theorem defsC_vector [FloatOps F] (c : Fin τ.nSC) (s : Fin τ.nSub) (ℓ : Λ₀.Label) (a) :
    defsC (F := F) (.scVector c s) ℓ a = SparseCore.onTile hcore0 hsub0 (fun c s => prog SC (coordsV c s)) ⟨⟩ c s := by
  fin_cases ℓ; rfl

theorem chk_onTile [FloatOps F] {nc ns : Nat} {hc : nc ≤ τ.nSC} {hs : ns ≤ τ.nSub}
    {f g : (c : Fin nc) → (s : Fin ns) → Prog (TpuEff nD τ sig (Elt F) Λ₀ (.scVector (c.castLE hc) (s.castLE hs))) PUnit}
    (h : ∀ d c s, Chk (thr d (c.castLE hc) (s.castLE hs)) (f c s) (g c s)) (d : Dev nD) (c : Fin τ.nSC) (s : Fin τ.nSub) :
    Chk (thr d c s) (SparseCore.onTile hc hs f ⟨⟩ c s) (SparseCore.onTile hc hs g ⟨⟩ c s) := by
  unfold SparseCore.onTile
  by_cases e : c.val < nc ∧ s.val < ns
  · rw [dif_pos e, dif_pos e]; exact h d ⟨c.val, e.1⟩ ⟨s.val, e.2⟩
  · rw [dif_neg e, dif_neg e]; exact Chk.refl _

theorem chk_of_eq {t : Thread nD τ} {p q r : Prog (TpuEff nD τ sig (Elt F) Λ₀ t.2) PUnit} (e : p = q) (h : Chk t q r) : Chk t p r := e ▸ h

theorem chk_tables [FloatOps F] : ChkDefs (defs₀ (F := F)) defsC := by
  rintro ⟨d, pr⟩ ℓ a
  cases pr with
  | scVector c s =>
    rw [defs₀_vector, defsC_vector]
    refine chk_onTile (fun d c s => ?_) d c s
    exact chk_of_eq (walk (coordsV c s) _ _ _ _) (chk_prog (coordsV c s))
  | _ => exact Chk.refl _

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defsC
abbrev 𝒱 : Variants := 𝒱₀.lift
abbrev v₀ : 𝒱.V := Sum.inl none

theorem chk_defs [FloatOps F] : ChkDefs (Cert.KernelIdeal.defs (F := F)) ((K (F := F)).defs D) :=
  ChkDefs.sparseCore _ (ChkDefs.pipeline chk_tables)

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- Where the launch's handshakes lie among the proof's resources. -/
abbrev EH : Emb UH (MT nD τ sig (HIx 1) (Elt F) ℕ UU ℕ) := embL

/-! ## Who gets which channels -/

abbrev aLoc (d : Dev nD) : Loc nD τ sig := (SparseCore.T d).loc main_v6
abbrev bLoc (d : Dev nD) : Loc nD τ sig := (SparseCore.T d).loc main_v7

/-- The channels of subcore `s` of core `c`, and of core `c`. -/
def tA (c s : Nat) : Finset S8x384x32x128.Idx := chA ((2 * s + c) / 4) ((2 * s + c) % 4 * 96) ((2 * s + c) % 4 * 96 + 96)
def tB (c s : Nat) : Finset S8x384x96x128.Idx := chB ((2 * s + c) / 4) ((2 * s + c) % 4 * 96) ((2 * s + c) % 4 * 96 + 96)
def kA (c : Nat) : Finset S8x384x32x128.Idx := Finset.univ.biUnion fun s : Fin 16 => tA c s.val
def kB (c : Nat) : Finset S8x384x96x128.Idx := Finset.univ.biUnion fun s : Fin 16 => tB c s.val

theorem mem_tA {c s : Nat} {j : S8x384x32x128.Idx} : j ∈ tA c s ↔ 4 * (j 0).val + (j 1).val / 96 = 2 * s + c := by
  have h1 : (j 1).val < 384 := (j 1).isLt
  unfold tA; rw [mem_chA]; omega
theorem mem_tB {c s : Nat} {j : S8x384x96x128.Idx} : j ∈ tB c s ↔ 4 * (j 0).val + (j 1).val / 96 = 2 * s + c := by
  have h1 : (j 1).val < 384 := (j 1).isLt
  unfold tB; rw [mem_chB]; omega

theorem tA_disjoint (c : Nat) : ∀ s ∈ (Finset.univ : Finset (Fin 16)), ∀ s' ∈ (Finset.univ : Finset (Fin 16)), s ≠ s' → Disjoint (tA c s.val) (tA c s'.val) :=
  fun s _ s' _ h => Finset.disjoint_left.mpr fun j h₁ h₂ => h (Fin.ext (by rw [mem_tA] at h₁ h₂; omega))
theorem tB_disjoint (c : Nat) : ∀ s ∈ (Finset.univ : Finset (Fin 16)), ∀ s' ∈ (Finset.univ : Finset (Fin 16)), s ≠ s' → Disjoint (tB c s.val) (tB c s'.val) :=
  fun s _ s' _ h => Finset.disjoint_left.mpr fun j h₁ h₂ => h (Fin.ext (by rw [mem_tB] at h₁ h₂; omega))

theorem kA_disjoint : ∀ c ∈ (Finset.univ : Finset (Fin 2)), ∀ c' ∈ (Finset.univ : Finset (Fin 2)), c ≠ c' → Disjoint (kA c.val) (kA c'.val) :=
  fun c _ c' _ h => Finset.disjoint_left.mpr fun j h₁ h₂ => h (Fin.ext (by
    obtain ⟨s, -, h₁⟩ := Finset.mem_biUnion.mp h₁
    obtain ⟨s', -, h₂⟩ := Finset.mem_biUnion.mp h₂
    rw [mem_tA] at h₁ h₂; omega))
theorem kB_disjoint : ∀ c ∈ (Finset.univ : Finset (Fin 2)), ∀ c' ∈ (Finset.univ : Finset (Fin 2)), c ≠ c' → Disjoint (kB c.val) (kB c'.val) :=
  fun c _ c' _ h => Finset.disjoint_left.mpr fun j h₁ h₂ => h (Fin.ext (by
    obtain ⟨s, -, h₁⟩ := Finset.mem_biUnion.mp h₁
    obtain ⟨s', -, h₂⟩ := Finset.mem_biUnion.mp h₂
    rw [mem_tB] at h₁ h₂; omega))

theorem kA_cover : ((Finset.univ : Finset (Fin 2)).biUnion fun c => kA c.val) = Finset.univ :=
  Finset.eq_univ_of_forall fun j => by
    have h0 : (j 0).val < 8 := (j 0).isLt
    have h1 : (j 1).val < 384 := (j 1).isLt
    refine Finset.mem_biUnion.mpr ⟨⟨(4 * (j 0).val + (j 1).val / 96) % 2, by omega⟩, Finset.mem_univ _,
      Finset.mem_biUnion.mpr ⟨⟨(4 * (j 0).val + (j 1).val / 96) / 2, by omega⟩, Finset.mem_univ _, mem_tA.mpr ?_⟩⟩
    show _ = 2 * ((4 * (j 0).val + (j 1).val / 96) / 2) + (4 * (j 0).val + (j 1).val / 96) % 2
    omega
theorem kB_cover : ((Finset.univ : Finset (Fin 2)).biUnion fun c => kB c.val) = Finset.univ :=
  Finset.eq_univ_of_forall fun j => by
    have h0 : (j 0).val < 8 := (j 0).isLt
    have h1 : (j 1).val < 384 := (j 1).isLt
    refine Finset.mem_biUnion.mpr ⟨⟨(4 * (j 0).val + (j 1).val / 96) % 2, by omega⟩, Finset.mem_univ _,
      Finset.mem_biUnion.mpr ⟨⟨(4 * (j 0).val + (j 1).val / 96) / 2, by omega⟩, Finset.mem_univ _, mem_tB.mpr ?_⟩⟩
    show _ = 2 * ((4 * (j 0).val + (j 1).val / 96) / 2) + (4 * (j 0).val + (j 1).val / 96) % 2
    omega

abbrev aPts (d : Dev nD) (S : Finset S8x384x32x128.Idx) (f : Vec F S8x384x32x128 .f32) : sProp 𝕄 := aLoc d ↦[S]{fullShare} f
abbrev bPts (d : Dev nD) (S : Finset S8x384x96x128.Idx) (f : Vec F S8x384x96x128 .f32) : sProp 𝕄 := bLoc d ↦[S]{fullShare} f

theorem aPts_tiles (d : Dev nD) (c : Nat) (f : Vec F S8x384x32x128 .f32) :
    (aPts d (kA c) f : sProp 𝕄) = bigSep Finset.univ fun s : Fin 16 => aPts d (tA c s.val) f :=
  pointsTo_biUnion Finset.univ (ℓ := aLoc d) (fun s : Fin 16 => tA c s.val) (tA_disjoint c)
theorem bPts_tiles (d : Dev nD) (c : Nat) (f : Vec F S8x384x96x128 .f32) :
    (bPts d (kB c) f : sProp 𝕄) = bigSep Finset.univ fun s : Fin 16 => bPts d (tB c s.val) f :=
  pointsTo_biUnion Finset.univ (ℓ := bLoc d) (fun s : Fin 16 => tB c s.val) (tB_disjoint c)
theorem aPts_cores (d : Dev nD) (f : Vec F S8x384x32x128 .f32) :
    (aPts d Finset.univ f : sProp 𝕄) = bigSep Finset.univ fun c : Fin 2 => aPts d (kA c.val) f := by
  rw [← kA_cover]
  exact pointsTo_biUnion Finset.univ (ℓ := aLoc d) (fun c : Fin 2 => kA c.val) kA_disjoint
theorem bPts_cores (d : Dev nD) (f : Vec F S8x384x96x128 .f32) :
    (bPts d Finset.univ f : sProp 𝕄) = bigSep Finset.univ fun c : Fin 2 => bPts d (kB c.val) f := by
  rw [← kB_cover]
  exact pointsTo_biUnion Finset.univ (ℓ := bLoc d) (fun c : Fin 2 => kB c.val) kB_disjoint

/-! ## What the call hands out and takes back -/

variable [FloatOps F]
variable (xp : Dev nD → Vec F S8x384x32x128 .f32) (b0 : Dev nD → Vec F S8x384x96x128 .f32)

/-- Channels of the padded input and of the padded output out, the same channels of the padded output back, woven. -/
def P : (K (F := F)).Pay (nD := nD) (Val := Elt F) (Name := ℕ) (U := UU) where
  st := fun _ d c => iprop(aPts d (kA c.val) (xp d) ∗ bPts d (kB c.val) (b0 d))
  dn := fun _ d c => bPts d (kB c.val) (outW (xp d) (b0 d))
  go := fun _ d c s => iprop(aPts d (tA c.val s.val) (xp d) ∗ bPts d (tB c.val s.val) (b0 d))
  td := fun _ d c s => bPts d (tB c.val s.val) (outW (xp d) (b0 d))
  x := fun _ _ => iprop(emp)

instance P_storable : (P xp b0).IsStorable where
  st _ d c := by unfold P; infer_instance
  dn _ d c := by unfold P; infer_instance
  go _ d c s := by unfold P; infer_instance
  td _ d c s := by unfold P; infer_instance

theorem vecSplit : (K (F := F)).VecSplit' (P xp b0) 0 := by
  intro d c
  show iprop(aPts d (kA c.val) (xp d) ∗ bPts d (kB c.val) (b0 d)) ⊢ |={Set.univ}=> iprop(
      (bigSep Finset.univ fun s : Fin 16 => iprop(aPts d (tA c.val s.val) (xp d) ∗ bPts d (tB c.val s.val) (b0 d)))
      ∗ ((bigSep Finset.univ fun s : Fin 16 => bPts d (tB c.val s.val) (outW (xp d) (b0 d))) -∗ bPts d (kB c.val) (outW (xp d) (b0 d))))
  rw [bigSep_sep', aPts_tiles, bPts_tiles d c.val (b0 d), bPts_tiles d c.val (outW (xp d) (b0 d))]
  iintro H; imodintro
  isplitl [H]; · iexact H
  iintro H; iexact H

/-! ## A vector subcore's task -/

section Task

variable (d : Dev nD) (c : Fin τ.nSC) (s : Fin τ.nSub)

omit [FloatOps F] in
/-- The four semaphores are among the subcore's own. -/
theorem ownSems0_split :
    (ownSems0 (thr d c s) : sProp 𝕄) = iprop(idle d c s cc0_scratch2.sem ∗ idle d c s cc0_scratch3.sem ∗ idle d c s cc0_scratch4.sem
      ∗ idle d c s cc0_scratch5.sem
      ∗ bigSep (((((ownCells (thr d c s)).erase (thr d c s, .dma cc0_scratch2.sem)).erase (thr d c s, .dma cc0_scratch3.sem)).erase
          (thr d c s, .dma cc0_scratch4.sem)).erase (thr d c s, .dma cc0_scratch5.sem)) fun g => semVal g 0) := by
  have own : ∀ q : SemLoc sig, q.isScoped .scVector = true → ((thr d c s, q) : GSem nD τ sig) ∈ ownCells (thr d c s) :=
    fun q h => mem_ownCells.mpr ⟨rfl, h⟩
  have ne : ∀ {p q : SemLoc sig}, p ≠ q → ((thr d c s, p) : GSem nD τ sig) ≠ (thr d c s, q) := fun h e => h (Prod.mk.inj e).2
  unfold SparseCore.Cfg.ownSems0
  rw [SparseCore.bigSep_erase' (own (.dma cc0_scratch2.sem) (by decide)),
    SparseCore.bigSep_erase' (Finset.mem_erase.mpr ⟨ne (by decide), own (.dma cc0_scratch3.sem) (by decide)⟩),
    SparseCore.bigSep_erase' (Finset.mem_erase.mpr ⟨ne (by decide), Finset.mem_erase.mpr ⟨ne (by decide), own (.dma cc0_scratch4.sem) (by decide)⟩⟩),
    SparseCore.bigSep_erase' (Finset.mem_erase.mpr ⟨ne (by decide), Finset.mem_erase.mpr ⟨ne (by decide),
      Finset.mem_erase.mpr ⟨ne (by decide), own (.dma cc0_scratch5.sem) (by decide)⟩⟩⟩)]

omit [FloatOps F] in
/-- The two scratch buffers are among the subcore's own. -/
theorem ownBufs_split :
    (ownBufs (thr d c s) : sProp 𝕄) = iprop((∃ g, Xt d c s Finset.univ g) ∗ (∃ f, Yt d c s fullShare Finset.univ f)
      ∗ bigSep (((ownRefs (τ := τ) (.scVector c s)).erase ((Proc.scVector c s).devRef cc0_scratch0)).erase ((Proc.scVector c s).devRef cc0_scratch1))
          fun b => iprop(∃ f, ((d, b) : Loc nD τ sig) ↦{fullShare} f)) := by
  unfold SparseCore.Cfg.ownBufs
  refine (SparseCore.bigSep_erase' (SparseCore.Cfg.mem_ownRefs_of_owner (p := Proc.scVector c s)
    (b := (Proc.scVector c s).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c s) (b := (Proc.scVector c s).devRef cc0_scratch1) rfl⟩)]
  rfl

end Task

theorem task (d : Dev nD) (c : Fin τ.nSC) (s : Fin τ.nSub) (i : grid0.Coords) (O : CellTallies nD τ sig (HIx 1)) (W : Waits sig (HIx 1))
    (hO : ∀ g, O g none = 0) :
    iprop(levAts (K (F := F)).L (K (F := F)).lev ∗ emp
        ∗ (aPts d (tA (i 0).val (i 1).val) (xp d) ∗ bPts d (tB (i 0).val (i 1).val) (b0 d))
        ∗ scopedBufs (thr d c s) ∗ scopedSems0 (thr d c s) ∗ owes (thr d c s) O W)
      ⊢ runs (defsC (F := F)) d c s (prog SC i) fun _ =>
          iprop(bPts d (tB (i 0).val (i 1).val) (outW (xp d) (b0 d)) ∗ scopedBufs (thr d c s) ∗ scopedSems0 (thr d c s)
            ∗ ∃ W', ⌜∀ p ∈ W', p ∈ W ∨ p.2 = none ∨ p.2 = some (0 : Fin 1)⌝ ∗ owes (thr d c s) O W') := by
  rw [(K (F := F)).scopedBufs_V facts d c s, SparseCore.Cfg.scopedSems0_V (Val := Elt F) d c s, ownSems0_split, ownBufs_split]
  iintro ⟨#Hlv, -, ⟨Ha, Hb⟩, ⟨Hx, Hy, Hbufs⟩, ⟨H₂, H₃, H₄, H₅, Hsems⟩, HO⟩
  ihave Hmw := ((K (F := F)).mayWaits_none (thr := thr d c s) hO) $$ Hlv
  iapply (wp_wand frame _ _) $$ [Hmw Ha Hb Hx Hy H₂ H₃ H₄ H₅ HO]
  · iapply (tile_runs (xp d) (b0 d) i)
    unfold given
    isplitl [Hmw]; · iexact Hmw
    isplitl [Ha]; · iexact Ha
    isplitl [Hb]; · iexact Hb
    isplitl [Hx]; · iexact Hx
    isplitl [Hy]; · iexact Hy
    isplitl [H₂ H₃ H₄ H₅]
    · isplitl [H₂]; · iexact H₂
      isplitl [H₃]; · iexact H₃
      isplitl [H₄] <;> iassumption
    unfold ow
    iexists W; isplitr
    · ipureintro; exact fun p hp => .inl hp
    · iexact HO
  iintro %_ H
  unfold done ow
  icases H with ⟨Hb, Hx, Hy, ⟨H₂, H₃, H₄, H₅⟩, %W', %hW', HO⟩
  isplitl [Hb]; · iexact Hb
  isplitl [Hx Hy Hbufs]
  · isplitl [Hx]; · iexact Hx
    isplitl [Hy] <;> iassumption
  isplitl [H₂ H₃ H₄ H₅ Hsems]
  · isplitl [H₂]; · iexact H₂
    isplitl [H₃]; · iexact H₃
    isplitl [H₄]; · iexact H₄
    isplitl [H₅] <;> iassumption
  iexists W'; isplitr
  · ipureintro; exact fun p hp => (hW' p hp).imp_right Or.inl
  · iexact HO

theorem tileObl : (K (F := F)).TileObl D 𝒱 (P xp b0) v₀ 0 := by
  intro d c s O W hO _ _
  simp only [show (P xp b0).ox = fun _ _ => 0 from rfl, add_zero]
  change _ ⊢ wp _ _ _ (Pipeline.liftProg (defsC (F := F) (.scVector ((K (F := F)).core 0 c) ((K (F := F)).sub 0 s)) 0 ())) _
  refine BI.Entails.trans ?_ (Pipeline.wp_liftProg (D (F := F)) (Pipeline.defs_kernel pcfgs defsC) 𝒱₀ _ Set.univ none _ _)
  have hc : ((K (F := F)).core 0 c).val < grid0.bound 0 ∧ ((K (F := F)).sub 0 s).val < grid0.bound 1 := ⟨c.isLt, s.isLt⟩
  rw [defsC_vector]; simp only [SparseCore.onTile, hc, and_self, ↓reduceDIte]
  exact task xp b0 d _ _ (coordsV ⟨_, hc.1⟩ ⟨_, hc.2⟩) O W hO

end Cert.Proof.Weave
-- ==== Proof.Whole.lean ====
/-
  The whole program's run: the host operations before the call, the call, the slice after it; what the result holds and that the argument
  is unchanged.
-/
module

public import proofs.«01_k».proof.Proof.Launch

@[expose] public section

noncomputable section

namespace Cert.Proof.Weave
open Cert.KernelIdeal Cert.KernelIdeal.Gen Cert.Proof.Checked
open Idealize.ShloMosaic
open Idealize.ShloMosaic.SparseCore.Cfg (HIx Pay)
open Idealize.ShloMosaic.StableHlo (held held_sub_split held_congr wp_hlo_within nullary unary binary after seq)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- Those before the call. -/
abbrev before : List (HloOp τ sig (Elt F)) :=
  [ nullary main_v0 (iotaInDim S32x128 32 0),
    nullary main_v1 (iotaInDim S32x128 32 1),
    nullary main_c (constantI S_ 32 0#32),
    unary main_c main_v2 (broadcastInDim S32x128 ![] bcast_S_S32x128 : (⟨S_, .i32⟩ : BufTy).Contents (Elt F) → (⟨S32x128, .i32⟩ : BufTy).Contents (Elt F)),
    binary main_v0 main_v2 main_v3 (addi : (⟨S32x128, .i32⟩ : BufTy).Contents (Elt F) → (⟨S32x128, .i32⟩ : BufTy).Contents (Elt F) → (⟨S32x128, .i32⟩ : BufTy).Contents (Elt F)),
    binary main_v3 main_v1 main_v4 (cmpi .eq : (⟨S32x128, .i32⟩ : BufTy).Contents (Elt F) → (⟨S32x128, .i32⟩ : BufTy).Contents (Elt F) → (⟨S32x128, .i1⟩ : BufTy).Contents (Elt F)),
    unary main_v4 main_v5 (uitofp .f32 : (⟨S32x128, .i1⟩ : BufTy).Contents (Elt F) → (⟨S32x128, .f32⟩ : BufTy).Contents (Elt F)),
    binary main_arg0 main_v5 main_v6 ((fun l r => Host.dotGeneral dot_S8x384x32x32_S32x128_S8x384x32x128_3_0_012_1_n_n (some .fp32) l r) : (⟨S8x384x32x32, .f32⟩ : BufTy).Contents (Elt F) → (⟨S32x128, .f32⟩ : BufTy).Contents (Elt F) → (⟨S8x384x32x128, .f32⟩ : BufTy).Contents (Elt F)) ]

theorem before_sub : (before (F := F)).Forall fun op => op.bufs ⊆ StableHlo.tcRefs τ sig := by
  simp [List.Forall]
theorem before_fresh : (before (F := F)).Forall fun op => op.fresh = ∅ := ⟨rfl, rfl, rfl, rfl, rfl, rfl, rfl, rfl⟩

/-- The one after it. -/
abbrev opSlice : HloOp τ sig (Elt F) :=
  unary main_v7 main_v8 ((extractStridedSlice S8x384x94x94 ![0, 0, 0, 0] · slices_S8x384x96x128_S8x384x94x94_0_0_0_0) : (⟨S8x384x96x128, .f32⟩ : BufTy).Contents (Elt F) → (⟨S8x384x94x94, .f32⟩ : BufTy).Contents (Elt F))

theorem main_eq (d : Dev nD) : main (F := F) d = seq before >>= fun _ => (K (F := F)).run d 0 >>= fun _ => hlo rfl opSlice (fun _ => .ret ⟨⟩) := by
  rfl

abbrev x' : DevRef τ sig := Proc.devRef .tc (main_arg0 : Ref sig .tc)
abbrev a' : DevRef τ sig := Proc.devRef .tc (main_v6 : Ref sig .tc)
abbrev b' : DevRef τ sig := Proc.devRef .tc (main_v7 : Ref sig .tc)
abbrev r' : DevRef τ sig := Proc.devRef .tc (main_v8 : Ref sig .tc)
abbrev xLoc (d : Dev nD) : Loc nD τ sig := (SparseCore.T d).loc main_arg0
abbrev rLoc (d : Dev nD) : Loc nD τ sig := (SparseCore.T d).loc main_v8

variable (m : (ℓ : Loc nD τ sig) → Buf (Elt F) ℓ) (ρ : Dev nD → PrngReg)

/-- The matrix the input is padded by, as the program computes it: one where the column is the row, zero elsewhere. -/
def eye : Vec F S32x128 .f32 := uitofp .f32 (cmpi .eq (addi (iotaInDim S32x128 32 0) (broadcastInDim S32x128 ![] bcast_S_S32x128 (constantI S_ 32 0#32))) (iotaInDim S32x128 32 1))

/-- The padded input; the padded output at the launch; the result. -/
def padX (x : Vec F S8x384x32x32 .f32) : Vec F S8x384x32x128 .f32 := Host.dotGeneral dot_S8x384x32x32_S32x128_S8x384x32x128_3_0_012_1_n_n (some .fp32) x eye
def xpOf (d : Dev nD) : Vec F S8x384x32x128 .f32 := padX (m (xLoc d))
def b0Of (d : Dev nD) : Vec F S8x384x96x128 .f32 := m (bLoc d)
def resOf (d : Dev nD) : Vec F S8x384x94x94 .f32 :=
  extractStridedSlice S8x384x94x94 ![0, 0, 0, 0] (outW (xpOf m d) (b0Of m d)) slices_S8x384x96x128_S8x384x94x94_0_0_0_0

/-- The launch contents; those before the call; those after it. -/
def V0 (d : Dev nD) : Valuation τ sig (Elt F) := fun b => m (d, b)
def V1 (d : Dev nD) : Valuation τ sig (Elt F) := after before (V0 m d)
def V2 (d : Dev nD) : Valuation τ sig (Elt F) := Function.update (V1 m d) b' (outW (xpOf m d) (b0Of m d))

theorem V1_a (d : Dev nD) : V1 m d a' = xpOf m d := by
  unfold V1; after_results; rfl
theorem V1_b (d : Dev nD) : V1 m d b' = b0Of m d := by
  unfold V1; after_results; rfl
theorem V1_x (d : Dev nD) : V1 m d x' = m (xLoc d) := by
  unfold V1; after_results; rfl
theorem V2_b (d : Dev nD) : V2 m d b' = outW (xpOf m d) (b0Of m d) := Function.update_self _ _ _
theorem V2_x (d : Dev nD) : V2 m d x' = m (xLoc d) := (Function.update_of_ne (show x' ≠ b' by decide) _ _).trans (V1_x m d)

/-! ## The arrays held -/

/-- The arrays the call takes, and the rest. -/
abbrev Sab : Finset (DevRef τ sig) := {a', b'}
abbrev Srest : Finset (DevRef τ sig) := ucRefs τ sig \ Sab

theorem Sab_sub : Sab ⊆ ucRefs τ sig := by decide

theorem held_V1 (d : Dev nD) : (held (SparseCore.T d) (ucRefs τ sig) (V1 m d) : sProp 𝕄)
    = iprop((aPts d Finset.univ (xpOf m d) ∗ bPts d Finset.univ (b0Of m d)) ∗ held (SparseCore.T d) Srest (V1 m d)) := by
  rw [held_sub_split _ Sab_sub]
  refine congrArg (fun p : sProp 𝕄 => iprop(p ∗ held (SparseCore.T d) Srest (V1 m d))) ?_
  unfold held Sab
  rw [SparseCore.bigSep_insert' (by decide), bigSep_singleton, V1_a, V1_b]

abbrev Sxr : Finset (DevRef τ sig) := insert b' Srest

theorem held_V2 (d : Dev nD) : (held (SparseCore.T d) Sxr (V2 m d) : sProp 𝕄)
    = iprop(bPts d Finset.univ (outW (xpOf m d) (b0Of m d)) ∗ held (SparseCore.T d) Srest (V1 m d)) := by
  have e : (held (SparseCore.T d) Srest (V2 m d) : sProp 𝕄) = held (SparseCore.T d) Srest (V1 m d) :=
    held_congr _ fun b hb => Function.update_of_ne (fun e => absurd (e ▸ hb) (show b' ∉ Srest by decide)) _ _
  rw [← e]
  unfold held Sxr
  rw [SparseCore.bigSep_insert' (by decide), V2_b]

abbrev xPts (d : Dev nD) : sProp 𝕄 := xLoc d ↦{fullShare} m (xLoc d)
abbrev rPts (d : Dev nD) : sProp 𝕄 := rLoc d ↦{fullShare} (resOf m d : Buf (Elt F) (rLoc d))

theorem V3_r (d : Dev nD) : (opSlice (F := F)).result (V2 m d) r' = resOf m d := by
  unfold resOf
  rw [← V2_b]
  exact StableHlo.unary_result ..
theorem V3_x (d : Dev nD) : (opSlice (F := F)).result (V2 m d) x' = m (xLoc d) :=
  ((opSlice (F := F)).result_of_not_mem (V2 m d) (b := x') (show x' ∉ ({r'} : Finset (DevRef τ sig)) by decide)).trans (V2_x m d)

theorem held_V3 (d : Dev nD) : (held (SparseCore.T d) Sxr ((opSlice (F := F)).result (V2 m d)) : sProp 𝕄)
    = iprop((xPts m d ∗ rPts m d) ∗ held (SparseCore.T d) (Sxr \ {x', r'}) ((opSlice (F := F)).result (V2 m d))) := by
  rw [held_sub_split _ (show ({x', r'} : Finset (DevRef τ sig)) ⊆ Sxr by decide)]
  refine congrArg (fun p : sProp 𝕄 => iprop(p ∗ held (SparseCore.T d) (Sxr \ {x', r'}) ((opSlice (F := F)).result (V2 m d)))) ?_
  unfold held
  rw [SparseCore.bigSep_insert' (by decide), bigSep_singleton, V3_x, V3_r]

/-! ## The program -/

abbrev PP : (K (F := F)).Pay (nD := nD) (Val := Elt F) (Name := ℕ) (U := UU) := P (xpOf m) (b0Of m)

theorem st_eq (d : Dev nD) : (bigSep Finset.univ fun c : Fin ((K (F := F)).nCore 0) => (PP m).st 0 d c)
    = iprop(aPts d Finset.univ (xpOf m d) ∗ bPts d Finset.univ (b0Of m d)) := by
  rw [aPts_cores, bPts_cores, ← bigSep_sep']; rfl
theorem dn_eq (d : Dev nD) : (bigSep Finset.univ fun c : Fin ((K (F := F)).nCore 0) => (PP m).dn 0 d c)
    = bPts d Finset.univ (outW (xpOf m d) (b0Of m d)) := by
  rw [bPts_cores]; rfl

/-- What the program leaves: the argument as it was, the result. -/
abbrev FIN (d : Dev nD) : sProp 𝕄 := iprop(xPts m d ∗ rPts m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d), main_eq]
  iintro ⟨#Hctx, Hst, ⟨Hb, Hheld, Hts, -⟩, -⟩
  iapply (StableHlo.wp_seq 𝒱 none Set.univ d (ucRefs τ sig) _ before
    (fun op h => sub_ucRefs op (List.forall_iff_forall_mem.mp before_sub op h)) (List.forall_iff_forall_mem.mp before_fresh) (V0 m d)) $$ [Hb Hheld]
  · isplitl [Hb] <;> iassumption
  iintro ⟨Hb, Hheld⟩
  ihave Hh := (Entails.of_eq (show held (SparseCore.T d) (ucRefs τ sig) (after before (V0 m d)) = _ from held_V1 m d)) $$ Hheld
  icases Hh with ⟨Hab, Hrest⟩
  rw [wp_bind]
  iapply ((K (F := F)).wp_run D 𝒱 (EH := EH) (P := PP m) κ d 0) $$ [Hst Hab Hb Hrest Hts]
  isplitr; · iexact Hctx
  isplitl [Hst]; · iexact Hst
  isplitl [Hab]
  · rw [st_eq]; iexact Hab
  iintro ⟨Hst, Hdn⟩
  ihave Hout := (Entails.of_eq (dn_eq m d)) $$ Hdn
  iapply (wp_hlo_within 𝒱 (SparseCore.T d) none Set.univ (op := opSlice) (S := Sxr) (show ({b', r'} : Finset (DevRef τ sig)) ⊆ Sxr by decide)
    (V := V2 m d)) $$ [Hb Hout Hrest]
  · isplitl [Hb]; · iexact Hb
    rw [held_V2]
    isplitl [Hout] <;> iassumption
  iintro ⟨Hb, Hheld⟩
  ihave Hh := (Entails.of_eq (held_V3 m d)) $$ Hheld
  icases Hh with ⟨Hfin, -⟩
  rw [wp_ret]; imodintro
  isplitl [Hst]; · iexact Hst
  isplitl [Hfin]; · iexact Hfin
  isplitl [Hb] <;> iassumption

/-- What is read of a device's final state. -/
def fq (d : Dev nD) (s' : Phys nD τ sig (Elt F)) : Prop := s'.mem.mem (rLoc d) = resOf m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := resOf m d)) $$ [HSI Hr]
  · isplitl [HSI] <;> iassumption
  icases H with %hr
  ipureintro; exact ⟨funext fun i => hr i (Finset.mem_univ i), funext fun i => hx i (Finset.mem_univ i)⟩

/-- The launch's handshakes; nothing of the kernel's own. -/
def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (PP m).x q t) := by
  unfold u₀
  iintro Hu
  ihave H := (ownU_pair _ _) $$ Hu
  icases H with ⟨HH, -⟩
  imodintro
  isplitl [HH]; · iexact HH
  isplitr
  · rw [emps]; iempintro
  · unfold PP P; dsimp only
    rw [show (bigSep Finset.univ fun _ : Thread nD τ => bigSep Finset.univ fun _ : Fin 1 => (iprop(emp) : sProp 𝕄)) = iprop(emp) from by
      rw [bigSep_congr fun _ _ => emps _, emps]]
    iempintro

/-- What the run ends with: on every device the result and the argument unchanged; every semaphore at zero. -/
def Ends (r : PUnit × MemSt nD τ sig (Elt F)) : Prop := (∀ d : Dev nD, r.2.mem (rLoc d) = resOf m d ∧ r.2.mem (xLoc d) = m (xLoc d)) ∧ r.2.sem = fun _ => 0

theorem run_checked [∀ e, Nonempty (Elt F e)] :
    θ_run ((K (F := F)).defs D) (Cert.KernelIdeal.threads (F := F)) ⟨m, fun _ => 0, ρ⟩ (Ends m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (xpOf m) (b0Of m))
    (fun q _ => match q with | 0 => SparseCore.Cfg.VecSplit.of_plain (vecSplit (xpOf m) (b0Of m)))
    m ρ main (fun _ => iprop(emp)) (FIN m) (u₀ (F := F)) (sep_elim_left.trans (hu₀ m)) (hmain m ρ) (fq m) (hfin m) (Ends m) (fun _ h hz => ⟨h, hz⟩)

/-- The program itself. -/
theorem run_main [∀ e, Nonempty (Elt F e)] :
    θ_run (Cert.KernelIdeal.defs (F := F)) (Cert.KernelIdeal.threads (F := F)) ⟨m, fun _ => 0, ρ⟩ (Ends m) :=
  θ_of_checked chk_defs _ _ (run_checked m ρ)

end Cert.Proof.Weave
-- ==== Proof.Reference.lean ====
/-
  What the reference computes: its two index arrays read at a row and a column, its gather read at an element, and so its result, the
  woven array.
-/
module

public import proofs.«01_k».proof.Proof.Gen.ReferenceIdeal.Run
public import Idealize.ShloMosaic.Lib.Pointwise.SelectCore

@[expose] public section

noncomputable section

namespace Cert.Proof.Woven
open Cert.ReferenceIdeal Cert.ReferenceIdeal.Gen
open Idealize.ShloMosaic Idealize.ShloMosaic.TcCoe

variable {F : FTy → Type} [FloatOps F]

/-- The input at four numbers, each within its extent. -/
def inAt (x : Vec F S8x384x32x32 .f32) (b ch h w : Nat) : F .f32 :=
  x fun a => ⟨(![b % 8, ch % 384, h % 32, w % 32] : Fin 4 → Nat) a, by fin_cases a <;> simp [S8x384x32x32] <;> omega⟩

/-- The woven array: the input at a third of the row and of the column where both are multiples of three, zero elsewhere. -/
def woven (x : Vec F S8x384x32x32 .f32) : Vec F S8x384x94x94 .f32 := fun j =>
  if (j 2).val % 3 = 0 ∧ (j 3).val % 3 = 0 then inAt x (j 0).val (j 1).val ((j 2).val / 3) ((j 3).val / 3) else Scalar.ofBits .f32 0x00000000#32

/-! ## The index arrays -/

section Arrays
variable {s : Shape} (hb : S_.BroadcastsInDim s ![])

/-- The divisor three, with the remainder's guard against a zero divisor. -/
abbrev three : IVec S_ 32 := select (cmpi .eq (id (constantI S_ 32 3#32)) (constantI S_ 32 0#32)) (constantI S_ 32 1#32) (id (constantI S_ 32 3#32))

/-- Where a position is a multiple of three. -/
abbrev onThird (v : IVec s 32) : IVec s 1 :=
  cmpi .eq (select
      (andi (cmpi .ne (cmpi .slt (Host.remsi v (broadcastInDim s ![] hb three)) (broadcastInDim s ![] hb (constantI S_ 32 0#32)))
          (broadcastInDim s ![] hb (cmpi .slt three (constantI S_ 32 0#32))))
        (cmpi .ne (Host.remsi v (broadcastInDim s ![] hb three)) (broadcastInDim s ![] hb (constantI S_ 32 0#32))))
      (addi (Host.remsi v (broadcastInDim s ![] hb three)) (broadcastInDim s ![] hb three))
      (Host.remsi v (broadcastInDim s ![] hb three)))
    (broadcastInDim s ![] hb (constantI S_ 32 0#32))

/-- A third of a position, rounded down. -/
abbrev third (v : IVec s 32) : IVec s 32 :=
  select (andi (cmpi .ne (signi v) (broadcastInDim s ![] hb (signi (id (constantI S_ 32 3#32)))))
      (cmpi .ne (Host.remsi v (broadcastInDim s ![] hb (id (constantI S_ 32 3#32)))) (broadcastInDim s ![] hb (constantI S_ 32 0#32))))
    (subi (Host.divsi v (broadcastInDim s ![] hb (id (constantI S_ 32 3#32)))) (broadcastInDim s ![] hb (constantI S_ 32 1#32)))
    (Host.divsi v (broadcastInDim s ![] hb (id (constantI S_ 32 3#32))))

end Arrays

abbrev rows : IVec S94x1 32 := broadcastInDim S94x1 ![0] bcast_S94_S94x1_0 (iotaInDim S94 32 0)
abbrev cols : IVec S1x94 32 := broadcastInDim S1x94 ![1] bcast_S94_S1x94_1 (iotaInDim S94 32 0)

/-- The rows' and the columns' arrays over the whole plane. -/
abbrev overR {α : Type} (v : S94x1.Idx → α) : S94x94.Idx → α := broadcastInDim S94x94 ![0, 1] bcast_S94x1_S94x94_0_1 v
abbrev overC {α : Type} (v : S1x94.Idx → α) : S94x94.Idx → α := broadcastInDim S94x94 ![0, 1] bcast_S1x94_S94x94_0_1 v

/-- Where an element is kept; what is looked up there and `e` elsewhere, a negative one taken from the end `n`. -/
abbrev keep : IVec S94x94 1 := andi (overR (onThird bcast_S_S94x1 rows)) (overC (onThird bcast_S_S1x94 cols))
abbrev source (t : IVec S94x94 32) (e : BitVec 32) : IVec S94x94 32 := select keep t (broadcastInDim S94x94 ![] bcast_S_S94x94 (id (constantI S_ 32 e)))
abbrev wrapped (n : BitVec 32) (v : IVec S94x94 32) : IVec S94x94 32 :=
  select (cmpi .slt v (broadcastInDim S94x94 ![] bcast_S_S94x94 (constantI S_ 32 0#32))) (addi v (broadcastInDim S94x94 ![] bcast_S_S94x94 (constantI S_ 32 n))) v

def rowSrc : IVec S94x94 32 := wrapped 32#32 (source (overR (third bcast_S_S94x1 rows)) 0#32)
def colSrc : IVec S94x94 32 := wrapped 64#32 (source (overC (third bcast_S_S1x94 cols)) 32#32)

def lookups : IVec S94x94x2 32 :=
  concatenate S94x94x2 2 [⟨S94x94x1, broadcastInDim S94x94x1 ![0, 1] bcast_S94x94_S94x94x1_0_1 rowSrc⟩,
    ⟨S94x94x1, broadcastInDim S94x94x1 ![0, 1] bcast_S94x94_S94x94x1_0_1 colSrc⟩] concatenates_S94x94x1_S94x94x1_S94x94x2_d2

/-- The input with as many columns of zeros after its own. -/
def doubled (x : Vec F S8x384x32x32 .f32) : Vec F S8x384x32x64 .f32 :=
  concatenate S8x384x32x64 3 [⟨S8x384x32x32, x⟩, ⟨S8x384x32x32, broadcastInDim S8x384x32x32 ![] bcast_S_S8x384x32x32 (constant S_ .f32 0x00000000#32)⟩]
    concatenates_S8x384x32x32_S8x384x32x32_S8x384x32x64_d3

theorem result_eq (m : (ℓ : Loc nD τ sig) → Buf (Elt F) ℓ) (c : Dev nD) :
    Value.res_main_v32 m c = Host.gather gather_S8x384x32x64_S94x94x2_S8x384x94x94_01_23_n_n_23_2_838411 (doubled (m ((c.tc : Thread nD τ).loc main_arg0))) lookups := by
  unfold Value.res_main_v32
  rfl

/-! ## Read at an element -/

/-- The same at one position. -/
def onThirdS (a : BitVec 32) : BitVec 1 := onThird (s := S_) ⟨by decide, fun a => a.elim0⟩ (fun _ => a) (fun a => a.elim0)
def thirdS (a : BitVec 32) : BitVec 32 := third (s := S_) ⟨by decide, fun a => a.elim0⟩ (fun _ => a) (fun a => a.elim0)
def wrapS (n v : BitVec 32) : BitVec 32 := Scalar.select (IntOp.cmpi .slt v 0#32) (IntOp.addi v n) v
def srcS (n e i j t : BitVec 32) : BitVec 32 := wrapS n (Scalar.select (IntOp.andi (onThirdS i) (onThirdS j)) (thirdS t) e)

theorem rowSrc_apply (k : S94x94.Idx) : rowSrc k = srcS 32#32 0#32 (BitVec.ofNat 32 (k 0).val) (BitVec.ofNat 32 (k 1).val) (BitVec.ofNat 32 (k 0).val) := rfl
theorem colSrc_apply (k : S94x94.Idx) : colSrc k = srcS 64#32 32#32 (BitVec.ofNat 32 (k 0).val) (BitVec.ofNat 32 (k 1).val) (BitVec.ofNat 32 (k 1).val) := rfl

theorem onThirdS_eq : ∀ i : Fin 94, onThirdS (BitVec.ofNat 32 i.val) = if i.val % 3 = 0 then 1#1 else 0#1 := by decide
theorem thirdS_eq : ∀ i : Fin 94, thirdS (BitVec.ofNat 32 i.val) = BitVec.ofNat 32 (i.val / 3) := by decide
theorem wrapS_eq : ∀ t : Fin 33, wrapS 32#32 (BitVec.ofNat 32 t.val) = BitVec.ofNat 32 t.val ∧ wrapS 64#32 (BitVec.ofNat 32 t.val) = BitVec.ofNat 32 t.val := by decide
theorem toNat_eq : ∀ t : Fin 33, (BitVec.ofNat 32 t.val).toInt.toNat = t.val := by decide

/-- What is kept. -/
theorem keptS (i j : Fin 94) : IntOp.andi (onThirdS (BitVec.ofNat 32 i.val)) (onThirdS (BitVec.ofNat 32 j.val)) = if i.val % 3 = 0 ∧ j.val % 3 = 0 then 1#1 else 0#1 := by
  rw [onThirdS_eq, onThirdS_eq]
  by_cases hi : i.val % 3 = 0 <;> by_cases hj : j.val % 3 = 0 <;> simp [hi, hj, IntOp.andi]

/-- An index, read as a number: a third of the position where kept, else `e`. -/
theorem srcS_eq (n : BitVec 32) (e : Fin 33) (hn : n = 32#32 ∨ n = 64#32) (i j t : Fin 94) :
    (srcS n (BitVec.ofNat 32 e.val) (BitVec.ofNat 32 i.val) (BitVec.ofNat 32 j.val) (BitVec.ofNat 32 t.val)).toInt.toNat
      = if i.val % 3 = 0 ∧ j.val % 3 = 0 then t.val / 3 else e.val := by
  have hw : ∀ u : Fin 33, wrapS n (BitVec.ofNat 32 u.val) = BitVec.ofNat 32 u.val := fun u => by
    rcases hn with rfl | rfl
    · exact (wrapS_eq u).1
    · exact (wrapS_eq u).2
  unfold srcS
  rw [keptS, thirdS_eq]
  by_cases hk : i.val % 3 = 0 ∧ j.val % 3 = 0
  · rw [if_pos hk, if_pos hk, Scalar.select, if_pos (by decide)]
    exact (congrArg (fun b : BitVec 32 => b.toInt.toNat) (hw ⟨t.val / 3, by omega⟩)).trans (toNat_eq ⟨t.val / 3, by omega⟩)
  · rw [if_neg hk, if_neg hk, Scalar.select, if_neg (by decide), hw e]
    exact toNat_eq e

/-- The two lookups of the element at row `i` and column `j`. -/
def at3 (i j : Fin 94) (k : Fin 2) : S94x94x2.Idx := fun a => match a with | ⟨0, _⟩ => i | ⟨1, _⟩ => j | ⟨2, _⟩ => k

/-- A place of the plane, and it in an array of one lookup each. -/
def at2 (i j : Fin 94) : S94x94.Idx := fun a => match a with | ⟨0, _⟩ => i | ⟨1, _⟩ => j
def at21 (i j : Fin 94) : S94x94x1.Idx := fun a => match a with | ⟨0, _⟩ => i | ⟨1, _⟩ => j | ⟨2, _⟩ => ⟨0, Nat.one_pos⟩

theorem plane_apply (v : IVec S94x94 32) (i j : Fin 94) : broadcastInDim S94x94x1 ![0, 1] bcast_S94x94_S94x94x1_0_1 v (at21 i j) = v (at2 i j) :=
  congrArg v (funext fun a => Fin.ext (match a with | ⟨0, _⟩ => rfl | ⟨1, _⟩ => rfl))

theorem lookups_fst (i j : Fin 94) : lookups (at3 i j 0) = rowSrc (at2 i j) := by
  unfold lookups
  refine (concatenate_pair_apply_left (s₁ := S94x94x1) (s₂ := S94x94x1) (2 : Fin 3) _ _ concatenates_S94x94x1_S94x94x1_S94x94x2_d2 (at3 i j 0) rfl (at21 i j) fun b => ?_).trans (plane_apply _ i j)
  match b with
  | ⟨0, _⟩ => rfl
  | ⟨1, _⟩ => rfl
  | ⟨2, _⟩ => rfl
theorem lookups_snd (i j : Fin 94) : lookups (at3 i j 1) = colSrc (at2 i j) := by
  unfold lookups
  refine (concatenate_pair_apply_right (s₁ := S94x94x1) (s₂ := S94x94x1) (2 : Fin 3) _ _ concatenates_S94x94x1_S94x94x1_S94x94x2_d2 (at3 i j 1) rfl rfl (at21 i j) (fun b hb => ?_) rfl).trans (plane_apply _ i j)
  match b with
  | ⟨0, _⟩ => rfl
  | ⟨1, _⟩ => rfl
  | ⟨2, _⟩ => exact absurd rfl hb

theorem lookups_row (i j : Fin 94) : (lookups (at3 i j 0)).toInt.toNat = if i.val % 3 = 0 ∧ j.val % 3 = 0 then i.val / 3 else 0 := by
  rw [lookups_fst, rowSrc_apply]
  exact srcS_eq 32#32 ⟨0, by omega⟩ (.inl rfl) i j i
theorem lookups_col (i j : Fin 94) : (lookups (at3 i j 1)).toInt.toNat = if i.val % 3 = 0 ∧ j.val % 3 = 0 then j.val / 3 else 32 := by
  rw [lookups_snd, colSrc_apply]
  exact srcS_eq 64#32 ⟨32, by omega⟩ (.inr rfl) i j j

/-- The operand index's coordinates. -/
abbrev G : GatherDims S8x384x32x64 S94x94x2 S8x384x94x94 := gather_S8x384x32x64_S94x94x2_S8x384x94x94_01_23_n_n_23_2_838411

theorem gather_col (j : S8x384x94x94.Idx) (ix : IVec S94x94x2 32) : (G.operandIdx j ix 3).val = min (ix (at3 (j 2) (j 3) 1)).toInt.toNat 63 := by
  have e : G.siIdx j ⟨1, by decide⟩ = at3 (j 2) (j 3) 1 := by
    funext b; refine Fin.ext ?_
    match b with
    | ⟨0, _⟩ => rfl
    | ⟨1, _⟩ => rfl
    | ⟨2, _⟩ => rfl
  rw [← e]; rfl
theorem gather_row (j : S8x384x94x94.Idx) (ix : IVec S94x94x2 32) : (G.operandIdx j ix 2).val = min (ix (at3 (j 2) (j 3) 0)).toInt.toNat 31 := by
  have e : G.siIdx j ⟨0, by decide⟩ = at3 (j 2) (j 3) 0 := by
    funext b; refine Fin.ext ?_
    match b with
    | ⟨0, _⟩ => rfl
    | ⟨1, _⟩ => rfl
    | ⟨2, _⟩ => rfl
  rw [← e]; rfl
theorem gather_batch (j : S8x384x94x94.Idx) (ix : IVec S94x94x2 32) : (G.operandIdx j ix 0).val = (j 0).val := by
  show 0 + 0 + (j 0).val = _; omega
theorem gather_channel (j : S8x384x94x94.Idx) (ix : IVec S94x94x2 32) : (G.operandIdx j ix 1).val = (j 1).val := by
  show 0 + 0 + (j 1).val = _; omega

/-- The doubled input at an element. -/
theorem doubled_apply (x : Vec F S8x384x32x32 .f32) (k : S8x384x32x64.Idx) :
    doubled x k = if (k 3).val < 32 then inAt x (k 0).val (k 1).val (k 2).val (k 3).val else Scalar.ofBits .f32 0x00000000#32 := by
  unfold doubled
  rw [concatenate_pair_apply]
  by_cases h : (k 3).val < 32
  · rw [if_pos h]
    refine (dif_pos h).trans (congrArg x (funext fun a => Fin.ext ?_))
    have h0 : (k 0).val < 8 := (k 0).isLt
    have h1 : (k 1).val < 384 := (k 1).isLt
    have h2 : (k 2).val < 32 := (k 2).isLt
    match a with
    | ⟨0, _⟩ => exact (Nat.mod_eq_of_lt h0).symm
    | ⟨1, _⟩ => exact (Nat.mod_eq_of_lt h1).symm
    | ⟨2, _⟩ => exact (Nat.mod_eq_of_lt h2).symm
    | ⟨3, _⟩ => exact (Nat.mod_eq_of_lt h).symm
  · rw [if_neg h]
    exact (dif_neg h).trans rfl

/-- THE REFERENCE'S RESULT is the woven array. -/
theorem result_woven (m : (ℓ : Loc nD τ sig) → Buf (Elt F) ℓ) (c : Dev nD) :
    Value.res_main_v32 m c = woven (m ((c.tc : Thread nD τ).loc main_arg0)) := by
  rw [result_eq]
  funext j
  show doubled _ (G.operandIdx j lookups) = _
  have h2 : (j 2).val < 94 := (j 2).isLt
  have h3 : (j 3).val < 94 := (j 3).isLt
  have er : (G.operandIdx j lookups 2).val = min (if (j 2).val % 3 = 0 ∧ (j 3).val % 3 = 0 then (j 2).val / 3 else 0) 31 :=
    (gather_row j lookups).trans (congrArg (min · 31) (lookups_row (j 2) (j 3)))
  have ec : (G.operandIdx j lookups 3).val = min (if (j 2).val % 3 = 0 ∧ (j 3).val % 3 = 0 then (j 3).val / 3 else 32) 63 :=
    (gather_col j lookups).trans (congrArg (min · 63) (lookups_col (j 2) (j 3)))
  rw [doubled_apply, gather_batch, gather_channel, er, ec]
  unfold woven
  by_cases hk : (j 2).val % 3 = 0 ∧ (j 3).val % 3 = 0
  · rw [if_pos hk, if_pos hk, if_pos hk, if_pos (by omega), Nat.min_eq_left (by omega), Nat.min_eq_left (by omega)]
  · rw [if_neg hk, if_neg hk, if_neg hk, if_neg (by decide)]

end Cert.Proof.Woven
-- ==== Proof.Result.lean ====
/-
  The kernel's result over the extended reals: the padded input's first 32 columns are the input's, so the result is the woven array.
-/
module

public import proofs.«01_k».proof.Proof.Whole
public import proofs.«01_k».proof.Proof.Reference
public import Idealize.ShloMosaic.Lib.ValueIdxCore
public import Idealize.ShloMosaic.PureOps.Ideal.Laws

@[expose] public section

noncomputable section

namespace Cert.Proof.Weave
open Cert.KernelIdeal Cert.KernelIdeal.Gen Cert.Proof.Checked
open Cert.Proof.Woven (inAt woven)
open Idealize.ShloMosaic Idealize.ShloMosaic.ValueIdx

/-- The contraction's record. -/
abbrev D4 : DotDims S8x384x32x32 S32x128 S8x384x32x128 := dot_S8x384x32x32_S32x128_S8x384x32x128_3_0_012_1_n_n

/-- The comparison of a row with a column. -/
theorem eyeBit : ∀ (k : Fin 32) (w : Fin 128),
    (IntOp.cmpi .eq (IntOp.addi (BitVec.ofNat 32 k.val) 0#32) (BitVec.ofNat 32 w.val) : BitVec 1).toNat = if k.val = w.val then 1 else 0 := by decide

theorem eye_apply (k : S32x128.Idx) : (eye (F := Ideal) k : EReal) = if (k 0).val = (k 1).val then 1 else 0 := by
  show (((IntOp.cmpi .eq (IntOp.addi (BitVec.ofNat 32 (k 0).val) 0#32) (BitVec.ofNat 32 (k 1).val) : BitVec 1).toNat : ℝ) : EReal) = _
  rw [eyeBit (k 0) (k 1)]
  split <;> simp

/-- The operands' elements that meet in the product at `j`, at contracted coordinate `k`. -/
theorem lhs_at (j : S8x384x32x128.Idx) (k : Fin 32) (x : Vec Ideal S8x384x32x32 .f32) :
    x (D4.lhsIdx j ((contrEquiv1 D4 32 rfl rfl).symm k)) = inAt x (j 0).val (j 1).val (j 2).val k.val := by
  have hk := contrEquiv1_symm_val D4 32 rfl rfl k
  refine congrArg x (funext fun a => Fin.ext ?_)
  have h0 : (j 0).val < 8 := (j 0).isLt
  have h1 : (j 1).val < 384 := (j 1).isLt
  have h2 : (j 2).val < 32 := (j 2).isLt
  match a with
  | ⟨0, _⟩ => exact (Nat.mod_eq_of_lt h0).symm
  | ⟨1, _⟩ => exact (Nat.mod_eq_of_lt h1).symm
  | ⟨2, _⟩ => exact (Nat.mod_eq_of_lt h2).symm
  | ⟨3, _⟩ => exact hk.trans (Nat.mod_eq_of_lt k.isLt).symm

theorem rhs_at (j : S8x384x32x128.Idx) (k : Fin 32) :
    (eye (F := Ideal) (D4.rhsIdx j ((contrEquiv1 D4 32 rfl rfl).symm k)) : EReal) = if k.val = (j 3).val then 1 else 0 := by
  have hk := contrEquiv1_symm_val D4 32 rfl rfl k
  rw [eye_apply]
  have e0 : (D4.rhsIdx j ((contrEquiv1 D4 32 rfl rfl).symm k) 0).val = k.val := hk
  have e1 : (D4.rhsIdx j ((contrEquiv1 D4 32 rfl rfl).symm k) 1).val = (j 3).val := rfl
  rw [e0, e1]

/-- The padded input at a column under 32. -/
theorem padX_apply (x : Vec Ideal S8x384x32x32 .f32) (j : S8x384x32x128.Idx) (h : (j 3).val < 32) :
    padX x j = inAt x (j 0).val (j 1).val (j 2).val (j 3).val := by
  unfold padX
  simp only [Host.dotGeneral]
  rw [Ideal.dotGeneral_apply, ← Equiv.sum_comp (contrEquiv1 D4 32 rfl rfl).symm]
  refine (Finset.sum_eq_single (⟨(j 3).val, h⟩ : Fin 32) (fun k _ hk => ?_) fun hk => absurd (Finset.mem_univ _) hk).trans ?_
  · rw [rhs_at, if_neg fun e => hk (Fin.ext e)]
    exact mul_zero _
  · rw [rhs_at, if_pos rfl]
    exact (mul_one _).trans (lhs_at j ⟨(j 3).val, h⟩ x)

/-- The element of the padded output at an element of the result. -/
def inBig (j : S8x384x94x94.Idx) : S8x384x96x128.Idx := fun a => match a with
  | ⟨0, _⟩ => j 0
  | ⟨1, _⟩ => j 1
  | ⟨2, _⟩ => ⟨(j 2).val, Nat.lt_trans (show (j 2).val < 94 from (j 2).isLt) (show 94 < 96 by decide)⟩
  | ⟨3, _⟩ => ⟨(j 3).val, Nat.lt_trans (show (j 3).val < 94 from (j 3).isLt) (show 94 < 128 by decide)⟩

/-- THE KERNEL'S RESULT is the woven array. -/
theorem resOf_woven (m : (ℓ : Loc nD τ sig) → Buf (Elt Ideal) ℓ) (d : Dev nD) : resOf m d = woven (m (xLoc d)) := by
  funext j
  have h0 : (j 0).val < 8 := (j 0).isLt
  have h1 : (j 1).val < 384 := (j 1).isLt
  have h2 : (j 2).val < 94 := (j 2).isLt
  have h3 : (j 3).val < 94 := (j 3).isLt
  have e : resOf m d j = wv (xpOf m d) (j 0).val (j 1).val (j 2).val (j 3).val := by
    refine (extractStridedSlice_apply _ _ slices_S8x384x96x128_S8x384x94x94_0_0_0_0 j (inBig j) fun a => ?_).trans (if_pos ⟨h2, Nat.lt_trans h3 (by decide)⟩)
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  rw [e]
  unfold wv woven
  by_cases hk : (j 2).val % 3 = 0 ∧ (j 3).val % 3 = 0
  · rw [if_pos hk, if_pos hk]
    unfold xat xpOf
    refine (padX_apply _ _ (show (j 3).val / 3 % 128 < 32 by omega)).trans ?_
    show inAt _ ((j 0).val % 8) ((j 1).val % 384) ((j 2).val / 3 % 32) ((j 3).val / 3 % 128) = _
    rw [Nat.mod_eq_of_lt h0, Nat.mod_eq_of_lt h1, Nat.mod_eq_of_lt (show (j 2).val / 3 < 32 by omega), Nat.mod_eq_of_lt (show (j 3).val / 3 < 128 by omega)]
  · rw [if_neg hk, if_neg hk]

end Cert.Proof.Weave
-- ==== Proof.lean ====
/-
  The claims, put together.

  The kernel runs to its end from any memory with its semaphores at zero, and back to zero; its argument is unchanged, and its result is the
  slice of the woven padded output (Proof/Whole.lean). Over the extended reals that slice is the woven input (Proof/Result.lean), and so is
  what the reference gathers (Proof/Reference.lean): the claim's shared value.
-/
module

public import proofs.«01_k».proof.Defs
public import proofs.«01_k».proof.Proof.Gen.Kernel
public import proofs.«01_k».proof.Proof.Whole
public import proofs.«01_k».proof.Proof.Reference
public import proofs.«01_k».proof.Proof.Result

@[expose] public section

noncomputable section

namespace Cert.Proof

open Idealize.ShloMosaic Idealize.SL.Sem
open Cert.Proof.Weave (run_main resOf_woven xLoc)
open Cert.Proof.Woven (woven result_woven)

/-- The reference's run ends with every counter at zero: it has none. -/
theorem frame_ReferenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The kernel's two frames are one run, at the two readings of its floats: the two programs are the same text. -/
theorem frame_KernelIdeal : Cert.quiescent_KernelIdeal (hKernelIdeal := Cert.KernelIdeal.Gen.facts) := fun m ρ _ =>
  (θ_run _ _ _).mono (fun _ h => ⟨fun c => (h.1 c).2, h.2⟩) (run_main m ρ)

theorem frame_Kernel : Cert.quiescent_Kernel (hKernel := Cert.Kernel.Gen.facts) := fun m ρ _ =>
  (θ_run _ _ _).mono (fun _ h => ⟨fun c => (h.1 c).2, h.2⟩) (run_main (F := Bits) m ρ)

/-- Both results are the woven input. -/
theorem algebraic : Cert.algebraic_KernelIdeal_ReferenceIdeal (hKernelIdeal := Cert.KernelIdeal.Gen.facts) (hReferenceIdeal := Cert.ReferenceIdeal.Gen.facts) :=
  fun m ρ m' ρ' _ hm => ⟨fun c => woven (m (xLoc c)),
    (θ_run _ _ _).mono (fun _ h c => ⟨(h.1 c).1.trans (resOf_woven m c), (h.1 c).2⟩) (run_main m ρ),
    (θ_run _ _ _).mono (fun _ h c => ⟨(h c).1.trans ((result_woven m' c).trans (congrArg woven (hm c))), (h c).2⟩) (Cert.ReferenceIdeal.Value.run m' ρ')⟩

theorem claim : Cert.Claim :=
  ⟨Cert.Kernel.Gen.facts, Cert.KernelIdeal.Gen.facts, Cert.ReferenceIdeal.Gen.facts, frame_Kernel, frame_KernelIdeal, frame_ReferenceIdeal, trivial, algebraic⟩

end Cert.Proof

end
